-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x24x1536 : Shape := ⟨3, ![16, 24, 1536]⟩
abbrev S16 : Shape := ⟨1, ![16]⟩
abbrev S16x7168x1536 : Shape := ⟨3, ![16, 7168, 1536]⟩
abbrev S16x56x12 : Shape := ⟨3, ![16, 56, 12]⟩
abbrev S_ : Shape := ⟨0, ![]⟩

class Facts : Prop where
  bitsLt_bf16_f32 : FTy.bits .bf16 < FTy.bits .f32
  bcast_S_S16x24x1536 : S_.BroadcastsInDim S16x24x1536 (![] : Fin 0 → Fin S16x24x1536.rank)

variable [Facts]

def fn {F : FTy → Type} [FloatOps F] (main_arg0 : FVec F S16x24x1536 .bf16) (main_arg1 : IVec S16 32) (main_arg2 : FVec F S16x7168x1536 .fp8e4m3) (main_arg3 : FVec F S16x56x12 .f32) : IVec S16x24x1536 1 :=
  let main_v0 : FVec F S16x24x1536 .f32 := (extf .f32 · bitsLt_bf16_f32) main_arg0
  let main_v1 : FVec F S16x24x1536 .f32 := Host.absf main_v0
  let main_cst : FVec F S_ .f32 := constant S_ .f32 0x7F7F0000#32
  let main_v2 : FVec F S16x24x1536 .f32 := broadcastInDim S16x24x1536 ![] bcast_S_S16x24x1536 main_cst
  let main_v3 : IVec S16x24x1536 1 := cmpf .ole main_v1 main_v2
  main_v3
-- ==== Kernel.lean ====
abbrev S16x24x1536 : Shape := ⟨3, ![16, 24, 1536]⟩
abbrev S16 : Shape := ⟨1, ![16]⟩
abbrev S16x7168x1536 : Shape := ⟨3, ![16, 7168, 1536]⟩
abbrev S16x56x12 : Shape := ⟨3, ![16, 56, 12]⟩
abbrev S16x24x7168 : Shape := ⟨3, ![16, 24, 7168]⟩
abbrev S2x24x1536 : Shape := ⟨3, ![2, 24, 1536]⟩
abbrev S2x56x12 : Shape := ⟨3, ![2, 56, 12]⟩
abbrev S2x7168x1536 : Shape := ⟨3, ![2, 7168, 1536]⟩
abbrev S24x1536 : Shape := ⟨2, ![24, 1536]⟩
abbrev S56x1536 : Shape := ⟨2, ![56, 1536]⟩
abbrev S2x24x7168 : Shape := ⟨3, ![2, 24, 7168]⟩
abbrev S24x7168 : Shape := ⟨2, ![24, 7168]⟩
abbrev S2 : Shape := ⟨1, ![2]⟩
abbrev S2x7 : Shape := ⟨2, ![2, 7]⟩
abbrev S_ : Shape := ⟨0, ![]⟩
abbrev S1 : Shape := ⟨1, ![1]⟩
abbrev S1x24x1536 : Shape := ⟨3, ![1, 24, 1536]⟩
abbrev S1x56x12 : Shape := ⟨3, ![1, 56, 12]⟩
abbrev S56x12 : Shape := ⟨2, ![56, 12]⟩
abbrev S1x1 : Shape := ⟨2, ![1, 1]⟩
abbrev S1x1024x1536 : Shape := ⟨3, ![1, 1024, 1536]⟩
abbrev S1024x1536 : Shape := ⟨2, ![1024, 1536]⟩
abbrev S1x24x7168 : Shape := ⟨3, ![1, 24, 7168]⟩
abbrev S1x24x128 : Shape := ⟨3, ![1, 24, 128]⟩
abbrev S24x128 : Shape := ⟨2, ![24, 128]⟩
abbrev S24 : Shape := ⟨1, ![24]⟩
abbrev S24x1 : Shape := ⟨2, ![24, 1]⟩
abbrev S56x1 : Shape := ⟨2, ![56, 1]⟩
abbrev S56x128 : Shape := ⟨2, ![56, 128]⟩
abbrev S1x1536 : Shape := ⟨2, ![1, 1536]⟩
abbrev S48x1536 : Shape := ⟨2, ![48, 1536]⟩
abbrev S1x256x1536 : Shape := ⟨3, ![1, 256, 1536]⟩
abbrev S256x1536 : Shape := ⟨2, ![256, 1536]⟩
abbrev S48x256 : Shape := ⟨2, ![48, 256]⟩

abbrev nBuf : Space → Nat
  | .hbm => 5
  | .vmem => 7
  | .smem => 2
  | _ => 0

abbrev bufTy : (tb : Table) → Fin (tcTables nBuf tb) → BufTy
  | .hbm, ⟨0, _⟩ => ⟨S16x24x1536, .bf16⟩
  | .hbm, ⟨1, _⟩ => ⟨S16, .i32⟩
  | .hbm, ⟨2, _⟩ => ⟨S16x7168x1536, .fp8e4m3⟩
  | .hbm, ⟨3, _⟩ => ⟨S16x56x12, .f32⟩
  | .hbm, ⟨4, _⟩ => ⟨S16x24x7168, .bf16⟩
  | .local _ .vmem, ⟨0, _⟩ => ⟨S2x24x1536, .bf16⟩
  | .local _ .vmem, ⟨1, _⟩ => ⟨S2x56x12, .f32⟩
  | .local _ .vmem, ⟨2, _⟩ => ⟨S2x7168x1536, .fp8e4m3⟩
  | .local _ .vmem, ⟨3, _⟩ => ⟨S24x1536, .f32⟩
  | .local _ .vmem, ⟨4, _⟩ => ⟨S56x1536, .f32⟩
  | .local _ .vmem, ⟨5, _⟩ => ⟨S2x24x7168, .bf16⟩
  | .local _ .vmem, ⟨6, _⟩ => ⟨S24x7168, .bf16⟩
  | .local _ .smem, ⟨0, _⟩ => ⟨S16, .i32⟩
  | .local _ .smem, ⟨1, _⟩ => ⟨S16, .i32⟩
  | _, _ => ⟨S16x24x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_scratch1 : Ref sig .tc := ⟨.vmem, 0, rfl⟩
abbrev cc0_scratch2 : Ref sig .tc := ⟨.vmem, 1, rfl⟩
abbrev cc0_scratch3 : Ref sig .tc := ⟨.vmem, 2, rfl⟩
abbrev cc0_scratch4 : Ref sig .tc := ⟨.vmem, 3, rfl⟩
abbrev cc0_scratch5 : Ref sig .tc := ⟨.vmem, 4, rfl⟩
abbrev cc0_scratch6 : Ref sig .tc := ⟨.vmem, 5, rfl⟩
abbrev cc0_scratch7 : Ref sig .tc := ⟨.vmem, 6, rfl⟩
abbrev cc0_stg0_0 : Ref sig .tc := ⟨.smem, 0, rfl⟩
abbrev cc0_scratch0 : Ref sig .tc := ⟨.smem, 1, rfl⟩
abbrev cc0_sem0_0 : DmaSem sig := 0

abbrev nD : Nat := 1
abbrev τ : Topo := Topo.v7x

variable {F : FTy → Type} [FloatOps F]

abbrev grid0 : Pipeline.Grid := .none

def k0_off1 (v0 : BitVec 32) : Fin 1 → Nat :=
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let v245 : Index := Scalar.indexCast v5
  ![v245.toNat]
def k0_cond2 (v6 : BitVec 32) : BitVec 1 :=
  let c0_i32_3 : BitVec 32 := 0#32
  let v7 : BitVec 1 := Scalar.cmpi .sgt v6 c0_i32_3
  let v8 : BitVec 32 := Scalar.extui v7
  let c0_i32_4 : BitVec 32 := 0#32
  let v9 : BitVec 1 := Scalar.cmpi .ne v8 c0_i32_4
  v9

def k0_chk1 (v0 : BitVec 32) (v6 : BitVec 32) : Prop :=
  (∀ (k0_h2 : k0_cond2 v6 = 1#1), ∀ a, (k0_off1 v0) a + S1.size a ≤ S16.size a)
theorem k0_off1_inb : ∀ (v0 : BitVec 32) (v6 : BitVec 32) (k0_hw1 : k0_chk1 v0 v6), ∀ (k0_h2 : k0_cond2 v6 = 1#1), ∀ a, (k0_off1 v0) a + S1.size a ≤ S16.size a := fun v0 v6 k0_hw1 k0_h2 => k0_hw1 k0_h2

def k0_off2 (v0 : BitVec 32) (v6 : BitVec 32) : Fin 1 → Nat :=
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let v245 : Index := Scalar.indexCast v11
  ![v245.toNat]
def k0_cond3 (v12 : BitVec 32) : BitVec 1 :=
  let c0_i32_5 : BitVec 32 := 0#32
  let v13 : BitVec 1 := Scalar.cmpi .sgt v12 c0_i32_5
  let v14 : BitVec 32 := Scalar.extui v13
  let c0_i32_6 : BitVec 32 := 0#32
  let v15 : BitVec 1 := Scalar.cmpi .ne v14 c0_i32_6
  v15

def k0_chk2 (v0 : BitVec 32) (v6 : BitVec 32) (v12 : BitVec 32) : Prop :=
  (∀ (k0_h3 : k0_cond3 v12 = 1#1), ∀ a, (k0_off2 v0 v6) a + S1.size a ≤ S16.size a)
theorem k0_off2_inb : ∀ (v0 : BitVec 32) (v6 : BitVec 32) (v12 : BitVec 32) (k0_hw2 : k0_chk2 v0 v6 v12), ∀ (k0_h3 : k0_cond3 v12 = 1#1), ∀ a, (k0_off2 v0 v6) a + S1.size a ≤ S16.size a := fun v0 v6 v12 k0_hw2 k0_h3 => k0_hw2 k0_h3

def k0_off3 (v0 : BitVec 32) (v6 : BitVec 32) (v12 : BitVec 32) : Fin 1 → Nat :=
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let v245 : Index := Scalar.indexCast v17
  ![v245.toNat]
def k0_cond4 (v18 : BitVec 32) : BitVec 1 :=
  let c0_i32_7 : BitVec 32 := 0#32
  let v19 : BitVec 1 := Scalar.cmpi .sgt v18 c0_i32_7
  let v20 : BitVec 32 := Scalar.extui v19
  let c0_i32_8 : BitVec 32 := 0#32
  let v21 : BitVec 1 := Scalar.cmpi .ne v20 c0_i32_8
  v21

def k0_chk3 (v0 : BitVec 32) (v6 : BitVec 32) (v12 : BitVec 32) (v18 : BitVec 32) : Prop :=
  (∀ (k0_h4 : k0_cond4 v18 = 1#1), ∀ a, (k0_off3 v0 v6 v12) a + S1.size a ≤ S16.size a)
theorem k0_off3_inb : ∀ (v0 : BitVec 32) (v6 : BitVec 32) (v12 : BitVec 32) (v18 : BitVec 32) (k0_hw3 : k0_chk3 v0 v6 v12 v18), ∀ (k0_h4 : k0_cond4 v18 = 1#1), ∀ a, (k0_off3 v0 v6 v12) a + S1.size a ≤ S16.size a := fun v0 v6 v12 v18 k0_hw3 k0_h4 => k0_hw3 k0_h4

def k0_off4 (v0 : BitVec 32) (v6 : BitVec 32) (v12 : BitVec 32) (v18 : BitVec 32) : Fin 1 → Nat :=
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let v245 : Index := Scalar.indexCast v23
  ![v245.toNat]
def k0_cond5 (v24 : BitVec 32) : BitVec 1 :=
  let c0_i32_9 : BitVec 32 := 0#32
  let v25 : BitVec 1 := Scalar.cmpi .sgt v24 c0_i32_9
  let v26 : BitVec 32 := Scalar.extui v25
  let c0_i32_10 : BitVec 32 := 0#32
  let v27 : BitVec 1 := Scalar.cmpi .ne v26 c0_i32_10
  v27

def k0_chk4 (v0 : BitVec 32) (v6 : BitVec 32) (v12 : BitVec 32) (v18 : BitVec 32) (v24 : BitVec 32) : Prop :=
  (∀ (k0_h5 : k0_cond5 v24 = 1#1), ∀ a, (k0_off4 v0 v6 v12 v18) a + S1.size a ≤ S16.size a)
theorem k0_off4_inb : ∀ (v0 : BitVec 32) (v6 : BitVec 32) (v12 : BitVec 32) (v18 : BitVec 32) (v24 : BitVec 32) (k0_hw4 : k0_chk4 v0 v6 v12 v18 v24), ∀ (k0_h5 : k0_cond5 v24 = 1#1), ∀ a, (k0_off4 v0 v6 v12 v18) a + S1.size a ≤ S16.size a := fun v0 v6 v12 v18 v24 k0_hw4 k0_h5 => k0_hw4 k0_h5

def k0_off5 (v0 : BitVec 32) (v6 : BitVec 32) (v12 : BitVec 32) (v18 : BitVec 32) (v24 : BitVec 32) : Fin 1 → Nat :=
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let v245 : Index := Scalar.indexCast v29
  ![v245.toNat]
def k0_cond6 (v30 : BitVec 32) : BitVec 1 :=
  let c0_i32_11 : BitVec 32 := 0#32
  let v31 : BitVec 1 := Scalar.cmpi .sgt v30 c0_i32_11
  let v32 : BitVec 32 := Scalar.extui v31
  let c0_i32_12 : BitVec 32 := 0#32
  let v33 : BitVec 1 := Scalar.cmpi .ne v32 c0_i32_12
  v33

def k0_chk5 (v0 : BitVec 32) (v6 : BitVec 32) (v12 : BitVec 32) (v18 : BitVec 32) (v24 : BitVec 32) (v30 : BitVec 32) : Prop :=
  (∀ (k0_h6 : k0_cond6 v30 = 1#1), ∀ a, (k0_off5 v0 v6 v12 v18 v24) a + S1.size a ≤ S16.size a)
theorem k0_off5_inb : ∀ (v0 : BitVec 32) (v6 : BitVec 32) (v12 : BitVec 32) (v18 : BitVec 32) (v24 : BitVec 32) (v30 : BitVec 32) (k0_hw5 : k0_chk5 v0 v6 v12 v18 v24 v30), ∀ (k0_h6 : k0_cond6 v30 = 1#1), ∀ a, (k0_off5 v0 v6 v12 v18 v24) a + S1.size a ≤ S16.size a := fun v0 v6 v12 v18 v24 v30 k0_hw5 k0_h6 => k0_hw5 k0_h6

def k0_off6 (v0 : BitVec 32) (v6 : BitVec 32) (v12 : BitVec 32) (v18 : BitVec 32) (v24 : BitVec 32) (v30 : BitVec 32) : Fin 1 → Nat :=
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let v245 : Index := Scalar.indexCast v35
  ![v245.toNat]
def k0_cond7 (v36 : BitVec 32) : BitVec 1 :=
  let c0_i32_13 : BitVec 32 := 0#32
  let v37 : BitVec 1 := Scalar.cmpi .sgt v36 c0_i32_13
  let v38 : BitVec 32 := Scalar.extui v37
  let c0_i32_14 : BitVec 32 := 0#32
  let v39 : BitVec 1 := Scalar.cmpi .ne v38 c0_i32_14
  v39

def k0_chk6 (v0 : BitVec 32) (v6 : BitVec 32) (v12 : BitVec 32) (v18 : BitVec 32) (v24 : BitVec 32) (v30 : BitVec 32) (v36 : BitVec 32) : Prop :=
  (∀ (k0_h7 : k0_cond7 v36 = 1#1), ∀ a, (k0_off6 v0 v6 v12 v18 v24 v30) a + S1.size a ≤ S16.size a)
theorem k0_off6_inb : ∀ (v0 : BitVec 32) (v6 : BitVec 32) (v12 : BitVec 32) (v18 : BitVec 32) (v24 : BitVec 32) (v30 : BitVec 32) (v36 : BitVec 32) (k0_hw6 : k0_chk6 v0 v6 v12 v18 v24 v30 v36), ∀ (k0_h7 : k0_cond7 v36 = 1#1), ∀ a, (k0_off6 v0 v6 v12 v18 v24 v30) a + S1.size a ≤ S16.size a := fun v0 v6 v12 v18 v24 v30 v36 k0_hw6 k0_h7 => k0_hw6 k0_h7

def k0_off7 (v0 : BitVec 32) (v6 : BitVec 32) (v12 : BitVec 32) (v18 : BitVec 32) (v24 : BitVec 32) (v30 : BitVec 32) (v36 : BitVec 32) : Fin 1 → Nat :=
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let v245 : Index := Scalar.indexCast v41
  ![v245.toNat]
def k0_cond8 (v42 : BitVec 32) : BitVec 1 :=
  let c0_i32_15 : BitVec 32 := 0#32
  let v43 : BitVec 1 := Scalar.cmpi .sgt v42 c0_i32_15
  let v44 : BitVec 32 := Scalar.extui v43
  let c0_i32_16 : BitVec 32 := 0#32
  let v45 : BitVec 1 := Scalar.cmpi .ne v44 c0_i32_16
  v45

def k0_chk7 (v0 : BitVec 32) (v6 : BitVec 32) (v12 : BitVec 32) (v18 : BitVec 32) (v24 : BitVec 32) (v30 : BitVec 32) (v36 : BitVec 32) (v42 : BitVec 32) : Prop :=
  (∀ (k0_h8 : k0_cond8 v42 = 1#1), ∀ a, (k0_off7 v0 v6 v12 v18 v24 v30 v36) a + S1.size a ≤ S16.size a)
theorem k0_off7_inb : ∀ (v0 : BitVec 32) (v6 : BitVec 32) (v12 : BitVec 32) (v18 : BitVec 32) (v24 : BitVec 32) (v30 : BitVec 32) (v36 : BitVec 32) (v42 : BitVec 32) (k0_hw7 : k0_chk7 v0 v6 v12 v18 v24 v30 v36 v42), ∀ (k0_h8 : k0_cond8 v42 = 1#1), ∀ a, (k0_off7 v0 v6 v12 v18 v24 v30 v36) a + S1.size a ≤ S16.size a := fun v0 v6 v12 v18 v24 v30 v36 v42 k0_hw7 k0_h8 => k0_hw7 k0_h8

def k0_off8 (v0 : BitVec 32) (v6 : BitVec 32) (v12 : BitVec 32) (v18 : BitVec 32) (v24 : BitVec 32) (v30 : BitVec 32) (v36 : BitVec 32) (v42 : BitVec 32) : Fin 1 → Nat :=
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let v245 : Index := Scalar.indexCast v47
  ![v245.toNat]
def k0_cond9 (v48 : BitVec 32) : BitVec 1 :=
  let c0_i32_17 : BitVec 32 := 0#32
  let v49 : BitVec 1 := Scalar.cmpi .sgt v48 c0_i32_17
  let v50 : BitVec 32 := Scalar.extui v49
  let c0_i32_18 : BitVec 32 := 0#32
  let v51 : BitVec 1 := Scalar.cmpi .ne v50 c0_i32_18
  v51

def k0_chk8 (v0 : BitVec 32) (v6 : BitVec 32) (v12 : BitVec 32) (v18 : BitVec 32) (v24 : BitVec 32) (v30 : BitVec 32) (v36 : BitVec 32) (v42 : BitVec 32) (v48 : BitVec 32) : Prop :=
  (∀ (k0_h9 : k0_cond9 v48 = 1#1), ∀ a, (k0_off8 v0 v6 v12 v18 v24 v30 v36 v42) a + S1.size a ≤ S16.size a)
theorem k0_off8_inb : ∀ (v0 : BitVec 32) (v6 : BitVec 32) (v12 : BitVec 32) (v18 : BitVec 32) (v24 : BitVec 32) (v30 : BitVec 32) (v36 : BitVec 32) (v42 : BitVec 32) (v48 : BitVec 32) (k0_hw8 : k0_chk8 v0 v6 v12 v18 v24 v30 v36 v42 v48), ∀ (k0_h9 : k0_cond9 v48 = 1#1), ∀ a, (k0_off8 v0 v6 v12 v18 v24 v30 v36 v42) a + S1.size a ≤ S16.size a := fun v0 v6 v12 v18 v24 v30 v36 v42 v48 k0_hw8 k0_h9 => k0_hw8 k0_h9

def k0_off9 (v0 : BitVec 32) (v6 : BitVec 32) (v12 : BitVec 32) (v18 : BitVec 32) (v24 : BitVec 32) (v30 : BitVec 32) (v36 : BitVec 32) (v42 : BitVec 32) (v48 : BitVec 32) : Fin 1 → Nat :=
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let v245 : Index := Scalar.indexCast v53
  ![v245.toNat]
def k0_cond10 (v54 : BitVec 32) : BitVec 1 :=
  let c0_i32_19 : BitVec 32 := 0#32
  let v55 : BitVec 1 := Scalar.cmpi .sgt v54 c0_i32_19
  let v56 : BitVec 32 := Scalar.extui v55
  let c0_i32_20 : BitVec 32 := 0#32
  let v57 : BitVec 1 := Scalar.cmpi .ne v56 c0_i32_20
  v57

def k0_chk9 (v0 : BitVec 32) (v6 : BitVec 32) (v12 : BitVec 32) (v18 : BitVec 32) (v24 : BitVec 32) (v30 : BitVec 32) (v36 : BitVec 32) (v42 : BitVec 32) (v48 : BitVec 32) (v54 : BitVec 32) : Prop :=
  (∀ (k0_h10 : k0_cond10 v54 = 1#1), ∀ a, (k0_off9 v0 v6 v12 v18 v24 v30 v36 v42 v48) a + S1.size a ≤ S16.size a)
theorem k0_off9_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (k0_hw9 : k0_chk9 v0 v6 v12 v18 v24 v30 v36 v42 v48 v54), ∀ (k0_h10 : k0_cond10 v54 = 1#1), ∀ a, (k0_off9 v0 v6 v12 v18 v24 v30 v36 v42 v48) a + S1.size a ≤ S16.size a := fun v0 v6 v12 v18 v24 v30 v36 v42 v48 v54 k0_hw9 k0_h10 => k0_hw9 k0_h10

def k0_off10 (v0 : BitVec 32) (v6 : BitVec 32) (v12 : BitVec 32) (v18 : BitVec 32) (v24 : BitVec 32) (v30 : BitVec 32) (v36 : BitVec 32) (v42 : BitVec 32) (v48 : BitVec 32) (v54 : BitVec 32) : Fin 1 → Nat :=
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let v245 : Index := Scalar.indexCast v59
  ![v245.toNat]
def k0_cond11 (v60 : BitVec 32) : BitVec 1 :=
  let c0_i32_21 : BitVec 32 := 0#32
  let v61 : BitVec 1 := Scalar.cmpi .sgt v60 c0_i32_21
  let v62 : BitVec 32 := Scalar.extui v61
  let c0_i32_22 : BitVec 32 := 0#32
  let v63 : BitVec 1 := Scalar.cmpi .ne v62 c0_i32_22
  v63

def k0_chk10 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) : Prop :=
  (∀ (k0_h11 : k0_cond11 v60 = 1#1), ∀ a, (k0_off10 v0 v6 v12 v18 v24 v30 v36 v42 v48 v54) a + S1.size a ≤ S16.size a)
theorem k0_off10_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (k0_hw10 : k0_chk10 v0 v6 v12 v18 v24 v30 v36 v42 v48 v54 v60), ∀ (k0_h11 : k0_cond11 v60 = 1#1), ∀ a, (k0_off10 v0 v6 v12 v18 v24 v30 v36 v42 v48 v54) a + S1.size a ≤ S16.size a := fun v0 v6 v12 v18 v24 v30 v36 v42 v48 v54 v60 k0_hw10 k0_h11 => k0_hw10 k0_h11

def k0_off11 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) : Fin 1 → Nat :=
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let v245 : Index := Scalar.indexCast v65
  ![v245.toNat]
def k0_cond12 (v66 : BitVec 32) : BitVec 1 :=
  let c0_i32_23 : BitVec 32 := 0#32
  let v67 : BitVec 1 := Scalar.cmpi .sgt v66 c0_i32_23
  let v68 : BitVec 32 := Scalar.extui v67
  let c0_i32_24 : BitVec 32 := 0#32
  let v69 : BitVec 1 := Scalar.cmpi .ne v68 c0_i32_24
  v69

def k0_chk11 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) : Prop :=
  (∀ (k0_h12 : k0_cond12 v66 = 1#1), ∀ a, (k0_off11 v0 v6 v12 v18 v24 v30 v36 v42 v48 v54 v60) a + S1.size a ≤ S16.size a)
theorem k0_off11_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (k0_hw11 : k0_chk11 v0 v6 v12 v18 v24 v30 v36 v42 v48 v54 v60 v66), ∀ (k0_h12 : k0_cond12 v66 = 1#1), ∀ a, (k0_off11 v0 v6 v12 v18 v24 v30 v36 v42 v48 v54 v60) a + S1.size a ≤ S16.size a := fun v0 v6 v12 v18 v24 v30 v36 v42 v48 v54 v60 v66 k0_hw11 k0_h12 => k0_hw11 k0_h12

def k0_off12 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) : Fin 1 → Nat :=
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let v245 : Index := Scalar.indexCast v71
  ![v245.toNat]
def k0_cond13 (v72 : BitVec 32) : BitVec 1 :=
  let c0_i32_25 : BitVec 32 := 0#32
  let v73 : BitVec 1 := Scalar.cmpi .sgt v72 c0_i32_25
  let v74 : BitVec 32 := Scalar.extui v73
  let c0_i32_26 : BitVec 32 := 0#32
  let v75 : BitVec 1 := Scalar.cmpi .ne v74 c0_i32_26
  v75

def k0_chk12 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) : Prop :=
  (∀ (k0_h13 : k0_cond13 v72 = 1#1), ∀ a, (k0_off12 v0 v6 v12 v18 v24 v30 v36 v42 v48 v54 v60 v66) a + S1.size a ≤ S16.size a)
theorem k0_off12_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (k0_hw12 : k0_chk12 v0 v6 v12 v18 v24 v30 v36 v42 v48 v54 v60 v66 v72), ∀ (k0_h13 : k0_cond13 v72 = 1#1), ∀ a, (k0_off12 v0 v6 v12 v18 v24 v30 v36 v42 v48 v54 v60 v66) a + S1.size a ≤ S16.size a := fun v0 v6 v12 v18 v24 v30 v36 v42 v48 v54 v60 v66 v72 k0_hw12 k0_h13 => k0_hw12 k0_h13

def k0_off13 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) : Fin 1 → Nat :=
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let v245 : Index := Scalar.indexCast v77
  ![v245.toNat]
def k0_cond14 (v78 : BitVec 32) : BitVec 1 :=
  let c0_i32_27 : BitVec 32 := 0#32
  let v79 : BitVec 1 := Scalar.cmpi .sgt v78 c0_i32_27
  let v80 : BitVec 32 := Scalar.extui v79
  let c0_i32_28 : BitVec 32 := 0#32
  let v81 : BitVec 1 := Scalar.cmpi .ne v80 c0_i32_28
  v81

def k0_chk13 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) : Prop :=
  (∀ (k0_h14 : k0_cond14 v78 = 1#1), ∀ a, (k0_off13 v0 v6 v12 v18 v24 v30 v36 v42 v48 v54 v60 v66 v72) a + S1.size a ≤ S16.size a)
theorem k0_off13_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (k0_hw13 : k0_chk13 v0 v6 v12 v18 v24 v30 v36 v42 v48 v54 v60 v66 v72 v78), ∀ (k0_h14 : k0_cond14 v78 = 1#1), ∀ a, (k0_off13 v0 v6 v12 v18 v24 v30 v36 v42 v48 v54 v60 v66 v72) a + S1.size a ≤ S16.size a := fun v0 v6 v12 v18 v24 v30 v36 v42 v48 v54 v60 v66 v72 v78 k0_hw13 k0_h14 => k0_hw13 k0_h14

def k0_off14 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) : Fin 1 → Nat :=
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let v245 : Index := Scalar.indexCast v83
  ![v245.toNat]
def k0_cond15 (v84 : BitVec 32) : BitVec 1 :=
  let c0_i32_29 : BitVec 32 := 0#32
  let v85 : BitVec 1 := Scalar.cmpi .sgt v84 c0_i32_29
  let v86 : BitVec 32 := Scalar.extui v85
  let c0_i32_30 : BitVec 32 := 0#32
  let v87 : BitVec 1 := Scalar.cmpi .ne v86 c0_i32_30
  v87

def k0_chk14 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) : Prop :=
  (∀ (k0_h15 : k0_cond15 v84 = 1#1), ∀ a, (k0_off14 v0 v6 v12 v18 v24 v30 v36 v42 v48 v54 v60 v66 v72 v78) a + S1.size a ≤ S16.size a)
theorem k0_off14_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (k0_hw14 : k0_chk14 v0 v6 v12 v18 v24 v30 v36 v42 v48 v54 v60 v66 v72 v78 v84), ∀ (k0_h15 : k0_cond15 v84 = 1#1), ∀ a, (k0_off14 v0 v6 v12 v18 v24 v30 v36 v42 v48 v54 v60 v66 v72 v78) a + S1.size a ≤ S16.size a := fun v0 v6 v12 v18 v24 v30 v36 v42 v48 v54 v60 v66 v72 v78 v84 k0_hw14 k0_h15 => k0_hw14 k0_h15

def k0_off15 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) : Fin 1 → Nat :=
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let v245 : Index := Scalar.indexCast v89
  ![v245.toNat]
def k0_cond16 (v90 : BitVec 32) : BitVec 1 :=
  let c0_i32_31 : BitVec 32 := 0#32
  let v91 : BitVec 1 := Scalar.cmpi .sgt v90 c0_i32_31
  let v92 : BitVec 32 := Scalar.extui v91
  let c0_i32_32 : BitVec 32 := 0#32
  let v93 : BitVec 1 := Scalar.cmpi .ne v92 c0_i32_32
  v93

def k0_off16 (v245 : BitVec 32) : Fin 3 → Nat :=
  let c0_i32_148 : BitVec 32 := 0#32
  let c0_i32_149 : BitVec 32 := 0#32
  ![v245.toNat, 0, 0]
def k0_cond17 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) : BitVec 1 :=
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let c0_i32_33 : BitVec 32 := 0#32
  let v96 : BitVec 1 := Scalar.cmpi .sgt v95 c0_i32_33
  let v97 : BitVec 32 := Scalar.extui v96
  let c0_i32_34 : BitVec 32 := 0#32
  let v98 : BitVec 1 := Scalar.cmpi .ne v97 c0_i32_34
  v98

def k0_chk16 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v245 : BitVec 32) : Prop :=
  (∀ (k0_h17 : k0_cond17 v0 v6 v12 v18 v24 v30 v36 v42 v48 v54 v60 v66 v72 v78 v84 v90 = 1#1), ∀ a, (k0_off16 v245) a + S1x24x1536.size a ≤ S16x24x1536.size a) ∧
  (∀ (k0_h17 : k0_cond17 v0 v6 v12 v18 v24 v30 v36 v42 v48 v54 v60 v66 v72 v78 v84 v90 = 1#1), ∀ (hinb : ∀ a, (k0_off16 v245) a + S1x24x1536.size a ≤ S16x24x1536.size a), (Rect.unit (s := S16x24x1536) (k0_off16 v245) S1x24x1536.size hinb).WholeWords (EltTy.packing .bf16))
theorem k0_off16_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v245 : BitVec 32) (k0_hw16 : k0_chk16 v0 v6 v12 v18 v24 v30 v36 v42 v48 v54 v60 v66 v72 v78 v84 v90 v245), ∀ (k0_h17 : k0_cond17 v0 v6 v12 v18 v24 v30 v36 v42 v48 v54 v60 v66 v72 v78 v84 v90 = 1#1), ∀ a, (k0_off16 v245) a + S1x24x1536.size a ≤ S16x24x1536.size a := fun v0 v6 v12 v18 v24 v30 v36 v42 v48 v54 v60 v66 v72 v78 v84 v90 v245 k0_hw16 k0_h17 => k0_hw16.1 k0_h17
theorem k0_off16_wordsbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v245 : BitVec 32) (k0_hw16 : k0_chk16 v0 v6 v12 v18 v24 v30 v36 v42 v48 v54 v60 v66 v72 v78 v84 v90 v245), ∀ (k0_h17 : k0_cond17 v0 v6 v12 v18 v24 v30 v36 v42 v48 v54 v60 v66 v72 v78 v84 v90 = 1#1), (Rect.unit (s := S16x24x1536) (k0_off16 v245) S1x24x1536.size (k0_off16_inb v0 v6 v12 v18 v24 v30 v36 v42 v48 v54 v60 v66 v72 v78 v84 v90 v245 k0_hw16 k0_h17)).WholeWords (EltTy.packing .bf16) := fun v0 v6 v12 v18 v24 v30 v36 v42 v48 v54 v60 v66 v72 v78 v84 v90 v245 k0_hw16 k0_h17 => k0_hw16.2 k0_h17 (k0_off16_inb v0 v6 v12 v18 v24 v30 v36 v42 v48 v54 v60 v66 v72 v78 v84 v90 v245 k0_hw16 k0_h17)

def k0_off17 (v252 : BitVec 32) : Fin 3 → Nat :=
  let c0_i32_155 : BitVec 32 := 0#32
  let c0_i32_156 : BitVec 32 := 0#32
  ![v252.toNat, 0, 0]

def k0_chk17 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v252 : BitVec 32) : Prop :=
  (∀ (k0_h17 : k0_cond17 v0 v6 v12 v18 v24 v30 v36 v42 v48 v54 v60 v66 v72 v78 v84 v90 = 1#1), ∀ a, (k0_off17 v252) a + S1x56x12.size a ≤ S16x56x12.size a)
theorem k0_off17_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v252 : BitVec 32) (k0_hw17 : k0_chk17 v0 v6 v12 v18 v24 v30 v36 v42 v48 v54 v60 v66 v72 v78 v84 v90 v252), ∀ (k0_h17 : k0_cond17 v0 v6 v12 v18 v24 v30 v36 v42 v48 v54 v60 v66 v72 v78 v84 v90 = 1#1), ∀ a, (k0_off17 v252) a + S1x56x12.size a ≤ S16x56x12.size a := fun v0 v6 v12 v18 v24 v30 v36 v42 v48 v54 v60 v66 v72 v78 v84 v90 v252 k0_hw17 k0_h17 => k0_hw17 k0_h17

def k0_off18 (v259 : BitVec 32) : Fin 3 → Nat :=
  let c0_i32_163 : BitVec 32 := 0#32
  let c0_i32_164 : BitVec 32 := 0#32
  ![v259.toNat, 0, 0]

def k0_chk18 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v259 : BitVec 32) : Prop :=
  (∀ (k0_h17 : k0_cond17 v0 v6 v12 v18 v24 v30 v36 v42 v48 v54 v60 v66 v72 v78 v84 v90 = 1#1), ∀ a, (k0_off18 v259) a + S1x1024x1536.size a ≤ S16x7168x1536.size a) ∧
  (∀ (k0_h17 : k0_cond17 v0 v6 v12 v18 v24 v30 v36 v42 v48 v54 v60 v66 v72 v78 v84 v90 = 1#1), ∀ (hinb : ∀ a, (k0_off18 v259) a + S1x1024x1536.size a ≤ S16x7168x1536.size a), (Rect.unit (s := S16x7168x1536) (k0_off18 v259) S1x1024x1536.size hinb).WholeWords (EltTy.packing .fp8e4m3))
theorem k0_off18_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v259 : BitVec 32) (k0_hw18 : k0_chk18 v0 v6 v12 v18 v24 v30 v36 v42 v48 v54 v60 v66 v72 v78 v84 v90 v259), ∀ (k0_h17 : k0_cond17 v0 v6 v12 v18 v24 v30 v36 v42 v48 v54 v60 v66 v72 v78 v84 v90 = 1#1), ∀ a, (k0_off18 v259) a + S1x1024x1536.size a ≤ S16x7168x1536.size a := fun v0 v6 v12 v18 v24 v30 v36 v42 v48 v54 v60 v66 v72 v78 v84 v90 v259 k0_hw18 k0_h17 => k0_hw18.1 k0_h17
theorem k0_off18_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v259 : BitVec 32) (k0_hw18 : k0_chk18 v0 v6 v12 v18 v24 v30 v36 v42 v48 v54 v60 v66 v72 v78 v84 v90 v259), ∀ (k0_h17 : k0_cond17 v0 v6 v12 v18 v24 v30 v36 v42 v48 v54 v60 v66 v72 v78 v84 v90 = 1#1), (Rect.unit (s := S16x7168x1536) (k0_off18 v259) S1x1024x1536.size (k0_off18_inb v0 v6 v12 v18 v24 v30 v36 v42 v48 v54 v60 v66 v72 v78 v84 v90 v259 k0_hw18 k0_h17)).WholeWords (EltTy.packing .fp8e4m3) := fun v0 v6 v12 v18 v24 v30 v36 v42 v48 v54 v60 v66 v72 v78 v84 v90 v259 k0_hw18 k0_h17 => k0_hw18.2 k0_h17 (k0_off18_inb v0 v6 v12 v18 v24 v30 v36 v42 v48 v54 v60 v66 v72 v78 v84 v90 v259 k0_hw18 k0_h17)

def k0_off19 (v266 : BitVec 32) : Fin 3 → Nat :=
  let c1024_i32_170 : BitVec 32 := 1024#32
  let c0_i32_171 : BitVec 32 := 0#32
  ![v266.toNat, 1024, 0]

def k0_chk19 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v266 : BitVec 32) : Prop :=
  (∀ (k0_h17 : k0_cond17 v0 v6 v12 v18 v24 v30 v36 v42 v48 v54 v60 v66 v72 v78 v84 v90 = 1#1), ∀ a, (k0_off19 v266) a + S1x1024x1536.size a ≤ S16x7168x1536.size a) ∧
  (∀ (k0_h17 : k0_cond17 v0 v6 v12 v18 v24 v30 v36 v42 v48 v54 v60 v66 v72 v78 v84 v90 = 1#1), ∀ (hinb : ∀ a, (k0_off19 v266) a + S1x1024x1536.size a ≤ S16x7168x1536.size a), (Rect.unit (s := S16x7168x1536) (k0_off19 v266) S1x1024x1536.size hinb).WholeWords (EltTy.packing .fp8e4m3))
theorem k0_off19_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v266 : BitVec 32) (k0_hw19 : k0_chk19 v0 v6 v12 v18 v24 v30 v36 v42 v48 v54 v60 v66 v72 v78 v84 v90 v266), ∀ (k0_h17 : k0_cond17 v0 v6 v12 v18 v24 v30 v36 v42 v48 v54 v60 v66 v72 v78 v84 v90 = 1#1), ∀ a, (k0_off19 v266) a + S1x1024x1536.size a ≤ S16x7168x1536.size a := fun v0 v6 v12 v18 v24 v30 v36 v42 v48 v54 v60 v66 v72 v78 v84 v90 v266 k0_hw19 k0_h17 => k0_hw19.1 k0_h17
theorem k0_off19_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v266 : BitVec 32) (k0_hw19 : k0_chk19 v0 v6 v12 v18 v24 v30 v36 v42 v48 v54 v60 v66 v72 v78 v84 v90 v266), ∀ (k0_h17 : k0_cond17 v0 v6 v12 v18 v24 v30 v36 v42 v48 v54 v60 v66 v72 v78 v84 v90 = 1#1), (Rect.unit (s := S16x7168x1536) (k0_off19 v266) S1x1024x1536.size (k0_off19_inb v0 v6 v12 v18 v24 v30 v36 v42 v48 v54 v60 v66 v72 v78 v84 v90 v266 k0_hw19 k0_h17)).WholeWords (EltTy.packing .fp8e4m3) := fun v0 v6 v12 v18 v24 v30 v36 v42 v48 v54 v60 v66 v72 v78 v84 v90 v266 k0_hw19 k0_h17 => k0_hw19.2 k0_h17 (k0_off19_inb v0 v6 v12 v18 v24 v30 v36 v42 v48 v54 v60 v66 v72 v78 v84 v90 v266 k0_hw19 k0_h17)

def k0_off20 (v273 : BitVec 32) : Fin 3 → Nat :=
  let c2048_i32_176 : BitVec 32 := 2048#32
  let c0_i32_177 : BitVec 32 := 0#32
  ![v273.toNat, 2048, 0]

def k0_chk20 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v273 : BitVec 32) : Prop :=
  (∀ (k0_h17 : k0_cond17 v0 v6 v12 v18 v24 v30 v36 v42 v48 v54 v60 v66 v72 v78 v84 v90 = 1#1), ∀ a, (k0_off20 v273) a + S1x1024x1536.size a ≤ S16x7168x1536.size a) ∧
  (∀ (k0_h17 : k0_cond17 v0 v6 v12 v18 v24 v30 v36 v42 v48 v54 v60 v66 v72 v78 v84 v90 = 1#1), ∀ (hinb : ∀ a, (k0_off20 v273) a + S1x1024x1536.size a ≤ S16x7168x1536.size a), (Rect.unit (s := S16x7168x1536) (k0_off20 v273) S1x1024x1536.size hinb).WholeWords (EltTy.packing .fp8e4m3))
theorem k0_off20_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v273 : BitVec 32) (k0_hw20 : k0_chk20 v0 v6 v12 v18 v24 v30 v36 v42 v48 v54 v60 v66 v72 v78 v84 v90 v273), ∀ (k0_h17 : k0_cond17 v0 v6 v12 v18 v24 v30 v36 v42 v48 v54 v60 v66 v72 v78 v84 v90 = 1#1), ∀ a, (k0_off20 v273) a + S1x1024x1536.size a ≤ S16x7168x1536.size a := fun v0 v6 v12 v18 v24 v30 v36 v42 v48 v54 v60 v66 v72 v78 v84 v90 v273 k0_hw20 k0_h17 => k0_hw20.1 k0_h17
theorem k0_off20_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v273 : BitVec 32) (k0_hw20 : k0_chk20 v0 v6 v12 v18 v24 v30 v36 v42 v48 v54 v60 v66 v72 v78 v84 v90 v273), ∀ (k0_h17 : k0_cond17 v0 v6 v12 v18 v24 v30 v36 v42 v48 v54 v60 v66 v72 v78 v84 v90 = 1#1), (Rect.unit (s := S16x7168x1536) (k0_off20 v273) S1x1024x1536.size (k0_off20_inb v0 v6 v12 v18 v24 v30 v36 v42 v48 v54 v60 v66 v72 v78 v84 v90 v273 k0_hw20 k0_h17)).WholeWords (EltTy.packing .fp8e4m3) := fun v0 v6 v12 v18 v24 v30 v36 v42 v48 v54 v60 v66 v72 v78 v84 v90 v273 k0_hw20 k0_h17 => k0_hw20.2 k0_h17 (k0_off20_inb v0 v6 v12 v18 v24 v30 v36 v42 v48 v54 v60 v66 v72 v78 v84 v90 v273 k0_hw20 k0_h17)

def k0_off21 (v280 : BitVec 32) : Fin 3 → Nat :=
  let c3072_i32_182 : BitVec 32 := 3072#32
  let c0_i32_183 : BitVec 32 := 0#32
  ![v280.toNat, 3072, 0]

def k0_chk21 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v280 : BitVec 32) : Prop :=
  (∀ (k0_h17 : k0_cond17 v0 v6 v12 v18 v24 v30 v36 v42 v48 v54 v60 v66 v72 v78 v84 v90 = 1#1), ∀ a, (k0_off21 v280) a + S1x1024x1536.size a ≤ S16x7168x1536.size a) ∧
  (∀ (k0_h17 : k0_cond17 v0 v6 v12 v18 v24 v30 v36 v42 v48 v54 v60 v66 v72 v78 v84 v90 = 1#1), ∀ (hinb : ∀ a, (k0_off21 v280) a + S1x1024x1536.size a ≤ S16x7168x1536.size a), (Rect.unit (s := S16x7168x1536) (k0_off21 v280) S1x1024x1536.size hinb).WholeWords (EltTy.packing .fp8e4m3))
theorem k0_off21_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v280 : BitVec 32) (k0_hw21 : k0_chk21 v0 v6 v12 v18 v24 v30 v36 v42 v48 v54 v60 v66 v72 v78 v84 v90 v280), ∀ (k0_h17 : k0_cond17 v0 v6 v12 v18 v24 v30 v36 v42 v48 v54 v60 v66 v72 v78 v84 v90 = 1#1), ∀ a, (k0_off21 v280) a + S1x1024x1536.size a ≤ S16x7168x1536.size a := fun v0 v6 v12 v18 v24 v30 v36 v42 v48 v54 v60 v66 v72 v78 v84 v90 v280 k0_hw21 k0_h17 => k0_hw21.1 k0_h17
theorem k0_off21_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v280 : BitVec 32) (k0_hw21 : k0_chk21 v0 v6 v12 v18 v24 v30 v36 v42 v48 v54 v60 v66 v72 v78 v84 v90 v280), ∀ (k0_h17 : k0_cond17 v0 v6 v12 v18 v24 v30 v36 v42 v48 v54 v60 v66 v72 v78 v84 v90 = 1#1), (Rect.unit (s := S16x7168x1536) (k0_off21 v280) S1x1024x1536.size (k0_off21_inb v0 v6 v12 v18 v24 v30 v36 v42 v48 v54 v60 v66 v72 v78 v84 v90 v280 k0_hw21 k0_h17)).WholeWords (EltTy.packing .fp8e4m3) := fun v0 v6 v12 v18 v24 v30 v36 v42 v48 v54 v60 v66 v72 v78 v84 v90 v280 k0_hw21 k0_h17 => k0_hw21.2 k0_h17 (k0_off21_inb v0 v6 v12 v18 v24 v30 v36 v42 v48 v54 v60 v66 v72 v78 v84 v90 v280 k0_hw21 k0_h17)

def k0_off22 (v287 : BitVec 32) : Fin 3 → Nat :=
  let c4096_i32_188 : BitVec 32 := 4096#32
  let c0_i32_189 : BitVec 32 := 0#32
  ![v287.toNat, 4096, 0]

def k0_chk22 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v287 : BitVec 32) : Prop :=
  (∀ (k0_h17 : k0_cond17 v0 v6 v12 v18 v24 v30 v36 v42 v48 v54 v60 v66 v72 v78 v84 v90 = 1#1), ∀ a, (k0_off22 v287) a + S1x1024x1536.size a ≤ S16x7168x1536.size a) ∧
  (∀ (k0_h17 : k0_cond17 v0 v6 v12 v18 v24 v30 v36 v42 v48 v54 v60 v66 v72 v78 v84 v90 = 1#1), ∀ (hinb : ∀ a, (k0_off22 v287) a + S1x1024x1536.size a ≤ S16x7168x1536.size a), (Rect.unit (s := S16x7168x1536) (k0_off22 v287) S1x1024x1536.size hinb).WholeWords (EltTy.packing .fp8e4m3))
theorem k0_off22_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v287 : BitVec 32) (k0_hw22 : k0_chk22 v0 v6 v12 v18 v24 v30 v36 v42 v48 v54 v60 v66 v72 v78 v84 v90 v287), ∀ (k0_h17 : k0_cond17 v0 v6 v12 v18 v24 v30 v36 v42 v48 v54 v60 v66 v72 v78 v84 v90 = 1#1), ∀ a, (k0_off22 v287) a + S1x1024x1536.size a ≤ S16x7168x1536.size a := fun v0 v6 v12 v18 v24 v30 v36 v42 v48 v54 v60 v66 v72 v78 v84 v90 v287 k0_hw22 k0_h17 => k0_hw22.1 k0_h17
theorem k0_off22_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v287 : BitVec 32) (k0_hw22 : k0_chk22 v0 v6 v12 v18 v24 v30 v36 v42 v48 v54 v60 v66 v72 v78 v84 v90 v287), ∀ (k0_h17 : k0_cond17 v0 v6 v12 v18 v24 v30 v36 v42 v48 v54 v60 v66 v72 v78 v84 v90 = 1#1), (Rect.unit (s := S16x7168x1536) (k0_off22 v287) S1x1024x1536.size (k0_off22_inb v0 v6 v12 v18 v24 v30 v36 v42 v48 v54 v60 v66 v72 v78 v84 v90 v287 k0_hw22 k0_h17)).WholeWords (EltTy.packing .fp8e4m3) := fun v0 v6 v12 v18 v24 v30 v36 v42 v48 v54 v60 v66 v72 v78 v84 v90 v287 k0_hw22 k0_h17 => k0_hw22.2 k0_h17 (k0_off22_inb v0 v6 v12 v18 v24 v30 v36 v42 v48 v54 v60 v66 v72 v78 v84 v90 v287 k0_hw22 k0_h17)

def k0_off23 (v294 : BitVec 32) : Fin 3 → Nat :=
  let c5120_i32_194 : BitVec 32 := 5120#32
  let c0_i32_195 : BitVec 32 := 0#32
  ![v294.toNat, 5120, 0]

def k0_chk23 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v294 : BitVec 32) : Prop :=
  (∀ (k0_h17 : k0_cond17 v0 v6 v12 v18 v24 v30 v36 v42 v48 v54 v60 v66 v72 v78 v84 v90 = 1#1), ∀ a, (k0_off23 v294) a + S1x1024x1536.size a ≤ S16x7168x1536.size a) ∧
  (∀ (k0_h17 : k0_cond17 v0 v6 v12 v18 v24 v30 v36 v42 v48 v54 v60 v66 v72 v78 v84 v90 = 1#1), ∀ (hinb : ∀ a, (k0_off23 v294) a + S1x1024x1536.size a ≤ S16x7168x1536.size a), (Rect.unit (s := S16x7168x1536) (k0_off23 v294) S1x1024x1536.size hinb).WholeWords (EltTy.packing .fp8e4m3))
theorem k0_off23_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v294 : BitVec 32) (k0_hw23 : k0_chk23 v0 v6 v12 v18 v24 v30 v36 v42 v48 v54 v60 v66 v72 v78 v84 v90 v294), ∀ (k0_h17 : k0_cond17 v0 v6 v12 v18 v24 v30 v36 v42 v48 v54 v60 v66 v72 v78 v84 v90 = 1#1), ∀ a, (k0_off23 v294) a + S1x1024x1536.size a ≤ S16x7168x1536.size a := fun v0 v6 v12 v18 v24 v30 v36 v42 v48 v54 v60 v66 v72 v78 v84 v90 v294 k0_hw23 k0_h17 => k0_hw23.1 k0_h17
theorem k0_off23_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v294 : BitVec 32) (k0_hw23 : k0_chk23 v0 v6 v12 v18 v24 v30 v36 v42 v48 v54 v60 v66 v72 v78 v84 v90 v294), ∀ (k0_h17 : k0_cond17 v0 v6 v12 v18 v24 v30 v36 v42 v48 v54 v60 v66 v72 v78 v84 v90 = 1#1), (Rect.unit (s := S16x7168x1536) (k0_off23 v294) S1x1024x1536.size (k0_off23_inb v0 v6 v12 v18 v24 v30 v36 v42 v48 v54 v60 v66 v72 v78 v84 v90 v294 k0_hw23 k0_h17)).WholeWords (EltTy.packing .fp8e4m3) := fun v0 v6 v12 v18 v24 v30 v36 v42 v48 v54 v60 v66 v72 v78 v84 v90 v294 k0_hw23 k0_h17 => k0_hw23.2 k0_h17 (k0_off23_inb v0 v6 v12 v18 v24 v30 v36 v42 v48 v54 v60 v66 v72 v78 v84 v90 v294 k0_hw23 k0_h17)

def k0_off24 (v301 : BitVec 32) : Fin 3 → Nat :=
  let c6144_i32_200 : BitVec 32 := 6144#32
  let c0_i32_201 : BitVec 32 := 0#32
  ![v301.toNat, 6144, 0]

def k0_chk24 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v301 : BitVec 32) : Prop :=
  (∀ (k0_h17 : k0_cond17 v0 v6 v12 v18 v24 v30 v36 v42 v48 v54 v60 v66 v72 v78 v84 v90 = 1#1), ∀ a, (k0_off24 v301) a + S1x1024x1536.size a ≤ S16x7168x1536.size a) ∧
  (∀ (k0_h17 : k0_cond17 v0 v6 v12 v18 v24 v30 v36 v42 v48 v54 v60 v66 v72 v78 v84 v90 = 1#1), ∀ (hinb : ∀ a, (k0_off24 v301) a + S1x1024x1536.size a ≤ S16x7168x1536.size a), (Rect.unit (s := S16x7168x1536) (k0_off24 v301) S1x1024x1536.size hinb).WholeWords (EltTy.packing .fp8e4m3))
theorem k0_off24_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v301 : BitVec 32) (k0_hw24 : k0_chk24 v0 v6 v12 v18 v24 v30 v36 v42 v48 v54 v60 v66 v72 v78 v84 v90 v301), ∀ (k0_h17 : k0_cond17 v0 v6 v12 v18 v24 v30 v36 v42 v48 v54 v60 v66 v72 v78 v84 v90 = 1#1), ∀ a, (k0_off24 v301) a + S1x1024x1536.size a ≤ S16x7168x1536.size a := fun v0 v6 v12 v18 v24 v30 v36 v42 v48 v54 v60 v66 v72 v78 v84 v90 v301 k0_hw24 k0_h17 => k0_hw24.1 k0_h17
theorem k0_off24_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v301 : BitVec 32) (k0_hw24 : k0_chk24 v0 v6 v12 v18 v24 v30 v36 v42 v48 v54 v60 v66 v72 v78 v84 v90 v301), ∀ (k0_h17 : k0_cond17 v0 v6 v12 v18 v24 v30 v36 v42 v48 v54 v60 v66 v72 v78 v84 v90 = 1#1), (Rect.unit (s := S16x7168x1536) (k0_off24 v301) S1x1024x1536.size (k0_off24_inb v0 v6 v12 v18 v24 v30 v36 v42 v48 v54 v60 v66 v72 v78 v84 v90 v301 k0_hw24 k0_h17)).WholeWords (EltTy.packing .fp8e4m3) := fun v0 v6 v12 v18 v24 v30 v36 v42 v48 v54 v60 v66 v72 v78 v84 v90 v301 k0_hw24 k0_h17 => k0_hw24.2 k0_h17 (k0_off24_inb v0 v6 v12 v18 v24 v30 v36 v42 v48 v54 v60 v66 v72 v78 v84 v90 v301 k0_hw24 k0_h17)

def k0_off25 (v245 : BitVec 32) : Fin 3 → Nat :=
  let c0_i32_148 : BitVec 32 := 0#32
  let c0_i32_149 : BitVec 32 := 0#32
  ![v245.toNat, 0, 0]
def k0_cond18 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) : BitVec 1 :=
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let c1_i32 : BitVec 32 := 1#32
  let v99 : BitVec 1 := Scalar.cmpi .sgt v95 c1_i32
  let v100 : BitVec 32 := Scalar.extui v99
  let c0_i32_35 : BitVec 32 := 0#32
  let v101 : BitVec 1 := Scalar.cmpi .ne v100 c0_i32_35
  v101

def k0_chk25 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v245 : BitVec 32) : Prop :=
  (∀ (k0_h18 : k0_cond18 v0 v6 v12 v18 v24 v30 v36 v42 v48 v54 v60 v66 v72 v78 v84 v90 = 1#1), ∀ a, (k0_off25 v245) a + S1x24x1536.size a ≤ S16x24x1536.size a) ∧
  (∀ (k0_h18 : k0_cond18 v0 v6 v12 v18 v24 v30 v36 v42 v48 v54 v60 v66 v72 v78 v84 v90 = 1#1), ∀ (hinb : ∀ a, (k0_off25 v245) a + S1x24x1536.size a ≤ S16x24x1536.size a), (Rect.unit (s := S16x24x1536) (k0_off25 v245) S1x24x1536.size hinb).WholeWords (EltTy.packing .bf16))
theorem k0_off25_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v245 : BitVec 32) (k0_hw25 : k0_chk25 v0 v6 v12 v18 v24 v30 v36 v42 v48 v54 v60 v66 v72 v78 v84 v90 v245), ∀ (k0_h18 : k0_cond18 v0 v6 v12 v18 v24 v30 v36 v42 v48 v54 v60 v66 v72 v78 v84 v90 = 1#1), ∀ a, (k0_off25 v245) a + S1x24x1536.size a ≤ S16x24x1536.size a := fun v0 v6 v12 v18 v24 v30 v36 v42 v48 v54 v60 v66 v72 v78 v84 v90 v245 k0_hw25 k0_h18 => k0_hw25.1 k0_h18
theorem k0_off25_wordsbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v245 : BitVec 32) (k0_hw25 : k0_chk25 v0 v6 v12 v18 v24 v30 v36 v42 v48 v54 v60 v66 v72 v78 v84 v90 v245), ∀ (k0_h18 : k0_cond18 v0 v6 v12 v18 v24 v30 v36 v42 v48 v54 v60 v66 v72 v78 v84 v90 = 1#1), (Rect.unit (s := S16x24x1536) (k0_off25 v245) S1x24x1536.size (k0_off25_inb v0 v6 v12 v18 v24 v30 v36 v42 v48 v54 v60 v66 v72 v78 v84 v90 v245 k0_hw25 k0_h18)).WholeWords (EltTy.packing .bf16) := fun v0 v6 v12 v18 v24 v30 v36 v42 v48 v54 v60 v66 v72 v78 v84 v90 v245 k0_hw25 k0_h18 => k0_hw25.2 k0_h18 (k0_off25_inb v0 v6 v12 v18 v24 v30 v36 v42 v48 v54 v60 v66 v72 v78 v84 v90 v245 k0_hw25 k0_h18)

def k0_off26 (v252 : BitVec 32) : Fin 3 → Nat :=
  let c0_i32_155 : BitVec 32 := 0#32
  let c0_i32_156 : BitVec 32 := 0#32
  ![v252.toNat, 0, 0]

def k0_chk26 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v252 : BitVec 32) : Prop :=
  (∀ (k0_h18 : k0_cond18 v0 v6 v12 v18 v24 v30 v36 v42 v48 v54 v60 v66 v72 v78 v84 v90 = 1#1), ∀ a, (k0_off26 v252) a + S1x56x12.size a ≤ S16x56x12.size a)
theorem k0_off26_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v252 : BitVec 32) (k0_hw26 : k0_chk26 v0 v6 v12 v18 v24 v30 v36 v42 v48 v54 v60 v66 v72 v78 v84 v90 v252), ∀ (k0_h18 : k0_cond18 v0 v6 v12 v18 v24 v30 v36 v42 v48 v54 v60 v66 v72 v78 v84 v90 = 1#1), ∀ a, (k0_off26 v252) a + S1x56x12.size a ≤ S16x56x12.size a := fun v0 v6 v12 v18 v24 v30 v36 v42 v48 v54 v60 v66 v72 v78 v84 v90 v252 k0_hw26 k0_h18 => k0_hw26 k0_h18

def k0_off27 (v259 : BitVec 32) : Fin 3 → Nat :=
  let c0_i32_163 : BitVec 32 := 0#32
  let c0_i32_164 : BitVec 32 := 0#32
  ![v259.toNat, 0, 0]

def k0_chk27 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v259 : BitVec 32) : Prop :=
  (∀ (k0_h18 : k0_cond18 v0 v6 v12 v18 v24 v30 v36 v42 v48 v54 v60 v66 v72 v78 v84 v90 = 1#1), ∀ a, (k0_off27 v259) a + S1x1024x1536.size a ≤ S16x7168x1536.size a) ∧
  (∀ (k0_h18 : k0_cond18 v0 v6 v12 v18 v24 v30 v36 v42 v48 v54 v60 v66 v72 v78 v84 v90 = 1#1), ∀ (hinb : ∀ a, (k0_off27 v259) a + S1x1024x1536.size a ≤ S16x7168x1536.size a), (Rect.unit (s := S16x7168x1536) (k0_off27 v259) S1x1024x1536.size hinb).WholeWords (EltTy.packing .fp8e4m3))
theorem k0_off27_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v259 : BitVec 32) (k0_hw27 : k0_chk27 v0 v6 v12 v18 v24 v30 v36 v42 v48 v54 v60 v66 v72 v78 v84 v90 v259), ∀ (k0_h18 : k0_cond18 v0 v6 v12 v18 v24 v30 v36 v42 v48 v54 v60 v66 v72 v78 v84 v90 = 1#1), ∀ a, (k0_off27 v259) a + S1x1024x1536.size a ≤ S16x7168x1536.size a := fun v0 v6 v12 v18 v24 v30 v36 v42 v48 v54 v60 v66 v72 v78 v84 v90 v259 k0_hw27 k0_h18 => k0_hw27.1 k0_h18
theorem k0_off27_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v259 : BitVec 32) (k0_hw27 : k0_chk27 v0 v6 v12 v18 v24 v30 v36 v42 v48 v54 v60 v66 v72 v78 v84 v90 v259), ∀ (k0_h18 : k0_cond18 v0 v6 v12 v18 v24 v30 v36 v42 v48 v54 v60 v66 v72 v78 v84 v90 = 1#1), (Rect.unit (s := S16x7168x1536) (k0_off27 v259) S1x1024x1536.size (k0_off27_inb v0 v6 v12 v18 v24 v30 v36 v42 v48 v54 v60 v66 v72 v78 v84 v90 v259 k0_hw27 k0_h18)).WholeWords (EltTy.packing .fp8e4m3) := fun v0 v6 v12 v18 v24 v30 v36 v42 v48 v54 v60 v66 v72 v78 v84 v90 v259 k0_hw27 k0_h18 => k0_hw27.2 k0_h18 (k0_off27_inb v0 v6 v12 v18 v24 v30 v36 v42 v48 v54 v60 v66 v72 v78 v84 v90 v259 k0_hw27 k0_h18)

def k0_off28 (v266 : BitVec 32) : Fin 3 → Nat :=
  let c1024_i32_170 : BitVec 32 := 1024#32
  let c0_i32_171 : BitVec 32 := 0#32
  ![v266.toNat, 1024, 0]

def k0_chk28 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v266 : BitVec 32) : Prop :=
  (∀ (k0_h18 : k0_cond18 v0 v6 v12 v18 v24 v30 v36 v42 v48 v54 v60 v66 v72 v78 v84 v90 = 1#1), ∀ a, (k0_off28 v266) a + S1x1024x1536.size a ≤ S16x7168x1536.size a) ∧
  (∀ (k0_h18 : k0_cond18 v0 v6 v12 v18 v24 v30 v36 v42 v48 v54 v60 v66 v72 v78 v84 v90 = 1#1), ∀ (hinb : ∀ a, (k0_off28 v266) a + S1x1024x1536.size a ≤ S16x7168x1536.size a), (Rect.unit (s := S16x7168x1536) (k0_off28 v266) S1x1024x1536.size hinb).WholeWords (EltTy.packing .fp8e4m3))
theorem k0_off28_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v266 : BitVec 32) (k0_hw28 : k0_chk28 v0 v6 v12 v18 v24 v30 v36 v42 v48 v54 v60 v66 v72 v78 v84 v90 v266), ∀ (k0_h18 : k0_cond18 v0 v6 v12 v18 v24 v30 v36 v42 v48 v54 v60 v66 v72 v78 v84 v90 = 1#1), ∀ a, (k0_off28 v266) a + S1x1024x1536.size a ≤ S16x7168x1536.size a := fun v0 v6 v12 v18 v24 v30 v36 v42 v48 v54 v60 v66 v72 v78 v84 v90 v266 k0_hw28 k0_h18 => k0_hw28.1 k0_h18
theorem k0_off28_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v266 : BitVec 32) (k0_hw28 : k0_chk28 v0 v6 v12 v18 v24 v30 v36 v42 v48 v54 v60 v66 v72 v78 v84 v90 v266), ∀ (k0_h18 : k0_cond18 v0 v6 v12 v18 v24 v30 v36 v42 v48 v54 v60 v66 v72 v78 v84 v90 = 1#1), (Rect.unit (s := S16x7168x1536) (k0_off28 v266) S1x1024x1536.size (k0_off28_inb v0 v6 v12 v18 v24 v30 v36 v42 v48 v54 v60 v66 v72 v78 v84 v90 v266 k0_hw28 k0_h18)).WholeWords (EltTy.packing .fp8e4m3) := fun v0 v6 v12 v18 v24 v30 v36 v42 v48 v54 v60 v66 v72 v78 v84 v90 v266 k0_hw28 k0_h18 => k0_hw28.2 k0_h18 (k0_off28_inb v0 v6 v12 v18 v24 v30 v36 v42 v48 v54 v60 v66 v72 v78 v84 v90 v266 k0_hw28 k0_h18)

def k0_off29 (v273 : BitVec 32) : Fin 3 → Nat :=
  let c2048_i32_176 : BitVec 32 := 2048#32
  let c0_i32_177 : BitVec 32 := 0#32
  ![v273.toNat, 2048, 0]

def k0_chk29 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v273 : BitVec 32) : Prop :=
  (∀ (k0_h18 : k0_cond18 v0 v6 v12 v18 v24 v30 v36 v42 v48 v54 v60 v66 v72 v78 v84 v90 = 1#1), ∀ a, (k0_off29 v273) a + S1x1024x1536.size a ≤ S16x7168x1536.size a) ∧
  (∀ (k0_h18 : k0_cond18 v0 v6 v12 v18 v24 v30 v36 v42 v48 v54 v60 v66 v72 v78 v84 v90 = 1#1), ∀ (hinb : ∀ a, (k0_off29 v273) a + S1x1024x1536.size a ≤ S16x7168x1536.size a), (Rect.unit (s := S16x7168x1536) (k0_off29 v273) S1x1024x1536.size hinb).WholeWords (EltTy.packing .fp8e4m3))
theorem k0_off29_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v273 : BitVec 32) (k0_hw29 : k0_chk29 v0 v6 v12 v18 v24 v30 v36 v42 v48 v54 v60 v66 v72 v78 v84 v90 v273), ∀ (k0_h18 : k0_cond18 v0 v6 v12 v18 v24 v30 v36 v42 v48 v54 v60 v66 v72 v78 v84 v90 = 1#1), ∀ a, (k0_off29 v273) a + S1x1024x1536.size a ≤ S16x7168x1536.size a := fun v0 v6 v12 v18 v24 v30 v36 v42 v48 v54 v60 v66 v72 v78 v84 v90 v273 k0_hw29 k0_h18 => k0_hw29.1 k0_h18
theorem k0_off29_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v273 : BitVec 32) (k0_hw29 : k0_chk29 v0 v6 v12 v18 v24 v30 v36 v42 v48 v54 v60 v66 v72 v78 v84 v90 v273), ∀ (k0_h18 : k0_cond18 v0 v6 v12 v18 v24 v30 v36 v42 v48 v54 v60 v66 v72 v78 v84 v90 = 1#1), (Rect.unit (s := S16x7168x1536) (k0_off29 v273) S1x1024x1536.size (k0_off29_inb v0 v6 v12 v18 v24 v30 v36 v42 v48 v54 v60 v66 v72 v78 v84 v90 v273 k0_hw29 k0_h18)).WholeWords (EltTy.packing .fp8e4m3) := fun v0 v6 v12 v18 v24 v30 v36 v42 v48 v54 v60 v66 v72 v78 v84 v90 v273 k0_hw29 k0_h18 => k0_hw29.2 k0_h18 (k0_off29_inb v0 v6 v12 v18 v24 v30 v36 v42 v48 v54 v60 v66 v72 v78 v84 v90 v273 k0_hw29 k0_h18)

def k0_off30 (v280 : BitVec 32) : Fin 3 → Nat :=
  let c3072_i32_182 : BitVec 32 := 3072#32
  let c0_i32_183 : BitVec 32 := 0#32
  ![v280.toNat, 3072, 0]

def k0_chk30 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v280 : BitVec 32) : Prop :=
  (∀ (k0_h18 : k0_cond18 v0 v6 v12 v18 v24 v30 v36 v42 v48 v54 v60 v66 v72 v78 v84 v90 = 1#1), ∀ a, (k0_off30 v280) a + S1x1024x1536.size a ≤ S16x7168x1536.size a) ∧
  (∀ (k0_h18 : k0_cond18 v0 v6 v12 v18 v24 v30 v36 v42 v48 v54 v60 v66 v72 v78 v84 v90 = 1#1), ∀ (hinb : ∀ a, (k0_off30 v280) a + S1x1024x1536.size a ≤ S16x7168x1536.size a), (Rect.unit (s := S16x7168x1536) (k0_off30 v280) S1x1024x1536.size hinb).WholeWords (EltTy.packing .fp8e4m3))
theorem k0_off30_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v280 : BitVec 32) (k0_hw30 : k0_chk30 v0 v6 v12 v18 v24 v30 v36 v42 v48 v54 v60 v66 v72 v78 v84 v90 v280), ∀ (k0_h18 : k0_cond18 v0 v6 v12 v18 v24 v30 v36 v42 v48 v54 v60 v66 v72 v78 v84 v90 = 1#1), ∀ a, (k0_off30 v280) a + S1x1024x1536.size a ≤ S16x7168x1536.size a := fun v0 v6 v12 v18 v24 v30 v36 v42 v48 v54 v60 v66 v72 v78 v84 v90 v280 k0_hw30 k0_h18 => k0_hw30.1 k0_h18
theorem k0_off30_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v280 : BitVec 32) (k0_hw30 : k0_chk30 v0 v6 v12 v18 v24 v30 v36 v42 v48 v54 v60 v66 v72 v78 v84 v90 v280), ∀ (k0_h18 : k0_cond18 v0 v6 v12 v18 v24 v30 v36 v42 v48 v54 v60 v66 v72 v78 v84 v90 = 1#1), (Rect.unit (s := S16x7168x1536) (k0_off30 v280) S1x1024x1536.size (k0_off30_inb v0 v6 v12 v18 v24 v30 v36 v42 v48 v54 v60 v66 v72 v78 v84 v90 v280 k0_hw30 k0_h18)).WholeWords (EltTy.packing .fp8e4m3) := fun v0 v6 v12 v18 v24 v30 v36 v42 v48 v54 v60 v66 v72 v78 v84 v90 v280 k0_hw30 k0_h18 => k0_hw30.2 k0_h18 (k0_off30_inb v0 v6 v12 v18 v24 v30 v36 v42 v48 v54 v60 v66 v72 v78 v84 v90 v280 k0_hw30 k0_h18)

def k0_off31 (v287 : BitVec 32) : Fin 3 → Nat :=
  let c4096_i32_188 : BitVec 32 := 4096#32
  let c0_i32_189 : BitVec 32 := 0#32
  ![v287.toNat, 4096, 0]

def k0_chk31 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v287 : BitVec 32) : Prop :=
  (∀ (k0_h18 : k0_cond18 v0 v6 v12 v18 v24 v30 v36 v42 v48 v54 v60 v66 v72 v78 v84 v90 = 1#1), ∀ a, (k0_off31 v287) a + S1x1024x1536.size a ≤ S16x7168x1536.size a) ∧
  (∀ (k0_h18 : k0_cond18 v0 v6 v12 v18 v24 v30 v36 v42 v48 v54 v60 v66 v72 v78 v84 v90 = 1#1), ∀ (hinb : ∀ a, (k0_off31 v287) a + S1x1024x1536.size a ≤ S16x7168x1536.size a), (Rect.unit (s := S16x7168x1536) (k0_off31 v287) S1x1024x1536.size hinb).WholeWords (EltTy.packing .fp8e4m3))
theorem k0_off31_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v287 : BitVec 32) (k0_hw31 : k0_chk31 v0 v6 v12 v18 v24 v30 v36 v42 v48 v54 v60 v66 v72 v78 v84 v90 v287), ∀ (k0_h18 : k0_cond18 v0 v6 v12 v18 v24 v30 v36 v42 v48 v54 v60 v66 v72 v78 v84 v90 = 1#1), ∀ a, (k0_off31 v287) a + S1x1024x1536.size a ≤ S16x7168x1536.size a := fun v0 v6 v12 v18 v24 v30 v36 v42 v48 v54 v60 v66 v72 v78 v84 v90 v287 k0_hw31 k0_h18 => k0_hw31.1 k0_h18
theorem k0_off31_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v287 : BitVec 32) (k0_hw31 : k0_chk31 v0 v6 v12 v18 v24 v30 v36 v42 v48 v54 v60 v66 v72 v78 v84 v90 v287), ∀ (k0_h18 : k0_cond18 v0 v6 v12 v18 v24 v30 v36 v42 v48 v54 v60 v66 v72 v78 v84 v90 = 1#1), (Rect.unit (s := S16x7168x1536) (k0_off31 v287) S1x1024x1536.size (k0_off31_inb v0 v6 v12 v18 v24 v30 v36 v42 v48 v54 v60 v66 v72 v78 v84 v90 v287 k0_hw31 k0_h18)).WholeWords (EltTy.packing .fp8e4m3) := fun v0 v6 v12 v18 v24 v30 v36 v42 v48 v54 v60 v66 v72 v78 v84 v90 v287 k0_hw31 k0_h18 => k0_hw31.2 k0_h18 (k0_off31_inb v0 v6 v12 v18 v24 v30 v36 v42 v48 v54 v60 v66 v72 v78 v84 v90 v287 k0_hw31 k0_h18)

def k0_off32 (v294 : BitVec 32) : Fin 3 → Nat :=
  let c5120_i32_194 : BitVec 32 := 5120#32
  let c0_i32_195 : BitVec 32 := 0#32
  ![v294.toNat, 5120, 0]

def k0_chk32 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v294 : BitVec 32) : Prop :=
  (∀ (k0_h18 : k0_cond18 v0 v6 v12 v18 v24 v30 v36 v42 v48 v54 v60 v66 v72 v78 v84 v90 = 1#1), ∀ a, (k0_off32 v294) a + S1x1024x1536.size a ≤ S16x7168x1536.size a) ∧
  (∀ (k0_h18 : k0_cond18 v0 v6 v12 v18 v24 v30 v36 v42 v48 v54 v60 v66 v72 v78 v84 v90 = 1#1), ∀ (hinb : ∀ a, (k0_off32 v294) a + S1x1024x1536.size a ≤ S16x7168x1536.size a), (Rect.unit (s := S16x7168x1536) (k0_off32 v294) S1x1024x1536.size hinb).WholeWords (EltTy.packing .fp8e4m3))
theorem k0_off32_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v294 : BitVec 32) (k0_hw32 : k0_chk32 v0 v6 v12 v18 v24 v30 v36 v42 v48 v54 v60 v66 v72 v78 v84 v90 v294), ∀ (k0_h18 : k0_cond18 v0 v6 v12 v18 v24 v30 v36 v42 v48 v54 v60 v66 v72 v78 v84 v90 = 1#1), ∀ a, (k0_off32 v294) a + S1x1024x1536.size a ≤ S16x7168x1536.size a := fun v0 v6 v12 v18 v24 v30 v36 v42 v48 v54 v60 v66 v72 v78 v84 v90 v294 k0_hw32 k0_h18 => k0_hw32.1 k0_h18
theorem k0_off32_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v294 : BitVec 32) (k0_hw32 : k0_chk32 v0 v6 v12 v18 v24 v30 v36 v42 v48 v54 v60 v66 v72 v78 v84 v90 v294), ∀ (k0_h18 : k0_cond18 v0 v6 v12 v18 v24 v30 v36 v42 v48 v54 v60 v66 v72 v78 v84 v90 = 1#1), (Rect.unit (s := S16x7168x1536) (k0_off32 v294) S1x1024x1536.size (k0_off32_inb v0 v6 v12 v18 v24 v30 v36 v42 v48 v54 v60 v66 v72 v78 v84 v90 v294 k0_hw32 k0_h18)).WholeWords (EltTy.packing .fp8e4m3) := fun v0 v6 v12 v18 v24 v30 v36 v42 v48 v54 v60 v66 v72 v78 v84 v90 v294 k0_hw32 k0_h18 => k0_hw32.2 k0_h18 (k0_off32_inb v0 v6 v12 v18 v24 v30 v36 v42 v48 v54 v60 v66 v72 v78 v84 v90 v294 k0_hw32 k0_h18)

def k0_off33 (v301 : BitVec 32) : Fin 3 → Nat :=
  let c6144_i32_200 : BitVec 32 := 6144#32
  let c0_i32_201 : BitVec 32 := 0#32
  ![v301.toNat, 6144, 0]

def k0_chk33 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v301 : BitVec 32) : Prop :=
  (∀ (k0_h18 : k0_cond18 v0 v6 v12 v18 v24 v30 v36 v42 v48 v54 v60 v66 v72 v78 v84 v90 = 1#1), ∀ a, (k0_off33 v301) a + S1x1024x1536.size a ≤ S16x7168x1536.size a) ∧
  (∀ (k0_h18 : k0_cond18 v0 v6 v12 v18 v24 v30 v36 v42 v48 v54 v60 v66 v72 v78 v84 v90 = 1#1), ∀ (hinb : ∀ a, (k0_off33 v301) a + S1x1024x1536.size a ≤ S16x7168x1536.size a), (Rect.unit (s := S16x7168x1536) (k0_off33 v301) S1x1024x1536.size hinb).WholeWords (EltTy.packing .fp8e4m3))
theorem k0_off33_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v301 : BitVec 32) (k0_hw33 : k0_chk33 v0 v6 v12 v18 v24 v30 v36 v42 v48 v54 v60 v66 v72 v78 v84 v90 v301), ∀ (k0_h18 : k0_cond18 v0 v6 v12 v18 v24 v30 v36 v42 v48 v54 v60 v66 v72 v78 v84 v90 = 1#1), ∀ a, (k0_off33 v301) a + S1x1024x1536.size a ≤ S16x7168x1536.size a := fun v0 v6 v12 v18 v24 v30 v36 v42 v48 v54 v60 v66 v72 v78 v84 v90 v301 k0_hw33 k0_h18 => k0_hw33.1 k0_h18
theorem k0_off33_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v301 : BitVec 32) (k0_hw33 : k0_chk33 v0 v6 v12 v18 v24 v30 v36 v42 v48 v54 v60 v66 v72 v78 v84 v90 v301), ∀ (k0_h18 : k0_cond18 v0 v6 v12 v18 v24 v30 v36 v42 v48 v54 v60 v66 v72 v78 v84 v90 = 1#1), (Rect.unit (s := S16x7168x1536) (k0_off33 v301) S1x1024x1536.size (k0_off33_inb v0 v6 v12 v18 v24 v30 v36 v42 v48 v54 v60 v66 v72 v78 v84 v90 v301 k0_hw33 k0_h18)).WholeWords (EltTy.packing .fp8e4m3) := fun v0 v6 v12 v18 v24 v30 v36 v42 v48 v54 v60 v66 v72 v78 v84 v90 v301 k0_hw33 k0_h18 => k0_hw33.2 k0_h18 (k0_off33_inb v0 v6 v12 v18 v24 v30 v36 v42 v48 v54 v60 v66 v72 v78 v84 v90 v301 k0_hw33 k0_h18)

@[reducible] def k0_t1_loop (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) : Scf.Loop 32 :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_89 : BitVec 32 := 1#32
  ⟨c0_i32_87, v174, c1_i32_89⟩
def k0_off34 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 1 → Nat :=
  let c0_i32_87 : BitVec 32 := 0#32
  let c1_i32_89 : BitVec 32 := 1#32
  let arg18 : BitVec 32 := Scf.iv c0_i32_87 c1_i32_89 k0_t1
  let v246 : Index := Scalar.indexCast arg18
  ![v246.toNat]
def k0_off35 (v247 : BitVec 32) : Fin 1 → Nat :=
  let v248 : Index := Scalar.indexCast v247
  ![v248.toNat]

def k0_chk34 (v247 : BitVec 32) : Prop :=
  (∀ a, (k0_off35 v247) a + S1.size a ≤ S16.size a)
theorem k0_off35_inb : ∀ (v247 : BitVec 32) (k0_hw34 : k0_chk34 v247), ∀ a, (k0_off35 v247) a + S1.size a ≤ S16.size a := fun v247 k0_hw34 => k0_hw34

def k0_off36 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 1 → Nat :=
  let c0_i32_87 : BitVec 32 := 0#32
  let c1_i32_89 : BitVec 32 := 1#32
  let arg18 : BitVec 32 := Scf.iv c0_i32_87 c1_i32_89 k0_t1
  let v250 : Index := Scalar.indexCast arg18
  ![v250.toNat]
def k0_off37 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 1 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  ![v245.toNat]
def k0_off38 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c0_i32_143 : BitVec 32 := 0#32
  let c0_i32_144 : BitVec 32 := 0#32
  ![v245.toNat, 0, 0]
def k0_off39 (v251 : BitVec 32) : Fin 3 → Nat :=
  let c0_i32_145 : BitVec 32 := 0#32
  let c0_i32_146 : BitVec 32 := 0#32
  ![v251.toNat, 0, 0]

def k0_chk35 (v251 : BitVec 32) : Prop :=
  (∀ a, (k0_off39 v251) a + S1x24x1536.size a ≤ S16x24x1536.size a) ∧
  (∀ (hinb : ∀ a, (k0_off39 v251) a + S1x24x1536.size a ≤ S16x24x1536.size a), (Rect.unit (s := S16x24x1536) (k0_off39 v251) S1x24x1536.size hinb).WholeWords (EltTy.packing .bf16))
theorem k0_off39_inb : ∀ (v251 : BitVec 32) (k0_hw35 : k0_chk35 v251), ∀ a, (k0_off39 v251) a + S1x24x1536.size a ≤ S16x24x1536.size a := fun v251 k0_hw35 => k0_hw35.1
theorem k0_off39_wordsbf16 : ∀ (v251 : BitVec 32) (k0_hw35 : k0_chk35 v251), (Rect.unit (s := S16x24x1536) (k0_off39 v251) S1x24x1536.size (k0_off39_inb v251 k0_hw35)).WholeWords (EltTy.packing .bf16) := fun v251 k0_hw35 => k0_hw35.2 (k0_off39_inb v251 k0_hw35)

def k0_off40 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 1 → Nat :=
  let c0_i32_87 : BitVec 32 := 0#32
  let c1_i32_89 : BitVec 32 := 1#32
  let arg18 : BitVec 32 := Scf.iv c0_i32_87 c1_i32_89 k0_t1
  let v258 : Index := Scalar.indexCast arg18
  ![v258.toNat]
def k0_off41 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 1 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  ![v245.toNat]
def k0_off42 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c0_i32_147 : BitVec 32 := 0#32
  let c0_i32_148 : BitVec 32 := 0#32
  ![v245.toNat, 0, 0]
def k0_off43 (v259 : BitVec 32) : Fin 3 → Nat :=
  let c0_i32_149 : BitVec 32 := 0#32
  let c0_i32_150 : BitVec 32 := 0#32
  ![v259.toNat, 0, 0]

def k0_chk36 (v259 : BitVec 32) : Prop :=
  (∀ a, (k0_off43 v259) a + S1x56x12.size a ≤ S16x56x12.size a)
theorem k0_off43_inb : ∀ (v259 : BitVec 32) (k0_hw36 : k0_chk36 v259), ∀ a, (k0_off43 v259) a + S1x56x12.size a ≤ S16x56x12.size a := fun v259 k0_hw36 => k0_hw36

def k0_off44 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v266 : Index := Scalar.indexCast v245
  let c0_151 : Index := 0#32
  let c0_152 : Index := 0#32
  ![v266.toNat, 0, 0]
def k0_off45 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v271 : Index := Scalar.indexCast v245
  let c0_153 : Index := 0#32
  let c0_154 : Index := 0#32
  ![v271.toNat, 0, 0]
def k0_off46 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v377 : Index := Scalar.indexCast v245
  let c0_179 : Index := 0#32
  let c128 : Index := 128#32
  ![v377.toNat, 0, 128]
def k0_off47 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v483 : Index := Scalar.indexCast v245
  let c0_214 : Index := 0#32
  let c256 : Index := 256#32
  ![v483.toNat, 0, 256]
def k0_off48 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v589 : Index := Scalar.indexCast v245
  let c0_249 : Index := 0#32
  let c384 : Index := 384#32
  ![v589.toNat, 0, 384]
def k0_off49 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v695 : Index := Scalar.indexCast v245
  let c0_284 : Index := 0#32
  let c512 : Index := 512#32
  ![v695.toNat, 0, 512]
def k0_off50 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v801 : Index := Scalar.indexCast v245
  let c0_319 : Index := 0#32
  let c640 : Index := 640#32
  ![v801.toNat, 0, 640]
def k0_off51 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v907 : Index := Scalar.indexCast v245
  let c0_354 : Index := 0#32
  let c768 : Index := 768#32
  ![v907.toNat, 0, 768]
def k0_off52 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1013 : Index := Scalar.indexCast v245
  let c0_389 : Index := 0#32
  let c896 : Index := 896#32
  ![v1013.toNat, 0, 896]
def k0_off53 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1119 : Index := Scalar.indexCast v245
  let c0_424 : Index := 0#32
  let c1024 : Index := 1024#32
  ![v1119.toNat, 0, 1024]
def k0_off54 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1225 : Index := Scalar.indexCast v245
  let c0_459 : Index := 0#32
  let c1152 : Index := 1152#32
  ![v1225.toNat, 0, 1152]
def k0_off55 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1331 : Index := Scalar.indexCast v245
  let c0_494 : Index := 0#32
  let c1280 : Index := 1280#32
  ![v1331.toNat, 0, 1280]
def k0_off56 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1437 : Index := Scalar.indexCast v245
  let c0_529 : Index := 0#32
  let c1408 : Index := 1408#32
  ![v1437.toNat, 0, 1408]
def k0_cond35 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : BitVec 1 :=
  let c0_i32_87 : BitVec 32 := 0#32
  let c1_i32_89 : BitVec 32 := 1#32
  let arg18 : BitVec 32 := Scf.iv c0_i32_87 c1_i32_89 k0_t1
  let c2_i32_564 : BitVec 32 := 2#32
  let v1543 : BitVec 1 := Scalar.cmpi .sge arg18 c2_i32_564
  let v1544 : BitVec 32 := Scalar.extui v1543
  let c0_i32_565 : BitVec 32 := 0#32
  let v1545 : BitVec 1 := Scalar.cmpi .ne v1544 c0_i32_565
  v1545

def k0_off57 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 1 → Nat :=
  let c0_i32_87 : BitVec 32 := 0#32
  let c1_i32_89 : BitVec 32 := 1#32
  let arg18 : BitVec 32 := Scf.iv c0_i32_87 c1_i32_89 k0_t1
  let c2_i32_1004 : BitVec 32 := 2#32
  let v2485 : BitVec 32 := Scalar.subi arg18 c2_i32_1004
  let v2486 : Index := Scalar.indexCast v2485
  ![v2486.toNat]
def k0_off58 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 1 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  ![v245.toNat]
def k0_off59 (v2487 : BitVec 32) : Fin 3 → Nat :=
  let c0_i32_1005 : BitVec 32 := 0#32
  let c0_i32_1006 : BitVec 32 := 0#32
  ![v2487.toNat, 0, 0]

def k0_off60 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c0_i32_1007 : BitVec 32 := 0#32
  let c0_i32_1008 : BitVec 32 := 0#32
  ![v245.toNat, 0, 0]

def k0_chk37 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2487 : BitVec 32) : Prop :=
  (∀ (k0_h35 : k0_cond35 v0 v6 v12 v18 v24 v30 v36 v42 v48 v54 v60 v66 v72 v78 v84 v90 k0_t1 = 1#1), ∀ a, (k0_off59 v2487) a + S1x24x7168.size a ≤ S16x24x7168.size a) ∧
  (∀ (k0_h35 : k0_cond35 v0 v6 v12 v18 v24 v30 v36 v42 v48 v54 v60 v66 v72 v78 v84 v90 k0_t1 = 1#1), ∀ (hinb : ∀ a, (k0_off59 v2487) a + S1x24x7168.size a ≤ S16x24x7168.size a), (Rect.unit (s := S16x24x7168) (k0_off59 v2487) S1x24x7168.size hinb).WholeWords (EltTy.packing .bf16))
theorem k0_off59_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2487 : BitVec 32) (k0_hw37 : k0_chk37 v0 v6 v12 v18 v24 v30 v36 v42 v48 v54 v60 v66 v72 v78 v84 v90 k0_t1 v2487), ∀ (k0_h35 : k0_cond35 v0 v6 v12 v18 v24 v30 v36 v42 v48 v54 v60 v66 v72 v78 v84 v90 k0_t1 = 1#1), ∀ a, (k0_off59 v2487) a + S1x24x7168.size a ≤ S16x24x7168.size a := fun v0 v6 v12 v18 v24 v30 v36 v42 v48 v54 v60 v66 v72 v78 v84 v90 k0_t1 v2487 k0_hw37 k0_h35 => k0_hw37.1 k0_h35
theorem k0_off59_wordsbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2487 : BitVec 32) (k0_hw37 : k0_chk37 v0 v6 v12 v18 v24 v30 v36 v42 v48 v54 v60 v66 v72 v78 v84 v90 k0_t1 v2487), ∀ (k0_h35 : k0_cond35 v0 v6 v12 v18 v24 v30 v36 v42 v48 v54 v60 v66 v72 v78 v84 v90 k0_t1 = 1#1), (Rect.unit (s := S16x24x7168) (k0_off59 v2487) S1x24x7168.size (k0_off59_inb v0 v6 v12 v18 v24 v30 v36 v42 v48 v54 v60 v66 v72 v78 v84 v90 k0_t1 v2487 k0_hw37 k0_h35)).WholeWords (EltTy.packing .bf16) := fun v0 v6 v12 v18 v24 v30 v36 v42 v48 v54 v60 v66 v72 v78 v84 v90 k0_t1 v2487 k0_hw37 k0_h35 => k0_hw37.2 k0_h35 (k0_off59_inb v0 v6 v12 v18 v24 v30 v36 v42 v48 v54 v60 v66 v72 v78 v84 v90 k0_t1 v2487 k0_hw37 k0_h35)

def k0_off61 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 1 → Nat :=
  let c0_i32_87 : BitVec 32 := 0#32
  let c1_i32_89 : BitVec 32 := 1#32
  let arg18 : BitVec 32 := Scf.iv c0_i32_87 c1_i32_89 k0_t1
  let c2_i32_1004 : BitVec 32 := 2#32
  let v2485 : BitVec 32 := Scalar.addi arg18 c2_i32_1004
  let v2486 : Index := Scalar.indexCast v2485
  ![v2486.toNat]
def k0_cond36 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : BitVec 1 :=
  let c0_i32_87 : BitVec 32 := 0#32
  let c1_i32_89 : BitVec 32 := 1#32
  let arg18 : BitVec 32 := Scf.iv c0_i32_87 c1_i32_89 k0_t1
  let c2_i32_566 : BitVec 32 := 2#32
  let v1546 : BitVec 32 := Scalar.addi arg18 c2_i32_566
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v1547 : BitVec 1 := Scalar.cmpi .slt v1546 v95
  let v1548 : BitVec 32 := Scalar.extui v1547
  let c0_i32_567 : BitVec 32 := 0#32
  let v1549 : BitVec 1 := Scalar.cmpi .ne v1548 c0_i32_567
  v1549

def k0_off62 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 1 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  ![v245.toNat]
def k0_off63 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c0_i32_1005 : BitVec 32 := 0#32
  let c0_i32_1006 : BitVec 32 := 0#32
  ![v245.toNat, 0, 0]
def k0_off64 (v2487 : BitVec 32) : Fin 3 → Nat :=
  let c0_i32_1007 : BitVec 32 := 0#32
  let c0_i32_1008 : BitVec 32 := 0#32
  ![v2487.toNat, 0, 0]

def k0_chk38 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2487 : BitVec 32) : Prop :=
  (∀ (k0_h36 : k0_cond36 v0 v6 v12 v18 v24 v30 v36 v42 v48 v54 v60 v66 v72 v78 v84 v90 k0_t1 = 1#1), ∀ a, (k0_off64 v2487) a + S1x24x1536.size a ≤ S16x24x1536.size a) ∧
  (∀ (k0_h36 : k0_cond36 v0 v6 v12 v18 v24 v30 v36 v42 v48 v54 v60 v66 v72 v78 v84 v90 k0_t1 = 1#1), ∀ (hinb : ∀ a, (k0_off64 v2487) a + S1x24x1536.size a ≤ S16x24x1536.size a), (Rect.unit (s := S16x24x1536) (k0_off64 v2487) S1x24x1536.size hinb).WholeWords (EltTy.packing .bf16))
theorem k0_off64_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2487 : BitVec 32) (k0_hw38 : k0_chk38 v0 v6 v12 v18 v24 v30 v36 v42 v48 v54 v60 v66 v72 v78 v84 v90 k0_t1 v2487), ∀ (k0_h36 : k0_cond36 v0 v6 v12 v18 v24 v30 v36 v42 v48 v54 v60 v66 v72 v78 v84 v90 k0_t1 = 1#1), ∀ a, (k0_off64 v2487) a + S1x24x1536.size a ≤ S16x24x1536.size a := fun v0 v6 v12 v18 v24 v30 v36 v42 v48 v54 v60 v66 v72 v78 v84 v90 k0_t1 v2487 k0_hw38 k0_h36 => k0_hw38.1 k0_h36
theorem k0_off64_wordsbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2487 : BitVec 32) (k0_hw38 : k0_chk38 v0 v6 v12 v18 v24 v30 v36 v42 v48 v54 v60 v66 v72 v78 v84 v90 k0_t1 v2487), ∀ (k0_h36 : k0_cond36 v0 v6 v12 v18 v24 v30 v36 v42 v48 v54 v60 v66 v72 v78 v84 v90 k0_t1 = 1#1), (Rect.unit (s := S16x24x1536) (k0_off64 v2487) S1x24x1536.size (k0_off64_inb v0 v6 v12 v18 v24 v30 v36 v42 v48 v54 v60 v66 v72 v78 v84 v90 k0_t1 v2487 k0_hw38 k0_h36)).WholeWords (EltTy.packing .bf16) := fun v0 v6 v12 v18 v24 v30 v36 v42 v48 v54 v60 v66 v72 v78 v84 v90 k0_t1 v2487 k0_hw38 k0_h36 => k0_hw38.2 k0_h36 (k0_off64_inb v0 v6 v12 v18 v24 v30 v36 v42 v48 v54 v60 v66 v72 v78 v84 v90 k0_t1 v2487 k0_hw38 k0_h36)

def k0_off65 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 1 → Nat :=
  let c0_i32_87 : BitVec 32 := 0#32
  let c1_i32_89 : BitVec 32 := 1#32
  let arg18 : BitVec 32 := Scf.iv c0_i32_87 c1_i32_89 k0_t1
  let c2_i32_1009 : BitVec 32 := 2#32
  let v2494 : BitVec 32 := Scalar.addi arg18 c2_i32_1009
  let v2495 : Index := Scalar.indexCast v2494
  ![v2495.toNat]
def k0_off66 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 1 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  ![v245.toNat]
def k0_off67 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c0_i32_1010 : BitVec 32 := 0#32
  let c0_i32_1011 : BitVec 32 := 0#32
  ![v245.toNat, 0, 0]
def k0_off68 (v2496 : BitVec 32) : Fin 3 → Nat :=
  let c0_i32_1012 : BitVec 32 := 0#32
  let c0_i32_1013 : BitVec 32 := 0#32
  ![v2496.toNat, 0, 0]

def k0_chk39 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2496 : BitVec 32) : Prop :=
  (∀ (k0_h36 : k0_cond36 v0 v6 v12 v18 v24 v30 v36 v42 v48 v54 v60 v66 v72 v78 v84 v90 k0_t1 = 1#1), ∀ a, (k0_off68 v2496) a + S1x56x12.size a ≤ S16x56x12.size a)
theorem k0_off68_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2496 : BitVec 32) (k0_hw39 : k0_chk39 v0 v6 v12 v18 v24 v30 v36 v42 v48 v54 v60 v66 v72 v78 v84 v90 k0_t1 v2496), ∀ (k0_h36 : k0_cond36 v0 v6 v12 v18 v24 v30 v36 v42 v48 v54 v60 v66 v72 v78 v84 v90 k0_t1 = 1#1), ∀ a, (k0_off68 v2496) a + S1x56x12.size a ≤ S16x56x12.size a := fun v0 v6 v12 v18 v24 v30 v36 v42 v48 v54 v60 v66 v72 v78 v84 v90 k0_t1 v2496 k0_hw39 k0_h36 => k0_hw39 k0_h36

def k0_off69 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 1 → Nat :=
  let c0_i32_87 : BitVec 32 := 0#32
  let c1_i32_89 : BitVec 32 := 1#32
  let arg18 : BitVec 32 := Scf.iv c0_i32_87 c1_i32_89 k0_t1
  let v1553 : Index := Scalar.indexCast arg18
  ![v1553.toNat]
def k0_off70 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 2 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c0_i32_568 : BitVec 32 := 0#32
  ![v245.toNat, 0]
def k0_off71 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c0_i32_569 : BitVec 32 := 0#32
  let c0_i32_570 : BitVec 32 := 0#32
  ![v245.toNat, 0, 0]
def k0_off72 (v1554 : BitVec 32) : Fin 3 → Nat :=
  let c0_i32_571 : BitVec 32 := 0#32
  let c0_i32_572 : BitVec 32 := 0#32
  ![v1554.toNat, 0, 0]

def k0_chk40 (v1554 : BitVec 32) : Prop :=
  (∀ a, (k0_off72 v1554) a + S1x1024x1536.size a ≤ S16x7168x1536.size a) ∧
  (∀ (hinb : ∀ a, (k0_off72 v1554) a + S1x1024x1536.size a ≤ S16x7168x1536.size a), (Rect.unit (s := S16x7168x1536) (k0_off72 v1554) S1x1024x1536.size hinb).WholeWords (EltTy.packing .fp8e4m3))
theorem k0_off72_inb : ∀ (v1554 : BitVec 32) (k0_hw40 : k0_chk40 v1554), ∀ a, (k0_off72 v1554) a + S1x1024x1536.size a ≤ S16x7168x1536.size a := fun v1554 k0_hw40 => k0_hw40.1
theorem k0_off72_wordsfp8e4m3 : ∀ (v1554 : BitVec 32) (k0_hw40 : k0_chk40 v1554), (Rect.unit (s := S16x7168x1536) (k0_off72 v1554) S1x1024x1536.size (k0_off72_inb v1554 k0_hw40)).WholeWords (EltTy.packing .fp8e4m3) := fun v1554 k0_hw40 => k0_hw40.2 (k0_off72_inb v1554 k0_hw40)

def k0_off73 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1571 : Index := Scalar.indexCast v245
  let c0_581 : Index := 0#32
  let c0_582 : Index := 0#32
  ![v1571.toNat, 0, 0]
def k0_off74 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1579 : Index := Scalar.indexCast v245
  let c0_585 : Index := 0#32
  let c0_586 : Index := 0#32
  ![v1579.toNat, 0, 0]
def k0_off75 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1587 : Index := Scalar.indexCast v245
  let c0_588 : Index := 0#32
  let c128_589 : Index := 128#32
  ![v1587.toNat, 0, 128]
def k0_off76 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1601 : Index := Scalar.indexCast v245
  let c256_598 : Index := 256#32
  let c0_599 : Index := 0#32
  ![v1601.toNat, 256, 0]
def k0_off77 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1609 : Index := Scalar.indexCast v245
  let c0_602 : Index := 0#32
  let c256_603 : Index := 256#32
  ![v1609.toNat, 0, 256]
def k0_off78 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1617 : Index := Scalar.indexCast v245
  let c0_605 : Index := 0#32
  let c384_606 : Index := 384#32
  ![v1617.toNat, 0, 384]
def k0_off79 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1631 : Index := Scalar.indexCast v245
  let c512_615 : Index := 512#32
  let c0_616 : Index := 0#32
  ![v1631.toNat, 512, 0]
def k0_off80 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1639 : Index := Scalar.indexCast v245
  let c0_619 : Index := 0#32
  let c512_620 : Index := 512#32
  ![v1639.toNat, 0, 512]
def k0_off81 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1647 : Index := Scalar.indexCast v245
  let c0_622 : Index := 0#32
  let c640_623 : Index := 640#32
  ![v1647.toNat, 0, 640]
def k0_off82 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1661 : Index := Scalar.indexCast v245
  let c768_632 : Index := 768#32
  let c0_633 : Index := 0#32
  ![v1661.toNat, 768, 0]
def k0_off83 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1669 : Index := Scalar.indexCast v245
  let c0_636 : Index := 0#32
  let c768_637 : Index := 768#32
  ![v1669.toNat, 0, 768]
def k0_off84 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1677 : Index := Scalar.indexCast v245
  let c0_639 : Index := 0#32
  let c896_640 : Index := 896#32
  ![v1677.toNat, 0, 896]
def k0_off85 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 1 → Nat :=
  let c0_i32_87 : BitVec 32 := 0#32
  let c1_i32_89 : BitVec 32 := 1#32
  let arg18 : BitVec 32 := Scf.iv c0_i32_87 c1_i32_89 k0_t1
  let c2_i32_1004 : BitVec 32 := 2#32
  let v2485 : BitVec 32 := Scalar.addi arg18 c2_i32_1004
  let v2486 : Index := Scalar.indexCast v2485
  ![v2486.toNat]
def k0_cond37 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : BitVec 1 :=
  let c0_i32_87 : BitVec 32 := 0#32
  let c1_i32_89 : BitVec 32 := 1#32
  let arg18 : BitVec 32 := Scf.iv c0_i32_87 c1_i32_89 k0_t1
  let c2_i32_641 : BitVec 32 := 2#32
  let v1681 : BitVec 32 := Scalar.addi arg18 c2_i32_641
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v1682 : BitVec 1 := Scalar.cmpi .slt v1681 v95
  let v1683 : BitVec 32 := Scalar.extui v1682
  let c0_i32_642 : BitVec 32 := 0#32
  let v1684 : BitVec 1 := Scalar.cmpi .ne v1683 c0_i32_642
  v1684

def k0_off86 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 2 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c0_i32_1005 : BitVec 32 := 0#32
  ![v245.toNat, 0]
def k0_off87 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c0_i32_1006 : BitVec 32 := 0#32
  let c0_i32_1007 : BitVec 32 := 0#32
  ![v245.toNat, 0, 0]
def k0_off88 (v2487 : BitVec 32) : Fin 3 → Nat :=
  let c0_i32_1008 : BitVec 32 := 0#32
  let c0_i32_1009 : BitVec 32 := 0#32
  ![v2487.toNat, 0, 0]

def k0_chk41 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2487 : BitVec 32) : Prop :=
  (∀ (k0_h37 : k0_cond37 v0 v6 v12 v18 v24 v30 v36 v42 v48 v54 v60 v66 v72 v78 v84 v90 k0_t1 = 1#1), ∀ a, (k0_off88 v2487) a + S1x1024x1536.size a ≤ S16x7168x1536.size a) ∧
  (∀ (k0_h37 : k0_cond37 v0 v6 v12 v18 v24 v30 v36 v42 v48 v54 v60 v66 v72 v78 v84 v90 k0_t1 = 1#1), ∀ (hinb : ∀ a, (k0_off88 v2487) a + S1x1024x1536.size a ≤ S16x7168x1536.size a), (Rect.unit (s := S16x7168x1536) (k0_off88 v2487) S1x1024x1536.size hinb).WholeWords (EltTy.packing .fp8e4m3))
theorem k0_off88_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2487 : BitVec 32) (k0_hw41 : k0_chk41 v0 v6 v12 v18 v24 v30 v36 v42 v48 v54 v60 v66 v72 v78 v84 v90 k0_t1 v2487), ∀ (k0_h37 : k0_cond37 v0 v6 v12 v18 v24 v30 v36 v42 v48 v54 v60 v66 v72 v78 v84 v90 k0_t1 = 1#1), ∀ a, (k0_off88 v2487) a + S1x1024x1536.size a ≤ S16x7168x1536.size a := fun v0 v6 v12 v18 v24 v30 v36 v42 v48 v54 v60 v66 v72 v78 v84 v90 k0_t1 v2487 k0_hw41 k0_h37 => k0_hw41.1 k0_h37
theorem k0_off88_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2487 : BitVec 32) (k0_hw41 : k0_chk41 v0 v6 v12 v18 v24 v30 v36 v42 v48 v54 v60 v66 v72 v78 v84 v90 k0_t1 v2487), ∀ (k0_h37 : k0_cond37 v0 v6 v12 v18 v24 v30 v36 v42 v48 v54 v60 v66 v72 v78 v84 v90 k0_t1 = 1#1), (Rect.unit (s := S16x7168x1536) (k0_off88 v2487) S1x1024x1536.size (k0_off88_inb v0 v6 v12 v18 v24 v30 v36 v42 v48 v54 v60 v66 v72 v78 v84 v90 k0_t1 v2487 k0_hw41 k0_h37)).WholeWords (EltTy.packing .fp8e4m3) := fun v0 v6 v12 v18 v24 v30 v36 v42 v48 v54 v60 v66 v72 v78 v84 v90 k0_t1 v2487 k0_hw41 k0_h37 => k0_hw41.2 k0_h37 (k0_off88_inb v0 v6 v12 v18 v24 v30 v36 v42 v48 v54 v60 v66 v72 v78 v84 v90 k0_t1 v2487 k0_hw41 k0_h37)

def k0_off89 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 1 → Nat :=
  let c0_i32_87 : BitVec 32 := 0#32
  let c1_i32_89 : BitVec 32 := 1#32
  let arg18 : BitVec 32 := Scf.iv c0_i32_87 c1_i32_89 k0_t1
  let v1685 : Index := Scalar.indexCast arg18
  ![v1685.toNat]
def k0_off90 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 2 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c1_i32_643 : BitVec 32 := 1#32
  ![v245.toNat, 1]
def k0_off91 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c1024_i32 : BitVec 32 := 1024#32
  let c0_i32_644 : BitVec 32 := 0#32
  ![v245.toNat, 1024, 0]
def k0_off92 (v1686 : BitVec 32) : Fin 3 → Nat :=
  let c1024_i32_645 : BitVec 32 := 1024#32
  let c0_i32_646 : BitVec 32 := 0#32
  ![v1686.toNat, 1024, 0]

def k0_chk42 (v1686 : BitVec 32) : Prop :=
  (∀ a, (k0_off92 v1686) a + S1x1024x1536.size a ≤ S16x7168x1536.size a) ∧
  (∀ (hinb : ∀ a, (k0_off92 v1686) a + S1x1024x1536.size a ≤ S16x7168x1536.size a), (Rect.unit (s := S16x7168x1536) (k0_off92 v1686) S1x1024x1536.size hinb).WholeWords (EltTy.packing .fp8e4m3))
theorem k0_off92_inb : ∀ (v1686 : BitVec 32) (k0_hw42 : k0_chk42 v1686), ∀ a, (k0_off92 v1686) a + S1x1024x1536.size a ≤ S16x7168x1536.size a := fun v1686 k0_hw42 => k0_hw42.1
theorem k0_off92_wordsfp8e4m3 : ∀ (v1686 : BitVec 32) (k0_hw42 : k0_chk42 v1686), (Rect.unit (s := S16x7168x1536) (k0_off92 v1686) S1x1024x1536.size (k0_off92_inb v1686 k0_hw42)).WholeWords (EltTy.packing .fp8e4m3) := fun v1686 k0_hw42 => k0_hw42.2 (k0_off92_inb v1686 k0_hw42)

def k0_off93 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1703 : Index := Scalar.indexCast v245
  let c1024_655 : Index := 1024#32
  let c0_656 : Index := 0#32
  ![v1703.toNat, 1024, 0]
def k0_off94 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1711 : Index := Scalar.indexCast v245
  let c0_659 : Index := 0#32
  let c1024_660 : Index := 1024#32
  ![v1711.toNat, 0, 1024]
def k0_off95 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1719 : Index := Scalar.indexCast v245
  let c0_662 : Index := 0#32
  let c1152_663 : Index := 1152#32
  ![v1719.toNat, 0, 1152]
def k0_off96 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1733 : Index := Scalar.indexCast v245
  let c1280_672 : Index := 1280#32
  let c0_673 : Index := 0#32
  ![v1733.toNat, 1280, 0]
def k0_off97 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1741 : Index := Scalar.indexCast v245
  let c0_676 : Index := 0#32
  let c1280_677 : Index := 1280#32
  ![v1741.toNat, 0, 1280]
def k0_off98 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1749 : Index := Scalar.indexCast v245
  let c0_679 : Index := 0#32
  let c1408_680 : Index := 1408#32
  ![v1749.toNat, 0, 1408]
def k0_off99 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1763 : Index := Scalar.indexCast v245
  let c1536 : Index := 1536#32
  let c0_689 : Index := 0#32
  ![v1763.toNat, 1536, 0]
def k0_off100 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1771 : Index := Scalar.indexCast v245
  let c0_692 : Index := 0#32
  let c1536_693 : Index := 1536#32
  ![v1771.toNat, 0, 1536]
def k0_off101 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1779 : Index := Scalar.indexCast v245
  let c0_695 : Index := 0#32
  let c1664 : Index := 1664#32
  ![v1779.toNat, 0, 1664]
def k0_off102 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1793 : Index := Scalar.indexCast v245
  let c1792 : Index := 1792#32
  let c0_704 : Index := 0#32
  ![v1793.toNat, 1792, 0]
def k0_off103 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1801 : Index := Scalar.indexCast v245
  let c0_707 : Index := 0#32
  let c1792_708 : Index := 1792#32
  ![v1801.toNat, 0, 1792]
def k0_off104 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1809 : Index := Scalar.indexCast v245
  let c0_710 : Index := 0#32
  let c1920 : Index := 1920#32
  ![v1809.toNat, 0, 1920]
def k0_off105 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 1 → Nat :=
  let c0_i32_87 : BitVec 32 := 0#32
  let c1_i32_89 : BitVec 32 := 1#32
  let arg18 : BitVec 32 := Scf.iv c0_i32_87 c1_i32_89 k0_t1
  let c2_i32_1004 : BitVec 32 := 2#32
  let v2485 : BitVec 32 := Scalar.addi arg18 c2_i32_1004
  let v2486 : Index := Scalar.indexCast v2485
  ![v2486.toNat]
def k0_cond38 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : BitVec 1 :=
  let c0_i32_87 : BitVec 32 := 0#32
  let c1_i32_89 : BitVec 32 := 1#32
  let arg18 : BitVec 32 := Scf.iv c0_i32_87 c1_i32_89 k0_t1
  let c2_i32_711 : BitVec 32 := 2#32
  let v1813 : BitVec 32 := Scalar.addi arg18 c2_i32_711
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v1814 : BitVec 1 := Scalar.cmpi .slt v1813 v95
  let v1815 : BitVec 32 := Scalar.extui v1814
  let c0_i32_712 : BitVec 32 := 0#32
  let v1816 : BitVec 1 := Scalar.cmpi .ne v1815 c0_i32_712
  v1816

def k0_off106 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 2 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c1_i32_1005 : BitVec 32 := 1#32
  ![v245.toNat, 1]
def k0_off107 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c1024_i32_1006 : BitVec 32 := 1024#32
  let c0_i32_1007 : BitVec 32 := 0#32
  ![v245.toNat, 1024, 0]
def k0_off108 (v2487 : BitVec 32) : Fin 3 → Nat :=
  let c1024_i32_1008 : BitVec 32 := 1024#32
  let c0_i32_1009 : BitVec 32 := 0#32
  ![v2487.toNat, 1024, 0]

def k0_chk43 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2487 : BitVec 32) : Prop :=
  (∀ (k0_h38 : k0_cond38 v0 v6 v12 v18 v24 v30 v36 v42 v48 v54 v60 v66 v72 v78 v84 v90 k0_t1 = 1#1), ∀ a, (k0_off108 v2487) a + S1x1024x1536.size a ≤ S16x7168x1536.size a) ∧
  (∀ (k0_h38 : k0_cond38 v0 v6 v12 v18 v24 v30 v36 v42 v48 v54 v60 v66 v72 v78 v84 v90 k0_t1 = 1#1), ∀ (hinb : ∀ a, (k0_off108 v2487) a + S1x1024x1536.size a ≤ S16x7168x1536.size a), (Rect.unit (s := S16x7168x1536) (k0_off108 v2487) S1x1024x1536.size hinb).WholeWords (EltTy.packing .fp8e4m3))
theorem k0_off108_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2487 : BitVec 32) (k0_hw43 : k0_chk43 v0 v6 v12 v18 v24 v30 v36 v42 v48 v54 v60 v66 v72 v78 v84 v90 k0_t1 v2487), ∀ (k0_h38 : k0_cond38 v0 v6 v12 v18 v24 v30 v36 v42 v48 v54 v60 v66 v72 v78 v84 v90 k0_t1 = 1#1), ∀ a, (k0_off108 v2487) a + S1x1024x1536.size a ≤ S16x7168x1536.size a := fun v0 v6 v12 v18 v24 v30 v36 v42 v48 v54 v60 v66 v72 v78 v84 v90 k0_t1 v2487 k0_hw43 k0_h38 => k0_hw43.1 k0_h38
theorem k0_off108_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2487 : BitVec 32) (k0_hw43 : k0_chk43 v0 v6 v12 v18 v24 v30 v36 v42 v48 v54 v60 v66 v72 v78 v84 v90 k0_t1 v2487), ∀ (k0_h38 : k0_cond38 v0 v6 v12 v18 v24 v30 v36 v42 v48 v54 v60 v66 v72 v78 v84 v90 k0_t1 = 1#1), (Rect.unit (s := S16x7168x1536) (k0_off108 v2487) S1x1024x1536.size (k0_off108_inb v0 v6 v12 v18 v24 v30 v36 v42 v48 v54 v60 v66 v72 v78 v84 v90 k0_t1 v2487 k0_hw43 k0_h38)).WholeWords (EltTy.packing .fp8e4m3) := fun v0 v6 v12 v18 v24 v30 v36 v42 v48 v54 v60 v66 v72 v78 v84 v90 k0_t1 v2487 k0_hw43 k0_h38 => k0_hw43.2 k0_h38 (k0_off108_inb v0 v6 v12 v18 v24 v30 v36 v42 v48 v54 v60 v66 v72 v78 v84 v90 k0_t1 v2487 k0_hw43 k0_h38)

def k0_off109 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 1 → Nat :=
  let c0_i32_87 : BitVec 32 := 0#32
  let c1_i32_89 : BitVec 32 := 1#32
  let arg18 : BitVec 32 := Scf.iv c0_i32_87 c1_i32_89 k0_t1
  let v1817 : Index := Scalar.indexCast arg18
  ![v1817.toNat]
def k0_off110 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 2 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c2_i32_713 : BitVec 32 := 2#32
  ![v245.toNat, 2]
def k0_off111 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c2048_i32 : BitVec 32 := 2048#32
  let c0_i32_714 : BitVec 32 := 0#32
  ![v245.toNat, 2048, 0]
def k0_off112 (v1818 : BitVec 32) : Fin 3 → Nat :=
  let c2048_i32_715 : BitVec 32 := 2048#32
  let c0_i32_716 : BitVec 32 := 0#32
  ![v1818.toNat, 2048, 0]

def k0_chk44 (v1818 : BitVec 32) : Prop :=
  (∀ a, (k0_off112 v1818) a + S1x1024x1536.size a ≤ S16x7168x1536.size a) ∧
  (∀ (hinb : ∀ a, (k0_off112 v1818) a + S1x1024x1536.size a ≤ S16x7168x1536.size a), (Rect.unit (s := S16x7168x1536) (k0_off112 v1818) S1x1024x1536.size hinb).WholeWords (EltTy.packing .fp8e4m3))
theorem k0_off112_inb : ∀ (v1818 : BitVec 32) (k0_hw44 : k0_chk44 v1818), ∀ a, (k0_off112 v1818) a + S1x1024x1536.size a ≤ S16x7168x1536.size a := fun v1818 k0_hw44 => k0_hw44.1
theorem k0_off112_wordsfp8e4m3 : ∀ (v1818 : BitVec 32) (k0_hw44 : k0_chk44 v1818), (Rect.unit (s := S16x7168x1536) (k0_off112 v1818) S1x1024x1536.size (k0_off112_inb v1818 k0_hw44)).WholeWords (EltTy.packing .fp8e4m3) := fun v1818 k0_hw44 => k0_hw44.2 (k0_off112_inb v1818 k0_hw44)

def k0_off113 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1835 : Index := Scalar.indexCast v245
  let c2048 : Index := 2048#32
  let c0_723 : Index := 0#32
  ![v1835.toNat, 2048, 0]
def k0_off114 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1843 : Index := Scalar.indexCast v245
  let c0_726 : Index := 0#32
  let c2048_727 : Index := 2048#32
  ![v1843.toNat, 0, 2048]
def k0_off115 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1851 : Index := Scalar.indexCast v245
  let c0_729 : Index := 0#32
  let c2176 : Index := 2176#32
  ![v1851.toNat, 0, 2176]
def k0_off116 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1865 : Index := Scalar.indexCast v245
  let c2304 : Index := 2304#32
  let c0_736 : Index := 0#32
  ![v1865.toNat, 2304, 0]
def k0_off117 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1873 : Index := Scalar.indexCast v245
  let c0_739 : Index := 0#32
  let c2304_740 : Index := 2304#32
  ![v1873.toNat, 0, 2304]
def k0_off118 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1881 : Index := Scalar.indexCast v245
  let c0_742 : Index := 0#32
  let c2432 : Index := 2432#32
  ![v1881.toNat, 0, 2432]
def k0_off119 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1895 : Index := Scalar.indexCast v245
  let c2560 : Index := 2560#32
  let c0_749 : Index := 0#32
  ![v1895.toNat, 2560, 0]
def k0_off120 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1903 : Index := Scalar.indexCast v245
  let c0_752 : Index := 0#32
  let c2560_753 : Index := 2560#32
  ![v1903.toNat, 0, 2560]
def k0_off121 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1911 : Index := Scalar.indexCast v245
  let c0_755 : Index := 0#32
  let c2688 : Index := 2688#32
  ![v1911.toNat, 0, 2688]
def k0_off122 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1925 : Index := Scalar.indexCast v245
  let c2816 : Index := 2816#32
  let c0_762 : Index := 0#32
  ![v1925.toNat, 2816, 0]
def k0_off123 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1933 : Index := Scalar.indexCast v245
  let c0_765 : Index := 0#32
  let c2816_766 : Index := 2816#32
  ![v1933.toNat, 0, 2816]
def k0_off124 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1941 : Index := Scalar.indexCast v245
  let c0_768 : Index := 0#32
  let c2944 : Index := 2944#32
  ![v1941.toNat, 0, 2944]
def k0_off125 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 1 → Nat :=
  let c0_i32_87 : BitVec 32 := 0#32
  let c1_i32_89 : BitVec 32 := 1#32
  let arg18 : BitVec 32 := Scf.iv c0_i32_87 c1_i32_89 k0_t1
  let c2_i32_1004 : BitVec 32 := 2#32
  let v2485 : BitVec 32 := Scalar.addi arg18 c2_i32_1004
  let v2486 : Index := Scalar.indexCast v2485
  ![v2486.toNat]
def k0_cond39 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : BitVec 1 :=
  let c0_i32_87 : BitVec 32 := 0#32
  let c1_i32_89 : BitVec 32 := 1#32
  let arg18 : BitVec 32 := Scf.iv c0_i32_87 c1_i32_89 k0_t1
  let c2_i32_769 : BitVec 32 := 2#32
  let v1945 : BitVec 32 := Scalar.addi arg18 c2_i32_769
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v1946 : BitVec 1 := Scalar.cmpi .slt v1945 v95
  let v1947 : BitVec 32 := Scalar.extui v1946
  let c0_i32_770 : BitVec 32 := 0#32
  let v1948 : BitVec 1 := Scalar.cmpi .ne v1947 c0_i32_770
  v1948

def k0_off126 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 2 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c2_i32_1005 : BitVec 32 := 2#32
  ![v245.toNat, 2]
def k0_off127 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c2048_i32_1006 : BitVec 32 := 2048#32
  let c0_i32_1007 : BitVec 32 := 0#32
  ![v245.toNat, 2048, 0]
def k0_off128 (v2487 : BitVec 32) : Fin 3 → Nat :=
  let c2048_i32_1008 : BitVec 32 := 2048#32
  let c0_i32_1009 : BitVec 32 := 0#32
  ![v2487.toNat, 2048, 0]

def k0_chk45 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2487 : BitVec 32) : Prop :=
  (∀ (k0_h39 : k0_cond39 v0 v6 v12 v18 v24 v30 v36 v42 v48 v54 v60 v66 v72 v78 v84 v90 k0_t1 = 1#1), ∀ a, (k0_off128 v2487) a + S1x1024x1536.size a ≤ S16x7168x1536.size a) ∧
  (∀ (k0_h39 : k0_cond39 v0 v6 v12 v18 v24 v30 v36 v42 v48 v54 v60 v66 v72 v78 v84 v90 k0_t1 = 1#1), ∀ (hinb : ∀ a, (k0_off128 v2487) a + S1x1024x1536.size a ≤ S16x7168x1536.size a), (Rect.unit (s := S16x7168x1536) (k0_off128 v2487) S1x1024x1536.size hinb).WholeWords (EltTy.packing .fp8e4m3))
theorem k0_off128_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2487 : BitVec 32) (k0_hw45 : k0_chk45 v0 v6 v12 v18 v24 v30 v36 v42 v48 v54 v60 v66 v72 v78 v84 v90 k0_t1 v2487), ∀ (k0_h39 : k0_cond39 v0 v6 v12 v18 v24 v30 v36 v42 v48 v54 v60 v66 v72 v78 v84 v90 k0_t1 = 1#1), ∀ a, (k0_off128 v2487) a + S1x1024x1536.size a ≤ S16x7168x1536.size a := fun v0 v6 v12 v18 v24 v30 v36 v42 v48 v54 v60 v66 v72 v78 v84 v90 k0_t1 v2487 k0_hw45 k0_h39 => k0_hw45.1 k0_h39
theorem k0_off128_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2487 : BitVec 32) (k0_hw45 : k0_chk45 v0 v6 v12 v18 v24 v30 v36 v42 v48 v54 v60 v66 v72 v78 v84 v90 k0_t1 v2487), ∀ (k0_h39 : k0_cond39 v0 v6 v12 v18 v24 v30 v36 v42 v48 v54 v60 v66 v72 v78 v84 v90 k0_t1 = 1#1), (Rect.unit (s := S16x7168x1536) (k0_off128 v2487) S1x1024x1536.size (k0_off128_inb v0 v6 v12 v18 v24 v30 v36 v42 v48 v54 v60 v66 v72 v78 v84 v90 k0_t1 v2487 k0_hw45 k0_h39)).WholeWords (EltTy.packing .fp8e4m3) := fun v0 v6 v12 v18 v24 v30 v36 v42 v48 v54 v60 v66 v72 v78 v84 v90 k0_t1 v2487 k0_hw45 k0_h39 => k0_hw45.2 k0_h39 (k0_off128_inb v0 v6 v12 v18 v24 v30 v36 v42 v48 v54 v60 v66 v72 v78 v84 v90 k0_t1 v2487 k0_hw45 k0_h39)

def k0_off129 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 1 → Nat :=
  let c0_i32_87 : BitVec 32 := 0#32
  let c1_i32_89 : BitVec 32 := 1#32
  let arg18 : BitVec 32 := Scf.iv c0_i32_87 c1_i32_89 k0_t1
  let v1949 : Index := Scalar.indexCast arg18
  ![v1949.toNat]
def k0_off130 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 2 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c3_i32 : BitVec 32 := 3#32
  ![v245.toNat, 3]
def k0_off131 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c3072_i32 : BitVec 32 := 3072#32
  let c0_i32_771 : BitVec 32 := 0#32
  ![v245.toNat, 3072, 0]
def k0_off132 (v1950 : BitVec 32) : Fin 3 → Nat :=
  let c3072_i32_772 : BitVec 32 := 3072#32
  let c0_i32_773 : BitVec 32 := 0#32
  ![v1950.toNat, 3072, 0]

def k0_chk46 (v1950 : BitVec 32) : Prop :=
  (∀ a, (k0_off132 v1950) a + S1x1024x1536.size a ≤ S16x7168x1536.size a) ∧
  (∀ (hinb : ∀ a, (k0_off132 v1950) a + S1x1024x1536.size a ≤ S16x7168x1536.size a), (Rect.unit (s := S16x7168x1536) (k0_off132 v1950) S1x1024x1536.size hinb).WholeWords (EltTy.packing .fp8e4m3))
theorem k0_off132_inb : ∀ (v1950 : BitVec 32) (k0_hw46 : k0_chk46 v1950), ∀ a, (k0_off132 v1950) a + S1x1024x1536.size a ≤ S16x7168x1536.size a := fun v1950 k0_hw46 => k0_hw46.1
theorem k0_off132_wordsfp8e4m3 : ∀ (v1950 : BitVec 32) (k0_hw46 : k0_chk46 v1950), (Rect.unit (s := S16x7168x1536) (k0_off132 v1950) S1x1024x1536.size (k0_off132_inb v1950 k0_hw46)).WholeWords (EltTy.packing .fp8e4m3) := fun v1950 k0_hw46 => k0_hw46.2 (k0_off132_inb v1950 k0_hw46)

def k0_off133 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1967 : Index := Scalar.indexCast v245
  let c3072 : Index := 3072#32
  let c0_780 : Index := 0#32
  ![v1967.toNat, 3072, 0]
def k0_off134 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1975 : Index := Scalar.indexCast v245
  let c0_783 : Index := 0#32
  let c3072_784 : Index := 3072#32
  ![v1975.toNat, 0, 3072]
def k0_off135 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1983 : Index := Scalar.indexCast v245
  let c0_786 : Index := 0#32
  let c3200 : Index := 3200#32
  ![v1983.toNat, 0, 3200]
def k0_off136 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v1997 : Index := Scalar.indexCast v245
  let c3328 : Index := 3328#32
  let c0_793 : Index := 0#32
  ![v1997.toNat, 3328, 0]
def k0_off137 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2005 : Index := Scalar.indexCast v245
  let c0_796 : Index := 0#32
  let c3328_797 : Index := 3328#32
  ![v2005.toNat, 0, 3328]
def k0_off138 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2013 : Index := Scalar.indexCast v245
  let c0_799 : Index := 0#32
  let c3456 : Index := 3456#32
  ![v2013.toNat, 0, 3456]
def k0_off139 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2027 : Index := Scalar.indexCast v245
  let c3584 : Index := 3584#32
  let c0_806 : Index := 0#32
  ![v2027.toNat, 3584, 0]
def k0_off140 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2035 : Index := Scalar.indexCast v245
  let c0_809 : Index := 0#32
  let c3584_810 : Index := 3584#32
  ![v2035.toNat, 0, 3584]
def k0_off141 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2043 : Index := Scalar.indexCast v245
  let c0_812 : Index := 0#32
  let c3712 : Index := 3712#32
  ![v2043.toNat, 0, 3712]
def k0_off142 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2057 : Index := Scalar.indexCast v245
  let c3840 : Index := 3840#32
  let c0_819 : Index := 0#32
  ![v2057.toNat, 3840, 0]
def k0_off143 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2065 : Index := Scalar.indexCast v245
  let c0_822 : Index := 0#32
  let c3840_823 : Index := 3840#32
  ![v2065.toNat, 0, 3840]
def k0_off144 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2073 : Index := Scalar.indexCast v245
  let c0_825 : Index := 0#32
  let c3968 : Index := 3968#32
  ![v2073.toNat, 0, 3968]
def k0_off145 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 1 → Nat :=
  let c0_i32_87 : BitVec 32 := 0#32
  let c1_i32_89 : BitVec 32 := 1#32
  let arg18 : BitVec 32 := Scf.iv c0_i32_87 c1_i32_89 k0_t1
  let c2_i32_1004 : BitVec 32 := 2#32
  let v2485 : BitVec 32 := Scalar.addi arg18 c2_i32_1004
  let v2486 : Index := Scalar.indexCast v2485
  ![v2486.toNat]
def k0_cond40 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : BitVec 1 :=
  let c0_i32_87 : BitVec 32 := 0#32
  let c1_i32_89 : BitVec 32 := 1#32
  let arg18 : BitVec 32 := Scf.iv c0_i32_87 c1_i32_89 k0_t1
  let c2_i32_826 : BitVec 32 := 2#32
  let v2077 : BitVec 32 := Scalar.addi arg18 c2_i32_826
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v2078 : BitVec 1 := Scalar.cmpi .slt v2077 v95
  let v2079 : BitVec 32 := Scalar.extui v2078
  let c0_i32_827 : BitVec 32 := 0#32
  let v2080 : BitVec 1 := Scalar.cmpi .ne v2079 c0_i32_827
  v2080

def k0_off146 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 2 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c3_i32_1005 : BitVec 32 := 3#32
  ![v245.toNat, 3]
def k0_off147 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c3072_i32_1006 : BitVec 32 := 3072#32
  let c0_i32_1007 : BitVec 32 := 0#32
  ![v245.toNat, 3072, 0]
def k0_off148 (v2487 : BitVec 32) : Fin 3 → Nat :=
  let c3072_i32_1008 : BitVec 32 := 3072#32
  let c0_i32_1009 : BitVec 32 := 0#32
  ![v2487.toNat, 3072, 0]

def k0_chk47 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2487 : BitVec 32) : Prop :=
  (∀ (k0_h40 : k0_cond40 v0 v6 v12 v18 v24 v30 v36 v42 v48 v54 v60 v66 v72 v78 v84 v90 k0_t1 = 1#1), ∀ a, (k0_off148 v2487) a + S1x1024x1536.size a ≤ S16x7168x1536.size a) ∧
  (∀ (k0_h40 : k0_cond40 v0 v6 v12 v18 v24 v30 v36 v42 v48 v54 v60 v66 v72 v78 v84 v90 k0_t1 = 1#1), ∀ (hinb : ∀ a, (k0_off148 v2487) a + S1x1024x1536.size a ≤ S16x7168x1536.size a), (Rect.unit (s := S16x7168x1536) (k0_off148 v2487) S1x1024x1536.size hinb).WholeWords (EltTy.packing .fp8e4m3))
theorem k0_off148_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2487 : BitVec 32) (k0_hw47 : k0_chk47 v0 v6 v12 v18 v24 v30 v36 v42 v48 v54 v60 v66 v72 v78 v84 v90 k0_t1 v2487), ∀ (k0_h40 : k0_cond40 v0 v6 v12 v18 v24 v30 v36 v42 v48 v54 v60 v66 v72 v78 v84 v90 k0_t1 = 1#1), ∀ a, (k0_off148 v2487) a + S1x1024x1536.size a ≤ S16x7168x1536.size a := fun v0 v6 v12 v18 v24 v30 v36 v42 v48 v54 v60 v66 v72 v78 v84 v90 k0_t1 v2487 k0_hw47 k0_h40 => k0_hw47.1 k0_h40
theorem k0_off148_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2487 : BitVec 32) (k0_hw47 : k0_chk47 v0 v6 v12 v18 v24 v30 v36 v42 v48 v54 v60 v66 v72 v78 v84 v90 k0_t1 v2487), ∀ (k0_h40 : k0_cond40 v0 v6 v12 v18 v24 v30 v36 v42 v48 v54 v60 v66 v72 v78 v84 v90 k0_t1 = 1#1), (Rect.unit (s := S16x7168x1536) (k0_off148 v2487) S1x1024x1536.size (k0_off148_inb v0 v6 v12 v18 v24 v30 v36 v42 v48 v54 v60 v66 v72 v78 v84 v90 k0_t1 v2487 k0_hw47 k0_h40)).WholeWords (EltTy.packing .fp8e4m3) := fun v0 v6 v12 v18 v24 v30 v36 v42 v48 v54 v60 v66 v72 v78 v84 v90 k0_t1 v2487 k0_hw47 k0_h40 => k0_hw47.2 k0_h40 (k0_off148_inb v0 v6 v12 v18 v24 v30 v36 v42 v48 v54 v60 v66 v72 v78 v84 v90 k0_t1 v2487 k0_hw47 k0_h40)

def k0_off149 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 1 → Nat :=
  let c0_i32_87 : BitVec 32 := 0#32
  let c1_i32_89 : BitVec 32 := 1#32
  let arg18 : BitVec 32 := Scf.iv c0_i32_87 c1_i32_89 k0_t1
  let v2081 : Index := Scalar.indexCast arg18
  ![v2081.toNat]
def k0_off150 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 2 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c4_i32_828 : BitVec 32 := 4#32
  ![v245.toNat, 4]
def k0_off151 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c4096_i32 : BitVec 32 := 4096#32
  let c0_i32_829 : BitVec 32 := 0#32
  ![v245.toNat, 4096, 0]
def k0_off152 (v2082 : BitVec 32) : Fin 3 → Nat :=
  let c4096_i32_830 : BitVec 32 := 4096#32
  let c0_i32_831 : BitVec 32 := 0#32
  ![v2082.toNat, 4096, 0]

def k0_chk48 (v2082 : BitVec 32) : Prop :=
  (∀ a, (k0_off152 v2082) a + S1x1024x1536.size a ≤ S16x7168x1536.size a) ∧
  (∀ (hinb : ∀ a, (k0_off152 v2082) a + S1x1024x1536.size a ≤ S16x7168x1536.size a), (Rect.unit (s := S16x7168x1536) (k0_off152 v2082) S1x1024x1536.size hinb).WholeWords (EltTy.packing .fp8e4m3))
theorem k0_off152_inb : ∀ (v2082 : BitVec 32) (k0_hw48 : k0_chk48 v2082), ∀ a, (k0_off152 v2082) a + S1x1024x1536.size a ≤ S16x7168x1536.size a := fun v2082 k0_hw48 => k0_hw48.1
theorem k0_off152_wordsfp8e4m3 : ∀ (v2082 : BitVec 32) (k0_hw48 : k0_chk48 v2082), (Rect.unit (s := S16x7168x1536) (k0_off152 v2082) S1x1024x1536.size (k0_off152_inb v2082 k0_hw48)).WholeWords (EltTy.packing .fp8e4m3) := fun v2082 k0_hw48 => k0_hw48.2 (k0_off152_inb v2082 k0_hw48)

def k0_off153 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2099 : Index := Scalar.indexCast v245
  let c4096 : Index := 4096#32
  let c0_838 : Index := 0#32
  ![v2099.toNat, 4096, 0]
def k0_off154 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2107 : Index := Scalar.indexCast v245
  let c0_841 : Index := 0#32
  let c4096_842 : Index := 4096#32
  ![v2107.toNat, 0, 4096]
def k0_off155 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2115 : Index := Scalar.indexCast v245
  let c0_844 : Index := 0#32
  let c4224 : Index := 4224#32
  ![v2115.toNat, 0, 4224]
def k0_off156 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2129 : Index := Scalar.indexCast v245
  let c4352 : Index := 4352#32
  let c0_851 : Index := 0#32
  ![v2129.toNat, 4352, 0]
def k0_off157 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2137 : Index := Scalar.indexCast v245
  let c0_854 : Index := 0#32
  let c4352_855 : Index := 4352#32
  ![v2137.toNat, 0, 4352]
def k0_off158 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2145 : Index := Scalar.indexCast v245
  let c0_857 : Index := 0#32
  let c4480 : Index := 4480#32
  ![v2145.toNat, 0, 4480]
def k0_off159 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2159 : Index := Scalar.indexCast v245
  let c4608 : Index := 4608#32
  let c0_864 : Index := 0#32
  ![v2159.toNat, 4608, 0]
def k0_off160 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2167 : Index := Scalar.indexCast v245
  let c0_867 : Index := 0#32
  let c4608_868 : Index := 4608#32
  ![v2167.toNat, 0, 4608]
def k0_off161 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2175 : Index := Scalar.indexCast v245
  let c0_870 : Index := 0#32
  let c4736 : Index := 4736#32
  ![v2175.toNat, 0, 4736]
def k0_off162 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2189 : Index := Scalar.indexCast v245
  let c4864 : Index := 4864#32
  let c0_877 : Index := 0#32
  ![v2189.toNat, 4864, 0]
def k0_off163 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2197 : Index := Scalar.indexCast v245
  let c0_880 : Index := 0#32
  let c4864_881 : Index := 4864#32
  ![v2197.toNat, 0, 4864]
def k0_off164 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2205 : Index := Scalar.indexCast v245
  let c0_883 : Index := 0#32
  let c4992 : Index := 4992#32
  ![v2205.toNat, 0, 4992]
def k0_off165 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 1 → Nat :=
  let c0_i32_87 : BitVec 32 := 0#32
  let c1_i32_89 : BitVec 32 := 1#32
  let arg18 : BitVec 32 := Scf.iv c0_i32_87 c1_i32_89 k0_t1
  let c2_i32_1004 : BitVec 32 := 2#32
  let v2485 : BitVec 32 := Scalar.addi arg18 c2_i32_1004
  let v2486 : Index := Scalar.indexCast v2485
  ![v2486.toNat]
def k0_cond41 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : BitVec 1 :=
  let c0_i32_87 : BitVec 32 := 0#32
  let c1_i32_89 : BitVec 32 := 1#32
  let arg18 : BitVec 32 := Scf.iv c0_i32_87 c1_i32_89 k0_t1
  let c2_i32_884 : BitVec 32 := 2#32
  let v2209 : BitVec 32 := Scalar.addi arg18 c2_i32_884
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v2210 : BitVec 1 := Scalar.cmpi .slt v2209 v95
  let v2211 : BitVec 32 := Scalar.extui v2210
  let c0_i32_885 : BitVec 32 := 0#32
  let v2212 : BitVec 1 := Scalar.cmpi .ne v2211 c0_i32_885
  v2212

def k0_off166 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 2 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c4_i32_1005 : BitVec 32 := 4#32
  ![v245.toNat, 4]
def k0_off167 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c4096_i32_1006 : BitVec 32 := 4096#32
  let c0_i32_1007 : BitVec 32 := 0#32
  ![v245.toNat, 4096, 0]
def k0_off168 (v2487 : BitVec 32) : Fin 3 → Nat :=
  let c4096_i32_1008 : BitVec 32 := 4096#32
  let c0_i32_1009 : BitVec 32 := 0#32
  ![v2487.toNat, 4096, 0]

def k0_chk49 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2487 : BitVec 32) : Prop :=
  (∀ (k0_h41 : k0_cond41 v0 v6 v12 v18 v24 v30 v36 v42 v48 v54 v60 v66 v72 v78 v84 v90 k0_t1 = 1#1), ∀ a, (k0_off168 v2487) a + S1x1024x1536.size a ≤ S16x7168x1536.size a) ∧
  (∀ (k0_h41 : k0_cond41 v0 v6 v12 v18 v24 v30 v36 v42 v48 v54 v60 v66 v72 v78 v84 v90 k0_t1 = 1#1), ∀ (hinb : ∀ a, (k0_off168 v2487) a + S1x1024x1536.size a ≤ S16x7168x1536.size a), (Rect.unit (s := S16x7168x1536) (k0_off168 v2487) S1x1024x1536.size hinb).WholeWords (EltTy.packing .fp8e4m3))
theorem k0_off168_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2487 : BitVec 32) (k0_hw49 : k0_chk49 v0 v6 v12 v18 v24 v30 v36 v42 v48 v54 v60 v66 v72 v78 v84 v90 k0_t1 v2487), ∀ (k0_h41 : k0_cond41 v0 v6 v12 v18 v24 v30 v36 v42 v48 v54 v60 v66 v72 v78 v84 v90 k0_t1 = 1#1), ∀ a, (k0_off168 v2487) a + S1x1024x1536.size a ≤ S16x7168x1536.size a := fun v0 v6 v12 v18 v24 v30 v36 v42 v48 v54 v60 v66 v72 v78 v84 v90 k0_t1 v2487 k0_hw49 k0_h41 => k0_hw49.1 k0_h41
theorem k0_off168_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2487 : BitVec 32) (k0_hw49 : k0_chk49 v0 v6 v12 v18 v24 v30 v36 v42 v48 v54 v60 v66 v72 v78 v84 v90 k0_t1 v2487), ∀ (k0_h41 : k0_cond41 v0 v6 v12 v18 v24 v30 v36 v42 v48 v54 v60 v66 v72 v78 v84 v90 k0_t1 = 1#1), (Rect.unit (s := S16x7168x1536) (k0_off168 v2487) S1x1024x1536.size (k0_off168_inb v0 v6 v12 v18 v24 v30 v36 v42 v48 v54 v60 v66 v72 v78 v84 v90 k0_t1 v2487 k0_hw49 k0_h41)).WholeWords (EltTy.packing .fp8e4m3) := fun v0 v6 v12 v18 v24 v30 v36 v42 v48 v54 v60 v66 v72 v78 v84 v90 k0_t1 v2487 k0_hw49 k0_h41 => k0_hw49.2 k0_h41 (k0_off168_inb v0 v6 v12 v18 v24 v30 v36 v42 v48 v54 v60 v66 v72 v78 v84 v90 k0_t1 v2487 k0_hw49 k0_h41)

def k0_off169 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 1 → Nat :=
  let c0_i32_87 : BitVec 32 := 0#32
  let c1_i32_89 : BitVec 32 := 1#32
  let arg18 : BitVec 32 := Scf.iv c0_i32_87 c1_i32_89 k0_t1
  let v2213 : Index := Scalar.indexCast arg18
  ![v2213.toNat]
def k0_off170 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 2 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c5_i32 : BitVec 32 := 5#32
  ![v245.toNat, 5]
def k0_off171 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c5120_i32 : BitVec 32 := 5120#32
  let c0_i32_886 : BitVec 32 := 0#32
  ![v245.toNat, 5120, 0]
def k0_off172 (v2214 : BitVec 32) : Fin 3 → Nat :=
  let c5120_i32_887 : BitVec 32 := 5120#32
  let c0_i32_888 : BitVec 32 := 0#32
  ![v2214.toNat, 5120, 0]

def k0_chk50 (v2214 : BitVec 32) : Prop :=
  (∀ a, (k0_off172 v2214) a + S1x1024x1536.size a ≤ S16x7168x1536.size a) ∧
  (∀ (hinb : ∀ a, (k0_off172 v2214) a + S1x1024x1536.size a ≤ S16x7168x1536.size a), (Rect.unit (s := S16x7168x1536) (k0_off172 v2214) S1x1024x1536.size hinb).WholeWords (EltTy.packing .fp8e4m3))
theorem k0_off172_inb : ∀ (v2214 : BitVec 32) (k0_hw50 : k0_chk50 v2214), ∀ a, (k0_off172 v2214) a + S1x1024x1536.size a ≤ S16x7168x1536.size a := fun v2214 k0_hw50 => k0_hw50.1
theorem k0_off172_wordsfp8e4m3 : ∀ (v2214 : BitVec 32) (k0_hw50 : k0_chk50 v2214), (Rect.unit (s := S16x7168x1536) (k0_off172 v2214) S1x1024x1536.size (k0_off172_inb v2214 k0_hw50)).WholeWords (EltTy.packing .fp8e4m3) := fun v2214 k0_hw50 => k0_hw50.2 (k0_off172_inb v2214 k0_hw50)

def k0_off173 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2231 : Index := Scalar.indexCast v245
  let c5120 : Index := 5120#32
  let c0_895 : Index := 0#32
  ![v2231.toNat, 5120, 0]
def k0_off174 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2239 : Index := Scalar.indexCast v245
  let c0_898 : Index := 0#32
  let c5120_899 : Index := 5120#32
  ![v2239.toNat, 0, 5120]
def k0_off175 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2247 : Index := Scalar.indexCast v245
  let c0_901 : Index := 0#32
  let c5248 : Index := 5248#32
  ![v2247.toNat, 0, 5248]
def k0_off176 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2261 : Index := Scalar.indexCast v245
  let c5376 : Index := 5376#32
  let c0_908 : Index := 0#32
  ![v2261.toNat, 5376, 0]
def k0_off177 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2269 : Index := Scalar.indexCast v245
  let c0_911 : Index := 0#32
  let c5376_912 : Index := 5376#32
  ![v2269.toNat, 0, 5376]
def k0_off178 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2277 : Index := Scalar.indexCast v245
  let c0_914 : Index := 0#32
  let c5504 : Index := 5504#32
  ![v2277.toNat, 0, 5504]
def k0_off179 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2291 : Index := Scalar.indexCast v245
  let c5632 : Index := 5632#32
  let c0_921 : Index := 0#32
  ![v2291.toNat, 5632, 0]
def k0_off180 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2299 : Index := Scalar.indexCast v245
  let c0_924 : Index := 0#32
  let c5632_925 : Index := 5632#32
  ![v2299.toNat, 0, 5632]
def k0_off181 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2307 : Index := Scalar.indexCast v245
  let c0_927 : Index := 0#32
  let c5760 : Index := 5760#32
  ![v2307.toNat, 0, 5760]
def k0_off182 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2321 : Index := Scalar.indexCast v245
  let c5888 : Index := 5888#32
  let c0_934 : Index := 0#32
  ![v2321.toNat, 5888, 0]
def k0_off183 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2329 : Index := Scalar.indexCast v245
  let c0_937 : Index := 0#32
  let c5888_938 : Index := 5888#32
  ![v2329.toNat, 0, 5888]
def k0_off184 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2337 : Index := Scalar.indexCast v245
  let c0_940 : Index := 0#32
  let c6016 : Index := 6016#32
  ![v2337.toNat, 0, 6016]
def k0_off185 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 1 → Nat :=
  let c0_i32_87 : BitVec 32 := 0#32
  let c1_i32_89 : BitVec 32 := 1#32
  let arg18 : BitVec 32 := Scf.iv c0_i32_87 c1_i32_89 k0_t1
  let c2_i32_1004 : BitVec 32 := 2#32
  let v2485 : BitVec 32 := Scalar.addi arg18 c2_i32_1004
  let v2486 : Index := Scalar.indexCast v2485
  ![v2486.toNat]
def k0_cond42 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : BitVec 1 :=
  let c0_i32_87 : BitVec 32 := 0#32
  let c1_i32_89 : BitVec 32 := 1#32
  let arg18 : BitVec 32 := Scf.iv c0_i32_87 c1_i32_89 k0_t1
  let c2_i32_941 : BitVec 32 := 2#32
  let v2341 : BitVec 32 := Scalar.addi arg18 c2_i32_941
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v2342 : BitVec 1 := Scalar.cmpi .slt v2341 v95
  let v2343 : BitVec 32 := Scalar.extui v2342
  let c0_i32_942 : BitVec 32 := 0#32
  let v2344 : BitVec 1 := Scalar.cmpi .ne v2343 c0_i32_942
  v2344

def k0_off186 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 2 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c5_i32_1005 : BitVec 32 := 5#32
  ![v245.toNat, 5]
def k0_off187 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c5120_i32_1006 : BitVec 32 := 5120#32
  let c0_i32_1007 : BitVec 32 := 0#32
  ![v245.toNat, 5120, 0]
def k0_off188 (v2487 : BitVec 32) : Fin 3 → Nat :=
  let c5120_i32_1008 : BitVec 32 := 5120#32
  let c0_i32_1009 : BitVec 32 := 0#32
  ![v2487.toNat, 5120, 0]

def k0_chk51 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2487 : BitVec 32) : Prop :=
  (∀ (k0_h42 : k0_cond42 v0 v6 v12 v18 v24 v30 v36 v42 v48 v54 v60 v66 v72 v78 v84 v90 k0_t1 = 1#1), ∀ a, (k0_off188 v2487) a + S1x1024x1536.size a ≤ S16x7168x1536.size a) ∧
  (∀ (k0_h42 : k0_cond42 v0 v6 v12 v18 v24 v30 v36 v42 v48 v54 v60 v66 v72 v78 v84 v90 k0_t1 = 1#1), ∀ (hinb : ∀ a, (k0_off188 v2487) a + S1x1024x1536.size a ≤ S16x7168x1536.size a), (Rect.unit (s := S16x7168x1536) (k0_off188 v2487) S1x1024x1536.size hinb).WholeWords (EltTy.packing .fp8e4m3))
theorem k0_off188_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2487 : BitVec 32) (k0_hw51 : k0_chk51 v0 v6 v12 v18 v24 v30 v36 v42 v48 v54 v60 v66 v72 v78 v84 v90 k0_t1 v2487), ∀ (k0_h42 : k0_cond42 v0 v6 v12 v18 v24 v30 v36 v42 v48 v54 v60 v66 v72 v78 v84 v90 k0_t1 = 1#1), ∀ a, (k0_off188 v2487) a + S1x1024x1536.size a ≤ S16x7168x1536.size a := fun v0 v6 v12 v18 v24 v30 v36 v42 v48 v54 v60 v66 v72 v78 v84 v90 k0_t1 v2487 k0_hw51 k0_h42 => k0_hw51.1 k0_h42
theorem k0_off188_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2487 : BitVec 32) (k0_hw51 : k0_chk51 v0 v6 v12 v18 v24 v30 v36 v42 v48 v54 v60 v66 v72 v78 v84 v90 k0_t1 v2487), ∀ (k0_h42 : k0_cond42 v0 v6 v12 v18 v24 v30 v36 v42 v48 v54 v60 v66 v72 v78 v84 v90 k0_t1 = 1#1), (Rect.unit (s := S16x7168x1536) (k0_off188 v2487) S1x1024x1536.size (k0_off188_inb v0 v6 v12 v18 v24 v30 v36 v42 v48 v54 v60 v66 v72 v78 v84 v90 k0_t1 v2487 k0_hw51 k0_h42)).WholeWords (EltTy.packing .fp8e4m3) := fun v0 v6 v12 v18 v24 v30 v36 v42 v48 v54 v60 v66 v72 v78 v84 v90 k0_t1 v2487 k0_hw51 k0_h42 => k0_hw51.2 k0_h42 (k0_off188_inb v0 v6 v12 v18 v24 v30 v36 v42 v48 v54 v60 v66 v72 v78 v84 v90 k0_t1 v2487 k0_hw51 k0_h42)

def k0_off189 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 1 → Nat :=
  let c0_i32_87 : BitVec 32 := 0#32
  let c1_i32_89 : BitVec 32 := 1#32
  let arg18 : BitVec 32 := Scf.iv c0_i32_87 c1_i32_89 k0_t1
  let v2345 : Index := Scalar.indexCast arg18
  ![v2345.toNat]
def k0_off190 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 2 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c6_i32 : BitVec 32 := 6#32
  ![v245.toNat, 6]
def k0_off191 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c6144_i32 : BitVec 32 := 6144#32
  let c0_i32_943 : BitVec 32 := 0#32
  ![v245.toNat, 6144, 0]
def k0_off192 (v2346 : BitVec 32) : Fin 3 → Nat :=
  let c6144_i32_944 : BitVec 32 := 6144#32
  let c0_i32_945 : BitVec 32 := 0#32
  ![v2346.toNat, 6144, 0]

def k0_chk52 (v2346 : BitVec 32) : Prop :=
  (∀ a, (k0_off192 v2346) a + S1x1024x1536.size a ≤ S16x7168x1536.size a) ∧
  (∀ (hinb : ∀ a, (k0_off192 v2346) a + S1x1024x1536.size a ≤ S16x7168x1536.size a), (Rect.unit (s := S16x7168x1536) (k0_off192 v2346) S1x1024x1536.size hinb).WholeWords (EltTy.packing .fp8e4m3))
theorem k0_off192_inb : ∀ (v2346 : BitVec 32) (k0_hw52 : k0_chk52 v2346), ∀ a, (k0_off192 v2346) a + S1x1024x1536.size a ≤ S16x7168x1536.size a := fun v2346 k0_hw52 => k0_hw52.1
theorem k0_off192_wordsfp8e4m3 : ∀ (v2346 : BitVec 32) (k0_hw52 : k0_chk52 v2346), (Rect.unit (s := S16x7168x1536) (k0_off192 v2346) S1x1024x1536.size (k0_off192_inb v2346 k0_hw52)).WholeWords (EltTy.packing .fp8e4m3) := fun v2346 k0_hw52 => k0_hw52.2 (k0_off192_inb v2346 k0_hw52)

def k0_off193 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2363 : Index := Scalar.indexCast v245
  let c6144 : Index := 6144#32
  let c0_952 : Index := 0#32
  ![v2363.toNat, 6144, 0]
def k0_off194 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2371 : Index := Scalar.indexCast v245
  let c0_955 : Index := 0#32
  let c6144_956 : Index := 6144#32
  ![v2371.toNat, 0, 6144]
def k0_off195 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2379 : Index := Scalar.indexCast v245
  let c0_958 : Index := 0#32
  let c6272 : Index := 6272#32
  ![v2379.toNat, 0, 6272]
def k0_off196 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2393 : Index := Scalar.indexCast v245
  let c6400 : Index := 6400#32
  let c0_965 : Index := 0#32
  ![v2393.toNat, 6400, 0]
def k0_off197 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2401 : Index := Scalar.indexCast v245
  let c0_968 : Index := 0#32
  let c6400_969 : Index := 6400#32
  ![v2401.toNat, 0, 6400]
def k0_off198 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2409 : Index := Scalar.indexCast v245
  let c0_971 : Index := 0#32
  let c6528 : Index := 6528#32
  ![v2409.toNat, 0, 6528]
def k0_off199 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2423 : Index := Scalar.indexCast v245
  let c6656 : Index := 6656#32
  let c0_978 : Index := 0#32
  ![v2423.toNat, 6656, 0]
def k0_off200 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2431 : Index := Scalar.indexCast v245
  let c0_981 : Index := 0#32
  let c6656_982 : Index := 6656#32
  ![v2431.toNat, 0, 6656]
def k0_off201 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2439 : Index := Scalar.indexCast v245
  let c0_984 : Index := 0#32
  let c6784 : Index := 6784#32
  ![v2439.toNat, 0, 6784]
def k0_off202 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2453 : Index := Scalar.indexCast v245
  let c6912 : Index := 6912#32
  let c0_991 : Index := 0#32
  ![v2453.toNat, 6912, 0]
def k0_off203 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2461 : Index := Scalar.indexCast v245
  let c0_994 : Index := 0#32
  let c6912_995 : Index := 6912#32
  ![v2461.toNat, 0, 6912]
def k0_off204 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let v2469 : Index := Scalar.indexCast v245
  let c0_997 : Index := 0#32
  let c7040 : Index := 7040#32
  ![v2469.toNat, 0, 7040]
def k0_off205 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 1 → Nat :=
  let c0_i32_87 : BitVec 32 := 0#32
  let c1_i32_89 : BitVec 32 := 1#32
  let arg18 : BitVec 32 := Scf.iv c0_i32_87 c1_i32_89 k0_t1
  let c2_i32_1004 : BitVec 32 := 2#32
  let v2485 : BitVec 32 := Scalar.addi arg18 c2_i32_1004
  let v2486 : Index := Scalar.indexCast v2485
  ![v2486.toNat]
def k0_cond43 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : BitVec 1 :=
  let c0_i32_87 : BitVec 32 := 0#32
  let c1_i32_89 : BitVec 32 := 1#32
  let arg18 : BitVec 32 := Scf.iv c0_i32_87 c1_i32_89 k0_t1
  let c2_i32_998 : BitVec 32 := 2#32
  let v2473 : BitVec 32 := Scalar.addi arg18 c2_i32_998
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v2474 : BitVec 1 := Scalar.cmpi .slt v2473 v95
  let v2475 : BitVec 32 := Scalar.extui v2474
  let c0_i32_999 : BitVec 32 := 0#32
  let v2476 : BitVec 1 := Scalar.cmpi .ne v2475 c0_i32_999
  v2476

def k0_off206 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 2 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c6_i32_1005 : BitVec 32 := 6#32
  ![v245.toNat, 6]
def k0_off207 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c6144_i32_1006 : BitVec 32 := 6144#32
  let c0_i32_1007 : BitVec 32 := 0#32
  ![v245.toNat, 6144, 0]
def k0_off208 (v2487 : BitVec 32) : Fin 3 → Nat :=
  let c6144_i32_1008 : BitVec 32 := 6144#32
  let c0_i32_1009 : BitVec 32 := 0#32
  ![v2487.toNat, 6144, 0]

def k0_chk53 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2487 : BitVec 32) : Prop :=
  (∀ (k0_h43 : k0_cond43 v0 v6 v12 v18 v24 v30 v36 v42 v48 v54 v60 v66 v72 v78 v84 v90 k0_t1 = 1#1), ∀ a, (k0_off208 v2487) a + S1x1024x1536.size a ≤ S16x7168x1536.size a) ∧
  (∀ (k0_h43 : k0_cond43 v0 v6 v12 v18 v24 v30 v36 v42 v48 v54 v60 v66 v72 v78 v84 v90 k0_t1 = 1#1), ∀ (hinb : ∀ a, (k0_off208 v2487) a + S1x1024x1536.size a ≤ S16x7168x1536.size a), (Rect.unit (s := S16x7168x1536) (k0_off208 v2487) S1x1024x1536.size hinb).WholeWords (EltTy.packing .fp8e4m3))
theorem k0_off208_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2487 : BitVec 32) (k0_hw53 : k0_chk53 v0 v6 v12 v18 v24 v30 v36 v42 v48 v54 v60 v66 v72 v78 v84 v90 k0_t1 v2487), ∀ (k0_h43 : k0_cond43 v0 v6 v12 v18 v24 v30 v36 v42 v48 v54 v60 v66 v72 v78 v84 v90 k0_t1 = 1#1), ∀ a, (k0_off208 v2487) a + S1x1024x1536.size a ≤ S16x7168x1536.size a := fun v0 v6 v12 v18 v24 v30 v36 v42 v48 v54 v60 v66 v72 v78 v84 v90 k0_t1 v2487 k0_hw53 k0_h43 => k0_hw53.1 k0_h43
theorem k0_off208_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) (v2487 : BitVec 32) (k0_hw53 : k0_chk53 v0 v6 v12 v18 v24 v30 v36 v42 v48 v54 v60 v66 v72 v78 v84 v90 k0_t1 v2487), ∀ (k0_h43 : k0_cond43 v0 v6 v12 v18 v24 v30 v36 v42 v48 v54 v60 v66 v72 v78 v84 v90 k0_t1 = 1#1), (Rect.unit (s := S16x7168x1536) (k0_off208 v2487) S1x1024x1536.size (k0_off208_inb v0 v6 v12 v18 v24 v30 v36 v42 v48 v54 v60 v66 v72 v78 v84 v90 k0_t1 v2487 k0_hw53 k0_h43)).WholeWords (EltTy.packing .fp8e4m3) := fun v0 v6 v12 v18 v24 v30 v36 v42 v48 v54 v60 v66 v72 v78 v84 v90 k0_t1 v2487 k0_hw53 k0_h43 => k0_hw53.2 k0_h43 (k0_off208_inb v0 v6 v12 v18 v24 v30 v36 v42 v48 v54 v60 v66 v72 v78 v84 v90 k0_t1 v2487 k0_hw53 k0_h43)

def k0_off209 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 1 → Nat :=
  let c0_i32_87 : BitVec 32 := 0#32
  let c1_i32_89 : BitVec 32 := 1#32
  let arg18 : BitVec 32 := Scf.iv c0_i32_87 c1_i32_89 k0_t1
  let v2477 : Index := Scalar.indexCast arg18
  ![v2477.toNat]
def k0_off210 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 1 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  ![v245.toNat]
def k0_off211 (v2478 : BitVec 32) : Fin 3 → Nat :=
  let c0_i32_1000 : BitVec 32 := 0#32
  let c0_i32_1001 : BitVec 32 := 0#32
  ![v2478.toNat, 0, 0]

def k0_off212 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t1 : Fin (k0_t1_loop v0 v6 v12 v18 v24 v30 v36 v42 v48 v54 v60 v66 v72 v78 v84 v90).trips) : Fin 3 → Nat :=
  let c0_i32_87 : BitVec 32 := 0#32
  let c1_i32_89 : BitVec 32 := 1#32
  let arg18 : BitVec 32 := Scf.iv c0_i32_87 c1_i32_89 k0_t1
  let c2_i32 : BitVec 32 := 2#32
  let v245 : BitVec 32 := Scalar.remsi arg18 c2_i32
  let c0_i32_1002 : BitVec 32 := 0#32
  let c0_i32_1003 : BitVec 32 := 0#32
  ![v245.toNat, 0, 0]

def k0_chk54 (v2478 : BitVec 32) : Prop :=
  (∀ a, (k0_off211 v2478) a + S1x24x7168.size a ≤ S16x24x7168.size a) ∧
  (∀ (hinb : ∀ a, (k0_off211 v2478) a + S1x24x7168.size a ≤ S16x24x7168.size a), (Rect.unit (s := S16x24x7168) (k0_off211 v2478) S1x24x7168.size hinb).WholeWords (EltTy.packing .bf16))
theorem k0_off211_inb : ∀ (v2478 : BitVec 32) (k0_hw54 : k0_chk54 v2478), ∀ a, (k0_off211 v2478) a + S1x24x7168.size a ≤ S16x24x7168.size a := fun v2478 k0_hw54 => k0_hw54.1
theorem k0_off211_wordsbf16 : ∀ (v2478 : BitVec 32) (k0_hw54 : k0_chk54 v2478), (Rect.unit (s := S16x24x7168) (k0_off211 v2478) S1x24x7168.size (k0_off211_inb v2478 k0_hw54)).WholeWords (EltTy.packing .bf16) := fun v2478 k0_hw54 => k0_hw54.2 (k0_off211_inb v2478 k0_hw54)

@[reducible] def k0_t2_loop (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) : Scf.Loop 32 :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let v171 : BitVec 32 := Scalar.addi c0_i32_87 v170
  let c1_i32_90 : BitVec 32 := 1#32
  ⟨v174, v171, c1_i32_90⟩
def k0_off213 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 1 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let v246 : Index := Scalar.indexCast arg18
  ![v246.toNat]
def k0_off214 (v247 : BitVec 32) : Fin 1 → Nat :=
  let v248 : Index := Scalar.indexCast v247
  ![v248.toNat]

def k0_chk55 (v247 : BitVec 32) : Prop :=
  (∀ a, (k0_off214 v247) a + S1.size a ≤ S16.size a)
theorem k0_off214_inb : ∀ (v247 : BitVec 32) (k0_hw55 : k0_chk55 v247), ∀ a, (k0_off214 v247) a + S1.size a ≤ S16.size a := fun v247 k0_hw55 => k0_hw55

def k0_off215 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 1 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let v250 : Index := Scalar.indexCast arg18
  ![v250.toNat]
def k0_off216 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 1 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  ![v245.toNat]
def k0_off217 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c0_i32_143 : BitVec 32 := 0#32
  let c0_i32_144 : BitVec 32 := 0#32
  ![v245.toNat, 0, 0]
def k0_off218 (v251 : BitVec 32) : Fin 3 → Nat :=
  let c0_i32_145 : BitVec 32 := 0#32
  let c0_i32_146 : BitVec 32 := 0#32
  ![v251.toNat, 0, 0]

def k0_chk56 (v251 : BitVec 32) : Prop :=
  (∀ a, (k0_off218 v251) a + S1x24x1536.size a ≤ S16x24x1536.size a) ∧
  (∀ (hinb : ∀ a, (k0_off218 v251) a + S1x24x1536.size a ≤ S16x24x1536.size a), (Rect.unit (s := S16x24x1536) (k0_off218 v251) S1x24x1536.size hinb).WholeWords (EltTy.packing .bf16))
theorem k0_off218_inb : ∀ (v251 : BitVec 32) (k0_hw56 : k0_chk56 v251), ∀ a, (k0_off218 v251) a + S1x24x1536.size a ≤ S16x24x1536.size a := fun v251 k0_hw56 => k0_hw56.1
theorem k0_off218_wordsbf16 : ∀ (v251 : BitVec 32) (k0_hw56 : k0_chk56 v251), (Rect.unit (s := S16x24x1536) (k0_off218 v251) S1x24x1536.size (k0_off218_inb v251 k0_hw56)).WholeWords (EltTy.packing .bf16) := fun v251 k0_hw56 => k0_hw56.2 (k0_off218_inb v251 k0_hw56)

def k0_off219 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 1 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let v258 : Index := Scalar.indexCast arg18
  ![v258.toNat]
def k0_off220 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 1 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  ![v245.toNat]
def k0_off221 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c0_i32_147 : BitVec 32 := 0#32
  let c0_i32_148 : BitVec 32 := 0#32
  ![v245.toNat, 0, 0]
def k0_off222 (v259 : BitVec 32) : Fin 3 → Nat :=
  let c0_i32_149 : BitVec 32 := 0#32
  let c0_i32_150 : BitVec 32 := 0#32
  ![v259.toNat, 0, 0]

def k0_chk57 (v259 : BitVec 32) : Prop :=
  (∀ a, (k0_off222 v259) a + S1x56x12.size a ≤ S16x56x12.size a)
theorem k0_off222_inb : ∀ (v259 : BitVec 32) (k0_hw57 : k0_chk57 v259), ∀ a, (k0_off222 v259) a + S1x56x12.size a ≤ S16x56x12.size a := fun v259 k0_hw57 => k0_hw57

def k0_off223 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v266 : Index := Scalar.indexCast v245
  let c0_151 : Index := 0#32
  let c0_152 : Index := 0#32
  ![v266.toNat, 0, 0]
def k0_off224 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v271 : Index := Scalar.indexCast v245
  let c0_153 : Index := 0#32
  let c0_154 : Index := 0#32
  ![v271.toNat, 0, 0]
def k0_off225 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v377 : Index := Scalar.indexCast v245
  let c0_179 : Index := 0#32
  let c128 : Index := 128#32
  ![v377.toNat, 0, 128]
def k0_off226 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v483 : Index := Scalar.indexCast v245
  let c0_214 : Index := 0#32
  let c256 : Index := 256#32
  ![v483.toNat, 0, 256]
def k0_off227 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v589 : Index := Scalar.indexCast v245
  let c0_249 : Index := 0#32
  let c384 : Index := 384#32
  ![v589.toNat, 0, 384]
def k0_off228 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v695 : Index := Scalar.indexCast v245
  let c0_284 : Index := 0#32
  let c512 : Index := 512#32
  ![v695.toNat, 0, 512]
def k0_off229 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v801 : Index := Scalar.indexCast v245
  let c0_319 : Index := 0#32
  let c640 : Index := 640#32
  ![v801.toNat, 0, 640]
def k0_off230 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v907 : Index := Scalar.indexCast v245
  let c0_354 : Index := 0#32
  let c768 : Index := 768#32
  ![v907.toNat, 0, 768]
def k0_off231 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1013 : Index := Scalar.indexCast v245
  let c0_389 : Index := 0#32
  let c896 : Index := 896#32
  ![v1013.toNat, 0, 896]
def k0_off232 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1119 : Index := Scalar.indexCast v245
  let c0_424 : Index := 0#32
  let c1024 : Index := 1024#32
  ![v1119.toNat, 0, 1024]
def k0_off233 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1225 : Index := Scalar.indexCast v245
  let c0_459 : Index := 0#32
  let c1152 : Index := 1152#32
  ![v1225.toNat, 0, 1152]
def k0_off234 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1331 : Index := Scalar.indexCast v245
  let c0_494 : Index := 0#32
  let c1280 : Index := 1280#32
  ![v1331.toNat, 0, 1280]
def k0_off235 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1437 : Index := Scalar.indexCast v245
  let c0_529 : Index := 0#32
  let c1408 : Index := 1408#32
  ![v1437.toNat, 0, 1408]
def k0_off236 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 1 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32_1004 : BitVec 32 := 2#32
  let v2485 : BitVec 32 := Scalar.subi arg18 c2_i32_1004
  let v2486 : Index := Scalar.indexCast v2485
  ![v2486.toNat]
def k0_cond44 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : BitVec 1 :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32_564 : BitVec 32 := 2#32
  let v1543 : BitVec 1 := Scalar.cmpi .sge arg18 c2_i32_564
  let v1544 : BitVec 32 := Scalar.extui v1543
  let c0_i32_565 : BitVec 32 := 0#32
  let v1545 : BitVec 1 := Scalar.cmpi .ne v1544 c0_i32_565
  v1545

def k0_off237 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 1 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  ![v245.toNat]
def k0_off238 (v2487 : BitVec 32) : Fin 3 → Nat :=
  let c0_i32_1005 : BitVec 32 := 0#32
  let c0_i32_1006 : BitVec 32 := 0#32
  ![v2487.toNat, 0, 0]

def k0_off239 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c0_i32_1007 : BitVec 32 := 0#32
  let c0_i32_1008 : BitVec 32 := 0#32
  ![v245.toNat, 0, 0]

def k0_chk58 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2487 : BitVec 32) : Prop :=
  (∀ (k0_h44 : k0_cond44 v0 v6 v12 v18 v24 v30 v36 v42 v48 v54 v60 v66 v72 v78 v84 v90 k0_t2 = 1#1), ∀ a, (k0_off238 v2487) a + S1x24x7168.size a ≤ S16x24x7168.size a) ∧
  (∀ (k0_h44 : k0_cond44 v0 v6 v12 v18 v24 v30 v36 v42 v48 v54 v60 v66 v72 v78 v84 v90 k0_t2 = 1#1), ∀ (hinb : ∀ a, (k0_off238 v2487) a + S1x24x7168.size a ≤ S16x24x7168.size a), (Rect.unit (s := S16x24x7168) (k0_off238 v2487) S1x24x7168.size hinb).WholeWords (EltTy.packing .bf16))
theorem k0_off238_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2487 : BitVec 32) (k0_hw58 : k0_chk58 v0 v6 v12 v18 v24 v30 v36 v42 v48 v54 v60 v66 v72 v78 v84 v90 k0_t2 v2487), ∀ (k0_h44 : k0_cond44 v0 v6 v12 v18 v24 v30 v36 v42 v48 v54 v60 v66 v72 v78 v84 v90 k0_t2 = 1#1), ∀ a, (k0_off238 v2487) a + S1x24x7168.size a ≤ S16x24x7168.size a := fun v0 v6 v12 v18 v24 v30 v36 v42 v48 v54 v60 v66 v72 v78 v84 v90 k0_t2 v2487 k0_hw58 k0_h44 => k0_hw58.1 k0_h44
theorem k0_off238_wordsbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2487 : BitVec 32) (k0_hw58 : k0_chk58 v0 v6 v12 v18 v24 v30 v36 v42 v48 v54 v60 v66 v72 v78 v84 v90 k0_t2 v2487), ∀ (k0_h44 : k0_cond44 v0 v6 v12 v18 v24 v30 v36 v42 v48 v54 v60 v66 v72 v78 v84 v90 k0_t2 = 1#1), (Rect.unit (s := S16x24x7168) (k0_off238 v2487) S1x24x7168.size (k0_off238_inb v0 v6 v12 v18 v24 v30 v36 v42 v48 v54 v60 v66 v72 v78 v84 v90 k0_t2 v2487 k0_hw58 k0_h44)).WholeWords (EltTy.packing .bf16) := fun v0 v6 v12 v18 v24 v30 v36 v42 v48 v54 v60 v66 v72 v78 v84 v90 k0_t2 v2487 k0_hw58 k0_h44 => k0_hw58.2 k0_h44 (k0_off238_inb v0 v6 v12 v18 v24 v30 v36 v42 v48 v54 v60 v66 v72 v78 v84 v90 k0_t2 v2487 k0_hw58 k0_h44)

def k0_off240 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 1 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32_1004 : BitVec 32 := 2#32
  let v2485 : BitVec 32 := Scalar.addi arg18 c2_i32_1004
  let v2486 : Index := Scalar.indexCast v2485
  ![v2486.toNat]
def k0_cond45 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : BitVec 1 :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32_566 : BitVec 32 := 2#32
  let v1546 : BitVec 32 := Scalar.addi arg18 c2_i32_566
  let v1547 : BitVec 1 := Scalar.cmpi .slt v1546 v95
  let v1548 : BitVec 32 := Scalar.extui v1547
  let c0_i32_567 : BitVec 32 := 0#32
  let v1549 : BitVec 1 := Scalar.cmpi .ne v1548 c0_i32_567
  v1549

def k0_off241 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 1 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  ![v245.toNat]
def k0_off242 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c0_i32_1005 : BitVec 32 := 0#32
  let c0_i32_1006 : BitVec 32 := 0#32
  ![v245.toNat, 0, 0]
def k0_off243 (v2487 : BitVec 32) : Fin 3 → Nat :=
  let c0_i32_1007 : BitVec 32 := 0#32
  let c0_i32_1008 : BitVec 32 := 0#32
  ![v2487.toNat, 0, 0]

def k0_chk59 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2487 : BitVec 32) : Prop :=
  (∀ (k0_h45 : k0_cond45 v0 v6 v12 v18 v24 v30 v36 v42 v48 v54 v60 v66 v72 v78 v84 v90 k0_t2 = 1#1), ∀ a, (k0_off243 v2487) a + S1x24x1536.size a ≤ S16x24x1536.size a) ∧
  (∀ (k0_h45 : k0_cond45 v0 v6 v12 v18 v24 v30 v36 v42 v48 v54 v60 v66 v72 v78 v84 v90 k0_t2 = 1#1), ∀ (hinb : ∀ a, (k0_off243 v2487) a + S1x24x1536.size a ≤ S16x24x1536.size a), (Rect.unit (s := S16x24x1536) (k0_off243 v2487) S1x24x1536.size hinb).WholeWords (EltTy.packing .bf16))
theorem k0_off243_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2487 : BitVec 32) (k0_hw59 : k0_chk59 v0 v6 v12 v18 v24 v30 v36 v42 v48 v54 v60 v66 v72 v78 v84 v90 k0_t2 v2487), ∀ (k0_h45 : k0_cond45 v0 v6 v12 v18 v24 v30 v36 v42 v48 v54 v60 v66 v72 v78 v84 v90 k0_t2 = 1#1), ∀ a, (k0_off243 v2487) a + S1x24x1536.size a ≤ S16x24x1536.size a := fun v0 v6 v12 v18 v24 v30 v36 v42 v48 v54 v60 v66 v72 v78 v84 v90 k0_t2 v2487 k0_hw59 k0_h45 => k0_hw59.1 k0_h45
theorem k0_off243_wordsbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2487 : BitVec 32) (k0_hw59 : k0_chk59 v0 v6 v12 v18 v24 v30 v36 v42 v48 v54 v60 v66 v72 v78 v84 v90 k0_t2 v2487), ∀ (k0_h45 : k0_cond45 v0 v6 v12 v18 v24 v30 v36 v42 v48 v54 v60 v66 v72 v78 v84 v90 k0_t2 = 1#1), (Rect.unit (s := S16x24x1536) (k0_off243 v2487) S1x24x1536.size (k0_off243_inb v0 v6 v12 v18 v24 v30 v36 v42 v48 v54 v60 v66 v72 v78 v84 v90 k0_t2 v2487 k0_hw59 k0_h45)).WholeWords (EltTy.packing .bf16) := fun v0 v6 v12 v18 v24 v30 v36 v42 v48 v54 v60 v66 v72 v78 v84 v90 k0_t2 v2487 k0_hw59 k0_h45 => k0_hw59.2 k0_h45 (k0_off243_inb v0 v6 v12 v18 v24 v30 v36 v42 v48 v54 v60 v66 v72 v78 v84 v90 k0_t2 v2487 k0_hw59 k0_h45)

def k0_off244 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 1 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32_1009 : BitVec 32 := 2#32
  let v2494 : BitVec 32 := Scalar.addi arg18 c2_i32_1009
  let v2495 : Index := Scalar.indexCast v2494
  ![v2495.toNat]
def k0_off245 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 1 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  ![v245.toNat]
def k0_off246 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c0_i32_1010 : BitVec 32 := 0#32
  let c0_i32_1011 : BitVec 32 := 0#32
  ![v245.toNat, 0, 0]
def k0_off247 (v2496 : BitVec 32) : Fin 3 → Nat :=
  let c0_i32_1012 : BitVec 32 := 0#32
  let c0_i32_1013 : BitVec 32 := 0#32
  ![v2496.toNat, 0, 0]

def k0_chk60 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2496 : BitVec 32) : Prop :=
  (∀ (k0_h45 : k0_cond45 v0 v6 v12 v18 v24 v30 v36 v42 v48 v54 v60 v66 v72 v78 v84 v90 k0_t2 = 1#1), ∀ a, (k0_off247 v2496) a + S1x56x12.size a ≤ S16x56x12.size a)
theorem k0_off247_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2496 : BitVec 32) (k0_hw60 : k0_chk60 v0 v6 v12 v18 v24 v30 v36 v42 v48 v54 v60 v66 v72 v78 v84 v90 k0_t2 v2496), ∀ (k0_h45 : k0_cond45 v0 v6 v12 v18 v24 v30 v36 v42 v48 v54 v60 v66 v72 v78 v84 v90 k0_t2 = 1#1), ∀ a, (k0_off247 v2496) a + S1x56x12.size a ≤ S16x56x12.size a := fun v0 v6 v12 v18 v24 v30 v36 v42 v48 v54 v60 v66 v72 v78 v84 v90 k0_t2 v2496 k0_hw60 k0_h45 => k0_hw60 k0_h45

def k0_off248 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 1 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let v1553 : Index := Scalar.indexCast arg18
  ![v1553.toNat]
def k0_off249 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 2 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c0_i32_568 : BitVec 32 := 0#32
  ![v245.toNat, 0]
def k0_off250 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c0_i32_569 : BitVec 32 := 0#32
  let c0_i32_570 : BitVec 32 := 0#32
  ![v245.toNat, 0, 0]
def k0_off251 (v1554 : BitVec 32) : Fin 3 → Nat :=
  let c0_i32_571 : BitVec 32 := 0#32
  let c0_i32_572 : BitVec 32 := 0#32
  ![v1554.toNat, 0, 0]

def k0_chk61 (v1554 : BitVec 32) : Prop :=
  (∀ a, (k0_off251 v1554) a + S1x1024x1536.size a ≤ S16x7168x1536.size a) ∧
  (∀ (hinb : ∀ a, (k0_off251 v1554) a + S1x1024x1536.size a ≤ S16x7168x1536.size a), (Rect.unit (s := S16x7168x1536) (k0_off251 v1554) S1x1024x1536.size hinb).WholeWords (EltTy.packing .fp8e4m3))
theorem k0_off251_inb : ∀ (v1554 : BitVec 32) (k0_hw61 : k0_chk61 v1554), ∀ a, (k0_off251 v1554) a + S1x1024x1536.size a ≤ S16x7168x1536.size a := fun v1554 k0_hw61 => k0_hw61.1
theorem k0_off251_wordsfp8e4m3 : ∀ (v1554 : BitVec 32) (k0_hw61 : k0_chk61 v1554), (Rect.unit (s := S16x7168x1536) (k0_off251 v1554) S1x1024x1536.size (k0_off251_inb v1554 k0_hw61)).WholeWords (EltTy.packing .fp8e4m3) := fun v1554 k0_hw61 => k0_hw61.2 (k0_off251_inb v1554 k0_hw61)

def k0_off252 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1571 : Index := Scalar.indexCast v245
  let c0_581 : Index := 0#32
  let c0_582 : Index := 0#32
  ![v1571.toNat, 0, 0]
def k0_off253 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1579 : Index := Scalar.indexCast v245
  let c0_585 : Index := 0#32
  let c0_586 : Index := 0#32
  ![v1579.toNat, 0, 0]
def k0_off254 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1587 : Index := Scalar.indexCast v245
  let c0_588 : Index := 0#32
  let c128_589 : Index := 128#32
  ![v1587.toNat, 0, 128]
def k0_off255 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1601 : Index := Scalar.indexCast v245
  let c256_598 : Index := 256#32
  let c0_599 : Index := 0#32
  ![v1601.toNat, 256, 0]
def k0_off256 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1609 : Index := Scalar.indexCast v245
  let c0_602 : Index := 0#32
  let c256_603 : Index := 256#32
  ![v1609.toNat, 0, 256]
def k0_off257 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1617 : Index := Scalar.indexCast v245
  let c0_605 : Index := 0#32
  let c384_606 : Index := 384#32
  ![v1617.toNat, 0, 384]
def k0_off258 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1631 : Index := Scalar.indexCast v245
  let c512_615 : Index := 512#32
  let c0_616 : Index := 0#32
  ![v1631.toNat, 512, 0]
def k0_off259 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1639 : Index := Scalar.indexCast v245
  let c0_619 : Index := 0#32
  let c512_620 : Index := 512#32
  ![v1639.toNat, 0, 512]
def k0_off260 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1647 : Index := Scalar.indexCast v245
  let c0_622 : Index := 0#32
  let c640_623 : Index := 640#32
  ![v1647.toNat, 0, 640]
def k0_off261 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1661 : Index := Scalar.indexCast v245
  let c768_632 : Index := 768#32
  let c0_633 : Index := 0#32
  ![v1661.toNat, 768, 0]
def k0_off262 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1669 : Index := Scalar.indexCast v245
  let c0_636 : Index := 0#32
  let c768_637 : Index := 768#32
  ![v1669.toNat, 0, 768]
def k0_off263 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1677 : Index := Scalar.indexCast v245
  let c0_639 : Index := 0#32
  let c896_640 : Index := 896#32
  ![v1677.toNat, 0, 896]
def k0_off264 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 1 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32_1004 : BitVec 32 := 2#32
  let v2485 : BitVec 32 := Scalar.addi arg18 c2_i32_1004
  let v2486 : Index := Scalar.indexCast v2485
  ![v2486.toNat]
def k0_cond46 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : BitVec 1 :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32_641 : BitVec 32 := 2#32
  let v1681 : BitVec 32 := Scalar.addi arg18 c2_i32_641
  let v1682 : BitVec 1 := Scalar.cmpi .slt v1681 v95
  let v1683 : BitVec 32 := Scalar.extui v1682
  let c0_i32_642 : BitVec 32 := 0#32
  let v1684 : BitVec 1 := Scalar.cmpi .ne v1683 c0_i32_642
  v1684

def k0_off265 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 2 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c0_i32_1005 : BitVec 32 := 0#32
  ![v245.toNat, 0]
def k0_off266 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c0_i32_1006 : BitVec 32 := 0#32
  let c0_i32_1007 : BitVec 32 := 0#32
  ![v245.toNat, 0, 0]
def k0_off267 (v2487 : BitVec 32) : Fin 3 → Nat :=
  let c0_i32_1008 : BitVec 32 := 0#32
  let c0_i32_1009 : BitVec 32 := 0#32
  ![v2487.toNat, 0, 0]

def k0_chk62 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2487 : BitVec 32) : Prop :=
  (∀ (k0_h46 : k0_cond46 v0 v6 v12 v18 v24 v30 v36 v42 v48 v54 v60 v66 v72 v78 v84 v90 k0_t2 = 1#1), ∀ a, (k0_off267 v2487) a + S1x1024x1536.size a ≤ S16x7168x1536.size a) ∧
  (∀ (k0_h46 : k0_cond46 v0 v6 v12 v18 v24 v30 v36 v42 v48 v54 v60 v66 v72 v78 v84 v90 k0_t2 = 1#1), ∀ (hinb : ∀ a, (k0_off267 v2487) a + S1x1024x1536.size a ≤ S16x7168x1536.size a), (Rect.unit (s := S16x7168x1536) (k0_off267 v2487) S1x1024x1536.size hinb).WholeWords (EltTy.packing .fp8e4m3))
theorem k0_off267_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2487 : BitVec 32) (k0_hw62 : k0_chk62 v0 v6 v12 v18 v24 v30 v36 v42 v48 v54 v60 v66 v72 v78 v84 v90 k0_t2 v2487), ∀ (k0_h46 : k0_cond46 v0 v6 v12 v18 v24 v30 v36 v42 v48 v54 v60 v66 v72 v78 v84 v90 k0_t2 = 1#1), ∀ a, (k0_off267 v2487) a + S1x1024x1536.size a ≤ S16x7168x1536.size a := fun v0 v6 v12 v18 v24 v30 v36 v42 v48 v54 v60 v66 v72 v78 v84 v90 k0_t2 v2487 k0_hw62 k0_h46 => k0_hw62.1 k0_h46
theorem k0_off267_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2487 : BitVec 32) (k0_hw62 : k0_chk62 v0 v6 v12 v18 v24 v30 v36 v42 v48 v54 v60 v66 v72 v78 v84 v90 k0_t2 v2487), ∀ (k0_h46 : k0_cond46 v0 v6 v12 v18 v24 v30 v36 v42 v48 v54 v60 v66 v72 v78 v84 v90 k0_t2 = 1#1), (Rect.unit (s := S16x7168x1536) (k0_off267 v2487) S1x1024x1536.size (k0_off267_inb v0 v6 v12 v18 v24 v30 v36 v42 v48 v54 v60 v66 v72 v78 v84 v90 k0_t2 v2487 k0_hw62 k0_h46)).WholeWords (EltTy.packing .fp8e4m3) := fun v0 v6 v12 v18 v24 v30 v36 v42 v48 v54 v60 v66 v72 v78 v84 v90 k0_t2 v2487 k0_hw62 k0_h46 => k0_hw62.2 k0_h46 (k0_off267_inb v0 v6 v12 v18 v24 v30 v36 v42 v48 v54 v60 v66 v72 v78 v84 v90 k0_t2 v2487 k0_hw62 k0_h46)

def k0_off268 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 1 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let v1685 : Index := Scalar.indexCast arg18
  ![v1685.toNat]
def k0_off269 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 2 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c1_i32_643 : BitVec 32 := 1#32
  ![v245.toNat, 1]
def k0_off270 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c1024_i32 : BitVec 32 := 1024#32
  let c0_i32_644 : BitVec 32 := 0#32
  ![v245.toNat, 1024, 0]
def k0_off271 (v1686 : BitVec 32) : Fin 3 → Nat :=
  let c1024_i32_645 : BitVec 32 := 1024#32
  let c0_i32_646 : BitVec 32 := 0#32
  ![v1686.toNat, 1024, 0]

def k0_chk63 (v1686 : BitVec 32) : Prop :=
  (∀ a, (k0_off271 v1686) a + S1x1024x1536.size a ≤ S16x7168x1536.size a) ∧
  (∀ (hinb : ∀ a, (k0_off271 v1686) a + S1x1024x1536.size a ≤ S16x7168x1536.size a), (Rect.unit (s := S16x7168x1536) (k0_off271 v1686) S1x1024x1536.size hinb).WholeWords (EltTy.packing .fp8e4m3))
theorem k0_off271_inb : ∀ (v1686 : BitVec 32) (k0_hw63 : k0_chk63 v1686), ∀ a, (k0_off271 v1686) a + S1x1024x1536.size a ≤ S16x7168x1536.size a := fun v1686 k0_hw63 => k0_hw63.1
theorem k0_off271_wordsfp8e4m3 : ∀ (v1686 : BitVec 32) (k0_hw63 : k0_chk63 v1686), (Rect.unit (s := S16x7168x1536) (k0_off271 v1686) S1x1024x1536.size (k0_off271_inb v1686 k0_hw63)).WholeWords (EltTy.packing .fp8e4m3) := fun v1686 k0_hw63 => k0_hw63.2 (k0_off271_inb v1686 k0_hw63)

def k0_off272 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1703 : Index := Scalar.indexCast v245
  let c1024_655 : Index := 1024#32
  let c0_656 : Index := 0#32
  ![v1703.toNat, 1024, 0]
def k0_off273 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1711 : Index := Scalar.indexCast v245
  let c0_659 : Index := 0#32
  let c1024_660 : Index := 1024#32
  ![v1711.toNat, 0, 1024]
def k0_off274 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1719 : Index := Scalar.indexCast v245
  let c0_662 : Index := 0#32
  let c1152_663 : Index := 1152#32
  ![v1719.toNat, 0, 1152]
def k0_off275 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1733 : Index := Scalar.indexCast v245
  let c1280_672 : Index := 1280#32
  let c0_673 : Index := 0#32
  ![v1733.toNat, 1280, 0]
def k0_off276 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1741 : Index := Scalar.indexCast v245
  let c0_676 : Index := 0#32
  let c1280_677 : Index := 1280#32
  ![v1741.toNat, 0, 1280]
def k0_off277 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1749 : Index := Scalar.indexCast v245
  let c0_679 : Index := 0#32
  let c1408_680 : Index := 1408#32
  ![v1749.toNat, 0, 1408]
def k0_off278 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1763 : Index := Scalar.indexCast v245
  let c1536 : Index := 1536#32
  let c0_689 : Index := 0#32
  ![v1763.toNat, 1536, 0]
def k0_off279 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1771 : Index := Scalar.indexCast v245
  let c0_692 : Index := 0#32
  let c1536_693 : Index := 1536#32
  ![v1771.toNat, 0, 1536]
def k0_off280 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1779 : Index := Scalar.indexCast v245
  let c0_695 : Index := 0#32
  let c1664 : Index := 1664#32
  ![v1779.toNat, 0, 1664]
def k0_off281 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1793 : Index := Scalar.indexCast v245
  let c1792 : Index := 1792#32
  let c0_704 : Index := 0#32
  ![v1793.toNat, 1792, 0]
def k0_off282 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1801 : Index := Scalar.indexCast v245
  let c0_707 : Index := 0#32
  let c1792_708 : Index := 1792#32
  ![v1801.toNat, 0, 1792]
def k0_off283 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1809 : Index := Scalar.indexCast v245
  let c0_710 : Index := 0#32
  let c1920 : Index := 1920#32
  ![v1809.toNat, 0, 1920]
def k0_off284 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 1 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32_1004 : BitVec 32 := 2#32
  let v2485 : BitVec 32 := Scalar.addi arg18 c2_i32_1004
  let v2486 : Index := Scalar.indexCast v2485
  ![v2486.toNat]
def k0_cond47 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : BitVec 1 :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32_711 : BitVec 32 := 2#32
  let v1813 : BitVec 32 := Scalar.addi arg18 c2_i32_711
  let v1814 : BitVec 1 := Scalar.cmpi .slt v1813 v95
  let v1815 : BitVec 32 := Scalar.extui v1814
  let c0_i32_712 : BitVec 32 := 0#32
  let v1816 : BitVec 1 := Scalar.cmpi .ne v1815 c0_i32_712
  v1816

def k0_off285 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 2 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c1_i32_1005 : BitVec 32 := 1#32
  ![v245.toNat, 1]
def k0_off286 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c1024_i32_1006 : BitVec 32 := 1024#32
  let c0_i32_1007 : BitVec 32 := 0#32
  ![v245.toNat, 1024, 0]
def k0_off287 (v2487 : BitVec 32) : Fin 3 → Nat :=
  let c1024_i32_1008 : BitVec 32 := 1024#32
  let c0_i32_1009 : BitVec 32 := 0#32
  ![v2487.toNat, 1024, 0]

def k0_chk64 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2487 : BitVec 32) : Prop :=
  (∀ (k0_h47 : k0_cond47 v0 v6 v12 v18 v24 v30 v36 v42 v48 v54 v60 v66 v72 v78 v84 v90 k0_t2 = 1#1), ∀ a, (k0_off287 v2487) a + S1x1024x1536.size a ≤ S16x7168x1536.size a) ∧
  (∀ (k0_h47 : k0_cond47 v0 v6 v12 v18 v24 v30 v36 v42 v48 v54 v60 v66 v72 v78 v84 v90 k0_t2 = 1#1), ∀ (hinb : ∀ a, (k0_off287 v2487) a + S1x1024x1536.size a ≤ S16x7168x1536.size a), (Rect.unit (s := S16x7168x1536) (k0_off287 v2487) S1x1024x1536.size hinb).WholeWords (EltTy.packing .fp8e4m3))
theorem k0_off287_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2487 : BitVec 32) (k0_hw64 : k0_chk64 v0 v6 v12 v18 v24 v30 v36 v42 v48 v54 v60 v66 v72 v78 v84 v90 k0_t2 v2487), ∀ (k0_h47 : k0_cond47 v0 v6 v12 v18 v24 v30 v36 v42 v48 v54 v60 v66 v72 v78 v84 v90 k0_t2 = 1#1), ∀ a, (k0_off287 v2487) a + S1x1024x1536.size a ≤ S16x7168x1536.size a := fun v0 v6 v12 v18 v24 v30 v36 v42 v48 v54 v60 v66 v72 v78 v84 v90 k0_t2 v2487 k0_hw64 k0_h47 => k0_hw64.1 k0_h47
theorem k0_off287_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2487 : BitVec 32) (k0_hw64 : k0_chk64 v0 v6 v12 v18 v24 v30 v36 v42 v48 v54 v60 v66 v72 v78 v84 v90 k0_t2 v2487), ∀ (k0_h47 : k0_cond47 v0 v6 v12 v18 v24 v30 v36 v42 v48 v54 v60 v66 v72 v78 v84 v90 k0_t2 = 1#1), (Rect.unit (s := S16x7168x1536) (k0_off287 v2487) S1x1024x1536.size (k0_off287_inb v0 v6 v12 v18 v24 v30 v36 v42 v48 v54 v60 v66 v72 v78 v84 v90 k0_t2 v2487 k0_hw64 k0_h47)).WholeWords (EltTy.packing .fp8e4m3) := fun v0 v6 v12 v18 v24 v30 v36 v42 v48 v54 v60 v66 v72 v78 v84 v90 k0_t2 v2487 k0_hw64 k0_h47 => k0_hw64.2 k0_h47 (k0_off287_inb v0 v6 v12 v18 v24 v30 v36 v42 v48 v54 v60 v66 v72 v78 v84 v90 k0_t2 v2487 k0_hw64 k0_h47)

def k0_off288 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 1 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let v1817 : Index := Scalar.indexCast arg18
  ![v1817.toNat]
def k0_off289 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 2 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c2_i32_713 : BitVec 32 := 2#32
  ![v245.toNat, 2]
def k0_off290 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c2048_i32 : BitVec 32 := 2048#32
  let c0_i32_714 : BitVec 32 := 0#32
  ![v245.toNat, 2048, 0]
def k0_off291 (v1818 : BitVec 32) : Fin 3 → Nat :=
  let c2048_i32_715 : BitVec 32 := 2048#32
  let c0_i32_716 : BitVec 32 := 0#32
  ![v1818.toNat, 2048, 0]

def k0_chk65 (v1818 : BitVec 32) : Prop :=
  (∀ a, (k0_off291 v1818) a + S1x1024x1536.size a ≤ S16x7168x1536.size a) ∧
  (∀ (hinb : ∀ a, (k0_off291 v1818) a + S1x1024x1536.size a ≤ S16x7168x1536.size a), (Rect.unit (s := S16x7168x1536) (k0_off291 v1818) S1x1024x1536.size hinb).WholeWords (EltTy.packing .fp8e4m3))
theorem k0_off291_inb : ∀ (v1818 : BitVec 32) (k0_hw65 : k0_chk65 v1818), ∀ a, (k0_off291 v1818) a + S1x1024x1536.size a ≤ S16x7168x1536.size a := fun v1818 k0_hw65 => k0_hw65.1
theorem k0_off291_wordsfp8e4m3 : ∀ (v1818 : BitVec 32) (k0_hw65 : k0_chk65 v1818), (Rect.unit (s := S16x7168x1536) (k0_off291 v1818) S1x1024x1536.size (k0_off291_inb v1818 k0_hw65)).WholeWords (EltTy.packing .fp8e4m3) := fun v1818 k0_hw65 => k0_hw65.2 (k0_off291_inb v1818 k0_hw65)

def k0_off292 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1835 : Index := Scalar.indexCast v245
  let c2048 : Index := 2048#32
  let c0_723 : Index := 0#32
  ![v1835.toNat, 2048, 0]
def k0_off293 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1843 : Index := Scalar.indexCast v245
  let c0_726 : Index := 0#32
  let c2048_727 : Index := 2048#32
  ![v1843.toNat, 0, 2048]
def k0_off294 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1851 : Index := Scalar.indexCast v245
  let c0_729 : Index := 0#32
  let c2176 : Index := 2176#32
  ![v1851.toNat, 0, 2176]
def k0_off295 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1865 : Index := Scalar.indexCast v245
  let c2304 : Index := 2304#32
  let c0_736 : Index := 0#32
  ![v1865.toNat, 2304, 0]
def k0_off296 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1873 : Index := Scalar.indexCast v245
  let c0_739 : Index := 0#32
  let c2304_740 : Index := 2304#32
  ![v1873.toNat, 0, 2304]
def k0_off297 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1881 : Index := Scalar.indexCast v245
  let c0_742 : Index := 0#32
  let c2432 : Index := 2432#32
  ![v1881.toNat, 0, 2432]
def k0_off298 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1895 : Index := Scalar.indexCast v245
  let c2560 : Index := 2560#32
  let c0_749 : Index := 0#32
  ![v1895.toNat, 2560, 0]
def k0_off299 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1903 : Index := Scalar.indexCast v245
  let c0_752 : Index := 0#32
  let c2560_753 : Index := 2560#32
  ![v1903.toNat, 0, 2560]
def k0_off300 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1911 : Index := Scalar.indexCast v245
  let c0_755 : Index := 0#32
  let c2688 : Index := 2688#32
  ![v1911.toNat, 0, 2688]
def k0_off301 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1925 : Index := Scalar.indexCast v245
  let c2816 : Index := 2816#32
  let c0_762 : Index := 0#32
  ![v1925.toNat, 2816, 0]
def k0_off302 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1933 : Index := Scalar.indexCast v245
  let c0_765 : Index := 0#32
  let c2816_766 : Index := 2816#32
  ![v1933.toNat, 0, 2816]
def k0_off303 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1941 : Index := Scalar.indexCast v245
  let c0_768 : Index := 0#32
  let c2944 : Index := 2944#32
  ![v1941.toNat, 0, 2944]
def k0_off304 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 1 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32_1004 : BitVec 32 := 2#32
  let v2485 : BitVec 32 := Scalar.addi arg18 c2_i32_1004
  let v2486 : Index := Scalar.indexCast v2485
  ![v2486.toNat]
def k0_cond48 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : BitVec 1 :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32_769 : BitVec 32 := 2#32
  let v1945 : BitVec 32 := Scalar.addi arg18 c2_i32_769
  let v1946 : BitVec 1 := Scalar.cmpi .slt v1945 v95
  let v1947 : BitVec 32 := Scalar.extui v1946
  let c0_i32_770 : BitVec 32 := 0#32
  let v1948 : BitVec 1 := Scalar.cmpi .ne v1947 c0_i32_770
  v1948

def k0_off305 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 2 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c2_i32_1005 : BitVec 32 := 2#32
  ![v245.toNat, 2]
def k0_off306 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c2048_i32_1006 : BitVec 32 := 2048#32
  let c0_i32_1007 : BitVec 32 := 0#32
  ![v245.toNat, 2048, 0]
def k0_off307 (v2487 : BitVec 32) : Fin 3 → Nat :=
  let c2048_i32_1008 : BitVec 32 := 2048#32
  let c0_i32_1009 : BitVec 32 := 0#32
  ![v2487.toNat, 2048, 0]

def k0_chk66 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2487 : BitVec 32) : Prop :=
  (∀ (k0_h48 : k0_cond48 v0 v6 v12 v18 v24 v30 v36 v42 v48 v54 v60 v66 v72 v78 v84 v90 k0_t2 = 1#1), ∀ a, (k0_off307 v2487) a + S1x1024x1536.size a ≤ S16x7168x1536.size a) ∧
  (∀ (k0_h48 : k0_cond48 v0 v6 v12 v18 v24 v30 v36 v42 v48 v54 v60 v66 v72 v78 v84 v90 k0_t2 = 1#1), ∀ (hinb : ∀ a, (k0_off307 v2487) a + S1x1024x1536.size a ≤ S16x7168x1536.size a), (Rect.unit (s := S16x7168x1536) (k0_off307 v2487) S1x1024x1536.size hinb).WholeWords (EltTy.packing .fp8e4m3))
theorem k0_off307_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2487 : BitVec 32) (k0_hw66 : k0_chk66 v0 v6 v12 v18 v24 v30 v36 v42 v48 v54 v60 v66 v72 v78 v84 v90 k0_t2 v2487), ∀ (k0_h48 : k0_cond48 v0 v6 v12 v18 v24 v30 v36 v42 v48 v54 v60 v66 v72 v78 v84 v90 k0_t2 = 1#1), ∀ a, (k0_off307 v2487) a + S1x1024x1536.size a ≤ S16x7168x1536.size a := fun v0 v6 v12 v18 v24 v30 v36 v42 v48 v54 v60 v66 v72 v78 v84 v90 k0_t2 v2487 k0_hw66 k0_h48 => k0_hw66.1 k0_h48
theorem k0_off307_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2487 : BitVec 32) (k0_hw66 : k0_chk66 v0 v6 v12 v18 v24 v30 v36 v42 v48 v54 v60 v66 v72 v78 v84 v90 k0_t2 v2487), ∀ (k0_h48 : k0_cond48 v0 v6 v12 v18 v24 v30 v36 v42 v48 v54 v60 v66 v72 v78 v84 v90 k0_t2 = 1#1), (Rect.unit (s := S16x7168x1536) (k0_off307 v2487) S1x1024x1536.size (k0_off307_inb v0 v6 v12 v18 v24 v30 v36 v42 v48 v54 v60 v66 v72 v78 v84 v90 k0_t2 v2487 k0_hw66 k0_h48)).WholeWords (EltTy.packing .fp8e4m3) := fun v0 v6 v12 v18 v24 v30 v36 v42 v48 v54 v60 v66 v72 v78 v84 v90 k0_t2 v2487 k0_hw66 k0_h48 => k0_hw66.2 k0_h48 (k0_off307_inb v0 v6 v12 v18 v24 v30 v36 v42 v48 v54 v60 v66 v72 v78 v84 v90 k0_t2 v2487 k0_hw66 k0_h48)

def k0_off308 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 1 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let v1949 : Index := Scalar.indexCast arg18
  ![v1949.toNat]
def k0_off309 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 2 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c3_i32 : BitVec 32 := 3#32
  ![v245.toNat, 3]
def k0_off310 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c3072_i32 : BitVec 32 := 3072#32
  let c0_i32_771 : BitVec 32 := 0#32
  ![v245.toNat, 3072, 0]
def k0_off311 (v1950 : BitVec 32) : Fin 3 → Nat :=
  let c3072_i32_772 : BitVec 32 := 3072#32
  let c0_i32_773 : BitVec 32 := 0#32
  ![v1950.toNat, 3072, 0]

def k0_chk67 (v1950 : BitVec 32) : Prop :=
  (∀ a, (k0_off311 v1950) a + S1x1024x1536.size a ≤ S16x7168x1536.size a) ∧
  (∀ (hinb : ∀ a, (k0_off311 v1950) a + S1x1024x1536.size a ≤ S16x7168x1536.size a), (Rect.unit (s := S16x7168x1536) (k0_off311 v1950) S1x1024x1536.size hinb).WholeWords (EltTy.packing .fp8e4m3))
theorem k0_off311_inb : ∀ (v1950 : BitVec 32) (k0_hw67 : k0_chk67 v1950), ∀ a, (k0_off311 v1950) a + S1x1024x1536.size a ≤ S16x7168x1536.size a := fun v1950 k0_hw67 => k0_hw67.1
theorem k0_off311_wordsfp8e4m3 : ∀ (v1950 : BitVec 32) (k0_hw67 : k0_chk67 v1950), (Rect.unit (s := S16x7168x1536) (k0_off311 v1950) S1x1024x1536.size (k0_off311_inb v1950 k0_hw67)).WholeWords (EltTy.packing .fp8e4m3) := fun v1950 k0_hw67 => k0_hw67.2 (k0_off311_inb v1950 k0_hw67)

def k0_off312 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1967 : Index := Scalar.indexCast v245
  let c3072 : Index := 3072#32
  let c0_780 : Index := 0#32
  ![v1967.toNat, 3072, 0]
def k0_off313 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1975 : Index := Scalar.indexCast v245
  let c0_783 : Index := 0#32
  let c3072_784 : Index := 3072#32
  ![v1975.toNat, 0, 3072]
def k0_off314 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1983 : Index := Scalar.indexCast v245
  let c0_786 : Index := 0#32
  let c3200 : Index := 3200#32
  ![v1983.toNat, 0, 3200]
def k0_off315 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v1997 : Index := Scalar.indexCast v245
  let c3328 : Index := 3328#32
  let c0_793 : Index := 0#32
  ![v1997.toNat, 3328, 0]
def k0_off316 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2005 : Index := Scalar.indexCast v245
  let c0_796 : Index := 0#32
  let c3328_797 : Index := 3328#32
  ![v2005.toNat, 0, 3328]
def k0_off317 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2013 : Index := Scalar.indexCast v245
  let c0_799 : Index := 0#32
  let c3456 : Index := 3456#32
  ![v2013.toNat, 0, 3456]
def k0_off318 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2027 : Index := Scalar.indexCast v245
  let c3584 : Index := 3584#32
  let c0_806 : Index := 0#32
  ![v2027.toNat, 3584, 0]
def k0_off319 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2035 : Index := Scalar.indexCast v245
  let c0_809 : Index := 0#32
  let c3584_810 : Index := 3584#32
  ![v2035.toNat, 0, 3584]
def k0_off320 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2043 : Index := Scalar.indexCast v245
  let c0_812 : Index := 0#32
  let c3712 : Index := 3712#32
  ![v2043.toNat, 0, 3712]
def k0_off321 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2057 : Index := Scalar.indexCast v245
  let c3840 : Index := 3840#32
  let c0_819 : Index := 0#32
  ![v2057.toNat, 3840, 0]
def k0_off322 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2065 : Index := Scalar.indexCast v245
  let c0_822 : Index := 0#32
  let c3840_823 : Index := 3840#32
  ![v2065.toNat, 0, 3840]
def k0_off323 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2073 : Index := Scalar.indexCast v245
  let c0_825 : Index := 0#32
  let c3968 : Index := 3968#32
  ![v2073.toNat, 0, 3968]
def k0_off324 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 1 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32_1004 : BitVec 32 := 2#32
  let v2485 : BitVec 32 := Scalar.addi arg18 c2_i32_1004
  let v2486 : Index := Scalar.indexCast v2485
  ![v2486.toNat]
def k0_cond49 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : BitVec 1 :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32_826 : BitVec 32 := 2#32
  let v2077 : BitVec 32 := Scalar.addi arg18 c2_i32_826
  let v2078 : BitVec 1 := Scalar.cmpi .slt v2077 v95
  let v2079 : BitVec 32 := Scalar.extui v2078
  let c0_i32_827 : BitVec 32 := 0#32
  let v2080 : BitVec 1 := Scalar.cmpi .ne v2079 c0_i32_827
  v2080

def k0_off325 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 2 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c3_i32_1005 : BitVec 32 := 3#32
  ![v245.toNat, 3]
def k0_off326 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c3072_i32_1006 : BitVec 32 := 3072#32
  let c0_i32_1007 : BitVec 32 := 0#32
  ![v245.toNat, 3072, 0]
def k0_off327 (v2487 : BitVec 32) : Fin 3 → Nat :=
  let c3072_i32_1008 : BitVec 32 := 3072#32
  let c0_i32_1009 : BitVec 32 := 0#32
  ![v2487.toNat, 3072, 0]

def k0_chk68 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2487 : BitVec 32) : Prop :=
  (∀ (k0_h49 : k0_cond49 v0 v6 v12 v18 v24 v30 v36 v42 v48 v54 v60 v66 v72 v78 v84 v90 k0_t2 = 1#1), ∀ a, (k0_off327 v2487) a + S1x1024x1536.size a ≤ S16x7168x1536.size a) ∧
  (∀ (k0_h49 : k0_cond49 v0 v6 v12 v18 v24 v30 v36 v42 v48 v54 v60 v66 v72 v78 v84 v90 k0_t2 = 1#1), ∀ (hinb : ∀ a, (k0_off327 v2487) a + S1x1024x1536.size a ≤ S16x7168x1536.size a), (Rect.unit (s := S16x7168x1536) (k0_off327 v2487) S1x1024x1536.size hinb).WholeWords (EltTy.packing .fp8e4m3))
theorem k0_off327_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2487 : BitVec 32) (k0_hw68 : k0_chk68 v0 v6 v12 v18 v24 v30 v36 v42 v48 v54 v60 v66 v72 v78 v84 v90 k0_t2 v2487), ∀ (k0_h49 : k0_cond49 v0 v6 v12 v18 v24 v30 v36 v42 v48 v54 v60 v66 v72 v78 v84 v90 k0_t2 = 1#1), ∀ a, (k0_off327 v2487) a + S1x1024x1536.size a ≤ S16x7168x1536.size a := fun v0 v6 v12 v18 v24 v30 v36 v42 v48 v54 v60 v66 v72 v78 v84 v90 k0_t2 v2487 k0_hw68 k0_h49 => k0_hw68.1 k0_h49
theorem k0_off327_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2487 : BitVec 32) (k0_hw68 : k0_chk68 v0 v6 v12 v18 v24 v30 v36 v42 v48 v54 v60 v66 v72 v78 v84 v90 k0_t2 v2487), ∀ (k0_h49 : k0_cond49 v0 v6 v12 v18 v24 v30 v36 v42 v48 v54 v60 v66 v72 v78 v84 v90 k0_t2 = 1#1), (Rect.unit (s := S16x7168x1536) (k0_off327 v2487) S1x1024x1536.size (k0_off327_inb v0 v6 v12 v18 v24 v30 v36 v42 v48 v54 v60 v66 v72 v78 v84 v90 k0_t2 v2487 k0_hw68 k0_h49)).WholeWords (EltTy.packing .fp8e4m3) := fun v0 v6 v12 v18 v24 v30 v36 v42 v48 v54 v60 v66 v72 v78 v84 v90 k0_t2 v2487 k0_hw68 k0_h49 => k0_hw68.2 k0_h49 (k0_off327_inb v0 v6 v12 v18 v24 v30 v36 v42 v48 v54 v60 v66 v72 v78 v84 v90 k0_t2 v2487 k0_hw68 k0_h49)

def k0_off328 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 1 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let v2081 : Index := Scalar.indexCast arg18
  ![v2081.toNat]
def k0_off329 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 2 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c4_i32_828 : BitVec 32 := 4#32
  ![v245.toNat, 4]
def k0_off330 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c4096_i32 : BitVec 32 := 4096#32
  let c0_i32_829 : BitVec 32 := 0#32
  ![v245.toNat, 4096, 0]
def k0_off331 (v2082 : BitVec 32) : Fin 3 → Nat :=
  let c4096_i32_830 : BitVec 32 := 4096#32
  let c0_i32_831 : BitVec 32 := 0#32
  ![v2082.toNat, 4096, 0]

def k0_chk69 (v2082 : BitVec 32) : Prop :=
  (∀ a, (k0_off331 v2082) a + S1x1024x1536.size a ≤ S16x7168x1536.size a) ∧
  (∀ (hinb : ∀ a, (k0_off331 v2082) a + S1x1024x1536.size a ≤ S16x7168x1536.size a), (Rect.unit (s := S16x7168x1536) (k0_off331 v2082) S1x1024x1536.size hinb).WholeWords (EltTy.packing .fp8e4m3))
theorem k0_off331_inb : ∀ (v2082 : BitVec 32) (k0_hw69 : k0_chk69 v2082), ∀ a, (k0_off331 v2082) a + S1x1024x1536.size a ≤ S16x7168x1536.size a := fun v2082 k0_hw69 => k0_hw69.1
theorem k0_off331_wordsfp8e4m3 : ∀ (v2082 : BitVec 32) (k0_hw69 : k0_chk69 v2082), (Rect.unit (s := S16x7168x1536) (k0_off331 v2082) S1x1024x1536.size (k0_off331_inb v2082 k0_hw69)).WholeWords (EltTy.packing .fp8e4m3) := fun v2082 k0_hw69 => k0_hw69.2 (k0_off331_inb v2082 k0_hw69)

def k0_off332 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2099 : Index := Scalar.indexCast v245
  let c4096 : Index := 4096#32
  let c0_838 : Index := 0#32
  ![v2099.toNat, 4096, 0]
def k0_off333 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2107 : Index := Scalar.indexCast v245
  let c0_841 : Index := 0#32
  let c4096_842 : Index := 4096#32
  ![v2107.toNat, 0, 4096]
def k0_off334 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2115 : Index := Scalar.indexCast v245
  let c0_844 : Index := 0#32
  let c4224 : Index := 4224#32
  ![v2115.toNat, 0, 4224]
def k0_off335 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2129 : Index := Scalar.indexCast v245
  let c4352 : Index := 4352#32
  let c0_851 : Index := 0#32
  ![v2129.toNat, 4352, 0]
def k0_off336 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2137 : Index := Scalar.indexCast v245
  let c0_854 : Index := 0#32
  let c4352_855 : Index := 4352#32
  ![v2137.toNat, 0, 4352]
def k0_off337 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2145 : Index := Scalar.indexCast v245
  let c0_857 : Index := 0#32
  let c4480 : Index := 4480#32
  ![v2145.toNat, 0, 4480]
def k0_off338 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2159 : Index := Scalar.indexCast v245
  let c4608 : Index := 4608#32
  let c0_864 : Index := 0#32
  ![v2159.toNat, 4608, 0]
def k0_off339 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2167 : Index := Scalar.indexCast v245
  let c0_867 : Index := 0#32
  let c4608_868 : Index := 4608#32
  ![v2167.toNat, 0, 4608]
def k0_off340 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2175 : Index := Scalar.indexCast v245
  let c0_870 : Index := 0#32
  let c4736 : Index := 4736#32
  ![v2175.toNat, 0, 4736]
def k0_off341 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2189 : Index := Scalar.indexCast v245
  let c4864 : Index := 4864#32
  let c0_877 : Index := 0#32
  ![v2189.toNat, 4864, 0]
def k0_off342 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2197 : Index := Scalar.indexCast v245
  let c0_880 : Index := 0#32
  let c4864_881 : Index := 4864#32
  ![v2197.toNat, 0, 4864]
def k0_off343 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2205 : Index := Scalar.indexCast v245
  let c0_883 : Index := 0#32
  let c4992 : Index := 4992#32
  ![v2205.toNat, 0, 4992]
def k0_off344 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 1 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32_1004 : BitVec 32 := 2#32
  let v2485 : BitVec 32 := Scalar.addi arg18 c2_i32_1004
  let v2486 : Index := Scalar.indexCast v2485
  ![v2486.toNat]
def k0_cond50 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : BitVec 1 :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32_884 : BitVec 32 := 2#32
  let v2209 : BitVec 32 := Scalar.addi arg18 c2_i32_884
  let v2210 : BitVec 1 := Scalar.cmpi .slt v2209 v95
  let v2211 : BitVec 32 := Scalar.extui v2210
  let c0_i32_885 : BitVec 32 := 0#32
  let v2212 : BitVec 1 := Scalar.cmpi .ne v2211 c0_i32_885
  v2212

def k0_off345 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 2 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c4_i32_1005 : BitVec 32 := 4#32
  ![v245.toNat, 4]
def k0_off346 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c4096_i32_1006 : BitVec 32 := 4096#32
  let c0_i32_1007 : BitVec 32 := 0#32
  ![v245.toNat, 4096, 0]
def k0_off347 (v2487 : BitVec 32) : Fin 3 → Nat :=
  let c4096_i32_1008 : BitVec 32 := 4096#32
  let c0_i32_1009 : BitVec 32 := 0#32
  ![v2487.toNat, 4096, 0]

def k0_chk70 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2487 : BitVec 32) : Prop :=
  (∀ (k0_h50 : k0_cond50 v0 v6 v12 v18 v24 v30 v36 v42 v48 v54 v60 v66 v72 v78 v84 v90 k0_t2 = 1#1), ∀ a, (k0_off347 v2487) a + S1x1024x1536.size a ≤ S16x7168x1536.size a) ∧
  (∀ (k0_h50 : k0_cond50 v0 v6 v12 v18 v24 v30 v36 v42 v48 v54 v60 v66 v72 v78 v84 v90 k0_t2 = 1#1), ∀ (hinb : ∀ a, (k0_off347 v2487) a + S1x1024x1536.size a ≤ S16x7168x1536.size a), (Rect.unit (s := S16x7168x1536) (k0_off347 v2487) S1x1024x1536.size hinb).WholeWords (EltTy.packing .fp8e4m3))
theorem k0_off347_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2487 : BitVec 32) (k0_hw70 : k0_chk70 v0 v6 v12 v18 v24 v30 v36 v42 v48 v54 v60 v66 v72 v78 v84 v90 k0_t2 v2487), ∀ (k0_h50 : k0_cond50 v0 v6 v12 v18 v24 v30 v36 v42 v48 v54 v60 v66 v72 v78 v84 v90 k0_t2 = 1#1), ∀ a, (k0_off347 v2487) a + S1x1024x1536.size a ≤ S16x7168x1536.size a := fun v0 v6 v12 v18 v24 v30 v36 v42 v48 v54 v60 v66 v72 v78 v84 v90 k0_t2 v2487 k0_hw70 k0_h50 => k0_hw70.1 k0_h50
theorem k0_off347_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2487 : BitVec 32) (k0_hw70 : k0_chk70 v0 v6 v12 v18 v24 v30 v36 v42 v48 v54 v60 v66 v72 v78 v84 v90 k0_t2 v2487), ∀ (k0_h50 : k0_cond50 v0 v6 v12 v18 v24 v30 v36 v42 v48 v54 v60 v66 v72 v78 v84 v90 k0_t2 = 1#1), (Rect.unit (s := S16x7168x1536) (k0_off347 v2487) S1x1024x1536.size (k0_off347_inb v0 v6 v12 v18 v24 v30 v36 v42 v48 v54 v60 v66 v72 v78 v84 v90 k0_t2 v2487 k0_hw70 k0_h50)).WholeWords (EltTy.packing .fp8e4m3) := fun v0 v6 v12 v18 v24 v30 v36 v42 v48 v54 v60 v66 v72 v78 v84 v90 k0_t2 v2487 k0_hw70 k0_h50 => k0_hw70.2 k0_h50 (k0_off347_inb v0 v6 v12 v18 v24 v30 v36 v42 v48 v54 v60 v66 v72 v78 v84 v90 k0_t2 v2487 k0_hw70 k0_h50)

def k0_off348 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 1 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let v2213 : Index := Scalar.indexCast arg18
  ![v2213.toNat]
def k0_off349 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 2 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c5_i32 : BitVec 32 := 5#32
  ![v245.toNat, 5]
def k0_off350 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c5120_i32 : BitVec 32 := 5120#32
  let c0_i32_886 : BitVec 32 := 0#32
  ![v245.toNat, 5120, 0]
def k0_off351 (v2214 : BitVec 32) : Fin 3 → Nat :=
  let c5120_i32_887 : BitVec 32 := 5120#32
  let c0_i32_888 : BitVec 32 := 0#32
  ![v2214.toNat, 5120, 0]

def k0_chk71 (v2214 : BitVec 32) : Prop :=
  (∀ a, (k0_off351 v2214) a + S1x1024x1536.size a ≤ S16x7168x1536.size a) ∧
  (∀ (hinb : ∀ a, (k0_off351 v2214) a + S1x1024x1536.size a ≤ S16x7168x1536.size a), (Rect.unit (s := S16x7168x1536) (k0_off351 v2214) S1x1024x1536.size hinb).WholeWords (EltTy.packing .fp8e4m3))
theorem k0_off351_inb : ∀ (v2214 : BitVec 32) (k0_hw71 : k0_chk71 v2214), ∀ a, (k0_off351 v2214) a + S1x1024x1536.size a ≤ S16x7168x1536.size a := fun v2214 k0_hw71 => k0_hw71.1
theorem k0_off351_wordsfp8e4m3 : ∀ (v2214 : BitVec 32) (k0_hw71 : k0_chk71 v2214), (Rect.unit (s := S16x7168x1536) (k0_off351 v2214) S1x1024x1536.size (k0_off351_inb v2214 k0_hw71)).WholeWords (EltTy.packing .fp8e4m3) := fun v2214 k0_hw71 => k0_hw71.2 (k0_off351_inb v2214 k0_hw71)

def k0_off352 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2231 : Index := Scalar.indexCast v245
  let c5120 : Index := 5120#32
  let c0_895 : Index := 0#32
  ![v2231.toNat, 5120, 0]
def k0_off353 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2239 : Index := Scalar.indexCast v245
  let c0_898 : Index := 0#32
  let c5120_899 : Index := 5120#32
  ![v2239.toNat, 0, 5120]
def k0_off354 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2247 : Index := Scalar.indexCast v245
  let c0_901 : Index := 0#32
  let c5248 : Index := 5248#32
  ![v2247.toNat, 0, 5248]
def k0_off355 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2261 : Index := Scalar.indexCast v245
  let c5376 : Index := 5376#32
  let c0_908 : Index := 0#32
  ![v2261.toNat, 5376, 0]
def k0_off356 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2269 : Index := Scalar.indexCast v245
  let c0_911 : Index := 0#32
  let c5376_912 : Index := 5376#32
  ![v2269.toNat, 0, 5376]
def k0_off357 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2277 : Index := Scalar.indexCast v245
  let c0_914 : Index := 0#32
  let c5504 : Index := 5504#32
  ![v2277.toNat, 0, 5504]
def k0_off358 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2291 : Index := Scalar.indexCast v245
  let c5632 : Index := 5632#32
  let c0_921 : Index := 0#32
  ![v2291.toNat, 5632, 0]
def k0_off359 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2299 : Index := Scalar.indexCast v245
  let c0_924 : Index := 0#32
  let c5632_925 : Index := 5632#32
  ![v2299.toNat, 0, 5632]
def k0_off360 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2307 : Index := Scalar.indexCast v245
  let c0_927 : Index := 0#32
  let c5760 : Index := 5760#32
  ![v2307.toNat, 0, 5760]
def k0_off361 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2321 : Index := Scalar.indexCast v245
  let c5888 : Index := 5888#32
  let c0_934 : Index := 0#32
  ![v2321.toNat, 5888, 0]
def k0_off362 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2329 : Index := Scalar.indexCast v245
  let c0_937 : Index := 0#32
  let c5888_938 : Index := 5888#32
  ![v2329.toNat, 0, 5888]
def k0_off363 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2337 : Index := Scalar.indexCast v245
  let c0_940 : Index := 0#32
  let c6016 : Index := 6016#32
  ![v2337.toNat, 0, 6016]
def k0_off364 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 1 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32_1004 : BitVec 32 := 2#32
  let v2485 : BitVec 32 := Scalar.addi arg18 c2_i32_1004
  let v2486 : Index := Scalar.indexCast v2485
  ![v2486.toNat]
def k0_cond51 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : BitVec 1 :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32_941 : BitVec 32 := 2#32
  let v2341 : BitVec 32 := Scalar.addi arg18 c2_i32_941
  let v2342 : BitVec 1 := Scalar.cmpi .slt v2341 v95
  let v2343 : BitVec 32 := Scalar.extui v2342
  let c0_i32_942 : BitVec 32 := 0#32
  let v2344 : BitVec 1 := Scalar.cmpi .ne v2343 c0_i32_942
  v2344

def k0_off365 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 2 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c5_i32_1005 : BitVec 32 := 5#32
  ![v245.toNat, 5]
def k0_off366 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c5120_i32_1006 : BitVec 32 := 5120#32
  let c0_i32_1007 : BitVec 32 := 0#32
  ![v245.toNat, 5120, 0]
def k0_off367 (v2487 : BitVec 32) : Fin 3 → Nat :=
  let c5120_i32_1008 : BitVec 32 := 5120#32
  let c0_i32_1009 : BitVec 32 := 0#32
  ![v2487.toNat, 5120, 0]

def k0_chk72 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2487 : BitVec 32) : Prop :=
  (∀ (k0_h51 : k0_cond51 v0 v6 v12 v18 v24 v30 v36 v42 v48 v54 v60 v66 v72 v78 v84 v90 k0_t2 = 1#1), ∀ a, (k0_off367 v2487) a + S1x1024x1536.size a ≤ S16x7168x1536.size a) ∧
  (∀ (k0_h51 : k0_cond51 v0 v6 v12 v18 v24 v30 v36 v42 v48 v54 v60 v66 v72 v78 v84 v90 k0_t2 = 1#1), ∀ (hinb : ∀ a, (k0_off367 v2487) a + S1x1024x1536.size a ≤ S16x7168x1536.size a), (Rect.unit (s := S16x7168x1536) (k0_off367 v2487) S1x1024x1536.size hinb).WholeWords (EltTy.packing .fp8e4m3))
theorem k0_off367_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2487 : BitVec 32) (k0_hw72 : k0_chk72 v0 v6 v12 v18 v24 v30 v36 v42 v48 v54 v60 v66 v72 v78 v84 v90 k0_t2 v2487), ∀ (k0_h51 : k0_cond51 v0 v6 v12 v18 v24 v30 v36 v42 v48 v54 v60 v66 v72 v78 v84 v90 k0_t2 = 1#1), ∀ a, (k0_off367 v2487) a + S1x1024x1536.size a ≤ S16x7168x1536.size a := fun v0 v6 v12 v18 v24 v30 v36 v42 v48 v54 v60 v66 v72 v78 v84 v90 k0_t2 v2487 k0_hw72 k0_h51 => k0_hw72.1 k0_h51
theorem k0_off367_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2487 : BitVec 32) (k0_hw72 : k0_chk72 v0 v6 v12 v18 v24 v30 v36 v42 v48 v54 v60 v66 v72 v78 v84 v90 k0_t2 v2487), ∀ (k0_h51 : k0_cond51 v0 v6 v12 v18 v24 v30 v36 v42 v48 v54 v60 v66 v72 v78 v84 v90 k0_t2 = 1#1), (Rect.unit (s := S16x7168x1536) (k0_off367 v2487) S1x1024x1536.size (k0_off367_inb v0 v6 v12 v18 v24 v30 v36 v42 v48 v54 v60 v66 v72 v78 v84 v90 k0_t2 v2487 k0_hw72 k0_h51)).WholeWords (EltTy.packing .fp8e4m3) := fun v0 v6 v12 v18 v24 v30 v36 v42 v48 v54 v60 v66 v72 v78 v84 v90 k0_t2 v2487 k0_hw72 k0_h51 => k0_hw72.2 k0_h51 (k0_off367_inb v0 v6 v12 v18 v24 v30 v36 v42 v48 v54 v60 v66 v72 v78 v84 v90 k0_t2 v2487 k0_hw72 k0_h51)

def k0_off368 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 1 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let v2345 : Index := Scalar.indexCast arg18
  ![v2345.toNat]
def k0_off369 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 2 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c6_i32 : BitVec 32 := 6#32
  ![v245.toNat, 6]
def k0_off370 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c6144_i32 : BitVec 32 := 6144#32
  let c0_i32_943 : BitVec 32 := 0#32
  ![v245.toNat, 6144, 0]
def k0_off371 (v2346 : BitVec 32) : Fin 3 → Nat :=
  let c6144_i32_944 : BitVec 32 := 6144#32
  let c0_i32_945 : BitVec 32 := 0#32
  ![v2346.toNat, 6144, 0]

def k0_chk73 (v2346 : BitVec 32) : Prop :=
  (∀ a, (k0_off371 v2346) a + S1x1024x1536.size a ≤ S16x7168x1536.size a) ∧
  (∀ (hinb : ∀ a, (k0_off371 v2346) a + S1x1024x1536.size a ≤ S16x7168x1536.size a), (Rect.unit (s := S16x7168x1536) (k0_off371 v2346) S1x1024x1536.size hinb).WholeWords (EltTy.packing .fp8e4m3))
theorem k0_off371_inb : ∀ (v2346 : BitVec 32) (k0_hw73 : k0_chk73 v2346), ∀ a, (k0_off371 v2346) a + S1x1024x1536.size a ≤ S16x7168x1536.size a := fun v2346 k0_hw73 => k0_hw73.1
theorem k0_off371_wordsfp8e4m3 : ∀ (v2346 : BitVec 32) (k0_hw73 : k0_chk73 v2346), (Rect.unit (s := S16x7168x1536) (k0_off371 v2346) S1x1024x1536.size (k0_off371_inb v2346 k0_hw73)).WholeWords (EltTy.packing .fp8e4m3) := fun v2346 k0_hw73 => k0_hw73.2 (k0_off371_inb v2346 k0_hw73)

def k0_off372 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2363 : Index := Scalar.indexCast v245
  let c6144 : Index := 6144#32
  let c0_952 : Index := 0#32
  ![v2363.toNat, 6144, 0]
def k0_off373 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2371 : Index := Scalar.indexCast v245
  let c0_955 : Index := 0#32
  let c6144_956 : Index := 6144#32
  ![v2371.toNat, 0, 6144]
def k0_off374 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2379 : Index := Scalar.indexCast v245
  let c0_958 : Index := 0#32
  let c6272 : Index := 6272#32
  ![v2379.toNat, 0, 6272]
def k0_off375 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2393 : Index := Scalar.indexCast v245
  let c6400 : Index := 6400#32
  let c0_965 : Index := 0#32
  ![v2393.toNat, 6400, 0]
def k0_off376 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2401 : Index := Scalar.indexCast v245
  let c0_968 : Index := 0#32
  let c6400_969 : Index := 6400#32
  ![v2401.toNat, 0, 6400]
def k0_off377 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2409 : Index := Scalar.indexCast v245
  let c0_971 : Index := 0#32
  let c6528 : Index := 6528#32
  ![v2409.toNat, 0, 6528]
def k0_off378 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2423 : Index := Scalar.indexCast v245
  let c6656 : Index := 6656#32
  let c0_978 : Index := 0#32
  ![v2423.toNat, 6656, 0]
def k0_off379 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2431 : Index := Scalar.indexCast v245
  let c0_981 : Index := 0#32
  let c6656_982 : Index := 6656#32
  ![v2431.toNat, 0, 6656]
def k0_off380 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2439 : Index := Scalar.indexCast v245
  let c0_984 : Index := 0#32
  let c6784 : Index := 6784#32
  ![v2439.toNat, 0, 6784]
def k0_off381 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2453 : Index := Scalar.indexCast v245
  let c6912 : Index := 6912#32
  let c0_991 : Index := 0#32
  ![v2453.toNat, 6912, 0]
def k0_off382 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2461 : Index := Scalar.indexCast v245
  let c0_994 : Index := 0#32
  let c6912_995 : Index := 6912#32
  ![v2461.toNat, 0, 6912]
def k0_off383 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let v2469 : Index := Scalar.indexCast v245
  let c0_997 : Index := 0#32
  let c7040 : Index := 7040#32
  ![v2469.toNat, 0, 7040]
def k0_off384 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 1 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32_1004 : BitVec 32 := 2#32
  let v2485 : BitVec 32 := Scalar.addi arg18 c2_i32_1004
  let v2486 : Index := Scalar.indexCast v2485
  ![v2486.toNat]
def k0_cond52 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : BitVec 1 :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32_998 : BitVec 32 := 2#32
  let v2473 : BitVec 32 := Scalar.addi arg18 c2_i32_998
  let v2474 : BitVec 1 := Scalar.cmpi .slt v2473 v95
  let v2475 : BitVec 32 := Scalar.extui v2474
  let c0_i32_999 : BitVec 32 := 0#32
  let v2476 : BitVec 1 := Scalar.cmpi .ne v2475 c0_i32_999
  v2476

def k0_off385 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 2 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c6_i32_1005 : BitVec 32 := 6#32
  ![v245.toNat, 6]
def k0_off386 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c6144_i32_1006 : BitVec 32 := 6144#32
  let c0_i32_1007 : BitVec 32 := 0#32
  ![v245.toNat, 6144, 0]
def k0_off387 (v2487 : BitVec 32) : Fin 3 → Nat :=
  let c6144_i32_1008 : BitVec 32 := 6144#32
  let c0_i32_1009 : BitVec 32 := 0#32
  ![v2487.toNat, 6144, 0]

def k0_chk74 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2487 : BitVec 32) : Prop :=
  (∀ (k0_h52 : k0_cond52 v0 v6 v12 v18 v24 v30 v36 v42 v48 v54 v60 v66 v72 v78 v84 v90 k0_t2 = 1#1), ∀ a, (k0_off387 v2487) a + S1x1024x1536.size a ≤ S16x7168x1536.size a) ∧
  (∀ (k0_h52 : k0_cond52 v0 v6 v12 v18 v24 v30 v36 v42 v48 v54 v60 v66 v72 v78 v84 v90 k0_t2 = 1#1), ∀ (hinb : ∀ a, (k0_off387 v2487) a + S1x1024x1536.size a ≤ S16x7168x1536.size a), (Rect.unit (s := S16x7168x1536) (k0_off387 v2487) S1x1024x1536.size hinb).WholeWords (EltTy.packing .fp8e4m3))
theorem k0_off387_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2487 : BitVec 32) (k0_hw74 : k0_chk74 v0 v6 v12 v18 v24 v30 v36 v42 v48 v54 v60 v66 v72 v78 v84 v90 k0_t2 v2487), ∀ (k0_h52 : k0_cond52 v0 v6 v12 v18 v24 v30 v36 v42 v48 v54 v60 v66 v72 v78 v84 v90 k0_t2 = 1#1), ∀ a, (k0_off387 v2487) a + S1x1024x1536.size a ≤ S16x7168x1536.size a := fun v0 v6 v12 v18 v24 v30 v36 v42 v48 v54 v60 v66 v72 v78 v84 v90 k0_t2 v2487 k0_hw74 k0_h52 => k0_hw74.1 k0_h52
theorem k0_off387_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) (v2487 : BitVec 32) (k0_hw74 : k0_chk74 v0 v6 v12 v18 v24 v30 v36 v42 v48 v54 v60 v66 v72 v78 v84 v90 k0_t2 v2487), ∀ (k0_h52 : k0_cond52 v0 v6 v12 v18 v24 v30 v36 v42 v48 v54 v60 v66 v72 v78 v84 v90 k0_t2 = 1#1), (Rect.unit (s := S16x7168x1536) (k0_off387 v2487) S1x1024x1536.size (k0_off387_inb v0 v6 v12 v18 v24 v30 v36 v42 v48 v54 v60 v66 v72 v78 v84 v90 k0_t2 v2487 k0_hw74 k0_h52)).WholeWords (EltTy.packing .fp8e4m3) := fun v0 v6 v12 v18 v24 v30 v36 v42 v48 v54 v60 v66 v72 v78 v84 v90 k0_t2 v2487 k0_hw74 k0_h52 => k0_hw74.2 k0_h52 (k0_off387_inb v0 v6 v12 v18 v24 v30 v36 v42 v48 v54 v60 v66 v72 v78 v84 v90 k0_t2 v2487 k0_hw74 k0_h52)

def k0_off388 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 1 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let v2477 : Index := Scalar.indexCast arg18
  ![v2477.toNat]
def k0_off389 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 1 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  ![v245.toNat]
def k0_off390 (v2478 : BitVec 32) : Fin 3 → Nat :=
  let c0_i32_1000 : BitVec 32 := 0#32
  let c0_i32_1001 : BitVec 32 := 0#32
  ![v2478.toNat, 0, 0]

def k0_off391 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_t2 : Fin (k0_t2_loop v0 v6 v12 v18 v24 v30 v36 v42 v48 v54 v60 v66 v72 v78 v84 v90).trips) : Fin 3 → Nat :=
  let c0_i32_87 : BitVec 32 := 0#32
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let v170 : BitVec 32 := Scalar.subi v95 c0_i32_87
  let c1_i32_88 : BitVec 32 := 1#32
  let v172 : BitVec 32 := Scalar.divsi v170 c1_i32_88
  let v173 : BitVec 32 := Scalar.muli v172 c1_i32_88
  let v174 : BitVec 32 := Scalar.addi c0_i32_87 v173
  let c1_i32_90 : BitVec 32 := 1#32
  let arg18 : BitVec 32 := Scf.iv v174 c1_i32_90 k0_t2
  let c2_i32 : BitVec 32 := 2#32
  let v245 : BitVec 32 := Scalar.remsi arg18 c2_i32
  let c0_i32_1002 : BitVec 32 := 0#32
  let c0_i32_1003 : BitVec 32 := 0#32
  ![v245.toNat, 0, 0]

def k0_chk75 (v2478 : BitVec 32) : Prop :=
  (∀ a, (k0_off390 v2478) a + S1x24x7168.size a ≤ S16x24x7168.size a) ∧
  (∀ (hinb : ∀ a, (k0_off390 v2478) a + S1x24x7168.size a ≤ S16x24x7168.size a), (Rect.unit (s := S16x24x7168) (k0_off390 v2478) S1x24x7168.size hinb).WholeWords (EltTy.packing .bf16))
theorem k0_off390_inb : ∀ (v2478 : BitVec 32) (k0_hw75 : k0_chk75 v2478), ∀ a, (k0_off390 v2478) a + S1x24x7168.size a ≤ S16x24x7168.size a := fun v2478 k0_hw75 => k0_hw75.1
theorem k0_off390_wordsbf16 : ∀ (v2478 : BitVec 32) (k0_hw75 : k0_chk75 v2478), (Rect.unit (s := S16x24x7168) (k0_off390 v2478) S1x24x7168.size (k0_off390_inb v2478 k0_hw75)).WholeWords (EltTy.packing .bf16) := fun v2478 k0_hw75 => k0_hw75.2 (k0_off390_inb v2478 k0_hw75)

def k0_off392 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) : Fin 1 → Nat :=
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let c1_i32_143 : BitVec 32 := 1#32
  let v245 : BitVec 32 := Scalar.subi v95 c1_i32_143
  let c0_i32_144 : BitVec 32 := 0#32
  let v246 : BitVec 32 := Scalar.subi v245 c0_i32_144
  let v248 : Index := Scalar.indexCast v246
  ![v248.toNat]
def k0_cond69 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) : BitVec 1 :=
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let c0_i32_139 : BitVec 32 := 0#32
  let v239 : BitVec 1 := Scalar.cmpi .sgt v95 c0_i32_139
  let v240 : BitVec 32 := Scalar.extui v239
  let c0_i32_140 : BitVec 32 := 0#32
  let v241 : BitVec 1 := Scalar.cmpi .ne v240 c0_i32_140
  v241

def k0_off393 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) : Fin 1 → Nat :=
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let c1_i32_143 : BitVec 32 := 1#32
  let v245 : BitVec 32 := Scalar.subi v95 c1_i32_143
  let c0_i32_144 : BitVec 32 := 0#32
  let v246 : BitVec 32 := Scalar.subi v245 c0_i32_144
  let c2_i32 : BitVec 32 := 2#32
  let v247 : BitVec 32 := Scalar.remsi v246 c2_i32
  ![v247.toNat]
def k0_off394 (v249 : BitVec 32) : Fin 3 → Nat :=
  let c0_i32_145 : BitVec 32 := 0#32
  let c0_i32_146 : BitVec 32 := 0#32
  ![v249.toNat, 0, 0]

def k0_off395 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) : Fin 3 → Nat :=
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let c1_i32_143 : BitVec 32 := 1#32
  let v245 : BitVec 32 := Scalar.subi v95 c1_i32_143
  let c0_i32_144 : BitVec 32 := 0#32
  let v246 : BitVec 32 := Scalar.subi v245 c0_i32_144
  let c2_i32 : BitVec 32 := 2#32
  let v247 : BitVec 32 := Scalar.remsi v246 c2_i32
  let c0_i32_147 : BitVec 32 := 0#32
  let c0_i32_148 : BitVec 32 := 0#32
  ![v247.toNat, 0, 0]

def k0_chk76 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v249 : BitVec 32) : Prop :=
  (∀ (k0_h69 : k0_cond69 v0 v6 v12 v18 v24 v30 v36 v42 v48 v54 v60 v66 v72 v78 v84 v90 = 1#1), ∀ a, (k0_off394 v249) a + S1x24x7168.size a ≤ S16x24x7168.size a) ∧
  (∀ (k0_h69 : k0_cond69 v0 v6 v12 v18 v24 v30 v36 v42 v48 v54 v60 v66 v72 v78 v84 v90 = 1#1), ∀ (hinb : ∀ a, (k0_off394 v249) a + S1x24x7168.size a ≤ S16x24x7168.size a), (Rect.unit (s := S16x24x7168) (k0_off394 v249) S1x24x7168.size hinb).WholeWords (EltTy.packing .bf16))
theorem k0_off394_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v249 : BitVec 32) (k0_hw76 : k0_chk76 v0 v6 v12 v18 v24 v30 v36 v42 v48 v54 v60 v66 v72 v78 v84 v90 v249), ∀ (k0_h69 : k0_cond69 v0 v6 v12 v18 v24 v30 v36 v42 v48 v54 v60 v66 v72 v78 v84 v90 = 1#1), ∀ a, (k0_off394 v249) a + S1x24x7168.size a ≤ S16x24x7168.size a := fun v0 v6 v12 v18 v24 v30 v36 v42 v48 v54 v60 v66 v72 v78 v84 v90 v249 k0_hw76 k0_h69 => k0_hw76.1 k0_h69
theorem k0_off394_wordsbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v249 : BitVec 32) (k0_hw76 : k0_chk76 v0 v6 v12 v18 v24 v30 v36 v42 v48 v54 v60 v66 v72 v78 v84 v90 v249), ∀ (k0_h69 : k0_cond69 v0 v6 v12 v18 v24 v30 v36 v42 v48 v54 v60 v66 v72 v78 v84 v90 = 1#1), (Rect.unit (s := S16x24x7168) (k0_off394 v249) S1x24x7168.size (k0_off394_inb v0 v6 v12 v18 v24 v30 v36 v42 v48 v54 v60 v66 v72 v78 v84 v90 v249 k0_hw76 k0_h69)).WholeWords (EltTy.packing .bf16) := fun v0 v6 v12 v18 v24 v30 v36 v42 v48 v54 v60 v66 v72 v78 v84 v90 v249 k0_hw76 k0_h69 => k0_hw76.2 k0_h69 (k0_off394_inb v0 v6 v12 v18 v24 v30 v36 v42 v48 v54 v60 v66 v72 v78 v84 v90 v249 k0_hw76 k0_h69)

def k0_off396 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) : Fin 1 → Nat :=
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let c1_i32_143 : BitVec 32 := 1#32
  let v245 : BitVec 32 := Scalar.subi v95 c1_i32_143
  let c1_i32_144 : BitVec 32 := 1#32
  let v246 : BitVec 32 := Scalar.subi v245 c1_i32_144
  let v248 : Index := Scalar.indexCast v246
  ![v248.toNat]
def k0_cond70 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) : BitVec 1 :=
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let c1_i32_141 : BitVec 32 := 1#32
  let v242 : BitVec 1 := Scalar.cmpi .sgt v95 c1_i32_141
  let v243 : BitVec 32 := Scalar.extui v242
  let c0_i32_142 : BitVec 32 := 0#32
  let v244 : BitVec 1 := Scalar.cmpi .ne v243 c0_i32_142
  v244

def k0_off397 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) : Fin 1 → Nat :=
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let c1_i32_143 : BitVec 32 := 1#32
  let v245 : BitVec 32 := Scalar.subi v95 c1_i32_143
  let c1_i32_144 : BitVec 32 := 1#32
  let v246 : BitVec 32 := Scalar.subi v245 c1_i32_144
  let c2_i32 : BitVec 32 := 2#32
  let v247 : BitVec 32 := Scalar.remsi v246 c2_i32
  ![v247.toNat]
def k0_off398 (v249 : BitVec 32) : Fin 3 → Nat :=
  let c0_i32_145 : BitVec 32 := 0#32
  let c0_i32_146 : BitVec 32 := 0#32
  ![v249.toNat, 0, 0]

def k0_off399 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) : Fin 3 → Nat :=
  let c0_i32_2 : BitVec 32 := 0#32
  let c0_i32 : BitVec 32 := 0#32
  let v1 : BitVec 1 := Scalar.cmpi .sgt v0 c0_i32
  let v4 : BitVec 32 := Scalar.extui v1
  let v5 : BitVec 32 := Scalar.addi c0_i32_2 v4
  let c0_i32_3 : BitVec 32 := 0#32
  let v7 : BitVec 1 := Scalar.cmpi .sgt v6 c0_i32_3
  let v10 : BitVec 32 := Scalar.extui v7
  let v11 : BitVec 32 := Scalar.addi v5 v10
  let c0_i32_5 : BitVec 32 := 0#32
  let v13 : BitVec 1 := Scalar.cmpi .sgt v12 c0_i32_5
  let v16 : BitVec 32 := Scalar.extui v13
  let v17 : BitVec 32 := Scalar.addi v11 v16
  let c0_i32_7 : BitVec 32 := 0#32
  let v19 : BitVec 1 := Scalar.cmpi .sgt v18 c0_i32_7
  let v22 : BitVec 32 := Scalar.extui v19
  let v23 : BitVec 32 := Scalar.addi v17 v22
  let c0_i32_9 : BitVec 32 := 0#32
  let v25 : BitVec 1 := Scalar.cmpi .sgt v24 c0_i32_9
  let v28 : BitVec 32 := Scalar.extui v25
  let v29 : BitVec 32 := Scalar.addi v23 v28
  let c0_i32_11 : BitVec 32 := 0#32
  let v31 : BitVec 1 := Scalar.cmpi .sgt v30 c0_i32_11
  let v34 : BitVec 32 := Scalar.extui v31
  let v35 : BitVec 32 := Scalar.addi v29 v34
  let c0_i32_13 : BitVec 32 := 0#32
  let v37 : BitVec 1 := Scalar.cmpi .sgt v36 c0_i32_13
  let v40 : BitVec 32 := Scalar.extui v37
  let v41 : BitVec 32 := Scalar.addi v35 v40
  let c0_i32_15 : BitVec 32 := 0#32
  let v43 : BitVec 1 := Scalar.cmpi .sgt v42 c0_i32_15
  let v46 : BitVec 32 := Scalar.extui v43
  let v47 : BitVec 32 := Scalar.addi v41 v46
  let c0_i32_17 : BitVec 32 := 0#32
  let v49 : BitVec 1 := Scalar.cmpi .sgt v48 c0_i32_17
  let v52 : BitVec 32 := Scalar.extui v49
  let v53 : BitVec 32 := Scalar.addi v47 v52
  let c0_i32_19 : BitVec 32 := 0#32
  let v55 : BitVec 1 := Scalar.cmpi .sgt v54 c0_i32_19
  let v58 : BitVec 32 := Scalar.extui v55
  let v59 : BitVec 32 := Scalar.addi v53 v58
  let c0_i32_21 : BitVec 32 := 0#32
  let v61 : BitVec 1 := Scalar.cmpi .sgt v60 c0_i32_21
  let v64 : BitVec 32 := Scalar.extui v61
  let v65 : BitVec 32 := Scalar.addi v59 v64
  let c0_i32_23 : BitVec 32 := 0#32
  let v67 : BitVec 1 := Scalar.cmpi .sgt v66 c0_i32_23
  let v70 : BitVec 32 := Scalar.extui v67
  let v71 : BitVec 32 := Scalar.addi v65 v70
  let c0_i32_25 : BitVec 32 := 0#32
  let v73 : BitVec 1 := Scalar.cmpi .sgt v72 c0_i32_25
  let v76 : BitVec 32 := Scalar.extui v73
  let v77 : BitVec 32 := Scalar.addi v71 v76
  let c0_i32_27 : BitVec 32 := 0#32
  let v79 : BitVec 1 := Scalar.cmpi .sgt v78 c0_i32_27
  let v82 : BitVec 32 := Scalar.extui v79
  let v83 : BitVec 32 := Scalar.addi v77 v82
  let c0_i32_29 : BitVec 32 := 0#32
  let v85 : BitVec 1 := Scalar.cmpi .sgt v84 c0_i32_29
  let v88 : BitVec 32 := Scalar.extui v85
  let v89 : BitVec 32 := Scalar.addi v83 v88
  let c0_i32_31 : BitVec 32 := 0#32
  let v91 : BitVec 1 := Scalar.cmpi .sgt v90 c0_i32_31
  let v94 : BitVec 32 := Scalar.extui v91
  let v95 : BitVec 32 := Scalar.addi v89 v94
  let c1_i32_143 : BitVec 32 := 1#32
  let v245 : BitVec 32 := Scalar.subi v95 c1_i32_143
  let c1_i32_144 : BitVec 32 := 1#32
  let v246 : BitVec 32 := Scalar.subi v245 c1_i32_144
  let c2_i32 : BitVec 32 := 2#32
  let v247 : BitVec 32 := Scalar.remsi v246 c2_i32
  let c0_i32_147 : BitVec 32 := 0#32
  let c0_i32_148 : BitVec 32 := 0#32
  ![v247.toNat, 0, 0]

def k0_chk15_0 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) : Prop :=
  (∀ (k0_h16 : k0_cond16 v90 = 1#1), ∀ a, (k0_off15 v0 v6 v12 v18 v24 v30 v36 v42 v48 v54 v60 v66 v72 v78 v84) a + S1.size a ≤ S16.size a) ∧
  ((k0_t1_loop v0 v6 v12 v18 v24 v30 v36 v42 v48 v54 v60 v66 v72 v78 v84 v90).OK) ∧
  (∀ k0_t1 : Fin (k0_t1_loop v0 v6 v12 v18 v24 v30 v36 v42 v48 v54 v60 v66 v72 v78 v84 v90).trips, ∀ a, (k0_off34 v0 v6 v12 v18 v24 v30 v36 v42 v48 v54 v60 v66 v72 v78 v84 v90 k0_t1) a + S1.size a ≤ S16.size a) ∧
  (∀ k0_t1 : Fin (k0_t1_loop v0 v6 v12 v18 v24 v30 v36 v42 v48 v54 v60 v66 v72 v78 v84 v90).trips, ∀ a, (k0_off36 v0 v6 v12 v18 v24 v30 v36 v42 v48 v54 v60 v66 v72 v78 v84 v90 k0_t1) a + S1.size a ≤ S16.size a) ∧
  (∀ k0_t1 : Fin (k0_t1_loop v0 v6 v12 v18 v24 v30 v36 v42 v48 v54 v60 v66 v72 v78 v84 v90).trips, ∀ a, (k0_off37 v0 v6 v12 v18 v24 v30 v36 v42 v48 v54 v60 v66 v72 v78 v84 v90 k0_t1) a + S1.size a ≤ S2.size a) ∧
  (∀ k0_t1 : Fin (k0_t1_loop v0 v6 v12 v18 v24 v30 v36 v42 v48 v54 v60 v66 v72 v78 v84 v90).trips, ∀ a, (k0_off38 v0 v6 v12 v18 v24 v30 v36 v42 v48 v54 v60 v66 v72 v78 v84 v90 k0_t1) a + S1x24x1536.size a ≤ S2x24x1536.size a) ∧
  (∀ k0_t1 : Fin (k0_t1_loop v0 v6 v12 v18 v24 v30 v36 v42 v48 v54 v60 v66 v72 v78 v84 v90).trips, ∀ (hinb : ∀ a, (k0_off38 v0 v6 v12 v18 v24 v30 v36 v42 v48 v54 v60 v66 v72 v78 v84 v90 k0_t1) a + S1x24x1536.size a ≤ S2x24x1536.size a), (Rect.unit (s := S2x24x1536) (k0_off38 v0 v6 v12 v18 v24 v30 v36 v42 v48 v54 v60 v66 v72 v78 v84 v90 k0_t1) S1x24x1536.size hinb).WholeWords (EltTy.packing .bf16)) ∧
  (∀ k0_t1 : Fin (k0_t1_loop v0 v6 v12 v18 v24 v30 v36 v42 v48 v54 v60 v66 v72 v78 v84 v90).trips, ∀ a, (k0_off40 v0 v6 v12 v18 v24 v30 v36 v42 v48 v54 v60 v66 v72 v78 v84 v90 k0_t1) a + S1.size a ≤ S16.size a) ∧
  (∀ k0_t1 : Fin (k0_t1_loop v0 v6 v12 v18 v24 v30 v36 v42 v48 v54 v60 v66 v72 v78 v84 v90).trips, ∀ a, (k0_off41 v0 v6 v12 v18 v24 v30 v36 v42 v48 v54 v60 v66 v72 v78 v84 v90 k0_t1) a + S1.size a ≤ S2.size a) ∧
  (∀ k0_t1 : Fin (k0_t1_loop v0 v6 v12 v18 v24 v30 v36 v42 v48 v54 v60 v66 v72 v78 v84 v90).trips, ∀ a, (k0_off42 v0 v6 v12 v18 v24 v30 v36 v42 v48 v54 v60 v66 v72 v78 v84 v90 k0_t1) a + S1x56x12.size a ≤ S2x56x12.size a) ∧
  (∀ k0_t1 : Fin (k0_t1_loop v0 v6 v12 v18 v24 v30 v36 v42 v48 v54 v60 v66 v72 v78 v84 v90).trips, ∀ a, (k0_off44 v0 v6 v12 v18 v24 v30 v36 v42 v48 v54 v60 v66 v72 v78 v84 v90 k0_t1) a + S1x56x12.size a ≤ S2x56x12.size a) ∧
  (∀ k0_t1 : Fin (k0_t1_loop v0 v6 v12 v18 v24 v30 v36 v42 v48 v54 v60 v66 v72 v78 v84 v90).trips, ∀ a, (k0_off45 v0 v6 v12 v18 v24 v30 v36 v42 v48 v54 v60 v66 v72 v78 v84 v90 k0_t1) a + S1x24x128.size a ≤ S2x24x1536.size a) ∧
  (∀ k0_t1 : Fin (k0_t1_loop v0 v6 v12 v18 v24 v30 v36 v42 v48 v54 v60 v66 v72 v78 v84 v90).trips, ∀ a, (k0_off46 v0 v6 v12 v18 v24 v30 v36 v42 v48 v54 v60 v66 v72 v78 v84 v90 k0_t1) a + S1x24x128.size a ≤ S2x24x1536.size a) ∧
  (∀ k0_t1 : Fin (k0_t1_loop v0 v6 v12 v18 v24 v30 v36 v42 v48 v54 v60 v66 v72 v78 v84 v90).trips, ∀ a, (k0_off47 v0 v6 v12 v18 v24 v30 v36 v42 v48 v54 v60 v66 v72 v78 v84 v90 k0_t1) a + S1x24x128.size a ≤ S2x24x1536.size a) ∧
  (∀ k0_t1 : Fin (k0_t1_loop v0 v6 v12 v18 v24 v30 v36 v42 v48 v54 v60 v66 v72 v78 v84 v90).trips, ∀ a, (k0_off48 v0 v6 v12 v18 v24 v30 v36 v42 v48 v54 v60 v66 v72 v78 v84 v90 k0_t1) a + S1x24x128.size a ≤ S2x24x1536.size a) ∧
  (∀ k0_t1 : Fin (k0_t1_loop v0 v6 v12 v18 v24 v30 v36 v42 v48 v54 v60 v66 v72 v78 v84 v90).trips, ∀ a, (k0_off49 v0 v6 v12 v18 v24 v30 v36 v42 v48 v54 v60 v66 v72 v78 v84 v90 k0_t1) a + S1x24x128.size a ≤ S2x24x1536.size a) ∧
  (∀ k0_t1 : Fin (k0_t1_loop v0 v6 v12 v18 v24 v30 v36 v42 v48 v54 v60 v66 v72 v78 v84 v90).trips, ∀ a, (k0_off50 v0 v6 v12 v18 v24 v30 v36 v42 v48 v54 v60 v66 v72 v78 v84 v90 k0_t1) a + S1x24x128.size a ≤ S2x24x1536.size a) ∧
  (∀ k0_t1 : Fin (k0_t1_loop v0 v6 v12 v18 v24 v30 v36 v42 v48 v54 v60 v66 v72 v78 v84 v90).trips, ∀ a, (k0_off51 v0 v6 v12 v18 v24 v30 v36 v42 v48 v54 v60 v66 v72 v78 v84 v90 k0_t1) a + S1x24x128.size a ≤ S2x24x1536.size a) ∧
  (∀ k0_t1 : Fin (k0_t1_loop v0 v6 v12 v18 v24 v30 v36 v42 v48 v54 v60 v66 v72 v78 v84 v90).trips, ∀ a, (k0_off52 v0 v6 v12 v18 v24 v30 v36 v42 v48 v54 v60 v66 v72 v78 v84 v90 k0_t1) a + S1x24x128.size a ≤ S2x24x1536.size a) ∧
  (∀ k0_t1 : Fin (k0_t1_loop v0 v6 v12 v18 v24 v30 v36 v42 v48 v54 v60 v66 v72 v78 v84 v90).trips, ∀ a, (k0_off53 v0 v6 v12 v18 v24 v30 v36 v42 v48 v54 v60 v66 v72 v78 v84 v90 k0_t1) a + S1x24x128.size a ≤ S2x24x1536.size a) ∧
  (∀ k0_t1 : Fin (k0_t1_loop v0 v6 v12 v18 v24 v30 v36 v42 v48 v54 v60 v66 v72 v78 v84 v90).trips, ∀ a, (k0_off54 v0 v6 v12 v18 v24 v30 v36 v42 v48 v54 v60 v66 v72 v78 v84 v90 k0_t1) a + S1x24x128.size a ≤ S2x24x1536.size a) ∧
  (∀ k0_t1 : Fin (k0_t1_loop v0 v6 v12 v18 v24 v30 v36 v42 v48 v54 v60 v66 v72 v78 v84 v90).trips, ∀ a, (k0_off55 v0 v6 v12 v18 v24 v30 v36 v42 v48 v54 v60 v66 v72 v78 v84 v90 k0_t1) a + S1x24x128.size a ≤ S2x24x1536.size a) ∧
  (∀ k0_t1 : Fin (k0_t1_loop v0 v6 v12 v18 v24 v30 v36 v42 v48 v54 v60 v66 v72 v78 v84 v90).trips, ∀ a, (k0_off56 v0 v6 v12 v18 v24 v30 v36 v42 v48 v54 v60 v66 v72 v78 v84 v90 k0_t1) a + S1x24x128.size a ≤ S2x24x1536.size a) ∧
  (∀ k0_t1 : Fin (k0_t1_loop v0 v6 v12 v18 v24 v30 v36 v42 v48 v54 v60 v66 v72 v78 v84 v90).trips, ∀ (k0_h35 : k0_cond35 v0 v6 v12 v18 v24 v30 v36 v42 v48 v54 v60 v66 v72 v78 v84 v90 k0_t1 = 1#1), ∀ a, (k0_off57 v0 v6 v12 v18 v24 v30 v36 v42 v48 v54 v60 v66 v72 v78 v84 v90 k0_t1) a + S1.size a ≤ S16.size a) ∧
  (∀ k0_t1 : Fin (k0_t1_loop v0 v6 v12 v18 v24 v30 v36 v42 v48 v54 v60 v66 v72 v78 v84 v90).trips, ∀ (k0_h35 : k0_cond35 v0 v6 v12 v18 v24 v30 v36 v42 v48 v54 v60 v66 v72 v78 v84 v90 k0_t1 = 1#1), ∀ a, (k0_off58 v0 v6 v12 v18 v24 v30 v36 v42 v48 v54 v60 v66 v72 v78 v84 v90 k0_t1) a + S1.size a ≤ S2.size a) ∧
  (∀ k0_t1 : Fin (k0_t1_loop v0 v6 v12 v18 v24 v30 v36 v42 v48 v54 v60 v66 v72 v78 v84 v90).trips, ∀ (k0_h35 : k0_cond35 v0 v6 v12 v18 v24 v30 v36 v42 v48 v54 v60 v66 v72 v78 v84 v90 k0_t1 = 1#1), ∀ a, (k0_off60 v0 v6 v12 v18 v24 v30 v36 v42 v48 v54 v60 v66 v72 v78 v84 v90 k0_t1) a + S1x24x7168.size a ≤ S2x24x7168.size a) ∧
  (∀ k0_t1 : Fin (k0_t1_loop v0 v6 v12 v18 v24 v30 v36 v42 v48 v54 v60 v66 v72 v78 v84 v90).trips, ∀ (k0_h35 : k0_cond35 v0 v6 v12 v18 v24 v30 v36 v42 v48 v54 v60 v66 v72 v78 v84 v90 k0_t1 = 1#1), ∀ (hinb : ∀ a, (k0_off60 v0 v6 v12 v18 v24 v30 v36 v42 v48 v54 v60 v66 v72 v78 v84 v90 k0_t1) a + S1x24x7168.size a ≤ S2x24x7168.size a), (Rect.unit (s := S2x24x7168) (k0_off60 v0 v6 v12 v18 v24 v30 v36 v42 v48 v54 v60 v66 v72 v78 v84 v90 k0_t1) S1x24x7168.size hinb).WholeWords (EltTy.packing .bf16)) ∧
  (∀ k0_t1 : Fin (k0_t1_loop v0 v6 v12 v18 v24 v30 v36 v42 v48 v54 v60 v66 v72 v78 v84 v90).trips, ∀ (k0_h36 : k0_cond36 v0 v6 v12 v18 v24 v30 v36 v42 v48 v54 v60 v66 v72 v78 v84 v90 k0_t1 = 1#1), ∀ a, (k0_off61 v0 v6 v12 v18 v24 v30 v36 v42 v48 v54 v60 v66 v72 v78 v84 v90 k0_t1) a + S1.size a ≤ S16.size a) ∧
  (∀ k0_t1 : Fin (k0_t1_loop v0 v6 v12 v18 v24 v30 v36 v42 v48 v54 v60 v66 v72 v78 v84 v90).trips, ∀ (k0_h36 : k0_cond36 v0 v6 v12 v18 v24 v30 v36 v42 v48 v54 v60 v66 v72 v78 v84 v90 k0_t1 = 1#1), ∀ a, (k0_off62 v0 v6 v12 v18 v24 v30 v36 v42 v48 v54 v60 v66 v72 v78 v84 v90 k0_t1) a + S1.size a ≤ S2.size a) ∧
  (∀ k0_t1 : Fin (k0_t1_loop v0 v6 v12 v18 v24 v30 v36 v42 v48 v54 v60 v66 v72 v78 v84 v90).trips, ∀ (k0_h36 : k0_cond36 v0 v6 v12 v18 v24 v30 v36 v42 v48 v54 v60 v66 v72 v78 v84 v90 k0_t1 = 1#1), ∀ a, (k0_off63 v0 v6 v12 v18 v24 v30 v36 v42 v48 v54 v60 v66 v72 v78 v84 v90 k0_t1) a + S1x24x1536.size a ≤ S2x24x1536.size a) ∧
  (∀ k0_t1 : Fin (k0_t1_loop v0 v6 v12 v18 v24 v30 v36 v42 v48 v54 v60 v66 v72 v78 v84 v90).trips, ∀ (k0_h36 : k0_cond36 v0 v6 v12 v18 v24 v30 v36 v42 v48 v54 v60 v66 v72 v78 v84 v90 k0_t1 = 1#1), ∀ (hinb : ∀ a, (k0_off63 v0 v6 v12 v18 v24 v30 v36 v42 v48 v54 v60 v66 v72 v78 v84 v90 k0_t1) a + S1x24x1536.size a ≤ S2x24x1536.size a), (Rect.unit (s := S2x24x1536) (k0_off63 v0 v6 v12 v18 v24 v30 v36 v42 v48 v54 v60 v66 v72 v78 v84 v90 k0_t1) S1x24x1536.size hinb).WholeWords (EltTy.packing .bf16)) ∧
  (∀ k0_t1 : Fin (k0_t1_loop v0 v6 v12 v18 v24 v30 v36 v42 v48 v54 v60 v66 v72 v78 v84 v90).trips, ∀ (k0_h36 : k0_cond36 v0 v6 v12 v18 v24 v30 v36 v42 v48 v54 v60 v66 v72 v78 v84 v90 k0_t1 = 1#1), ∀ a, (k0_off65 v0 v6 v12 v18 v24 v30 v36 v42 v48 v54 v60 v66 v72 v78 v84 v90 k0_t1) a + S1.size a ≤ S16.size a)
def k0_chk15_1 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) : Prop :=
  (∀ k0_t1 : Fin (k0_t1_loop v0 v6 v12 v18 v24 v30 v36 v42 v48 v54 v60 v66 v72 v78 v84 v90).trips, ∀ (k0_h36 : k0_cond36 v0 v6 v12 v18 v24 v30 v36 v42 v48 v54 v60 v66 v72 v78 v84 v90 k0_t1 = 1#1), ∀ a, (k0_off66 v0 v6 v12 v18 v24 v30 v36 v42 v48 v54 v60 v66 v72 v78 v84 v90 k0_t1) a + S1.size a ≤ S2.size a) ∧
  (∀ k0_t1 : Fin (k0_t1_loop v0 v6 v12 v18 v24 v30 v36 v42 v48 v54 v60 v66 v72 v78 v84 v90).trips, ∀ (k0_h36 : k0_cond36 v0 v6 v12 v18 v24 v30 v36 v42 v48 v54 v60 v66 v72 v78 v84 v90 k0_t1 = 1#1), ∀ a, (k0_off67 v0 v6 v12 v18 v24 v30 v36 v42 v48 v54 v60 v66 v72 v78 v84 v90 k0_t1) a + S1x56x12.size a ≤ S2x56x12.size a) ∧
  (∀ k0_t1 : Fin (k0_t1_loop v0 v6 v12 v18 v24 v30 v36 v42 v48 v54 v60 v66 v72 v78 v84 v90).trips, ∀ a, (k0_off69 v0 v6 v12 v18 v24 v30 v36 v42 v48 v54 v60 v66 v72 v78 v84 v90 k0_t1) a + S1.size a ≤ S16.size a) ∧
  (∀ k0_t1 : Fin (k0_t1_loop v0 v6 v12 v18 v24 v30 v36 v42 v48 v54 v60 v66 v72 v78 v84 v90).trips, ∀ a, (k0_off70 v0 v6 v12 v18 v24 v30 v36 v42 v48 v54 v60 v66 v72 v78 v84 v90 k0_t1) a + S1x1.size a ≤ S2x7.size a) ∧
  (∀ k0_t1 : Fin (k0_t1_loop v0 v6 v12 v18 v24 v30 v36 v42 v48 v54 v60 v66 v72 v78 v84 v90).trips, ∀ a, (k0_off71 v0 v6 v12 v18 v24 v30 v36 v42 v48 v54 v60 v66 v72 v78 v84 v90 k0_t1) a + S1x1024x1536.size a ≤ S2x7168x1536.size a) ∧
  (∀ k0_t1 : Fin (k0_t1_loop v0 v6 v12 v18 v24 v30 v36 v42 v48 v54 v60 v66 v72 v78 v84 v90).trips, ∀ (hinb : ∀ a, (k0_off71 v0 v6 v12 v18 v24 v30 v36 v42 v48 v54 v60 v66 v72 v78 v84 v90 k0_t1) a + S1x1024x1536.size a ≤ S2x7168x1536.size a), (Rect.unit (s := S2x7168x1536) (k0_off71 v0 v6 v12 v18 v24 v30 v36 v42 v48 v54 v60 v66 v72 v78 v84 v90 k0_t1) S1x1024x1536.size hinb).WholeWords (EltTy.packing .fp8e4m3)) ∧
  (∀ k0_t1 : Fin (k0_t1_loop v0 v6 v12 v18 v24 v30 v36 v42 v48 v54 v60 v66 v72 v78 v84 v90).trips, ∀ a, (k0_off73 v0 v6 v12 v18 v24 v30 v36 v42 v48 v54 v60 v66 v72 v78 v84 v90 k0_t1) a + S1x256x1536.size a ≤ S2x7168x1536.size a) ∧
  (∀ k0_t1 : Fin (k0_t1_loop v0 v6 v12 v18 v24 v30 v36 v42 v48 v54 v60 v66 v72 v78 v84 v90).trips, ∀ a, (k0_off74 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off74 v0 v6 v12 v18 v24 v30 v36 v42 v48 v54 v60 v66 v72 v78 v84 v90 k0_t1) a + S1x24x128.size a ≤ S2x24x7168.size a), (Rect.unit (s := S2x24x7168) (k0_off74 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off75 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off75 v0 v6 v12 v18 v24 v30 v36 v42 v48 v54 v60 v66 v72 v78 v84 v90 k0_t1) a + S1x24x128.size a ≤ S2x24x7168.size a), (Rect.unit (s := S2x24x7168) (k0_off75 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off76 v0 v6 v12 v18 v24 v30 v36 v42 v48 v54 v60 v66 v72 v78 v84 v90 k0_t1) a + S1x256x1536.size a ≤ S2x7168x1536.size a) ∧
  (∀ k0_t1 : Fin (k0_t1_loop v0 v6 v12 v18 v24 v30 v36 v42 v48 v54 v60 v66 v72 v78 v84 v90).trips, ∀ a, (k0_off77 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off77 v0 v6 v12 v18 v24 v30 v36 v42 v48 v54 v60 v66 v72 v78 v84 v90 k0_t1) a + S1x24x128.size a ≤ S2x24x7168.size a), (Rect.unit (s := S2x24x7168) (k0_off77 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off78 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off78 v0 v6 v12 v18 v24 v30 v36 v42 v48 v54 v60 v66 v72 v78 v84 v90 k0_t1) a + S1x24x128.size a ≤ S2x24x7168.size a), (Rect.unit (s := S2x24x7168) (k0_off78 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off79 v0 v6 v12 v18 v24 v30 v36 v42 v48 v54 v60 v66 v72 v78 v84 v90 k0_t1) a + S1x256x1536.size a ≤ S2x7168x1536.size a) ∧
  (∀ k0_t1 : Fin (k0_t1_loop v0 v6 v12 v18 v24 v30 v36 v42 v48 v54 v60 v66 v72 v78 v84 v90).trips, ∀ a, (k0_off80 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off80 v0 v6 v12 v18 v24 v30 v36 v42 v48 v54 v60 v66 v72 v78 v84 v90 k0_t1) a + S1x24x128.size a ≤ S2x24x7168.size a), (Rect.unit (s := S2x24x7168) (k0_off80 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off81 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off81 v0 v6 v12 v18 v24 v30 v36 v42 v48 v54 v60 v66 v72 v78 v84 v90 k0_t1) a + S1x24x128.size a ≤ S2x24x7168.size a), (Rect.unit (s := S2x24x7168) (k0_off81 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off82 v0 v6 v12 v18 v24 v30 v36 v42 v48 v54 v60 v66 v72 v78 v84 v90 k0_t1) a + S1x256x1536.size a ≤ S2x7168x1536.size a) ∧
  (∀ k0_t1 : Fin (k0_t1_loop v0 v6 v12 v18 v24 v30 v36 v42 v48 v54 v60 v66 v72 v78 v84 v90).trips, ∀ a, (k0_off83 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off83 v0 v6 v12 v18 v24 v30 v36 v42 v48 v54 v60 v66 v72 v78 v84 v90 k0_t1) a + S1x24x128.size a ≤ S2x24x7168.size a), (Rect.unit (s := S2x24x7168) (k0_off83 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off84 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off84 v0 v6 v12 v18 v24 v30 v36 v42 v48 v54 v60 v66 v72 v78 v84 v90 k0_t1) a + S1x24x128.size a ≤ S2x24x7168.size a), (Rect.unit (s := S2x24x7168) (k0_off84 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ (k0_h37 : k0_cond37 v0 v6 v12 v18 v24 v30 v36 v42 v48 v54 v60 v66 v72 v78 v84 v90 k0_t1 = 1#1), ∀ a, (k0_off85 v0 v6 v12 v18 v24 v30 v36 v42 v48 v54 v60 v66 v72 v78 v84 v90 k0_t1) a + S1.size a ≤ S16.size a) ∧
  (∀ k0_t1 : Fin (k0_t1_loop v0 v6 v12 v18 v24 v30 v36 v42 v48 v54 v60 v66 v72 v78 v84 v90).trips, ∀ (k0_h37 : k0_cond37 v0 v6 v12 v18 v24 v30 v36 v42 v48 v54 v60 v66 v72 v78 v84 v90 k0_t1 = 1#1), ∀ a, (k0_off86 v0 v6 v12 v18 v24 v30 v36 v42 v48 v54 v60 v66 v72 v78 v84 v90 k0_t1) a + S1x1.size a ≤ S2x7.size a) ∧
  (∀ k0_t1 : Fin (k0_t1_loop v0 v6 v12 v18 v24 v30 v36 v42 v48 v54 v60 v66 v72 v78 v84 v90).trips, ∀ (k0_h37 : k0_cond37 v0 v6 v12 v18 v24 v30 v36 v42 v48 v54 v60 v66 v72 v78 v84 v90 k0_t1 = 1#1), ∀ a, (k0_off87 v0 v6 v12 v18 v24 v30 v36 v42 v48 v54 v60 v66 v72 v78 v84 v90 k0_t1) a + S1x1024x1536.size a ≤ S2x7168x1536.size a) ∧
  (∀ k0_t1 : Fin (k0_t1_loop v0 v6 v12 v18 v24 v30 v36 v42 v48 v54 v60 v66 v72 v78 v84 v90).trips, ∀ (k0_h37 : k0_cond37 v0 v6 v12 v18 v24 v30 v36 v42 v48 v54 v60 v66 v72 v78 v84 v90 k0_t1 = 1#1), ∀ (hinb : ∀ a, (k0_off87 v0 v6 v12 v18 v24 v30 v36 v42 v48 v54 v60 v66 v72 v78 v84 v90 k0_t1) a + S1x1024x1536.size a ≤ S2x7168x1536.size a), (Rect.unit (s := S2x7168x1536) (k0_off87 v0 v6 v12 v18 v24 v30 v36 v42 v48 v54 v60 v66 v72 v78 v84 v90 k0_t1) S1x1024x1536.size hinb).WholeWords (EltTy.packing .fp8e4m3)) ∧
  (∀ k0_t1 : Fin (k0_t1_loop v0 v6 v12 v18 v24 v30 v36 v42 v48 v54 v60 v66 v72 v78 v84 v90).trips, ∀ a, (k0_off89 v0 v6 v12 v18 v24 v30 v36 v42 v48 v54 v60 v66 v72 v78 v84 v90 k0_t1) a + S1.size a ≤ S16.size a) ∧
  (∀ k0_t1 : Fin (k0_t1_loop v0 v6 v12 v18 v24 v30 v36 v42 v48 v54 v60 v66 v72 v78 v84 v90).trips, ∀ a, (k0_off90 v0 v6 v12 v18 v24 v30 v36 v42 v48 v54 v60 v66 v72 v78 v84 v90 k0_t1) a + S1x1.size a ≤ S2x7.size a)
def k0_chk15_2 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) : Prop :=
  (∀ k0_t1 : Fin (k0_t1_loop v0 v6 v12 v18 v24 v30 v36 v42 v48 v54 v60 v66 v72 v78 v84 v90).trips, ∀ a, (k0_off91 v0 v6 v12 v18 v24 v30 v36 v42 v48 v54 v60 v66 v72 v78 v84 v90 k0_t1) a + S1x1024x1536.size a ≤ S2x7168x1536.size a) ∧
  (∀ k0_t1 : Fin (k0_t1_loop v0 v6 v12 v18 v24 v30 v36 v42 v48 v54 v60 v66 v72 v78 v84 v90).trips, ∀ (hinb : ∀ a, (k0_off91 v0 v6 v12 v18 v24 v30 v36 v42 v48 v54 v60 v66 v72 v78 v84 v90 k0_t1) a + S1x1024x1536.size a ≤ S2x7168x1536.size a), (Rect.unit (s := S2x7168x1536) (k0_off91 v0 v6 v12 v18 v24 v30 v36 v42 v48 v54 v60 v66 v72 v78 v84 v90 k0_t1) S1x1024x1536.size hinb).WholeWords (EltTy.packing .fp8e4m3)) ∧
  (∀ k0_t1 : Fin (k0_t1_loop v0 v6 v12 v18 v24 v30 v36 v42 v48 v54 v60 v66 v72 v78 v84 v90).trips, ∀ a, (k0_off93 v0 v6 v12 v18 v24 v30 v36 v42 v48 v54 v60 v66 v72 v78 v84 v90 k0_t1) a + S1x256x1536.size a ≤ S2x7168x1536.size a) ∧
  (∀ k0_t1 : Fin (k0_t1_loop v0 v6 v12 v18 v24 v30 v36 v42 v48 v54 v60 v66 v72 v78 v84 v90).trips, ∀ a, (k0_off94 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off94 v0 v6 v12 v18 v24 v30 v36 v42 v48 v54 v60 v66 v72 v78 v84 v90 k0_t1) a + S1x24x128.size a ≤ S2x24x7168.size a), (Rect.unit (s := S2x24x7168) (k0_off94 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off95 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off95 v0 v6 v12 v18 v24 v30 v36 v42 v48 v54 v60 v66 v72 v78 v84 v90 k0_t1) a + S1x24x128.size a ≤ S2x24x7168.size a), (Rect.unit (s := S2x24x7168) (k0_off95 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off96 v0 v6 v12 v18 v24 v30 v36 v42 v48 v54 v60 v66 v72 v78 v84 v90 k0_t1) a + S1x256x1536.size a ≤ S2x7168x1536.size a) ∧
  (∀ k0_t1 : Fin (k0_t1_loop v0 v6 v12 v18 v24 v30 v36 v42 v48 v54 v60 v66 v72 v78 v84 v90).trips, ∀ a, (k0_off97 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off97 v0 v6 v12 v18 v24 v30 v36 v42 v48 v54 v60 v66 v72 v78 v84 v90 k0_t1) a + S1x24x128.size a ≤ S2x24x7168.size a), (Rect.unit (s := S2x24x7168) (k0_off97 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off98 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off98 v0 v6 v12 v18 v24 v30 v36 v42 v48 v54 v60 v66 v72 v78 v84 v90 k0_t1) a + S1x24x128.size a ≤ S2x24x7168.size a), (Rect.unit (s := S2x24x7168) (k0_off98 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off99 v0 v6 v12 v18 v24 v30 v36 v42 v48 v54 v60 v66 v72 v78 v84 v90 k0_t1) a + S1x256x1536.size a ≤ S2x7168x1536.size a) ∧
  (∀ k0_t1 : Fin (k0_t1_loop v0 v6 v12 v18 v24 v30 v36 v42 v48 v54 v60 v66 v72 v78 v84 v90).trips, ∀ a, (k0_off100 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off100 v0 v6 v12 v18 v24 v30 v36 v42 v48 v54 v60 v66 v72 v78 v84 v90 k0_t1) a + S1x24x128.size a ≤ S2x24x7168.size a), (Rect.unit (s := S2x24x7168) (k0_off100 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off101 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off101 v0 v6 v12 v18 v24 v30 v36 v42 v48 v54 v60 v66 v72 v78 v84 v90 k0_t1) a + S1x24x128.size a ≤ S2x24x7168.size a), (Rect.unit (s := S2x24x7168) (k0_off101 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off102 v0 v6 v12 v18 v24 v30 v36 v42 v48 v54 v60 v66 v72 v78 v84 v90 k0_t1) a + S1x256x1536.size a ≤ S2x7168x1536.size a) ∧
  (∀ k0_t1 : Fin (k0_t1_loop v0 v6 v12 v18 v24 v30 v36 v42 v48 v54 v60 v66 v72 v78 v84 v90).trips, ∀ a, (k0_off103 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off103 v0 v6 v12 v18 v24 v30 v36 v42 v48 v54 v60 v66 v72 v78 v84 v90 k0_t1) a + S1x24x128.size a ≤ S2x24x7168.size a), (Rect.unit (s := S2x24x7168) (k0_off103 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off104 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off104 v0 v6 v12 v18 v24 v30 v36 v42 v48 v54 v60 v66 v72 v78 v84 v90 k0_t1) a + S1x24x128.size a ≤ S2x24x7168.size a), (Rect.unit (s := S2x24x7168) (k0_off104 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ (k0_h38 : k0_cond38 v0 v6 v12 v18 v24 v30 v36 v42 v48 v54 v60 v66 v72 v78 v84 v90 k0_t1 = 1#1), ∀ a, (k0_off105 v0 v6 v12 v18 v24 v30 v36 v42 v48 v54 v60 v66 v72 v78 v84 v90 k0_t1) a + S1.size a ≤ S16.size a) ∧
  (∀ k0_t1 : Fin (k0_t1_loop v0 v6 v12 v18 v24 v30 v36 v42 v48 v54 v60 v66 v72 v78 v84 v90).trips, ∀ (k0_h38 : k0_cond38 v0 v6 v12 v18 v24 v30 v36 v42 v48 v54 v60 v66 v72 v78 v84 v90 k0_t1 = 1#1), ∀ a, (k0_off106 v0 v6 v12 v18 v24 v30 v36 v42 v48 v54 v60 v66 v72 v78 v84 v90 k0_t1) a + S1x1.size a ≤ S2x7.size a) ∧
  (∀ k0_t1 : Fin (k0_t1_loop v0 v6 v12 v18 v24 v30 v36 v42 v48 v54 v60 v66 v72 v78 v84 v90).trips, ∀ (k0_h38 : k0_cond38 v0 v6 v12 v18 v24 v30 v36 v42 v48 v54 v60 v66 v72 v78 v84 v90 k0_t1 = 1#1), ∀ a, (k0_off107 v0 v6 v12 v18 v24 v30 v36 v42 v48 v54 v60 v66 v72 v78 v84 v90 k0_t1) a + S1x1024x1536.size a ≤ S2x7168x1536.size a) ∧
  (∀ k0_t1 : Fin (k0_t1_loop v0 v6 v12 v18 v24 v30 v36 v42 v48 v54 v60 v66 v72 v78 v84 v90).trips, ∀ (k0_h38 : k0_cond38 v0 v6 v12 v18 v24 v30 v36 v42 v48 v54 v60 v66 v72 v78 v84 v90 k0_t1 = 1#1), ∀ (hinb : ∀ a, (k0_off107 v0 v6 v12 v18 v24 v30 v36 v42 v48 v54 v60 v66 v72 v78 v84 v90 k0_t1) a + S1x1024x1536.size a ≤ S2x7168x1536.size a), (Rect.unit (s := S2x7168x1536) (k0_off107 v0 v6 v12 v18 v24 v30 v36 v42 v48 v54 v60 v66 v72 v78 v84 v90 k0_t1) S1x1024x1536.size hinb).WholeWords (EltTy.packing .fp8e4m3)) ∧
  (∀ k0_t1 : Fin (k0_t1_loop v0 v6 v12 v18 v24 v30 v36 v42 v48 v54 v60 v66 v72 v78 v84 v90).trips, ∀ a, (k0_off109 v0 v6 v12 v18 v24 v30 v36 v42 v48 v54 v60 v66 v72 v78 v84 v90 k0_t1) a + S1.size a ≤ S16.size a) ∧
  (∀ k0_t1 : Fin (k0_t1_loop v0 v6 v12 v18 v24 v30 v36 v42 v48 v54 v60 v66 v72 v78 v84 v90).trips, ∀ a, (k0_off110 v0 v6 v12 v18 v24 v30 v36 v42 v48 v54 v60 v66 v72 v78 v84 v90 k0_t1) a + S1x1.size a ≤ S2x7.size a) ∧
  (∀ k0_t1 : Fin (k0_t1_loop v0 v6 v12 v18 v24 v30 v36 v42 v48 v54 v60 v66 v72 v78 v84 v90).trips, ∀ a, (k0_off111 v0 v6 v12 v18 v24 v30 v36 v42 v48 v54 v60 v66 v72 v78 v84 v90 k0_t1) a + S1x1024x1536.size a ≤ S2x7168x1536.size a) ∧
  (∀ k0_t1 : Fin (k0_t1_loop v0 v6 v12 v18 v24 v30 v36 v42 v48 v54 v60 v66 v72 v78 v84 v90).trips, ∀ (hinb : ∀ a, (k0_off111 v0 v6 v12 v18 v24 v30 v36 v42 v48 v54 v60 v66 v72 v78 v84 v90 k0_t1) a + S1x1024x1536.size a ≤ S2x7168x1536.size a), (Rect.unit (s := S2x7168x1536) (k0_off111 v0 v6 v12 v18 v24 v30 v36 v42 v48 v54 v60 v66 v72 v78 v84 v90 k0_t1) S1x1024x1536.size hinb).WholeWords (EltTy.packing .fp8e4m3)) ∧
  (∀ k0_t1 : Fin (k0_t1_loop v0 v6 v12 v18 v24 v30 v36 v42 v48 v54 v60 v66 v72 v78 v84 v90).trips, ∀ a, (k0_off113 v0 v6 v12 v18 v24 v30 v36 v42 v48 v54 v60 v66 v72 v78 v84 v90 k0_t1) a + S1x256x1536.size a ≤ S2x7168x1536.size a) ∧
  (∀ k0_t1 : Fin (k0_t1_loop v0 v6 v12 v18 v24 v30 v36 v42 v48 v54 v60 v66 v72 v78 v84 v90).trips, ∀ a, (k0_off114 v0 v6 v12 v18 v24 v30 v36 v42 v48 v54 v60 v66 v72 v78 v84 v90 k0_t1) a + S1x24x128.size a ≤ S2x24x7168.size a)
def k0_chk15_3 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) : Prop :=
  (∀ k0_t1 : Fin (k0_t1_loop v0 v6 v12 v18 v24 v30 v36 v42 v48 v54 v60 v66 v72 v78 v84 v90).trips, ∀ (hinb : ∀ a, (k0_off114 v0 v6 v12 v18 v24 v30 v36 v42 v48 v54 v60 v66 v72 v78 v84 v90 k0_t1) a + S1x24x128.size a ≤ S2x24x7168.size a), (Rect.unit (s := S2x24x7168) (k0_off114 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off115 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off115 v0 v6 v12 v18 v24 v30 v36 v42 v48 v54 v60 v66 v72 v78 v84 v90 k0_t1) a + S1x24x128.size a ≤ S2x24x7168.size a), (Rect.unit (s := S2x24x7168) (k0_off115 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off116 v0 v6 v12 v18 v24 v30 v36 v42 v48 v54 v60 v66 v72 v78 v84 v90 k0_t1) a + S1x256x1536.size a ≤ S2x7168x1536.size a) ∧
  (∀ k0_t1 : Fin (k0_t1_loop v0 v6 v12 v18 v24 v30 v36 v42 v48 v54 v60 v66 v72 v78 v84 v90).trips, ∀ a, (k0_off117 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off117 v0 v6 v12 v18 v24 v30 v36 v42 v48 v54 v60 v66 v72 v78 v84 v90 k0_t1) a + S1x24x128.size a ≤ S2x24x7168.size a), (Rect.unit (s := S2x24x7168) (k0_off117 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off118 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off118 v0 v6 v12 v18 v24 v30 v36 v42 v48 v54 v60 v66 v72 v78 v84 v90 k0_t1) a + S1x24x128.size a ≤ S2x24x7168.size a), (Rect.unit (s := S2x24x7168) (k0_off118 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off119 v0 v6 v12 v18 v24 v30 v36 v42 v48 v54 v60 v66 v72 v78 v84 v90 k0_t1) a + S1x256x1536.size a ≤ S2x7168x1536.size a) ∧
  (∀ k0_t1 : Fin (k0_t1_loop v0 v6 v12 v18 v24 v30 v36 v42 v48 v54 v60 v66 v72 v78 v84 v90).trips, ∀ a, (k0_off120 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off120 v0 v6 v12 v18 v24 v30 v36 v42 v48 v54 v60 v66 v72 v78 v84 v90 k0_t1) a + S1x24x128.size a ≤ S2x24x7168.size a), (Rect.unit (s := S2x24x7168) (k0_off120 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off121 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off121 v0 v6 v12 v18 v24 v30 v36 v42 v48 v54 v60 v66 v72 v78 v84 v90 k0_t1) a + S1x24x128.size a ≤ S2x24x7168.size a), (Rect.unit (s := S2x24x7168) (k0_off121 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off122 v0 v6 v12 v18 v24 v30 v36 v42 v48 v54 v60 v66 v72 v78 v84 v90 k0_t1) a + S1x256x1536.size a ≤ S2x7168x1536.size a) ∧
  (∀ k0_t1 : Fin (k0_t1_loop v0 v6 v12 v18 v24 v30 v36 v42 v48 v54 v60 v66 v72 v78 v84 v90).trips, ∀ a, (k0_off123 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off123 v0 v6 v12 v18 v24 v30 v36 v42 v48 v54 v60 v66 v72 v78 v84 v90 k0_t1) a + S1x24x128.size a ≤ S2x24x7168.size a), (Rect.unit (s := S2x24x7168) (k0_off123 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off124 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off124 v0 v6 v12 v18 v24 v30 v36 v42 v48 v54 v60 v66 v72 v78 v84 v90 k0_t1) a + S1x24x128.size a ≤ S2x24x7168.size a), (Rect.unit (s := S2x24x7168) (k0_off124 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ (k0_h39 : k0_cond39 v0 v6 v12 v18 v24 v30 v36 v42 v48 v54 v60 v66 v72 v78 v84 v90 k0_t1 = 1#1), ∀ a, (k0_off125 v0 v6 v12 v18 v24 v30 v36 v42 v48 v54 v60 v66 v72 v78 v84 v90 k0_t1) a + S1.size a ≤ S16.size a) ∧
  (∀ k0_t1 : Fin (k0_t1_loop v0 v6 v12 v18 v24 v30 v36 v42 v48 v54 v60 v66 v72 v78 v84 v90).trips, ∀ (k0_h39 : k0_cond39 v0 v6 v12 v18 v24 v30 v36 v42 v48 v54 v60 v66 v72 v78 v84 v90 k0_t1 = 1#1), ∀ a, (k0_off126 v0 v6 v12 v18 v24 v30 v36 v42 v48 v54 v60 v66 v72 v78 v84 v90 k0_t1) a + S1x1.size a ≤ S2x7.size a) ∧
  (∀ k0_t1 : Fin (k0_t1_loop v0 v6 v12 v18 v24 v30 v36 v42 v48 v54 v60 v66 v72 v78 v84 v90).trips, ∀ (k0_h39 : k0_cond39 v0 v6 v12 v18 v24 v30 v36 v42 v48 v54 v60 v66 v72 v78 v84 v90 k0_t1 = 1#1), ∀ a, (k0_off127 v0 v6 v12 v18 v24 v30 v36 v42 v48 v54 v60 v66 v72 v78 v84 v90 k0_t1) a + S1x1024x1536.size a ≤ S2x7168x1536.size a) ∧
  (∀ k0_t1 : Fin (k0_t1_loop v0 v6 v12 v18 v24 v30 v36 v42 v48 v54 v60 v66 v72 v78 v84 v90).trips, ∀ (k0_h39 : k0_cond39 v0 v6 v12 v18 v24 v30 v36 v42 v48 v54 v60 v66 v72 v78 v84 v90 k0_t1 = 1#1), ∀ (hinb : ∀ a, (k0_off127 v0 v6 v12 v18 v24 v30 v36 v42 v48 v54 v60 v66 v72 v78 v84 v90 k0_t1) a + S1x1024x1536.size a ≤ S2x7168x1536.size a), (Rect.unit (s := S2x7168x1536) (k0_off127 v0 v6 v12 v18 v24 v30 v36 v42 v48 v54 v60 v66 v72 v78 v84 v90 k0_t1) S1x1024x1536.size hinb).WholeWords (EltTy.packing .fp8e4m3)) ∧
  (∀ k0_t1 : Fin (k0_t1_loop v0 v6 v12 v18 v24 v30 v36 v42 v48 v54 v60 v66 v72 v78 v84 v90).trips, ∀ a, (k0_off129 v0 v6 v12 v18 v24 v30 v36 v42 v48 v54 v60 v66 v72 v78 v84 v90 k0_t1) a + S1.size a ≤ S16.size a) ∧
  (∀ k0_t1 : Fin (k0_t1_loop v0 v6 v12 v18 v24 v30 v36 v42 v48 v54 v60 v66 v72 v78 v84 v90).trips, ∀ a, (k0_off130 v0 v6 v12 v18 v24 v30 v36 v42 v48 v54 v60 v66 v72 v78 v84 v90 k0_t1) a + S1x1.size a ≤ S2x7.size a) ∧
  (∀ k0_t1 : Fin (k0_t1_loop v0 v6 v12 v18 v24 v30 v36 v42 v48 v54 v60 v66 v72 v78 v84 v90).trips, ∀ a, (k0_off131 v0 v6 v12 v18 v24 v30 v36 v42 v48 v54 v60 v66 v72 v78 v84 v90 k0_t1) a + S1x1024x1536.size a ≤ S2x7168x1536.size a) ∧
  (∀ k0_t1 : Fin (k0_t1_loop v0 v6 v12 v18 v24 v30 v36 v42 v48 v54 v60 v66 v72 v78 v84 v90).trips, ∀ (hinb : ∀ a, (k0_off131 v0 v6 v12 v18 v24 v30 v36 v42 v48 v54 v60 v66 v72 v78 v84 v90 k0_t1) a + S1x1024x1536.size a ≤ S2x7168x1536.size a), (Rect.unit (s := S2x7168x1536) (k0_off131 v0 v6 v12 v18 v24 v30 v36 v42 v48 v54 v60 v66 v72 v78 v84 v90 k0_t1) S1x1024x1536.size hinb).WholeWords (EltTy.packing .fp8e4m3)) ∧
  (∀ k0_t1 : Fin (k0_t1_loop v0 v6 v12 v18 v24 v30 v36 v42 v48 v54 v60 v66 v72 v78 v84 v90).trips, ∀ a, (k0_off133 v0 v6 v12 v18 v24 v30 v36 v42 v48 v54 v60 v66 v72 v78 v84 v90 k0_t1) a + S1x256x1536.size a ≤ S2x7168x1536.size a) ∧
  (∀ k0_t1 : Fin (k0_t1_loop v0 v6 v12 v18 v24 v30 v36 v42 v48 v54 v60 v66 v72 v78 v84 v90).trips, ∀ a, (k0_off134 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off134 v0 v6 v12 v18 v24 v30 v36 v42 v48 v54 v60 v66 v72 v78 v84 v90 k0_t1) a + S1x24x128.size a ≤ S2x24x7168.size a), (Rect.unit (s := S2x24x7168) (k0_off134 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off135 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off135 v0 v6 v12 v18 v24 v30 v36 v42 v48 v54 v60 v66 v72 v78 v84 v90 k0_t1) a + S1x24x128.size a ≤ S2x24x7168.size a), (Rect.unit (s := S2x24x7168) (k0_off135 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off136 v0 v6 v12 v18 v24 v30 v36 v42 v48 v54 v60 v66 v72 v78 v84 v90 k0_t1) a + S1x256x1536.size a ≤ S2x7168x1536.size a)
def k0_chk15_4 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) : Prop :=
  (∀ k0_t1 : Fin (k0_t1_loop v0 v6 v12 v18 v24 v30 v36 v42 v48 v54 v60 v66 v72 v78 v84 v90).trips, ∀ a, (k0_off137 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off137 v0 v6 v12 v18 v24 v30 v36 v42 v48 v54 v60 v66 v72 v78 v84 v90 k0_t1) a + S1x24x128.size a ≤ S2x24x7168.size a), (Rect.unit (s := S2x24x7168) (k0_off137 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off138 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off138 v0 v6 v12 v18 v24 v30 v36 v42 v48 v54 v60 v66 v72 v78 v84 v90 k0_t1) a + S1x24x128.size a ≤ S2x24x7168.size a), (Rect.unit (s := S2x24x7168) (k0_off138 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off139 v0 v6 v12 v18 v24 v30 v36 v42 v48 v54 v60 v66 v72 v78 v84 v90 k0_t1) a + S1x256x1536.size a ≤ S2x7168x1536.size a) ∧
  (∀ k0_t1 : Fin (k0_t1_loop v0 v6 v12 v18 v24 v30 v36 v42 v48 v54 v60 v66 v72 v78 v84 v90).trips, ∀ a, (k0_off140 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off140 v0 v6 v12 v18 v24 v30 v36 v42 v48 v54 v60 v66 v72 v78 v84 v90 k0_t1) a + S1x24x128.size a ≤ S2x24x7168.size a), (Rect.unit (s := S2x24x7168) (k0_off140 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off141 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off141 v0 v6 v12 v18 v24 v30 v36 v42 v48 v54 v60 v66 v72 v78 v84 v90 k0_t1) a + S1x24x128.size a ≤ S2x24x7168.size a), (Rect.unit (s := S2x24x7168) (k0_off141 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off142 v0 v6 v12 v18 v24 v30 v36 v42 v48 v54 v60 v66 v72 v78 v84 v90 k0_t1) a + S1x256x1536.size a ≤ S2x7168x1536.size a) ∧
  (∀ k0_t1 : Fin (k0_t1_loop v0 v6 v12 v18 v24 v30 v36 v42 v48 v54 v60 v66 v72 v78 v84 v90).trips, ∀ a, (k0_off143 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off143 v0 v6 v12 v18 v24 v30 v36 v42 v48 v54 v60 v66 v72 v78 v84 v90 k0_t1) a + S1x24x128.size a ≤ S2x24x7168.size a), (Rect.unit (s := S2x24x7168) (k0_off143 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off144 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off144 v0 v6 v12 v18 v24 v30 v36 v42 v48 v54 v60 v66 v72 v78 v84 v90 k0_t1) a + S1x24x128.size a ≤ S2x24x7168.size a), (Rect.unit (s := S2x24x7168) (k0_off144 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ (k0_h40 : k0_cond40 v0 v6 v12 v18 v24 v30 v36 v42 v48 v54 v60 v66 v72 v78 v84 v90 k0_t1 = 1#1), ∀ a, (k0_off145 v0 v6 v12 v18 v24 v30 v36 v42 v48 v54 v60 v66 v72 v78 v84 v90 k0_t1) a + S1.size a ≤ S16.size a) ∧
  (∀ k0_t1 : Fin (k0_t1_loop v0 v6 v12 v18 v24 v30 v36 v42 v48 v54 v60 v66 v72 v78 v84 v90).trips, ∀ (k0_h40 : k0_cond40 v0 v6 v12 v18 v24 v30 v36 v42 v48 v54 v60 v66 v72 v78 v84 v90 k0_t1 = 1#1), ∀ a, (k0_off146 v0 v6 v12 v18 v24 v30 v36 v42 v48 v54 v60 v66 v72 v78 v84 v90 k0_t1) a + S1x1.size a ≤ S2x7.size a) ∧
  (∀ k0_t1 : Fin (k0_t1_loop v0 v6 v12 v18 v24 v30 v36 v42 v48 v54 v60 v66 v72 v78 v84 v90).trips, ∀ (k0_h40 : k0_cond40 v0 v6 v12 v18 v24 v30 v36 v42 v48 v54 v60 v66 v72 v78 v84 v90 k0_t1 = 1#1), ∀ a, (k0_off147 v0 v6 v12 v18 v24 v30 v36 v42 v48 v54 v60 v66 v72 v78 v84 v90 k0_t1) a + S1x1024x1536.size a ≤ S2x7168x1536.size a) ∧
  (∀ k0_t1 : Fin (k0_t1_loop v0 v6 v12 v18 v24 v30 v36 v42 v48 v54 v60 v66 v72 v78 v84 v90).trips, ∀ (k0_h40 : k0_cond40 v0 v6 v12 v18 v24 v30 v36 v42 v48 v54 v60 v66 v72 v78 v84 v90 k0_t1 = 1#1), ∀ (hinb : ∀ a, (k0_off147 v0 v6 v12 v18 v24 v30 v36 v42 v48 v54 v60 v66 v72 v78 v84 v90 k0_t1) a + S1x1024x1536.size a ≤ S2x7168x1536.size a), (Rect.unit (s := S2x7168x1536) (k0_off147 v0 v6 v12 v18 v24 v30 v36 v42 v48 v54 v60 v66 v72 v78 v84 v90 k0_t1) S1x1024x1536.size hinb).WholeWords (EltTy.packing .fp8e4m3)) ∧
  (∀ k0_t1 : Fin (k0_t1_loop v0 v6 v12 v18 v24 v30 v36 v42 v48 v54 v60 v66 v72 v78 v84 v90).trips, ∀ a, (k0_off149 v0 v6 v12 v18 v24 v30 v36 v42 v48 v54 v60 v66 v72 v78 v84 v90 k0_t1) a + S1.size a ≤ S16.size a) ∧
  (∀ k0_t1 : Fin (k0_t1_loop v0 v6 v12 v18 v24 v30 v36 v42 v48 v54 v60 v66 v72 v78 v84 v90).trips, ∀ a, (k0_off150 v0 v6 v12 v18 v24 v30 v36 v42 v48 v54 v60 v66 v72 v78 v84 v90 k0_t1) a + S1x1.size a ≤ S2x7.size a) ∧
  (∀ k0_t1 : Fin (k0_t1_loop v0 v6 v12 v18 v24 v30 v36 v42 v48 v54 v60 v66 v72 v78 v84 v90).trips, ∀ a, (k0_off151 v0 v6 v12 v18 v24 v30 v36 v42 v48 v54 v60 v66 v72 v78 v84 v90 k0_t1) a + S1x1024x1536.size a ≤ S2x7168x1536.size a) ∧
  (∀ k0_t1 : Fin (k0_t1_loop v0 v6 v12 v18 v24 v30 v36 v42 v48 v54 v60 v66 v72 v78 v84 v90).trips, ∀ (hinb : ∀ a, (k0_off151 v0 v6 v12 v18 v24 v30 v36 v42 v48 v54 v60 v66 v72 v78 v84 v90 k0_t1) a + S1x1024x1536.size a ≤ S2x7168x1536.size a), (Rect.unit (s := S2x7168x1536) (k0_off151 v0 v6 v12 v18 v24 v30 v36 v42 v48 v54 v60 v66 v72 v78 v84 v90 k0_t1) S1x1024x1536.size hinb).WholeWords (EltTy.packing .fp8e4m3)) ∧
  (∀ k0_t1 : Fin (k0_t1_loop v0 v6 v12 v18 v24 v30 v36 v42 v48 v54 v60 v66 v72 v78 v84 v90).trips, ∀ a, (k0_off153 v0 v6 v12 v18 v24 v30 v36 v42 v48 v54 v60 v66 v72 v78 v84 v90 k0_t1) a + S1x256x1536.size a ≤ S2x7168x1536.size a) ∧
  (∀ k0_t1 : Fin (k0_t1_loop v0 v6 v12 v18 v24 v30 v36 v42 v48 v54 v60 v66 v72 v78 v84 v90).trips, ∀ a, (k0_off154 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off154 v0 v6 v12 v18 v24 v30 v36 v42 v48 v54 v60 v66 v72 v78 v84 v90 k0_t1) a + S1x24x128.size a ≤ S2x24x7168.size a), (Rect.unit (s := S2x24x7168) (k0_off154 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off155 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off155 v0 v6 v12 v18 v24 v30 v36 v42 v48 v54 v60 v66 v72 v78 v84 v90 k0_t1) a + S1x24x128.size a ≤ S2x24x7168.size a), (Rect.unit (s := S2x24x7168) (k0_off155 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off156 v0 v6 v12 v18 v24 v30 v36 v42 v48 v54 v60 v66 v72 v78 v84 v90 k0_t1) a + S1x256x1536.size a ≤ S2x7168x1536.size a) ∧
  (∀ k0_t1 : Fin (k0_t1_loop v0 v6 v12 v18 v24 v30 v36 v42 v48 v54 v60 v66 v72 v78 v84 v90).trips, ∀ a, (k0_off157 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off157 v0 v6 v12 v18 v24 v30 v36 v42 v48 v54 v60 v66 v72 v78 v84 v90 k0_t1) a + S1x24x128.size a ≤ S2x24x7168.size a), (Rect.unit (s := S2x24x7168) (k0_off157 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off158 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off158 v0 v6 v12 v18 v24 v30 v36 v42 v48 v54 v60 v66 v72 v78 v84 v90 k0_t1) a + S1x24x128.size a ≤ S2x24x7168.size a), (Rect.unit (s := S2x24x7168) (k0_off158 v0 v6 v12 v18 v24 v30 v36 v42 v48 v54 v60 v66 v72 v78 v84 v90 k0_t1) S1x24x128.size hinb).PackedRows (EltTy.packing .bf16))
def k0_chk15_5 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) : Prop :=
  (∀ k0_t1 : Fin (k0_t1_loop v0 v6 v12 v18 v24 v30 v36 v42 v48 v54 v60 v66 v72 v78 v84 v90).trips, ∀ a, (k0_off159 v0 v6 v12 v18 v24 v30 v36 v42 v48 v54 v60 v66 v72 v78 v84 v90 k0_t1) a + S1x256x1536.size a ≤ S2x7168x1536.size a) ∧
  (∀ k0_t1 : Fin (k0_t1_loop v0 v6 v12 v18 v24 v30 v36 v42 v48 v54 v60 v66 v72 v78 v84 v90).trips, ∀ a, (k0_off160 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off160 v0 v6 v12 v18 v24 v30 v36 v42 v48 v54 v60 v66 v72 v78 v84 v90 k0_t1) a + S1x24x128.size a ≤ S2x24x7168.size a), (Rect.unit (s := S2x24x7168) (k0_off160 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off161 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off161 v0 v6 v12 v18 v24 v30 v36 v42 v48 v54 v60 v66 v72 v78 v84 v90 k0_t1) a + S1x24x128.size a ≤ S2x24x7168.size a), (Rect.unit (s := S2x24x7168) (k0_off161 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off162 v0 v6 v12 v18 v24 v30 v36 v42 v48 v54 v60 v66 v72 v78 v84 v90 k0_t1) a + S1x256x1536.size a ≤ S2x7168x1536.size a) ∧
  (∀ k0_t1 : Fin (k0_t1_loop v0 v6 v12 v18 v24 v30 v36 v42 v48 v54 v60 v66 v72 v78 v84 v90).trips, ∀ a, (k0_off163 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off163 v0 v6 v12 v18 v24 v30 v36 v42 v48 v54 v60 v66 v72 v78 v84 v90 k0_t1) a + S1x24x128.size a ≤ S2x24x7168.size a), (Rect.unit (s := S2x24x7168) (k0_off163 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off164 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off164 v0 v6 v12 v18 v24 v30 v36 v42 v48 v54 v60 v66 v72 v78 v84 v90 k0_t1) a + S1x24x128.size a ≤ S2x24x7168.size a), (Rect.unit (s := S2x24x7168) (k0_off164 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ (k0_h41 : k0_cond41 v0 v6 v12 v18 v24 v30 v36 v42 v48 v54 v60 v66 v72 v78 v84 v90 k0_t1 = 1#1), ∀ a, (k0_off165 v0 v6 v12 v18 v24 v30 v36 v42 v48 v54 v60 v66 v72 v78 v84 v90 k0_t1) a + S1.size a ≤ S16.size a) ∧
  (∀ k0_t1 : Fin (k0_t1_loop v0 v6 v12 v18 v24 v30 v36 v42 v48 v54 v60 v66 v72 v78 v84 v90).trips, ∀ (k0_h41 : k0_cond41 v0 v6 v12 v18 v24 v30 v36 v42 v48 v54 v60 v66 v72 v78 v84 v90 k0_t1 = 1#1), ∀ a, (k0_off166 v0 v6 v12 v18 v24 v30 v36 v42 v48 v54 v60 v66 v72 v78 v84 v90 k0_t1) a + S1x1.size a ≤ S2x7.size a) ∧
  (∀ k0_t1 : Fin (k0_t1_loop v0 v6 v12 v18 v24 v30 v36 v42 v48 v54 v60 v66 v72 v78 v84 v90).trips, ∀ (k0_h41 : k0_cond41 v0 v6 v12 v18 v24 v30 v36 v42 v48 v54 v60 v66 v72 v78 v84 v90 k0_t1 = 1#1), ∀ a, (k0_off167 v0 v6 v12 v18 v24 v30 v36 v42 v48 v54 v60 v66 v72 v78 v84 v90 k0_t1) a + S1x1024x1536.size a ≤ S2x7168x1536.size a) ∧
  (∀ k0_t1 : Fin (k0_t1_loop v0 v6 v12 v18 v24 v30 v36 v42 v48 v54 v60 v66 v72 v78 v84 v90).trips, ∀ (k0_h41 : k0_cond41 v0 v6 v12 v18 v24 v30 v36 v42 v48 v54 v60 v66 v72 v78 v84 v90 k0_t1 = 1#1), ∀ (hinb : ∀ a, (k0_off167 v0 v6 v12 v18 v24 v30 v36 v42 v48 v54 v60 v66 v72 v78 v84 v90 k0_t1) a + S1x1024x1536.size a ≤ S2x7168x1536.size a), (Rect.unit (s := S2x7168x1536) (k0_off167 v0 v6 v12 v18 v24 v30 v36 v42 v48 v54 v60 v66 v72 v78 v84 v90 k0_t1) S1x1024x1536.size hinb).WholeWords (EltTy.packing .fp8e4m3)) ∧
  (∀ k0_t1 : Fin (k0_t1_loop v0 v6 v12 v18 v24 v30 v36 v42 v48 v54 v60 v66 v72 v78 v84 v90).trips, ∀ a, (k0_off169 v0 v6 v12 v18 v24 v30 v36 v42 v48 v54 v60 v66 v72 v78 v84 v90 k0_t1) a + S1.size a ≤ S16.size a) ∧
  (∀ k0_t1 : Fin (k0_t1_loop v0 v6 v12 v18 v24 v30 v36 v42 v48 v54 v60 v66 v72 v78 v84 v90).trips, ∀ a, (k0_off170 v0 v6 v12 v18 v24 v30 v36 v42 v48 v54 v60 v66 v72 v78 v84 v90 k0_t1) a + S1x1.size a ≤ S2x7.size a) ∧
  (∀ k0_t1 : Fin (k0_t1_loop v0 v6 v12 v18 v24 v30 v36 v42 v48 v54 v60 v66 v72 v78 v84 v90).trips, ∀ a, (k0_off171 v0 v6 v12 v18 v24 v30 v36 v42 v48 v54 v60 v66 v72 v78 v84 v90 k0_t1) a + S1x1024x1536.size a ≤ S2x7168x1536.size a) ∧
  (∀ k0_t1 : Fin (k0_t1_loop v0 v6 v12 v18 v24 v30 v36 v42 v48 v54 v60 v66 v72 v78 v84 v90).trips, ∀ (hinb : ∀ a, (k0_off171 v0 v6 v12 v18 v24 v30 v36 v42 v48 v54 v60 v66 v72 v78 v84 v90 k0_t1) a + S1x1024x1536.size a ≤ S2x7168x1536.size a), (Rect.unit (s := S2x7168x1536) (k0_off171 v0 v6 v12 v18 v24 v30 v36 v42 v48 v54 v60 v66 v72 v78 v84 v90 k0_t1) S1x1024x1536.size hinb).WholeWords (EltTy.packing .fp8e4m3)) ∧
  (∀ k0_t1 : Fin (k0_t1_loop v0 v6 v12 v18 v24 v30 v36 v42 v48 v54 v60 v66 v72 v78 v84 v90).trips, ∀ a, (k0_off173 v0 v6 v12 v18 v24 v30 v36 v42 v48 v54 v60 v66 v72 v78 v84 v90 k0_t1) a + S1x256x1536.size a ≤ S2x7168x1536.size a) ∧
  (∀ k0_t1 : Fin (k0_t1_loop v0 v6 v12 v18 v24 v30 v36 v42 v48 v54 v60 v66 v72 v78 v84 v90).trips, ∀ a, (k0_off174 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off174 v0 v6 v12 v18 v24 v30 v36 v42 v48 v54 v60 v66 v72 v78 v84 v90 k0_t1) a + S1x24x128.size a ≤ S2x24x7168.size a), (Rect.unit (s := S2x24x7168) (k0_off174 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off175 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off175 v0 v6 v12 v18 v24 v30 v36 v42 v48 v54 v60 v66 v72 v78 v84 v90 k0_t1) a + S1x24x128.size a ≤ S2x24x7168.size a), (Rect.unit (s := S2x24x7168) (k0_off175 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off176 v0 v6 v12 v18 v24 v30 v36 v42 v48 v54 v60 v66 v72 v78 v84 v90 k0_t1) a + S1x256x1536.size a ≤ S2x7168x1536.size a) ∧
  (∀ k0_t1 : Fin (k0_t1_loop v0 v6 v12 v18 v24 v30 v36 v42 v48 v54 v60 v66 v72 v78 v84 v90).trips, ∀ a, (k0_off177 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off177 v0 v6 v12 v18 v24 v30 v36 v42 v48 v54 v60 v66 v72 v78 v84 v90 k0_t1) a + S1x24x128.size a ≤ S2x24x7168.size a), (Rect.unit (s := S2x24x7168) (k0_off177 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off178 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off178 v0 v6 v12 v18 v24 v30 v36 v42 v48 v54 v60 v66 v72 v78 v84 v90 k0_t1) a + S1x24x128.size a ≤ S2x24x7168.size a), (Rect.unit (s := S2x24x7168) (k0_off178 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off179 v0 v6 v12 v18 v24 v30 v36 v42 v48 v54 v60 v66 v72 v78 v84 v90 k0_t1) a + S1x256x1536.size a ≤ S2x7168x1536.size a) ∧
  (∀ k0_t1 : Fin (k0_t1_loop v0 v6 v12 v18 v24 v30 v36 v42 v48 v54 v60 v66 v72 v78 v84 v90).trips, ∀ a, (k0_off180 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off180 v0 v6 v12 v18 v24 v30 v36 v42 v48 v54 v60 v66 v72 v78 v84 v90 k0_t1) a + S1x24x128.size a ≤ S2x24x7168.size a), (Rect.unit (s := S2x24x7168) (k0_off180 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off181 v0 v6 v12 v18 v24 v30 v36 v42 v48 v54 v60 v66 v72 v78 v84 v90 k0_t1) a + S1x24x128.size a ≤ S2x24x7168.size a)
def k0_chk15_6 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) : Prop :=
  (∀ k0_t1 : Fin (k0_t1_loop v0 v6 v12 v18 v24 v30 v36 v42 v48 v54 v60 v66 v72 v78 v84 v90).trips, ∀ (hinb : ∀ a, (k0_off181 v0 v6 v12 v18 v24 v30 v36 v42 v48 v54 v60 v66 v72 v78 v84 v90 k0_t1) a + S1x24x128.size a ≤ S2x24x7168.size a), (Rect.unit (s := S2x24x7168) (k0_off181 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off182 v0 v6 v12 v18 v24 v30 v36 v42 v48 v54 v60 v66 v72 v78 v84 v90 k0_t1) a + S1x256x1536.size a ≤ S2x7168x1536.size a) ∧
  (∀ k0_t1 : Fin (k0_t1_loop v0 v6 v12 v18 v24 v30 v36 v42 v48 v54 v60 v66 v72 v78 v84 v90).trips, ∀ a, (k0_off183 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off183 v0 v6 v12 v18 v24 v30 v36 v42 v48 v54 v60 v66 v72 v78 v84 v90 k0_t1) a + S1x24x128.size a ≤ S2x24x7168.size a), (Rect.unit (s := S2x24x7168) (k0_off183 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off184 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off184 v0 v6 v12 v18 v24 v30 v36 v42 v48 v54 v60 v66 v72 v78 v84 v90 k0_t1) a + S1x24x128.size a ≤ S2x24x7168.size a), (Rect.unit (s := S2x24x7168) (k0_off184 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ (k0_h42 : k0_cond42 v0 v6 v12 v18 v24 v30 v36 v42 v48 v54 v60 v66 v72 v78 v84 v90 k0_t1 = 1#1), ∀ a, (k0_off185 v0 v6 v12 v18 v24 v30 v36 v42 v48 v54 v60 v66 v72 v78 v84 v90 k0_t1) a + S1.size a ≤ S16.size a) ∧
  (∀ k0_t1 : Fin (k0_t1_loop v0 v6 v12 v18 v24 v30 v36 v42 v48 v54 v60 v66 v72 v78 v84 v90).trips, ∀ (k0_h42 : k0_cond42 v0 v6 v12 v18 v24 v30 v36 v42 v48 v54 v60 v66 v72 v78 v84 v90 k0_t1 = 1#1), ∀ a, (k0_off186 v0 v6 v12 v18 v24 v30 v36 v42 v48 v54 v60 v66 v72 v78 v84 v90 k0_t1) a + S1x1.size a ≤ S2x7.size a) ∧
  (∀ k0_t1 : Fin (k0_t1_loop v0 v6 v12 v18 v24 v30 v36 v42 v48 v54 v60 v66 v72 v78 v84 v90).trips, ∀ (k0_h42 : k0_cond42 v0 v6 v12 v18 v24 v30 v36 v42 v48 v54 v60 v66 v72 v78 v84 v90 k0_t1 = 1#1), ∀ a, (k0_off187 v0 v6 v12 v18 v24 v30 v36 v42 v48 v54 v60 v66 v72 v78 v84 v90 k0_t1) a + S1x1024x1536.size a ≤ S2x7168x1536.size a) ∧
  (∀ k0_t1 : Fin (k0_t1_loop v0 v6 v12 v18 v24 v30 v36 v42 v48 v54 v60 v66 v72 v78 v84 v90).trips, ∀ (k0_h42 : k0_cond42 v0 v6 v12 v18 v24 v30 v36 v42 v48 v54 v60 v66 v72 v78 v84 v90 k0_t1 = 1#1), ∀ (hinb : ∀ a, (k0_off187 v0 v6 v12 v18 v24 v30 v36 v42 v48 v54 v60 v66 v72 v78 v84 v90 k0_t1) a + S1x1024x1536.size a ≤ S2x7168x1536.size a), (Rect.unit (s := S2x7168x1536) (k0_off187 v0 v6 v12 v18 v24 v30 v36 v42 v48 v54 v60 v66 v72 v78 v84 v90 k0_t1) S1x1024x1536.size hinb).WholeWords (EltTy.packing .fp8e4m3)) ∧
  (∀ k0_t1 : Fin (k0_t1_loop v0 v6 v12 v18 v24 v30 v36 v42 v48 v54 v60 v66 v72 v78 v84 v90).trips, ∀ a, (k0_off189 v0 v6 v12 v18 v24 v30 v36 v42 v48 v54 v60 v66 v72 v78 v84 v90 k0_t1) a + S1.size a ≤ S16.size a) ∧
  (∀ k0_t1 : Fin (k0_t1_loop v0 v6 v12 v18 v24 v30 v36 v42 v48 v54 v60 v66 v72 v78 v84 v90).trips, ∀ a, (k0_off190 v0 v6 v12 v18 v24 v30 v36 v42 v48 v54 v60 v66 v72 v78 v84 v90 k0_t1) a + S1x1.size a ≤ S2x7.size a) ∧
  (∀ k0_t1 : Fin (k0_t1_loop v0 v6 v12 v18 v24 v30 v36 v42 v48 v54 v60 v66 v72 v78 v84 v90).trips, ∀ a, (k0_off191 v0 v6 v12 v18 v24 v30 v36 v42 v48 v54 v60 v66 v72 v78 v84 v90 k0_t1) a + S1x1024x1536.size a ≤ S2x7168x1536.size a) ∧
  (∀ k0_t1 : Fin (k0_t1_loop v0 v6 v12 v18 v24 v30 v36 v42 v48 v54 v60 v66 v72 v78 v84 v90).trips, ∀ (hinb : ∀ a, (k0_off191 v0 v6 v12 v18 v24 v30 v36 v42 v48 v54 v60 v66 v72 v78 v84 v90 k0_t1) a + S1x1024x1536.size a ≤ S2x7168x1536.size a), (Rect.unit (s := S2x7168x1536) (k0_off191 v0 v6 v12 v18 v24 v30 v36 v42 v48 v54 v60 v66 v72 v78 v84 v90 k0_t1) S1x1024x1536.size hinb).WholeWords (EltTy.packing .fp8e4m3)) ∧
  (∀ k0_t1 : Fin (k0_t1_loop v0 v6 v12 v18 v24 v30 v36 v42 v48 v54 v60 v66 v72 v78 v84 v90).trips, ∀ a, (k0_off193 v0 v6 v12 v18 v24 v30 v36 v42 v48 v54 v60 v66 v72 v78 v84 v90 k0_t1) a + S1x256x1536.size a ≤ S2x7168x1536.size a) ∧
  (∀ k0_t1 : Fin (k0_t1_loop v0 v6 v12 v18 v24 v30 v36 v42 v48 v54 v60 v66 v72 v78 v84 v90).trips, ∀ a, (k0_off194 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off194 v0 v6 v12 v18 v24 v30 v36 v42 v48 v54 v60 v66 v72 v78 v84 v90 k0_t1) a + S1x24x128.size a ≤ S2x24x7168.size a), (Rect.unit (s := S2x24x7168) (k0_off194 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off195 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off195 v0 v6 v12 v18 v24 v30 v36 v42 v48 v54 v60 v66 v72 v78 v84 v90 k0_t1) a + S1x24x128.size a ≤ S2x24x7168.size a), (Rect.unit (s := S2x24x7168) (k0_off195 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off196 v0 v6 v12 v18 v24 v30 v36 v42 v48 v54 v60 v66 v72 v78 v84 v90 k0_t1) a + S1x256x1536.size a ≤ S2x7168x1536.size a) ∧
  (∀ k0_t1 : Fin (k0_t1_loop v0 v6 v12 v18 v24 v30 v36 v42 v48 v54 v60 v66 v72 v78 v84 v90).trips, ∀ a, (k0_off197 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off197 v0 v6 v12 v18 v24 v30 v36 v42 v48 v54 v60 v66 v72 v78 v84 v90 k0_t1) a + S1x24x128.size a ≤ S2x24x7168.size a), (Rect.unit (s := S2x24x7168) (k0_off197 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off198 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off198 v0 v6 v12 v18 v24 v30 v36 v42 v48 v54 v60 v66 v72 v78 v84 v90 k0_t1) a + S1x24x128.size a ≤ S2x24x7168.size a), (Rect.unit (s := S2x24x7168) (k0_off198 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off199 v0 v6 v12 v18 v24 v30 v36 v42 v48 v54 v60 v66 v72 v78 v84 v90 k0_t1) a + S1x256x1536.size a ≤ S2x7168x1536.size a) ∧
  (∀ k0_t1 : Fin (k0_t1_loop v0 v6 v12 v18 v24 v30 v36 v42 v48 v54 v60 v66 v72 v78 v84 v90).trips, ∀ a, (k0_off200 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off200 v0 v6 v12 v18 v24 v30 v36 v42 v48 v54 v60 v66 v72 v78 v84 v90 k0_t1) a + S1x24x128.size a ≤ S2x24x7168.size a), (Rect.unit (s := S2x24x7168) (k0_off200 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off201 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off201 v0 v6 v12 v18 v24 v30 v36 v42 v48 v54 v60 v66 v72 v78 v84 v90 k0_t1) a + S1x24x128.size a ≤ S2x24x7168.size a), (Rect.unit (s := S2x24x7168) (k0_off201 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ a, (k0_off202 v0 v6 v12 v18 v24 v30 v36 v42 v48 v54 v60 v66 v72 v78 v84 v90 k0_t1) a + S1x256x1536.size a ≤ S2x7168x1536.size a) ∧
  (∀ k0_t1 : Fin (k0_t1_loop v0 v6 v12 v18 v24 v30 v36 v42 v48 v54 v60 v66 v72 v78 v84 v90).trips, ∀ a, (k0_off203 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off203 v0 v6 v12 v18 v24 v30 v36 v42 v48 v54 v60 v66 v72 v78 v84 v90 k0_t1) a + S1x24x128.size a ≤ S2x24x7168.size a), (Rect.unit (s := S2x24x7168) (k0_off203 v0 v6 v12 v18 v24 v30 v36 v42 v48 v54 v60 v66 v72 v78 v84 v90 k0_t1) S1x24x128.size hinb).PackedRows (EltTy.packing .bf16))
def k0_chk15_7 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) : Prop :=
  (∀ k0_t1 : Fin (k0_t1_loop v0 v6 v12 v18 v24 v30 v36 v42 v48 v54 v60 v66 v72 v78 v84 v90).trips, ∀ a, (k0_off204 v0 v6 v12 v18 v24 v30 v36 v42 v48 v54 v60 v66 v72 v78 v84 v90 k0_t1) a + S1x24x128.size a ≤ S2x24x7168.size a) ∧
  (∀ k0_t1 : Fin (k0_t1_loop v0 v6 v12 v18 v24 v30 v36 v42 v48 v54 v60 v66 v72 v78 v84 v90).trips, ∀ (hinb : ∀ a, (k0_off204 v0 v6 v12 v18 v24 v30 v36 v42 v48 v54 v60 v66 v72 v78 v84 v90 k0_t1) a + S1x24x128.size a ≤ S2x24x7168.size a), (Rect.unit (s := S2x24x7168) (k0_off204 v0 v6 v12 v18 v24 v30 v36 v42 v48 v54 v60 v66 v72 v78 v84 v90 k0_t1) S1x24x128.size hinb).PackedRows (EltTy.packing .bf16)) ∧
  (∀ k0_t1 : Fin (k0_t1_loop v0 v6 v12 v18 v24 v30 v36 v42 v48 v54 v60 v66 v72 v78 v84 v90).trips, ∀ (k0_h43 : k0_cond43 v0 v6 v12 v18 v24 v30 v36 v42 v48 v54 v60 v66 v72 v78 v84 v90 k0_t1 = 1#1), ∀ a, (k0_off205 v0 v6 v12 v18 v24 v30 v36 v42 v48 v54 v60 v66 v72 v78 v84 v90 k0_t1) a + S1.size a ≤ S16.size a) ∧
  (∀ k0_t1 : Fin (k0_t1_loop v0 v6 v12 v18 v24 v30 v36 v42 v48 v54 v60 v66 v72 v78 v84 v90).trips, ∀ (k0_h43 : k0_cond43 v0 v6 v12 v18 v24 v30 v36 v42 v48 v54 v60 v66 v72 v78 v84 v90 k0_t1 = 1#1), ∀ a, (k0_off206 v0 v6 v12 v18 v24 v30 v36 v42 v48 v54 v60 v66 v72 v78 v84 v90 k0_t1) a + S1x1.size a ≤ S2x7.size a) ∧
  (∀ k0_t1 : Fin (k0_t1_loop v0 v6 v12 v18 v24 v30 v36 v42 v48 v54 v60 v66 v72 v78 v84 v90).trips, ∀ (k0_h43 : k0_cond43 v0 v6 v12 v18 v24 v30 v36 v42 v48 v54 v60 v66 v72 v78 v84 v90 k0_t1 = 1#1), ∀ a, (k0_off207 v0 v6 v12 v18 v24 v30 v36 v42 v48 v54 v60 v66 v72 v78 v84 v90 k0_t1) a + S1x1024x1536.size a ≤ S2x7168x1536.size a) ∧
  (∀ k0_t1 : Fin (k0_t1_loop v0 v6 v12 v18 v24 v30 v36 v42 v48 v54 v60 v66 v72 v78 v84 v90).trips, ∀ (k0_h43 : k0_cond43 v0 v6 v12 v18 v24 v30 v36 v42 v48 v54 v60 v66 v72 v78 v84 v90 k0_t1 = 1#1), ∀ (hinb : ∀ a, (k0_off207 v0 v6 v12 v18 v24 v30 v36 v42 v48 v54 v60 v66 v72 v78 v84 v90 k0_t1) a + S1x1024x1536.size a ≤ S2x7168x1536.size a), (Rect.unit (s := S2x7168x1536) (k0_off207 v0 v6 v12 v18 v24 v30 v36 v42 v48 v54 v60 v66 v72 v78 v84 v90 k0_t1) S1x1024x1536.size hinb).WholeWords (EltTy.packing .fp8e4m3)) ∧
  (∀ k0_t1 : Fin (k0_t1_loop v0 v6 v12 v18 v24 v30 v36 v42 v48 v54 v60 v66 v72 v78 v84 v90).trips, ∀ a, (k0_off209 v0 v6 v12 v18 v24 v30 v36 v42 v48 v54 v60 v66 v72 v78 v84 v90 k0_t1) a + S1.size a ≤ S16.size a) ∧
  (∀ k0_t1 : Fin (k0_t1_loop v0 v6 v12 v18 v24 v30 v36 v42 v48 v54 v60 v66 v72 v78 v84 v90).trips, ∀ a, (k0_off210 v0 v6 v12 v18 v24 v30 v36 v42 v48 v54 v60 v66 v72 v78 v84 v90 k0_t1) a + S1.size a ≤ S2.size a) ∧
  (∀ k0_t1 : Fin (k0_t1_loop v0 v6 v12 v18 v24 v30 v36 v42 v48 v54 v60 v66 v72 v78 v84 v90).trips, ∀ a, (k0_off212 v0 v6 v12 v18 v24 v30 v36 v42 v48 v54 v60 v66 v72 v78 v84 v90 k0_t1) a + S1x24x7168.size a ≤ S2x24x7168.size a) ∧
  (∀ k0_t1 : Fin (k0_t1_loop v0 v6 v12 v18 v24 v30 v36 v42 v48 v54 v60 v66 v72 v78 v84 v90).trips, ∀ (hinb : ∀ a, (k0_off212 v0 v6 v12 v18 v24 v30 v36 v42 v48 v54 v60 v66 v72 v78 v84 v90 k0_t1) a + S1x24x7168.size a ≤ S2x24x7168.size a), (Rect.unit (s := S2x24x7168) (k0_off212 v0 v6 v12 v18 v24 v30 v36 v42 v48 v54 v60 v66 v72 v78 v84 v90 k0_t1) S1x24x7168.size hinb).WholeWords (EltTy.packing .bf16)) ∧
  ((k0_t2_loop v0 v6 v12 v18 v24 v30 v36 v42 v48 v54 v60 v66 v72 v78 v84 v90).OK) ∧
  (∀ k0_t2 : Fin (k0_t2_loop v0 v6 v12 v18 v24 v30 v36 v42 v48 v54 v60 v66 v72 v78 v84 v90).trips, ∀ a, (k0_off213 v0 v6 v12 v18 v24 v30 v36 v42 v48 v54 v60 v66 v72 v78 v84 v90 k0_t2) a + S1.size a ≤ S16.size a) ∧
  (∀ k0_t2 : Fin (k0_t2_loop v0 v6 v12 v18 v24 v30 v36 v42 v48 v54 v60 v66 v72 v78 v84 v90).trips, ∀ a, (k0_off215 v0 v6 v12 v18 v24 v30 v36 v42 v48 v54 v60 v66 v72 v78 v84 v90 k0_t2) a + S1.size a ≤ S16.size a) ∧
  (∀ k0_t2 : Fin (k0_t2_loop v0 v6 v12 v18 v24 v30 v36 v42 v48 v54 v60 v66 v72 v78 v84 v90).trips, ∀ a, (k0_off216 v0 v6 v12 v18 v24 v30 v36 v42 v48 v54 v60 v66 v72 v78 v84 v90 k0_t2) a + S1.size a ≤ S2.size a) ∧
  (∀ k0_t2 : Fin (k0_t2_loop v0 v6 v12 v18 v24 v30 v36 v42 v48 v54 v60 v66 v72 v78 v84 v90).trips, ∀ a, (k0_off217 v0 v6 v12 v18 v24 v30 v36 v42 v48 v54 v60 v66 v72 v78 v84 v90 k0_t2) a + S1x24x1536.size a ≤ S2x24x1536.size a) ∧
  (∀ k0_t2 : Fin (k0_t2_loop v0 v6 v12 v18 v24 v30 v36 v42 v48 v54 v60 v66 v72 v78 v84 v90).trips, ∀ (hinb : ∀ a, (k0_off217 v0 v6 v12 v18 v24 v30 v36 v42 v48 v54 v60 v66 v72 v78 v84 v90 k0_t2) a + S1x24x1536.size a ≤ S2x24x1536.size a), (Rect.unit (s := S2x24x1536) (k0_off217 v0 v6 v12 v18 v24 v30 v36 v42 v48 v54 v60 v66 v72 v78 v84 v90 k0_t2) S1x24x1536.size hinb).WholeWords (EltTy.packing .bf16)) ∧
  (∀ k0_t2 : Fin (k0_t2_loop v0 v6 v12 v18 v24 v30 v36 v42 v48 v54 v60 v66 v72 v78 v84 v90).trips, ∀ a, (k0_off219 v0 v6 v12 v18 v24 v30 v36 v42 v48 v54 v60 v66 v72 v78 v84 v90 k0_t2) a + S1.size a ≤ S16.size a) ∧
  (∀ k0_t2 : Fin (k0_t2_loop v0 v6 v12 v18 v24 v30 v36 v42 v48 v54 v60 v66 v72 v78 v84 v90).trips, ∀ a, (k0_off220 v0 v6 v12 v18 v24 v30 v36 v42 v48 v54 v60 v66 v72 v78 v84 v90 k0_t2) a + S1.size a ≤ S2.size a) ∧
  (∀ k0_t2 : Fin (k0_t2_loop v0 v6 v12 v18 v24 v30 v36 v42 v48 v54 v60 v66 v72 v78 v84 v90).trips, ∀ a, (k0_off221 v0 v6 v12 v18 v24 v30 v36 v42 v48 v54 v60 v66 v72 v78 v84 v90 k0_t2) a + S1x56x12.size a ≤ S2x56x12.size a) ∧
  (∀ k0_t2 : Fin (k0_t2_loop v0 v6 v12 v18 v24 v30 v36 v42 v48 v54 v60 v66 v72 v78 v84 v90).trips, ∀ a, (k0_off223 v0 v6 v12 v18 v24 v30 v36 v42 v48 v54 v60 v66 v72 v78 v84 v90 k0_t2) a + S1x56x12.size a ≤ S2x56x12.size a) ∧
  (∀ k0_t2 : Fin (k0_t2_loop v0 v6 v12 v18 v24 v30 v36 v42 v48 v54 v60 v66 v72 v78 v84 v90).trips, ∀ a, (k0_off224 v0 v6 v12 v18 v24 v30 v36 v42 v48 v54 v60 v66 v72 v78 v84 v90 k0_t2) a + S1x24x128.size a ≤ S2x24x1536.size a) ∧
  (∀ k0_t2 : Fin (k0_t2_loop v0 v6 v12 v18 v24 v30 v36 v42 v48 v54 v60 v66 v72 v78 v84 v90).trips, ∀ a, (k0_off225 v0 v6 v12 v18 v24 v30 v36 v42 v48 v54 v60 v66 v72 v78 v84 v90 k0_t2) a + S1x24x128.size a ≤ S2x24x1536.size a) ∧
  (∀ k0_t2 : Fin (k0_t2_loop v0 v6 v12 v18 v24 v30 v36 v42 v48 v54 v60 v66 v72 v78 v84 v90).trips, ∀ a, (k0_off226 v0 v6 v12 v18 v24 v30 v36 v42 v48 v54 v60 v66 v72 v78 v84 v90 k0_t2) a + S1x24x128.size a ≤ S2x24x1536.size a) ∧
  (∀ k0_t2 : Fin (k0_t2_loop v0 v6 v12 v18 v24 v30 v36 v42 v48 v54 v60 v66 v72 v78 v84 v90).trips, ∀ a, (k0_off227 v0 v6 v12 v18 v24 v30 v36 v42 v48 v54 v60 v66 v72 v78 v84 v90 k0_t2) a + S1x24x128.size a ≤ S2x24x1536.size a) ∧
  (∀ k0_t2 : Fin (k0_t2_loop v0 v6 v12 v18 v24 v30 v36 v42 v48 v54 v60 v66 v72 v78 v84 v90).trips, ∀ a, (k0_off228 v0 v6 v12 v18 v24 v30 v36 v42 v48 v54 v60 v66 v72 v78 v84 v90 k0_t2) a + S1x24x128.size a ≤ S2x24x1536.size a) ∧
  (∀ k0_t2 : Fin (k0_t2_loop v0 v6 v12 v18 v24 v30 v36 v42 v48 v54 v60 v66 v72 v78 v84 v90).trips, ∀ a, (k0_off229 v0 v6 v12 v18 v24 v30 v36 v42 v48 v54 v60 v66 v72 v78 v84 v90 k0_t2) a + S1x24x128.size a ≤ S2x24x1536.size a) ∧
  (∀ k0_t2 : Fin (k0_t2_loop v0 v6 v12 v18 v24 v30 v36 v42 v48 v54 v60 v66 v72 v78 v84 v90).trips, ∀ a, (k0_off230 v0 v6 v12 v18 v24 v30 v36 v42 v48 v54 v60 v66 v72 v78 v84 v90 k0_t2) a + S1x24x128.size a ≤ S2x24x1536.size a) ∧
  (∀ k0_t2 : Fin (k0_t2_loop v0 v6 v12 v18 v24 v30 v36 v42 v48 v54 v60 v66 v72 v78 v84 v90).trips, ∀ a, (k0_off231 v0 v6 v12 v18 v24 v30 v36 v42 v48 v54 v60 v66 v72 v78 v84 v90 k0_t2) a + S1x24x128.size a ≤ S2x24x1536.size a) ∧
  (∀ k0_t2 : Fin (k0_t2_loop v0 v6 v12 v18 v24 v30 v36 v42 v48 v54 v60 v66 v72 v78 v84 v90).trips, ∀ a, (k0_off232 v0 v6 v12 v18 v24 v30 v36 v42 v48 v54 v60 v66 v72 v78 v84 v90 k0_t2) a + S1x24x128.size a ≤ S2x24x1536.size a) ∧
  (∀ k0_t2 : Fin (k0_t2_loop v0 v6 v12 v18 v24 v30 v36 v42 v48 v54 v60 v66 v72 v78 v84 v90).trips, ∀ a, (k0_off233 v0 v6 v12 v18 v24 v30 v36 v42 v48 v54 v60 v66 v72 v78 v84 v90 k0_t2) a + S1x24x128.size a ≤ S2x24x1536.size a) ∧
  (∀ k0_t2 : Fin (k0_t2_loop v0 v6 v12 v18 v24 v30 v36 v42 v48 v54 v60 v66 v72 v78 v84 v90).trips, ∀ a, (k0_off234 v0 v6 v12 v18 v24 v30 v36 v42 v48 v54 v60 v66 v72 v78 v84 v90 k0_t2) a + S1x24x128.size a ≤ S2x24x1536.size a) ∧
  (∀ k0_t2 : Fin (k0_t2_loop v0 v6 v12 v18 v24 v30 v36 v42 v48 v54 v60 v66 v72 v78 v84 v90).trips, ∀ a, (k0_off235 v0 v6 v12 v18 v24 v30 v36 v42 v48 v54 v60 v66 v72 v78 v84 v90 k0_t2) a + S1x24x128.size a ≤ S2x24x1536.size a)
def k0_chk15_8 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) : Prop :=
  (∀ k0_t2 : Fin (k0_t2_loop v0 v6 v12 v18 v24 v30 v36 v42 v48 v54 v60 v66 v72 v78 v84 v90).trips, ∀ (k0_h44 : k0_cond44 v0 v6 v12 v18 v24 v30 v36 v42 v48 v54 v60 v66 v72 v78 v84 v90 k0_t2 = 1#1), ∀ a, (k0_off236 v0 v6 v12 v18 v24 v30 v36 v42 v48 v54 v60 v66 v72 v78 v84 v90 k0_t2) a + S1.size a ≤ S16.size a) ∧
  (∀ k0_t2 : Fin (k0_t2_loop v0 v6 v12 v18 v24 v30 v36 v42 v48 v54 v60 v66 v72 v78 v84 v90).trips, ∀ (k0_h44 : k0_cond44 v0 v6 v12 v18 v24 v30 v36 v42 v48 v54 v60 v66 v72 v78 v84 v90 k0_t2 = 1#1), ∀ a, (k0_off237 v0 v6 v12 v18 v24 v30 v36 v42 v48 v54 v60 v66 v72 v78 v84 v90 k0_t2) a + S1.size a ≤ S2.size a) ∧
  (∀ k0_t2 : Fin (k0_t2_loop v0 v6 v12 v18 v24 v30 v36 v42 v48 v54 v60 v66 v72 v78 v84 v90).trips, ∀ (k0_h44 : k0_cond44 v0 v6 v12 v18 v24 v30 v36 v42 v48 v54 v60 v66 v72 v78 v84 v90 k0_t2 = 1#1), ∀ a, (k0_off239 v0 v6 v12 v18 v24 v30 v36 v42 v48 v54 v60 v66 v72 v78 v84 v90 k0_t2) a + S1x24x7168.size a ≤ S2x24x7168.size a) ∧
  (∀ k0_t2 : Fin (k0_t2_loop v0 v6 v12 v18 v24 v30 v36 v42 v48 v54 v60 v66 v72 v78 v84 v90).trips, ∀ (k0_h44 : k0_cond44 v0 v6 v12 v18 v24 v30 v36 v42 v48 v54 v60 v66 v72 v78 v84 v90 k0_t2 = 1#1), ∀ (hinb : ∀ a, (k0_off239 v0 v6 v12 v18 v24 v30 v36 v42 v48 v54 v60 v66 v72 v78 v84 v90 k0_t2) a + S1x24x7168.size a ≤ S2x24x7168.size a), (Rect.unit (s := S2x24x7168) (k0_off239 v0 v6 v12 v18 v24 v30 v36 v42 v48 v54 v60 v66 v72 v78 v84 v90 k0_t2) S1x24x7168.size hinb).WholeWords (EltTy.packing .bf16)) ∧
  (∀ k0_t2 : Fin (k0_t2_loop v0 v6 v12 v18 v24 v30 v36 v42 v48 v54 v60 v66 v72 v78 v84 v90).trips, ∀ (k0_h45 : k0_cond45 v0 v6 v12 v18 v24 v30 v36 v42 v48 v54 v60 v66 v72 v78 v84 v90 k0_t2 = 1#1), ∀ a, (k0_off240 v0 v6 v12 v18 v24 v30 v36 v42 v48 v54 v60 v66 v72 v78 v84 v90 k0_t2) a + S1.size a ≤ S16.size a) ∧
  (∀ k0_t2 : Fin (k0_t2_loop v0 v6 v12 v18 v24 v30 v36 v42 v48 v54 v60 v66 v72 v78 v84 v90).trips, ∀ (k0_h45 : k0_cond45 v0 v6 v12 v18 v24 v30 v36 v42 v48 v54 v60 v66 v72 v78 v84 v90 k0_t2 = 1#1), ∀ a, (k0_off241 v0 v6 v12 v18 v24 v30 v36 v42 v48 v54 v60 v66 v72 v78 v84 v90 k0_t2) a + S1.size a ≤ S2.size a) ∧
  (∀ k0_t2 : Fin (k0_t2_loop v0 v6 v12 v18 v24 v30 v36 v42 v48 v54 v60 v66 v72 v78 v84 v90).trips, ∀ (k0_h45 : k0_cond45 v0 v6 v12 v18 v24 v30 v36 v42 v48 v54 v60 v66 v72 v78 v84 v90 k0_t2 = 1#1), ∀ a, (k0_off242 v0 v6 v12 v18 v24 v30 v36 v42 v48 v54 v60 v66 v72 v78 v84 v90 k0_t2) a + S1x24x1536.size a ≤ S2x24x1536.size a) ∧
  (∀ k0_t2 : Fin (k0_t2_loop v0 v6 v12 v18 v24 v30 v36 v42 v48 v54 v60 v66 v72 v78 v84 v90).trips, ∀ (k0_h45 : k0_cond45 v0 v6 v12 v18 v24 v30 v36 v42 v48 v54 v60 v66 v72 v78 v84 v90 k0_t2 = 1#1), ∀ (hinb : ∀ a, (k0_off242 v0 v6 v12 v18 v24 v30 v36 v42 v48 v54 v60 v66 v72 v78 v84 v90 k0_t2) a + S1x24x1536.size a ≤ S2x24x1536.size a), (Rect.unit (s := S2x24x1536) (k0_off242 v0 v6 v12 v18 v24 v30 v36 v42 v48 v54 v60 v66 v72 v78 v84 v90 k0_t2) S1x24x1536.size hinb).WholeWords (EltTy.packing .bf16)) ∧
  (∀ k0_t2 : Fin (k0_t2_loop v0 v6 v12 v18 v24 v30 v36 v42 v48 v54 v60 v66 v72 v78 v84 v90).trips, ∀ (k0_h45 : k0_cond45 v0 v6 v12 v18 v24 v30 v36 v42 v48 v54 v60 v66 v72 v78 v84 v90 k0_t2 = 1#1), ∀ a, (k0_off244 v0 v6 v12 v18 v24 v30 v36 v42 v48 v54 v60 v66 v72 v78 v84 v90 k0_t2) a + S1.size a ≤ S16.size a) ∧
  (∀ k0_t2 : Fin (k0_t2_loop v0 v6 v12 v18 v24 v30 v36 v42 v48 v54 v60 v66 v72 v78 v84 v90).trips, ∀ (k0_h45 : k0_cond45 v0 v6 v12 v18 v24 v30 v36 v42 v48 v54 v60 v66 v72 v78 v84 v90 k0_t2 = 1#1), ∀ a, (k0_off245 v0 v6 v12 v18 v24 v30 v36 v42 v48 v54 v60 v66 v72 v78 v84 v90 k0_t2) a + S1.size a ≤ S2.size a) ∧
  (∀ k0_t2 : Fin (k0_t2_loop v0 v6 v12 v18 v24 v30 v36 v42 v48 v54 v60 v66 v72 v78 v84 v90).trips, ∀ (k0_h45 : k0_cond45 v0 v6 v12 v18 v24 v30 v36 v42 v48 v54 v60 v66 v72 v78 v84 v90 k0_t2 = 1#1), ∀ a, (k0_off246 v0 v6 v12 v18 v24 v30 v36 v42 v48 v54 v60 v66 v72 v78 v84 v90 k0_t2) a + S1x56x12.size a ≤ S2x56x12.size a) ∧
  (∀ k0_t2 : Fin (k0_t2_loop v0 v6 v12 v18 v24 v30 v36 v42 v48 v54 v60 v66 v72 v78 v84 v90).trips, ∀ a, (k0_off248 v0 v6 v12 v18 v24 v30 v36 v42 v48 v54 v60 v66 v72 v78 v84 v90 k0_t2) a + S1.size a ≤ S16.size a) ∧
  (∀ k0_t2 : Fin (k0_t2_loop v0 v6 v12 v18 v24 v30 v36 v42 v48 v54 v60 v66 v72 v78 v84 v90).trips, ∀ a, (k0_off249 v0 v6 v12 v18 v24 v30 v36 v42 v48 v54 v60 v66 v72 v78 v84 v90 k0_t2) a + S1x1.size a ≤ S2x7.size a) ∧
  (∀ k0_t2 : Fin (k0_t2_loop v0 v6 v12 v18 v24 v30 v36 v42 v48 v54 v60 v66 v72 v78 v84 v90).trips, ∀ a, (k0_off250 v0 v6 v12 v18 v24 v30 v36 v42 v48 v54 v60 v66 v72 v78 v84 v90 k0_t2) a + S1x1024x1536.size a ≤ S2x7168x1536.size a) ∧
  (∀ k0_t2 : Fin (k0_t2_loop v0 v6 v12 v18 v24 v30 v36 v42 v48 v54 v60 v66 v72 v78 v84 v90).trips, ∀ (hinb : ∀ a, (k0_off250 v0 v6 v12 v18 v24 v30 v36 v42 v48 v54 v60 v66 v72 v78 v84 v90 k0_t2) a + S1x1024x1536.size a ≤ S2x7168x1536.size a), (Rect.unit (s := S2x7168x1536) (k0_off250 v0 v6 v12 v18 v24 v30 v36 v42 v48 v54 v60 v66 v72 v78 v84 v90 k0_t2) S1x1024x1536.size hinb).WholeWords (EltTy.packing .fp8e4m3)) ∧
  (∀ k0_t2 : Fin (k0_t2_loop v0 v6 v12 v18 v24 v30 v36 v42 v48 v54 v60 v66 v72 v78 v84 v90).trips, ∀ a, (k0_off252 v0 v6 v12 v18 v24 v30 v36 v42 v48 v54 v60 v66 v72 v78 v84 v90 k0_t2) a + S1x256x1536.size a ≤ S2x7168x1536.size a) ∧
  (∀ k0_t2 : Fin (k0_t2_loop v0 v6 v12 v18 v24 v30 v36 v42 v48 v54 v60 v66 v72 v78 v84 v90).trips, ∀ a, (k0_off253 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off253 v0 v6 v12 v18 v24 v30 v36 v42 v48 v54 v60 v66 v72 v78 v84 v90 k0_t2) a + S1x24x128.size a ≤ S2x24x7168.size a), (Rect.unit (s := S2x24x7168) (k0_off253 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off254 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off254 v0 v6 v12 v18 v24 v30 v36 v42 v48 v54 v60 v66 v72 v78 v84 v90 k0_t2) a + S1x24x128.size a ≤ S2x24x7168.size a), (Rect.unit (s := S2x24x7168) (k0_off254 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off255 v0 v6 v12 v18 v24 v30 v36 v42 v48 v54 v60 v66 v72 v78 v84 v90 k0_t2) a + S1x256x1536.size a ≤ S2x7168x1536.size a) ∧
  (∀ k0_t2 : Fin (k0_t2_loop v0 v6 v12 v18 v24 v30 v36 v42 v48 v54 v60 v66 v72 v78 v84 v90).trips, ∀ a, (k0_off256 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off256 v0 v6 v12 v18 v24 v30 v36 v42 v48 v54 v60 v66 v72 v78 v84 v90 k0_t2) a + S1x24x128.size a ≤ S2x24x7168.size a), (Rect.unit (s := S2x24x7168) (k0_off256 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off257 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off257 v0 v6 v12 v18 v24 v30 v36 v42 v48 v54 v60 v66 v72 v78 v84 v90 k0_t2) a + S1x24x128.size a ≤ S2x24x7168.size a), (Rect.unit (s := S2x24x7168) (k0_off257 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off258 v0 v6 v12 v18 v24 v30 v36 v42 v48 v54 v60 v66 v72 v78 v84 v90 k0_t2) a + S1x256x1536.size a ≤ S2x7168x1536.size a) ∧
  (∀ k0_t2 : Fin (k0_t2_loop v0 v6 v12 v18 v24 v30 v36 v42 v48 v54 v60 v66 v72 v78 v84 v90).trips, ∀ a, (k0_off259 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off259 v0 v6 v12 v18 v24 v30 v36 v42 v48 v54 v60 v66 v72 v78 v84 v90 k0_t2) a + S1x24x128.size a ≤ S2x24x7168.size a), (Rect.unit (s := S2x24x7168) (k0_off259 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off260 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off260 v0 v6 v12 v18 v24 v30 v36 v42 v48 v54 v60 v66 v72 v78 v84 v90 k0_t2) a + S1x24x128.size a ≤ S2x24x7168.size a), (Rect.unit (s := S2x24x7168) (k0_off260 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off261 v0 v6 v12 v18 v24 v30 v36 v42 v48 v54 v60 v66 v72 v78 v84 v90 k0_t2) a + S1x256x1536.size a ≤ S2x7168x1536.size a) ∧
  (∀ k0_t2 : Fin (k0_t2_loop v0 v6 v12 v18 v24 v30 v36 v42 v48 v54 v60 v66 v72 v78 v84 v90).trips, ∀ a, (k0_off262 v0 v6 v12 v18 v24 v30 v36 v42 v48 v54 v60 v66 v72 v78 v84 v90 k0_t2) a + S1x24x128.size a ≤ S2x24x7168.size a)
def k0_chk15_9 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) : Prop :=
  (∀ k0_t2 : Fin (k0_t2_loop v0 v6 v12 v18 v24 v30 v36 v42 v48 v54 v60 v66 v72 v78 v84 v90).trips, ∀ (hinb : ∀ a, (k0_off262 v0 v6 v12 v18 v24 v30 v36 v42 v48 v54 v60 v66 v72 v78 v84 v90 k0_t2) a + S1x24x128.size a ≤ S2x24x7168.size a), (Rect.unit (s := S2x24x7168) (k0_off262 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off263 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off263 v0 v6 v12 v18 v24 v30 v36 v42 v48 v54 v60 v66 v72 v78 v84 v90 k0_t2) a + S1x24x128.size a ≤ S2x24x7168.size a), (Rect.unit (s := S2x24x7168) (k0_off263 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ (k0_h46 : k0_cond46 v0 v6 v12 v18 v24 v30 v36 v42 v48 v54 v60 v66 v72 v78 v84 v90 k0_t2 = 1#1), ∀ a, (k0_off264 v0 v6 v12 v18 v24 v30 v36 v42 v48 v54 v60 v66 v72 v78 v84 v90 k0_t2) a + S1.size a ≤ S16.size a) ∧
  (∀ k0_t2 : Fin (k0_t2_loop v0 v6 v12 v18 v24 v30 v36 v42 v48 v54 v60 v66 v72 v78 v84 v90).trips, ∀ (k0_h46 : k0_cond46 v0 v6 v12 v18 v24 v30 v36 v42 v48 v54 v60 v66 v72 v78 v84 v90 k0_t2 = 1#1), ∀ a, (k0_off265 v0 v6 v12 v18 v24 v30 v36 v42 v48 v54 v60 v66 v72 v78 v84 v90 k0_t2) a + S1x1.size a ≤ S2x7.size a) ∧
  (∀ k0_t2 : Fin (k0_t2_loop v0 v6 v12 v18 v24 v30 v36 v42 v48 v54 v60 v66 v72 v78 v84 v90).trips, ∀ (k0_h46 : k0_cond46 v0 v6 v12 v18 v24 v30 v36 v42 v48 v54 v60 v66 v72 v78 v84 v90 k0_t2 = 1#1), ∀ a, (k0_off266 v0 v6 v12 v18 v24 v30 v36 v42 v48 v54 v60 v66 v72 v78 v84 v90 k0_t2) a + S1x1024x1536.size a ≤ S2x7168x1536.size a) ∧
  (∀ k0_t2 : Fin (k0_t2_loop v0 v6 v12 v18 v24 v30 v36 v42 v48 v54 v60 v66 v72 v78 v84 v90).trips, ∀ (k0_h46 : k0_cond46 v0 v6 v12 v18 v24 v30 v36 v42 v48 v54 v60 v66 v72 v78 v84 v90 k0_t2 = 1#1), ∀ (hinb : ∀ a, (k0_off266 v0 v6 v12 v18 v24 v30 v36 v42 v48 v54 v60 v66 v72 v78 v84 v90 k0_t2) a + S1x1024x1536.size a ≤ S2x7168x1536.size a), (Rect.unit (s := S2x7168x1536) (k0_off266 v0 v6 v12 v18 v24 v30 v36 v42 v48 v54 v60 v66 v72 v78 v84 v90 k0_t2) S1x1024x1536.size hinb).WholeWords (EltTy.packing .fp8e4m3)) ∧
  (∀ k0_t2 : Fin (k0_t2_loop v0 v6 v12 v18 v24 v30 v36 v42 v48 v54 v60 v66 v72 v78 v84 v90).trips, ∀ a, (k0_off268 v0 v6 v12 v18 v24 v30 v36 v42 v48 v54 v60 v66 v72 v78 v84 v90 k0_t2) a + S1.size a ≤ S16.size a) ∧
  (∀ k0_t2 : Fin (k0_t2_loop v0 v6 v12 v18 v24 v30 v36 v42 v48 v54 v60 v66 v72 v78 v84 v90).trips, ∀ a, (k0_off269 v0 v6 v12 v18 v24 v30 v36 v42 v48 v54 v60 v66 v72 v78 v84 v90 k0_t2) a + S1x1.size a ≤ S2x7.size a) ∧
  (∀ k0_t2 : Fin (k0_t2_loop v0 v6 v12 v18 v24 v30 v36 v42 v48 v54 v60 v66 v72 v78 v84 v90).trips, ∀ a, (k0_off270 v0 v6 v12 v18 v24 v30 v36 v42 v48 v54 v60 v66 v72 v78 v84 v90 k0_t2) a + S1x1024x1536.size a ≤ S2x7168x1536.size a) ∧
  (∀ k0_t2 : Fin (k0_t2_loop v0 v6 v12 v18 v24 v30 v36 v42 v48 v54 v60 v66 v72 v78 v84 v90).trips, ∀ (hinb : ∀ a, (k0_off270 v0 v6 v12 v18 v24 v30 v36 v42 v48 v54 v60 v66 v72 v78 v84 v90 k0_t2) a + S1x1024x1536.size a ≤ S2x7168x1536.size a), (Rect.unit (s := S2x7168x1536) (k0_off270 v0 v6 v12 v18 v24 v30 v36 v42 v48 v54 v60 v66 v72 v78 v84 v90 k0_t2) S1x1024x1536.size hinb).WholeWords (EltTy.packing .fp8e4m3)) ∧
  (∀ k0_t2 : Fin (k0_t2_loop v0 v6 v12 v18 v24 v30 v36 v42 v48 v54 v60 v66 v72 v78 v84 v90).trips, ∀ a, (k0_off272 v0 v6 v12 v18 v24 v30 v36 v42 v48 v54 v60 v66 v72 v78 v84 v90 k0_t2) a + S1x256x1536.size a ≤ S2x7168x1536.size a) ∧
  (∀ k0_t2 : Fin (k0_t2_loop v0 v6 v12 v18 v24 v30 v36 v42 v48 v54 v60 v66 v72 v78 v84 v90).trips, ∀ a, (k0_off273 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off273 v0 v6 v12 v18 v24 v30 v36 v42 v48 v54 v60 v66 v72 v78 v84 v90 k0_t2) a + S1x24x128.size a ≤ S2x24x7168.size a), (Rect.unit (s := S2x24x7168) (k0_off273 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off274 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off274 v0 v6 v12 v18 v24 v30 v36 v42 v48 v54 v60 v66 v72 v78 v84 v90 k0_t2) a + S1x24x128.size a ≤ S2x24x7168.size a), (Rect.unit (s := S2x24x7168) (k0_off274 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off275 v0 v6 v12 v18 v24 v30 v36 v42 v48 v54 v60 v66 v72 v78 v84 v90 k0_t2) a + S1x256x1536.size a ≤ S2x7168x1536.size a) ∧
  (∀ k0_t2 : Fin (k0_t2_loop v0 v6 v12 v18 v24 v30 v36 v42 v48 v54 v60 v66 v72 v78 v84 v90).trips, ∀ a, (k0_off276 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off276 v0 v6 v12 v18 v24 v30 v36 v42 v48 v54 v60 v66 v72 v78 v84 v90 k0_t2) a + S1x24x128.size a ≤ S2x24x7168.size a), (Rect.unit (s := S2x24x7168) (k0_off276 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off277 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off277 v0 v6 v12 v18 v24 v30 v36 v42 v48 v54 v60 v66 v72 v78 v84 v90 k0_t2) a + S1x24x128.size a ≤ S2x24x7168.size a), (Rect.unit (s := S2x24x7168) (k0_off277 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off278 v0 v6 v12 v18 v24 v30 v36 v42 v48 v54 v60 v66 v72 v78 v84 v90 k0_t2) a + S1x256x1536.size a ≤ S2x7168x1536.size a) ∧
  (∀ k0_t2 : Fin (k0_t2_loop v0 v6 v12 v18 v24 v30 v36 v42 v48 v54 v60 v66 v72 v78 v84 v90).trips, ∀ a, (k0_off279 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off279 v0 v6 v12 v18 v24 v30 v36 v42 v48 v54 v60 v66 v72 v78 v84 v90 k0_t2) a + S1x24x128.size a ≤ S2x24x7168.size a), (Rect.unit (s := S2x24x7168) (k0_off279 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off280 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off280 v0 v6 v12 v18 v24 v30 v36 v42 v48 v54 v60 v66 v72 v78 v84 v90 k0_t2) a + S1x24x128.size a ≤ S2x24x7168.size a), (Rect.unit (s := S2x24x7168) (k0_off280 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off281 v0 v6 v12 v18 v24 v30 v36 v42 v48 v54 v60 v66 v72 v78 v84 v90 k0_t2) a + S1x256x1536.size a ≤ S2x7168x1536.size a) ∧
  (∀ k0_t2 : Fin (k0_t2_loop v0 v6 v12 v18 v24 v30 v36 v42 v48 v54 v60 v66 v72 v78 v84 v90).trips, ∀ a, (k0_off282 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off282 v0 v6 v12 v18 v24 v30 v36 v42 v48 v54 v60 v66 v72 v78 v84 v90 k0_t2) a + S1x24x128.size a ≤ S2x24x7168.size a), (Rect.unit (s := S2x24x7168) (k0_off282 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off283 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off283 v0 v6 v12 v18 v24 v30 v36 v42 v48 v54 v60 v66 v72 v78 v84 v90 k0_t2) a + S1x24x128.size a ≤ S2x24x7168.size a), (Rect.unit (s := S2x24x7168) (k0_off283 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ (k0_h47 : k0_cond47 v0 v6 v12 v18 v24 v30 v36 v42 v48 v54 v60 v66 v72 v78 v84 v90 k0_t2 = 1#1), ∀ a, (k0_off284 v0 v6 v12 v18 v24 v30 v36 v42 v48 v54 v60 v66 v72 v78 v84 v90 k0_t2) a + S1.size a ≤ S16.size a)
def k0_chk15_10 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) : Prop :=
  (∀ k0_t2 : Fin (k0_t2_loop v0 v6 v12 v18 v24 v30 v36 v42 v48 v54 v60 v66 v72 v78 v84 v90).trips, ∀ (k0_h47 : k0_cond47 v0 v6 v12 v18 v24 v30 v36 v42 v48 v54 v60 v66 v72 v78 v84 v90 k0_t2 = 1#1), ∀ a, (k0_off285 v0 v6 v12 v18 v24 v30 v36 v42 v48 v54 v60 v66 v72 v78 v84 v90 k0_t2) a + S1x1.size a ≤ S2x7.size a) ∧
  (∀ k0_t2 : Fin (k0_t2_loop v0 v6 v12 v18 v24 v30 v36 v42 v48 v54 v60 v66 v72 v78 v84 v90).trips, ∀ (k0_h47 : k0_cond47 v0 v6 v12 v18 v24 v30 v36 v42 v48 v54 v60 v66 v72 v78 v84 v90 k0_t2 = 1#1), ∀ a, (k0_off286 v0 v6 v12 v18 v24 v30 v36 v42 v48 v54 v60 v66 v72 v78 v84 v90 k0_t2) a + S1x1024x1536.size a ≤ S2x7168x1536.size a) ∧
  (∀ k0_t2 : Fin (k0_t2_loop v0 v6 v12 v18 v24 v30 v36 v42 v48 v54 v60 v66 v72 v78 v84 v90).trips, ∀ (k0_h47 : k0_cond47 v0 v6 v12 v18 v24 v30 v36 v42 v48 v54 v60 v66 v72 v78 v84 v90 k0_t2 = 1#1), ∀ (hinb : ∀ a, (k0_off286 v0 v6 v12 v18 v24 v30 v36 v42 v48 v54 v60 v66 v72 v78 v84 v90 k0_t2) a + S1x1024x1536.size a ≤ S2x7168x1536.size a), (Rect.unit (s := S2x7168x1536) (k0_off286 v0 v6 v12 v18 v24 v30 v36 v42 v48 v54 v60 v66 v72 v78 v84 v90 k0_t2) S1x1024x1536.size hinb).WholeWords (EltTy.packing .fp8e4m3)) ∧
  (∀ k0_t2 : Fin (k0_t2_loop v0 v6 v12 v18 v24 v30 v36 v42 v48 v54 v60 v66 v72 v78 v84 v90).trips, ∀ a, (k0_off288 v0 v6 v12 v18 v24 v30 v36 v42 v48 v54 v60 v66 v72 v78 v84 v90 k0_t2) a + S1.size a ≤ S16.size a) ∧
  (∀ k0_t2 : Fin (k0_t2_loop v0 v6 v12 v18 v24 v30 v36 v42 v48 v54 v60 v66 v72 v78 v84 v90).trips, ∀ a, (k0_off289 v0 v6 v12 v18 v24 v30 v36 v42 v48 v54 v60 v66 v72 v78 v84 v90 k0_t2) a + S1x1.size a ≤ S2x7.size a) ∧
  (∀ k0_t2 : Fin (k0_t2_loop v0 v6 v12 v18 v24 v30 v36 v42 v48 v54 v60 v66 v72 v78 v84 v90).trips, ∀ a, (k0_off290 v0 v6 v12 v18 v24 v30 v36 v42 v48 v54 v60 v66 v72 v78 v84 v90 k0_t2) a + S1x1024x1536.size a ≤ S2x7168x1536.size a) ∧
  (∀ k0_t2 : Fin (k0_t2_loop v0 v6 v12 v18 v24 v30 v36 v42 v48 v54 v60 v66 v72 v78 v84 v90).trips, ∀ (hinb : ∀ a, (k0_off290 v0 v6 v12 v18 v24 v30 v36 v42 v48 v54 v60 v66 v72 v78 v84 v90 k0_t2) a + S1x1024x1536.size a ≤ S2x7168x1536.size a), (Rect.unit (s := S2x7168x1536) (k0_off290 v0 v6 v12 v18 v24 v30 v36 v42 v48 v54 v60 v66 v72 v78 v84 v90 k0_t2) S1x1024x1536.size hinb).WholeWords (EltTy.packing .fp8e4m3)) ∧
  (∀ k0_t2 : Fin (k0_t2_loop v0 v6 v12 v18 v24 v30 v36 v42 v48 v54 v60 v66 v72 v78 v84 v90).trips, ∀ a, (k0_off292 v0 v6 v12 v18 v24 v30 v36 v42 v48 v54 v60 v66 v72 v78 v84 v90 k0_t2) a + S1x256x1536.size a ≤ S2x7168x1536.size a) ∧
  (∀ k0_t2 : Fin (k0_t2_loop v0 v6 v12 v18 v24 v30 v36 v42 v48 v54 v60 v66 v72 v78 v84 v90).trips, ∀ a, (k0_off293 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off293 v0 v6 v12 v18 v24 v30 v36 v42 v48 v54 v60 v66 v72 v78 v84 v90 k0_t2) a + S1x24x128.size a ≤ S2x24x7168.size a), (Rect.unit (s := S2x24x7168) (k0_off293 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off294 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off294 v0 v6 v12 v18 v24 v30 v36 v42 v48 v54 v60 v66 v72 v78 v84 v90 k0_t2) a + S1x24x128.size a ≤ S2x24x7168.size a), (Rect.unit (s := S2x24x7168) (k0_off294 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off295 v0 v6 v12 v18 v24 v30 v36 v42 v48 v54 v60 v66 v72 v78 v84 v90 k0_t2) a + S1x256x1536.size a ≤ S2x7168x1536.size a) ∧
  (∀ k0_t2 : Fin (k0_t2_loop v0 v6 v12 v18 v24 v30 v36 v42 v48 v54 v60 v66 v72 v78 v84 v90).trips, ∀ a, (k0_off296 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off296 v0 v6 v12 v18 v24 v30 v36 v42 v48 v54 v60 v66 v72 v78 v84 v90 k0_t2) a + S1x24x128.size a ≤ S2x24x7168.size a), (Rect.unit (s := S2x24x7168) (k0_off296 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off297 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off297 v0 v6 v12 v18 v24 v30 v36 v42 v48 v54 v60 v66 v72 v78 v84 v90 k0_t2) a + S1x24x128.size a ≤ S2x24x7168.size a), (Rect.unit (s := S2x24x7168) (k0_off297 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off298 v0 v6 v12 v18 v24 v30 v36 v42 v48 v54 v60 v66 v72 v78 v84 v90 k0_t2) a + S1x256x1536.size a ≤ S2x7168x1536.size a) ∧
  (∀ k0_t2 : Fin (k0_t2_loop v0 v6 v12 v18 v24 v30 v36 v42 v48 v54 v60 v66 v72 v78 v84 v90).trips, ∀ a, (k0_off299 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off299 v0 v6 v12 v18 v24 v30 v36 v42 v48 v54 v60 v66 v72 v78 v84 v90 k0_t2) a + S1x24x128.size a ≤ S2x24x7168.size a), (Rect.unit (s := S2x24x7168) (k0_off299 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off300 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off300 v0 v6 v12 v18 v24 v30 v36 v42 v48 v54 v60 v66 v72 v78 v84 v90 k0_t2) a + S1x24x128.size a ≤ S2x24x7168.size a), (Rect.unit (s := S2x24x7168) (k0_off300 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off301 v0 v6 v12 v18 v24 v30 v36 v42 v48 v54 v60 v66 v72 v78 v84 v90 k0_t2) a + S1x256x1536.size a ≤ S2x7168x1536.size a) ∧
  (∀ k0_t2 : Fin (k0_t2_loop v0 v6 v12 v18 v24 v30 v36 v42 v48 v54 v60 v66 v72 v78 v84 v90).trips, ∀ a, (k0_off302 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off302 v0 v6 v12 v18 v24 v30 v36 v42 v48 v54 v60 v66 v72 v78 v84 v90 k0_t2) a + S1x24x128.size a ≤ S2x24x7168.size a), (Rect.unit (s := S2x24x7168) (k0_off302 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off303 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off303 v0 v6 v12 v18 v24 v30 v36 v42 v48 v54 v60 v66 v72 v78 v84 v90 k0_t2) a + S1x24x128.size a ≤ S2x24x7168.size a), (Rect.unit (s := S2x24x7168) (k0_off303 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ (k0_h48 : k0_cond48 v0 v6 v12 v18 v24 v30 v36 v42 v48 v54 v60 v66 v72 v78 v84 v90 k0_t2 = 1#1), ∀ a, (k0_off304 v0 v6 v12 v18 v24 v30 v36 v42 v48 v54 v60 v66 v72 v78 v84 v90 k0_t2) a + S1.size a ≤ S16.size a) ∧
  (∀ k0_t2 : Fin (k0_t2_loop v0 v6 v12 v18 v24 v30 v36 v42 v48 v54 v60 v66 v72 v78 v84 v90).trips, ∀ (k0_h48 : k0_cond48 v0 v6 v12 v18 v24 v30 v36 v42 v48 v54 v60 v66 v72 v78 v84 v90 k0_t2 = 1#1), ∀ a, (k0_off305 v0 v6 v12 v18 v24 v30 v36 v42 v48 v54 v60 v66 v72 v78 v84 v90 k0_t2) a + S1x1.size a ≤ S2x7.size a) ∧
  (∀ k0_t2 : Fin (k0_t2_loop v0 v6 v12 v18 v24 v30 v36 v42 v48 v54 v60 v66 v72 v78 v84 v90).trips, ∀ (k0_h48 : k0_cond48 v0 v6 v12 v18 v24 v30 v36 v42 v48 v54 v60 v66 v72 v78 v84 v90 k0_t2 = 1#1), ∀ a, (k0_off306 v0 v6 v12 v18 v24 v30 v36 v42 v48 v54 v60 v66 v72 v78 v84 v90 k0_t2) a + S1x1024x1536.size a ≤ S2x7168x1536.size a) ∧
  (∀ k0_t2 : Fin (k0_t2_loop v0 v6 v12 v18 v24 v30 v36 v42 v48 v54 v60 v66 v72 v78 v84 v90).trips, ∀ (k0_h48 : k0_cond48 v0 v6 v12 v18 v24 v30 v36 v42 v48 v54 v60 v66 v72 v78 v84 v90 k0_t2 = 1#1), ∀ (hinb : ∀ a, (k0_off306 v0 v6 v12 v18 v24 v30 v36 v42 v48 v54 v60 v66 v72 v78 v84 v90 k0_t2) a + S1x1024x1536.size a ≤ S2x7168x1536.size a), (Rect.unit (s := S2x7168x1536) (k0_off306 v0 v6 v12 v18 v24 v30 v36 v42 v48 v54 v60 v66 v72 v78 v84 v90 k0_t2) S1x1024x1536.size hinb).WholeWords (EltTy.packing .fp8e4m3)) ∧
  (∀ k0_t2 : Fin (k0_t2_loop v0 v6 v12 v18 v24 v30 v36 v42 v48 v54 v60 v66 v72 v78 v84 v90).trips, ∀ a, (k0_off308 v0 v6 v12 v18 v24 v30 v36 v42 v48 v54 v60 v66 v72 v78 v84 v90 k0_t2) a + S1.size a ≤ S16.size a)
def k0_chk15_11 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) : Prop :=
  (∀ k0_t2 : Fin (k0_t2_loop v0 v6 v12 v18 v24 v30 v36 v42 v48 v54 v60 v66 v72 v78 v84 v90).trips, ∀ a, (k0_off309 v0 v6 v12 v18 v24 v30 v36 v42 v48 v54 v60 v66 v72 v78 v84 v90 k0_t2) a + S1x1.size a ≤ S2x7.size a) ∧
  (∀ k0_t2 : Fin (k0_t2_loop v0 v6 v12 v18 v24 v30 v36 v42 v48 v54 v60 v66 v72 v78 v84 v90).trips, ∀ a, (k0_off310 v0 v6 v12 v18 v24 v30 v36 v42 v48 v54 v60 v66 v72 v78 v84 v90 k0_t2) a + S1x1024x1536.size a ≤ S2x7168x1536.size a) ∧
  (∀ k0_t2 : Fin (k0_t2_loop v0 v6 v12 v18 v24 v30 v36 v42 v48 v54 v60 v66 v72 v78 v84 v90).trips, ∀ (hinb : ∀ a, (k0_off310 v0 v6 v12 v18 v24 v30 v36 v42 v48 v54 v60 v66 v72 v78 v84 v90 k0_t2) a + S1x1024x1536.size a ≤ S2x7168x1536.size a), (Rect.unit (s := S2x7168x1536) (k0_off310 v0 v6 v12 v18 v24 v30 v36 v42 v48 v54 v60 v66 v72 v78 v84 v90 k0_t2) S1x1024x1536.size hinb).WholeWords (EltTy.packing .fp8e4m3)) ∧
  (∀ k0_t2 : Fin (k0_t2_loop v0 v6 v12 v18 v24 v30 v36 v42 v48 v54 v60 v66 v72 v78 v84 v90).trips, ∀ a, (k0_off312 v0 v6 v12 v18 v24 v30 v36 v42 v48 v54 v60 v66 v72 v78 v84 v90 k0_t2) a + S1x256x1536.size a ≤ S2x7168x1536.size a) ∧
  (∀ k0_t2 : Fin (k0_t2_loop v0 v6 v12 v18 v24 v30 v36 v42 v48 v54 v60 v66 v72 v78 v84 v90).trips, ∀ a, (k0_off313 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off313 v0 v6 v12 v18 v24 v30 v36 v42 v48 v54 v60 v66 v72 v78 v84 v90 k0_t2) a + S1x24x128.size a ≤ S2x24x7168.size a), (Rect.unit (s := S2x24x7168) (k0_off313 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off314 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off314 v0 v6 v12 v18 v24 v30 v36 v42 v48 v54 v60 v66 v72 v78 v84 v90 k0_t2) a + S1x24x128.size a ≤ S2x24x7168.size a), (Rect.unit (s := S2x24x7168) (k0_off314 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off315 v0 v6 v12 v18 v24 v30 v36 v42 v48 v54 v60 v66 v72 v78 v84 v90 k0_t2) a + S1x256x1536.size a ≤ S2x7168x1536.size a) ∧
  (∀ k0_t2 : Fin (k0_t2_loop v0 v6 v12 v18 v24 v30 v36 v42 v48 v54 v60 v66 v72 v78 v84 v90).trips, ∀ a, (k0_off316 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off316 v0 v6 v12 v18 v24 v30 v36 v42 v48 v54 v60 v66 v72 v78 v84 v90 k0_t2) a + S1x24x128.size a ≤ S2x24x7168.size a), (Rect.unit (s := S2x24x7168) (k0_off316 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off317 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off317 v0 v6 v12 v18 v24 v30 v36 v42 v48 v54 v60 v66 v72 v78 v84 v90 k0_t2) a + S1x24x128.size a ≤ S2x24x7168.size a), (Rect.unit (s := S2x24x7168) (k0_off317 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off318 v0 v6 v12 v18 v24 v30 v36 v42 v48 v54 v60 v66 v72 v78 v84 v90 k0_t2) a + S1x256x1536.size a ≤ S2x7168x1536.size a) ∧
  (∀ k0_t2 : Fin (k0_t2_loop v0 v6 v12 v18 v24 v30 v36 v42 v48 v54 v60 v66 v72 v78 v84 v90).trips, ∀ a, (k0_off319 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off319 v0 v6 v12 v18 v24 v30 v36 v42 v48 v54 v60 v66 v72 v78 v84 v90 k0_t2) a + S1x24x128.size a ≤ S2x24x7168.size a), (Rect.unit (s := S2x24x7168) (k0_off319 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off320 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off320 v0 v6 v12 v18 v24 v30 v36 v42 v48 v54 v60 v66 v72 v78 v84 v90 k0_t2) a + S1x24x128.size a ≤ S2x24x7168.size a), (Rect.unit (s := S2x24x7168) (k0_off320 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off321 v0 v6 v12 v18 v24 v30 v36 v42 v48 v54 v60 v66 v72 v78 v84 v90 k0_t2) a + S1x256x1536.size a ≤ S2x7168x1536.size a) ∧
  (∀ k0_t2 : Fin (k0_t2_loop v0 v6 v12 v18 v24 v30 v36 v42 v48 v54 v60 v66 v72 v78 v84 v90).trips, ∀ a, (k0_off322 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off322 v0 v6 v12 v18 v24 v30 v36 v42 v48 v54 v60 v66 v72 v78 v84 v90 k0_t2) a + S1x24x128.size a ≤ S2x24x7168.size a), (Rect.unit (s := S2x24x7168) (k0_off322 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off323 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off323 v0 v6 v12 v18 v24 v30 v36 v42 v48 v54 v60 v66 v72 v78 v84 v90 k0_t2) a + S1x24x128.size a ≤ S2x24x7168.size a), (Rect.unit (s := S2x24x7168) (k0_off323 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ (k0_h49 : k0_cond49 v0 v6 v12 v18 v24 v30 v36 v42 v48 v54 v60 v66 v72 v78 v84 v90 k0_t2 = 1#1), ∀ a, (k0_off324 v0 v6 v12 v18 v24 v30 v36 v42 v48 v54 v60 v66 v72 v78 v84 v90 k0_t2) a + S1.size a ≤ S16.size a) ∧
  (∀ k0_t2 : Fin (k0_t2_loop v0 v6 v12 v18 v24 v30 v36 v42 v48 v54 v60 v66 v72 v78 v84 v90).trips, ∀ (k0_h49 : k0_cond49 v0 v6 v12 v18 v24 v30 v36 v42 v48 v54 v60 v66 v72 v78 v84 v90 k0_t2 = 1#1), ∀ a, (k0_off325 v0 v6 v12 v18 v24 v30 v36 v42 v48 v54 v60 v66 v72 v78 v84 v90 k0_t2) a + S1x1.size a ≤ S2x7.size a) ∧
  (∀ k0_t2 : Fin (k0_t2_loop v0 v6 v12 v18 v24 v30 v36 v42 v48 v54 v60 v66 v72 v78 v84 v90).trips, ∀ (k0_h49 : k0_cond49 v0 v6 v12 v18 v24 v30 v36 v42 v48 v54 v60 v66 v72 v78 v84 v90 k0_t2 = 1#1), ∀ a, (k0_off326 v0 v6 v12 v18 v24 v30 v36 v42 v48 v54 v60 v66 v72 v78 v84 v90 k0_t2) a + S1x1024x1536.size a ≤ S2x7168x1536.size a) ∧
  (∀ k0_t2 : Fin (k0_t2_loop v0 v6 v12 v18 v24 v30 v36 v42 v48 v54 v60 v66 v72 v78 v84 v90).trips, ∀ (k0_h49 : k0_cond49 v0 v6 v12 v18 v24 v30 v36 v42 v48 v54 v60 v66 v72 v78 v84 v90 k0_t2 = 1#1), ∀ (hinb : ∀ a, (k0_off326 v0 v6 v12 v18 v24 v30 v36 v42 v48 v54 v60 v66 v72 v78 v84 v90 k0_t2) a + S1x1024x1536.size a ≤ S2x7168x1536.size a), (Rect.unit (s := S2x7168x1536) (k0_off326 v0 v6 v12 v18 v24 v30 v36 v42 v48 v54 v60 v66 v72 v78 v84 v90 k0_t2) S1x1024x1536.size hinb).WholeWords (EltTy.packing .fp8e4m3)) ∧
  (∀ k0_t2 : Fin (k0_t2_loop v0 v6 v12 v18 v24 v30 v36 v42 v48 v54 v60 v66 v72 v78 v84 v90).trips, ∀ a, (k0_off328 v0 v6 v12 v18 v24 v30 v36 v42 v48 v54 v60 v66 v72 v78 v84 v90 k0_t2) a + S1.size a ≤ S16.size a) ∧
  (∀ k0_t2 : Fin (k0_t2_loop v0 v6 v12 v18 v24 v30 v36 v42 v48 v54 v60 v66 v72 v78 v84 v90).trips, ∀ a, (k0_off329 v0 v6 v12 v18 v24 v30 v36 v42 v48 v54 v60 v66 v72 v78 v84 v90 k0_t2) a + S1x1.size a ≤ S2x7.size a) ∧
  (∀ k0_t2 : Fin (k0_t2_loop v0 v6 v12 v18 v24 v30 v36 v42 v48 v54 v60 v66 v72 v78 v84 v90).trips, ∀ a, (k0_off330 v0 v6 v12 v18 v24 v30 v36 v42 v48 v54 v60 v66 v72 v78 v84 v90 k0_t2) a + S1x1024x1536.size a ≤ S2x7168x1536.size a) ∧
  (∀ k0_t2 : Fin (k0_t2_loop v0 v6 v12 v18 v24 v30 v36 v42 v48 v54 v60 v66 v72 v78 v84 v90).trips, ∀ (hinb : ∀ a, (k0_off330 v0 v6 v12 v18 v24 v30 v36 v42 v48 v54 v60 v66 v72 v78 v84 v90 k0_t2) a + S1x1024x1536.size a ≤ S2x7168x1536.size a), (Rect.unit (s := S2x7168x1536) (k0_off330 v0 v6 v12 v18 v24 v30 v36 v42 v48 v54 v60 v66 v72 v78 v84 v90 k0_t2) S1x1024x1536.size hinb).WholeWords (EltTy.packing .fp8e4m3)) ∧
  (∀ k0_t2 : Fin (k0_t2_loop v0 v6 v12 v18 v24 v30 v36 v42 v48 v54 v60 v66 v72 v78 v84 v90).trips, ∀ a, (k0_off332 v0 v6 v12 v18 v24 v30 v36 v42 v48 v54 v60 v66 v72 v78 v84 v90 k0_t2) a + S1x256x1536.size a ≤ S2x7168x1536.size a)
def k0_chk15_12 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) : Prop :=
  (∀ k0_t2 : Fin (k0_t2_loop v0 v6 v12 v18 v24 v30 v36 v42 v48 v54 v60 v66 v72 v78 v84 v90).trips, ∀ a, (k0_off333 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off333 v0 v6 v12 v18 v24 v30 v36 v42 v48 v54 v60 v66 v72 v78 v84 v90 k0_t2) a + S1x24x128.size a ≤ S2x24x7168.size a), (Rect.unit (s := S2x24x7168) (k0_off333 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off334 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off334 v0 v6 v12 v18 v24 v30 v36 v42 v48 v54 v60 v66 v72 v78 v84 v90 k0_t2) a + S1x24x128.size a ≤ S2x24x7168.size a), (Rect.unit (s := S2x24x7168) (k0_off334 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off335 v0 v6 v12 v18 v24 v30 v36 v42 v48 v54 v60 v66 v72 v78 v84 v90 k0_t2) a + S1x256x1536.size a ≤ S2x7168x1536.size a) ∧
  (∀ k0_t2 : Fin (k0_t2_loop v0 v6 v12 v18 v24 v30 v36 v42 v48 v54 v60 v66 v72 v78 v84 v90).trips, ∀ a, (k0_off336 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off336 v0 v6 v12 v18 v24 v30 v36 v42 v48 v54 v60 v66 v72 v78 v84 v90 k0_t2) a + S1x24x128.size a ≤ S2x24x7168.size a), (Rect.unit (s := S2x24x7168) (k0_off336 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off337 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off337 v0 v6 v12 v18 v24 v30 v36 v42 v48 v54 v60 v66 v72 v78 v84 v90 k0_t2) a + S1x24x128.size a ≤ S2x24x7168.size a), (Rect.unit (s := S2x24x7168) (k0_off337 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off338 v0 v6 v12 v18 v24 v30 v36 v42 v48 v54 v60 v66 v72 v78 v84 v90 k0_t2) a + S1x256x1536.size a ≤ S2x7168x1536.size a) ∧
  (∀ k0_t2 : Fin (k0_t2_loop v0 v6 v12 v18 v24 v30 v36 v42 v48 v54 v60 v66 v72 v78 v84 v90).trips, ∀ a, (k0_off339 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off339 v0 v6 v12 v18 v24 v30 v36 v42 v48 v54 v60 v66 v72 v78 v84 v90 k0_t2) a + S1x24x128.size a ≤ S2x24x7168.size a), (Rect.unit (s := S2x24x7168) (k0_off339 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off340 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off340 v0 v6 v12 v18 v24 v30 v36 v42 v48 v54 v60 v66 v72 v78 v84 v90 k0_t2) a + S1x24x128.size a ≤ S2x24x7168.size a), (Rect.unit (s := S2x24x7168) (k0_off340 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off341 v0 v6 v12 v18 v24 v30 v36 v42 v48 v54 v60 v66 v72 v78 v84 v90 k0_t2) a + S1x256x1536.size a ≤ S2x7168x1536.size a) ∧
  (∀ k0_t2 : Fin (k0_t2_loop v0 v6 v12 v18 v24 v30 v36 v42 v48 v54 v60 v66 v72 v78 v84 v90).trips, ∀ a, (k0_off342 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off342 v0 v6 v12 v18 v24 v30 v36 v42 v48 v54 v60 v66 v72 v78 v84 v90 k0_t2) a + S1x24x128.size a ≤ S2x24x7168.size a), (Rect.unit (s := S2x24x7168) (k0_off342 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off343 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off343 v0 v6 v12 v18 v24 v30 v36 v42 v48 v54 v60 v66 v72 v78 v84 v90 k0_t2) a + S1x24x128.size a ≤ S2x24x7168.size a), (Rect.unit (s := S2x24x7168) (k0_off343 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ (k0_h50 : k0_cond50 v0 v6 v12 v18 v24 v30 v36 v42 v48 v54 v60 v66 v72 v78 v84 v90 k0_t2 = 1#1), ∀ a, (k0_off344 v0 v6 v12 v18 v24 v30 v36 v42 v48 v54 v60 v66 v72 v78 v84 v90 k0_t2) a + S1.size a ≤ S16.size a) ∧
  (∀ k0_t2 : Fin (k0_t2_loop v0 v6 v12 v18 v24 v30 v36 v42 v48 v54 v60 v66 v72 v78 v84 v90).trips, ∀ (k0_h50 : k0_cond50 v0 v6 v12 v18 v24 v30 v36 v42 v48 v54 v60 v66 v72 v78 v84 v90 k0_t2 = 1#1), ∀ a, (k0_off345 v0 v6 v12 v18 v24 v30 v36 v42 v48 v54 v60 v66 v72 v78 v84 v90 k0_t2) a + S1x1.size a ≤ S2x7.size a) ∧
  (∀ k0_t2 : Fin (k0_t2_loop v0 v6 v12 v18 v24 v30 v36 v42 v48 v54 v60 v66 v72 v78 v84 v90).trips, ∀ (k0_h50 : k0_cond50 v0 v6 v12 v18 v24 v30 v36 v42 v48 v54 v60 v66 v72 v78 v84 v90 k0_t2 = 1#1), ∀ a, (k0_off346 v0 v6 v12 v18 v24 v30 v36 v42 v48 v54 v60 v66 v72 v78 v84 v90 k0_t2) a + S1x1024x1536.size a ≤ S2x7168x1536.size a) ∧
  (∀ k0_t2 : Fin (k0_t2_loop v0 v6 v12 v18 v24 v30 v36 v42 v48 v54 v60 v66 v72 v78 v84 v90).trips, ∀ (k0_h50 : k0_cond50 v0 v6 v12 v18 v24 v30 v36 v42 v48 v54 v60 v66 v72 v78 v84 v90 k0_t2 = 1#1), ∀ (hinb : ∀ a, (k0_off346 v0 v6 v12 v18 v24 v30 v36 v42 v48 v54 v60 v66 v72 v78 v84 v90 k0_t2) a + S1x1024x1536.size a ≤ S2x7168x1536.size a), (Rect.unit (s := S2x7168x1536) (k0_off346 v0 v6 v12 v18 v24 v30 v36 v42 v48 v54 v60 v66 v72 v78 v84 v90 k0_t2) S1x1024x1536.size hinb).WholeWords (EltTy.packing .fp8e4m3)) ∧
  (∀ k0_t2 : Fin (k0_t2_loop v0 v6 v12 v18 v24 v30 v36 v42 v48 v54 v60 v66 v72 v78 v84 v90).trips, ∀ a, (k0_off348 v0 v6 v12 v18 v24 v30 v36 v42 v48 v54 v60 v66 v72 v78 v84 v90 k0_t2) a + S1.size a ≤ S16.size a) ∧
  (∀ k0_t2 : Fin (k0_t2_loop v0 v6 v12 v18 v24 v30 v36 v42 v48 v54 v60 v66 v72 v78 v84 v90).trips, ∀ a, (k0_off349 v0 v6 v12 v18 v24 v30 v36 v42 v48 v54 v60 v66 v72 v78 v84 v90 k0_t2) a + S1x1.size a ≤ S2x7.size a) ∧
  (∀ k0_t2 : Fin (k0_t2_loop v0 v6 v12 v18 v24 v30 v36 v42 v48 v54 v60 v66 v72 v78 v84 v90).trips, ∀ a, (k0_off350 v0 v6 v12 v18 v24 v30 v36 v42 v48 v54 v60 v66 v72 v78 v84 v90 k0_t2) a + S1x1024x1536.size a ≤ S2x7168x1536.size a) ∧
  (∀ k0_t2 : Fin (k0_t2_loop v0 v6 v12 v18 v24 v30 v36 v42 v48 v54 v60 v66 v72 v78 v84 v90).trips, ∀ (hinb : ∀ a, (k0_off350 v0 v6 v12 v18 v24 v30 v36 v42 v48 v54 v60 v66 v72 v78 v84 v90 k0_t2) a + S1x1024x1536.size a ≤ S2x7168x1536.size a), (Rect.unit (s := S2x7168x1536) (k0_off350 v0 v6 v12 v18 v24 v30 v36 v42 v48 v54 v60 v66 v72 v78 v84 v90 k0_t2) S1x1024x1536.size hinb).WholeWords (EltTy.packing .fp8e4m3)) ∧
  (∀ k0_t2 : Fin (k0_t2_loop v0 v6 v12 v18 v24 v30 v36 v42 v48 v54 v60 v66 v72 v78 v84 v90).trips, ∀ a, (k0_off352 v0 v6 v12 v18 v24 v30 v36 v42 v48 v54 v60 v66 v72 v78 v84 v90 k0_t2) a + S1x256x1536.size a ≤ S2x7168x1536.size a) ∧
  (∀ k0_t2 : Fin (k0_t2_loop v0 v6 v12 v18 v24 v30 v36 v42 v48 v54 v60 v66 v72 v78 v84 v90).trips, ∀ a, (k0_off353 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off353 v0 v6 v12 v18 v24 v30 v36 v42 v48 v54 v60 v66 v72 v78 v84 v90 k0_t2) a + S1x24x128.size a ≤ S2x24x7168.size a), (Rect.unit (s := S2x24x7168) (k0_off353 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off354 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off354 v0 v6 v12 v18 v24 v30 v36 v42 v48 v54 v60 v66 v72 v78 v84 v90 k0_t2) a + S1x24x128.size a ≤ S2x24x7168.size a), (Rect.unit (s := S2x24x7168) (k0_off354 v0 v6 v12 v18 v24 v30 v36 v42 v48 v54 v60 v66 v72 v78 v84 v90 k0_t2) S1x24x128.size hinb).PackedRows (EltTy.packing .bf16))
def k0_chk15_13 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) : Prop :=
  (∀ k0_t2 : Fin (k0_t2_loop v0 v6 v12 v18 v24 v30 v36 v42 v48 v54 v60 v66 v72 v78 v84 v90).trips, ∀ a, (k0_off355 v0 v6 v12 v18 v24 v30 v36 v42 v48 v54 v60 v66 v72 v78 v84 v90 k0_t2) a + S1x256x1536.size a ≤ S2x7168x1536.size a) ∧
  (∀ k0_t2 : Fin (k0_t2_loop v0 v6 v12 v18 v24 v30 v36 v42 v48 v54 v60 v66 v72 v78 v84 v90).trips, ∀ a, (k0_off356 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off356 v0 v6 v12 v18 v24 v30 v36 v42 v48 v54 v60 v66 v72 v78 v84 v90 k0_t2) a + S1x24x128.size a ≤ S2x24x7168.size a), (Rect.unit (s := S2x24x7168) (k0_off356 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off357 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off357 v0 v6 v12 v18 v24 v30 v36 v42 v48 v54 v60 v66 v72 v78 v84 v90 k0_t2) a + S1x24x128.size a ≤ S2x24x7168.size a), (Rect.unit (s := S2x24x7168) (k0_off357 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off358 v0 v6 v12 v18 v24 v30 v36 v42 v48 v54 v60 v66 v72 v78 v84 v90 k0_t2) a + S1x256x1536.size a ≤ S2x7168x1536.size a) ∧
  (∀ k0_t2 : Fin (k0_t2_loop v0 v6 v12 v18 v24 v30 v36 v42 v48 v54 v60 v66 v72 v78 v84 v90).trips, ∀ a, (k0_off359 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off359 v0 v6 v12 v18 v24 v30 v36 v42 v48 v54 v60 v66 v72 v78 v84 v90 k0_t2) a + S1x24x128.size a ≤ S2x24x7168.size a), (Rect.unit (s := S2x24x7168) (k0_off359 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off360 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off360 v0 v6 v12 v18 v24 v30 v36 v42 v48 v54 v60 v66 v72 v78 v84 v90 k0_t2) a + S1x24x128.size a ≤ S2x24x7168.size a), (Rect.unit (s := S2x24x7168) (k0_off360 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off361 v0 v6 v12 v18 v24 v30 v36 v42 v48 v54 v60 v66 v72 v78 v84 v90 k0_t2) a + S1x256x1536.size a ≤ S2x7168x1536.size a) ∧
  (∀ k0_t2 : Fin (k0_t2_loop v0 v6 v12 v18 v24 v30 v36 v42 v48 v54 v60 v66 v72 v78 v84 v90).trips, ∀ a, (k0_off362 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off362 v0 v6 v12 v18 v24 v30 v36 v42 v48 v54 v60 v66 v72 v78 v84 v90 k0_t2) a + S1x24x128.size a ≤ S2x24x7168.size a), (Rect.unit (s := S2x24x7168) (k0_off362 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off363 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off363 v0 v6 v12 v18 v24 v30 v36 v42 v48 v54 v60 v66 v72 v78 v84 v90 k0_t2) a + S1x24x128.size a ≤ S2x24x7168.size a), (Rect.unit (s := S2x24x7168) (k0_off363 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ (k0_h51 : k0_cond51 v0 v6 v12 v18 v24 v30 v36 v42 v48 v54 v60 v66 v72 v78 v84 v90 k0_t2 = 1#1), ∀ a, (k0_off364 v0 v6 v12 v18 v24 v30 v36 v42 v48 v54 v60 v66 v72 v78 v84 v90 k0_t2) a + S1.size a ≤ S16.size a) ∧
  (∀ k0_t2 : Fin (k0_t2_loop v0 v6 v12 v18 v24 v30 v36 v42 v48 v54 v60 v66 v72 v78 v84 v90).trips, ∀ (k0_h51 : k0_cond51 v0 v6 v12 v18 v24 v30 v36 v42 v48 v54 v60 v66 v72 v78 v84 v90 k0_t2 = 1#1), ∀ a, (k0_off365 v0 v6 v12 v18 v24 v30 v36 v42 v48 v54 v60 v66 v72 v78 v84 v90 k0_t2) a + S1x1.size a ≤ S2x7.size a) ∧
  (∀ k0_t2 : Fin (k0_t2_loop v0 v6 v12 v18 v24 v30 v36 v42 v48 v54 v60 v66 v72 v78 v84 v90).trips, ∀ (k0_h51 : k0_cond51 v0 v6 v12 v18 v24 v30 v36 v42 v48 v54 v60 v66 v72 v78 v84 v90 k0_t2 = 1#1), ∀ a, (k0_off366 v0 v6 v12 v18 v24 v30 v36 v42 v48 v54 v60 v66 v72 v78 v84 v90 k0_t2) a + S1x1024x1536.size a ≤ S2x7168x1536.size a) ∧
  (∀ k0_t2 : Fin (k0_t2_loop v0 v6 v12 v18 v24 v30 v36 v42 v48 v54 v60 v66 v72 v78 v84 v90).trips, ∀ (k0_h51 : k0_cond51 v0 v6 v12 v18 v24 v30 v36 v42 v48 v54 v60 v66 v72 v78 v84 v90 k0_t2 = 1#1), ∀ (hinb : ∀ a, (k0_off366 v0 v6 v12 v18 v24 v30 v36 v42 v48 v54 v60 v66 v72 v78 v84 v90 k0_t2) a + S1x1024x1536.size a ≤ S2x7168x1536.size a), (Rect.unit (s := S2x7168x1536) (k0_off366 v0 v6 v12 v18 v24 v30 v36 v42 v48 v54 v60 v66 v72 v78 v84 v90 k0_t2) S1x1024x1536.size hinb).WholeWords (EltTy.packing .fp8e4m3)) ∧
  (∀ k0_t2 : Fin (k0_t2_loop v0 v6 v12 v18 v24 v30 v36 v42 v48 v54 v60 v66 v72 v78 v84 v90).trips, ∀ a, (k0_off368 v0 v6 v12 v18 v24 v30 v36 v42 v48 v54 v60 v66 v72 v78 v84 v90 k0_t2) a + S1.size a ≤ S16.size a) ∧
  (∀ k0_t2 : Fin (k0_t2_loop v0 v6 v12 v18 v24 v30 v36 v42 v48 v54 v60 v66 v72 v78 v84 v90).trips, ∀ a, (k0_off369 v0 v6 v12 v18 v24 v30 v36 v42 v48 v54 v60 v66 v72 v78 v84 v90 k0_t2) a + S1x1.size a ≤ S2x7.size a) ∧
  (∀ k0_t2 : Fin (k0_t2_loop v0 v6 v12 v18 v24 v30 v36 v42 v48 v54 v60 v66 v72 v78 v84 v90).trips, ∀ a, (k0_off370 v0 v6 v12 v18 v24 v30 v36 v42 v48 v54 v60 v66 v72 v78 v84 v90 k0_t2) a + S1x1024x1536.size a ≤ S2x7168x1536.size a) ∧
  (∀ k0_t2 : Fin (k0_t2_loop v0 v6 v12 v18 v24 v30 v36 v42 v48 v54 v60 v66 v72 v78 v84 v90).trips, ∀ (hinb : ∀ a, (k0_off370 v0 v6 v12 v18 v24 v30 v36 v42 v48 v54 v60 v66 v72 v78 v84 v90 k0_t2) a + S1x1024x1536.size a ≤ S2x7168x1536.size a), (Rect.unit (s := S2x7168x1536) (k0_off370 v0 v6 v12 v18 v24 v30 v36 v42 v48 v54 v60 v66 v72 v78 v84 v90 k0_t2) S1x1024x1536.size hinb).WholeWords (EltTy.packing .fp8e4m3)) ∧
  (∀ k0_t2 : Fin (k0_t2_loop v0 v6 v12 v18 v24 v30 v36 v42 v48 v54 v60 v66 v72 v78 v84 v90).trips, ∀ a, (k0_off372 v0 v6 v12 v18 v24 v30 v36 v42 v48 v54 v60 v66 v72 v78 v84 v90 k0_t2) a + S1x256x1536.size a ≤ S2x7168x1536.size a) ∧
  (∀ k0_t2 : Fin (k0_t2_loop v0 v6 v12 v18 v24 v30 v36 v42 v48 v54 v60 v66 v72 v78 v84 v90).trips, ∀ a, (k0_off373 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off373 v0 v6 v12 v18 v24 v30 v36 v42 v48 v54 v60 v66 v72 v78 v84 v90 k0_t2) a + S1x24x128.size a ≤ S2x24x7168.size a), (Rect.unit (s := S2x24x7168) (k0_off373 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off374 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off374 v0 v6 v12 v18 v24 v30 v36 v42 v48 v54 v60 v66 v72 v78 v84 v90 k0_t2) a + S1x24x128.size a ≤ S2x24x7168.size a), (Rect.unit (s := S2x24x7168) (k0_off374 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off375 v0 v6 v12 v18 v24 v30 v36 v42 v48 v54 v60 v66 v72 v78 v84 v90 k0_t2) a + S1x256x1536.size a ≤ S2x7168x1536.size a) ∧
  (∀ k0_t2 : Fin (k0_t2_loop v0 v6 v12 v18 v24 v30 v36 v42 v48 v54 v60 v66 v72 v78 v84 v90).trips, ∀ a, (k0_off376 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off376 v0 v6 v12 v18 v24 v30 v36 v42 v48 v54 v60 v66 v72 v78 v84 v90 k0_t2) a + S1x24x128.size a ≤ S2x24x7168.size a), (Rect.unit (s := S2x24x7168) (k0_off376 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off377 v0 v6 v12 v18 v24 v30 v36 v42 v48 v54 v60 v66 v72 v78 v84 v90 k0_t2) a + S1x24x128.size a ≤ S2x24x7168.size a)
def k0_chk15_14 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) : Prop :=
  (∀ k0_t2 : Fin (k0_t2_loop v0 v6 v12 v18 v24 v30 v36 v42 v48 v54 v60 v66 v72 v78 v84 v90).trips, ∀ (hinb : ∀ a, (k0_off377 v0 v6 v12 v18 v24 v30 v36 v42 v48 v54 v60 v66 v72 v78 v84 v90 k0_t2) a + S1x24x128.size a ≤ S2x24x7168.size a), (Rect.unit (s := S2x24x7168) (k0_off377 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off378 v0 v6 v12 v18 v24 v30 v36 v42 v48 v54 v60 v66 v72 v78 v84 v90 k0_t2) a + S1x256x1536.size a ≤ S2x7168x1536.size a) ∧
  (∀ k0_t2 : Fin (k0_t2_loop v0 v6 v12 v18 v24 v30 v36 v42 v48 v54 v60 v66 v72 v78 v84 v90).trips, ∀ a, (k0_off379 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off379 v0 v6 v12 v18 v24 v30 v36 v42 v48 v54 v60 v66 v72 v78 v84 v90 k0_t2) a + S1x24x128.size a ≤ S2x24x7168.size a), (Rect.unit (s := S2x24x7168) (k0_off379 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off380 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off380 v0 v6 v12 v18 v24 v30 v36 v42 v48 v54 v60 v66 v72 v78 v84 v90 k0_t2) a + S1x24x128.size a ≤ S2x24x7168.size a), (Rect.unit (s := S2x24x7168) (k0_off380 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off381 v0 v6 v12 v18 v24 v30 v36 v42 v48 v54 v60 v66 v72 v78 v84 v90 k0_t2) a + S1x256x1536.size a ≤ S2x7168x1536.size a) ∧
  (∀ k0_t2 : Fin (k0_t2_loop v0 v6 v12 v18 v24 v30 v36 v42 v48 v54 v60 v66 v72 v78 v84 v90).trips, ∀ a, (k0_off382 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off382 v0 v6 v12 v18 v24 v30 v36 v42 v48 v54 v60 v66 v72 v78 v84 v90 k0_t2) a + S1x24x128.size a ≤ S2x24x7168.size a), (Rect.unit (s := S2x24x7168) (k0_off382 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ a, (k0_off383 v0 v6 v12 v18 v24 v30 v36 v42 v48 v54 v60 v66 v72 v78 v84 v90 k0_t2) a + S1x24x128.size a ≤ S2x24x7168.size a) ∧
  (∀ k0_t2 : Fin (k0_t2_loop v0 v6 v12 v18 v24 v30 v36 v42 v48 v54 v60 v66 v72 v78 v84 v90).trips, ∀ (hinb : ∀ a, (k0_off383 v0 v6 v12 v18 v24 v30 v36 v42 v48 v54 v60 v66 v72 v78 v84 v90 k0_t2) a + S1x24x128.size a ≤ S2x24x7168.size a), (Rect.unit (s := S2x24x7168) (k0_off383 v0 v6 v12 v18 v24 v30 v36 v42 v48 v54 v60 v66 v72 v78 v84 v90 k0_t2) S1x24x128.size hinb).PackedRows (EltTy.packing .bf16)) ∧
  (∀ k0_t2 : Fin (k0_t2_loop v0 v6 v12 v18 v24 v30 v36 v42 v48 v54 v60 v66 v72 v78 v84 v90).trips, ∀ (k0_h52 : k0_cond52 v0 v6 v12 v18 v24 v30 v36 v42 v48 v54 v60 v66 v72 v78 v84 v90 k0_t2 = 1#1), ∀ a, (k0_off384 v0 v6 v12 v18 v24 v30 v36 v42 v48 v54 v60 v66 v72 v78 v84 v90 k0_t2) a + S1.size a ≤ S16.size a) ∧
  (∀ k0_t2 : Fin (k0_t2_loop v0 v6 v12 v18 v24 v30 v36 v42 v48 v54 v60 v66 v72 v78 v84 v90).trips, ∀ (k0_h52 : k0_cond52 v0 v6 v12 v18 v24 v30 v36 v42 v48 v54 v60 v66 v72 v78 v84 v90 k0_t2 = 1#1), ∀ a, (k0_off385 v0 v6 v12 v18 v24 v30 v36 v42 v48 v54 v60 v66 v72 v78 v84 v90 k0_t2) a + S1x1.size a ≤ S2x7.size a) ∧
  (∀ k0_t2 : Fin (k0_t2_loop v0 v6 v12 v18 v24 v30 v36 v42 v48 v54 v60 v66 v72 v78 v84 v90).trips, ∀ (k0_h52 : k0_cond52 v0 v6 v12 v18 v24 v30 v36 v42 v48 v54 v60 v66 v72 v78 v84 v90 k0_t2 = 1#1), ∀ a, (k0_off386 v0 v6 v12 v18 v24 v30 v36 v42 v48 v54 v60 v66 v72 v78 v84 v90 k0_t2) a + S1x1024x1536.size a ≤ S2x7168x1536.size a) ∧
  (∀ k0_t2 : Fin (k0_t2_loop v0 v6 v12 v18 v24 v30 v36 v42 v48 v54 v60 v66 v72 v78 v84 v90).trips, ∀ (k0_h52 : k0_cond52 v0 v6 v12 v18 v24 v30 v36 v42 v48 v54 v60 v66 v72 v78 v84 v90 k0_t2 = 1#1), ∀ (hinb : ∀ a, (k0_off386 v0 v6 v12 v18 v24 v30 v36 v42 v48 v54 v60 v66 v72 v78 v84 v90 k0_t2) a + S1x1024x1536.size a ≤ S2x7168x1536.size a), (Rect.unit (s := S2x7168x1536) (k0_off386 v0 v6 v12 v18 v24 v30 v36 v42 v48 v54 v60 v66 v72 v78 v84 v90 k0_t2) S1x1024x1536.size hinb).WholeWords (EltTy.packing .fp8e4m3)) ∧
  (∀ k0_t2 : Fin (k0_t2_loop v0 v6 v12 v18 v24 v30 v36 v42 v48 v54 v60 v66 v72 v78 v84 v90).trips, ∀ a, (k0_off388 v0 v6 v12 v18 v24 v30 v36 v42 v48 v54 v60 v66 v72 v78 v84 v90 k0_t2) a + S1.size a ≤ S16.size a) ∧
  (∀ k0_t2 : Fin (k0_t2_loop v0 v6 v12 v18 v24 v30 v36 v42 v48 v54 v60 v66 v72 v78 v84 v90).trips, ∀ a, (k0_off389 v0 v6 v12 v18 v24 v30 v36 v42 v48 v54 v60 v66 v72 v78 v84 v90 k0_t2) a + S1.size a ≤ S2.size a) ∧
  (∀ k0_t2 : Fin (k0_t2_loop v0 v6 v12 v18 v24 v30 v36 v42 v48 v54 v60 v66 v72 v78 v84 v90).trips, ∀ a, (k0_off391 v0 v6 v12 v18 v24 v30 v36 v42 v48 v54 v60 v66 v72 v78 v84 v90 k0_t2) a + S1x24x7168.size a ≤ S2x24x7168.size a) ∧
  (∀ k0_t2 : Fin (k0_t2_loop v0 v6 v12 v18 v24 v30 v36 v42 v48 v54 v60 v66 v72 v78 v84 v90).trips, ∀ (hinb : ∀ a, (k0_off391 v0 v6 v12 v18 v24 v30 v36 v42 v48 v54 v60 v66 v72 v78 v84 v90 k0_t2) a + S1x24x7168.size a ≤ S2x24x7168.size a), (Rect.unit (s := S2x24x7168) (k0_off391 v0 v6 v12 v18 v24 v30 v36 v42 v48 v54 v60 v66 v72 v78 v84 v90 k0_t2) S1x24x7168.size hinb).WholeWords (EltTy.packing .bf16)) ∧
  (∀ (k0_h69 : k0_cond69 v0 v6 v12 v18 v24 v30 v36 v42 v48 v54 v60 v66 v72 v78 v84 v90 = 1#1), ∀ a, (k0_off392 v0 v6 v12 v18 v24 v30 v36 v42 v48 v54 v60 v66 v72 v78 v84 v90) a + S1.size a ≤ S16.size a) ∧
  (∀ (k0_h69 : k0_cond69 v0 v6 v12 v18 v24 v30 v36 v42 v48 v54 v60 v66 v72 v78 v84 v90 = 1#1), ∀ a, (k0_off393 v0 v6 v12 v18 v24 v30 v36 v42 v48 v54 v60 v66 v72 v78 v84 v90) a + S1.size a ≤ S2.size a) ∧
  (∀ (k0_h69 : k0_cond69 v0 v6 v12 v18 v24 v30 v36 v42 v48 v54 v60 v66 v72 v78 v84 v90 = 1#1), ∀ a, (k0_off395 v0 v6 v12 v18 v24 v30 v36 v42 v48 v54 v60 v66 v72 v78 v84 v90) a + S1x24x7168.size a ≤ S2x24x7168.size a) ∧
  (∀ (k0_h69 : k0_cond69 v0 v6 v12 v18 v24 v30 v36 v42 v48 v54 v60 v66 v72 v78 v84 v90 = 1#1), ∀ (hinb : ∀ a, (k0_off395 v0 v6 v12 v18 v24 v30 v36 v42 v48 v54 v60 v66 v72 v78 v84 v90) a + S1x24x7168.size a ≤ S2x24x7168.size a), (Rect.unit (s := S2x24x7168) (k0_off395 v0 v6 v12 v18 v24 v30 v36 v42 v48 v54 v60 v66 v72 v78 v84 v90) S1x24x7168.size hinb).WholeWords (EltTy.packing .bf16)) ∧
  (∀ (k0_h70 : k0_cond70 v0 v6 v12 v18 v24 v30 v36 v42 v48 v54 v60 v66 v72 v78 v84 v90 = 1#1), ∀ a, (k0_off396 v0 v6 v12 v18 v24 v30 v36 v42 v48 v54 v60 v66 v72 v78 v84 v90) a + S1.size a ≤ S16.size a) ∧
  (∀ (k0_h70 : k0_cond70 v0 v6 v12 v18 v24 v30 v36 v42 v48 v54 v60 v66 v72 v78 v84 v90 = 1#1), ∀ a, (k0_off397 v0 v6 v12 v18 v24 v30 v36 v42 v48 v54 v60 v66 v72 v78 v84 v90) a + S1.size a ≤ S2.size a) ∧
  (∀ (k0_h70 : k0_cond70 v0 v6 v12 v18 v24 v30 v36 v42 v48 v54 v60 v66 v72 v78 v84 v90 = 1#1), ∀ a, (k0_off399 v0 v6 v12 v18 v24 v30 v36 v42 v48 v54 v60 v66 v72 v78 v84 v90) a + S1x24x7168.size a ≤ S2x24x7168.size a) ∧
  (∀ (k0_h70 : k0_cond70 v0 v6 v12 v18 v24 v30 v36 v42 v48 v54 v60 v66 v72 v78 v84 v90 = 1#1), ∀ (hinb : ∀ a, (k0_off399 v0 v6 v12 v18 v24 v30 v36 v42 v48 v54 v60 v66 v72 v78 v84 v90) a + S1x24x7168.size a ≤ S2x24x7168.size a), (Rect.unit (s := S2x24x7168) (k0_off399 v0 v6 v12 v18 v24 v30 v36 v42 v48 v54 v60 v66 v72 v78 v84 v90) S1x24x7168.size hinb).WholeWords (EltTy.packing .bf16))
def k0_chk15 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) : Prop :=
  k0_chk15_0 v0 v6 v12 v18 v24 v30 v36 v42 v48 v54 v60 v66 v72 v78 v84 v90 ∧
  k0_chk15_1 v0 v6 v12 v18 v24 v30 v36 v42 v48 v54 v60 v66 v72 v78 v84 v90 ∧
  k0_chk15_2 v0 v6 v12 v18 v24 v30 v36 v42 v48 v54 v60 v66 v72 v78 v84 v90 ∧
  k0_chk15_3 v0 v6 v12 v18 v24 v30 v36 v42 v48 v54 v60 v66 v72 v78 v84 v90 ∧
  k0_chk15_4 v0 v6 v12 v18 v24 v30 v36 v42 v48 v54 v60 v66 v72 v78 v84 v90 ∧
  k0_chk15_5 v0 v6 v12 v18 v24 v30 v36 v42 v48 v54 v60 v66 v72 v78 v84 v90 ∧
  k0_chk15_6 v0 v6 v12 v18 v24 v30 v36 v42 v48 v54 v60 v66 v72 v78 v84 v90 ∧
  k0_chk15_7 v0 v6 v12 v18 v24 v30 v36 v42 v48 v54 v60 v66 v72 v78 v84 v90 ∧
  k0_chk15_8 v0 v6 v12 v18 v24 v30 v36 v42 v48 v54 v60 v66 v72 v78 v84 v90 ∧
  k0_chk15_9 v0 v6 v12 v18 v24 v30 v36 v42 v48 v54 v60 v66 v72 v78 v84 v90 ∧
  k0_chk15_10 v0 v6 v12 v18 v24 v30 v36 v42 v48 v54 v60 v66 v72 v78 v84 v90 ∧
  k0_chk15_11 v0 v6 v12 v18 v24 v30 v36 v42 v48 v54 v60 v66 v72 v78 v84 v90 ∧
  k0_chk15_12 v0 v6 v12 v18 v24 v30 v36 v42 v48 v54 v60 v66 v72 v78 v84 v90 ∧
  k0_chk15_13 v0 v6 v12 v18 v24 v30 v36 v42 v48 v54 v60 v66 v72 v78 v84 v90 ∧
  k0_chk15_14 v0 v6 v12 v18 v24 v30 v36 v42 v48 v54 v60 v66 v72 v78 v84 v90
theorem k0_off15_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90), ∀ (k0_h16 : k0_cond16 v90 = 1#1), ∀ a, (k0_off15 v0 v6 v12 v18 v24 v30 v36 v42 v48 v54 v60 v66 v72 v78 v84) a + S1.size a ≤ S16.size a := fun v0 v6 v12 v18 v24 v30 v36 v42 v48 v54 v60 v66 v72 v78 v84 v90 k0_hw15 k0_h16 => k0_hw15.1.1 k0_h16
theorem k0_t1_ok : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90), (k0_t1_loop v0 v6 v12 v18 v24 v30 v36 v42 v48 v54 v60 v66 v72 v78 v84 v90).OK := fun v0 v6 v12 v18 v24 v30 v36 v42 v48 v54 v60 v66 v72 v78 v84 v90 k0_hw15 => k0_hw15.1.2.1
theorem k0_off34_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off34 v0 v6 v12 v18 v24 v30 v36 v42 v48 v54 v60 v66 v72 v78 v84 v90 k0_t1) a + S1.size a ≤ S16.size a := fun v0 v6 v12 v18 v24 v30 v36 v42 v48 v54 v60 v66 v72 v78 v84 v90 k0_hw15 k0_t1 => k0_hw15.1.2.2.1 k0_t1
theorem k0_off36_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off36 v0 v6 v12 v18 v24 v30 v36 v42 v48 v54 v60 v66 v72 v78 v84 v90 k0_t1) a + S1.size a ≤ S16.size a := fun v0 v6 v12 v18 v24 v30 v36 v42 v48 v54 v60 v66 v72 v78 v84 v90 k0_hw15 k0_t1 => k0_hw15.1.2.2.2.1 k0_t1
theorem k0_off37_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off37 v0 v6 v12 v18 v24 v30 v36 v42 v48 v54 v60 v66 v72 v78 v84 v90 k0_t1) a + S1.size a ≤ S2.size a := fun v0 v6 v12 v18 v24 v30 v36 v42 v48 v54 v60 v66 v72 v78 v84 v90 k0_hw15 k0_t1 => k0_hw15.1.2.2.2.2.1 k0_t1
theorem k0_off38_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off38 v0 v6 v12 v18 v24 v30 v36 v42 v48 v54 v60 v66 v72 v78 v84 v90 k0_t1) a + S1x24x1536.size a ≤ S2x24x1536.size a := fun v0 v6 v12 v18 v24 v30 v36 v42 v48 v54 v60 v66 v72 v78 v84 v90 k0_hw15 k0_t1 => k0_hw15.1.2.2.2.2.2.1 k0_t1
theorem k0_off38_wordsbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x1536) (k0_off38 v0 v6 v12 v18 v24 v30 v36 v42 v48 v54 v60 v66 v72 v78 v84 v90 k0_t1) S1x24x1536.size (k0_off38_inb v0 v6 v12 v18 v24 v30 v36 v42 v48 v54 v60 v66 v72 v78 v84 v90 k0_hw15 k0_t1)).WholeWords (EltTy.packing .bf16) := fun v0 v6 v12 v18 v24 v30 v36 v42 v48 v54 v60 v66 v72 v78 v84 v90 k0_hw15 k0_t1 => k0_hw15.1.2.2.2.2.2.2.1 k0_t1 (k0_off38_inb v0 v6 v12 v18 v24 v30 v36 v42 v48 v54 v60 v66 v72 v78 v84 v90 k0_hw15 k0_t1)
theorem k0_off40_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off40 v0 v6 v12 v18 v24 v30 v36 v42 v48 v54 v60 v66 v72 v78 v84 v90 k0_t1) a + S1.size a ≤ S16.size a := fun v0 v6 v12 v18 v24 v30 v36 v42 v48 v54 v60 v66 v72 v78 v84 v90 k0_hw15 k0_t1 => k0_hw15.1.2.2.2.2.2.2.2.1 k0_t1
theorem k0_off41_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off41 v0 v6 v12 v18 v24 v30 v36 v42 v48 v54 v60 v66 v72 v78 v84 v90 k0_t1) a + S1.size a ≤ S2.size a := fun v0 v6 v12 v18 v24 v30 v36 v42 v48 v54 v60 v66 v72 v78 v84 v90 k0_hw15 k0_t1 => k0_hw15.1.2.2.2.2.2.2.2.2.1 k0_t1
theorem k0_off42_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off42 v0 v6 v12 v18 v24 v30 v36 v42 v48 v54 v60 v66 v72 v78 v84 v90 k0_t1) a + S1x56x12.size a ≤ S2x56x12.size a := fun v0 v6 v12 v18 v24 v30 v36 v42 v48 v54 v60 v66 v72 v78 v84 v90 k0_hw15 k0_t1 => k0_hw15.1.2.2.2.2.2.2.2.2.2.1 k0_t1
theorem k0_off44_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off44 v0 v6 v12 v18 v24 v30 v36 v42 v48 v54 v60 v66 v72 v78 v84 v90 k0_t1) a + S1x56x12.size a ≤ S2x56x12.size a := fun v0 v6 v12 v18 v24 v30 v36 v42 v48 v54 v60 v66 v72 v78 v84 v90 k0_hw15 k0_t1 => k0_hw15.1.2.2.2.2.2.2.2.2.2.2.1 k0_t1
theorem k0_off45_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off45 v0 v6 v12 v18 v24 v30 v36 v42 v48 v54 v60 v66 v72 v78 v84 v90 k0_t1) a + S1x24x128.size a ≤ S2x24x1536.size a := fun v0 v6 v12 v18 v24 v30 v36 v42 v48 v54 v60 v66 v72 v78 v84 v90 k0_hw15 k0_t1 => k0_hw15.1.2.2.2.2.2.2.2.2.2.2.2.1 k0_t1
theorem k0_off46_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off46 v0 v6 v12 v18 v24 v30 v36 v42 v48 v54 v60 v66 v72 v78 v84 v90 k0_t1) a + S1x24x128.size a ≤ S2x24x1536.size a := fun v0 v6 v12 v18 v24 v30 v36 v42 v48 v54 v60 v66 v72 v78 v84 v90 k0_hw15 k0_t1 => k0_hw15.1.2.2.2.2.2.2.2.2.2.2.2.2.1 k0_t1
theorem k0_off47_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off47 v0 v6 v12 v18 v24 v30 v36 v42 v48 v54 v60 v66 v72 v78 v84 v90 k0_t1) a + S1x24x128.size a ≤ S2x24x1536.size a := fun v0 v6 v12 v18 v24 v30 v36 v42 v48 v54 v60 v66 v72 v78 v84 v90 k0_hw15 k0_t1 => k0_hw15.1.2.2.2.2.2.2.2.2.2.2.2.2.2.1 k0_t1
theorem k0_off48_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off48 v0 v6 v12 v18 v24 v30 v36 v42 v48 v54 v60 v66 v72 v78 v84 v90 k0_t1) a + S1x24x128.size a ≤ S2x24x1536.size a := fun v0 v6 v12 v18 v24 v30 v36 v42 v48 v54 v60 v66 v72 v78 v84 v90 k0_hw15 k0_t1 => k0_hw15.1.2.2.2.2.2.2.2.2.2.2.2.2.2.2.1 k0_t1
theorem k0_off49_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off49 v0 v6 v12 v18 v24 v30 v36 v42 v48 v54 v60 v66 v72 v78 v84 v90 k0_t1) a + S1x24x128.size a ≤ S2x24x1536.size a := fun v0 v6 v12 v18 v24 v30 v36 v42 v48 v54 v60 v66 v72 v78 v84 v90 k0_hw15 k0_t1 => k0_hw15.1.2.2.2.2.2.2.2.2.2.2.2.2.2.2.2.1 k0_t1
theorem k0_off50_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off50 v0 v6 v12 v18 v24 v30 v36 v42 v48 v54 v60 v66 v72 v78 v84 v90 k0_t1) a + S1x24x128.size a ≤ S2x24x1536.size a := fun v0 v6 v12 v18 v24 v30 v36 v42 v48 v54 v60 v66 v72 v78 v84 v90 k0_hw15 k0_t1 => k0_hw15.1.2.2.2.2.2.2.2.2.2.2.2.2.2.2.2.2.1 k0_t1
theorem k0_off51_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off51 v0 v6 v12 v18 v24 v30 v36 v42 v48 v54 v60 v66 v72 v78 v84 v90 k0_t1) a + S1x24x128.size a ≤ S2x24x1536.size a := fun v0 v6 v12 v18 v24 v30 v36 v42 v48 v54 v60 v66 v72 v78 v84 v90 k0_hw15 k0_t1 => k0_hw15.1.2.2.2.2.2.2.2.2.2.2.2.2.2.2.2.2.2.1 k0_t1
theorem k0_off52_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off52 v0 v6 v12 v18 v24 v30 v36 v42 v48 v54 v60 v66 v72 v78 v84 v90 k0_t1) a + S1x24x128.size a ≤ S2x24x1536.size a := fun v0 v6 v12 v18 v24 v30 v36 v42 v48 v54 v60 v66 v72 v78 v84 v90 k0_hw15 k0_t1 => k0_hw15.1.2.2.2.2.2.2.2.2.2.2.2.2.2.2.2.2.2.2.1 k0_t1
theorem k0_off53_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off53 v0 v6 v12 v18 v24 v30 v36 v42 v48 v54 v60 v66 v72 v78 v84 v90 k0_t1) a + S1x24x128.size a ≤ S2x24x1536.size a := fun v0 v6 v12 v18 v24 v30 v36 v42 v48 v54 v60 v66 v72 v78 v84 v90 k0_hw15 k0_t1 => k0_hw15.1.2.2.2.2.2.2.2.2.2.2.2.2.2.2.2.2.2.2.2.1 k0_t1
theorem k0_off54_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off54 v0 v6 v12 v18 v24 v30 v36 v42 v48 v54 v60 v66 v72 v78 v84 v90 k0_t1) a + S1x24x128.size a ≤ S2x24x1536.size a := fun v0 v6 v12 v18 v24 v30 v36 v42 v48 v54 v60 v66 v72 v78 v84 v90 k0_hw15 k0_t1 => k0_hw15.1.2.2.2.2.2.2.2.2.2.2.2.2.2.2.2.2.2.2.2.2.1 k0_t1
theorem k0_off55_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off55 v0 v6 v12 v18 v24 v30 v36 v42 v48 v54 v60 v66 v72 v78 v84 v90 k0_t1) a + S1x24x128.size a ≤ S2x24x1536.size a := fun v0 v6 v12 v18 v24 v30 v36 v42 v48 v54 v60 v66 v72 v78 v84 v90 k0_hw15 k0_t1 => k0_hw15.1.2.2.2.2.2.2.2.2.2.2.2.2.2.2.2.2.2.2.2.2.2.1 k0_t1
theorem k0_off56_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off56 v0 v6 v12 v18 v24 v30 v36 v42 v48 v54 v60 v66 v72 v78 v84 v90 k0_t1) a + S1x24x128.size a ≤ S2x24x1536.size a := fun v0 v6 v12 v18 v24 v30 v36 v42 v48 v54 v60 v66 v72 v78 v84 v90 k0_hw15 k0_t1 => k0_hw15.1.2.2.2.2.2.2.2.2.2.2.2.2.2.2.2.2.2.2.2.2.2.2.1 k0_t1
theorem k0_off57_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h35 : k0_cond35 v0 v6 v12 v18 v24 v30 v36 v42 v48 v54 v60 v66 v72 v78 v84 v90 k0_t1 = 1#1), ∀ a, (k0_off57 v0 v6 v12 v18 v24 v30 v36 v42 v48 v54 v60 v66 v72 v78 v84 v90 k0_t1) a + S1.size a ≤ S16.size a := fun v0 v6 v12 v18 v24 v30 v36 v42 v48 v54 v60 v66 v72 v78 v84 v90 k0_hw15 k0_t1 k0_h35 => k0_hw15.1.2.2.2.2.2.2.2.2.2.2.2.2.2.2.2.2.2.2.2.2.2.2.2.1 k0_t1 k0_h35
theorem k0_off58_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h35 : k0_cond35 v0 v6 v12 v18 v24 v30 v36 v42 v48 v54 v60 v66 v72 v78 v84 v90 k0_t1 = 1#1), ∀ a, (k0_off58 v0 v6 v12 v18 v24 v30 v36 v42 v48 v54 v60 v66 v72 v78 v84 v90 k0_t1) a + S1.size a ≤ S2.size a := fun v0 v6 v12 v18 v24 v30 v36 v42 v48 v54 v60 v66 v72 v78 v84 v90 k0_hw15 k0_t1 k0_h35 => k0_hw15.1.2.2.2.2.2.2.2.2.2.2.2.2.2.2.2.2.2.2.2.2.2.2.2.2.1 k0_t1 k0_h35
theorem k0_off60_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h35 : k0_cond35 v0 v6 v12 v18 v24 v30 v36 v42 v48 v54 v60 v66 v72 v78 v84 v90 k0_t1 = 1#1), ∀ a, (k0_off60 v0 v6 v12 v18 v24 v30 v36 v42 v48 v54 v60 v66 v72 v78 v84 v90 k0_t1) a + S1x24x7168.size a ≤ S2x24x7168.size a := fun v0 v6 v12 v18 v24 v30 v36 v42 v48 v54 v60 v66 v72 v78 v84 v90 k0_hw15 k0_t1 k0_h35 => k0_hw15.1.2.2.2.2.2.2.2.2.2.2.2.2.2.2.2.2.2.2.2.2.2.2.2.2.2.1 k0_t1 k0_h35
theorem k0_off60_wordsbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h35 : k0_cond35 v0 v6 v12 v18 v24 v30 v36 v42 v48 v54 v60 v66 v72 v78 v84 v90 k0_t1 = 1#1), (Rect.unit (s := S2x24x7168) (k0_off60 v0 v6 v12 v18 v24 v30 v36 v42 v48 v54 v60 v66 v72 v78 v84 v90 k0_t1) S1x24x7168.size (k0_off60_inb v0 v6 v12 v18 v24 v30 v36 v42 v48 v54 v60 v66 v72 v78 v84 v90 k0_hw15 k0_t1 k0_h35)).WholeWords (EltTy.packing .bf16) := fun v0 v6 v12 v18 v24 v30 v36 v42 v48 v54 v60 v66 v72 v78 v84 v90 k0_hw15 k0_t1 k0_h35 => k0_hw15.1.2.2.2.2.2.2.2.2.2.2.2.2.2.2.2.2.2.2.2.2.2.2.2.2.2.2.1 k0_t1 k0_h35 (k0_off60_inb v0 v6 v12 v18 v24 v30 v36 v42 v48 v54 v60 v66 v72 v78 v84 v90 k0_hw15 k0_t1 k0_h35)
theorem k0_off61_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h36 : k0_cond36 v0 v6 v12 v18 v24 v30 v36 v42 v48 v54 v60 v66 v72 v78 v84 v90 k0_t1 = 1#1), ∀ a, (k0_off61 v0 v6 v12 v18 v24 v30 v36 v42 v48 v54 v60 v66 v72 v78 v84 v90 k0_t1) a + S1.size a ≤ S16.size a := fun v0 v6 v12 v18 v24 v30 v36 v42 v48 v54 v60 v66 v72 v78 v84 v90 k0_hw15 k0_t1 k0_h36 => k0_hw15.1.2.2.2.2.2.2.2.2.2.2.2.2.2.2.2.2.2.2.2.2.2.2.2.2.2.2.2.1 k0_t1 k0_h36
theorem k0_off62_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h36 : k0_cond36 v0 v6 v12 v18 v24 v30 v36 v42 v48 v54 v60 v66 v72 v78 v84 v90 k0_t1 = 1#1), ∀ a, (k0_off62 v0 v6 v12 v18 v24 v30 v36 v42 v48 v54 v60 v66 v72 v78 v84 v90 k0_t1) a + S1.size a ≤ S2.size a := fun v0 v6 v12 v18 v24 v30 v36 v42 v48 v54 v60 v66 v72 v78 v84 v90 k0_hw15 k0_t1 k0_h36 => k0_hw15.1.2.2.2.2.2.2.2.2.2.2.2.2.2.2.2.2.2.2.2.2.2.2.2.2.2.2.2.2.1 k0_t1 k0_h36
theorem k0_off63_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h36 : k0_cond36 v0 v6 v12 v18 v24 v30 v36 v42 v48 v54 v60 v66 v72 v78 v84 v90 k0_t1 = 1#1), ∀ a, (k0_off63 v0 v6 v12 v18 v24 v30 v36 v42 v48 v54 v60 v66 v72 v78 v84 v90 k0_t1) a + S1x24x1536.size a ≤ S2x24x1536.size a := fun v0 v6 v12 v18 v24 v30 v36 v42 v48 v54 v60 v66 v72 v78 v84 v90 k0_hw15 k0_t1 k0_h36 => k0_hw15.1.2.2.2.2.2.2.2.2.2.2.2.2.2.2.2.2.2.2.2.2.2.2.2.2.2.2.2.2.2.1 k0_t1 k0_h36
theorem k0_off63_wordsbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h36 : k0_cond36 v0 v6 v12 v18 v24 v30 v36 v42 v48 v54 v60 v66 v72 v78 v84 v90 k0_t1 = 1#1), (Rect.unit (s := S2x24x1536) (k0_off63 v0 v6 v12 v18 v24 v30 v36 v42 v48 v54 v60 v66 v72 v78 v84 v90 k0_t1) S1x24x1536.size (k0_off63_inb v0 v6 v12 v18 v24 v30 v36 v42 v48 v54 v60 v66 v72 v78 v84 v90 k0_hw15 k0_t1 k0_h36)).WholeWords (EltTy.packing .bf16) := fun v0 v6 v12 v18 v24 v30 v36 v42 v48 v54 v60 v66 v72 v78 v84 v90 k0_hw15 k0_t1 k0_h36 => k0_hw15.1.2.2.2.2.2.2.2.2.2.2.2.2.2.2.2.2.2.2.2.2.2.2.2.2.2.2.2.2.2.2.1 k0_t1 k0_h36 (k0_off63_inb v0 v6 v12 v18 v24 v30 v36 v42 v48 v54 v60 v66 v72 v78 v84 v90 k0_hw15 k0_t1 k0_h36)
theorem k0_off65_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h36 : k0_cond36 v0 v6 v12 v18 v24 v30 v36 v42 v48 v54 v60 v66 v72 v78 v84 v90 k0_t1 = 1#1), ∀ a, (k0_off65 v0 v6 v12 v18 v24 v30 v36 v42 v48 v54 v60 v66 v72 v78 v84 v90 k0_t1) a + S1.size a ≤ S16.size a := fun v0 v6 v12 v18 v24 v30 v36 v42 v48 v54 v60 v66 v72 v78 v84 v90 k0_hw15 k0_t1 k0_h36 => k0_hw15.1.2.2.2.2.2.2.2.2.2.2.2.2.2.2.2.2.2.2.2.2.2.2.2.2.2.2.2.2.2.2.2 k0_t1 k0_h36
theorem k0_off66_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h36 : k0_cond36 v0 v6 v12 v18 v24 v30 v36 v42 v48 v54 v60 v66 v72 v78 v84 v90 k0_t1 = 1#1), ∀ a, (k0_off66 v0 v6 v12 v18 v24 v30 v36 v42 v48 v54 v60 v66 v72 v78 v84 v90 k0_t1) a + S1.size a ≤ S2.size a := fun v0 v6 v12 v18 v24 v30 v36 v42 v48 v54 v60 v66 v72 v78 v84 v90 k0_hw15 k0_t1 k0_h36 => k0_hw15.2.1.1 k0_t1 k0_h36
theorem k0_off67_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h36 : k0_cond36 v0 v6 v12 v18 v24 v30 v36 v42 v48 v54 v60 v66 v72 v78 v84 v90 k0_t1 = 1#1), ∀ a, (k0_off67 v0 v6 v12 v18 v24 v30 v36 v42 v48 v54 v60 v66 v72 v78 v84 v90 k0_t1) a + S1x56x12.size a ≤ S2x56x12.size a := fun v0 v6 v12 v18 v24 v30 v36 v42 v48 v54 v60 v66 v72 v78 v84 v90 k0_hw15 k0_t1 k0_h36 => k0_hw15.2.1.2.1 k0_t1 k0_h36
theorem k0_off69_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off69 v0 v6 v12 v18 v24 v30 v36 v42 v48 v54 v60 v66 v72 v78 v84 v90 k0_t1) a + S1.size a ≤ S16.size a := fun v0 v6 v12 v18 v24 v30 v36 v42 v48 v54 v60 v66 v72 v78 v84 v90 k0_hw15 k0_t1 => k0_hw15.2.1.2.2.1 k0_t1
theorem k0_off70_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off70 v0 v6 v12 v18 v24 v30 v36 v42 v48 v54 v60 v66 v72 v78 v84 v90 k0_t1) a + S1x1.size a ≤ S2x7.size a := fun v0 v6 v12 v18 v24 v30 v36 v42 v48 v54 v60 v66 v72 v78 v84 v90 k0_hw15 k0_t1 => k0_hw15.2.1.2.2.2.1 k0_t1
theorem k0_off71_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off71 v0 v6 v12 v18 v24 v30 v36 v42 v48 v54 v60 v66 v72 v78 v84 v90 k0_t1) a + S1x1024x1536.size a ≤ S2x7168x1536.size a := fun v0 v6 v12 v18 v24 v30 v36 v42 v48 v54 v60 v66 v72 v78 v84 v90 k0_hw15 k0_t1 => k0_hw15.2.1.2.2.2.2.1 k0_t1
theorem k0_off71_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x7168x1536) (k0_off71 v0 v6 v12 v18 v24 v30 v36 v42 v48 v54 v60 v66 v72 v78 v84 v90 k0_t1) S1x1024x1536.size (k0_off71_inb v0 v6 v12 v18 v24 v30 v36 v42 v48 v54 v60 v66 v72 v78 v84 v90 k0_hw15 k0_t1)).WholeWords (EltTy.packing .fp8e4m3) := fun v0 v6 v12 v18 v24 v30 v36 v42 v48 v54 v60 v66 v72 v78 v84 v90 k0_hw15 k0_t1 => k0_hw15.2.1.2.2.2.2.2.1 k0_t1 (k0_off71_inb v0 v6 v12 v18 v24 v30 v36 v42 v48 v54 v60 v66 v72 v78 v84 v90 k0_hw15 k0_t1)
theorem k0_off73_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off73 v0 v6 v12 v18 v24 v30 v36 v42 v48 v54 v60 v66 v72 v78 v84 v90 k0_t1) a + S1x256x1536.size a ≤ S2x7168x1536.size a := fun v0 v6 v12 v18 v24 v30 v36 v42 v48 v54 v60 v66 v72 v78 v84 v90 k0_hw15 k0_t1 => k0_hw15.2.1.2.2.2.2.2.2.1 k0_t1
theorem k0_off74_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off74 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.1.2.2.2.2.2.2.2.1 k0_t1
theorem k0_off74_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off74 v0 v6 v12 v18 v24 v30 v36 v42 v48 v54 v60 v66 v72 v78 v84 v90 k0_t1) S1x24x128.size (k0_off74_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.1.2.2.2.2.2.2.2.2.1 k0_t1 (k0_off74_inb v0 v6 v12 v18 v24 v30 v36 v42 v48 v54 v60 v66 v72 v78 v84 v90 k0_hw15 k0_t1)
theorem k0_off75_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off75 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.1.2.2.2.2.2.2.2.2.2.1 k0_t1
theorem k0_off75_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off75 v0 v6 v12 v18 v24 v30 v36 v42 v48 v54 v60 v66 v72 v78 v84 v90 k0_t1) S1x24x128.size (k0_off75_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.1.2.2.2.2.2.2.2.2.2.2.1 k0_t1 (k0_off75_inb v0 v6 v12 v18 v24 v30 v36 v42 v48 v54 v60 v66 v72 v78 v84 v90 k0_hw15 k0_t1)
theorem k0_off76_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off76 v0 v6 v12 v18 v24 v30 v36 v42 v48 v54 v60 v66 v72 v78 v84 v90 k0_t1) a + S1x256x1536.size a ≤ S2x7168x1536.size a := fun v0 v6 v12 v18 v24 v30 v36 v42 v48 v54 v60 v66 v72 v78 v84 v90 k0_hw15 k0_t1 => k0_hw15.2.1.2.2.2.2.2.2.2.2.2.2.2.1 k0_t1
theorem k0_off77_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off77 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.1.2.2.2.2.2.2.2.2.2.2.2.2.1 k0_t1
theorem k0_off77_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off77 v0 v6 v12 v18 v24 v30 v36 v42 v48 v54 v60 v66 v72 v78 v84 v90 k0_t1) S1x24x128.size (k0_off77_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.1.2.2.2.2.2.2.2.2.2.2.2.2.2.1 k0_t1 (k0_off77_inb v0 v6 v12 v18 v24 v30 v36 v42 v48 v54 v60 v66 v72 v78 v84 v90 k0_hw15 k0_t1)
theorem k0_off78_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off78 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.1.2.2.2.2.2.2.2.2.2.2.2.2.2.2.1 k0_t1
theorem k0_off78_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off78 v0 v6 v12 v18 v24 v30 v36 v42 v48 v54 v60 v66 v72 v78 v84 v90 k0_t1) S1x24x128.size (k0_off78_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.1.2.2.2.2.2.2.2.2.2.2.2.2.2.2.2.1 k0_t1 (k0_off78_inb v0 v6 v12 v18 v24 v30 v36 v42 v48 v54 v60 v66 v72 v78 v84 v90 k0_hw15 k0_t1)
theorem k0_off79_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off79 v0 v6 v12 v18 v24 v30 v36 v42 v48 v54 v60 v66 v72 v78 v84 v90 k0_t1) a + S1x256x1536.size a ≤ S2x7168x1536.size a := fun v0 v6 v12 v18 v24 v30 v36 v42 v48 v54 v60 v66 v72 v78 v84 v90 k0_hw15 k0_t1 => k0_hw15.2.1.2.2.2.2.2.2.2.2.2.2.2.2.2.2.2.2.1 k0_t1
theorem k0_off80_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off80 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.1.2.2.2.2.2.2.2.2.2.2.2.2.2.2.2.2.2.1 k0_t1
theorem k0_off80_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off80 v0 v6 v12 v18 v24 v30 v36 v42 v48 v54 v60 v66 v72 v78 v84 v90 k0_t1) S1x24x128.size (k0_off80_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.1.2.2.2.2.2.2.2.2.2.2.2.2.2.2.2.2.2.2.1 k0_t1 (k0_off80_inb v0 v6 v12 v18 v24 v30 v36 v42 v48 v54 v60 v66 v72 v78 v84 v90 k0_hw15 k0_t1)
theorem k0_off81_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off81 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.1.2.2.2.2.2.2.2.2.2.2.2.2.2.2.2.2.2.2.2.1 k0_t1
theorem k0_off81_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off81 v0 v6 v12 v18 v24 v30 v36 v42 v48 v54 v60 v66 v72 v78 v84 v90 k0_t1) S1x24x128.size (k0_off81_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.1.2.2.2.2.2.2.2.2.2.2.2.2.2.2.2.2.2.2.2.2.1 k0_t1 (k0_off81_inb v0 v6 v12 v18 v24 v30 v36 v42 v48 v54 v60 v66 v72 v78 v84 v90 k0_hw15 k0_t1)
theorem k0_off82_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off82 v0 v6 v12 v18 v24 v30 v36 v42 v48 v54 v60 v66 v72 v78 v84 v90 k0_t1) a + S1x256x1536.size a ≤ S2x7168x1536.size a := fun v0 v6 v12 v18 v24 v30 v36 v42 v48 v54 v60 v66 v72 v78 v84 v90 k0_hw15 k0_t1 => k0_hw15.2.1.2.2.2.2.2.2.2.2.2.2.2.2.2.2.2.2.2.2.2.2.2.1 k0_t1
theorem k0_off83_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off83 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.1.2.2.2.2.2.2.2.2.2.2.2.2.2.2.2.2.2.2.2.2.2.2.1 k0_t1
theorem k0_off83_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off83 v0 v6 v12 v18 v24 v30 v36 v42 v48 v54 v60 v66 v72 v78 v84 v90 k0_t1) S1x24x128.size (k0_off83_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.1.2.2.2.2.2.2.2.2.2.2.2.2.2.2.2.2.2.2.2.2.2.2.2.1 k0_t1 (k0_off83_inb v0 v6 v12 v18 v24 v30 v36 v42 v48 v54 v60 v66 v72 v78 v84 v90 k0_hw15 k0_t1)
theorem k0_off84_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off84 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.1.2.2.2.2.2.2.2.2.2.2.2.2.2.2.2.2.2.2.2.2.2.2.2.2.1 k0_t1
theorem k0_off84_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off84 v0 v6 v12 v18 v24 v30 v36 v42 v48 v54 v60 v66 v72 v78 v84 v90 k0_t1) S1x24x128.size (k0_off84_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.1.2.2.2.2.2.2.2.2.2.2.2.2.2.2.2.2.2.2.2.2.2.2.2.2.2.1 k0_t1 (k0_off84_inb v0 v6 v12 v18 v24 v30 v36 v42 v48 v54 v60 v66 v72 v78 v84 v90 k0_hw15 k0_t1)
theorem k0_off85_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h37 : k0_cond37 v0 v6 v12 v18 v24 v30 v36 v42 v48 v54 v60 v66 v72 v78 v84 v90 k0_t1 = 1#1), ∀ a, (k0_off85 v0 v6 v12 v18 v24 v30 v36 v42 v48 v54 v60 v66 v72 v78 v84 v90 k0_t1) a + S1.size a ≤ S16.size a := fun v0 v6 v12 v18 v24 v30 v36 v42 v48 v54 v60 v66 v72 v78 v84 v90 k0_hw15 k0_t1 k0_h37 => k0_hw15.2.1.2.2.2.2.2.2.2.2.2.2.2.2.2.2.2.2.2.2.2.2.2.2.2.2.2.2.1 k0_t1 k0_h37
theorem k0_off86_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h37 : k0_cond37 v0 v6 v12 v18 v24 v30 v36 v42 v48 v54 v60 v66 v72 v78 v84 v90 k0_t1 = 1#1), ∀ a, (k0_off86 v0 v6 v12 v18 v24 v30 v36 v42 v48 v54 v60 v66 v72 v78 v84 v90 k0_t1) a + S1x1.size a ≤ S2x7.size a := fun v0 v6 v12 v18 v24 v30 v36 v42 v48 v54 v60 v66 v72 v78 v84 v90 k0_hw15 k0_t1 k0_h37 => k0_hw15.2.1.2.2.2.2.2.2.2.2.2.2.2.2.2.2.2.2.2.2.2.2.2.2.2.2.2.2.2.1 k0_t1 k0_h37
theorem k0_off87_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h37 : k0_cond37 v0 v6 v12 v18 v24 v30 v36 v42 v48 v54 v60 v66 v72 v78 v84 v90 k0_t1 = 1#1), ∀ a, (k0_off87 v0 v6 v12 v18 v24 v30 v36 v42 v48 v54 v60 v66 v72 v78 v84 v90 k0_t1) a + S1x1024x1536.size a ≤ S2x7168x1536.size a := fun v0 v6 v12 v18 v24 v30 v36 v42 v48 v54 v60 v66 v72 v78 v84 v90 k0_hw15 k0_t1 k0_h37 => k0_hw15.2.1.2.2.2.2.2.2.2.2.2.2.2.2.2.2.2.2.2.2.2.2.2.2.2.2.2.2.2.2.1 k0_t1 k0_h37
theorem k0_off87_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h37 : k0_cond37 v0 v6 v12 v18 v24 v30 v36 v42 v48 v54 v60 v66 v72 v78 v84 v90 k0_t1 = 1#1), (Rect.unit (s := S2x7168x1536) (k0_off87 v0 v6 v12 v18 v24 v30 v36 v42 v48 v54 v60 v66 v72 v78 v84 v90 k0_t1) S1x1024x1536.size (k0_off87_inb v0 v6 v12 v18 v24 v30 v36 v42 v48 v54 v60 v66 v72 v78 v84 v90 k0_hw15 k0_t1 k0_h37)).WholeWords (EltTy.packing .fp8e4m3) := fun v0 v6 v12 v18 v24 v30 v36 v42 v48 v54 v60 v66 v72 v78 v84 v90 k0_hw15 k0_t1 k0_h37 => k0_hw15.2.1.2.2.2.2.2.2.2.2.2.2.2.2.2.2.2.2.2.2.2.2.2.2.2.2.2.2.2.2.2.1 k0_t1 k0_h37 (k0_off87_inb v0 v6 v12 v18 v24 v30 v36 v42 v48 v54 v60 v66 v72 v78 v84 v90 k0_hw15 k0_t1 k0_h37)
theorem k0_off89_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off89 v0 v6 v12 v18 v24 v30 v36 v42 v48 v54 v60 v66 v72 v78 v84 v90 k0_t1) a + S1.size a ≤ S16.size a := fun v0 v6 v12 v18 v24 v30 v36 v42 v48 v54 v60 v66 v72 v78 v84 v90 k0_hw15 k0_t1 => k0_hw15.2.1.2.2.2.2.2.2.2.2.2.2.2.2.2.2.2.2.2.2.2.2.2.2.2.2.2.2.2.2.2.2.1 k0_t1
theorem k0_off90_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off90 v0 v6 v12 v18 v24 v30 v36 v42 v48 v54 v60 v66 v72 v78 v84 v90 k0_t1) a + S1x1.size a ≤ S2x7.size a := fun v0 v6 v12 v18 v24 v30 v36 v42 v48 v54 v60 v66 v72 v78 v84 v90 k0_hw15 k0_t1 => k0_hw15.2.1.2.2.2.2.2.2.2.2.2.2.2.2.2.2.2.2.2.2.2.2.2.2.2.2.2.2.2.2.2.2.2 k0_t1
theorem k0_off91_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off91 v0 v6 v12 v18 v24 v30 v36 v42 v48 v54 v60 v66 v72 v78 v84 v90 k0_t1) a + S1x1024x1536.size a ≤ S2x7168x1536.size a := fun v0 v6 v12 v18 v24 v30 v36 v42 v48 v54 v60 v66 v72 v78 v84 v90 k0_hw15 k0_t1 => k0_hw15.2.2.1.1 k0_t1
theorem k0_off91_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x7168x1536) (k0_off91 v0 v6 v12 v18 v24 v30 v36 v42 v48 v54 v60 v66 v72 v78 v84 v90 k0_t1) S1x1024x1536.size (k0_off91_inb v0 v6 v12 v18 v24 v30 v36 v42 v48 v54 v60 v66 v72 v78 v84 v90 k0_hw15 k0_t1)).WholeWords (EltTy.packing .fp8e4m3) := fun v0 v6 v12 v18 v24 v30 v36 v42 v48 v54 v60 v66 v72 v78 v84 v90 k0_hw15 k0_t1 => k0_hw15.2.2.1.2.1 k0_t1 (k0_off91_inb v0 v6 v12 v18 v24 v30 v36 v42 v48 v54 v60 v66 v72 v78 v84 v90 k0_hw15 k0_t1)
theorem k0_off93_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off93 v0 v6 v12 v18 v24 v30 v36 v42 v48 v54 v60 v66 v72 v78 v84 v90 k0_t1) a + S1x256x1536.size a ≤ S2x7168x1536.size a := fun v0 v6 v12 v18 v24 v30 v36 v42 v48 v54 v60 v66 v72 v78 v84 v90 k0_hw15 k0_t1 => k0_hw15.2.2.1.2.2.1 k0_t1
theorem k0_off94_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off94 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.1.2.2.2.1 k0_t1
theorem k0_off94_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off94 v0 v6 v12 v18 v24 v30 v36 v42 v48 v54 v60 v66 v72 v78 v84 v90 k0_t1) S1x24x128.size (k0_off94_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.1.2.2.2.2.1 k0_t1 (k0_off94_inb v0 v6 v12 v18 v24 v30 v36 v42 v48 v54 v60 v66 v72 v78 v84 v90 k0_hw15 k0_t1)
theorem k0_off95_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off95 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.1.2.2.2.2.2.1 k0_t1
theorem k0_off95_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off95 v0 v6 v12 v18 v24 v30 v36 v42 v48 v54 v60 v66 v72 v78 v84 v90 k0_t1) S1x24x128.size (k0_off95_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.1.2.2.2.2.2.2.1 k0_t1 (k0_off95_inb v0 v6 v12 v18 v24 v30 v36 v42 v48 v54 v60 v66 v72 v78 v84 v90 k0_hw15 k0_t1)
theorem k0_off96_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off96 v0 v6 v12 v18 v24 v30 v36 v42 v48 v54 v60 v66 v72 v78 v84 v90 k0_t1) a + S1x256x1536.size a ≤ S2x7168x1536.size a := fun v0 v6 v12 v18 v24 v30 v36 v42 v48 v54 v60 v66 v72 v78 v84 v90 k0_hw15 k0_t1 => k0_hw15.2.2.1.2.2.2.2.2.2.2.1 k0_t1
theorem k0_off97_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off97 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.1.2.2.2.2.2.2.2.2.1 k0_t1
theorem k0_off97_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off97 v0 v6 v12 v18 v24 v30 v36 v42 v48 v54 v60 v66 v72 v78 v84 v90 k0_t1) S1x24x128.size (k0_off97_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.1.2.2.2.2.2.2.2.2.2.1 k0_t1 (k0_off97_inb v0 v6 v12 v18 v24 v30 v36 v42 v48 v54 v60 v66 v72 v78 v84 v90 k0_hw15 k0_t1)
theorem k0_off98_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off98 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.1.2.2.2.2.2.2.2.2.2.2.1 k0_t1
theorem k0_off98_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off98 v0 v6 v12 v18 v24 v30 v36 v42 v48 v54 v60 v66 v72 v78 v84 v90 k0_t1) S1x24x128.size (k0_off98_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.1.2.2.2.2.2.2.2.2.2.2.2.1 k0_t1 (k0_off98_inb v0 v6 v12 v18 v24 v30 v36 v42 v48 v54 v60 v66 v72 v78 v84 v90 k0_hw15 k0_t1)
theorem k0_off99_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off99 v0 v6 v12 v18 v24 v30 v36 v42 v48 v54 v60 v66 v72 v78 v84 v90 k0_t1) a + S1x256x1536.size a ≤ S2x7168x1536.size a := fun v0 v6 v12 v18 v24 v30 v36 v42 v48 v54 v60 v66 v72 v78 v84 v90 k0_hw15 k0_t1 => k0_hw15.2.2.1.2.2.2.2.2.2.2.2.2.2.2.2.1 k0_t1
theorem k0_off100_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off100 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.1.2.2.2.2.2.2.2.2.2.2.2.2.2.1 k0_t1
theorem k0_off100_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off100 v0 v6 v12 v18 v24 v30 v36 v42 v48 v54 v60 v66 v72 v78 v84 v90 k0_t1) S1x24x128.size (k0_off100_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.1.2.2.2.2.2.2.2.2.2.2.2.2.2.2.1 k0_t1 (k0_off100_inb v0 v6 v12 v18 v24 v30 v36 v42 v48 v54 v60 v66 v72 v78 v84 v90 k0_hw15 k0_t1)
theorem k0_off101_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off101 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.1.2.2.2.2.2.2.2.2.2.2.2.2.2.2.2.1 k0_t1
theorem k0_off101_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off101 v0 v6 v12 v18 v24 v30 v36 v42 v48 v54 v60 v66 v72 v78 v84 v90 k0_t1) S1x24x128.size (k0_off101_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.1.2.2.2.2.2.2.2.2.2.2.2.2.2.2.2.2.1 k0_t1 (k0_off101_inb v0 v6 v12 v18 v24 v30 v36 v42 v48 v54 v60 v66 v72 v78 v84 v90 k0_hw15 k0_t1)
theorem k0_off102_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off102 v0 v6 v12 v18 v24 v30 v36 v42 v48 v54 v60 v66 v72 v78 v84 v90 k0_t1) a + S1x256x1536.size a ≤ S2x7168x1536.size a := fun v0 v6 v12 v18 v24 v30 v36 v42 v48 v54 v60 v66 v72 v78 v84 v90 k0_hw15 k0_t1 => k0_hw15.2.2.1.2.2.2.2.2.2.2.2.2.2.2.2.2.2.2.2.2.1 k0_t1
theorem k0_off103_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off103 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.1.2.2.2.2.2.2.2.2.2.2.2.2.2.2.2.2.2.2.1 k0_t1
theorem k0_off103_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off103 v0 v6 v12 v18 v24 v30 v36 v42 v48 v54 v60 v66 v72 v78 v84 v90 k0_t1) S1x24x128.size (k0_off103_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.1.2.2.2.2.2.2.2.2.2.2.2.2.2.2.2.2.2.2.2.1 k0_t1 (k0_off103_inb v0 v6 v12 v18 v24 v30 v36 v42 v48 v54 v60 v66 v72 v78 v84 v90 k0_hw15 k0_t1)
theorem k0_off104_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off104 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.1.2.2.2.2.2.2.2.2.2.2.2.2.2.2.2.2.2.2.2.2.1 k0_t1
theorem k0_off104_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off104 v0 v6 v12 v18 v24 v30 v36 v42 v48 v54 v60 v66 v72 v78 v84 v90 k0_t1) S1x24x128.size (k0_off104_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.1.2.2.2.2.2.2.2.2.2.2.2.2.2.2.2.2.2.2.2.2.2.1 k0_t1 (k0_off104_inb v0 v6 v12 v18 v24 v30 v36 v42 v48 v54 v60 v66 v72 v78 v84 v90 k0_hw15 k0_t1)
theorem k0_off105_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h38 : k0_cond38 v0 v6 v12 v18 v24 v30 v36 v42 v48 v54 v60 v66 v72 v78 v84 v90 k0_t1 = 1#1), ∀ a, (k0_off105 v0 v6 v12 v18 v24 v30 v36 v42 v48 v54 v60 v66 v72 v78 v84 v90 k0_t1) a + S1.size a ≤ S16.size a := fun v0 v6 v12 v18 v24 v30 v36 v42 v48 v54 v60 v66 v72 v78 v84 v90 k0_hw15 k0_t1 k0_h38 => k0_hw15.2.2.1.2.2.2.2.2.2.2.2.2.2.2.2.2.2.2.2.2.2.2.2.2.2.1 k0_t1 k0_h38
theorem k0_off106_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h38 : k0_cond38 v0 v6 v12 v18 v24 v30 v36 v42 v48 v54 v60 v66 v72 v78 v84 v90 k0_t1 = 1#1), ∀ a, (k0_off106 v0 v6 v12 v18 v24 v30 v36 v42 v48 v54 v60 v66 v72 v78 v84 v90 k0_t1) a + S1x1.size a ≤ S2x7.size a := fun v0 v6 v12 v18 v24 v30 v36 v42 v48 v54 v60 v66 v72 v78 v84 v90 k0_hw15 k0_t1 k0_h38 => k0_hw15.2.2.1.2.2.2.2.2.2.2.2.2.2.2.2.2.2.2.2.2.2.2.2.2.2.2.1 k0_t1 k0_h38
theorem k0_off107_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h38 : k0_cond38 v0 v6 v12 v18 v24 v30 v36 v42 v48 v54 v60 v66 v72 v78 v84 v90 k0_t1 = 1#1), ∀ a, (k0_off107 v0 v6 v12 v18 v24 v30 v36 v42 v48 v54 v60 v66 v72 v78 v84 v90 k0_t1) a + S1x1024x1536.size a ≤ S2x7168x1536.size a := fun v0 v6 v12 v18 v24 v30 v36 v42 v48 v54 v60 v66 v72 v78 v84 v90 k0_hw15 k0_t1 k0_h38 => k0_hw15.2.2.1.2.2.2.2.2.2.2.2.2.2.2.2.2.2.2.2.2.2.2.2.2.2.2.2.1 k0_t1 k0_h38
theorem k0_off107_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h38 : k0_cond38 v0 v6 v12 v18 v24 v30 v36 v42 v48 v54 v60 v66 v72 v78 v84 v90 k0_t1 = 1#1), (Rect.unit (s := S2x7168x1536) (k0_off107 v0 v6 v12 v18 v24 v30 v36 v42 v48 v54 v60 v66 v72 v78 v84 v90 k0_t1) S1x1024x1536.size (k0_off107_inb v0 v6 v12 v18 v24 v30 v36 v42 v48 v54 v60 v66 v72 v78 v84 v90 k0_hw15 k0_t1 k0_h38)).WholeWords (EltTy.packing .fp8e4m3) := fun v0 v6 v12 v18 v24 v30 v36 v42 v48 v54 v60 v66 v72 v78 v84 v90 k0_hw15 k0_t1 k0_h38 => k0_hw15.2.2.1.2.2.2.2.2.2.2.2.2.2.2.2.2.2.2.2.2.2.2.2.2.2.2.2.2.1 k0_t1 k0_h38 (k0_off107_inb v0 v6 v12 v18 v24 v30 v36 v42 v48 v54 v60 v66 v72 v78 v84 v90 k0_hw15 k0_t1 k0_h38)
theorem k0_off109_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off109 v0 v6 v12 v18 v24 v30 v36 v42 v48 v54 v60 v66 v72 v78 v84 v90 k0_t1) a + S1.size a ≤ S16.size a := fun v0 v6 v12 v18 v24 v30 v36 v42 v48 v54 v60 v66 v72 v78 v84 v90 k0_hw15 k0_t1 => k0_hw15.2.2.1.2.2.2.2.2.2.2.2.2.2.2.2.2.2.2.2.2.2.2.2.2.2.2.2.2.2.1 k0_t1
theorem k0_off110_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off110 v0 v6 v12 v18 v24 v30 v36 v42 v48 v54 v60 v66 v72 v78 v84 v90 k0_t1) a + S1x1.size a ≤ S2x7.size a := fun v0 v6 v12 v18 v24 v30 v36 v42 v48 v54 v60 v66 v72 v78 v84 v90 k0_hw15 k0_t1 => k0_hw15.2.2.1.2.2.2.2.2.2.2.2.2.2.2.2.2.2.2.2.2.2.2.2.2.2.2.2.2.2.2.1 k0_t1
theorem k0_off111_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off111 v0 v6 v12 v18 v24 v30 v36 v42 v48 v54 v60 v66 v72 v78 v84 v90 k0_t1) a + S1x1024x1536.size a ≤ S2x7168x1536.size a := fun v0 v6 v12 v18 v24 v30 v36 v42 v48 v54 v60 v66 v72 v78 v84 v90 k0_hw15 k0_t1 => k0_hw15.2.2.1.2.2.2.2.2.2.2.2.2.2.2.2.2.2.2.2.2.2.2.2.2.2.2.2.2.2.2.2.1 k0_t1
theorem k0_off111_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x7168x1536) (k0_off111 v0 v6 v12 v18 v24 v30 v36 v42 v48 v54 v60 v66 v72 v78 v84 v90 k0_t1) S1x1024x1536.size (k0_off111_inb v0 v6 v12 v18 v24 v30 v36 v42 v48 v54 v60 v66 v72 v78 v84 v90 k0_hw15 k0_t1)).WholeWords (EltTy.packing .fp8e4m3) := fun v0 v6 v12 v18 v24 v30 v36 v42 v48 v54 v60 v66 v72 v78 v84 v90 k0_hw15 k0_t1 => k0_hw15.2.2.1.2.2.2.2.2.2.2.2.2.2.2.2.2.2.2.2.2.2.2.2.2.2.2.2.2.2.2.2.2.1 k0_t1 (k0_off111_inb v0 v6 v12 v18 v24 v30 v36 v42 v48 v54 v60 v66 v72 v78 v84 v90 k0_hw15 k0_t1)
theorem k0_off113_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off113 v0 v6 v12 v18 v24 v30 v36 v42 v48 v54 v60 v66 v72 v78 v84 v90 k0_t1) a + S1x256x1536.size a ≤ S2x7168x1536.size a := fun v0 v6 v12 v18 v24 v30 v36 v42 v48 v54 v60 v66 v72 v78 v84 v90 k0_hw15 k0_t1 => k0_hw15.2.2.1.2.2.2.2.2.2.2.2.2.2.2.2.2.2.2.2.2.2.2.2.2.2.2.2.2.2.2.2.2.2.1 k0_t1
theorem k0_off114_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off114 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.1.2.2.2.2.2.2.2.2.2.2.2.2.2.2.2.2.2.2.2.2.2.2.2.2.2.2.2.2.2.2.2 k0_t1
theorem k0_off114_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off114 v0 v6 v12 v18 v24 v30 v36 v42 v48 v54 v60 v66 v72 v78 v84 v90 k0_t1) S1x24x128.size (k0_off114_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.1.1 k0_t1 (k0_off114_inb v0 v6 v12 v18 v24 v30 v36 v42 v48 v54 v60 v66 v72 v78 v84 v90 k0_hw15 k0_t1)
theorem k0_off115_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off115 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.1.2.1 k0_t1
theorem k0_off115_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off115 v0 v6 v12 v18 v24 v30 v36 v42 v48 v54 v60 v66 v72 v78 v84 v90 k0_t1) S1x24x128.size (k0_off115_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.1.2.2.1 k0_t1 (k0_off115_inb v0 v6 v12 v18 v24 v30 v36 v42 v48 v54 v60 v66 v72 v78 v84 v90 k0_hw15 k0_t1)
theorem k0_off116_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off116 v0 v6 v12 v18 v24 v30 v36 v42 v48 v54 v60 v66 v72 v78 v84 v90 k0_t1) a + S1x256x1536.size a ≤ S2x7168x1536.size a := fun v0 v6 v12 v18 v24 v30 v36 v42 v48 v54 v60 v66 v72 v78 v84 v90 k0_hw15 k0_t1 => k0_hw15.2.2.2.1.2.2.2.1 k0_t1
theorem k0_off117_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off117 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.1.2.2.2.2.1 k0_t1
theorem k0_off117_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off117 v0 v6 v12 v18 v24 v30 v36 v42 v48 v54 v60 v66 v72 v78 v84 v90 k0_t1) S1x24x128.size (k0_off117_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.1.2.2.2.2.2.1 k0_t1 (k0_off117_inb v0 v6 v12 v18 v24 v30 v36 v42 v48 v54 v60 v66 v72 v78 v84 v90 k0_hw15 k0_t1)
theorem k0_off118_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off118 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.1.2.2.2.2.2.2.1 k0_t1
theorem k0_off118_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off118 v0 v6 v12 v18 v24 v30 v36 v42 v48 v54 v60 v66 v72 v78 v84 v90 k0_t1) S1x24x128.size (k0_off118_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.1.2.2.2.2.2.2.2.1 k0_t1 (k0_off118_inb v0 v6 v12 v18 v24 v30 v36 v42 v48 v54 v60 v66 v72 v78 v84 v90 k0_hw15 k0_t1)
theorem k0_off119_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off119 v0 v6 v12 v18 v24 v30 v36 v42 v48 v54 v60 v66 v72 v78 v84 v90 k0_t1) a + S1x256x1536.size a ≤ S2x7168x1536.size a := fun v0 v6 v12 v18 v24 v30 v36 v42 v48 v54 v60 v66 v72 v78 v84 v90 k0_hw15 k0_t1 => k0_hw15.2.2.2.1.2.2.2.2.2.2.2.2.1 k0_t1
theorem k0_off120_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off120 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.1.2.2.2.2.2.2.2.2.2.1 k0_t1
theorem k0_off120_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off120 v0 v6 v12 v18 v24 v30 v36 v42 v48 v54 v60 v66 v72 v78 v84 v90 k0_t1) S1x24x128.size (k0_off120_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.1.2.2.2.2.2.2.2.2.2.2.1 k0_t1 (k0_off120_inb v0 v6 v12 v18 v24 v30 v36 v42 v48 v54 v60 v66 v72 v78 v84 v90 k0_hw15 k0_t1)
theorem k0_off121_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off121 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.1.2.2.2.2.2.2.2.2.2.2.2.1 k0_t1
theorem k0_off121_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off121 v0 v6 v12 v18 v24 v30 v36 v42 v48 v54 v60 v66 v72 v78 v84 v90 k0_t1) S1x24x128.size (k0_off121_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.1.2.2.2.2.2.2.2.2.2.2.2.2.1 k0_t1 (k0_off121_inb v0 v6 v12 v18 v24 v30 v36 v42 v48 v54 v60 v66 v72 v78 v84 v90 k0_hw15 k0_t1)
theorem k0_off122_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off122 v0 v6 v12 v18 v24 v30 v36 v42 v48 v54 v60 v66 v72 v78 v84 v90 k0_t1) a + S1x256x1536.size a ≤ S2x7168x1536.size a := fun v0 v6 v12 v18 v24 v30 v36 v42 v48 v54 v60 v66 v72 v78 v84 v90 k0_hw15 k0_t1 => k0_hw15.2.2.2.1.2.2.2.2.2.2.2.2.2.2.2.2.2.1 k0_t1
theorem k0_off123_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off123 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.1.2.2.2.2.2.2.2.2.2.2.2.2.2.2.1 k0_t1
theorem k0_off123_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off123 v0 v6 v12 v18 v24 v30 v36 v42 v48 v54 v60 v66 v72 v78 v84 v90 k0_t1) S1x24x128.size (k0_off123_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.1.2.2.2.2.2.2.2.2.2.2.2.2.2.2.2.1 k0_t1 (k0_off123_inb v0 v6 v12 v18 v24 v30 v36 v42 v48 v54 v60 v66 v72 v78 v84 v90 k0_hw15 k0_t1)
theorem k0_off124_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off124 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.1.2.2.2.2.2.2.2.2.2.2.2.2.2.2.2.2.1 k0_t1
theorem k0_off124_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off124 v0 v6 v12 v18 v24 v30 v36 v42 v48 v54 v60 v66 v72 v78 v84 v90 k0_t1) S1x24x128.size (k0_off124_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.1.2.2.2.2.2.2.2.2.2.2.2.2.2.2.2.2.2.1 k0_t1 (k0_off124_inb v0 v6 v12 v18 v24 v30 v36 v42 v48 v54 v60 v66 v72 v78 v84 v90 k0_hw15 k0_t1)
theorem k0_off125_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h39 : k0_cond39 v0 v6 v12 v18 v24 v30 v36 v42 v48 v54 v60 v66 v72 v78 v84 v90 k0_t1 = 1#1), ∀ a, (k0_off125 v0 v6 v12 v18 v24 v30 v36 v42 v48 v54 v60 v66 v72 v78 v84 v90 k0_t1) a + S1.size a ≤ S16.size a := fun v0 v6 v12 v18 v24 v30 v36 v42 v48 v54 v60 v66 v72 v78 v84 v90 k0_hw15 k0_t1 k0_h39 => k0_hw15.2.2.2.1.2.2.2.2.2.2.2.2.2.2.2.2.2.2.2.2.2.2.1 k0_t1 k0_h39
theorem k0_off126_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h39 : k0_cond39 v0 v6 v12 v18 v24 v30 v36 v42 v48 v54 v60 v66 v72 v78 v84 v90 k0_t1 = 1#1), ∀ a, (k0_off126 v0 v6 v12 v18 v24 v30 v36 v42 v48 v54 v60 v66 v72 v78 v84 v90 k0_t1) a + S1x1.size a ≤ S2x7.size a := fun v0 v6 v12 v18 v24 v30 v36 v42 v48 v54 v60 v66 v72 v78 v84 v90 k0_hw15 k0_t1 k0_h39 => k0_hw15.2.2.2.1.2.2.2.2.2.2.2.2.2.2.2.2.2.2.2.2.2.2.2.1 k0_t1 k0_h39
theorem k0_off127_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h39 : k0_cond39 v0 v6 v12 v18 v24 v30 v36 v42 v48 v54 v60 v66 v72 v78 v84 v90 k0_t1 = 1#1), ∀ a, (k0_off127 v0 v6 v12 v18 v24 v30 v36 v42 v48 v54 v60 v66 v72 v78 v84 v90 k0_t1) a + S1x1024x1536.size a ≤ S2x7168x1536.size a := fun v0 v6 v12 v18 v24 v30 v36 v42 v48 v54 v60 v66 v72 v78 v84 v90 k0_hw15 k0_t1 k0_h39 => k0_hw15.2.2.2.1.2.2.2.2.2.2.2.2.2.2.2.2.2.2.2.2.2.2.2.2.1 k0_t1 k0_h39
theorem k0_off127_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h39 : k0_cond39 v0 v6 v12 v18 v24 v30 v36 v42 v48 v54 v60 v66 v72 v78 v84 v90 k0_t1 = 1#1), (Rect.unit (s := S2x7168x1536) (k0_off127 v0 v6 v12 v18 v24 v30 v36 v42 v48 v54 v60 v66 v72 v78 v84 v90 k0_t1) S1x1024x1536.size (k0_off127_inb v0 v6 v12 v18 v24 v30 v36 v42 v48 v54 v60 v66 v72 v78 v84 v90 k0_hw15 k0_t1 k0_h39)).WholeWords (EltTy.packing .fp8e4m3) := fun v0 v6 v12 v18 v24 v30 v36 v42 v48 v54 v60 v66 v72 v78 v84 v90 k0_hw15 k0_t1 k0_h39 => k0_hw15.2.2.2.1.2.2.2.2.2.2.2.2.2.2.2.2.2.2.2.2.2.2.2.2.2.1 k0_t1 k0_h39 (k0_off127_inb v0 v6 v12 v18 v24 v30 v36 v42 v48 v54 v60 v66 v72 v78 v84 v90 k0_hw15 k0_t1 k0_h39)
theorem k0_off129_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off129 v0 v6 v12 v18 v24 v30 v36 v42 v48 v54 v60 v66 v72 v78 v84 v90 k0_t1) a + S1.size a ≤ S16.size a := fun v0 v6 v12 v18 v24 v30 v36 v42 v48 v54 v60 v66 v72 v78 v84 v90 k0_hw15 k0_t1 => k0_hw15.2.2.2.1.2.2.2.2.2.2.2.2.2.2.2.2.2.2.2.2.2.2.2.2.2.2.1 k0_t1
theorem k0_off130_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off130 v0 v6 v12 v18 v24 v30 v36 v42 v48 v54 v60 v66 v72 v78 v84 v90 k0_t1) a + S1x1.size a ≤ S2x7.size a := fun v0 v6 v12 v18 v24 v30 v36 v42 v48 v54 v60 v66 v72 v78 v84 v90 k0_hw15 k0_t1 => k0_hw15.2.2.2.1.2.2.2.2.2.2.2.2.2.2.2.2.2.2.2.2.2.2.2.2.2.2.2.1 k0_t1
theorem k0_off131_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off131 v0 v6 v12 v18 v24 v30 v36 v42 v48 v54 v60 v66 v72 v78 v84 v90 k0_t1) a + S1x1024x1536.size a ≤ S2x7168x1536.size a := fun v0 v6 v12 v18 v24 v30 v36 v42 v48 v54 v60 v66 v72 v78 v84 v90 k0_hw15 k0_t1 => k0_hw15.2.2.2.1.2.2.2.2.2.2.2.2.2.2.2.2.2.2.2.2.2.2.2.2.2.2.2.2.1 k0_t1
theorem k0_off131_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x7168x1536) (k0_off131 v0 v6 v12 v18 v24 v30 v36 v42 v48 v54 v60 v66 v72 v78 v84 v90 k0_t1) S1x1024x1536.size (k0_off131_inb v0 v6 v12 v18 v24 v30 v36 v42 v48 v54 v60 v66 v72 v78 v84 v90 k0_hw15 k0_t1)).WholeWords (EltTy.packing .fp8e4m3) := fun v0 v6 v12 v18 v24 v30 v36 v42 v48 v54 v60 v66 v72 v78 v84 v90 k0_hw15 k0_t1 => k0_hw15.2.2.2.1.2.2.2.2.2.2.2.2.2.2.2.2.2.2.2.2.2.2.2.2.2.2.2.2.2.1 k0_t1 (k0_off131_inb v0 v6 v12 v18 v24 v30 v36 v42 v48 v54 v60 v66 v72 v78 v84 v90 k0_hw15 k0_t1)
theorem k0_off133_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off133 v0 v6 v12 v18 v24 v30 v36 v42 v48 v54 v60 v66 v72 v78 v84 v90 k0_t1) a + S1x256x1536.size a ≤ S2x7168x1536.size a := fun v0 v6 v12 v18 v24 v30 v36 v42 v48 v54 v60 v66 v72 v78 v84 v90 k0_hw15 k0_t1 => k0_hw15.2.2.2.1.2.2.2.2.2.2.2.2.2.2.2.2.2.2.2.2.2.2.2.2.2.2.2.2.2.2.1 k0_t1
theorem k0_off134_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off134 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.1.2.2.2.2.2.2.2.2.2.2.2.2.2.2.2.2.2.2.2.2.2.2.2.2.2.2.2.1 k0_t1
theorem k0_off134_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off134 v0 v6 v12 v18 v24 v30 v36 v42 v48 v54 v60 v66 v72 v78 v84 v90 k0_t1) S1x24x128.size (k0_off134_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.1.2.2.2.2.2.2.2.2.2.2.2.2.2.2.2.2.2.2.2.2.2.2.2.2.2.2.2.2.1 k0_t1 (k0_off134_inb v0 v6 v12 v18 v24 v30 v36 v42 v48 v54 v60 v66 v72 v78 v84 v90 k0_hw15 k0_t1)
theorem k0_off135_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off135 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.1.2.2.2.2.2.2.2.2.2.2.2.2.2.2.2.2.2.2.2.2.2.2.2.2.2.2.2.2.2.1 k0_t1
theorem k0_off135_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off135 v0 v6 v12 v18 v24 v30 v36 v42 v48 v54 v60 v66 v72 v78 v84 v90 k0_t1) S1x24x128.size (k0_off135_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.1.2.2.2.2.2.2.2.2.2.2.2.2.2.2.2.2.2.2.2.2.2.2.2.2.2.2.2.2.2.2.1 k0_t1 (k0_off135_inb v0 v6 v12 v18 v24 v30 v36 v42 v48 v54 v60 v66 v72 v78 v84 v90 k0_hw15 k0_t1)
theorem k0_off136_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off136 v0 v6 v12 v18 v24 v30 v36 v42 v48 v54 v60 v66 v72 v78 v84 v90 k0_t1) a + S1x256x1536.size a ≤ S2x7168x1536.size a := fun v0 v6 v12 v18 v24 v30 v36 v42 v48 v54 v60 v66 v72 v78 v84 v90 k0_hw15 k0_t1 => k0_hw15.2.2.2.1.2.2.2.2.2.2.2.2.2.2.2.2.2.2.2.2.2.2.2.2.2.2.2.2.2.2.2.2.2.2.2 k0_t1
theorem k0_off137_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off137 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.1.1 k0_t1
theorem k0_off137_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off137 v0 v6 v12 v18 v24 v30 v36 v42 v48 v54 v60 v66 v72 v78 v84 v90 k0_t1) S1x24x128.size (k0_off137_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.1.2.1 k0_t1 (k0_off137_inb v0 v6 v12 v18 v24 v30 v36 v42 v48 v54 v60 v66 v72 v78 v84 v90 k0_hw15 k0_t1)
theorem k0_off138_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off138 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.1.2.2.1 k0_t1
theorem k0_off138_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off138 v0 v6 v12 v18 v24 v30 v36 v42 v48 v54 v60 v66 v72 v78 v84 v90 k0_t1) S1x24x128.size (k0_off138_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.1.2.2.2.1 k0_t1 (k0_off138_inb v0 v6 v12 v18 v24 v30 v36 v42 v48 v54 v60 v66 v72 v78 v84 v90 k0_hw15 k0_t1)
theorem k0_off139_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off139 v0 v6 v12 v18 v24 v30 v36 v42 v48 v54 v60 v66 v72 v78 v84 v90 k0_t1) a + S1x256x1536.size a ≤ S2x7168x1536.size a := fun v0 v6 v12 v18 v24 v30 v36 v42 v48 v54 v60 v66 v72 v78 v84 v90 k0_hw15 k0_t1 => k0_hw15.2.2.2.2.1.2.2.2.2.1 k0_t1
theorem k0_off140_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off140 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.1.2.2.2.2.2.1 k0_t1
theorem k0_off140_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off140 v0 v6 v12 v18 v24 v30 v36 v42 v48 v54 v60 v66 v72 v78 v84 v90 k0_t1) S1x24x128.size (k0_off140_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.1.2.2.2.2.2.2.1 k0_t1 (k0_off140_inb v0 v6 v12 v18 v24 v30 v36 v42 v48 v54 v60 v66 v72 v78 v84 v90 k0_hw15 k0_t1)
theorem k0_off141_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off141 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.1.2.2.2.2.2.2.2.1 k0_t1
theorem k0_off141_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off141 v0 v6 v12 v18 v24 v30 v36 v42 v48 v54 v60 v66 v72 v78 v84 v90 k0_t1) S1x24x128.size (k0_off141_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.1.2.2.2.2.2.2.2.2.1 k0_t1 (k0_off141_inb v0 v6 v12 v18 v24 v30 v36 v42 v48 v54 v60 v66 v72 v78 v84 v90 k0_hw15 k0_t1)
theorem k0_off142_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off142 v0 v6 v12 v18 v24 v30 v36 v42 v48 v54 v60 v66 v72 v78 v84 v90 k0_t1) a + S1x256x1536.size a ≤ S2x7168x1536.size a := fun v0 v6 v12 v18 v24 v30 v36 v42 v48 v54 v60 v66 v72 v78 v84 v90 k0_hw15 k0_t1 => k0_hw15.2.2.2.2.1.2.2.2.2.2.2.2.2.2.1 k0_t1
theorem k0_off143_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off143 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.1.2.2.2.2.2.2.2.2.2.2.1 k0_t1
theorem k0_off143_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off143 v0 v6 v12 v18 v24 v30 v36 v42 v48 v54 v60 v66 v72 v78 v84 v90 k0_t1) S1x24x128.size (k0_off143_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.1.2.2.2.2.2.2.2.2.2.2.2.1 k0_t1 (k0_off143_inb v0 v6 v12 v18 v24 v30 v36 v42 v48 v54 v60 v66 v72 v78 v84 v90 k0_hw15 k0_t1)
theorem k0_off144_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off144 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.1.2.2.2.2.2.2.2.2.2.2.2.2.1 k0_t1
theorem k0_off144_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off144 v0 v6 v12 v18 v24 v30 v36 v42 v48 v54 v60 v66 v72 v78 v84 v90 k0_t1) S1x24x128.size (k0_off144_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.1.2.2.2.2.2.2.2.2.2.2.2.2.2.1 k0_t1 (k0_off144_inb v0 v6 v12 v18 v24 v30 v36 v42 v48 v54 v60 v66 v72 v78 v84 v90 k0_hw15 k0_t1)
theorem k0_off145_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h40 : k0_cond40 v0 v6 v12 v18 v24 v30 v36 v42 v48 v54 v60 v66 v72 v78 v84 v90 k0_t1 = 1#1), ∀ a, (k0_off145 v0 v6 v12 v18 v24 v30 v36 v42 v48 v54 v60 v66 v72 v78 v84 v90 k0_t1) a + S1.size a ≤ S16.size a := fun v0 v6 v12 v18 v24 v30 v36 v42 v48 v54 v60 v66 v72 v78 v84 v90 k0_hw15 k0_t1 k0_h40 => k0_hw15.2.2.2.2.1.2.2.2.2.2.2.2.2.2.2.2.2.2.2.1 k0_t1 k0_h40
theorem k0_off146_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h40 : k0_cond40 v0 v6 v12 v18 v24 v30 v36 v42 v48 v54 v60 v66 v72 v78 v84 v90 k0_t1 = 1#1), ∀ a, (k0_off146 v0 v6 v12 v18 v24 v30 v36 v42 v48 v54 v60 v66 v72 v78 v84 v90 k0_t1) a + S1x1.size a ≤ S2x7.size a := fun v0 v6 v12 v18 v24 v30 v36 v42 v48 v54 v60 v66 v72 v78 v84 v90 k0_hw15 k0_t1 k0_h40 => k0_hw15.2.2.2.2.1.2.2.2.2.2.2.2.2.2.2.2.2.2.2.2.1 k0_t1 k0_h40
theorem k0_off147_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h40 : k0_cond40 v0 v6 v12 v18 v24 v30 v36 v42 v48 v54 v60 v66 v72 v78 v84 v90 k0_t1 = 1#1), ∀ a, (k0_off147 v0 v6 v12 v18 v24 v30 v36 v42 v48 v54 v60 v66 v72 v78 v84 v90 k0_t1) a + S1x1024x1536.size a ≤ S2x7168x1536.size a := fun v0 v6 v12 v18 v24 v30 v36 v42 v48 v54 v60 v66 v72 v78 v84 v90 k0_hw15 k0_t1 k0_h40 => k0_hw15.2.2.2.2.1.2.2.2.2.2.2.2.2.2.2.2.2.2.2.2.2.1 k0_t1 k0_h40
theorem k0_off147_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h40 : k0_cond40 v0 v6 v12 v18 v24 v30 v36 v42 v48 v54 v60 v66 v72 v78 v84 v90 k0_t1 = 1#1), (Rect.unit (s := S2x7168x1536) (k0_off147 v0 v6 v12 v18 v24 v30 v36 v42 v48 v54 v60 v66 v72 v78 v84 v90 k0_t1) S1x1024x1536.size (k0_off147_inb v0 v6 v12 v18 v24 v30 v36 v42 v48 v54 v60 v66 v72 v78 v84 v90 k0_hw15 k0_t1 k0_h40)).WholeWords (EltTy.packing .fp8e4m3) := fun v0 v6 v12 v18 v24 v30 v36 v42 v48 v54 v60 v66 v72 v78 v84 v90 k0_hw15 k0_t1 k0_h40 => k0_hw15.2.2.2.2.1.2.2.2.2.2.2.2.2.2.2.2.2.2.2.2.2.2.1 k0_t1 k0_h40 (k0_off147_inb v0 v6 v12 v18 v24 v30 v36 v42 v48 v54 v60 v66 v72 v78 v84 v90 k0_hw15 k0_t1 k0_h40)
theorem k0_off149_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off149 v0 v6 v12 v18 v24 v30 v36 v42 v48 v54 v60 v66 v72 v78 v84 v90 k0_t1) a + S1.size a ≤ S16.size a := fun v0 v6 v12 v18 v24 v30 v36 v42 v48 v54 v60 v66 v72 v78 v84 v90 k0_hw15 k0_t1 => k0_hw15.2.2.2.2.1.2.2.2.2.2.2.2.2.2.2.2.2.2.2.2.2.2.2.1 k0_t1
theorem k0_off150_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off150 v0 v6 v12 v18 v24 v30 v36 v42 v48 v54 v60 v66 v72 v78 v84 v90 k0_t1) a + S1x1.size a ≤ S2x7.size a := fun v0 v6 v12 v18 v24 v30 v36 v42 v48 v54 v60 v66 v72 v78 v84 v90 k0_hw15 k0_t1 => k0_hw15.2.2.2.2.1.2.2.2.2.2.2.2.2.2.2.2.2.2.2.2.2.2.2.2.1 k0_t1
theorem k0_off151_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off151 v0 v6 v12 v18 v24 v30 v36 v42 v48 v54 v60 v66 v72 v78 v84 v90 k0_t1) a + S1x1024x1536.size a ≤ S2x7168x1536.size a := fun v0 v6 v12 v18 v24 v30 v36 v42 v48 v54 v60 v66 v72 v78 v84 v90 k0_hw15 k0_t1 => k0_hw15.2.2.2.2.1.2.2.2.2.2.2.2.2.2.2.2.2.2.2.2.2.2.2.2.2.1 k0_t1
theorem k0_off151_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x7168x1536) (k0_off151 v0 v6 v12 v18 v24 v30 v36 v42 v48 v54 v60 v66 v72 v78 v84 v90 k0_t1) S1x1024x1536.size (k0_off151_inb v0 v6 v12 v18 v24 v30 v36 v42 v48 v54 v60 v66 v72 v78 v84 v90 k0_hw15 k0_t1)).WholeWords (EltTy.packing .fp8e4m3) := fun v0 v6 v12 v18 v24 v30 v36 v42 v48 v54 v60 v66 v72 v78 v84 v90 k0_hw15 k0_t1 => k0_hw15.2.2.2.2.1.2.2.2.2.2.2.2.2.2.2.2.2.2.2.2.2.2.2.2.2.2.1 k0_t1 (k0_off151_inb v0 v6 v12 v18 v24 v30 v36 v42 v48 v54 v60 v66 v72 v78 v84 v90 k0_hw15 k0_t1)
theorem k0_off153_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off153 v0 v6 v12 v18 v24 v30 v36 v42 v48 v54 v60 v66 v72 v78 v84 v90 k0_t1) a + S1x256x1536.size a ≤ S2x7168x1536.size a := fun v0 v6 v12 v18 v24 v30 v36 v42 v48 v54 v60 v66 v72 v78 v84 v90 k0_hw15 k0_t1 => k0_hw15.2.2.2.2.1.2.2.2.2.2.2.2.2.2.2.2.2.2.2.2.2.2.2.2.2.2.2.1 k0_t1
theorem k0_off154_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off154 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.1.2.2.2.2.2.2.2.2.2.2.2.2.2.2.2.2.2.2.2.2.2.2.2.1 k0_t1
theorem k0_off154_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off154 v0 v6 v12 v18 v24 v30 v36 v42 v48 v54 v60 v66 v72 v78 v84 v90 k0_t1) S1x24x128.size (k0_off154_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.1.2.2.2.2.2.2.2.2.2.2.2.2.2.2.2.2.2.2.2.2.2.2.2.2.1 k0_t1 (k0_off154_inb v0 v6 v12 v18 v24 v30 v36 v42 v48 v54 v60 v66 v72 v78 v84 v90 k0_hw15 k0_t1)
theorem k0_off155_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off155 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.1.2.2.2.2.2.2.2.2.2.2.2.2.2.2.2.2.2.2.2.2.2.2.2.2.2.1 k0_t1
theorem k0_off155_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off155 v0 v6 v12 v18 v24 v30 v36 v42 v48 v54 v60 v66 v72 v78 v84 v90 k0_t1) S1x24x128.size (k0_off155_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.1.2.2.2.2.2.2.2.2.2.2.2.2.2.2.2.2.2.2.2.2.2.2.2.2.2.2.1 k0_t1 (k0_off155_inb v0 v6 v12 v18 v24 v30 v36 v42 v48 v54 v60 v66 v72 v78 v84 v90 k0_hw15 k0_t1)
theorem k0_off156_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off156 v0 v6 v12 v18 v24 v30 v36 v42 v48 v54 v60 v66 v72 v78 v84 v90 k0_t1) a + S1x256x1536.size a ≤ S2x7168x1536.size a := fun v0 v6 v12 v18 v24 v30 v36 v42 v48 v54 v60 v66 v72 v78 v84 v90 k0_hw15 k0_t1 => k0_hw15.2.2.2.2.1.2.2.2.2.2.2.2.2.2.2.2.2.2.2.2.2.2.2.2.2.2.2.2.2.2.2.2.1 k0_t1
theorem k0_off157_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off157 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.1.2.2.2.2.2.2.2.2.2.2.2.2.2.2.2.2.2.2.2.2.2.2.2.2.2.2.2.2.1 k0_t1
theorem k0_off157_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off157 v0 v6 v12 v18 v24 v30 v36 v42 v48 v54 v60 v66 v72 v78 v84 v90 k0_t1) S1x24x128.size (k0_off157_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.1.2.2.2.2.2.2.2.2.2.2.2.2.2.2.2.2.2.2.2.2.2.2.2.2.2.2.2.2.2.1 k0_t1 (k0_off157_inb v0 v6 v12 v18 v24 v30 v36 v42 v48 v54 v60 v66 v72 v78 v84 v90 k0_hw15 k0_t1)
theorem k0_off158_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off158 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.1.2.2.2.2.2.2.2.2.2.2.2.2.2.2.2.2.2.2.2.2.2.2.2.2.2.2.2.2.2.2.1 k0_t1
theorem k0_off158_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off158 v0 v6 v12 v18 v24 v30 v36 v42 v48 v54 v60 v66 v72 v78 v84 v90 k0_t1) S1x24x128.size (k0_off158_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.1.2.2.2.2.2.2.2.2.2.2.2.2.2.2.2.2.2.2.2.2.2.2.2.2.2.2.2.2.2.2.2 k0_t1 (k0_off158_inb v0 v6 v12 v18 v24 v30 v36 v42 v48 v54 v60 v66 v72 v78 v84 v90 k0_hw15 k0_t1)
theorem k0_off159_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off159 v0 v6 v12 v18 v24 v30 v36 v42 v48 v54 v60 v66 v72 v78 v84 v90 k0_t1) a + S1x256x1536.size a ≤ S2x7168x1536.size a := fun v0 v6 v12 v18 v24 v30 v36 v42 v48 v54 v60 v66 v72 v78 v84 v90 k0_hw15 k0_t1 => k0_hw15.2.2.2.2.2.1.1 k0_t1
theorem k0_off160_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off160 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.2.1.2.1 k0_t1
theorem k0_off160_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off160 v0 v6 v12 v18 v24 v30 v36 v42 v48 v54 v60 v66 v72 v78 v84 v90 k0_t1) S1x24x128.size (k0_off160_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.2.1.2.2.1 k0_t1 (k0_off160_inb v0 v6 v12 v18 v24 v30 v36 v42 v48 v54 v60 v66 v72 v78 v84 v90 k0_hw15 k0_t1)
theorem k0_off161_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off161 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.2.1.2.2.2.1 k0_t1
theorem k0_off161_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off161 v0 v6 v12 v18 v24 v30 v36 v42 v48 v54 v60 v66 v72 v78 v84 v90 k0_t1) S1x24x128.size (k0_off161_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.2.1.2.2.2.2.1 k0_t1 (k0_off161_inb v0 v6 v12 v18 v24 v30 v36 v42 v48 v54 v60 v66 v72 v78 v84 v90 k0_hw15 k0_t1)
theorem k0_off162_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off162 v0 v6 v12 v18 v24 v30 v36 v42 v48 v54 v60 v66 v72 v78 v84 v90 k0_t1) a + S1x256x1536.size a ≤ S2x7168x1536.size a := fun v0 v6 v12 v18 v24 v30 v36 v42 v48 v54 v60 v66 v72 v78 v84 v90 k0_hw15 k0_t1 => k0_hw15.2.2.2.2.2.1.2.2.2.2.2.1 k0_t1
theorem k0_off163_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off163 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.2.1.2.2.2.2.2.2.1 k0_t1
theorem k0_off163_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off163 v0 v6 v12 v18 v24 v30 v36 v42 v48 v54 v60 v66 v72 v78 v84 v90 k0_t1) S1x24x128.size (k0_off163_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.2.1.2.2.2.2.2.2.2.1 k0_t1 (k0_off163_inb v0 v6 v12 v18 v24 v30 v36 v42 v48 v54 v60 v66 v72 v78 v84 v90 k0_hw15 k0_t1)
theorem k0_off164_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off164 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.2.1.2.2.2.2.2.2.2.2.1 k0_t1
theorem k0_off164_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off164 v0 v6 v12 v18 v24 v30 v36 v42 v48 v54 v60 v66 v72 v78 v84 v90 k0_t1) S1x24x128.size (k0_off164_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.2.1.2.2.2.2.2.2.2.2.2.1 k0_t1 (k0_off164_inb v0 v6 v12 v18 v24 v30 v36 v42 v48 v54 v60 v66 v72 v78 v84 v90 k0_hw15 k0_t1)
theorem k0_off165_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h41 : k0_cond41 v0 v6 v12 v18 v24 v30 v36 v42 v48 v54 v60 v66 v72 v78 v84 v90 k0_t1 = 1#1), ∀ a, (k0_off165 v0 v6 v12 v18 v24 v30 v36 v42 v48 v54 v60 v66 v72 v78 v84 v90 k0_t1) a + S1.size a ≤ S16.size a := fun v0 v6 v12 v18 v24 v30 v36 v42 v48 v54 v60 v66 v72 v78 v84 v90 k0_hw15 k0_t1 k0_h41 => k0_hw15.2.2.2.2.2.1.2.2.2.2.2.2.2.2.2.2.1 k0_t1 k0_h41
theorem k0_off166_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h41 : k0_cond41 v0 v6 v12 v18 v24 v30 v36 v42 v48 v54 v60 v66 v72 v78 v84 v90 k0_t1 = 1#1), ∀ a, (k0_off166 v0 v6 v12 v18 v24 v30 v36 v42 v48 v54 v60 v66 v72 v78 v84 v90 k0_t1) a + S1x1.size a ≤ S2x7.size a := fun v0 v6 v12 v18 v24 v30 v36 v42 v48 v54 v60 v66 v72 v78 v84 v90 k0_hw15 k0_t1 k0_h41 => k0_hw15.2.2.2.2.2.1.2.2.2.2.2.2.2.2.2.2.2.1 k0_t1 k0_h41
theorem k0_off167_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h41 : k0_cond41 v0 v6 v12 v18 v24 v30 v36 v42 v48 v54 v60 v66 v72 v78 v84 v90 k0_t1 = 1#1), ∀ a, (k0_off167 v0 v6 v12 v18 v24 v30 v36 v42 v48 v54 v60 v66 v72 v78 v84 v90 k0_t1) a + S1x1024x1536.size a ≤ S2x7168x1536.size a := fun v0 v6 v12 v18 v24 v30 v36 v42 v48 v54 v60 v66 v72 v78 v84 v90 k0_hw15 k0_t1 k0_h41 => k0_hw15.2.2.2.2.2.1.2.2.2.2.2.2.2.2.2.2.2.2.1 k0_t1 k0_h41
theorem k0_off167_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h41 : k0_cond41 v0 v6 v12 v18 v24 v30 v36 v42 v48 v54 v60 v66 v72 v78 v84 v90 k0_t1 = 1#1), (Rect.unit (s := S2x7168x1536) (k0_off167 v0 v6 v12 v18 v24 v30 v36 v42 v48 v54 v60 v66 v72 v78 v84 v90 k0_t1) S1x1024x1536.size (k0_off167_inb v0 v6 v12 v18 v24 v30 v36 v42 v48 v54 v60 v66 v72 v78 v84 v90 k0_hw15 k0_t1 k0_h41)).WholeWords (EltTy.packing .fp8e4m3) := fun v0 v6 v12 v18 v24 v30 v36 v42 v48 v54 v60 v66 v72 v78 v84 v90 k0_hw15 k0_t1 k0_h41 => k0_hw15.2.2.2.2.2.1.2.2.2.2.2.2.2.2.2.2.2.2.2.1 k0_t1 k0_h41 (k0_off167_inb v0 v6 v12 v18 v24 v30 v36 v42 v48 v54 v60 v66 v72 v78 v84 v90 k0_hw15 k0_t1 k0_h41)
theorem k0_off169_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off169 v0 v6 v12 v18 v24 v30 v36 v42 v48 v54 v60 v66 v72 v78 v84 v90 k0_t1) a + S1.size a ≤ S16.size a := fun v0 v6 v12 v18 v24 v30 v36 v42 v48 v54 v60 v66 v72 v78 v84 v90 k0_hw15 k0_t1 => k0_hw15.2.2.2.2.2.1.2.2.2.2.2.2.2.2.2.2.2.2.2.2.1 k0_t1
theorem k0_off170_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off170 v0 v6 v12 v18 v24 v30 v36 v42 v48 v54 v60 v66 v72 v78 v84 v90 k0_t1) a + S1x1.size a ≤ S2x7.size a := fun v0 v6 v12 v18 v24 v30 v36 v42 v48 v54 v60 v66 v72 v78 v84 v90 k0_hw15 k0_t1 => k0_hw15.2.2.2.2.2.1.2.2.2.2.2.2.2.2.2.2.2.2.2.2.2.1 k0_t1
theorem k0_off171_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off171 v0 v6 v12 v18 v24 v30 v36 v42 v48 v54 v60 v66 v72 v78 v84 v90 k0_t1) a + S1x1024x1536.size a ≤ S2x7168x1536.size a := fun v0 v6 v12 v18 v24 v30 v36 v42 v48 v54 v60 v66 v72 v78 v84 v90 k0_hw15 k0_t1 => k0_hw15.2.2.2.2.2.1.2.2.2.2.2.2.2.2.2.2.2.2.2.2.2.2.1 k0_t1
theorem k0_off171_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x7168x1536) (k0_off171 v0 v6 v12 v18 v24 v30 v36 v42 v48 v54 v60 v66 v72 v78 v84 v90 k0_t1) S1x1024x1536.size (k0_off171_inb v0 v6 v12 v18 v24 v30 v36 v42 v48 v54 v60 v66 v72 v78 v84 v90 k0_hw15 k0_t1)).WholeWords (EltTy.packing .fp8e4m3) := fun v0 v6 v12 v18 v24 v30 v36 v42 v48 v54 v60 v66 v72 v78 v84 v90 k0_hw15 k0_t1 => k0_hw15.2.2.2.2.2.1.2.2.2.2.2.2.2.2.2.2.2.2.2.2.2.2.2.1 k0_t1 (k0_off171_inb v0 v6 v12 v18 v24 v30 v36 v42 v48 v54 v60 v66 v72 v78 v84 v90 k0_hw15 k0_t1)
theorem k0_off173_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off173 v0 v6 v12 v18 v24 v30 v36 v42 v48 v54 v60 v66 v72 v78 v84 v90 k0_t1) a + S1x256x1536.size a ≤ S2x7168x1536.size a := fun v0 v6 v12 v18 v24 v30 v36 v42 v48 v54 v60 v66 v72 v78 v84 v90 k0_hw15 k0_t1 => k0_hw15.2.2.2.2.2.1.2.2.2.2.2.2.2.2.2.2.2.2.2.2.2.2.2.2.1 k0_t1
theorem k0_off174_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off174 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.2.1.2.2.2.2.2.2.2.2.2.2.2.2.2.2.2.2.2.2.2.1 k0_t1
theorem k0_off174_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off174 v0 v6 v12 v18 v24 v30 v36 v42 v48 v54 v60 v66 v72 v78 v84 v90 k0_t1) S1x24x128.size (k0_off174_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.2.1.2.2.2.2.2.2.2.2.2.2.2.2.2.2.2.2.2.2.2.2.1 k0_t1 (k0_off174_inb v0 v6 v12 v18 v24 v30 v36 v42 v48 v54 v60 v66 v72 v78 v84 v90 k0_hw15 k0_t1)
theorem k0_off175_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off175 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.2.1.2.2.2.2.2.2.2.2.2.2.2.2.2.2.2.2.2.2.2.2.2.1 k0_t1
theorem k0_off175_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off175 v0 v6 v12 v18 v24 v30 v36 v42 v48 v54 v60 v66 v72 v78 v84 v90 k0_t1) S1x24x128.size (k0_off175_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.2.1.2.2.2.2.2.2.2.2.2.2.2.2.2.2.2.2.2.2.2.2.2.2.1 k0_t1 (k0_off175_inb v0 v6 v12 v18 v24 v30 v36 v42 v48 v54 v60 v66 v72 v78 v84 v90 k0_hw15 k0_t1)
theorem k0_off176_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off176 v0 v6 v12 v18 v24 v30 v36 v42 v48 v54 v60 v66 v72 v78 v84 v90 k0_t1) a + S1x256x1536.size a ≤ S2x7168x1536.size a := fun v0 v6 v12 v18 v24 v30 v36 v42 v48 v54 v60 v66 v72 v78 v84 v90 k0_hw15 k0_t1 => k0_hw15.2.2.2.2.2.1.2.2.2.2.2.2.2.2.2.2.2.2.2.2.2.2.2.2.2.2.2.2.2.1 k0_t1
theorem k0_off177_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off177 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.2.1.2.2.2.2.2.2.2.2.2.2.2.2.2.2.2.2.2.2.2.2.2.2.2.2.1 k0_t1
theorem k0_off177_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off177 v0 v6 v12 v18 v24 v30 v36 v42 v48 v54 v60 v66 v72 v78 v84 v90 k0_t1) S1x24x128.size (k0_off177_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.2.1.2.2.2.2.2.2.2.2.2.2.2.2.2.2.2.2.2.2.2.2.2.2.2.2.2.1 k0_t1 (k0_off177_inb v0 v6 v12 v18 v24 v30 v36 v42 v48 v54 v60 v66 v72 v78 v84 v90 k0_hw15 k0_t1)
theorem k0_off178_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off178 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.2.1.2.2.2.2.2.2.2.2.2.2.2.2.2.2.2.2.2.2.2.2.2.2.2.2.2.2.1 k0_t1
theorem k0_off178_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off178 v0 v6 v12 v18 v24 v30 v36 v42 v48 v54 v60 v66 v72 v78 v84 v90 k0_t1) S1x24x128.size (k0_off178_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.2.1.2.2.2.2.2.2.2.2.2.2.2.2.2.2.2.2.2.2.2.2.2.2.2.2.2.2.2.1 k0_t1 (k0_off178_inb v0 v6 v12 v18 v24 v30 v36 v42 v48 v54 v60 v66 v72 v78 v84 v90 k0_hw15 k0_t1)
theorem k0_off179_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off179 v0 v6 v12 v18 v24 v30 v36 v42 v48 v54 v60 v66 v72 v78 v84 v90 k0_t1) a + S1x256x1536.size a ≤ S2x7168x1536.size a := fun v0 v6 v12 v18 v24 v30 v36 v42 v48 v54 v60 v66 v72 v78 v84 v90 k0_hw15 k0_t1 => k0_hw15.2.2.2.2.2.1.2.2.2.2.2.2.2.2.2.2.2.2.2.2.2.2.2.2.2.2.2.2.2.2.2.2.2.2.1 k0_t1
theorem k0_off180_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off180 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.2.1.2.2.2.2.2.2.2.2.2.2.2.2.2.2.2.2.2.2.2.2.2.2.2.2.2.2.2.2.2.1 k0_t1
theorem k0_off180_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off180 v0 v6 v12 v18 v24 v30 v36 v42 v48 v54 v60 v66 v72 v78 v84 v90 k0_t1) S1x24x128.size (k0_off180_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.2.1.2.2.2.2.2.2.2.2.2.2.2.2.2.2.2.2.2.2.2.2.2.2.2.2.2.2.2.2.2.2.1 k0_t1 (k0_off180_inb v0 v6 v12 v18 v24 v30 v36 v42 v48 v54 v60 v66 v72 v78 v84 v90 k0_hw15 k0_t1)
theorem k0_off181_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off181 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.2.1.2.2.2.2.2.2.2.2.2.2.2.2.2.2.2.2.2.2.2.2.2.2.2.2.2.2.2.2.2.2.2 k0_t1
theorem k0_off181_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off181 v0 v6 v12 v18 v24 v30 v36 v42 v48 v54 v60 v66 v72 v78 v84 v90 k0_t1) S1x24x128.size (k0_off181_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.2.2.1.1 k0_t1 (k0_off181_inb v0 v6 v12 v18 v24 v30 v36 v42 v48 v54 v60 v66 v72 v78 v84 v90 k0_hw15 k0_t1)
theorem k0_off182_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off182 v0 v6 v12 v18 v24 v30 v36 v42 v48 v54 v60 v66 v72 v78 v84 v90 k0_t1) a + S1x256x1536.size a ≤ S2x7168x1536.size a := fun v0 v6 v12 v18 v24 v30 v36 v42 v48 v54 v60 v66 v72 v78 v84 v90 k0_hw15 k0_t1 => k0_hw15.2.2.2.2.2.2.1.2.1 k0_t1
theorem k0_off183_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off183 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.2.2.1.2.2.1 k0_t1
theorem k0_off183_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off183 v0 v6 v12 v18 v24 v30 v36 v42 v48 v54 v60 v66 v72 v78 v84 v90 k0_t1) S1x24x128.size (k0_off183_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.2.2.1.2.2.2.1 k0_t1 (k0_off183_inb v0 v6 v12 v18 v24 v30 v36 v42 v48 v54 v60 v66 v72 v78 v84 v90 k0_hw15 k0_t1)
theorem k0_off184_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off184 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.2.2.1.2.2.2.2.1 k0_t1
theorem k0_off184_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off184 v0 v6 v12 v18 v24 v30 v36 v42 v48 v54 v60 v66 v72 v78 v84 v90 k0_t1) S1x24x128.size (k0_off184_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.2.2.1.2.2.2.2.2.1 k0_t1 (k0_off184_inb v0 v6 v12 v18 v24 v30 v36 v42 v48 v54 v60 v66 v72 v78 v84 v90 k0_hw15 k0_t1)
theorem k0_off185_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h42 : k0_cond42 v0 v6 v12 v18 v24 v30 v36 v42 v48 v54 v60 v66 v72 v78 v84 v90 k0_t1 = 1#1), ∀ a, (k0_off185 v0 v6 v12 v18 v24 v30 v36 v42 v48 v54 v60 v66 v72 v78 v84 v90 k0_t1) a + S1.size a ≤ S16.size a := fun v0 v6 v12 v18 v24 v30 v36 v42 v48 v54 v60 v66 v72 v78 v84 v90 k0_hw15 k0_t1 k0_h42 => k0_hw15.2.2.2.2.2.2.1.2.2.2.2.2.2.1 k0_t1 k0_h42
theorem k0_off186_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h42 : k0_cond42 v0 v6 v12 v18 v24 v30 v36 v42 v48 v54 v60 v66 v72 v78 v84 v90 k0_t1 = 1#1), ∀ a, (k0_off186 v0 v6 v12 v18 v24 v30 v36 v42 v48 v54 v60 v66 v72 v78 v84 v90 k0_t1) a + S1x1.size a ≤ S2x7.size a := fun v0 v6 v12 v18 v24 v30 v36 v42 v48 v54 v60 v66 v72 v78 v84 v90 k0_hw15 k0_t1 k0_h42 => k0_hw15.2.2.2.2.2.2.1.2.2.2.2.2.2.2.1 k0_t1 k0_h42
theorem k0_off187_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h42 : k0_cond42 v0 v6 v12 v18 v24 v30 v36 v42 v48 v54 v60 v66 v72 v78 v84 v90 k0_t1 = 1#1), ∀ a, (k0_off187 v0 v6 v12 v18 v24 v30 v36 v42 v48 v54 v60 v66 v72 v78 v84 v90 k0_t1) a + S1x1024x1536.size a ≤ S2x7168x1536.size a := fun v0 v6 v12 v18 v24 v30 v36 v42 v48 v54 v60 v66 v72 v78 v84 v90 k0_hw15 k0_t1 k0_h42 => k0_hw15.2.2.2.2.2.2.1.2.2.2.2.2.2.2.2.1 k0_t1 k0_h42
theorem k0_off187_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h42 : k0_cond42 v0 v6 v12 v18 v24 v30 v36 v42 v48 v54 v60 v66 v72 v78 v84 v90 k0_t1 = 1#1), (Rect.unit (s := S2x7168x1536) (k0_off187 v0 v6 v12 v18 v24 v30 v36 v42 v48 v54 v60 v66 v72 v78 v84 v90 k0_t1) S1x1024x1536.size (k0_off187_inb v0 v6 v12 v18 v24 v30 v36 v42 v48 v54 v60 v66 v72 v78 v84 v90 k0_hw15 k0_t1 k0_h42)).WholeWords (EltTy.packing .fp8e4m3) := fun v0 v6 v12 v18 v24 v30 v36 v42 v48 v54 v60 v66 v72 v78 v84 v90 k0_hw15 k0_t1 k0_h42 => k0_hw15.2.2.2.2.2.2.1.2.2.2.2.2.2.2.2.2.1 k0_t1 k0_h42 (k0_off187_inb v0 v6 v12 v18 v24 v30 v36 v42 v48 v54 v60 v66 v72 v78 v84 v90 k0_hw15 k0_t1 k0_h42)
theorem k0_off189_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off189 v0 v6 v12 v18 v24 v30 v36 v42 v48 v54 v60 v66 v72 v78 v84 v90 k0_t1) a + S1.size a ≤ S16.size a := fun v0 v6 v12 v18 v24 v30 v36 v42 v48 v54 v60 v66 v72 v78 v84 v90 k0_hw15 k0_t1 => k0_hw15.2.2.2.2.2.2.1.2.2.2.2.2.2.2.2.2.2.1 k0_t1
theorem k0_off190_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off190 v0 v6 v12 v18 v24 v30 v36 v42 v48 v54 v60 v66 v72 v78 v84 v90 k0_t1) a + S1x1.size a ≤ S2x7.size a := fun v0 v6 v12 v18 v24 v30 v36 v42 v48 v54 v60 v66 v72 v78 v84 v90 k0_hw15 k0_t1 => k0_hw15.2.2.2.2.2.2.1.2.2.2.2.2.2.2.2.2.2.2.1 k0_t1
theorem k0_off191_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off191 v0 v6 v12 v18 v24 v30 v36 v42 v48 v54 v60 v66 v72 v78 v84 v90 k0_t1) a + S1x1024x1536.size a ≤ S2x7168x1536.size a := fun v0 v6 v12 v18 v24 v30 v36 v42 v48 v54 v60 v66 v72 v78 v84 v90 k0_hw15 k0_t1 => k0_hw15.2.2.2.2.2.2.1.2.2.2.2.2.2.2.2.2.2.2.2.1 k0_t1
theorem k0_off191_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x7168x1536) (k0_off191 v0 v6 v12 v18 v24 v30 v36 v42 v48 v54 v60 v66 v72 v78 v84 v90 k0_t1) S1x1024x1536.size (k0_off191_inb v0 v6 v12 v18 v24 v30 v36 v42 v48 v54 v60 v66 v72 v78 v84 v90 k0_hw15 k0_t1)).WholeWords (EltTy.packing .fp8e4m3) := fun v0 v6 v12 v18 v24 v30 v36 v42 v48 v54 v60 v66 v72 v78 v84 v90 k0_hw15 k0_t1 => k0_hw15.2.2.2.2.2.2.1.2.2.2.2.2.2.2.2.2.2.2.2.2.1 k0_t1 (k0_off191_inb v0 v6 v12 v18 v24 v30 v36 v42 v48 v54 v60 v66 v72 v78 v84 v90 k0_hw15 k0_t1)
theorem k0_off193_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off193 v0 v6 v12 v18 v24 v30 v36 v42 v48 v54 v60 v66 v72 v78 v84 v90 k0_t1) a + S1x256x1536.size a ≤ S2x7168x1536.size a := fun v0 v6 v12 v18 v24 v30 v36 v42 v48 v54 v60 v66 v72 v78 v84 v90 k0_hw15 k0_t1 => k0_hw15.2.2.2.2.2.2.1.2.2.2.2.2.2.2.2.2.2.2.2.2.2.1 k0_t1
theorem k0_off194_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off194 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.2.2.1.2.2.2.2.2.2.2.2.2.2.2.2.2.2.2.1 k0_t1
theorem k0_off194_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off194 v0 v6 v12 v18 v24 v30 v36 v42 v48 v54 v60 v66 v72 v78 v84 v90 k0_t1) S1x24x128.size (k0_off194_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.2.2.1.2.2.2.2.2.2.2.2.2.2.2.2.2.2.2.2.1 k0_t1 (k0_off194_inb v0 v6 v12 v18 v24 v30 v36 v42 v48 v54 v60 v66 v72 v78 v84 v90 k0_hw15 k0_t1)
theorem k0_off195_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off195 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.2.2.1.2.2.2.2.2.2.2.2.2.2.2.2.2.2.2.2.2.1 k0_t1
theorem k0_off195_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off195 v0 v6 v12 v18 v24 v30 v36 v42 v48 v54 v60 v66 v72 v78 v84 v90 k0_t1) S1x24x128.size (k0_off195_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.2.2.1.2.2.2.2.2.2.2.2.2.2.2.2.2.2.2.2.2.2.1 k0_t1 (k0_off195_inb v0 v6 v12 v18 v24 v30 v36 v42 v48 v54 v60 v66 v72 v78 v84 v90 k0_hw15 k0_t1)
theorem k0_off196_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off196 v0 v6 v12 v18 v24 v30 v36 v42 v48 v54 v60 v66 v72 v78 v84 v90 k0_t1) a + S1x256x1536.size a ≤ S2x7168x1536.size a := fun v0 v6 v12 v18 v24 v30 v36 v42 v48 v54 v60 v66 v72 v78 v84 v90 k0_hw15 k0_t1 => k0_hw15.2.2.2.2.2.2.1.2.2.2.2.2.2.2.2.2.2.2.2.2.2.2.2.2.2.2.1 k0_t1
theorem k0_off197_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off197 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.2.2.1.2.2.2.2.2.2.2.2.2.2.2.2.2.2.2.2.2.2.2.2.1 k0_t1
theorem k0_off197_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off197 v0 v6 v12 v18 v24 v30 v36 v42 v48 v54 v60 v66 v72 v78 v84 v90 k0_t1) S1x24x128.size (k0_off197_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.2.2.1.2.2.2.2.2.2.2.2.2.2.2.2.2.2.2.2.2.2.2.2.2.1 k0_t1 (k0_off197_inb v0 v6 v12 v18 v24 v30 v36 v42 v48 v54 v60 v66 v72 v78 v84 v90 k0_hw15 k0_t1)
theorem k0_off198_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off198 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.2.2.1.2.2.2.2.2.2.2.2.2.2.2.2.2.2.2.2.2.2.2.2.2.2.1 k0_t1
theorem k0_off198_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off198 v0 v6 v12 v18 v24 v30 v36 v42 v48 v54 v60 v66 v72 v78 v84 v90 k0_t1) S1x24x128.size (k0_off198_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.2.2.1.2.2.2.2.2.2.2.2.2.2.2.2.2.2.2.2.2.2.2.2.2.2.2.1 k0_t1 (k0_off198_inb v0 v6 v12 v18 v24 v30 v36 v42 v48 v54 v60 v66 v72 v78 v84 v90 k0_hw15 k0_t1)
theorem k0_off199_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off199 v0 v6 v12 v18 v24 v30 v36 v42 v48 v54 v60 v66 v72 v78 v84 v90 k0_t1) a + S1x256x1536.size a ≤ S2x7168x1536.size a := fun v0 v6 v12 v18 v24 v30 v36 v42 v48 v54 v60 v66 v72 v78 v84 v90 k0_hw15 k0_t1 => k0_hw15.2.2.2.2.2.2.1.2.2.2.2.2.2.2.2.2.2.2.2.2.2.2.2.2.2.2.2.2.2.2.2.1 k0_t1
theorem k0_off200_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off200 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.2.2.1.2.2.2.2.2.2.2.2.2.2.2.2.2.2.2.2.2.2.2.2.2.2.2.2.2.1 k0_t1
theorem k0_off200_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off200 v0 v6 v12 v18 v24 v30 v36 v42 v48 v54 v60 v66 v72 v78 v84 v90 k0_t1) S1x24x128.size (k0_off200_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.2.2.1.2.2.2.2.2.2.2.2.2.2.2.2.2.2.2.2.2.2.2.2.2.2.2.2.2.2.1 k0_t1 (k0_off200_inb v0 v6 v12 v18 v24 v30 v36 v42 v48 v54 v60 v66 v72 v78 v84 v90 k0_hw15 k0_t1)
theorem k0_off201_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off201 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.2.2.1.2.2.2.2.2.2.2.2.2.2.2.2.2.2.2.2.2.2.2.2.2.2.2.2.2.2.2.1 k0_t1
theorem k0_off201_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off201 v0 v6 v12 v18 v24 v30 v36 v42 v48 v54 v60 v66 v72 v78 v84 v90 k0_t1) S1x24x128.size (k0_off201_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.2.2.1.2.2.2.2.2.2.2.2.2.2.2.2.2.2.2.2.2.2.2.2.2.2.2.2.2.2.2.2.1 k0_t1 (k0_off201_inb v0 v6 v12 v18 v24 v30 v36 v42 v48 v54 v60 v66 v72 v78 v84 v90 k0_hw15 k0_t1)
theorem k0_off202_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off202 v0 v6 v12 v18 v24 v30 v36 v42 v48 v54 v60 v66 v72 v78 v84 v90 k0_t1) a + S1x256x1536.size a ≤ S2x7168x1536.size a := fun v0 v6 v12 v18 v24 v30 v36 v42 v48 v54 v60 v66 v72 v78 v84 v90 k0_hw15 k0_t1 => k0_hw15.2.2.2.2.2.2.1.2.2.2.2.2.2.2.2.2.2.2.2.2.2.2.2.2.2.2.2.2.2.2.2.2.2.2.2.2.1 k0_t1
theorem k0_off203_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off203 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.2.2.1.2.2.2.2.2.2.2.2.2.2.2.2.2.2.2.2.2.2.2.2.2.2.2.2.2.2.2.2.2.2.1 k0_t1
theorem k0_off203_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off203 v0 v6 v12 v18 v24 v30 v36 v42 v48 v54 v60 v66 v72 v78 v84 v90 k0_t1) S1x24x128.size (k0_off203_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.2.2.1.2.2.2.2.2.2.2.2.2.2.2.2.2.2.2.2.2.2.2.2.2.2.2.2.2.2.2.2.2.2.2 k0_t1 (k0_off203_inb v0 v6 v12 v18 v24 v30 v36 v42 v48 v54 v60 v66 v72 v78 v84 v90 k0_hw15 k0_t1)
theorem k0_off204_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off204 v0 v6 v12 v18 v24 v30 v36 v42 v48 v54 v60 v66 v72 v78 v84 v90 k0_t1) a + S1x24x128.size a ≤ S2x24x7168.size a := fun v0 v6 v12 v18 v24 v30 v36 v42 v48 v54 v60 v66 v72 v78 v84 v90 k0_hw15 k0_t1 => k0_hw15.2.2.2.2.2.2.2.1.1 k0_t1
theorem k0_off204_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off204 v0 v6 v12 v18 v24 v30 v36 v42 v48 v54 v60 v66 v72 v78 v84 v90 k0_t1) S1x24x128.size (k0_off204_inb v0 v6 v12 v18 v24 v30 v36 v42 v48 v54 v60 v66 v72 v78 v84 v90 k0_hw15 k0_t1)).PackedRows (EltTy.packing .bf16) := fun v0 v6 v12 v18 v24 v30 v36 v42 v48 v54 v60 v66 v72 v78 v84 v90 k0_hw15 k0_t1 => k0_hw15.2.2.2.2.2.2.2.1.2.1 k0_t1 (k0_off204_inb v0 v6 v12 v18 v24 v30 v36 v42 v48 v54 v60 v66 v72 v78 v84 v90 k0_hw15 k0_t1)
theorem k0_off205_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h43 : k0_cond43 v0 v6 v12 v18 v24 v30 v36 v42 v48 v54 v60 v66 v72 v78 v84 v90 k0_t1 = 1#1), ∀ a, (k0_off205 v0 v6 v12 v18 v24 v30 v36 v42 v48 v54 v60 v66 v72 v78 v84 v90 k0_t1) a + S1.size a ≤ S16.size a := fun v0 v6 v12 v18 v24 v30 v36 v42 v48 v54 v60 v66 v72 v78 v84 v90 k0_hw15 k0_t1 k0_h43 => k0_hw15.2.2.2.2.2.2.2.1.2.2.1 k0_t1 k0_h43
theorem k0_off206_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h43 : k0_cond43 v0 v6 v12 v18 v24 v30 v36 v42 v48 v54 v60 v66 v72 v78 v84 v90 k0_t1 = 1#1), ∀ a, (k0_off206 v0 v6 v12 v18 v24 v30 v36 v42 v48 v54 v60 v66 v72 v78 v84 v90 k0_t1) a + S1x1.size a ≤ S2x7.size a := fun v0 v6 v12 v18 v24 v30 v36 v42 v48 v54 v60 v66 v72 v78 v84 v90 k0_hw15 k0_t1 k0_h43 => k0_hw15.2.2.2.2.2.2.2.1.2.2.2.1 k0_t1 k0_h43
theorem k0_off207_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h43 : k0_cond43 v0 v6 v12 v18 v24 v30 v36 v42 v48 v54 v60 v66 v72 v78 v84 v90 k0_t1 = 1#1), ∀ a, (k0_off207 v0 v6 v12 v18 v24 v30 v36 v42 v48 v54 v60 v66 v72 v78 v84 v90 k0_t1) a + S1x1024x1536.size a ≤ S2x7168x1536.size a := fun v0 v6 v12 v18 v24 v30 v36 v42 v48 v54 v60 v66 v72 v78 v84 v90 k0_hw15 k0_t1 k0_h43 => k0_hw15.2.2.2.2.2.2.2.1.2.2.2.2.1 k0_t1 k0_h43
theorem k0_off207_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ (k0_h43 : k0_cond43 v0 v6 v12 v18 v24 v30 v36 v42 v48 v54 v60 v66 v72 v78 v84 v90 k0_t1 = 1#1), (Rect.unit (s := S2x7168x1536) (k0_off207 v0 v6 v12 v18 v24 v30 v36 v42 v48 v54 v60 v66 v72 v78 v84 v90 k0_t1) S1x1024x1536.size (k0_off207_inb v0 v6 v12 v18 v24 v30 v36 v42 v48 v54 v60 v66 v72 v78 v84 v90 k0_hw15 k0_t1 k0_h43)).WholeWords (EltTy.packing .fp8e4m3) := fun v0 v6 v12 v18 v24 v30 v36 v42 v48 v54 v60 v66 v72 v78 v84 v90 k0_hw15 k0_t1 k0_h43 => k0_hw15.2.2.2.2.2.2.2.1.2.2.2.2.2.1 k0_t1 k0_h43 (k0_off207_inb v0 v6 v12 v18 v24 v30 v36 v42 v48 v54 v60 v66 v72 v78 v84 v90 k0_hw15 k0_t1 k0_h43)
theorem k0_off209_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off209 v0 v6 v12 v18 v24 v30 v36 v42 v48 v54 v60 v66 v72 v78 v84 v90 k0_t1) a + S1.size a ≤ S16.size a := fun v0 v6 v12 v18 v24 v30 v36 v42 v48 v54 v60 v66 v72 v78 v84 v90 k0_hw15 k0_t1 => k0_hw15.2.2.2.2.2.2.2.1.2.2.2.2.2.2.1 k0_t1
theorem k0_off210_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off210 v0 v6 v12 v18 v24 v30 v36 v42 v48 v54 v60 v66 v72 v78 v84 v90 k0_t1) a + S1.size a ≤ S2.size a := fun v0 v6 v12 v18 v24 v30 v36 v42 v48 v54 v60 v66 v72 v78 v84 v90 k0_hw15 k0_t1 => k0_hw15.2.2.2.2.2.2.2.1.2.2.2.2.2.2.2.1 k0_t1
theorem k0_off212_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), ∀ a, (k0_off212 v0 v6 v12 v18 v24 v30 v36 v42 v48 v54 v60 v66 v72 v78 v84 v90 k0_t1) a + S1x24x7168.size a ≤ S2x24x7168.size a := fun v0 v6 v12 v18 v24 v30 v36 v42 v48 v54 v60 v66 v72 v78 v84 v90 k0_hw15 k0_t1 => k0_hw15.2.2.2.2.2.2.2.1.2.2.2.2.2.2.2.2.1 k0_t1
theorem k0_off212_wordsbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t1 : Fin (k0_t1_loop v0 v6 v12 v18 v24 v30 v36 v42 v48 v54 v60 v66 v72 v78 v84 v90).trips), (Rect.unit (s := S2x24x7168) (k0_off212 v0 v6 v12 v18 v24 v30 v36 v42 v48 v54 v60 v66 v72 v78 v84 v90 k0_t1) S1x24x7168.size (k0_off212_inb v0 v6 v12 v18 v24 v30 v36 v42 v48 v54 v60 v66 v72 v78 v84 v90 k0_hw15 k0_t1)).WholeWords (EltTy.packing .bf16) := fun v0 v6 v12 v18 v24 v30 v36 v42 v48 v54 v60 v66 v72 v78 v84 v90 k0_hw15 k0_t1 => k0_hw15.2.2.2.2.2.2.2.1.2.2.2.2.2.2.2.2.2.1 k0_t1 (k0_off212_inb v0 v6 v12 v18 v24 v30 v36 v42 v48 v54 v60 v66 v72 v78 v84 v90 k0_hw15 k0_t1)
theorem k0_t2_ok : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90), (k0_t2_loop v0 v6 v12 v18 v24 v30 v36 v42 v48 v54 v60 v66 v72 v78 v84 v90).OK := fun v0 v6 v12 v18 v24 v30 v36 v42 v48 v54 v60 v66 v72 v78 v84 v90 k0_hw15 => k0_hw15.2.2.2.2.2.2.2.1.2.2.2.2.2.2.2.2.2.2.1
theorem k0_off213_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off213 v0 v6 v12 v18 v24 v30 v36 v42 v48 v54 v60 v66 v72 v78 v84 v90 k0_t2) a + S1.size a ≤ S16.size a := fun v0 v6 v12 v18 v24 v30 v36 v42 v48 v54 v60 v66 v72 v78 v84 v90 k0_hw15 k0_t2 => k0_hw15.2.2.2.2.2.2.2.1.2.2.2.2.2.2.2.2.2.2.2.1 k0_t2
theorem k0_off215_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off215 v0 v6 v12 v18 v24 v30 v36 v42 v48 v54 v60 v66 v72 v78 v84 v90 k0_t2) a + S1.size a ≤ S16.size a := fun v0 v6 v12 v18 v24 v30 v36 v42 v48 v54 v60 v66 v72 v78 v84 v90 k0_hw15 k0_t2 => k0_hw15.2.2.2.2.2.2.2.1.2.2.2.2.2.2.2.2.2.2.2.2.1 k0_t2
theorem k0_off216_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off216 v0 v6 v12 v18 v24 v30 v36 v42 v48 v54 v60 v66 v72 v78 v84 v90 k0_t2) a + S1.size a ≤ S2.size a := fun v0 v6 v12 v18 v24 v30 v36 v42 v48 v54 v60 v66 v72 v78 v84 v90 k0_hw15 k0_t2 => k0_hw15.2.2.2.2.2.2.2.1.2.2.2.2.2.2.2.2.2.2.2.2.2.1 k0_t2
theorem k0_off217_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off217 v0 v6 v12 v18 v24 v30 v36 v42 v48 v54 v60 v66 v72 v78 v84 v90 k0_t2) a + S1x24x1536.size a ≤ S2x24x1536.size a := fun v0 v6 v12 v18 v24 v30 v36 v42 v48 v54 v60 v66 v72 v78 v84 v90 k0_hw15 k0_t2 => k0_hw15.2.2.2.2.2.2.2.1.2.2.2.2.2.2.2.2.2.2.2.2.2.2.1 k0_t2
theorem k0_off217_wordsbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x1536) (k0_off217 v0 v6 v12 v18 v24 v30 v36 v42 v48 v54 v60 v66 v72 v78 v84 v90 k0_t2) S1x24x1536.size (k0_off217_inb v0 v6 v12 v18 v24 v30 v36 v42 v48 v54 v60 v66 v72 v78 v84 v90 k0_hw15 k0_t2)).WholeWords (EltTy.packing .bf16) := fun v0 v6 v12 v18 v24 v30 v36 v42 v48 v54 v60 v66 v72 v78 v84 v90 k0_hw15 k0_t2 => k0_hw15.2.2.2.2.2.2.2.1.2.2.2.2.2.2.2.2.2.2.2.2.2.2.2.1 k0_t2 (k0_off217_inb v0 v6 v12 v18 v24 v30 v36 v42 v48 v54 v60 v66 v72 v78 v84 v90 k0_hw15 k0_t2)
theorem k0_off219_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off219 v0 v6 v12 v18 v24 v30 v36 v42 v48 v54 v60 v66 v72 v78 v84 v90 k0_t2) a + S1.size a ≤ S16.size a := fun v0 v6 v12 v18 v24 v30 v36 v42 v48 v54 v60 v66 v72 v78 v84 v90 k0_hw15 k0_t2 => k0_hw15.2.2.2.2.2.2.2.1.2.2.2.2.2.2.2.2.2.2.2.2.2.2.2.2.1 k0_t2
theorem k0_off220_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off220 v0 v6 v12 v18 v24 v30 v36 v42 v48 v54 v60 v66 v72 v78 v84 v90 k0_t2) a + S1.size a ≤ S2.size a := fun v0 v6 v12 v18 v24 v30 v36 v42 v48 v54 v60 v66 v72 v78 v84 v90 k0_hw15 k0_t2 => k0_hw15.2.2.2.2.2.2.2.1.2.2.2.2.2.2.2.2.2.2.2.2.2.2.2.2.2.1 k0_t2
theorem k0_off221_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off221 v0 v6 v12 v18 v24 v30 v36 v42 v48 v54 v60 v66 v72 v78 v84 v90 k0_t2) a + S1x56x12.size a ≤ S2x56x12.size a := fun v0 v6 v12 v18 v24 v30 v36 v42 v48 v54 v60 v66 v72 v78 v84 v90 k0_hw15 k0_t2 => k0_hw15.2.2.2.2.2.2.2.1.2.2.2.2.2.2.2.2.2.2.2.2.2.2.2.2.2.2.1 k0_t2
theorem k0_off223_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off223 v0 v6 v12 v18 v24 v30 v36 v42 v48 v54 v60 v66 v72 v78 v84 v90 k0_t2) a + S1x56x12.size a ≤ S2x56x12.size a := fun v0 v6 v12 v18 v24 v30 v36 v42 v48 v54 v60 v66 v72 v78 v84 v90 k0_hw15 k0_t2 => k0_hw15.2.2.2.2.2.2.2.1.2.2.2.2.2.2.2.2.2.2.2.2.2.2.2.2.2.2.2.1 k0_t2
theorem k0_off224_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off224 v0 v6 v12 v18 v24 v30 v36 v42 v48 v54 v60 v66 v72 v78 v84 v90 k0_t2) a + S1x24x128.size a ≤ S2x24x1536.size a := fun v0 v6 v12 v18 v24 v30 v36 v42 v48 v54 v60 v66 v72 v78 v84 v90 k0_hw15 k0_t2 => k0_hw15.2.2.2.2.2.2.2.1.2.2.2.2.2.2.2.2.2.2.2.2.2.2.2.2.2.2.2.2.1 k0_t2
theorem k0_off225_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off225 v0 v6 v12 v18 v24 v30 v36 v42 v48 v54 v60 v66 v72 v78 v84 v90 k0_t2) a + S1x24x128.size a ≤ S2x24x1536.size a := fun v0 v6 v12 v18 v24 v30 v36 v42 v48 v54 v60 v66 v72 v78 v84 v90 k0_hw15 k0_t2 => k0_hw15.2.2.2.2.2.2.2.1.2.2.2.2.2.2.2.2.2.2.2.2.2.2.2.2.2.2.2.2.2.1 k0_t2
theorem k0_off226_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off226 v0 v6 v12 v18 v24 v30 v36 v42 v48 v54 v60 v66 v72 v78 v84 v90 k0_t2) a + S1x24x128.size a ≤ S2x24x1536.size a := fun v0 v6 v12 v18 v24 v30 v36 v42 v48 v54 v60 v66 v72 v78 v84 v90 k0_hw15 k0_t2 => k0_hw15.2.2.2.2.2.2.2.1.2.2.2.2.2.2.2.2.2.2.2.2.2.2.2.2.2.2.2.2.2.2.1 k0_t2
theorem k0_off227_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off227 v0 v6 v12 v18 v24 v30 v36 v42 v48 v54 v60 v66 v72 v78 v84 v90 k0_t2) a + S1x24x128.size a ≤ S2x24x1536.size a := fun v0 v6 v12 v18 v24 v30 v36 v42 v48 v54 v60 v66 v72 v78 v84 v90 k0_hw15 k0_t2 => k0_hw15.2.2.2.2.2.2.2.1.2.2.2.2.2.2.2.2.2.2.2.2.2.2.2.2.2.2.2.2.2.2.2.1 k0_t2
theorem k0_off228_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off228 v0 v6 v12 v18 v24 v30 v36 v42 v48 v54 v60 v66 v72 v78 v84 v90 k0_t2) a + S1x24x128.size a ≤ S2x24x1536.size a := fun v0 v6 v12 v18 v24 v30 v36 v42 v48 v54 v60 v66 v72 v78 v84 v90 k0_hw15 k0_t2 => k0_hw15.2.2.2.2.2.2.2.1.2.2.2.2.2.2.2.2.2.2.2.2.2.2.2.2.2.2.2.2.2.2.2.2.1 k0_t2
theorem k0_off229_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off229 v0 v6 v12 v18 v24 v30 v36 v42 v48 v54 v60 v66 v72 v78 v84 v90 k0_t2) a + S1x24x128.size a ≤ S2x24x1536.size a := fun v0 v6 v12 v18 v24 v30 v36 v42 v48 v54 v60 v66 v72 v78 v84 v90 k0_hw15 k0_t2 => k0_hw15.2.2.2.2.2.2.2.1.2.2.2.2.2.2.2.2.2.2.2.2.2.2.2.2.2.2.2.2.2.2.2.2.2.1 k0_t2
theorem k0_off230_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off230 v0 v6 v12 v18 v24 v30 v36 v42 v48 v54 v60 v66 v72 v78 v84 v90 k0_t2) a + S1x24x128.size a ≤ S2x24x1536.size a := fun v0 v6 v12 v18 v24 v30 v36 v42 v48 v54 v60 v66 v72 v78 v84 v90 k0_hw15 k0_t2 => k0_hw15.2.2.2.2.2.2.2.1.2.2.2.2.2.2.2.2.2.2.2.2.2.2.2.2.2.2.2.2.2.2.2.2.2.2.1 k0_t2
theorem k0_off231_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off231 v0 v6 v12 v18 v24 v30 v36 v42 v48 v54 v60 v66 v72 v78 v84 v90 k0_t2) a + S1x24x128.size a ≤ S2x24x1536.size a := fun v0 v6 v12 v18 v24 v30 v36 v42 v48 v54 v60 v66 v72 v78 v84 v90 k0_hw15 k0_t2 => k0_hw15.2.2.2.2.2.2.2.1.2.2.2.2.2.2.2.2.2.2.2.2.2.2.2.2.2.2.2.2.2.2.2.2.2.2.2.1 k0_t2
theorem k0_off232_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off232 v0 v6 v12 v18 v24 v30 v36 v42 v48 v54 v60 v66 v72 v78 v84 v90 k0_t2) a + S1x24x128.size a ≤ S2x24x1536.size a := fun v0 v6 v12 v18 v24 v30 v36 v42 v48 v54 v60 v66 v72 v78 v84 v90 k0_hw15 k0_t2 => k0_hw15.2.2.2.2.2.2.2.1.2.2.2.2.2.2.2.2.2.2.2.2.2.2.2.2.2.2.2.2.2.2.2.2.2.2.2.2.1 k0_t2
theorem k0_off233_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off233 v0 v6 v12 v18 v24 v30 v36 v42 v48 v54 v60 v66 v72 v78 v84 v90 k0_t2) a + S1x24x128.size a ≤ S2x24x1536.size a := fun v0 v6 v12 v18 v24 v30 v36 v42 v48 v54 v60 v66 v72 v78 v84 v90 k0_hw15 k0_t2 => k0_hw15.2.2.2.2.2.2.2.1.2.2.2.2.2.2.2.2.2.2.2.2.2.2.2.2.2.2.2.2.2.2.2.2.2.2.2.2.2.1 k0_t2
theorem k0_off234_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off234 v0 v6 v12 v18 v24 v30 v36 v42 v48 v54 v60 v66 v72 v78 v84 v90 k0_t2) a + S1x24x128.size a ≤ S2x24x1536.size a := fun v0 v6 v12 v18 v24 v30 v36 v42 v48 v54 v60 v66 v72 v78 v84 v90 k0_hw15 k0_t2 => k0_hw15.2.2.2.2.2.2.2.1.2.2.2.2.2.2.2.2.2.2.2.2.2.2.2.2.2.2.2.2.2.2.2.2.2.2.2.2.2.2.1 k0_t2
theorem k0_off235_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off235 v0 v6 v12 v18 v24 v30 v36 v42 v48 v54 v60 v66 v72 v78 v84 v90 k0_t2) a + S1x24x128.size a ≤ S2x24x1536.size a := fun v0 v6 v12 v18 v24 v30 v36 v42 v48 v54 v60 v66 v72 v78 v84 v90 k0_hw15 k0_t2 => k0_hw15.2.2.2.2.2.2.2.1.2.2.2.2.2.2.2.2.2.2.2.2.2.2.2.2.2.2.2.2.2.2.2.2.2.2.2.2.2.2.2 k0_t2
theorem k0_off236_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h44 : k0_cond44 v0 v6 v12 v18 v24 v30 v36 v42 v48 v54 v60 v66 v72 v78 v84 v90 k0_t2 = 1#1), ∀ a, (k0_off236 v0 v6 v12 v18 v24 v30 v36 v42 v48 v54 v60 v66 v72 v78 v84 v90 k0_t2) a + S1.size a ≤ S16.size a := fun v0 v6 v12 v18 v24 v30 v36 v42 v48 v54 v60 v66 v72 v78 v84 v90 k0_hw15 k0_t2 k0_h44 => k0_hw15.2.2.2.2.2.2.2.2.1.1 k0_t2 k0_h44
theorem k0_off237_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h44 : k0_cond44 v0 v6 v12 v18 v24 v30 v36 v42 v48 v54 v60 v66 v72 v78 v84 v90 k0_t2 = 1#1), ∀ a, (k0_off237 v0 v6 v12 v18 v24 v30 v36 v42 v48 v54 v60 v66 v72 v78 v84 v90 k0_t2) a + S1.size a ≤ S2.size a := fun v0 v6 v12 v18 v24 v30 v36 v42 v48 v54 v60 v66 v72 v78 v84 v90 k0_hw15 k0_t2 k0_h44 => k0_hw15.2.2.2.2.2.2.2.2.1.2.1 k0_t2 k0_h44
theorem k0_off239_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h44 : k0_cond44 v0 v6 v12 v18 v24 v30 v36 v42 v48 v54 v60 v66 v72 v78 v84 v90 k0_t2 = 1#1), ∀ a, (k0_off239 v0 v6 v12 v18 v24 v30 v36 v42 v48 v54 v60 v66 v72 v78 v84 v90 k0_t2) a + S1x24x7168.size a ≤ S2x24x7168.size a := fun v0 v6 v12 v18 v24 v30 v36 v42 v48 v54 v60 v66 v72 v78 v84 v90 k0_hw15 k0_t2 k0_h44 => k0_hw15.2.2.2.2.2.2.2.2.1.2.2.1 k0_t2 k0_h44
theorem k0_off239_wordsbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h44 : k0_cond44 v0 v6 v12 v18 v24 v30 v36 v42 v48 v54 v60 v66 v72 v78 v84 v90 k0_t2 = 1#1), (Rect.unit (s := S2x24x7168) (k0_off239 v0 v6 v12 v18 v24 v30 v36 v42 v48 v54 v60 v66 v72 v78 v84 v90 k0_t2) S1x24x7168.size (k0_off239_inb v0 v6 v12 v18 v24 v30 v36 v42 v48 v54 v60 v66 v72 v78 v84 v90 k0_hw15 k0_t2 k0_h44)).WholeWords (EltTy.packing .bf16) := fun v0 v6 v12 v18 v24 v30 v36 v42 v48 v54 v60 v66 v72 v78 v84 v90 k0_hw15 k0_t2 k0_h44 => k0_hw15.2.2.2.2.2.2.2.2.1.2.2.2.1 k0_t2 k0_h44 (k0_off239_inb v0 v6 v12 v18 v24 v30 v36 v42 v48 v54 v60 v66 v72 v78 v84 v90 k0_hw15 k0_t2 k0_h44)
theorem k0_off240_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h45 : k0_cond45 v0 v6 v12 v18 v24 v30 v36 v42 v48 v54 v60 v66 v72 v78 v84 v90 k0_t2 = 1#1), ∀ a, (k0_off240 v0 v6 v12 v18 v24 v30 v36 v42 v48 v54 v60 v66 v72 v78 v84 v90 k0_t2) a + S1.size a ≤ S16.size a := fun v0 v6 v12 v18 v24 v30 v36 v42 v48 v54 v60 v66 v72 v78 v84 v90 k0_hw15 k0_t2 k0_h45 => k0_hw15.2.2.2.2.2.2.2.2.1.2.2.2.2.1 k0_t2 k0_h45
theorem k0_off241_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h45 : k0_cond45 v0 v6 v12 v18 v24 v30 v36 v42 v48 v54 v60 v66 v72 v78 v84 v90 k0_t2 = 1#1), ∀ a, (k0_off241 v0 v6 v12 v18 v24 v30 v36 v42 v48 v54 v60 v66 v72 v78 v84 v90 k0_t2) a + S1.size a ≤ S2.size a := fun v0 v6 v12 v18 v24 v30 v36 v42 v48 v54 v60 v66 v72 v78 v84 v90 k0_hw15 k0_t2 k0_h45 => k0_hw15.2.2.2.2.2.2.2.2.1.2.2.2.2.2.1 k0_t2 k0_h45
theorem k0_off242_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h45 : k0_cond45 v0 v6 v12 v18 v24 v30 v36 v42 v48 v54 v60 v66 v72 v78 v84 v90 k0_t2 = 1#1), ∀ a, (k0_off242 v0 v6 v12 v18 v24 v30 v36 v42 v48 v54 v60 v66 v72 v78 v84 v90 k0_t2) a + S1x24x1536.size a ≤ S2x24x1536.size a := fun v0 v6 v12 v18 v24 v30 v36 v42 v48 v54 v60 v66 v72 v78 v84 v90 k0_hw15 k0_t2 k0_h45 => k0_hw15.2.2.2.2.2.2.2.2.1.2.2.2.2.2.2.1 k0_t2 k0_h45
theorem k0_off242_wordsbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h45 : k0_cond45 v0 v6 v12 v18 v24 v30 v36 v42 v48 v54 v60 v66 v72 v78 v84 v90 k0_t2 = 1#1), (Rect.unit (s := S2x24x1536) (k0_off242 v0 v6 v12 v18 v24 v30 v36 v42 v48 v54 v60 v66 v72 v78 v84 v90 k0_t2) S1x24x1536.size (k0_off242_inb v0 v6 v12 v18 v24 v30 v36 v42 v48 v54 v60 v66 v72 v78 v84 v90 k0_hw15 k0_t2 k0_h45)).WholeWords (EltTy.packing .bf16) := fun v0 v6 v12 v18 v24 v30 v36 v42 v48 v54 v60 v66 v72 v78 v84 v90 k0_hw15 k0_t2 k0_h45 => k0_hw15.2.2.2.2.2.2.2.2.1.2.2.2.2.2.2.2.1 k0_t2 k0_h45 (k0_off242_inb v0 v6 v12 v18 v24 v30 v36 v42 v48 v54 v60 v66 v72 v78 v84 v90 k0_hw15 k0_t2 k0_h45)
theorem k0_off244_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h45 : k0_cond45 v0 v6 v12 v18 v24 v30 v36 v42 v48 v54 v60 v66 v72 v78 v84 v90 k0_t2 = 1#1), ∀ a, (k0_off244 v0 v6 v12 v18 v24 v30 v36 v42 v48 v54 v60 v66 v72 v78 v84 v90 k0_t2) a + S1.size a ≤ S16.size a := fun v0 v6 v12 v18 v24 v30 v36 v42 v48 v54 v60 v66 v72 v78 v84 v90 k0_hw15 k0_t2 k0_h45 => k0_hw15.2.2.2.2.2.2.2.2.1.2.2.2.2.2.2.2.2.1 k0_t2 k0_h45
theorem k0_off245_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h45 : k0_cond45 v0 v6 v12 v18 v24 v30 v36 v42 v48 v54 v60 v66 v72 v78 v84 v90 k0_t2 = 1#1), ∀ a, (k0_off245 v0 v6 v12 v18 v24 v30 v36 v42 v48 v54 v60 v66 v72 v78 v84 v90 k0_t2) a + S1.size a ≤ S2.size a := fun v0 v6 v12 v18 v24 v30 v36 v42 v48 v54 v60 v66 v72 v78 v84 v90 k0_hw15 k0_t2 k0_h45 => k0_hw15.2.2.2.2.2.2.2.2.1.2.2.2.2.2.2.2.2.2.1 k0_t2 k0_h45
theorem k0_off246_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h45 : k0_cond45 v0 v6 v12 v18 v24 v30 v36 v42 v48 v54 v60 v66 v72 v78 v84 v90 k0_t2 = 1#1), ∀ a, (k0_off246 v0 v6 v12 v18 v24 v30 v36 v42 v48 v54 v60 v66 v72 v78 v84 v90 k0_t2) a + S1x56x12.size a ≤ S2x56x12.size a := fun v0 v6 v12 v18 v24 v30 v36 v42 v48 v54 v60 v66 v72 v78 v84 v90 k0_hw15 k0_t2 k0_h45 => k0_hw15.2.2.2.2.2.2.2.2.1.2.2.2.2.2.2.2.2.2.2.1 k0_t2 k0_h45
theorem k0_off248_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off248 v0 v6 v12 v18 v24 v30 v36 v42 v48 v54 v60 v66 v72 v78 v84 v90 k0_t2) a + S1.size a ≤ S16.size a := fun v0 v6 v12 v18 v24 v30 v36 v42 v48 v54 v60 v66 v72 v78 v84 v90 k0_hw15 k0_t2 => k0_hw15.2.2.2.2.2.2.2.2.1.2.2.2.2.2.2.2.2.2.2.2.1 k0_t2
theorem k0_off249_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off249 v0 v6 v12 v18 v24 v30 v36 v42 v48 v54 v60 v66 v72 v78 v84 v90 k0_t2) a + S1x1.size a ≤ S2x7.size a := fun v0 v6 v12 v18 v24 v30 v36 v42 v48 v54 v60 v66 v72 v78 v84 v90 k0_hw15 k0_t2 => k0_hw15.2.2.2.2.2.2.2.2.1.2.2.2.2.2.2.2.2.2.2.2.2.1 k0_t2
theorem k0_off250_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off250 v0 v6 v12 v18 v24 v30 v36 v42 v48 v54 v60 v66 v72 v78 v84 v90 k0_t2) a + S1x1024x1536.size a ≤ S2x7168x1536.size a := fun v0 v6 v12 v18 v24 v30 v36 v42 v48 v54 v60 v66 v72 v78 v84 v90 k0_hw15 k0_t2 => k0_hw15.2.2.2.2.2.2.2.2.1.2.2.2.2.2.2.2.2.2.2.2.2.2.1 k0_t2
theorem k0_off250_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x7168x1536) (k0_off250 v0 v6 v12 v18 v24 v30 v36 v42 v48 v54 v60 v66 v72 v78 v84 v90 k0_t2) S1x1024x1536.size (k0_off250_inb v0 v6 v12 v18 v24 v30 v36 v42 v48 v54 v60 v66 v72 v78 v84 v90 k0_hw15 k0_t2)).WholeWords (EltTy.packing .fp8e4m3) := fun v0 v6 v12 v18 v24 v30 v36 v42 v48 v54 v60 v66 v72 v78 v84 v90 k0_hw15 k0_t2 => k0_hw15.2.2.2.2.2.2.2.2.1.2.2.2.2.2.2.2.2.2.2.2.2.2.2.1 k0_t2 (k0_off250_inb v0 v6 v12 v18 v24 v30 v36 v42 v48 v54 v60 v66 v72 v78 v84 v90 k0_hw15 k0_t2)
theorem k0_off252_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off252 v0 v6 v12 v18 v24 v30 v36 v42 v48 v54 v60 v66 v72 v78 v84 v90 k0_t2) a + S1x256x1536.size a ≤ S2x7168x1536.size a := fun v0 v6 v12 v18 v24 v30 v36 v42 v48 v54 v60 v66 v72 v78 v84 v90 k0_hw15 k0_t2 => k0_hw15.2.2.2.2.2.2.2.2.1.2.2.2.2.2.2.2.2.2.2.2.2.2.2.2.1 k0_t2
theorem k0_off253_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off253 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.1.2.2.2.2.2.2.2.2.2.2.2.2.2.2.2.2.1 k0_t2
theorem k0_off253_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off253 v0 v6 v12 v18 v24 v30 v36 v42 v48 v54 v60 v66 v72 v78 v84 v90 k0_t2) S1x24x128.size (k0_off253_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.1.2.2.2.2.2.2.2.2.2.2.2.2.2.2.2.2.2.1 k0_t2 (k0_off253_inb v0 v6 v12 v18 v24 v30 v36 v42 v48 v54 v60 v66 v72 v78 v84 v90 k0_hw15 k0_t2)
theorem k0_off254_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off254 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.1.2.2.2.2.2.2.2.2.2.2.2.2.2.2.2.2.2.2.1 k0_t2
theorem k0_off254_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off254 v0 v6 v12 v18 v24 v30 v36 v42 v48 v54 v60 v66 v72 v78 v84 v90 k0_t2) S1x24x128.size (k0_off254_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.1.2.2.2.2.2.2.2.2.2.2.2.2.2.2.2.2.2.2.2.1 k0_t2 (k0_off254_inb v0 v6 v12 v18 v24 v30 v36 v42 v48 v54 v60 v66 v72 v78 v84 v90 k0_hw15 k0_t2)
theorem k0_off255_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off255 v0 v6 v12 v18 v24 v30 v36 v42 v48 v54 v60 v66 v72 v78 v84 v90 k0_t2) a + S1x256x1536.size a ≤ S2x7168x1536.size a := fun v0 v6 v12 v18 v24 v30 v36 v42 v48 v54 v60 v66 v72 v78 v84 v90 k0_hw15 k0_t2 => k0_hw15.2.2.2.2.2.2.2.2.1.2.2.2.2.2.2.2.2.2.2.2.2.2.2.2.2.2.2.2.2.1 k0_t2
theorem k0_off256_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off256 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.1.2.2.2.2.2.2.2.2.2.2.2.2.2.2.2.2.2.2.2.2.2.1 k0_t2
theorem k0_off256_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off256 v0 v6 v12 v18 v24 v30 v36 v42 v48 v54 v60 v66 v72 v78 v84 v90 k0_t2) S1x24x128.size (k0_off256_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.1.2.2.2.2.2.2.2.2.2.2.2.2.2.2.2.2.2.2.2.2.2.2.1 k0_t2 (k0_off256_inb v0 v6 v12 v18 v24 v30 v36 v42 v48 v54 v60 v66 v72 v78 v84 v90 k0_hw15 k0_t2)
theorem k0_off257_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off257 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.1.2.2.2.2.2.2.2.2.2.2.2.2.2.2.2.2.2.2.2.2.2.2.2.1 k0_t2
theorem k0_off257_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off257 v0 v6 v12 v18 v24 v30 v36 v42 v48 v54 v60 v66 v72 v78 v84 v90 k0_t2) S1x24x128.size (k0_off257_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.1.2.2.2.2.2.2.2.2.2.2.2.2.2.2.2.2.2.2.2.2.2.2.2.2.1 k0_t2 (k0_off257_inb v0 v6 v12 v18 v24 v30 v36 v42 v48 v54 v60 v66 v72 v78 v84 v90 k0_hw15 k0_t2)
theorem k0_off258_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off258 v0 v6 v12 v18 v24 v30 v36 v42 v48 v54 v60 v66 v72 v78 v84 v90 k0_t2) a + S1x256x1536.size a ≤ S2x7168x1536.size a := fun v0 v6 v12 v18 v24 v30 v36 v42 v48 v54 v60 v66 v72 v78 v84 v90 k0_hw15 k0_t2 => k0_hw15.2.2.2.2.2.2.2.2.1.2.2.2.2.2.2.2.2.2.2.2.2.2.2.2.2.2.2.2.2.2.2.2.2.2.1 k0_t2
theorem k0_off259_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off259 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.1.2.2.2.2.2.2.2.2.2.2.2.2.2.2.2.2.2.2.2.2.2.2.2.2.2.2.1 k0_t2
theorem k0_off259_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off259 v0 v6 v12 v18 v24 v30 v36 v42 v48 v54 v60 v66 v72 v78 v84 v90 k0_t2) S1x24x128.size (k0_off259_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.1.2.2.2.2.2.2.2.2.2.2.2.2.2.2.2.2.2.2.2.2.2.2.2.2.2.2.2.1 k0_t2 (k0_off259_inb v0 v6 v12 v18 v24 v30 v36 v42 v48 v54 v60 v66 v72 v78 v84 v90 k0_hw15 k0_t2)
theorem k0_off260_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off260 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.1.2.2.2.2.2.2.2.2.2.2.2.2.2.2.2.2.2.2.2.2.2.2.2.2.2.2.2.2.1 k0_t2
theorem k0_off260_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off260 v0 v6 v12 v18 v24 v30 v36 v42 v48 v54 v60 v66 v72 v78 v84 v90 k0_t2) S1x24x128.size (k0_off260_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.1.2.2.2.2.2.2.2.2.2.2.2.2.2.2.2.2.2.2.2.2.2.2.2.2.2.2.2.2.2.1 k0_t2 (k0_off260_inb v0 v6 v12 v18 v24 v30 v36 v42 v48 v54 v60 v66 v72 v78 v84 v90 k0_hw15 k0_t2)
theorem k0_off261_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off261 v0 v6 v12 v18 v24 v30 v36 v42 v48 v54 v60 v66 v72 v78 v84 v90 k0_t2) a + S1x256x1536.size a ≤ S2x7168x1536.size a := fun v0 v6 v12 v18 v24 v30 v36 v42 v48 v54 v60 v66 v72 v78 v84 v90 k0_hw15 k0_t2 => k0_hw15.2.2.2.2.2.2.2.2.1.2.2.2.2.2.2.2.2.2.2.2.2.2.2.2.2.2.2.2.2.2.2.2.2.2.2.2.2.2.2.1 k0_t2
theorem k0_off262_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off262 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.1.2.2.2.2.2.2.2.2.2.2.2.2.2.2.2.2.2.2.2.2.2.2.2.2.2.2.2.2.2.2.2 k0_t2
theorem k0_off262_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off262 v0 v6 v12 v18 v24 v30 v36 v42 v48 v54 v60 v66 v72 v78 v84 v90 k0_t2) S1x24x128.size (k0_off262_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.1.1 k0_t2 (k0_off262_inb v0 v6 v12 v18 v24 v30 v36 v42 v48 v54 v60 v66 v72 v78 v84 v90 k0_hw15 k0_t2)
theorem k0_off263_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off263 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.1.2.1 k0_t2
theorem k0_off263_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off263 v0 v6 v12 v18 v24 v30 v36 v42 v48 v54 v60 v66 v72 v78 v84 v90 k0_t2) S1x24x128.size (k0_off263_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.1.2.2.1 k0_t2 (k0_off263_inb v0 v6 v12 v18 v24 v30 v36 v42 v48 v54 v60 v66 v72 v78 v84 v90 k0_hw15 k0_t2)
theorem k0_off264_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h46 : k0_cond46 v0 v6 v12 v18 v24 v30 v36 v42 v48 v54 v60 v66 v72 v78 v84 v90 k0_t2 = 1#1), ∀ a, (k0_off264 v0 v6 v12 v18 v24 v30 v36 v42 v48 v54 v60 v66 v72 v78 v84 v90 k0_t2) a + S1.size a ≤ S16.size a := fun v0 v6 v12 v18 v24 v30 v36 v42 v48 v54 v60 v66 v72 v78 v84 v90 k0_hw15 k0_t2 k0_h46 => k0_hw15.2.2.2.2.2.2.2.2.2.1.2.2.2.1 k0_t2 k0_h46
theorem k0_off265_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h46 : k0_cond46 v0 v6 v12 v18 v24 v30 v36 v42 v48 v54 v60 v66 v72 v78 v84 v90 k0_t2 = 1#1), ∀ a, (k0_off265 v0 v6 v12 v18 v24 v30 v36 v42 v48 v54 v60 v66 v72 v78 v84 v90 k0_t2) a + S1x1.size a ≤ S2x7.size a := fun v0 v6 v12 v18 v24 v30 v36 v42 v48 v54 v60 v66 v72 v78 v84 v90 k0_hw15 k0_t2 k0_h46 => k0_hw15.2.2.2.2.2.2.2.2.2.1.2.2.2.2.1 k0_t2 k0_h46
theorem k0_off266_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h46 : k0_cond46 v0 v6 v12 v18 v24 v30 v36 v42 v48 v54 v60 v66 v72 v78 v84 v90 k0_t2 = 1#1), ∀ a, (k0_off266 v0 v6 v12 v18 v24 v30 v36 v42 v48 v54 v60 v66 v72 v78 v84 v90 k0_t2) a + S1x1024x1536.size a ≤ S2x7168x1536.size a := fun v0 v6 v12 v18 v24 v30 v36 v42 v48 v54 v60 v66 v72 v78 v84 v90 k0_hw15 k0_t2 k0_h46 => k0_hw15.2.2.2.2.2.2.2.2.2.1.2.2.2.2.2.1 k0_t2 k0_h46
theorem k0_off266_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h46 : k0_cond46 v0 v6 v12 v18 v24 v30 v36 v42 v48 v54 v60 v66 v72 v78 v84 v90 k0_t2 = 1#1), (Rect.unit (s := S2x7168x1536) (k0_off266 v0 v6 v12 v18 v24 v30 v36 v42 v48 v54 v60 v66 v72 v78 v84 v90 k0_t2) S1x1024x1536.size (k0_off266_inb v0 v6 v12 v18 v24 v30 v36 v42 v48 v54 v60 v66 v72 v78 v84 v90 k0_hw15 k0_t2 k0_h46)).WholeWords (EltTy.packing .fp8e4m3) := fun v0 v6 v12 v18 v24 v30 v36 v42 v48 v54 v60 v66 v72 v78 v84 v90 k0_hw15 k0_t2 k0_h46 => k0_hw15.2.2.2.2.2.2.2.2.2.1.2.2.2.2.2.2.1 k0_t2 k0_h46 (k0_off266_inb v0 v6 v12 v18 v24 v30 v36 v42 v48 v54 v60 v66 v72 v78 v84 v90 k0_hw15 k0_t2 k0_h46)
theorem k0_off268_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off268 v0 v6 v12 v18 v24 v30 v36 v42 v48 v54 v60 v66 v72 v78 v84 v90 k0_t2) a + S1.size a ≤ S16.size a := fun v0 v6 v12 v18 v24 v30 v36 v42 v48 v54 v60 v66 v72 v78 v84 v90 k0_hw15 k0_t2 => k0_hw15.2.2.2.2.2.2.2.2.2.1.2.2.2.2.2.2.2.1 k0_t2
theorem k0_off269_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off269 v0 v6 v12 v18 v24 v30 v36 v42 v48 v54 v60 v66 v72 v78 v84 v90 k0_t2) a + S1x1.size a ≤ S2x7.size a := fun v0 v6 v12 v18 v24 v30 v36 v42 v48 v54 v60 v66 v72 v78 v84 v90 k0_hw15 k0_t2 => k0_hw15.2.2.2.2.2.2.2.2.2.1.2.2.2.2.2.2.2.2.1 k0_t2
theorem k0_off270_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off270 v0 v6 v12 v18 v24 v30 v36 v42 v48 v54 v60 v66 v72 v78 v84 v90 k0_t2) a + S1x1024x1536.size a ≤ S2x7168x1536.size a := fun v0 v6 v12 v18 v24 v30 v36 v42 v48 v54 v60 v66 v72 v78 v84 v90 k0_hw15 k0_t2 => k0_hw15.2.2.2.2.2.2.2.2.2.1.2.2.2.2.2.2.2.2.2.1 k0_t2
theorem k0_off270_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x7168x1536) (k0_off270 v0 v6 v12 v18 v24 v30 v36 v42 v48 v54 v60 v66 v72 v78 v84 v90 k0_t2) S1x1024x1536.size (k0_off270_inb v0 v6 v12 v18 v24 v30 v36 v42 v48 v54 v60 v66 v72 v78 v84 v90 k0_hw15 k0_t2)).WholeWords (EltTy.packing .fp8e4m3) := fun v0 v6 v12 v18 v24 v30 v36 v42 v48 v54 v60 v66 v72 v78 v84 v90 k0_hw15 k0_t2 => k0_hw15.2.2.2.2.2.2.2.2.2.1.2.2.2.2.2.2.2.2.2.2.1 k0_t2 (k0_off270_inb v0 v6 v12 v18 v24 v30 v36 v42 v48 v54 v60 v66 v72 v78 v84 v90 k0_hw15 k0_t2)
theorem k0_off272_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off272 v0 v6 v12 v18 v24 v30 v36 v42 v48 v54 v60 v66 v72 v78 v84 v90 k0_t2) a + S1x256x1536.size a ≤ S2x7168x1536.size a := fun v0 v6 v12 v18 v24 v30 v36 v42 v48 v54 v60 v66 v72 v78 v84 v90 k0_hw15 k0_t2 => k0_hw15.2.2.2.2.2.2.2.2.2.1.2.2.2.2.2.2.2.2.2.2.2.1 k0_t2
theorem k0_off273_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off273 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.1.2.2.2.2.2.2.2.2.2.2.2.2.1 k0_t2
theorem k0_off273_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off273 v0 v6 v12 v18 v24 v30 v36 v42 v48 v54 v60 v66 v72 v78 v84 v90 k0_t2) S1x24x128.size (k0_off273_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.1.2.2.2.2.2.2.2.2.2.2.2.2.2.1 k0_t2 (k0_off273_inb v0 v6 v12 v18 v24 v30 v36 v42 v48 v54 v60 v66 v72 v78 v84 v90 k0_hw15 k0_t2)
theorem k0_off274_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off274 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.1.2.2.2.2.2.2.2.2.2.2.2.2.2.2.1 k0_t2
theorem k0_off274_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off274 v0 v6 v12 v18 v24 v30 v36 v42 v48 v54 v60 v66 v72 v78 v84 v90 k0_t2) S1x24x128.size (k0_off274_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.1.2.2.2.2.2.2.2.2.2.2.2.2.2.2.2.1 k0_t2 (k0_off274_inb v0 v6 v12 v18 v24 v30 v36 v42 v48 v54 v60 v66 v72 v78 v84 v90 k0_hw15 k0_t2)
theorem k0_off275_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off275 v0 v6 v12 v18 v24 v30 v36 v42 v48 v54 v60 v66 v72 v78 v84 v90 k0_t2) a + S1x256x1536.size a ≤ S2x7168x1536.size a := fun v0 v6 v12 v18 v24 v30 v36 v42 v48 v54 v60 v66 v72 v78 v84 v90 k0_hw15 k0_t2 => k0_hw15.2.2.2.2.2.2.2.2.2.1.2.2.2.2.2.2.2.2.2.2.2.2.2.2.2.2.1 k0_t2
theorem k0_off276_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off276 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.1.2.2.2.2.2.2.2.2.2.2.2.2.2.2.2.2.2.1 k0_t2
theorem k0_off276_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off276 v0 v6 v12 v18 v24 v30 v36 v42 v48 v54 v60 v66 v72 v78 v84 v90 k0_t2) S1x24x128.size (k0_off276_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.1.2.2.2.2.2.2.2.2.2.2.2.2.2.2.2.2.2.2.1 k0_t2 (k0_off276_inb v0 v6 v12 v18 v24 v30 v36 v42 v48 v54 v60 v66 v72 v78 v84 v90 k0_hw15 k0_t2)
theorem k0_off277_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off277 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.1.2.2.2.2.2.2.2.2.2.2.2.2.2.2.2.2.2.2.2.1 k0_t2
theorem k0_off277_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off277 v0 v6 v12 v18 v24 v30 v36 v42 v48 v54 v60 v66 v72 v78 v84 v90 k0_t2) S1x24x128.size (k0_off277_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.1.2.2.2.2.2.2.2.2.2.2.2.2.2.2.2.2.2.2.2.2.1 k0_t2 (k0_off277_inb v0 v6 v12 v18 v24 v30 v36 v42 v48 v54 v60 v66 v72 v78 v84 v90 k0_hw15 k0_t2)
theorem k0_off278_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off278 v0 v6 v12 v18 v24 v30 v36 v42 v48 v54 v60 v66 v72 v78 v84 v90 k0_t2) a + S1x256x1536.size a ≤ S2x7168x1536.size a := fun v0 v6 v12 v18 v24 v30 v36 v42 v48 v54 v60 v66 v72 v78 v84 v90 k0_hw15 k0_t2 => k0_hw15.2.2.2.2.2.2.2.2.2.1.2.2.2.2.2.2.2.2.2.2.2.2.2.2.2.2.2.2.2.2.2.1 k0_t2
theorem k0_off279_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off279 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.1.2.2.2.2.2.2.2.2.2.2.2.2.2.2.2.2.2.2.2.2.2.2.1 k0_t2
theorem k0_off279_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off279 v0 v6 v12 v18 v24 v30 v36 v42 v48 v54 v60 v66 v72 v78 v84 v90 k0_t2) S1x24x128.size (k0_off279_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.1.2.2.2.2.2.2.2.2.2.2.2.2.2.2.2.2.2.2.2.2.2.2.2.1 k0_t2 (k0_off279_inb v0 v6 v12 v18 v24 v30 v36 v42 v48 v54 v60 v66 v72 v78 v84 v90 k0_hw15 k0_t2)
theorem k0_off280_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off280 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.1.2.2.2.2.2.2.2.2.2.2.2.2.2.2.2.2.2.2.2.2.2.2.2.2.1 k0_t2
theorem k0_off280_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off280 v0 v6 v12 v18 v24 v30 v36 v42 v48 v54 v60 v66 v72 v78 v84 v90 k0_t2) S1x24x128.size (k0_off280_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.1.2.2.2.2.2.2.2.2.2.2.2.2.2.2.2.2.2.2.2.2.2.2.2.2.2.1 k0_t2 (k0_off280_inb v0 v6 v12 v18 v24 v30 v36 v42 v48 v54 v60 v66 v72 v78 v84 v90 k0_hw15 k0_t2)
theorem k0_off281_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off281 v0 v6 v12 v18 v24 v30 v36 v42 v48 v54 v60 v66 v72 v78 v84 v90 k0_t2) a + S1x256x1536.size a ≤ S2x7168x1536.size a := fun v0 v6 v12 v18 v24 v30 v36 v42 v48 v54 v60 v66 v72 v78 v84 v90 k0_hw15 k0_t2 => k0_hw15.2.2.2.2.2.2.2.2.2.1.2.2.2.2.2.2.2.2.2.2.2.2.2.2.2.2.2.2.2.2.2.2.2.2.2.2.1 k0_t2
theorem k0_off282_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off282 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.1.2.2.2.2.2.2.2.2.2.2.2.2.2.2.2.2.2.2.2.2.2.2.2.2.2.2.2.1 k0_t2
theorem k0_off282_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off282 v0 v6 v12 v18 v24 v30 v36 v42 v48 v54 v60 v66 v72 v78 v84 v90 k0_t2) S1x24x128.size (k0_off282_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.1.2.2.2.2.2.2.2.2.2.2.2.2.2.2.2.2.2.2.2.2.2.2.2.2.2.2.2.2.1 k0_t2 (k0_off282_inb v0 v6 v12 v18 v24 v30 v36 v42 v48 v54 v60 v66 v72 v78 v84 v90 k0_hw15 k0_t2)
theorem k0_off283_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off283 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.1.2.2.2.2.2.2.2.2.2.2.2.2.2.2.2.2.2.2.2.2.2.2.2.2.2.2.2.2.2.1 k0_t2
theorem k0_off283_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off283 v0 v6 v12 v18 v24 v30 v36 v42 v48 v54 v60 v66 v72 v78 v84 v90 k0_t2) S1x24x128.size (k0_off283_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.1.2.2.2.2.2.2.2.2.2.2.2.2.2.2.2.2.2.2.2.2.2.2.2.2.2.2.2.2.2.2.1 k0_t2 (k0_off283_inb v0 v6 v12 v18 v24 v30 v36 v42 v48 v54 v60 v66 v72 v78 v84 v90 k0_hw15 k0_t2)
theorem k0_off284_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h47 : k0_cond47 v0 v6 v12 v18 v24 v30 v36 v42 v48 v54 v60 v66 v72 v78 v84 v90 k0_t2 = 1#1), ∀ a, (k0_off284 v0 v6 v12 v18 v24 v30 v36 v42 v48 v54 v60 v66 v72 v78 v84 v90 k0_t2) a + S1.size a ≤ S16.size a := fun v0 v6 v12 v18 v24 v30 v36 v42 v48 v54 v60 v66 v72 v78 v84 v90 k0_hw15 k0_t2 k0_h47 => k0_hw15.2.2.2.2.2.2.2.2.2.1.2.2.2.2.2.2.2.2.2.2.2.2.2.2.2.2.2.2.2.2.2.2.2.2.2.2.2.2.2.2.2 k0_t2 k0_h47
theorem k0_off285_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h47 : k0_cond47 v0 v6 v12 v18 v24 v30 v36 v42 v48 v54 v60 v66 v72 v78 v84 v90 k0_t2 = 1#1), ∀ a, (k0_off285 v0 v6 v12 v18 v24 v30 v36 v42 v48 v54 v60 v66 v72 v78 v84 v90 k0_t2) a + S1x1.size a ≤ S2x7.size a := fun v0 v6 v12 v18 v24 v30 v36 v42 v48 v54 v60 v66 v72 v78 v84 v90 k0_hw15 k0_t2 k0_h47 => k0_hw15.2.2.2.2.2.2.2.2.2.2.1.1 k0_t2 k0_h47
theorem k0_off286_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h47 : k0_cond47 v0 v6 v12 v18 v24 v30 v36 v42 v48 v54 v60 v66 v72 v78 v84 v90 k0_t2 = 1#1), ∀ a, (k0_off286 v0 v6 v12 v18 v24 v30 v36 v42 v48 v54 v60 v66 v72 v78 v84 v90 k0_t2) a + S1x1024x1536.size a ≤ S2x7168x1536.size a := fun v0 v6 v12 v18 v24 v30 v36 v42 v48 v54 v60 v66 v72 v78 v84 v90 k0_hw15 k0_t2 k0_h47 => k0_hw15.2.2.2.2.2.2.2.2.2.2.1.2.1 k0_t2 k0_h47
theorem k0_off286_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h47 : k0_cond47 v0 v6 v12 v18 v24 v30 v36 v42 v48 v54 v60 v66 v72 v78 v84 v90 k0_t2 = 1#1), (Rect.unit (s := S2x7168x1536) (k0_off286 v0 v6 v12 v18 v24 v30 v36 v42 v48 v54 v60 v66 v72 v78 v84 v90 k0_t2) S1x1024x1536.size (k0_off286_inb v0 v6 v12 v18 v24 v30 v36 v42 v48 v54 v60 v66 v72 v78 v84 v90 k0_hw15 k0_t2 k0_h47)).WholeWords (EltTy.packing .fp8e4m3) := fun v0 v6 v12 v18 v24 v30 v36 v42 v48 v54 v60 v66 v72 v78 v84 v90 k0_hw15 k0_t2 k0_h47 => k0_hw15.2.2.2.2.2.2.2.2.2.2.1.2.2.1 k0_t2 k0_h47 (k0_off286_inb v0 v6 v12 v18 v24 v30 v36 v42 v48 v54 v60 v66 v72 v78 v84 v90 k0_hw15 k0_t2 k0_h47)
theorem k0_off288_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off288 v0 v6 v12 v18 v24 v30 v36 v42 v48 v54 v60 v66 v72 v78 v84 v90 k0_t2) a + S1.size a ≤ S16.size a := fun v0 v6 v12 v18 v24 v30 v36 v42 v48 v54 v60 v66 v72 v78 v84 v90 k0_hw15 k0_t2 => k0_hw15.2.2.2.2.2.2.2.2.2.2.1.2.2.2.1 k0_t2
theorem k0_off289_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off289 v0 v6 v12 v18 v24 v30 v36 v42 v48 v54 v60 v66 v72 v78 v84 v90 k0_t2) a + S1x1.size a ≤ S2x7.size a := fun v0 v6 v12 v18 v24 v30 v36 v42 v48 v54 v60 v66 v72 v78 v84 v90 k0_hw15 k0_t2 => k0_hw15.2.2.2.2.2.2.2.2.2.2.1.2.2.2.2.1 k0_t2
theorem k0_off290_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off290 v0 v6 v12 v18 v24 v30 v36 v42 v48 v54 v60 v66 v72 v78 v84 v90 k0_t2) a + S1x1024x1536.size a ≤ S2x7168x1536.size a := fun v0 v6 v12 v18 v24 v30 v36 v42 v48 v54 v60 v66 v72 v78 v84 v90 k0_hw15 k0_t2 => k0_hw15.2.2.2.2.2.2.2.2.2.2.1.2.2.2.2.2.1 k0_t2
theorem k0_off290_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x7168x1536) (k0_off290 v0 v6 v12 v18 v24 v30 v36 v42 v48 v54 v60 v66 v72 v78 v84 v90 k0_t2) S1x1024x1536.size (k0_off290_inb v0 v6 v12 v18 v24 v30 v36 v42 v48 v54 v60 v66 v72 v78 v84 v90 k0_hw15 k0_t2)).WholeWords (EltTy.packing .fp8e4m3) := fun v0 v6 v12 v18 v24 v30 v36 v42 v48 v54 v60 v66 v72 v78 v84 v90 k0_hw15 k0_t2 => k0_hw15.2.2.2.2.2.2.2.2.2.2.1.2.2.2.2.2.2.1 k0_t2 (k0_off290_inb v0 v6 v12 v18 v24 v30 v36 v42 v48 v54 v60 v66 v72 v78 v84 v90 k0_hw15 k0_t2)
theorem k0_off292_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off292 v0 v6 v12 v18 v24 v30 v36 v42 v48 v54 v60 v66 v72 v78 v84 v90 k0_t2) a + S1x256x1536.size a ≤ S2x7168x1536.size a := fun v0 v6 v12 v18 v24 v30 v36 v42 v48 v54 v60 v66 v72 v78 v84 v90 k0_hw15 k0_t2 => k0_hw15.2.2.2.2.2.2.2.2.2.2.1.2.2.2.2.2.2.2.1 k0_t2
theorem k0_off293_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off293 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.1.2.2.2.2.2.2.2.2.1 k0_t2
theorem k0_off293_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off293 v0 v6 v12 v18 v24 v30 v36 v42 v48 v54 v60 v66 v72 v78 v84 v90 k0_t2) S1x24x128.size (k0_off293_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.1.2.2.2.2.2.2.2.2.2.1 k0_t2 (k0_off293_inb v0 v6 v12 v18 v24 v30 v36 v42 v48 v54 v60 v66 v72 v78 v84 v90 k0_hw15 k0_t2)
theorem k0_off294_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off294 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.1.2.2.2.2.2.2.2.2.2.2.1 k0_t2
theorem k0_off294_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off294 v0 v6 v12 v18 v24 v30 v36 v42 v48 v54 v60 v66 v72 v78 v84 v90 k0_t2) S1x24x128.size (k0_off294_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.1.2.2.2.2.2.2.2.2.2.2.2.1 k0_t2 (k0_off294_inb v0 v6 v12 v18 v24 v30 v36 v42 v48 v54 v60 v66 v72 v78 v84 v90 k0_hw15 k0_t2)
theorem k0_off295_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off295 v0 v6 v12 v18 v24 v30 v36 v42 v48 v54 v60 v66 v72 v78 v84 v90 k0_t2) a + S1x256x1536.size a ≤ S2x7168x1536.size a := fun v0 v6 v12 v18 v24 v30 v36 v42 v48 v54 v60 v66 v72 v78 v84 v90 k0_hw15 k0_t2 => k0_hw15.2.2.2.2.2.2.2.2.2.2.1.2.2.2.2.2.2.2.2.2.2.2.2.1 k0_t2
theorem k0_off296_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off296 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.1.2.2.2.2.2.2.2.2.2.2.2.2.2.1 k0_t2
theorem k0_off296_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off296 v0 v6 v12 v18 v24 v30 v36 v42 v48 v54 v60 v66 v72 v78 v84 v90 k0_t2) S1x24x128.size (k0_off296_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.1.2.2.2.2.2.2.2.2.2.2.2.2.2.2.1 k0_t2 (k0_off296_inb v0 v6 v12 v18 v24 v30 v36 v42 v48 v54 v60 v66 v72 v78 v84 v90 k0_hw15 k0_t2)
theorem k0_off297_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off297 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.1.2.2.2.2.2.2.2.2.2.2.2.2.2.2.2.1 k0_t2
theorem k0_off297_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off297 v0 v6 v12 v18 v24 v30 v36 v42 v48 v54 v60 v66 v72 v78 v84 v90 k0_t2) S1x24x128.size (k0_off297_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.1.2.2.2.2.2.2.2.2.2.2.2.2.2.2.2.2.1 k0_t2 (k0_off297_inb v0 v6 v12 v18 v24 v30 v36 v42 v48 v54 v60 v66 v72 v78 v84 v90 k0_hw15 k0_t2)
theorem k0_off298_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off298 v0 v6 v12 v18 v24 v30 v36 v42 v48 v54 v60 v66 v72 v78 v84 v90 k0_t2) a + S1x256x1536.size a ≤ S2x7168x1536.size a := fun v0 v6 v12 v18 v24 v30 v36 v42 v48 v54 v60 v66 v72 v78 v84 v90 k0_hw15 k0_t2 => k0_hw15.2.2.2.2.2.2.2.2.2.2.1.2.2.2.2.2.2.2.2.2.2.2.2.2.2.2.2.2.1 k0_t2
theorem k0_off299_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off299 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.1.2.2.2.2.2.2.2.2.2.2.2.2.2.2.2.2.2.2.1 k0_t2
theorem k0_off299_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off299 v0 v6 v12 v18 v24 v30 v36 v42 v48 v54 v60 v66 v72 v78 v84 v90 k0_t2) S1x24x128.size (k0_off299_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.1.2.2.2.2.2.2.2.2.2.2.2.2.2.2.2.2.2.2.2.1 k0_t2 (k0_off299_inb v0 v6 v12 v18 v24 v30 v36 v42 v48 v54 v60 v66 v72 v78 v84 v90 k0_hw15 k0_t2)
theorem k0_off300_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off300 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.1.2.2.2.2.2.2.2.2.2.2.2.2.2.2.2.2.2.2.2.2.1 k0_t2
theorem k0_off300_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off300 v0 v6 v12 v18 v24 v30 v36 v42 v48 v54 v60 v66 v72 v78 v84 v90 k0_t2) S1x24x128.size (k0_off300_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.1.2.2.2.2.2.2.2.2.2.2.2.2.2.2.2.2.2.2.2.2.2.1 k0_t2 (k0_off300_inb v0 v6 v12 v18 v24 v30 v36 v42 v48 v54 v60 v66 v72 v78 v84 v90 k0_hw15 k0_t2)
theorem k0_off301_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off301 v0 v6 v12 v18 v24 v30 v36 v42 v48 v54 v60 v66 v72 v78 v84 v90 k0_t2) a + S1x256x1536.size a ≤ S2x7168x1536.size a := fun v0 v6 v12 v18 v24 v30 v36 v42 v48 v54 v60 v66 v72 v78 v84 v90 k0_hw15 k0_t2 => k0_hw15.2.2.2.2.2.2.2.2.2.2.1.2.2.2.2.2.2.2.2.2.2.2.2.2.2.2.2.2.2.2.2.2.2.1 k0_t2
theorem k0_off302_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off302 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.1.2.2.2.2.2.2.2.2.2.2.2.2.2.2.2.2.2.2.2.2.2.2.2.1 k0_t2
theorem k0_off302_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off302 v0 v6 v12 v18 v24 v30 v36 v42 v48 v54 v60 v66 v72 v78 v84 v90 k0_t2) S1x24x128.size (k0_off302_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.1.2.2.2.2.2.2.2.2.2.2.2.2.2.2.2.2.2.2.2.2.2.2.2.2.1 k0_t2 (k0_off302_inb v0 v6 v12 v18 v24 v30 v36 v42 v48 v54 v60 v66 v72 v78 v84 v90 k0_hw15 k0_t2)
theorem k0_off303_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off303 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.1.2.2.2.2.2.2.2.2.2.2.2.2.2.2.2.2.2.2.2.2.2.2.2.2.2.1 k0_t2
theorem k0_off303_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off303 v0 v6 v12 v18 v24 v30 v36 v42 v48 v54 v60 v66 v72 v78 v84 v90 k0_t2) S1x24x128.size (k0_off303_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.1.2.2.2.2.2.2.2.2.2.2.2.2.2.2.2.2.2.2.2.2.2.2.2.2.2.2.1 k0_t2 (k0_off303_inb v0 v6 v12 v18 v24 v30 v36 v42 v48 v54 v60 v66 v72 v78 v84 v90 k0_hw15 k0_t2)
theorem k0_off304_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h48 : k0_cond48 v0 v6 v12 v18 v24 v30 v36 v42 v48 v54 v60 v66 v72 v78 v84 v90 k0_t2 = 1#1), ∀ a, (k0_off304 v0 v6 v12 v18 v24 v30 v36 v42 v48 v54 v60 v66 v72 v78 v84 v90 k0_t2) a + S1.size a ≤ S16.size a := fun v0 v6 v12 v18 v24 v30 v36 v42 v48 v54 v60 v66 v72 v78 v84 v90 k0_hw15 k0_t2 k0_h48 => k0_hw15.2.2.2.2.2.2.2.2.2.2.1.2.2.2.2.2.2.2.2.2.2.2.2.2.2.2.2.2.2.2.2.2.2.2.2.2.2.2.1 k0_t2 k0_h48
theorem k0_off305_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h48 : k0_cond48 v0 v6 v12 v18 v24 v30 v36 v42 v48 v54 v60 v66 v72 v78 v84 v90 k0_t2 = 1#1), ∀ a, (k0_off305 v0 v6 v12 v18 v24 v30 v36 v42 v48 v54 v60 v66 v72 v78 v84 v90 k0_t2) a + S1x1.size a ≤ S2x7.size a := fun v0 v6 v12 v18 v24 v30 v36 v42 v48 v54 v60 v66 v72 v78 v84 v90 k0_hw15 k0_t2 k0_h48 => k0_hw15.2.2.2.2.2.2.2.2.2.2.1.2.2.2.2.2.2.2.2.2.2.2.2.2.2.2.2.2.2.2.2.2.2.2.2.2.2.2.2.1 k0_t2 k0_h48
theorem k0_off306_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h48 : k0_cond48 v0 v6 v12 v18 v24 v30 v36 v42 v48 v54 v60 v66 v72 v78 v84 v90 k0_t2 = 1#1), ∀ a, (k0_off306 v0 v6 v12 v18 v24 v30 v36 v42 v48 v54 v60 v66 v72 v78 v84 v90 k0_t2) a + S1x1024x1536.size a ≤ S2x7168x1536.size a := fun v0 v6 v12 v18 v24 v30 v36 v42 v48 v54 v60 v66 v72 v78 v84 v90 k0_hw15 k0_t2 k0_h48 => k0_hw15.2.2.2.2.2.2.2.2.2.2.1.2.2.2.2.2.2.2.2.2.2.2.2.2.2.2.2.2.2.2.2.2.2.2.2.2.2.2.2.2.1 k0_t2 k0_h48
theorem k0_off306_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h48 : k0_cond48 v0 v6 v12 v18 v24 v30 v36 v42 v48 v54 v60 v66 v72 v78 v84 v90 k0_t2 = 1#1), (Rect.unit (s := S2x7168x1536) (k0_off306 v0 v6 v12 v18 v24 v30 v36 v42 v48 v54 v60 v66 v72 v78 v84 v90 k0_t2) S1x1024x1536.size (k0_off306_inb v0 v6 v12 v18 v24 v30 v36 v42 v48 v54 v60 v66 v72 v78 v84 v90 k0_hw15 k0_t2 k0_h48)).WholeWords (EltTy.packing .fp8e4m3) := fun v0 v6 v12 v18 v24 v30 v36 v42 v48 v54 v60 v66 v72 v78 v84 v90 k0_hw15 k0_t2 k0_h48 => k0_hw15.2.2.2.2.2.2.2.2.2.2.1.2.2.2.2.2.2.2.2.2.2.2.2.2.2.2.2.2.2.2.2.2.2.2.2.2.2.2.2.2.2.1 k0_t2 k0_h48 (k0_off306_inb v0 v6 v12 v18 v24 v30 v36 v42 v48 v54 v60 v66 v72 v78 v84 v90 k0_hw15 k0_t2 k0_h48)
theorem k0_off308_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off308 v0 v6 v12 v18 v24 v30 v36 v42 v48 v54 v60 v66 v72 v78 v84 v90 k0_t2) a + S1.size a ≤ S16.size a := fun v0 v6 v12 v18 v24 v30 v36 v42 v48 v54 v60 v66 v72 v78 v84 v90 k0_hw15 k0_t2 => k0_hw15.2.2.2.2.2.2.2.2.2.2.1.2.2.2.2.2.2.2.2.2.2.2.2.2.2.2.2.2.2.2.2.2.2.2.2.2.2.2.2.2.2.2 k0_t2
theorem k0_off309_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off309 v0 v6 v12 v18 v24 v30 v36 v42 v48 v54 v60 v66 v72 v78 v84 v90 k0_t2) a + S1x1.size a ≤ S2x7.size a := fun v0 v6 v12 v18 v24 v30 v36 v42 v48 v54 v60 v66 v72 v78 v84 v90 k0_hw15 k0_t2 => k0_hw15.2.2.2.2.2.2.2.2.2.2.2.1.1 k0_t2
theorem k0_off310_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off310 v0 v6 v12 v18 v24 v30 v36 v42 v48 v54 v60 v66 v72 v78 v84 v90 k0_t2) a + S1x1024x1536.size a ≤ S2x7168x1536.size a := fun v0 v6 v12 v18 v24 v30 v36 v42 v48 v54 v60 v66 v72 v78 v84 v90 k0_hw15 k0_t2 => k0_hw15.2.2.2.2.2.2.2.2.2.2.2.1.2.1 k0_t2
theorem k0_off310_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x7168x1536) (k0_off310 v0 v6 v12 v18 v24 v30 v36 v42 v48 v54 v60 v66 v72 v78 v84 v90 k0_t2) S1x1024x1536.size (k0_off310_inb v0 v6 v12 v18 v24 v30 v36 v42 v48 v54 v60 v66 v72 v78 v84 v90 k0_hw15 k0_t2)).WholeWords (EltTy.packing .fp8e4m3) := fun v0 v6 v12 v18 v24 v30 v36 v42 v48 v54 v60 v66 v72 v78 v84 v90 k0_hw15 k0_t2 => k0_hw15.2.2.2.2.2.2.2.2.2.2.2.1.2.2.1 k0_t2 (k0_off310_inb v0 v6 v12 v18 v24 v30 v36 v42 v48 v54 v60 v66 v72 v78 v84 v90 k0_hw15 k0_t2)
theorem k0_off312_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off312 v0 v6 v12 v18 v24 v30 v36 v42 v48 v54 v60 v66 v72 v78 v84 v90 k0_t2) a + S1x256x1536.size a ≤ S2x7168x1536.size a := fun v0 v6 v12 v18 v24 v30 v36 v42 v48 v54 v60 v66 v72 v78 v84 v90 k0_hw15 k0_t2 => k0_hw15.2.2.2.2.2.2.2.2.2.2.2.1.2.2.2.1 k0_t2
theorem k0_off313_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off313 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.1.2.2.2.2.1 k0_t2
theorem k0_off313_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off313 v0 v6 v12 v18 v24 v30 v36 v42 v48 v54 v60 v66 v72 v78 v84 v90 k0_t2) S1x24x128.size (k0_off313_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.1.2.2.2.2.2.1 k0_t2 (k0_off313_inb v0 v6 v12 v18 v24 v30 v36 v42 v48 v54 v60 v66 v72 v78 v84 v90 k0_hw15 k0_t2)
theorem k0_off314_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off314 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.1.2.2.2.2.2.2.1 k0_t2
theorem k0_off314_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off314 v0 v6 v12 v18 v24 v30 v36 v42 v48 v54 v60 v66 v72 v78 v84 v90 k0_t2) S1x24x128.size (k0_off314_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.1.2.2.2.2.2.2.2.1 k0_t2 (k0_off314_inb v0 v6 v12 v18 v24 v30 v36 v42 v48 v54 v60 v66 v72 v78 v84 v90 k0_hw15 k0_t2)
theorem k0_off315_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off315 v0 v6 v12 v18 v24 v30 v36 v42 v48 v54 v60 v66 v72 v78 v84 v90 k0_t2) a + S1x256x1536.size a ≤ S2x7168x1536.size a := fun v0 v6 v12 v18 v24 v30 v36 v42 v48 v54 v60 v66 v72 v78 v84 v90 k0_hw15 k0_t2 => k0_hw15.2.2.2.2.2.2.2.2.2.2.2.1.2.2.2.2.2.2.2.2.1 k0_t2
theorem k0_off316_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off316 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.1.2.2.2.2.2.2.2.2.2.1 k0_t2
theorem k0_off316_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off316 v0 v6 v12 v18 v24 v30 v36 v42 v48 v54 v60 v66 v72 v78 v84 v90 k0_t2) S1x24x128.size (k0_off316_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.1.2.2.2.2.2.2.2.2.2.2.1 k0_t2 (k0_off316_inb v0 v6 v12 v18 v24 v30 v36 v42 v48 v54 v60 v66 v72 v78 v84 v90 k0_hw15 k0_t2)
theorem k0_off317_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off317 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.1.2.2.2.2.2.2.2.2.2.2.2.1 k0_t2
theorem k0_off317_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off317 v0 v6 v12 v18 v24 v30 v36 v42 v48 v54 v60 v66 v72 v78 v84 v90 k0_t2) S1x24x128.size (k0_off317_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.1.2.2.2.2.2.2.2.2.2.2.2.2.1 k0_t2 (k0_off317_inb v0 v6 v12 v18 v24 v30 v36 v42 v48 v54 v60 v66 v72 v78 v84 v90 k0_hw15 k0_t2)
theorem k0_off318_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off318 v0 v6 v12 v18 v24 v30 v36 v42 v48 v54 v60 v66 v72 v78 v84 v90 k0_t2) a + S1x256x1536.size a ≤ S2x7168x1536.size a := fun v0 v6 v12 v18 v24 v30 v36 v42 v48 v54 v60 v66 v72 v78 v84 v90 k0_hw15 k0_t2 => k0_hw15.2.2.2.2.2.2.2.2.2.2.2.1.2.2.2.2.2.2.2.2.2.2.2.2.2.1 k0_t2
theorem k0_off319_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off319 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.1.2.2.2.2.2.2.2.2.2.2.2.2.2.2.1 k0_t2
theorem k0_off319_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off319 v0 v6 v12 v18 v24 v30 v36 v42 v48 v54 v60 v66 v72 v78 v84 v90 k0_t2) S1x24x128.size (k0_off319_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.1.2.2.2.2.2.2.2.2.2.2.2.2.2.2.2.1 k0_t2 (k0_off319_inb v0 v6 v12 v18 v24 v30 v36 v42 v48 v54 v60 v66 v72 v78 v84 v90 k0_hw15 k0_t2)
theorem k0_off320_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off320 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.1.2.2.2.2.2.2.2.2.2.2.2.2.2.2.2.2.1 k0_t2
theorem k0_off320_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off320 v0 v6 v12 v18 v24 v30 v36 v42 v48 v54 v60 v66 v72 v78 v84 v90 k0_t2) S1x24x128.size (k0_off320_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.1.2.2.2.2.2.2.2.2.2.2.2.2.2.2.2.2.2.1 k0_t2 (k0_off320_inb v0 v6 v12 v18 v24 v30 v36 v42 v48 v54 v60 v66 v72 v78 v84 v90 k0_hw15 k0_t2)
theorem k0_off321_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off321 v0 v6 v12 v18 v24 v30 v36 v42 v48 v54 v60 v66 v72 v78 v84 v90 k0_t2) a + S1x256x1536.size a ≤ S2x7168x1536.size a := fun v0 v6 v12 v18 v24 v30 v36 v42 v48 v54 v60 v66 v72 v78 v84 v90 k0_hw15 k0_t2 => k0_hw15.2.2.2.2.2.2.2.2.2.2.2.1.2.2.2.2.2.2.2.2.2.2.2.2.2.2.2.2.2.2.1 k0_t2
theorem k0_off322_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off322 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.1.2.2.2.2.2.2.2.2.2.2.2.2.2.2.2.2.2.2.2.1 k0_t2
theorem k0_off322_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off322 v0 v6 v12 v18 v24 v30 v36 v42 v48 v54 v60 v66 v72 v78 v84 v90 k0_t2) S1x24x128.size (k0_off322_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.1.2.2.2.2.2.2.2.2.2.2.2.2.2.2.2.2.2.2.2.2.1 k0_t2 (k0_off322_inb v0 v6 v12 v18 v24 v30 v36 v42 v48 v54 v60 v66 v72 v78 v84 v90 k0_hw15 k0_t2)
theorem k0_off323_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off323 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.1.2.2.2.2.2.2.2.2.2.2.2.2.2.2.2.2.2.2.2.2.2.1 k0_t2
theorem k0_off323_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off323 v0 v6 v12 v18 v24 v30 v36 v42 v48 v54 v60 v66 v72 v78 v84 v90 k0_t2) S1x24x128.size (k0_off323_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.1.2.2.2.2.2.2.2.2.2.2.2.2.2.2.2.2.2.2.2.2.2.2.1 k0_t2 (k0_off323_inb v0 v6 v12 v18 v24 v30 v36 v42 v48 v54 v60 v66 v72 v78 v84 v90 k0_hw15 k0_t2)
theorem k0_off324_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h49 : k0_cond49 v0 v6 v12 v18 v24 v30 v36 v42 v48 v54 v60 v66 v72 v78 v84 v90 k0_t2 = 1#1), ∀ a, (k0_off324 v0 v6 v12 v18 v24 v30 v36 v42 v48 v54 v60 v66 v72 v78 v84 v90 k0_t2) a + S1.size a ≤ S16.size a := fun v0 v6 v12 v18 v24 v30 v36 v42 v48 v54 v60 v66 v72 v78 v84 v90 k0_hw15 k0_t2 k0_h49 => k0_hw15.2.2.2.2.2.2.2.2.2.2.2.1.2.2.2.2.2.2.2.2.2.2.2.2.2.2.2.2.2.2.2.2.2.2.2.1 k0_t2 k0_h49
theorem k0_off325_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h49 : k0_cond49 v0 v6 v12 v18 v24 v30 v36 v42 v48 v54 v60 v66 v72 v78 v84 v90 k0_t2 = 1#1), ∀ a, (k0_off325 v0 v6 v12 v18 v24 v30 v36 v42 v48 v54 v60 v66 v72 v78 v84 v90 k0_t2) a + S1x1.size a ≤ S2x7.size a := fun v0 v6 v12 v18 v24 v30 v36 v42 v48 v54 v60 v66 v72 v78 v84 v90 k0_hw15 k0_t2 k0_h49 => k0_hw15.2.2.2.2.2.2.2.2.2.2.2.1.2.2.2.2.2.2.2.2.2.2.2.2.2.2.2.2.2.2.2.2.2.2.2.2.1 k0_t2 k0_h49
theorem k0_off326_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h49 : k0_cond49 v0 v6 v12 v18 v24 v30 v36 v42 v48 v54 v60 v66 v72 v78 v84 v90 k0_t2 = 1#1), ∀ a, (k0_off326 v0 v6 v12 v18 v24 v30 v36 v42 v48 v54 v60 v66 v72 v78 v84 v90 k0_t2) a + S1x1024x1536.size a ≤ S2x7168x1536.size a := fun v0 v6 v12 v18 v24 v30 v36 v42 v48 v54 v60 v66 v72 v78 v84 v90 k0_hw15 k0_t2 k0_h49 => k0_hw15.2.2.2.2.2.2.2.2.2.2.2.1.2.2.2.2.2.2.2.2.2.2.2.2.2.2.2.2.2.2.2.2.2.2.2.2.2.1 k0_t2 k0_h49
theorem k0_off326_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h49 : k0_cond49 v0 v6 v12 v18 v24 v30 v36 v42 v48 v54 v60 v66 v72 v78 v84 v90 k0_t2 = 1#1), (Rect.unit (s := S2x7168x1536) (k0_off326 v0 v6 v12 v18 v24 v30 v36 v42 v48 v54 v60 v66 v72 v78 v84 v90 k0_t2) S1x1024x1536.size (k0_off326_inb v0 v6 v12 v18 v24 v30 v36 v42 v48 v54 v60 v66 v72 v78 v84 v90 k0_hw15 k0_t2 k0_h49)).WholeWords (EltTy.packing .fp8e4m3) := fun v0 v6 v12 v18 v24 v30 v36 v42 v48 v54 v60 v66 v72 v78 v84 v90 k0_hw15 k0_t2 k0_h49 => k0_hw15.2.2.2.2.2.2.2.2.2.2.2.1.2.2.2.2.2.2.2.2.2.2.2.2.2.2.2.2.2.2.2.2.2.2.2.2.2.2.1 k0_t2 k0_h49 (k0_off326_inb v0 v6 v12 v18 v24 v30 v36 v42 v48 v54 v60 v66 v72 v78 v84 v90 k0_hw15 k0_t2 k0_h49)
theorem k0_off328_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off328 v0 v6 v12 v18 v24 v30 v36 v42 v48 v54 v60 v66 v72 v78 v84 v90 k0_t2) a + S1.size a ≤ S16.size a := fun v0 v6 v12 v18 v24 v30 v36 v42 v48 v54 v60 v66 v72 v78 v84 v90 k0_hw15 k0_t2 => k0_hw15.2.2.2.2.2.2.2.2.2.2.2.1.2.2.2.2.2.2.2.2.2.2.2.2.2.2.2.2.2.2.2.2.2.2.2.2.2.2.2.1 k0_t2
theorem k0_off329_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off329 v0 v6 v12 v18 v24 v30 v36 v42 v48 v54 v60 v66 v72 v78 v84 v90 k0_t2) a + S1x1.size a ≤ S2x7.size a := fun v0 v6 v12 v18 v24 v30 v36 v42 v48 v54 v60 v66 v72 v78 v84 v90 k0_hw15 k0_t2 => k0_hw15.2.2.2.2.2.2.2.2.2.2.2.1.2.2.2.2.2.2.2.2.2.2.2.2.2.2.2.2.2.2.2.2.2.2.2.2.2.2.2.2.1 k0_t2
theorem k0_off330_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off330 v0 v6 v12 v18 v24 v30 v36 v42 v48 v54 v60 v66 v72 v78 v84 v90 k0_t2) a + S1x1024x1536.size a ≤ S2x7168x1536.size a := fun v0 v6 v12 v18 v24 v30 v36 v42 v48 v54 v60 v66 v72 v78 v84 v90 k0_hw15 k0_t2 => k0_hw15.2.2.2.2.2.2.2.2.2.2.2.1.2.2.2.2.2.2.2.2.2.2.2.2.2.2.2.2.2.2.2.2.2.2.2.2.2.2.2.2.2.1 k0_t2
theorem k0_off330_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x7168x1536) (k0_off330 v0 v6 v12 v18 v24 v30 v36 v42 v48 v54 v60 v66 v72 v78 v84 v90 k0_t2) S1x1024x1536.size (k0_off330_inb v0 v6 v12 v18 v24 v30 v36 v42 v48 v54 v60 v66 v72 v78 v84 v90 k0_hw15 k0_t2)).WholeWords (EltTy.packing .fp8e4m3) := fun v0 v6 v12 v18 v24 v30 v36 v42 v48 v54 v60 v66 v72 v78 v84 v90 k0_hw15 k0_t2 => k0_hw15.2.2.2.2.2.2.2.2.2.2.2.1.2.2.2.2.2.2.2.2.2.2.2.2.2.2.2.2.2.2.2.2.2.2.2.2.2.2.2.2.2.2.1 k0_t2 (k0_off330_inb v0 v6 v12 v18 v24 v30 v36 v42 v48 v54 v60 v66 v72 v78 v84 v90 k0_hw15 k0_t2)
theorem k0_off332_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off332 v0 v6 v12 v18 v24 v30 v36 v42 v48 v54 v60 v66 v72 v78 v84 v90 k0_t2) a + S1x256x1536.size a ≤ S2x7168x1536.size a := fun v0 v6 v12 v18 v24 v30 v36 v42 v48 v54 v60 v66 v72 v78 v84 v90 k0_hw15 k0_t2 => k0_hw15.2.2.2.2.2.2.2.2.2.2.2.1.2.2.2.2.2.2.2.2.2.2.2.2.2.2.2.2.2.2.2.2.2.2.2.2.2.2.2.2.2.2.2 k0_t2
theorem k0_off333_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off333 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.2.1.1 k0_t2
theorem k0_off333_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off333 v0 v6 v12 v18 v24 v30 v36 v42 v48 v54 v60 v66 v72 v78 v84 v90 k0_t2) S1x24x128.size (k0_off333_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.2.1.2.1 k0_t2 (k0_off333_inb v0 v6 v12 v18 v24 v30 v36 v42 v48 v54 v60 v66 v72 v78 v84 v90 k0_hw15 k0_t2)
theorem k0_off334_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off334 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.2.1.2.2.1 k0_t2
theorem k0_off334_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off334 v0 v6 v12 v18 v24 v30 v36 v42 v48 v54 v60 v66 v72 v78 v84 v90 k0_t2) S1x24x128.size (k0_off334_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.2.1.2.2.2.1 k0_t2 (k0_off334_inb v0 v6 v12 v18 v24 v30 v36 v42 v48 v54 v60 v66 v72 v78 v84 v90 k0_hw15 k0_t2)
theorem k0_off335_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off335 v0 v6 v12 v18 v24 v30 v36 v42 v48 v54 v60 v66 v72 v78 v84 v90 k0_t2) a + S1x256x1536.size a ≤ S2x7168x1536.size a := fun v0 v6 v12 v18 v24 v30 v36 v42 v48 v54 v60 v66 v72 v78 v84 v90 k0_hw15 k0_t2 => k0_hw15.2.2.2.2.2.2.2.2.2.2.2.2.1.2.2.2.2.1 k0_t2
theorem k0_off336_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off336 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.2.1.2.2.2.2.2.1 k0_t2
theorem k0_off336_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off336 v0 v6 v12 v18 v24 v30 v36 v42 v48 v54 v60 v66 v72 v78 v84 v90 k0_t2) S1x24x128.size (k0_off336_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.2.1.2.2.2.2.2.2.1 k0_t2 (k0_off336_inb v0 v6 v12 v18 v24 v30 v36 v42 v48 v54 v60 v66 v72 v78 v84 v90 k0_hw15 k0_t2)
theorem k0_off337_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off337 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.2.1.2.2.2.2.2.2.2.1 k0_t2
theorem k0_off337_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off337 v0 v6 v12 v18 v24 v30 v36 v42 v48 v54 v60 v66 v72 v78 v84 v90 k0_t2) S1x24x128.size (k0_off337_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.2.1.2.2.2.2.2.2.2.2.1 k0_t2 (k0_off337_inb v0 v6 v12 v18 v24 v30 v36 v42 v48 v54 v60 v66 v72 v78 v84 v90 k0_hw15 k0_t2)
theorem k0_off338_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off338 v0 v6 v12 v18 v24 v30 v36 v42 v48 v54 v60 v66 v72 v78 v84 v90 k0_t2) a + S1x256x1536.size a ≤ S2x7168x1536.size a := fun v0 v6 v12 v18 v24 v30 v36 v42 v48 v54 v60 v66 v72 v78 v84 v90 k0_hw15 k0_t2 => k0_hw15.2.2.2.2.2.2.2.2.2.2.2.2.1.2.2.2.2.2.2.2.2.2.1 k0_t2
theorem k0_off339_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off339 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.2.1.2.2.2.2.2.2.2.2.2.2.1 k0_t2
theorem k0_off339_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off339 v0 v6 v12 v18 v24 v30 v36 v42 v48 v54 v60 v66 v72 v78 v84 v90 k0_t2) S1x24x128.size (k0_off339_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.2.1.2.2.2.2.2.2.2.2.2.2.2.1 k0_t2 (k0_off339_inb v0 v6 v12 v18 v24 v30 v36 v42 v48 v54 v60 v66 v72 v78 v84 v90 k0_hw15 k0_t2)
theorem k0_off340_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off340 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.2.1.2.2.2.2.2.2.2.2.2.2.2.2.1 k0_t2
theorem k0_off340_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off340 v0 v6 v12 v18 v24 v30 v36 v42 v48 v54 v60 v66 v72 v78 v84 v90 k0_t2) S1x24x128.size (k0_off340_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.2.1.2.2.2.2.2.2.2.2.2.2.2.2.2.1 k0_t2 (k0_off340_inb v0 v6 v12 v18 v24 v30 v36 v42 v48 v54 v60 v66 v72 v78 v84 v90 k0_hw15 k0_t2)
theorem k0_off341_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off341 v0 v6 v12 v18 v24 v30 v36 v42 v48 v54 v60 v66 v72 v78 v84 v90 k0_t2) a + S1x256x1536.size a ≤ S2x7168x1536.size a := fun v0 v6 v12 v18 v24 v30 v36 v42 v48 v54 v60 v66 v72 v78 v84 v90 k0_hw15 k0_t2 => k0_hw15.2.2.2.2.2.2.2.2.2.2.2.2.1.2.2.2.2.2.2.2.2.2.2.2.2.2.2.1 k0_t2
theorem k0_off342_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off342 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.2.1.2.2.2.2.2.2.2.2.2.2.2.2.2.2.2.1 k0_t2
theorem k0_off342_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off342 v0 v6 v12 v18 v24 v30 v36 v42 v48 v54 v60 v66 v72 v78 v84 v90 k0_t2) S1x24x128.size (k0_off342_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.2.1.2.2.2.2.2.2.2.2.2.2.2.2.2.2.2.2.1 k0_t2 (k0_off342_inb v0 v6 v12 v18 v24 v30 v36 v42 v48 v54 v60 v66 v72 v78 v84 v90 k0_hw15 k0_t2)
theorem k0_off343_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off343 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.2.1.2.2.2.2.2.2.2.2.2.2.2.2.2.2.2.2.2.1 k0_t2
theorem k0_off343_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off343 v0 v6 v12 v18 v24 v30 v36 v42 v48 v54 v60 v66 v72 v78 v84 v90 k0_t2) S1x24x128.size (k0_off343_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.2.1.2.2.2.2.2.2.2.2.2.2.2.2.2.2.2.2.2.2.1 k0_t2 (k0_off343_inb v0 v6 v12 v18 v24 v30 v36 v42 v48 v54 v60 v66 v72 v78 v84 v90 k0_hw15 k0_t2)
theorem k0_off344_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h50 : k0_cond50 v0 v6 v12 v18 v24 v30 v36 v42 v48 v54 v60 v66 v72 v78 v84 v90 k0_t2 = 1#1), ∀ a, (k0_off344 v0 v6 v12 v18 v24 v30 v36 v42 v48 v54 v60 v66 v72 v78 v84 v90 k0_t2) a + S1.size a ≤ S16.size a := fun v0 v6 v12 v18 v24 v30 v36 v42 v48 v54 v60 v66 v72 v78 v84 v90 k0_hw15 k0_t2 k0_h50 => k0_hw15.2.2.2.2.2.2.2.2.2.2.2.2.1.2.2.2.2.2.2.2.2.2.2.2.2.2.2.2.2.2.2.2.1 k0_t2 k0_h50
theorem k0_off345_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h50 : k0_cond50 v0 v6 v12 v18 v24 v30 v36 v42 v48 v54 v60 v66 v72 v78 v84 v90 k0_t2 = 1#1), ∀ a, (k0_off345 v0 v6 v12 v18 v24 v30 v36 v42 v48 v54 v60 v66 v72 v78 v84 v90 k0_t2) a + S1x1.size a ≤ S2x7.size a := fun v0 v6 v12 v18 v24 v30 v36 v42 v48 v54 v60 v66 v72 v78 v84 v90 k0_hw15 k0_t2 k0_h50 => k0_hw15.2.2.2.2.2.2.2.2.2.2.2.2.1.2.2.2.2.2.2.2.2.2.2.2.2.2.2.2.2.2.2.2.2.1 k0_t2 k0_h50
theorem k0_off346_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h50 : k0_cond50 v0 v6 v12 v18 v24 v30 v36 v42 v48 v54 v60 v66 v72 v78 v84 v90 k0_t2 = 1#1), ∀ a, (k0_off346 v0 v6 v12 v18 v24 v30 v36 v42 v48 v54 v60 v66 v72 v78 v84 v90 k0_t2) a + S1x1024x1536.size a ≤ S2x7168x1536.size a := fun v0 v6 v12 v18 v24 v30 v36 v42 v48 v54 v60 v66 v72 v78 v84 v90 k0_hw15 k0_t2 k0_h50 => k0_hw15.2.2.2.2.2.2.2.2.2.2.2.2.1.2.2.2.2.2.2.2.2.2.2.2.2.2.2.2.2.2.2.2.2.2.1 k0_t2 k0_h50
theorem k0_off346_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h50 : k0_cond50 v0 v6 v12 v18 v24 v30 v36 v42 v48 v54 v60 v66 v72 v78 v84 v90 k0_t2 = 1#1), (Rect.unit (s := S2x7168x1536) (k0_off346 v0 v6 v12 v18 v24 v30 v36 v42 v48 v54 v60 v66 v72 v78 v84 v90 k0_t2) S1x1024x1536.size (k0_off346_inb v0 v6 v12 v18 v24 v30 v36 v42 v48 v54 v60 v66 v72 v78 v84 v90 k0_hw15 k0_t2 k0_h50)).WholeWords (EltTy.packing .fp8e4m3) := fun v0 v6 v12 v18 v24 v30 v36 v42 v48 v54 v60 v66 v72 v78 v84 v90 k0_hw15 k0_t2 k0_h50 => k0_hw15.2.2.2.2.2.2.2.2.2.2.2.2.1.2.2.2.2.2.2.2.2.2.2.2.2.2.2.2.2.2.2.2.2.2.2.1 k0_t2 k0_h50 (k0_off346_inb v0 v6 v12 v18 v24 v30 v36 v42 v48 v54 v60 v66 v72 v78 v84 v90 k0_hw15 k0_t2 k0_h50)
theorem k0_off348_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off348 v0 v6 v12 v18 v24 v30 v36 v42 v48 v54 v60 v66 v72 v78 v84 v90 k0_t2) a + S1.size a ≤ S16.size a := fun v0 v6 v12 v18 v24 v30 v36 v42 v48 v54 v60 v66 v72 v78 v84 v90 k0_hw15 k0_t2 => k0_hw15.2.2.2.2.2.2.2.2.2.2.2.2.1.2.2.2.2.2.2.2.2.2.2.2.2.2.2.2.2.2.2.2.2.2.2.2.1 k0_t2
theorem k0_off349_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off349 v0 v6 v12 v18 v24 v30 v36 v42 v48 v54 v60 v66 v72 v78 v84 v90 k0_t2) a + S1x1.size a ≤ S2x7.size a := fun v0 v6 v12 v18 v24 v30 v36 v42 v48 v54 v60 v66 v72 v78 v84 v90 k0_hw15 k0_t2 => k0_hw15.2.2.2.2.2.2.2.2.2.2.2.2.1.2.2.2.2.2.2.2.2.2.2.2.2.2.2.2.2.2.2.2.2.2.2.2.2.1 k0_t2
theorem k0_off350_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off350 v0 v6 v12 v18 v24 v30 v36 v42 v48 v54 v60 v66 v72 v78 v84 v90 k0_t2) a + S1x1024x1536.size a ≤ S2x7168x1536.size a := fun v0 v6 v12 v18 v24 v30 v36 v42 v48 v54 v60 v66 v72 v78 v84 v90 k0_hw15 k0_t2 => k0_hw15.2.2.2.2.2.2.2.2.2.2.2.2.1.2.2.2.2.2.2.2.2.2.2.2.2.2.2.2.2.2.2.2.2.2.2.2.2.2.1 k0_t2
theorem k0_off350_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x7168x1536) (k0_off350 v0 v6 v12 v18 v24 v30 v36 v42 v48 v54 v60 v66 v72 v78 v84 v90 k0_t2) S1x1024x1536.size (k0_off350_inb v0 v6 v12 v18 v24 v30 v36 v42 v48 v54 v60 v66 v72 v78 v84 v90 k0_hw15 k0_t2)).WholeWords (EltTy.packing .fp8e4m3) := fun v0 v6 v12 v18 v24 v30 v36 v42 v48 v54 v60 v66 v72 v78 v84 v90 k0_hw15 k0_t2 => k0_hw15.2.2.2.2.2.2.2.2.2.2.2.2.1.2.2.2.2.2.2.2.2.2.2.2.2.2.2.2.2.2.2.2.2.2.2.2.2.2.2.1 k0_t2 (k0_off350_inb v0 v6 v12 v18 v24 v30 v36 v42 v48 v54 v60 v66 v72 v78 v84 v90 k0_hw15 k0_t2)
theorem k0_off352_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off352 v0 v6 v12 v18 v24 v30 v36 v42 v48 v54 v60 v66 v72 v78 v84 v90 k0_t2) a + S1x256x1536.size a ≤ S2x7168x1536.size a := fun v0 v6 v12 v18 v24 v30 v36 v42 v48 v54 v60 v66 v72 v78 v84 v90 k0_hw15 k0_t2 => k0_hw15.2.2.2.2.2.2.2.2.2.2.2.2.1.2.2.2.2.2.2.2.2.2.2.2.2.2.2.2.2.2.2.2.2.2.2.2.2.2.2.2.1 k0_t2
theorem k0_off353_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off353 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.2.1.2.2.2.2.2.2.2.2.2.2.2.2.2.2.2.2.2.2.2.2.2.2.2.2.2.2.2.2.1 k0_t2
theorem k0_off353_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off353 v0 v6 v12 v18 v24 v30 v36 v42 v48 v54 v60 v66 v72 v78 v84 v90 k0_t2) S1x24x128.size (k0_off353_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.2.1.2.2.2.2.2.2.2.2.2.2.2.2.2.2.2.2.2.2.2.2.2.2.2.2.2.2.2.2.2.1 k0_t2 (k0_off353_inb v0 v6 v12 v18 v24 v30 v36 v42 v48 v54 v60 v66 v72 v78 v84 v90 k0_hw15 k0_t2)
theorem k0_off354_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off354 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.2.1.2.2.2.2.2.2.2.2.2.2.2.2.2.2.2.2.2.2.2.2.2.2.2.2.2.2.2.2.2.2.1 k0_t2
theorem k0_off354_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off354 v0 v6 v12 v18 v24 v30 v36 v42 v48 v54 v60 v66 v72 v78 v84 v90 k0_t2) S1x24x128.size (k0_off354_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.2.1.2.2.2.2.2.2.2.2.2.2.2.2.2.2.2.2.2.2.2.2.2.2.2.2.2.2.2.2.2.2.2 k0_t2 (k0_off354_inb v0 v6 v12 v18 v24 v30 v36 v42 v48 v54 v60 v66 v72 v78 v84 v90 k0_hw15 k0_t2)
theorem k0_off355_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off355 v0 v6 v12 v18 v24 v30 v36 v42 v48 v54 v60 v66 v72 v78 v84 v90 k0_t2) a + S1x256x1536.size a ≤ S2x7168x1536.size a := fun v0 v6 v12 v18 v24 v30 v36 v42 v48 v54 v60 v66 v72 v78 v84 v90 k0_hw15 k0_t2 => k0_hw15.2.2.2.2.2.2.2.2.2.2.2.2.2.1.1 k0_t2
theorem k0_off356_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off356 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.2.2.1.2.1 k0_t2
theorem k0_off356_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off356 v0 v6 v12 v18 v24 v30 v36 v42 v48 v54 v60 v66 v72 v78 v84 v90 k0_t2) S1x24x128.size (k0_off356_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.2.2.1.2.2.1 k0_t2 (k0_off356_inb v0 v6 v12 v18 v24 v30 v36 v42 v48 v54 v60 v66 v72 v78 v84 v90 k0_hw15 k0_t2)
theorem k0_off357_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off357 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.2.2.1.2.2.2.1 k0_t2
theorem k0_off357_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off357 v0 v6 v12 v18 v24 v30 v36 v42 v48 v54 v60 v66 v72 v78 v84 v90 k0_t2) S1x24x128.size (k0_off357_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.2.2.1.2.2.2.2.1 k0_t2 (k0_off357_inb v0 v6 v12 v18 v24 v30 v36 v42 v48 v54 v60 v66 v72 v78 v84 v90 k0_hw15 k0_t2)
theorem k0_off358_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off358 v0 v6 v12 v18 v24 v30 v36 v42 v48 v54 v60 v66 v72 v78 v84 v90 k0_t2) a + S1x256x1536.size a ≤ S2x7168x1536.size a := fun v0 v6 v12 v18 v24 v30 v36 v42 v48 v54 v60 v66 v72 v78 v84 v90 k0_hw15 k0_t2 => k0_hw15.2.2.2.2.2.2.2.2.2.2.2.2.2.1.2.2.2.2.2.1 k0_t2
theorem k0_off359_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off359 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.2.2.1.2.2.2.2.2.2.1 k0_t2
theorem k0_off359_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off359 v0 v6 v12 v18 v24 v30 v36 v42 v48 v54 v60 v66 v72 v78 v84 v90 k0_t2) S1x24x128.size (k0_off359_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.2.2.1.2.2.2.2.2.2.2.1 k0_t2 (k0_off359_inb v0 v6 v12 v18 v24 v30 v36 v42 v48 v54 v60 v66 v72 v78 v84 v90 k0_hw15 k0_t2)
theorem k0_off360_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off360 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.2.2.1.2.2.2.2.2.2.2.2.1 k0_t2
theorem k0_off360_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off360 v0 v6 v12 v18 v24 v30 v36 v42 v48 v54 v60 v66 v72 v78 v84 v90 k0_t2) S1x24x128.size (k0_off360_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.2.2.1.2.2.2.2.2.2.2.2.2.1 k0_t2 (k0_off360_inb v0 v6 v12 v18 v24 v30 v36 v42 v48 v54 v60 v66 v72 v78 v84 v90 k0_hw15 k0_t2)
theorem k0_off361_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off361 v0 v6 v12 v18 v24 v30 v36 v42 v48 v54 v60 v66 v72 v78 v84 v90 k0_t2) a + S1x256x1536.size a ≤ S2x7168x1536.size a := fun v0 v6 v12 v18 v24 v30 v36 v42 v48 v54 v60 v66 v72 v78 v84 v90 k0_hw15 k0_t2 => k0_hw15.2.2.2.2.2.2.2.2.2.2.2.2.2.1.2.2.2.2.2.2.2.2.2.2.1 k0_t2
theorem k0_off362_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off362 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.2.2.1.2.2.2.2.2.2.2.2.2.2.2.1 k0_t2
theorem k0_off362_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off362 v0 v6 v12 v18 v24 v30 v36 v42 v48 v54 v60 v66 v72 v78 v84 v90 k0_t2) S1x24x128.size (k0_off362_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.2.2.1.2.2.2.2.2.2.2.2.2.2.2.2.1 k0_t2 (k0_off362_inb v0 v6 v12 v18 v24 v30 v36 v42 v48 v54 v60 v66 v72 v78 v84 v90 k0_hw15 k0_t2)
theorem k0_off363_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off363 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.2.2.1.2.2.2.2.2.2.2.2.2.2.2.2.2.1 k0_t2
theorem k0_off363_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off363 v0 v6 v12 v18 v24 v30 v36 v42 v48 v54 v60 v66 v72 v78 v84 v90 k0_t2) S1x24x128.size (k0_off363_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.2.2.1.2.2.2.2.2.2.2.2.2.2.2.2.2.2.1 k0_t2 (k0_off363_inb v0 v6 v12 v18 v24 v30 v36 v42 v48 v54 v60 v66 v72 v78 v84 v90 k0_hw15 k0_t2)
theorem k0_off364_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h51 : k0_cond51 v0 v6 v12 v18 v24 v30 v36 v42 v48 v54 v60 v66 v72 v78 v84 v90 k0_t2 = 1#1), ∀ a, (k0_off364 v0 v6 v12 v18 v24 v30 v36 v42 v48 v54 v60 v66 v72 v78 v84 v90 k0_t2) a + S1.size a ≤ S16.size a := fun v0 v6 v12 v18 v24 v30 v36 v42 v48 v54 v60 v66 v72 v78 v84 v90 k0_hw15 k0_t2 k0_h51 => k0_hw15.2.2.2.2.2.2.2.2.2.2.2.2.2.1.2.2.2.2.2.2.2.2.2.2.2.2.2.2.2.1 k0_t2 k0_h51
theorem k0_off365_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h51 : k0_cond51 v0 v6 v12 v18 v24 v30 v36 v42 v48 v54 v60 v66 v72 v78 v84 v90 k0_t2 = 1#1), ∀ a, (k0_off365 v0 v6 v12 v18 v24 v30 v36 v42 v48 v54 v60 v66 v72 v78 v84 v90 k0_t2) a + S1x1.size a ≤ S2x7.size a := fun v0 v6 v12 v18 v24 v30 v36 v42 v48 v54 v60 v66 v72 v78 v84 v90 k0_hw15 k0_t2 k0_h51 => k0_hw15.2.2.2.2.2.2.2.2.2.2.2.2.2.1.2.2.2.2.2.2.2.2.2.2.2.2.2.2.2.2.1 k0_t2 k0_h51
theorem k0_off366_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h51 : k0_cond51 v0 v6 v12 v18 v24 v30 v36 v42 v48 v54 v60 v66 v72 v78 v84 v90 k0_t2 = 1#1), ∀ a, (k0_off366 v0 v6 v12 v18 v24 v30 v36 v42 v48 v54 v60 v66 v72 v78 v84 v90 k0_t2) a + S1x1024x1536.size a ≤ S2x7168x1536.size a := fun v0 v6 v12 v18 v24 v30 v36 v42 v48 v54 v60 v66 v72 v78 v84 v90 k0_hw15 k0_t2 k0_h51 => k0_hw15.2.2.2.2.2.2.2.2.2.2.2.2.2.1.2.2.2.2.2.2.2.2.2.2.2.2.2.2.2.2.2.1 k0_t2 k0_h51
theorem k0_off366_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h51 : k0_cond51 v0 v6 v12 v18 v24 v30 v36 v42 v48 v54 v60 v66 v72 v78 v84 v90 k0_t2 = 1#1), (Rect.unit (s := S2x7168x1536) (k0_off366 v0 v6 v12 v18 v24 v30 v36 v42 v48 v54 v60 v66 v72 v78 v84 v90 k0_t2) S1x1024x1536.size (k0_off366_inb v0 v6 v12 v18 v24 v30 v36 v42 v48 v54 v60 v66 v72 v78 v84 v90 k0_hw15 k0_t2 k0_h51)).WholeWords (EltTy.packing .fp8e4m3) := fun v0 v6 v12 v18 v24 v30 v36 v42 v48 v54 v60 v66 v72 v78 v84 v90 k0_hw15 k0_t2 k0_h51 => k0_hw15.2.2.2.2.2.2.2.2.2.2.2.2.2.1.2.2.2.2.2.2.2.2.2.2.2.2.2.2.2.2.2.2.1 k0_t2 k0_h51 (k0_off366_inb v0 v6 v12 v18 v24 v30 v36 v42 v48 v54 v60 v66 v72 v78 v84 v90 k0_hw15 k0_t2 k0_h51)
theorem k0_off368_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off368 v0 v6 v12 v18 v24 v30 v36 v42 v48 v54 v60 v66 v72 v78 v84 v90 k0_t2) a + S1.size a ≤ S16.size a := fun v0 v6 v12 v18 v24 v30 v36 v42 v48 v54 v60 v66 v72 v78 v84 v90 k0_hw15 k0_t2 => k0_hw15.2.2.2.2.2.2.2.2.2.2.2.2.2.1.2.2.2.2.2.2.2.2.2.2.2.2.2.2.2.2.2.2.2.1 k0_t2
theorem k0_off369_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off369 v0 v6 v12 v18 v24 v30 v36 v42 v48 v54 v60 v66 v72 v78 v84 v90 k0_t2) a + S1x1.size a ≤ S2x7.size a := fun v0 v6 v12 v18 v24 v30 v36 v42 v48 v54 v60 v66 v72 v78 v84 v90 k0_hw15 k0_t2 => k0_hw15.2.2.2.2.2.2.2.2.2.2.2.2.2.1.2.2.2.2.2.2.2.2.2.2.2.2.2.2.2.2.2.2.2.2.1 k0_t2
theorem k0_off370_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off370 v0 v6 v12 v18 v24 v30 v36 v42 v48 v54 v60 v66 v72 v78 v84 v90 k0_t2) a + S1x1024x1536.size a ≤ S2x7168x1536.size a := fun v0 v6 v12 v18 v24 v30 v36 v42 v48 v54 v60 v66 v72 v78 v84 v90 k0_hw15 k0_t2 => k0_hw15.2.2.2.2.2.2.2.2.2.2.2.2.2.1.2.2.2.2.2.2.2.2.2.2.2.2.2.2.2.2.2.2.2.2.2.1 k0_t2
theorem k0_off370_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x7168x1536) (k0_off370 v0 v6 v12 v18 v24 v30 v36 v42 v48 v54 v60 v66 v72 v78 v84 v90 k0_t2) S1x1024x1536.size (k0_off370_inb v0 v6 v12 v18 v24 v30 v36 v42 v48 v54 v60 v66 v72 v78 v84 v90 k0_hw15 k0_t2)).WholeWords (EltTy.packing .fp8e4m3) := fun v0 v6 v12 v18 v24 v30 v36 v42 v48 v54 v60 v66 v72 v78 v84 v90 k0_hw15 k0_t2 => k0_hw15.2.2.2.2.2.2.2.2.2.2.2.2.2.1.2.2.2.2.2.2.2.2.2.2.2.2.2.2.2.2.2.2.2.2.2.2.1 k0_t2 (k0_off370_inb v0 v6 v12 v18 v24 v30 v36 v42 v48 v54 v60 v66 v72 v78 v84 v90 k0_hw15 k0_t2)
theorem k0_off372_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off372 v0 v6 v12 v18 v24 v30 v36 v42 v48 v54 v60 v66 v72 v78 v84 v90 k0_t2) a + S1x256x1536.size a ≤ S2x7168x1536.size a := fun v0 v6 v12 v18 v24 v30 v36 v42 v48 v54 v60 v66 v72 v78 v84 v90 k0_hw15 k0_t2 => k0_hw15.2.2.2.2.2.2.2.2.2.2.2.2.2.1.2.2.2.2.2.2.2.2.2.2.2.2.2.2.2.2.2.2.2.2.2.2.2.1 k0_t2
theorem k0_off373_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off373 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.2.2.1.2.2.2.2.2.2.2.2.2.2.2.2.2.2.2.2.2.2.2.2.2.2.2.2.1 k0_t2
theorem k0_off373_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off373 v0 v6 v12 v18 v24 v30 v36 v42 v48 v54 v60 v66 v72 v78 v84 v90 k0_t2) S1x24x128.size (k0_off373_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.2.2.1.2.2.2.2.2.2.2.2.2.2.2.2.2.2.2.2.2.2.2.2.2.2.2.2.2.1 k0_t2 (k0_off373_inb v0 v6 v12 v18 v24 v30 v36 v42 v48 v54 v60 v66 v72 v78 v84 v90 k0_hw15 k0_t2)
theorem k0_off374_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off374 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.2.2.1.2.2.2.2.2.2.2.2.2.2.2.2.2.2.2.2.2.2.2.2.2.2.2.2.2.2.1 k0_t2
theorem k0_off374_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off374 v0 v6 v12 v18 v24 v30 v36 v42 v48 v54 v60 v66 v72 v78 v84 v90 k0_t2) S1x24x128.size (k0_off374_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.2.2.1.2.2.2.2.2.2.2.2.2.2.2.2.2.2.2.2.2.2.2.2.2.2.2.2.2.2.2.1 k0_t2 (k0_off374_inb v0 v6 v12 v18 v24 v30 v36 v42 v48 v54 v60 v66 v72 v78 v84 v90 k0_hw15 k0_t2)
theorem k0_off375_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off375 v0 v6 v12 v18 v24 v30 v36 v42 v48 v54 v60 v66 v72 v78 v84 v90 k0_t2) a + S1x256x1536.size a ≤ S2x7168x1536.size a := fun v0 v6 v12 v18 v24 v30 v36 v42 v48 v54 v60 v66 v72 v78 v84 v90 k0_hw15 k0_t2 => k0_hw15.2.2.2.2.2.2.2.2.2.2.2.2.2.1.2.2.2.2.2.2.2.2.2.2.2.2.2.2.2.2.2.2.2.2.2.2.2.2.2.2.2.2.1 k0_t2
theorem k0_off376_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off376 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.2.2.1.2.2.2.2.2.2.2.2.2.2.2.2.2.2.2.2.2.2.2.2.2.2.2.2.2.2.2.2.2.1 k0_t2
theorem k0_off376_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off376 v0 v6 v12 v18 v24 v30 v36 v42 v48 v54 v60 v66 v72 v78 v84 v90 k0_t2) S1x24x128.size (k0_off376_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.2.2.1.2.2.2.2.2.2.2.2.2.2.2.2.2.2.2.2.2.2.2.2.2.2.2.2.2.2.2.2.2.2.1 k0_t2 (k0_off376_inb v0 v6 v12 v18 v24 v30 v36 v42 v48 v54 v60 v66 v72 v78 v84 v90 k0_hw15 k0_t2)
theorem k0_off377_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off377 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.2.2.1.2.2.2.2.2.2.2.2.2.2.2.2.2.2.2.2.2.2.2.2.2.2.2.2.2.2.2.2.2.2.2 k0_t2
theorem k0_off377_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off377 v0 v6 v12 v18 v24 v30 v36 v42 v48 v54 v60 v66 v72 v78 v84 v90 k0_t2) S1x24x128.size (k0_off377_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.2.2.2.1 k0_t2 (k0_off377_inb v0 v6 v12 v18 v24 v30 v36 v42 v48 v54 v60 v66 v72 v78 v84 v90 k0_hw15 k0_t2)
theorem k0_off378_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off378 v0 v6 v12 v18 v24 v30 v36 v42 v48 v54 v60 v66 v72 v78 v84 v90 k0_t2) a + S1x256x1536.size a ≤ S2x7168x1536.size a := fun v0 v6 v12 v18 v24 v30 v36 v42 v48 v54 v60 v66 v72 v78 v84 v90 k0_hw15 k0_t2 => k0_hw15.2.2.2.2.2.2.2.2.2.2.2.2.2.2.2.1 k0_t2
theorem k0_off379_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off379 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.2.2.2.2.2.1 k0_t2
theorem k0_off379_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off379 v0 v6 v12 v18 v24 v30 v36 v42 v48 v54 v60 v66 v72 v78 v84 v90 k0_t2) S1x24x128.size (k0_off379_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.2.2.2.2.2.2.1 k0_t2 (k0_off379_inb v0 v6 v12 v18 v24 v30 v36 v42 v48 v54 v60 v66 v72 v78 v84 v90 k0_hw15 k0_t2)
theorem k0_off380_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off380 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.2.2.2.2.2.2.2.1 k0_t2
theorem k0_off380_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off380 v0 v6 v12 v18 v24 v30 v36 v42 v48 v54 v60 v66 v72 v78 v84 v90 k0_t2) S1x24x128.size (k0_off380_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.2.2.2.2.2.2.2.2.1 k0_t2 (k0_off380_inb v0 v6 v12 v18 v24 v30 v36 v42 v48 v54 v60 v66 v72 v78 v84 v90 k0_hw15 k0_t2)
theorem k0_off381_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off381 v0 v6 v12 v18 v24 v30 v36 v42 v48 v54 v60 v66 v72 v78 v84 v90 k0_t2) a + S1x256x1536.size a ≤ S2x7168x1536.size a := fun v0 v6 v12 v18 v24 v30 v36 v42 v48 v54 v60 v66 v72 v78 v84 v90 k0_hw15 k0_t2 => k0_hw15.2.2.2.2.2.2.2.2.2.2.2.2.2.2.2.2.2.2.2.2.1 k0_t2
theorem k0_off382_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off382 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.2.2.2.2.2.2.2.2.2.2.1 k0_t2
theorem k0_off382_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off382 v0 v6 v12 v18 v24 v30 v36 v42 v48 v54 v60 v66 v72 v78 v84 v90 k0_t2) S1x24x128.size (k0_off382_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.2.2.2.2.2.2.2.2.2.2.2.1 k0_t2 (k0_off382_inb v0 v6 v12 v18 v24 v30 v36 v42 v48 v54 v60 v66 v72 v78 v84 v90 k0_hw15 k0_t2)
theorem k0_off383_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off383 v0 v6 v12 v18 v24 v30 v36 v42 v48 v54 v60 v66 v72 v78 v84 v90 k0_t2) a + S1x24x128.size a ≤ S2x24x7168.size a := fun v0 v6 v12 v18 v24 v30 v36 v42 v48 v54 v60 v66 v72 v78 v84 v90 k0_hw15 k0_t2 => k0_hw15.2.2.2.2.2.2.2.2.2.2.2.2.2.2.2.2.2.2.2.2.2.2.2.1 k0_t2
theorem k0_off383_packedbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off383 v0 v6 v12 v18 v24 v30 v36 v42 v48 v54 v60 v66 v72 v78 v84 v90 k0_t2) S1x24x128.size (k0_off383_inb v0 v6 v12 v18 v24 v30 v36 v42 v48 v54 v60 v66 v72 v78 v84 v90 k0_hw15 k0_t2)).PackedRows (EltTy.packing .bf16) := fun v0 v6 v12 v18 v24 v30 v36 v42 v48 v54 v60 v66 v72 v78 v84 v90 k0_hw15 k0_t2 => k0_hw15.2.2.2.2.2.2.2.2.2.2.2.2.2.2.2.2.2.2.2.2.2.2.2.2.1 k0_t2 (k0_off383_inb v0 v6 v12 v18 v24 v30 v36 v42 v48 v54 v60 v66 v72 v78 v84 v90 k0_hw15 k0_t2)
theorem k0_off384_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h52 : k0_cond52 v0 v6 v12 v18 v24 v30 v36 v42 v48 v54 v60 v66 v72 v78 v84 v90 k0_t2 = 1#1), ∀ a, (k0_off384 v0 v6 v12 v18 v24 v30 v36 v42 v48 v54 v60 v66 v72 v78 v84 v90 k0_t2) a + S1.size a ≤ S16.size a := fun v0 v6 v12 v18 v24 v30 v36 v42 v48 v54 v60 v66 v72 v78 v84 v90 k0_hw15 k0_t2 k0_h52 => k0_hw15.2.2.2.2.2.2.2.2.2.2.2.2.2.2.2.2.2.2.2.2.2.2.2.2.2.1 k0_t2 k0_h52
theorem k0_off385_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h52 : k0_cond52 v0 v6 v12 v18 v24 v30 v36 v42 v48 v54 v60 v66 v72 v78 v84 v90 k0_t2 = 1#1), ∀ a, (k0_off385 v0 v6 v12 v18 v24 v30 v36 v42 v48 v54 v60 v66 v72 v78 v84 v90 k0_t2) a + S1x1.size a ≤ S2x7.size a := fun v0 v6 v12 v18 v24 v30 v36 v42 v48 v54 v60 v66 v72 v78 v84 v90 k0_hw15 k0_t2 k0_h52 => k0_hw15.2.2.2.2.2.2.2.2.2.2.2.2.2.2.2.2.2.2.2.2.2.2.2.2.2.2.1 k0_t2 k0_h52
theorem k0_off386_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h52 : k0_cond52 v0 v6 v12 v18 v24 v30 v36 v42 v48 v54 v60 v66 v72 v78 v84 v90 k0_t2 = 1#1), ∀ a, (k0_off386 v0 v6 v12 v18 v24 v30 v36 v42 v48 v54 v60 v66 v72 v78 v84 v90 k0_t2) a + S1x1024x1536.size a ≤ S2x7168x1536.size a := fun v0 v6 v12 v18 v24 v30 v36 v42 v48 v54 v60 v66 v72 v78 v84 v90 k0_hw15 k0_t2 k0_h52 => k0_hw15.2.2.2.2.2.2.2.2.2.2.2.2.2.2.2.2.2.2.2.2.2.2.2.2.2.2.2.1 k0_t2 k0_h52
theorem k0_off386_wordsfp8e4m3 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ (k0_h52 : k0_cond52 v0 v6 v12 v18 v24 v30 v36 v42 v48 v54 v60 v66 v72 v78 v84 v90 k0_t2 = 1#1), (Rect.unit (s := S2x7168x1536) (k0_off386 v0 v6 v12 v18 v24 v30 v36 v42 v48 v54 v60 v66 v72 v78 v84 v90 k0_t2) S1x1024x1536.size (k0_off386_inb v0 v6 v12 v18 v24 v30 v36 v42 v48 v54 v60 v66 v72 v78 v84 v90 k0_hw15 k0_t2 k0_h52)).WholeWords (EltTy.packing .fp8e4m3) := fun v0 v6 v12 v18 v24 v30 v36 v42 v48 v54 v60 v66 v72 v78 v84 v90 k0_hw15 k0_t2 k0_h52 => k0_hw15.2.2.2.2.2.2.2.2.2.2.2.2.2.2.2.2.2.2.2.2.2.2.2.2.2.2.2.2.1 k0_t2 k0_h52 (k0_off386_inb v0 v6 v12 v18 v24 v30 v36 v42 v48 v54 v60 v66 v72 v78 v84 v90 k0_hw15 k0_t2 k0_h52)
theorem k0_off388_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off388 v0 v6 v12 v18 v24 v30 v36 v42 v48 v54 v60 v66 v72 v78 v84 v90 k0_t2) a + S1.size a ≤ S16.size a := fun v0 v6 v12 v18 v24 v30 v36 v42 v48 v54 v60 v66 v72 v78 v84 v90 k0_hw15 k0_t2 => k0_hw15.2.2.2.2.2.2.2.2.2.2.2.2.2.2.2.2.2.2.2.2.2.2.2.2.2.2.2.2.2.1 k0_t2
theorem k0_off389_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off389 v0 v6 v12 v18 v24 v30 v36 v42 v48 v54 v60 v66 v72 v78 v84 v90 k0_t2) a + S1.size a ≤ S2.size a := fun v0 v6 v12 v18 v24 v30 v36 v42 v48 v54 v60 v66 v72 v78 v84 v90 k0_hw15 k0_t2 => k0_hw15.2.2.2.2.2.2.2.2.2.2.2.2.2.2.2.2.2.2.2.2.2.2.2.2.2.2.2.2.2.2.1 k0_t2
theorem k0_off391_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), ∀ a, (k0_off391 v0 v6 v12 v18 v24 v30 v36 v42 v48 v54 v60 v66 v72 v78 v84 v90 k0_t2) a + S1x24x7168.size a ≤ S2x24x7168.size a := fun v0 v6 v12 v18 v24 v30 v36 v42 v48 v54 v60 v66 v72 v78 v84 v90 k0_hw15 k0_t2 => k0_hw15.2.2.2.2.2.2.2.2.2.2.2.2.2.2.2.2.2.2.2.2.2.2.2.2.2.2.2.2.2.2.2.1 k0_t2
theorem k0_off391_wordsbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90) (k0_t2 : Fin (k0_t2_loop v0 v6 v12 v18 v24 v30 v36 v42 v48 v54 v60 v66 v72 v78 v84 v90).trips), (Rect.unit (s := S2x24x7168) (k0_off391 v0 v6 v12 v18 v24 v30 v36 v42 v48 v54 v60 v66 v72 v78 v84 v90 k0_t2) S1x24x7168.size (k0_off391_inb v0 v6 v12 v18 v24 v30 v36 v42 v48 v54 v60 v66 v72 v78 v84 v90 k0_hw15 k0_t2)).WholeWords (EltTy.packing .bf16) := fun v0 v6 v12 v18 v24 v30 v36 v42 v48 v54 v60 v66 v72 v78 v84 v90 k0_hw15 k0_t2 => k0_hw15.2.2.2.2.2.2.2.2.2.2.2.2.2.2.2.2.2.2.2.2.2.2.2.2.2.2.2.2.2.2.2.2.1 k0_t2 (k0_off391_inb v0 v6 v12 v18 v24 v30 v36 v42 v48 v54 v60 v66 v72 v78 v84 v90 k0_hw15 k0_t2)
theorem k0_off392_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90), ∀ (k0_h69 : k0_cond69 v0 v6 v12 v18 v24 v30 v36 v42 v48 v54 v60 v66 v72 v78 v84 v90 = 1#1), ∀ a, (k0_off392 v0 v6 v12 v18 v24 v30 v36 v42 v48 v54 v60 v66 v72 v78 v84 v90) a + S1.size a ≤ S16.size a := fun v0 v6 v12 v18 v24 v30 v36 v42 v48 v54 v60 v66 v72 v78 v84 v90 k0_hw15 k0_h69 => k0_hw15.2.2.2.2.2.2.2.2.2.2.2.2.2.2.2.2.2.2.2.2.2.2.2.2.2.2.2.2.2.2.2.2.2.1 k0_h69
theorem k0_off393_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90), ∀ (k0_h69 : k0_cond69 v0 v6 v12 v18 v24 v30 v36 v42 v48 v54 v60 v66 v72 v78 v84 v90 = 1#1), ∀ a, (k0_off393 v0 v6 v12 v18 v24 v30 v36 v42 v48 v54 v60 v66 v72 v78 v84 v90) a + S1.size a ≤ S2.size a := fun v0 v6 v12 v18 v24 v30 v36 v42 v48 v54 v60 v66 v72 v78 v84 v90 k0_hw15 k0_h69 => k0_hw15.2.2.2.2.2.2.2.2.2.2.2.2.2.2.2.2.2.2.2.2.2.2.2.2.2.2.2.2.2.2.2.2.2.2.1 k0_h69
theorem k0_off395_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90), ∀ (k0_h69 : k0_cond69 v0 v6 v12 v18 v24 v30 v36 v42 v48 v54 v60 v66 v72 v78 v84 v90 = 1#1), ∀ a, (k0_off395 v0 v6 v12 v18 v24 v30 v36 v42 v48 v54 v60 v66 v72 v78 v84 v90) a + S1x24x7168.size a ≤ S2x24x7168.size a := fun v0 v6 v12 v18 v24 v30 v36 v42 v48 v54 v60 v66 v72 v78 v84 v90 k0_hw15 k0_h69 => k0_hw15.2.2.2.2.2.2.2.2.2.2.2.2.2.2.2.2.2.2.2.2.2.2.2.2.2.2.2.2.2.2.2.2.2.2.2.1 k0_h69
theorem k0_off395_wordsbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90), ∀ (k0_h69 : k0_cond69 v0 v6 v12 v18 v24 v30 v36 v42 v48 v54 v60 v66 v72 v78 v84 v90 = 1#1), (Rect.unit (s := S2x24x7168) (k0_off395 v0 v6 v12 v18 v24 v30 v36 v42 v48 v54 v60 v66 v72 v78 v84 v90) S1x24x7168.size (k0_off395_inb v0 v6 v12 v18 v24 v30 v36 v42 v48 v54 v60 v66 v72 v78 v84 v90 k0_hw15 k0_h69)).WholeWords (EltTy.packing .bf16) := fun v0 v6 v12 v18 v24 v30 v36 v42 v48 v54 v60 v66 v72 v78 v84 v90 k0_hw15 k0_h69 => k0_hw15.2.2.2.2.2.2.2.2.2.2.2.2.2.2.2.2.2.2.2.2.2.2.2.2.2.2.2.2.2.2.2.2.2.2.2.2.1 k0_h69 (k0_off395_inb v0 v6 v12 v18 v24 v30 v36 v42 v48 v54 v60 v66 v72 v78 v84 v90 k0_hw15 k0_h69)
theorem k0_off396_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90), ∀ (k0_h70 : k0_cond70 v0 v6 v12 v18 v24 v30 v36 v42 v48 v54 v60 v66 v72 v78 v84 v90 = 1#1), ∀ a, (k0_off396 v0 v6 v12 v18 v24 v30 v36 v42 v48 v54 v60 v66 v72 v78 v84 v90) a + S1.size a ≤ S16.size a := fun v0 v6 v12 v18 v24 v30 v36 v42 v48 v54 v60 v66 v72 v78 v84 v90 k0_hw15 k0_h70 => k0_hw15.2.2.2.2.2.2.2.2.2.2.2.2.2.2.2.2.2.2.2.2.2.2.2.2.2.2.2.2.2.2.2.2.2.2.2.2.2.1 k0_h70
theorem k0_off397_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90), ∀ (k0_h70 : k0_cond70 v0 v6 v12 v18 v24 v30 v36 v42 v48 v54 v60 v66 v72 v78 v84 v90 = 1#1), ∀ a, (k0_off397 v0 v6 v12 v18 v24 v30 v36 v42 v48 v54 v60 v66 v72 v78 v84 v90) a + S1.size a ≤ S2.size a := fun v0 v6 v12 v18 v24 v30 v36 v42 v48 v54 v60 v66 v72 v78 v84 v90 k0_hw15 k0_h70 => k0_hw15.2.2.2.2.2.2.2.2.2.2.2.2.2.2.2.2.2.2.2.2.2.2.2.2.2.2.2.2.2.2.2.2.2.2.2.2.2.2.1 k0_h70
theorem k0_off399_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90), ∀ (k0_h70 : k0_cond70 v0 v6 v12 v18 v24 v30 v36 v42 v48 v54 v60 v66 v72 v78 v84 v90 = 1#1), ∀ a, (k0_off399 v0 v6 v12 v18 v24 v30 v36 v42 v48 v54 v60 v66 v72 v78 v84 v90) a + S1x24x7168.size a ≤ S2x24x7168.size a := fun v0 v6 v12 v18 v24 v30 v36 v42 v48 v54 v60 v66 v72 v78 v84 v90 k0_hw15 k0_h70 => k0_hw15.2.2.2.2.2.2.2.2.2.2.2.2.2.2.2.2.2.2.2.2.2.2.2.2.2.2.2.2.2.2.2.2.2.2.2.2.2.2.2.1 k0_h70
theorem k0_off399_wordsbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (k0_hw15 : k0_chk15 v0 v6 v12 v18 v24 v30 v36 v42 v48 v54 v60 v66 v72 v78 v84 v90), ∀ (k0_h70 : k0_cond70 v0 v6 v12 v18 v24 v30 v36 v42 v48 v54 v60 v66 v72 v78 v84 v90 = 1#1), (Rect.unit (s := S2x24x7168) (k0_off399 v0 v6 v12 v18 v24 v30 v36 v42 v48 v54 v60 v66 v72 v78 v84 v90) S1x24x7168.size (k0_off399_inb v0 v6 v12 v18 v24 v30 v36 v42 v48 v54 v60 v66 v72 v78 v84 v90 k0_hw15 k0_h70)).WholeWords (EltTy.packing .bf16) := fun v0 v6 v12 v18 v24 v30 v36 v42 v48 v54 v60 v66 v72 v78 v84 v90 k0_hw15 k0_h70 => k0_hw15.2.2.2.2.2.2.2.2.2.2.2.2.2.2.2.2.2.2.2.2.2.2.2.2.2.2.2.2.2.2.2.2.2.2.2.2.2.2.2.2 k0_h70 (k0_off399_inb v0 v6 v12 v18 v24 v30 v36 v42 v48 v54 v60 v66 v72 v78 v84 v90 k0_hw15 k0_h70)

def k0_chk77 (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v249 : BitVec 32) : Prop :=
  (∀ (k0_h70 : k0_cond70 v0 v6 v12 v18 v24 v30 v36 v42 v48 v54 v60 v66 v72 v78 v84 v90 = 1#1), ∀ a, (k0_off398 v249) a + S1x24x7168.size a ≤ S16x24x7168.size a) ∧
  (∀ (k0_h70 : k0_cond70 v0 v6 v12 v18 v24 v30 v36 v42 v48 v54 v60 v66 v72 v78 v84 v90 = 1#1), ∀ (hinb : ∀ a, (k0_off398 v249) a + S1x24x7168.size a ≤ S16x24x7168.size a), (Rect.unit (s := S16x24x7168) (k0_off398 v249) S1x24x7168.size hinb).WholeWords (EltTy.packing .bf16))
theorem k0_off398_inb : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v249 : BitVec 32) (k0_hw77 : k0_chk77 v0 v6 v12 v18 v24 v30 v36 v42 v48 v54 v60 v66 v72 v78 v84 v90 v249), ∀ (k0_h70 : k0_cond70 v0 v6 v12 v18 v24 v30 v36 v42 v48 v54 v60 v66 v72 v78 v84 v90 = 1#1), ∀ a, (k0_off398 v249) a + S1x24x7168.size a ≤ S16x24x7168.size a := fun v0 v6 v12 v18 v24 v30 v36 v42 v48 v54 v60 v66 v72 v78 v84 v90 v249 k0_hw77 k0_h70 => k0_hw77.1 k0_h70
theorem k0_off398_wordsbf16 : ∀ (v0 : BitVec 32) (v6 : BitVec 32) (v12 : BitVec 32) (v18 : BitVec 32) (v24 : BitVec 32) (v30 : BitVec 32) (v36 : BitVec 32) (v42 : BitVec 32) (v48 : BitVec 32) (v54 : BitVec 32) (v60 : BitVec 32) (v66 : BitVec 32) (v72 : BitVec 32) (v78 : BitVec 32) (v84 : BitVec 32) (v90 : BitVec 32) (v249 : BitVec 32) (k0_hw77 : k0_chk77 v0 v6 v12 v18 v24 v30 v36 v42 v48 v54 v60 v66 v72 v78 v84 v90 v249), ∀ (k0_h70 : k0_cond70 v0 v6 v12 v18 v24 v30 v36 v42 v48 v54 v60 v66 v72 v78 v84 v90 = 1#1), (Rect.unit (s := S16x24x7168) (k0_off398 v249) S1x24x7168.size (k0_off398_inb v0 v6 v12 v18 v24 v30 v36 v42 v48 v54 v60 v66 v72 v78 v84 v90 v249 k0_hw77 k0_h70)).WholeWords (EltTy.packing .bf16) := fun v0 v6 v12 v18 v24 v30 v36 v42 v48 v54 v60 v66 v72 v78 v84 v90 v249 k0_hw77 k0_h70 => k0_hw77.2 k0_h70 (k0_off398_inb v0 v6 v12 v18 v24 v30 v36 v42 v48 v54 v60 v66 v72 v78 v84 v90 v249 k0_hw77 k0_h70)

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S16x24x1536 : Shape := ⟨3, ![16, 24, 1536]⟩
abbrev S16 : Shape := ⟨1, ![16]⟩
abbrev S16x7168x1536 : Shape := ⟨3, ![16, 7168, 1536]⟩
abbrev S16x56x12 : Shape := ⟨3, ![16, 56, 12]⟩
abbrev S16x24x7168 : Shape := ⟨3, ![16, 24, 7168]⟩
abbrev S16x24x12x128 : Shape := ⟨4, ![16, 24, 12, 128]⟩
abbrev S16x24x12 : Shape := ⟨3, ![16, 24, 12]⟩
abbrev S16x24x12x1 : Shape := ⟨4, ![16, 24, 12, 1]⟩
abbrev S1x1x1x277 : Shape := ⟨4, ![1, 1, 1, 277]⟩
abbrev S16x24x12x277 : Shape := ⟨4, ![16, 24, 12, 277]⟩
abbrev S16x1x24x12x128 : Shape := ⟨5, ![16, 1, 24, 12, 128]⟩
abbrev S16x56x1x12x1 : Shape := ⟨5, ![16, 56, 1, 12, 1]⟩
abbrev S16x56x24x12x128 : Shape := ⟨5, ![16, 56, 24, 12, 128]⟩
abbrev S896x128x1536 : Shape := ⟨3, ![896, 128, 1536]⟩
abbrev S896x24x1536 : Shape := ⟨3, ![896, 24, 1536]⟩
abbrev S896x24x128 : Shape := ⟨3, ![896, 24, 128]⟩
abbrev S16x56x24x128 : Shape := ⟨4, ![16, 56, 24, 128]⟩
abbrev S16x24x56x128 : Shape := ⟨4, ![16, 24, 56, 128]⟩
abbrev S16x24x1 : Shape := ⟨3, ![16, 24, 1]⟩
abbrev S16x1x1 : Shape := ⟨3, ![16, 1, 1]⟩

abbrev nBuf : Space → Nat
  | .hbm => 5
  | .vmem => 5
  | .smem => 0
  | _ => 0

abbrev bufTy : (tb : Table) → Fin (tcTables nBuf tb) → BufTy
  | .hbm, ⟨0, _⟩ => ⟨S16x24x1536, .bf16⟩
  | .hbm, ⟨1, _⟩ => ⟨S16, .i32⟩
  | .hbm, ⟨2, _⟩ => ⟨S16x7168x1536, .fp8e4m3⟩
  | .hbm, ⟨3, _⟩ => ⟨S16x56x12, .f32⟩
  | .hbm, ⟨4, _⟩ => ⟨S16x24x7168, .bf16⟩
  | .local _ .vmem, ⟨0, _⟩ => ⟨S16x24x1536, .bf16⟩
  | .local _ .vmem, ⟨1, _⟩ => ⟨S16, .i32⟩
  | .local _ .vmem, ⟨2, _⟩ => ⟨S16x7168x1536, .fp8e4m3⟩
  | .local _ .vmem, ⟨3, _⟩ => ⟨S16x56x12, .f32⟩
  | .local _ .vmem, ⟨4, _⟩ => ⟨S16x24x7168, .bf16⟩
  | _, _ => ⟨S16x24x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S16x24x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x7168x1536 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x56x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x24x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Kernel.Base.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Transfers
public import Idealize.ShloMosaic.Lib.Batch
public import Idealize.ShloMosaic.Adequacy
public import Idealize.ShloMosaic.Init

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

abbrev UU : Type := UR sig nD τ × Counters

local notation "𝕄" => MT nD τ sig Unit (Elt F) ℕ UU ℕ

abbrev EC : UEmb Counters (MT nD τ sig Unit (Elt F) ℕ UU ℕ) := countersEmb

abbrev 𝒱₀ : Variants := Variants.none

abbrev A1 : Memref sig .tc .hbm S16x24x1536 .bf16 := Memref.whole main_arg0
abbrev A2 : Memref sig .tc .hbm S16x7168x1536 .fp8e4m3 := Memref.whole main_arg2
abbrev A3 : Memref sig .tc .hbm S16x56x12 .f32 := Memref.whole main_arg3
abbrev A4 : Memref sig .tc .hbm S16x24x7168 .bf16 := Memref.whole main_v0
abbrev A0 : Memref sig .tc .smem S16 .i32 := Memref.whole cc0_stg0_0
abbrev A5 : Memref sig .tc .smem S16 .i32 := Memref.whole cc0_scratch0
abbrev A6 : Memref sig .tc .vmem S2x24x1536 .bf16 := Memref.whole cc0_scratch1
abbrev A7 : Memref sig .tc .vmem S2x56x12 .f32 := Memref.whole cc0_scratch2
abbrev A8 : Memref sig .tc .vmem S2x7168x1536 .fp8e4m3 := Memref.whole cc0_scratch3
abbrev A9 : Memref sig .tc .vmem S24x1536 .f32 := Memref.whole cc0_scratch4
abbrev A10 : Memref sig .tc .vmem S56x1536 .f32 := Memref.whole cc0_scratch5
abbrev A11 : Memref sig .tc .vmem S2x24x7168 .bf16 := Memref.whole cc0_scratch6
abbrev A12 : Memref sig .tc .vmem S24x7168 .bf16 := Memref.whole cc0_scratch7

/-- The core's weakest precondition, at the certificate's variants. -/
abbrev W (c : Dev nD) {α : Type} (p : Prog (TpuEff nD τ sig (Elt F) Λ₀ .tc) α) (Q : α → sProp (MT nD τ sig Unit (Elt F) ℕ UU ℕ)) : sProp (MT nD τ sig Unit (Elt F) ℕ UU ℕ) :=
  wp frame (wpE defs₀ 𝒱₀ (c : Thread nD τ) none) Set.univ p Q

theorem inb_x (s : Fin 2) : ∀ a, (![s.val, 0, 0] : Fin 3 → ℕ) a + S1x24x1536.size a ≤ S2x24x1536.size a := by revert s; decide
theorem inb_s (s : Fin 2) : ∀ a, (![s.val, 0, 0] : Fin 3 → ℕ) a + S1x56x12.size a ≤ S2x56x12.size a := by revert s; decide
theorem inb_w (s : Fin 2) (q : Fin 7) : ∀ a, (![s.val, 1024 * q.val, 0] : Fin 3 → ℕ) a + S1x1024x1536.size a ≤ S2x7168x1536.size a := by revert s q; decide
theorem inb_o (s : Fin 2) : ∀ a, (![s.val, 0, 0] : Fin 3 → ℕ) a + S1x24x7168.size a ≤ S2x24x7168.size a := by revert s; decide
theorem inb_xE (e : Fin 16) : ∀ a, (![e.val, 0, 0] : Fin 3 → ℕ) a + S1x24x1536.size a ≤ S16x24x1536.size a := by revert e; decide
theorem inb_sE (e : Fin 16) : ∀ a, (![e.val, 0, 0] : Fin 3 → ℕ) a + S1x56x12.size a ≤ S16x56x12.size a := by revert e; decide
theorem inb_wE (e : Fin 16) (q : Fin 7) : ∀ a, (![e.val, 1024 * q.val, 0] : Fin 3 → ℕ) a + S1x1024x1536.size a ≤ S16x7168x1536.size a := by revert e q; decide
theorem inb_oE (e : Fin 16) : ∀ a, (![e.val, 0, 0] : Fin 3 → ℕ) a + S1x24x7168.size a ≤ S16x24x7168.size a := by revert e; decide
theorem inb_sem (s : Fin 2) : ∀ a, (![s.val] : Fin 1 → ℕ) a + S1.size a ≤ S2.size a := by revert s; decide
theorem inb_semw (s : Fin 2) (q : Fin 7) : ∀ a, (![s.val, q.val] : Fin 2 → ℕ) a + S1x1.size a ≤ S2x7.size a := by revert s q; decide

/-- The half `s` of the buffer of inputs. -/
abbrev xW (s : Fin 2) : Memref sig .tc .vmem S24x1536 .bf16 :=
  (A6.slice (Rect.unit (s := S2x24x1536) ![s.val, 0, 0] S1x24x1536.size (inb_x s)) (fun _ => rfl)).squeeze S24x1536 squeezes_S1x24x1536_S24x1536
/-- The half `s` of the buffer of weight scales. -/
abbrev sW (s : Fin 2) : Memref sig .tc .vmem S56x12 .f32 :=
  (A7.slice (Rect.unit (s := S2x56x12) ![s.val, 0, 0] S1x56x12.size (inb_s s)) (fun _ => rfl)).squeeze S56x12 squeezes_S1x56x12_S56x12
/-- Piece `q` of the half `s` of the buffer of weights. -/
abbrev wW (s : Fin 2) (q : Fin 7) : Memref sig .tc .vmem S1024x1536 .fp8e4m3 :=
  (A8.slice (Rect.unit (s := S2x7168x1536) ![s.val, 1024 * q.val, 0] S1x1024x1536.size (inb_w s q)) (fun _ => rfl)).squeeze S1024x1536 squeezes_S1x1024x1536_S1024x1536
/-- The half `s` of the buffer of results. -/
abbrev oW (s : Fin 2) : Memref sig .tc .vmem S24x7168 .bf16 :=
  (A11.slice (Rect.unit (s := S2x24x7168) ![s.val, 0, 0] S1x24x7168.size (inb_o s)) (fun _ => rfl)).squeeze S24x7168 squeezes_S1x24x7168_S24x7168
/-- The input rows of expert `e`. -/
abbrev xE (e : Fin 16) : Memref sig .tc .hbm S24x1536 .bf16 :=
  (A1.slice (Rect.unit (s := S16x24x1536) ![e.val, 0, 0] S1x24x1536.size (inb_xE e)) (fun _ => rfl)).squeeze S24x1536 squeezes_S1x24x1536_S24x1536
/-- The weight scales of expert `e`. -/
abbrev sE (e : Fin 16) : Memref sig .tc .hbm S56x12 .f32 :=
  (A3.slice (Rect.unit (s := S16x56x12) ![e.val, 0, 0] S1x56x12.size (inb_sE e)) (fun _ => rfl)).squeeze S56x12 squeezes_S1x56x12_S56x12
/-- Piece `q` of the weights of expert `e`. -/
abbrev wE (e : Fin 16) (q : Fin 7) : Memref sig .tc .hbm S1024x1536 .fp8e4m3 :=
  (A2.slice (Rect.unit (s := S16x7168x1536) ![e.val, 1024 * q.val, 0] S1x1024x1536.size (inb_wE e q)) (fun _ => rfl)).squeeze S1024x1536 squeezes_S1x1024x1536_S1024x1536
/-- The result rows of expert `e`. -/
abbrev oE (e : Fin 16) : Memref sig .tc .hbm S24x7168 .bf16 :=
  (A4.slice (Rect.unit (s := S16x24x7168) ![e.val, 0, 0] S1x24x7168.size (inb_oE e)) (fun _ => rfl)).squeeze S24x7168 squeezes_S1x24x7168_S24x7168

abbrev xsem (s : Fin 2) : DmaSem sig := (((cc0_scratch8 : DmaSems sig S2).slice (Rect.unit (s := S2) ![s.val] S1.size (inb_sem s))).squeeze S_ squeezes_S1_S_).sem
abbrev ssem (s : Fin 2) : DmaSem sig := (((cc0_scratch9 : DmaSems sig S2).slice (Rect.unit (s := S2) ![s.val] S1.size (inb_sem s))).squeeze S_ squeezes_S1_S_).sem
abbrev wsem (s : Fin 2) (q : Fin 7) : DmaSem sig := (((cc0_scratch10 : DmaSems sig S2x7).slice (Rect.unit (s := S2x7) ![s.val, q.val] S1x1.size (inb_semw s q))).squeeze S_ squeezes_S1x1_S_).sem
abbrev osem (s : Fin 2) : DmaSem sig := (((cc0_scratch11 : DmaSems sig S2).slice (Rect.unit (s := S2) ![s.val] S1.size (inb_sem s))).squeeze S_ squeezes_S1_S_).sem

/-- The word at position `i` of a buffer of sixteen words. -/
def tw (f : S16.Idx → Elt F .i32) (i : Fin 16) : BitVec 32 := f (fun a => Fin.cast (by fin_cases a; rfl) i)

variable (c : Dev nD)

/-- Whole buffers held by the core. -/
abbrev P9 (f : S24x1536.Idx → Elt F .f32) : sProp 𝕄 := A9.view.loc (c : Thread nD τ) ↦{fullShare} f
abbrev P10 (f : S56x1536.Idx → Elt F .f32) : sProp 𝕄 := A10.view.loc (c : Thread nD τ) ↦{fullShare} f
abbrev P0 (q : PosShare TreeShare) (f : S16.Idx → Elt F .i32) : sProp 𝕄 := A0.view.loc (c : Thread nD τ) ↦{q} f
abbrev P5 (f : S16.Idx → Elt F .i32) : sProp 𝕄 := A5.view.loc (c : Thread nD τ) ↦{fullShare} f
/-- A window's elements, at a share. -/
abbrev PW {sp : Space} {s : Shape} {e : EltTy} (m : Memref sig .tc sp s e) (q : PosShare TreeShare) (f : Buf (Elt F) (m.view.loc (c : Thread nD τ))) : sProp 𝕄 :=
  m.view.loc (c : Thread nD τ) ↦[m.view.set]{q} f

abbrev Sem0 (d : DmaSem sig) : sProp 𝕄 := semVal ((c : Thread nD τ), .dma d) 0
def OW : sProp 𝕄 := iprop(∃ O, owes (c : Thread nD τ) 0 O)

/-- What a copy delivers: the destination reading what the source reads, and the source back. -/
def Dl {sp sp' : Space} {s : Shape} {e : EltTy} (src : Memref sig .tc sp s e) (dst : Memref sig .tc sp' s e) (q : PosShare TreeShare)
    (fs : Buf (Elt F) (src.view.loc (c : Thread nD τ))) : sProp 𝕄 :=
  iprop((∃ f, PW c dst fullShare f ∗ ⌜dst.view.read (Elt F) f = src.view.read (Elt F) fs⌝) ∗ PW c src q fs)

/-- A copy in flight. -/
def Fl (d : DmaSem sig) {sp sp' : Space} {s : Shape} {e : EltTy} (src : Memref sig .tc sp s e) (dst : Memref sig .tc sp' s e) (q : PosShare TreeShare)
    (fs : Buf (Elt F) (src.view.loc (c : Thread nD τ))) : sProp 𝕄 :=
  Transfers.Flight EC (c : Thread nD τ) (.dma d) () dst.view.dmaCredit (Dl c src dst q fs)

section ops
variable {α : Type} {Q : α → sProp (MT nD τ sig Unit (Elt F) ℕ UU ℕ)}

theorem W_bind {β : Type} {Q : β → sProp 𝕄} {p : Prog (TpuEff nD τ sig (Elt F) Λ₀ .tc) α} {k : α → Prog (TpuEff nD τ sig (Elt F) Λ₀ .tc) β} :
    W c p (fun a => W c (k a) Q) ⊢ W c (p >>= k) Q := by
  rw [W, W, wp_bind]

theorem W_pure {a : α} : Q a ⊢ W c (pure a) Q := by
  show _ ⊢ wp _ _ _ (Prog.ret a) Q
  rw [wp_ret]; iintro H; imodintro; iexact H

theorem W_assume {P : Prop} {d : Decidable P} {k : PLift P → Prog (TpuEff nD τ sig (Elt F) Λ₀ .tc) α} (h : P) :
    W c (k ⟨h⟩) Q ⊢ W c (Prog.lift (.assume P d) >>= k) Q := wp_assume 𝒱₀ (c : Thread nD τ) none Set.univ h

theorem ld9 {r : LoadRect S24x1536} {h : A9.view.LoadsAt r} {k : (r.shape.Idx → Elt F .f32) → Prog (TpuEff nD τ sig (Elt F) Λ₀ .tc) α} {f : S24x1536.Idx → Elt F .f32} :
    P9 (F := F) c f ⊢ iprop((P9 c f -∗ W c (k (A9.view.readAt (Elt F) r f)) Q) -∗ W c (Prog.lift (.load A9 r h) >>= k) Q) :=
  wp_load 𝒱₀ (c : Thread nD τ) none Set.univ (m := A9) (S := Finset.univ) (Finset.subset_univ _)

theorem ld10 {r : LoadRect S56x1536} {h : A10.view.LoadsAt r} {k : (r.shape.Idx → Elt F .f32) → Prog (TpuEff nD τ sig (Elt F) Λ₀ .tc) α} {f : S56x1536.Idx → Elt F .f32} :
    P10 (F := F) c f ⊢ iprop((P10 c f -∗ W c (k (A10.view.readAt (Elt F) r f)) Q) -∗ W c (Prog.lift (.load A10 r h) >>= k) Q) :=
  wp_load 𝒱₀ (c : Thread nD τ) none Set.univ (m := A10) (S := Finset.univ) (Finset.subset_univ _)

end ops

/-- The buffer of dequantised inputs with one block replaced. -/
abbrev put9 (f : S24x1536.Idx → Elt F .f32) (r : Rect S24x1536) (w : r.shape.Idx → Elt F .f32) : S24x1536.Idx → Elt F .f32 :=
  (A9.access r).write (Elt F) f w Finset.univ
/-- The buffer of rounded scales with one block replaced. -/
abbrev put10 (f : S56x1536.Idx → Elt F .f32) (r : Rect S56x1536) (w : r.shape.Idx → Elt F .f32) : S56x1536.Idx → Elt F .f32 :=
  (A10.access r).write (Elt F) f w Finset.univ

section ops
variable {α : Type} {Q : α → sProp (MT nD τ sig Unit (Elt F) ℕ UU ℕ)}

theorem st9 {r : Rect S24x1536} {w : r.shape.Idx → Elt F .f32} {hx : (A9.access r).Stores Finset.univ} {hm : (Finset.univ : Finset r.shape.Idx) = Finset.univ ∨ ∀ a, r.stride a = 1}
   {k : PUnit → Prog (TpuEff nD τ sig (Elt F) Λ₀ .tc) α} {f : S24x1536.Idx → Elt F .f32} :
    P9 (F := F) c f ⊢ iprop((P9 c (put9 f r w) -∗ W c (k ⟨⟩) Q) -∗ W c (Prog.lift (.store A9 r w Finset.univ hx hm) >>= k) Q) :=
  wp_store 𝒱₀ (c : Thread nD τ) none Set.univ (m := A9) (r := r) (w := w) (Mk := Finset.univ) (hx := hx) (hm := hm) (k := k) (f := f)
    (S := (Finset.univ : Finset (Idx (A9.view.loc (c : Thread nD τ))))) (Finset.subset_univ _)

theorem st10 {r : Rect S56x1536} {w : r.shape.Idx → Elt F .f32} {hx : (A10.access r).Stores Finset.univ} {hm : (Finset.univ : Finset r.shape.Idx) = Finset.univ ∨ ∀ a, r.stride a = 1}
   {k : PUnit → Prog (TpuEff nD τ sig (Elt F) Λ₀ .tc) α} {f : S56x1536.Idx → Elt F .f32} :
    P10 (F := F) c f ⊢ iprop((P10 c (put10 f r w) -∗ W c (k ⟨⟩) Q) -∗ W c (Prog.lift (.store A10 r w Finset.univ hx hm) >>= k) Q) :=
  wp_store 𝒱₀ (c : Thread nD τ) none Set.univ (m := A10) (r := r) (w := w) (Mk := Finset.univ) (hx := hx) (hm := hm) (k := k) (f := f)
    (S := (Finset.univ : Finset (Idx (A10.view.loc (c : Thread nD τ))))) (Finset.subset_univ _)

theorem lw5 (i : Fin 16) {off : Fin 1 → ℕ} {inb} {h1 hp} {k : Elt F .i32 → Prog (TpuEff nD τ sig (Elt F) Λ₀ .tc) α} {f : S16.Idx → Elt F .i32} (ho : off = ![i.val]) :
    P5 (F := F) c f ⊢ iprop((P5 c f -∗ W c (k (tw f i)) Q) -∗ W c (smemLoad A5 (Rect.unit (s := S16) off S1.size inb) h1 hp >>= k) Q) := by
  subst ho
  have : (A5.access (Rect.unit (s := S16) ![i.val] S1.size inb)).read (Elt F) f (Shape.Idx.first (h1.symm ▸ Nat.one_pos)) = tw f i := by
    unfold tw
    show f _ = f _
    congr 1
    funext a
    exact Fin.ext (by fin_cases a; rfl)
  rw [← this]
  exact wp_smemLoadElt 𝒱₀ (c : Thread nD τ) none (Q := Q) (defs := defs₀) Set.univ (m := A5) (r := Rect.unit (s := S16) ![i.val] S1.size inb) (hw := View.loads_smem_one hp h1) (x := Shape.Idx.first (h1.symm ▸ Nat.one_pos)) (k := k) (f := f)
    (S := (Finset.univ : Finset (Idx (A5.view.loc (c : Thread nD τ))))) (Finset.subset_univ _)

theorem lw0 (i : Fin 16) {off : Fin 1 → ℕ} {inb} {h1 hp} {q} {k : Elt F .i32 → Prog (TpuEff nD τ sig (Elt F) Λ₀ .tc) α} {f : S16.Idx → Elt F .i32} (ho : off = ![i.val]) :
    P0 (F := F) c q f ⊢ iprop((P0 c q f -∗ W c (k (tw f i)) Q) -∗ W c (smemLoad A0 (Rect.unit (s := S16) off S1.size inb) h1 hp >>= k) Q) := by
  subst ho
  have : (A0.access (Rect.unit (s := S16) ![i.val] S1.size inb)).read (Elt F) f (Shape.Idx.first (h1.symm ▸ Nat.one_pos)) = tw f i := by
    unfold tw
    show f _ = f _
    congr 1
    funext a
    exact Fin.ext (by fin_cases a; rfl)
  rw [← this]
  exact wp_smemLoadElt 𝒱₀ (c : Thread nD τ) none (Q := Q) (defs := defs₀) Set.univ (m := A0) (r := Rect.unit (s := S16) ![i.val] S1.size inb) (hw := View.loads_smem_one hp h1) (x := Shape.Idx.first (h1.symm ▸ Nat.one_pos)) (k := k) (f := f)
    (S := (Finset.univ : Finset (Idx (A0.view.loc (c : Thread nD τ))))) (Finset.subset_univ _)

/-- Window `m` lies in what is held. -/
theorem ldW {s : Shape} {e : EltTy} {m : Memref sig .tc .vmem s e} {r : LoadRect s} {h : m.view.LoadsAt r} {k : (r.shape.Idx → Elt F e) → Prog (TpuEff nD τ sig (Elt F) Λ₀ .tc) α}
    {S : Finset (Idx (m.view.loc (c : Thread nD τ)))} {q : PosShare TreeShare} {f : Buf (Elt F) (m.view.loc (c : Thread nD τ))} (hS : m.view.setOn r.set ⊆ S) :
    (m.view.loc (c : Thread nD τ) ↦[S]{q} f : sProp (MT nD τ sig Unit (Elt F) ℕ UU ℕ)) ⊢ iprop(((m.view.loc (c : Thread nD τ) ↦[S]{q} f) -∗ W c (k (m.view.readAt (Elt F) r f)) Q) -∗ W c (Prog.lift (.load m r h) >>= k) Q) :=
  wp_load 𝒱₀ (c : Thread nD τ) none Set.univ (m := m) (S := S) (f := f) hS

theorem stW {s : Shape} {e : EltTy} {m : Memref sig .tc .vmem s e} {r : Rect s} {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ .tc) α}
    {S : Finset (Idx ((m.access r).loc (c : Thread nD τ)))} {f : Buf (Elt F) ((m.access r).loc (c : Thread nD τ))} (hS : (m.access r).setOn Finset.univ ⊆ S) :
    ((m.access r).loc (c : Thread nD τ) ↦[S]{fullShare} f : sProp (MT nD τ sig Unit (Elt F) ℕ UU ℕ)) ⊢ iprop((((m.access r).loc (c : Thread nD τ) ↦[S]{fullShare} ((m.access r).write (Elt F) f w Finset.univ)) -∗ W c (k ⟨⟩) Q) -∗ W c (Prog.lift (.store m r w Finset.univ hx hm) >>= k) Q) :=
  wp_store 𝒱₀ (c : Thread nD τ) none Set.univ (m := m) (r := r) (w := w) (Mk := Finset.univ) (hx := hx) (hm := hm) (k := k) (f := f) (S := S) hS

theorem sub_win {sp : Space} {s t : Shape} {e : EltTy} (m : Memref sig .tc sp s e) {r r2 : Rect s} {hs} {hq : r2.shape.Squeezes t} (h : r.set ⊆ r2.set) :
    m.view.setOn r.set ⊆ ((m.slice r2 hs).squeeze t hq).view.set := by
  rw [Memref.set_view_squeeze, show (m.slice r2 hs).view.set = r2.set.map m.view.emb from View.set_slice _ _]
  exact Finset.map_subset_map.mpr h

theorem ld8 (s : Fin 2) (q : Fin 7) (n0 : ℕ) {off : Fin 3 → ℕ} {inb} {h} {k : _ → Prog (TpuEff nD τ sig (Elt F) Λ₀ .tc) α} {f : S2x7168x1536.Idx → Elt F .fp8e4m3}
    (ho : off = ![s.val, n0, 0]) (h1 : 1024 * q.val ≤ n0) (h2 : n0 + 256 ≤ 1024 * q.val + 1024) :
    PW (F := F) c (wW s q) fullShare f ⊢ iprop((PW c (wW s q) fullShare f -∗ W c (k (A8.view.readAt (Elt F) (Rect.unit (s := S2x7168x1536) off S1x256x1536.size inb).toLoadRect f)) Q) -∗ W c (Prog.lift (.load A8 (Rect.unit (s := S2x7168x1536) off S1x256x1536.size inb).toLoadRect h) >>= k) Q) := by
  subst ho
  refine ldW (m := A8) (r := (Rect.unit (s := S2x7168x1536) ![s.val, n0, 0] S1x256x1536.size inb).toLoadRect) (f := f) c (S := (wW s q).view.set) (q := fullShare) (k := k) ?_
  refine sub_win _ (Rect.set_subset_of_span _ _ (fun _ => rfl) fun a => ?_)
  fin_cases a <;> simp [S1x256x1536, S1x1024x1536] <;> omega

theorem ld11 (s : Fin 2) (n0 : ℕ) {off : Fin 3 → ℕ} {inb} {h} {k : _ → Prog (TpuEff nD τ sig (Elt F) Λ₀ .tc) α} {f : S2x24x7168.Idx → Elt F .bf16}
    (ho : off = ![s.val, 0, n0]) (h2 : n0 + 128 ≤ 7168) :
    PW (F := F) c (oW s) fullShare f ⊢ iprop((PW c (oW s) fullShare f -∗ W c (k (A11.view.readAt (Elt F) (Rect.unit (s := S2x24x7168) off S1x24x128.size inb).toLoadRect f)) Q) -∗ W c (Prog.lift (.load A11 (Rect.unit (s := S2x24x7168) off S1x24x128.size inb).toLoadRect h) >>= k) Q) := by
  subst ho
  refine ldW (m := A11) (r := (Rect.unit (s := S2x24x7168) ![s.val, 0, n0] S1x24x128.size inb).toLoadRect) (f := f) c (S := (oW s).view.set) (q := fullShare) (k := k) ?_
  refine sub_win _ (Rect.set_subset_of_span _ _ (fun _ => rfl) fun a => ?_)
  fin_cases a <;> simp [S1x24x128, S1x24x7168] <;> omega

theorem ld6 (s : Fin 2) (n0 : ℕ) {off : Fin 3 → ℕ} {inb} {h} {k : _ → Prog (TpuEff nD τ sig (Elt F) Λ₀ .tc) α} {f : S2x24x1536.Idx → Elt F .bf16}
    (ho : off = ![s.val, 0, n0]) (h2 : n0 + 128 ≤ 1536) :
    PW (F := F) c (xW s) fullShare f ⊢ iprop((PW c (xW s) fullShare f -∗ W c (k (A6.view.readAt (Elt F) (Rect.unit (s := S2x24x1536) off S1x24x128.size inb).toLoadRect f)) Q) -∗ W c (Prog.lift (.load A6 (Rect.unit (s := S2x24x1536) off S1x24x128.size inb).toLoadRect h) >>= k) Q) := by
  subst ho
  refine ldW (m := A6) (r := (Rect.unit (s := S2x24x1536) ![s.val, 0, n0] S1x24x128.size inb).toLoadRect) (f := f) c (S := (xW s).view.set) (q := fullShare) (k := k) ?_
  refine sub_win _ (Rect.set_subset_of_span _ _ (fun _ => rfl) fun a => ?_)
  fin_cases a <;> simp [S1x24x128, S1x24x1536] <;> omega

theorem ld7 (s : Fin 2) {off : Fin 3 → ℕ} {inb} {h} {k : _ → Prog (TpuEff nD τ sig (Elt F) Λ₀ .tc) α} {f : S2x56x12.Idx → Elt F .f32}
    (ho : off = ![s.val, 0, 0]) :
    PW (F := F) c (sW s) fullShare f ⊢ iprop((PW c (sW s) fullShare f -∗ W c (k (A7.view.readAt (Elt F) (Rect.unit (s := S2x56x12) off S1x56x12.size inb).toLoadRect f)) Q) -∗ W c (Prog.lift (.load A7 (Rect.unit (s := S2x56x12) off S1x56x12.size inb).toLoadRect h) >>= k) Q) := by
  subst ho
  refine ldW (m := A7) (r := (Rect.unit (s := S2x56x12) ![s.val, 0, 0] S1x56x12.size inb).toLoadRect) (f := f) c (S := (sW s).view.set) (q := fullShare) (k := k) ?_
  exact sub_win _ (Rect.set_subset_of_span _ _ (fun _ => rfl) fun a => by fin_cases a <;> simp)

/-- The buffer of results with one block of columns replaced. -/
abbrev put11 (f : S2x24x7168.Idx → Elt F .bf16) (r : Rect S2x24x7168) (w : r.shape.Idx → Elt F .bf16) : S2x24x7168.Idx → Elt F .bf16 :=
  (A11.access r).write (Elt F) f w Finset.univ

theorem st11 (s : Fin 2) (n0 : ℕ) {off : Fin 3 → ℕ} {inb} {w} {hx hm} {k : _ → Prog (TpuEff nD τ sig (Elt F) Λ₀ .tc) α} {f : S2x24x7168.Idx → Elt F .bf16}
    (ho : off = ![s.val, 0, n0]) (h2 : n0 + 128 ≤ 7168) :
    PW (F := F) c (oW s) fullShare f ⊢ iprop((PW c (oW s) fullShare (put11 f (Rect.unit (s := S2x24x7168) off S1x24x128.size inb) w) -∗ W c (k ⟨⟩) Q) -∗ W c (Prog.lift (.store A11 (Rect.unit (s := S2x24x7168) off S1x24x128.size inb) w Finset.univ hx hm) >>= k) Q) := by
  subst ho
  refine stW (m := A11) (r := Rect.unit (s := S2x24x7168) ![s.val, 0, n0] S1x24x128.size inb) (f := f) (w := w) (hx := hx) (hm := hm) c (S := ((oW s).view.set : Finset (Idx (A11.view.loc (c : Thread nD τ))))) (k := k) ?_
  rw [View.setOn_univ, show (A11.access (Rect.unit (s := S2x24x7168) ![s.val, 0, n0] S1x24x128.size inb)).set = A11.view.setOn (Rect.unit (s := S2x24x7168) ![s.val, 0, n0] S1x24x128.size inb).set from View.set_slice _ _]
  refine sub_win _ (Rect.set_subset_of_span _ _ (fun _ => rfl) fun a => ?_)
  fin_cases a <;> simp [S1x24x128, S1x24x7168] <;> omega

theorem W_wait {sp sp' : Space} {s : Shape} {e : EltTy} {sem : DmaSem sig} {srcw : Memref sig .tc sp s e} {dstw : Memref sig .tc sp' s e} {hsrc hdst}
    {k : PUnit → Prog (TpuEff nD τ sig (Elt F) Λ₀ .tc) α} {N : ℕ} (hN : dstw.view.dmaCredit = N) {D : sProp (MT nD τ sig Unit (Elt F) ℕ UU ℕ)} :
    Transfers.Flight EC (c : Thread nD τ) (.dma sem) () N D ∗ OW c ⊢ iprop((D ∗ Sem0 c sem ∗ OW c -∗ W c (k ⟨⟩) Q) -∗ W c (Prog.lift (.waitDma2 sem srcw dstw hsrc hdst) >>= k) Q) := by
  unfold OW
  iintro ⟨Hf, %O, HO⟩ K
  iapply (Transfers.wp_waitLocal EC 𝒱₀ (c : Thread nD τ) none () hN (D := D) (Q := Q) (k := k) (defs := defs₀)) $$ [Hf HO]
  · isplitl [Hf] <;> iassumption
  iintro ⟨HD, HS, HO⟩
  iapply K
  isplitl [HD]; · iexact HD
  isplitl [HS]; · iexact HS
  iexists _; iexact HO

theorem W_start {sp sp' : Space} {s : Shape} {e : EltTy} {d : DmaSem sig} {src : Memref sig .tc sp s e} {dst : Memref sig .tc sp' s e} {hsrc hdst hsem}
    {k : PUnit → Prog (TpuEff nD τ sig (Elt F) Λ₀ .tc) α} {q : PosShare TreeShare} {fs : Buf (Elt F) (src.view.loc (c : Thread nD τ))} {fd : Buf (Elt F) (dst.view.loc (c : Thread nD τ))}
    (hN0 : 0 < dst.view.dmaCredit) :
    PW c src q fs ∗ PW c dst fullShare fd ∗ Sem0 c d ⊢ iprop((Fl c d src dst q fs -∗ W c (k ⟨⟩) Q) -∗ W c (Prog.lift (.enqueueDma src (.here dst) (.dma d) hsrc hdst hsem) >>= k) Q) := by
  iintro H K
  iapply (Transfers.wp_dmaLocal EC 𝒱₀ (c : Thread nD τ) none (src := src) (via := .same) (dst := dst) (sm := .dma d) (fs := fs) (fd := fd) (q := q) (k := k) (Q := Q) (defs := defs₀) () dst.view.dmaCredit rfl hN0 (Finset.Subset.refl dst.view.set)) $$ H
  iintro H
  iapply K
  unfold Fl
  iapply (Transfers.Flight_mono EC (c : Thread nD τ) (sm := .dma d) (ι := ()) ?_) $$ H
  unfold Dl
  iintro ⟨H1, H2⟩
  isplitl [H1]
  · iexists _
    isplitl [H1]; · iexact H1
    ipureintro
    exact View.read_write_univ _ _
  iexact H2

end ops

/-- A share of a whole buffer gives a window's share, and takes it back. -/
theorem acc_win {sp : Space} {s t : Shape} {e : EltTy} (m : Memref sig .tc sp s e) (r2 : Rect s) (hs : ∀ a, r2.stride a = 1) (hq : r2.shape.Squeezes t) (q : PosShare TreeShare) (f : Buf (Elt F) (m.view.loc (c : Thread nD τ))) :
    (m.view.loc (c : Thread nD τ) ↦{q} f : sProp (MT nD τ sig Unit (Elt F) ℕ UU ℕ)) ⊢ iprop(PW c ((m.slice r2 hs).squeeze t hq) q f ∗ (PW c ((m.slice r2 hs).squeeze t hq) q f -∗ m.view.loc (c : Thread nD τ) ↦{q} f)) := by
  have h := pointsTo_split_subset (nD := nD) (τ := τ) (sig := sig) (Ix := Unit) (Val := Elt F) (Name := ℕ) (U := UU) (Lvl := ℕ) (ℓ := m.view.loc (c : Thread nD τ)) (I := ((m.slice r2 hs).squeeze t hq).view.set) (S := Finset.univ) (q := q) (f := f) (Finset.subset_univ _)
  iintro H
  ihave H := h.1 $$ H
  icases H with ⟨H1, H2⟩
  isplitl [H1]; · iexact H1
  iintro H1
  iapply h.2
  isplitl [H1] <;> iassumption

abbrev qx (s : Fin 2) : PosShare TreeShare := Transfers.shareTokN fullShare s.val
abbrev qw (s : Fin 2) (q : Fin 7) : PosShare TreeShare := Transfers.shareTokN fullShare (7 * s.val + q.val)
theorem pos_x (s : Fin 2) : 0 < (xW s).view.dmaCredit := by revert s; decide
theorem pos_s (s : Fin 2) : 0 < (sW s).view.dmaCredit := by revert s; decide
theorem pos_w (s : Fin 2) (q : Fin 7) : 0 < (wW s q).view.dmaCredit := by revert s q; decide
theorem pos_o (e : Fin 16) : 0 < (oE e).view.dmaCredit := by revert e; decide

section slots
variable {α : Type} {Q : α → sProp (MT nD τ sig Unit (Elt F) ℕ UU ℕ)}

/-- The slot of inputs at rest. -/
def Xfree (fx : S16x24x1536.Idx → Elt F .bf16) (s : Fin 2) : sProp (MT nD τ sig Unit (Elt F) ℕ UU ℕ) :=
  iprop((∃ f : S2x24x1536.Idx → Elt F .bf16, PW c (xW s) fullShare f) ∗ Sem0 c (xsem s) ∗ (A1.view.loc (c : Thread nD τ) ↦{qx s} fx))
/-- The slot of inputs with the copy for expert `e` in flight. -/
def Xin (fx : S16x24x1536.Idx → Elt F .bf16) (s : Fin 2) (e : Fin 16) : sProp (MT nD τ sig Unit (Elt F) ℕ UU ℕ) :=
  iprop(Fl c (xsem s) (xE e) (xW s) (qx s) fx ∗ (PW c (xE e) (qx s) fx -∗ (A1.view.loc (c : Thread nD τ) ↦{qx s} fx)))

theorem startX {fx : S16x24x1536.Idx → Elt F .bf16} (s : Fin 2) (e : Fin 16) {oS : Fin 1 → ℕ} {oD oE : Fin 3 → ℕ} {iS iD iE hsrc hdst hsem}
    {k : PUnit → Prog (TpuEff nD τ sig (Elt F) Λ₀ .tc) α} (hS : oS = ![s.val]) (hD : oD = ![s.val, 0, 0]) (hE : oE = ![e.val, 0, 0]) :
    Xfree c fx s ⊢ iprop((Xin c fx s e -∗ W c (k ⟨⟩) Q) -∗ W c (Prog.lift (.enqueueDma ((A1.slice (Rect.unit (s := S16x24x1536) oE S1x24x1536.size iE) (fun _ => rfl)).squeeze S24x1536 squeezes_S1x24x1536_S24x1536)
      (.here ((A6.slice (Rect.unit (s := S2x24x1536) oD S1x24x1536.size iD) (fun _ => rfl)).squeeze S24x1536 squeezes_S1x24x1536_S24x1536))
      (.dma (((cc0_scratch8 : DmaSems sig S2).slice (Rect.unit (s := S2) oS S1.size iS)).squeeze S_ squeezes_S1_S_).sem) hsrc hdst hsem) >>= k) Q) := by
  subst hS hD hE
  unfold Xfree Xin
  iintro ⟨⟨%f, H⟩, HS, HT⟩ K
  ihave HT := (acc_win c A1 (Rect.unit (s := S16x24x1536) ![e.val, 0, 0] S1x24x1536.size iE) (fun _ => rfl) squeezes_S1x24x1536_S24x1536 (qx s) fx) $$ HT
  icases HT with ⟨HT, HR⟩
  iapply (W_start c (src := xE e) (dst := xW s) (d := xsem s) (fs := fx) (fd := f) (q := qx s) (k := k) (Q := Q) (pos_x s)) $$ [H HS HT]
  · isplitl [HT]; · iexact HT
    isplitl [H] <;> iassumption
  iintro HF
  iapply K
  isplitl [HF] <;> iassumption

theorem waitX {fx : S16x24x1536.Idx → Elt F .bf16} (s : Fin 2) (e : Fin 16) {oS : Fin 1 → ℕ} {oD oE : Fin 3 → ℕ} {iS iD iE hsrc hdst}
    {k : PUnit → Prog (TpuEff nD τ sig (Elt F) Λ₀ .tc) α} (hS : oS = ![s.val]) (hD : oD = ![s.val, 0, 0]) :
    Xin c fx s e ∗ OW c ⊢ iprop((∀ f : S2x24x1536.Idx → Elt F .bf16, ⌜(xW s).view.read (Elt F) f = (xE e).view.read (Elt F) fx⌝ -∗ PW c (xW s) fullShare f -∗ Sem0 c (xsem s) -∗ (A1.view.loc (c : Thread nD τ) ↦{qx s} fx) -∗ OW c -∗ W c (k ⟨⟩) Q)
      -∗ W c (Prog.lift (.waitDma2 (((cc0_scratch8 : DmaSems sig S2).slice (Rect.unit (s := S2) oS S1.size iS)).squeeze S_ squeezes_S1_S_).sem
      ((A1.slice (Rect.unit (s := S16x24x1536) oE S1x24x1536.size iE) (fun _ => rfl)).squeeze S24x1536 squeezes_S1x24x1536_S24x1536)
      ((A6.slice (Rect.unit (s := S2x24x1536) oD S1x24x1536.size iD) (fun _ => rfl)).squeeze S24x1536 squeezes_S1x24x1536_S24x1536) hsrc hdst) >>= k) Q) := by
  subst hS hD
  unfold Xin Fl Dl
  iintro ⟨⟨HF, HR⟩, HO⟩ K
  iapply (W_wait c (N := (xW s).view.dmaCredit) rfl) $$ [HF HO]
  · isplitl [HF] <;> iassumption
  iintro ⟨⟨⟨%f, H, %hf⟩, HE⟩, HS, HO⟩
  ihave HT := HR $$ HE
  ispecialize K $$ %f %hf H HS HT HO
  iexact K

/-- The slot of weight scales at rest. -/
def Sfree (fx : S16x56x12.Idx → Elt F .f32) (s : Fin 2) : sProp (MT nD τ sig Unit (Elt F) ℕ UU ℕ) :=
  iprop((∃ f : S2x56x12.Idx → Elt F .f32, PW c (sW s) fullShare f) ∗ Sem0 c (ssem s) ∗ (A3.view.loc (c : Thread nD τ) ↦{qx s} fx))
/-- The slot of weight scales with the copy for expert `e` in flight. -/
def Sin (fx : S16x56x12.Idx → Elt F .f32) (s : Fin 2) (e : Fin 16) : sProp (MT nD τ sig Unit (Elt F) ℕ UU ℕ) :=
  iprop(Fl c (ssem s) (sE e) (sW s) (qx s) fx ∗ (PW c (sE e) (qx s) fx -∗ (A3.view.loc (c : Thread nD τ) ↦{qx s} fx)))

theorem startS {fx : S16x56x12.Idx → Elt F .f32} (s : Fin 2) (e : Fin 16) {oS : Fin 1 → ℕ} {oD oE : Fin 3 → ℕ} {iS iD iE hsrc hdst hsem}
    {k : PUnit → Prog (TpuEff nD τ sig (Elt F) Λ₀ .tc) α} (hS : oS = ![s.val]) (hD : oD = ![s.val, 0, 0]) (hE : oE = ![e.val, 0, 0]) :
    Sfree c fx s ⊢ iprop((Sin c fx s e -∗ W c (k ⟨⟩) Q) -∗ W c (Prog.lift (.enqueueDma ((A3.slice (Rect.unit (s := S16x56x12) oE S1x56x12.size iE) (fun _ => rfl)).squeeze S56x12 squeezes_S1x56x12_S56x12)
      (.here ((A7.slice (Rect.unit (s := S2x56x12) oD S1x56x12.size iD) (fun _ => rfl)).squeeze S56x12 squeezes_S1x56x12_S56x12))
      (.dma (((cc0_scratch9 : DmaSems sig S2).slice (Rect.unit (s := S2) oS S1.size iS)).squeeze S_ squeezes_S1_S_).sem) hsrc hdst hsem) >>= k) Q) := by
  subst hS hD hE
  unfold Sfree Sin
  iintro ⟨⟨%f, H⟩, HS, HT⟩ K
  ihave HT := (acc_win c A3 (Rect.unit (s := S16x56x12) ![e.val, 0, 0] S1x56x12.size iE) (fun _ => rfl) squeezes_S1x56x12_S56x12 (qx s) fx) $$ HT
  icases HT with ⟨HT, HR⟩
  iapply (W_start c (src := sE e) (dst := sW s) (d := ssem s) (fs := fx) (fd := f) (q := qx s) (k := k) (Q := Q) (pos_s s)) $$ [H HS HT]
  · isplitl [HT]; · iexact HT
    isplitl [H] <;> iassumption
  iintro HF
  iapply K
  isplitl [HF] <;> iassumption

theorem waitS {fx : S16x56x12.Idx → Elt F .f32} (s : Fin 2) (e : Fin 16) {oS : Fin 1 → ℕ} {oD oE : Fin 3 → ℕ} {iS iD iE hsrc hdst}
    {k : PUnit → Prog (TpuEff nD τ sig (Elt F) Λ₀ .tc) α} (hS : oS = ![s.val]) (hD : oD = ![s.val, 0, 0]) :
    Sin c fx s e ∗ OW c ⊢ iprop((∀ f : S2x56x12.Idx → Elt F .f32, ⌜(sW s).view.read (Elt F) f = (sE e).view.read (Elt F) fx⌝ -∗ PW c (sW s) fullShare f -∗ Sem0 c (ssem s) -∗ (A3.view.loc (c : Thread nD τ) ↦{qx s} fx) -∗ OW c -∗ W c (k ⟨⟩) Q)
      -∗ W c (Prog.lift (.waitDma2 (((cc0_scratch9 : DmaSems sig S2).slice (Rect.unit (s := S2) oS S1.size iS)).squeeze S_ squeezes_S1_S_).sem
      ((A3.slice (Rect.unit (s := S16x56x12) oE S1x56x12.size iE) (fun _ => rfl)).squeeze S56x12 squeezes_S1x56x12_S56x12)
      ((A7.slice (Rect.unit (s := S2x56x12) oD S1x56x12.size iD) (fun _ => rfl)).squeeze S56x12 squeezes_S1x56x12_S56x12) hsrc hdst) >>= k) Q) := by
  subst hS hD
  unfold Sin Fl Dl
  iintro ⟨⟨HF, HR⟩, HO⟩ K
  iapply (W_wait c (N := (sW s).view.dmaCredit) rfl) $$ [HF HO]
  · isplitl [HF] <;> iassumption
  iintro ⟨⟨⟨%f, H, %hf⟩, HE⟩, HS, HO⟩
  ihave HT := HR $$ HE
  ispecialize K $$ %f %hf H HS HT HO
  iexact K

/-- The slot of weights at rest. -/
def Gfree (fx : S16x7168x1536.Idx → Elt F .fp8e4m3) (s : Fin 2) (q : Fin 7) : sProp (MT nD τ sig Unit (Elt F) ℕ UU ℕ) :=
  iprop((∃ f : S2x7168x1536.Idx → Elt F .fp8e4m3, PW c (wW s q) fullShare f) ∗ Sem0 c (wsem s q) ∗ (A2.view.loc (c : Thread nD τ) ↦{qw s q} fx))
/-- The slot of weights with the copy for expert `e` in flight. -/
def Gin (fx : S16x7168x1536.Idx → Elt F .fp8e4m3) (s : Fin 2) (q : Fin 7) (e : Fin 16) : sProp (MT nD τ sig Unit (Elt F) ℕ UU ℕ) :=
  iprop(Fl c (wsem s q) (wE e q) (wW s q) (qw s q) fx ∗ (PW c (wE e q) (qw s q) fx -∗ (A2.view.loc (c : Thread nD τ) ↦{qw s q} fx)))

theorem startG {fx : S16x7168x1536.Idx → Elt F .fp8e4m3} (s : Fin 2) (q : Fin 7) (e : Fin 16) {oS : Fin 2 → ℕ} {oD oE : Fin 3 → ℕ} {iS iD iE hsrc hdst hsem}
    {k : PUnit → Prog (TpuEff nD τ sig (Elt F) Λ₀ .tc) α} (hS : oS = ![s.val, q.val]) (hD : oD = ![s.val, 1024 * q.val, 0]) (hE : oE = ![e.val, 1024 * q.val, 0]) :
    Gfree c fx s q ⊢ iprop((Gin c fx s q e -∗ W c (k ⟨⟩) Q) -∗ W c (Prog.lift (.enqueueDma ((A2.slice (Rect.unit (s := S16x7168x1536) oE S1x1024x1536.size iE) (fun _ => rfl)).squeeze S1024x1536 squeezes_S1x1024x1536_S1024x1536)
      (.here ((A8.slice (Rect.unit (s := S2x7168x1536) oD S1x1024x1536.size iD) (fun _ => rfl)).squeeze S1024x1536 squeezes_S1x1024x1536_S1024x1536))
      (.dma (((cc0_scratch10 : DmaSems sig S2x7).slice (Rect.unit (s := S2x7) oS S1x1.size iS)).squeeze S_ squeezes_S1x1_S_).sem) hsrc hdst hsem) >>= k) Q) := by
  subst hS hD hE
  unfold Gfree Gin
  iintro ⟨⟨%f, H⟩, HS, HT⟩ K
  ihave HT := (acc_win c A2 (Rect.unit (s := S16x7168x1536) ![e.val, 1024 * q.val, 0] S1x1024x1536.size iE) (fun _ => rfl) squeezes_S1x1024x1536_S1024x1536 (qw s q) fx) $$ HT
  icases HT with ⟨HT, HR⟩
  iapply (W_start c (src := wE e q) (dst := wW s q) (d := wsem s q) (fs := fx) (fd := f) (q := qw s q) (k := k) (Q := Q) (pos_w s q)) $$ [H HS HT]
  · isplitl [HT]; · iexact HT
    isplitl [H] <;> iassumption
  iintro HF
  iapply K
  isplitl [HF] <;> iassumption

theorem waitG {fx : S16x7168x1536.Idx → Elt F .fp8e4m3} (s : Fin 2) (q : Fin 7) (e : Fin 16) {oS : Fin 2 → ℕ} {oD oE : Fin 3 → ℕ} {iS iD iE hsrc hdst}
    {k : PUnit → Prog (TpuEff nD τ sig (Elt F) Λ₀ .tc) α} (hS : oS = ![s.val, q.val]) (hD : oD = ![s.val, 1024 * q.val, 0]) :
    Gin c fx s q e ∗ OW c ⊢ iprop((∀ f : S2x7168x1536.Idx → Elt F .fp8e4m3, ⌜(wW s q).view.read (Elt F) f = (wE e q).view.read (Elt F) fx⌝ -∗ PW c (wW s q) fullShare f -∗ Sem0 c (wsem s q) -∗ (A2.view.loc (c : Thread nD τ) ↦{qw s q} fx) -∗ OW c -∗ W c (k ⟨⟩) Q)
      -∗ W c (Prog.lift (.waitDma2 (((cc0_scratch10 : DmaSems sig S2x7).slice (Rect.unit (s := S2x7) oS S1x1.size iS)).squeeze S_ squeezes_S1x1_S_).sem
      ((A2.slice (Rect.unit (s := S16x7168x1536) oE S1x1024x1536.size iE) (fun _ => rfl)).squeeze S1024x1536 squeezes_S1x1024x1536_S1024x1536)
      ((A8.slice (Rect.unit (s := S2x7168x1536) oD S1x1024x1536.size iD) (fun _ => rfl)).squeeze S1024x1536 squeezes_S1x1024x1536_S1024x1536) hsrc hdst) >>= k) Q) := by
  subst hS hD
  unfold Gin Fl Dl
  iintro ⟨⟨HF, HR⟩, HO⟩ K
  iapply (W_wait c (N := (wW s q).view.dmaCredit) rfl) $$ [HF HO]
  · isplitl [HF] <;> iassumption
  iintro ⟨⟨⟨%f, H, %hf⟩, HE⟩, HS, HO⟩
  ihave HT := HR $$ HE
  ispecialize K $$ %f %hf H HS HT HO
  iexact K

/-- The slot of results at rest. -/
def Ofree (s : Fin 2) : sProp (MT nD τ sig Unit (Elt F) ℕ UU ℕ) :=
  iprop((∃ f : S2x24x7168.Idx → Elt F .bf16, PW c (oW s) fullShare f) ∗ Sem0 c (osem s))
/-- The result rows of expert `e`, whatever they hold. -/
def Row (e : Fin 16) : sProp (MT nD τ sig Unit (Elt F) ℕ UU ℕ) := iprop(∃ g : S16x24x7168.Idx → Elt F .bf16, PW c (oE e) fullShare g)
/-- The result rows of expert `e`, reading `v`. -/
def RowV (v : S24x7168.Idx → Elt F .bf16) (e : Fin 16) : sProp (MT nD τ sig Unit (Elt F) ℕ UU ℕ) := iprop(∃ g : S16x24x7168.Idx → Elt F .bf16, PW c (oE e) fullShare g ∗ ⌜(oE e).view.read (Elt F) g = v⌝)
/-- The slot of results with the copy out to expert `e` in flight. -/
def Oin (v : S24x7168.Idx → Elt F .bf16) (s : Fin 2) (e : Fin 16) : sProp (MT nD τ sig Unit (Elt F) ℕ UU ℕ) :=
  iprop(∃ f : S2x24x7168.Idx → Elt F .bf16, ⌜(oW s).view.read (Elt F) f = v⌝ ∗ Fl c (osem s) (oW s) (oE e) fullShare f)

theorem startO (s : Fin 2) (e : Fin 16) {v : S24x7168.Idx → Elt F .bf16} {f : S2x24x7168.Idx → Elt F .bf16} {oS : Fin 1 → ℕ} {oD oE' : Fin 3 → ℕ} {iS iD iE hsrc hdst hsem}
    {k : PUnit → Prog (TpuEff nD τ sig (Elt F) Λ₀ .tc) α} (hS : oS = ![s.val]) (hD : oD = ![s.val, 0, 0]) (hE : oE' = ![e.val, 0, 0]) (hv : (oW s).view.read (Elt F) f = v) :
    iprop(PW c (oW s) fullShare f ∗ Sem0 c (osem s) ∗ Row c e) ⊢ iprop((Oin c v s e -∗ W c (k ⟨⟩) Q) -∗ W c (Prog.lift (.enqueueDma
      ((A11.slice (Rect.unit (s := S2x24x7168) oD S1x24x7168.size iD) (fun _ => rfl)).squeeze S24x7168 squeezes_S1x24x7168_S24x7168)
      (.here ((A4.slice (Rect.unit (s := S16x24x7168) oE' S1x24x7168.size iE) (fun _ => rfl)).squeeze S24x7168 squeezes_S1x24x7168_S24x7168))
      (.dma (((cc0_scratch11 : DmaSems sig S2).slice (Rect.unit (s := S2) oS S1.size iS)).squeeze S_ squeezes_S1_S_).sem) hsrc hdst hsem) >>= k) Q) := by
  subst hS hD hE
  unfold Row Oin
  iintro ⟨H, HS, ⟨%g, HT⟩⟩ K
  iapply (W_start c (src := oW s) (dst := oE e) (d := osem s) (fs := f) (fd := g) (q := fullShare) (k := k) (Q := Q) (pos_o e)) $$ [H HS HT]
  · isplitl [H]; · iexact H
    isplitl [HT] <;> iassumption
  iintro HF
  iapply K
  iexists f
  isplitr
  · ipureintro; exact hv
  iexact HF

theorem waitO (s : Fin 2) (e : Fin 16) {v : S24x7168.Idx → Elt F .bf16} {oS : Fin 1 → ℕ} {oD oE' : Fin 3 → ℕ} {iS iD iE hsrc hdst}
    {k : PUnit → Prog (TpuEff nD τ sig (Elt F) Λ₀ .tc) α} (hS : oS = ![s.val]) :
    Oin c v s e ∗ OW c ⊢ iprop((Ofree c s -∗ RowV c v e -∗ OW c -∗ W c (k ⟨⟩) Q) -∗ W c (Prog.lift (.waitDma2 (((cc0_scratch11 : DmaSems sig S2).slice (Rect.unit (s := S2) oS S1.size iS)).squeeze S_ squeezes_S1_S_).sem
      ((A11.slice (Rect.unit (s := S2x24x7168) oD S1x24x7168.size iD) (fun _ => rfl)).squeeze S24x7168 squeezes_S1x24x7168_S24x7168)
      ((A4.slice (Rect.unit (s := S16x24x7168) oE' S1x24x7168.size iE) (fun _ => rfl)).squeeze S24x7168 squeezes_S1x24x7168_S24x7168) hsrc hdst) >>= k) Q) := by
  subst hS
  unfold Oin Fl Dl Ofree RowV
  iintro ⟨⟨%f, %hv, HF⟩, HO⟩ K
  iapply (W_wait c (dstw := (A4.slice (Rect.unit (s := S16x24x7168) oE' S1x24x7168.size iE) (fun _ => rfl)).squeeze S24x7168 squeezes_S1x24x7168_S24x7168) (N := (oE e).view.dmaCredit) rfl) $$ [HF HO]
  · isplitl [HF] <;> iassumption
  iintro ⟨⟨⟨%g, H, %hf⟩, HE⟩, HS, HO⟩
  ispecialize K $$ [HE HS]
  · isplitl [HE]
    · iexists f; iexact HE
    iexact HS
  ispecialize K $$ [H]
  · iexists g
    isplitl [H]; · iexact H
    ipureintro
    exact hf.trans hv
  ispecialize K $$ HO
  iexact K

end slots

end Cert.Proof.Kernel
end
end
-- ==== Proof.Kernel.Words.lean ====
module

public import proofs.«01_k».proof.Proof.Kernel.Base
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Transfers
public import Idealize.ShloMosaic.Lib.Batch
public import Idealize.ShloMosaic.Adequacy
public import Idealize.ShloMosaic.Init

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

/-- The word counting the active experts, as the kernel adds it up. -/
def NW (v0 v6 v12 v18 v24 v30 v36 v42 v48 v54 v60 v66 v72 v78 v84 v90 : BitVec 32) : BitVec 32 :=
  Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (0#32) (Scalar.extui (Scalar.cmpi .sgt v0 0#32))) (Scalar.extui (Scalar.cmpi .sgt v6 0#32))) (Scalar.extui (Scalar.cmpi .sgt v12 0#32))) (Scalar.extui (Scalar.cmpi .sgt v18 0#32))) (Scalar.extui (Scalar.cmpi .sgt v24 0#32))) (Scalar.extui (Scalar.cmpi .sgt v30 0#32))) (Scalar.extui (Scalar.cmpi .sgt v36 0#32))) (Scalar.extui (Scalar.cmpi .sgt v42 0#32))) (Scalar.extui (Scalar.cmpi .sgt v48 0#32))) (Scalar.extui (Scalar.cmpi .sgt v54 0#32))) (Scalar.extui (Scalar.cmpi .sgt v60 0#32))) (Scalar.extui (Scalar.cmpi .sgt v66 0#32))) (Scalar.extui (Scalar.cmpi .sgt v72 0#32))) (Scalar.extui (Scalar.cmpi .sgt v78 0#32))) (Scalar.extui (Scalar.cmpi .sgt v84 0#32))) (Scalar.extui (Scalar.cmpi .sgt v90 0#32))

/-- Position of a trip in the tables of sixteen words. -/
def p16 (k : ℕ) : Fin 16 := ⟨k % 16, Nat.mod_lt _ (by decide)⟩
/-- The slot a trip works in. -/
def sl (k : ℕ) : Fin 2 := ⟨k % 2, Nat.mod_lt _ (by decide)⟩

theorem sl_succ2 (k : ℕ) : sl (k + 2) = sl k := Fin.ext (by simp [sl])

private theorem all16 {P : ℕ → Prop} (h : ∀ k : Fin 16, P k.val) (k : ℕ) (hk : k < 16) : P k := h ⟨k, hk⟩
theorem ik (k : ℕ) (hk : k < 16) : (Scalar.indexCast (Scf.iv 0#32 1#32 k)).toNat = (p16 k).val := all16 (P := fun k => (Scalar.indexCast (Scf.iv 0#32 1#32 k)).toNat = (p16 k).val) (by decide) k hk
theorem isl (k : ℕ) (hk : k < 16) : (Scalar.indexCast (Scalar.remsi (Scf.iv 0#32 1#32 k) 2#32)).toNat = (sl k).val := all16 (P := fun k => (Scalar.indexCast (Scalar.remsi (Scf.iv 0#32 1#32 k) 2#32)).toNat = (sl k).val) (by decide) k hk
theorem wsl (k : ℕ) (hk : k < 16) : (Scalar.remsi (Scf.iv 0#32 1#32 k) 2#32).toNat = (sl k).val := all16 (P := fun k => (Scalar.remsi (Scf.iv 0#32 1#32 k) 2#32).toNat = (sl k).val) (by decide) k hk
theorem ip2 (k : ℕ) (hk : k + 2 < 16) : (Scalar.indexCast (Scalar.addi (Scf.iv 0#32 1#32 k) 2#32)).toNat = (p16 (k + 2)).val := all16 (P := fun k => k + 2 < 16 → (Scalar.indexCast (Scalar.addi (Scf.iv 0#32 1#32 k) 2#32)).toNat = (p16 (k + 2)).val) (by decide) k (by omega) hk
theorem im2 (k : ℕ) (hk : k < 16) (h : 2 ≤ k) : (Scalar.indexCast (Scalar.subi (Scf.iv 0#32 1#32 k) 2#32)).toNat = (p16 (k - 2)).val := all16 (P := fun k => 2 ≤ k → (Scalar.indexCast (Scalar.subi (Scf.iv 0#32 1#32 k) 2#32)).toNat = (p16 (k - 2)).val) (by decide) k hk h
theorem ge2 (k : ℕ) (hk : k < 16) : (Scalar.cmpi .ne (Scalar.extui (Scalar.cmpi .sge (Scf.iv 0#32 1#32 k) 2#32) : BitVec 32) 0#32 = 1#1) ↔ 2 ≤ k := all16 (P := fun k => (Scalar.cmpi .ne (Scalar.extui (Scalar.cmpi .sge (Scf.iv 0#32 1#32 k) 2#32) : BitVec 32) 0#32 = 1#1) ↔ 2 ≤ k) (by decide) k hk
theorem lt2 (k n : ℕ) (hk : k < 16) (hn : n ≤ 16) : (Scalar.cmpi .ne (Scalar.extui (Scalar.cmpi .slt (Scalar.addi (Scf.iv 0#32 1#32 k) 2#32) (BitVec.ofNat 32 n)) : BitVec 32) 0#32 = 1#1) ↔ k + 2 < n :=
  all16 (P := fun k => ∀ n : Fin 17, (Scalar.cmpi .ne (Scalar.extui (Scalar.cmpi .slt (Scalar.addi (Scf.iv 0#32 1#32 k) 2#32) (BitVec.ofNat 32 n.val)) : BitVec 32) 0#32 = 1#1) ↔ k + 2 < n.val) (by decide) k hk ⟨n, by omega⟩

section trip
variable {v0 v6 v12 v18 v24 v30 v36 v42 v48 v54 v60 v66 v72 v78 v84 v90 : BitVec 32} (k : Fin (k0_t1_loop v0 v6 v12 v18 v24 v30 v36 v42 v48 v54 v60 v66 v72 v78 v84 v90).trips)

theorem off34 (hk : k.val < 16) : k0_off34 v0 v6 v12 v18 v24 v30 v36 v42 v48 v54 v60 v66 v72 v78 v84 v90 k = ![(p16 k.val).val] := congrArg (fun x : ℕ => (![x] : Fin 1 → ℕ)) (ik _ hk)
theorem off36 (hk : k.val < 16) : k0_off36 v0 v6 v12 v18 v24 v30 v36 v42 v48 v54 v60 v66 v72 v78 v84 v90 k = ![(p16 k.val).val] := congrArg (fun x : ℕ => (![x] : Fin 1 → ℕ)) (ik _ hk)
theorem off37 (hk : k.val < 16) : k0_off37 v0 v6 v12 v18 v24 v30 v36 v42 v48 v54 v60 v66 v72 v78 v84 v90 k = ![(sl k.val).val] := congrArg (fun x : ℕ => (![x] : Fin 1 → ℕ)) (wsl _ hk)
theorem off38 (hk : k.val < 16) : k0_off38 v0 v6 v12 v18 v24 v30 v36 v42 v48 v54 v60 v66 v72 v78 v84 v90 k = ![(sl k.val).val, 0, 0] := congrArg (fun x : ℕ => (![x, 0, 0] : Fin 3 → ℕ)) (wsl _ hk)
theorem off40 (hk : k.val < 16) : k0_off40 v0 v6 v12 v18 v24 v30 v36 v42 v48 v54 v60 v66 v72 v78 v84 v90 k = ![(p16 k.val).val] := congrArg (fun x : ℕ => (![x] : Fin 1 → ℕ)) (ik _ hk)
theorem off41 (hk : k.val < 16) : k0_off41 v0 v6 v12 v18 v24 v30 v36 v42 v48 v54 v60 v66 v72 v78 v84 v90 k = ![(sl k.val).val] := congrArg (fun x : ℕ => (![x] : Fin 1 → ℕ)) (wsl _ hk)
theorem off42 (hk : k.val < 16) : k0_off42 v0 v6 v12 v18 v24 v30 v36 v42 v48 v54 v60 v66 v72 v78 v84 v90 k = ![(sl k.val).val, 0, 0] := congrArg (fun x : ℕ => (![x, 0, 0] : Fin 3 → ℕ)) (wsl _ hk)
theorem off44 (hk : k.val < 16) : k0_off44 v0 v6 v12 v18 v24 v30 v36 v42 v48 v54 v60 v66 v72 v78 v84 v90 k = ![(sl k.val).val, 0, 0] := congrArg (fun x : ℕ => (![x, 0, 0] : Fin 3 → ℕ)) (isl _ hk)
theorem off45 (hk : k.val < 16) : k0_off45 v0 v6 v12 v18 v24 v30 v36 v42 v48 v54 v60 v66 v72 v78 v84 v90 k = ![(sl k.val).val, 0, 0] := congrArg (fun x : ℕ => (![x, 0, 0] : Fin 3 → ℕ)) (isl _ hk)
theorem off46 (hk : k.val < 16) : k0_off46 v0 v6 v12 v18 v24 v30 v36 v42 v48 v54 v60 v66 v72 v78 v84 v90 k = ![(sl k.val).val, 0, 128] := congrArg (fun x : ℕ => (![x, 0, 128] : Fin 3 → ℕ)) (isl _ hk)
theorem off47 (hk : k.val < 16) : k0_off47 v0 v6 v12 v18 v24 v30 v36 v42 v48 v54 v60 v66 v72 v78 v84 v90 k = ![(sl k.val).val, 0, 256] := congrArg (fun x : ℕ => (![x, 0, 256] : Fin 3 → ℕ)) (isl _ hk)
theorem off48 (hk : k.val < 16) : k0_off48 v0 v6 v12 v18 v24 v30 v36 v42 v48 v54 v60 v66 v72 v78 v84 v90 k = ![(sl k.val).val, 0, 384] := congrArg (fun x : ℕ => (![x, 0, 384] : Fin 3 → ℕ)) (isl _ hk)
theorem off49 (hk : k.val < 16) : k0_off49 v0 v6 v12 v18 v24 v30 v36 v42 v48 v54 v60 v66 v72 v78 v84 v90 k = ![(sl k.val).val, 0, 512] := congrArg (fun x : ℕ => (![x, 0, 512] : Fin 3 → ℕ)) (isl _ hk)
theorem off50 (hk : k.val < 16) : k0_off50 v0 v6 v12 v18 v24 v30 v36 v42 v48 v54 v60 v66 v72 v78 v84 v90 k = ![(sl k.val).val, 0, 640] := congrArg (fun x : ℕ => (![x, 0, 640] : Fin 3 → ℕ)) (isl _ hk)
theorem off51 (hk : k.val < 16) : k0_off51 v0 v6 v12 v18 v24 v30 v36 v42 v48 v54 v60 v66 v72 v78 v84 v90 k = ![(sl k.val).val, 0, 768] := congrArg (fun x : ℕ => (![x, 0, 768] : Fin 3 → ℕ)) (isl _ hk)
theorem off52 (hk : k.val < 16) : k0_off52 v0 v6 v12 v18 v24 v30 v36 v42 v48 v54 v60 v66 v72 v78 v84 v90 k = ![(sl k.val).val, 0, 896] := congrArg (fun x : ℕ => (![x, 0, 896] : Fin 3 → ℕ)) (isl _ hk)
theorem off53 (hk : k.val < 16) : k0_off53 v0 v6 v12 v18 v24 v30 v36 v42 v48 v54 v60 v66 v72 v78 v84 v90 k = ![(sl k.val).val, 0, 1024] := congrArg (fun x : ℕ => (![x, 0, 1024] : Fin 3 → ℕ)) (isl _ hk)
theorem off54 (hk : k.val < 16) : k0_off54 v0 v6 v12 v18 v24 v30 v36 v42 v48 v54 v60 v66 v72 v78 v84 v90 k = ![(sl k.val).val, 0, 1152] := congrArg (fun x : ℕ => (![x, 0, 1152] : Fin 3 → ℕ)) (isl _ hk)
theorem off55 (hk : k.val < 16) : k0_off55 v0 v6 v12 v18 v24 v30 v36 v42 v48 v54 v60 v66 v72 v78 v84 v90 k = ![(sl k.val).val, 0, 1280] := congrArg (fun x : ℕ => (![x, 0, 1280] : Fin 3 → ℕ)) (isl _ hk)
theorem off56 (hk : k.val < 16) : k0_off56 v0 v6 v12 v18 v24 v30 v36 v42 v48 v54 v60 v66 v72 v78 v84 v90 k = ![(sl k.val).val, 0, 1408] := congrArg (fun x : ℕ => (![x, 0, 1408] : Fin 3 → ℕ)) (isl _ hk)
theorem off57 (hk : k.val < 16) (h2 : 2 ≤ k.val) : k0_off57 v0 v6 v12 v18 v24 v30 v36 v42 v48 v54 v60 v66 v72 v78 v84 v90 k = ![(p16 (k.val - 2)).val] := congrArg (fun x : ℕ => (![x] : Fin 1 → ℕ)) (im2 _ hk h2)
theorem off58 (hk : k.val < 16) : k0_off58 v0 v6 v12 v18 v24 v30 v36 v42 v48 v54 v60 v66 v72 v78 v84 v90 k = ![(sl k.val).val] := congrArg (fun x : ℕ => (![x] : Fin 1 → ℕ)) (wsl _ hk)
theorem off60 (hk : k.val < 16) : k0_off60 v0 v6 v12 v18 v24 v30 v36 v42 v48 v54 v60 v66 v72 v78 v84 v90 k = ![(sl k.val).val, 0, 0] := congrArg (fun x : ℕ => (![x, 0, 0] : Fin 3 → ℕ)) (wsl _ hk)
theorem off61 (hk : k.val + 2 < 16) : k0_off61 v0 v6 v12 v18 v24 v30 v36 v42 v48 v54 v60 v66 v72 v78 v84 v90 k = ![(p16 (k.val + 2)).val] := congrArg (fun x : ℕ => (![x] : Fin 1 → ℕ)) (ip2 _ hk)
theorem off62 (hk : k.val < 16) : k0_off62 v0 v6 v12 v18 v24 v30 v36 v42 v48 v54 v60 v66 v72 v78 v84 v90 k = ![(sl k.val).val] := congrArg (fun x : ℕ => (![x] : Fin 1 → ℕ)) (wsl _ hk)
theorem off63 (hk : k.val < 16) : k0_off63 v0 v6 v12 v18 v24 v30 v36 v42 v48 v54 v60 v66 v72 v78 v84 v90 k = ![(sl k.val).val, 0, 0] := congrArg (fun x : ℕ => (![x, 0, 0] : Fin 3 → ℕ)) (wsl _ hk)
theorem off65 (hk : k.val + 2 < 16) : k0_off65 v0 v6 v12 v18 v24 v30 v36 v42 v48 v54 v60 v66 v72 v78 v84 v90 k = ![(p16 (k.val + 2)).val] := congrArg (fun x : ℕ => (![x] : Fin 1 → ℕ)) (ip2 _ hk)
theorem off66 (hk : k.val < 16) : k0_off66 v0 v6 v12 v18 v24 v30 v36 v42 v48 v54 v60 v66 v72 v78 v84 v90 k = ![(sl k.val).val] := congrArg (fun x : ℕ => (![x] : Fin 1 → ℕ)) (wsl _ hk)
theorem off67 (hk : k.val < 16) : k0_off67 v0 v6 v12 v18 v24 v30 v36 v42 v48 v54 v60 v66 v72 v78 v84 v90 k = ![(sl k.val).val, 0, 0] := congrArg (fun x : ℕ => (![x, 0, 0] : Fin 3 → ℕ)) (wsl _ hk)
theorem off69 (hk : k.val < 16) : k0_off69 v0 v6 v12 v18 v24 v30 v36 v42 v48 v54 v60 v66 v72 v78 v84 v90 k = ![(p16 k.val).val] := congrArg (fun x : ℕ => (![x] : Fin 1 → ℕ)) (ik _ hk)
theorem off70 (hk : k.val < 16) : k0_off70 v0 v6 v12 v18 v24 v30 v36 v42 v48 v54 v60 v66 v72 v78 v84 v90 k = ![(sl k.val).val, 0] := congrArg (fun x : ℕ => (![x, 0] : Fin 2 → ℕ)) (wsl _ hk)
theorem off71 (hk : k.val < 16) : k0_off71 v0 v6 v12 v18 v24 v30 v36 v42 v48 v54 v60 v66 v72 v78 v84 v90 k = ![(sl k.val).val, 0, 0] := congrArg (fun x : ℕ => (![x, 0, 0] : Fin 3 → ℕ)) (wsl _ hk)
theorem off73 (hk : k.val < 16) : k0_off73 v0 v6 v12 v18 v24 v30 v36 v42 v48 v54 v60 v66 v72 v78 v84 v90 k = ![(sl k.val).val, 0, 0] := congrArg (fun x : ℕ => (![x, 0, 0] : Fin 3 → ℕ)) (isl _ hk)
theorem off74 (hk : k.val < 16) : k0_off74 v0 v6 v12 v18 v24 v30 v36 v42 v48 v54 v60 v66 v72 v78 v84 v90 k = ![(sl k.val).val, 0, 0] := congrArg (fun x : ℕ => (![x, 0, 0] : Fin 3 → ℕ)) (isl _ hk)
theorem off75 (hk : k.val < 16) : k0_off75 v0 v6 v12 v18 v24 v30 v36 v42 v48 v54 v60 v66 v72 v78 v84 v90 k = ![(sl k.val).val, 0, 128] := congrArg (fun x : ℕ => (![x, 0, 128] : Fin 3 → ℕ)) (isl _ hk)
theorem off76 (hk : k.val < 16) : k0_off76 v0 v6 v12 v18 v24 v30 v36 v42 v48 v54 v60 v66 v72 v78 v84 v90 k = ![(sl k.val).val, 256, 0] := congrArg (fun x : ℕ => (![x, 256, 0] : Fin 3 → ℕ)) (isl _ hk)
theorem off77 (hk : k.val < 16) : k0_off77 v0 v6 v12 v18 v24 v30 v36 v42 v48 v54 v60 v66 v72 v78 v84 v90 k = ![(sl k.val).val, 0, 256] := congrArg (fun x : ℕ => (![x, 0, 256] : Fin 3 → ℕ)) (isl _ hk)
theorem off78 (hk : k.val < 16) : k0_off78 v0 v6 v12 v18 v24 v30 v36 v42 v48 v54 v60 v66 v72 v78 v84 v90 k = ![(sl k.val).val, 0, 384] := congrArg (fun x : ℕ => (![x, 0, 384] : Fin 3 → ℕ)) (isl _ hk)
theorem off79 (hk : k.val < 16) : k0_off79 v0 v6 v12 v18 v24 v30 v36 v42 v48 v54 v60 v66 v72 v78 v84 v90 k = ![(sl k.val).val, 512, 0] := congrArg (fun x : ℕ => (![x, 512, 0] : Fin 3 → ℕ)) (isl _ hk)
theorem off80 (hk : k.val < 16) : k0_off80 v0 v6 v12 v18 v24 v30 v36 v42 v48 v54 v60 v66 v72 v78 v84 v90 k = ![(sl k.val).val, 0, 512] := congrArg (fun x : ℕ => (![x, 0, 512] : Fin 3 → ℕ)) (isl _ hk)
theorem off81 (hk : k.val < 16) : k0_off81 v0 v6 v12 v18 v24 v30 v36 v42 v48 v54 v60 v66 v72 v78 v84 v90 k = ![(sl k.val).val, 0, 640] := congrArg (fun x : ℕ => (![x, 0, 640] : Fin 3 → ℕ)) (isl _ hk)
theorem off82 (hk : k.val < 16) : k0_off82 v0 v6 v12 v18 v24 v30 v36 v42 v48 v54 v60 v66 v72 v78 v84 v90 k = ![(sl k.val).val, 768, 0] := congrArg (fun x : ℕ => (![x, 768, 0] : Fin 3 → ℕ)) (isl _ hk)
theorem off83 (hk : k.val < 16) : k0_off83 v0 v6 v12 v18 v24 v30 v36 v42 v48 v54 v60 v66 v72 v78 v84 v90 k = ![(sl k.val).val, 0, 768] := congrArg (fun x : ℕ => (![x, 0, 768] : Fin 3 → ℕ)) (isl _ hk)
theorem off84 (hk : k.val < 16) : k0_off84 v0 v6 v12 v18 v24 v30 v36 v42 v48 v54 v60 v66 v72 v78 v84 v90 k = ![(sl k.val).val, 0, 896] := congrArg (fun x : ℕ => (![x, 0, 896] : Fin 3 → ℕ)) (isl _ hk)
theorem off85 (hk : k.val + 2 < 16) : k0_off85 v0 v6 v12 v18 v24 v30 v36 v42 v48 v54 v60 v66 v72 v78 v84 v90 k = ![(p16 (k.val + 2)).val] := congrArg (fun x : ℕ => (![x] : Fin 1 → ℕ)) (ip2 _ hk)
theorem off86 (hk : k.val < 16) : k0_off86 v0 v6 v12 v18 v24 v30 v36 v42 v48 v54 v60 v66 v72 v78 v84 v90 k = ![(sl k.val).val, 0] := congrArg (fun x : ℕ => (![x, 0] : Fin 2 → ℕ)) (wsl _ hk)
theorem off87 (hk : k.val < 16) : k0_off87 v0 v6 v12 v18 v24 v30 v36 v42 v48 v54 v60 v66 v72 v78 v84 v90 k = ![(sl k.val).val, 0, 0] := congrArg (fun x : ℕ => (![x, 0, 0] : Fin 3 → ℕ)) (wsl _ hk)
theorem off89 (hk : k.val < 16) : k0_off89 v0 v6 v12 v18 v24 v30 v36 v42 v48 v54 v60 v66 v72 v78 v84 v90 k = ![(p16 k.val).val] := congrArg (fun x : ℕ => (![x] : Fin 1 → ℕ)) (ik _ hk)
theorem off90 (hk : k.val < 16) : k0_off90 v0 v6 v12 v18 v24 v30 v36 v42 v48 v54 v60 v66 v72 v78 v84 v90 k = ![(sl k.val).val, 1] := congrArg (fun x : ℕ => (![x, 1] : Fin 2 → ℕ)) (wsl _ hk)
theorem off91 (hk : k.val < 16) : k0_off91 v0 v6 v12 v18 v24 v30 v36 v42 v48 v54 v60 v66 v72 v78 v84 v90 k = ![(sl k.val).val, 1024, 0] := congrArg (fun x : ℕ => (![x, 1024, 0] : Fin 3 → ℕ)) (wsl _ hk)
theorem off93 (hk : k.val < 16) : k0_off93 v0 v6 v12 v18 v24 v30 v36 v42 v48 v54 v60 v66 v72 v78 v84 v90 k = ![(sl k.val).val, 1024, 0] := congrArg (fun x : ℕ => (![x, 1024, 0] : Fin 3 → ℕ)) (isl _ hk)
theorem off94 (hk : k.val < 16) : k0_off94 v0 v6 v12 v18 v24 v30 v36 v42 v48 v54 v60 v66 v72 v78 v84 v90 k = ![(sl k.val).val, 0, 1024] := congrArg (fun x : ℕ => (![x, 0, 1024] : Fin 3 → ℕ)) (isl _ hk)
theorem off95 (hk : k.val < 16) : k0_off95 v0 v6 v12 v18 v24 v30 v36 v42 v48 v54 v60 v66 v72 v78 v84 v90 k = ![(sl k.val).val, 0, 1152] := congrArg (fun x : ℕ => (![x, 0, 1152] : Fin 3 → ℕ)) (isl _ hk)
theorem off96 (hk : k.val < 16) : k0_off96 v0 v6 v12 v18 v24 v30 v36 v42 v48 v54 v60 v66 v72 v78 v84 v90 k = ![(sl k.val).val, 1280, 0] := congrArg (fun x : ℕ => (![x, 1280, 0] : Fin 3 → ℕ)) (isl _ hk)
theorem off97 (hk : k.val < 16) : k0_off97 v0 v6 v12 v18 v24 v30 v36 v42 v48 v54 v60 v66 v72 v78 v84 v90 k = ![(sl k.val).val, 0, 1280] := congrArg (fun x : ℕ => (![x, 0, 1280] : Fin 3 → ℕ)) (isl _ hk)
theorem off98 (hk : k.val < 16) : k0_off98 v0 v6 v12 v18 v24 v30 v36 v42 v48 v54 v60 v66 v72 v78 v84 v90 k = ![(sl k.val).val, 0, 1408] := congrArg (fun x : ℕ => (![x, 0, 1408] : Fin 3 → ℕ)) (isl _ hk)
theorem off99 (hk : k.val < 16) : k0_off99 v0 v6 v12 v18 v24 v30 v36 v42 v48 v54 v60 v66 v72 v78 v84 v90 k = ![(sl k.val).val, 1536, 0] := congrArg (fun x : ℕ => (![x, 1536, 0] : Fin 3 → ℕ)) (isl _ hk)
theorem off100 (hk : k.val < 16) : k0_off100 v0 v6 v12 v18 v24 v30 v36 v42 v48 v54 v60 v66 v72 v78 v84 v90 k = ![(sl k.val).val, 0, 1536] := congrArg (fun x : ℕ => (![x, 0, 1536] : Fin 3 → ℕ)) (isl _ hk)
theorem off101 (hk : k.val < 16) : k0_off101 v0 v6 v12 v18 v24 v30 v36 v42 v48 v54 v60 v66 v72 v78 v84 v90 k = ![(sl k.val).val, 0, 1664] := congrArg (fun x : ℕ => (![x, 0, 1664] : Fin 3 → ℕ)) (isl _ hk)
theorem off102 (hk : k.val < 16) : k0_off102 v0 v6 v12 v18 v24 v30 v36 v42 v48 v54 v60 v66 v72 v78 v84 v90 k = ![(sl k.val).val, 1792, 0] := congrArg (fun x : ℕ => (![x, 1792, 0] : Fin 3 → ℕ)) (isl _ hk)
theorem off103 (hk : k.val < 16) : k0_off103 v0 v6 v12 v18 v24 v30 v36 v42 v48 v54 v60 v66 v72 v78 v84 v90 k = ![(sl k.val).val, 0, 1792] := congrArg (fun x : ℕ => (![x, 0, 1792] : Fin 3 → ℕ)) (isl _ hk)
theorem off104 (hk : k.val < 16) : k0_off104 v0 v6 v12 v18 v24 v30 v36 v42 v48 v54 v60 v66 v72 v78 v84 v90 k = ![(sl k.val).val, 0, 1920] := congrArg (fun x : ℕ => (![x, 0, 1920] : Fin 3 → ℕ)) (isl _ hk)
theorem off105 (hk : k.val + 2 < 16) : k0_off105 v0 v6 v12 v18 v24 v30 v36 v42 v48 v54 v60 v66 v72 v78 v84 v90 k = ![(p16 (k.val + 2)).val] := congrArg (fun x : ℕ => (![x] : Fin 1 → ℕ)) (ip2 _ hk)
theorem off106 (hk : k.val < 16) : k0_off106 v0 v6 v12 v18 v24 v30 v36 v42 v48 v54 v60 v66 v72 v78 v84 v90 k = ![(sl k.val).val, 1] := congrArg (fun x : ℕ => (![x, 1] : Fin 2 → ℕ)) (wsl _ hk)
theorem off107 (hk : k.val < 16) : k0_off107 v0 v6 v12 v18 v24 v30 v36 v42 v48 v54 v60 v66 v72 v78 v84 v90 k = ![(sl k.val).val, 1024, 0] := congrArg (fun x : ℕ => (![x, 1024, 0] : Fin 3 → ℕ)) (wsl _ hk)
theorem off109 (hk : k.val < 16) : k0_off109 v0 v6 v12 v18 v24 v30 v36 v42 v48 v54 v60 v66 v72 v78 v84 v90 k = ![(p16 k.val).val] := congrArg (fun x : ℕ => (![x] : Fin 1 → ℕ)) (ik _ hk)
theorem off110 (hk : k.val < 16) : k0_off110 v0 v6 v12 v18 v24 v30 v36 v42 v48 v54 v60 v66 v72 v78 v84 v90 k = ![(sl k.val).val, 2] := congrArg (fun x : ℕ => (![x, 2] : Fin 2 → ℕ)) (wsl _ hk)
theorem off111 (hk : k.val < 16) : k0_off111 v0 v6 v12 v18 v24 v30 v36 v42 v48 v54 v60 v66 v72 v78 v84 v90 k = ![(sl k.val).val, 2048, 0] := congrArg (fun x : ℕ => (![x, 2048, 0] : Fin 3 → ℕ)) (wsl _ hk)
theorem off113 (hk : k.val < 16) : k0_off113 v0 v6 v12 v18 v24 v30 v36 v42 v48 v54 v60 v66 v72 v78 v84 v90 k = ![(sl k.val).val, 2048, 0] := congrArg (fun x : ℕ => (![x, 2048, 0] : Fin 3 → ℕ)) (isl _ hk)
theorem off114 (hk : k.val < 16) : k0_off114 v0 v6 v12 v18 v24 v30 v36 v42 v48 v54 v60 v66 v72 v78 v84 v90 k = ![(sl k.val).val, 0, 2048] := congrArg (fun x : ℕ => (![x, 0, 2048] : Fin 3 → ℕ)) (isl _ hk)
theorem off115 (hk : k.val < 16) : k0_off115 v0 v6 v12 v18 v24 v30 v36 v42 v48 v54 v60 v66 v72 v78 v84 v90 k = ![(sl k.val).val, 0, 2176] := congrArg (fun x : ℕ => (![x, 0, 2176] : Fin 3 → ℕ)) (isl _ hk)
theorem off116 (hk : k.val < 16) : k0_off116 v0 v6 v12 v18 v24 v30 v36 v42 v48 v54 v60 v66 v72 v78 v84 v90 k = ![(sl k.val).val, 2304, 0] := congrArg (fun x : ℕ => (![x, 2304, 0] : Fin 3 → ℕ)) (isl _ hk)
theorem off117 (hk : k.val < 16) : k0_off117 v0 v6 v12 v18 v24 v30 v36 v42 v48 v54 v60 v66 v72 v78 v84 v90 k = ![(sl k.val).val, 0, 2304] := congrArg (fun x : ℕ => (![x, 0, 2304] : Fin 3 → ℕ)) (isl _ hk)
theorem off118 (hk : k.val < 16) : k0_off118 v0 v6 v12 v18 v24 v30 v36 v42 v48 v54 v60 v66 v72 v78 v84 v90 k = ![(sl k.val).val, 0, 2432] := congrArg (fun x : ℕ => (![x, 0, 2432] : Fin 3 → ℕ)) (isl _ hk)
theorem off119 (hk : k.val < 16) : k0_off119 v0 v6 v12 v18 v24 v30 v36 v42 v48 v54 v60 v66 v72 v78 v84 v90 k = ![(sl k.val).val, 2560, 0] := congrArg (fun x : ℕ => (![x, 2560, 0] : Fin 3 → ℕ)) (isl _ hk)
theorem off120 (hk : k.val < 16) : k0_off120 v0 v6 v12 v18 v24 v30 v36 v42 v48 v54 v60 v66 v72 v78 v84 v90 k = ![(sl k.val).val, 0, 2560] := congrArg (fun x : ℕ => (![x, 0, 2560] : Fin 3 → ℕ)) (isl _ hk)
theorem off121 (hk : k.val < 16) : k0_off121 v0 v6 v12 v18 v24 v30 v36 v42 v48 v54 v60 v66 v72 v78 v84 v90 k = ![(sl k.val).val, 0, 2688] := congrArg (fun x : ℕ => (![x, 0, 2688] : Fin 3 → ℕ)) (isl _ hk)
theorem off122 (hk : k.val < 16) : k0_off122 v0 v6 v12 v18 v24 v30 v36 v42 v48 v54 v60 v66 v72 v78 v84 v90 k = ![(sl k.val).val, 2816, 0] := congrArg (fun x : ℕ => (![x, 2816, 0] : Fin 3 → ℕ)) (isl _ hk)
theorem off123 (hk : k.val < 16) : k0_off123 v0 v6 v12 v18 v24 v30 v36 v42 v48 v54 v60 v66 v72 v78 v84 v90 k = ![(sl k.val).val, 0, 2816] := congrArg (fun x : ℕ => (![x, 0, 2816] : Fin 3 → ℕ)) (isl _ hk)
theorem off124 (hk : k.val < 16) : k0_off124 v0 v6 v12 v18 v24 v30 v36 v42 v48 v54 v60 v66 v72 v78 v84 v90 k = ![(sl k.val).val, 0, 2944] := congrArg (fun x : ℕ => (![x, 0, 2944] : Fin 3 → ℕ)) (isl _ hk)
theorem off125 (hk : k.val + 2 < 16) : k0_off125 v0 v6 v12 v18 v24 v30 v36 v42 v48 v54 v60 v66 v72 v78 v84 v90 k = ![(p16 (k.val + 2)).val] := congrArg (fun x : ℕ => (![x] : Fin 1 → ℕ)) (ip2 _ hk)
theorem off126 (hk : k.val < 16) : k0_off126 v0 v6 v12 v18 v24 v30 v36 v42 v48 v54 v60 v66 v72 v78 v84 v90 k = ![(sl k.val).val, 2] := congrArg (fun x : ℕ => (![x, 2] : Fin 2 → ℕ)) (wsl _ hk)
theorem off127 (hk : k.val < 16) : k0_off127 v0 v6 v12 v18 v24 v30 v36 v42 v48 v54 v60 v66 v72 v78 v84 v90 k = ![(sl k.val).val, 2048, 0] := congrArg (fun x : ℕ => (![x, 2048, 0] : Fin 3 → ℕ)) (wsl _ hk)
theorem off129 (hk : k.val < 16) : k0_off129 v0 v6 v12 v18 v24 v30 v36 v42 v48 v54 v60 v66 v72 v78 v84 v90 k = ![(p16 k.val).val] := congrArg (fun x : ℕ => (![x] : Fin 1 → ℕ)) (ik _ hk)
theorem off130 (hk : k.val < 16) : k0_off130 v0 v6 v12 v18 v24 v30 v36 v42 v48 v54 v60 v66 v72 v78 v84 v90 k = ![(sl k.val).val, 3] := congrArg (fun x : ℕ => (![x, 3] : Fin 2 → ℕ)) (wsl _ hk)
theorem off131 (hk : k.val < 16) : k0_off131 v0 v6 v12 v18 v24 v30 v36 v42 v48 v54 v60 v66 v72 v78 v84 v90 k = ![(sl k.val).val, 3072, 0] := congrArg (fun x : ℕ => (![x, 3072, 0] : Fin 3 → ℕ)) (wsl _ hk)
theorem off133 (hk : k.val < 16) : k0_off133 v0 v6 v12 v18 v24 v30 v36 v42 v48 v54 v60 v66 v72 v78 v84 v90 k = ![(sl k.val).val, 3072, 0] := congrArg (fun x : ℕ => (![x, 3072, 0] : Fin 3 → ℕ)) (isl _ hk)
theorem off134 (hk : k.val < 16) : k0_off134 v0 v6 v12 v18 v24 v30 v36 v42 v48 v54 v60 v66 v72 v78 v84 v90 k = ![(sl k.val).val, 0, 3072] := congrArg (fun x : ℕ => (![x, 0, 3072] : Fin 3 → ℕ)) (isl _ hk)
theorem off135 (hk : k.val < 16) : k0_off135 v0 v6 v12 v18 v24 v30 v36 v42 v48 v54 v60 v66 v72 v78 v84 v90 k = ![(sl k.val).val, 0, 3200] := congrArg (fun x : ℕ => (![x, 0, 3200] : Fin 3 → ℕ)) (isl _ hk)
theorem off136 (hk : k.val < 16) : k0_off136 v0 v6 v12 v18 v24 v30 v36 v42 v48 v54 v60 v66 v72 v78 v84 v90 k = ![(sl k.val).val, 3328, 0] := congrArg (fun x : ℕ => (![x, 3328, 0] : Fin 3 → ℕ)) (isl _ hk)
theorem off137 (hk : k.val < 16) : k0_off137 v0 v6 v12 v18 v24 v30 v36 v42 v48 v54 v60 v66 v72 v78 v84 v90 k = ![(sl k.val).val, 0, 3328] := congrArg (fun x : ℕ => (![x, 0, 3328] : Fin 3 → ℕ)) (isl _ hk)
theorem off138 (hk : k.val < 16) : k0_off138 v0 v6 v12 v18 v24 v30 v36 v42 v48 v54 v60 v66 v72 v78 v84 v90 k = ![(sl k.val).val, 0, 3456] := congrArg (fun x : ℕ => (![x, 0, 3456] : Fin 3 → ℕ)) (isl _ hk)
theorem off139 (hk : k.val < 16) : k0_off139 v0 v6 v12 v18 v24 v30 v36 v42 v48 v54 v60 v66 v72 v78 v84 v90 k = ![(sl k.val).val, 3584, 0] := congrArg (fun x : ℕ => (![x, 3584, 0] : Fin 3 → ℕ)) (isl _ hk)
theorem off140 (hk : k.val < 16) : k0_off140 v0 v6 v12 v18 v24 v30 v36 v42 v48 v54 v60 v66 v72 v78 v84 v90 k = ![(sl k.val).val, 0, 3584] := congrArg (fun x : ℕ => (![x, 0, 3584] : Fin 3 → ℕ)) (isl _ hk)
theorem off141 (hk : k.val < 16) : k0_off141 v0 v6 v12 v18 v24 v30 v36 v42 v48 v54 v60 v66 v72 v78 v84 v90 k = ![(sl k.val).val, 0, 3712] := congrArg (fun x : ℕ => (![x, 0, 3712] : Fin 3 → ℕ)) (isl _ hk)
theorem off142 (hk : k.val < 16) : k0_off142 v0 v6 v12 v18 v24 v30 v36 v42 v48 v54 v60 v66 v72 v78 v84 v90 k = ![(sl k.val).val, 3840, 0] := congrArg (fun x : ℕ => (![x, 3840, 0] : Fin 3 → ℕ)) (isl _ hk)
theorem off143 (hk : k.val < 16) : k0_off143 v0 v6 v12 v18 v24 v30 v36 v42 v48 v54 v60 v66 v72 v78 v84 v90 k = ![(sl k.val).val, 0, 3840] := congrArg (fun x : ℕ => (![x, 0, 3840] : Fin 3 → ℕ)) (isl _ hk)
theorem off144 (hk : k.val < 16) : k0_off144 v0 v6 v12 v18 v24 v30 v36 v42 v48 v54 v60 v66 v72 v78 v84 v90 k = ![(sl k.val).val, 0, 3968] := congrArg (fun x : ℕ => (![x, 0, 3968] : Fin 3 → ℕ)) (isl _ hk)
theorem off145 (hk : k.val + 2 < 16) : k0_off145 v0 v6 v12 v18 v24 v30 v36 v42 v48 v54 v60 v66 v72 v78 v84 v90 k = ![(p16 (k.val + 2)).val] := congrArg (fun x : ℕ => (![x] : Fin 1 → ℕ)) (ip2 _ hk)
theorem off146 (hk : k.val < 16) : k0_off146 v0 v6 v12 v18 v24 v30 v36 v42 v48 v54 v60 v66 v72 v78 v84 v90 k = ![(sl k.val).val, 3] := congrArg (fun x : ℕ => (![x, 3] : Fin 2 → ℕ)) (wsl _ hk)
theorem off147 (hk : k.val < 16) : k0_off147 v0 v6 v12 v18 v24 v30 v36 v42 v48 v54 v60 v66 v72 v78 v84 v90 k = ![(sl k.val).val, 3072, 0] := congrArg (fun x : ℕ => (![x, 3072, 0] : Fin 3 → ℕ)) (wsl _ hk)
theorem off149 (hk : k.val < 16) : k0_off149 v0 v6 v12 v18 v24 v30 v36 v42 v48 v54 v60 v66 v72 v78 v84 v90 k = ![(p16 k.val).val] := congrArg (fun x : ℕ => (![x] : Fin 1 → ℕ)) (ik _ hk)
theorem off150 (hk : k.val < 16) : k0_off150 v0 v6 v12 v18 v24 v30 v36 v42 v48 v54 v60 v66 v72 v78 v84 v90 k = ![(sl k.val).val, 4] := congrArg (fun x : ℕ => (![x, 4] : Fin 2 → ℕ)) (wsl _ hk)
theorem off151 (hk : k.val < 16) : k0_off151 v0 v6 v12 v18 v24 v30 v36 v42 v48 v54 v60 v66 v72 v78 v84 v90 k = ![(sl k.val).val, 4096, 0] := congrArg (fun x : ℕ => (![x, 4096, 0] : Fin 3 → ℕ)) (wsl _ hk)
theorem off153 (hk : k.val < 16) : k0_off153 v0 v6 v12 v18 v24 v30 v36 v42 v48 v54 v60 v66 v72 v78 v84 v90 k = ![(sl k.val).val, 4096, 0] := congrArg (fun x : ℕ => (![x, 4096, 0] : Fin 3 → ℕ)) (isl _ hk)
theorem off154 (hk : k.val < 16) : k0_off154 v0 v6 v12 v18 v24 v30 v36 v42 v48 v54 v60 v66 v72 v78 v84 v90 k = ![(sl k.val).val, 0, 4096] := congrArg (fun x : ℕ => (![x, 0, 4096] : Fin 3 → ℕ)) (isl _ hk)
theorem off155 (hk : k.val < 16) : k0_off155 v0 v6 v12 v18 v24 v30 v36 v42 v48 v54 v60 v66 v72 v78 v84 v90 k = ![(sl k.val).val, 0, 4224] := congrArg (fun x : ℕ => (![x, 0, 4224] : Fin 3 → ℕ)) (isl _ hk)
theorem off156 (hk : k.val < 16) : k0_off156 v0 v6 v12 v18 v24 v30 v36 v42 v48 v54 v60 v66 v72 v78 v84 v90 k = ![(sl k.val).val, 4352, 0] := congrArg (fun x : ℕ => (![x, 4352, 0] : Fin 3 → ℕ)) (isl _ hk)
theorem off157 (hk : k.val < 16) : k0_off157 v0 v6 v12 v18 v24 v30 v36 v42 v48 v54 v60 v66 v72 v78 v84 v90 k = ![(sl k.val).val, 0, 4352] := congrArg (fun x : ℕ => (![x, 0, 4352] : Fin 3 → ℕ)) (isl _ hk)
theorem off158 (hk : k.val < 16) : k0_off158 v0 v6 v12 v18 v24 v30 v36 v42 v48 v54 v60 v66 v72 v78 v84 v90 k = ![(sl k.val).val, 0, 4480] := congrArg (fun x : ℕ => (![x, 0, 4480] : Fin 3 → ℕ)) (isl _ hk)
theorem off159 (hk : k.val < 16) : k0_off159 v0 v6 v12 v18 v24 v30 v36 v42 v48 v54 v60 v66 v72 v78 v84 v90 k = ![(sl k.val).val, 4608, 0] := congrArg (fun x : ℕ => (![x, 4608, 0] : Fin 3 → ℕ)) (isl _ hk)
theorem off160 (hk : k.val < 16) : k0_off160 v0 v6 v12 v18 v24 v30 v36 v42 v48 v54 v60 v66 v72 v78 v84 v90 k = ![(sl k.val).val, 0, 4608] := congrArg (fun x : ℕ => (![x, 0, 4608] : Fin 3 → ℕ)) (isl _ hk)
theorem off161 (hk : k.val < 16) : k0_off161 v0 v6 v12 v18 v24 v30 v36 v42 v48 v54 v60 v66 v72 v78 v84 v90 k = ![(sl k.val).val, 0, 4736] := congrArg (fun x : ℕ => (![x, 0, 4736] : Fin 3 → ℕ)) (isl _ hk)
theorem off162 (hk : k.val < 16) : k0_off162 v0 v6 v12 v18 v24 v30 v36 v42 v48 v54 v60 v66 v72 v78 v84 v90 k = ![(sl k.val).val, 4864, 0] := congrArg (fun x : ℕ => (![x, 4864, 0] : Fin 3 → ℕ)) (isl _ hk)
theorem off163 (hk : k.val < 16) : k0_off163 v0 v6 v12 v18 v24 v30 v36 v42 v48 v54 v60 v66 v72 v78 v84 v90 k = ![(sl k.val).val, 0, 4864] := congrArg (fun x : ℕ => (![x, 0, 4864] : Fin 3 → ℕ)) (isl _ hk)
theorem off164 (hk : k.val < 16) : k0_off164 v0 v6 v12 v18 v24 v30 v36 v42 v48 v54 v60 v66 v72 v78 v84 v90 k = ![(sl k.val).val, 0, 4992] := congrArg (fun x : ℕ => (![x, 0, 4992] : Fin 3 → ℕ)) (isl _ hk)
theorem off165 (hk : k.val + 2 < 16) : k0_off165 v0 v6 v12 v18 v24 v30 v36 v42 v48 v54 v60 v66 v72 v78 v84 v90 k = ![(p16 (k.val + 2)).val] := congrArg (fun x : ℕ => (![x] : Fin 1 → ℕ)) (ip2 _ hk)
theorem off166 (hk : k.val < 16) : k0_off166 v0 v6 v12 v18 v24 v30 v36 v42 v48 v54 v60 v66 v72 v78 v84 v90 k = ![(sl k.val).val, 4] := congrArg (fun x : ℕ => (![x, 4] : Fin 2 → ℕ)) (wsl _ hk)
theorem off167 (hk : k.val < 16) : k0_off167 v0 v6 v12 v18 v24 v30 v36 v42 v48 v54 v60 v66 v72 v78 v84 v90 k = ![(sl k.val).val, 4096, 0] := congrArg (fun x : ℕ => (![x, 4096, 0] : Fin 3 → ℕ)) (wsl _ hk)
theorem off169 (hk : k.val < 16) : k0_off169 v0 v6 v12 v18 v24 v30 v36 v42 v48 v54 v60 v66 v72 v78 v84 v90 k = ![(p16 k.val).val] := congrArg (fun x : ℕ => (![x] : Fin 1 → ℕ)) (ik _ hk)
theorem off170 (hk : k.val < 16) : k0_off170 v0 v6 v12 v18 v24 v30 v36 v42 v48 v54 v60 v66 v72 v78 v84 v90 k = ![(sl k.val).val, 5] := congrArg (fun x : ℕ => (![x, 5] : Fin 2 → ℕ)) (wsl _ hk)
theorem off171 (hk : k.val < 16) : k0_off171 v0 v6 v12 v18 v24 v30 v36 v42 v48 v54 v60 v66 v72 v78 v84 v90 k = ![(sl k.val).val, 5120, 0] := congrArg (fun x : ℕ => (![x, 5120, 0] : Fin 3 → ℕ)) (wsl _ hk)
theorem off173 (hk : k.val < 16) : k0_off173 v0 v6 v12 v18 v24 v30 v36 v42 v48 v54 v60 v66 v72 v78 v84 v90 k = ![(sl k.val).val, 5120, 0] := congrArg (fun x : ℕ => (![x, 5120, 0] : Fin 3 → ℕ)) (isl _ hk)
theorem off174 (hk : k.val < 16) : k0_off174 v0 v6 v12 v18 v24 v30 v36 v42 v48 v54 v60 v66 v72 v78 v84 v90 k = ![(sl k.val).val, 0, 5120] := congrArg (fun x : ℕ => (![x, 0, 5120] : Fin 3 → ℕ)) (isl _ hk)
theorem off175 (hk : k.val < 16) : k0_off175 v0 v6 v12 v18 v24 v30 v36 v42 v48 v54 v60 v66 v72 v78 v84 v90 k = ![(sl k.val).val, 0, 5248] := congrArg (fun x : ℕ => (![x, 0, 5248] : Fin 3 → ℕ)) (isl _ hk)
theorem off176 (hk : k.val < 16) : k0_off176 v0 v6 v12 v18 v24 v30 v36 v42 v48 v54 v60 v66 v72 v78 v84 v90 k = ![(sl k.val).val, 5376, 0] := congrArg (fun x : ℕ => (![x, 5376, 0] : Fin 3 → ℕ)) (isl _ hk)
theorem off177 (hk : k.val < 16) : k0_off177 v0 v6 v12 v18 v24 v30 v36 v42 v48 v54 v60 v66 v72 v78 v84 v90 k = ![(sl k.val).val, 0, 5376] := congrArg (fun x : ℕ => (![x, 0, 5376] : Fin 3 → ℕ)) (isl _ hk)
theorem off178 (hk : k.val < 16) : k0_off178 v0 v6 v12 v18 v24 v30 v36 v42 v48 v54 v60 v66 v72 v78 v84 v90 k = ![(sl k.val).val, 0, 5504] := congrArg (fun x : ℕ => (![x, 0, 5504] : Fin 3 → ℕ)) (isl _ hk)
theorem off179 (hk : k.val < 16) : k0_off179 v0 v6 v12 v18 v24 v30 v36 v42 v48 v54 v60 v66 v72 v78 v84 v90 k = ![(sl k.val).val, 5632, 0] := congrArg (fun x : ℕ => (![x, 5632, 0] : Fin 3 → ℕ)) (isl _ hk)
theorem off180 (hk : k.val < 16) : k0_off180 v0 v6 v12 v18 v24 v30 v36 v42 v48 v54 v60 v66 v72 v78 v84 v90 k = ![(sl k.val).val, 0, 5632] := congrArg (fun x : ℕ => (![x, 0, 5632] : Fin 3 → ℕ)) (isl _ hk)
theorem off181 (hk : k.val < 16) : k0_off181 v0 v6 v12 v18 v24 v30 v36 v42 v48 v54 v60 v66 v72 v78 v84 v90 k = ![(sl k.val).val, 0, 5760] := congrArg (fun x : ℕ => (![x, 0, 5760] : Fin 3 → ℕ)) (isl _ hk)
theorem off182 (hk : k.val < 16) : k0_off182 v0 v6 v12 v18 v24 v30 v36 v42 v48 v54 v60 v66 v72 v78 v84 v90 k = ![(sl k.val).val, 5888, 0] := congrArg (fun x : ℕ => (![x, 5888, 0] : Fin 3 → ℕ)) (isl _ hk)
theorem off183 (hk : k.val < 16) : k0_off183 v0 v6 v12 v18 v24 v30 v36 v42 v48 v54 v60 v66 v72 v78 v84 v90 k = ![(sl k.val).val, 0, 5888] := congrArg (fun x : ℕ => (![x, 0, 5888] : Fin 3 → ℕ)) (isl _ hk)
theorem off184 (hk : k.val < 16) : k0_off184 v0 v6 v12 v18 v24 v30 v36 v42 v48 v54 v60 v66 v72 v78 v84 v90 k = ![(sl k.val).val, 0, 6016] := congrArg (fun x : ℕ => (![x, 0, 6016] : Fin 3 → ℕ)) (isl _ hk)
theorem off185 (hk : k.val + 2 < 16) : k0_off185 v0 v6 v12 v18 v24 v30 v36 v42 v48 v54 v60 v66 v72 v78 v84 v90 k = ![(p16 (k.val + 2)).val] := congrArg (fun x : ℕ => (![x] : Fin 1 → ℕ)) (ip2 _ hk)
theorem off186 (hk : k.val < 16) : k0_off186 v0 v6 v12 v18 v24 v30 v36 v42 v48 v54 v60 v66 v72 v78 v84 v90 k = ![(sl k.val).val, 5] := congrArg (fun x : ℕ => (![x, 5] : Fin 2 → ℕ)) (wsl _ hk)
theorem off187 (hk : k.val < 16) : k0_off187 v0 v6 v12 v18 v24 v30 v36 v42 v48 v54 v60 v66 v72 v78 v84 v90 k = ![(sl k.val).val, 5120, 0] := congrArg (fun x : ℕ => (![x, 5120, 0] : Fin 3 → ℕ)) (wsl _ hk)
theorem off189 (hk : k.val < 16) : k0_off189 v0 v6 v12 v18 v24 v30 v36 v42 v48 v54 v60 v66 v72 v78 v84 v90 k = ![(p16 k.val).val] := congrArg (fun x : ℕ => (![x] : Fin 1 → ℕ)) (ik _ hk)
theorem off190 (hk : k.val < 16) : k0_off190 v0 v6 v12 v18 v24 v30 v36 v42 v48 v54 v60 v66 v72 v78 v84 v90 k = ![(sl k.val).val, 6] := congrArg (fun x : ℕ => (![x, 6] : Fin 2 → ℕ)) (wsl _ hk)
theorem off191 (hk : k.val < 16) : k0_off191 v0 v6 v12 v18 v24 v30 v36 v42 v48 v54 v60 v66 v72 v78 v84 v90 k = ![(sl k.val).val, 6144, 0] := congrArg (fun x : ℕ => (![x, 6144, 0] : Fin 3 → ℕ)) (wsl _ hk)
theorem off193 (hk : k.val < 16) : k0_off193 v0 v6 v12 v18 v24 v30 v36 v42 v48 v54 v60 v66 v72 v78 v84 v90 k = ![(sl k.val).val, 6144, 0] := congrArg (fun x : ℕ => (![x, 6144, 0] : Fin 3 → ℕ)) (isl _ hk)
theorem off194 (hk : k.val < 16) : k0_off194 v0 v6 v12 v18 v24 v30 v36 v42 v48 v54 v60 v66 v72 v78 v84 v90 k = ![(sl k.val).val, 0, 6144] := congrArg (fun x : ℕ => (![x, 0, 6144] : Fin 3 → ℕ)) (isl _ hk)
theorem off195 (hk : k.val < 16) : k0_off195 v0 v6 v12 v18 v24 v30 v36 v42 v48 v54 v60 v66 v72 v78 v84 v90 k = ![(sl k.val).val, 0, 6272] := congrArg (fun x : ℕ => (![x, 0, 6272] : Fin 3 → ℕ)) (isl _ hk)
theorem off196 (hk : k.val < 16) : k0_off196 v0 v6 v12 v18 v24 v30 v36 v42 v48 v54 v60 v66 v72 v78 v84 v90 k = ![(sl k.val).val, 6400, 0] := congrArg (fun x : ℕ => (![x, 6400, 0] : Fin 3 → ℕ)) (isl _ hk)
theorem off197 (hk : k.val < 16) : k0_off197 v0 v6 v12 v18 v24 v30 v36 v42 v48 v54 v60 v66 v72 v78 v84 v90 k = ![(sl k.val).val, 0, 6400] := congrArg (fun x : ℕ => (![x, 0, 6400] : Fin 3 → ℕ)) (isl _ hk)
theorem off198 (hk : k.val < 16) : k0_off198 v0 v6 v12 v18 v24 v30 v36 v42 v48 v54 v60 v66 v72 v78 v84 v90 k = ![(sl k.val).val, 0, 6528] := congrArg (fun x : ℕ => (![x, 0, 6528] : Fin 3 → ℕ)) (isl _ hk)
theorem off199 (hk : k.val < 16) : k0_off199 v0 v6 v12 v18 v24 v30 v36 v42 v48 v54 v60 v66 v72 v78 v84 v90 k = ![(sl k.val).val, 6656, 0] := congrArg (fun x : ℕ => (![x, 6656, 0] : Fin 3 → ℕ)) (isl _ hk)
theorem off200 (hk : k.val < 16) : k0_off200 v0 v6 v12 v18 v24 v30 v36 v42 v48 v54 v60 v66 v72 v78 v84 v90 k = ![(sl k.val).val, 0, 6656] := congrArg (fun x : ℕ => (![x, 0, 6656] : Fin 3 → ℕ)) (isl _ hk)
theorem off201 (hk : k.val < 16) : k0_off201 v0 v6 v12 v18 v24 v30 v36 v42 v48 v54 v60 v66 v72 v78 v84 v90 k = ![(sl k.val).val, 0, 6784] := congrArg (fun x : ℕ => (![x, 0, 6784] : Fin 3 → ℕ)) (isl _ hk)
theorem off202 (hk : k.val < 16) : k0_off202 v0 v6 v12 v18 v24 v30 v36 v42 v48 v54 v60 v66 v72 v78 v84 v90 k = ![(sl k.val).val, 6912, 0] := congrArg (fun x : ℕ => (![x, 6912, 0] : Fin 3 → ℕ)) (isl _ hk)
theorem off203 (hk : k.val < 16) : k0_off203 v0 v6 v12 v18 v24 v30 v36 v42 v48 v54 v60 v66 v72 v78 v84 v90 k = ![(sl k.val).val, 0, 6912] := congrArg (fun x : ℕ => (![x, 0, 6912] : Fin 3 → ℕ)) (isl _ hk)
theorem off204 (hk : k.val < 16) : k0_off204 v0 v6 v12 v18 v24 v30 v36 v42 v48 v54 v60 v66 v72 v78 v84 v90 k = ![(sl k.val).val, 0, 7040] := congrArg (fun x : ℕ => (![x, 0, 7040] : Fin 3 → ℕ)) (isl _ hk)
theorem off205 (hk : k.val + 2 < 16) : k0_off205 v0 v6 v12 v18 v24 v30 v36 v42 v48 v54 v60 v66 v72 v78 v84 v90 k = ![(p16 (k.val + 2)).val] := congrArg (fun x : ℕ => (![x] : Fin 1 → ℕ)) (ip2 _ hk)
theorem off206 (hk : k.val < 16) : k0_off206 v0 v6 v12 v18 v24 v30 v36 v42 v48 v54 v60 v66 v72 v78 v84 v90 k = ![(sl k.val).val, 6] := congrArg (fun x : ℕ => (![x, 6] : Fin 2 → ℕ)) (wsl _ hk)
theorem off207 (hk : k.val < 16) : k0_off207 v0 v6 v12 v18 v24 v30 v36 v42 v48 v54 v60 v66 v72 v78 v84 v90 k = ![(sl k.val).val, 6144, 0] := congrArg (fun x : ℕ => (![x, 6144, 0] : Fin 3 → ℕ)) (wsl _ hk)
theorem off209 (hk : k.val < 16) : k0_off209 v0 v6 v12 v18 v24 v30 v36 v42 v48 v54 v60 v66 v72 v78 v84 v90 k = ![(p16 k.val).val] := congrArg (fun x : ℕ => (![x] : Fin 1 → ℕ)) (ik _ hk)
theorem off210 (hk : k.val < 16) : k0_off210 v0 v6 v12 v18 v24 v30 v36 v42 v48 v54 v60 v66 v72 v78 v84 v90 k = ![(sl k.val).val] := congrArg (fun x : ℕ => (![x] : Fin 1 → ℕ)) (wsl _ hk)
theorem off212 (hk : k.val < 16) : k0_off212 v0 v6 v12 v18 v24 v30 v36 v42 v48 v54 v60 v66 v72 v78 v84 v90 k = ![(sl k.val).val, 0, 0] := congrArg (fun x : ℕ => (![x, 0, 0] : Fin 3 → ℕ)) (wsl _ hk)
theorem cond35 (hk : k.val < 16) : k0_cond35 v0 v6 v12 v18 v24 v30 v36 v42 v48 v54 v60 v66 v72 v78 v84 v90 k = 1#1 ↔ 2 ≤ k.val := ge2 _ hk
theorem cond36 {n : ℕ} (hk : k.val < 16) (hn : n ≤ 16) (hN : NW v0 v6 v12 v18 v24 v30 v36 v42 v48 v54 v60 v66 v72 v78 v84 v90 = BitVec.ofNat 32 n) : k0_cond36 v0 v6 v12 v18 v24 v30 v36 v42 v48 v54 v60 v66 v72 v78 v84 v90 k = 1#1 ↔ k.val + 2 < n := by
  have h := lt2 k.val n hk hn
  rw [← hN] at h
  exact h
theorem cond37 {n : ℕ} (hk : k.val < 16) (hn : n ≤ 16) (hN : NW v0 v6 v12 v18 v24 v30 v36 v42 v48 v54 v60 v66 v72 v78 v84 v90 = BitVec.ofNat 32 n) : k0_cond37 v0 v6 v12 v18 v24 v30 v36 v42 v48 v54 v60 v66 v72 v78 v84 v90 k = 1#1 ↔ k.val + 2 < n := by
  have h := lt2 k.val n hk hn
  rw [← hN] at h
  exact h
theorem cond38 {n : ℕ} (hk : k.val < 16) (hn : n ≤ 16) (hN : NW v0 v6 v12 v18 v24 v30 v36 v42 v48 v54 v60 v66 v72 v78 v84 v90 = BitVec.ofNat 32 n) : k0_cond38 v0 v6 v12 v18 v24 v30 v36 v42 v48 v54 v60 v66 v72 v78 v84 v90 k = 1#1 ↔ k.val + 2 < n := by
  have h := lt2 k.val n hk hn
  rw [← hN] at h
  exact h
theorem cond39 {n : ℕ} (hk : k.val < 16) (hn : n ≤ 16) (hN : NW v0 v6 v12 v18 v24 v30 v36 v42 v48 v54 v60 v66 v72 v78 v84 v90 = BitVec.ofNat 32 n) : k0_cond39 v0 v6 v12 v18 v24 v30 v36 v42 v48 v54 v60 v66 v72 v78 v84 v90 k = 1#1 ↔ k.val + 2 < n := by
  have h := lt2 k.val n hk hn
  rw [← hN] at h
  exact h
theorem cond40 {n : ℕ} (hk : k.val < 16) (hn : n ≤ 16) (hN : NW v0 v6 v12 v18 v24 v30 v36 v42 v48 v54 v60 v66 v72 v78 v84 v90 = BitVec.ofNat 32 n) : k0_cond40 v0 v6 v12 v18 v24 v30 v36 v42 v48 v54 v60 v66 v72 v78 v84 v90 k = 1#1 ↔ k.val + 2 < n := by
  have h := lt2 k.val n hk hn
  rw [← hN] at h
  exact h
theorem cond41 {n : ℕ} (hk : k.val < 16) (hn : n ≤ 16) (hN : NW v0 v6 v12 v18 v24 v30 v36 v42 v48 v54 v60 v66 v72 v78 v84 v90 = BitVec.ofNat 32 n) : k0_cond41 v0 v6 v12 v18 v24 v30 v36 v42 v48 v54 v60 v66 v72 v78 v84 v90 k = 1#1 ↔ k.val + 2 < n := by
  have h := lt2 k.val n hk hn
  rw [← hN] at h
  exact h
theorem cond42 {n : ℕ} (hk : k.val < 16) (hn : n ≤ 16) (hN : NW v0 v6 v12 v18 v24 v30 v36 v42 v48 v54 v60 v66 v72 v78 v84 v90 = BitVec.ofNat 32 n) : k0_cond42 v0 v6 v12 v18 v24 v30 v36 v42 v48 v54 v60 v66 v72 v78 v84 v90 k = 1#1 ↔ k.val + 2 < n := by
  have h := lt2 k.val n hk hn
  rw [← hN] at h
  exact h
theorem cond43 {n : ℕ} (hk : k.val < 16) (hn : n ≤ 16) (hN : NW v0 v6 v12 v18 v24 v30 v36 v42 v48 v54 v60 v66 v72 v78 v84 v90 = BitVec.ofNat 32 n) : k0_cond43 v0 v6 v12 v18 v24 v30 v36 v42 v48 v54 v60 v66 v72 v78 v84 v90 k = 1#1 ↔ k.val + 2 < n := by
  have h := lt2 k.val n hk hn
  rw [← hN] at h
  exact h
end trip

theorem off16 (e : Fin 16) : k0_off16 (BitVec.ofNat 32 e.val) = ![e.val, 0, 0] := by revert e; decide
theorem off17 (e : Fin 16) : k0_off17 (BitVec.ofNat 32 e.val) = ![e.val, 0, 0] := by revert e; decide
theorem off18 (e : Fin 16) : k0_off18 (BitVec.ofNat 32 e.val) = ![e.val, 0, 0] := by revert e; decide
theorem off19 (e : Fin 16) : k0_off19 (BitVec.ofNat 32 e.val) = ![e.val, 1024, 0] := by revert e; decide
theorem off20 (e : Fin 16) : k0_off20 (BitVec.ofNat 32 e.val) = ![e.val, 2048, 0] := by revert e; decide
theorem off21 (e : Fin 16) : k0_off21 (BitVec.ofNat 32 e.val) = ![e.val, 3072, 0] := by revert e; decide
theorem off22 (e : Fin 16) : k0_off22 (BitVec.ofNat 32 e.val) = ![e.val, 4096, 0] := by revert e; decide
theorem off23 (e : Fin 16) : k0_off23 (BitVec.ofNat 32 e.val) = ![e.val, 5120, 0] := by revert e; decide
theorem off24 (e : Fin 16) : k0_off24 (BitVec.ofNat 32 e.val) = ![e.val, 6144, 0] := by revert e; decide
theorem off25 (e : Fin 16) : k0_off25 (BitVec.ofNat 32 e.val) = ![e.val, 0, 0] := by revert e; decide
theorem off26 (e : Fin 16) : k0_off26 (BitVec.ofNat 32 e.val) = ![e.val, 0, 0] := by revert e; decide
theorem off27 (e : Fin 16) : k0_off27 (BitVec.ofNat 32 e.val) = ![e.val, 0, 0] := by revert e; decide
theorem off28 (e : Fin 16) : k0_off28 (BitVec.ofNat 32 e.val) = ![e.val, 1024, 0] := by revert e; decide
theorem off29 (e : Fin 16) : k0_off29 (BitVec.ofNat 32 e.val) = ![e.val, 2048, 0] := by revert e; decide
theorem off30 (e : Fin 16) : k0_off30 (BitVec.ofNat 32 e.val) = ![e.val, 3072, 0] := by revert e; decide
theorem off31 (e : Fin 16) : k0_off31 (BitVec.ofNat 32 e.val) = ![e.val, 4096, 0] := by revert e; decide
theorem off32 (e : Fin 16) : k0_off32 (BitVec.ofNat 32 e.val) = ![e.val, 5120, 0] := by revert e; decide
theorem off33 (e : Fin 16) : k0_off33 (BitVec.ofNat 32 e.val) = ![e.val, 6144, 0] := by revert e; decide
theorem off35 (e : Fin 16) : k0_off35 (BitVec.ofNat 32 e.val) = ![e.val] := by revert e; decide
theorem off39 (e : Fin 16) : k0_off39 (BitVec.ofNat 32 e.val) = ![e.val, 0, 0] := by revert e; decide
theorem off43 (e : Fin 16) : k0_off43 (BitVec.ofNat 32 e.val) = ![e.val, 0, 0] := by revert e; decide
theorem off59 (e : Fin 16) : k0_off59 (BitVec.ofNat 32 e.val) = ![e.val, 0, 0] := by revert e; decide
theorem off64 (e : Fin 16) : k0_off64 (BitVec.ofNat 32 e.val) = ![e.val, 0, 0] := by revert e; decide
theorem off68 (e : Fin 16) : k0_off68 (BitVec.ofNat 32 e.val) = ![e.val, 0, 0] := by revert e; decide
theorem off72 (e : Fin 16) : k0_off72 (BitVec.ofNat 32 e.val) = ![e.val, 0, 0] := by revert e; decide
theorem off88 (e : Fin 16) : k0_off88 (BitVec.ofNat 32 e.val) = ![e.val, 0, 0] := by revert e; decide
theorem off92 (e : Fin 16) : k0_off92 (BitVec.ofNat 32 e.val) = ![e.val, 1024, 0] := by revert e; decide
theorem off108 (e : Fin 16) : k0_off108 (BitVec.ofNat 32 e.val) = ![e.val, 1024, 0] := by revert e; decide
theorem off112 (e : Fin 16) : k0_off112 (BitVec.ofNat 32 e.val) = ![e.val, 2048, 0] := by revert e; decide
theorem off128 (e : Fin 16) : k0_off128 (BitVec.ofNat 32 e.val) = ![e.val, 2048, 0] := by revert e; decide
theorem off132 (e : Fin 16) : k0_off132 (BitVec.ofNat 32 e.val) = ![e.val, 3072, 0] := by revert e; decide
theorem off148 (e : Fin 16) : k0_off148 (BitVec.ofNat 32 e.val) = ![e.val, 3072, 0] := by revert e; decide
theorem off152 (e : Fin 16) : k0_off152 (BitVec.ofNat 32 e.val) = ![e.val, 4096, 0] := by revert e; decide
theorem off168 (e : Fin 16) : k0_off168 (BitVec.ofNat 32 e.val) = ![e.val, 4096, 0] := by revert e; decide
theorem off172 (e : Fin 16) : k0_off172 (BitVec.ofNat 32 e.val) = ![e.val, 5120, 0] := by revert e; decide
theorem off188 (e : Fin 16) : k0_off188 (BitVec.ofNat 32 e.val) = ![e.val, 5120, 0] := by revert e; decide
theorem off192 (e : Fin 16) : k0_off192 (BitVec.ofNat 32 e.val) = ![e.val, 6144, 0] := by revert e; decide
theorem off208 (e : Fin 16) : k0_off208 (BitVec.ofNat 32 e.val) = ![e.val, 6144, 0] := by revert e; decide
theorem off211 (e : Fin 16) : k0_off211 (BitVec.ofNat 32 e.val) = ![e.val, 0, 0] := by revert e; decide
theorem chk34 (e : Fin 16) : k0_chk34 (BitVec.ofNat 32 e.val) := by revert e; decide
theorem chk35 (e : Fin 16) : k0_chk35 (BitVec.ofNat 32 e.val) := by revert e; decide
theorem chk36 (e : Fin 16) : k0_chk36 (BitVec.ofNat 32 e.val) := by revert e; decide
theorem chk37 {v0 v6 v12 v18 v24 v30 v36 v42 v48 v54 v60 v66 v72 v78 v84 v90 : BitVec 32} (k : Fin (k0_t1_loop v0 v6 v12 v18 v24 v30 v36 v42 v48 v54 v60 v66 v72 v78 v84 v90).trips) (e : Fin 16) : k0_chk37 v0 v6 v12 v18 v24 v30 v36 v42 v48 v54 v60 v66 v72 v78 v84 v90 k (BitVec.ofNat 32 e.val) := ⟨fun _ => by revert e; decide, fun _ => by revert e; decide⟩
theorem chk38 {v0 v6 v12 v18 v24 v30 v36 v42 v48 v54 v60 v66 v72 v78 v84 v90 : BitVec 32} (k : Fin (k0_t1_loop v0 v6 v12 v18 v24 v30 v36 v42 v48 v54 v60 v66 v72 v78 v84 v90).trips) (e : Fin 16) : k0_chk38 v0 v6 v12 v18 v24 v30 v36 v42 v48 v54 v60 v66 v72 v78 v84 v90 k (BitVec.ofNat 32 e.val) := ⟨fun _ => by revert e; decide, fun _ => by revert e; decide⟩
theorem chk39 {v0 v6 v12 v18 v24 v30 v36 v42 v48 v54 v60 v66 v72 v78 v84 v90 : BitVec 32} (k : Fin (k0_t1_loop v0 v6 v12 v18 v24 v30 v36 v42 v48 v54 v60 v66 v72 v78 v84 v90).trips) (e : Fin 16) : k0_chk39 v0 v6 v12 v18 v24 v30 v36 v42 v48 v54 v60 v66 v72 v78 v84 v90 k (BitVec.ofNat 32 e.val) := fun _ => by revert e; decide
theorem chk40 (e : Fin 16) : k0_chk40 (BitVec.ofNat 32 e.val) := by revert e; decide
theorem chk41 {v0 v6 v12 v18 v24 v30 v36 v42 v48 v54 v60 v66 v72 v78 v84 v90 : BitVec 32} (k : Fin (k0_t1_loop v0 v6 v12 v18 v24 v30 v36 v42 v48 v54 v60 v66 v72 v78 v84 v90).trips) (e : Fin 16) : k0_chk41 v0 v6 v12 v18 v24 v30 v36 v42 v48 v54 v60 v66 v72 v78 v84 v90 k (BitVec.ofNat 32 e.val) := ⟨fun _ => by revert e; decide, fun _ => by revert e; decide⟩
theorem chk42 (e : Fin 16) : k0_chk42 (BitVec.ofNat 32 e.val) := by revert e; decide
theorem chk43 {v0 v6 v12 v18 v24 v30 v36 v42 v48 v54 v60 v66 v72 v78 v84 v90 : BitVec 32} (k : Fin (k0_t1_loop v0 v6 v12 v18 v24 v30 v36 v42 v48 v54 v60 v66 v72 v78 v84 v90).trips) (e : Fin 16) : k0_chk43 v0 v6 v12 v18 v24 v30 v36 v42 v48 v54 v60 v66 v72 v78 v84 v90 k (BitVec.ofNat 32 e.val) := ⟨fun _ => by revert e; decide, fun _ => by revert e; decide⟩
theorem chk44 (e : Fin 16) : k0_chk44 (BitVec.ofNat 32 e.val) := by revert e; decide
theorem chk45 {v0 v6 v12 v18 v24 v30 v36 v42 v48 v54 v60 v66 v72 v78 v84 v90 : BitVec 32} (k : Fin (k0_t1_loop v0 v6 v12 v18 v24 v30 v36 v42 v48 v54 v60 v66 v72 v78 v84 v90).trips) (e : Fin 16) : k0_chk45 v0 v6 v12 v18 v24 v30 v36 v42 v48 v54 v60 v66 v72 v78 v84 v90 k (BitVec.ofNat 32 e.val) := ⟨fun _ => by revert e; decide, fun _ => by revert e; decide⟩
theorem chk46 (e : Fin 16) : k0_chk46 (BitVec.ofNat 32 e.val) := by revert e; decide
theorem chk47 {v0 v6 v12 v18 v24 v30 v36 v42 v48 v54 v60 v66 v72 v78 v84 v90 : BitVec 32} (k : Fin (k0_t1_loop v0 v6 v12 v18 v24 v30 v36 v42 v48 v54 v60 v66 v72 v78 v84 v90).trips) (e : Fin 16) : k0_chk47 v0 v6 v12 v18 v24 v30 v36 v42 v48 v54 v60 v66 v72 v78 v84 v90 k (BitVec.ofNat 32 e.val) := ⟨fun _ => by revert e; decide, fun _ => by revert e; decide⟩
theorem chk48 (e : Fin 16) : k0_chk48 (BitVec.ofNat 32 e.val) := by revert e; decide
theorem chk49 {v0 v6 v12 v18 v24 v30 v36 v42 v48 v54 v60 v66 v72 v78 v84 v90 : BitVec 32} (k : Fin (k0_t1_loop v0 v6 v12 v18 v24 v30 v36 v42 v48 v54 v60 v66 v72 v78 v84 v90).trips) (e : Fin 16) : k0_chk49 v0 v6 v12 v18 v24 v30 v36 v42 v48 v54 v60 v66 v72 v78 v84 v90 k (BitVec.ofNat 32 e.val) := ⟨fun _ => by revert e; decide, fun _ => by revert e; decide⟩
theorem chk50 (e : Fin 16) : k0_chk50 (BitVec.ofNat 32 e.val) := by revert e; decide
theorem chk51 {v0 v6 v12 v18 v24 v30 v36 v42 v48 v54 v60 v66 v72 v78 v84 v90 : BitVec 32} (k : Fin (k0_t1_loop v0 v6 v12 v18 v24 v30 v36 v42 v48 v54 v60 v66 v72 v78 v84 v90).trips) (e : Fin 16) : k0_chk51 v0 v6 v12 v18 v24 v30 v36 v42 v48 v54 v60 v66 v72 v78 v84 v90 k (BitVec.ofNat 32 e.val) := ⟨fun _ => by revert e; decide, fun _ => by revert e; decide⟩
theorem chk52 (e : Fin 16) : k0_chk52 (BitVec.ofNat 32 e.val) := by revert e; decide
theorem chk53 {v0 v6 v12 v18 v24 v30 v36 v42 v48 v54 v60 v66 v72 v78 v84 v90 : BitVec 32} (k : Fin (k0_t1_loop v0 v6 v12 v18 v24 v30 v36 v42 v48 v54 v60 v66 v72 v78 v84 v90).trips) (e : Fin 16) : k0_chk53 v0 v6 v12 v18 v24 v30 v36 v42 v48 v54 v60 v66 v72 v78 v84 v90 k (BitVec.ofNat 32 e.val) := ⟨fun _ => by revert e; decide, fun _ => by revert e; decide⟩

end Cert.Proof.Kernel
end
end
-- ==== Proof.Kernel.Chk.lean ====
module

public import proofs.«01_k».proof.Proof.Kernel.Words
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Transfers
public import Idealize.ShloMosaic.Lib.Batch
public import Idealize.ShloMosaic.Adequacy
public import Idealize.ShloMosaic.Init

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

/-- Whether a group is active: the comparison with zero, as a number. -/
def bit (v : BitVec 32) : ℕ := (Scalar.cmpi .sgt v 0#32).toNat
theorem bit_le (v : BitVec 32) : bit v ≤ 1 := Nat.le_of_lt_succ (Scalar.cmpi .sgt v 0#32).isLt
theorem extui_bit (v : BitVec 32) : (Scalar.extui (Scalar.cmpi .sgt v 0#32) : BitVec 32) = BitVec.ofNat 32 (bit v) := by
  unfold bit
  generalize Scalar.cmpi .sgt v 0#32 = b
  revert b; decide
theorem cond_bit (v : BitVec 32) : (Scalar.cmpi .ne (Scalar.extui (Scalar.cmpi .sgt v 0#32) : BitVec 32) 0#32 = 1#1) ↔ bit v = 1 := by
  unfold bit
  generalize Scalar.cmpi .sgt v 0#32 = b
  revert b; decide
/-- How many of the first `m` groups are active. -/
def cnt (g : ℕ → BitVec 32) : ℕ → ℕ
  | 0 => 0
  | m + 1 => cnt g m + bit (g m)
/-- The same count, as the kernel adds it up in words. -/
def pre (g : ℕ → BitVec 32) : ℕ → BitVec 32
  | 0 => 0#32
  | m + 1 => Scalar.addi (pre g m) (Scalar.extui (Scalar.cmpi .sgt (g m) 0#32))
theorem pre_eq (g : ℕ → BitVec 32) (m : ℕ) : pre g m = BitVec.ofNat 32 (cnt g m) := by
  induction m with
  | zero => rfl
  | succ m ih =>
    rw [pre, ih, extui_bit, cnt]
    exact (BitVec.ofNat_add _ _).symm
theorem cnt_le (g : ℕ → BitVec 32) (m : ℕ) : cnt g m ≤ m := by
  induction m with
  | zero => exact le_refl _
  | succ m ih => have := bit_le (g m); rw [cnt]; omega
theorem NW_eq (g : ℕ → BitVec 32) : NW (g 0) (g 1) (g 2) (g 3) (g 4) (g 5) (g 6) (g 7) (g 8) (g 9) (g 10) (g 11) (g 12) (g 13) (g 14) (g 15) = BitVec.ofNat 32 (cnt g 16) := pre_eq g 16
theorem ofNat16 (m : ℕ) (h : m < 16) : (Scalar.indexCast (BitVec.ofNat 32 m)).toNat = (p16 m).val :=
  (by decide : ∀ m : Fin 16, (Scalar.indexCast (BitVec.ofNat 32 m.val)).toNat = (p16 m.val).val) ⟨m, h⟩
theorem ipre (g : ℕ → BitVec 32) (m : ℕ) (h : m < 16) : (Scalar.indexCast (pre g m)).toNat = (p16 (cnt g m)).val := by
  rw [pre_eq]; exact ofNat16 _ (lt_of_le_of_lt (cnt_le g m) h)

private theorem all17 {P : ℕ → Prop} (h : ∀ k : Fin 17, P k.val) (k : ℕ) (hk : k ≤ 16) : P k := h ⟨k, by omega⟩

section
variable {v0 v6 v12 v18 v24 v30 v36 v42 v48 v54 v60 v66 v72 v78 v84 v90 : BitVec 32} {n : ℕ} (hn : n ≤ 16) (hN : NW v0 v6 v12 v18 v24 v30 v36 v42 v48 v54 v60 v66 v72 v78 v84 v90 = BitVec.ofNat 32 n)
include hn hN
theorem trips1 : (k0_t1_loop v0 v6 v12 v18 v24 v30 v36 v42 v48 v54 v60 v66 v72 v78 v84 v90).trips = n := by
  show Scf.trips 0#32 (Scalar.addi 0#32 (Scalar.muli (Scalar.divsi (Scalar.subi (NW v0 v6 v12 v18 v24 v30 v36 v42 v48 v54 v60 v66 v72 v78 v84 v90) 0#32) 1#32) 1#32)) 1#32 = n
  rw [hN]
  exact all17 (P := fun n => Scf.trips 0#32 (Scalar.addi 0#32 (Scalar.muli (Scalar.divsi (Scalar.subi (BitVec.ofNat 32 n) 0#32) 1#32) 1#32)) 1#32 = n) (by decide) n hn
theorem ok1 : (k0_t1_loop v0 v6 v12 v18 v24 v30 v36 v42 v48 v54 v60 v66 v72 v78 v84 v90).OK := by
  show Scf.OK 0#32 (Scalar.addi 0#32 (Scalar.muli (Scalar.divsi (Scalar.subi (NW v0 v6 v12 v18 v24 v30 v36 v42 v48 v54 v60 v66 v72 v78 v84 v90) 0#32) 1#32) 1#32)) 1#32
  rw [hN]
  exact all17 (P := fun n => Scf.OK 0#32 (Scalar.addi 0#32 (Scalar.muli (Scalar.divsi (Scalar.subi (BitVec.ofNat 32 n) 0#32) 1#32) 1#32)) 1#32) (by decide) n hn
theorem trips2 : (k0_t2_loop v0 v6 v12 v18 v24 v30 v36 v42 v48 v54 v60 v66 v72 v78 v84 v90).trips = 0 := by
  show Scf.trips (Scalar.addi 0#32 (Scalar.muli (Scalar.divsi (Scalar.subi (NW v0 v6 v12 v18 v24 v30 v36 v42 v48 v54 v60 v66 v72 v78 v84 v90) 0#32) 1#32) 1#32)) (Scalar.addi 0#32 (Scalar.subi (NW v0 v6 v12 v18 v24 v30 v36 v42 v48 v54 v60 v66 v72 v78 v84 v90) 0#32)) 1#32 = 0
  rw [hN]
  exact all17 (P := fun n => Scf.trips (Scalar.addi 0#32 (Scalar.muli (Scalar.divsi (Scalar.subi (BitVec.ofNat 32 n) 0#32) 1#32) 1#32)) (Scalar.addi 0#32 (Scalar.subi (BitVec.ofNat 32 n) 0#32)) 1#32 = 0) (by decide) n hn
theorem ok2 : (k0_t2_loop v0 v6 v12 v18 v24 v30 v36 v42 v48 v54 v60 v66 v72 v78 v84 v90).OK := by
  show Scf.OK (Scalar.addi 0#32 (Scalar.muli (Scalar.divsi (Scalar.subi (NW v0 v6 v12 v18 v24 v30 v36 v42 v48 v54 v60 v66 v72 v78 v84 v90) 0#32) 1#32) 1#32)) (Scalar.addi 0#32 (Scalar.subi (NW v0 v6 v12 v18 v24 v30 v36 v42 v48 v54 v60 v66 v72 v78 v84 v90) 0#32)) 1#32
  rw [hN]
  exact all17 (P := fun n => Scf.OK (Scalar.addi 0#32 (Scalar.muli (Scalar.divsi (Scalar.subi (BitVec.ofNat 32 n) 0#32) 1#32) 1#32)) (Scalar.addi 0#32 (Scalar.subi (BitVec.ofNat 32 n) 0#32)) 1#32) (by decide) n hn

theorem cond17 : k0_cond17 v0 v6 v12 v18 v24 v30 v36 v42 v48 v54 v60 v66 v72 v78 v84 v90 = 1#1 ↔ 0 < n := by
  show (Scalar.cmpi .ne (Scalar.extui (Scalar.cmpi .sgt (NW v0 v6 v12 v18 v24 v30 v36 v42 v48 v54 v60 v66 v72 v78 v84 v90) 0#32) : BitVec 32) 0#32 = 1#1) ↔ _
  rw [hN]
  exact all17 (P := fun n => (Scalar.cmpi .ne (Scalar.extui (Scalar.cmpi .sgt (BitVec.ofNat 32 n) 0#32) : BitVec 32) 0#32 = 1#1) ↔ 0 < n) (by decide) n hn
theorem cond18 : k0_cond18 v0 v6 v12 v18 v24 v30 v36 v42 v48 v54 v60 v66 v72 v78 v84 v90 = 1#1 ↔ 1 < n := by
  show (Scalar.cmpi .ne (Scalar.extui (Scalar.cmpi .sgt (NW v0 v6 v12 v18 v24 v30 v36 v42 v48 v54 v60 v66 v72 v78 v84 v90) 1#32) : BitVec 32) 0#32 = 1#1) ↔ _
  rw [hN]
  exact all17 (P := fun n => (Scalar.cmpi .ne (Scalar.extui (Scalar.cmpi .sgt (BitVec.ofNat 32 n) 1#32) : BitVec 32) 0#32 = 1#1) ↔ 1 < n) (by decide) n hn
theorem cond69 : k0_cond69 v0 v6 v12 v18 v24 v30 v36 v42 v48 v54 v60 v66 v72 v78 v84 v90 = 1#1 ↔ 0 < n := by
  show (Scalar.cmpi .ne (Scalar.extui (Scalar.cmpi .sgt (NW v0 v6 v12 v18 v24 v30 v36 v42 v48 v54 v60 v66 v72 v78 v84 v90) 0#32) : BitVec 32) 0#32 = 1#1) ↔ _
  rw [hN]
  exact all17 (P := fun n => (Scalar.cmpi .ne (Scalar.extui (Scalar.cmpi .sgt (BitVec.ofNat 32 n) 0#32) : BitVec 32) 0#32 = 1#1) ↔ 0 < n) (by decide) n hn
theorem cond70 : k0_cond70 v0 v6 v12 v18 v24 v30 v36 v42 v48 v54 v60 v66 v72 v78 v84 v90 = 1#1 ↔ 1 < n := by
  show (Scalar.cmpi .ne (Scalar.extui (Scalar.cmpi .sgt (NW v0 v6 v12 v18 v24 v30 v36 v42 v48 v54 v60 v66 v72 v78 v84 v90) 1#32) : BitVec 32) 0#32 = 1#1) ↔ _
  rw [hN]
  exact all17 (P := fun n => (Scalar.cmpi .ne (Scalar.extui (Scalar.cmpi .sgt (BitVec.ofNat 32 n) 1#32) : BitVec 32) 0#32 = 1#1) ↔ 1 < n) (by decide) n hn
theorem off392 (h : 0 < n) : k0_off392 v0 v6 v12 v18 v24 v30 v36 v42 v48 v54 v60 v66 v72 v78 v84 v90 = ![(p16 (n - 1)).val] := by
  show ![(Scalar.indexCast (Scalar.subi (Scalar.subi (NW v0 v6 v12 v18 v24 v30 v36 v42 v48 v54 v60 v66 v72 v78 v84 v90) 1#32) 0#32)).toNat] = _
  rw [hN, all17 (P := fun n => 0 < n → (Scalar.indexCast (Scalar.subi (Scalar.subi (BitVec.ofNat 32 n) 1#32) 0#32)).toNat = (p16 (n - 1)).val) (by decide) n hn h]
theorem off393 (h : 0 < n) : k0_off393 v0 v6 v12 v18 v24 v30 v36 v42 v48 v54 v60 v66 v72 v78 v84 v90 = ![(sl (n - 1)).val] := by
  show ![(Scalar.remsi (Scalar.subi (Scalar.subi (NW v0 v6 v12 v18 v24 v30 v36 v42 v48 v54 v60 v66 v72 v78 v84 v90) 1#32) 0#32) 2#32).toNat] = _
  rw [hN, all17 (P := fun n => 0 < n → (Scalar.remsi (Scalar.subi (Scalar.subi (BitVec.ofNat 32 n) 1#32) 0#32) 2#32).toNat = (sl (n - 1)).val) (by decide) n hn h]
theorem off395 (h : 0 < n) : k0_off395 v0 v6 v12 v18 v24 v30 v36 v42 v48 v54 v60 v66 v72 v78 v84 v90 = ![(sl (n - 1)).val, 0, 0] := by
  show ![(Scalar.remsi (Scalar.subi (Scalar.subi (NW v0 v6 v12 v18 v24 v30 v36 v42 v48 v54 v60 v66 v72 v78 v84 v90) 1#32) 0#32) 2#32).toNat, 0, 0] = _
  rw [hN, all17 (P := fun n => 0 < n → (Scalar.remsi (Scalar.subi (Scalar.subi (BitVec.ofNat 32 n) 1#32) 0#32) 2#32).toNat = (sl (n - 1)).val) (by decide) n hn h]
theorem off396 (h : 1 < n) : k0_off396 v0 v6 v12 v18 v24 v30 v36 v42 v48 v54 v60 v66 v72 v78 v84 v90 = ![(p16 (n - 2)).val] := by
  show ![(Scalar.indexCast (Scalar.subi (Scalar.subi (NW v0 v6 v12 v18 v24 v30 v36 v42 v48 v54 v60 v66 v72 v78 v84 v90) 1#32) 1#32)).toNat] = _
  rw [hN, all17 (P := fun n => 1 < n → (Scalar.indexCast (Scalar.subi (Scalar.subi (BitVec.ofNat 32 n) 1#32) 1#32)).toNat = (p16 (n - 2)).val) (by decide) n hn h]
theorem off397 (h : 1 < n) : k0_off397 v0 v6 v12 v18 v24 v30 v36 v42 v48 v54 v60 v66 v72 v78 v84 v90 = ![(sl (n - 2)).val] := by
  show ![(Scalar.remsi (Scalar.subi (Scalar.subi (NW v0 v6 v12 v18 v24 v30 v36 v42 v48 v54 v60 v66 v72 v78 v84 v90) 1#32) 1#32) 2#32).toNat] = _
  rw [hN, all17 (P := fun n => 1 < n → (Scalar.remsi (Scalar.subi (Scalar.subi (BitVec.ofNat 32 n) 1#32) 1#32) 2#32).toNat = (sl (n - 2)).val) (by decide) n hn h]
theorem off399 (h : 1 < n) : k0_off399 v0 v6 v12 v18 v24 v30 v36 v42 v48 v54 v60 v66 v72 v78 v84 v90 = ![(sl (n - 2)).val, 0, 0] := by
  show ![(Scalar.remsi (Scalar.subi (Scalar.subi (NW v0 v6 v12 v18 v24 v30 v36 v42 v48 v54 v60 v66 v72 v78 v84 v90) 1#32) 1#32) 2#32).toNat, 0, 0] = _
  rw [hN, all17 (P := fun n => 1 < n → (Scalar.remsi (Scalar.subi (Scalar.subi (BitVec.ofNat 32 n) 1#32) 1#32) 2#32).toNat = (sl (n - 2)).val) (by decide) n hn h]
end

section
variable {v0 v6 v12 v18 v24 v30 v36 v42 v48 v54 v60 v66 v72 v78 v84 v90 : BitVec 32} {n : ℕ} (hn : n ≤ 16) (hN : NW v0 v6 v12 v18 v24 v30 v36 v42 v48 v54 v60 v66 v72 v78 v84 v90 = BitVec.ofNat 32 n)
include hn hN
theorem klt (k : Fin (k0_t1_loop v0 v6 v12 v18 v24 v30 v36 v42 v48 v54 v60 v66 v72 v78 v84 v90).trips) : k.val < n := lt_of_lt_of_eq k.isLt (trips1 hn hN)
theorem klt16 (k : Fin (k0_t1_loop v0 v6 v12 v18 v24 v30 v36 v42 v48 v54 v60 v66 v72 v78 v84 v90).trips) : k.val < 16 := lt_of_lt_of_le (klt hn hN k) hn
theorem no2 {P : Prop} (k : Fin (k0_t2_loop v0 v6 v12 v18 v24 v30 v36 v42 v48 v54 v60 v66 v72 v78 v84 v90).trips) : P := absurd (lt_of_lt_of_eq k.isLt (trips2 hn hN)) (Nat.not_lt_zero _)

theorem chk15_0 (h15 : ∀ (k0_h16 : k0_cond16 v90 = 1#1), ∀ a, (k0_off15 v0 v6 v12 v18 v24 v30 v36 v42 v48 v54 v60 v66 v72 v78 v84) a + S1.size a ≤ S16.size a) : k0_chk15_0 v0 v6 v12 v18 v24 v30 v36 v42 v48 v54 v60 v66 v72 v78 v84 v90 := ⟨
  h15,
  ok1 hn hN,
  fun k => by rw [off34 k (klt16 hn hN k)]; generalize p16 k.val = s; revert s; decide,
  fun k => by rw [off36 k (klt16 hn hN k)]; generalize p16 k.val = s; revert s; decide,
  fun k => by rw [off37 k (klt16 hn hN k)]; generalize sl k.val = s; revert s; decide,
  fun k => by rw [off38 k (klt16 hn hN k)]; generalize sl k.val = s; revert s; decide,
  fun k => by rw [off38 k (klt16 hn hN k)]; generalize sl k.val = s; revert s; decide,
  fun k => by rw [off40 k (klt16 hn hN k)]; generalize p16 k.val = s; revert s; decide,
  fun k => by rw [off41 k (klt16 hn hN k)]; generalize sl k.val = s; revert s; decide,
  fun k => by rw [off42 k (klt16 hn hN k)]; generalize sl k.val = s; revert s; decide,
  fun k => by rw [off44 k (klt16 hn hN k)]; generalize sl k.val = s; revert s; decide,
  fun k => by rw [off45 k (klt16 hn hN k)]; generalize sl k.val = s; revert s; decide,
  fun k => by rw [off46 k (klt16 hn hN k)]; generalize sl k.val = s; revert s; decide,
  fun k => by rw [off47 k (klt16 hn hN k)]; generalize sl k.val = s; revert s; decide,
  fun k => by rw [off48 k (klt16 hn hN k)]; generalize sl k.val = s; revert s; decide,
  fun k => by rw [off49 k (klt16 hn hN k)]; generalize sl k.val = s; revert s; decide,
  fun k => by rw [off50 k (klt16 hn hN k)]; generalize sl k.val = s; revert s; decide,
  fun k => by rw [off51 k (klt16 hn hN k)]; generalize sl k.val = s; revert s; decide,
  fun k => by rw [off52 k (klt16 hn hN k)]; generalize sl k.val = s; revert s; decide,
  fun k => by rw [off53 k (klt16 hn hN k)]; generalize sl k.val = s; revert s; decide,
  fun k => by rw [off54 k (klt16 hn hN k)]; generalize sl k.val = s; revert s; decide,
  fun k => by rw [off55 k (klt16 hn hN k)]; generalize sl k.val = s; revert s; decide,
  fun k => by rw [off56 k (klt16 hn hN k)]; generalize sl k.val = s; revert s; decide,
  fun k h => by rw [off57 k (klt16 hn hN k) ((cond35 k (klt16 hn hN k)).1 h)]; generalize p16 (k.val - 2) = s; revert s; decide,
  fun k h => by rw [off58 k (klt16 hn hN k)]; generalize sl k.val = s; revert s; decide,
  fun k h => by rw [off60 k (klt16 hn hN k)]; generalize sl k.val = s; revert s; decide,
  fun k h => by rw [off60 k (klt16 hn hN k)]; generalize sl k.val = s; revert s; decide,
  fun k h => by rw [off61 k (lt_of_lt_of_le ((cond36 k (klt16 hn hN k) hn hN).1 h) hn)]; generalize p16 (k.val + 2) = s; revert s; decide,
  fun k h => by rw [off62 k (klt16 hn hN k)]; generalize sl k.val = s; revert s; decide,
  fun k h => by rw [off63 k (klt16 hn hN k)]; generalize sl k.val = s; revert s; decide,
  fun k h => by rw [off63 k (klt16 hn hN k)]; generalize sl k.val = s; revert s; decide,
  fun k h => by rw [off65 k (lt_of_lt_of_le ((cond36 k (klt16 hn hN k) hn hN).1 h) hn)]; generalize p16 (k.val + 2) = s; revert s; decide⟩
theorem chk15_1 : k0_chk15_1 v0 v6 v12 v18 v24 v30 v36 v42 v48 v54 v60 v66 v72 v78 v84 v90 := ⟨
  fun k h => by rw [off66 k (klt16 hn hN k)]; generalize sl k.val = s; revert s; decide,
  fun k h => by rw [off67 k (klt16 hn hN k)]; generalize sl k.val = s; revert s; decide,
  fun k => by rw [off69 k (klt16 hn hN k)]; generalize p16 k.val = s; revert s; decide,
  fun k => by rw [off70 k (klt16 hn hN k)]; generalize sl k.val = s; revert s; decide,
  fun k => by rw [off71 k (klt16 hn hN k)]; generalize sl k.val = s; revert s; decide,
  fun k => by rw [off71 k (klt16 hn hN k)]; generalize sl k.val = s; revert s; decide,
  fun k => by rw [off73 k (klt16 hn hN k)]; generalize sl k.val = s; revert s; decide,
  fun k => by rw [off74 k (klt16 hn hN k)]; generalize sl k.val = s; revert s; decide,
  fun k => by rw [off74 k (klt16 hn hN k)]; generalize sl k.val = s; revert s; decide,
  fun k => by rw [off75 k (klt16 hn hN k)]; generalize sl k.val = s; revert s; decide,
  fun k => by rw [off75 k (klt16 hn hN k)]; generalize sl k.val = s; revert s; decide,
  fun k => by rw [off76 k (klt16 hn hN k)]; generalize sl k.val = s; revert s; decide,
  fun k => by rw [off77 k (klt16 hn hN k)]; generalize sl k.val = s; revert s; decide,
  fun k => by rw [off77 k (klt16 hn hN k)]; generalize sl k.val = s; revert s; decide,
  fun k => by rw [off78 k (klt16 hn hN k)]; generalize sl k.val = s; revert s; decide,
  fun k => by rw [off78 k (klt16 hn hN k)]; generalize sl k.val = s; revert s; decide,
  fun k => by rw [off79 k (klt16 hn hN k)]; generalize sl k.val = s; revert s; decide,
  fun k => by rw [off80 k (klt16 hn hN k)]; generalize sl k.val = s; revert s; decide,
  fun k => by rw [off80 k (klt16 hn hN k)]; generalize sl k.val = s; revert s; decide,
  fun k => by rw [off81 k (klt16 hn hN k)]; generalize sl k.val = s; revert s; decide,
  fun k => by rw [off81 k (klt16 hn hN k)]; generalize sl k.val = s; revert s; decide,
  fun k => by rw [off82 k (klt16 hn hN k)]; generalize sl k.val = s; revert s; decide,
  fun k => by rw [off83 k (klt16 hn hN k)]; generalize sl k.val = s; revert s; decide,
  fun k => by rw [off83 k (klt16 hn hN k)]; generalize sl k.val = s; revert s; decide,
  fun k => by rw [off84 k (klt16 hn hN k)]; generalize sl k.val = s; revert s; decide,
  fun k => by rw [off84 k (klt16 hn hN k)]; generalize sl k.val = s; revert s; decide,
  fun k h => by rw [off85 k (lt_of_lt_of_le ((cond37 k (klt16 hn hN k) hn hN).1 h) hn)]; generalize p16 (k.val + 2) = s; revert s; decide,
  fun k h => by rw [off86 k (klt16 hn hN k)]; generalize sl k.val = s; revert s; decide,
  fun k h => by rw [off87 k (klt16 hn hN k)]; generalize sl k.val = s; revert s; decide,
  fun k h => by rw [off87 k (klt16 hn hN k)]; generalize sl k.val = s; revert s; decide,
  fun k => by rw [off89 k (klt16 hn hN k)]; generalize p16 k.val = s; revert s; decide,
  fun k => by rw [off90 k (klt16 hn hN k)]; generalize sl k.val = s; revert s; decide⟩
theorem chk15_2 : k0_chk15_2 v0 v6 v12 v18 v24 v30 v36 v42 v48 v54 v60 v66 v72 v78 v84 v90 := ⟨
  fun k => by rw [off91 k (klt16 hn hN k)]; generalize sl k.val = s; revert s; decide,
  fun k => by rw [off91 k (klt16 hn hN k)]; generalize sl k.val = s; revert s; decide,
  fun k => by rw [off93 k (klt16 hn hN k)]; generalize sl k.val = s; revert s; decide,
  fun k => by rw [off94 k (klt16 hn hN k)]; generalize sl k.val = s; revert s; decide,
  fun k => by rw [off94 k (klt16 hn hN k)]; generalize sl k.val = s; revert s; decide,
  fun k => by rw [off95 k (klt16 hn hN k)]; generalize sl k.val = s; revert s; decide,
  fun k => by rw [off95 k (klt16 hn hN k)]; generalize sl k.val = s; revert s; decide,
  fun k => by rw [off96 k (klt16 hn hN k)]; generalize sl k.val = s; revert s; decide,
  fun k => by rw [off97 k (klt16 hn hN k)]; generalize sl k.val = s; revert s; decide,
  fun k => by rw [off97 k (klt16 hn hN k)]; generalize sl k.val = s; revert s; decide,
  fun k => by rw [off98 k (klt16 hn hN k)]; generalize sl k.val = s; revert s; decide,
  fun k => by rw [off98 k (klt16 hn hN k)]; generalize sl k.val = s; revert s; decide,
  fun k => by rw [off99 k (klt16 hn hN k)]; generalize sl k.val = s; revert s; decide,
  fun k => by rw [off100 k (klt16 hn hN k)]; generalize sl k.val = s; revert s; decide,
  fun k => by rw [off100 k (klt16 hn hN k)]; generalize sl k.val = s; revert s; decide,
  fun k => by rw [off101 k (klt16 hn hN k)]; generalize sl k.val = s; revert s; decide,
  fun k => by rw [off101 k (klt16 hn hN k)]; generalize sl k.val = s; revert s; decide,
  fun k => by rw [off102 k (klt16 hn hN k)]; generalize sl k.val = s; revert s; decide,
  fun k => by rw [off103 k (klt16 hn hN k)]; generalize sl k.val = s; revert s; decide,
  fun k => by rw [off103 k (klt16 hn hN k)]; generalize sl k.val = s; revert s; decide,
  fun k => by rw [off104 k (klt16 hn hN k)]; generalize sl k.val = s; revert s; decide,
  fun k => by rw [off104 k (klt16 hn hN k)]; generalize sl k.val = s; revert s; decide,
  fun k h => by rw [off105 k (lt_of_lt_of_le ((cond38 k (klt16 hn hN k) hn hN).1 h) hn)]; generalize p16 (k.val + 2) = s; revert s; decide,
  fun k h => by rw [off106 k (klt16 hn hN k)]; generalize sl k.val = s; revert s; decide,
  fun k h => by rw [off107 k (klt16 hn hN k)]; generalize sl k.val = s; revert s; decide,
  fun k h => by rw [off107 k (klt16 hn hN k)]; generalize sl k.val = s; revert s; decide,
  fun k => by rw [off109 k (klt16 hn hN k)]; generalize p16 k.val = s; revert s; decide,
  fun k => by rw [off110 k (klt16 hn hN k)]; generalize sl k.val = s; revert s; decide,
  fun k => by rw [off111 k (klt16 hn hN k)]; generalize sl k.val = s; revert s; decide,
  fun k => by rw [off111 k (klt16 hn hN k)]; generalize sl k.val = s; revert s; decide,
  fun k => by rw [off113 k (klt16 hn hN k)]; generalize sl k.val = s; revert s; decide,
  fun k => by rw [off114 k (klt16 hn hN k)]; generalize sl k.val = s; revert s; decide⟩
theorem chk15_3 : k0_chk15_3 v0 v6 v12 v18 v24 v30 v36 v42 v48 v54 v60 v66 v72 v78 v84 v90 := ⟨
  fun k => by rw [off114 k (klt16 hn hN k)]; generalize sl k.val = s; revert s; decide,
  fun k => by rw [off115 k (klt16 hn hN k)]; generalize sl k.val = s; revert s; decide,
  fun k => by rw [off115 k (klt16 hn hN k)]; generalize sl k.val = s; revert s; decide,
  fun k => by rw [off116 k (klt16 hn hN k)]; generalize sl k.val = s; revert s; decide,
  fun k => by rw [off117 k (klt16 hn hN k)]; generalize sl k.val = s; revert s; decide,
  fun k => by rw [off117 k (klt16 hn hN k)]; generalize sl k.val = s; revert s; decide,
  fun k => by rw [off118 k (klt16 hn hN k)]; generalize sl k.val = s; revert s; decide,
  fun k => by rw [off118 k (klt16 hn hN k)]; generalize sl k.val = s; revert s; decide,
  fun k => by rw [off119 k (klt16 hn hN k)]; generalize sl k.val = s; revert s; decide,
  fun k => by rw [off120 k (klt16 hn hN k)]; generalize sl k.val = s; revert s; decide,
  fun k => by rw [off120 k (klt16 hn hN k)]; generalize sl k.val = s; revert s; decide,
  fun k => by rw [off121 k (klt16 hn hN k)]; generalize sl k.val = s; revert s; decide,
  fun k => by rw [off121 k (klt16 hn hN k)]; generalize sl k.val = s; revert s; decide,
  fun k => by rw [off122 k (klt16 hn hN k)]; generalize sl k.val = s; revert s; decide,
  fun k => by rw [off123 k (klt16 hn hN k)]; generalize sl k.val = s; revert s; decide,
  fun k => by rw [off123 k (klt16 hn hN k)]; generalize sl k.val = s; revert s; decide,
  fun k => by rw [off124 k (klt16 hn hN k)]; generalize sl k.val = s; revert s; decide,
  fun k => by rw [off124 k (klt16 hn hN k)]; generalize sl k.val = s; revert s; decide,
  fun k h => by rw [off125 k (lt_of_lt_of_le ((cond39 k (klt16 hn hN k) hn hN).1 h) hn)]; generalize p16 (k.val + 2) = s; revert s; decide,
  fun k h => by rw [off126 k (klt16 hn hN k)]; generalize sl k.val = s; revert s; decide,
  fun k h => by rw [off127 k (klt16 hn hN k)]; generalize sl k.val = s; revert s; decide,
  fun k h => by rw [off127 k (klt16 hn hN k)]; generalize sl k.val = s; revert s; decide,
  fun k => by rw [off129 k (klt16 hn hN k)]; generalize p16 k.val = s; revert s; decide,
  fun k => by rw [off130 k (klt16 hn hN k)]; generalize sl k.val = s; revert s; decide,
  fun k => by rw [off131 k (klt16 hn hN k)]; generalize sl k.val = s; revert s; decide,
  fun k => by rw [off131 k (klt16 hn hN k)]; generalize sl k.val = s; revert s; decide,
  fun k => by rw [off133 k (klt16 hn hN k)]; generalize sl k.val = s; revert s; decide,
  fun k => by rw [off134 k (klt16 hn hN k)]; generalize sl k.val = s; revert s; decide,
  fun k => by rw [off134 k (klt16 hn hN k)]; generalize sl k.val = s; revert s; decide,
  fun k => by rw [off135 k (klt16 hn hN k)]; generalize sl k.val = s; revert s; decide,
  fun k => by rw [off135 k (klt16 hn hN k)]; generalize sl k.val = s; revert s; decide,
  fun k => by rw [off136 k (klt16 hn hN k)]; generalize sl k.val = s; revert s; decide⟩
theorem chk15_4 : k0_chk15_4 v0 v6 v12 v18 v24 v30 v36 v42 v48 v54 v60 v66 v72 v78 v84 v90 := ⟨
  fun k => by rw [off137 k (klt16 hn hN k)]; generalize sl k.val = s; revert s; decide,
  fun k => by rw [off137 k (klt16 hn hN k)]; generalize sl k.val = s; revert s; decide,
  fun k => by rw [off138 k (klt16 hn hN k)]; generalize sl k.val = s; revert s; decide,
  fun k => by rw [off138 k (klt16 hn hN k)]; generalize sl k.val = s; revert s; decide,
  fun k => by rw [off139 k (klt16 hn hN k)]; generalize sl k.val = s; revert s; decide,
  fun k => by rw [off140 k (klt16 hn hN k)]; generalize sl k.val = s; revert s; decide,
  fun k => by rw [off140 k (klt16 hn hN k)]; generalize sl k.val = s; revert s; decide,
  fun k => by rw [off141 k (klt16 hn hN k)]; generalize sl k.val = s; revert s; decide,
  fun k => by rw [off141 k (klt16 hn hN k)]; generalize sl k.val = s; revert s; decide,
  fun k => by rw [off142 k (klt16 hn hN k)]; generalize sl k.val = s; revert s; decide,
  fun k => by rw [off143 k (klt16 hn hN k)]; generalize sl k.val = s; revert s; decide,
  fun k => by rw [off143 k (klt16 hn hN k)]; generalize sl k.val = s; revert s; decide,
  fun k => by rw [off144 k (klt16 hn hN k)]; generalize sl k.val = s; revert s; decide,
  fun k => by rw [off144 k (klt16 hn hN k)]; generalize sl k.val = s; revert s; decide,
  fun k h => by rw [off145 k (lt_of_lt_of_le ((cond40 k (klt16 hn hN k) hn hN).1 h) hn)]; generalize p16 (k.val + 2) = s; revert s; decide,
  fun k h => by rw [off146 k (klt16 hn hN k)]; generalize sl k.val = s; revert s; decide,
  fun k h => by rw [off147 k (klt16 hn hN k)]; generalize sl k.val = s; revert s; decide,
  fun k h => by rw [off147 k (klt16 hn hN k)]; generalize sl k.val = s; revert s; decide,
  fun k => by rw [off149 k (klt16 hn hN k)]; generalize p16 k.val = s; revert s; decide,
  fun k => by rw [off150 k (klt16 hn hN k)]; generalize sl k.val = s; revert s; decide,
  fun k => by rw [off151 k (klt16 hn hN k)]; generalize sl k.val = s; revert s; decide,
  fun k => by rw [off151 k (klt16 hn hN k)]; generalize sl k.val = s; revert s; decide,
  fun k => by rw [off153 k (klt16 hn hN k)]; generalize sl k.val = s; revert s; decide,
  fun k => by rw [off154 k (klt16 hn hN k)]; generalize sl k.val = s; revert s; decide,
  fun k => by rw [off154 k (klt16 hn hN k)]; generalize sl k.val = s; revert s; decide,
  fun k => by rw [off155 k (klt16 hn hN k)]; generalize sl k.val = s; revert s; decide,
  fun k => by rw [off155 k (klt16 hn hN k)]; generalize sl k.val = s; revert s; decide,
  fun k => by rw [off156 k (klt16 hn hN k)]; generalize sl k.val = s; revert s; decide,
  fun k => by rw [off157 k (klt16 hn hN k)]; generalize sl k.val = s; revert s; decide,
  fun k => by rw [off157 k (klt16 hn hN k)]; generalize sl k.val = s; revert s; decide,
  fun k => by rw [off158 k (klt16 hn hN k)]; generalize sl k.val = s; revert s; decide,
  fun k => by rw [off158 k (klt16 hn hN k)]; generalize sl k.val = s; revert s; decide⟩
theorem chk15_5 : k0_chk15_5 v0 v6 v12 v18 v24 v30 v36 v42 v48 v54 v60 v66 v72 v78 v84 v90 := ⟨
  fun k => by rw [off159 k (klt16 hn hN k)]; generalize sl k.val = s; revert s; decide,
  fun k => by rw [off160 k (klt16 hn hN k)]; generalize sl k.val = s; revert s; decide,
  fun k => by rw [off160 k (klt16 hn hN k)]; generalize sl k.val = s; revert s; decide,
  fun k => by rw [off161 k (klt16 hn hN k)]; generalize sl k.val = s; revert s; decide,
  fun k => by rw [off161 k (klt16 hn hN k)]; generalize sl k.val = s; revert s; decide,
  fun k => by rw [off162 k (klt16 hn hN k)]; generalize sl k.val = s; revert s; decide,
  fun k => by rw [off163 k (klt16 hn hN k)]; generalize sl k.val = s; revert s; decide,
  fun k => by rw [off163 k (klt16 hn hN k)]; generalize sl k.val = s; revert s; decide,
  fun k => by rw [off164 k (klt16 hn hN k)]; generalize sl k.val = s; revert s; decide,
  fun k => by rw [off164 k (klt16 hn hN k)]; generalize sl k.val = s; revert s; decide,
  fun k h => by rw [off165 k (lt_of_lt_of_le ((cond41 k (klt16 hn hN k) hn hN).1 h) hn)]; generalize p16 (k.val + 2) = s; revert s; decide,
  fun k h => by rw [off166 k (klt16 hn hN k)]; generalize sl k.val = s; revert s; decide,
  fun k h => by rw [off167 k (klt16 hn hN k)]; generalize sl k.val = s; revert s; decide,
  fun k h => by rw [off167 k (klt16 hn hN k)]; generalize sl k.val = s; revert s; decide,
  fun k => by rw [off169 k (klt16 hn hN k)]; generalize p16 k.val = s; revert s; decide,
  fun k => by rw [off170 k (klt16 hn hN k)]; generalize sl k.val = s; revert s; decide,
  fun k => by rw [off171 k (klt16 hn hN k)]; generalize sl k.val = s; revert s; decide,
  fun k => by rw [off171 k (klt16 hn hN k)]; generalize sl k.val = s; revert s; decide,
  fun k => by rw [off173 k (klt16 hn hN k)]; generalize sl k.val = s; revert s; decide,
  fun k => by rw [off174 k (klt16 hn hN k)]; generalize sl k.val = s; revert s; decide,
  fun k => by rw [off174 k (klt16 hn hN k)]; generalize sl k.val = s; revert s; decide,
  fun k => by rw [off175 k (klt16 hn hN k)]; generalize sl k.val = s; revert s; decide,
  fun k => by rw [off175 k (klt16 hn hN k)]; generalize sl k.val = s; revert s; decide,
  fun k => by rw [off176 k (klt16 hn hN k)]; generalize sl k.val = s; revert s; decide,
  fun k => by rw [off177 k (klt16 hn hN k)]; generalize sl k.val = s; revert s; decide,
  fun k => by rw [off177 k (klt16 hn hN k)]; generalize sl k.val = s; revert s; decide,
  fun k => by rw [off178 k (klt16 hn hN k)]; generalize sl k.val = s; revert s; decide,
  fun k => by rw [off178 k (klt16 hn hN k)]; generalize sl k.val = s; revert s; decide,
  fun k => by rw [off179 k (klt16 hn hN k)]; generalize sl k.val = s; revert s; decide,
  fun k => by rw [off180 k (klt16 hn hN k)]; generalize sl k.val = s; revert s; decide,
  fun k => by rw [off180 k (klt16 hn hN k)]; generalize sl k.val = s; revert s; decide,
  fun k => by rw [off181 k (klt16 hn hN k)]; generalize sl k.val = s; revert s; decide⟩
theorem chk15_6 : k0_chk15_6 v0 v6 v12 v18 v24 v30 v36 v42 v48 v54 v60 v66 v72 v78 v84 v90 := ⟨
  fun k => by rw [off181 k (klt16 hn hN k)]; generalize sl k.val = s; revert s; decide,
  fun k => by rw [off182 k (klt16 hn hN k)]; generalize sl k.val = s; revert s; decide,
  fun k => by rw [off183 k (klt16 hn hN k)]; generalize sl k.val = s; revert s; decide,
  fun k => by rw [off183 k (klt16 hn hN k)]; generalize sl k.val = s; revert s; decide,
  fun k => by rw [off184 k (klt16 hn hN k)]; generalize sl k.val = s; revert s; decide,
  fun k => by rw [off184 k (klt16 hn hN k)]; generalize sl k.val = s; revert s; decide,
  fun k h => by rw [off185 k (lt_of_lt_of_le ((cond42 k (klt16 hn hN k) hn hN).1 h) hn)]; generalize p16 (k.val + 2) = s; revert s; decide,
  fun k h => by rw [off186 k (klt16 hn hN k)]; generalize sl k.val = s; revert s; decide,
  fun k h => by rw [off187 k (klt16 hn hN k)]; generalize sl k.val = s; revert s; decide,
  fun k h => by rw [off187 k (klt16 hn hN k)]; generalize sl k.val = s; revert s; decide,
  fun k => by rw [off189 k (klt16 hn hN k)]; generalize p16 k.val = s; revert s; decide,
  fun k => by rw [off190 k (klt16 hn hN k)]; generalize sl k.val = s; revert s; decide,
  fun k => by rw [off191 k (klt16 hn hN k)]; generalize sl k.val = s; revert s; decide,
  fun k => by rw [off191 k (klt16 hn hN k)]; generalize sl k.val = s; revert s; decide,
  fun k => by rw [off193 k (klt16 hn hN k)]; generalize sl k.val = s; revert s; decide,
  fun k => by rw [off194 k (klt16 hn hN k)]; generalize sl k.val = s; revert s; decide,
  fun k => by rw [off194 k (klt16 hn hN k)]; generalize sl k.val = s; revert s; decide,
  fun k => by rw [off195 k (klt16 hn hN k)]; generalize sl k.val = s; revert s; decide,
  fun k => by rw [off195 k (klt16 hn hN k)]; generalize sl k.val = s; revert s; decide,
  fun k => by rw [off196 k (klt16 hn hN k)]; generalize sl k.val = s; revert s; decide,
  fun k => by rw [off197 k (klt16 hn hN k)]; generalize sl k.val = s; revert s; decide,
  fun k => by rw [off197 k (klt16 hn hN k)]; generalize sl k.val = s; revert s; decide,
  fun k => by rw [off198 k (klt16 hn hN k)]; generalize sl k.val = s; revert s; decide,
  fun k => by rw [off198 k (klt16 hn hN k)]; generalize sl k.val = s; revert s; decide,
  fun k => by rw [off199 k (klt16 hn hN k)]; generalize sl k.val = s; revert s; decide,
  fun k => by rw [off200 k (klt16 hn hN k)]; generalize sl k.val = s; revert s; decide,
  fun k => by rw [off200 k (klt16 hn hN k)]; generalize sl k.val = s; revert s; decide,
  fun k => by rw [off201 k (klt16 hn hN k)]; generalize sl k.val = s; revert s; decide,
  fun k => by rw [off201 k (klt16 hn hN k)]; generalize sl k.val = s; revert s; decide,
  fun k => by rw [off202 k (klt16 hn hN k)]; generalize sl k.val = s; revert s; decide,
  fun k => by rw [off203 k (klt16 hn hN k)]; generalize sl k.val = s; revert s; decide,
  fun k => by rw [off203 k (klt16 hn hN k)]; generalize sl k.val = s; revert s; decide⟩
theorem chk15_7 : k0_chk15_7 v0 v6 v12 v18 v24 v30 v36 v42 v48 v54 v60 v66 v72 v78 v84 v90 := ⟨
  fun k => by rw [off204 k (klt16 hn hN k)]; generalize sl k.val = s; revert s; decide,
  fun k => by rw [off204 k (klt16 hn hN k)]; generalize sl k.val = s; revert s; decide,
  fun k h => by rw [off205 k (lt_of_lt_of_le ((cond43 k (klt16 hn hN k) hn hN).1 h) hn)]; generalize p16 (k.val + 2) = s; revert s; decide,
  fun k h => by rw [off206 k (klt16 hn hN k)]; generalize sl k.val = s; revert s; decide,
  fun k h => by rw [off207 k (klt16 hn hN k)]; generalize sl k.val = s; revert s; decide,
  fun k h => by rw [off207 k (klt16 hn hN k)]; generalize sl k.val = s; revert s; decide,
  fun k => by rw [off209 k (klt16 hn hN k)]; generalize p16 k.val = s; revert s; decide,
  fun k => by rw [off210 k (klt16 hn hN k)]; generalize sl k.val = s; revert s; decide,
  fun k => by rw [off212 k (klt16 hn hN k)]; generalize sl k.val = s; revert s; decide,
  fun k => by rw [off212 k (klt16 hn hN k)]; generalize sl k.val = s; revert s; decide,
  ok2 hn hN,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k⟩
theorem chk15_8 : k0_chk15_8 v0 v6 v12 v18 v24 v30 v36 v42 v48 v54 v60 v66 v72 v78 v84 v90 := ⟨
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k⟩
theorem chk15_9 : k0_chk15_9 v0 v6 v12 v18 v24 v30 v36 v42 v48 v54 v60 v66 v72 v78 v84 v90 := ⟨
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k⟩
theorem chk15_10 : k0_chk15_10 v0 v6 v12 v18 v24 v30 v36 v42 v48 v54 v60 v66 v72 v78 v84 v90 := ⟨
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k⟩
theorem chk15_11 : k0_chk15_11 v0 v6 v12 v18 v24 v30 v36 v42 v48 v54 v60 v66 v72 v78 v84 v90 := ⟨
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k⟩
theorem chk15_12 : k0_chk15_12 v0 v6 v12 v18 v24 v30 v36 v42 v48 v54 v60 v66 v72 v78 v84 v90 := ⟨
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k⟩
theorem chk15_13 : k0_chk15_13 v0 v6 v12 v18 v24 v30 v36 v42 v48 v54 v60 v66 v72 v78 v84 v90 := ⟨
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k⟩
theorem chk15_14 : k0_chk15_14 v0 v6 v12 v18 v24 v30 v36 v42 v48 v54 v60 v66 v72 v78 v84 v90 := ⟨
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun h => by rw [off392 hn hN ((cond69 hn hN).1 h)]; generalize p16 (n - 1) = s; revert s; decide,
  fun h => by rw [off393 hn hN ((cond69 hn hN).1 h)]; generalize sl (n - 1) = s; revert s; decide,
  fun h => by rw [off395 hn hN ((cond69 hn hN).1 h)]; generalize sl (n - 1) = s; revert s; decide,
  fun h => by rw [off395 hn hN ((cond69 hn hN).1 h)]; generalize sl (n - 1) = s; revert s; decide,
  fun h => by rw [off396 hn hN ((cond70 hn hN).1 h)]; generalize p16 (n - 2) = s; revert s; decide,
  fun h => by rw [off397 hn hN ((cond70 hn hN).1 h)]; generalize sl (n - 2) = s; revert s; decide,
  fun h => by rw [off399 hn hN ((cond70 hn hN).1 h)]; generalize sl (n - 2) = s; revert s; decide,
  fun h => by rw [off399 hn hN ((cond70 hn hN).1 h)]; generalize sl (n - 2) = s; revert s; decide⟩
theorem chk15 (h15 : ∀ (k0_h16 : k0_cond16 v90 = 1#1), ∀ a, (k0_off15 v0 v6 v12 v18 v24 v30 v36 v42 v48 v54 v60 v66 v72 v78 v84) a + S1.size a ≤ S16.size a) : k0_chk15 v0 v6 v12 v18 v24 v30 v36 v42 v48 v54 v60 v66 v72 v78 v84 v90 :=
  ⟨chk15_0 hn hN h15, chk15_1 hn hN, chk15_2 hn hN, chk15_3 hn hN, chk15_4 hn hN, chk15_5 hn hN, chk15_6 hn hN, chk15_7 hn hN, chk15_8 hn hN, chk15_9 hn hN, chk15_10 hn hN, chk15_11 hn hN, chk15_12 hn hN, chk15_13 hn hN, chk15_14 hn hN⟩
end

section
variable (g : ℕ → BitVec 32)
theorem off1 : k0_off1 (g 0) = ![(p16 (cnt g 1)).val] := congrArg (fun x : ℕ => (![x] : Fin 1 → ℕ)) (ipre g 1 (by decide))
theorem chk1 : k0_chk1 (g 0) (g 1) := fun _ => by rw [off1 g]; generalize p16 (cnt g 1) = s; revert s; decide
theorem cond2 : k0_cond2 (g 1) = 1#1 ↔ bit (g 1) = 1 := cond_bit (g 1)
theorem off2 : k0_off2 (g 0) (g 1) = ![(p16 (cnt g 2)).val] := congrArg (fun x : ℕ => (![x] : Fin 1 → ℕ)) (ipre g 2 (by decide))
theorem chk2 : k0_chk2 (g 0) (g 1) (g 2) := fun _ => by rw [off2 g]; generalize p16 (cnt g 2) = s; revert s; decide
theorem cond3 : k0_cond3 (g 2) = 1#1 ↔ bit (g 2) = 1 := cond_bit (g 2)
theorem off3 : k0_off3 (g 0) (g 1) (g 2) = ![(p16 (cnt g 3)).val] := congrArg (fun x : ℕ => (![x] : Fin 1 → ℕ)) (ipre g 3 (by decide))
theorem chk3 : k0_chk3 (g 0) (g 1) (g 2) (g 3) := fun _ => by rw [off3 g]; generalize p16 (cnt g 3) = s; revert s; decide
theorem cond4 : k0_cond4 (g 3) = 1#1 ↔ bit (g 3) = 1 := cond_bit (g 3)
theorem off4 : k0_off4 (g 0) (g 1) (g 2) (g 3) = ![(p16 (cnt g 4)).val] := congrArg (fun x : ℕ => (![x] : Fin 1 → ℕ)) (ipre g 4 (by decide))
theorem chk4 : k0_chk4 (g 0) (g 1) (g 2) (g 3) (g 4) := fun _ => by rw [off4 g]; generalize p16 (cnt g 4) = s; revert s; decide
theorem cond5 : k0_cond5 (g 4) = 1#1 ↔ bit (g 4) = 1 := cond_bit (g 4)
theorem off5 : k0_off5 (g 0) (g 1) (g 2) (g 3) (g 4) = ![(p16 (cnt g 5)).val] := congrArg (fun x : ℕ => (![x] : Fin 1 → ℕ)) (ipre g 5 (by decide))
theorem chk5 : k0_chk5 (g 0) (g 1) (g 2) (g 3) (g 4) (g 5) := fun _ => by rw [off5 g]; generalize p16 (cnt g 5) = s; revert s; decide
theorem cond6 : k0_cond6 (g 5) = 1#1 ↔ bit (g 5) = 1 := cond_bit (g 5)
theorem off6 : k0_off6 (g 0) (g 1) (g 2) (g 3) (g 4) (g 5) = ![(p16 (cnt g 6)).val] := congrArg (fun x : ℕ => (![x] : Fin 1 → ℕ)) (ipre g 6 (by decide))
theorem chk6 : k0_chk6 (g 0) (g 1) (g 2) (g 3) (g 4) (g 5) (g 6) := fun _ => by rw [off6 g]; generalize p16 (cnt g 6) = s; revert s; decide
theorem cond7 : k0_cond7 (g 6) = 1#1 ↔ bit (g 6) = 1 := cond_bit (g 6)
theorem off7 : k0_off7 (g 0) (g 1) (g 2) (g 3) (g 4) (g 5) (g 6) = ![(p16 (cnt g 7)).val] := congrArg (fun x : ℕ => (![x] : Fin 1 → ℕ)) (ipre g 7 (by decide))
theorem chk7 : k0_chk7 (g 0) (g 1) (g 2) (g 3) (g 4) (g 5) (g 6) (g 7) := fun _ => by rw [off7 g]; generalize p16 (cnt g 7) = s; revert s; decide
theorem cond8 : k0_cond8 (g 7) = 1#1 ↔ bit (g 7) = 1 := cond_bit (g 7)
theorem off8 : k0_off8 (g 0) (g 1) (g 2) (g 3) (g 4) (g 5) (g 6) (g 7) = ![(p16 (cnt g 8)).val] := congrArg (fun x : ℕ => (![x] : Fin 1 → ℕ)) (ipre g 8 (by decide))
theorem chk8 : k0_chk8 (g 0) (g 1) (g 2) (g 3) (g 4) (g 5) (g 6) (g 7) (g 8) := fun _ => by rw [off8 g]; generalize p16 (cnt g 8) = s; revert s; decide
theorem cond9 : k0_cond9 (g 8) = 1#1 ↔ bit (g 8) = 1 := cond_bit (g 8)
theorem off9 : k0_off9 (g 0) (g 1) (g 2) (g 3) (g 4) (g 5) (g 6) (g 7) (g 8) = ![(p16 (cnt g 9)).val] := congrArg (fun x : ℕ => (![x] : Fin 1 → ℕ)) (ipre g 9 (by decide))
theorem chk9 : k0_chk9 (g 0) (g 1) (g 2) (g 3) (g 4) (g 5) (g 6) (g 7) (g 8) (g 9) := fun _ => by rw [off9 g]; generalize p16 (cnt g 9) = s; revert s; decide
theorem cond10 : k0_cond10 (g 9) = 1#1 ↔ bit (g 9) = 1 := cond_bit (g 9)
theorem off10 : k0_off10 (g 0) (g 1) (g 2) (g 3) (g 4) (g 5) (g 6) (g 7) (g 8) (g 9) = ![(p16 (cnt g 10)).val] := congrArg (fun x : ℕ => (![x] : Fin 1 → ℕ)) (ipre g 10 (by decide))
theorem chk10 : k0_chk10 (g 0) (g 1) (g 2) (g 3) (g 4) (g 5) (g 6) (g 7) (g 8) (g 9) (g 10) := fun _ => by rw [off10 g]; generalize p16 (cnt g 10) = s; revert s; decide
theorem cond11 : k0_cond11 (g 10) = 1#1 ↔ bit (g 10) = 1 := cond_bit (g 10)
theorem off11 : k0_off11 (g 0) (g 1) (g 2) (g 3) (g 4) (g 5) (g 6) (g 7) (g 8) (g 9) (g 10) = ![(p16 (cnt g 11)).val] := congrArg (fun x : ℕ => (![x] : Fin 1 → ℕ)) (ipre g 11 (by decide))
theorem chk11 : k0_chk11 (g 0) (g 1) (g 2) (g 3) (g 4) (g 5) (g 6) (g 7) (g 8) (g 9) (g 10) (g 11) := fun _ => by rw [off11 g]; generalize p16 (cnt g 11) = s; revert s; decide
theorem cond12 : k0_cond12 (g 11) = 1#1 ↔ bit (g 11) = 1 := cond_bit (g 11)
theorem off12 : k0_off12 (g 0) (g 1) (g 2) (g 3) (g 4) (g 5) (g 6) (g 7) (g 8) (g 9) (g 10) (g 11) = ![(p16 (cnt g 12)).val] := congrArg (fun x : ℕ => (![x] : Fin 1 → ℕ)) (ipre g 12 (by decide))
theorem chk12 : k0_chk12 (g 0) (g 1) (g 2) (g 3) (g 4) (g 5) (g 6) (g 7) (g 8) (g 9) (g 10) (g 11) (g 12) := fun _ => by rw [off12 g]; generalize p16 (cnt g 12) = s; revert s; decide
theorem cond13 : k0_cond13 (g 12) = 1#1 ↔ bit (g 12) = 1 := cond_bit (g 12)
theorem off13 : k0_off13 (g 0) (g 1) (g 2) (g 3) (g 4) (g 5) (g 6) (g 7) (g 8) (g 9) (g 10) (g 11) (g 12) = ![(p16 (cnt g 13)).val] := congrArg (fun x : ℕ => (![x] : Fin 1 → ℕ)) (ipre g 13 (by decide))
theorem chk13 : k0_chk13 (g 0) (g 1) (g 2) (g 3) (g 4) (g 5) (g 6) (g 7) (g 8) (g 9) (g 10) (g 11) (g 12) (g 13) := fun _ => by rw [off13 g]; generalize p16 (cnt g 13) = s; revert s; decide
theorem cond14 : k0_cond14 (g 13) = 1#1 ↔ bit (g 13) = 1 := cond_bit (g 13)
theorem off14 : k0_off14 (g 0) (g 1) (g 2) (g 3) (g 4) (g 5) (g 6) (g 7) (g 8) (g 9) (g 10) (g 11) (g 12) (g 13) = ![(p16 (cnt g 14)).val] := congrArg (fun x : ℕ => (![x] : Fin 1 → ℕ)) (ipre g 14 (by decide))
theorem chk14 : k0_chk14 (g 0) (g 1) (g 2) (g 3) (g 4) (g 5) (g 6) (g 7) (g 8) (g 9) (g 10) (g 11) (g 12) (g 13) (g 14) := fun _ => by rw [off14 g]; generalize p16 (cnt g 14) = s; revert s; decide
theorem cond15 : k0_cond15 (g 14) = 1#1 ↔ bit (g 14) = 1 := cond_bit (g 14)
theorem off15 : k0_off15 (g 0) (g 1) (g 2) (g 3) (g 4) (g 5) (g 6) (g 7) (g 8) (g 9) (g 10) (g 11) (g 12) (g 13) (g 14) = ![(p16 (cnt g 15)).val] := congrArg (fun x : ℕ => (![x] : Fin 1 → ℕ)) (ipre g 15 (by decide))
theorem cond16 : k0_cond16 (g 15) = 1#1 ↔ bit (g 15) = 1 := cond_bit (g 15)
theorem chk15g : k0_chk15 (g 0) (g 1) (g 2) (g 3) (g 4) (g 5) (g 6) (g 7) (g 8) (g 9) (g 10) (g 11) (g 12) (g 13) (g 14) (g 15) := chk15 (cnt_le g 16) (NW_eq g) fun _ => by rw [off15 g]; generalize p16 (cnt g 15) = s; revert s; decide
end
theorem chk16 {v0 v6 v12 v18 v24 v30 v36 v42 v48 v54 v60 v66 v72 v78 v84 v90 : BitVec 32} (e : Fin 16) : k0_chk16 v0 v6 v12 v18 v24 v30 v36 v42 v48 v54 v60 v66 v72 v78 v84 v90 (BitVec.ofNat 32 e.val) := ⟨fun _ => by revert e; decide, fun _ => by revert e; decide⟩
theorem chk17 {v0 v6 v12 v18 v24 v30 v36 v42 v48 v54 v60 v66 v72 v78 v84 v90 : BitVec 32} (e : Fin 16) : k0_chk17 v0 v6 v12 v18 v24 v30 v36 v42 v48 v54 v60 v66 v72 v78 v84 v90 (BitVec.ofNat 32 e.val) := fun _ => by revert e; decide
theorem chk18 {v0 v6 v12 v18 v24 v30 v36 v42 v48 v54 v60 v66 v72 v78 v84 v90 : BitVec 32} (e : Fin 16) : k0_chk18 v0 v6 v12 v18 v24 v30 v36 v42 v48 v54 v60 v66 v72 v78 v84 v90 (BitVec.ofNat 32 e.val) := ⟨fun _ => by revert e; decide, fun _ => by revert e; decide⟩
theorem chk19 {v0 v6 v12 v18 v24 v30 v36 v42 v48 v54 v60 v66 v72 v78 v84 v90 : BitVec 32} (e : Fin 16) : k0_chk19 v0 v6 v12 v18 v24 v30 v36 v42 v48 v54 v60 v66 v72 v78 v84 v90 (BitVec.ofNat 32 e.val) := ⟨fun _ => by revert e; decide, fun _ => by revert e; decide⟩
theorem chk20 {v0 v6 v12 v18 v24 v30 v36 v42 v48 v54 v60 v66 v72 v78 v84 v90 : BitVec 32} (e : Fin 16) : k0_chk20 v0 v6 v12 v18 v24 v30 v36 v42 v48 v54 v60 v66 v72 v78 v84 v90 (BitVec.ofNat 32 e.val) := ⟨fun _ => by revert e; decide, fun _ => by revert e; decide⟩
theorem chk21 {v0 v6 v12 v18 v24 v30 v36 v42 v48 v54 v60 v66 v72 v78 v84 v90 : BitVec 32} (e : Fin 16) : k0_chk21 v0 v6 v12 v18 v24 v30 v36 v42 v48 v54 v60 v66 v72 v78 v84 v90 (BitVec.ofNat 32 e.val) := ⟨fun _ => by revert e; decide, fun _ => by revert e; decide⟩
theorem chk22 {v0 v6 v12 v18 v24 v30 v36 v42 v48 v54 v60 v66 v72 v78 v84 v90 : BitVec 32} (e : Fin 16) : k0_chk22 v0 v6 v12 v18 v24 v30 v36 v42 v48 v54 v60 v66 v72 v78 v84 v90 (BitVec.ofNat 32 e.val) := ⟨fun _ => by revert e; decide, fun _ => by revert e; decide⟩
theorem chk23 {v0 v6 v12 v18 v24 v30 v36 v42 v48 v54 v60 v66 v72 v78 v84 v90 : BitVec 32} (e : Fin 16) : k0_chk23 v0 v6 v12 v18 v24 v30 v36 v42 v48 v54 v60 v66 v72 v78 v84 v90 (BitVec.ofNat 32 e.val) := ⟨fun _ => by revert e; decide, fun _ => by revert e; decide⟩
theorem chk24 {v0 v6 v12 v18 v24 v30 v36 v42 v48 v54 v60 v66 v72 v78 v84 v90 : BitVec 32} (e : Fin 16) : k0_chk24 v0 v6 v12 v18 v24 v30 v36 v42 v48 v54 v60 v66 v72 v78 v84 v90 (BitVec.ofNat 32 e.val) := ⟨fun _ => by revert e; decide, fun _ => by revert e; decide⟩
theorem chk25 {v0 v6 v12 v18 v24 v30 v36 v42 v48 v54 v60 v66 v72 v78 v84 v90 : BitVec 32} (e : Fin 16) : k0_chk25 v0 v6 v12 v18 v24 v30 v36 v42 v48 v54 v60 v66 v72 v78 v84 v90 (BitVec.ofNat 32 e.val) := ⟨fun _ => by revert e; decide, fun _ => by revert e; decide⟩
theorem chk26 {v0 v6 v12 v18 v24 v30 v36 v42 v48 v54 v60 v66 v72 v78 v84 v90 : BitVec 32} (e : Fin 16) : k0_chk26 v0 v6 v12 v18 v24 v30 v36 v42 v48 v54 v60 v66 v72 v78 v84 v90 (BitVec.ofNat 32 e.val) := fun _ => by revert e; decide
theorem chk27 {v0 v6 v12 v18 v24 v30 v36 v42 v48 v54 v60 v66 v72 v78 v84 v90 : BitVec 32} (e : Fin 16) : k0_chk27 v0 v6 v12 v18 v24 v30 v36 v42 v48 v54 v60 v66 v72 v78 v84 v90 (BitVec.ofNat 32 e.val) := ⟨fun _ => by revert e; decide, fun _ => by revert e; decide⟩
theorem chk28 {v0 v6 v12 v18 v24 v30 v36 v42 v48 v54 v60 v66 v72 v78 v84 v90 : BitVec 32} (e : Fin 16) : k0_chk28 v0 v6 v12 v18 v24 v30 v36 v42 v48 v54 v60 v66 v72 v78 v84 v90 (BitVec.ofNat 32 e.val) := ⟨fun _ => by revert e; decide, fun _ => by revert e; decide⟩
theorem chk29 {v0 v6 v12 v18 v24 v30 v36 v42 v48 v54 v60 v66 v72 v78 v84 v90 : BitVec 32} (e : Fin 16) : k0_chk29 v0 v6 v12 v18 v24 v30 v36 v42 v48 v54 v60 v66 v72 v78 v84 v90 (BitVec.ofNat 32 e.val) := ⟨fun _ => by revert e; decide, fun _ => by revert e; decide⟩
theorem chk30 {v0 v6 v12 v18 v24 v30 v36 v42 v48 v54 v60 v66 v72 v78 v84 v90 : BitVec 32} (e : Fin 16) : k0_chk30 v0 v6 v12 v18 v24 v30 v36 v42 v48 v54 v60 v66 v72 v78 v84 v90 (BitVec.ofNat 32 e.val) := ⟨fun _ => by revert e; decide, fun _ => by revert e; decide⟩
theorem chk31 {v0 v6 v12 v18 v24 v30 v36 v42 v48 v54 v60 v66 v72 v78 v84 v90 : BitVec 32} (e : Fin 16) : k0_chk31 v0 v6 v12 v18 v24 v30 v36 v42 v48 v54 v60 v66 v72 v78 v84 v90 (BitVec.ofNat 32 e.val) := ⟨fun _ => by revert e; decide, fun _ => by revert e; decide⟩
theorem chk32 {v0 v6 v12 v18 v24 v30 v36 v42 v48 v54 v60 v66 v72 v78 v84 v90 : BitVec 32} (e : Fin 16) : k0_chk32 v0 v6 v12 v18 v24 v30 v36 v42 v48 v54 v60 v66 v72 v78 v84 v90 (BitVec.ofNat 32 e.val) := ⟨fun _ => by revert e; decide, fun _ => by revert e; decide⟩
theorem chk33 {v0 v6 v12 v18 v24 v30 v36 v42 v48 v54 v60 v66 v72 v78 v84 v90 : BitVec 32} (e : Fin 16) : k0_chk33 v0 v6 v12 v18 v24 v30 v36 v42 v48 v54 v60 v66 v72 v78 v84 v90 (BitVec.ofNat 32 e.val) := ⟨fun _ => by revert e; decide, fun _ => by revert e; decide⟩
theorem chk76 {v0 v6 v12 v18 v24 v30 v36 v42 v48 v54 v60 v66 v72 v78 v84 v90 : BitVec 32} (e : Fin 16) : k0_chk76 v0 v6 v12 v18 v24 v30 v36 v42 v48 v54 v60 v66 v72 v78 v84 v90 (BitVec.ofNat 32 e.val) := ⟨fun _ => by revert e; decide, fun _ => by revert e; decide⟩
theorem chk77 {v0 v6 v12 v18 v24 v30 v36 v42 v48 v54 v60 v66 v72 v78 v84 v90 : BitVec 32} (e : Fin 16) : k0_chk77 v0 v6 v12 v18 v24 v30 v36 v42 v48 v54 v60 v66 v72 v78 v84 v90 (BitVec.ofNat 32 e.val) := ⟨fun _ => by revert e; decide, fun _ => by revert e; decide⟩
theorem off394 (e : Fin 16) : k0_off394 (BitVec.ofNat 32 e.val) = ![e.val, 0, 0] := by revert e; decide
theorem off398 (e : Fin 16) : k0_off398 (BitVec.ofNat 32 e.val) = ![e.val, 0, 0] := by revert e; decide
theorem chk54 (e : Fin 16) : k0_chk54 (BitVec.ofNat 32 e.val) := by revert e; decide

end Cert.Proof.Kernel
end
end
-- ==== Proof.Kernel.PartsA.lean ====
module

public import proofs.«01_k».proof.Proof.Kernel.Chk
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Transfers
public import Idealize.ShloMosaic.Lib.Batch
public import Idealize.ShloMosaic.Adequacy
public import Idealize.ShloMosaic.Init

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F] (c : Dev nD)
variable {v0 v6 v12 v18 v24 v30 v36 v42 v48 v54 v60 v66 v72 v78 v84 v90 : BitVec 32} (hw : k0_chk15 v0 v6 v12 v18 v24 v30 v36 v42 v48 v54 v60 v66 v72 v78 v84 v90) {n : ℕ} (hn : n ≤ 16) (hN : NW v0 v6 v12 v18 v24 v30 v36 v42 v48 v54 v60 v66 v72 v78 v84 v90 = BitVec.ofNat 32 n)
  {act : ℕ → Fin 16} {ft : S16.Idx → Elt F .i32} (hT : ∀ i, i < n → tw ft (p16 i) = BitVec.ofNat 32 (act i).val)
  (k : Fin (k0_t1_loop v0 v6 v12 v18 v24 v30 v36 v42 v48 v54 v60 v66 v72 v78 v84 v90).trips)

include hw hn hN hT in
theorem part5 {fx : S16x24x1536.Idx → Elt F .bf16} {fs : S16x56x12.Idx → Elt F .f32} {fg : S16.Idx → Elt F .i32} {q0 : PosShare TreeShare} (c0_i32_87 : BitVec 32) (c1_i32_89 : BitVec 32) {Q : (Σ' (arg18 : BitVec 32) (v245 : BitVec 32) (v249 : Elt F .i32) (v270 : FVec F S56x12 .f32) (v274 : FVec F S24x128 .f32) (v279 : FVec F S24x1 .f32) (v280 : IVec S24x1 32), IVec S24x1 32) → sProp (MT nD τ sig Unit (Elt F) ℕ UU ℕ)} :
    iprop(P5 c ft ∗ P0 c q0 fg ∗ OW c ∗ Xin c fx (sl k.val) (act k.val) ∗ Sin c fs (sl k.val) (act k.val)) ⊢ iprop((∀ (r0 : BitVec 32) (r1 : BitVec 32) (r2 : Elt F .i32) (r3 : FVec F S56x12 .f32) (r4 : FVec F S24x128 .f32) (r5 : FVec F S24x1 .f32) (r6 : IVec S24x1 32) (r7 : IVec S24x1 32) (g6 : S2x24x1536.Idx → Elt F .bf16) (g7 : S2x56x12.Idx → Elt F .f32), ⌜r0 = (Scf.iv c0_i32_87 c1_i32_89 k) ∧ r1 = (Scalar.remsi (Scf.iv c0_i32_87 c1_i32_89 k) 2#32) ∧ r2 = (tw fg (act k.val)) ∧ r3 = k0_pay1 (A7.view.readAt (Elt F) (Rect.unit (s := S2x56x12) (k0_off44 v0 v6 v12 v18 v24 v30 v36 v42 v48 v54 v60 v66 v72 v78 v84 v90 k) S1x56x12.size (k0_off44_inb v0 v6 v12 v18 v24 v30 v36 v42 v48 v54 v60 v66 v72 v78 v84 v90 hw k)).toLoadRect g7) ∧ r4 = k0_pay2 (A6.view.readAt (Elt F) (Rect.unit (s := S2x24x1536) (k0_off45 v0 v6 v12 v18 v24 v30 v36 v42 v48 v54 v60 v66 v72 v78 v84 v90 k) S1x24x128.size (k0_off45_inb v0 v6 v12 v18 v24 v30 v36 v42 v48 v54 v60 v66 v72 v78 v84 v90 hw k)).toLoadRect g6) ∧ r5 = k0_pay3 (A6.view.readAt (Elt F) (Rect.unit (s := S2x24x1536) (k0_off45 v0 v6 v12 v18 v24 v30 v36 v42 v48 v54 v60 v66 v72 v78 v84 v90 k) S1x24x128.size (k0_off45_inb v0 v6 v12 v18 v24 v30 v36 v42 v48 v54 v60 v66 v72 v78 v84 v90 hw k)).toLoadRect g6) ∧ r6 = k0_pay4 ∧ r7 = k0_pay5 ∧ (xW (sl k.val)).view.read (Elt F) g6 = (xE (act k.val)).view.read (Elt F) fx ∧ (sW (sl k.val)).view.read (Elt F) g7 = (sE (act k.val)).view.read (Elt F) fs⌝ ∗ P5 c ft ∗ P0 c q0 fg ∗ OW c ∗ PW c (xW (sl k.val)) fullShare g6 ∗ Sem0 c (xsem (sl k.val)) ∗ (A1.view.loc (c : Thread nD τ) ↦{qx (sl k.val)} fx) ∗ PW c (sW (sl k.val)) fullShare g7 ∗ Sem0 c (ssem (sl k.val)) ∗ (A3.view.loc (c : Thread nD τ) ↦{qx (sl k.val)} fs) -∗ Q ⟨r0, r1, r2, r3, r4, r5, r6, r7⟩) -∗ W c (k0_part5 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw c0_i32_87 c1_i32_89 k) Q) := by
  have hkn := klt hn hN k
  have hk : k.val < 16 := lt_of_lt_of_le hkn hn
  rw [k0_part5_eq_skeleton]
  unfold k0_part5_skel
  try dsimp only
  iintro ⟨H5, H0, HW, HIX, HIS⟩ K
  iapply (lw5 c (p16 k.val) (off34 k hk)) $$ H5
  iintro H5
  iapply (W_assume c (by rw [hT _ hkn]; exact chk34 _))
  iapply (lw0 c (act k.val) (by rw [hT _ hkn]; exact off35 _)) $$ H0
  iintro H0
  iapply (lw5 c (p16 k.val) (off36 k hk)) $$ H5
  iintro H5
  iapply (W_assume c (by rw [hT _ hkn]; exact chk35 _))
  iapply (waitX c (sl k.val) (act k.val) (off37 k hk) (off38 k hk)) $$ [HIX HW]
  · isplitl [HIX] <;> iassumption
  iintro %g6 %hg6 H6 HS6 HK6 HW
  iapply (lw5 c (p16 k.val) (off40 k hk)) $$ H5
  iintro H5
  iapply (W_assume c (by rw [hT _ hkn]; exact chk36 _))
  iapply (waitS c (sl k.val) (act k.val) (off41 k hk) (off42 k hk)) $$ [HIS HW]
  · isplitl [HIS] <;> iassumption
  iintro %g7 %hg7 H7 HS7 HK7 HW
  iapply (ld7 c (sl k.val) (off44 k hk)) $$ H7
  iintro H7
  iapply (ld6 c (sl k.val) 0 (off45 k hk) (by decide)) $$ H6
  iintro H6
  iapply W_pure
  iapply K
  isplitr; · ipureintro; exact ⟨rfl, rfl, rfl, rfl, rfl, rfl, rfl, rfl, hg6, hg7⟩
  isplitl [H5]; · iexact H5
  isplitl [H0]; · iexact H0
  isplitl [HW]; · iexact HW
  isplitl [H6]; · iexact H6
  isplitl [HS6]; · iexact HS6
  isplitl [HK6]; · iexact HK6
  isplitl [H7]; · iexact H7
  isplitl [HS7]; · iexact HS7
  iexact HK7

theorem part6  (v279 : FVec F S24x1 .f32) (v280 : IVec S24x1 32) (v281 : IVec S24x1 32) {Q : (Σ' (v322 : IVec S24x1 32) (v324 : IVec S24x1 32), IVec S24x1 1) → sProp (MT nD τ sig Unit (Elt F) ℕ UU ℕ)} :
    iprop((∀ (r0 : IVec S24x1 32) (r1 : IVec S24x1 32) (r2 : IVec S24x1 1), ⌜r0 = k0_pay6 v279 v280 v281 ∧ r1 = k0_pay7 v279 v280 v281 ∧ r2 = k0_pay8 v279 v280 v281⌝ -∗ Q ⟨r0, r1, r2⟩)) ⊢ W c (k0_part6 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v279 v280 v281) Q := by
  rw [k0_part6_eq_skeleton]
  unfold k0_part6_skel
  try dsimp only
  iintro K
  iapply W_pure
  iapply K
  ipureintro; exact ⟨rfl, rfl, rfl⟩

theorem part7 {f9 : S24x1536.Idx → Elt F .f32} (v270 : FVec F S56x12 .f32) (v274 : FVec F S24x128 .f32) (v279 : FVec F S24x1 .f32) (v322 : IVec S24x1 32) (v324 : IVec S24x1 32) (v328 : IVec S24x1 1) {Q : (FVec F S56x1 .f32) → sProp (MT nD τ sig Unit (Elt F) ℕ UU ℕ)} :
    iprop(P9 c f9) ⊢ iprop((∀ (r0 : FVec F S56x1 .f32) (g9 : S24x1536.Idx → Elt F .f32), ⌜r0 = (k0_pay10 v270) ∧ g9 = (put9 f9 (Rect.unit (s := S24x1536) ![0, 0] S24x128.size inb_S24x1536_S24x128_0_0) (k0_pay9 v274 v279 v322 v324 v328))⌝ ∗ P9 c g9 -∗ Q r0) -∗ W c (k0_part7 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v270 v274 v279 v322 v324 v328) Q) := by
  rw [k0_part7_eq_skeleton]
  unfold k0_part7_skel
  try dsimp only
  iintro H9 K
  iapply (ld9 c) $$ H9
  iintro H9
  iapply (st9 c) $$ H9
  iintro H9
  iapply W_pure
  iapply K
  isplitr; · ipureintro; exact ⟨rfl, rfl⟩
  iexact H9

include hw hn hN hT in
theorem part8 {f10 : S56x1536.Idx → Elt F .f32} {f6 : S2x24x1536.Idx → Elt F .bf16} (v245 : BitVec 32) (v372 : FVec F S56x1 .f32) {Q : (Σ' (v380 : FVec F S24x128 .f32) (v385 : FVec F S24x1 .f32) (v414 : IVec S24x1 32), IVec S24x1 32) → sProp (MT nD τ sig Unit (Elt F) ℕ UU ℕ)} :
    iprop(P10 c f10 ∗ PW c (xW (sl k.val)) fullShare f6) ⊢ iprop((∀ (r0 : FVec F S24x128 .f32) (r1 : FVec F S24x1 .f32) (r2 : IVec S24x1 32) (r3 : IVec S24x1 32) (g10 : S56x1536.Idx → Elt F .f32), ⌜r0 = k0_pay12 (A6.view.readAt (Elt F) (Rect.unit (s := S2x24x1536) (k0_off46 v0 v6 v12 v18 v24 v30 v36 v42 v48 v54 v60 v66 v72 v78 v84 v90 k) S1x24x128.size (k0_off46_inb v0 v6 v12 v18 v24 v30 v36 v42 v48 v54 v60 v66 v72 v78 v84 v90 hw k)).toLoadRect f6) ∧ r1 = k0_pay13 (A6.view.readAt (Elt F) (Rect.unit (s := S2x24x1536) (k0_off46 v0 v6 v12 v18 v24 v30 v36 v42 v48 v54 v60 v66 v72 v78 v84 v90 k) S1x24x128.size (k0_off46_inb v0 v6 v12 v18 v24 v30 v36 v42 v48 v54 v60 v66 v72 v78 v84 v90 hw k)).toLoadRect f6) ∧ r2 = k0_pay14 (A6.view.readAt (Elt F) (Rect.unit (s := S2x24x1536) (k0_off46 v0 v6 v12 v18 v24 v30 v36 v42 v48 v54 v60 v66 v72 v78 v84 v90 k) S1x24x128.size (k0_off46_inb v0 v6 v12 v18 v24 v30 v36 v42 v48 v54 v60 v66 v72 v78 v84 v90 hw k)).toLoadRect f6) ∧ r3 = k0_pay15 ∧ g10 = (put10 f10 (Rect.unit (s := S56x1536) ![0, 0] S56x128.size inb_S56x1536_S56x128_0_0) (k0_pay11 v372))⌝ ∗ P10 c g10 ∗ PW c (xW (sl k.val)) fullShare f6 -∗ Q ⟨r0, r1, r2, r3⟩) -∗ W c (k0_part8 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v372) Q) := by
  have hkn := klt hn hN k
  have hk : k.val < 16 := lt_of_lt_of_le hkn hn
  rw [k0_part8_eq_skeleton]
  unfold k0_part8_skel
  try dsimp only
  iintro ⟨H10, H6⟩ K
  iapply (ld10 c) $$ H10
  iintro H10
  iapply (st10 c) $$ H10
  iintro H10
  iapply (ld6 c (sl k.val) 128 (off46 k hk) (by decide)) $$ H6
  iintro H6
  iapply W_pure
  iapply K
  isplitr; · ipureintro; exact ⟨rfl, rfl, rfl, rfl, rfl⟩
  isplitl [H10]; · iexact H10
  iexact H6

theorem part9  (v380 : FVec F S24x128 .f32) (v385 : FVec F S24x1 .f32) (v414 : IVec S24x1 32) (v415 : IVec S24x1 32) {Q : (Σ' (v451 : IVec S24x1 32) (v460 : FVec F S24x128 .f32), F .f32) → sProp (MT nD τ sig Unit (Elt F) ℕ UU ℕ)} :
    iprop((∀ (r0 : IVec S24x1 32) (r1 : FVec F S24x128 .f32) (r2 : F .f32), ⌜r0 = k0_pay16 v385 v414 v415 ∧ r1 = k0_pay17 v380 v385 v414 v415 ∧ r2 = (Scalar.ofBits .f32 0xC3E00000#32)⌝ -∗ Q ⟨r0, r1, r2⟩)) ⊢ W c (k0_part9 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v380 v385 v414 v415) Q := by
  rw [k0_part9_eq_skeleton]
  unfold k0_part9_skel
  try dsimp only
  iintro K
  iapply W_pure
  iapply K
  ipureintro; exact ⟨rfl, rfl, rfl⟩

include hw hn hN hT in
theorem part10 {f9 : S24x1536.Idx → Elt F .f32} {f10 : S56x1536.Idx → Elt F .f32} {f6 : S2x24x1536.Idx → Elt F .bf16} (v245 : BitVec 32) (v270 : FVec F S56x12 .f32) (v451 : IVec S24x1 32) (v460 : FVec F S24x128 .f32) (cst_206 : F .f32) {Q : (Σ' (v486 : FVec F S24x128 .f32) (v491 : FVec F S24x1 .f32) (v499 : IVec S24x1 32) (v501 : IVec S24x1 32), IVec S24x1 32) → sProp (MT nD τ sig Unit (Elt F) ℕ UU ℕ)} :
    iprop(P9 c f9 ∗ P10 c f10 ∗ PW c (xW (sl k.val)) fullShare f6) ⊢ iprop((∀ (r0 : FVec F S24x128 .f32) (r1 : FVec F S24x1 .f32) (r2 : IVec S24x1 32) (r3 : IVec S24x1 32) (r4 : IVec S24x1 32) (g9 : S24x1536.Idx → Elt F .f32) (g10 : S56x1536.Idx → Elt F .f32), ⌜r0 = k0_pay20 (A6.view.readAt (Elt F) (Rect.unit (s := S2x24x1536) (k0_off47 v0 v6 v12 v18 v24 v30 v36 v42 v48 v54 v60 v66 v72 v78 v84 v90 k) S1x24x128.size (k0_off47_inb v0 v6 v12 v18 v24 v30 v36 v42 v48 v54 v60 v66 v72 v78 v84 v90 hw k)).toLoadRect f6) ∧ r1 = k0_pay21 (A6.view.readAt (Elt F) (Rect.unit (s := S2x24x1536) (k0_off47 v0 v6 v12 v18 v24 v30 v36 v42 v48 v54 v60 v66 v72 v78 v84 v90 k) S1x24x128.size (k0_off47_inb v0 v6 v12 v18 v24 v30 v36 v42 v48 v54 v60 v66 v72 v78 v84 v90 hw k)).toLoadRect f6) ∧ r2 = k0_pay22 (A6.view.readAt (Elt F) (Rect.unit (s := S2x24x1536) (k0_off47 v0 v6 v12 v18 v24 v30 v36 v42 v48 v54 v60 v66 v72 v78 v84 v90 k) S1x24x128.size (k0_off47_inb v0 v6 v12 v18 v24 v30 v36 v42 v48 v54 v60 v66 v72 v78 v84 v90 hw k)).toLoadRect f6) ∧ r3 = k0_pay23 (A6.view.readAt (Elt F) (Rect.unit (s := S2x24x1536) (k0_off47 v0 v6 v12 v18 v24 v30 v36 v42 v48 v54 v60 v66 v72 v78 v84 v90 k) S1x24x128.size (k0_off47_inb v0 v6 v12 v18 v24 v30 v36 v42 v48 v54 v60 v66 v72 v78 v84 v90 hw k)).toLoadRect f6) ∧ r4 = k0_pay24 ∧ g9 = (put9 f9 (Rect.unit (s := S24x1536) ![0, 128] S24x128.size inb_S24x1536_S24x128_0_128) (k0_pay18 v451 v460 cst_206)) ∧ g10 = (put10 f10 (Rect.unit (s := S56x1536) ![0, 128] S56x128.size inb_S56x1536_S56x128_0_128) (k0_pay19 v270))⌝ ∗ P9 c g9 ∗ P10 c g10 ∗ PW c (xW (sl k.val)) fullShare f6 -∗ Q ⟨r0, r1, r2, r3, r4⟩) -∗ W c (k0_part10 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v270 v451 v460 cst_206) Q) := by
  have hkn := klt hn hN k
  have hk : k.val < 16 := lt_of_lt_of_le hkn hn
  rw [k0_part10_eq_skeleton]
  unfold k0_part10_skel
  try dsimp only
  iintro ⟨H9, H10, H6⟩ K
  iapply (ld9 c) $$ H9
  iintro H9
  iapply (st9 c) $$ H9
  iintro H9
  iapply (ld10 c) $$ H10
  iintro H10
  iapply (st10 c) $$ H10
  iintro H10
  iapply (ld6 c (sl k.val) 256 (off47 k hk) (by decide)) $$ H6
  iintro H6
  iapply W_pure
  iapply K
  isplitr; · ipureintro; exact ⟨rfl, rfl, rfl, rfl, rfl, rfl, rfl⟩
  isplitl [H9]; · iexact H9
  isplitl [H10]; · iexact H10
  iexact H6

theorem part11  (v491 : FVec F S24x1 .f32) (v499 : IVec S24x1 32) (v501 : IVec S24x1 32) (v502 : IVec S24x1 32) {Q : (Σ' (v548 : IVec S24x1 32), IVec S24x1 32) → sProp (MT nD τ sig Unit (Elt F) ℕ UU ℕ)} :
    iprop((∀ (r0 : IVec S24x1 32) (r1 : IVec S24x1 32), ⌜r0 = k0_pay25 v491 v499 v501 v502 ∧ r1 = k0_pay26⌝ -∗ Q ⟨r0, r1⟩)) ⊢ W c (k0_part11 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v491 v499 v501 v502) Q := by
  rw [k0_part11_eq_skeleton]
  unfold k0_part11_skel
  try dsimp only
  iintro K
  iapply W_pure
  iapply K
  ipureintro; exact ⟨rfl, rfl⟩

include hw hn hN hT in
theorem part12 {f9 : S24x1536.Idx → Elt F .f32} {f10 : S56x1536.Idx → Elt F .f32} {f6 : S2x24x1536.Idx → Elt F .bf16} (v245 : BitVec 32) (v270 : FVec F S56x12 .f32) (v486 : FVec F S24x128 .f32) (v548 : IVec S24x1 32) (v549 : IVec S24x1 32) {Q : (FVec F S24x128 .bf16) → sProp (MT nD τ sig Unit (Elt F) ℕ UU ℕ)} :
    iprop(P9 c f9 ∗ P10 c f10 ∗ PW c (xW (sl k.val)) fullShare f6) ⊢ iprop((∀ (r0 : FVec F S24x128 .bf16) (g9 : S24x1536.Idx → Elt F .f32) (g10 : S56x1536.Idx → Elt F .f32), ⌜r0 = (k0_pay29 (A6.view.readAt (Elt F) (Rect.unit (s := S2x24x1536) (k0_off48 v0 v6 v12 v18 v24 v30 v36 v42 v48 v54 v60 v66 v72 v78 v84 v90 k) S1x24x128.size (k0_off48_inb v0 v6 v12 v18 v24 v30 v36 v42 v48 v54 v60 v66 v72 v78 v84 v90 hw k)).toLoadRect f6)) ∧ g9 = (put9 f9 (Rect.unit (s := S24x1536) ![0, 256] S24x128.size inb_S24x1536_S24x128_0_256) (k0_pay27 v486 v548 v549)) ∧ g10 = (put10 f10 (Rect.unit (s := S56x1536) ![0, 256] S56x128.size inb_S56x1536_S56x128_0_256) (k0_pay28 v270))⌝ ∗ P9 c g9 ∗ P10 c g10 ∗ PW c (xW (sl k.val)) fullShare f6 -∗ Q r0) -∗ W c (k0_part12 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v270 v486 v548 v549) Q) := by
  have hkn := klt hn hN k
  have hk : k.val < 16 := lt_of_lt_of_le hkn hn
  rw [k0_part12_eq_skeleton]
  unfold k0_part12_skel
  try dsimp only
  iintro ⟨H9, H10, H6⟩ K
  iapply (ld9 c) $$ H9
  iintro H9
  iapply (st9 c) $$ H9
  iintro H9
  iapply (ld10 c) $$ H10
  iintro H10
  iapply (st10 c) $$ H10
  iintro H10
  iapply (ld6 c (sl k.val) 384 (off48 k hk) (by decide)) $$ H6
  iintro H6
  iapply W_pure
  iapply K
  isplitr; · ipureintro; exact ⟨rfl, rfl, rfl⟩
  isplitl [H9]; · iexact H9
  isplitl [H10]; · iexact H10
  iexact H6

theorem part13  (v591 : FVec F S24x128 .bf16) {Q : (Σ' (v592 : FVec F S24x128 .f32) (v597 : FVec F S24x1 .f32) (v633 : IVec S24x1 32) (v635 : IVec S24x1 32), IVec S24x1 32) → sProp (MT nD τ sig Unit (Elt F) ℕ UU ℕ)} :
    iprop((∀ (r0 : FVec F S24x128 .f32) (r1 : FVec F S24x1 .f32) (r2 : IVec S24x1 32) (r3 : IVec S24x1 32) (r4 : IVec S24x1 32), ⌜r0 = k0_pay30 v591 ∧ r1 = k0_pay31 v591 ∧ r2 = k0_pay32 v591 ∧ r3 = k0_pay33 v591 ∧ r4 = k0_pay34⌝ -∗ Q ⟨r0, r1, r2, r3, r4⟩)) ⊢ W c (k0_part13 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v591) Q := by
  rw [k0_part13_eq_skeleton]
  unfold k0_part13_skel
  try dsimp only
  iintro K
  iapply W_pure
  iapply K
  ipureintro; exact ⟨rfl, rfl, rfl, rfl, rfl⟩

theorem part14  (v592 : FVec F S24x128 .f32) (v597 : FVec F S24x1 .f32) (v633 : IVec S24x1 32) (v635 : IVec S24x1 32) (v636 : IVec S24x1 32) {Q : (Σ' (v678 : FVec F S24x128 .f32) (v680 : IVec S24x1 32), IVec S24x1 32) → sProp (MT nD τ sig Unit (Elt F) ℕ UU ℕ)} :
    iprop((∀ (r0 : FVec F S24x128 .f32) (r1 : IVec S24x1 32) (r2 : IVec S24x1 32), ⌜r0 = k0_pay36 v592 v597 v633 v635 v636 ∧ r1 = k0_pay37 v597 v633 v635 v636 ∧ r2 = k0_pay38⌝ -∗ Q ⟨r0, r1, r2⟩)) ⊢ W c (k0_part14 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v592 v597 v633 v635 v636) Q := by
  rw [k0_part14_eq_skeleton]
  unfold k0_part14_skel
  try dsimp only
  iintro K
  iapply W_pure
  iapply K
  ipureintro; exact ⟨rfl, rfl, rfl⟩

include hw hn hN hT in
theorem part15 {f9 : S24x1536.Idx → Elt F .f32} {f10 : S56x1536.Idx → Elt F .f32} {f6 : S2x24x1536.Idx → Elt F .bf16} (v245 : BitVec 32) (v270 : FVec F S56x12 .f32) (v678 : FVec F S24x128 .f32) (v680 : IVec S24x1 32) (v681 : IVec S24x1 32) {Q : (Σ' (v698 : FVec F S24x128 .f32) (v703 : FVec F S24x1 .f32) (v718 : IVec S24x1 32) (v720 : IVec S24x1 32), IVec S24x1 1) → sProp (MT nD τ sig Unit (Elt F) ℕ UU ℕ)} :
    iprop(P9 c f9 ∗ P10 c f10 ∗ PW c (xW (sl k.val)) fullShare f6) ⊢ iprop((∀ (r0 : FVec F S24x128 .f32) (r1 : FVec F S24x1 .f32) (r2 : IVec S24x1 32) (r3 : IVec S24x1 32) (r4 : IVec S24x1 1) (g9 : S24x1536.Idx → Elt F .f32) (g10 : S56x1536.Idx → Elt F .f32), ⌜r0 = k0_pay41 (A6.view.readAt (Elt F) (Rect.unit (s := S2x24x1536) (k0_off49 v0 v6 v12 v18 v24 v30 v36 v42 v48 v54 v60 v66 v72 v78 v84 v90 k) S1x24x128.size (k0_off49_inb v0 v6 v12 v18 v24 v30 v36 v42 v48 v54 v60 v66 v72 v78 v84 v90 hw k)).toLoadRect f6) ∧ r1 = k0_pay42 (A6.view.readAt (Elt F) (Rect.unit (s := S2x24x1536) (k0_off49 v0 v6 v12 v18 v24 v30 v36 v42 v48 v54 v60 v66 v72 v78 v84 v90 k) S1x24x128.size (k0_off49_inb v0 v6 v12 v18 v24 v30 v36 v42 v48 v54 v60 v66 v72 v78 v84 v90 hw k)).toLoadRect f6) ∧ r2 = k0_pay43 (A6.view.readAt (Elt F) (Rect.unit (s := S2x24x1536) (k0_off49 v0 v6 v12 v18 v24 v30 v36 v42 v48 v54 v60 v66 v72 v78 v84 v90 k) S1x24x128.size (k0_off49_inb v0 v6 v12 v18 v24 v30 v36 v42 v48 v54 v60 v66 v72 v78 v84 v90 hw k)).toLoadRect f6) ∧ r3 = k0_pay44 (A6.view.readAt (Elt F) (Rect.unit (s := S2x24x1536) (k0_off49 v0 v6 v12 v18 v24 v30 v36 v42 v48 v54 v60 v66 v72 v78 v84 v90 k) S1x24x128.size (k0_off49_inb v0 v6 v12 v18 v24 v30 v36 v42 v48 v54 v60 v66 v72 v78 v84 v90 hw k)).toLoadRect f6) ∧ r4 = k0_pay45 (A6.view.readAt (Elt F) (Rect.unit (s := S2x24x1536) (k0_off49 v0 v6 v12 v18 v24 v30 v36 v42 v48 v54 v60 v66 v72 v78 v84 v90 k) S1x24x128.size (k0_off49_inb v0 v6 v12 v18 v24 v30 v36 v42 v48 v54 v60 v66 v72 v78 v84 v90 hw k)).toLoadRect f6) ∧ g9 = (put9 f9 (Rect.unit (s := S24x1536) ![0, 384] S24x128.size inb_S24x1536_S24x128_0_384) (k0_pay39 v678 v680 v681)) ∧ g10 = (put10 f10 (Rect.unit (s := S56x1536) ![0, 384] S56x128.size inb_S56x1536_S56x128_0_384) (k0_pay40 v270))⌝ ∗ P9 c g9 ∗ P10 c g10 ∗ PW c (xW (sl k.val)) fullShare f6 -∗ Q ⟨r0, r1, r2, r3, r4⟩) -∗ W c (k0_part15 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v270 v678 v680 v681) Q) := by
  have hkn := klt hn hN k
  have hk : k.val < 16 := lt_of_lt_of_le hkn hn
  rw [k0_part15_eq_skeleton]
  unfold k0_part15_skel
  try dsimp only
  iintro ⟨H9, H10, H6⟩ K
  iapply (ld9 c) $$ H9
  iintro H9
  iapply (st9 c) $$ H9
  iintro H9
  iapply (ld10 c) $$ H10
  iintro H10
  iapply (st10 c) $$ H10
  iintro H10
  iapply (ld6 c (sl k.val) 512 (off49 k hk) (by decide)) $$ H6
  iintro H6
  iapply W_pure
  iapply K
  isplitr; · ipureintro; exact ⟨rfl, rfl, rfl, rfl, rfl, rfl, rfl⟩
  isplitl [H9]; · iexact H9
  isplitl [H10]; · iexact H10
  iexact H6

theorem part16  (v703 : FVec F S24x1 .f32) (v718 : IVec S24x1 32) (v720 : IVec S24x1 32) (v724 : IVec S24x1 1) {Q : (Σ' (v769 : IVec S24x1 32), BitVec 32) → sProp (MT nD τ sig Unit (Elt F) ℕ UU ℕ)} :
    iprop((∀ (r0 : IVec S24x1 32) (r1 : BitVec 32), ⌜r0 = k0_pay46 v703 v718 v720 v724 ∧ r1 = 0#32⌝ -∗ Q ⟨r0, r1⟩)) ⊢ W c (k0_part16 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v703 v718 v720 v724) Q := by
  rw [k0_part16_eq_skeleton]
  unfold k0_part16_skel
  try dsimp only
  iintro K
  iapply W_pure
  iapply K
  ipureintro; exact ⟨rfl, rfl⟩

include hw hn hN hT in
theorem part17 {f9 : S24x1536.Idx → Elt F .f32} {f10 : S56x1536.Idx → Elt F .f32} {f6 : S2x24x1536.Idx → Elt F .bf16} (v245 : BitVec 32) (v270 : FVec F S56x12 .f32) (v698 : FVec F S24x128 .f32) (v769 : IVec S24x1 32) (c0_i32_308 : BitVec 32) {Q : (Σ' (v804 : FVec F S24x128 .f32) (v809 : FVec F S24x1 .f32) (v810 : IVec S24x1 32), IVec S24x1 32) → sProp (MT nD τ sig Unit (Elt F) ℕ UU ℕ)} :
    iprop(P9 c f9 ∗ P10 c f10 ∗ PW c (xW (sl k.val)) fullShare f6) ⊢ iprop((∀ (r0 : FVec F S24x128 .f32) (r1 : FVec F S24x1 .f32) (r2 : IVec S24x1 32) (r3 : IVec S24x1 32) (g9 : S24x1536.Idx → Elt F .f32) (g10 : S56x1536.Idx → Elt F .f32), ⌜r0 = k0_pay49 (A6.view.readAt (Elt F) (Rect.unit (s := S2x24x1536) (k0_off50 v0 v6 v12 v18 v24 v30 v36 v42 v48 v54 v60 v66 v72 v78 v84 v90 k) S1x24x128.size (k0_off50_inb v0 v6 v12 v18 v24 v30 v36 v42 v48 v54 v60 v66 v72 v78 v84 v90 hw k)).toLoadRect f6) ∧ r1 = k0_pay50 (A6.view.readAt (Elt F) (Rect.unit (s := S2x24x1536) (k0_off50 v0 v6 v12 v18 v24 v30 v36 v42 v48 v54 v60 v66 v72 v78 v84 v90 k) S1x24x128.size (k0_off50_inb v0 v6 v12 v18 v24 v30 v36 v42 v48 v54 v60 v66 v72 v78 v84 v90 hw k)).toLoadRect f6) ∧ r2 = k0_pay51 ∧ r3 = k0_pay52 ∧ g9 = (put9 f9 (Rect.unit (s := S24x1536) ![0, 512] S24x128.size inb_S24x1536_S24x128_0_512) (k0_pay47 v698 v769 c0_i32_308)) ∧ g10 = (put10 f10 (Rect.unit (s := S56x1536) ![0, 512] S56x128.size inb_S56x1536_S56x128_0_512) (k0_pay48 v270))⌝ ∗ P9 c g9 ∗ P10 c g10 ∗ PW c (xW (sl k.val)) fullShare f6 -∗ Q ⟨r0, r1, r2, r3⟩) -∗ W c (k0_part17 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v270 v698 v769 c0_i32_308) Q) := by
  have hkn := klt hn hN k
  have hk : k.val < 16 := lt_of_lt_of_le hkn hn
  rw [k0_part17_eq_skeleton]
  unfold k0_part17_skel
  try dsimp only
  iintro ⟨H9, H10, H6⟩ K
  iapply (ld9 c) $$ H9
  iintro H9
  iapply (st9 c) $$ H9
  iintro H9
  iapply (ld10 c) $$ H10
  iintro H10
  iapply (st10 c) $$ H10
  iintro H10
  iapply (ld6 c (sl k.val) 640 (off50 k hk) (by decide)) $$ H6
  iintro H6
  iapply W_pure
  iapply K
  isplitr; · ipureintro; exact ⟨rfl, rfl, rfl, rfl, rfl, rfl⟩
  isplitl [H9]; · iexact H9
  isplitl [H10]; · iexact H10
  iexact H6

theorem part18  (v809 : FVec F S24x1 .f32) (v810 : IVec S24x1 32) (v811 : IVec S24x1 32) {Q : (Σ' (v852 : IVec S24x1 32) (v854 : IVec S24x1 32), IVec S24x1 1) → sProp (MT nD τ sig Unit (Elt F) ℕ UU ℕ)} :
    iprop((∀ (r0 : IVec S24x1 32) (r1 : IVec S24x1 32) (r2 : IVec S24x1 1), ⌜r0 = k0_pay53 v809 v810 v811 ∧ r1 = k0_pay54 v809 v810 v811 ∧ r2 = k0_pay55 v809 v810 v811⌝ -∗ Q ⟨r0, r1, r2⟩)) ⊢ W c (k0_part18 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v809 v810 v811) Q := by
  rw [k0_part18_eq_skeleton]
  unfold k0_part18_skel
  try dsimp only
  iintro K
  iapply W_pure
  iapply K
  ipureintro; exact ⟨rfl, rfl, rfl⟩

theorem part19 {f9 : S24x1536.Idx → Elt F .f32} (v270 : FVec F S56x12 .f32) (v804 : FVec F S24x128 .f32) (v809 : FVec F S24x1 .f32) (v852 : IVec S24x1 32) (v854 : IVec S24x1 32) (v858 : IVec S24x1 1) {Q : (FVec F S56x1 .f32) → sProp (MT nD τ sig Unit (Elt F) ℕ UU ℕ)} :
    iprop(P9 c f9) ⊢ iprop((∀ (r0 : FVec F S56x1 .f32) (g9 : S24x1536.Idx → Elt F .f32), ⌜r0 = (k0_pay57 v270) ∧ g9 = (put9 f9 (Rect.unit (s := S24x1536) ![0, 640] S24x128.size inb_S24x1536_S24x128_0_640) (k0_pay56 v804 v809 v852 v854 v858))⌝ ∗ P9 c g9 -∗ Q r0) -∗ W c (k0_part19 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v270 v804 v809 v852 v854 v858) Q) := by
  rw [k0_part19_eq_skeleton]
  unfold k0_part19_skel
  try dsimp only
  iintro H9 K
  iapply (ld9 c) $$ H9
  iintro H9
  iapply (st9 c) $$ H9
  iintro H9
  iapply W_pure
  iapply K
  isplitr; · ipureintro; exact ⟨rfl, rfl⟩
  iexact H9

include hw hn hN hT in
theorem part20 {f10 : S56x1536.Idx → Elt F .f32} {f6 : S2x24x1536.Idx → Elt F .bf16} (v245 : BitVec 32) (v902 : FVec F S56x1 .f32) {Q : (Σ' (v910 : FVec F S24x128 .f32) (v915 : FVec F S24x1 .f32) (v944 : IVec S24x1 32), IVec S24x1 32) → sProp (MT nD τ sig Unit (Elt F) ℕ UU ℕ)} :
    iprop(P10 c f10 ∗ PW c (xW (sl k.val)) fullShare f6) ⊢ iprop((∀ (r0 : FVec F S24x128 .f32) (r1 : FVec F S24x1 .f32) (r2 : IVec S24x1 32) (r3 : IVec S24x1 32) (g10 : S56x1536.Idx → Elt F .f32), ⌜r0 = k0_pay59 (A6.view.readAt (Elt F) (Rect.unit (s := S2x24x1536) (k0_off51 v0 v6 v12 v18 v24 v30 v36 v42 v48 v54 v60 v66 v72 v78 v84 v90 k) S1x24x128.size (k0_off51_inb v0 v6 v12 v18 v24 v30 v36 v42 v48 v54 v60 v66 v72 v78 v84 v90 hw k)).toLoadRect f6) ∧ r1 = k0_pay60 (A6.view.readAt (Elt F) (Rect.unit (s := S2x24x1536) (k0_off51 v0 v6 v12 v18 v24 v30 v36 v42 v48 v54 v60 v66 v72 v78 v84 v90 k) S1x24x128.size (k0_off51_inb v0 v6 v12 v18 v24 v30 v36 v42 v48 v54 v60 v66 v72 v78 v84 v90 hw k)).toLoadRect f6) ∧ r2 = k0_pay61 (A6.view.readAt (Elt F) (Rect.unit (s := S2x24x1536) (k0_off51 v0 v6 v12 v18 v24 v30 v36 v42 v48 v54 v60 v66 v72 v78 v84 v90 k) S1x24x128.size (k0_off51_inb v0 v6 v12 v18 v24 v30 v36 v42 v48 v54 v60 v66 v72 v78 v84 v90 hw k)).toLoadRect f6) ∧ r3 = k0_pay62 ∧ g10 = (put10 f10 (Rect.unit (s := S56x1536) ![0, 640] S56x128.size inb_S56x1536_S56x128_0_640) (k0_pay58 v902))⌝ ∗ P10 c g10 ∗ PW c (xW (sl k.val)) fullShare f6 -∗ Q ⟨r0, r1, r2, r3⟩) -∗ W c (k0_part20 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v902) Q) := by
  have hkn := klt hn hN k
  have hk : k.val < 16 := lt_of_lt_of_le hkn hn
  rw [k0_part20_eq_skeleton]
  unfold k0_part20_skel
  try dsimp only
  iintro ⟨H10, H6⟩ K
  iapply (ld10 c) $$ H10
  iintro H10
  iapply (st10 c) $$ H10
  iintro H10
  iapply (ld6 c (sl k.val) 768 (off51 k hk) (by decide)) $$ H6
  iintro H6
  iapply W_pure
  iapply K
  isplitr; · ipureintro; exact ⟨rfl, rfl, rfl, rfl, rfl⟩
  isplitl [H10]; · iexact H10
  iexact H6

theorem part21  (v910 : FVec F S24x128 .f32) (v915 : FVec F S24x1 .f32) (v944 : IVec S24x1 32) (v945 : IVec S24x1 32) {Q : (Σ' (v981 : IVec S24x1 32) (v990 : FVec F S24x128 .f32), F .f32) → sProp (MT nD τ sig Unit (Elt F) ℕ UU ℕ)} :
    iprop((∀ (r0 : IVec S24x1 32) (r1 : FVec F S24x128 .f32) (r2 : F .f32), ⌜r0 = k0_pay63 v915 v944 v945 ∧ r1 = k0_pay64 v910 v915 v944 v945 ∧ r2 = (Scalar.ofBits .f32 0xC3E00000#32)⌝ -∗ Q ⟨r0, r1, r2⟩)) ⊢ W c (k0_part21 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v910 v915 v944 v945) Q := by
  rw [k0_part21_eq_skeleton]
  unfold k0_part21_skel
  try dsimp only
  iintro K
  iapply W_pure
  iapply K
  ipureintro; exact ⟨rfl, rfl, rfl⟩

include hw hn hN hT in
theorem part22 {f9 : S24x1536.Idx → Elt F .f32} {f10 : S56x1536.Idx → Elt F .f32} {f6 : S2x24x1536.Idx → Elt F .bf16} (v245 : BitVec 32) (v270 : FVec F S56x12 .f32) (v981 : IVec S24x1 32) (v990 : FVec F S24x128 .f32) (cst_381 : F .f32) {Q : (Σ' (v1016 : FVec F S24x128 .f32) (v1021 : FVec F S24x1 .f32) (v1029 : IVec S24x1 32) (v1031 : IVec S24x1 32), IVec S24x1 32) → sProp (MT nD τ sig Unit (Elt F) ℕ UU ℕ)} :
    iprop(P9 c f9 ∗ P10 c f10 ∗ PW c (xW (sl k.val)) fullShare f6) ⊢ iprop((∀ (r0 : FVec F S24x128 .f32) (r1 : FVec F S24x1 .f32) (r2 : IVec S24x1 32) (r3 : IVec S24x1 32) (r4 : IVec S24x1 32) (g9 : S24x1536.Idx → Elt F .f32) (g10 : S56x1536.Idx → Elt F .f32), ⌜r0 = k0_pay67 (A6.view.readAt (Elt F) (Rect.unit (s := S2x24x1536) (k0_off52 v0 v6 v12 v18 v24 v30 v36 v42 v48 v54 v60 v66 v72 v78 v84 v90 k) S1x24x128.size (k0_off52_inb v0 v6 v12 v18 v24 v30 v36 v42 v48 v54 v60 v66 v72 v78 v84 v90 hw k)).toLoadRect f6) ∧ r1 = k0_pay68 (A6.view.readAt (Elt F) (Rect.unit (s := S2x24x1536) (k0_off52 v0 v6 v12 v18 v24 v30 v36 v42 v48 v54 v60 v66 v72 v78 v84 v90 k) S1x24x128.size (k0_off52_inb v0 v6 v12 v18 v24 v30 v36 v42 v48 v54 v60 v66 v72 v78 v84 v90 hw k)).toLoadRect f6) ∧ r2 = k0_pay69 (A6.view.readAt (Elt F) (Rect.unit (s := S2x24x1536) (k0_off52 v0 v6 v12 v18 v24 v30 v36 v42 v48 v54 v60 v66 v72 v78 v84 v90 k) S1x24x128.size (k0_off52_inb v0 v6 v12 v18 v24 v30 v36 v42 v48 v54 v60 v66 v72 v78 v84 v90 hw k)).toLoadRect f6) ∧ r3 = k0_pay70 (A6.view.readAt (Elt F) (Rect.unit (s := S2x24x1536) (k0_off52 v0 v6 v12 v18 v24 v30 v36 v42 v48 v54 v60 v66 v72 v78 v84 v90 k) S1x24x128.size (k0_off52_inb v0 v6 v12 v18 v24 v30 v36 v42 v48 v54 v60 v66 v72 v78 v84 v90 hw k)).toLoadRect f6) ∧ r4 = k0_pay71 ∧ g9 = (put9 f9 (Rect.unit (s := S24x1536) ![0, 768] S24x128.size inb_S24x1536_S24x128_0_768) (k0_pay65 v981 v990 cst_381)) ∧ g10 = (put10 f10 (Rect.unit (s := S56x1536) ![0, 768] S56x128.size inb_S56x1536_S56x128_0_768) (k0_pay66 v270))⌝ ∗ P9 c g9 ∗ P10 c g10 ∗ PW c (xW (sl k.val)) fullShare f6 -∗ Q ⟨r0, r1, r2, r3, r4⟩) -∗ W c (k0_part22 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v270 v981 v990 cst_381) Q) := by
  have hkn := klt hn hN k
  have hk : k.val < 16 := lt_of_lt_of_le hkn hn
  rw [k0_part22_eq_skeleton]
  unfold k0_part22_skel
  try dsimp only
  iintro ⟨H9, H10, H6⟩ K
  iapply (ld9 c) $$ H9
  iintro H9
  iapply (st9 c) $$ H9
  iintro H9
  iapply (ld10 c) $$ H10
  iintro H10
  iapply (st10 c) $$ H10
  iintro H10
  iapply (ld6 c (sl k.val) 896 (off52 k hk) (by decide)) $$ H6
  iintro H6
  iapply W_pure
  iapply K
  isplitr; · ipureintro; exact ⟨rfl, rfl, rfl, rfl, rfl, rfl, rfl⟩
  isplitl [H9]; · iexact H9
  isplitl [H10]; · iexact H10
  iexact H6

theorem part23  (v1021 : FVec F S24x1 .f32) (v1029 : IVec S24x1 32) (v1031 : IVec S24x1 32) (v1032 : IVec S24x1 32) {Q : (Σ' (v1078 : IVec S24x1 32), IVec S24x1 32) → sProp (MT nD τ sig Unit (Elt F) ℕ UU ℕ)} :
    iprop((∀ (r0 : IVec S24x1 32) (r1 : IVec S24x1 32), ⌜r0 = k0_pay72 v1021 v1029 v1031 v1032 ∧ r1 = k0_pay73⌝ -∗ Q ⟨r0, r1⟩)) ⊢ W c (k0_part23 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v1021 v1029 v1031 v1032) Q := by
  rw [k0_part23_eq_skeleton]
  unfold k0_part23_skel
  try dsimp only
  iintro K
  iapply W_pure
  iapply K
  ipureintro; exact ⟨rfl, rfl⟩

include hw hn hN hT in
theorem part24 {f9 : S24x1536.Idx → Elt F .f32} {f10 : S56x1536.Idx → Elt F .f32} {f6 : S2x24x1536.Idx → Elt F .bf16} (v245 : BitVec 32) (v270 : FVec F S56x12 .f32) (v1016 : FVec F S24x128 .f32) (v1078 : IVec S24x1 32) (v1079 : IVec S24x1 32) {Q : (FVec F S24x128 .bf16) → sProp (MT nD τ sig Unit (Elt F) ℕ UU ℕ)} :
    iprop(P9 c f9 ∗ P10 c f10 ∗ PW c (xW (sl k.val)) fullShare f6) ⊢ iprop((∀ (r0 : FVec F S24x128 .bf16) (g9 : S24x1536.Idx → Elt F .f32) (g10 : S56x1536.Idx → Elt F .f32), ⌜r0 = (k0_pay76 (A6.view.readAt (Elt F) (Rect.unit (s := S2x24x1536) (k0_off53 v0 v6 v12 v18 v24 v30 v36 v42 v48 v54 v60 v66 v72 v78 v84 v90 k) S1x24x128.size (k0_off53_inb v0 v6 v12 v18 v24 v30 v36 v42 v48 v54 v60 v66 v72 v78 v84 v90 hw k)).toLoadRect f6)) ∧ g9 = (put9 f9 (Rect.unit (s := S24x1536) ![0, 896] S24x128.size inb_S24x1536_S24x128_0_896) (k0_pay74 v1016 v1078 v1079)) ∧ g10 = (put10 f10 (Rect.unit (s := S56x1536) ![0, 896] S56x128.size inb_S56x1536_S56x128_0_896) (k0_pay75 v270))⌝ ∗ P9 c g9 ∗ P10 c g10 ∗ PW c (xW (sl k.val)) fullShare f6 -∗ Q r0) -∗ W c (k0_part24 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v270 v1016 v1078 v1079) Q) := by
  have hkn := klt hn hN k
  have hk : k.val < 16 := lt_of_lt_of_le hkn hn
  rw [k0_part24_eq_skeleton]
  unfold k0_part24_skel
  try dsimp only
  iintro ⟨H9, H10, H6⟩ K
  iapply (ld9 c) $$ H9
  iintro H9
  iapply (st9 c) $$ H9
  iintro H9
  iapply (ld10 c) $$ H10
  iintro H10
  iapply (st10 c) $$ H10
  iintro H10
  iapply (ld6 c (sl k.val) 1024 (off53 k hk) (by decide)) $$ H6
  iintro H6
  iapply W_pure
  iapply K
  isplitr; · ipureintro; exact ⟨rfl, rfl, rfl⟩
  isplitl [H9]; · iexact H9
  isplitl [H10]; · iexact H10
  iexact H6

theorem part25  (v1121 : FVec F S24x128 .bf16) {Q : (Σ' (v1122 : FVec F S24x128 .f32) (v1127 : FVec F S24x1 .f32) (v1163 : IVec S24x1 32) (v1165 : IVec S24x1 32), IVec S24x1 32) → sProp (MT nD τ sig Unit (Elt F) ℕ UU ℕ)} :
    iprop((∀ (r0 : FVec F S24x128 .f32) (r1 : FVec F S24x1 .f32) (r2 : IVec S24x1 32) (r3 : IVec S24x1 32) (r4 : IVec S24x1 32), ⌜r0 = k0_pay77 v1121 ∧ r1 = k0_pay78 v1121 ∧ r2 = k0_pay79 v1121 ∧ r3 = k0_pay80 v1121 ∧ r4 = k0_pay81⌝ -∗ Q ⟨r0, r1, r2, r3, r4⟩)) ⊢ W c (k0_part25 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v1121) Q := by
  rw [k0_part25_eq_skeleton]
  unfold k0_part25_skel
  try dsimp only
  iintro K
  iapply W_pure
  iapply K
  ipureintro; exact ⟨rfl, rfl, rfl, rfl, rfl⟩

theorem part26  (v1122 : FVec F S24x128 .f32) (v1127 : FVec F S24x1 .f32) (v1163 : IVec S24x1 32) (v1165 : IVec S24x1 32) (v1166 : IVec S24x1 32) {Q : (Σ' (v1208 : FVec F S24x128 .f32) (v1210 : IVec S24x1 32), IVec S24x1 32) → sProp (MT nD τ sig Unit (Elt F) ℕ UU ℕ)} :
    iprop((∀ (r0 : FVec F S24x128 .f32) (r1 : IVec S24x1 32) (r2 : IVec S24x1 32), ⌜r0 = k0_pay83 v1122 v1127 v1163 v1165 v1166 ∧ r1 = k0_pay84 v1127 v1163 v1165 v1166 ∧ r2 = k0_pay85⌝ -∗ Q ⟨r0, r1, r2⟩)) ⊢ W c (k0_part26 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v1122 v1127 v1163 v1165 v1166) Q := by
  rw [k0_part26_eq_skeleton]
  unfold k0_part26_skel
  try dsimp only
  iintro K
  iapply W_pure
  iapply K
  ipureintro; exact ⟨rfl, rfl, rfl⟩

include hw hn hN hT in
theorem part27 {f9 : S24x1536.Idx → Elt F .f32} {f10 : S56x1536.Idx → Elt F .f32} {f6 : S2x24x1536.Idx → Elt F .bf16} (v245 : BitVec 32) (v270 : FVec F S56x12 .f32) (v1208 : FVec F S24x128 .f32) (v1210 : IVec S24x1 32) (v1211 : IVec S24x1 32) {Q : (Σ' (v1228 : FVec F S24x128 .f32) (v1233 : FVec F S24x1 .f32) (v1248 : IVec S24x1 32) (v1250 : IVec S24x1 32), IVec S24x1 1) → sProp (MT nD τ sig Unit (Elt F) ℕ UU ℕ)} :
    iprop(P9 c f9 ∗ P10 c f10 ∗ PW c (xW (sl k.val)) fullShare f6) ⊢ iprop((∀ (r0 : FVec F S24x128 .f32) (r1 : FVec F S24x1 .f32) (r2 : IVec S24x1 32) (r3 : IVec S24x1 32) (r4 : IVec S24x1 1) (g9 : S24x1536.Idx → Elt F .f32) (g10 : S56x1536.Idx → Elt F .f32), ⌜r0 = k0_pay88 (A6.view.readAt (Elt F) (Rect.unit (s := S2x24x1536) (k0_off54 v0 v6 v12 v18 v24 v30 v36 v42 v48 v54 v60 v66 v72 v78 v84 v90 k) S1x24x128.size (k0_off54_inb v0 v6 v12 v18 v24 v30 v36 v42 v48 v54 v60 v66 v72 v78 v84 v90 hw k)).toLoadRect f6) ∧ r1 = k0_pay89 (A6.view.readAt (Elt F) (Rect.unit (s := S2x24x1536) (k0_off54 v0 v6 v12 v18 v24 v30 v36 v42 v48 v54 v60 v66 v72 v78 v84 v90 k) S1x24x128.size (k0_off54_inb v0 v6 v12 v18 v24 v30 v36 v42 v48 v54 v60 v66 v72 v78 v84 v90 hw k)).toLoadRect f6) ∧ r2 = k0_pay90 (A6.view.readAt (Elt F) (Rect.unit (s := S2x24x1536) (k0_off54 v0 v6 v12 v18 v24 v30 v36 v42 v48 v54 v60 v66 v72 v78 v84 v90 k) S1x24x128.size (k0_off54_inb v0 v6 v12 v18 v24 v30 v36 v42 v48 v54 v60 v66 v72 v78 v84 v90 hw k)).toLoadRect f6) ∧ r3 = k0_pay91 (A6.view.readAt (Elt F) (Rect.unit (s := S2x24x1536) (k0_off54 v0 v6 v12 v18 v24 v30 v36 v42 v48 v54 v60 v66 v72 v78 v84 v90 k) S1x24x128.size (k0_off54_inb v0 v6 v12 v18 v24 v30 v36 v42 v48 v54 v60 v66 v72 v78 v84 v90 hw k)).toLoadRect f6) ∧ r4 = k0_pay92 (A6.view.readAt (Elt F) (Rect.unit (s := S2x24x1536) (k0_off54 v0 v6 v12 v18 v24 v30 v36 v42 v48 v54 v60 v66 v72 v78 v84 v90 k) S1x24x128.size (k0_off54_inb v0 v6 v12 v18 v24 v30 v36 v42 v48 v54 v60 v66 v72 v78 v84 v90 hw k)).toLoadRect f6) ∧ g9 = (put9 f9 (Rect.unit (s := S24x1536) ![0, 1024] S24x128.size inb_S24x1536_S24x128_0_1024) (k0_pay86 v1208 v1210 v1211)) ∧ g10 = (put10 f10 (Rect.unit (s := S56x1536) ![0, 1024] S56x128.size inb_S56x1536_S56x128_0_1024) (k0_pay87 v270))⌝ ∗ P9 c g9 ∗ P10 c g10 ∗ PW c (xW (sl k.val)) fullShare f6 -∗ Q ⟨r0, r1, r2, r3, r4⟩) -∗ W c (k0_part27 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v270 v1208 v1210 v1211) Q) := by
  have hkn := klt hn hN k
  have hk : k.val < 16 := lt_of_lt_of_le hkn hn
  rw [k0_part27_eq_skeleton]
  unfold k0_part27_skel
  try dsimp only
  iintro ⟨H9, H10, H6⟩ K
  iapply (ld9 c) $$ H9
  iintro H9
  iapply (st9 c) $$ H9
  iintro H9
  iapply (ld10 c) $$ H10
  iintro H10
  iapply (st10 c) $$ H10
  iintro H10
  iapply (ld6 c (sl k.val) 1152 (off54 k hk) (by decide)) $$ H6
  iintro H6
  iapply W_pure
  iapply K
  isplitr; · ipureintro; exact ⟨rfl, rfl, rfl, rfl, rfl, rfl, rfl⟩
  isplitl [H9]; · iexact H9
  isplitl [H10]; · iexact H10
  iexact H6

theorem part28  (v1233 : FVec F S24x1 .f32) (v1248 : IVec S24x1 32) (v1250 : IVec S24x1 32) (v1254 : IVec S24x1 1) {Q : (Σ' (v1299 : IVec S24x1 32), BitVec 32) → sProp (MT nD τ sig Unit (Elt F) ℕ UU ℕ)} :
    iprop((∀ (r0 : IVec S24x1 32) (r1 : BitVec 32), ⌜r0 = k0_pay93 v1233 v1248 v1250 v1254 ∧ r1 = 0#32⌝ -∗ Q ⟨r0, r1⟩)) ⊢ W c (k0_part28 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v1233 v1248 v1250 v1254) Q := by
  rw [k0_part28_eq_skeleton]
  unfold k0_part28_skel
  try dsimp only
  iintro K
  iapply W_pure
  iapply K
  ipureintro; exact ⟨rfl, rfl⟩

include hw hn hN hT in
theorem part29 {f9 : S24x1536.Idx → Elt F .f32} {f10 : S56x1536.Idx → Elt F .f32} {f6 : S2x24x1536.Idx → Elt F .bf16} (v245 : BitVec 32) (v270 : FVec F S56x12 .f32) (v1228 : FVec F S24x128 .f32) (v1299 : IVec S24x1 32) (c0_i32_483 : BitVec 32) {Q : (Σ' (v1334 : FVec F S24x128 .f32) (v1339 : FVec F S24x1 .f32) (v1340 : IVec S24x1 32), IVec S24x1 32) → sProp (MT nD τ sig Unit (Elt F) ℕ UU ℕ)} :
    iprop(P9 c f9 ∗ P10 c f10 ∗ PW c (xW (sl k.val)) fullShare f6) ⊢ iprop((∀ (r0 : FVec F S24x128 .f32) (r1 : FVec F S24x1 .f32) (r2 : IVec S24x1 32) (r3 : IVec S24x1 32) (g9 : S24x1536.Idx → Elt F .f32) (g10 : S56x1536.Idx → Elt F .f32), ⌜r0 = k0_pay96 (A6.view.readAt (Elt F) (Rect.unit (s := S2x24x1536) (k0_off55 v0 v6 v12 v18 v24 v30 v36 v42 v48 v54 v60 v66 v72 v78 v84 v90 k) S1x24x128.size (k0_off55_inb v0 v6 v12 v18 v24 v30 v36 v42 v48 v54 v60 v66 v72 v78 v84 v90 hw k)).toLoadRect f6) ∧ r1 = k0_pay97 (A6.view.readAt (Elt F) (Rect.unit (s := S2x24x1536) (k0_off55 v0 v6 v12 v18 v24 v30 v36 v42 v48 v54 v60 v66 v72 v78 v84 v90 k) S1x24x128.size (k0_off55_inb v0 v6 v12 v18 v24 v30 v36 v42 v48 v54 v60 v66 v72 v78 v84 v90 hw k)).toLoadRect f6) ∧ r2 = k0_pay98 ∧ r3 = k0_pay99 ∧ g9 = (put9 f9 (Rect.unit (s := S24x1536) ![0, 1152] S24x128.size inb_S24x1536_S24x128_0_1152) (k0_pay94 v1228 v1299 c0_i32_483)) ∧ g10 = (put10 f10 (Rect.unit (s := S56x1536) ![0, 1152] S56x128.size inb_S56x1536_S56x128_0_1152) (k0_pay95 v270))⌝ ∗ P9 c g9 ∗ P10 c g10 ∗ PW c (xW (sl k.val)) fullShare f6 -∗ Q ⟨r0, r1, r2, r3⟩) -∗ W c (k0_part29 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v270 v1228 v1299 c0_i32_483) Q) := by
  have hkn := klt hn hN k
  have hk : k.val < 16 := lt_of_lt_of_le hkn hn
  rw [k0_part29_eq_skeleton]
  unfold k0_part29_skel
  try dsimp only
  iintro ⟨H9, H10, H6⟩ K
  iapply (ld9 c) $$ H9
  iintro H9
  iapply (st9 c) $$ H9
  iintro H9
  iapply (ld10 c) $$ H10
  iintro H10
  iapply (st10 c) $$ H10
  iintro H10
  iapply (ld6 c (sl k.val) 1280 (off55 k hk) (by decide)) $$ H6
  iintro H6
  iapply W_pure
  iapply K
  isplitr; · ipureintro; exact ⟨rfl, rfl, rfl, rfl, rfl, rfl⟩
  isplitl [H9]; · iexact H9
  isplitl [H10]; · iexact H10
  iexact H6

theorem part30  (v1339 : FVec F S24x1 .f32) (v1340 : IVec S24x1 32) (v1341 : IVec S24x1 32) {Q : (Σ' (v1382 : IVec S24x1 32) (v1384 : IVec S24x1 32), IVec S24x1 1) → sProp (MT nD τ sig Unit (Elt F) ℕ UU ℕ)} :
    iprop((∀ (r0 : IVec S24x1 32) (r1 : IVec S24x1 32) (r2 : IVec S24x1 1), ⌜r0 = k0_pay100 v1339 v1340 v1341 ∧ r1 = k0_pay101 v1339 v1340 v1341 ∧ r2 = k0_pay102 v1339 v1340 v1341⌝ -∗ Q ⟨r0, r1, r2⟩)) ⊢ W c (k0_part30 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v1339 v1340 v1341) Q := by
  rw [k0_part30_eq_skeleton]
  unfold k0_part30_skel
  try dsimp only
  iintro K
  iapply W_pure
  iapply K
  ipureintro; exact ⟨rfl, rfl, rfl⟩

theorem part31 {f9 : S24x1536.Idx → Elt F .f32} (v270 : FVec F S56x12 .f32) (v1334 : FVec F S24x128 .f32) (v1339 : FVec F S24x1 .f32) (v1382 : IVec S24x1 32) (v1384 : IVec S24x1 32) (v1388 : IVec S24x1 1) {Q : (FVec F S56x1 .f32) → sProp (MT nD τ sig Unit (Elt F) ℕ UU ℕ)} :
    iprop(P9 c f9) ⊢ iprop((∀ (r0 : FVec F S56x1 .f32) (g9 : S24x1536.Idx → Elt F .f32), ⌜r0 = (k0_pay104 v270) ∧ g9 = (put9 f9 (Rect.unit (s := S24x1536) ![0, 1280] S24x128.size inb_S24x1536_S24x128_0_1280) (k0_pay103 v1334 v1339 v1382 v1384 v1388))⌝ ∗ P9 c g9 -∗ Q r0) -∗ W c (k0_part31 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v270 v1334 v1339 v1382 v1384 v1388) Q) := by
  rw [k0_part31_eq_skeleton]
  unfold k0_part31_skel
  try dsimp only
  iintro H9 K
  iapply (ld9 c) $$ H9
  iintro H9
  iapply (st9 c) $$ H9
  iintro H9
  iapply W_pure
  iapply K
  isplitr; · ipureintro; exact ⟨rfl, rfl⟩
  iexact H9

include hw hn hN hT in
theorem part32 {f10 : S56x1536.Idx → Elt F .f32} {f6 : S2x24x1536.Idx → Elt F .bf16} (v245 : BitVec 32) (v1432 : FVec F S56x1 .f32) {Q : (Σ' (v1440 : FVec F S24x128 .f32) (v1445 : FVec F S24x1 .f32) (v1474 : IVec S24x1 32), IVec S24x1 32) → sProp (MT nD τ sig Unit (Elt F) ℕ UU ℕ)} :
    iprop(P10 c f10 ∗ PW c (xW (sl k.val)) fullShare f6) ⊢ iprop((∀ (r0 : FVec F S24x128 .f32) (r1 : FVec F S24x1 .f32) (r2 : IVec S24x1 32) (r3 : IVec S24x1 32) (g10 : S56x1536.Idx → Elt F .f32), ⌜r0 = k0_pay106 (A6.view.readAt (Elt F) (Rect.unit (s := S2x24x1536) (k0_off56 v0 v6 v12 v18 v24 v30 v36 v42 v48 v54 v60 v66 v72 v78 v84 v90 k) S1x24x128.size (k0_off56_inb v0 v6 v12 v18 v24 v30 v36 v42 v48 v54 v60 v66 v72 v78 v84 v90 hw k)).toLoadRect f6) ∧ r1 = k0_pay107 (A6.view.readAt (Elt F) (Rect.unit (s := S2x24x1536) (k0_off56 v0 v6 v12 v18 v24 v30 v36 v42 v48 v54 v60 v66 v72 v78 v84 v90 k) S1x24x128.size (k0_off56_inb v0 v6 v12 v18 v24 v30 v36 v42 v48 v54 v60 v66 v72 v78 v84 v90 hw k)).toLoadRect f6) ∧ r2 = k0_pay108 (A6.view.readAt (Elt F) (Rect.unit (s := S2x24x1536) (k0_off56 v0 v6 v12 v18 v24 v30 v36 v42 v48 v54 v60 v66 v72 v78 v84 v90 k) S1x24x128.size (k0_off56_inb v0 v6 v12 v18 v24 v30 v36 v42 v48 v54 v60 v66 v72 v78 v84 v90 hw k)).toLoadRect f6) ∧ r3 = k0_pay109 ∧ g10 = (put10 f10 (Rect.unit (s := S56x1536) ![0, 1280] S56x128.size inb_S56x1536_S56x128_0_1280) (k0_pay105 v1432))⌝ ∗ P10 c g10 ∗ PW c (xW (sl k.val)) fullShare f6 -∗ Q ⟨r0, r1, r2, r3⟩) -∗ W c (k0_part32 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1432) Q) := by
  have hkn := klt hn hN k
  have hk : k.val < 16 := lt_of_lt_of_le hkn hn
  rw [k0_part32_eq_skeleton]
  unfold k0_part32_skel
  try dsimp only
  iintro ⟨H10, H6⟩ K
  iapply (ld10 c) $$ H10
  iintro H10
  iapply (st10 c) $$ H10
  iintro H10
  iapply (ld6 c (sl k.val) 1408 (off56 k hk) (by decide)) $$ H6
  iintro H6
  iapply W_pure
  iapply K
  isplitr; · ipureintro; exact ⟨rfl, rfl, rfl, rfl, rfl⟩
  isplitl [H10]; · iexact H10
  iexact H6

theorem part33  (v1440 : FVec F S24x128 .f32) (v1445 : FVec F S24x1 .f32) (v1474 : IVec S24x1 32) (v1475 : IVec S24x1 32) {Q : (Σ' (v1511 : IVec S24x1 32) (v1520 : FVec F S24x128 .f32), F .f32) → sProp (MT nD τ sig Unit (Elt F) ℕ UU ℕ)} :
    iprop((∀ (r0 : IVec S24x1 32) (r1 : FVec F S24x128 .f32) (r2 : F .f32), ⌜r0 = k0_pay110 v1445 v1474 v1475 ∧ r1 = k0_pay111 v1440 v1445 v1474 v1475 ∧ r2 = (Scalar.ofBits .f32 0xC3E00000#32)⌝ -∗ Q ⟨r0, r1, r2⟩)) ⊢ W c (k0_part33 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v1440 v1445 v1474 v1475) Q := by
  rw [k0_part33_eq_skeleton]
  unfold k0_part33_skel
  try dsimp only
  iintro K
  iapply W_pure
  iapply K
  ipureintro; exact ⟨rfl, rfl, rfl⟩

end Cert.Proof.Kernel
end
end
-- ==== Proof.Kernel.State.lean ====
module

public import proofs.«01_k».proof.Proof.Kernel.Chk
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Transfers
public import Idealize.ShloMosaic.Lib.Batch
public import Idealize.ShloMosaic.Adequacy
public import Idealize.ShloMosaic.Init

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

section
variable {F : FTy → Type} [FloatOps F] (c : Dev nD)
/-- What trip `k` leaves of piece `q` of its slot of weights: the copy for trip `k + 2`, if there is one. -/
def Gnext (fw : S16x7168x1536.Idx → Elt F .fp8e4m3) (act : ℕ → Fin 16) (n k : ℕ) (q : Fin 7) : sProp (MT nD τ sig Unit (Elt F) ℕ UU ℕ) :=
  if k + 2 < n then Gin c fw (sl k) q (act (k + 2)) else Gfree c fw (sl k) q
/-- The same for its slot of inputs. -/
def Xnext (fx : S16x24x1536.Idx → Elt F .bf16) (act : ℕ → Fin 16) (n k : ℕ) : sProp (MT nD τ sig Unit (Elt F) ℕ UU ℕ) :=
  if k + 2 < n then Xin c fx (sl k) (act (k + 2)) else Xfree c fx (sl k)
/-- The same for its slot of weight scales. -/
def Snext (fs : S16x56x12.Idx → Elt F .f32) (act : ℕ → Fin 16) (n k : ℕ) : sProp (MT nD τ sig Unit (Elt F) ℕ UU ℕ) :=
  if k + 2 < n then Sin c fs (sl k) (act (k + 2)) else Sfree c fs (sl k)
/-- What trip `k` finds of its slot of results: the copy out of trip `k - 2`, if there was one. -/
def Oprev (act : ℕ → Fin 16) (vv : ℕ → S24x7168.Idx → Elt F .bf16) (k : ℕ) : sProp (MT nD τ sig Unit (Elt F) ℕ UU ℕ) :=
  if 2 ≤ k then Oin c (vv (k - 2)) (sl k) (act (k - 2)) else Ofree c (sl k)
/-- The result rows that trip `k` has waited for. -/
def Rprev (act : ℕ → Fin 16) (vv : ℕ → S24x7168.Idx → Elt F .bf16) (k : ℕ) : sProp (MT nD τ sig Unit (Elt F) ℕ UU ℕ) :=
  if 2 ≤ k then RowV c (vv (k - 2)) (act (k - 2)) else iprop(emp)
end

section ifs

variable {F : FTy → Type} [FloatOps F] (c : Dev nD)
variable {v0 v6 v12 v18 v24 v30 v36 v42 v48 v54 v60 v66 v72 v78 v84 v90 : BitVec 32} (hw : k0_chk15 v0 v6 v12 v18 v24 v30 v36 v42 v48 v54 v60 v66 v72 v78 v84 v90) {n : ℕ} (hn : n ≤ 16) (hN : NW v0 v6 v12 v18 v24 v30 v36 v42 v48 v54 v60 v66 v72 v78 v84 v90 = BitVec.ofNat 32 n)
  {act : ℕ → Fin 16} {ft : S16.Idx → Elt F .i32} (hT : ∀ i, i < n → tw ft (p16 i) = BitVec.ofNat 32 (act i).val)
  (k : Fin (k0_t1_loop v0 v6 v12 v18 v24 v30 v36 v42 v48 v54 v60 v66 v72 v78 v84 v90).trips)

include hw hn hN hT in
theorem if35 {vv : ℕ → S24x7168.Idx → Elt F .bf16} {α : Type} {Q : α → sProp (MT nD τ sig Unit (Elt F) ℕ UU ℕ)} {R : Prog (TpuEff nD τ sig (Elt F) Λ₀ .tc) α} :
    iprop(P5 c ft ∗ Oprev c act vv k.val ∗ OW c) ⊢
      iprop((P5 c ft ∗ Ofree c (sl k.val) ∗ Rprev c act vv k.val ∗ OW c -∗ W c R Q) -∗ W c (if k0_h35 : k0_cond35 v0 v6 v12 v18 v24 v30 v36 v42 v48 v54 v60 v66 v72 v78 v84 v90 k = 1#1 then (do
        let v2487 : Elt F .i32 ← smemLoad A5 (Rect.unit (s := S16) (k0_off57 v0 v6 v12 v18 v24 v30 v36 v42 v48 v54 v60 v66 v72 v78 v84 v90 k) S1.size (k0_off57_inb v0 v6 v12 v18 v24 v30 v36 v42 v48 v54 v60 v66 v72 v78 v84 v90 hw k k0_h35)) numel1_S1 rfl
        have k0_hw37 : k0_chk37 v0 v6 v12 v18 v24 v30 v36 v42 v48 v54 v60 v66 v72 v78 v84 v90 k v2487 := (← Prog.lift (TpuEff.assume (k0_chk37 v0 v6 v12 v18 v24 v30 v36 v42 v48 v54 v60 v66 v72 v78 v84 v90 k v2487) (k0_chk37.dec v0 v6 v12 v18 v24 v30 v36 v42 v48 v54 v60 v66 v72 v78 v84 v90 k v2487))).down
        let v2488 : DmaSems sig S1 := cc0_scratch11.slice (Rect.unit (s := S2) (k0_off58 v0 v6 v12 v18 v24 v30 v36 v42 v48 v54 v60 v66 v72 v78 v84 v90 k) S1.size (k0_off58_inb v0 v6 v12 v18 v24 v30 v36 v42 v48 v54 v60 v66 v72 v78 v84 v90 hw k k0_h35))
        let v2489 : DmaSems sig S_ := v2488.squeeze S_ squeezes_S1_S_
        let v2490 : Memref sig .tc .hbm S1x24x7168 .bf16 := A4.slice (Rect.unit (s := S16x24x7168) (k0_off59 v2487) S1x24x7168.size (k0_off59_inb v0 v6 v12 v18 v24 v30 v36 v42 v48 v54 v60 v66 v72 v78 v84 v90 k v2487 k0_hw37 k0_h35)) (fun _ => rfl)
        let v2491 : Memref sig .tc .hbm S24x7168 .bf16 := v2490.squeeze S24x7168 squeezes_S1x24x7168_S24x7168
        let v2492 : Memref sig .tc .vmem S1x24x7168 .bf16 := A11.slice (Rect.unit (s := S2x24x7168) (k0_off60 v0 v6 v12 v18 v24 v30 v36 v42 v48 v54 v60 v66 v72 v78 v84 v90 k) S1x24x7168.size (k0_off60_inb v0 v6 v12 v18 v24 v30 v36 v42 v48 v54 v60 v66 v72 v78 v84 v90 hw k k0_h35)) (fun _ => rfl)
        let v2493 : Memref sig .tc .vmem S24x7168 .bf16 := v2492.squeeze S24x7168 squeezes_S1x24x7168_S24x7168
        Prog.lift (.waitDma2 v2489.sem v2493 v2491 (((Memref.isWhole_whole _ : A11.IsWhole).wordExact_slice rfl _ (k0_off60_wordsbf16 v0 v6 v12 v18 v24 v30 v36 v42 v48 v54 v60 v66 v72 v78 v84 v90 hw k k0_h35)).reshape _ _) (((Memref.isWhole_whole _ : A4.IsWhole).wordExact_slice rfl _ (k0_off59_wordsbf16 v0 v6 v12 v18 v24 v30 v36 v42 v48 v54 v60 v66 v72 v78 v84 v90 k v2487 k0_hw37 k0_h35)).reshape _ _))
        R) else R) Q) := by
  have hkn := klt hn hN k
  have hk : k.val < 16 := lt_of_lt_of_le hkn hn
  by_cases h : 2 ≤ k.val
  · rw [dif_pos ((cond35 k hk).2 h)]
    unfold Oprev Rprev
    rw [if_pos h, if_pos h]
    dsimp only
    iintro ⟨H5, HO, HW⟩ K
    iapply (lw5 c (p16 (k.val - 2)) (off57 k hk h)) $$ H5
    iintro H5
    iapply (W_assume c (by rw [hT _ (by omega)]; exact chk37 k _))
    iapply (waitO c (v := vv (k.val - 2)) (sl k.val) (act (k.val - 2)) (off58 k hk)) $$ [HO HW]
    · isplitl [HO]; · iexact HO
      iexact HW
    iintro HO HR HW
    iapply K
    isplitl [H5]; · iexact H5
    isplitl [HO]; · iexact HO
    isplitl [HR]; · iexact HR
    iexact HW
  · rw [dif_neg (mt (cond35 k hk).1 h)]
    unfold Oprev Rprev
    rw [if_neg h, if_neg h]
    iintro ⟨H5, HO, HW⟩ K
    iapply K
    isplitl [H5]; · iexact H5
    isplitl [HO]; · iexact HO
    isplitr; · iempintro
    iexact HW

include hw hn hN hT in
theorem if36 {fx : S16x24x1536.Idx → Elt F .bf16} {fs : S16x56x12.Idx → Elt F .f32} {α : Type} {Q : α → sProp (MT nD τ sig Unit (Elt F) ℕ UU ℕ)} {R : Prog (TpuEff nD τ sig (Elt F) Λ₀ .tc) α} :
    iprop(P5 c ft ∗ (∃ f : S2x24x1536.Idx → Elt F .bf16, PW c (xW (sl k.val)) fullShare f) ∗ Sem0 c (xsem (sl k.val)) ∗ (A1.view.loc (c : Thread nD τ) ↦{qx (sl k.val)} fx)
        ∗ (∃ f : S2x56x12.Idx → Elt F .f32, PW c (sW (sl k.val)) fullShare f) ∗ Sem0 c (ssem (sl k.val)) ∗ (A3.view.loc (c : Thread nD τ) ↦{qx (sl k.val)} fs)) ⊢
      iprop((P5 c ft ∗ Xnext c fx act n k.val ∗ Snext c fs act n k.val -∗ W c R Q) -∗ W c (if k0_h36 : k0_cond36 v0 v6 v12 v18 v24 v30 v36 v42 v48 v54 v60 v66 v72 v78 v84 v90 k = 1#1 then (do
        let v2487 : Elt F .i32 ← smemLoad A5 (Rect.unit (s := S16) (k0_off61 v0 v6 v12 v18 v24 v30 v36 v42 v48 v54 v60 v66 v72 v78 v84 v90 k) S1.size (k0_off61_inb v0 v6 v12 v18 v24 v30 v36 v42 v48 v54 v60 v66 v72 v78 v84 v90 hw k k0_h36)) numel1_S1 rfl
        have k0_hw38 : k0_chk38 v0 v6 v12 v18 v24 v30 v36 v42 v48 v54 v60 v66 v72 v78 v84 v90 k v2487 := (← Prog.lift (TpuEff.assume (k0_chk38 v0 v6 v12 v18 v24 v30 v36 v42 v48 v54 v60 v66 v72 v78 v84 v90 k v2487) (k0_chk38.dec v0 v6 v12 v18 v24 v30 v36 v42 v48 v54 v60 v66 v72 v78 v84 v90 k v2487))).down
        let v2488 : DmaSems sig S1 := cc0_scratch8.slice (Rect.unit (s := S2) (k0_off62 v0 v6 v12 v18 v24 v30 v36 v42 v48 v54 v60 v66 v72 v78 v84 v90 k) S1.size (k0_off62_inb v0 v6 v12 v18 v24 v30 v36 v42 v48 v54 v60 v66 v72 v78 v84 v90 hw k k0_h36))
        let v2489 : DmaSems sig S_ := v2488.squeeze S_ squeezes_S1_S_
        let v2490 : Memref sig .tc .vmem S1x24x1536 .bf16 := A6.slice (Rect.unit (s := S2x24x1536) (k0_off63 v0 v6 v12 v18 v24 v30 v36 v42 v48 v54 v60 v66 v72 v78 v84 v90 k) S1x24x1536.size (k0_off63_inb v0 v6 v12 v18 v24 v30 v36 v42 v48 v54 v60 v66 v72 v78 v84 v90 hw k k0_h36)) (fun _ => rfl)
        let v2491 : Memref sig .tc .vmem S24x1536 .bf16 := v2490.squeeze S24x1536 squeezes_S1x24x1536_S24x1536
        let v2492 : Memref sig .tc .hbm S1x24x1536 .bf16 := A1.slice (Rect.unit (s := S16x24x1536) (k0_off64 v2487) S1x24x1536.size (k0_off64_inb v0 v6 v12 v18 v24 v30 v36 v42 v48 v54 v60 v66 v72 v78 v84 v90 k v2487 k0_hw38 k0_h36)) (fun _ => rfl)
        let v2493 : Memref sig .tc .hbm S24x1536 .bf16 := v2492.squeeze S24x1536 squeezes_S1x24x1536_S24x1536
        Prog.lift (.enqueueDma v2493 (.here v2491) (.dma v2489.sem) (((Memref.isWhole_whole _ : A1.IsWhole).wordExact_slice rfl _ (k0_off64_wordsbf16 v0 v6 v12 v18 v24 v30 v36 v42 v48 v54 v60 v66 v72 v78 v84 v90 k v2487 k0_hw38 k0_h36)).reshape _ _) (((Memref.isWhole_whole _ : A6.IsWhole).wordExact_slice rfl _ (k0_off63_wordsbf16 v0 v6 v12 v18 v24 v30 v36 v42 v48 v54 v60 v66 v72 v78 v84 v90 hw k k0_h36)).reshape _ _) ⟨Or.inl rfl, trivial⟩)
        let v2496 : Elt F .i32 ← smemLoad A5 (Rect.unit (s := S16) (k0_off65 v0 v6 v12 v18 v24 v30 v36 v42 v48 v54 v60 v66 v72 v78 v84 v90 k) S1.size (k0_off65_inb v0 v6 v12 v18 v24 v30 v36 v42 v48 v54 v60 v66 v72 v78 v84 v90 hw k k0_h36)) numel1_S1 rfl
        have k0_hw39 : k0_chk39 v0 v6 v12 v18 v24 v30 v36 v42 v48 v54 v60 v66 v72 v78 v84 v90 k v2496 := (← Prog.lift (TpuEff.assume (k0_chk39 v0 v6 v12 v18 v24 v30 v36 v42 v48 v54 v60 v66 v72 v78 v84 v90 k v2496) (k0_chk39.dec v0 v6 v12 v18 v24 v30 v36 v42 v48 v54 v60 v66 v72 v78 v84 v90 k v2496))).down
        let v2497 : DmaSems sig S1 := cc0_scratch9.slice (Rect.unit (s := S2) (k0_off66 v0 v6 v12 v18 v24 v30 v36 v42 v48 v54 v60 v66 v72 v78 v84 v90 k) S1.size (k0_off66_inb v0 v6 v12 v18 v24 v30 v36 v42 v48 v54 v60 v66 v72 v78 v84 v90 hw k k0_h36))
        let v2498 : DmaSems sig S_ := v2497.squeeze S_ squeezes_S1_S_
        let v2499 : Memref sig .tc .vmem S1x56x12 .f32 := A7.slice (Rect.unit (s := S2x56x12) (k0_off67 v0 v6 v12 v18 v24 v30 v36 v42 v48 v54 v60 v66 v72 v78 v84 v90 k) S1x56x12.size (k0_off67_inb v0 v6 v12 v18 v24 v30 v36 v42 v48 v54 v60 v66 v72 v78 v84 v90 hw k k0_h36)) (fun _ => rfl)
        let v2500 : Memref sig .tc .vmem S56x12 .f32 := v2499.squeeze S56x12 squeezes_S1x56x12_S56x12
        let v2501 : Memref sig .tc .hbm S1x56x12 .f32 := A3.slice (Rect.unit (s := S16x56x12) (k0_off68 v2496) S1x56x12.size (k0_off68_inb v0 v6 v12 v18 v24 v30 v36 v42 v48 v54 v60 v66 v72 v78 v84 v90 k v2496 k0_hw39 k0_h36)) (fun _ => rfl)
        let v2502 : Memref sig .tc .hbm S56x12 .f32 := v2501.squeeze S56x12 squeezes_S1x56x12_S56x12
        Prog.lift (.enqueueDma v2502 (.here v2500) (.dma v2498.sem) ((View.wordExact_bits rfl).reshape _ _) ((View.wordExact_bits rfl).reshape _ _) ⟨Or.inl rfl, trivial⟩)
        R) else R) Q) := by
  have hkn := klt hn hN k
  have hk : k.val < 16 := lt_of_lt_of_le hkn hn
  by_cases h : k.val + 2 < n
  · rw [dif_pos ((cond36 k hk hn hN).2 h)]
    unfold Xnext Snext
    rw [if_pos h, if_pos h]
    dsimp only
    iintro ⟨H5, H6, HS6, HK6, H7, HS7, HK7⟩ K
    iapply (lw5 c (p16 (k.val + 2)) (off61 k (by omega))) $$ H5
    iintro H5
    iapply (W_assume c (by rw [hT _ h]; exact chk38 k _))
    iapply (startX c (fx := fx) (sl k.val) (act (k.val + 2)) (off62 k hk) (off63 k hk) (by rw [hT _ h]; exact off64 _)) $$ [H6 HS6 HK6]
    · unfold Xfree
      isplitl [H6]; · iexact H6
      isplitl [HS6]; · iexact HS6
      iexact HK6
    iintro HX
    iapply (lw5 c (p16 (k.val + 2)) (off65 k (by omega))) $$ H5
    iintro H5
    iapply (W_assume c (by rw [hT _ h]; exact chk39 k _))
    iapply (startS c (fx := fs) (sl k.val) (act (k.val + 2)) (off66 k hk) (off67 k hk) (by rw [hT _ h]; exact off68 _)) $$ [H7 HS7 HK7]
    · unfold Sfree
      isplitl [H7]; · iexact H7
      isplitl [HS7]; · iexact HS7
      iexact HK7
    iintro HS
    iapply K
    isplitl [H5]; · iexact H5
    isplitl [HX]; · iexact HX
    iexact HS
  · rw [dif_neg (mt (cond36 k hk hn hN).1 h)]
    unfold Xnext Snext
    rw [if_neg h, if_neg h]
    unfold Xfree Sfree
    iintro ⟨H5, H6, HS6, HK6, H7, HS7, HK7⟩ K
    iapply K
    isplitl [H5]; · iexact H5
    isplitl [H6 HS6 HK6]
    · isplitl [H6]; · iexact H6
      isplitl [HS6]; · iexact HS6
      iexact HK6
    isplitl [H7]; · iexact H7
    isplitl [HS7]; · iexact HS7
    iexact HK7

include hw hn hN hT in
theorem if37 {fw : S16x7168x1536.Idx → Elt F .fp8e4m3} {α : Type} {Q : α → sProp (MT nD τ sig Unit (Elt F) ℕ UU ℕ)} {R : Prog (TpuEff nD τ sig (Elt F) Λ₀ .tc) α} :
    iprop(P5 c ft ∗ (∃ f : S2x7168x1536.Idx → Elt F .fp8e4m3, PW c (wW (sl k.val) 0) fullShare f) ∗ Sem0 c (wsem (sl k.val) 0) ∗ (A2.view.loc (c : Thread nD τ) ↦{qw (sl k.val) 0} fw)) ⊢
      iprop((P5 c ft ∗ Gnext c fw act n k.val 0 -∗ W c R Q) -∗ W c (if k0_h37 : k0_cond37 v0 v6 v12 v18 v24 v30 v36 v42 v48 v54 v60 v66 v72 v78 v84 v90 k = 1#1 then (do
        let v2487 : Elt F .i32 ← smemLoad A5 (Rect.unit (s := S16) (k0_off85 v0 v6 v12 v18 v24 v30 v36 v42 v48 v54 v60 v66 v72 v78 v84 v90 k) S1.size (k0_off85_inb v0 v6 v12 v18 v24 v30 v36 v42 v48 v54 v60 v66 v72 v78 v84 v90 hw k k0_h37)) numel1_S1 rfl
        have k0_hw41 : k0_chk41 v0 v6 v12 v18 v24 v30 v36 v42 v48 v54 v60 v66 v72 v78 v84 v90 k v2487 := (← Prog.lift (TpuEff.assume (k0_chk41 v0 v6 v12 v18 v24 v30 v36 v42 v48 v54 v60 v66 v72 v78 v84 v90 k v2487) (k0_chk41.dec v0 v6 v12 v18 v24 v30 v36 v42 v48 v54 v60 v66 v72 v78 v84 v90 k v2487))).down
        let v2488 : DmaSems sig S1x1 := cc0_scratch10.slice (Rect.unit (s := S2x7) (k0_off86 v0 v6 v12 v18 v24 v30 v36 v42 v48 v54 v60 v66 v72 v78 v84 v90 k) S1x1.size (k0_off86_inb v0 v6 v12 v18 v24 v30 v36 v42 v48 v54 v60 v66 v72 v78 v84 v90 hw k k0_h37))
        let v2489 : DmaSems sig S_ := v2488.squeeze S_ squeezes_S1x1_S_
        let v2490 : Memref sig .tc .vmem S1x1024x1536 .fp8e4m3 := A8.slice (Rect.unit (s := S2x7168x1536) (k0_off87 v0 v6 v12 v18 v24 v30 v36 v42 v48 v54 v60 v66 v72 v78 v84 v90 k) S1x1024x1536.size (k0_off87_inb v0 v6 v12 v18 v24 v30 v36 v42 v48 v54 v60 v66 v72 v78 v84 v90 hw k k0_h37)) (fun _ => rfl)
        let v2491 : Memref sig .tc .vmem S1024x1536 .fp8e4m3 := v2490.squeeze S1024x1536 squeezes_S1x1024x1536_S1024x1536
        let v2492 : Memref sig .tc .hbm S1x1024x1536 .fp8e4m3 := A2.slice (Rect.unit (s := S16x7168x1536) (k0_off88 v2487) S1x1024x1536.size (k0_off88_inb v0 v6 v12 v18 v24 v30 v36 v42 v48 v54 v60 v66 v72 v78 v84 v90 k v2487 k0_hw41 k0_h37)) (fun _ => rfl)
        let v2493 : Memref sig .tc .hbm S1024x1536 .fp8e4m3 := v2492.squeeze S1024x1536 squeezes_S1x1024x1536_S1024x1536
        Prog.lift (.enqueueDma v2493 (.here v2491) (.dma v2489.sem) (((Memref.isWhole_whole _ : A2.IsWhole).wordExact_slice rfl _ (k0_off88_wordsfp8e4m3 v0 v6 v12 v18 v24 v30 v36 v42 v48 v54 v60 v66 v72 v78 v84 v90 k v2487 k0_hw41 k0_h37)).reshape _ _) (((Memref.isWhole_whole _ : A8.IsWhole).wordExact_slice rfl _ (k0_off87_wordsfp8e4m3 v0 v6 v12 v18 v24 v30 v36 v42 v48 v54 v60 v66 v72 v78 v84 v90 hw k k0_h37)).reshape _ _) ⟨Or.inl rfl, trivial⟩)
        R) else R) Q) := by
  have hkn := klt hn hN k
  have hk : k.val < 16 := lt_of_lt_of_le hkn hn
  by_cases h : k.val + 2 < n
  · rw [dif_pos ((cond37 k hk hn hN).2 h)]
    unfold Gnext
    rw [if_pos h]
    dsimp only
    iintro ⟨H5, H8, HS, HK⟩ K
    iapply (lw5 c (p16 (k.val + 2)) (off85 k (by omega))) $$ H5
    iintro H5
    iapply (W_assume c (by rw [hT _ h]; exact chk41 k _))
    iapply (startG c (fx := fw) (sl k.val) 0 (act (k.val + 2)) (off86 k hk) (off87 k hk) (by rw [hT _ h]; exact off88 _)) $$ [H8 HS HK]
    · unfold Gfree
      isplitl [H8]; · iexact H8
      isplitl [HS]; · iexact HS
      iexact HK
    iintro HG
    iapply K
    isplitl [H5]; · iexact H5
    iexact HG
  · rw [dif_neg (mt (cond37 k hk hn hN).1 h)]
    unfold Gnext
    rw [if_neg h]
    unfold Gfree
    iintro ⟨H5, H8, HS, HK⟩ K
    iapply K
    isplitl [H5]; · iexact H5
    isplitl [H8]; · iexact H8
    isplitl [HS]; · iexact HS
    iexact HK

include hw hn hN hT in
theorem if38 {fw : S16x7168x1536.Idx → Elt F .fp8e4m3} {α : Type} {Q : α → sProp (MT nD τ sig Unit (Elt F) ℕ UU ℕ)} {R : Prog (TpuEff nD τ sig (Elt F) Λ₀ .tc) α} :
    iprop(P5 c ft ∗ (∃ f : S2x7168x1536.Idx → Elt F .fp8e4m3, PW c (wW (sl k.val) 1) fullShare f) ∗ Sem0 c (wsem (sl k.val) 1) ∗ (A2.view.loc (c : Thread nD τ) ↦{qw (sl k.val) 1} fw)) ⊢
      iprop((P5 c ft ∗ Gnext c fw act n k.val 1 -∗ W c R Q) -∗ W c (if k0_h38 : k0_cond38 v0 v6 v12 v18 v24 v30 v36 v42 v48 v54 v60 v66 v72 v78 v84 v90 k = 1#1 then (do
        let v2487 : Elt F .i32 ← smemLoad A5 (Rect.unit (s := S16) (k0_off105 v0 v6 v12 v18 v24 v30 v36 v42 v48 v54 v60 v66 v72 v78 v84 v90 k) S1.size (k0_off105_inb v0 v6 v12 v18 v24 v30 v36 v42 v48 v54 v60 v66 v72 v78 v84 v90 hw k k0_h38)) numel1_S1 rfl
        have k0_hw43 : k0_chk43 v0 v6 v12 v18 v24 v30 v36 v42 v48 v54 v60 v66 v72 v78 v84 v90 k v2487 := (← Prog.lift (TpuEff.assume (k0_chk43 v0 v6 v12 v18 v24 v30 v36 v42 v48 v54 v60 v66 v72 v78 v84 v90 k v2487) (k0_chk43.dec v0 v6 v12 v18 v24 v30 v36 v42 v48 v54 v60 v66 v72 v78 v84 v90 k v2487))).down
        let v2488 : DmaSems sig S1x1 := cc0_scratch10.slice (Rect.unit (s := S2x7) (k0_off106 v0 v6 v12 v18 v24 v30 v36 v42 v48 v54 v60 v66 v72 v78 v84 v90 k) S1x1.size (k0_off106_inb v0 v6 v12 v18 v24 v30 v36 v42 v48 v54 v60 v66 v72 v78 v84 v90 hw k k0_h38))
        let v2489 : DmaSems sig S_ := v2488.squeeze S_ squeezes_S1x1_S_
        let v2490 : Memref sig .tc .vmem S1x1024x1536 .fp8e4m3 := A8.slice (Rect.unit (s := S2x7168x1536) (k0_off107 v0 v6 v12 v18 v24 v30 v36 v42 v48 v54 v60 v66 v72 v78 v84 v90 k) S1x1024x1536.size (k0_off107_inb v0 v6 v12 v18 v24 v30 v36 v42 v48 v54 v60 v66 v72 v78 v84 v90 hw k k0_h38)) (fun _ => rfl)
        let v2491 : Memref sig .tc .vmem S1024x1536 .fp8e4m3 := v2490.squeeze S1024x1536 squeezes_S1x1024x1536_S1024x1536
        let v2492 : Memref sig .tc .hbm S1x1024x1536 .fp8e4m3 := A2.slice (Rect.unit (s := S16x7168x1536) (k0_off108 v2487) S1x1024x1536.size (k0_off108_inb v0 v6 v12 v18 v24 v30 v36 v42 v48 v54 v60 v66 v72 v78 v84 v90 k v2487 k0_hw43 k0_h38)) (fun _ => rfl)
        let v2493 : Memref sig .tc .hbm S1024x1536 .fp8e4m3 := v2492.squeeze S1024x1536 squeezes_S1x1024x1536_S1024x1536
        Prog.lift (.enqueueDma v2493 (.here v2491) (.dma v2489.sem) (((Memref.isWhole_whole _ : A2.IsWhole).wordExact_slice rfl _ (k0_off108_wordsfp8e4m3 v0 v6 v12 v18 v24 v30 v36 v42 v48 v54 v60 v66 v72 v78 v84 v90 k v2487 k0_hw43 k0_h38)).reshape _ _) (((Memref.isWhole_whole _ : A8.IsWhole).wordExact_slice rfl _ (k0_off107_wordsfp8e4m3 v0 v6 v12 v18 v24 v30 v36 v42 v48 v54 v60 v66 v72 v78 v84 v90 hw k k0_h38)).reshape _ _) ⟨Or.inl rfl, trivial⟩)
        R) else R) Q) := by
  have hkn := klt hn hN k
  have hk : k.val < 16 := lt_of_lt_of_le hkn hn
  by_cases h : k.val + 2 < n
  · rw [dif_pos ((cond38 k hk hn hN).2 h)]
    unfold Gnext
    rw [if_pos h]
    dsimp only
    iintro ⟨H5, H8, HS, HK⟩ K
    iapply (lw5 c (p16 (k.val + 2)) (off105 k (by omega))) $$ H5
    iintro H5
    iapply (W_assume c (by rw [hT _ h]; exact chk43 k _))
    iapply (startG c (fx := fw) (sl k.val) 1 (act (k.val + 2)) (off106 k hk) (off107 k hk) (by rw [hT _ h]; exact off108 _)) $$ [H8 HS HK]
    · unfold Gfree
      isplitl [H8]; · iexact H8
      isplitl [HS]; · iexact HS
      iexact HK
    iintro HG
    iapply K
    isplitl [H5]; · iexact H5
    iexact HG
  · rw [dif_neg (mt (cond38 k hk hn hN).1 h)]
    unfold Gnext
    rw [if_neg h]
    unfold Gfree
    iintro ⟨H5, H8, HS, HK⟩ K
    iapply K
    isplitl [H5]; · iexact H5
    isplitl [H8]; · iexact H8
    isplitl [HS]; · iexact HS
    iexact HK

include hw hn hN hT in
theorem if39 {fw : S16x7168x1536.Idx → Elt F .fp8e4m3} {α : Type} {Q : α → sProp (MT nD τ sig Unit (Elt F) ℕ UU ℕ)} {R : Prog (TpuEff nD τ sig (Elt F) Λ₀ .tc) α} :
    iprop(P5 c ft ∗ (∃ f : S2x7168x1536.Idx → Elt F .fp8e4m3, PW c (wW (sl k.val) 2) fullShare f) ∗ Sem0 c (wsem (sl k.val) 2) ∗ (A2.view.loc (c : Thread nD τ) ↦{qw (sl k.val) 2} fw)) ⊢
      iprop((P5 c ft ∗ Gnext c fw act n k.val 2 -∗ W c R Q) -∗ W c (if k0_h39 : k0_cond39 v0 v6 v12 v18 v24 v30 v36 v42 v48 v54 v60 v66 v72 v78 v84 v90 k = 1#1 then (do
        let v2487 : Elt F .i32 ← smemLoad A5 (Rect.unit (s := S16) (k0_off125 v0 v6 v12 v18 v24 v30 v36 v42 v48 v54 v60 v66 v72 v78 v84 v90 k) S1.size (k0_off125_inb v0 v6 v12 v18 v24 v30 v36 v42 v48 v54 v60 v66 v72 v78 v84 v90 hw k k0_h39)) numel1_S1 rfl
        have k0_hw45 : k0_chk45 v0 v6 v12 v18 v24 v30 v36 v42 v48 v54 v60 v66 v72 v78 v84 v90 k v2487 := (← Prog.lift (TpuEff.assume (k0_chk45 v0 v6 v12 v18 v24 v30 v36 v42 v48 v54 v60 v66 v72 v78 v84 v90 k v2487) (k0_chk45.dec v0 v6 v12 v18 v24 v30 v36 v42 v48 v54 v60 v66 v72 v78 v84 v90 k v2487))).down
        let v2488 : DmaSems sig S1x1 := cc0_scratch10.slice (Rect.unit (s := S2x7) (k0_off126 v0 v6 v12 v18 v24 v30 v36 v42 v48 v54 v60 v66 v72 v78 v84 v90 k) S1x1.size (k0_off126_inb v0 v6 v12 v18 v24 v30 v36 v42 v48 v54 v60 v66 v72 v78 v84 v90 hw k k0_h39))
        let v2489 : DmaSems sig S_ := v2488.squeeze S_ squeezes_S1x1_S_
        let v2490 : Memref sig .tc .vmem S1x1024x1536 .fp8e4m3 := A8.slice (Rect.unit (s := S2x7168x1536) (k0_off127 v0 v6 v12 v18 v24 v30 v36 v42 v48 v54 v60 v66 v72 v78 v84 v90 k) S1x1024x1536.size (k0_off127_inb v0 v6 v12 v18 v24 v30 v36 v42 v48 v54 v60 v66 v72 v78 v84 v90 hw k k0_h39)) (fun _ => rfl)
        let v2491 : Memref sig .tc .vmem S1024x1536 .fp8e4m3 := v2490.squeeze S1024x1536 squeezes_S1x1024x1536_S1024x1536
        let v2492 : Memref sig .tc .hbm S1x1024x1536 .fp8e4m3 := A2.slice (Rect.unit (s := S16x7168x1536) (k0_off128 v2487) S1x1024x1536.size (k0_off128_inb v0 v6 v12 v18 v24 v30 v36 v42 v48 v54 v60 v66 v72 v78 v84 v90 k v2487 k0_hw45 k0_h39)) (fun _ => rfl)
        let v2493 : Memref sig .tc .hbm S1024x1536 .fp8e4m3 := v2492.squeeze S1024x1536 squeezes_S1x1024x1536_S1024x1536
        Prog.lift (.enqueueDma v2493 (.here v2491) (.dma v2489.sem) (((Memref.isWhole_whole _ : A2.IsWhole).wordExact_slice rfl _ (k0_off128_wordsfp8e4m3 v0 v6 v12 v18 v24 v30 v36 v42 v48 v54 v60 v66 v72 v78 v84 v90 k v2487 k0_hw45 k0_h39)).reshape _ _) (((Memref.isWhole_whole _ : A8.IsWhole).wordExact_slice rfl _ (k0_off127_wordsfp8e4m3 v0 v6 v12 v18 v24 v30 v36 v42 v48 v54 v60 v66 v72 v78 v84 v90 hw k k0_h39)).reshape _ _) ⟨Or.inl rfl, trivial⟩)
        R) else R) Q) := by
  have hkn := klt hn hN k
  have hk : k.val < 16 := lt_of_lt_of_le hkn hn
  by_cases h : k.val + 2 < n
  · rw [dif_pos ((cond39 k hk hn hN).2 h)]
    unfold Gnext
    rw [if_pos h]
    dsimp only
    iintro ⟨H5, H8, HS, HK⟩ K
    iapply (lw5 c (p16 (k.val + 2)) (off125 k (by omega))) $$ H5
    iintro H5
    iapply (W_assume c (by rw [hT _ h]; exact chk45 k _))
    iapply (startG c (fx := fw) (sl k.val) 2 (act (k.val + 2)) (off126 k hk) (off127 k hk) (by rw [hT _ h]; exact off128 _)) $$ [H8 HS HK]
    · unfold Gfree
      isplitl [H8]; · iexact H8
      isplitl [HS]; · iexact HS
      iexact HK
    iintro HG
    iapply K
    isplitl [H5]; · iexact H5
    iexact HG
  · rw [dif_neg (mt (cond39 k hk hn hN).1 h)]
    unfold Gnext
    rw [if_neg h]
    unfold Gfree
    iintro ⟨H5, H8, HS, HK⟩ K
    iapply K
    isplitl [H5]; · iexact H5
    isplitl [H8]; · iexact H8
    isplitl [HS]; · iexact HS
    iexact HK

include hw hn hN hT in
theorem if40 {fw : S16x7168x1536.Idx → Elt F .fp8e4m3} {α : Type} {Q : α → sProp (MT nD τ sig Unit (Elt F) ℕ UU ℕ)} {R : Prog (TpuEff nD τ sig (Elt F) Λ₀ .tc) α} :
    iprop(P5 c ft ∗ (∃ f : S2x7168x1536.Idx → Elt F .fp8e4m3, PW c (wW (sl k.val) 3) fullShare f) ∗ Sem0 c (wsem (sl k.val) 3) ∗ (A2.view.loc (c : Thread nD τ) ↦{qw (sl k.val) 3} fw)) ⊢
      iprop((P5 c ft ∗ Gnext c fw act n k.val 3 -∗ W c R Q) -∗ W c (if k0_h40 : k0_cond40 v0 v6 v12 v18 v24 v30 v36 v42 v48 v54 v60 v66 v72 v78 v84 v90 k = 1#1 then (do
        let v2487 : Elt F .i32 ← smemLoad A5 (Rect.unit (s := S16) (k0_off145 v0 v6 v12 v18 v24 v30 v36 v42 v48 v54 v60 v66 v72 v78 v84 v90 k) S1.size (k0_off145_inb v0 v6 v12 v18 v24 v30 v36 v42 v48 v54 v60 v66 v72 v78 v84 v90 hw k k0_h40)) numel1_S1 rfl
        have k0_hw47 : k0_chk47 v0 v6 v12 v18 v24 v30 v36 v42 v48 v54 v60 v66 v72 v78 v84 v90 k v2487 := (← Prog.lift (TpuEff.assume (k0_chk47 v0 v6 v12 v18 v24 v30 v36 v42 v48 v54 v60 v66 v72 v78 v84 v90 k v2487) (k0_chk47.dec v0 v6 v12 v18 v24 v30 v36 v42 v48 v54 v60 v66 v72 v78 v84 v90 k v2487))).down
        let v2488 : DmaSems sig S1x1 := cc0_scratch10.slice (Rect.unit (s := S2x7) (k0_off146 v0 v6 v12 v18 v24 v30 v36 v42 v48 v54 v60 v66 v72 v78 v84 v90 k) S1x1.size (k0_off146_inb v0 v6 v12 v18 v24 v30 v36 v42 v48 v54 v60 v66 v72 v78 v84 v90 hw k k0_h40))
        let v2489 : DmaSems sig S_ := v2488.squeeze S_ squeezes_S1x1_S_
        let v2490 : Memref sig .tc .vmem S1x1024x1536 .fp8e4m3 := A8.slice (Rect.unit (s := S2x7168x1536) (k0_off147 v0 v6 v12 v18 v24 v30 v36 v42 v48 v54 v60 v66 v72 v78 v84 v90 k) S1x1024x1536.size (k0_off147_inb v0 v6 v12 v18 v24 v30 v36 v42 v48 v54 v60 v66 v72 v78 v84 v90 hw k k0_h40)) (fun _ => rfl)
        let v2491 : Memref sig .tc .vmem S1024x1536 .fp8e4m3 := v2490.squeeze S1024x1536 squeezes_S1x1024x1536_S1024x1536
        let v2492 : Memref sig .tc .hbm S1x1024x1536 .fp8e4m3 := A2.slice (Rect.unit (s := S16x7168x1536) (k0_off148 v2487) S1x1024x1536.size (k0_off148_inb v0 v6 v12 v18 v24 v30 v36 v42 v48 v54 v60 v66 v72 v78 v84 v90 k v2487 k0_hw47 k0_h40)) (fun _ => rfl)
        let v2493 : Memref sig .tc .hbm S1024x1536 .fp8e4m3 := v2492.squeeze S1024x1536 squeezes_S1x1024x1536_S1024x1536
        Prog.lift (.enqueueDma v2493 (.here v2491) (.dma v2489.sem) (((Memref.isWhole_whole _ : A2.IsWhole).wordExact_slice rfl _ (k0_off148_wordsfp8e4m3 v0 v6 v12 v18 v24 v30 v36 v42 v48 v54 v60 v66 v72 v78 v84 v90 k v2487 k0_hw47 k0_h40)).reshape _ _) (((Memref.isWhole_whole _ : A8.IsWhole).wordExact_slice rfl _ (k0_off147_wordsfp8e4m3 v0 v6 v12 v18 v24 v30 v36 v42 v48 v54 v60 v66 v72 v78 v84 v90 hw k k0_h40)).reshape _ _) ⟨Or.inl rfl, trivial⟩)
        R) else R) Q) := by
  have hkn := klt hn hN k
  have hk : k.val < 16 := lt_of_lt_of_le hkn hn
  by_cases h : k.val + 2 < n
  · rw [dif_pos ((cond40 k hk hn hN).2 h)]
    unfold Gnext
    rw [if_pos h]
    dsimp only
    iintro ⟨H5, H8, HS, HK⟩ K
    iapply (lw5 c (p16 (k.val + 2)) (off145 k (by omega))) $$ H5
    iintro H5
    iapply (W_assume c (by rw [hT _ h]; exact chk47 k _))
    iapply (startG c (fx := fw) (sl k.val) 3 (act (k.val + 2)) (off146 k hk) (off147 k hk) (by rw [hT _ h]; exact off148 _)) $$ [H8 HS HK]
    · unfold Gfree
      isplitl [H8]; · iexact H8
      isplitl [HS]; · iexact HS
      iexact HK
    iintro HG
    iapply K
    isplitl [H5]; · iexact H5
    iexact HG
  · rw [dif_neg (mt (cond40 k hk hn hN).1 h)]
    unfold Gnext
    rw [if_neg h]
    unfold Gfree
    iintro ⟨H5, H8, HS, HK⟩ K
    iapply K
    isplitl [H5]; · iexact H5
    isplitl [H8]; · iexact H8
    isplitl [HS]; · iexact HS
    iexact HK

include hw hn hN hT in
theorem if41 {fw : S16x7168x1536.Idx → Elt F .fp8e4m3} {α : Type} {Q : α → sProp (MT nD τ sig Unit (Elt F) ℕ UU ℕ)} {R : Prog (TpuEff nD τ sig (Elt F) Λ₀ .tc) α} :
    iprop(P5 c ft ∗ (∃ f : S2x7168x1536.Idx → Elt F .fp8e4m3, PW c (wW (sl k.val) 4) fullShare f) ∗ Sem0 c (wsem (sl k.val) 4) ∗ (A2.view.loc (c : Thread nD τ) ↦{qw (sl k.val) 4} fw)) ⊢
      iprop((P5 c ft ∗ Gnext c fw act n k.val 4 -∗ W c R Q) -∗ W c (if k0_h41 : k0_cond41 v0 v6 v12 v18 v24 v30 v36 v42 v48 v54 v60 v66 v72 v78 v84 v90 k = 1#1 then (do
        let v2487 : Elt F .i32 ← smemLoad A5 (Rect.unit (s := S16) (k0_off165 v0 v6 v12 v18 v24 v30 v36 v42 v48 v54 v60 v66 v72 v78 v84 v90 k) S1.size (k0_off165_inb v0 v6 v12 v18 v24 v30 v36 v42 v48 v54 v60 v66 v72 v78 v84 v90 hw k k0_h41)) numel1_S1 rfl
        have k0_hw49 : k0_chk49 v0 v6 v12 v18 v24 v30 v36 v42 v48 v54 v60 v66 v72 v78 v84 v90 k v2487 := (← Prog.lift (TpuEff.assume (k0_chk49 v0 v6 v12 v18 v24 v30 v36 v42 v48 v54 v60 v66 v72 v78 v84 v90 k v2487) (k0_chk49.dec v0 v6 v12 v18 v24 v30 v36 v42 v48 v54 v60 v66 v72 v78 v84 v90 k v2487))).down
        let v2488 : DmaSems sig S1x1 := cc0_scratch10.slice (Rect.unit (s := S2x7) (k0_off166 v0 v6 v12 v18 v24 v30 v36 v42 v48 v54 v60 v66 v72 v78 v84 v90 k) S1x1.size (k0_off166_inb v0 v6 v12 v18 v24 v30 v36 v42 v48 v54 v60 v66 v72 v78 v84 v90 hw k k0_h41))
        let v2489 : DmaSems sig S_ := v2488.squeeze S_ squeezes_S1x1_S_
        let v2490 : Memref sig .tc .vmem S1x1024x1536 .fp8e4m3 := A8.slice (Rect.unit (s := S2x7168x1536) (k0_off167 v0 v6 v12 v18 v24 v30 v36 v42 v48 v54 v60 v66 v72 v78 v84 v90 k) S1x1024x1536.size (k0_off167_inb v0 v6 v12 v18 v24 v30 v36 v42 v48 v54 v60 v66 v72 v78 v84 v90 hw k k0_h41)) (fun _ => rfl)
        let v2491 : Memref sig .tc .vmem S1024x1536 .fp8e4m3 := v2490.squeeze S1024x1536 squeezes_S1x1024x1536_S1024x1536
        let v2492 : Memref sig .tc .hbm S1x1024x1536 .fp8e4m3 := A2.slice (Rect.unit (s := S16x7168x1536) (k0_off168 v2487) S1x1024x1536.size (k0_off168_inb v0 v6 v12 v18 v24 v30 v36 v42 v48 v54 v60 v66 v72 v78 v84 v90 k v2487 k0_hw49 k0_h41)) (fun _ => rfl)
        let v2493 : Memref sig .tc .hbm S1024x1536 .fp8e4m3 := v2492.squeeze S1024x1536 squeezes_S1x1024x1536_S1024x1536
        Prog.lift (.enqueueDma v2493 (.here v2491) (.dma v2489.sem) (((Memref.isWhole_whole _ : A2.IsWhole).wordExact_slice rfl _ (k0_off168_wordsfp8e4m3 v0 v6 v12 v18 v24 v30 v36 v42 v48 v54 v60 v66 v72 v78 v84 v90 k v2487 k0_hw49 k0_h41)).reshape _ _) (((Memref.isWhole_whole _ : A8.IsWhole).wordExact_slice rfl _ (k0_off167_wordsfp8e4m3 v0 v6 v12 v18 v24 v30 v36 v42 v48 v54 v60 v66 v72 v78 v84 v90 hw k k0_h41)).reshape _ _) ⟨Or.inl rfl, trivial⟩)
        R) else R) Q) := by
  have hkn := klt hn hN k
  have hk : k.val < 16 := lt_of_lt_of_le hkn hn
  by_cases h : k.val + 2 < n
  · rw [dif_pos ((cond41 k hk hn hN).2 h)]
    unfold Gnext
    rw [if_pos h]
    dsimp only
    iintro ⟨H5, H8, HS, HK⟩ K
    iapply (lw5 c (p16 (k.val + 2)) (off165 k (by omega))) $$ H5
    iintro H5
    iapply (W_assume c (by rw [hT _ h]; exact chk49 k _))
    iapply (startG c (fx := fw) (sl k.val) 4 (act (k.val + 2)) (off166 k hk) (off167 k hk) (by rw [hT _ h]; exact off168 _)) $$ [H8 HS HK]
    · unfold Gfree
      isplitl [H8]; · iexact H8
      isplitl [HS]; · iexact HS
      iexact HK
    iintro HG
    iapply K
    isplitl [H5]; · iexact H5
    iexact HG
  · rw [dif_neg (mt (cond41 k hk hn hN).1 h)]
    unfold Gnext
    rw [if_neg h]
    unfold Gfree
    iintro ⟨H5, H8, HS, HK⟩ K
    iapply K
    isplitl [H5]; · iexact H5
    isplitl [H8]; · iexact H8
    isplitl [HS]; · iexact HS
    iexact HK

include hw hn hN hT in
theorem if42 {fw : S16x7168x1536.Idx → Elt F .fp8e4m3} {α : Type} {Q : α → sProp (MT nD τ sig Unit (Elt F) ℕ UU ℕ)} {R : Prog (TpuEff nD τ sig (Elt F) Λ₀ .tc) α} :
    iprop(P5 c ft ∗ (∃ f : S2x7168x1536.Idx → Elt F .fp8e4m3, PW c (wW (sl k.val) 5) fullShare f) ∗ Sem0 c (wsem (sl k.val) 5) ∗ (A2.view.loc (c : Thread nD τ) ↦{qw (sl k.val) 5} fw)) ⊢
      iprop((P5 c ft ∗ Gnext c fw act n k.val 5 -∗ W c R Q) -∗ W c (if k0_h42 : k0_cond42 v0 v6 v12 v18 v24 v30 v36 v42 v48 v54 v60 v66 v72 v78 v84 v90 k = 1#1 then (do
        let v2487 : Elt F .i32 ← smemLoad A5 (Rect.unit (s := S16) (k0_off185 v0 v6 v12 v18 v24 v30 v36 v42 v48 v54 v60 v66 v72 v78 v84 v90 k) S1.size (k0_off185_inb v0 v6 v12 v18 v24 v30 v36 v42 v48 v54 v60 v66 v72 v78 v84 v90 hw k k0_h42)) numel1_S1 rfl
        have k0_hw51 : k0_chk51 v0 v6 v12 v18 v24 v30 v36 v42 v48 v54 v60 v66 v72 v78 v84 v90 k v2487 := (← Prog.lift (TpuEff.assume (k0_chk51 v0 v6 v12 v18 v24 v30 v36 v42 v48 v54 v60 v66 v72 v78 v84 v90 k v2487) (k0_chk51.dec v0 v6 v12 v18 v24 v30 v36 v42 v48 v54 v60 v66 v72 v78 v84 v90 k v2487))).down
        let v2488 : DmaSems sig S1x1 := cc0_scratch10.slice (Rect.unit (s := S2x7) (k0_off186 v0 v6 v12 v18 v24 v30 v36 v42 v48 v54 v60 v66 v72 v78 v84 v90 k) S1x1.size (k0_off186_inb v0 v6 v12 v18 v24 v30 v36 v42 v48 v54 v60 v66 v72 v78 v84 v90 hw k k0_h42))
        let v2489 : DmaSems sig S_ := v2488.squeeze S_ squeezes_S1x1_S_
        let v2490 : Memref sig .tc .vmem S1x1024x1536 .fp8e4m3 := A8.slice (Rect.unit (s := S2x7168x1536) (k0_off187 v0 v6 v12 v18 v24 v30 v36 v42 v48 v54 v60 v66 v72 v78 v84 v90 k) S1x1024x1536.size (k0_off187_inb v0 v6 v12 v18 v24 v30 v36 v42 v48 v54 v60 v66 v72 v78 v84 v90 hw k k0_h42)) (fun _ => rfl)
        let v2491 : Memref sig .tc .vmem S1024x1536 .fp8e4m3 := v2490.squeeze S1024x1536 squeezes_S1x1024x1536_S1024x1536
        let v2492 : Memref sig .tc .hbm S1x1024x1536 .fp8e4m3 := A2.slice (Rect.unit (s := S16x7168x1536) (k0_off188 v2487) S1x1024x1536.size (k0_off188_inb v0 v6 v12 v18 v24 v30 v36 v42 v48 v54 v60 v66 v72 v78 v84 v90 k v2487 k0_hw51 k0_h42)) (fun _ => rfl)
        let v2493 : Memref sig .tc .hbm S1024x1536 .fp8e4m3 := v2492.squeeze S1024x1536 squeezes_S1x1024x1536_S1024x1536
        Prog.lift (.enqueueDma v2493 (.here v2491) (.dma v2489.sem) (((Memref.isWhole_whole _ : A2.IsWhole).wordExact_slice rfl _ (k0_off188_wordsfp8e4m3 v0 v6 v12 v18 v24 v30 v36 v42 v48 v54 v60 v66 v72 v78 v84 v90 k v2487 k0_hw51 k0_h42)).reshape _ _) (((Memref.isWhole_whole _ : A8.IsWhole).wordExact_slice rfl _ (k0_off187_wordsfp8e4m3 v0 v6 v12 v18 v24 v30 v36 v42 v48 v54 v60 v66 v72 v78 v84 v90 hw k k0_h42)).reshape _ _) ⟨Or.inl rfl, trivial⟩)
        R) else R) Q) := by
  have hkn := klt hn hN k
  have hk : k.val < 16 := lt_of_lt_of_le hkn hn
  by_cases h : k.val + 2 < n
  · rw [dif_pos ((cond42 k hk hn hN).2 h)]
    unfold Gnext
    rw [if_pos h]
    dsimp only
    iintro ⟨H5, H8, HS, HK⟩ K
    iapply (lw5 c (p16 (k.val + 2)) (off185 k (by omega))) $$ H5
    iintro H5
    iapply (W_assume c (by rw [hT _ h]; exact chk51 k _))
    iapply (startG c (fx := fw) (sl k.val) 5 (act (k.val + 2)) (off186 k hk) (off187 k hk) (by rw [hT _ h]; exact off188 _)) $$ [H8 HS HK]
    · unfold Gfree
      isplitl [H8]; · iexact H8
      isplitl [HS]; · iexact HS
      iexact HK
    iintro HG
    iapply K
    isplitl [H5]; · iexact H5
    iexact HG
  · rw [dif_neg (mt (cond42 k hk hn hN).1 h)]
    unfold Gnext
    rw [if_neg h]
    unfold Gfree
    iintro ⟨H5, H8, HS, HK⟩ K
    iapply K
    isplitl [H5]; · iexact H5
    isplitl [H8]; · iexact H8
    isplitl [HS]; · iexact HS
    iexact HK

include hw hn hN hT in
theorem if43 {fw : S16x7168x1536.Idx → Elt F .fp8e4m3} {α : Type} {Q : α → sProp (MT nD τ sig Unit (Elt F) ℕ UU ℕ)} {R : Prog (TpuEff nD τ sig (Elt F) Λ₀ .tc) α} :
    iprop(P5 c ft ∗ (∃ f : S2x7168x1536.Idx → Elt F .fp8e4m3, PW c (wW (sl k.val) 6) fullShare f) ∗ Sem0 c (wsem (sl k.val) 6) ∗ (A2.view.loc (c : Thread nD τ) ↦{qw (sl k.val) 6} fw)) ⊢
      iprop((P5 c ft ∗ Gnext c fw act n k.val 6 -∗ W c R Q) -∗ W c (if k0_h43 : k0_cond43 v0 v6 v12 v18 v24 v30 v36 v42 v48 v54 v60 v66 v72 v78 v84 v90 k = 1#1 then (do
        let v2487 : Elt F .i32 ← smemLoad A5 (Rect.unit (s := S16) (k0_off205 v0 v6 v12 v18 v24 v30 v36 v42 v48 v54 v60 v66 v72 v78 v84 v90 k) S1.size (k0_off205_inb v0 v6 v12 v18 v24 v30 v36 v42 v48 v54 v60 v66 v72 v78 v84 v90 hw k k0_h43)) numel1_S1 rfl
        have k0_hw53 : k0_chk53 v0 v6 v12 v18 v24 v30 v36 v42 v48 v54 v60 v66 v72 v78 v84 v90 k v2487 := (← Prog.lift (TpuEff.assume (k0_chk53 v0 v6 v12 v18 v24 v30 v36 v42 v48 v54 v60 v66 v72 v78 v84 v90 k v2487) (k0_chk53.dec v0 v6 v12 v18 v24 v30 v36 v42 v48 v54 v60 v66 v72 v78 v84 v90 k v2487))).down
        let v2488 : DmaSems sig S1x1 := cc0_scratch10.slice (Rect.unit (s := S2x7) (k0_off206 v0 v6 v12 v18 v24 v30 v36 v42 v48 v54 v60 v66 v72 v78 v84 v90 k) S1x1.size (k0_off206_inb v0 v6 v12 v18 v24 v30 v36 v42 v48 v54 v60 v66 v72 v78 v84 v90 hw k k0_h43))
        let v2489 : DmaSems sig S_ := v2488.squeeze S_ squeezes_S1x1_S_
        let v2490 : Memref sig .tc .vmem S1x1024x1536 .fp8e4m3 := A8.slice (Rect.unit (s := S2x7168x1536) (k0_off207 v0 v6 v12 v18 v24 v30 v36 v42 v48 v54 v60 v66 v72 v78 v84 v90 k) S1x1024x1536.size (k0_off207_inb v0 v6 v12 v18 v24 v30 v36 v42 v48 v54 v60 v66 v72 v78 v84 v90 hw k k0_h43)) (fun _ => rfl)
        let v2491 : Memref sig .tc .vmem S1024x1536 .fp8e4m3 := v2490.squeeze S1024x1536 squeezes_S1x1024x1536_S1024x1536
        let v2492 : Memref sig .tc .hbm S1x1024x1536 .fp8e4m3 := A2.slice (Rect.unit (s := S16x7168x1536) (k0_off208 v2487) S1x1024x1536.size (k0_off208_inb v0 v6 v12 v18 v24 v30 v36 v42 v48 v54 v60 v66 v72 v78 v84 v90 k v2487 k0_hw53 k0_h43)) (fun _ => rfl)
        let v2493 : Memref sig .tc .hbm S1024x1536 .fp8e4m3 := v2492.squeeze S1024x1536 squeezes_S1x1024x1536_S1024x1536
        Prog.lift (.enqueueDma v2493 (.here v2491) (.dma v2489.sem) (((Memref.isWhole_whole _ : A2.IsWhole).wordExact_slice rfl _ (k0_off208_wordsfp8e4m3 v0 v6 v12 v18 v24 v30 v36 v42 v48 v54 v60 v66 v72 v78 v84 v90 k v2487 k0_hw53 k0_h43)).reshape _ _) (((Memref.isWhole_whole _ : A8.IsWhole).wordExact_slice rfl _ (k0_off207_wordsfp8e4m3 v0 v6 v12 v18 v24 v30 v36 v42 v48 v54 v60 v66 v72 v78 v84 v90 hw k k0_h43)).reshape _ _) ⟨Or.inl rfl, trivial⟩)
        R) else R) Q) := by
  have hkn := klt hn hN k
  have hk : k.val < 16 := lt_of_lt_of_le hkn hn
  by_cases h : k.val + 2 < n
  · rw [dif_pos ((cond43 k hk hn hN).2 h)]
    unfold Gnext
    rw [if_pos h]
    dsimp only
    iintro ⟨H5, H8, HS, HK⟩ K
    iapply (lw5 c (p16 (k.val + 2)) (off205 k (by omega))) $$ H5
    iintro H5
    iapply (W_assume c (by rw [hT _ h]; exact chk53 k _))
    iapply (startG c (fx := fw) (sl k.val) 6 (act (k.val + 2)) (off206 k hk) (off207 k hk) (by rw [hT _ h]; exact off208 _)) $$ [H8 HS HK]
    · unfold Gfree
      isplitl [H8]; · iexact H8
      isplitl [HS]; · iexact HS
      iexact HK
    iintro HG
    iapply K
    isplitl [H5]; · iexact H5
    iexact HG
  · rw [dif_neg (mt (cond43 k hk hn hN).1 h)]
    unfold Gnext
    rw [if_neg h]
    unfold Gfree
    iintro ⟨H5, H8, HS, HK⟩ K
    iapply K
    isplitl [H5]; · iexact H5
    isplitl [H8]; · iexact H8
    isplitl [HS]; · iexact HS
    iexact HK

end ifs

end Cert.Proof.Kernel
end
end
-- ==== Proof.Kernel.PartsB.lean ====
module

public import proofs.«01_k».proof.Proof.Kernel.State
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Transfers
public import Idealize.ShloMosaic.Lib.Batch
public import Idealize.ShloMosaic.Adequacy
public import Idealize.ShloMosaic.Init

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F] (c : Dev nD)
variable {v0 v6 v12 v18 v24 v30 v36 v42 v48 v54 v60 v66 v72 v78 v84 v90 : BitVec 32} (hw : k0_chk15 v0 v6 v12 v18 v24 v30 v36 v42 v48 v54 v60 v66 v72 v78 v84 v90) {n : ℕ} (hn : n ≤ 16) (hN : NW v0 v6 v12 v18 v24 v30 v36 v42 v48 v54 v60 v66 v72 v78 v84 v90 = BitVec.ofNat 32 n)
  {act : ℕ → Fin 16} {ft : S16.Idx → Elt F .i32} (hT : ∀ i, i < n → tw ft (p16 i) = BitVec.ofNat 32 (act i).val)
  (k : Fin (k0_t1_loop v0 v6 v12 v18 v24 v30 v36 v42 v48 v54 v60 v66 v72 v78 v84 v90).trips)

include hw hn hN hT in
theorem part34 {f9 : S24x1536.Idx → Elt F .f32} {f10 : S56x1536.Idx → Elt F .f32} {f6 : S2x24x1536.Idx → Elt F .bf16} {f7 : S2x56x12.Idx → Elt F .f32} {fx : S16x24x1536.Idx → Elt F .bf16} {fs : S16x56x12.Idx → Elt F .f32} {vv : ℕ → S24x7168.Idx → Elt F .bf16} (v95 : BitVec 32) (arg18 : BitVec 32) (v249 : Elt F .i32) (v270 : FVec F S56x12 .f32) (v1511 : IVec S24x1 32) (v1520 : FVec F S24x128 .f32) (cst_556 : F .f32) {Q : (Σ' (v1552 : IVec S24x128 1) (v1554 : Elt F .i32), k0_chk40 v1554) → sProp (MT nD τ sig Unit (Elt F) ℕ UU ℕ)} :
    iprop(P9 c f9 ∗ P10 c f10 ∗ P5 c ft ∗ Oprev c act vv k.val ∗ OW c ∗ PW c (xW (sl k.val)) fullShare f6 ∗ Sem0 c (xsem (sl k.val)) ∗ (A1.view.loc (c : Thread nD τ) ↦{qx (sl k.val)} fx) ∗ PW c (sW (sl k.val)) fullShare f7 ∗ Sem0 c (ssem (sl k.val)) ∗ (A3.view.loc (c : Thread nD τ) ↦{qx (sl k.val)} fs)) ⊢ iprop((∀ (r0 : IVec S24x128 1) (r1 : Elt F .i32) (r2 : k0_chk40 r1) (g9 : S24x1536.Idx → Elt F .f32) (g10 : S56x1536.Idx → Elt F .f32), ⌜r0 = k0_pay114 v249 ∧ r1 = (tw ft (p16 k.val)) ∧ g9 = (put9 f9 (Rect.unit (s := S24x1536) ![0, 1408] S24x128.size inb_S24x1536_S24x128_0_1408) (k0_pay112 v1511 v1520 cst_556)) ∧ g10 = (put10 f10 (Rect.unit (s := S56x1536) ![0, 1408] S56x128.size inb_S56x1536_S56x128_0_1408) (k0_pay113 v270))⌝ ∗ P9 c g9 ∗ P10 c g10 ∗ P5 c ft ∗ OW c ∗ Ofree c (sl k.val) ∗ Rprev c act vv k.val ∗ Xnext c fx act n k.val ∗ Snext c fs act n k.val -∗ Q ⟨r0, r1, r2⟩) -∗ W c (k0_part34 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw v95 k arg18 v249 v270 v1511 v1520 cst_556) Q) := by
  have hkn := klt hn hN k
  have hk : k.val < 16 := lt_of_lt_of_le hkn hn
  rw [k0_part34_eq_skeleton]
  unfold k0_part34_skel
  try dsimp only
  iintro ⟨H9, H10, H5, HO, HW, H6, HS6, HK6, H7, HS7, HK7⟩ K
  iapply (ld9 c) $$ H9
  iintro H9
  iapply (st9 c) $$ H9
  iintro H9
  iapply (ld10 c) $$ H10
  iintro H10
  iapply (st10 c) $$ H10
  iintro H10
  iapply (if35 c hw hn hN hT k) $$ [H5 HO HW]
  · isplitl [H5]; · iexact H5
    isplitl [HO]; · iexact HO
    iexact HW
  iintro ⟨H5, HOF, HR, HW⟩
  iapply (if36 c hw hn hN hT k) $$ [H5 H6 HS6 HK6 H7 HS7 HK7]
  · isplitl [H5]; · iexact H5
    isplitl [H6]; · iexists _; iexact H6
    isplitl [HS6]; · iexact HS6
    isplitl [HK6]; · iexact HK6
    isplitl [H7]; · iexists _; iexact H7
    isplitl [HS7]; · iexact HS7
    iexact HK7
  iintro ⟨H5, HX, HS⟩
  iapply (lw5 c (p16 k.val) (off69 k hk)) $$ H5
  iintro H5
  iapply (W_assume c (by rw [hT _ hkn]; exact chk40 _))
  iapply W_pure
  iapply K
  isplitr; · ipureintro; exact ⟨rfl, rfl, rfl, rfl⟩
  isplitl [H9]; · iexact H9
  isplitl [H10]; · iexact H10
  isplitl [H5]; · iexact H5
  isplitl [HW]; · iexact HW
  isplitl [HOF]; · iexact HOF
  isplitl [HR]; · iexact HR
  isplitl [HX]; · iexact HX
  iexact HS

include hw hn hN hT in
theorem part35 {f9 : S24x1536.Idx → Elt F .f32} {f10 : S56x1536.Idx → Elt F .f32} {f11 : S2x24x7168.Idx → Elt F .bf16} {fw : S16x7168x1536.Idx → Elt F .fp8e4m3} (v245 : BitVec 32) (v1552 : IVec S24x128 1) (v1554 : Elt F .i32) (k0_hw40 : k0_chk40 v1554) {Q : (FVec F S24x1536 .f32) → sProp (MT nD τ sig Unit (Elt F) ℕ UU ℕ)} :
    iprop(OW c ∗ Gin c fw (sl k.val) 0 (act k.val) ∗ P9 c f9 ∗ P10 c f10 ∗ PW c (oW (sl k.val)) fullShare f11) ⊢ iprop((∀ (r0 : FVec F S24x1536 .f32) (g11 : S2x24x7168.Idx → Elt F .bf16) (g8 : S2x7168x1536.Idx → Elt F .fp8e4m3), ⌜r0 = (k0_pay118 (A9.view.readAt (Elt F) (Rect.unit (s := S24x1536) ![0, 0] S24x1536.size inb_S24x1536_S24x1536_0_0).toLoadRect f9) (A10.view.readAt (Elt F) (Rect.unit (s := S56x1536) ![2, 0] S1x1536.size inb_S56x1536_S1x1536_2_0).toLoadRect f10)) ∧ g11 = (put11 (put11 f11 (Rect.unit (s := S2x24x7168) (k0_off74 v0 v6 v12 v18 v24 v30 v36 v42 v48 v54 v60 v66 v72 v78 v84 v90 k) S1x24x128.size (k0_off74_inb v0 v6 v12 v18 v24 v30 v36 v42 v48 v54 v60 v66 v72 v78 v84 v90 hw k)) (k0_pay116 v1552 (A9.view.readAt (Elt F) (Rect.unit (s := S24x1536) ![0, 0] S24x1536.size inb_S24x1536_S24x1536_0_0).toLoadRect f9) (A10.view.readAt (Elt F) (Rect.unit (s := S56x1536) ![0, 0] S1x1536.size inb_S56x1536_S1x1536_0_0).toLoadRect f10) (A9.view.readAt (Elt F) (Rect.unit (s := S24x1536) ![0, 0] S24x1536.size inb_S24x1536_S24x1536_0_0).toLoadRect f9) (A10.view.readAt (Elt F) (Rect.unit (s := S56x1536) ![1, 0] S1x1536.size inb_S56x1536_S1x1536_1_0).toLoadRect f10) (A8.view.readAt (Elt F) (Rect.unit (s := S2x7168x1536) (k0_off73 v0 v6 v12 v18 v24 v30 v36 v42 v48 v54 v60 v66 v72 v78 v84 v90 k) S1x256x1536.size (k0_off73_inb v0 v6 v12 v18 v24 v30 v36 v42 v48 v54 v60 v66 v72 v78 v84 v90 hw k)).toLoadRect g8))) (Rect.unit (s := S2x24x7168) (k0_off75 v0 v6 v12 v18 v24 v30 v36 v42 v48 v54 v60 v66 v72 v78 v84 v90 k) S1x24x128.size (k0_off75_inb v0 v6 v12 v18 v24 v30 v36 v42 v48 v54 v60 v66 v72 v78 v84 v90 hw k)) (k0_pay117 v1552 (A9.view.readAt (Elt F) (Rect.unit (s := S24x1536) ![0, 0] S24x1536.size inb_S24x1536_S24x1536_0_0).toLoadRect f9) (A10.view.readAt (Elt F) (Rect.unit (s := S56x1536) ![0, 0] S1x1536.size inb_S56x1536_S1x1536_0_0).toLoadRect f10) (A9.view.readAt (Elt F) (Rect.unit (s := S24x1536) ![0, 0] S24x1536.size inb_S24x1536_S24x1536_0_0).toLoadRect f9) (A10.view.readAt (Elt F) (Rect.unit (s := S56x1536) ![1, 0] S1x1536.size inb_S56x1536_S1x1536_1_0).toLoadRect f10) (A8.view.readAt (Elt F) (Rect.unit (s := S2x7168x1536) (k0_off73 v0 v6 v12 v18 v24 v30 v36 v42 v48 v54 v60 v66 v72 v78 v84 v90 k) S1x256x1536.size (k0_off73_inb v0 v6 v12 v18 v24 v30 v36 v42 v48 v54 v60 v66 v72 v78 v84 v90 hw k)).toLoadRect g8))) ∧ (wW (sl k.val) 0).view.read (Elt F) g8 = (wE (act k.val) 0).view.read (Elt F) fw⌝ ∗ OW c ∗ PW c (wW (sl k.val) 0) fullShare g8 ∗ Sem0 c (wsem (sl k.val) 0) ∗ (A2.view.loc (c : Thread nD τ) ↦{qw (sl k.val) 0} fw) ∗ P9 c f9 ∗ P10 c f10 ∗ PW c (oW (sl k.val)) fullShare g11 -∗ Q r0) -∗ W c (k0_part35 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v1554 k0_hw40) Q) := by
  have hkn := klt hn hN k
  have hk : k.val < 16 := lt_of_lt_of_le hkn hn
  rw [k0_part35_eq_skeleton]
  unfold k0_part35_skel
  try dsimp only
  iintro ⟨HW, HIG0, H9, H10, H11⟩ K
  iapply (waitG c (sl k.val) 0 (act k.val) (off70 k hk) (off71 k hk)) $$ [HIG0 HW]
  · isplitl [HIG0] <;> iassumption
  iintro %g8 %hg8 H8_0 HS0 HK0 HW
  iapply (ld9 c) $$ H9
  iintro H9
  iapply (ld10 c) $$ H10
  iintro H10
  iapply (ld9 c) $$ H9
  iintro H9
  iapply (ld10 c) $$ H10
  iintro H10
  iapply (ld8 c (sl k.val) 0 0 (off73 k hk) (by decide) (by decide)) $$ H8_0
  iintro H8_0
  iapply (ld11 c (sl k.val) 0 (off74 k hk) (by decide)) $$ H11
  iintro H11
  iapply (st11 c (sl k.val) 0 (off74 k hk) (by decide)) $$ H11
  iintro H11
  iapply (ld11 c (sl k.val) 128 (off75 k hk) (by decide)) $$ H11
  iintro H11
  iapply (st11 c (sl k.val) 128 (off75 k hk) (by decide)) $$ H11
  iintro H11
  iapply (ld9 c) $$ H9
  iintro H9
  iapply (ld10 c) $$ H10
  iintro H10
  iapply W_pure
  iapply K
  isplitr; · ipureintro; exact ⟨rfl, rfl, hg8⟩
  isplitl [HW]; · iexact HW
  isplitl [H8_0]; · iexact H8_0
  isplitl [HS0]; · iexact HS0
  isplitl [HK0]; · iexact HK0
  isplitl [H9]; · iexact H9
  isplitl [H10]; · iexact H10
  iexact H11

include hw hn hN hT in
theorem part36 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v1594 : FVec F S24x1536 .f32) {Q : (FVec F S48x1536 .bf16) → sProp (MT nD τ sig Unit (Elt F) ℕ UU ℕ)} :
    iprop(P9 c f9 ∗ P10 c f10 ∗ PW c (wW (sl k.val) 0) fullShare f8 ∗ PW c (oW (sl k.val)) fullShare f11) ⊢ iprop((∀ (r0 : FVec F S48x1536 .bf16) (g11 : S2x24x7168.Idx → Elt F .bf16), ⌜r0 = (k0_pay122 (A9.view.readAt (Elt F) (Rect.unit (s := S24x1536) ![0, 0] S24x1536.size inb_S24x1536_S24x1536_0_0).toLoadRect f9) (A10.view.readAt (Elt F) (Rect.unit (s := S56x1536) ![4, 0] S1x1536.size inb_S56x1536_S1x1536_4_0).toLoadRect f10) (A9.view.readAt (Elt F) (Rect.unit (s := S24x1536) ![0, 0] S24x1536.size inb_S24x1536_S24x1536_0_0).toLoadRect f9) (A10.view.readAt (Elt F) (Rect.unit (s := S56x1536) ![5, 0] S1x1536.size inb_S56x1536_S1x1536_5_0).toLoadRect f10)) ∧ g11 = (put11 (put11 f11 (Rect.unit (s := S2x24x7168) (k0_off77 v0 v6 v12 v18 v24 v30 v36 v42 v48 v54 v60 v66 v72 v78 v84 v90 k) S1x24x128.size (k0_off77_inb v0 v6 v12 v18 v24 v30 v36 v42 v48 v54 v60 v66 v72 v78 v84 v90 hw k)) (k0_pay120 v1552 v1594 (A9.view.readAt (Elt F) (Rect.unit (s := S24x1536) ![0, 0] S24x1536.size inb_S24x1536_S24x1536_0_0).toLoadRect f9) (A10.view.readAt (Elt F) (Rect.unit (s := S56x1536) ![3, 0] S1x1536.size inb_S56x1536_S1x1536_3_0).toLoadRect f10) (A8.view.readAt (Elt F) (Rect.unit (s := S2x7168x1536) (k0_off76 v0 v6 v12 v18 v24 v30 v36 v42 v48 v54 v60 v66 v72 v78 v84 v90 k) S1x256x1536.size (k0_off76_inb v0 v6 v12 v18 v24 v30 v36 v42 v48 v54 v60 v66 v72 v78 v84 v90 hw k)).toLoadRect f8))) (Rect.unit (s := S2x24x7168) (k0_off78 v0 v6 v12 v18 v24 v30 v36 v42 v48 v54 v60 v66 v72 v78 v84 v90 k) S1x24x128.size (k0_off78_inb v0 v6 v12 v18 v24 v30 v36 v42 v48 v54 v60 v66 v72 v78 v84 v90 hw k)) (k0_pay121 v1552 v1594 (A9.view.readAt (Elt F) (Rect.unit (s := S24x1536) ![0, 0] S24x1536.size inb_S24x1536_S24x1536_0_0).toLoadRect f9) (A10.view.readAt (Elt F) (Rect.unit (s := S56x1536) ![3, 0] S1x1536.size inb_S56x1536_S1x1536_3_0).toLoadRect f10) (A8.view.readAt (Elt F) (Rect.unit (s := S2x7168x1536) (k0_off76 v0 v6 v12 v18 v24 v30 v36 v42 v48 v54 v60 v66 v72 v78 v84 v90 k) S1x256x1536.size (k0_off76_inb v0 v6 v12 v18 v24 v30 v36 v42 v48 v54 v60 v66 v72 v78 v84 v90 hw k)).toLoadRect f8)))⌝ ∗ P9 c f9 ∗ P10 c f10 ∗ PW c (wW (sl k.val) 0) fullShare f8 ∗ PW c (oW (sl k.val)) fullShare g11 -∗ Q r0) -∗ W c (k0_part36 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v1594) Q) := by
  have hkn := klt hn hN k
  have hk : k.val < 16 := lt_of_lt_of_le hkn hn
  rw [k0_part36_eq_skeleton]
  unfold k0_part36_skel
  try dsimp only
  iintro ⟨H9, H10, H8_0, H11⟩ K
  iapply (ld9 c) $$ H9
  iintro H9
  iapply (ld10 c) $$ H10
  iintro H10
  iapply (ld8 c (sl k.val) 0 256 (off76 k hk) (by decide) (by decide)) $$ H8_0
  iintro H8_0
  iapply (ld11 c (sl k.val) 256 (off77 k hk) (by decide)) $$ H11
  iintro H11
  iapply (st11 c (sl k.val) 256 (off77 k hk) (by decide)) $$ H11
  iintro H11
  iapply (ld11 c (sl k.val) 384 (off78 k hk) (by decide)) $$ H11
  iintro H11
  iapply (st11 c (sl k.val) 384 (off78 k hk) (by decide)) $$ H11
  iintro H11
  iapply (ld9 c) $$ H9
  iintro H9
  iapply (ld10 c) $$ H10
  iintro H10
  iapply (ld9 c) $$ H9
  iintro H9
  iapply (ld10 c) $$ H10
  iintro H10
  iapply W_pure
  iapply K
  isplitr; · ipureintro; exact ⟨rfl, rfl⟩
  isplitl [H9]; · iexact H9
  isplitl [H10]; · iexact H10
  isplitl [H8_0]; · iexact H8_0
  iexact H11

include hw hn hN hT in
theorem part37 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v1630 : FVec F S48x1536 .bf16) {Q : (Σ' (v1664 : FVec F S48x256 .f32), FVec F S24x128 .bf16) → sProp (MT nD τ sig Unit (Elt F) ℕ UU ℕ)} :
    iprop(PW c (wW (sl k.val) 0) fullShare f8 ∗ PW c (oW (sl k.val)) fullShare f11 ∗ P9 c f9 ∗ P10 c f10) ⊢ iprop((∀ (r0 : FVec F S48x256 .f32) (r1 : FVec F S24x128 .bf16) (g11 : S2x24x7168.Idx → Elt F .bf16), ⌜r0 = k0_pay126 (A9.view.readAt (Elt F) (Rect.unit (s := S24x1536) ![0, 0] S24x1536.size inb_S24x1536_S24x1536_0_0).toLoadRect f9) (A10.view.readAt (Elt F) (Rect.unit (s := S56x1536) ![6, 0] S1x1536.size inb_S56x1536_S1x1536_6_0).toLoadRect f10) (A9.view.readAt (Elt F) (Rect.unit (s := S24x1536) ![0, 0] S24x1536.size inb_S24x1536_S24x1536_0_0).toLoadRect f9) (A10.view.readAt (Elt F) (Rect.unit (s := S56x1536) ![7, 0] S1x1536.size inb_S56x1536_S1x1536_7_0).toLoadRect f10) (A8.view.readAt (Elt F) (Rect.unit (s := S2x7168x1536) (k0_off82 v0 v6 v12 v18 v24 v30 v36 v42 v48 v54 v60 v66 v72 v78 v84 v90 k) S1x256x1536.size (k0_off82_inb v0 v6 v12 v18 v24 v30 v36 v42 v48 v54 v60 v66 v72 v78 v84 v90 hw k)).toLoadRect f8) ∧ r1 = k0_pay127 v1552 (A9.view.readAt (Elt F) (Rect.unit (s := S24x1536) ![0, 0] S24x1536.size inb_S24x1536_S24x1536_0_0).toLoadRect f9) (A10.view.readAt (Elt F) (Rect.unit (s := S56x1536) ![6, 0] S1x1536.size inb_S56x1536_S1x1536_6_0).toLoadRect f10) (A9.view.readAt (Elt F) (Rect.unit (s := S24x1536) ![0, 0] S24x1536.size inb_S24x1536_S24x1536_0_0).toLoadRect f9) (A10.view.readAt (Elt F) (Rect.unit (s := S56x1536) ![7, 0] S1x1536.size inb_S56x1536_S1x1536_7_0).toLoadRect f10) (A8.view.readAt (Elt F) (Rect.unit (s := S2x7168x1536) (k0_off82 v0 v6 v12 v18 v24 v30 v36 v42 v48 v54 v60 v66 v72 v78 v84 v90 k) S1x256x1536.size (k0_off82_inb v0 v6 v12 v18 v24 v30 v36 v42 v48 v54 v60 v66 v72 v78 v84 v90 hw k)).toLoadRect f8) ∧ g11 = (put11 (put11 f11 (Rect.unit (s := S2x24x7168) (k0_off80 v0 v6 v12 v18 v24 v30 v36 v42 v48 v54 v60 v66 v72 v78 v84 v90 k) S1x24x128.size (k0_off80_inb v0 v6 v12 v18 v24 v30 v36 v42 v48 v54 v60 v66 v72 v78 v84 v90 hw k)) (k0_pay124 v1552 v1630 (A8.view.readAt (Elt F) (Rect.unit (s := S2x7168x1536) (k0_off79 v0 v6 v12 v18 v24 v30 v36 v42 v48 v54 v60 v66 v72 v78 v84 v90 k) S1x256x1536.size (k0_off79_inb v0 v6 v12 v18 v24 v30 v36 v42 v48 v54 v60 v66 v72 v78 v84 v90 hw k)).toLoadRect f8))) (Rect.unit (s := S2x24x7168) (k0_off81 v0 v6 v12 v18 v24 v30 v36 v42 v48 v54 v60 v66 v72 v78 v84 v90 k) S1x24x128.size (k0_off81_inb v0 v6 v12 v18 v24 v30 v36 v42 v48 v54 v60 v66 v72 v78 v84 v90 hw k)) (k0_pay125 v1552 v1630 (A8.view.readAt (Elt F) (Rect.unit (s := S2x7168x1536) (k0_off79 v0 v6 v12 v18 v24 v30 v36 v42 v48 v54 v60 v66 v72 v78 v84 v90 k) S1x256x1536.size (k0_off79_inb v0 v6 v12 v18 v24 v30 v36 v42 v48 v54 v60 v66 v72 v78 v84 v90 hw k)).toLoadRect f8)))⌝ ∗ PW c (wW (sl k.val) 0) fullShare f8 ∗ PW c (oW (sl k.val)) fullShare g11 ∗ P9 c f9 ∗ P10 c f10 -∗ Q ⟨r0, r1⟩) -∗ W c (k0_part37 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v1630) Q) := by
  have hkn := klt hn hN k
  have hk : k.val < 16 := lt_of_lt_of_le hkn hn
  rw [k0_part37_eq_skeleton]
  unfold k0_part37_skel
  try dsimp only
  iintro ⟨H8_0, H11, H9, H10⟩ K
  iapply (ld8 c (sl k.val) 0 512 (off79 k hk) (by decide) (by decide)) $$ H8_0
  iintro H8_0
  iapply (ld11 c (sl k.val) 512 (off80 k hk) (by decide)) $$ H11
  iintro H11
  iapply (st11 c (sl k.val) 512 (off80 k hk) (by decide)) $$ H11
  iintro H11
  iapply (ld11 c (sl k.val) 640 (off81 k hk) (by decide)) $$ H11
  iintro H11
  iapply (st11 c (sl k.val) 640 (off81 k hk) (by decide)) $$ H11
  iintro H11
  iapply (ld9 c) $$ H9
  iintro H9
  iapply (ld10 c) $$ H10
  iintro H10
  iapply (ld9 c) $$ H9
  iintro H9
  iapply (ld10 c) $$ H10
  iintro H10
  iapply (ld8 c (sl k.val) 0 768 (off82 k hk) (by decide) (by decide)) $$ H8_0
  iintro H8_0
  iapply W_pure
  iapply K
  isplitr; · ipureintro; exact ⟨rfl, rfl, rfl⟩
  isplitl [H8_0]; · iexact H8_0
  isplitl [H11]; · iexact H11
  isplitl [H9]; · iexact H9
  iexact H10

include hw hn hN hT in
theorem part38 {f9 : S24x1536.Idx → Elt F .f32} {f10 : S56x1536.Idx → Elt F .f32} {f11 : S2x24x7168.Idx → Elt F .bf16} {f8 : S2x7168x1536.Idx → Elt F .fp8e4m3} {fw : S16x7168x1536.Idx → Elt F .fp8e4m3} (v95 : BitVec 32) (arg18 : BitVec 32) (v245 : BitVec 32) (v1552 : IVec S24x128 1) (v1664 : FVec F S48x256 .f32) (v1668 : FVec F S24x128 .bf16) {Q : (FVec F S48x1536 .bf16) → sProp (MT nD τ sig Unit (Elt F) ℕ UU ℕ)} :
    iprop(PW c (oW (sl k.val)) fullShare f11 ∗ P5 c ft ∗ PW c (wW (sl k.val) 0) fullShare f8 ∗ Sem0 c (wsem (sl k.val) 0) ∗ (A2.view.loc (c : Thread nD τ) ↦{qw (sl k.val) 0} fw) ∗ OW c ∗ Gin c fw (sl k.val) 1 (act k.val) ∗ P9 c f9 ∗ P10 c f10) ⊢ iprop((∀ (r0 : FVec F S48x1536 .bf16) (g11 : S2x24x7168.Idx → Elt F .bf16) (g8 : S2x7168x1536.Idx → Elt F .fp8e4m3), ⌜r0 = (k0_pay130 (A9.view.readAt (Elt F) (Rect.unit (s := S24x1536) ![0, 0] S24x1536.size inb_S24x1536_S24x1536_0_0).toLoadRect f9) (A10.view.readAt (Elt F) (Rect.unit (s := S56x1536) ![8, 0] S1x1536.size inb_S56x1536_S1x1536_8_0).toLoadRect f10) (A9.view.readAt (Elt F) (Rect.unit (s := S24x1536) ![0, 0] S24x1536.size inb_S24x1536_S24x1536_0_0).toLoadRect f9) (A10.view.readAt (Elt F) (Rect.unit (s := S56x1536) ![9, 0] S1x1536.size inb_S56x1536_S1x1536_9_0).toLoadRect f10)) ∧ g11 = (put11 (put11 f11 (Rect.unit (s := S2x24x7168) (k0_off83 v0 v6 v12 v18 v24 v30 v36 v42 v48 v54 v60 v66 v72 v78 v84 v90 k) S1x24x128.size (k0_off83_inb v0 v6 v12 v18 v24 v30 v36 v42 v48 v54 v60 v66 v72 v78 v84 v90 hw k)) (k0_pay128 v1668)) (Rect.unit (s := S2x24x7168) (k0_off84 v0 v6 v12 v18 v24 v30 v36 v42 v48 v54 v60 v66 v72 v78 v84 v90 k) S1x24x128.size (k0_off84_inb v0 v6 v12 v18 v24 v30 v36 v42 v48 v54 v60 v66 v72 v78 v84 v90 hw k)) (k0_pay129 v1552 v1664)) ∧ (wW (sl k.val) 1).view.read (Elt F) g8 = (wE (act k.val) 1).view.read (Elt F) fw⌝ ∗ PW c (oW (sl k.val)) fullShare g11 ∗ P5 c ft ∗ Gnext c fw act n k.val 0 ∗ OW c ∗ PW c (wW (sl k.val) 1) fullShare g8 ∗ Sem0 c (wsem (sl k.val) 1) ∗ (A2.view.loc (c : Thread nD τ) ↦{qw (sl k.val) 1} fw) ∗ P9 c f9 ∗ P10 c f10 -∗ Q r0) -∗ W c (k0_part38 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw v95 k arg18 v245 v1552 v1664 v1668) Q) := by
  have hkn := klt hn hN k
  have hk : k.val < 16 := lt_of_lt_of_le hkn hn
  rw [k0_part38_eq_skeleton]
  unfold k0_part38_skel
  try dsimp only
  iintro ⟨H11, H5, H8_0, HS0, HK0, HW, HIG1, H9, H10⟩ K
  iapply (ld11 c (sl k.val) 768 (off83 k hk) (by decide)) $$ H11
  iintro H11
  iapply (st11 c (sl k.val) 768 (off83 k hk) (by decide)) $$ H11
  iintro H11
  iapply (ld11 c (sl k.val) 896 (off84 k hk) (by decide)) $$ H11
  iintro H11
  iapply (st11 c (sl k.val) 896 (off84 k hk) (by decide)) $$ H11
  iintro H11
  iapply (if37 c hw hn hN hT k) $$ [H5 H8_0 HS0 HK0]
  · isplitl [H5]; · iexact H5
    isplitl [H8_0]; · iexists _; iexact H8_0
    isplitl [HS0]; · iexact HS0
    iexact HK0
  iintro ⟨H5, HG0⟩
  iapply (lw5 c (p16 k.val) (off89 k hk)) $$ H5
  iintro H5
  iapply (W_assume c (by rw [hT _ hkn]; exact chk42 _))
  iapply (waitG c (sl k.val) 1 (act k.val) (off90 k hk) (off91 k hk)) $$ [HIG1 HW]
  · isplitl [HIG1] <;> iassumption
  iintro %g8 %hg8 H8_1 HS1 HK1 HW
  iapply (ld9 c) $$ H9
  iintro H9
  iapply (ld10 c) $$ H10
  iintro H10
  iapply (ld9 c) $$ H9
  iintro H9
  iapply (ld10 c) $$ H10
  iintro H10
  iapply W_pure
  iapply K
  isplitr; · ipureintro; exact ⟨rfl, rfl, hg8⟩
  isplitl [H11]; · iexact H11
  isplitl [H5]; · iexact H5
  isplitl [HG0]; · iexact HG0
  isplitl [HW]; · iexact HW
  isplitl [H8_1]; · iexact H8_1
  isplitl [HS1]; · iexact HS1
  isplitl [HK1]; · iexact HK1
  isplitl [H9]; · iexact H9
  iexact H10

include hw hn hN hT in
theorem part39 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v1702 : FVec F S48x1536 .bf16) {Q : (Σ' (v1736 : FVec F S48x256 .f32), FVec F S24x128 .bf16) → sProp (MT nD τ sig Unit (Elt F) ℕ UU ℕ)} :
    iprop(PW c (wW (sl k.val) 1) fullShare f8 ∗ PW c (oW (sl k.val)) fullShare f11 ∗ P9 c f9 ∗ P10 c f10) ⊢ iprop((∀ (r0 : FVec F S48x256 .f32) (r1 : FVec F S24x128 .bf16) (g11 : S2x24x7168.Idx → Elt F .bf16), ⌜r0 = k0_pay134 (A9.view.readAt (Elt F) (Rect.unit (s := S24x1536) ![0, 0] S24x1536.size inb_S24x1536_S24x1536_0_0).toLoadRect f9) (A10.view.readAt (Elt F) (Rect.unit (s := S56x1536) ![10, 0] S1x1536.size inb_S56x1536_S1x1536_10_0).toLoadRect f10) (A9.view.readAt (Elt F) (Rect.unit (s := S24x1536) ![0, 0] S24x1536.size inb_S24x1536_S24x1536_0_0).toLoadRect f9) (A10.view.readAt (Elt F) (Rect.unit (s := S56x1536) ![11, 0] S1x1536.size inb_S56x1536_S1x1536_11_0).toLoadRect f10) (A8.view.readAt (Elt F) (Rect.unit (s := S2x7168x1536) (k0_off96 v0 v6 v12 v18 v24 v30 v36 v42 v48 v54 v60 v66 v72 v78 v84 v90 k) S1x256x1536.size (k0_off96_inb v0 v6 v12 v18 v24 v30 v36 v42 v48 v54 v60 v66 v72 v78 v84 v90 hw k)).toLoadRect f8) ∧ r1 = k0_pay135 v1552 (A9.view.readAt (Elt F) (Rect.unit (s := S24x1536) ![0, 0] S24x1536.size inb_S24x1536_S24x1536_0_0).toLoadRect f9) (A10.view.readAt (Elt F) (Rect.unit (s := S56x1536) ![10, 0] S1x1536.size inb_S56x1536_S1x1536_10_0).toLoadRect f10) (A9.view.readAt (Elt F) (Rect.unit (s := S24x1536) ![0, 0] S24x1536.size inb_S24x1536_S24x1536_0_0).toLoadRect f9) (A10.view.readAt (Elt F) (Rect.unit (s := S56x1536) ![11, 0] S1x1536.size inb_S56x1536_S1x1536_11_0).toLoadRect f10) (A8.view.readAt (Elt F) (Rect.unit (s := S2x7168x1536) (k0_off96 v0 v6 v12 v18 v24 v30 v36 v42 v48 v54 v60 v66 v72 v78 v84 v90 k) S1x256x1536.size (k0_off96_inb v0 v6 v12 v18 v24 v30 v36 v42 v48 v54 v60 v66 v72 v78 v84 v90 hw k)).toLoadRect f8) ∧ g11 = (put11 (put11 f11 (Rect.unit (s := S2x24x7168) (k0_off94 v0 v6 v12 v18 v24 v30 v36 v42 v48 v54 v60 v66 v72 v78 v84 v90 k) S1x24x128.size (k0_off94_inb v0 v6 v12 v18 v24 v30 v36 v42 v48 v54 v60 v66 v72 v78 v84 v90 hw k)) (k0_pay132 v1552 v1702 (A8.view.readAt (Elt F) (Rect.unit (s := S2x7168x1536) (k0_off93 v0 v6 v12 v18 v24 v30 v36 v42 v48 v54 v60 v66 v72 v78 v84 v90 k) S1x256x1536.size (k0_off93_inb v0 v6 v12 v18 v24 v30 v36 v42 v48 v54 v60 v66 v72 v78 v84 v90 hw k)).toLoadRect f8))) (Rect.unit (s := S2x24x7168) (k0_off95 v0 v6 v12 v18 v24 v30 v36 v42 v48 v54 v60 v66 v72 v78 v84 v90 k) S1x24x128.size (k0_off95_inb v0 v6 v12 v18 v24 v30 v36 v42 v48 v54 v60 v66 v72 v78 v84 v90 hw k)) (k0_pay133 v1552 v1702 (A8.view.readAt (Elt F) (Rect.unit (s := S2x7168x1536) (k0_off93 v0 v6 v12 v18 v24 v30 v36 v42 v48 v54 v60 v66 v72 v78 v84 v90 k) S1x256x1536.size (k0_off93_inb v0 v6 v12 v18 v24 v30 v36 v42 v48 v54 v60 v66 v72 v78 v84 v90 hw k)).toLoadRect f8)))⌝ ∗ PW c (wW (sl k.val) 1) fullShare f8 ∗ PW c (oW (sl k.val)) fullShare g11 ∗ P9 c f9 ∗ P10 c f10 -∗ Q ⟨r0, r1⟩) -∗ W c (k0_part39 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v1702) Q) := by
  have hkn := klt hn hN k
  have hk : k.val < 16 := lt_of_lt_of_le hkn hn
  rw [k0_part39_eq_skeleton]
  unfold k0_part39_skel
  try dsimp only
  iintro ⟨H8_1, H11, H9, H10⟩ K
  iapply (ld8 c (sl k.val) 1 1024 (off93 k hk) (by decide) (by decide)) $$ H8_1
  iintro H8_1
  iapply (ld11 c (sl k.val) 1024 (off94 k hk) (by decide)) $$ H11
  iintro H11
  iapply (st11 c (sl k.val) 1024 (off94 k hk) (by decide)) $$ H11
  iintro H11
  iapply (ld11 c (sl k.val) 1152 (off95 k hk) (by decide)) $$ H11
  iintro H11
  iapply (st11 c (sl k.val) 1152 (off95 k hk) (by decide)) $$ H11
  iintro H11
  iapply (ld9 c) $$ H9
  iintro H9
  iapply (ld10 c) $$ H10
  iintro H10
  iapply (ld9 c) $$ H9
  iintro H9
  iapply (ld10 c) $$ H10
  iintro H10
  iapply (ld8 c (sl k.val) 1 1280 (off96 k hk) (by decide) (by decide)) $$ H8_1
  iintro H8_1
  iapply W_pure
  iapply K
  isplitr; · ipureintro; exact ⟨rfl, rfl, rfl⟩
  isplitl [H8_1]; · iexact H8_1
  isplitl [H11]; · iexact H11
  isplitl [H9]; · iexact H9
  iexact H10

include hw hn hN hT in
theorem part40 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v1736 : FVec F S48x256 .f32) (v1740 : FVec F S24x128 .bf16) {Q : (FVec F S24x128 .bf16) → sProp (MT nD τ sig Unit (Elt F) ℕ UU ℕ)} :
    iprop(PW c (oW (sl k.val)) fullShare f11 ∗ P9 c f9 ∗ P10 c f10 ∗ PW c (wW (sl k.val) 1) fullShare f8) ⊢ iprop((∀ (r0 : FVec F S24x128 .bf16) (g11 : S2x24x7168.Idx → Elt F .bf16), ⌜r0 = (k0_pay140 v1552 (A9.view.readAt (Elt F) (Rect.unit (s := S24x1536) ![0, 0] S24x1536.size inb_S24x1536_S24x1536_0_0).toLoadRect f9) (A10.view.readAt (Elt F) (Rect.unit (s := S56x1536) ![12, 0] S1x1536.size inb_S56x1536_S1x1536_12_0).toLoadRect f10) (A9.view.readAt (Elt F) (Rect.unit (s := S24x1536) ![0, 0] S24x1536.size inb_S24x1536_S24x1536_0_0).toLoadRect f9) (A10.view.readAt (Elt F) (Rect.unit (s := S56x1536) ![13, 0] S1x1536.size inb_S56x1536_S1x1536_13_0).toLoadRect f10) (A8.view.readAt (Elt F) (Rect.unit (s := S2x7168x1536) (k0_off99 v0 v6 v12 v18 v24 v30 v36 v42 v48 v54 v60 v66 v72 v78 v84 v90 k) S1x256x1536.size (k0_off99_inb v0 v6 v12 v18 v24 v30 v36 v42 v48 v54 v60 v66 v72 v78 v84 v90 hw k)).toLoadRect f8)) ∧ g11 = (put11 (put11 (put11 f11 (Rect.unit (s := S2x24x7168) (k0_off97 v0 v6 v12 v18 v24 v30 v36 v42 v48 v54 v60 v66 v72 v78 v84 v90 k) S1x24x128.size (k0_off97_inb v0 v6 v12 v18 v24 v30 v36 v42 v48 v54 v60 v66 v72 v78 v84 v90 hw k)) (k0_pay136 v1740)) (Rect.unit (s := S2x24x7168) (k0_off98 v0 v6 v12 v18 v24 v30 v36 v42 v48 v54 v60 v66 v72 v78 v84 v90 k) S1x24x128.size (k0_off98_inb v0 v6 v12 v18 v24 v30 v36 v42 v48 v54 v60 v66 v72 v78 v84 v90 hw k)) (k0_pay137 v1552 v1736)) (Rect.unit (s := S2x24x7168) (k0_off100 v0 v6 v12 v18 v24 v30 v36 v42 v48 v54 v60 v66 v72 v78 v84 v90 k) S1x24x128.size (k0_off100_inb v0 v6 v12 v18 v24 v30 v36 v42 v48 v54 v60 v66 v72 v78 v84 v90 hw k)) (k0_pay139 v1552 (A9.view.readAt (Elt F) (Rect.unit (s := S24x1536) ![0, 0] S24x1536.size inb_S24x1536_S24x1536_0_0).toLoadRect f9) (A10.view.readAt (Elt F) (Rect.unit (s := S56x1536) ![12, 0] S1x1536.size inb_S56x1536_S1x1536_12_0).toLoadRect f10) (A9.view.readAt (Elt F) (Rect.unit (s := S24x1536) ![0, 0] S24x1536.size inb_S24x1536_S24x1536_0_0).toLoadRect f9) (A10.view.readAt (Elt F) (Rect.unit (s := S56x1536) ![13, 0] S1x1536.size inb_S56x1536_S1x1536_13_0).toLoadRect f10) (A8.view.readAt (Elt F) (Rect.unit (s := S2x7168x1536) (k0_off99 v0 v6 v12 v18 v24 v30 v36 v42 v48 v54 v60 v66 v72 v78 v84 v90 k) S1x256x1536.size (k0_off99_inb v0 v6 v12 v18 v24 v30 v36 v42 v48 v54 v60 v66 v72 v78 v84 v90 hw k)).toLoadRect f8)))⌝ ∗ PW c (oW (sl k.val)) fullShare g11 ∗ P9 c f9 ∗ P10 c f10 ∗ PW c (wW (sl k.val) 1) fullShare f8 -∗ Q r0) -∗ W c (k0_part40 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v1736 v1740) Q) := by
  have hkn := klt hn hN k
  have hk : k.val < 16 := lt_of_lt_of_le hkn hn
  rw [k0_part40_eq_skeleton]
  unfold k0_part40_skel
  try dsimp only
  iintro ⟨H11, H9, H10, H8_1⟩ K
  iapply (ld11 c (sl k.val) 1280 (off97 k hk) (by decide)) $$ H11
  iintro H11
  iapply (st11 c (sl k.val) 1280 (off97 k hk) (by decide)) $$ H11
  iintro H11
  iapply (ld11 c (sl k.val) 1408 (off98 k hk) (by decide)) $$ H11
  iintro H11
  iapply (st11 c (sl k.val) 1408 (off98 k hk) (by decide)) $$ H11
  iintro H11
  iapply (ld9 c) $$ H9
  iintro H9
  iapply (ld10 c) $$ H10
  iintro H10
  iapply (ld9 c) $$ H9
  iintro H9
  iapply (ld10 c) $$ H10
  iintro H10
  iapply (ld8 c (sl k.val) 1 1536 (off99 k hk) (by decide) (by decide)) $$ H8_1
  iintro H8_1
  iapply (ld11 c (sl k.val) 1536 (off100 k hk) (by decide)) $$ H11
  iintro H11
  iapply (st11 c (sl k.val) 1536 (off100 k hk) (by decide)) $$ H11
  iintro H11
  iapply W_pure
  iapply K
  isplitr; · ipureintro; exact ⟨rfl, rfl⟩
  isplitl [H11]; · iexact H11
  isplitl [H9]; · iexact H9
  isplitl [H10]; · iexact H10
  iexact H8_1

include hw hn hN hT in
theorem part41 {f9 : S24x1536.Idx → Elt F .f32} {f10 : S56x1536.Idx → Elt F .f32} {f11 : S2x24x7168.Idx → Elt F .bf16} {f8 : S2x7168x1536.Idx → Elt F .fp8e4m3} (v95 : BitVec 32) (arg18 : BitVec 32) (v245 : BitVec 32) (v1552 : IVec S24x128 1) (v1778 : FVec F S24x128 .bf16) {Q : (BitVec 32) → sProp (MT nD τ sig Unit (Elt F) ℕ UU ℕ)} :
    iprop(PW c (oW (sl k.val)) fullShare f11 ∗ P9 c f9 ∗ P10 c f10 ∗ PW c (wW (sl k.val) 1) fullShare f8) ⊢ iprop((∀ (r0 : BitVec 32) (g11 : S2x24x7168.Idx → Elt F .bf16), ⌜r0 = (Scalar.extui (Scalar.cmpi .slt (Scalar.addi arg18 2#32) v95)) ∧ g11 = (put11 (put11 (put11 f11 (Rect.unit (s := S2x24x7168) (k0_off101 v0 v6 v12 v18 v24 v30 v36 v42 v48 v54 v60 v66 v72 v78 v84 v90 k) S1x24x128.size (k0_off101_inb v0 v6 v12 v18 v24 v30 v36 v42 v48 v54 v60 v66 v72 v78 v84 v90 hw k)) (k0_pay141 v1778)) (Rect.unit (s := S2x24x7168) (k0_off103 v0 v6 v12 v18 v24 v30 v36 v42 v48 v54 v60 v66 v72 v78 v84 v90 k) S1x24x128.size (k0_off103_inb v0 v6 v12 v18 v24 v30 v36 v42 v48 v54 v60 v66 v72 v78 v84 v90 hw k)) (k0_pay143 v1552 (A9.view.readAt (Elt F) (Rect.unit (s := S24x1536) ![0, 0] S24x1536.size inb_S24x1536_S24x1536_0_0).toLoadRect f9) (A10.view.readAt (Elt F) (Rect.unit (s := S56x1536) ![14, 0] S1x1536.size inb_S56x1536_S1x1536_14_0).toLoadRect f10) (A9.view.readAt (Elt F) (Rect.unit (s := S24x1536) ![0, 0] S24x1536.size inb_S24x1536_S24x1536_0_0).toLoadRect f9) (A10.view.readAt (Elt F) (Rect.unit (s := S56x1536) ![15, 0] S1x1536.size inb_S56x1536_S1x1536_15_0).toLoadRect f10) (A8.view.readAt (Elt F) (Rect.unit (s := S2x7168x1536) (k0_off102 v0 v6 v12 v18 v24 v30 v36 v42 v48 v54 v60 v66 v72 v78 v84 v90 k) S1x256x1536.size (k0_off102_inb v0 v6 v12 v18 v24 v30 v36 v42 v48 v54 v60 v66 v72 v78 v84 v90 hw k)).toLoadRect f8))) (Rect.unit (s := S2x24x7168) (k0_off104 v0 v6 v12 v18 v24 v30 v36 v42 v48 v54 v60 v66 v72 v78 v84 v90 k) S1x24x128.size (k0_off104_inb v0 v6 v12 v18 v24 v30 v36 v42 v48 v54 v60 v66 v72 v78 v84 v90 hw k)) (k0_pay144 v1552 (A9.view.readAt (Elt F) (Rect.unit (s := S24x1536) ![0, 0] S24x1536.size inb_S24x1536_S24x1536_0_0).toLoadRect f9) (A10.view.readAt (Elt F) (Rect.unit (s := S56x1536) ![14, 0] S1x1536.size inb_S56x1536_S1x1536_14_0).toLoadRect f10) (A9.view.readAt (Elt F) (Rect.unit (s := S24x1536) ![0, 0] S24x1536.size inb_S24x1536_S24x1536_0_0).toLoadRect f9) (A10.view.readAt (Elt F) (Rect.unit (s := S56x1536) ![15, 0] S1x1536.size inb_S56x1536_S1x1536_15_0).toLoadRect f10) (A8.view.readAt (Elt F) (Rect.unit (s := S2x7168x1536) (k0_off102 v0 v6 v12 v18 v24 v30 v36 v42 v48 v54 v60 v66 v72 v78 v84 v90 k) S1x256x1536.size (k0_off102_inb v0 v6 v12 v18 v24 v30 v36 v42 v48 v54 v60 v66 v72 v78 v84 v90 hw k)).toLoadRect f8)))⌝ ∗ PW c (oW (sl k.val)) fullShare g11 ∗ P9 c f9 ∗ P10 c f10 ∗ PW c (wW (sl k.val) 1) fullShare f8 -∗ Q r0) -∗ W c (k0_part41 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw v95 k arg18 v245 v1552 v1778) Q) := by
  have hkn := klt hn hN k
  have hk : k.val < 16 := lt_of_lt_of_le hkn hn
  rw [k0_part41_eq_skeleton]
  unfold k0_part41_skel
  try dsimp only
  iintro ⟨H11, H9, H10, H8_1⟩ K
  iapply (ld11 c (sl k.val) 1664 (off101 k hk) (by decide)) $$ H11
  iintro H11
  iapply (st11 c (sl k.val) 1664 (off101 k hk) (by decide)) $$ H11
  iintro H11
  iapply (ld9 c) $$ H9
  iintro H9
  iapply (ld10 c) $$ H10
  iintro H10
  iapply (ld9 c) $$ H9
  iintro H9
  iapply (ld10 c) $$ H10
  iintro H10
  iapply (ld8 c (sl k.val) 1 1792 (off102 k hk) (by decide) (by decide)) $$ H8_1
  iintro H8_1
  iapply (ld11 c (sl k.val) 1792 (off103 k hk) (by decide)) $$ H11
  iintro H11
  iapply (st11 c (sl k.val) 1792 (off103 k hk) (by decide)) $$ H11
  iintro H11
  iapply (ld11 c (sl k.val) 1920 (off104 k hk) (by decide)) $$ H11
  iintro H11
  iapply (st11 c (sl k.val) 1920 (off104 k hk) (by decide)) $$ H11
  iintro H11
  iapply W_pure
  iapply K
  isplitr; · ipureintro; exact ⟨rfl, rfl⟩
  isplitl [H11]; · iexact H11
  isplitl [H9]; · iexact H9
  isplitl [H10]; · iexact H10
  iexact H8_1

include hw hn hN hT in
theorem part42 {f9 : S24x1536.Idx → Elt F .f32} {f10 : S56x1536.Idx → Elt F .f32} {f11 : S2x24x7168.Idx → Elt F .bf16} {f8 : S2x7168x1536.Idx → Elt F .fp8e4m3} {fw : S16x7168x1536.Idx → Elt F .fp8e4m3} (arg18 : BitVec 32) (v245 : BitVec 32) (v1552 : IVec S24x128 1) (v1815 : BitVec 32) {Q : (FVec F S24x128 .bf16) → sProp (MT nD τ sig Unit (Elt F) ℕ UU ℕ)} :
    iprop(P5 c ft ∗ PW c (wW (sl k.val) 1) fullShare f8 ∗ Sem0 c (wsem (sl k.val) 1) ∗ (A2.view.loc (c : Thread nD τ) ↦{qw (sl k.val) 1} fw) ∗ OW c ∗ Gin c fw (sl k.val) 2 (act k.val) ∗ P9 c f9 ∗ P10 c f10 ∗ PW c (oW (sl k.val)) fullShare f11) ⊢ iprop((∀ (r0 : FVec F S24x128 .bf16) (g11 : S2x24x7168.Idx → Elt F .bf16) (g8 : S2x7168x1536.Idx → Elt F .fp8e4m3), ⌜r0 = (k0_pay147 v1552 (A9.view.readAt (Elt F) (Rect.unit (s := S24x1536) ![0, 0] S24x1536.size inb_S24x1536_S24x1536_0_0).toLoadRect f9) (A10.view.readAt (Elt F) (Rect.unit (s := S56x1536) ![16, 0] S1x1536.size inb_S56x1536_S1x1536_16_0).toLoadRect f10) (A9.view.readAt (Elt F) (Rect.unit (s := S24x1536) ![0, 0] S24x1536.size inb_S24x1536_S24x1536_0_0).toLoadRect f9) (A10.view.readAt (Elt F) (Rect.unit (s := S56x1536) ![17, 0] S1x1536.size inb_S56x1536_S1x1536_17_0).toLoadRect f10) (A8.view.readAt (Elt F) (Rect.unit (s := S2x7168x1536) (k0_off113 v0 v6 v12 v18 v24 v30 v36 v42 v48 v54 v60 v66 v72 v78 v84 v90 k) S1x256x1536.size (k0_off113_inb v0 v6 v12 v18 v24 v30 v36 v42 v48 v54 v60 v66 v72 v78 v84 v90 hw k)).toLoadRect g8)) ∧ g11 = (put11 f11 (Rect.unit (s := S2x24x7168) (k0_off114 v0 v6 v12 v18 v24 v30 v36 v42 v48 v54 v60 v66 v72 v78 v84 v90 k) S1x24x128.size (k0_off114_inb v0 v6 v12 v18 v24 v30 v36 v42 v48 v54 v60 v66 v72 v78 v84 v90 hw k)) (k0_pay146 v1552 (A9.view.readAt (Elt F) (Rect.unit (s := S24x1536) ![0, 0] S24x1536.size inb_S24x1536_S24x1536_0_0).toLoadRect f9) (A10.view.readAt (Elt F) (Rect.unit (s := S56x1536) ![16, 0] S1x1536.size inb_S56x1536_S1x1536_16_0).toLoadRect f10) (A9.view.readAt (Elt F) (Rect.unit (s := S24x1536) ![0, 0] S24x1536.size inb_S24x1536_S24x1536_0_0).toLoadRect f9) (A10.view.readAt (Elt F) (Rect.unit (s := S56x1536) ![17, 0] S1x1536.size inb_S56x1536_S1x1536_17_0).toLoadRect f10) (A8.view.readAt (Elt F) (Rect.unit (s := S2x7168x1536) (k0_off113 v0 v6 v12 v18 v24 v30 v36 v42 v48 v54 v60 v66 v72 v78 v84 v90 k) S1x256x1536.size (k0_off113_inb v0 v6 v12 v18 v24 v30 v36 v42 v48 v54 v60 v66 v72 v78 v84 v90 hw k)).toLoadRect g8))) ∧ (wW (sl k.val) 2).view.read (Elt F) g8 = (wE (act k.val) 2).view.read (Elt F) fw⌝ ∗ P5 c ft ∗ Gnext c fw act n k.val 1 ∗ OW c ∗ PW c (wW (sl k.val) 2) fullShare g8 ∗ Sem0 c (wsem (sl k.val) 2) ∗ (A2.view.loc (c : Thread nD τ) ↦{qw (sl k.val) 2} fw) ∗ P9 c f9 ∗ P10 c f10 ∗ PW c (oW (sl k.val)) fullShare g11 -∗ Q r0) -∗ W c (k0_part42 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k arg18 v245 v1552 v1815) Q) := by
  have hkn := klt hn hN k
  have hk : k.val < 16 := lt_of_lt_of_le hkn hn
  rw [k0_part42_eq_skeleton]
  unfold k0_part42_skel
  try dsimp only
  iintro ⟨H5, H8_1, HS1, HK1, HW, HIG2, H9, H10, H11⟩ K
  iapply (if38 c hw hn hN hT k) $$ [H5 H8_1 HS1 HK1]
  · isplitl [H5]; · iexact H5
    isplitl [H8_1]; · iexists _; iexact H8_1
    isplitl [HS1]; · iexact HS1
    iexact HK1
  iintro ⟨H5, HG1⟩
  iapply (lw5 c (p16 k.val) (off109 k hk)) $$ H5
  iintro H5
  iapply (W_assume c (by rw [hT _ hkn]; exact chk44 _))
  iapply (waitG c (sl k.val) 2 (act k.val) (off110 k hk) (off111 k hk)) $$ [HIG2 HW]
  · isplitl [HIG2] <;> iassumption
  iintro %g8 %hg8 H8_2 HS2 HK2 HW
  iapply (ld9 c) $$ H9
  iintro H9
  iapply (ld10 c) $$ H10
  iintro H10
  iapply (ld9 c) $$ H9
  iintro H9
  iapply (ld10 c) $$ H10
  iintro H10
  iapply (ld8 c (sl k.val) 2 2048 (off113 k hk) (by decide) (by decide)) $$ H8_2
  iintro H8_2
  iapply (ld11 c (sl k.val) 2048 (off114 k hk) (by decide)) $$ H11
  iintro H11
  iapply (st11 c (sl k.val) 2048 (off114 k hk) (by decide)) $$ H11
  iintro H11
  iapply W_pure
  iapply K
  isplitr; · ipureintro; exact ⟨rfl, rfl, hg8⟩
  isplitl [H5]; · iexact H5
  isplitl [HG1]; · iexact HG1
  isplitl [HW]; · iexact HW
  isplitl [H8_2]; · iexact H8_2
  isplitl [HS2]; · iexact HS2
  isplitl [HK2]; · iexact HK2
  isplitl [H9]; · iexact H9
  isplitl [H10]; · iexact H10
  iexact H11

include hw hn hN hT in
theorem part43 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v1850 : FVec F S24x128 .bf16) {Q : (Vec F S24x1536 .f32) → sProp (MT nD τ sig Unit (Elt F) ℕ UU ℕ)} :
    iprop(PW c (oW (sl k.val)) fullShare f11 ∗ P9 c f9 ∗ P10 c f10 ∗ PW c (wW (sl k.val) 2) fullShare f8) ⊢ iprop((∀ (r0 : Vec F S24x1536 .f32) (g11 : S2x24x7168.Idx → Elt F .bf16), ⌜r0 = (A9.view.readAt (Elt F) (Rect.unit (s := S24x1536) ![0, 0] S24x1536.size inb_S24x1536_S24x1536_0_0).toLoadRect f9) ∧ g11 = (put11 (put11 (put11 f11 (Rect.unit (s := S2x24x7168) (k0_off115 v0 v6 v12 v18 v24 v30 v36 v42 v48 v54 v60 v66 v72 v78 v84 v90 k) S1x24x128.size (k0_off115_inb v0 v6 v12 v18 v24 v30 v36 v42 v48 v54 v60 v66 v72 v78 v84 v90 hw k)) (k0_pay148 v1850)) (Rect.unit (s := S2x24x7168) (k0_off117 v0 v6 v12 v18 v24 v30 v36 v42 v48 v54 v60 v66 v72 v78 v84 v90 k) S1x24x128.size (k0_off117_inb v0 v6 v12 v18 v24 v30 v36 v42 v48 v54 v60 v66 v72 v78 v84 v90 hw k)) (k0_pay150 v1552 (A9.view.readAt (Elt F) (Rect.unit (s := S24x1536) ![0, 0] S24x1536.size inb_S24x1536_S24x1536_0_0).toLoadRect f9) (A10.view.readAt (Elt F) (Rect.unit (s := S56x1536) ![18, 0] S1x1536.size inb_S56x1536_S1x1536_18_0).toLoadRect f10) (A9.view.readAt (Elt F) (Rect.unit (s := S24x1536) ![0, 0] S24x1536.size inb_S24x1536_S24x1536_0_0).toLoadRect f9) (A10.view.readAt (Elt F) (Rect.unit (s := S56x1536) ![19, 0] S1x1536.size inb_S56x1536_S1x1536_19_0).toLoadRect f10) (A8.view.readAt (Elt F) (Rect.unit (s := S2x7168x1536) (k0_off116 v0 v6 v12 v18 v24 v30 v36 v42 v48 v54 v60 v66 v72 v78 v84 v90 k) S1x256x1536.size (k0_off116_inb v0 v6 v12 v18 v24 v30 v36 v42 v48 v54 v60 v66 v72 v78 v84 v90 hw k)).toLoadRect f8))) (Rect.unit (s := S2x24x7168) (k0_off118 v0 v6 v12 v18 v24 v30 v36 v42 v48 v54 v60 v66 v72 v78 v84 v90 k) S1x24x128.size (k0_off118_inb v0 v6 v12 v18 v24 v30 v36 v42 v48 v54 v60 v66 v72 v78 v84 v90 hw k)) (k0_pay151 v1552 (A9.view.readAt (Elt F) (Rect.unit (s := S24x1536) ![0, 0] S24x1536.size inb_S24x1536_S24x1536_0_0).toLoadRect f9) (A10.view.readAt (Elt F) (Rect.unit (s := S56x1536) ![18, 0] S1x1536.size inb_S56x1536_S1x1536_18_0).toLoadRect f10) (A9.view.readAt (Elt F) (Rect.unit (s := S24x1536) ![0, 0] S24x1536.size inb_S24x1536_S24x1536_0_0).toLoadRect f9) (A10.view.readAt (Elt F) (Rect.unit (s := S56x1536) ![19, 0] S1x1536.size inb_S56x1536_S1x1536_19_0).toLoadRect f10) (A8.view.readAt (Elt F) (Rect.unit (s := S2x7168x1536) (k0_off116 v0 v6 v12 v18 v24 v30 v36 v42 v48 v54 v60 v66 v72 v78 v84 v90 k) S1x256x1536.size (k0_off116_inb v0 v6 v12 v18 v24 v30 v36 v42 v48 v54 v60 v66 v72 v78 v84 v90 hw k)).toLoadRect f8)))⌝ ∗ PW c (oW (sl k.val)) fullShare g11 ∗ P9 c f9 ∗ P10 c f10 ∗ PW c (wW (sl k.val) 2) fullShare f8 -∗ Q r0) -∗ W c (k0_part43 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v1850) Q) := by
  have hkn := klt hn hN k
  have hk : k.val < 16 := lt_of_lt_of_le hkn hn
  rw [k0_part43_eq_skeleton]
  unfold k0_part43_skel
  try dsimp only
  iintro ⟨H11, H9, H10, H8_2⟩ K
  iapply (ld11 c (sl k.val) 2176 (off115 k hk) (by decide)) $$ H11
  iintro H11
  iapply (st11 c (sl k.val) 2176 (off115 k hk) (by decide)) $$ H11
  iintro H11
  iapply (ld9 c) $$ H9
  iintro H9
  iapply (ld10 c) $$ H10
  iintro H10
  iapply (ld9 c) $$ H9
  iintro H9
  iapply (ld10 c) $$ H10
  iintro H10
  iapply (ld8 c (sl k.val) 2 2304 (off116 k hk) (by decide) (by decide)) $$ H8_2
  iintro H8_2
  iapply (ld11 c (sl k.val) 2304 (off117 k hk) (by decide)) $$ H11
  iintro H11
  iapply (st11 c (sl k.val) 2304 (off117 k hk) (by decide)) $$ H11
  iintro H11
  iapply (ld11 c (sl k.val) 2432 (off118 k hk) (by decide)) $$ H11
  iintro H11
  iapply (st11 c (sl k.val) 2432 (off118 k hk) (by decide)) $$ H11
  iintro H11
  iapply (ld9 c) $$ H9
  iintro H9
  iapply W_pure
  iapply K
  isplitr; · ipureintro; exact ⟨rfl, rfl⟩
  isplitl [H11]; · iexact H11
  isplitl [H9]; · iexact H9
  isplitl [H10]; · iexact H10
  iexact H8_2

include hw hn hN hT in
theorem part44 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v1885 : Vec F S24x1536 .f32) {Q : (Σ' (v1918 : FVec F S24x1536 .f32) (v1919 : Vec F S24x1536 .f32), FVec F S24x1536 .f32) → sProp (MT nD τ sig Unit (Elt F) ℕ UU ℕ)} :
    iprop(P10 c f10 ∗ P9 c f9 ∗ PW c (wW (sl k.val) 2) fullShare f8 ∗ PW c (oW (sl k.val)) fullShare f11) ⊢ iprop((∀ (r0 : FVec F S24x1536 .f32) (r1 : Vec F S24x1536 .f32) (r2 : FVec F S24x1536 .f32) (g11 : S2x24x7168.Idx → Elt F .bf16), ⌜r0 = k0_pay155 (A9.view.readAt (Elt F) (Rect.unit (s := S24x1536) ![0, 0] S24x1536.size inb_S24x1536_S24x1536_0_0).toLoadRect f9) (A10.view.readAt (Elt F) (Rect.unit (s := S56x1536) ![22, 0] S1x1536.size inb_S56x1536_S1x1536_22_0).toLoadRect f10) ∧ r1 = (A9.view.readAt (Elt F) (Rect.unit (s := S24x1536) ![0, 0] S24x1536.size inb_S24x1536_S24x1536_0_0).toLoadRect f9) ∧ r2 = k0_pay156 (A10.view.readAt (Elt F) (Rect.unit (s := S56x1536) ![23, 0] S1x1536.size inb_S56x1536_S1x1536_23_0).toLoadRect f10) ∧ g11 = (put11 (put11 f11 (Rect.unit (s := S2x24x7168) (k0_off120 v0 v6 v12 v18 v24 v30 v36 v42 v48 v54 v60 v66 v72 v78 v84 v90 k) S1x24x128.size (k0_off120_inb v0 v6 v12 v18 v24 v30 v36 v42 v48 v54 v60 v66 v72 v78 v84 v90 hw k)) (k0_pay153 v1552 v1885 (A10.view.readAt (Elt F) (Rect.unit (s := S56x1536) ![20, 0] S1x1536.size inb_S56x1536_S1x1536_20_0).toLoadRect f10) (A9.view.readAt (Elt F) (Rect.unit (s := S24x1536) ![0, 0] S24x1536.size inb_S24x1536_S24x1536_0_0).toLoadRect f9) (A10.view.readAt (Elt F) (Rect.unit (s := S56x1536) ![21, 0] S1x1536.size inb_S56x1536_S1x1536_21_0).toLoadRect f10) (A8.view.readAt (Elt F) (Rect.unit (s := S2x7168x1536) (k0_off119 v0 v6 v12 v18 v24 v30 v36 v42 v48 v54 v60 v66 v72 v78 v84 v90 k) S1x256x1536.size (k0_off119_inb v0 v6 v12 v18 v24 v30 v36 v42 v48 v54 v60 v66 v72 v78 v84 v90 hw k)).toLoadRect f8))) (Rect.unit (s := S2x24x7168) (k0_off121 v0 v6 v12 v18 v24 v30 v36 v42 v48 v54 v60 v66 v72 v78 v84 v90 k) S1x24x128.size (k0_off121_inb v0 v6 v12 v18 v24 v30 v36 v42 v48 v54 v60 v66 v72 v78 v84 v90 hw k)) (k0_pay154 v1552 v1885 (A10.view.readAt (Elt F) (Rect.unit (s := S56x1536) ![20, 0] S1x1536.size inb_S56x1536_S1x1536_20_0).toLoadRect f10) (A9.view.readAt (Elt F) (Rect.unit (s := S24x1536) ![0, 0] S24x1536.size inb_S24x1536_S24x1536_0_0).toLoadRect f9) (A10.view.readAt (Elt F) (Rect.unit (s := S56x1536) ![21, 0] S1x1536.size inb_S56x1536_S1x1536_21_0).toLoadRect f10) (A8.view.readAt (Elt F) (Rect.unit (s := S2x7168x1536) (k0_off119 v0 v6 v12 v18 v24 v30 v36 v42 v48 v54 v60 v66 v72 v78 v84 v90 k) S1x256x1536.size (k0_off119_inb v0 v6 v12 v18 v24 v30 v36 v42 v48 v54 v60 v66 v72 v78 v84 v90 hw k)).toLoadRect f8)))⌝ ∗ P10 c f10 ∗ P9 c f9 ∗ PW c (wW (sl k.val) 2) fullShare f8 ∗ PW c (oW (sl k.val)) fullShare g11 -∗ Q ⟨r0, r1, r2⟩) -∗ W c (k0_part44 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v1885) Q) := by
  have hkn := klt hn hN k
  have hk : k.val < 16 := lt_of_lt_of_le hkn hn
  rw [k0_part44_eq_skeleton]
  unfold k0_part44_skel
  try dsimp only
  iintro ⟨H10, H9, H8_2, H11⟩ K
  iapply (ld10 c) $$ H10
  iintro H10
  iapply (ld9 c) $$ H9
  iintro H9
  iapply (ld10 c) $$ H10
  iintro H10
  iapply (ld8 c (sl k.val) 2 2560 (off119 k hk) (by decide) (by decide)) $$ H8_2
  iintro H8_2
  iapply (ld11 c (sl k.val) 2560 (off120 k hk) (by decide)) $$ H11
  iintro H11
  iapply (st11 c (sl k.val) 2560 (off120 k hk) (by decide)) $$ H11
  iintro H11
  iapply (ld11 c (sl k.val) 2688 (off121 k hk) (by decide)) $$ H11
  iintro H11
  iapply (st11 c (sl k.val) 2688 (off121 k hk) (by decide)) $$ H11
  iintro H11
  iapply (ld9 c) $$ H9
  iintro H9
  iapply (ld10 c) $$ H10
  iintro H10
  iapply (ld9 c) $$ H9
  iintro H9
  iapply (ld10 c) $$ H10
  iintro H10
  iapply W_pure
  iapply K
  isplitr; · ipureintro; exact ⟨rfl, rfl, rfl, rfl⟩
  isplitl [H10]; · iexact H10
  isplitl [H9]; · iexact H9
  isplitl [H8_2]; · iexact H8_2
  iexact H11

include hw hn hN hT in
theorem part45 {f9 : S24x1536.Idx → Elt F .f32} {f11 : S2x24x7168.Idx → Elt F .bf16} {f8 : S2x7168x1536.Idx → Elt F .fp8e4m3} {fw : S16x7168x1536.Idx → Elt F .fp8e4m3} (v95 : BitVec 32) (arg18 : BitVec 32) (v245 : BitVec 32) (v1552 : IVec S24x128 1) (v1918 : FVec F S24x1536 .f32) (v1919 : Vec F S24x1536 .f32) (v1921 : FVec F S24x1536 .f32) {Q : (Vec F S24x1536 .f32) → sProp (MT nD τ sig Unit (Elt F) ℕ UU ℕ)} :
    iprop(PW c (wW (sl k.val) 2) fullShare f8 ∗ PW c (oW (sl k.val)) fullShare f11 ∗ P5 c ft ∗ Sem0 c (wsem (sl k.val) 2) ∗ (A2.view.loc (c : Thread nD τ) ↦{qw (sl k.val) 2} fw) ∗ OW c ∗ Gin c fw (sl k.val) 3 (act k.val) ∗ P9 c f9) ⊢ iprop((∀ (r0 : Vec F S24x1536 .f32) (g11 : S2x24x7168.Idx → Elt F .bf16) (g8 : S2x7168x1536.Idx → Elt F .fp8e4m3), ⌜r0 = (A9.view.readAt (Elt F) (Rect.unit (s := S24x1536) ![0, 0] S24x1536.size inb_S24x1536_S24x1536_0_0).toLoadRect f9) ∧ g11 = (put11 (put11 f11 (Rect.unit (s := S2x24x7168) (k0_off123 v0 v6 v12 v18 v24 v30 v36 v42 v48 v54 v60 v66 v72 v78 v84 v90 k) S1x24x128.size (k0_off123_inb v0 v6 v12 v18 v24 v30 v36 v42 v48 v54 v60 v66 v72 v78 v84 v90 hw k)) (k0_pay158 v1552 v1918 v1919 v1921 (A8.view.readAt (Elt F) (Rect.unit (s := S2x7168x1536) (k0_off122 v0 v6 v12 v18 v24 v30 v36 v42 v48 v54 v60 v66 v72 v78 v84 v90 k) S1x256x1536.size (k0_off122_inb v0 v6 v12 v18 v24 v30 v36 v42 v48 v54 v60 v66 v72 v78 v84 v90 hw k)).toLoadRect f8))) (Rect.unit (s := S2x24x7168) (k0_off124 v0 v6 v12 v18 v24 v30 v36 v42 v48 v54 v60 v66 v72 v78 v84 v90 k) S1x24x128.size (k0_off124_inb v0 v6 v12 v18 v24 v30 v36 v42 v48 v54 v60 v66 v72 v78 v84 v90 hw k)) (k0_pay159 v1552 v1918 v1919 v1921 (A8.view.readAt (Elt F) (Rect.unit (s := S2x7168x1536) (k0_off122 v0 v6 v12 v18 v24 v30 v36 v42 v48 v54 v60 v66 v72 v78 v84 v90 k) S1x256x1536.size (k0_off122_inb v0 v6 v12 v18 v24 v30 v36 v42 v48 v54 v60 v66 v72 v78 v84 v90 hw k)).toLoadRect f8))) ∧ (wW (sl k.val) 3).view.read (Elt F) g8 = (wE (act k.val) 3).view.read (Elt F) fw⌝ ∗ PW c (oW (sl k.val)) fullShare g11 ∗ P5 c ft ∗ Gnext c fw act n k.val 2 ∗ OW c ∗ PW c (wW (sl k.val) 3) fullShare g8 ∗ Sem0 c (wsem (sl k.val) 3) ∗ (A2.view.loc (c : Thread nD τ) ↦{qw (sl k.val) 3} fw) ∗ P9 c f9 -∗ Q r0) -∗ W c (k0_part45 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw v95 k arg18 v245 v1552 v1918 v1919 v1921) Q) := by
  have hkn := klt hn hN k
  have hk : k.val < 16 := lt_of_lt_of_le hkn hn
  rw [k0_part45_eq_skeleton]
  unfold k0_part45_skel
  try dsimp only
  iintro ⟨H8_2, H11, H5, HS2, HK2, HW, HIG3, H9⟩ K
  iapply (ld8 c (sl k.val) 2 2816 (off122 k hk) (by decide) (by decide)) $$ H8_2
  iintro H8_2
  iapply (ld11 c (sl k.val) 2816 (off123 k hk) (by decide)) $$ H11
  iintro H11
  iapply (st11 c (sl k.val) 2816 (off123 k hk) (by decide)) $$ H11
  iintro H11
  iapply (ld11 c (sl k.val) 2944 (off124 k hk) (by decide)) $$ H11
  iintro H11
  iapply (st11 c (sl k.val) 2944 (off124 k hk) (by decide)) $$ H11
  iintro H11
  iapply (if39 c hw hn hN hT k) $$ [H5 H8_2 HS2 HK2]
  · isplitl [H5]; · iexact H5
    isplitl [H8_2]; · iexists _; iexact H8_2
    isplitl [HS2]; · iexact HS2
    iexact HK2
  iintro ⟨H5, HG2⟩
  iapply (lw5 c (p16 k.val) (off129 k hk)) $$ H5
  iintro H5
  iapply (W_assume c (by rw [hT _ hkn]; exact chk46 _))
  iapply (waitG c (sl k.val) 3 (act k.val) (off130 k hk) (off131 k hk)) $$ [HIG3 HW]
  · isplitl [HIG3] <;> iassumption
  iintro %g8 %hg8 H8_3 HS3 HK3 HW
  iapply (ld9 c) $$ H9
  iintro H9
  iapply W_pure
  iapply K
  isplitr; · ipureintro; exact ⟨rfl, rfl, hg8⟩
  isplitl [H11]; · iexact H11
  isplitl [H5]; · iexact H5
  isplitl [HG2]; · iexact HG2
  isplitl [HW]; · iexact HW
  isplitl [H8_3]; · iexact H8_3
  isplitl [HS3]; · iexact HS3
  isplitl [HK3]; · iexact HK3
  iexact H9

include hw hn hN hT in
theorem part46 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v1957 : Vec F S24x1536 .f32) {Q : (Σ' (v1990 : FVec F S24x1536 .f32) (v1991 : Vec F S24x1536 .f32), FVec F S24x1536 .f32) → sProp (MT nD τ sig Unit (Elt F) ℕ UU ℕ)} :
    iprop(P10 c f10 ∗ P9 c f9 ∗ PW c (wW (sl k.val) 3) fullShare f8 ∗ PW c (oW (sl k.val)) fullShare f11) ⊢ iprop((∀ (r0 : FVec F S24x1536 .f32) (r1 : Vec F S24x1536 .f32) (r2 : FVec F S24x1536 .f32) (g11 : S2x24x7168.Idx → Elt F .bf16), ⌜r0 = k0_pay163 (A9.view.readAt (Elt F) (Rect.unit (s := S24x1536) ![0, 0] S24x1536.size inb_S24x1536_S24x1536_0_0).toLoadRect f9) (A10.view.readAt (Elt F) (Rect.unit (s := S56x1536) ![26, 0] S1x1536.size inb_S56x1536_S1x1536_26_0).toLoadRect f10) ∧ r1 = (A9.view.readAt (Elt F) (Rect.unit (s := S24x1536) ![0, 0] S24x1536.size inb_S24x1536_S24x1536_0_0).toLoadRect f9) ∧ r2 = k0_pay164 (A10.view.readAt (Elt F) (Rect.unit (s := S56x1536) ![27, 0] S1x1536.size inb_S56x1536_S1x1536_27_0).toLoadRect f10) ∧ g11 = (put11 (put11 f11 (Rect.unit (s := S2x24x7168) (k0_off134 v0 v6 v12 v18 v24 v30 v36 v42 v48 v54 v60 v66 v72 v78 v84 v90 k) S1x24x128.size (k0_off134_inb v0 v6 v12 v18 v24 v30 v36 v42 v48 v54 v60 v66 v72 v78 v84 v90 hw k)) (k0_pay161 v1552 v1957 (A10.view.readAt (Elt F) (Rect.unit (s := S56x1536) ![24, 0] S1x1536.size inb_S56x1536_S1x1536_24_0).toLoadRect f10) (A9.view.readAt (Elt F) (Rect.unit (s := S24x1536) ![0, 0] S24x1536.size inb_S24x1536_S24x1536_0_0).toLoadRect f9) (A10.view.readAt (Elt F) (Rect.unit (s := S56x1536) ![25, 0] S1x1536.size inb_S56x1536_S1x1536_25_0).toLoadRect f10) (A8.view.readAt (Elt F) (Rect.unit (s := S2x7168x1536) (k0_off133 v0 v6 v12 v18 v24 v30 v36 v42 v48 v54 v60 v66 v72 v78 v84 v90 k) S1x256x1536.size (k0_off133_inb v0 v6 v12 v18 v24 v30 v36 v42 v48 v54 v60 v66 v72 v78 v84 v90 hw k)).toLoadRect f8))) (Rect.unit (s := S2x24x7168) (k0_off135 v0 v6 v12 v18 v24 v30 v36 v42 v48 v54 v60 v66 v72 v78 v84 v90 k) S1x24x128.size (k0_off135_inb v0 v6 v12 v18 v24 v30 v36 v42 v48 v54 v60 v66 v72 v78 v84 v90 hw k)) (k0_pay162 v1552 v1957 (A10.view.readAt (Elt F) (Rect.unit (s := S56x1536) ![24, 0] S1x1536.size inb_S56x1536_S1x1536_24_0).toLoadRect f10) (A9.view.readAt (Elt F) (Rect.unit (s := S24x1536) ![0, 0] S24x1536.size inb_S24x1536_S24x1536_0_0).toLoadRect f9) (A10.view.readAt (Elt F) (Rect.unit (s := S56x1536) ![25, 0] S1x1536.size inb_S56x1536_S1x1536_25_0).toLoadRect f10) (A8.view.readAt (Elt F) (Rect.unit (s := S2x7168x1536) (k0_off133 v0 v6 v12 v18 v24 v30 v36 v42 v48 v54 v60 v66 v72 v78 v84 v90 k) S1x256x1536.size (k0_off133_inb v0 v6 v12 v18 v24 v30 v36 v42 v48 v54 v60 v66 v72 v78 v84 v90 hw k)).toLoadRect f8)))⌝ ∗ P10 c f10 ∗ P9 c f9 ∗ PW c (wW (sl k.val) 3) fullShare f8 ∗ PW c (oW (sl k.val)) fullShare g11 -∗ Q ⟨r0, r1, r2⟩) -∗ W c (k0_part46 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v1957) Q) := by
  have hkn := klt hn hN k
  have hk : k.val < 16 := lt_of_lt_of_le hkn hn
  rw [k0_part46_eq_skeleton]
  unfold k0_part46_skel
  try dsimp only
  iintro ⟨H10, H9, H8_3, H11⟩ K
  iapply (ld10 c) $$ H10
  iintro H10
  iapply (ld9 c) $$ H9
  iintro H9
  iapply (ld10 c) $$ H10
  iintro H10
  iapply (ld8 c (sl k.val) 3 3072 (off133 k hk) (by decide) (by decide)) $$ H8_3
  iintro H8_3
  iapply (ld11 c (sl k.val) 3072 (off134 k hk) (by decide)) $$ H11
  iintro H11
  iapply (st11 c (sl k.val) 3072 (off134 k hk) (by decide)) $$ H11
  iintro H11
  iapply (ld11 c (sl k.val) 3200 (off135 k hk) (by decide)) $$ H11
  iintro H11
  iapply (st11 c (sl k.val) 3200 (off135 k hk) (by decide)) $$ H11
  iintro H11
  iapply (ld9 c) $$ H9
  iintro H9
  iapply (ld10 c) $$ H10
  iintro H10
  iapply (ld9 c) $$ H9
  iintro H9
  iapply (ld10 c) $$ H10
  iintro H10
  iapply W_pure
  iapply K
  isplitr; · ipureintro; exact ⟨rfl, rfl, rfl, rfl⟩
  isplitl [H10]; · iexact H10
  isplitl [H9]; · iexact H9
  isplitl [H8_3]; · iexact H8_3
  iexact H11

include hw hn hN hT in
theorem part47 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v1990 : FVec F S24x1536 .f32) (v1991 : Vec F S24x1536 .f32) (v1993 : FVec F S24x1536 .f32) {Q : (Σ' (v2030 : FVec F S48x256 .f32), FVec F S24x128 .f32) → sProp (MT nD τ sig Unit (Elt F) ℕ UU ℕ)} :
    iprop(PW c (wW (sl k.val) 3) fullShare f8 ∗ PW c (oW (sl k.val)) fullShare f11 ∗ P9 c f9 ∗ P10 c f10) ⊢ iprop((∀ (r0 : FVec F S48x256 .f32) (r1 : FVec F S24x128 .f32) (g11 : S2x24x7168.Idx → Elt F .bf16), ⌜r0 = k0_pay168 (A9.view.readAt (Elt F) (Rect.unit (s := S24x1536) ![0, 0] S24x1536.size inb_S24x1536_S24x1536_0_0).toLoadRect f9) (A10.view.readAt (Elt F) (Rect.unit (s := S56x1536) ![28, 0] S1x1536.size inb_S56x1536_S1x1536_28_0).toLoadRect f10) (A9.view.readAt (Elt F) (Rect.unit (s := S24x1536) ![0, 0] S24x1536.size inb_S24x1536_S24x1536_0_0).toLoadRect f9) (A10.view.readAt (Elt F) (Rect.unit (s := S56x1536) ![29, 0] S1x1536.size inb_S56x1536_S1x1536_29_0).toLoadRect f10) (A8.view.readAt (Elt F) (Rect.unit (s := S2x7168x1536) (k0_off139 v0 v6 v12 v18 v24 v30 v36 v42 v48 v54 v60 v66 v72 v78 v84 v90 k) S1x256x1536.size (k0_off139_inb v0 v6 v12 v18 v24 v30 v36 v42 v48 v54 v60 v66 v72 v78 v84 v90 hw k)).toLoadRect f8) ∧ r1 = k0_pay169 (A9.view.readAt (Elt F) (Rect.unit (s := S24x1536) ![0, 0] S24x1536.size inb_S24x1536_S24x1536_0_0).toLoadRect f9) (A10.view.readAt (Elt F) (Rect.unit (s := S56x1536) ![28, 0] S1x1536.size inb_S56x1536_S1x1536_28_0).toLoadRect f10) (A9.view.readAt (Elt F) (Rect.unit (s := S24x1536) ![0, 0] S24x1536.size inb_S24x1536_S24x1536_0_0).toLoadRect f9) (A10.view.readAt (Elt F) (Rect.unit (s := S56x1536) ![29, 0] S1x1536.size inb_S56x1536_S1x1536_29_0).toLoadRect f10) (A8.view.readAt (Elt F) (Rect.unit (s := S2x7168x1536) (k0_off139 v0 v6 v12 v18 v24 v30 v36 v42 v48 v54 v60 v66 v72 v78 v84 v90 k) S1x256x1536.size (k0_off139_inb v0 v6 v12 v18 v24 v30 v36 v42 v48 v54 v60 v66 v72 v78 v84 v90 hw k)).toLoadRect f8) ∧ g11 = (put11 (put11 f11 (Rect.unit (s := S2x24x7168) (k0_off137 v0 v6 v12 v18 v24 v30 v36 v42 v48 v54 v60 v66 v72 v78 v84 v90 k) S1x24x128.size (k0_off137_inb v0 v6 v12 v18 v24 v30 v36 v42 v48 v54 v60 v66 v72 v78 v84 v90 hw k)) (k0_pay166 v1552 v1990 v1991 v1993 (A8.view.readAt (Elt F) (Rect.unit (s := S2x7168x1536) (k0_off136 v0 v6 v12 v18 v24 v30 v36 v42 v48 v54 v60 v66 v72 v78 v84 v90 k) S1x256x1536.size (k0_off136_inb v0 v6 v12 v18 v24 v30 v36 v42 v48 v54 v60 v66 v72 v78 v84 v90 hw k)).toLoadRect f8))) (Rect.unit (s := S2x24x7168) (k0_off138 v0 v6 v12 v18 v24 v30 v36 v42 v48 v54 v60 v66 v72 v78 v84 v90 k) S1x24x128.size (k0_off138_inb v0 v6 v12 v18 v24 v30 v36 v42 v48 v54 v60 v66 v72 v78 v84 v90 hw k)) (k0_pay167 v1552 v1990 v1991 v1993 (A8.view.readAt (Elt F) (Rect.unit (s := S2x7168x1536) (k0_off136 v0 v6 v12 v18 v24 v30 v36 v42 v48 v54 v60 v66 v72 v78 v84 v90 k) S1x256x1536.size (k0_off136_inb v0 v6 v12 v18 v24 v30 v36 v42 v48 v54 v60 v66 v72 v78 v84 v90 hw k)).toLoadRect f8)))⌝ ∗ PW c (wW (sl k.val) 3) fullShare f8 ∗ PW c (oW (sl k.val)) fullShare g11 ∗ P9 c f9 ∗ P10 c f10 -∗ Q ⟨r0, r1⟩) -∗ W c (k0_part47 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v1990 v1991 v1993) Q) := by
  have hkn := klt hn hN k
  have hk : k.val < 16 := lt_of_lt_of_le hkn hn
  rw [k0_part47_eq_skeleton]
  unfold k0_part47_skel
  try dsimp only
  iintro ⟨H8_3, H11, H9, H10⟩ K
  iapply (ld8 c (sl k.val) 3 3328 (off136 k hk) (by decide) (by decide)) $$ H8_3
  iintro H8_3
  iapply (ld11 c (sl k.val) 3328 (off137 k hk) (by decide)) $$ H11
  iintro H11
  iapply (st11 c (sl k.val) 3328 (off137 k hk) (by decide)) $$ H11
  iintro H11
  iapply (ld11 c (sl k.val) 3456 (off138 k hk) (by decide)) $$ H11
  iintro H11
  iapply (st11 c (sl k.val) 3456 (off138 k hk) (by decide)) $$ H11
  iintro H11
  iapply (ld9 c) $$ H9
  iintro H9
  iapply (ld10 c) $$ H10
  iintro H10
  iapply (ld9 c) $$ H9
  iintro H9
  iapply (ld10 c) $$ H10
  iintro H10
  iapply (ld8 c (sl k.val) 3 3584 (off139 k hk) (by decide) (by decide)) $$ H8_3
  iintro H8_3
  iapply W_pure
  iapply K
  isplitr; · ipureintro; exact ⟨rfl, rfl, rfl⟩
  isplitl [H8_3]; · iexact H8_3
  isplitl [H11]; · iexact H11
  isplitl [H9]; · iexact H9
  iexact H10

include hw hn hN hT in
theorem part48 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v2030 : FVec F S48x256 .f32) (v2031 : FVec F S24x128 .f32) {Q : (FVec F S48x256 .f32) → sProp (MT nD τ sig Unit (Elt F) ℕ UU ℕ)} :
    iprop(PW c (oW (sl k.val)) fullShare f11 ∗ P9 c f9 ∗ P10 c f10 ∗ PW c (wW (sl k.val) 3) fullShare f8) ⊢ iprop((∀ (r0 : FVec F S48x256 .f32) (g11 : S2x24x7168.Idx → Elt F .bf16), ⌜r0 = (k0_pay172 (A9.view.readAt (Elt F) (Rect.unit (s := S24x1536) ![0, 0] S24x1536.size inb_S24x1536_S24x1536_0_0).toLoadRect f9) (A10.view.readAt (Elt F) (Rect.unit (s := S56x1536) ![30, 0] S1x1536.size inb_S56x1536_S1x1536_30_0).toLoadRect f10) (A9.view.readAt (Elt F) (Rect.unit (s := S24x1536) ![0, 0] S24x1536.size inb_S24x1536_S24x1536_0_0).toLoadRect f9) (A10.view.readAt (Elt F) (Rect.unit (s := S56x1536) ![31, 0] S1x1536.size inb_S56x1536_S1x1536_31_0).toLoadRect f10) (A8.view.readAt (Elt F) (Rect.unit (s := S2x7168x1536) (k0_off142 v0 v6 v12 v18 v24 v30 v36 v42 v48 v54 v60 v66 v72 v78 v84 v90 k) S1x256x1536.size (k0_off142_inb v0 v6 v12 v18 v24 v30 v36 v42 v48 v54 v60 v66 v72 v78 v84 v90 hw k)).toLoadRect f8)) ∧ g11 = (put11 (put11 (put11 f11 (Rect.unit (s := S2x24x7168) (k0_off140 v0 v6 v12 v18 v24 v30 v36 v42 v48 v54 v60 v66 v72 v78 v84 v90 k) S1x24x128.size (k0_off140_inb v0 v6 v12 v18 v24 v30 v36 v42 v48 v54 v60 v66 v72 v78 v84 v90 hw k)) (k0_pay170 v1552 v2031)) (Rect.unit (s := S2x24x7168) (k0_off141 v0 v6 v12 v18 v24 v30 v36 v42 v48 v54 v60 v66 v72 v78 v84 v90 k) S1x24x128.size (k0_off141_inb v0 v6 v12 v18 v24 v30 v36 v42 v48 v54 v60 v66 v72 v78 v84 v90 hw k)) (k0_pay171 v1552 v2030)) (Rect.unit (s := S2x24x7168) (k0_off143 v0 v6 v12 v18 v24 v30 v36 v42 v48 v54 v60 v66 v72 v78 v84 v90 k) S1x24x128.size (k0_off143_inb v0 v6 v12 v18 v24 v30 v36 v42 v48 v54 v60 v66 v72 v78 v84 v90 hw k)) (k0_pay173 v1552 (A9.view.readAt (Elt F) (Rect.unit (s := S24x1536) ![0, 0] S24x1536.size inb_S24x1536_S24x1536_0_0).toLoadRect f9) (A10.view.readAt (Elt F) (Rect.unit (s := S56x1536) ![30, 0] S1x1536.size inb_S56x1536_S1x1536_30_0).toLoadRect f10) (A9.view.readAt (Elt F) (Rect.unit (s := S24x1536) ![0, 0] S24x1536.size inb_S24x1536_S24x1536_0_0).toLoadRect f9) (A10.view.readAt (Elt F) (Rect.unit (s := S56x1536) ![31, 0] S1x1536.size inb_S56x1536_S1x1536_31_0).toLoadRect f10) (A8.view.readAt (Elt F) (Rect.unit (s := S2x7168x1536) (k0_off142 v0 v6 v12 v18 v24 v30 v36 v42 v48 v54 v60 v66 v72 v78 v84 v90 k) S1x256x1536.size (k0_off142_inb v0 v6 v12 v18 v24 v30 v36 v42 v48 v54 v60 v66 v72 v78 v84 v90 hw k)).toLoadRect f8)))⌝ ∗ PW c (oW (sl k.val)) fullShare g11 ∗ P9 c f9 ∗ P10 c f10 ∗ PW c (wW (sl k.val) 3) fullShare f8 -∗ Q r0) -∗ W c (k0_part48 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v2030 v2031) Q) := by
  have hkn := klt hn hN k
  have hk : k.val < 16 := lt_of_lt_of_le hkn hn
  rw [k0_part48_eq_skeleton]
  unfold k0_part48_skel
  try dsimp only
  iintro ⟨H11, H9, H10, H8_3⟩ K
  iapply (ld11 c (sl k.val) 3584 (off140 k hk) (by decide)) $$ H11
  iintro H11
  iapply (st11 c (sl k.val) 3584 (off140 k hk) (by decide)) $$ H11
  iintro H11
  iapply (ld11 c (sl k.val) 3712 (off141 k hk) (by decide)) $$ H11
  iintro H11
  iapply (st11 c (sl k.val) 3712 (off141 k hk) (by decide)) $$ H11
  iintro H11
  iapply (ld9 c) $$ H9
  iintro H9
  iapply (ld10 c) $$ H10
  iintro H10
  iapply (ld9 c) $$ H9
  iintro H9
  iapply (ld10 c) $$ H10
  iintro H10
  iapply (ld8 c (sl k.val) 3 3840 (off142 k hk) (by decide) (by decide)) $$ H8_3
  iintro H8_3
  iapply (ld11 c (sl k.val) 3840 (off143 k hk) (by decide)) $$ H11
  iintro H11
  iapply (st11 c (sl k.val) 3840 (off143 k hk) (by decide)) $$ H11
  iintro H11
  iapply W_pure
  iapply K
  isplitr; · ipureintro; exact ⟨rfl, rfl⟩
  isplitl [H11]; · iexact H11
  isplitl [H9]; · iexact H9
  isplitl [H10]; · iexact H10
  iexact H8_3

include hw hn hN hT in
theorem part49 {f9 : S24x1536.Idx → Elt F .f32} {f10 : S56x1536.Idx → Elt F .f32} {f11 : S2x24x7168.Idx → Elt F .bf16} {f8 : S2x7168x1536.Idx → Elt F .fp8e4m3} {fw : S16x7168x1536.Idx → Elt F .fp8e4m3} (v95 : BitVec 32) (arg18 : BitVec 32) (v245 : BitVec 32) (v1552 : IVec S24x128 1) (v2060 : FVec F S48x256 .f32) {Q : (Σ' (v2102 : FVec F S48x256 .f32), FVec F S24x128 .f32) → sProp (MT nD τ sig Unit (Elt F) ℕ UU ℕ)} :
    iprop(PW c (oW (sl k.val)) fullShare f11 ∗ P5 c ft ∗ PW c (wW (sl k.val) 3) fullShare f8 ∗ Sem0 c (wsem (sl k.val) 3) ∗ (A2.view.loc (c : Thread nD τ) ↦{qw (sl k.val) 3} fw) ∗ OW c ∗ Gin c fw (sl k.val) 4 (act k.val) ∗ P9 c f9 ∗ P10 c f10) ⊢ iprop((∀ (r0 : FVec F S48x256 .f32) (r1 : FVec F S24x128 .f32) (g11 : S2x24x7168.Idx → Elt F .bf16) (g8 : S2x7168x1536.Idx → Elt F .fp8e4m3), ⌜r0 = k0_pay175 (A9.view.readAt (Elt F) (Rect.unit (s := S24x1536) ![0, 0] S24x1536.size inb_S24x1536_S24x1536_0_0).toLoadRect f9) (A10.view.readAt (Elt F) (Rect.unit (s := S56x1536) ![32, 0] S1x1536.size inb_S56x1536_S1x1536_32_0).toLoadRect f10) (A9.view.readAt (Elt F) (Rect.unit (s := S24x1536) ![0, 0] S24x1536.size inb_S24x1536_S24x1536_0_0).toLoadRect f9) (A10.view.readAt (Elt F) (Rect.unit (s := S56x1536) ![33, 0] S1x1536.size inb_S56x1536_S1x1536_33_0).toLoadRect f10) (A8.view.readAt (Elt F) (Rect.unit (s := S2x7168x1536) (k0_off153 v0 v6 v12 v18 v24 v30 v36 v42 v48 v54 v60 v66 v72 v78 v84 v90 k) S1x256x1536.size (k0_off153_inb v0 v6 v12 v18 v24 v30 v36 v42 v48 v54 v60 v66 v72 v78 v84 v90 hw k)).toLoadRect g8) ∧ r1 = k0_pay176 (A9.view.readAt (Elt F) (Rect.unit (s := S24x1536) ![0, 0] S24x1536.size inb_S24x1536_S24x1536_0_0).toLoadRect f9) (A10.view.readAt (Elt F) (Rect.unit (s := S56x1536) ![32, 0] S1x1536.size inb_S56x1536_S1x1536_32_0).toLoadRect f10) (A9.view.readAt (Elt F) (Rect.unit (s := S24x1536) ![0, 0] S24x1536.size inb_S24x1536_S24x1536_0_0).toLoadRect f9) (A10.view.readAt (Elt F) (Rect.unit (s := S56x1536) ![33, 0] S1x1536.size inb_S56x1536_S1x1536_33_0).toLoadRect f10) (A8.view.readAt (Elt F) (Rect.unit (s := S2x7168x1536) (k0_off153 v0 v6 v12 v18 v24 v30 v36 v42 v48 v54 v60 v66 v72 v78 v84 v90 k) S1x256x1536.size (k0_off153_inb v0 v6 v12 v18 v24 v30 v36 v42 v48 v54 v60 v66 v72 v78 v84 v90 hw k)).toLoadRect g8) ∧ g11 = (put11 f11 (Rect.unit (s := S2x24x7168) (k0_off144 v0 v6 v12 v18 v24 v30 v36 v42 v48 v54 v60 v66 v72 v78 v84 v90 k) S1x24x128.size (k0_off144_inb v0 v6 v12 v18 v24 v30 v36 v42 v48 v54 v60 v66 v72 v78 v84 v90 hw k)) (k0_pay174 v1552 v2060)) ∧ (wW (sl k.val) 4).view.read (Elt F) g8 = (wE (act k.val) 4).view.read (Elt F) fw⌝ ∗ PW c (oW (sl k.val)) fullShare g11 ∗ P5 c ft ∗ Gnext c fw act n k.val 3 ∗ OW c ∗ PW c (wW (sl k.val) 4) fullShare g8 ∗ Sem0 c (wsem (sl k.val) 4) ∗ (A2.view.loc (c : Thread nD τ) ↦{qw (sl k.val) 4} fw) ∗ P9 c f9 ∗ P10 c f10 -∗ Q ⟨r0, r1⟩) -∗ W c (k0_part49 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw v95 k arg18 v245 v1552 v2060) Q) := by
  have hkn := klt hn hN k
  have hk : k.val < 16 := lt_of_lt_of_le hkn hn
  rw [k0_part49_eq_skeleton]
  unfold k0_part49_skel
  try dsimp only
  iintro ⟨H11, H5, H8_3, HS3, HK3, HW, HIG4, H9, H10⟩ K
  iapply (ld11 c (sl k.val) 3968 (off144 k hk) (by decide)) $$ H11
  iintro H11
  iapply (st11 c (sl k.val) 3968 (off144 k hk) (by decide)) $$ H11
  iintro H11
  iapply (if40 c hw hn hN hT k) $$ [H5 H8_3 HS3 HK3]
  · isplitl [H5]; · iexact H5
    isplitl [H8_3]; · iexists _; iexact H8_3
    isplitl [HS3]; · iexact HS3
    iexact HK3
  iintro ⟨H5, HG3⟩
  iapply (lw5 c (p16 k.val) (off149 k hk)) $$ H5
  iintro H5
  iapply (W_assume c (by rw [hT _ hkn]; exact chk48 _))
  iapply (waitG c (sl k.val) 4 (act k.val) (off150 k hk) (off151 k hk)) $$ [HIG4 HW]
  · isplitl [HIG4] <;> iassumption
  iintro %g8 %hg8 H8_4 HS4 HK4 HW
  iapply (ld9 c) $$ H9
  iintro H9
  iapply (ld10 c) $$ H10
  iintro H10
  iapply (ld9 c) $$ H9
  iintro H9
  iapply (ld10 c) $$ H10
  iintro H10
  iapply (ld8 c (sl k.val) 4 4096 (off153 k hk) (by decide) (by decide)) $$ H8_4
  iintro H8_4
  iapply W_pure
  iapply K
  isplitr; · ipureintro; exact ⟨rfl, rfl, rfl, hg8⟩
  isplitl [H11]; · iexact H11
  isplitl [H5]; · iexact H5
  isplitl [HG3]; · iexact HG3
  isplitl [HW]; · iexact HW
  isplitl [H8_4]; · iexact H8_4
  isplitl [HS4]; · iexact HS4
  isplitl [HK4]; · iexact HK4
  isplitl [H9]; · iexact H9
  iexact H10

include hw hn hN hT in
theorem part50 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v2102 : FVec F S48x256 .f32) (v2103 : FVec F S24x128 .f32) {Q : (FVec F S48x256 .f32) → sProp (MT nD τ sig Unit (Elt F) ℕ UU ℕ)} :
    iprop(PW c (oW (sl k.val)) fullShare f11 ∗ P9 c f9 ∗ P10 c f10 ∗ PW c (wW (sl k.val) 4) fullShare f8) ⊢ iprop((∀ (r0 : FVec F S48x256 .f32) (g11 : S2x24x7168.Idx → Elt F .bf16), ⌜r0 = (k0_pay179 (A9.view.readAt (Elt F) (Rect.unit (s := S24x1536) ![0, 0] S24x1536.size inb_S24x1536_S24x1536_0_0).toLoadRect f9) (A10.view.readAt (Elt F) (Rect.unit (s := S56x1536) ![34, 0] S1x1536.size inb_S56x1536_S1x1536_34_0).toLoadRect f10) (A9.view.readAt (Elt F) (Rect.unit (s := S24x1536) ![0, 0] S24x1536.size inb_S24x1536_S24x1536_0_0).toLoadRect f9) (A10.view.readAt (Elt F) (Rect.unit (s := S56x1536) ![35, 0] S1x1536.size inb_S56x1536_S1x1536_35_0).toLoadRect f10) (A8.view.readAt (Elt F) (Rect.unit (s := S2x7168x1536) (k0_off156 v0 v6 v12 v18 v24 v30 v36 v42 v48 v54 v60 v66 v72 v78 v84 v90 k) S1x256x1536.size (k0_off156_inb v0 v6 v12 v18 v24 v30 v36 v42 v48 v54 v60 v66 v72 v78 v84 v90 hw k)).toLoadRect f8)) ∧ g11 = (put11 (put11 (put11 f11 (Rect.unit (s := S2x24x7168) (k0_off154 v0 v6 v12 v18 v24 v30 v36 v42 v48 v54 v60 v66 v72 v78 v84 v90 k) S1x24x128.size (k0_off154_inb v0 v6 v12 v18 v24 v30 v36 v42 v48 v54 v60 v66 v72 v78 v84 v90 hw k)) (k0_pay177 v1552 v2103)) (Rect.unit (s := S2x24x7168) (k0_off155 v0 v6 v12 v18 v24 v30 v36 v42 v48 v54 v60 v66 v72 v78 v84 v90 k) S1x24x128.size (k0_off155_inb v0 v6 v12 v18 v24 v30 v36 v42 v48 v54 v60 v66 v72 v78 v84 v90 hw k)) (k0_pay178 v1552 v2102)) (Rect.unit (s := S2x24x7168) (k0_off157 v0 v6 v12 v18 v24 v30 v36 v42 v48 v54 v60 v66 v72 v78 v84 v90 k) S1x24x128.size (k0_off157_inb v0 v6 v12 v18 v24 v30 v36 v42 v48 v54 v60 v66 v72 v78 v84 v90 hw k)) (k0_pay180 v1552 (A9.view.readAt (Elt F) (Rect.unit (s := S24x1536) ![0, 0] S24x1536.size inb_S24x1536_S24x1536_0_0).toLoadRect f9) (A10.view.readAt (Elt F) (Rect.unit (s := S56x1536) ![34, 0] S1x1536.size inb_S56x1536_S1x1536_34_0).toLoadRect f10) (A9.view.readAt (Elt F) (Rect.unit (s := S24x1536) ![0, 0] S24x1536.size inb_S24x1536_S24x1536_0_0).toLoadRect f9) (A10.view.readAt (Elt F) (Rect.unit (s := S56x1536) ![35, 0] S1x1536.size inb_S56x1536_S1x1536_35_0).toLoadRect f10) (A8.view.readAt (Elt F) (Rect.unit (s := S2x7168x1536) (k0_off156 v0 v6 v12 v18 v24 v30 v36 v42 v48 v54 v60 v66 v72 v78 v84 v90 k) S1x256x1536.size (k0_off156_inb v0 v6 v12 v18 v24 v30 v36 v42 v48 v54 v60 v66 v72 v78 v84 v90 hw k)).toLoadRect f8)))⌝ ∗ PW c (oW (sl k.val)) fullShare g11 ∗ P9 c f9 ∗ P10 c f10 ∗ PW c (wW (sl k.val) 4) fullShare f8 -∗ Q r0) -∗ W c (k0_part50 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v2102 v2103) Q) := by
  have hkn := klt hn hN k
  have hk : k.val < 16 := lt_of_lt_of_le hkn hn
  rw [k0_part50_eq_skeleton]
  unfold k0_part50_skel
  try dsimp only
  iintro ⟨H11, H9, H10, H8_4⟩ K
  iapply (ld11 c (sl k.val) 4096 (off154 k hk) (by decide)) $$ H11
  iintro H11
  iapply (st11 c (sl k.val) 4096 (off154 k hk) (by decide)) $$ H11
  iintro H11
  iapply (ld11 c (sl k.val) 4224 (off155 k hk) (by decide)) $$ H11
  iintro H11
  iapply (st11 c (sl k.val) 4224 (off155 k hk) (by decide)) $$ H11
  iintro H11
  iapply (ld9 c) $$ H9
  iintro H9
  iapply (ld10 c) $$ H10
  iintro H10
  iapply (ld9 c) $$ H9
  iintro H9
  iapply (ld10 c) $$ H10
  iintro H10
  iapply (ld8 c (sl k.val) 4 4352 (off156 k hk) (by decide) (by decide)) $$ H8_4
  iintro H8_4
  iapply (ld11 c (sl k.val) 4352 (off157 k hk) (by decide)) $$ H11
  iintro H11
  iapply (st11 c (sl k.val) 4352 (off157 k hk) (by decide)) $$ H11
  iintro H11
  iapply W_pure
  iapply K
  isplitr; · ipureintro; exact ⟨rfl, rfl⟩
  isplitl [H11]; · iexact H11
  isplitl [H9]; · iexact H9
  isplitl [H10]; · iexact H10
  iexact H8_4

include hw hn hN hT in
theorem part51 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v2132 : FVec F S48x256 .f32) {Q : (FVec F S1x24x128 .bf16) → sProp (MT nD τ sig Unit (Elt F) ℕ UU ℕ)} :
    iprop(PW c (oW (sl k.val)) fullShare f11 ∗ P9 c f9 ∗ P10 c f10 ∗ PW c (wW (sl k.val) 4) fullShare f8) ⊢ iprop((∀ (r0 : FVec F S1x24x128 .bf16) (g11 : S2x24x7168.Idx → Elt F .bf16), ⌜r0 = (k0_pay184 v1552 (A9.view.readAt (Elt F) (Rect.unit (s := S24x1536) ![0, 0] S24x1536.size inb_S24x1536_S24x1536_0_0).toLoadRect f9) (A10.view.readAt (Elt F) (Rect.unit (s := S56x1536) ![36, 0] S1x1536.size inb_S56x1536_S1x1536_36_0).toLoadRect f10) (A9.view.readAt (Elt F) (Rect.unit (s := S24x1536) ![0, 0] S24x1536.size inb_S24x1536_S24x1536_0_0).toLoadRect f9) (A10.view.readAt (Elt F) (Rect.unit (s := S56x1536) ![37, 0] S1x1536.size inb_S56x1536_S1x1536_37_0).toLoadRect f10) (A8.view.readAt (Elt F) (Rect.unit (s := S2x7168x1536) (k0_off159 v0 v6 v12 v18 v24 v30 v36 v42 v48 v54 v60 v66 v72 v78 v84 v90 k) S1x256x1536.size (k0_off159_inb v0 v6 v12 v18 v24 v30 v36 v42 v48 v54 v60 v66 v72 v78 v84 v90 hw k)).toLoadRect f8)) ∧ g11 = (put11 (put11 f11 (Rect.unit (s := S2x24x7168) (k0_off158 v0 v6 v12 v18 v24 v30 v36 v42 v48 v54 v60 v66 v72 v78 v84 v90 k) S1x24x128.size (k0_off158_inb v0 v6 v12 v18 v24 v30 v36 v42 v48 v54 v60 v66 v72 v78 v84 v90 hw k)) (k0_pay181 v1552 v2132)) (Rect.unit (s := S2x24x7168) (k0_off160 v0 v6 v12 v18 v24 v30 v36 v42 v48 v54 v60 v66 v72 v78 v84 v90 k) S1x24x128.size (k0_off160_inb v0 v6 v12 v18 v24 v30 v36 v42 v48 v54 v60 v66 v72 v78 v84 v90 hw k)) (k0_pay183 v1552 (A9.view.readAt (Elt F) (Rect.unit (s := S24x1536) ![0, 0] S24x1536.size inb_S24x1536_S24x1536_0_0).toLoadRect f9) (A10.view.readAt (Elt F) (Rect.unit (s := S56x1536) ![36, 0] S1x1536.size inb_S56x1536_S1x1536_36_0).toLoadRect f10) (A9.view.readAt (Elt F) (Rect.unit (s := S24x1536) ![0, 0] S24x1536.size inb_S24x1536_S24x1536_0_0).toLoadRect f9) (A10.view.readAt (Elt F) (Rect.unit (s := S56x1536) ![37, 0] S1x1536.size inb_S56x1536_S1x1536_37_0).toLoadRect f10) (A8.view.readAt (Elt F) (Rect.unit (s := S2x7168x1536) (k0_off159 v0 v6 v12 v18 v24 v30 v36 v42 v48 v54 v60 v66 v72 v78 v84 v90 k) S1x256x1536.size (k0_off159_inb v0 v6 v12 v18 v24 v30 v36 v42 v48 v54 v60 v66 v72 v78 v84 v90 hw k)).toLoadRect f8)))⌝ ∗ PW c (oW (sl k.val)) fullShare g11 ∗ P9 c f9 ∗ P10 c f10 ∗ PW c (wW (sl k.val) 4) fullShare f8 -∗ Q r0) -∗ W c (k0_part51 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v2132) Q) := by
  have hkn := klt hn hN k
  have hk : k.val < 16 := lt_of_lt_of_le hkn hn
  rw [k0_part51_eq_skeleton]
  unfold k0_part51_skel
  try dsimp only
  iintro ⟨H11, H9, H10, H8_4⟩ K
  iapply (ld11 c (sl k.val) 4480 (off158 k hk) (by decide)) $$ H11
  iintro H11
  iapply (st11 c (sl k.val) 4480 (off158 k hk) (by decide)) $$ H11
  iintro H11
  iapply (ld9 c) $$ H9
  iintro H9
  iapply (ld10 c) $$ H10
  iintro H10
  iapply (ld9 c) $$ H9
  iintro H9
  iapply (ld10 c) $$ H10
  iintro H10
  iapply (ld8 c (sl k.val) 4 4608 (off159 k hk) (by decide) (by decide)) $$ H8_4
  iintro H8_4
  iapply (ld11 c (sl k.val) 4608 (off160 k hk) (by decide)) $$ H11
  iintro H11
  iapply (st11 c (sl k.val) 4608 (off160 k hk) (by decide)) $$ H11
  iintro H11
  iapply (ld11 c (sl k.val) 4736 (off161 k hk) (by decide)) $$ H11
  iintro H11
  iapply W_pure
  iapply K
  isplitr; · ipureintro; exact ⟨rfl, rfl⟩
  isplitl [H11]; · iexact H11
  isplitl [H9]; · iexact H9
  isplitl [H10]; · iexact H10
  iexact H8_4

include hw hn hN hT in
theorem part52 {f9 : S24x1536.Idx → Elt F .f32} {f10 : S56x1536.Idx → Elt F .f32} {f11 : S2x24x7168.Idx → Elt F .bf16} {f8 : S2x7168x1536.Idx → Elt F .fp8e4m3} {fw : S16x7168x1536.Idx → Elt F .fp8e4m3} (v95 : BitVec 32) (arg18 : BitVec 32) (v245 : BitVec 32) (v1552 : IVec S24x128 1) (v2178 : FVec F S1x24x128 .bf16) {Q : (Σ' (v2214 : Elt F .i32), k0_chk50 v2214) → sProp (MT nD τ sig Unit (Elt F) ℕ UU ℕ)} :
    iprop(PW c (oW (sl k.val)) fullShare f11 ∗ P9 c f9 ∗ P10 c f10 ∗ PW c (wW (sl k.val) 4) fullShare f8 ∗ P5 c ft ∗ Sem0 c (wsem (sl k.val) 4) ∗ (A2.view.loc (c : Thread nD τ) ↦{qw (sl k.val) 4} fw)) ⊢ iprop((∀ (r0 : Elt F .i32) (r1 : k0_chk50 r0) (g11 : S2x24x7168.Idx → Elt F .bf16), ⌜r0 = (tw ft (p16 k.val)) ∧ g11 = (put11 (put11 (put11 f11 (Rect.unit (s := S2x24x7168) (k0_off161 v0 v6 v12 v18 v24 v30 v36 v42 v48 v54 v60 v66 v72 v78 v84 v90 k) S1x24x128.size (k0_off161_inb v0 v6 v12 v18 v24 v30 v36 v42 v48 v54 v60 v66 v72 v78 v84 v90 hw k)) v2178) (Rect.unit (s := S2x24x7168) (k0_off163 v0 v6 v12 v18 v24 v30 v36 v42 v48 v54 v60 v66 v72 v78 v84 v90 k) S1x24x128.size (k0_off163_inb v0 v6 v12 v18 v24 v30 v36 v42 v48 v54 v60 v66 v72 v78 v84 v90 hw k)) (k0_pay186 v1552 (A9.view.readAt (Elt F) (Rect.unit (s := S24x1536) ![0, 0] S24x1536.size inb_S24x1536_S24x1536_0_0).toLoadRect f9) (A10.view.readAt (Elt F) (Rect.unit (s := S56x1536) ![38, 0] S1x1536.size inb_S56x1536_S1x1536_38_0).toLoadRect f10) (A9.view.readAt (Elt F) (Rect.unit (s := S24x1536) ![0, 0] S24x1536.size inb_S24x1536_S24x1536_0_0).toLoadRect f9) (A10.view.readAt (Elt F) (Rect.unit (s := S56x1536) ![39, 0] S1x1536.size inb_S56x1536_S1x1536_39_0).toLoadRect f10) (A8.view.readAt (Elt F) (Rect.unit (s := S2x7168x1536) (k0_off162 v0 v6 v12 v18 v24 v30 v36 v42 v48 v54 v60 v66 v72 v78 v84 v90 k) S1x256x1536.size (k0_off162_inb v0 v6 v12 v18 v24 v30 v36 v42 v48 v54 v60 v66 v72 v78 v84 v90 hw k)).toLoadRect f8))) (Rect.unit (s := S2x24x7168) (k0_off164 v0 v6 v12 v18 v24 v30 v36 v42 v48 v54 v60 v66 v72 v78 v84 v90 k) S1x24x128.size (k0_off164_inb v0 v6 v12 v18 v24 v30 v36 v42 v48 v54 v60 v66 v72 v78 v84 v90 hw k)) (k0_pay187 v1552 (A9.view.readAt (Elt F) (Rect.unit (s := S24x1536) ![0, 0] S24x1536.size inb_S24x1536_S24x1536_0_0).toLoadRect f9) (A10.view.readAt (Elt F) (Rect.unit (s := S56x1536) ![38, 0] S1x1536.size inb_S56x1536_S1x1536_38_0).toLoadRect f10) (A9.view.readAt (Elt F) (Rect.unit (s := S24x1536) ![0, 0] S24x1536.size inb_S24x1536_S24x1536_0_0).toLoadRect f9) (A10.view.readAt (Elt F) (Rect.unit (s := S56x1536) ![39, 0] S1x1536.size inb_S56x1536_S1x1536_39_0).toLoadRect f10) (A8.view.readAt (Elt F) (Rect.unit (s := S2x7168x1536) (k0_off162 v0 v6 v12 v18 v24 v30 v36 v42 v48 v54 v60 v66 v72 v78 v84 v90 k) S1x256x1536.size (k0_off162_inb v0 v6 v12 v18 v24 v30 v36 v42 v48 v54 v60 v66 v72 v78 v84 v90 hw k)).toLoadRect f8)))⌝ ∗ PW c (oW (sl k.val)) fullShare g11 ∗ P9 c f9 ∗ P10 c f10 ∗ P5 c ft ∗ Gnext c fw act n k.val 4 -∗ Q ⟨r0, r1⟩) -∗ W c (k0_part52 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw v95 k arg18 v245 v1552 v2178) Q) := by
  have hkn := klt hn hN k
  have hk : k.val < 16 := lt_of_lt_of_le hkn hn
  rw [k0_part52_eq_skeleton]
  unfold k0_part52_skel
  try dsimp only
  iintro ⟨H11, H9, H10, H8_4, H5, HS4, HK4⟩ K
  iapply (st11 c (sl k.val) 4736 (off161 k hk) (by decide)) $$ H11
  iintro H11
  iapply (ld9 c) $$ H9
  iintro H9
  iapply (ld10 c) $$ H10
  iintro H10
  iapply (ld9 c) $$ H9
  iintro H9
  iapply (ld10 c) $$ H10
  iintro H10
  iapply (ld8 c (sl k.val) 4 4864 (off162 k hk) (by decide) (by decide)) $$ H8_4
  iintro H8_4
  iapply (ld11 c (sl k.val) 4864 (off163 k hk) (by decide)) $$ H11
  iintro H11
  iapply (st11 c (sl k.val) 4864 (off163 k hk) (by decide)) $$ H11
  iintro H11
  iapply (ld11 c (sl k.val) 4992 (off164 k hk) (by decide)) $$ H11
  iintro H11
  iapply (st11 c (sl k.val) 4992 (off164 k hk) (by decide)) $$ H11
  iintro H11
  iapply (if41 c hw hn hN hT k) $$ [H5 H8_4 HS4 HK4]
  · isplitl [H5]; · iexact H5
    isplitl [H8_4]; · iexists _; iexact H8_4
    isplitl [HS4]; · iexact HS4
    iexact HK4
  iintro ⟨H5, HG4⟩
  iapply (lw5 c (p16 k.val) (off169 k hk)) $$ H5
  iintro H5
  iapply (W_assume c (by rw [hT _ hkn]; exact chk50 _))
  iapply W_pure
  iapply K
  isplitr; · ipureintro; exact ⟨rfl, rfl⟩
  isplitl [H11]; · iexact H11
  isplitl [H9]; · iexact H9
  isplitl [H10]; · iexact H10
  isplitl [H5]; · iexact H5
  iexact HG4

include hw hn hN hT in
theorem part53 {f9 : S24x1536.Idx → Elt F .f32} {f10 : S56x1536.Idx → Elt F .f32} {f11 : S2x24x7168.Idx → Elt F .bf16} {fw : S16x7168x1536.Idx → Elt F .fp8e4m3} (v245 : BitVec 32) (v1552 : IVec S24x128 1) (v2214 : Elt F .i32) (k0_hw50 : k0_chk50 v2214) {Q : (FVec F S1x24x128 .bf16) → sProp (MT nD τ sig Unit (Elt F) ℕ UU ℕ)} :
    iprop(OW c ∗ Gin c fw (sl k.val) 5 (act k.val) ∗ P9 c f9 ∗ P10 c f10 ∗ PW c (oW (sl k.val)) fullShare f11) ⊢ iprop((∀ (r0 : FVec F S1x24x128 .bf16) (g11 : S2x24x7168.Idx → Elt F .bf16) (g8 : S2x7168x1536.Idx → Elt F .fp8e4m3), ⌜r0 = (k0_pay190 v1552 (A9.view.readAt (Elt F) (Rect.unit (s := S24x1536) ![0, 0] S24x1536.size inb_S24x1536_S24x1536_0_0).toLoadRect f9) (A10.view.readAt (Elt F) (Rect.unit (s := S56x1536) ![40, 0] S1x1536.size inb_S56x1536_S1x1536_40_0).toLoadRect f10) (A9.view.readAt (Elt F) (Rect.unit (s := S24x1536) ![0, 0] S24x1536.size inb_S24x1536_S24x1536_0_0).toLoadRect f9) (A10.view.readAt (Elt F) (Rect.unit (s := S56x1536) ![41, 0] S1x1536.size inb_S56x1536_S1x1536_41_0).toLoadRect f10) (A8.view.readAt (Elt F) (Rect.unit (s := S2x7168x1536) (k0_off173 v0 v6 v12 v18 v24 v30 v36 v42 v48 v54 v60 v66 v72 v78 v84 v90 k) S1x256x1536.size (k0_off173_inb v0 v6 v12 v18 v24 v30 v36 v42 v48 v54 v60 v66 v72 v78 v84 v90 hw k)).toLoadRect g8)) ∧ g11 = (put11 f11 (Rect.unit (s := S2x24x7168) (k0_off174 v0 v6 v12 v18 v24 v30 v36 v42 v48 v54 v60 v66 v72 v78 v84 v90 k) S1x24x128.size (k0_off174_inb v0 v6 v12 v18 v24 v30 v36 v42 v48 v54 v60 v66 v72 v78 v84 v90 hw k)) (k0_pay189 v1552 (A9.view.readAt (Elt F) (Rect.unit (s := S24x1536) ![0, 0] S24x1536.size inb_S24x1536_S24x1536_0_0).toLoadRect f9) (A10.view.readAt (Elt F) (Rect.unit (s := S56x1536) ![40, 0] S1x1536.size inb_S56x1536_S1x1536_40_0).toLoadRect f10) (A9.view.readAt (Elt F) (Rect.unit (s := S24x1536) ![0, 0] S24x1536.size inb_S24x1536_S24x1536_0_0).toLoadRect f9) (A10.view.readAt (Elt F) (Rect.unit (s := S56x1536) ![41, 0] S1x1536.size inb_S56x1536_S1x1536_41_0).toLoadRect f10) (A8.view.readAt (Elt F) (Rect.unit (s := S2x7168x1536) (k0_off173 v0 v6 v12 v18 v24 v30 v36 v42 v48 v54 v60 v66 v72 v78 v84 v90 k) S1x256x1536.size (k0_off173_inb v0 v6 v12 v18 v24 v30 v36 v42 v48 v54 v60 v66 v72 v78 v84 v90 hw k)).toLoadRect g8))) ∧ (wW (sl k.val) 5).view.read (Elt F) g8 = (wE (act k.val) 5).view.read (Elt F) fw⌝ ∗ OW c ∗ PW c (wW (sl k.val) 5) fullShare g8 ∗ Sem0 c (wsem (sl k.val) 5) ∗ (A2.view.loc (c : Thread nD τ) ↦{qw (sl k.val) 5} fw) ∗ P9 c f9 ∗ P10 c f10 ∗ PW c (oW (sl k.val)) fullShare g11 -∗ Q r0) -∗ W c (k0_part53 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v2214 k0_hw50) Q) := by
  have hkn := klt hn hN k
  have hk : k.val < 16 := lt_of_lt_of_le hkn hn
  rw [k0_part53_eq_skeleton]
  unfold k0_part53_skel
  try dsimp only
  iintro ⟨HW, HIG5, H9, H10, H11⟩ K
  iapply (waitG c (sl k.val) 5 (act k.val) (off170 k hk) (off171 k hk)) $$ [HIG5 HW]
  · isplitl [HIG5] <;> iassumption
  iintro %g8 %hg8 H8_5 HS5 HK5 HW
  iapply (ld9 c) $$ H9
  iintro H9
  iapply (ld10 c) $$ H10
  iintro H10
  iapply (ld9 c) $$ H9
  iintro H9
  iapply (ld10 c) $$ H10
  iintro H10
  iapply (ld8 c (sl k.val) 5 5120 (off173 k hk) (by decide) (by decide)) $$ H8_5
  iintro H8_5
  iapply (ld11 c (sl k.val) 5120 (off174 k hk) (by decide)) $$ H11
  iintro H11
  iapply (st11 c (sl k.val) 5120 (off174 k hk) (by decide)) $$ H11
  iintro H11
  iapply (ld11 c (sl k.val) 5248 (off175 k hk) (by decide)) $$ H11
  iintro H11
  iapply W_pure
  iapply K
  isplitr; · ipureintro; exact ⟨rfl, rfl, hg8⟩
  isplitl [HW]; · iexact HW
  isplitl [H8_5]; · iexact H8_5
  isplitl [HS5]; · iexact HS5
  isplitl [HK5]; · iexact HK5
  isplitl [H9]; · iexact H9
  isplitl [H10]; · iexact H10
  iexact H11

include hw hn hN hT in
theorem part54 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v2250 : FVec F S1x24x128 .bf16) {Q : (FVec F S24x1536 .f32) → sProp (MT nD τ sig Unit (Elt F) ℕ UU ℕ)} :
    iprop(PW c (oW (sl k.val)) fullShare f11 ∗ P9 c f9 ∗ P10 c f10 ∗ PW c (wW (sl k.val) 5) fullShare f8) ⊢ iprop((∀ (r0 : FVec F S24x1536 .f32) (g11 : S2x24x7168.Idx → Elt F .bf16), ⌜r0 = (k0_pay194 (A9.view.readAt (Elt F) (Rect.unit (s := S24x1536) ![0, 0] S24x1536.size inb_S24x1536_S24x1536_0_0).toLoadRect f9) (A10.view.readAt (Elt F) (Rect.unit (s := S56x1536) ![44, 0] S1x1536.size inb_S56x1536_S1x1536_44_0).toLoadRect f10)) ∧ g11 = (put11 (put11 (put11 f11 (Rect.unit (s := S2x24x7168) (k0_off175 v0 v6 v12 v18 v24 v30 v36 v42 v48 v54 v60 v66 v72 v78 v84 v90 k) S1x24x128.size (k0_off175_inb v0 v6 v12 v18 v24 v30 v36 v42 v48 v54 v60 v66 v72 v78 v84 v90 hw k)) v2250) (Rect.unit (s := S2x24x7168) (k0_off177 v0 v6 v12 v18 v24 v30 v36 v42 v48 v54 v60 v66 v72 v78 v84 v90 k) S1x24x128.size (k0_off177_inb v0 v6 v12 v18 v24 v30 v36 v42 v48 v54 v60 v66 v72 v78 v84 v90 hw k)) (k0_pay192 v1552 (A9.view.readAt (Elt F) (Rect.unit (s := S24x1536) ![0, 0] S24x1536.size inb_S24x1536_S24x1536_0_0).toLoadRect f9) (A10.view.readAt (Elt F) (Rect.unit (s := S56x1536) ![42, 0] S1x1536.size inb_S56x1536_S1x1536_42_0).toLoadRect f10) (A9.view.readAt (Elt F) (Rect.unit (s := S24x1536) ![0, 0] S24x1536.size inb_S24x1536_S24x1536_0_0).toLoadRect f9) (A10.view.readAt (Elt F) (Rect.unit (s := S56x1536) ![43, 0] S1x1536.size inb_S56x1536_S1x1536_43_0).toLoadRect f10) (A8.view.readAt (Elt F) (Rect.unit (s := S2x7168x1536) (k0_off176 v0 v6 v12 v18 v24 v30 v36 v42 v48 v54 v60 v66 v72 v78 v84 v90 k) S1x256x1536.size (k0_off176_inb v0 v6 v12 v18 v24 v30 v36 v42 v48 v54 v60 v66 v72 v78 v84 v90 hw k)).toLoadRect f8))) (Rect.unit (s := S2x24x7168) (k0_off178 v0 v6 v12 v18 v24 v30 v36 v42 v48 v54 v60 v66 v72 v78 v84 v90 k) S1x24x128.size (k0_off178_inb v0 v6 v12 v18 v24 v30 v36 v42 v48 v54 v60 v66 v72 v78 v84 v90 hw k)) (k0_pay193 v1552 (A9.view.readAt (Elt F) (Rect.unit (s := S24x1536) ![0, 0] S24x1536.size inb_S24x1536_S24x1536_0_0).toLoadRect f9) (A10.view.readAt (Elt F) (Rect.unit (s := S56x1536) ![42, 0] S1x1536.size inb_S56x1536_S1x1536_42_0).toLoadRect f10) (A9.view.readAt (Elt F) (Rect.unit (s := S24x1536) ![0, 0] S24x1536.size inb_S24x1536_S24x1536_0_0).toLoadRect f9) (A10.view.readAt (Elt F) (Rect.unit (s := S56x1536) ![43, 0] S1x1536.size inb_S56x1536_S1x1536_43_0).toLoadRect f10) (A8.view.readAt (Elt F) (Rect.unit (s := S2x7168x1536) (k0_off176 v0 v6 v12 v18 v24 v30 v36 v42 v48 v54 v60 v66 v72 v78 v84 v90 k) S1x256x1536.size (k0_off176_inb v0 v6 v12 v18 v24 v30 v36 v42 v48 v54 v60 v66 v72 v78 v84 v90 hw k)).toLoadRect f8)))⌝ ∗ PW c (oW (sl k.val)) fullShare g11 ∗ P9 c f9 ∗ P10 c f10 ∗ PW c (wW (sl k.val) 5) fullShare f8 -∗ Q r0) -∗ W c (k0_part54 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v2250) Q) := by
  have hkn := klt hn hN k
  have hk : k.val < 16 := lt_of_lt_of_le hkn hn
  rw [k0_part54_eq_skeleton]
  unfold k0_part54_skel
  try dsimp only
  iintro ⟨H11, H9, H10, H8_5⟩ K
  iapply (st11 c (sl k.val) 5248 (off175 k hk) (by decide)) $$ H11
  iintro H11
  iapply (ld9 c) $$ H9
  iintro H9
  iapply (ld10 c) $$ H10
  iintro H10
  iapply (ld9 c) $$ H9
  iintro H9
  iapply (ld10 c) $$ H10
  iintro H10
  iapply (ld8 c (sl k.val) 5 5376 (off176 k hk) (by decide) (by decide)) $$ H8_5
  iintro H8_5
  iapply (ld11 c (sl k.val) 5376 (off177 k hk) (by decide)) $$ H11
  iintro H11
  iapply (st11 c (sl k.val) 5376 (off177 k hk) (by decide)) $$ H11
  iintro H11
  iapply (ld11 c (sl k.val) 5504 (off178 k hk) (by decide)) $$ H11
  iintro H11
  iapply (st11 c (sl k.val) 5504 (off178 k hk) (by decide)) $$ H11
  iintro H11
  iapply (ld9 c) $$ H9
  iintro H9
  iapply (ld10 c) $$ H10
  iintro H10
  iapply W_pure
  iapply K
  isplitr; · ipureintro; exact ⟨rfl, rfl⟩
  isplitl [H11]; · iexact H11
  isplitl [H9]; · iexact H9
  isplitl [H10]; · iexact H10
  iexact H8_5

include hw hn hN hT in
theorem part55 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v2284 : FVec F S24x1536 .f32) {Q : (FVec F S48x1536 .bf16) → sProp (MT nD τ sig Unit (Elt F) ℕ UU ℕ)} :
    iprop(P9 c f9 ∗ P10 c f10 ∗ PW c (wW (sl k.val) 5) fullShare f8 ∗ PW c (oW (sl k.val)) fullShare f11) ⊢ iprop((∀ (r0 : FVec F S48x1536 .bf16) (g11 : S2x24x7168.Idx → Elt F .bf16), ⌜r0 = (k0_pay198 (A9.view.readAt (Elt F) (Rect.unit (s := S24x1536) ![0, 0] S24x1536.size inb_S24x1536_S24x1536_0_0).toLoadRect f9) (A10.view.readAt (Elt F) (Rect.unit (s := S56x1536) ![46, 0] S1x1536.size inb_S56x1536_S1x1536_46_0).toLoadRect f10) (A9.view.readAt (Elt F) (Rect.unit (s := S24x1536) ![0, 0] S24x1536.size inb_S24x1536_S24x1536_0_0).toLoadRect f9) (A10.view.readAt (Elt F) (Rect.unit (s := S56x1536) ![47, 0] S1x1536.size inb_S56x1536_S1x1536_47_0).toLoadRect f10)) ∧ g11 = (put11 (put11 f11 (Rect.unit (s := S2x24x7168) (k0_off180 v0 v6 v12 v18 v24 v30 v36 v42 v48 v54 v60 v66 v72 v78 v84 v90 k) S1x24x128.size (k0_off180_inb v0 v6 v12 v18 v24 v30 v36 v42 v48 v54 v60 v66 v72 v78 v84 v90 hw k)) (k0_pay196 v1552 v2284 (A9.view.readAt (Elt F) (Rect.unit (s := S24x1536) ![0, 0] S24x1536.size inb_S24x1536_S24x1536_0_0).toLoadRect f9) (A10.view.readAt (Elt F) (Rect.unit (s := S56x1536) ![45, 0] S1x1536.size inb_S56x1536_S1x1536_45_0).toLoadRect f10) (A8.view.readAt (Elt F) (Rect.unit (s := S2x7168x1536) (k0_off179 v0 v6 v12 v18 v24 v30 v36 v42 v48 v54 v60 v66 v72 v78 v84 v90 k) S1x256x1536.size (k0_off179_inb v0 v6 v12 v18 v24 v30 v36 v42 v48 v54 v60 v66 v72 v78 v84 v90 hw k)).toLoadRect f8))) (Rect.unit (s := S2x24x7168) (k0_off181 v0 v6 v12 v18 v24 v30 v36 v42 v48 v54 v60 v66 v72 v78 v84 v90 k) S1x24x128.size (k0_off181_inb v0 v6 v12 v18 v24 v30 v36 v42 v48 v54 v60 v66 v72 v78 v84 v90 hw k)) (k0_pay197 v1552 v2284 (A9.view.readAt (Elt F) (Rect.unit (s := S24x1536) ![0, 0] S24x1536.size inb_S24x1536_S24x1536_0_0).toLoadRect f9) (A10.view.readAt (Elt F) (Rect.unit (s := S56x1536) ![45, 0] S1x1536.size inb_S56x1536_S1x1536_45_0).toLoadRect f10) (A8.view.readAt (Elt F) (Rect.unit (s := S2x7168x1536) (k0_off179 v0 v6 v12 v18 v24 v30 v36 v42 v48 v54 v60 v66 v72 v78 v84 v90 k) S1x256x1536.size (k0_off179_inb v0 v6 v12 v18 v24 v30 v36 v42 v48 v54 v60 v66 v72 v78 v84 v90 hw k)).toLoadRect f8)))⌝ ∗ P9 c f9 ∗ P10 c f10 ∗ PW c (wW (sl k.val) 5) fullShare f8 ∗ PW c (oW (sl k.val)) fullShare g11 -∗ Q r0) -∗ W c (k0_part55 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v2284) Q) := by
  have hkn := klt hn hN k
  have hk : k.val < 16 := lt_of_lt_of_le hkn hn
  rw [k0_part55_eq_skeleton]
  unfold k0_part55_skel
  try dsimp only
  iintro ⟨H9, H10, H8_5, H11⟩ K
  iapply (ld9 c) $$ H9
  iintro H9
  iapply (ld10 c) $$ H10
  iintro H10
  iapply (ld8 c (sl k.val) 5 5632 (off179 k hk) (by decide) (by decide)) $$ H8_5
  iintro H8_5
  iapply (ld11 c (sl k.val) 5632 (off180 k hk) (by decide)) $$ H11
  iintro H11
  iapply (st11 c (sl k.val) 5632 (off180 k hk) (by decide)) $$ H11
  iintro H11
  iapply (ld11 c (sl k.val) 5760 (off181 k hk) (by decide)) $$ H11
  iintro H11
  iapply (st11 c (sl k.val) 5760 (off181 k hk) (by decide)) $$ H11
  iintro H11
  iapply (ld9 c) $$ H9
  iintro H9
  iapply (ld10 c) $$ H10
  iintro H10
  iapply (ld9 c) $$ H9
  iintro H9
  iapply (ld10 c) $$ H10
  iintro H10
  iapply W_pure
  iapply K
  isplitr; · ipureintro; exact ⟨rfl, rfl⟩
  isplitl [H9]; · iexact H9
  isplitl [H10]; · iexact H10
  isplitl [H8_5]; · iexact H8_5
  iexact H11

include hw hn hN hT in
theorem part56 {f9 : S24x1536.Idx → Elt F .f32} {f10 : S56x1536.Idx → Elt F .f32} {f11 : S2x24x7168.Idx → Elt F .bf16} {f8 : S2x7168x1536.Idx → Elt F .fp8e4m3} {fw : S16x7168x1536.Idx → Elt F .fp8e4m3} (v95 : BitVec 32) (arg18 : BitVec 32) (v245 : BitVec 32) (v1552 : IVec S24x128 1) (v2320 : FVec F S48x1536 .bf16) {Q : (FVec F S24x1536 .f32) → sProp (MT nD τ sig Unit (Elt F) ℕ UU ℕ)} :
    iprop(PW c (wW (sl k.val) 5) fullShare f8 ∗ PW c (oW (sl k.val)) fullShare f11 ∗ P5 c ft ∗ Sem0 c (wsem (sl k.val) 5) ∗ (A2.view.loc (c : Thread nD τ) ↦{qw (sl k.val) 5} fw) ∗ OW c ∗ Gin c fw (sl k.val) 6 (act k.val) ∗ P9 c f9 ∗ P10 c f10) ⊢ iprop((∀ (r0 : FVec F S24x1536 .f32) (g11 : S2x24x7168.Idx → Elt F .bf16) (g8 : S2x7168x1536.Idx → Elt F .fp8e4m3), ⌜r0 = (k0_pay202 (A9.view.readAt (Elt F) (Rect.unit (s := S24x1536) ![0, 0] S24x1536.size inb_S24x1536_S24x1536_0_0).toLoadRect f9) (A10.view.readAt (Elt F) (Rect.unit (s := S56x1536) ![48, 0] S1x1536.size inb_S56x1536_S1x1536_48_0).toLoadRect f10)) ∧ g11 = (put11 (put11 f11 (Rect.unit (s := S2x24x7168) (k0_off183 v0 v6 v12 v18 v24 v30 v36 v42 v48 v54 v60 v66 v72 v78 v84 v90 k) S1x24x128.size (k0_off183_inb v0 v6 v12 v18 v24 v30 v36 v42 v48 v54 v60 v66 v72 v78 v84 v90 hw k)) (k0_pay200 v1552 v2320 (A8.view.readAt (Elt F) (Rect.unit (s := S2x7168x1536) (k0_off182 v0 v6 v12 v18 v24 v30 v36 v42 v48 v54 v60 v66 v72 v78 v84 v90 k) S1x256x1536.size (k0_off182_inb v0 v6 v12 v18 v24 v30 v36 v42 v48 v54 v60 v66 v72 v78 v84 v90 hw k)).toLoadRect f8))) (Rect.unit (s := S2x24x7168) (k0_off184 v0 v6 v12 v18 v24 v30 v36 v42 v48 v54 v60 v66 v72 v78 v84 v90 k) S1x24x128.size (k0_off184_inb v0 v6 v12 v18 v24 v30 v36 v42 v48 v54 v60 v66 v72 v78 v84 v90 hw k)) (k0_pay201 v1552 v2320 (A8.view.readAt (Elt F) (Rect.unit (s := S2x7168x1536) (k0_off182 v0 v6 v12 v18 v24 v30 v36 v42 v48 v54 v60 v66 v72 v78 v84 v90 k) S1x256x1536.size (k0_off182_inb v0 v6 v12 v18 v24 v30 v36 v42 v48 v54 v60 v66 v72 v78 v84 v90 hw k)).toLoadRect f8))) ∧ (wW (sl k.val) 6).view.read (Elt F) g8 = (wE (act k.val) 6).view.read (Elt F) fw⌝ ∗ PW c (oW (sl k.val)) fullShare g11 ∗ P5 c ft ∗ Gnext c fw act n k.val 5 ∗ OW c ∗ PW c (wW (sl k.val) 6) fullShare g8 ∗ Sem0 c (wsem (sl k.val) 6) ∗ (A2.view.loc (c : Thread nD τ) ↦{qw (sl k.val) 6} fw) ∗ P9 c f9 ∗ P10 c f10 -∗ Q r0) -∗ W c (k0_part56 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw v95 k arg18 v245 v1552 v2320) Q) := by
  have hkn := klt hn hN k
  have hk : k.val < 16 := lt_of_lt_of_le hkn hn
  rw [k0_part56_eq_skeleton]
  unfold k0_part56_skel
  try dsimp only
  iintro ⟨H8_5, H11, H5, HS5, HK5, HW, HIG6, H9, H10⟩ K
  iapply (ld8 c (sl k.val) 5 5888 (off182 k hk) (by decide) (by decide)) $$ H8_5
  iintro H8_5
  iapply (ld11 c (sl k.val) 5888 (off183 k hk) (by decide)) $$ H11
  iintro H11
  iapply (st11 c (sl k.val) 5888 (off183 k hk) (by decide)) $$ H11
  iintro H11
  iapply (ld11 c (sl k.val) 6016 (off184 k hk) (by decide)) $$ H11
  iintro H11
  iapply (st11 c (sl k.val) 6016 (off184 k hk) (by decide)) $$ H11
  iintro H11
  iapply (if42 c hw hn hN hT k) $$ [H5 H8_5 HS5 HK5]
  · isplitl [H5]; · iexact H5
    isplitl [H8_5]; · iexists _; iexact H8_5
    isplitl [HS5]; · iexact HS5
    iexact HK5
  iintro ⟨H5, HG5⟩
  iapply (lw5 c (p16 k.val) (off189 k hk)) $$ H5
  iintro H5
  iapply (W_assume c (by rw [hT _ hkn]; exact chk52 _))
  iapply (waitG c (sl k.val) 6 (act k.val) (off190 k hk) (off191 k hk)) $$ [HIG6 HW]
  · isplitl [HIG6] <;> iassumption
  iintro %g8 %hg8 H8_6 HS6 HK6 HW
  iapply (ld9 c) $$ H9
  iintro H9
  iapply (ld10 c) $$ H10
  iintro H10
  iapply W_pure
  iapply K
  isplitr; · ipureintro; exact ⟨rfl, rfl, hg8⟩
  isplitl [H11]; · iexact H11
  isplitl [H5]; · iexact H5
  isplitl [HG5]; · iexact HG5
  isplitl [HW]; · iexact HW
  isplitl [H8_6]; · iexact H8_6
  isplitl [HS6]; · iexact HS6
  isplitl [HK6]; · iexact HK6
  isplitl [H9]; · iexact H9
  iexact H10

include hw hn hN hT in
theorem part57 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v2356 : FVec F S24x1536 .f32) {Q : (FVec F S48x1536 .bf16) → sProp (MT nD τ sig Unit (Elt F) ℕ UU ℕ)} :
    iprop(P9 c f9 ∗ P10 c f10 ∗ PW c (wW (sl k.val) 6) fullShare f8 ∗ PW c (oW (sl k.val)) fullShare f11) ⊢ iprop((∀ (r0 : FVec F S48x1536 .bf16) (g11 : S2x24x7168.Idx → Elt F .bf16), ⌜r0 = (k0_pay206 (A9.view.readAt (Elt F) (Rect.unit (s := S24x1536) ![0, 0] S24x1536.size inb_S24x1536_S24x1536_0_0).toLoadRect f9) (A10.view.readAt (Elt F) (Rect.unit (s := S56x1536) ![50, 0] S1x1536.size inb_S56x1536_S1x1536_50_0).toLoadRect f10) (A9.view.readAt (Elt F) (Rect.unit (s := S24x1536) ![0, 0] S24x1536.size inb_S24x1536_S24x1536_0_0).toLoadRect f9) (A10.view.readAt (Elt F) (Rect.unit (s := S56x1536) ![51, 0] S1x1536.size inb_S56x1536_S1x1536_51_0).toLoadRect f10)) ∧ g11 = (put11 (put11 f11 (Rect.unit (s := S2x24x7168) (k0_off194 v0 v6 v12 v18 v24 v30 v36 v42 v48 v54 v60 v66 v72 v78 v84 v90 k) S1x24x128.size (k0_off194_inb v0 v6 v12 v18 v24 v30 v36 v42 v48 v54 v60 v66 v72 v78 v84 v90 hw k)) (k0_pay204 v1552 v2356 (A9.view.readAt (Elt F) (Rect.unit (s := S24x1536) ![0, 0] S24x1536.size inb_S24x1536_S24x1536_0_0).toLoadRect f9) (A10.view.readAt (Elt F) (Rect.unit (s := S56x1536) ![49, 0] S1x1536.size inb_S56x1536_S1x1536_49_0).toLoadRect f10) (A8.view.readAt (Elt F) (Rect.unit (s := S2x7168x1536) (k0_off193 v0 v6 v12 v18 v24 v30 v36 v42 v48 v54 v60 v66 v72 v78 v84 v90 k) S1x256x1536.size (k0_off193_inb v0 v6 v12 v18 v24 v30 v36 v42 v48 v54 v60 v66 v72 v78 v84 v90 hw k)).toLoadRect f8))) (Rect.unit (s := S2x24x7168) (k0_off195 v0 v6 v12 v18 v24 v30 v36 v42 v48 v54 v60 v66 v72 v78 v84 v90 k) S1x24x128.size (k0_off195_inb v0 v6 v12 v18 v24 v30 v36 v42 v48 v54 v60 v66 v72 v78 v84 v90 hw k)) (k0_pay205 v1552 v2356 (A9.view.readAt (Elt F) (Rect.unit (s := S24x1536) ![0, 0] S24x1536.size inb_S24x1536_S24x1536_0_0).toLoadRect f9) (A10.view.readAt (Elt F) (Rect.unit (s := S56x1536) ![49, 0] S1x1536.size inb_S56x1536_S1x1536_49_0).toLoadRect f10) (A8.view.readAt (Elt F) (Rect.unit (s := S2x7168x1536) (k0_off193 v0 v6 v12 v18 v24 v30 v36 v42 v48 v54 v60 v66 v72 v78 v84 v90 k) S1x256x1536.size (k0_off193_inb v0 v6 v12 v18 v24 v30 v36 v42 v48 v54 v60 v66 v72 v78 v84 v90 hw k)).toLoadRect f8)))⌝ ∗ P9 c f9 ∗ P10 c f10 ∗ PW c (wW (sl k.val) 6) fullShare f8 ∗ PW c (oW (sl k.val)) fullShare g11 -∗ Q r0) -∗ W c (k0_part57 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v2356) Q) := by
  have hkn := klt hn hN k
  have hk : k.val < 16 := lt_of_lt_of_le hkn hn
  rw [k0_part57_eq_skeleton]
  unfold k0_part57_skel
  try dsimp only
  iintro ⟨H9, H10, H8_6, H11⟩ K
  iapply (ld9 c) $$ H9
  iintro H9
  iapply (ld10 c) $$ H10
  iintro H10
  iapply (ld8 c (sl k.val) 6 6144 (off193 k hk) (by decide) (by decide)) $$ H8_6
  iintro H8_6
  iapply (ld11 c (sl k.val) 6144 (off194 k hk) (by decide)) $$ H11
  iintro H11
  iapply (st11 c (sl k.val) 6144 (off194 k hk) (by decide)) $$ H11
  iintro H11
  iapply (ld11 c (sl k.val) 6272 (off195 k hk) (by decide)) $$ H11
  iintro H11
  iapply (st11 c (sl k.val) 6272 (off195 k hk) (by decide)) $$ H11
  iintro H11
  iapply (ld9 c) $$ H9
  iintro H9
  iapply (ld10 c) $$ H10
  iintro H10
  iapply (ld9 c) $$ H9
  iintro H9
  iapply (ld10 c) $$ H10
  iintro H10
  iapply W_pure
  iapply K
  isplitr; · ipureintro; exact ⟨rfl, rfl⟩
  isplitl [H9]; · iexact H9
  isplitl [H10]; · iexact H10
  isplitl [H8_6]; · iexact H8_6
  iexact H11

include hw hn hN hT in
theorem part58 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v2392 : FVec F S48x1536 .bf16) {Q : (Σ' (v2426 : FVec F S48x256 .f32), FVec F S24x128 .bf16) → sProp (MT nD τ sig Unit (Elt F) ℕ UU ℕ)} :
    iprop(PW c (wW (sl k.val) 6) fullShare f8 ∗ PW c (oW (sl k.val)) fullShare f11 ∗ P9 c f9 ∗ P10 c f10) ⊢ iprop((∀ (r0 : FVec F S48x256 .f32) (r1 : FVec F S24x128 .bf16) (g11 : S2x24x7168.Idx → Elt F .bf16), ⌜r0 = k0_pay210 (A9.view.readAt (Elt F) (Rect.unit (s := S24x1536) ![0, 0] S24x1536.size inb_S24x1536_S24x1536_0_0).toLoadRect f9) (A10.view.readAt (Elt F) (Rect.unit (s := S56x1536) ![52, 0] S1x1536.size inb_S56x1536_S1x1536_52_0).toLoadRect f10) (A9.view.readAt (Elt F) (Rect.unit (s := S24x1536) ![0, 0] S24x1536.size inb_S24x1536_S24x1536_0_0).toLoadRect f9) (A10.view.readAt (Elt F) (Rect.unit (s := S56x1536) ![53, 0] S1x1536.size inb_S56x1536_S1x1536_53_0).toLoadRect f10) (A8.view.readAt (Elt F) (Rect.unit (s := S2x7168x1536) (k0_off199 v0 v6 v12 v18 v24 v30 v36 v42 v48 v54 v60 v66 v72 v78 v84 v90 k) S1x256x1536.size (k0_off199_inb v0 v6 v12 v18 v24 v30 v36 v42 v48 v54 v60 v66 v72 v78 v84 v90 hw k)).toLoadRect f8) ∧ r1 = k0_pay211 v1552 (A9.view.readAt (Elt F) (Rect.unit (s := S24x1536) ![0, 0] S24x1536.size inb_S24x1536_S24x1536_0_0).toLoadRect f9) (A10.view.readAt (Elt F) (Rect.unit (s := S56x1536) ![52, 0] S1x1536.size inb_S56x1536_S1x1536_52_0).toLoadRect f10) (A9.view.readAt (Elt F) (Rect.unit (s := S24x1536) ![0, 0] S24x1536.size inb_S24x1536_S24x1536_0_0).toLoadRect f9) (A10.view.readAt (Elt F) (Rect.unit (s := S56x1536) ![53, 0] S1x1536.size inb_S56x1536_S1x1536_53_0).toLoadRect f10) (A8.view.readAt (Elt F) (Rect.unit (s := S2x7168x1536) (k0_off199 v0 v6 v12 v18 v24 v30 v36 v42 v48 v54 v60 v66 v72 v78 v84 v90 k) S1x256x1536.size (k0_off199_inb v0 v6 v12 v18 v24 v30 v36 v42 v48 v54 v60 v66 v72 v78 v84 v90 hw k)).toLoadRect f8) ∧ g11 = (put11 (put11 f11 (Rect.unit (s := S2x24x7168) (k0_off197 v0 v6 v12 v18 v24 v30 v36 v42 v48 v54 v60 v66 v72 v78 v84 v90 k) S1x24x128.size (k0_off197_inb v0 v6 v12 v18 v24 v30 v36 v42 v48 v54 v60 v66 v72 v78 v84 v90 hw k)) (k0_pay208 v1552 v2392 (A8.view.readAt (Elt F) (Rect.unit (s := S2x7168x1536) (k0_off196 v0 v6 v12 v18 v24 v30 v36 v42 v48 v54 v60 v66 v72 v78 v84 v90 k) S1x256x1536.size (k0_off196_inb v0 v6 v12 v18 v24 v30 v36 v42 v48 v54 v60 v66 v72 v78 v84 v90 hw k)).toLoadRect f8))) (Rect.unit (s := S2x24x7168) (k0_off198 v0 v6 v12 v18 v24 v30 v36 v42 v48 v54 v60 v66 v72 v78 v84 v90 k) S1x24x128.size (k0_off198_inb v0 v6 v12 v18 v24 v30 v36 v42 v48 v54 v60 v66 v72 v78 v84 v90 hw k)) (k0_pay209 v1552 v2392 (A8.view.readAt (Elt F) (Rect.unit (s := S2x7168x1536) (k0_off196 v0 v6 v12 v18 v24 v30 v36 v42 v48 v54 v60 v66 v72 v78 v84 v90 k) S1x256x1536.size (k0_off196_inb v0 v6 v12 v18 v24 v30 v36 v42 v48 v54 v60 v66 v72 v78 v84 v90 hw k)).toLoadRect f8)))⌝ ∗ PW c (wW (sl k.val) 6) fullShare f8 ∗ PW c (oW (sl k.val)) fullShare g11 ∗ P9 c f9 ∗ P10 c f10 -∗ Q ⟨r0, r1⟩) -∗ W c (k0_part58 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v2392) Q) := by
  have hkn := klt hn hN k
  have hk : k.val < 16 := lt_of_lt_of_le hkn hn
  rw [k0_part58_eq_skeleton]
  unfold k0_part58_skel
  try dsimp only
  iintro ⟨H8_6, H11, H9, H10⟩ K
  iapply (ld8 c (sl k.val) 6 6400 (off196 k hk) (by decide) (by decide)) $$ H8_6
  iintro H8_6
  iapply (ld11 c (sl k.val) 6400 (off197 k hk) (by decide)) $$ H11
  iintro H11
  iapply (st11 c (sl k.val) 6400 (off197 k hk) (by decide)) $$ H11
  iintro H11
  iapply (ld11 c (sl k.val) 6528 (off198 k hk) (by decide)) $$ H11
  iintro H11
  iapply (st11 c (sl k.val) 6528 (off198 k hk) (by decide)) $$ H11
  iintro H11
  iapply (ld9 c) $$ H9
  iintro H9
  iapply (ld10 c) $$ H10
  iintro H10
  iapply (ld9 c) $$ H9
  iintro H9
  iapply (ld10 c) $$ H10
  iintro H10
  iapply (ld8 c (sl k.val) 6 6656 (off199 k hk) (by decide) (by decide)) $$ H8_6
  iintro H8_6
  iapply W_pure
  iapply K
  isplitr; · ipureintro; exact ⟨rfl, rfl, rfl⟩
  isplitl [H8_6]; · iexact H8_6
  isplitl [H11]; · iexact H11
  isplitl [H9]; · iexact H9
  iexact H10

include hw hn hN hT in
theorem part59 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v2426 : FVec F S48x256 .f32) (v2430 : FVec F S24x128 .bf16) {Q : (FVec F S24x128 .bf16) → sProp (MT nD τ sig Unit (Elt F) ℕ UU ℕ)} :
    iprop(PW c (oW (sl k.val)) fullShare f11 ∗ P9 c f9 ∗ P10 c f10 ∗ PW c (wW (sl k.val) 6) fullShare f8) ⊢ iprop((∀ (r0 : FVec F S24x128 .bf16) (g11 : S2x24x7168.Idx → Elt F .bf16), ⌜r0 = (k0_pay216 v1552 (A9.view.readAt (Elt F) (Rect.unit (s := S24x1536) ![0, 0] S24x1536.size inb_S24x1536_S24x1536_0_0).toLoadRect f9) (A10.view.readAt (Elt F) (Rect.unit (s := S56x1536) ![54, 0] S1x1536.size inb_S56x1536_S1x1536_54_0).toLoadRect f10) (A9.view.readAt (Elt F) (Rect.unit (s := S24x1536) ![0, 0] S24x1536.size inb_S24x1536_S24x1536_0_0).toLoadRect f9) (A10.view.readAt (Elt F) (Rect.unit (s := S56x1536) ![55, 0] S1x1536.size inb_S56x1536_S1x1536_55_0).toLoadRect f10) (A8.view.readAt (Elt F) (Rect.unit (s := S2x7168x1536) (k0_off202 v0 v6 v12 v18 v24 v30 v36 v42 v48 v54 v60 v66 v72 v78 v84 v90 k) S1x256x1536.size (k0_off202_inb v0 v6 v12 v18 v24 v30 v36 v42 v48 v54 v60 v66 v72 v78 v84 v90 hw k)).toLoadRect f8)) ∧ g11 = (put11 (put11 (put11 f11 (Rect.unit (s := S2x24x7168) (k0_off200 v0 v6 v12 v18 v24 v30 v36 v42 v48 v54 v60 v66 v72 v78 v84 v90 k) S1x24x128.size (k0_off200_inb v0 v6 v12 v18 v24 v30 v36 v42 v48 v54 v60 v66 v72 v78 v84 v90 hw k)) (k0_pay212 v2430)) (Rect.unit (s := S2x24x7168) (k0_off201 v0 v6 v12 v18 v24 v30 v36 v42 v48 v54 v60 v66 v72 v78 v84 v90 k) S1x24x128.size (k0_off201_inb v0 v6 v12 v18 v24 v30 v36 v42 v48 v54 v60 v66 v72 v78 v84 v90 hw k)) (k0_pay213 v1552 v2426)) (Rect.unit (s := S2x24x7168) (k0_off203 v0 v6 v12 v18 v24 v30 v36 v42 v48 v54 v60 v66 v72 v78 v84 v90 k) S1x24x128.size (k0_off203_inb v0 v6 v12 v18 v24 v30 v36 v42 v48 v54 v60 v66 v72 v78 v84 v90 hw k)) (k0_pay215 v1552 (A9.view.readAt (Elt F) (Rect.unit (s := S24x1536) ![0, 0] S24x1536.size inb_S24x1536_S24x1536_0_0).toLoadRect f9) (A10.view.readAt (Elt F) (Rect.unit (s := S56x1536) ![54, 0] S1x1536.size inb_S56x1536_S1x1536_54_0).toLoadRect f10) (A9.view.readAt (Elt F) (Rect.unit (s := S24x1536) ![0, 0] S24x1536.size inb_S24x1536_S24x1536_0_0).toLoadRect f9) (A10.view.readAt (Elt F) (Rect.unit (s := S56x1536) ![55, 0] S1x1536.size inb_S56x1536_S1x1536_55_0).toLoadRect f10) (A8.view.readAt (Elt F) (Rect.unit (s := S2x7168x1536) (k0_off202 v0 v6 v12 v18 v24 v30 v36 v42 v48 v54 v60 v66 v72 v78 v84 v90 k) S1x256x1536.size (k0_off202_inb v0 v6 v12 v18 v24 v30 v36 v42 v48 v54 v60 v66 v72 v78 v84 v90 hw k)).toLoadRect f8)))⌝ ∗ PW c (oW (sl k.val)) fullShare g11 ∗ P9 c f9 ∗ P10 c f10 ∗ PW c (wW (sl k.val) 6) fullShare f8 -∗ Q r0) -∗ W c (k0_part59 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v2426 v2430) Q) := by
  have hkn := klt hn hN k
  have hk : k.val < 16 := lt_of_lt_of_le hkn hn
  rw [k0_part59_eq_skeleton]
  unfold k0_part59_skel
  try dsimp only
  iintro ⟨H11, H9, H10, H8_6⟩ K
  iapply (ld11 c (sl k.val) 6656 (off200 k hk) (by decide)) $$ H11
  iintro H11
  iapply (st11 c (sl k.val) 6656 (off200 k hk) (by decide)) $$ H11
  iintro H11
  iapply (ld11 c (sl k.val) 6784 (off201 k hk) (by decide)) $$ H11
  iintro H11
  iapply (st11 c (sl k.val) 6784 (off201 k hk) (by decide)) $$ H11
  iintro H11
  iapply (ld9 c) $$ H9
  iintro H9
  iapply (ld10 c) $$ H10
  iintro H10
  iapply (ld9 c) $$ H9
  iintro H9
  iapply (ld10 c) $$ H10
  iintro H10
  iapply (ld8 c (sl k.val) 6 6912 (off202 k hk) (by decide) (by decide)) $$ H8_6
  iintro H8_6
  iapply (ld11 c (sl k.val) 6912 (off203 k hk) (by decide)) $$ H11
  iintro H11
  iapply (st11 c (sl k.val) 6912 (off203 k hk) (by decide)) $$ H11
  iintro H11
  iapply W_pure
  iapply K
  isplitr; · ipureintro; exact ⟨rfl, rfl⟩
  isplitl [H11]; · iexact H11
  isplitl [H9]; · iexact H9
  isplitl [H10]; · iexact H10
  iexact H8_6

end Cert.Proof.Kernel
end
end
-- ==== Proof.Kernel.Pays.lean ====
module

public import proofs.«01_k».proof.Proof.Kernel.PartsB

@[expose] public section

set_option maxRecDepth 16384

noncomputable section

namespace Cert.Proof.Kernel

open Cert.Kernel
open Idealize.ShloMosaic
open Cert.Kernel.Gen

variable {F : FTy → Type} [FloatOps F]

/-- One block of 128 inputs, quantised and read back. -/
def blk (L : Vec F S1x24x128 .bf16) : FVec F S24x128 .f32 :=
  k0_pay9 (k0_pay2 L) (k0_pay3 L) (k0_pay6 (k0_pay3 L) k0_pay4 k0_pay5) (k0_pay7 (k0_pay3 L) k0_pay4 k0_pay5) (k0_pay8 (k0_pay3 L) k0_pay4 k0_pay5)

theorem blk_1 (L : Vec F S1x24x128 .bf16) : k0_pay18 (k0_pay16 (k0_pay13 L) (k0_pay14 L) k0_pay15) (k0_pay17 (k0_pay12 L) (k0_pay13 L) (k0_pay14 L) k0_pay15) ((Scalar.ofBits .f32 0xC3E00000#32)) = blk L := rfl

theorem blk_2 (L : Vec F S1x24x128 .bf16) : k0_pay27 (k0_pay20 L) (k0_pay25 (k0_pay21 L) (k0_pay22 L) (k0_pay23 L) k0_pay24) k0_pay26 = blk L := rfl

theorem blk_3 (L : Vec F S1x24x128 .bf16) : k0_pay39 (k0_pay36 (k0_pay30 ((k0_pay29 L))) (k0_pay31 ((k0_pay29 L))) (k0_pay32 ((k0_pay29 L))) (k0_pay33 ((k0_pay29 L))) k0_pay34) (k0_pay37 (k0_pay31 ((k0_pay29 L))) (k0_pay32 ((k0_pay29 L))) (k0_pay33 ((k0_pay29 L))) k0_pay34) k0_pay38 = blk L := rfl

theorem blk_4 (L : Vec F S1x24x128 .bf16) : k0_pay47 (k0_pay41 L) (k0_pay46 (k0_pay42 L) (k0_pay43 L) (k0_pay44 L) (k0_pay45 L)) (0#32) = blk L := rfl

theorem blk_5 (L : Vec F S1x24x128 .bf16) : k0_pay56 (k0_pay49 L) (k0_pay50 L) (k0_pay53 (k0_pay50 L) k0_pay51 k0_pay52) (k0_pay54 (k0_pay50 L) k0_pay51 k0_pay52) (k0_pay55 (k0_pay50 L) k0_pay51 k0_pay52) = blk L := rfl

theorem blk_6 (L : Vec F S1x24x128 .bf16) : k0_pay65 (k0_pay63 (k0_pay60 L) (k0_pay61 L) k0_pay62) (k0_pay64 (k0_pay59 L) (k0_pay60 L) (k0_pay61 L) k0_pay62) ((Scalar.ofBits .f32 0xC3E00000#32)) = blk L := rfl

theorem blk_7 (L : Vec F S1x24x128 .bf16) : k0_pay74 (k0_pay67 L) (k0_pay72 (k0_pay68 L) (k0_pay69 L) (k0_pay70 L) k0_pay71) k0_pay73 = blk L := rfl

theorem blk_8 (L : Vec F S1x24x128 .bf16) : k0_pay86 (k0_pay83 (k0_pay77 ((k0_pay76 L))) (k0_pay78 ((k0_pay76 L))) (k0_pay79 ((k0_pay76 L))) (k0_pay80 ((k0_pay76 L))) k0_pay81) (k0_pay84 (k0_pay78 ((k0_pay76 L))) (k0_pay79 ((k0_pay76 L))) (k0_pay80 ((k0_pay76 L))) k0_pay81) k0_pay85 = blk L := rfl

theorem blk_9 (L : Vec F S1x24x128 .bf16) : k0_pay94 (k0_pay88 L) (k0_pay93 (k0_pay89 L) (k0_pay90 L) (k0_pay91 L) (k0_pay92 L)) (0#32) = blk L := rfl

theorem blk_10 (L : Vec F S1x24x128 .bf16) : k0_pay103 (k0_pay96 L) (k0_pay97 L) (k0_pay100 (k0_pay97 L) k0_pay98 k0_pay99) (k0_pay101 (k0_pay97 L) k0_pay98 k0_pay99) (k0_pay102 (k0_pay97 L) k0_pay98 k0_pay99) = blk L := rfl

theorem blk_11 (L : Vec F S1x24x128 .bf16) : k0_pay112 (k0_pay110 (k0_pay107 L) (k0_pay108 L) k0_pay109) (k0_pay111 (k0_pay106 L) (k0_pay107 L) (k0_pay108 L) k0_pay109) ((Scalar.ofBits .f32 0xC3E00000#32)) = blk L := rfl

/-- A block of results: the half of the product that its scales fit, masked. -/
def outE (g : Elt F .i32) (X : Vec F S24x1536 .f32) (ra rb : Vec F S1x1536 .f32) (w : Vec F S1x256x1536 .fp8e4m3) : FVec F S1x24x128 .bf16 :=
  k0_pay116 (k0_pay114 (g)) X ra X rb w

/-- A block of results: the half of the product that its scales fit, masked. -/
def outO (g : Elt F .i32) (X : Vec F S24x1536 .f32) (ra rb : Vec F S1x1536 .f32) (w : Vec F S1x256x1536 .fp8e4m3) : FVec F S1x24x128 .bf16 :=
  k0_pay117 (k0_pay114 (g)) X ra X rb w

theorem out_2 (g : Elt F .i32) (X : Vec F S24x1536 .f32) (ra rb : Vec F S1x1536 .f32) (w : Vec F S1x256x1536 .fp8e4m3) : k0_pay120 (k0_pay114 (g)) ((k0_pay118 X ra)) X rb w = outE g X ra rb w := rfl

theorem out_3 (g : Elt F .i32) (X : Vec F S24x1536 .f32) (ra rb : Vec F S1x1536 .f32) (w : Vec F S1x256x1536 .fp8e4m3) : k0_pay121 (k0_pay114 (g)) ((k0_pay118 X ra)) X rb w = outO g X ra rb w := rfl

theorem out_4 (g : Elt F .i32) (X : Vec F S24x1536 .f32) (ra rb : Vec F S1x1536 .f32) (w : Vec F S1x256x1536 .fp8e4m3) : k0_pay124 (k0_pay114 (g)) ((k0_pay122 X ra X rb)) w = outE g X ra rb w := rfl

theorem out_5 (g : Elt F .i32) (X : Vec F S24x1536 .f32) (ra rb : Vec F S1x1536 .f32) (w : Vec F S1x256x1536 .fp8e4m3) : k0_pay125 (k0_pay114 (g)) ((k0_pay122 X ra X rb)) w = outO g X ra rb w := rfl

theorem out_6 (g : Elt F .i32) (X : Vec F S24x1536 .f32) (ra rb : Vec F S1x1536 .f32) (w : Vec F S1x256x1536 .fp8e4m3) : k0_pay128 (k0_pay127 (k0_pay114 (g)) X ra X rb w) = outE g X ra rb w := rfl

theorem out_7 (g : Elt F .i32) (X : Vec F S24x1536 .f32) (ra rb : Vec F S1x1536 .f32) (w : Vec F S1x256x1536 .fp8e4m3) : k0_pay129 (k0_pay114 (g)) (k0_pay126 X ra X rb w) = outO g X ra rb w := rfl

theorem out_8 (g : Elt F .i32) (X : Vec F S24x1536 .f32) (ra rb : Vec F S1x1536 .f32) (w : Vec F S1x256x1536 .fp8e4m3) : k0_pay132 (k0_pay114 (g)) ((k0_pay130 X ra X rb)) w = outE g X ra rb w := rfl

theorem out_9 (g : Elt F .i32) (X : Vec F S24x1536 .f32) (ra rb : Vec F S1x1536 .f32) (w : Vec F S1x256x1536 .fp8e4m3) : k0_pay133 (k0_pay114 (g)) ((k0_pay130 X ra X rb)) w = outO g X ra rb w := rfl

theorem out_10 (g : Elt F .i32) (X : Vec F S24x1536 .f32) (ra rb : Vec F S1x1536 .f32) (w : Vec F S1x256x1536 .fp8e4m3) : k0_pay136 (k0_pay135 (k0_pay114 (g)) X ra X rb w) = outE g X ra rb w := rfl

theorem out_11 (g : Elt F .i32) (X : Vec F S24x1536 .f32) (ra rb : Vec F S1x1536 .f32) (w : Vec F S1x256x1536 .fp8e4m3) : k0_pay137 (k0_pay114 (g)) (k0_pay134 X ra X rb w) = outO g X ra rb w := rfl

theorem out_12 (g : Elt F .i32) (X : Vec F S24x1536 .f32) (ra rb : Vec F S1x1536 .f32) (w : Vec F S1x256x1536 .fp8e4m3) : k0_pay139 (k0_pay114 (g)) X ra X rb w = outE g X ra rb w := rfl

theorem out_13 (g : Elt F .i32) (X : Vec F S24x1536 .f32) (ra rb : Vec F S1x1536 .f32) (w : Vec F S1x256x1536 .fp8e4m3) : k0_pay141 ((k0_pay140 (k0_pay114 (g)) X ra X rb w)) = outO g X ra rb w := rfl

theorem out_14 (g : Elt F .i32) (X : Vec F S24x1536 .f32) (ra rb : Vec F S1x1536 .f32) (w : Vec F S1x256x1536 .fp8e4m3) : k0_pay143 (k0_pay114 (g)) X ra X rb w = outE g X ra rb w := rfl

theorem out_15 (g : Elt F .i32) (X : Vec F S24x1536 .f32) (ra rb : Vec F S1x1536 .f32) (w : Vec F S1x256x1536 .fp8e4m3) : k0_pay144 (k0_pay114 (g)) X ra X rb w = outO g X ra rb w := rfl

theorem out_16 (g : Elt F .i32) (X : Vec F S24x1536 .f32) (ra rb : Vec F S1x1536 .f32) (w : Vec F S1x256x1536 .fp8e4m3) : k0_pay146 (k0_pay114 (g)) X ra X rb w = outE g X ra rb w := rfl

theorem out_17 (g : Elt F .i32) (X : Vec F S24x1536 .f32) (ra rb : Vec F S1x1536 .f32) (w : Vec F S1x256x1536 .fp8e4m3) : k0_pay148 ((k0_pay147 (k0_pay114 (g)) X ra X rb w)) = outO g X ra rb w := rfl

theorem out_18 (g : Elt F .i32) (X : Vec F S24x1536 .f32) (ra rb : Vec F S1x1536 .f32) (w : Vec F S1x256x1536 .fp8e4m3) : k0_pay150 (k0_pay114 (g)) X ra X rb w = outE g X ra rb w := rfl

theorem out_19 (g : Elt F .i32) (X : Vec F S24x1536 .f32) (ra rb : Vec F S1x1536 .f32) (w : Vec F S1x256x1536 .fp8e4m3) : k0_pay151 (k0_pay114 (g)) X ra X rb w = outO g X ra rb w := rfl

theorem out_20 (g : Elt F .i32) (X : Vec F S24x1536 .f32) (ra rb : Vec F S1x1536 .f32) (w : Vec F S1x256x1536 .fp8e4m3) : k0_pay153 (k0_pay114 (g)) X ra X rb w = outE g X ra rb w := rfl

theorem out_21 (g : Elt F .i32) (X : Vec F S24x1536 .f32) (ra rb : Vec F S1x1536 .f32) (w : Vec F S1x256x1536 .fp8e4m3) : k0_pay154 (k0_pay114 (g)) X ra X rb w = outO g X ra rb w := rfl

theorem out_22 (g : Elt F .i32) (X : Vec F S24x1536 .f32) (ra rb : Vec F S1x1536 .f32) (w : Vec F S1x256x1536 .fp8e4m3) : k0_pay158 (k0_pay114 (g)) (k0_pay155 X ra) X (k0_pay156 rb) w = outE g X ra rb w := rfl

theorem out_23 (g : Elt F .i32) (X : Vec F S24x1536 .f32) (ra rb : Vec F S1x1536 .f32) (w : Vec F S1x256x1536 .fp8e4m3) : k0_pay159 (k0_pay114 (g)) (k0_pay155 X ra) X (k0_pay156 rb) w = outO g X ra rb w := rfl

theorem out_24 (g : Elt F .i32) (X : Vec F S24x1536 .f32) (ra rb : Vec F S1x1536 .f32) (w : Vec F S1x256x1536 .fp8e4m3) : k0_pay161 (k0_pay114 (g)) X ra X rb w = outE g X ra rb w := rfl

theorem out_25 (g : Elt F .i32) (X : Vec F S24x1536 .f32) (ra rb : Vec F S1x1536 .f32) (w : Vec F S1x256x1536 .fp8e4m3) : k0_pay162 (k0_pay114 (g)) X ra X rb w = outO g X ra rb w := rfl

theorem out_26 (g : Elt F .i32) (X : Vec F S24x1536 .f32) (ra rb : Vec F S1x1536 .f32) (w : Vec F S1x256x1536 .fp8e4m3) : k0_pay166 (k0_pay114 (g)) (k0_pay163 X ra) X (k0_pay164 rb) w = outE g X ra rb w := rfl

theorem out_27 (g : Elt F .i32) (X : Vec F S24x1536 .f32) (ra rb : Vec F S1x1536 .f32) (w : Vec F S1x256x1536 .fp8e4m3) : k0_pay167 (k0_pay114 (g)) (k0_pay163 X ra) X (k0_pay164 rb) w = outO g X ra rb w := rfl

theorem out_28 (g : Elt F .i32) (X : Vec F S24x1536 .f32) (ra rb : Vec F S1x1536 .f32) (w : Vec F S1x256x1536 .fp8e4m3) : k0_pay170 (k0_pay114 (g)) (k0_pay169 X ra X rb w) = outE g X ra rb w := rfl

theorem out_29 (g : Elt F .i32) (X : Vec F S24x1536 .f32) (ra rb : Vec F S1x1536 .f32) (w : Vec F S1x256x1536 .fp8e4m3) : k0_pay171 (k0_pay114 (g)) (k0_pay168 X ra X rb w) = outO g X ra rb w := rfl

theorem out_30 (g : Elt F .i32) (X : Vec F S24x1536 .f32) (ra rb : Vec F S1x1536 .f32) (w : Vec F S1x256x1536 .fp8e4m3) : k0_pay173 (k0_pay114 (g)) X ra X rb w = outE g X ra rb w := rfl

theorem out_31 (g : Elt F .i32) (X : Vec F S24x1536 .f32) (ra rb : Vec F S1x1536 .f32) (w : Vec F S1x256x1536 .fp8e4m3) : k0_pay174 (k0_pay114 (g)) ((k0_pay172 X ra X rb w)) = outO g X ra rb w := rfl

theorem out_32 (g : Elt F .i32) (X : Vec F S24x1536 .f32) (ra rb : Vec F S1x1536 .f32) (w : Vec F S1x256x1536 .fp8e4m3) : k0_pay177 (k0_pay114 (g)) (k0_pay176 X ra X rb w) = outE g X ra rb w := rfl

theorem out_33 (g : Elt F .i32) (X : Vec F S24x1536 .f32) (ra rb : Vec F S1x1536 .f32) (w : Vec F S1x256x1536 .fp8e4m3) : k0_pay178 (k0_pay114 (g)) (k0_pay175 X ra X rb w) = outO g X ra rb w := rfl

theorem out_34 (g : Elt F .i32) (X : Vec F S24x1536 .f32) (ra rb : Vec F S1x1536 .f32) (w : Vec F S1x256x1536 .fp8e4m3) : k0_pay180 (k0_pay114 (g)) X ra X rb w = outE g X ra rb w := rfl

theorem out_35 (g : Elt F .i32) (X : Vec F S24x1536 .f32) (ra rb : Vec F S1x1536 .f32) (w : Vec F S1x256x1536 .fp8e4m3) : k0_pay181 (k0_pay114 (g)) ((k0_pay179 X ra X rb w)) = outO g X ra rb w := rfl

theorem out_36 (g : Elt F .i32) (X : Vec F S24x1536 .f32) (ra rb : Vec F S1x1536 .f32) (w : Vec F S1x256x1536 .fp8e4m3) : k0_pay183 (k0_pay114 (g)) X ra X rb w = outE g X ra rb w := rfl

theorem out_37 (g : Elt F .i32) (X : Vec F S24x1536 .f32) (ra rb : Vec F S1x1536 .f32) (w : Vec F S1x256x1536 .fp8e4m3) : (k0_pay184 (k0_pay114 (g)) X ra X rb w) = outO g X ra rb w := rfl

theorem out_38 (g : Elt F .i32) (X : Vec F S24x1536 .f32) (ra rb : Vec F S1x1536 .f32) (w : Vec F S1x256x1536 .fp8e4m3) : k0_pay186 (k0_pay114 (g)) X ra X rb w = outE g X ra rb w := rfl

theorem out_39 (g : Elt F .i32) (X : Vec F S24x1536 .f32) (ra rb : Vec F S1x1536 .f32) (w : Vec F S1x256x1536 .fp8e4m3) : k0_pay187 (k0_pay114 (g)) X ra X rb w = outO g X ra rb w := rfl

theorem out_40 (g : Elt F .i32) (X : Vec F S24x1536 .f32) (ra rb : Vec F S1x1536 .f32) (w : Vec F S1x256x1536 .fp8e4m3) : k0_pay189 (k0_pay114 (g)) X ra X rb w = outE g X ra rb w := rfl

theorem out_41 (g : Elt F .i32) (X : Vec F S24x1536 .f32) (ra rb : Vec F S1x1536 .f32) (w : Vec F S1x256x1536 .fp8e4m3) : (k0_pay190 (k0_pay114 (g)) X ra X rb w) = outO g X ra rb w := rfl

theorem out_42 (g : Elt F .i32) (X : Vec F S24x1536 .f32) (ra rb : Vec F S1x1536 .f32) (w : Vec F S1x256x1536 .fp8e4m3) : k0_pay192 (k0_pay114 (g)) X ra X rb w = outE g X ra rb w := rfl

theorem out_43 (g : Elt F .i32) (X : Vec F S24x1536 .f32) (ra rb : Vec F S1x1536 .f32) (w : Vec F S1x256x1536 .fp8e4m3) : k0_pay193 (k0_pay114 (g)) X ra X rb w = outO g X ra rb w := rfl

theorem out_44 (g : Elt F .i32) (X : Vec F S24x1536 .f32) (ra rb : Vec F S1x1536 .f32) (w : Vec F S1x256x1536 .fp8e4m3) : k0_pay196 (k0_pay114 (g)) ((k0_pay194 X ra)) X rb w = outE g X ra rb w := rfl

theorem out_45 (g : Elt F .i32) (X : Vec F S24x1536 .f32) (ra rb : Vec F S1x1536 .f32) (w : Vec F S1x256x1536 .fp8e4m3) : k0_pay197 (k0_pay114 (g)) ((k0_pay194 X ra)) X rb w = outO g X ra rb w := rfl

theorem out_46 (g : Elt F .i32) (X : Vec F S24x1536 .f32) (ra rb : Vec F S1x1536 .f32) (w : Vec F S1x256x1536 .fp8e4m3) : k0_pay200 (k0_pay114 (g)) ((k0_pay198 X ra X rb)) w = outE g X ra rb w := rfl

theorem out_47 (g : Elt F .i32) (X : Vec F S24x1536 .f32) (ra rb : Vec F S1x1536 .f32) (w : Vec F S1x256x1536 .fp8e4m3) : k0_pay201 (k0_pay114 (g)) ((k0_pay198 X ra X rb)) w = outO g X ra rb w := rfl

theorem out_48 (g : Elt F .i32) (X : Vec F S24x1536 .f32) (ra rb : Vec F S1x1536 .f32) (w : Vec F S1x256x1536 .fp8e4m3) : k0_pay204 (k0_pay114 (g)) ((k0_pay202 X ra)) X rb w = outE g X ra rb w := rfl

theorem out_49 (g : Elt F .i32) (X : Vec F S24x1536 .f32) (ra rb : Vec F S1x1536 .f32) (w : Vec F S1x256x1536 .fp8e4m3) : k0_pay205 (k0_pay114 (g)) ((k0_pay202 X ra)) X rb w = outO g X ra rb w := rfl

theorem out_50 (g : Elt F .i32) (X : Vec F S24x1536 .f32) (ra rb : Vec F S1x1536 .f32) (w : Vec F S1x256x1536 .fp8e4m3) : k0_pay208 (k0_pay114 (g)) ((k0_pay206 X ra X rb)) w = outE g X ra rb w := rfl

theorem out_51 (g : Elt F .i32) (X : Vec F S24x1536 .f32) (ra rb : Vec F S1x1536 .f32) (w : Vec F S1x256x1536 .fp8e4m3) : k0_pay209 (k0_pay114 (g)) ((k0_pay206 X ra X rb)) w = outO g X ra rb w := rfl

theorem out_52 (g : Elt F .i32) (X : Vec F S24x1536 .f32) (ra rb : Vec F S1x1536 .f32) (w : Vec F S1x256x1536 .fp8e4m3) : k0_pay212 (k0_pay211 (k0_pay114 (g)) X ra X rb w) = outE g X ra rb w := rfl

theorem out_53 (g : Elt F .i32) (X : Vec F S24x1536 .f32) (ra rb : Vec F S1x1536 .f32) (w : Vec F S1x256x1536 .fp8e4m3) : k0_pay213 (k0_pay114 (g)) (k0_pay210 X ra X rb w) = outO g X ra rb w := rfl

theorem out_54 (g : Elt F .i32) (X : Vec F S24x1536 .f32) (ra rb : Vec F S1x1536 .f32) (w : Vec F S1x256x1536 .fp8e4m3) : k0_pay215 (k0_pay114 (g)) X ra X rb w = outE g X ra rb w := rfl

theorem out_55 (g : Elt F .i32) (X : Vec F S24x1536 .f32) (ra rb : Vec F S1x1536 .f32) (w : Vec F S1x256x1536 .fp8e4m3) : k0_pay217 (k0_pay216 (k0_pay114 (g)) X ra X rb w) = outO g X ra rb w := rfl

end Cert.Proof.Kernel
-- ==== Proof.Kernel.Val.lean ====
module

public import proofs.«01_k».proof.Proof.Kernel.Pays
public import Idealize.ShloMosaic.Lib.VecWindow
public import Idealize.ShloMosaic.Lib.Pipeline.Value

@[expose] public section

set_option maxRecDepth 16384

noncomputable section

namespace Cert.Proof.Kernel

open Cert.Kernel
open Idealize.ShloMosaic
open Cert.Kernel.Gen

/-- An index of a shape of two axes. -/
def ix2 {a b : ℕ} (i : Fin a) (j : Fin b) : (⟨2, ![a, b]⟩ : Shape).Idx :=
  Fin.cons (α := fun t => Fin (![a, b] t)) i (Fin.cons (α := fun t => Fin (![a, b] (Fin.succ t))) j fun t => t.elim0)
/-- An index of a shape of three axes. -/
def ix3 {a b c : ℕ} (i : Fin a) (j : Fin b) (k : Fin c) : (⟨3, ![a, b, c]⟩ : Shape).Idx :=
  Fin.cons (α := fun t => Fin (![a, b, c] t)) i (ix2 j k)

theorem ix2_eta {a b : ℕ} (x : (⟨2, ![a, b]⟩ : Shape).Idx) : ix2 (a := a) (b := b) (x 0) (x 1) = x := by
  funext t; fin_cases t <;> rfl
theorem ix3_eta {a b c : ℕ} (x : (⟨3, ![a, b, c]⟩ : Shape).Idx) : ix3 (a := a) (b := b) (c := c) (x 0) (x 1) (x 2) = x := by
  funext t; fin_cases t <;> rfl
theorem ix2_ext {a b : ℕ} {x y : (⟨2, ![a, b]⟩ : Shape).Idx} (h0 : (x 0).val = (y 0).val) (h1 : (x 1).val = (y 1).val) : x = y := by
  funext t; fin_cases t
  · exact Fin.ext h0
  · exact Fin.ext h1
theorem ix3_ext {a b c : ℕ} {x y : (⟨3, ![a, b, c]⟩ : Shape).Idx} (h0 : (x 0).val = (y 0).val) (h1 : (x 1).val = (y 1).val) (h2 : (x 2).val = (y 2).val) : x = y := by
  funext t; fin_cases t
  · exact Fin.ext h0
  · exact Fin.ext h1
  · exact Fin.ext h2

/-- Dropping a leading axis of one. -/
theorem reshape_unit {a b : ℕ} (h : (⟨2, ![a, b]⟩ : Shape).numel = (⟨3, ![1, a, b]⟩ : Shape).numel) (x : (⟨2, ![a, b]⟩ : Shape).Idx) :
    Shape.reshapeEquiv h x = ix3 (0 : Fin 1) (x 0) (x 1) := by
  apply Shape.reshapeEquiv_eq_of_rowMajor
  show (Shape.rowMajorPi ![1, a, b] (ix3 (0 : Fin 1) (x 0) (x 1))).val = (Shape.rowMajorPi ![a, b] x).val
  rw [Shape.rowMajorPi_succ_val]
  show 0 * _ + (Shape.rowMajorPi ![a, b] (fun t => ix3 (0 : Fin 1) (x 0) (x 1) t.succ)).val = _
  rw [Nat.zero_mul, Nat.zero_add]
  congr 2
  exact ix2_eta x

variable {F : FTy → Type} [FloatOps F]

theorem xW_read (s : Fin 2) (f : S2x24x1536.Idx → Elt F .bf16) (i : Fin 24) (j : Fin 1536) :
    (xW s).view.read (Elt F) f (ix2 i j) = f (ix3 s i j) := by
  show f ((Rect.unit (s := S2x24x1536) ![s.val, 0, 0] S1x24x1536.size (inb_x s)).emb (Shape.reshapeEquiv _ (ix2 i j))) = _
  refine (congrArg (fun z => f ((Rect.unit (s := S2x24x1536) ![s.val, 0, 0] S1x24x1536.size (inb_x s)).emb z)) (reshape_unit _ _)).trans (congrArg f (ix3_ext ?_ ?_ ?_))
  · show s.val + 1 * 0 = s.val; omega
  · show 0 + 1 * i.val = i.val; omega
  · show 0 + 1 * j.val = j.val; omega
theorem xE_read (e : Fin 16) (f : S16x24x1536.Idx → Elt F .bf16) (i : Fin 24) (j : Fin 1536) :
    (xE e).view.read (Elt F) f (ix2 i j) = f (ix3 e i j) := by
  show f ((Rect.unit (s := S16x24x1536) ![e.val, 0, 0] S1x24x1536.size (inb_xE e)).emb (Shape.reshapeEquiv _ (ix2 i j))) = _
  refine (congrArg (fun z => f ((Rect.unit (s := S16x24x1536) ![e.val, 0, 0] S1x24x1536.size (inb_xE e)).emb z)) (reshape_unit _ _)).trans (congrArg f (ix3_ext ?_ ?_ ?_))
  · show e.val + 1 * 0 = e.val; omega
  · show 0 + 1 * i.val = i.val; omega
  · show 0 + 1 * j.val = j.val; omega
theorem sW_read (s : Fin 2) (f : S2x56x12.Idx → Elt F .f32) (i : Fin 56) (j : Fin 12) :
    (sW s).view.read (Elt F) f (ix2 i j) = f (ix3 s i j) := by
  show f ((Rect.unit (s := S2x56x12) ![s.val, 0, 0] S1x56x12.size (inb_s s)).emb (Shape.reshapeEquiv _ (ix2 i j))) = _
  refine (congrArg (fun z => f ((Rect.unit (s := S2x56x12) ![s.val, 0, 0] S1x56x12.size (inb_s s)).emb z)) (reshape_unit _ _)).trans (congrArg f (ix3_ext ?_ ?_ ?_))
  · show s.val + 1 * 0 = s.val; omega
  · show 0 + 1 * i.val = i.val; omega
  · show 0 + 1 * j.val = j.val; omega
theorem sE_read (e : Fin 16) (f : S16x56x12.Idx → Elt F .f32) (i : Fin 56) (j : Fin 12) :
    (sE e).view.read (Elt F) f (ix2 i j) = f (ix3 e i j) := by
  show f ((Rect.unit (s := S16x56x12) ![e.val, 0, 0] S1x56x12.size (inb_sE e)).emb (Shape.reshapeEquiv _ (ix2 i j))) = _
  refine (congrArg (fun z => f ((Rect.unit (s := S16x56x12) ![e.val, 0, 0] S1x56x12.size (inb_sE e)).emb z)) (reshape_unit _ _)).trans (congrArg f (ix3_ext ?_ ?_ ?_))
  · show e.val + 1 * 0 = e.val; omega
  · show 0 + 1 * i.val = i.val; omega
  · show 0 + 1 * j.val = j.val; omega
theorem wW_read (s : Fin 2) (q : Fin 7) (f : S2x7168x1536.Idx → Elt F .fp8e4m3) (i : Fin 1024) (j : Fin 1536) (i' : Fin 7168) (hi : i'.val = 1024 * q.val + i.val) :
    (wW s q).view.read (Elt F) f (ix2 i j) = f (ix3 s i' j) := by
  show f ((Rect.unit (s := S2x7168x1536) ![s.val, 1024 * q.val, 0] S1x1024x1536.size (inb_w s q)).emb (Shape.reshapeEquiv _ (ix2 i j))) = _
  refine (congrArg (fun z => f ((Rect.unit (s := S2x7168x1536) ![s.val, 1024 * q.val, 0] S1x1024x1536.size (inb_w s q)).emb z)) (reshape_unit _ _)).trans (congrArg f (ix3_ext ?_ ?_ ?_))
  · show s.val + 1 * 0 = s.val; omega
  · show 1024 * q.val + 1 * i.val = i'.val; omega
  · show 0 + 1 * j.val = j.val; omega
theorem wE_read (e : Fin 16) (q : Fin 7) (f : S16x7168x1536.Idx → Elt F .fp8e4m3) (i : Fin 1024) (j : Fin 1536) (i' : Fin 7168) (hi : i'.val = 1024 * q.val + i.val) :
    (wE e q).view.read (Elt F) f (ix2 i j) = f (ix3 e i' j) := by
  show f ((Rect.unit (s := S16x7168x1536) ![e.val, 1024 * q.val, 0] S1x1024x1536.size (inb_wE e q)).emb (Shape.reshapeEquiv _ (ix2 i j))) = _
  refine (congrArg (fun z => f ((Rect.unit (s := S16x7168x1536) ![e.val, 1024 * q.val, 0] S1x1024x1536.size (inb_wE e q)).emb z)) (reshape_unit _ _)).trans (congrArg f (ix3_ext ?_ ?_ ?_))
  · show e.val + 1 * 0 = e.val; omega
  · show 1024 * q.val + 1 * i.val = i'.val; omega
  · show 0 + 1 * j.val = j.val; omega
theorem oW_read (s : Fin 2) (f : S2x24x7168.Idx → Elt F .bf16) (i : Fin 24) (j : Fin 7168) :
    (oW s).view.read (Elt F) f (ix2 i j) = f (ix3 s i j) := by
  show f ((Rect.unit (s := S2x24x7168) ![s.val, 0, 0] S1x24x7168.size (inb_o s)).emb (Shape.reshapeEquiv _ (ix2 i j))) = _
  refine (congrArg (fun z => f ((Rect.unit (s := S2x24x7168) ![s.val, 0, 0] S1x24x7168.size (inb_o s)).emb z)) (reshape_unit _ _)).trans (congrArg f (ix3_ext ?_ ?_ ?_))
  · show s.val + 1 * 0 = s.val; omega
  · show 0 + 1 * i.val = i.val; omega
  · show 0 + 1 * j.val = j.val; omega
theorem oE_read (e : Fin 16) (f : S16x24x7168.Idx → Elt F .bf16) (i : Fin 24) (j : Fin 7168) :
    (oE e).view.read (Elt F) f (ix2 i j) = f (ix3 e i j) := by
  show f ((Rect.unit (s := S16x24x7168) ![e.val, 0, 0] S1x24x7168.size (inb_oE e)).emb (Shape.reshapeEquiv _ (ix2 i j))) = _
  refine (congrArg (fun z => f ((Rect.unit (s := S16x24x7168) ![e.val, 0, 0] S1x24x7168.size (inb_oE e)).emb z)) (reshape_unit _ _)).trans (congrArg f (ix3_ext ?_ ?_ ?_))
  · show e.val + 1 * 0 = e.val; omega
  · show 0 + 1 * i.val = i.val; omega
  · show 0 + 1 * j.val = j.val; omega

/-! ## The blocks of the arguments -/

/-- Block `k` of the input rows of expert `e`. -/
def xL (fx : S16x24x1536.Idx → Elt F .bf16) (e : Fin 16) (k : ℕ) : Vec F S1x24x128 .bf16 := fun j =>
  fx (ix3 e (j 1) (⟨(128 * k + (j 2).val) % 1536, Nat.mod_lt _ (by decide)⟩ : Fin 1536))
/-- The weight scales of expert `e`. -/
def sL (fs : S16x56x12.Idx → Elt F .f32) (e : Fin 16) : Vec F S1x56x12 .f32 := fun j => fs (ix3 e (j 1) (j 2))
/-- The pair `p` of blocks of weight rows of expert `e`. -/
def wL (fw : S16x7168x1536.Idx → Elt F .fp8e4m3) (e : Fin 16) (p : ℕ) : Vec F S1x256x1536 .fp8e4m3 := fun j =>
  fw (ix3 e (⟨(256 * p + (j 1).val) % 7168, Nat.mod_lt _ (by decide)⟩ : Fin 7168) (j 2))
/-- The dequantised inputs of expert `e`. -/
def X (fx : S16x24x1536.Idx → Elt F .bf16) (e : Fin 16) : S24x1536.Idx → Elt F .f32 := fun i =>
  blk (xL fx e ((i 1).val / 128)) (ix2 (i 0) (⟨(i 1).val % 128, Nat.mod_lt _ (by decide)⟩ : Fin 128))
/-- The rounded weight scales of expert `e`, spread over the inputs. -/
def Ws (fs : S16x56x12.Idx → Elt F .f32) (e : Fin 16) : S56x1536.Idx → Elt F .f32 := fun i =>
  k0_pay1 (sL fs e) (ix2 (i 0) (⟨(i 1).val / 128, by have := (i 1).isLt; simp at this; omega⟩ : Fin 12))
/-- Row `b` of the spread weight scales. -/
def rowL (fs : S16x56x12.Idx → Elt F .f32) (e : Fin 16) (b : ℕ) : Vec F S1x1536 .f32 := fun j =>
  Ws fs e (ix2 (⟨b % 56, Nat.mod_lt _ (by decide)⟩ : Fin 56) (j 1))
/-- Block `b` of the results of expert `e`. -/
def yB (fx : S16x24x1536.Idx → Elt F .bf16) (fs : S16x56x12.Idx → Elt F .f32) (fw : S16x7168x1536.Idx → Elt F .fp8e4m3) (fg : S16.Idx → Elt F .i32)
    (e : Fin 16) (b : ℕ) : Vec F S1x24x128 .bf16 :=
  if b % 2 = 0 then outE (tw fg e) (X fx e) (rowL fs e b) (rowL fs e (b + 1)) (wL fw e (b / 2))
  else outO (tw fg e) (X fx e) (rowL fs e (b - 1)) (rowL fs e b) (wL fw e (b / 2))
/-- The result of expert `e` at row `c` and column `n`. -/
def Y (fx : S16x24x1536.Idx → Elt F .bf16) (fs : S16x56x12.Idx → Elt F .f32) (fw : S16x7168x1536.Idx → Elt F .fp8e4m3) (fg : S16.Idx → Elt F .i32)
    (e : Fin 16) (c : Fin 24) (n : Fin 7168) : Elt F .bf16 :=
  yB fx fs fw fg e (n.val / 128) (ix3 (0 : Fin 1) c (⟨n.val % 128, Nat.mod_lt _ (by decide)⟩ : Fin 128))
/-- What a trip owes of the result rows it copies out. -/
def OKv (fx : S16x24x1536.Idx → Elt F .bf16) (fs : S16x56x12.Idx → Elt F .f32) (fw : S16x7168x1536.Idx → Elt F .fp8e4m3)
    (fg : S16.Idx → Elt F .i32) (e : Fin 16) (v : S24x7168.Idx → Elt F .bf16) : Prop :=
  ∀ (c : Fin 24) (n : Fin 7168), v (ix2 c n) = Y fx fs fw fg e c n

/-- The first `m` blocks of the buffer hold the dequantised inputs. -/
def In9 (fx : S16x24x1536.Idx → Elt F .bf16) (e : Fin 16) (m : ℕ) (f : S24x1536.Idx → Elt F .f32) : Prop :=
  ∀ i, (i 1).val < 128 * m → f i = X fx e i
/-- The first `m` blocks of the buffer hold the spread weight scales. -/
def In10 (fs : S16x56x12.Idx → Elt F .f32) (e : Fin 16) (m : ℕ) (f : S56x1536.Idx → Elt F .f32) : Prop :=
  ∀ i, (i 1).val < 128 * m → f i = Ws fs e i
/-- The first `m` blocks of the half `s` of the buffer hold the results. -/
def In11 (fx : S16x24x1536.Idx → Elt F .bf16) (fs : S16x56x12.Idx → Elt F .f32) (fw : S16x7168x1536.Idx → Elt F .fp8e4m3) (fg : S16.Idx → Elt F .i32)
    (e : Fin 16) (s : Fin 2) (m : ℕ) (f : S2x24x7168.Idx → Elt F .bf16) : Prop :=
  ∀ (c : Fin 24) (n : Fin 7168), n.val < 128 * m → f (ix3 s c n) = Y fx fs fw fg e c n

/-! ## What the loads read -/

theorem rd6 {fx : S16x24x1536.Idx → Elt F .bf16} {e : Fin 16} {s : Fin 2} {g : S2x24x1536.Idx → Elt F .bf16}
    (h : (xW s).view.read (Elt F) g = (xE e).view.read (Elt F) fx) (k : ℕ) (hk : k < 12) {off : Fin 3 → ℕ} {inb} (ho : off = ![s.val, 0, 128 * k]) :
    A6.view.readAt (Elt F) (Rect.unit (s := S2x24x1536) off S1x24x128.size inb).toLoadRect g = xL fx e k := by
  subst ho
  funext j
  have hj1 : (j 1).val < 24 := (j 1).isLt
  have hj2 : (j 2).val < 128 := (j 2).isLt
  have hj0 : (j 0).val < 1 := (j 0).isLt
  have := congrFun h (ix2 (⟨(j 1).val, hj1⟩ : Fin 24) (⟨(128 * k + (j 2).val) % 1536, Nat.mod_lt _ (by decide)⟩ : Fin 1536))
  rw [xW_read, xE_read] at this
  refine Eq.trans (congrArg g (ix3_ext ?_ ?_ ?_)) this
  · show s.val + 1 * (j 0).val = s.val; omega
  · show 0 + 1 * (j 1).val = (j 1).val; omega
  · show 128 * k + 1 * (j 2).val = (128 * k + (j 2).val) % 1536; omega
theorem rd7 {fs : S16x56x12.Idx → Elt F .f32} {e : Fin 16} {s : Fin 2} {g : S2x56x12.Idx → Elt F .f32}
    (h : (sW s).view.read (Elt F) g = (sE e).view.read (Elt F) fs) {off : Fin 3 → ℕ} {inb} (ho : off = ![s.val, 0, 0]) :
    A7.view.readAt (Elt F) (Rect.unit (s := S2x56x12) off S1x56x12.size inb).toLoadRect g = sL fs e := by
  subst ho
  funext j
  have hj1 : (j 1).val < 56 := (j 1).isLt
  have hj2 : (j 2).val < 12 := (j 2).isLt
  have hj0 : (j 0).val < 1 := (j 0).isLt
  have := congrFun h (ix2 (⟨(j 1).val, hj1⟩ : Fin 56) (⟨(j 2).val, hj2⟩ : Fin 12))
  rw [sW_read, sE_read] at this
  refine Eq.trans (congrArg g (ix3_ext ?_ ?_ ?_)) this
  · show s.val + 1 * (j 0).val = s.val; omega
  · show 0 + 1 * (j 1).val = (j 1).val; omega
  · show 0 + 1 * (j 2).val = (j 2).val; omega
theorem rd8 {fw : S16x7168x1536.Idx → Elt F .fp8e4m3} {e : Fin 16} {s : Fin 2} {q : Fin 7} {g : S2x7168x1536.Idx → Elt F .fp8e4m3}
    (h : (wW s q).view.read (Elt F) g = (wE e q).view.read (Elt F) fw) (p : ℕ) (hp : p / 4 = q.val) {off : Fin 3 → ℕ} {inb} (ho : off = ![s.val, 256 * p, 0]) :
    A8.view.readAt (Elt F) (Rect.unit (s := S2x7168x1536) off S1x256x1536.size inb).toLoadRect g = wL fw e p := by
  subst ho
  funext j
  have hq := q.isLt
  have hj1 : (j 1).val < 256 := (j 1).isLt
  have hj2 : (j 2).val < 1536 := (j 2).isLt
  have hj0 : (j 0).val < 1 := (j 0).isLt
  have := congrFun h (ix2 (⟨256 * p + (j 1).val - 1024 * q.val, by omega⟩ : Fin 1024) (⟨(j 2).val, hj2⟩ : Fin 1536))
  rw [wW_read _ _ _ _ _ (⟨(256 * p + (j 1).val) % 7168, Nat.mod_lt _ (by decide)⟩ : Fin 7168) (by show (256 * p + (j 1).val) % 7168 = 1024 * q.val + (256 * p + (j 1).val - 1024 * q.val); omega),
    wE_read _ _ _ _ _ (⟨(256 * p + (j 1).val) % 7168, Nat.mod_lt _ (by decide)⟩ : Fin 7168) (by show (256 * p + (j 1).val) % 7168 = 1024 * q.val + (256 * p + (j 1).val - 1024 * q.val); omega)] at this
  refine Eq.trans (congrArg g (ix3_ext ?_ ?_ ?_)) this
  · show s.val + 1 * (j 0).val = s.val; omega
  · show 256 * p + 1 * (j 1).val = (256 * p + (j 1).val) % 7168; omega
  · show 0 + 1 * (j 2).val = (j 2).val; omega
theorem rd9 {fx : S16x24x1536.Idx → Elt F .bf16} {e : Fin 16} {f : S24x1536.Idx → Elt F .f32} (h : In9 fx e 12 f) {inb} :
    A9.view.readAt (Elt F) (Rect.unit (s := S24x1536) ![0, 0] S24x1536.size inb).toLoadRect f = X fx e := by
  funext j
  have hj1 : (j 1).val < 1536 := (j 1).isLt
  refine Eq.trans (congrArg f (ix2_ext ?_ ?_)) (h j (by omega))
  · show 0 + 1 * (j 0).val = (j 0).val; omega
  · show 0 + 1 * (j 1).val = (j 1).val; omega
theorem rd10 {fs : S16x56x12.Idx → Elt F .f32} {e : Fin 16} {f : S56x1536.Idx → Elt F .f32} (h : In10 fs e 12 f) (b : ℕ) (hb : b < 56) {off : Fin 2 → ℕ} {inb} (ho : off = ![b, 0]) :
    A10.view.readAt (Elt F) (Rect.unit (s := S56x1536) off S1x1536.size inb).toLoadRect f = rowL fs e b := by
  subst ho
  funext j
  have hj0 : (j 0).val < 1 := (j 0).isLt
  have hj1 : (j 1).val < 1536 := (j 1).isLt
  refine Eq.trans (congrArg f (ix2_ext (y := ix2 (⟨b % 56, Nat.mod_lt _ (by decide)⟩ : Fin 56) (⟨(j 1).val, hj1⟩ : Fin 1536)) ?_ ?_)) (h _ (by show (j 1).val < _; omega))
  · show b + 1 * (j 0).val = b % 56; omega
  · show 0 + 1 * (j 1).val = (j 1).val; omega

/-! ## What the stores leave -/

theorem In9.step {fx : S16x24x1536.Idx → Elt F .bf16} {e : Fin 16} {m : ℕ} {f : S24x1536.Idx → Elt F .f32} (h : In9 fx e m f) (hm : m < 12)
    {off : Fin 2 → ℕ} {inb} (ho : off = ![0, 128 * m]) {w : S24x128.Idx → Elt F .f32} (hw : w = blk (xL fx e m)) :
    In9 fx e (m + 1) (put9 f (Rect.unit (s := S24x1536) off S24x128.size inb) w) := by
  subst ho hw
  intro i hi
  have hi0 : (i 0).val < 24 := (i 0).isLt
  by_cases hc : (i 1).val < 128 * m
  · refine Eq.trans (View.read_slice_write_of_not_mem (v := A9.view) (Rect.unit (s := S24x1536) ![0, 128 * m] S24x128.size inb) f (blk (xL fx e m)) Finset.univ (y := i) ?_) (h i hc)
    rw [Rect.map_emb_univ, Rect.mem_set_unit]
    intro hall
    have := (hall 1).1
    have : 128 * m ≤ (i 1).val := this
    omega
  · have hx : (Rect.unit (s := S24x1536) ![0, 128 * m] S24x128.size inb).emb (ix2 (⟨(i 0).val, hi0⟩ : Fin 24) (⟨(i 1).val % 128, Nat.mod_lt _ (by decide)⟩ : Fin 128)) = i := by
      refine ix2_ext ?_ ?_
      · show 0 + 1 * (i 0).val = (i 0).val; omega
      · show 128 * m + 1 * ((i 1).val % 128) = (i 1).val; omega
    have := View.read_slice_write_emb (v := A9.view) (Rect.unit (s := S24x1536) ![0, 128 * m] S24x128.size inb) f (blk (xL fx e m)) (Finset.mem_univ (ix2 (⟨(i 0).val, hi0⟩ : Fin 24) (⟨(i 1).val % 128, Nat.mod_lt _ (by decide)⟩ : Fin 128)))
    rw [hx] at this
    refine Eq.trans this ?_
    unfold X
    rw [show (i 1).val / 128 = m by omega]
    rfl
theorem In10.step {fs : S16x56x12.Idx → Elt F .f32} {e : Fin 16} {m : ℕ} {f : S56x1536.Idx → Elt F .f32} (h : In10 fs e m f) (hm : m < 12)
    {off : Fin 2 → ℕ} {inb} (ho : off = ![0, 128 * m]) {w : S56x128.Idx → Elt F .f32}
    (hw : ∀ i : S56x128.Idx, w i = k0_pay1 (sL fs e) (ix2 (i 0) (⟨m, hm⟩ : Fin 12))) :
    In10 fs e (m + 1) (put10 f (Rect.unit (s := S56x1536) off S56x128.size inb) w) := by
  subst ho
  intro i hi
  have hi0 : (i 0).val < 56 := (i 0).isLt
  by_cases hc : (i 1).val < 128 * m
  · refine Eq.trans (View.read_slice_write_of_not_mem (v := A10.view) (Rect.unit (s := S56x1536) ![0, 128 * m] S56x128.size inb) f w Finset.univ (y := i) ?_) (h i hc)
    rw [Rect.map_emb_univ, Rect.mem_set_unit]
    intro hall
    have := (hall 1).1
    have : 128 * m ≤ (i 1).val := this
    omega
  · have hx : (Rect.unit (s := S56x1536) ![0, 128 * m] S56x128.size inb).emb (ix2 (⟨(i 0).val, hi0⟩ : Fin 56) (⟨(i 1).val % 128, Nat.mod_lt _ (by decide)⟩ : Fin 128)) = i := by
      refine ix2_ext ?_ ?_
      · show 0 + 1 * (i 0).val = (i 0).val; omega
      · show 128 * m + 1 * ((i 1).val % 128) = (i 1).val; omega
    have := View.read_slice_write_emb (v := A10.view) (Rect.unit (s := S56x1536) ![0, 128 * m] S56x128.size inb) f w (Finset.mem_univ (ix2 (⟨(i 0).val, hi0⟩ : Fin 56) (⟨(i 1).val % 128, Nat.mod_lt _ (by decide)⟩ : Fin 128)))
    rw [hx] at this
    refine Eq.trans this ((hw _).trans ?_)
    unfold Ws
    refine congrArg (k0_pay1 (sL fs e)) (ix2_ext rfl ?_)
    show m = (i 1).val / 128
    omega
theorem A11_read (f : S2x24x7168.Idx → Elt F .bf16) (y : S2x24x7168.Idx) : A11.view.read (Elt F) f y = f y := rfl
theorem In11.step {fx : S16x24x1536.Idx → Elt F .bf16} {fs : S16x56x12.Idx → Elt F .f32} {fw : S16x7168x1536.Idx → Elt F .fp8e4m3} {fg : S16.Idx → Elt F .i32}
    {e : Fin 16} {s : Fin 2} {m : ℕ} {f : S2x24x7168.Idx → Elt F .bf16} (h : In11 fx fs fw fg e s m f)
    {off : Fin 3 → ℕ} {inb} (ho : off = ![s.val, 0, 128 * m]) {w : S1x24x128.Idx → Elt F .bf16} (hw : w = yB fx fs fw fg e m) :
    In11 fx fs fw fg e s (m + 1) (put11 f (Rect.unit (s := S2x24x7168) off S1x24x128.size inb) w) := by
  subst ho
  intro c n hn
  by_cases hc : n.val < 128 * m
  · refine Eq.trans (View.read_slice_write_of_not_mem (v := A11.view) (Rect.unit (s := S2x24x7168) ![s.val, 0, 128 * m] S1x24x128.size inb) f w Finset.univ (y := ix3 s c n) ?_) (h c n hc)
    rw [Rect.map_emb_univ, Rect.mem_set_unit]
    intro hall
    have := (hall 2).1
    have : 128 * m ≤ n.val := this
    omega
  · have e2 : w (ix3 (0 : Fin 1) c (⟨n.val % 128, Nat.mod_lt _ (by decide)⟩ : Fin 128)) = Y fx fs fw fg e c n := by
      rw [hw]
      unfold Y
      rw [show n.val / 128 = m by omega]
    rw [← e2]
    have hx : (Rect.unit (s := S2x24x7168) ![s.val, 0, 128 * m] S1x24x128.size inb).emb (ix3 (0 : Fin 1) c (⟨n.val % 128, Nat.mod_lt _ (by decide)⟩ : Fin 128)) = ix3 s c n := by
      refine ix3_ext ?_ ?_ ?_
      · show s.val + 1 * 0 = s.val; omega
      · show 0 + 1 * c.val = c.val; omega
      · show 128 * m + 1 * (n.val % 128) = n.val; omega
    have := View.read_slice_write_emb (v := A11.view) (Rect.unit (s := S2x24x7168) ![s.val, 0, 128 * m] S1x24x128.size inb) f w (Finset.mem_univ (ix3 (0 : Fin 1) c (⟨n.val % 128, Nat.mod_lt _ (by decide)⟩ : Fin 128)))
    rw [hx] at this
    exact (A11_read _ _).symm.trans this

theorem yE {fx : S16x24x1536.Idx → Elt F .bf16} {fs : S16x56x12.Idx → Elt F .f32} {fw : S16x7168x1536.Idx → Elt F .fp8e4m3} {fg : S16.Idx → Elt F .i32} {e : Fin 16}
    {x ra rb w} {b : ℕ} (p : ℕ) (hb : b = 2 * p) (hx : x = X fx e) (ha : ra = rowL fs e (2 * p)) (hr : rb = rowL fs e (2 * p + 1)) (hw : w = wL fw e p) :
    outE (tw fg e) x ra rb w = yB fx fs fw fg e b := by
  subst hb hx ha hr hw
  unfold yB
  rw [if_pos (by omega), show 2 * p / 2 = p by omega]
theorem yO {fx : S16x24x1536.Idx → Elt F .bf16} {fs : S16x56x12.Idx → Elt F .f32} {fw : S16x7168x1536.Idx → Elt F .fp8e4m3} {fg : S16.Idx → Elt F .i32} {e : Fin 16}
    {x ra rb w} {b : ℕ} (p : ℕ) (hb : b = 2 * p + 1) (hx : x = X fx e) (ha : ra = rowL fs e (2 * p)) (hr : rb = rowL fs e (2 * p + 1)) (hw : w = wL fw e p) :
    outO (tw fg e) x ra rb w = yB fx fs fw fg e b := by
  subst hb hx ha hr hw
  unfold yB
  rw [if_neg (by omega), show (2 * p + 1) / 2 = p by omega, show 2 * p + 1 - 1 = 2 * p by omega]

/-- A column of the scales spread over a block. -/
theorem col_gen (T : FVec F S56x12 .f32) (k : ℕ) (hk : k < 12) (hs : S56x12.Slices ![0, k] S56x1) (h1 : S56x1.ShapeCasts S56x1) (h2 : S56x1.Broadcasts S56x128) (h3 : S56x128.ShapeCasts S56x128)
    (o : S56x128.Idx) : shapeCast S56x128 (broadcastTo S56x128 (shapeCast S56x1 (extractStridedSlice S56x1 ![0, k] T hs) h1) h2) h3 o = T (ix2 (o 0) (⟨k, hk⟩ : Fin 12)) := by
  rw [shapeCast_self, shapeCast_self,
    broadcastTo_apply _ h2 o (ix2 (a := 56) (b := 1) (o 0) 0) (by intro a; fin_cases a <;> rfl)]
  exact extractStridedSlice_apply _ _ _ _ _ (by
    intro a; fin_cases a
    · show (o 0).val = 0 + (o 0).val; omega
    · show k = k + 0; omega)
theorem col_0 (S : Vec F S1x56x12 .f32) (o : S56x128.Idx) : (k0_pay11 ((k0_pay10 (k0_pay1 S)))) o = k0_pay1 S (ix2 (o 0) (⟨0, by decide⟩ : Fin 12)) :=
  col_gen (k0_pay1 S) 0 (by decide) _ _ _ _ o
theorem col_1 (S : Vec F S1x56x12 .f32) (o : S56x128.Idx) : (k0_pay19 (k0_pay1 S)) o = k0_pay1 S (ix2 (o 0) (⟨1, by decide⟩ : Fin 12)) :=
  col_gen (k0_pay1 S) 1 (by decide) _ _ _ _ o
theorem col_2 (S : Vec F S1x56x12 .f32) (o : S56x128.Idx) : (k0_pay28 (k0_pay1 S)) o = k0_pay1 S (ix2 (o 0) (⟨2, by decide⟩ : Fin 12)) :=
  col_gen (k0_pay1 S) 2 (by decide) _ _ _ _ o
theorem col_3 (S : Vec F S1x56x12 .f32) (o : S56x128.Idx) : (k0_pay40 (k0_pay1 S)) o = k0_pay1 S (ix2 (o 0) (⟨3, by decide⟩ : Fin 12)) :=
  col_gen (k0_pay1 S) 3 (by decide) _ _ _ _ o
theorem col_4 (S : Vec F S1x56x12 .f32) (o : S56x128.Idx) : (k0_pay48 (k0_pay1 S)) o = k0_pay1 S (ix2 (o 0) (⟨4, by decide⟩ : Fin 12)) :=
  col_gen (k0_pay1 S) 4 (by decide) _ _ _ _ o
theorem col_5 (S : Vec F S1x56x12 .f32) (o : S56x128.Idx) : (k0_pay58 ((k0_pay57 (k0_pay1 S)))) o = k0_pay1 S (ix2 (o 0) (⟨5, by decide⟩ : Fin 12)) :=
  col_gen (k0_pay1 S) 5 (by decide) _ _ _ _ o
theorem col_6 (S : Vec F S1x56x12 .f32) (o : S56x128.Idx) : (k0_pay66 (k0_pay1 S)) o = k0_pay1 S (ix2 (o 0) (⟨6, by decide⟩ : Fin 12)) :=
  col_gen (k0_pay1 S) 6 (by decide) _ _ _ _ o
theorem col_7 (S : Vec F S1x56x12 .f32) (o : S56x128.Idx) : (k0_pay75 (k0_pay1 S)) o = k0_pay1 S (ix2 (o 0) (⟨7, by decide⟩ : Fin 12)) :=
  col_gen (k0_pay1 S) 7 (by decide) _ _ _ _ o
theorem col_8 (S : Vec F S1x56x12 .f32) (o : S56x128.Idx) : (k0_pay87 (k0_pay1 S)) o = k0_pay1 S (ix2 (o 0) (⟨8, by decide⟩ : Fin 12)) :=
  col_gen (k0_pay1 S) 8 (by decide) _ _ _ _ o
theorem col_9 (S : Vec F S1x56x12 .f32) (o : S56x128.Idx) : (k0_pay95 (k0_pay1 S)) o = k0_pay1 S (ix2 (o 0) (⟨9, by decide⟩ : Fin 12)) :=
  col_gen (k0_pay1 S) 9 (by decide) _ _ _ _ o
theorem col_10 (S : Vec F S1x56x12 .f32) (o : S56x128.Idx) : (k0_pay105 ((k0_pay104 (k0_pay1 S)))) o = k0_pay1 S (ix2 (o 0) (⟨10, by decide⟩ : Fin 12)) :=
  col_gen (k0_pay1 S) 10 (by decide) _ _ _ _ o
theorem col_11 (S : Vec F S1x56x12 .f32) (o : S56x128.Idx) : (k0_pay113 (k0_pay1 S)) o = k0_pay1 S (ix2 (o 0) (⟨11, by decide⟩ : Fin 12)) :=
  col_gen (k0_pay1 S) 11 (by decide) _ _ _ _ o

theorem OKv_of {fx : S16x24x1536.Idx → Elt F .bf16} {fs : S16x56x12.Idx → Elt F .f32} {fw : S16x7168x1536.Idx → Elt F .fp8e4m3} {fg : S16.Idx → Elt F .i32}
    {e : Fin 16} {s : Fin 2} {f : S2x24x7168.Idx → Elt F .bf16} (h : In11 fx fs fw fg e s 56 f) : OKv fx fs fw fg e ((oW s).view.read (Elt F) f) := fun c n =>
  (oW_read s f c n).trans (h c n (by omega))

end Cert.Proof.Kernel
-- ==== Proof.Kernel.Trip.lean ====
module

public import proofs.«01_k».proof.Proof.Kernel.PartsA
public import proofs.«01_k».proof.Proof.Kernel.PartsB
public import proofs.«01_k».proof.Proof.Kernel.Val
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Transfers
public import Idealize.ShloMosaic.Lib.Batch
public import Idealize.ShloMosaic.Adequacy
public import Idealize.ShloMosaic.Init

@[expose] public section

set_option maxRecDepth 16384
set_option maxHeartbeats 4000000

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F] (c : Dev nD)
variable {v0 v6 v12 v18 v24 v30 v36 v42 v48 v54 v60 v66 v72 v78 v84 v90 : BitVec 32} (hw : k0_chk15 v0 v6 v12 v18 v24 v30 v36 v42 v48 v54 v60 v66 v72 v78 v84 v90) {n : ℕ} (hn : n ≤ 16) (hN : NW v0 v6 v12 v18 v24 v30 v36 v42 v48 v54 v60 v66 v72 v78 v84 v90 = BitVec.ofNat 32 n)
  {act : ℕ → Fin 16} {ft : S16.Idx → Elt F .i32} (hT : ∀ i, i < n → tw ft (p16 i) = BitVec.ofNat 32 (act i).val)
  (k : Fin (k0_t1_loop v0 v6 v12 v18 v24 v30 v36 v42 v48 v54 v60 v66 v72 v78 v84 v90).trips)

include hw hn hN hT in
/-- One trip of the loop over the active experts. -/
theorem trip {fx : S16x24x1536.Idx → Elt F .bf16} {fs : S16x56x12.Idx → Elt F .f32} {fw : S16x7168x1536.Idx → Elt F .fp8e4m3} {fg : S16.Idx → Elt F .i32} {vv : ℕ → S24x7168.Idx → Elt F .bf16} {q0 : PosShare TreeShare} {v95 : BitVec 32} {v157 : BitVec 1} {Q : Unit → sProp (MT nD τ sig Unit (Elt F) ℕ UU ℕ)} :
    iprop(P5 c ft ∗ P0 c q0 fg ∗ OW c ∗ Xin c fx (sl k.val) (act k.val) ∗ Sin c fs (sl k.val) (act k.val) ∗ Gin c fw (sl k.val) 0 (act k.val) ∗ Gin c fw (sl k.val) 1 (act k.val) ∗ Gin c fw (sl k.val) 2 (act k.val) ∗ Gin c fw (sl k.val) 3 (act k.val) ∗ Gin c fw (sl k.val) 4 (act k.val) ∗ Gin c fw (sl k.val) 5 (act k.val) ∗ Gin c fw (sl k.val) 6 (act k.val) ∗ (∃ f, P9 c f) ∗ (∃ f, P10 c f) ∗ Oprev c act vv k.val ∗ Row c (act k.val)) ⊢
      iprop((∀ v : S24x7168.Idx → Elt F .bf16, Oin c v (sl k.val) (act k.val) ∗ ⌜OKv fx fs fw fg (act k.val) v⌝ ∗ P5 c ft ∗ P0 c q0 fg ∗ OW c ∗ Xnext c fx act n k.val ∗ Snext c fs act n k.val ∗ Gnext c fw act n k.val 0 ∗ Gnext c fw act n k.val 1 ∗ Gnext c fw act n k.val 2 ∗ Gnext c fw act n k.val 3 ∗ Gnext c fw act n k.val 4 ∗ Gnext c fw act n k.val 5 ∗ Gnext c fw act n k.val 6 ∗ (∃ f, P9 c f) ∗ (∃ f, P10 c f) ∗ Rprev c act vv k.val -∗ Q ⟨⟩) -∗
        W c (k0_t1_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw v95 v157 k ⟨⟩) Q) := by
  have hkn := klt hn hN k
  have hk : k.val < 16 := lt_of_lt_of_le hkn hn
  unfold k0_t1_body
  dsimp only
  iintro ⟨H5, H0, HW, HIX, HIS, HIG0, HIG1, HIG2, HIG3, HIG4, HIG5, HIG6, H9, H10, HO, HRow⟩ K
  icases H9 with ⟨%f9, H9⟩
  icases H10 with ⟨%f10, H10⟩
  iapply (W_bind c)
  rw [k0_part60_eq_skeleton]
  unfold k0_part60_skel
  dsimp only
  iapply (W_bind c)
  iapply (part5 c hw hn hN hT k _ _) $$ [H5 H0 HW HIX HIS]
  · isplitl [H5]; · iexact H5
    isplitl [H0]; · iexact H0
    isplitl [HW]; · iexact HW
    isplitl [HIX]; · iexact HIX
    iexact HIS
  iintro %r0_5 %r1_5 %r2_5 %r3_5 %r4_5 %r5_5 %r6_5 %r7_5 %g6_5 %g7_5 ⟨%h_5, H5, H0, HW, H6, HS6, HK6, H7, HS7, HK7⟩
  iapply (W_bind c)
  iapply (part6 c _ _ _)
  iintro %r0_6 %r1_6 %r2_6 %h_6
  iapply (W_bind c)
  iapply (part7 c _ _ _ _ _ _) $$ [H9]
  · iexact H9
  iintro %r0_7 %g9_7 ⟨%h_7, H9⟩
  iapply (W_bind c)
  iapply (part8 c hw hn hN hT k _ _) $$ [H10 H6]
  · isplitl [H10]; · iexact H10
    iexact H6
  iintro %r0_8 %r1_8 %r2_8 %r3_8 %g10_8 ⟨%h_8, H10, H6⟩
  iapply (W_bind c)
  iapply (part9 c _ _ _ _)
  iintro %r0_9 %r1_9 %r2_9 %h_9
  iapply (W_bind c)
  iapply (part10 c hw hn hN hT k _ _ _ _ _) $$ [H9 H10 H6]
  · isplitl [H9]; · iexact H9
    isplitl [H10]; · iexact H10
    iexact H6
  iintro %r0_10 %r1_10 %r2_10 %r3_10 %r4_10 %g9_10 %g10_10 ⟨%h_10, H9, H10, H6⟩
  iapply (W_bind c)
  iapply (part11 c _ _ _ _)
  iintro %r0_11 %r1_11 %h_11
  iapply (W_bind c)
  iapply (part12 c hw hn hN hT k _ _ _ _ _) $$ [H9 H10 H6]
  · isplitl [H9]; · iexact H9
    isplitl [H10]; · iexact H10
    iexact H6
  iintro %r0_12 %g9_12 %g10_12 ⟨%h_12, H9, H10, H6⟩
  iapply (W_bind c)
  iapply (part13 c _)
  iintro %r0_13 %r1_13 %r2_13 %r3_13 %r4_13 %h_13
  iapply (W_bind c)
  iapply (part14 c _ _ _ _ _)
  iintro %r0_14 %r1_14 %r2_14 %h_14
  iapply (W_bind c)
  iapply (part15 c hw hn hN hT k _ _ _ _ _) $$ [H9 H10 H6]
  · isplitl [H9]; · iexact H9
    isplitl [H10]; · iexact H10
    iexact H6
  iintro %r0_15 %r1_15 %r2_15 %r3_15 %r4_15 %g9_15 %g10_15 ⟨%h_15, H9, H10, H6⟩
  iapply (W_bind c)
  iapply (part16 c _ _ _ _)
  iintro %r0_16 %r1_16 %h_16
  iapply (W_bind c)
  iapply (part17 c hw hn hN hT k _ _ _ _ _) $$ [H9 H10 H6]
  · isplitl [H9]; · iexact H9
    isplitl [H10]; · iexact H10
    iexact H6
  iintro %r0_17 %r1_17 %r2_17 %r3_17 %g9_17 %g10_17 ⟨%h_17, H9, H10, H6⟩
  iapply (W_bind c)
  iapply (part18 c _ _ _)
  iintro %r0_18 %r1_18 %r2_18 %h_18
  iapply (W_bind c)
  iapply (part19 c _ _ _ _ _ _) $$ [H9]
  · iexact H9
  iintro %r0_19 %g9_19 ⟨%h_19, H9⟩
  iapply (W_bind c)
  iapply (part20 c hw hn hN hT k _ _) $$ [H10 H6]
  · isplitl [H10]; · iexact H10
    iexact H6
  iintro %r0_20 %r1_20 %r2_20 %r3_20 %g10_20 ⟨%h_20, H10, H6⟩
  iapply (W_bind c)
  iapply (part21 c _ _ _ _)
  iintro %r0_21 %r1_21 %r2_21 %h_21
  iapply (W_bind c)
  iapply (part22 c hw hn hN hT k _ _ _ _ _) $$ [H9 H10 H6]
  · isplitl [H9]; · iexact H9
    isplitl [H10]; · iexact H10
    iexact H6
  iintro %r0_22 %r1_22 %r2_22 %r3_22 %r4_22 %g9_22 %g10_22 ⟨%h_22, H9, H10, H6⟩
  iapply (W_bind c)
  iapply (part23 c _ _ _ _)
  iintro %r0_23 %r1_23 %h_23
  iapply (W_bind c)
  iapply (part24 c hw hn hN hT k _ _ _ _ _) $$ [H9 H10 H6]
  · isplitl [H9]; · iexact H9
    isplitl [H10]; · iexact H10
    iexact H6
  iintro %r0_24 %g9_24 %g10_24 ⟨%h_24, H9, H10, H6⟩
  iapply (W_bind c)
  iapply (part25 c _)
  iintro %r0_25 %r1_25 %r2_25 %r3_25 %r4_25 %h_25
  iapply (W_bind c)
  iapply (part26 c _ _ _ _ _)
  iintro %r0_26 %r1_26 %r2_26 %h_26
  iapply (W_bind c)
  iapply (part27 c hw hn hN hT k _ _ _ _ _) $$ [H9 H10 H6]
  · isplitl [H9]; · iexact H9
    isplitl [H10]; · iexact H10
    iexact H6
  iintro %r0_27 %r1_27 %r2_27 %r3_27 %r4_27 %g9_27 %g10_27 ⟨%h_27, H9, H10, H6⟩
  iapply (W_bind c)
  iapply (part28 c _ _ _ _)
  iintro %r0_28 %r1_28 %h_28
  iapply (W_bind c)
  iapply (part29 c hw hn hN hT k _ _ _ _ _) $$ [H9 H10 H6]
  · isplitl [H9]; · iexact H9
    isplitl [H10]; · iexact H10
    iexact H6
  iintro %r0_29 %r1_29 %r2_29 %r3_29 %g9_29 %g10_29 ⟨%h_29, H9, H10, H6⟩
  iapply (W_bind c)
  iapply (part30 c _ _ _)
  iintro %r0_30 %r1_30 %r2_30 %h_30
  iapply (W_bind c)
  iapply (part31 c _ _ _ _ _ _) $$ [H9]
  · iexact H9
  iintro %r0_31 %g9_31 ⟨%h_31, H9⟩
  iapply (W_bind c)
  iapply (part32 c hw hn hN hT k _ _) $$ [H10 H6]
  · isplitl [H10]; · iexact H10
    iexact H6
  iintro %r0_32 %r1_32 %r2_32 %r3_32 %g10_32 ⟨%h_32, H10, H6⟩
  iapply (W_bind c)
  iapply (part33 c _ _ _ _)
  iintro %r0_33 %r1_33 %r2_33 %h_33
  iapply (W_bind c)
  iapply (part34 c hw hn hN hT k _ _ _ _ _ _ _) $$ [H9 H10 H5 HO HW H6 HS6 HK6 H7 HS7 HK7]
  · isplitl [H9]; · iexact H9
    isplitl [H10]; · iexact H10
    isplitl [H5]; · iexact H5
    isplitl [HO]; · iexact HO
    isplitl [HW]; · iexact HW
    isplitl [H6]; · iexact H6
    isplitl [HS6]; · iexact HS6
    isplitl [HK6]; · iexact HK6
    isplitl [H7]; · iexact H7
    isplitl [HS7]; · iexact HS7
    iexact HK7
  iintro %r0_34 %r1_34 %r2_34 %g9_34 %g10_34 ⟨%h_34, H9, H10, H5, HW, HOF, HR, HX, HS⟩
  unfold Ofree
  icases HOF with ⟨⟨%f11, H11⟩, HSO⟩
  iapply (W_bind c)
  iapply (part35 c hw hn hN hT k _ _ _ _) $$ [HW HIG0 H9 H10 H11]
  · isplitl [HW]; · iexact HW
    isplitl [HIG0]; · iexact HIG0
    isplitl [H9]; · iexact H9
    isplitl [H10]; · iexact H10
    iexact H11
  iintro %r0_35 %g11_35 %g8_35 ⟨%h_35, HW, H8_0, HS0, HK0, H9, H10, H11⟩
  iapply (W_bind c)
  iapply (part36 c hw hn hN hT k _ _ _) $$ [H9 H10 H8_0 H11]
  · isplitl [H9]; · iexact H9
    isplitl [H10]; · iexact H10
    isplitl [H8_0]; · iexact H8_0
    iexact H11
  iintro %r0_36 %g11_36 ⟨%h_36, H9, H10, H8_0, H11⟩
  iapply (W_bind c)
  iapply (part37 c hw hn hN hT k _ _ _) $$ [H8_0 H11 H9 H10]
  · isplitl [H8_0]; · iexact H8_0
    isplitl [H11]; · iexact H11
    isplitl [H9]; · iexact H9
    iexact H10
  iintro %r0_37 %r1_37 %g11_37 ⟨%h_37, H8_0, H11, H9, H10⟩
  iapply (W_bind c)
  iapply (part38 c hw hn hN hT k _ _ _ _ _ _) $$ [H11 H5 H8_0 HS0 HK0 HW HIG1 H9 H10]
  · isplitl [H11]; · iexact H11
    isplitl [H5]; · iexact H5
    isplitl [H8_0]; · iexact H8_0
    isplitl [HS0]; · iexact HS0
    isplitl [HK0]; · iexact HK0
    isplitl [HW]; · iexact HW
    isplitl [HIG1]; · iexact HIG1
    isplitl [H9]; · iexact H9
    iexact H10
  iintro %r0_38 %g11_38 %g8_38 ⟨%h_38, H11, H5, HG0, HW, H8_1, HS1, HK1, H9, H10⟩
  iapply (W_bind c)
  iapply (part39 c hw hn hN hT k _ _ _) $$ [H8_1 H11 H9 H10]
  · isplitl [H8_1]; · iexact H8_1
    isplitl [H11]; · iexact H11
    isplitl [H9]; · iexact H9
    iexact H10
  iintro %r0_39 %r1_39 %g11_39 ⟨%h_39, H8_1, H11, H9, H10⟩
  iapply (W_bind c)
  iapply (part40 c hw hn hN hT k _ _ _ _) $$ [H11 H9 H10 H8_1]
  · isplitl [H11]; · iexact H11
    isplitl [H9]; · iexact H9
    isplitl [H10]; · iexact H10
    iexact H8_1
  iintro %r0_40 %g11_40 ⟨%h_40, H11, H9, H10, H8_1⟩
  iapply (W_bind c)
  iapply (part41 c hw hn hN hT k _ _ _ _ _) $$ [H11 H9 H10 H8_1]
  · isplitl [H11]; · iexact H11
    isplitl [H9]; · iexact H9
    isplitl [H10]; · iexact H10
    iexact H8_1
  iintro %r0_41 %g11_41 ⟨%h_41, H11, H9, H10, H8_1⟩
  iapply (W_bind c)
  iapply (part42 c hw hn hN hT k _ _ _ _) $$ [H5 H8_1 HS1 HK1 HW HIG2 H9 H10 H11]
  · isplitl [H5]; · iexact H5
    isplitl [H8_1]; · iexact H8_1
    isplitl [HS1]; · iexact HS1
    isplitl [HK1]; · iexact HK1
    isplitl [HW]; · iexact HW
    isplitl [HIG2]; · iexact HIG2
    isplitl [H9]; · iexact H9
    isplitl [H10]; · iexact H10
    iexact H11
  iintro %r0_42 %g11_42 %g8_42 ⟨%h_42, H5, HG1, HW, H8_2, HS2, HK2, H9, H10, H11⟩
  iapply (W_bind c)
  iapply (part43 c hw hn hN hT k _ _ _) $$ [H11 H9 H10 H8_2]
  · isplitl [H11]; · iexact H11
    isplitl [H9]; · iexact H9
    isplitl [H10]; · iexact H10
    iexact H8_2
  iintro %r0_43 %g11_43 ⟨%h_43, H11, H9, H10, H8_2⟩
  iapply (W_bind c)
  iapply (part44 c hw hn hN hT k _ _ _) $$ [H10 H9 H8_2 H11]
  · isplitl [H10]; · iexact H10
    isplitl [H9]; · iexact H9
    isplitl [H8_2]; · iexact H8_2
    iexact H11
  iintro %r0_44 %r1_44 %r2_44 %g11_44 ⟨%h_44, H10, H9, H8_2, H11⟩
  iapply (W_bind c)
  iapply (part45 c hw hn hN hT k _ _ _ _ _ _ _) $$ [H8_2 H11 H5 HS2 HK2 HW HIG3 H9]
  · isplitl [H8_2]; · iexact H8_2
    isplitl [H11]; · iexact H11
    isplitl [H5]; · iexact H5
    isplitl [HS2]; · iexact HS2
    isplitl [HK2]; · iexact HK2
    isplitl [HW]; · iexact HW
    isplitl [HIG3]; · iexact HIG3
    iexact H9
  iintro %r0_45 %g11_45 %g8_45 ⟨%h_45, H11, H5, HG2, HW, H8_3, HS3, HK3, H9⟩
  iapply (W_bind c)
  iapply (part46 c hw hn hN hT k _ _ _) $$ [H10 H9 H8_3 H11]
  · isplitl [H10]; · iexact H10
    isplitl [H9]; · iexact H9
    isplitl [H8_3]; · iexact H8_3
    iexact H11
  iintro %r0_46 %r1_46 %r2_46 %g11_46 ⟨%h_46, H10, H9, H8_3, H11⟩
  iapply (W_bind c)
  iapply (part47 c hw hn hN hT k _ _ _ _ _) $$ [H8_3 H11 H9 H10]
  · isplitl [H8_3]; · iexact H8_3
    isplitl [H11]; · iexact H11
    isplitl [H9]; · iexact H9
    iexact H10
  iintro %r0_47 %r1_47 %g11_47 ⟨%h_47, H8_3, H11, H9, H10⟩
  iapply (W_bind c)
  iapply (part48 c hw hn hN hT k _ _ _ _) $$ [H11 H9 H10 H8_3]
  · isplitl [H11]; · iexact H11
    isplitl [H9]; · iexact H9
    isplitl [H10]; · iexact H10
    iexact H8_3
  iintro %r0_48 %g11_48 ⟨%h_48, H11, H9, H10, H8_3⟩
  iapply (W_bind c)
  iapply (part49 c hw hn hN hT k _ _ _ _ _) $$ [H11 H5 H8_3 HS3 HK3 HW HIG4 H9 H10]
  · isplitl [H11]; · iexact H11
    isplitl [H5]; · iexact H5
    isplitl [H8_3]; · iexact H8_3
    isplitl [HS3]; · iexact HS3
    isplitl [HK3]; · iexact HK3
    isplitl [HW]; · iexact HW
    isplitl [HIG4]; · iexact HIG4
    isplitl [H9]; · iexact H9
    iexact H10
  iintro %r0_49 %r1_49 %g11_49 %g8_49 ⟨%h_49, H11, H5, HG3, HW, H8_4, HS4, HK4, H9, H10⟩
  iapply (W_bind c)
  iapply (part50 c hw hn hN hT k _ _ _ _) $$ [H11 H9 H10 H8_4]
  · isplitl [H11]; · iexact H11
    isplitl [H9]; · iexact H9
    isplitl [H10]; · iexact H10
    iexact H8_4
  iintro %r0_50 %g11_50 ⟨%h_50, H11, H9, H10, H8_4⟩
  iapply (W_bind c)
  iapply (part51 c hw hn hN hT k _ _ _) $$ [H11 H9 H10 H8_4]
  · isplitl [H11]; · iexact H11
    isplitl [H9]; · iexact H9
    isplitl [H10]; · iexact H10
    iexact H8_4
  iintro %r0_51 %g11_51 ⟨%h_51, H11, H9, H10, H8_4⟩
  iapply (W_bind c)
  iapply (part52 c hw hn hN hT k _ _ _ _ _) $$ [H11 H9 H10 H8_4 H5 HS4 HK4]
  · isplitl [H11]; · iexact H11
    isplitl [H9]; · iexact H9
    isplitl [H10]; · iexact H10
    isplitl [H8_4]; · iexact H8_4
    isplitl [H5]; · iexact H5
    isplitl [HS4]; · iexact HS4
    iexact HK4
  iintro %r0_52 %r1_52 %g11_52 ⟨%h_52, H11, H9, H10, H5, HG4⟩
  iapply (W_bind c)
  iapply (part53 c hw hn hN hT k _ _ _ _) $$ [HW HIG5 H9 H10 H11]
  · isplitl [HW]; · iexact HW
    isplitl [HIG5]; · iexact HIG5
    isplitl [H9]; · iexact H9
    isplitl [H10]; · iexact H10
    iexact H11
  iintro %r0_53 %g11_53 %g8_53 ⟨%h_53, HW, H8_5, HS5, HK5, H9, H10, H11⟩
  iapply (W_bind c)
  iapply (part54 c hw hn hN hT k _ _ _) $$ [H11 H9 H10 H8_5]
  · isplitl [H11]; · iexact H11
    isplitl [H9]; · iexact H9
    isplitl [H10]; · iexact H10
    iexact H8_5
  iintro %r0_54 %g11_54 ⟨%h_54, H11, H9, H10, H8_5⟩
  iapply (W_bind c)
  iapply (part55 c hw hn hN hT k _ _ _) $$ [H9 H10 H8_5 H11]
  · isplitl [H9]; · iexact H9
    isplitl [H10]; · iexact H10
    isplitl [H8_5]; · iexact H8_5
    iexact H11
  iintro %r0_55 %g11_55 ⟨%h_55, H9, H10, H8_5, H11⟩
  iapply (W_bind c)
  iapply (part56 c hw hn hN hT k _ _ _ _ _) $$ [H8_5 H11 H5 HS5 HK5 HW HIG6 H9 H10]
  · isplitl [H8_5]; · iexact H8_5
    isplitl [H11]; · iexact H11
    isplitl [H5]; · iexact H5
    isplitl [HS5]; · iexact HS5
    isplitl [HK5]; · iexact HK5
    isplitl [HW]; · iexact HW
    isplitl [HIG6]; · iexact HIG6
    isplitl [H9]; · iexact H9
    iexact H10
  iintro %r0_56 %g11_56 %g8_56 ⟨%h_56, H11, H5, HG5, HW, H8_6, HS6, HK6, H9, H10⟩
  iapply (W_bind c)
  iapply (part57 c hw hn hN hT k _ _ _) $$ [H9 H10 H8_6 H11]
  · isplitl [H9]; · iexact H9
    isplitl [H10]; · iexact H10
    isplitl [H8_6]; · iexact H8_6
    iexact H11
  iintro %r0_57 %g11_57 ⟨%h_57, H9, H10, H8_6, H11⟩
  iapply (W_bind c)
  iapply (part58 c hw hn hN hT k _ _ _) $$ [H8_6 H11 H9 H10]
  · isplitl [H8_6]; · iexact H8_6
    isplitl [H11]; · iexact H11
    isplitl [H9]; · iexact H9
    iexact H10
  iintro %r0_58 %r1_58 %g11_58 ⟨%h_58, H8_6, H11, H9, H10⟩
  iapply (W_bind c)
  iapply (part59 c hw hn hN hT k _ _ _ _) $$ [H11 H9 H10 H8_6]
  · isplitl [H11]; · iexact H11
    isplitl [H9]; · iexact H9
    isplitl [H10]; · iexact H10
    iexact H8_6
  iintro %r0_59 %g11_59 ⟨%h_59, H11, H9, H10, H8_6⟩
  iapply (ld11 c (sl k.val) 7040 (off204 k hk) (by decide)) $$ H11
  iintro H11
  iapply W_pure
  iapply (st11 c (sl k.val) 7040 (off204 k hk) (by decide)) $$ H11
  iintro H11
  iapply (if43 c hw hn hN hT k) $$ [H5 H8_6 HS6 HK6]
  · isplitl [H5]; · iexact H5
    isplitl [H8_6]; · iexists _; iexact H8_6
    isplitl [HS6]; · iexact HS6
    iexact HK6
  iintro ⟨H5, HG6⟩
  iapply (lw5 c (p16 k.val) (off209 k hk)) $$ H5
  iintro H5
  iapply (W_assume c (by rw [hT _ hkn]; exact chk54 _))
  iapply (startO c (sl k.val) (act k.val) (v := (oW (sl k.val)).view.read (Elt F) (put11 g11_59 _ _)) (off210 k hk) (off212 k hk) (by rw [hT _ hkn]; exact off211 _) rfl) $$ [H11 HSO HRow]
  · isplitl [H11]; · iexact H11
    isplitl [HSO]; · iexact HSO
    iexact HRow
  iintro HOin
  iapply W_pure
  iapply K
  isplitl [HOin]; · iexact HOin
  isplitr
  · ipureintro; have q9_0 : In9 fx (act k.val) 0 f9 := fun i hi => absurd hi (by omega)
    have q10_0 : In10 fs (act k.val) 0 f10 := fun i hi => absurd hi (by omega)
    have q11_0 : In11 fx fs fw fg (act k.val) (sl k.val) 0 f11 := fun c n hn => absurd hn (by omega)
    obtain ⟨rfl, rfl, rfl, rfl, rfl, rfl, rfl, rfl, w6, w7⟩ := h_5
    obtain ⟨rfl, rfl, rfl⟩ := h_6
    obtain ⟨rfl, e9_7⟩ := h_7
    have q9_1 : In9 fx (act k.val) 1 g9_7 := by
      rw [e9_7]
      exact (In9.step q9_0 (by decide) rfl (congrArg blk (rd6 w6 0 (by decide) (off45 k hk))))
    obtain ⟨rfl, rfl, rfl, rfl, e10_8⟩ := h_8
    have q10_1 : In10 fs (act k.val) 1 g10_8 := by
      rw [e10_8]
      exact (In10.step q10_0 (by decide) rfl (fun i => (col_0 _ i).trans (congrArg (fun S => k0_pay1 S (ix2 (i 0) _)) (rd7 w7 (off44 k hk)))))
    obtain ⟨rfl, rfl, rfl⟩ := h_9
    obtain ⟨rfl, rfl, rfl, rfl, rfl, e9_10, e10_10⟩ := h_10
    have q9_2 : In9 fx (act k.val) 2 g9_10 := by
      rw [e9_10]
      exact (In9.step q9_1 (by decide) rfl ((blk_1 _).trans (congrArg blk (rd6 w6 1 (by decide) (off46 k hk)))))
    have q10_2 : In10 fs (act k.val) 2 g10_10 := by
      rw [e10_10]
      exact (In10.step q10_1 (by decide) rfl (fun i => (col_1 _ i).trans (congrArg (fun S => k0_pay1 S (ix2 (i 0) _)) (rd7 w7 (off44 k hk)))))
    obtain ⟨rfl, rfl⟩ := h_11
    obtain ⟨rfl, e9_12, e10_12⟩ := h_12
    have q9_3 : In9 fx (act k.val) 3 g9_12 := by
      rw [e9_12]
      exact (In9.step q9_2 (by decide) rfl ((blk_2 _).trans (congrArg blk (rd6 w6 2 (by decide) (off47 k hk)))))
    have q10_3 : In10 fs (act k.val) 3 g10_12 := by
      rw [e10_12]
      exact (In10.step q10_2 (by decide) rfl (fun i => (col_2 _ i).trans (congrArg (fun S => k0_pay1 S (ix2 (i 0) _)) (rd7 w7 (off44 k hk)))))
    obtain ⟨rfl, rfl, rfl, rfl, rfl⟩ := h_13
    obtain ⟨rfl, rfl, rfl⟩ := h_14
    obtain ⟨rfl, rfl, rfl, rfl, rfl, e9_15, e10_15⟩ := h_15
    have q9_4 : In9 fx (act k.val) 4 g9_15 := by
      rw [e9_15]
      exact (In9.step q9_3 (by decide) rfl ((blk_3 _).trans (congrArg blk (rd6 w6 3 (by decide) (off48 k hk)))))
    have q10_4 : In10 fs (act k.val) 4 g10_15 := by
      rw [e10_15]
      exact (In10.step q10_3 (by decide) rfl (fun i => (col_3 _ i).trans (congrArg (fun S => k0_pay1 S (ix2 (i 0) _)) (rd7 w7 (off44 k hk)))))
    obtain ⟨rfl, rfl⟩ := h_16
    obtain ⟨rfl, rfl, rfl, rfl, e9_17, e10_17⟩ := h_17
    have q9_5 : In9 fx (act k.val) 5 g9_17 := by
      rw [e9_17]
      exact (In9.step q9_4 (by decide) rfl ((blk_4 _).trans (congrArg blk (rd6 w6 4 (by decide) (off49 k hk)))))
    have q10_5 : In10 fs (act k.val) 5 g10_17 := by
      rw [e10_17]
      exact (In10.step q10_4 (by decide) rfl (fun i => (col_4 _ i).trans (congrArg (fun S => k0_pay1 S (ix2 (i 0) _)) (rd7 w7 (off44 k hk)))))
    obtain ⟨rfl, rfl, rfl⟩ := h_18
    obtain ⟨rfl, e9_19⟩ := h_19
    have q9_6 : In9 fx (act k.val) 6 g9_19 := by
      rw [e9_19]
      exact (In9.step q9_5 (by decide) rfl ((blk_5 _).trans (congrArg blk (rd6 w6 5 (by decide) (off50 k hk)))))
    obtain ⟨rfl, rfl, rfl, rfl, e10_20⟩ := h_20
    have q10_6 : In10 fs (act k.val) 6 g10_20 := by
      rw [e10_20]
      exact (In10.step q10_5 (by decide) rfl (fun i => (col_5 _ i).trans (congrArg (fun S => k0_pay1 S (ix2 (i 0) _)) (rd7 w7 (off44 k hk)))))
    obtain ⟨rfl, rfl, rfl⟩ := h_21
    obtain ⟨rfl, rfl, rfl, rfl, rfl, e9_22, e10_22⟩ := h_22
    have q9_7 : In9 fx (act k.val) 7 g9_22 := by
      rw [e9_22]
      exact (In9.step q9_6 (by decide) rfl ((blk_6 _).trans (congrArg blk (rd6 w6 6 (by decide) (off51 k hk)))))
    have q10_7 : In10 fs (act k.val) 7 g10_22 := by
      rw [e10_22]
      exact (In10.step q10_6 (by decide) rfl (fun i => (col_6 _ i).trans (congrArg (fun S => k0_pay1 S (ix2 (i 0) _)) (rd7 w7 (off44 k hk)))))
    obtain ⟨rfl, rfl⟩ := h_23
    obtain ⟨rfl, e9_24, e10_24⟩ := h_24
    have q9_8 : In9 fx (act k.val) 8 g9_24 := by
      rw [e9_24]
      exact (In9.step q9_7 (by decide) rfl ((blk_7 _).trans (congrArg blk (rd6 w6 7 (by decide) (off52 k hk)))))
    have q10_8 : In10 fs (act k.val) 8 g10_24 := by
      rw [e10_24]
      exact (In10.step q10_7 (by decide) rfl (fun i => (col_7 _ i).trans (congrArg (fun S => k0_pay1 S (ix2 (i 0) _)) (rd7 w7 (off44 k hk)))))
    obtain ⟨rfl, rfl, rfl, rfl, rfl⟩ := h_25
    obtain ⟨rfl, rfl, rfl⟩ := h_26
    obtain ⟨rfl, rfl, rfl, rfl, rfl, e9_27, e10_27⟩ := h_27
    have q9_9 : In9 fx (act k.val) 9 g9_27 := by
      rw [e9_27]
      exact (In9.step q9_8 (by decide) rfl ((blk_8 _).trans (congrArg blk (rd6 w6 8 (by decide) (off53 k hk)))))
    have q10_9 : In10 fs (act k.val) 9 g10_27 := by
      rw [e10_27]
      exact (In10.step q10_8 (by decide) rfl (fun i => (col_8 _ i).trans (congrArg (fun S => k0_pay1 S (ix2 (i 0) _)) (rd7 w7 (off44 k hk)))))
    obtain ⟨rfl, rfl⟩ := h_28
    obtain ⟨rfl, rfl, rfl, rfl, e9_29, e10_29⟩ := h_29
    have q9_10 : In9 fx (act k.val) 10 g9_29 := by
      rw [e9_29]
      exact (In9.step q9_9 (by decide) rfl ((blk_9 _).trans (congrArg blk (rd6 w6 9 (by decide) (off54 k hk)))))
    have q10_10 : In10 fs (act k.val) 10 g10_29 := by
      rw [e10_29]
      exact (In10.step q10_9 (by decide) rfl (fun i => (col_9 _ i).trans (congrArg (fun S => k0_pay1 S (ix2 (i 0) _)) (rd7 w7 (off44 k hk)))))
    obtain ⟨rfl, rfl, rfl⟩ := h_30
    obtain ⟨rfl, e9_31⟩ := h_31
    have q9_11 : In9 fx (act k.val) 11 g9_31 := by
      rw [e9_31]
      exact (In9.step q9_10 (by decide) rfl ((blk_10 _).trans (congrArg blk (rd6 w6 10 (by decide) (off55 k hk)))))
    obtain ⟨rfl, rfl, rfl, rfl, e10_32⟩ := h_32
    have q10_11 : In10 fs (act k.val) 11 g10_32 := by
      rw [e10_32]
      exact (In10.step q10_10 (by decide) rfl (fun i => (col_10 _ i).trans (congrArg (fun S => k0_pay1 S (ix2 (i 0) _)) (rd7 w7 (off44 k hk)))))
    obtain ⟨rfl, rfl, rfl⟩ := h_33
    obtain ⟨rfl, rfl, e9_34, e10_34⟩ := h_34
    have q9_12 : In9 fx (act k.val) 12 g9_34 := by
      rw [e9_34]
      exact (In9.step q9_11 (by decide) rfl ((blk_11 _).trans (congrArg blk (rd6 w6 11 (by decide) (off56 k hk)))))
    have q10_12 : In10 fs (act k.val) 12 g10_34 := by
      rw [e10_34]
      exact (In10.step q10_11 (by decide) rfl (fun i => (col_11 _ i).trans (congrArg (fun S => k0_pay1 S (ix2 (i 0) _)) (rd7 w7 (off44 k hk)))))
    obtain ⟨rfl, e11_35, w8_0⟩ := h_35
    have q11_2 : In11 fx fs fw fg (act k.val) (sl k.val) 2 g11_35 := by
      rw [e11_35]
      exact (In11.step (In11.step q11_0 (off74 k hk) (yE 0 rfl (rd9 q9_12) (rd10 q10_12 0 (by decide) rfl) (rd10 q10_12 1 (by decide) rfl) (rd8 w8_0 0 rfl (off73 k hk)))) (off75 k hk) (yO 0 rfl (rd9 q9_12) (rd10 q10_12 0 (by decide) rfl) (rd10 q10_12 1 (by decide) rfl) (rd8 w8_0 0 rfl (off73 k hk))))
    obtain ⟨rfl, e11_36⟩ := h_36
    have q11_4 : In11 fx fs fw fg (act k.val) (sl k.val) 4 g11_36 := by
      rw [e11_36]
      exact (In11.step (In11.step q11_2 (off77 k hk) ((out_2 _ _ _ _ _).trans (yE 1 rfl (rd9 q9_12) (rd10 q10_12 2 (by decide) rfl) (rd10 q10_12 3 (by decide) rfl) (rd8 w8_0 1 rfl (off76 k hk))))) (off78 k hk) ((out_3 _ _ _ _ _).trans (yO 1 rfl (rd9 q9_12) (rd10 q10_12 2 (by decide) rfl) (rd10 q10_12 3 (by decide) rfl) (rd8 w8_0 1 rfl (off76 k hk)))))
    obtain ⟨rfl, rfl, e11_37⟩ := h_37
    have q11_6 : In11 fx fs fw fg (act k.val) (sl k.val) 6 g11_37 := by
      rw [e11_37]
      exact (In11.step (In11.step q11_4 (off80 k hk) ((out_4 _ _ _ _ _).trans (yE 2 rfl (rd9 q9_12) (rd10 q10_12 4 (by decide) rfl) (rd10 q10_12 5 (by decide) rfl) (rd8 w8_0 2 rfl (off79 k hk))))) (off81 k hk) ((out_5 _ _ _ _ _).trans (yO 2 rfl (rd9 q9_12) (rd10 q10_12 4 (by decide) rfl) (rd10 q10_12 5 (by decide) rfl) (rd8 w8_0 2 rfl (off79 k hk)))))
    obtain ⟨rfl, e11_38, w8_1⟩ := h_38
    have q11_8 : In11 fx fs fw fg (act k.val) (sl k.val) 8 g11_38 := by
      rw [e11_38]
      exact (In11.step (In11.step q11_6 (off83 k hk) ((out_6 _ _ _ _ _).trans (yE 3 rfl (rd9 q9_12) (rd10 q10_12 6 (by decide) rfl) (rd10 q10_12 7 (by decide) rfl) (rd8 w8_0 3 rfl (off82 k hk))))) (off84 k hk) ((out_7 _ _ _ _ _).trans (yO 3 rfl (rd9 q9_12) (rd10 q10_12 6 (by decide) rfl) (rd10 q10_12 7 (by decide) rfl) (rd8 w8_0 3 rfl (off82 k hk)))))
    obtain ⟨rfl, rfl, e11_39⟩ := h_39
    have q11_10 : In11 fx fs fw fg (act k.val) (sl k.val) 10 g11_39 := by
      rw [e11_39]
      exact (In11.step (In11.step q11_8 (off94 k hk) ((out_8 _ _ _ _ _).trans (yE 4 rfl (rd9 q9_12) (rd10 q10_12 8 (by decide) rfl) (rd10 q10_12 9 (by decide) rfl) (rd8 w8_1 4 rfl (off93 k hk))))) (off95 k hk) ((out_9 _ _ _ _ _).trans (yO 4 rfl (rd9 q9_12) (rd10 q10_12 8 (by decide) rfl) (rd10 q10_12 9 (by decide) rfl) (rd8 w8_1 4 rfl (off93 k hk)))))
    obtain ⟨rfl, e11_40⟩ := h_40
    have q11_13 : In11 fx fs fw fg (act k.val) (sl k.val) 13 g11_40 := by
      rw [e11_40]
      exact (In11.step (In11.step (In11.step q11_10 (off97 k hk) ((out_10 _ _ _ _ _).trans (yE 5 rfl (rd9 q9_12) (rd10 q10_12 10 (by decide) rfl) (rd10 q10_12 11 (by decide) rfl) (rd8 w8_1 5 rfl (off96 k hk))))) (off98 k hk) ((out_11 _ _ _ _ _).trans (yO 5 rfl (rd9 q9_12) (rd10 q10_12 10 (by decide) rfl) (rd10 q10_12 11 (by decide) rfl) (rd8 w8_1 5 rfl (off96 k hk))))) (off100 k hk) ((out_12 _ _ _ _ _).trans (yE 6 rfl (rd9 q9_12) (rd10 q10_12 12 (by decide) rfl) (rd10 q10_12 13 (by decide) rfl) (rd8 w8_1 6 rfl (off99 k hk)))))
    obtain ⟨rfl, e11_41⟩ := h_41
    have q11_16 : In11 fx fs fw fg (act k.val) (sl k.val) 16 g11_41 := by
      rw [e11_41]
      exact (In11.step (In11.step (In11.step q11_13 (off101 k hk) ((out_13 _ _ _ _ _).trans (yO 6 rfl (rd9 q9_12) (rd10 q10_12 12 (by decide) rfl) (rd10 q10_12 13 (by decide) rfl) (rd8 w8_1 6 rfl (off99 k hk))))) (off103 k hk) ((out_14 _ _ _ _ _).trans (yE 7 rfl (rd9 q9_12) (rd10 q10_12 14 (by decide) rfl) (rd10 q10_12 15 (by decide) rfl) (rd8 w8_1 7 rfl (off102 k hk))))) (off104 k hk) ((out_15 _ _ _ _ _).trans (yO 7 rfl (rd9 q9_12) (rd10 q10_12 14 (by decide) rfl) (rd10 q10_12 15 (by decide) rfl) (rd8 w8_1 7 rfl (off102 k hk)))))
    obtain ⟨rfl, e11_42, w8_2⟩ := h_42
    have q11_17 : In11 fx fs fw fg (act k.val) (sl k.val) 17 g11_42 := by
      rw [e11_42]
      exact (In11.step q11_16 (off114 k hk) ((out_16 _ _ _ _ _).trans (yE 8 rfl (rd9 q9_12) (rd10 q10_12 16 (by decide) rfl) (rd10 q10_12 17 (by decide) rfl) (rd8 w8_2 8 rfl (off113 k hk)))))
    obtain ⟨rfl, e11_43⟩ := h_43
    have q11_20 : In11 fx fs fw fg (act k.val) (sl k.val) 20 g11_43 := by
      rw [e11_43]
      exact (In11.step (In11.step (In11.step q11_17 (off115 k hk) ((out_17 _ _ _ _ _).trans (yO 8 rfl (rd9 q9_12) (rd10 q10_12 16 (by decide) rfl) (rd10 q10_12 17 (by decide) rfl) (rd8 w8_2 8 rfl (off113 k hk))))) (off117 k hk) ((out_18 _ _ _ _ _).trans (yE 9 rfl (rd9 q9_12) (rd10 q10_12 18 (by decide) rfl) (rd10 q10_12 19 (by decide) rfl) (rd8 w8_2 9 rfl (off116 k hk))))) (off118 k hk) ((out_19 _ _ _ _ _).trans (yO 9 rfl (rd9 q9_12) (rd10 q10_12 18 (by decide) rfl) (rd10 q10_12 19 (by decide) rfl) (rd8 w8_2 9 rfl (off116 k hk)))))
    obtain ⟨rfl, rfl, rfl, e11_44⟩ := h_44
    have q11_22 : In11 fx fs fw fg (act k.val) (sl k.val) 22 g11_44 := by
      rw [e11_44]
      exact (In11.step (In11.step q11_20 (off120 k hk) ((out_20 _ _ _ _ _).trans (yE 10 rfl (rd9 q9_12) (rd10 q10_12 20 (by decide) rfl) (rd10 q10_12 21 (by decide) rfl) (rd8 w8_2 10 rfl (off119 k hk))))) (off121 k hk) ((out_21 _ _ _ _ _).trans (yO 10 rfl (rd9 q9_12) (rd10 q10_12 20 (by decide) rfl) (rd10 q10_12 21 (by decide) rfl) (rd8 w8_2 10 rfl (off119 k hk)))))
    obtain ⟨rfl, e11_45, w8_3⟩ := h_45
    have q11_24 : In11 fx fs fw fg (act k.val) (sl k.val) 24 g11_45 := by
      rw [e11_45]
      exact (In11.step (In11.step q11_22 (off123 k hk) ((out_22 _ _ _ _ _).trans (yE 11 rfl (rd9 q9_12) (rd10 q10_12 22 (by decide) rfl) (rd10 q10_12 23 (by decide) rfl) (rd8 w8_2 11 rfl (off122 k hk))))) (off124 k hk) ((out_23 _ _ _ _ _).trans (yO 11 rfl (rd9 q9_12) (rd10 q10_12 22 (by decide) rfl) (rd10 q10_12 23 (by decide) rfl) (rd8 w8_2 11 rfl (off122 k hk)))))
    obtain ⟨rfl, rfl, rfl, e11_46⟩ := h_46
    have q11_26 : In11 fx fs fw fg (act k.val) (sl k.val) 26 g11_46 := by
      rw [e11_46]
      exact (In11.step (In11.step q11_24 (off134 k hk) ((out_24 _ _ _ _ _).trans (yE 12 rfl (rd9 q9_12) (rd10 q10_12 24 (by decide) rfl) (rd10 q10_12 25 (by decide) rfl) (rd8 w8_3 12 rfl (off133 k hk))))) (off135 k hk) ((out_25 _ _ _ _ _).trans (yO 12 rfl (rd9 q9_12) (rd10 q10_12 24 (by decide) rfl) (rd10 q10_12 25 (by decide) rfl) (rd8 w8_3 12 rfl (off133 k hk)))))
    obtain ⟨rfl, rfl, e11_47⟩ := h_47
    have q11_28 : In11 fx fs fw fg (act k.val) (sl k.val) 28 g11_47 := by
      rw [e11_47]
      exact (In11.step (In11.step q11_26 (off137 k hk) ((out_26 _ _ _ _ _).trans (yE 13 rfl (rd9 q9_12) (rd10 q10_12 26 (by decide) rfl) (rd10 q10_12 27 (by decide) rfl) (rd8 w8_3 13 rfl (off136 k hk))))) (off138 k hk) ((out_27 _ _ _ _ _).trans (yO 13 rfl (rd9 q9_12) (rd10 q10_12 26 (by decide) rfl) (rd10 q10_12 27 (by decide) rfl) (rd8 w8_3 13 rfl (off136 k hk)))))
    obtain ⟨rfl, e11_48⟩ := h_48
    have q11_31 : In11 fx fs fw fg (act k.val) (sl k.val) 31 g11_48 := by
      rw [e11_48]
      exact (In11.step (In11.step (In11.step q11_28 (off140 k hk) ((out_28 _ _ _ _ _).trans (yE 14 rfl (rd9 q9_12) (rd10 q10_12 28 (by decide) rfl) (rd10 q10_12 29 (by decide) rfl) (rd8 w8_3 14 rfl (off139 k hk))))) (off141 k hk) ((out_29 _ _ _ _ _).trans (yO 14 rfl (rd9 q9_12) (rd10 q10_12 28 (by decide) rfl) (rd10 q10_12 29 (by decide) rfl) (rd8 w8_3 14 rfl (off139 k hk))))) (off143 k hk) ((out_30 _ _ _ _ _).trans (yE 15 rfl (rd9 q9_12) (rd10 q10_12 30 (by decide) rfl) (rd10 q10_12 31 (by decide) rfl) (rd8 w8_3 15 rfl (off142 k hk)))))
    obtain ⟨rfl, rfl, e11_49, w8_4⟩ := h_49
    have q11_32 : In11 fx fs fw fg (act k.val) (sl k.val) 32 g11_49 := by
      rw [e11_49]
      exact (In11.step q11_31 (off144 k hk) ((out_31 _ _ _ _ _).trans (yO 15 rfl (rd9 q9_12) (rd10 q10_12 30 (by decide) rfl) (rd10 q10_12 31 (by decide) rfl) (rd8 w8_3 15 rfl (off142 k hk)))))
    obtain ⟨rfl, e11_50⟩ := h_50
    have q11_35 : In11 fx fs fw fg (act k.val) (sl k.val) 35 g11_50 := by
      rw [e11_50]
      exact (In11.step (In11.step (In11.step q11_32 (off154 k hk) ((out_32 _ _ _ _ _).trans (yE 16 rfl (rd9 q9_12) (rd10 q10_12 32 (by decide) rfl) (rd10 q10_12 33 (by decide) rfl) (rd8 w8_4 16 rfl (off153 k hk))))) (off155 k hk) ((out_33 _ _ _ _ _).trans (yO 16 rfl (rd9 q9_12) (rd10 q10_12 32 (by decide) rfl) (rd10 q10_12 33 (by decide) rfl) (rd8 w8_4 16 rfl (off153 k hk))))) (off157 k hk) ((out_34 _ _ _ _ _).trans (yE 17 rfl (rd9 q9_12) (rd10 q10_12 34 (by decide) rfl) (rd10 q10_12 35 (by decide) rfl) (rd8 w8_4 17 rfl (off156 k hk)))))
    obtain ⟨rfl, e11_51⟩ := h_51
    have q11_37 : In11 fx fs fw fg (act k.val) (sl k.val) 37 g11_51 := by
      rw [e11_51]
      exact (In11.step (In11.step q11_35 (off158 k hk) ((out_35 _ _ _ _ _).trans (yO 17 rfl (rd9 q9_12) (rd10 q10_12 34 (by decide) rfl) (rd10 q10_12 35 (by decide) rfl) (rd8 w8_4 17 rfl (off156 k hk))))) (off160 k hk) ((out_36 _ _ _ _ _).trans (yE 18 rfl (rd9 q9_12) (rd10 q10_12 36 (by decide) rfl) (rd10 q10_12 37 (by decide) rfl) (rd8 w8_4 18 rfl (off159 k hk)))))
    obtain ⟨rfl, e11_52⟩ := h_52
    have q11_40 : In11 fx fs fw fg (act k.val) (sl k.val) 40 g11_52 := by
      rw [e11_52]
      exact (In11.step (In11.step (In11.step q11_37 (off161 k hk) ((out_37 _ _ _ _ _).trans (yO 18 rfl (rd9 q9_12) (rd10 q10_12 36 (by decide) rfl) (rd10 q10_12 37 (by decide) rfl) (rd8 w8_4 18 rfl (off159 k hk))))) (off163 k hk) ((out_38 _ _ _ _ _).trans (yE 19 rfl (rd9 q9_12) (rd10 q10_12 38 (by decide) rfl) (rd10 q10_12 39 (by decide) rfl) (rd8 w8_4 19 rfl (off162 k hk))))) (off164 k hk) ((out_39 _ _ _ _ _).trans (yO 19 rfl (rd9 q9_12) (rd10 q10_12 38 (by decide) rfl) (rd10 q10_12 39 (by decide) rfl) (rd8 w8_4 19 rfl (off162 k hk)))))
    obtain ⟨rfl, e11_53, w8_5⟩ := h_53
    have q11_41 : In11 fx fs fw fg (act k.val) (sl k.val) 41 g11_53 := by
      rw [e11_53]
      exact (In11.step q11_40 (off174 k hk) ((out_40 _ _ _ _ _).trans (yE 20 rfl (rd9 q9_12) (rd10 q10_12 40 (by decide) rfl) (rd10 q10_12 41 (by decide) rfl) (rd8 w8_5 20 rfl (off173 k hk)))))
    obtain ⟨rfl, e11_54⟩ := h_54
    have q11_44 : In11 fx fs fw fg (act k.val) (sl k.val) 44 g11_54 := by
      rw [e11_54]
      exact (In11.step (In11.step (In11.step q11_41 (off175 k hk) ((out_41 _ _ _ _ _).trans (yO 20 rfl (rd9 q9_12) (rd10 q10_12 40 (by decide) rfl) (rd10 q10_12 41 (by decide) rfl) (rd8 w8_5 20 rfl (off173 k hk))))) (off177 k hk) ((out_42 _ _ _ _ _).trans (yE 21 rfl (rd9 q9_12) (rd10 q10_12 42 (by decide) rfl) (rd10 q10_12 43 (by decide) rfl) (rd8 w8_5 21 rfl (off176 k hk))))) (off178 k hk) ((out_43 _ _ _ _ _).trans (yO 21 rfl (rd9 q9_12) (rd10 q10_12 42 (by decide) rfl) (rd10 q10_12 43 (by decide) rfl) (rd8 w8_5 21 rfl (off176 k hk)))))
    obtain ⟨rfl, e11_55⟩ := h_55
    have q11_46 : In11 fx fs fw fg (act k.val) (sl k.val) 46 g11_55 := by
      rw [e11_55]
      exact (In11.step (In11.step q11_44 (off180 k hk) ((out_44 _ _ _ _ _).trans (yE 22 rfl (rd9 q9_12) (rd10 q10_12 44 (by decide) rfl) (rd10 q10_12 45 (by decide) rfl) (rd8 w8_5 22 rfl (off179 k hk))))) (off181 k hk) ((out_45 _ _ _ _ _).trans (yO 22 rfl (rd9 q9_12) (rd10 q10_12 44 (by decide) rfl) (rd10 q10_12 45 (by decide) rfl) (rd8 w8_5 22 rfl (off179 k hk)))))
    obtain ⟨rfl, e11_56, w8_6⟩ := h_56
    have q11_48 : In11 fx fs fw fg (act k.val) (sl k.val) 48 g11_56 := by
      rw [e11_56]
      exact (In11.step (In11.step q11_46 (off183 k hk) ((out_46 _ _ _ _ _).trans (yE 23 rfl (rd9 q9_12) (rd10 q10_12 46 (by decide) rfl) (rd10 q10_12 47 (by decide) rfl) (rd8 w8_5 23 rfl (off182 k hk))))) (off184 k hk) ((out_47 _ _ _ _ _).trans (yO 23 rfl (rd9 q9_12) (rd10 q10_12 46 (by decide) rfl) (rd10 q10_12 47 (by decide) rfl) (rd8 w8_5 23 rfl (off182 k hk)))))
    obtain ⟨rfl, e11_57⟩ := h_57
    have q11_50 : In11 fx fs fw fg (act k.val) (sl k.val) 50 g11_57 := by
      rw [e11_57]
      exact (In11.step (In11.step q11_48 (off194 k hk) ((out_48 _ _ _ _ _).trans (yE 24 rfl (rd9 q9_12) (rd10 q10_12 48 (by decide) rfl) (rd10 q10_12 49 (by decide) rfl) (rd8 w8_6 24 rfl (off193 k hk))))) (off195 k hk) ((out_49 _ _ _ _ _).trans (yO 24 rfl (rd9 q9_12) (rd10 q10_12 48 (by decide) rfl) (rd10 q10_12 49 (by decide) rfl) (rd8 w8_6 24 rfl (off193 k hk)))))
    obtain ⟨rfl, rfl, e11_58⟩ := h_58
    have q11_52 : In11 fx fs fw fg (act k.val) (sl k.val) 52 g11_58 := by
      rw [e11_58]
      exact (In11.step (In11.step q11_50 (off197 k hk) ((out_50 _ _ _ _ _).trans (yE 25 rfl (rd9 q9_12) (rd10 q10_12 50 (by decide) rfl) (rd10 q10_12 51 (by decide) rfl) (rd8 w8_6 25 rfl (off196 k hk))))) (off198 k hk) ((out_51 _ _ _ _ _).trans (yO 25 rfl (rd9 q9_12) (rd10 q10_12 50 (by decide) rfl) (rd10 q10_12 51 (by decide) rfl) (rd8 w8_6 25 rfl (off196 k hk)))))
    obtain ⟨rfl, e11_59⟩ := h_59
    have q11_55 : In11 fx fs fw fg (act k.val) (sl k.val) 55 g11_59 := by
      rw [e11_59]
      exact (In11.step (In11.step (In11.step q11_52 (off200 k hk) ((out_52 _ _ _ _ _).trans (yE 26 rfl (rd9 q9_12) (rd10 q10_12 52 (by decide) rfl) (rd10 q10_12 53 (by decide) rfl) (rd8 w8_6 26 rfl (off199 k hk))))) (off201 k hk) ((out_53 _ _ _ _ _).trans (yO 26 rfl (rd9 q9_12) (rd10 q10_12 52 (by decide) rfl) (rd10 q10_12 53 (by decide) rfl) (rd8 w8_6 26 rfl (off199 k hk))))) (off203 k hk) ((out_54 _ _ _ _ _).trans (yE 27 rfl (rd9 q9_12) (rd10 q10_12 54 (by decide) rfl) (rd10 q10_12 55 (by decide) rfl) (rd8 w8_6 27 rfl (off202 k hk)))))
    exact OKv_of (In11.step q11_55 (off204 k hk) ((out_55 _ _ _ _ _).trans (yO 27 rfl (rd9 q9_12) (rd10 q10_12 54 (by decide) rfl) (rd10 q10_12 55 (by decide) rfl) (rd8 w8_6 27 rfl (off202 k hk)))))
  isplitl [H5]; · iexact H5
  isplitl [H0]; · iexact H0
  isplitl [HW]; · iexact HW
  isplitl [HX]; · iexact HX
  isplitl [HS]; · iexact HS
  isplitl [HG0]; · iexact HG0
  isplitl [HG1]; · iexact HG1
  isplitl [HG2]; · iexact HG2
  isplitl [HG3]; · iexact HG3
  isplitl [HG4]; · iexact HG4
  isplitl [HG5]; · iexact HG5
  isplitl [HG6]; · iexact HG6
  isplitl [H9]; · iexists _; iexact H9
  isplitl [H10]; · iexists _; iexact H10
  iexact HR

end Cert.Proof.Kernel
end
end
-- ==== Proof.Kernel.Rows.lean ====
module

public import proofs.«01_k».proof.Proof.Kernel.State
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Transfers
public import Idealize.ShloMosaic.Lib.Batch
public import Idealize.ShloMosaic.Adequacy
public import Idealize.ShloMosaic.Init

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

/-! Counting the active experts. -/

theorem bit01 (v : BitVec 32) : bit v = 0 ∨ bit v = 1 := by have := bit_le v; omega

theorem cnt_mono (g : ℕ → BitVec 32) {a b : ℕ} (h : a ≤ b) : cnt g a ≤ cnt g b := by
  induction b with
  | zero => obtain rfl : a = 0 := by omega
            exact le_refl _
  | succ b ih =>
    by_cases hab : a = b + 1
    · subst hab; exact le_refl _
    · have := ih (by omega); rw [cnt]; omega

theorem cnt_lt (g : ℕ → BitVec 32) {a b : ℕ} (h : a < b) (ha : bit (g a) = 1) : cnt g a < cnt g b := by
  have := cnt_mono g (show a + 1 ≤ b by omega)
  rw [cnt, ha] at this; omega

theorem act_ex (g : ℕ → BitVec 32) (m : ℕ) (hm : m ≤ 16) {i : ℕ} (h : i < cnt g m) : ∃ e : Fin 16, bit (g e.val) = 1 ∧ cnt g e.val = i := by
  induction m with
  | zero => exact absurd h (Nat.not_lt_zero _)
  | succ m ih =>
    by_cases h' : i < cnt g m
    · exact ih (by omega) h'
    · rw [cnt] at h
      have := bit_le (g m)
      exact ⟨⟨m, by omega⟩, by show bit (g m) = 1; omega, by show cnt g m = i; omega⟩

/-- The expert of trip `i`. -/
def act (g : ℕ → BitVec 32) (i : ℕ) : Fin 16 :=
  if h : i < cnt g 16 then (act_ex g 16 (le_refl _) h).choose else 0

theorem act_bit (g : ℕ → BitVec 32) {i : ℕ} (h : i < cnt g 16) : bit (g (act g i).val) = 1 := by
  unfold act; rw [dif_pos h]; exact (act_ex g 16 (le_refl _) h).choose_spec.1
theorem act_cnt (g : ℕ → BitVec 32) {i : ℕ} (h : i < cnt g 16) : cnt g (act g i).val = i := by
  unfold act; rw [dif_pos h]; exact (act_ex g 16 (le_refl _) h).choose_spec.2

theorem cnt_inj (g : ℕ → BitVec 32) {a b : ℕ} (ha : bit (g a) = 1) (hb : bit (g b) = 1) (h : cnt g a = cnt g b) : a = b := by
  rcases Nat.lt_trichotomy a b with hl | hl | hl
  · exact absurd h (Nat.ne_of_lt (cnt_lt g hl ha))
  · exact hl
  · exact absurd h (Nat.ne_of_gt (cnt_lt g hl hb))

theorem cnt_lt16 (g : ℕ → BitVec 32) (e : Fin 16) (h : bit (g e.val) = 1) : cnt g e.val < cnt g 16 := cnt_lt g e.isLt h
theorem act_of (g : ℕ → BitVec 32) (e : Fin 16) (h : bit (g e.val) = 1) : act g (cnt g e.val) = e :=
  Fin.ext (cnt_inj g (act_bit g (cnt_lt16 g e h)) h (act_cnt g (cnt_lt16 g e h)))

/-- The complementary choice: active where `g` is not. -/
def neg (g : ℕ → BitVec 32) (j : ℕ) : BitVec 32 := if bit (g j) = 1 then 0#32 else 1#32
theorem bit_neg (g : ℕ → BitVec 32) (j : ℕ) : bit (neg g j) = 1 ↔ ¬ bit (g j) = 1 := by
  unfold neg
  split
  · rename_i h; exact ⟨fun h' => absurd h' (by decide), fun h' => absurd h h'⟩
  · rename_i h; exact ⟨fun _ => h, fun _ => by decide⟩
theorem cond_neg (g : ℕ → BitVec 32) (j : ℕ) : (Scalar.cmpi .ne (Scalar.extui (Scalar.cmpi .sle (g j) 0#32) : BitVec 32) 0#32 = 1#1) ↔ ¬ bit (g j) = 1 := by
  have : Scalar.cmpi .sle (g j) 0#32 = ~~~ Scalar.cmpi .sgt (g j) 0#32 := by
    simp only [Scalar.cmpi]
    simp only [IntOp.cmpi]
    rw [BitVec.sle_eq_not_slt]; cases (0#32).slt (g j) <;> rfl
  rw [this]; unfold bit
  generalize Scalar.cmpi .sgt (g j) 0#32 = b
  revert b; decide

variable {F : FTy → Type} [FloatOps F]

/-! The table of active experts. -/

theorem p16_val {i : ℕ} (h : i < 16) : (p16 i).val = i := Nat.mod_eq_of_lt h

/-- The first words of the table name the active experts among the first `m`. -/
def Tab (g : ℕ → BitVec 32) (m : ℕ) (f : S16.Idx → Elt F .i32) : Prop :=
  ∀ e : Fin 16, e.val < m → bit (g e.val) = 1 → tw f (p16 (cnt g e.val)) = BitVec.ofNat 32 e.val

theorem tab0 (g : ℕ → BitVec 32) (f : S16.Idx → Elt F .i32) : Tab (F := F) g 0 f := fun _ h => absurd h (Nat.not_lt_zero _)

theorem tab_skip {g : ℕ → BitVec 32} {m : ℕ} {f : S16.Idx → Elt F .i32} (h : Tab (F := F) g m f) (hb : ¬ bit (g m) = 1) : Tab (F := F) g (m + 1) f := by
  intro e he hbe
  rcases Nat.lt_succ_iff_lt_or_eq.1 he with h1 | h1
  · exact h e h1 hbe
  · rw [h1] at hbe; exact absurd hbe hb

theorem tab_full {g : ℕ → BitVec 32} {f : S16.Idx → Elt F .i32} (h : Tab (F := F) g 16 f) (i : ℕ) (hi : i < cnt g 16) :
    tw f (p16 i) = BitVec.ofNat 32 (act g i).val := by
  have := h (act g i) (act g i).isLt (act_bit g hi)
  rwa [act_cnt g hi] at this

theorem tw_put {f : S16.Idx → Elt F .i32} {w : BitVec 32} (i j : Fin 16) {inb} :
    tw (F := F) ((A5.access (Rect.unit (s := S16) ![i.val] S1.size inb)).write (Elt F) f (fun _ => w) Finset.univ) j = if j = i then w else tw (F := F) f j := by
  unfold tw
  split
  · rename_i h
    subst h
    have hx : (A5.access (Rect.unit (s := S16) ![j.val] S1.size inb)).emb (fun a => ⟨0, by fin_cases a; exact Nat.one_pos⟩) = (fun a => Fin.cast (by fin_cases a; rfl) j) := by
      funext a
      exact Fin.ext (by fin_cases a; rfl)
    refine (congrArg _ hx.symm).trans ?_
    exact View.write_emb_of_mem _ _ (Finset.mem_univ _)
  · rename_i h
    refine View.write_of_not_mem _ _ _ fun hm => h ?_
    obtain ⟨x, -, hx⟩ := Finset.mem_map.1 hm
    have h0 : i.val + 1 * (x 0).val = j.val := congrArg (fun y : S16.Idx => (y 0).val) hx
    have h1 : (x 0).val < 1 := (x 0).isLt
    exact Fin.ext (by omega)

theorem tab_put {g : ℕ → BitVec 32} {m : ℕ} (hm : m < 16) {f f' : S16.Idx → Elt F .i32} (h : Tab (F := F) g m f)
    (hf : ∀ j, tw (F := F) f' j = if j = p16 (cnt g m) then BitVec.ofNat 32 m else tw (F := F) f j) : Tab (F := F) g (m + 1) f' := by
  intro e he hbe
  rw [hf]
  rcases Nat.lt_succ_iff_lt_or_eq.1 he with h1 | h1
  · have h2 := cnt_lt g h1 hbe
    have h3 := cnt_le g m
    rw [if_neg, h e h1 hbe]
    intro h4
    have := congrArg Fin.val h4
    rw [p16_val (by omega), p16_val (by omega)] at this
    omega
  · rw [h1, if_pos rfl]

variable (c : Dev nD) {α : Type} {Q : α → sProp (MT nD τ sig Unit (Elt F) ℕ UU ℕ)}

theorem st5 {r : Rect S16} {w : r.shape.Idx → Elt F .i32} {hx : (A5.access r).Stores Finset.univ} {hm : (Finset.univ : Finset r.shape.Idx) = Finset.univ ∨ ∀ a, r.stride a = 1}
   {k : PUnit → Prog (TpuEff nD τ sig (Elt F) Λ₀ .tc) α} {f : S16.Idx → Elt F .i32} :
    P5 (F := F) c f ⊢ iprop((P5 c ((A5.access r).write (Elt F) f w Finset.univ) -∗ W c (k ⟨⟩) Q) -∗ W c (Prog.lift (.store A5 r w Finset.univ hx hm) >>= k) Q) :=
  wp_store 𝒱₀ (c : Thread nD τ) none Set.univ (m := A5) (r := r) (w := w) (Mk := Finset.univ) (hx := hx) (hm := hm) (k := k) (f := f)
    (S := (Finset.univ : Finset (Idx (A5.view.loc (c : Thread nD τ))))) (Finset.subset_univ _)

theorem tabif {g : ℕ → BitVec 32} (m : ℕ) (hm : m < 16) {w : BitVec 32} (hw : w = BitVec.ofNat 32 m) {C : Prop} {dC : Decidable C} (hC : C ↔ bit (g m) = 1)
    {off : Fin 1 → ℕ} (ho : off = ![(p16 (cnt g m)).val]) {inb1 inb2 : C → ∀ a, off a + S1.size a ≤ S16.size a} {h1 : ∀ hc : C, (Rect.unit (s := S16) off S1.size (inb1 hc)).shape.numel = 1} {hp} {hx : ∀ hc : C, (A5.access (Rect.unit (s := S16) off S1.size (inb2 hc))).Stores Finset.univ}
    {hmm : ∀ hc : C, (Finset.univ : Finset (Rect.unit (s := S16) off S1.size (inb2 hc)).shape.Idx) = Finset.univ ∨ ∀ a, (Rect.unit (s := S16) off S1.size (inb2 hc)).stride a = 1} {R : Prog (TpuEff nD τ sig (Elt F) Λ₀ .tc) α}
    {f : S16.Idx → Elt F .i32} (h : Tab (F := F) g m f) :
    P5 (F := F) c f ⊢ iprop((∀ f' : S16.Idx → Elt F .i32, ⌜Tab (F := F) g (m + 1) f'⌝ -∗ P5 c f' -∗ W c R Q) -∗
      W c (if hc : C then (smemLoad A5 (Rect.unit (s := S16) off S1.size (inb1 hc)) (h1 hc) hp >>= fun _ =>
        Prog.lift (.store A5 (Rect.unit (s := S16) off S1.size (inb2 hc)) (fun _ => w) Finset.univ (hx hc) (hmm hc)) >>= fun _ => R) else R) Q) := by
  subst hw
  by_cases hc : C
  · rw [dif_pos hc]
    iintro H5 K
    iapply (lw5 c (p16 (cnt g m)) ho) $$ H5
    iintro H5
    iapply (st5 c) $$ H5
    iintro H5
    iapply K $$ %_ %(tab_put hm h (fun j => by subst ho; exact tw_put _ _)) H5
  · rw [dif_neg hc]
    iintro H5 K
    iapply K $$ %_ %(tab_skip h (fun hb => hc (hC.2 hb))) H5

theorem tabif0 {g : ℕ → BitVec 32} (m : ℕ) (hm : m < 16) {w : BitVec 32} (hw : w = BitVec.ofNat 32 m) {C : Prop} {dC : Decidable C} (hC : C ↔ bit (g m) = 1)
    {off : Fin 1 → ℕ} (ho : off = ![(p16 (cnt g m)).val]) {inb1 inb2 h1 hp} {hx : (A5.access (Rect.unit (s := S16) off S1.size inb2)).Stores Finset.univ}
    {hmm} {R : Prog (TpuEff nD τ sig (Elt F) Λ₀ .tc) α}
    {f : S16.Idx → Elt F .i32} (h : Tab (F := F) g m f) :
    P5 (F := F) c f ⊢ iprop((∀ f' : S16.Idx → Elt F .i32, ⌜Tab (F := F) g (m + 1) f'⌝ -∗ P5 c f' -∗ W c R Q) -∗
      W c (if C then (smemLoad A5 (Rect.unit (s := S16) off S1.size inb1) h1 hp >>= fun _ =>
        Prog.lift (.store A5 (Rect.unit (s := S16) off S1.size inb2) (fun _ => w) Finset.univ hx hmm) >>= fun _ => R) else R) Q) :=
  tabif c m hm hw hC ho (inb1 := fun _ => inb1) (inb2 := fun _ => inb2) (h1 := fun _ => h1) (hx := fun _ => hx) (hmm := fun _ => hmm) h

theorem lwg {g : ℕ → BitVec 32} {fg : S16.Idx → Elt F .i32} (hg : ∀ i, tw (F := F) fg (p16 i) = g i) (j : ℕ) {off : Fin 1 → ℕ} {inb} {h1 hp} {q}
    {k : Elt F .i32 → Prog (TpuEff nD τ sig (Elt F) Λ₀ .tc) α} (ho : off = ![(p16 j).val]) :
    P0 (F := F) c q fg ⊢ iprop((P0 c q fg -∗ W c (k (g j)) Q) -∗ W c (smemLoad A0 (Rect.unit (s := S16) off S1.size inb) h1 hp >>= k) Q) := by
  rw [← hg j]; exact lw0 c (p16 j) ho

theorem pre_one (g : ℕ → BitVec 32) : Scalar.addi 0#32 (Scalar.extui (Scalar.cmpi .sgt (g 0) 0#32)) = pre g 1 := rfl
theorem pre_add (g : ℕ → BitVec 32) (m : ℕ) : Scalar.addi (pre g m) (Scalar.extui (Scalar.cmpi .sgt (g m) 0#32)) = pre g (m + 1) := rfl
theorem hwg (g : ℕ → BitVec 32) : k0_chk15 (g 0) (g 1) (g 2) (g 3) (g 4) (g 5) (g 6) (g 7) (g 8) (g 9) (g 10) (g 11) (g 12) (g 13) (g 14) (g 15) := chk15g g

set_option maxHeartbeats 2000000
section
variable {g : ℕ → BitVec 32} {fg : S16.Idx → Elt F .i32} (hg : ∀ i, tw (F := F) fg (p16 i) = g i) {q0 : PosShare TreeShare}
include hg

theorem part117_spec {f : S16.Idx → Elt F .i32} {Q : _ → sProp (MT nD τ sig Unit (Elt F) ℕ UU ℕ)} :
    iprop(P0 c q0 fg ∗ P5 c f) ⊢ iprop((∀ f' : S16.Idx → Elt F .i32, ⌜Tab (F := F) g 5 f'⌝ -∗ P0 c q0 fg -∗ P5 c f' -∗ Q ⟨g 0, g 1, g 2, g 3, g 4, pre g 5, g 5, chk5 g, 0#32⟩) -∗ W c (k0_part117 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 ) Q) := by
  rw [k0_part117_eq_skeleton]
  unfold k0_part117_skel
  dsimp only
  iintro ⟨H0, H5⟩ K
  iapply (lwg c hg 0 rfl) $$ H0
  iintro H0
  iapply (tabif0 c 0 (by decide) rfl (cond_bit (g 0)) rfl (tab0 g f)) $$ H5
  iintro %f0 %ht H5
  iapply (lwg c hg 1 rfl) $$ H0
  iintro H0
  iapply (W_assume c (chk1 g))
  iapply (tabif c 1 (by decide) rfl (cond2 g) (off1 g) ht) $$ H5
  clear ht
  iintro %f1 %ht H5
  iapply (lwg c hg 2 rfl) $$ H0
  iintro H0
  iapply (W_assume c (chk2 g))
  iapply (tabif c 2 (by decide) rfl (cond3 g) (off2 g) ht) $$ H5
  clear ht
  iintro %f2 %ht H5
  iapply (lwg c hg 3 rfl) $$ H0
  iintro H0
  iapply (W_assume c (chk3 g))
  iapply (tabif c 3 (by decide) rfl (cond4 g) (off3 g) ht) $$ H5
  clear ht
  iintro %f3 %ht H5
  iapply (lwg c hg 4 rfl) $$ H0
  iintro H0
  iapply (W_assume c (chk4 g))
  iapply (tabif c 4 (by decide) rfl (cond5 g) (off4 g) ht) $$ H5
  clear ht
  iintro %f4 %ht H5
  iapply (lwg c hg 5 rfl) $$ H0
  iintro H0
  iapply (W_assume c (chk5 g))
  simp only [pre_one, pre_add]
  iapply W_pure
  iapply K $$ %_ %ht H0 H5

theorem part118_spec {f : S16.Idx → Elt F .i32} (ht : Tab (F := F) g 5 f) {Q : _ → sProp (MT nD τ sig Unit (Elt F) ℕ UU ℕ)} :
    iprop(P0 c q0 fg ∗ P5 c f) ⊢ iprop((∀ f' : S16.Idx → Elt F .i32, ⌜Tab (F := F) g 11 f'⌝ -∗ P0 c q0 fg -∗ P5 c f' -∗ Q ⟨g 6, g 7, g 8, g 9, pre g 10, g 10, Scalar.cmpi .sgt (g 10) 0#32⟩) -∗ W c (k0_part118 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 (g 0) (g 1) (g 2) (g 3) (g 4) (pre g 5) (g 5) (chk5 g) 0#32) Q) := by
  rw [k0_part118_eq_skeleton]
  unfold k0_part118_skel
  dsimp only
  iintro ⟨H0, H5⟩ K
  iapply (tabif c 5 (by decide) rfl (cond6 g) (off5 g) ht) $$ H5
  clear ht
  iintro %f5 %ht H5
  iapply (lwg c hg 6 rfl) $$ H0
  iintro H0
  iapply (W_assume c (chk6 g))
  iapply (tabif c 6 (by decide) rfl (cond7 g) (off6 g) ht) $$ H5
  clear ht
  iintro %f6 %ht H5
  iapply (lwg c hg 7 rfl) $$ H0
  iintro H0
  iapply (W_assume c (chk7 g))
  iapply (tabif c 7 (by decide) rfl (cond8 g) (off7 g) ht) $$ H5
  clear ht
  iintro %f7 %ht H5
  iapply (lwg c hg 8 rfl) $$ H0
  iintro H0
  iapply (W_assume c (chk8 g))
  iapply (tabif c 8 (by decide) rfl (cond9 g) (off8 g) ht) $$ H5
  clear ht
  iintro %f8 %ht H5
  iapply (lwg c hg 9 rfl) $$ H0
  iintro H0
  iapply (W_assume c (chk9 g))
  iapply (tabif c 9 (by decide) rfl (cond10 g) (off9 g) ht) $$ H5
  clear ht
  iintro %f9 %ht H5
  iapply (lwg c hg 10 rfl) $$ H0
  iintro H0
  iapply (W_assume c (chk10 g))
  iapply (tabif c 10 (by decide) rfl (cond11 g) (off10 g) ht) $$ H5
  clear ht
  iintro %f10 %ht H5
  simp only [pre_one, pre_add]
  iapply W_pure
  iapply K $$ %_ %ht H0 H5

theorem part119_spec {f : S16.Idx → Elt F .i32} (ht : Tab (F := F) g 11 f) {Q : _ → sProp (MT nD τ sig Unit (Elt F) ℕ UU ℕ)} :
    iprop(P0 c q0 fg ∗ P5 c f) ⊢ iprop((∀ f' : S16.Idx → Elt F .i32, ⌜Tab (F := F) g 16 f'⌝ -∗ P0 c q0 fg -∗ P5 c f' -∗ Q ⟨g 11, g 12, g 13, g 14, g 15, hwg g, pre g 16, Scalar.extui (Scalar.cmpi .sgt (pre g 16) 0#32)⟩) -∗ W c (k0_part119 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 (g 0) (g 1) (g 2) (g 3) (g 4) (g 5) (g 6) (g 7) (g 8) (g 9) (pre g 10) (g 10) (Scalar.cmpi .sgt (g 10) 0#32)) Q) := by
  rw [k0_part119_eq_skeleton]
  unfold k0_part119_skel
  dsimp only
  iintro ⟨H0, H5⟩ K
  iapply (lwg c hg 11 rfl) $$ H0
  iintro H0
  iapply (W_assume c (chk11 g))
  iapply (tabif c 11 (by decide) rfl (cond12 g) (off11 g) ht) $$ H5
  clear ht
  iintro %f11 %ht H5
  iapply (lwg c hg 12 rfl) $$ H0
  iintro H0
  iapply (W_assume c (chk12 g))
  iapply (tabif c 12 (by decide) rfl (cond13 g) (off12 g) ht) $$ H5
  clear ht
  iintro %f12 %ht H5
  iapply (lwg c hg 13 rfl) $$ H0
  iintro H0
  iapply (W_assume c (chk13 g))
  iapply (tabif c 13 (by decide) rfl (cond14 g) (off13 g) ht) $$ H5
  clear ht
  iintro %f13 %ht H5
  iapply (lwg c hg 14 rfl) $$ H0
  iintro H0
  iapply (W_assume c (chk14 g))
  iapply (tabif c 14 (by decide) rfl (cond15 g) (off14 g) ht) $$ H5
  clear ht
  iintro %f14 %ht H5
  iapply (lwg c hg 15 rfl) $$ H0
  iintro H0
  iapply (W_assume c (hwg g))
  iapply (tabif c 15 (by decide) rfl (cond16 g) (off15 g) ht) $$ H5
  clear ht
  iintro %f15 %ht H5
  simp only [pre_one, pre_add]
  iapply W_pure
  iapply K $$ %_ %ht H0 H5

end

end Cert.Proof.Kernel
end
end
-- ==== Proof.Kernel.Zero.lean ====
module

public import proofs.«01_k».proof.Proof.Kernel.Rows
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Transfers
public import Idealize.ShloMosaic.Lib.Batch
public import Idealize.ShloMosaic.Adequacy
public import Idealize.ShloMosaic.Init

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

open Classical in
section
variable {F : FTy → Type} [FloatOps F] (c : Dev nD)

/-- Change one summand. -/
theorem big_step {Φ Ψ : Fin 16 → sProp (MT nD τ sig Unit (Elt F) ℕ UU ℕ)} (e : Fin 16) (h : ∀ e', e' ≠ e → Φ e' = Ψ e') :
    bigSep Finset.univ Φ ⊢ iprop(Φ e ∗ (Ψ e -∗ bigSep Finset.univ Ψ)) := by
  rw [bigSep_univ_split e (Φ := Φ), bigSep_univ_split e (Φ := Ψ),
    bigSep_congr (s := Finset.univ.erase e) (Ψ := Ψ) (fun i hi => h i (Finset.ne_of_mem_erase hi))]
  show iprop(Φ e ∗ bigSep (Finset.univ.erase e) Ψ) ⊢ iprop(Φ e ∗ (Ψ e -∗ iprop(Ψ e ∗ bigSep (Finset.univ.erase e) Ψ)))
  iintro ⟨H1, H2⟩
  isplitl [H1]; · iexact H1
  iintro H
  isplitl [H]; · iexact H
  iexact H2

/-- A share of the zero rows, one for each expert. -/
abbrev Tok (zb : S24x7168.Idx → Elt F .bf16) (e : Fin 16) : sProp (MT nD τ sig Unit (Elt F) ℕ UU ℕ) :=
  PW c A12 (Transfers.shareTokN fullShare e.val) zb
/-- What the `t`-th copy of zero rows delivers. -/
def Dz (g : ℕ → BitVec 32) (zb : S24x7168.Idx → Elt F .bf16) (t : Fin (cnt (neg g) 16)) : sProp (MT nD τ sig Unit (Elt F) ℕ UU ℕ) :=
  iprop(RowV c zb (act (neg g) t.val) ∗ Tok c zb (act (neg g) t.val))
instance (g : ℕ → BitVec 32) (zb : S24x7168.Idx → Elt F .bf16) (t : Fin (cnt (neg g) 16)) :
    Storable (upEmb : UEmb _ (MT nD τ sig Unit (Elt F) ℕ UU ℕ)) (Dz c g zb t) := by
  unfold Dz RowV; infer_instance
abbrev zsem : DmaSem sig := (cc0_scratch12 : DmaSems sig S_).sem
abbrev NZ : ℕ := (oE 0).view.dmaCredit
theorem nz_o (e : Fin 16) : (oE e).view.dmaCredit = 1 * NZ := by revert e; decide
theorem nz_pos : 0 < NZ := by decide
/-- The copies of zero rows: `j` started, `u` words waited for. -/
abbrev ZB (g : ℕ → BitVec 32) (zb : S24x7168.Idx → Elt F .bf16) (j u : ℕ) : sProp (MT nD τ sig Unit (Elt F) ℕ UU ℕ) :=
  Transfers.Batch EC (c : Thread nD τ) (.dma zsem) () NZ (Dz c g zb) j u
/-- The rows of the inactive experts among the last ones, and the shares not lent. -/
def ZE (g : ℕ → BitVec 32) (zb : S24x7168.Idx → Elt F .bf16) (m : ℕ) (e : Fin 16) : sProp (MT nD τ sig Unit (Elt F) ℕ UU ℕ) :=
  if bit (g e.val) = 1 then Tok c zb e else if e.val < m then iprop(emp) else iprop(Row c e ∗ Tok c zb e)
def ZR (g : ℕ → BitVec 32) (zb : S24x7168.Idx → Elt F .bf16) (m : ℕ) : sProp (MT nD τ sig Unit (Elt F) ℕ UU ℕ) :=
  bigSep Finset.univ (ZE c g zb m)

theorem zr_take {g : ℕ → BitVec 32} {zb : S24x7168.Idx → Elt F .bf16} {m : ℕ} (e : Fin 16) (he : e.val = m) (hb : ¬ bit (g m) = 1) :
    ZR c g zb m ⊢ iprop(Row c e ∗ Tok c zb e ∗ ZR c g zb (m + 1)) := by
  have h := big_step (F := F) (Φ := ZE c g zb m) (Ψ := ZE c g zb (m + 1)) e (fun e' hne => by
    have : e'.val ≠ m := fun h => hne (Fin.ext (h.trans he.symm))
    unfold ZE
    by_cases h1 : e'.val < m
    · rw [if_pos h1, if_pos (show e'.val < m + 1 by omega)]
    · rw [if_neg h1, if_neg (show ¬ e'.val < m + 1 by omega)])
  have h1 : ZE c g zb m e = iprop(Row c e ∗ Tok c zb e) := by
    unfold ZE; rw [he, if_neg hb, if_neg (lt_irrefl m)]
  have h2 : ZE c g zb (m + 1) e = iprop(emp) := by
    unfold ZE; rw [he, if_neg hb, if_pos (Nat.lt_succ_self m)]
  rw [h1, h2] at h
  unfold ZR
  refine h.trans ?_
  iintro ⟨⟨H1, H2⟩, H3⟩
  isplitl [H1]; · iexact H1
  isplitl [H2]; · iexact H2
  iapply H3
  iempintro

theorem zr_skip {g : ℕ → BitVec 32} {zb : S24x7168.Idx → Elt F .bf16} {m : ℕ} (hb : bit (g m) = 1) :
    ZR c g zb m = ZR c g zb (m + 1) := by
  unfold ZR
  refine bigSep_congr fun e _ => ?_
  unfold ZE
  by_cases h : e.val = m
  · rw [h, if_pos hb, if_pos hb]
  · by_cases h1 : e.val < m
    · rw [if_pos h1, if_pos (show e.val < m + 1 by omega)]
    · rw [if_neg h1, if_neg (show ¬ e.val < m + 1 by omega)]

variable {α : Type} {Q : α → sProp (MT nD τ sig Unit (Elt F) ℕ UU ℕ)}

theorem cnt_neg_pos {g : ℕ → BitVec 32} {m : ℕ} (hb : ¬ bit (g m) = 1) : cnt (neg g) (m + 1) = cnt (neg g) m + 1 := by
  rw [cnt, (bit_neg g m).2 hb]
theorem cnt_neg_skip {g : ℕ → BitVec 32} {m : ℕ} (hb : bit (g m) = 1) : cnt (neg g) (m + 1) = cnt (neg g) m := by
  rw [cnt]
  rcases bit01 (neg g m) with h | h
  · rw [h, Nat.add_zero]
  · exact absurd hb ((bit_neg g m).1 h)

theorem zstart {g : ℕ → BitVec 32} (m : Fin 16) {zb : S24x7168.Idx → Elt F .bf16} {C : Prop} {dC : Decidable C} (hC : C ↔ ¬ bit (g m.val) = 1)
    {off : Fin 3 → ℕ} (ho : off = ![m.val, 0, 0]) {iE hsrc hdst hsem} {R : Prog (TpuEff nD τ sig (Elt F) Λ₀ .tc) α} :
    iprop(ZR c g zb m.val ∗ ZB c g zb (cnt (neg g) m.val) 0) ⊢ iprop((ZR c g zb (m.val + 1) ∗ ZB c g zb (cnt (neg g) (m.val + 1)) 0 -∗ W c R Q) -∗
      W c (if C then (Prog.lift (.enqueueDma A12
        (.here ((A4.slice (Rect.unit (s := S16x24x7168) off S1x24x7168.size iE) (fun _ => rfl)).squeeze S24x7168 squeezes_S1x24x7168_S24x7168))
        (.dma zsem) hsrc hdst hsem) >>= fun _ => R) else R) Q) := by
  subst ho
  by_cases hc : C
  · rw [if_pos hc]
    have hb := hC.1 hc
    rw [cnt_neg_pos hb]
    have hlt : cnt (neg g) m.val < cnt (neg g) 16 := cnt_lt16 (neg g) m ((bit_neg g _).2 hb)
    have hact : act (neg g) (cnt (neg g) m.val) = m := act_of (neg g) m ((bit_neg g _).2 hb)
    iintro ⟨HZ, HB⟩ K
    ihave HZ := (zr_take c m rfl hb) $$ HZ
    icases HZ with ⟨HR, HT, HZ⟩
    unfold Row
    icases HR with ⟨%f, HR⟩
    iapply (Transfers.wp_dmaBatch EC 𝒱₀ (c : Thread nD τ) none (src := A12) (via := .same) (dst := oE m) (sm := .dma zsem) (fs := zb) (fd := f) (q := Transfers.shareTokN fullShare m.val)
      (D := Dz c g zb) (j := cnt (neg g) m.val) (u := 0) (Q := Q) (k := fun _ => R) (defs := defs₀) () NZ ((nz_o m).trans (Nat.one_mul _)) (Finset.Subset.refl (oE m).view.set) hlt (Nat.zero_le _) (by
        unfold Dz
        rw [hact]
        unfold RowV
        iintro ⟨H1, H2⟩
        isplitl [H1]
        · iexists _
          isplitl [H1]; · iexact H1
          ipureintro
          exact View.read_write_univ _ _
        iexact H2)) $$ [HT HR HB]
    · isplitl [HT]; · iexact HT
      isplitl [HR]; · iexact HR
      iexact HB
    iintro HB
    iapply K
    isplitl [HZ]; · iexact HZ
    iexact HB
  · rw [if_neg hc]
    have hb : bit (g m.val) = 1 := by by_contra h; exact hc (hC.2 h)
    rw [cnt_neg_skip hb, ← zr_skip c hb]
    iintro H K
    iapply K
    iexact H

theorem zwait {g : ℕ → BitVec 32} (m : Fin 16) {zb : S24x7168.Idx → Elt F .bf16} {C : Prop} {dC : Decidable C} (hC : C ↔ ¬ bit (g m.val) = 1)
    {off : Fin 3 → ℕ} (ho : off = ![m.val, 0, 0]) {iE hsrc hdst} {R : Prog (TpuEff nD τ sig (Elt F) Λ₀ .tc) α} :
    iprop(ZB c g zb (cnt (neg g) 16) (NZ * cnt (neg g) m.val) ∗ OW c) ⊢ iprop((ZB c g zb (cnt (neg g) 16) (NZ * cnt (neg g) (m.val + 1)) ∗ OW c -∗ W c R Q) -∗
      W c (if C then (Prog.lift (.waitDma2 zsem A12
        ((A4.slice (Rect.unit (s := S16x24x7168) off S1x24x7168.size iE) (fun _ => rfl)).squeeze S24x7168 squeezes_S1x24x7168_S24x7168)
        hsrc hdst) >>= fun _ => R) else R) Q) := by
  subst ho
  by_cases hc : C
  · rw [if_pos hc]
    have hb := hC.1 hc
    have hlt : cnt (neg g) m.val < cnt (neg g) 16 := cnt_lt16 (neg g) m ((bit_neg g _).2 hb)
    rw [cnt_neg_pos hb]
    unfold OW
    iintro ⟨HB, %O, HO⟩ K
    iapply (Transfers.wp_waitBatchMul EC 𝒱₀ (c : Thread nD τ) none () 1 (srcw := A12) (dstw := oE m) (D := Dz c g zb) (j := cnt (neg g) 16) (u := NZ * cnt (neg g) m.val) (N := NZ) (Q := Q) (k := fun _ => R) (defs := defs₀)
      (nz_o m) (by rw [Nat.one_mul, ← Nat.mul_succ]; exact Nat.mul_le_mul_left _ hlt)) $$ [HB HO]
    · isplitl [HB]; · iexact HB
      iexact HO
    rw [Nat.one_mul, ← Nat.mul_succ]
    iintro ⟨HB, HO⟩
    iapply K
    isplitl [HB]; · iexact HB
    iexists _; iexact HO
  · rw [if_neg hc]
    have hb : bit (g m.val) = 1 := by by_contra h; exact hc (hC.2 h)
    rw [cnt_neg_skip hb]
    iintro H K
    iapply K
    iexact H
end

end Cert.Proof.Kernel
end
end
-- ==== Proof.Kernel.Loop.lean ====
module

public import proofs.«01_k».proof.Proof.Kernel.Trip
public import proofs.«01_k».proof.Proof.Kernel.Zero
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Transfers
public import Idealize.ShloMosaic.Lib.Batch
public import Idealize.ShloMosaic.Adequacy
public import Idealize.ShloMosaic.Init

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

section
variable {F : FTy → Type} [FloatOps F] (c : Dev nD)
variable (fx : S16x24x1536.Idx → Elt F .bf16) (fs : S16x56x12.Idx → Elt F .f32) (fw : S16x7168x1536.Idx → Elt F .fp8e4m3) (fg : S16.Idx → Elt F .i32)
variable (A : ℕ → Fin 16) (n : ℕ)

/-- A slot of inputs as the `i`-th trip finds it: with the copy in flight, or at rest after the last one. -/
def XS (i : ℕ) : sProp (MT nD τ sig Unit (Elt F) ℕ UU ℕ) := if i < n then Xin c fx (sl i) (A i) else Xfree c fx (sl i)
def SS (i : ℕ) : sProp (MT nD τ sig Unit (Elt F) ℕ UU ℕ) := if i < n then Sin c fs (sl i) (A i) else Sfree c fs (sl i)
def GS (i : ℕ) (q : Fin 7) : sProp (MT nD τ sig Unit (Elt F) ℕ UU ℕ) := if i < n then Gin c fw (sl i) q (A i) else Gfree c fw (sl i) q
def SLT (i : ℕ) : sProp (MT nD τ sig Unit (Elt F) ℕ UU ℕ) :=
  iprop(XS c fx A n i ∗ SS c fs A n i ∗ GS c fw A n i 0 ∗ GS c fw A n i 1 ∗ GS c fw A n i 2 ∗ GS c fw A n i 3 ∗ GS c fw A n i 4 ∗ GS c fw A n i 5 ∗ GS c fw A n i 6)
def SFree (s : Fin 2) : sProp (MT nD τ sig Unit (Elt F) ℕ UU ℕ) :=
  iprop(Xfree c fx s ∗ Sfree c fs s ∗ Gfree c fw s 0 ∗ Gfree c fw s 1 ∗ Gfree c fw s 2 ∗ Gfree c fw s 3 ∗ Gfree c fw s 4 ∗ Gfree c fw s 5 ∗ Gfree c fw s 6)

theorem SLT_in {i : ℕ} (h : i < n) : SLT c fx fs fw A n i = iprop(Xin c fx (sl i) (A i) ∗ Sin c fs (sl i) (A i) ∗ Gin c fw (sl i) 0 (A i) ∗ Gin c fw (sl i) 1 (A i) ∗ Gin c fw (sl i) 2 (A i) ∗ Gin c fw (sl i) 3 (A i) ∗ Gin c fw (sl i) 4 (A i) ∗ Gin c fw (sl i) 5 (A i) ∗ Gin c fw (sl i) 6 (A i)) := by
  unfold SLT XS SS GS; simp only [if_pos h]
theorem SLT_out {i : ℕ} (h : ¬ i < n) : SLT c fx fs fw A n i = SFree c fx fs fw (sl i) := by
  unfold SLT XS SS GS SFree; simp only [if_neg h]
theorem SLT_next (k : ℕ) : SLT c fx fs fw A n (k + 2) = iprop(Xnext c fx A n k ∗ Snext c fs A n k ∗ Gnext c fw A n k 0 ∗ Gnext c fw A n k 1 ∗ Gnext c fw A n k 2 ∗ Gnext c fw A n k 3 ∗ Gnext c fw A n k 4 ∗ Gnext c fw A n k 5 ∗ Gnext c fw A n k 6) := by
  unfold SLT XS SS GS Xnext Snext Gnext; rw [sl_succ2]

/-- The result rows of expert `e` as the kernel leaves them. -/
def RowK (e : Fin 16) : sProp (MT nD τ sig Unit (Elt F) ℕ UU ℕ) := iprop(∃ v : S24x7168.Idx → Elt F .bf16, ⌜OKv fx fs fw fg e v⌝ ∗ RowV c v e)
def OinK (s : Fin 2) (e : Fin 16) : sProp (MT nD τ sig Unit (Elt F) ℕ UU ℕ) := iprop(∃ v : S24x7168.Idx → Elt F .bf16, ⌜OKv fx fs fw fg e v⌝ ∗ Oin c v s e)
/-- A slot of results as the `i`-th trip finds it. -/
def OS (i : ℕ) : sProp (MT nD τ sig Unit (Elt F) ℕ UU ℕ) := if 2 ≤ i then OinK c fx fs fw fg (sl i) (A (i - 2)) else Ofree c (sl i)

/-- The rows of the active experts: finished below `a`, in flight below `b`. -/
def RE (g : ℕ → BitVec 32) (a b : ℕ) (e : Fin 16) : sProp (MT nD τ sig Unit (Elt F) ℕ UU ℕ) :=
  if bit (g e.val) = 1 then (if cnt g e.val < a then RowK c fx fs fw fg e else if cnt g e.val < b then iprop(emp) else Row c e) else iprop(emp)
def RW (g : ℕ → BitVec 32) (a b : ℕ) : sProp (MT nD τ sig Unit (Elt F) ℕ UU ℕ) := bigSep Finset.univ (RE c fx fs fw fg g a b)

theorem rw_take {g : ℕ → BitVec 32} {a b : ℕ} (hab : a ≤ b) (hb : b < cnt g 16) :
    RW c fx fs fw fg g a b ⊢ iprop(Row c (act g b) ∗ RW c fx fs fw fg g a (b + 1)) := by
  have hB := act_bit g hb
  have hC := act_cnt g hb
  have h := big_step (F := F) (Φ := RE c fx fs fw fg g a b) (Ψ := RE c fx fs fw fg g a (b + 1)) (act g b) (fun e' hne => by
    unfold RE
    by_cases h0 : bit (g e'.val) = 1
    · rw [if_pos h0, if_pos h0]
      have h1 : cnt g e'.val ≠ b := fun h => hne ((act_of g e' h0).symm.trans (congrArg (act g) h))
      by_cases h2 : cnt g e'.val < b
      · rw [if_pos h2, if_pos (show cnt g e'.val < b + 1 by omega)]
      · rw [if_neg h2, if_neg (show ¬ cnt g e'.val < b + 1 by omega)]
    · rw [if_neg h0, if_neg h0])
  have h1 : RE c fx fs fw fg g a b (act g b) = Row c (act g b) := by
    unfold RE; rw [hC, if_pos hB, if_neg (show ¬ b < a by omega), if_neg (lt_irrefl b)]
  have h2 : RE c fx fs fw fg g a (b + 1) (act g b) = iprop(emp) := by
    unfold RE; rw [hC, if_pos hB, if_neg (show ¬ b < a by omega), if_pos (Nat.lt_succ_self b)]
  rw [h1, h2] at h
  unfold RW
  refine h.trans ?_
  iintro ⟨H1, H3⟩
  isplitl [H1]; · iexact H1
  iapply H3
  iempintro

theorem rw_put {g : ℕ → BitVec 32} {a b : ℕ} (hab : a < b) (hb : a < cnt g 16) :
    iprop(RW c fx fs fw fg g a b ∗ RowK c fx fs fw fg (act g a)) ⊢ RW c fx fs fw fg g (a + 1) b := by
  have hB := act_bit g hb
  have hC := act_cnt g hb
  have h := big_step (F := F) (Φ := RE c fx fs fw fg g a b) (Ψ := RE c fx fs fw fg g (a + 1) b) (act g a) (fun e' hne => by
    unfold RE
    by_cases h0 : bit (g e'.val) = 1
    · rw [if_pos h0, if_pos h0]
      have h1 : cnt g e'.val ≠ a := fun h => hne ((act_of g e' h0).symm.trans (congrArg (act g) h))
      by_cases h2 : cnt g e'.val < a
      · rw [if_pos h2, if_pos (show cnt g e'.val < a + 1 by omega)]
      · rw [if_neg h2, if_neg (show ¬ cnt g e'.val < a + 1 by omega)]
    · rw [if_neg h0, if_neg h0])
  have h1 : RE c fx fs fw fg g a b (act g a) = iprop(emp) := by
    unfold RE; rw [hC, if_pos hB, if_neg (lt_irrefl a), if_pos hab]
  have h2 : RE c fx fs fw fg g (a + 1) b (act g a) = RowK c fx fs fw fg (act g a) := by
    unfold RE; rw [hC, if_pos hB, if_pos (Nat.lt_succ_self a)]
  rw [h1, h2] at h
  unfold RW
  iintro ⟨H, HK⟩
  ihave H := h $$ H
  icases H with ⟨-, H⟩
  iapply H
  iexact HK

/-- The invariant of the loop over the active experts. -/
def LI (g : ℕ → BitVec 32) (q0 : PosShare TreeShare) (ft : S16.Idx → Elt F .i32) (k : ℕ) : sProp (MT nD τ sig Unit (Elt F) ℕ UU ℕ) :=
  iprop(P5 c ft ∗ P0 c q0 fg ∗ OW c ∗ SLT c fx fs fw (act g) (cnt g 16) k ∗ SLT c fx fs fw (act g) (cnt g 16) (k + 1) ∗ (∃ f, P9 c f) ∗ (∃ f, P10 c f) ∗
    OS c fx fs fw fg (act g) k ∗ OS c fx fs fw fg (act g) (k + 1) ∗ RW c fx fs fw fg g (k - 2) k)
end

section
variable {F : FTy → Type} [FloatOps F] (c : Dev nD)
variable {fx : S16x24x1536.Idx → Elt F .bf16} {fs : S16x56x12.Idx → Elt F .f32} {fw : S16x7168x1536.Idx → Elt F .fp8e4m3} {fg : S16.Idx → Elt F .i32}
variable {v0 v6 v12 v18 v24 v30 v36 v42 v48 v54 v60 v66 v72 v78 v84 v90 : BitVec 32} (hw : k0_chk15 v0 v6 v12 v18 v24 v30 v36 v42 v48 v54 v60 v66 v72 v78 v84 v90) {g : ℕ → BitVec 32} (hN : NW v0 v6 v12 v18 v24 v30 v36 v42 v48 v54 v60 v66 v72 v78 v84 v90 = BitVec.ofNat 32 (cnt g 16))
  {ft : S16.Idx → Elt F .i32} (hT : ∀ i, i < cnt g 16 → tw (F := F) ft (p16 i) = BitVec.ofNat 32 (act g i).val)
  {q0 : PosShare TreeShare} {v95 : BitVec 32} {v157 : BitVec 1}

include hw hN hT in
theorem trip_inv (k : Fin (k0_t1_loop v0 v6 v12 v18 v24 v30 v36 v42 v48 v54 v60 v66 v72 v78 v84 v90).trips) :
    LI c fx fs fw fg g q0 ft k.val ⊢ W c (k0_t1_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw v95 v157 k ⟨⟩) (fun _ => LI c fx fs fw fg g q0 ft (k.val + 1)) := by
  have hkn := klt (cnt_le g 16) hN k
  unfold LI
  rw [SLT_in c fx fs fw (act g) (cnt g 16) hkn]
  iintro ⟨H5, H0, HW, ⟨HX, HS, HG0, HG1, HG2, HG3, HG4, HG5, HG6⟩, HSL, H9, H10, HO, HO1, HR⟩
  ihave HR := (rw_take c fx fs fw fg (Nat.sub_le k.val 2) hkn) $$ HR
  icases HR with ⟨HRow, HR⟩
  by_cases h2 : 2 ≤ k.val
  · have e1 : OS c fx fs fw fg (act g) k.val = OinK c fx fs fw fg (sl k.val) (act g (k.val - 2)) := by unfold OS; rw [if_pos h2]
    ihave HO := (Entails.of_eq (e1.trans (by unfold OinK; rfl) : _ = iprop(∃ v : S24x7168.Idx → Elt F .bf16, ⌜OKv fx fs fw fg (act g (k.val - 2)) v⌝ ∗ Oin c v (sl k.val) (act g (k.val - 2))))) $$ HO
    icases HO with ⟨%v, %hv, HO⟩
    iapply (trip c hw (cnt_le g 16) hN hT k (fx := fx) (fs := fs) (fw := fw) (fg := fg) (vv := fun _ => v) (q0 := q0)) $$ [H5 H0 HW HX HS HG0 HG1 HG2 HG3 HG4 HG5 HG6 H9 H10 HO HRow]
    · isplitl [H5]; · iexact H5
      isplitl [H0]; · iexact H0
      isplitl [HW]; · iexact HW
      isplitl [HX]; · iexact HX
      isplitl [HS]; · iexact HS
      isplitl [HG0]; · iexact HG0
      isplitl [HG1]; · iexact HG1
      isplitl [HG2]; · iexact HG2
      isplitl [HG3]; · iexact HG3
      isplitl [HG4]; · iexact HG4
      isplitl [HG5]; · iexact HG5
      isplitl [HG6]; · iexact HG6
      isplitl [H9]; · iexact H9
      isplitl [H10]; · iexact H10
      isplitl [HO]
      · iapply (Entails.of_eq (show Oin c v (sl k.val) (act g (k.val - 2)) = Oprev c (act g) (fun _ => v) k.val by unfold Oprev; rw [if_pos h2])); iexact HO
      iexact HRow
    iintro %v2 ⟨HO, %hv2, H5, H0, HW, HX, HS, HG0, HG1, HG2, HG3, HG4, HG5, HG6, H9, H10, HRV⟩
    ihave HRV := (Entails.of_eq (show Rprev c (act g) (fun _ => v) k.val = RowV c v (act g (k.val - 2)) by unfold Rprev; rw [if_pos h2])) $$ HRV
    ihave HR := (rw_put c fx fs fw fg (g := g) (a := k.val - 2) (b := k.val + 1) (by omega) (by omega)) $$ [HR HRV]
    · isplitl [HR]; · iexact HR
      iapply (Entails.of_eq (show iprop(∃ v : S24x7168.Idx → Elt F .bf16, ⌜OKv fx fs fw fg (act g (k.val - 2)) v⌝ ∗ RowV c v (act g (k.val - 2))) = RowK c fx fs fw fg (act g (k.val - 2)) by unfold RowK; rfl))
      iexists v
      isplitr; · ipureintro; exact hv
      iexact HRV
    ihave HR := (Entails.of_eq (show RW c fx fs fw fg g (k.val - 2 + 1) (k.val + 1) = RW c fx fs fw fg g (k.val + 1 - 2) (k.val + 1) by rw [show k.val - 2 + 1 = k.val + 1 - 2 by omega])) $$ HR
    isplitl [H5]; · iexact H5
    isplitl [H0]; · iexact H0
    isplitl [HW]; · iexact HW
    isplitl [HSL]; · iexact HSL
    isplitl [HX HS HG0 HG1 HG2 HG3 HG4 HG5 HG6]
    · iapply (Entails.of_eq (SLT_next c fx fs fw (act g) (cnt g 16) k.val).symm)
      isplitl [HX]; · iexact HX
      isplitl [HS]; · iexact HS
      isplitl [HG0]; · iexact HG0
      isplitl [HG1]; · iexact HG1
      isplitl [HG2]; · iexact HG2
      isplitl [HG3]; · iexact HG3
      isplitl [HG4]; · iexact HG4
      isplitl [HG5]; · iexact HG5
      iexact HG6
    isplitl [H9]; · iexact H9
    isplitl [H10]; · iexact H10
    isplitl [HO1]; · iexact HO1
    isplitl [HO]
    · have e2 : OS c fx fs fw fg (act g) (k.val + 2) = OinK c fx fs fw fg (sl k.val) (act g k.val) := by
        unfold OS; rw [if_pos (show 2 ≤ k.val + 2 by omega), sl_succ2]; rfl
      iapply (Entails.of_eq (show iprop(∃ v : S24x7168.Idx → Elt F .bf16, ⌜OKv fx fs fw fg (act g k.val) v⌝ ∗ Oin c v (sl k.val) (act g k.val)) = OS c fx fs fw fg (act g) (k.val + 2) by rw [e2]; unfold OinK; rfl))
      iexists v2
      isplitr; · ipureintro; exact hv2
      iexact HO
    iexact HR
  · have e1 : OS c fx fs fw fg (act g) k.val = Ofree c (sl k.val) := by unfold OS; rw [if_neg h2]
    ihave HO := (Entails.of_eq e1) $$ HO
    iapply (trip c hw (cnt_le g 16) hN hT k (fx := fx) (fs := fs) (fw := fw) (fg := fg) (vv := fun _ => k0_pay435 (F := F)) (q0 := q0)) $$ [H5 H0 HW HX HS HG0 HG1 HG2 HG3 HG4 HG5 HG6 H9 H10 HO HRow]
    · isplitl [H5]; · iexact H5
      isplitl [H0]; · iexact H0
      isplitl [HW]; · iexact HW
      isplitl [HX]; · iexact HX
      isplitl [HS]; · iexact HS
      isplitl [HG0]; · iexact HG0
      isplitl [HG1]; · iexact HG1
      isplitl [HG2]; · iexact HG2
      isplitl [HG3]; · iexact HG3
      isplitl [HG4]; · iexact HG4
      isplitl [HG5]; · iexact HG5
      isplitl [HG6]; · iexact HG6
      isplitl [H9]; · iexact H9
      isplitl [H10]; · iexact H10
      isplitl [HO]
      · iapply (Entails.of_eq (show Ofree c (sl k.val) = Oprev c (act g) (fun _ => k0_pay435 (F := F)) k.val by unfold Oprev; rw [if_neg h2])); iexact HO
      iexact HRow
    iintro %v2 ⟨HO, %hv2, H5, H0, HW, HX, HS, HG0, HG1, HG2, HG3, HG4, HG5, HG6, H9, H10, HRV⟩
    ihave HR := (Entails.of_eq (show RW c fx fs fw fg g (k.val - 2) (k.val + 1) = RW c fx fs fw fg g (k.val + 1 - 2) (k.val + 1) by rw [show k.val + 1 - 2 = k.val - 2 by omega])) $$ HR
    isplitl [H5]; · iexact H5
    isplitl [H0]; · iexact H0
    isplitl [HW]; · iexact HW
    isplitl [HSL]; · iexact HSL
    isplitl [HX HS HG0 HG1 HG2 HG3 HG4 HG5 HG6]
    · iapply (Entails.of_eq (SLT_next c fx fs fw (act g) (cnt g 16) k.val).symm)
      isplitl [HX]; · iexact HX
      isplitl [HS]; · iexact HS
      isplitl [HG0]; · iexact HG0
      isplitl [HG1]; · iexact HG1
      isplitl [HG2]; · iexact HG2
      isplitl [HG3]; · iexact HG3
      isplitl [HG4]; · iexact HG4
      isplitl [HG5]; · iexact HG5
      iexact HG6
    isplitl [H9]; · iexact H9
    isplitl [H10]; · iexact H10
    isplitl [HO1]; · iexact HO1
    isplitl [HO]
    · have e2 : OS c fx fs fw fg (act g) (k.val + 2) = OinK c fx fs fw fg (sl k.val) (act g k.val) := by
        unfold OS; rw [if_pos (show 2 ≤ k.val + 2 by omega), sl_succ2]; rfl
      iapply (Entails.of_eq (show iprop(∃ v : S24x7168.Idx → Elt F .bf16, ⌜OKv fx fs fw fg (act g k.val) v⌝ ∗ Oin c v (sl k.val) (act g k.val)) = OS c fx fs fw fg (act g) (k.val + 2) by rw [e2]; unfold OinK; rfl))
      iexists v2
      isplitr; · ipureintro; exact hv2
      iexact HO
    iexact HR

include hN hT in
theorem loops {α : Type} {Q : α → sProp (MT nD τ sig Unit (Elt F) ℕ UU ℕ)} {R : Prog (TpuEff nD τ sig (Elt F) Λ₀ .tc) α} {b2 : Fin (k0_t2_loop v0 v6 v12 v18 v24 v30 v36 v42 v48 v54 v60 v66 v72 v78 v84 v90).trips → Unit → Prog (TpuEff nD τ sig (Elt F) Λ₀ .tc) Unit} :
    LI c fx fs fw fg g q0 ft 0 ⊢ iprop((LI c fx fs fw fg g q0 ft (cnt g 16) -∗ W c R Q) -∗
      W c (Scf.Loop.for (k0_t1_loop v0 v6 v12 v18 v24 v30 v36 v42 v48 v54 v60 v66 v72 v78 v84 v90) (k0_t1_ok v0 v6 v12 v18 v24 v30 v36 v42 v48 v54 v60 v66 v72 v78 v84 v90 hw) ⟨⟩ (k0_t1_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw v95 v157) >>= fun _ =>
        Scf.Loop.for (k0_t2_loop v0 v6 v12 v18 v24 v30 v36 v42 v48 v54 v60 v66 v72 v78 v84 v90) (k0_t2_ok v0 v6 v12 v18 v24 v30 v36 v42 v48 v54 v60 v66 v72 v78 v84 v90 hw) ⟨⟩ b2 >>= fun _ => R) Q) := by
  iintro H K
  iapply (Scf.wp_for_bind (E := TpuEff nD τ sig (Elt F) Λ₀ .tc) _ _ _ _ _ _ _ _ _ (fun k _ => LI c fx fs fw fg g q0 ft k) (fun k _ => trip_inv c hw hN hT k)) $$ H
  iintro %_ H
  iapply (Scf.wp_for_bind (E := TpuEff nD τ sig (Elt F) Λ₀ .tc) _ _ _ _ _ _ _ _ _ (fun k _ => LI c fx fs fw fg g q0 ft (cnt g 16)) (fun k _ => no2 (cnt_le g 16) hN k)) $$ [H]
  · have := trips1 (cnt_le g 16) hN
    rw [← this]
    iexact H
  iintro %_ H
  iapply K $$ H
end

end Cert.Proof.Kernel
end
end
-- ==== Proof.Kernel.Prologue.lean ====
module

public import proofs.«01_k».proof.Proof.Kernel.Loop
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Transfers
public import Idealize.ShloMosaic.Lib.Batch
public import Idealize.ShloMosaic.Adequacy
public import Idealize.ShloMosaic.Init

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

section
variable {F : FTy → Type} [FloatOps F] (c : Dev nD)
variable {fx : S16x24x1536.Idx → Elt F .bf16} {fs : S16x56x12.Idx → Elt F .f32} {fw : S16x7168x1536.Idx → Elt F .fp8e4m3}
variable {v0 v6 v12 v18 v24 v30 v36 v42 v48 v54 v60 v66 v72 v78 v84 v90 : BitVec 32} {n : ℕ} (hn : n ≤ 16) (hN : NW v0 v6 v12 v18 v24 v30 v36 v42 v48 v54 v60 v66 v72 v78 v84 v90 = BitVec.ofNat 32 n)
  {act : ℕ → Fin 16} {ft : S16.Idx → Elt F .i32} (hT : ∀ i, i < n → tw ft (p16 i) = BitVec.ofNat 32 (act i).val)

include hT in
theorem part1_spec (hi : 0 < n) (h : k0_cond17 v0 v6 v12 v18 v24 v30 v36 v42 v48 v54 v60 v66 v72 v78 v84 v90 = 1#1) {Q : _ → sProp (MT nD τ sig Unit (Elt F) ℕ UU ℕ)} :
    iprop(P5 c ft ∗ Xfree c fx (sl 0) ∗ Sfree c fs (sl 0) ∗ Gfree c fw (sl 0) 0) ⊢ iprop((P5 c ft ∗ Xin c fx (sl 0) (act 0) ∗ Sin c fs (sl 0) (act 0) ∗ Gin c fw (sl 0) 0 (act 0) -∗ Q ⟨tw ft (p16 0), by rw [hT _ hi]; exact chk19 _⟩) -∗ W c (k0_part1 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 h) Q) := by
  rw [k0_part1_eq_skeleton]
  unfold k0_part1_skel
  dsimp only
  iintro ⟨H5, HX, HS, HG0⟩ K
  iapply (lw5 c (p16 0) rfl) $$ H5
  iintro H5
  iapply (W_assume c (by rw [hT _ hi]; exact chk16 _))
  iapply (startX c (fx := fx) (sl 0) (act 0) rfl rfl (by rw [hT _ hi]; exact off16 _)) $$ HX
  iintro HX
  iapply (lw5 c (p16 0) rfl) $$ H5
  iintro H5
  iapply (W_assume c (by rw [hT _ hi]; exact chk17 _))
  iapply (startS c (fx := fs) (sl 0) (act 0) rfl rfl (by rw [hT _ hi]; exact off17 _)) $$ HS
  iintro HS
  iapply (lw5 c (p16 0) rfl) $$ H5
  iintro H5
  iapply (W_assume c (by rw [hT _ hi]; exact chk18 _))
  iapply (startG c (fx := fw) (sl 0) 0 (act 0) rfl rfl (by rw [hT _ hi]; exact off18 _)) $$ HG0
  iintro HG0
  iapply (lw5 c (p16 0) rfl) $$ H5
  iintro H5
  iapply (W_assume c (by rw [hT _ hi]; exact chk19 _))
  iapply W_pure
  iapply K
  isplitl [H5]; · iexact H5
  isplitl [HX]; · iexact HX
  isplitl [HS]; · iexact HS
  iexact HG0

include hT in
theorem part2_spec (hi : 0 < n) (h : k0_cond17 v0 v6 v12 v18 v24 v30 v36 v42 v48 v54 v60 v66 v72 v78 v84 v90 = 1#1) (v266 : BitVec 32) (hv : v266 = BitVec.ofNat 32 (act 0).val) (hv2 : k0_chk19 v0 v6 v12 v18 v24 v30 v36 v42 v48 v54 v60 v66 v72 v78 v84 v90 v266) {Q : _ → sProp (MT nD τ sig Unit (Elt F) ℕ UU ℕ)} :
    iprop(P5 c ft ∗ Gfree c fw (sl 0) 1 ∗ Gfree c fw (sl 0) 2 ∗ Gfree c fw (sl 0) 3 ∗ Gfree c fw (sl 0) 4) ⊢ iprop((P5 c ft ∗ Gin c fw (sl 0) 1 (act 0) ∗ Gin c fw (sl 0) 2 (act 0) ∗ Gin c fw (sl 0) 3 (act 0) ∗ Gin c fw (sl 0) 4 (act 0) -∗ Q ⟨tw ft (p16 0), by rw [hT _ hi]; exact chk23 _⟩) -∗ W c (k0_part2 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 h v266 hv2) Q) := by
  rw [k0_part2_eq_skeleton]
  unfold k0_part2_skel
  dsimp only
  iintro ⟨H5, HG1, HG2, HG3, HG4⟩ K
  iapply (startG c (fx := fw) (sl 0) 1 (act 0) rfl rfl (by rw [hv]; exact off19 _)) $$ HG1
  iintro HG1
  iapply (lw5 c (p16 0) rfl) $$ H5
  iintro H5
  iapply (W_assume c (by rw [hT _ hi]; exact chk20 _))
  iapply (startG c (fx := fw) (sl 0) 2 (act 0) rfl rfl (by rw [hT _ hi]; exact off20 _)) $$ HG2
  iintro HG2
  iapply (lw5 c (p16 0) rfl) $$ H5
  iintro H5
  iapply (W_assume c (by rw [hT _ hi]; exact chk21 _))
  iapply (startG c (fx := fw) (sl 0) 3 (act 0) rfl rfl (by rw [hT _ hi]; exact off21 _)) $$ HG3
  iintro HG3
  iapply (lw5 c (p16 0) rfl) $$ H5
  iintro H5
  iapply (W_assume c (by rw [hT _ hi]; exact chk22 _))
  iapply (startG c (fx := fw) (sl 0) 4 (act 0) rfl rfl (by rw [hT _ hi]; exact off22 _)) $$ HG4
  iintro HG4
  iapply (lw5 c (p16 0) rfl) $$ H5
  iintro H5
  iapply (W_assume c (by rw [hT _ hi]; exact chk23 _))
  iapply W_pure
  iapply K
  isplitl [H5]; · iexact H5
  isplitl [HG1]; · iexact HG1
  isplitl [HG2]; · iexact HG2
  isplitl [HG3]; · iexact HG3
  iexact HG4

include hn hN hT in
theorem if17 {α : Type} {Q : α → sProp (MT nD τ sig Unit (Elt F) ℕ UU ℕ)} {R : Prog (TpuEff nD τ sig (Elt F) Λ₀ .tc) α} :
    iprop(P5 c ft ∗ SFree c fx fs fw (sl 0)) ⊢ iprop((P5 c ft ∗ SLT c fx fs fw act n 0 -∗ W c R Q) -∗ W c (if k0_h17 : k0_cond17 v0 v6 v12 v18 v24 v30 v36 v42 v48 v54 v60 v66 v72 v78 v84 v90 = 1#1 then (do
        let ⟨v266, k0_hw19⟩ : Σ' (v266 : Elt F .i32), k0_chk19 v0 v6 v12 v18 v24 v30 v36 v42 v48 v54 v60 v66 v72 v78 v84 v90 v266 ← k0_part1 A0 (Memref.isWhole_whole _ : A0.IsWhole) A1 (Memref.isWhole_whole _ : A1.IsWhole) A2 (Memref.isWhole_whole _ : A2.IsWhole) A3 (Memref.isWhole_whole _ : A3.IsWhole) A4 (Memref.isWhole_whole _ : A4.IsWhole) A5 (Memref.isWhole_whole _ : A5.IsWhole) A6 (Memref.isWhole_whole _ : A6.IsWhole) A7 (Memref.isWhole_whole _ : A7.IsWhole) A8 (Memref.isWhole_whole _ : A8.IsWhole) A9 (Memref.isWhole_whole _ : A9.IsWhole) A10 (Memref.isWhole_whole _ : A10.IsWhole) A11 (Memref.isWhole_whole _ : A11.IsWhole) A12 (Memref.isWhole_whole _ : A12.IsWhole) cc0_scratch8 cc0_scratch9 cc0_scratch10 cc0_scratch11 cc0_scratch12 v0 v6 v12 v18 v24 v30 v36 v42 v48 v54 v60 v66 v72 v78 v84 v90 k0_h17
        let ⟨v294, k0_hw23⟩ : Σ' (v294 : Elt F .i32), k0_chk23 v0 v6 v12 v18 v24 v30 v36 v42 v48 v54 v60 v66 v72 v78 v84 v90 v294 ← k0_part2 A0 (Memref.isWhole_whole _ : A0.IsWhole) A1 (Memref.isWhole_whole _ : A1.IsWhole) A2 (Memref.isWhole_whole _ : A2.IsWhole) A3 (Memref.isWhole_whole _ : A3.IsWhole) A4 (Memref.isWhole_whole _ : A4.IsWhole) A5 (Memref.isWhole_whole _ : A5.IsWhole) A6 (Memref.isWhole_whole _ : A6.IsWhole) A7 (Memref.isWhole_whole _ : A7.IsWhole) A8 (Memref.isWhole_whole _ : A8.IsWhole) A9 (Memref.isWhole_whole _ : A9.IsWhole) A10 (Memref.isWhole_whole _ : A10.IsWhole) A11 (Memref.isWhole_whole _ : A11.IsWhole) A12 (Memref.isWhole_whole _ : A12.IsWhole) cc0_scratch8 cc0_scratch9 cc0_scratch10 cc0_scratch11 cc0_scratch12 v0 v6 v12 v18 v24 v30 v36 v42 v48 v54 v60 v66 v72 v78 v84 v90 k0_h17 v266 k0_hw19
        let v295 : DmaSems sig S1x1 := cc0_scratch10.slice (Rect.unit (s := S2x7) ![0, 5] S1x1.size inb_S2x7_S1x1_0_5)
        let v296 : DmaSems sig S_ := v295.squeeze S_ squeezes_S1x1_S_
        let v297 : Memref sig .tc .vmem S1x1024x1536 .fp8e4m3 := A8.slice (Rect.unit (s := S2x7168x1536) ![0, 5120, 0] S1x1024x1536.size inb_S2x7168x1536_S1x1024x1536_0_5120_0) (fun _ => rfl)
        let v298 : Memref sig .tc .vmem S1024x1536 .fp8e4m3 := v297.squeeze S1024x1536 squeezes_S1x1024x1536_S1024x1536
        let v299 : Memref sig .tc .hbm S1x1024x1536 .fp8e4m3 := A2.slice (Rect.unit (s := S16x7168x1536) (k0_off23 v294) S1x1024x1536.size (k0_off23_inb v0 v6 v12 v18 v24 v30 v36 v42 v48 v54 v60 v66 v72 v78 v84 v90 v294 k0_hw23 k0_h17)) (fun _ => rfl)
        let v300 : Memref sig .tc .hbm S1024x1536 .fp8e4m3 := v299.squeeze S1024x1536 squeezes_S1x1024x1536_S1024x1536
        Prog.lift (.enqueueDma v300 (.here v298) (.dma v296.sem) (((Memref.isWhole_whole _ : A2.IsWhole).wordExact_slice rfl _ (k0_off23_wordsfp8e4m3 v0 v6 v12 v18 v24 v30 v36 v42 v48 v54 v60 v66 v72 v78 v84 v90 v294 k0_hw23 k0_h17)).reshape _ _) (((Memref.isWhole_whole _ : A8.IsWhole).wordExact_slice rfl _ wordsfp8e4m3_S2x7168x1536_S1x1024x1536_0_5120_0).reshape _ _) ⟨Or.inl rfl, trivial⟩)
        let v301 : Elt F .i32 ← smemLoad A5 (Rect.unit (s := S16) ![0] S1.size inb_S16_S1_0) numel1_S1 rfl
        have k0_hw24 : k0_chk24 v0 v6 v12 v18 v24 v30 v36 v42 v48 v54 v60 v66 v72 v78 v84 v90 v301 := (← Prog.lift (TpuEff.assume (k0_chk24 v0 v6 v12 v18 v24 v30 v36 v42 v48 v54 v60 v66 v72 v78 v84 v90 v301) (k0_chk24.dec v0 v6 v12 v18 v24 v30 v36 v42 v48 v54 v60 v66 v72 v78 v84 v90 v301))).down
        let v302 : DmaSems sig S1x1 := cc0_scratch10.slice (Rect.unit (s := S2x7) ![0, 6] S1x1.size inb_S2x7_S1x1_0_6)
        let v303 : DmaSems sig S_ := v302.squeeze S_ squeezes_S1x1_S_
        let v304 : Memref sig .tc .vmem S1x1024x1536 .fp8e4m3 := A8.slice (Rect.unit (s := S2x7168x1536) ![0, 6144, 0] S1x1024x1536.size inb_S2x7168x1536_S1x1024x1536_0_6144_0) (fun _ => rfl)
        let v305 : Memref sig .tc .vmem S1024x1536 .fp8e4m3 := v304.squeeze S1024x1536 squeezes_S1x1024x1536_S1024x1536
        let v306 : Memref sig .tc .hbm S1x1024x1536 .fp8e4m3 := A2.slice (Rect.unit (s := S16x7168x1536) (k0_off24 v301) S1x1024x1536.size (k0_off24_inb v0 v6 v12 v18 v24 v30 v36 v42 v48 v54 v60 v66 v72 v78 v84 v90 v301 k0_hw24 k0_h17)) (fun _ => rfl)
        let v307 : Memref sig .tc .hbm S1024x1536 .fp8e4m3 := v306.squeeze S1024x1536 squeezes_S1x1024x1536_S1024x1536
        Prog.lift (.enqueueDma v307 (.here v305) (.dma v303.sem) (((Memref.isWhole_whole _ : A2.IsWhole).wordExact_slice rfl _ (k0_off24_wordsfp8e4m3 v0 v6 v12 v18 v24 v30 v36 v42 v48 v54 v60 v66 v72 v78 v84 v90 v301 k0_hw24 k0_h17)).reshape _ _) (((Memref.isWhole_whole _ : A8.IsWhole).wordExact_slice rfl _ wordsfp8e4m3_S2x7168x1536_S1x1024x1536_0_6144_0).reshape _ _) ⟨Or.inl rfl, trivial⟩)
        R) else R) Q) := by
  by_cases hi : 0 < n
  · have hc := (cond17 hn hN).2 hi
    rw [dif_pos hc, SLT_in c fx fs fw act n hi]
    unfold SFree
    iintro ⟨H5, HX, HS, HG0, HG1, HG2, HG3, HG4, HG5, HG6⟩ K
    iapply (W_bind c)
    iapply (part1_spec c hT hi hc) $$ [H5 HX HS HG0]
    · isplitl [H5]; · iexact H5
      isplitl [HX]; · iexact HX
      isplitl [HS]; · iexact HS
      iexact HG0
    iintro ⟨H5, HX, HS, HG0⟩
    dsimp only
    iapply (W_bind c)
    iapply (part2_spec c hT hi hc _ (hT _ hi) _) $$ [H5 HG1 HG2 HG3 HG4]
    · isplitl [H5]; · iexact H5
      isplitl [HG1]; · iexact HG1
      isplitl [HG2]; · iexact HG2
      isplitl [HG3]; · iexact HG3
      iexact HG4
    iintro ⟨H5, HG1, HG2, HG3, HG4⟩
    dsimp only
    iapply (startG c (fx := fw) (sl 0) 5 (act 0) rfl rfl (by rw [hT _ hi]; exact off23 _)) $$ HG5
    iintro HG5
    iapply (lw5 c (p16 0) rfl) $$ H5
    iintro H5
    iapply (W_assume c (by rw [hT _ hi]; exact chk24 _))
    iapply (startG c (fx := fw) (sl 0) 6 (act 0) rfl rfl (by rw [hT _ hi]; exact off24 _)) $$ HG6
    iintro HG6
    iapply K
    isplitl [H5]; · iexact H5
    isplitl [HX]; · iexact HX
    isplitl [HS]; · iexact HS
    isplitl [HG0]; · iexact HG0
    isplitl [HG1]; · iexact HG1
    isplitl [HG2]; · iexact HG2
    isplitl [HG3]; · iexact HG3
    isplitl [HG4]; · iexact HG4
    isplitl [HG5]; · iexact HG5
    iexact HG6
  · rw [dif_neg (mt (cond17 hn hN).1 hi), SLT_out c fx fs fw act n hi]
    iintro H K
    iapply K
    iexact H

include hT in
theorem part3_spec (hi : 1 < n) (h : k0_cond18 v0 v6 v12 v18 v24 v30 v36 v42 v48 v54 v60 v66 v72 v78 v84 v90 = 1#1) {Q : _ → sProp (MT nD τ sig Unit (Elt F) ℕ UU ℕ)} :
    iprop(P5 c ft ∗ Xfree c fx (sl 1) ∗ Sfree c fs (sl 1) ∗ Gfree c fw (sl 1) 0) ⊢ iprop((P5 c ft ∗ Xin c fx (sl 1) (act 1) ∗ Sin c fs (sl 1) (act 1) ∗ Gin c fw (sl 1) 0 (act 1) -∗ Q ⟨tw ft (p16 1), by rw [hT _ hi]; exact chk28 _⟩) -∗ W c (k0_part3 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 h) Q) := by
  rw [k0_part3_eq_skeleton]
  unfold k0_part3_skel
  dsimp only
  iintro ⟨H5, HX, HS, HG0⟩ K
  iapply (lw5 c (p16 1) rfl) $$ H5
  iintro H5
  iapply (W_assume c (by rw [hT _ hi]; exact chk25 _))
  iapply (startX c (fx := fx) (sl 1) (act 1) rfl rfl (by rw [hT _ hi]; exact off25 _)) $$ HX
  iintro HX
  iapply (lw5 c (p16 1) rfl) $$ H5
  iintro H5
  iapply (W_assume c (by rw [hT _ hi]; exact chk26 _))
  iapply (startS c (fx := fs) (sl 1) (act 1) rfl rfl (by rw [hT _ hi]; exact off26 _)) $$ HS
  iintro HS
  iapply (lw5 c (p16 1) rfl) $$ H5
  iintro H5
  iapply (W_assume c (by rw [hT _ hi]; exact chk27 _))
  iapply (startG c (fx := fw) (sl 1) 0 (act 1) rfl rfl (by rw [hT _ hi]; exact off27 _)) $$ HG0
  iintro HG0
  iapply (lw5 c (p16 1) rfl) $$ H5
  iintro H5
  iapply (W_assume c (by rw [hT _ hi]; exact chk28 _))
  iapply W_pure
  iapply K
  isplitl [H5]; · iexact H5
  isplitl [HX]; · iexact HX
  isplitl [HS]; · iexact HS
  iexact HG0

include hT in
theorem part4_spec (hi : 1 < n) (h : k0_cond18 v0 v6 v12 v18 v24 v30 v36 v42 v48 v54 v60 v66 v72 v78 v84 v90 = 1#1) (v266 : BitVec 32) (hv : v266 = BitVec.ofNat 32 (act 1).val) (hv2 : k0_chk28 v0 v6 v12 v18 v24 v30 v36 v42 v48 v54 v60 v66 v72 v78 v84 v90 v266) {Q : _ → sProp (MT nD τ sig Unit (Elt F) ℕ UU ℕ)} :
    iprop(P5 c ft ∗ Gfree c fw (sl 1) 1 ∗ Gfree c fw (sl 1) 2 ∗ Gfree c fw (sl 1) 3 ∗ Gfree c fw (sl 1) 4) ⊢ iprop((P5 c ft ∗ Gin c fw (sl 1) 1 (act 1) ∗ Gin c fw (sl 1) 2 (act 1) ∗ Gin c fw (sl 1) 3 (act 1) ∗ Gin c fw (sl 1) 4 (act 1) -∗ Q ⟨tw ft (p16 1), by rw [hT _ hi]; exact chk32 _⟩) -∗ W c (k0_part4 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 h v266 hv2) Q) := by
  rw [k0_part4_eq_skeleton]
  unfold k0_part4_skel
  dsimp only
  iintro ⟨H5, HG1, HG2, HG3, HG4⟩ K
  iapply (startG c (fx := fw) (sl 1) 1 (act 1) rfl rfl (by rw [hv]; exact off28 _)) $$ HG1
  iintro HG1
  iapply (lw5 c (p16 1) rfl) $$ H5
  iintro H5
  iapply (W_assume c (by rw [hT _ hi]; exact chk29 _))
  iapply (startG c (fx := fw) (sl 1) 2 (act 1) rfl rfl (by rw [hT _ hi]; exact off29 _)) $$ HG2
  iintro HG2
  iapply (lw5 c (p16 1) rfl) $$ H5
  iintro H5
  iapply (W_assume c (by rw [hT _ hi]; exact chk30 _))
  iapply (startG c (fx := fw) (sl 1) 3 (act 1) rfl rfl (by rw [hT _ hi]; exact off30 _)) $$ HG3
  iintro HG3
  iapply (lw5 c (p16 1) rfl) $$ H5
  iintro H5
  iapply (W_assume c (by rw [hT _ hi]; exact chk31 _))
  iapply (startG c (fx := fw) (sl 1) 4 (act 1) rfl rfl (by rw [hT _ hi]; exact off31 _)) $$ HG4
  iintro HG4
  iapply (lw5 c (p16 1) rfl) $$ H5
  iintro H5
  iapply (W_assume c (by rw [hT _ hi]; exact chk32 _))
  iapply W_pure
  iapply K
  isplitl [H5]; · iexact H5
  isplitl [HG1]; · iexact HG1
  isplitl [HG2]; · iexact HG2
  isplitl [HG3]; · iexact HG3
  iexact HG4

include hn hN hT in
theorem if18 {α : Type} {Q : α → sProp (MT nD τ sig Unit (Elt F) ℕ UU ℕ)} {R : Prog (TpuEff nD τ sig (Elt F) Λ₀ .tc) α} :
    iprop(P5 c ft ∗ SFree c fx fs fw (sl 1)) ⊢ iprop((P5 c ft ∗ SLT c fx fs fw act n 1 -∗ W c R Q) -∗ W c (if k0_h18 : k0_cond18 v0 v6 v12 v18 v24 v30 v36 v42 v48 v54 v60 v66 v72 v78 v84 v90 = 1#1 then (do
        let ⟨v266, k0_hw28⟩ : Σ' (v266 : Elt F .i32), k0_chk28 v0 v6 v12 v18 v24 v30 v36 v42 v48 v54 v60 v66 v72 v78 v84 v90 v266 ← k0_part3 A0 (Memref.isWhole_whole _ : A0.IsWhole) A1 (Memref.isWhole_whole _ : A1.IsWhole) A2 (Memref.isWhole_whole _ : A2.IsWhole) A3 (Memref.isWhole_whole _ : A3.IsWhole) A4 (Memref.isWhole_whole _ : A4.IsWhole) A5 (Memref.isWhole_whole _ : A5.IsWhole) A6 (Memref.isWhole_whole _ : A6.IsWhole) A7 (Memref.isWhole_whole _ : A7.IsWhole) A8 (Memref.isWhole_whole _ : A8.IsWhole) A9 (Memref.isWhole_whole _ : A9.IsWhole) A10 (Memref.isWhole_whole _ : A10.IsWhole) A11 (Memref.isWhole_whole _ : A11.IsWhole) A12 (Memref.isWhole_whole _ : A12.IsWhole) cc0_scratch8 cc0_scratch9 cc0_scratch10 cc0_scratch11 cc0_scratch12 v0 v6 v12 v18 v24 v30 v36 v42 v48 v54 v60 v66 v72 v78 v84 v90 k0_h18
        let ⟨v294, k0_hw32⟩ : Σ' (v294 : Elt F .i32), k0_chk32 v0 v6 v12 v18 v24 v30 v36 v42 v48 v54 v60 v66 v72 v78 v84 v90 v294 ← k0_part4 A0 (Memref.isWhole_whole _ : A0.IsWhole) A1 (Memref.isWhole_whole _ : A1.IsWhole) A2 (Memref.isWhole_whole _ : A2.IsWhole) A3 (Memref.isWhole_whole _ : A3.IsWhole) A4 (Memref.isWhole_whole _ : A4.IsWhole) A5 (Memref.isWhole_whole _ : A5.IsWhole) A6 (Memref.isWhole_whole _ : A6.IsWhole) A7 (Memref.isWhole_whole _ : A7.IsWhole) A8 (Memref.isWhole_whole _ : A8.IsWhole) A9 (Memref.isWhole_whole _ : A9.IsWhole) A10 (Memref.isWhole_whole _ : A10.IsWhole) A11 (Memref.isWhole_whole _ : A11.IsWhole) A12 (Memref.isWhole_whole _ : A12.IsWhole) cc0_scratch8 cc0_scratch9 cc0_scratch10 cc0_scratch11 cc0_scratch12 v0 v6 v12 v18 v24 v30 v36 v42 v48 v54 v60 v66 v72 v78 v84 v90 k0_h18 v266 k0_hw28
        let v295 : DmaSems sig S1x1 := cc0_scratch10.slice (Rect.unit (s := S2x7) ![1, 5] S1x1.size inb_S2x7_S1x1_1_5)
        let v296 : DmaSems sig S_ := v295.squeeze S_ squeezes_S1x1_S_
        let v297 : Memref sig .tc .vmem S1x1024x1536 .fp8e4m3 := A8.slice (Rect.unit (s := S2x7168x1536) ![1, 5120, 0] S1x1024x1536.size inb_S2x7168x1536_S1x1024x1536_1_5120_0) (fun _ => rfl)
        let v298 : Memref sig .tc .vmem S1024x1536 .fp8e4m3 := v297.squeeze S1024x1536 squeezes_S1x1024x1536_S1024x1536
        let v299 : Memref sig .tc .hbm S1x1024x1536 .fp8e4m3 := A2.slice (Rect.unit (s := S16x7168x1536) (k0_off32 v294) S1x1024x1536.size (k0_off32_inb v0 v6 v12 v18 v24 v30 v36 v42 v48 v54 v60 v66 v72 v78 v84 v90 v294 k0_hw32 k0_h18)) (fun _ => rfl)
        let v300 : Memref sig .tc .hbm S1024x1536 .fp8e4m3 := v299.squeeze S1024x1536 squeezes_S1x1024x1536_S1024x1536
        Prog.lift (.enqueueDma v300 (.here v298) (.dma v296.sem) (((Memref.isWhole_whole _ : A2.IsWhole).wordExact_slice rfl _ (k0_off32_wordsfp8e4m3 v0 v6 v12 v18 v24 v30 v36 v42 v48 v54 v60 v66 v72 v78 v84 v90 v294 k0_hw32 k0_h18)).reshape _ _) (((Memref.isWhole_whole _ : A8.IsWhole).wordExact_slice rfl _ wordsfp8e4m3_S2x7168x1536_S1x1024x1536_1_5120_0).reshape _ _) ⟨Or.inl rfl, trivial⟩)
        let v301 : Elt F .i32 ← smemLoad A5 (Rect.unit (s := S16) ![1] S1.size inb_S16_S1_1) numel1_S1 rfl
        have k0_hw33 : k0_chk33 v0 v6 v12 v18 v24 v30 v36 v42 v48 v54 v60 v66 v72 v78 v84 v90 v301 := (← Prog.lift (TpuEff.assume (k0_chk33 v0 v6 v12 v18 v24 v30 v36 v42 v48 v54 v60 v66 v72 v78 v84 v90 v301) (k0_chk33.dec v0 v6 v12 v18 v24 v30 v36 v42 v48 v54 v60 v66 v72 v78 v84 v90 v301))).down
        let v302 : DmaSems sig S1x1 := cc0_scratch10.slice (Rect.unit (s := S2x7) ![1, 6] S1x1.size inb_S2x7_S1x1_1_6)
        let v303 : DmaSems sig S_ := v302.squeeze S_ squeezes_S1x1_S_
        let v304 : Memref sig .tc .vmem S1x1024x1536 .fp8e4m3 := A8.slice (Rect.unit (s := S2x7168x1536) ![1, 6144, 0] S1x1024x1536.size inb_S2x7168x1536_S1x1024x1536_1_6144_0) (fun _ => rfl)
        let v305 : Memref sig .tc .vmem S1024x1536 .fp8e4m3 := v304.squeeze S1024x1536 squeezes_S1x1024x1536_S1024x1536
        let v306 : Memref sig .tc .hbm S1x1024x1536 .fp8e4m3 := A2.slice (Rect.unit (s := S16x7168x1536) (k0_off33 v301) S1x1024x1536.size (k0_off33_inb v0 v6 v12 v18 v24 v30 v36 v42 v48 v54 v60 v66 v72 v78 v84 v90 v301 k0_hw33 k0_h18)) (fun _ => rfl)
        let v307 : Memref sig .tc .hbm S1024x1536 .fp8e4m3 := v306.squeeze S1024x1536 squeezes_S1x1024x1536_S1024x1536
        Prog.lift (.enqueueDma v307 (.here v305) (.dma v303.sem) (((Memref.isWhole_whole _ : A2.IsWhole).wordExact_slice rfl _ (k0_off33_wordsfp8e4m3 v0 v6 v12 v18 v24 v30 v36 v42 v48 v54 v60 v66 v72 v78 v84 v90 v301 k0_hw33 k0_h18)).reshape _ _) (((Memref.isWhole_whole _ : A8.IsWhole).wordExact_slice rfl _ wordsfp8e4m3_S2x7168x1536_S1x1024x1536_1_6144_0).reshape _ _) ⟨Or.inl rfl, trivial⟩)
        R) else R) Q) := by
  by_cases hi : 1 < n
  · have hc := (cond18 hn hN).2 hi
    rw [dif_pos hc, SLT_in c fx fs fw act n hi]
    unfold SFree
    iintro ⟨H5, HX, HS, HG0, HG1, HG2, HG3, HG4, HG5, HG6⟩ K
    iapply (W_bind c)
    iapply (part3_spec c hT hi hc) $$ [H5 HX HS HG0]
    · isplitl [H5]; · iexact H5
      isplitl [HX]; · iexact HX
      isplitl [HS]; · iexact HS
      iexact HG0
    iintro ⟨H5, HX, HS, HG0⟩
    dsimp only
    iapply (W_bind c)
    iapply (part4_spec c hT hi hc _ (hT _ hi) _) $$ [H5 HG1 HG2 HG3 HG4]
    · isplitl [H5]; · iexact H5
      isplitl [HG1]; · iexact HG1
      isplitl [HG2]; · iexact HG2
      isplitl [HG3]; · iexact HG3
      iexact HG4
    iintro ⟨H5, HG1, HG2, HG3, HG4⟩
    dsimp only
    iapply (startG c (fx := fw) (sl 1) 5 (act 1) rfl rfl (by rw [hT _ hi]; exact off32 _)) $$ HG5
    iintro HG5
    iapply (lw5 c (p16 1) rfl) $$ H5
    iintro H5
    iapply (W_assume c (by rw [hT _ hi]; exact chk33 _))
    iapply (startG c (fx := fw) (sl 1) 6 (act 1) rfl rfl (by rw [hT _ hi]; exact off33 _)) $$ HG6
    iintro HG6
    iapply K
    isplitl [H5]; · iexact H5
    isplitl [HX]; · iexact HX
    isplitl [HS]; · iexact HS
    isplitl [HG0]; · iexact HG0
    isplitl [HG1]; · iexact HG1
    isplitl [HG2]; · iexact HG2
    isplitl [HG3]; · iexact HG3
    isplitl [HG4]; · iexact HG4
    isplitl [HG5]; · iexact HG5
    iexact HG6
  · rw [dif_neg (mt (cond18 hn hN).1 hi), SLT_out c fx fs fw act n hi]
    iintro H K
    iapply K
    iexact H

end

end Cert.Proof.Kernel
end
end
-- ==== Proof.Kernel.Main.lean ====
module

public import proofs.«01_k».proof.Proof.Kernel.Prologue
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Transfers
public import Idealize.ShloMosaic.Lib.Batch
public import Idealize.ShloMosaic.Adequacy
public import Idealize.ShloMosaic.Init

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

section
variable {F : FTy → Type} [FloatOps F] (c : Dev nD)
variable {α : Type} {Q : α → sProp (MT nD τ sig Unit (Elt F) ℕ UU ℕ)}

/-- The rows of zeros. -/
abbrev zb0 : S24x7168.Idx → Elt F .bf16 := k0_pay435 (F := F)

theorem ld12 {r : LoadRect S24x7168} {h : A12.view.LoadsAt r} {k : (r.shape.Idx → Elt F .bf16) → Prog (TpuEff nD τ sig (Elt F) Λ₀ .tc) α} {f : S24x7168.Idx → Elt F .bf16} :
    PW c A12 fullShare f ⊢ iprop((PW c A12 fullShare f -∗ W c (k (A12.view.readAt (Elt F) r f)) Q) -∗ W c (Prog.lift (.load A12 r h) >>= k) Q) :=
  ldW c (m := A12) (S := A12.view.set) (f := f) (by
    rw [show (A12.view.set : Finset _) = Finset.univ from Finset.eq_univ_iff_forall.2 fun i => by
      simp [View.set, View.setOn, A12, Memref.whole]]
    exact Finset.subset_univ _)

theorem st12 {inb} {hx : (A12.access (Rect.unit (s := S24x7168) ![0, 0] S24x7168.size inb)).Stores Finset.univ} {hm}
    {k : PUnit → Prog (TpuEff nD τ sig (Elt F) Λ₀ .tc) α} {f : S24x7168.Idx → Elt F .bf16} :
    PW c A12 fullShare f ⊢ iprop((PW c A12 fullShare (zb0 (F := F)) -∗ W c (k ⟨⟩) Q) -∗ W c (Prog.lift (.store A12 (Rect.unit (s := S24x7168) ![0, 0] S24x7168.size inb) (k0_pay435 (F := F)) Finset.univ hx hm) >>= k) Q) := by
  have h0 : (A12.view.set : Finset _) = Finset.univ := Finset.eq_univ_iff_forall.2 fun i => by
      simp [View.set, View.setOn, A12, Memref.whole]
  have hw : (A12.access (Rect.unit (s := S24x7168) ![0, 0] S24x7168.size inb)).write (Elt F) f (k0_pay435 (F := F)) Finset.univ = zb0 (F := F) := Memref.write_access_unit_zero_univ (Elt F) cc0_scratch7 (off := ![0, 0]) (by funext a; revert a; decide) inb f (zb0 (F := F))
  have := stW c (m := A12) (r := Rect.unit (s := S24x7168) ![0, 0] S24x7168.size inb) (w := k0_pay435 (F := F)) (hx := hx) (hm := hm) (k := k) (Q := Q) (S := A12.view.set) (f := f) (by rw [h0]; exact Finset.subset_univ _)
  refine this.trans ?_
  rw [hw]

/-- The share of the zero rows that no copy takes. -/
abbrev TokR (zb : S24x7168.Idx → Elt F .bf16) : sProp (MT nD τ sig Unit (Elt F) ℕ UU ℕ) := PW c A12 (Transfers.shareDrop fullShare 16) zb

theorem toks (zb : S24x7168.Idx → Elt F .bf16) : PW c A12 fullShare zb ⊣⊢ iprop(TokR c zb ∗ bigSep Finset.univ (Tok c zb)) := by
  have h : (PW c A12 fullShare zb : sProp (MT nD τ sig Unit (Elt F) ℕ UU ℕ)) ⊣⊢ _ := Transfers.pointsTo_toks_range (ℓ := A12.view.loc (c : Thread nD τ)) (S := A12.view.set) (f := zb) fullShare 16
  have h2 : Finset.range 16 = Finset.univ.image (fun e : Fin 16 => e.val) := by decide
  rw [h2, bigSep_image_of_injOn (fun a _ b _ h => Fin.ext h)] at h
  exact h

theorem rows_split (g : ℕ → BitVec 32) (fx : S16x24x1536.Idx → Elt F .bf16) (fs : S16x56x12.Idx → Elt F .f32) (fw : S16x7168x1536.Idx → Elt F .fp8e4m3) (fg : S16.Idx → Elt F .i32) (zb : S24x7168.Idx → Elt F .bf16) :
    iprop(bigSep Finset.univ (Row (F := F) c) ∗ bigSep Finset.univ (Tok c zb)) ⊢ iprop(ZR c g zb 0 ∗ RW c fx fs fw fg g 0 0) := by
  unfold ZR RW
  rw [← bigSep_sep', ← bigSep_sep']
  refine bigSep_mono fun e _ => ?_
  unfold ZE RE
  by_cases h : bit (g e.val) = 1
  · rw [if_pos h, if_pos h, if_neg (Nat.not_lt_zero _), if_neg (Nat.not_lt_zero _)]
    show iprop(Row c e ∗ Tok c zb e) ⊢ iprop(Tok c zb e ∗ Row c e)
    iintro ⟨H1, H2⟩
    isplitl [H2] <;> iassumption
  · rw [if_neg h, if_neg h, if_neg (Nat.not_lt_zero _)]
    show iprop(Row c e ∗ Tok c zb e) ⊢ iprop((Row c e ∗ Tok c zb e) ∗ emp)
    iintro H
    isplitl [H]; · iexact H
    iempintro

/-- The rows of expert `e` at the end. -/
def RowF (g : ℕ → BitVec 32) (fx : S16x24x1536.Idx → Elt F .bf16) (fs : S16x56x12.Idx → Elt F .f32) (fw : S16x7168x1536.Idx → Elt F .fp8e4m3) (fg : S16.Idx → Elt F .i32) (e : Fin 16) : sProp (MT nD τ sig Unit (Elt F) ℕ UU ℕ) :=
  if bit (g e.val) = 1 then RowK c fx fs fw fg e else RowV c (zb0 (F := F)) e

theorem dz_collect (g : ℕ → BitVec 32) (zb : S24x7168.Idx → Elt F .bf16) :
    bigSep Finset.univ (Dz c g zb) = bigSep Finset.univ (fun e : Fin 16 => if ¬ bit (g e.val) = 1 then iprop(RowV c zb e ∗ Tok c zb e) else iprop(emp)) := by
  refine Eq.trans ?_ (bigSep_filter Finset.univ (fun e : Fin 16 => ¬ bit (g e.val) = 1) (fun e => iprop(RowV c zb e ∗ Tok c zb e)))
  have him : Finset.univ.filter (fun e : Fin 16 => ¬ bit (g e.val) = 1) = Finset.univ.image (fun t : Fin (cnt (neg g) 16) => act (neg g) t.val) := by
    ext e
    simp only [Finset.mem_filter, Finset.mem_univ, true_and, Finset.mem_image]
    constructor
    · intro h
      exact ⟨⟨cnt (neg g) e.val, cnt_lt16 (neg g) e ((bit_neg g _).2 h)⟩, act_of (neg g) e ((bit_neg g _).2 h)⟩
    · rintro ⟨t, rfl⟩
      exact (bit_neg g _).1 (act_bit (neg g) t.isLt)
  rw [him, bigSep_image_of_injOn]
  · rfl
  · intro a _ b _ hab
    have := congrArg (fun e : Fin 16 => cnt (neg g) e.val) hab
    simp only [act_cnt (neg g) a.isLt, act_cnt (neg g) b.isLt] at this
    exact Fin.ext this

theorem rows_join (g : ℕ → BitVec 32) (fx : S16x24x1536.Idx → Elt F .bf16) (fs : S16x56x12.Idx → Elt F .f32) (fw : S16x7168x1536.Idx → Elt F .fp8e4m3) (fg : S16.Idx → Elt F .i32) :
    iprop(ZR c g (zb0 (F := F)) 16 ∗ bigSep Finset.univ (Dz c g (zb0 (F := F))) ∗ RW c fx fs fw fg g (cnt g 16) (cnt g 16)) ⊢
      iprop(bigSep Finset.univ (RowF c g fx fs fw fg) ∗ bigSep Finset.univ (Tok c (zb0 (F := F)))) := by
  rw [dz_collect]
  unfold ZR RW
  rw [← bigSep_sep', ← bigSep_sep', ← bigSep_sep']
  refine bigSep_mono fun e _ => ?_
  unfold ZE RE RowF
  by_cases h : bit (g e.val) = 1
  · rw [if_pos h, if_neg (not_not.2 h), if_pos h, if_pos (cnt_lt16 g e h), if_pos h]
    show iprop(Tok c (zb0 (F := F)) e ∗ emp ∗ RowK c fx fs fw fg e) ⊢ iprop(RowK c fx fs fw fg e ∗ Tok c (zb0 (F := F)) e)
    iintro ⟨H1, -, H2⟩
    isplitl [H2] <;> iassumption
  · rw [if_neg h, if_pos h, if_neg h, if_pos e.isLt, if_neg h]
    show iprop(emp ∗ (RowV c (zb0 (F := F)) e ∗ Tok c (zb0 (F := F)) e) ∗ emp) ⊢ iprop(RowV c (zb0 (F := F)) e ∗ Tok c (zb0 (F := F)) e)
    iintro ⟨-, H, -⟩
    iexact H
end

section
variable {F : FTy → Type} [FloatOps F] (c : Dev nD)
variable {fx : S16x24x1536.Idx → Elt F .bf16} {fs : S16x56x12.Idx → Elt F .f32} {fw : S16x7168x1536.Idx → Elt F .fp8e4m3} {fg : S16.Idx → Elt F .i32}
variable {v0 v6 v12 v18 v24 v30 v36 v42 v48 v54 v60 v66 v72 v78 v84 v90 : BitVec 32} {g : ℕ → BitVec 32} (hg : ∀ i, tw (F := F) fg (p16 i) = g i)
  {ft : S16.Idx → Elt F .i32} {q0 : PosShare TreeShare}

/-- The word that says whether expert `j` is inactive. -/
abbrev cw (j : BitVec 32) : BitVec 1 := Scalar.cmpi .ne (Scalar.extui (Scalar.cmpi .sle j 0#32) : BitVec 32) 0#32

include hg in
set_option maxHeartbeats 1000000 in
theorem part120_spec (hN : NW v0 v6 v12 v18 v24 v30 v36 v42 v48 v54 v60 v66 v72 v78 v84 v90 = BitVec.ofNat 32 (cnt g 16)) (hT : ∀ i, i < cnt g 16 → tw (F := F) ft (p16 i) = BitVec.ofNat 32 (act g i).val) {v95 v97 : BitVec 32} {Q : _ → sProp (MT nD τ sig Unit (Elt F) ℕ UU ℕ)} :
    iprop(P0 c q0 fg ∗ P5 c ft ∗ SFree c fx fs fw (sl 0) ∗ SFree c fx fs fw (sl 1) ∗ (∃ f : S24x7168.Idx → Elt F .bf16, PW c A12 fullShare f) ∗ Sem0 c zsem ∗ bigSep Finset.univ (Row (F := F) c)) ⊢
      iprop((P0 c q0 fg ∗ P5 c ft ∗ SLT c fx fs fw (act g) (cnt g 16) 0 ∗ SLT c fx fs fw (act g) (cnt g 16) 1 ∗ ZR c g (zb0 (F := F)) 5 ∗ ZB c g (zb0 (F := F)) (cnt (neg g) 5) 0 ∗ TokR c (zb0 (F := F)) ∗ RW c fx fs fw fg g 0 0 -∗ Q ⟨g 5, 0#32⟩) -∗
        W c (k0_part120 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 v95 v97) Q) := by
  rw [k0_part120_eq_skeleton]
  unfold k0_part120_skel
  dsimp only
  iintro ⟨H0, H5, HA, HC, H12, HS12, HR⟩ K
  iapply (if17 c (cnt_le g 16) hN hT) $$ [H5 HA]
  · isplitl [H5] <;> iassumption
  iintro ⟨H5, HA⟩
  iapply (if18 c (cnt_le g 16) hN hT) $$ [H5 HC]
  · isplitl [H5] <;> iassumption
  iintro ⟨H5, HC⟩
  icases H12 with ⟨%f12, H12⟩
  iapply (ld12 c) $$ H12
  iintro H12
  iapply (st12 c) $$ H12
  iintro H12
  ihave H12 := (toks c (zb0 (F := F))).1 $$ H12
  icases H12 with ⟨HTR, HT⟩
  imod (Transfers.batch_alloc' EC (c : Thread nD τ) () NZ (Dz c g (zb0 (F := F))) (sm := .dma zsem) (E := Set.univ)) $$ HS12 with HB
  ihave HRT := (rows_split c g fx fs fw fg (zb0 (F := F))) $$ [HR HT]
  · isplitl [HR] <;> iassumption
  icases HRT with ⟨HZ, HRW⟩
  iapply (lwg c hg 0 rfl) $$ H0
  iintro H0
  iapply (zstart c (0 : Fin 16) (zb := zb0) (cond_neg g 0) rfl) $$ [HZ HB]
  · isplitl [HZ]; · iexact HZ
    iexact HB
  iintro ⟨HZ, HB⟩
  iapply (lwg c hg 1 rfl) $$ H0
  iintro H0
  iapply (zstart c (1 : Fin 16) (zb := zb0) (cond_neg g 1) rfl) $$ [HZ HB]
  · isplitl [HZ]; · iexact HZ
    iexact HB
  iintro ⟨HZ, HB⟩
  iapply (lwg c hg 2 rfl) $$ H0
  iintro H0
  iapply (zstart c (2 : Fin 16) (zb := zb0) (cond_neg g 2) rfl) $$ [HZ HB]
  · isplitl [HZ]; · iexact HZ
    iexact HB
  iintro ⟨HZ, HB⟩
  iapply (lwg c hg 3 rfl) $$ H0
  iintro H0
  iapply (zstart c (3 : Fin 16) (zb := zb0) (cond_neg g 3) rfl) $$ [HZ HB]
  · isplitl [HZ]; · iexact HZ
    iexact HB
  iintro ⟨HZ, HB⟩
  iapply (lwg c hg 4 rfl) $$ H0
  iintro H0
  iapply (zstart c (4 : Fin 16) (zb := zb0) (cond_neg g 4) rfl) $$ [HZ HB]
  · isplitl [HZ]; · iexact HZ
    iexact HB
  iintro ⟨HZ, HB⟩
  iapply (lwg c hg 5 rfl) $$ H0
  iintro H0
  iapply W_pure
  iapply K
  isplitl [H0]; · iexact H0
  isplitl [H5]; · iexact H5
  isplitl [HA]; · iexact HA
  isplitl [HC]; · iexact HC
  isplitl [HZ]; · iexact HZ
  isplitl [HB]; · iexact HB
  isplitl [HTR]; · iexact HTR
  iexact HRW

include hg in
set_option maxHeartbeats 1000000 in
theorem part121_spec {Q : _ → sProp (MT nD τ sig Unit (Elt F) ℕ UU ℕ)} :
    iprop(P0 c q0 fg ∗ ZR c g (zb0 (F := F)) 5 ∗ ZB c g (zb0 (F := F)) (cnt (neg g) 5) 0) ⊢
      iprop((P0 c q0 fg ∗ ZR c g (zb0 (F := F)) 12 ∗ ZB c g (zb0 (F := F)) (cnt (neg g) 12) 0 -∗ Q (cw (g 12))) -∗ W c (k0_part121 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 (g 5) 0#32) Q) := by
  rw [k0_part121_eq_skeleton]
  unfold k0_part121_skel
  dsimp only
  iintro ⟨H0, HZ, HB⟩ K
  iapply (zstart c (5 : Fin 16) (zb := zb0) (cond_neg g 5) rfl) $$ [HZ HB]
  · isplitl [HZ]; · iexact HZ
    iexact HB
  iintro ⟨HZ, HB⟩
  iapply (lwg c hg 6 rfl) $$ H0
  iintro H0
  iapply (zstart c (6 : Fin 16) (zb := zb0) (cond_neg g 6) rfl) $$ [HZ HB]
  · isplitl [HZ]; · iexact HZ
    iexact HB
  iintro ⟨HZ, HB⟩
  iapply (lwg c hg 7 rfl) $$ H0
  iintro H0
  iapply (zstart c (7 : Fin 16) (zb := zb0) (cond_neg g 7) rfl) $$ [HZ HB]
  · isplitl [HZ]; · iexact HZ
    iexact HB
  iintro ⟨HZ, HB⟩
  iapply (lwg c hg 8 rfl) $$ H0
  iintro H0
  iapply (zstart c (8 : Fin 16) (zb := zb0) (cond_neg g 8) rfl) $$ [HZ HB]
  · isplitl [HZ]; · iexact HZ
    iexact HB
  iintro ⟨HZ, HB⟩
  iapply (lwg c hg 9 rfl) $$ H0
  iintro H0
  iapply (zstart c (9 : Fin 16) (zb := zb0) (cond_neg g 9) rfl) $$ [HZ HB]
  · isplitl [HZ]; · iexact HZ
    iexact HB
  iintro ⟨HZ, HB⟩
  iapply (lwg c hg 10 rfl) $$ H0
  iintro H0
  iapply (zstart c (10 : Fin 16) (zb := zb0) (cond_neg g 10) rfl) $$ [HZ HB]
  · isplitl [HZ]; · iexact HZ
    iexact HB
  iintro ⟨HZ, HB⟩
  iapply (lwg c hg 11 rfl) $$ H0
  iintro H0
  iapply (zstart c (11 : Fin 16) (zb := zb0) (cond_neg g 11) rfl) $$ [HZ HB]
  · isplitl [HZ]; · iexact HZ
    iexact HB
  iintro ⟨HZ, HB⟩
  iapply (lwg c hg 12 rfl) $$ H0
  iintro H0
  iapply W_pure
  iapply K
  isplitl [H0]; · iexact H0
  isplitl [HZ]; · iexact HZ
  iexact HB

/-- What the loop holds besides the two tables and the record of waits. -/
def LR (fx : S16x24x1536.Idx → Elt F .bf16) (fs : S16x56x12.Idx → Elt F .f32) (fw : S16x7168x1536.Idx → Elt F .fp8e4m3) (fg : S16.Idx → Elt F .i32) (g : ℕ → BitVec 32) (k : ℕ) : sProp (MT nD τ sig Unit (Elt F) ℕ UU ℕ) :=
  iprop(SLT c fx fs fw (act g) (cnt g 16) k ∗ SLT c fx fs fw (act g) (cnt g 16) (k + 1) ∗ (∃ f, P9 c f) ∗ (∃ f, P10 c f) ∗
    OS c fx fs fw fg (act g) k ∗ OS c fx fs fw fg (act g) (k + 1) ∗ RW c fx fs fw fg g (k - 2) k)
theorem LI_eq (k : ℕ) : LI c fx fs fw fg g q0 ft k = iprop(P5 c ft ∗ P0 c q0 fg ∗ OW c ∗ LR c fx fs fw fg g k) := rfl

include hg in
set_option maxHeartbeats 1000000 in
theorem part122_spec (hw : k0_chk15 v0 v6 v12 v18 v24 v30 v36 v42 v48 v54 v60 v66 v72 v78 v84 v90) (hN : NW v0 v6 v12 v18 v24 v30 v36 v42 v48 v54 v60 v66 v72 v78 v84 v90 = BitVec.ofNat 32 (cnt g 16)) (hT : ∀ i, i < cnt g 16 → tw (F := F) ft (p16 i) = BitVec.ofNat 32 (act g i).val) {v95 : BitVec 32} {Q : _ → sProp (MT nD τ sig Unit (Elt F) ℕ UU ℕ)} :
    iprop(P5 c ft ∗ P0 c q0 fg ∗ OW c ∗ LR c fx fs fw fg g 0 ∗ ZR c g (zb0 (F := F)) 12 ∗ ZB c g (zb0 (F := F)) (cnt (neg g) 12) 0) ⊢
      iprop((P5 c ft ∗ P0 c q0 fg ∗ OW c ∗ LR c fx fs fw fg g (cnt g 16) ∗ ZR c g (zb0 (F := F)) 16 ∗ ZB c g (zb0 (F := F)) (cnt (neg g) 16) (NZ * cnt (neg g) 2) -∗ Q (cw (g 2))) -∗ W c (k0_part122 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw v95 (cw (g 12))) Q) := by
  rw [k0_part122_eq_skeleton]
  unfold k0_part122_skel
  dsimp only
  iintro ⟨H5, H0, HW, HL, HZ, HB⟩ K
  iapply (zstart c (12 : Fin 16) (zb := zb0) (cond_neg g 12) rfl) $$ [HZ HB]
  · isplitl [HZ]; · iexact HZ
    iexact HB
  iintro ⟨HZ, HB⟩
  iapply (lwg c hg 13 rfl) $$ H0
  iintro H0
  iapply (zstart c (13 : Fin 16) (zb := zb0) (cond_neg g 13) rfl) $$ [HZ HB]
  · isplitl [HZ]; · iexact HZ
    iexact HB
  iintro ⟨HZ, HB⟩
  iapply (lwg c hg 14 rfl) $$ H0
  iintro H0
  iapply (zstart c (14 : Fin 16) (zb := zb0) (cond_neg g 14) rfl) $$ [HZ HB]
  · isplitl [HZ]; · iexact HZ
    iexact HB
  iintro ⟨HZ, HB⟩
  iapply (lwg c hg 15 rfl) $$ H0
  iintro H0
  iapply (zstart c (15 : Fin 16) (zb := zb0) (cond_neg g 15) rfl) $$ [HZ HB]
  · isplitl [HZ]; · iexact HZ
    iexact HB
  iintro ⟨HZ, HB⟩
  ihave HL := (Entails.of_eq (LI_eq c (fx := fx) (fs := fs) (fw := fw) (fg := fg) (g := g) (ft := ft) (q0 := q0) 0).symm) $$ [H5 H0 HW HL]
  · isplitl [H5]; · iexact H5
    isplitl [H0]; · iexact H0
    isplitl [HW] <;> iassumption
  iapply (loops c hw hN hT) $$ HL
  iintro HL
  ihave HL := (Entails.of_eq (LI_eq c (fx := fx) (fs := fs) (fw := fw) (fg := fg) (g := g) (ft := ft) (q0 := q0) (cnt g 16))) $$ HL
  icases HL with ⟨H5, H0, HW, HL⟩
  ihave HB := (Entails.of_eq (show ZB c g (zb0 (F := F)) (cnt (neg g) ((15 : Fin 16).val + 1)) 0 = ZB c g (zb0 (F := F)) (cnt (neg g) 16) (NZ * cnt (neg g) 0) from rfl)) $$ HB
  iapply (lwg c hg 0 rfl) $$ H0
  iintro H0
  iapply (zwait c (0 : Fin 16) (zb := zb0) (cond_neg g 0) rfl) $$ [HB HW]
  · isplitl [HB]; · iexact HB
    iexact HW
  iintro ⟨HB, HW⟩
  iapply (lwg c hg 1 rfl) $$ H0
  iintro H0
  iapply (zwait c (1 : Fin 16) (zb := zb0) (cond_neg g 1) rfl) $$ [HB HW]
  · isplitl [HB]; · iexact HB
    iexact HW
  iintro ⟨HB, HW⟩
  iapply (lwg c hg 2 rfl) $$ H0
  iintro H0
  iapply W_pure
  iapply K
  isplitl [H5]; · iexact H5
  isplitl [H0]; · iexact H0
  isplitl [HW]; · iexact HW
  isplitl [HL]; · iexact HL
  isplitl [HZ]; · iexact HZ
  iexact HB

include hg in
set_option maxHeartbeats 1000000 in
theorem part123_spec {Q : _ → sProp (MT nD τ sig Unit (Elt F) ℕ UU ℕ)} :
    iprop(P0 c q0 fg ∗ OW c ∗ ZB c g (zb0 (F := F)) (cnt (neg g) 16) (NZ * cnt (neg g) 2)) ⊢
      iprop((P0 c q0 fg ∗ OW c ∗ ZB c g (zb0 (F := F)) (cnt (neg g) 16) (NZ * cnt (neg g) 10) -∗ Q ⟨g 10, 0#32⟩) -∗ W c (k0_part123 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 (cw (g 2))) Q) := by
  rw [k0_part123_eq_skeleton]
  unfold k0_part123_skel
  dsimp only
  iintro ⟨H0, HW, HB⟩ K
  iapply (zwait c (2 : Fin 16) (zb := zb0) (cond_neg g 2) rfl) $$ [HB HW]
  · isplitl [HB]; · iexact HB
    iexact HW
  iintro ⟨HB, HW⟩
  iapply (lwg c hg 3 rfl) $$ H0
  iintro H0
  iapply (zwait c (3 : Fin 16) (zb := zb0) (cond_neg g 3) rfl) $$ [HB HW]
  · isplitl [HB]; · iexact HB
    iexact HW
  iintro ⟨HB, HW⟩
  iapply (lwg c hg 4 rfl) $$ H0
  iintro H0
  iapply (zwait c (4 : Fin 16) (zb := zb0) (cond_neg g 4) rfl) $$ [HB HW]
  · isplitl [HB]; · iexact HB
    iexact HW
  iintro ⟨HB, HW⟩
  iapply (lwg c hg 5 rfl) $$ H0
  iintro H0
  iapply (zwait c (5 : Fin 16) (zb := zb0) (cond_neg g 5) rfl) $$ [HB HW]
  · isplitl [HB]; · iexact HB
    iexact HW
  iintro ⟨HB, HW⟩
  iapply (lwg c hg 6 rfl) $$ H0
  iintro H0
  iapply (zwait c (6 : Fin 16) (zb := zb0) (cond_neg g 6) rfl) $$ [HB HW]
  · isplitl [HB]; · iexact HB
    iexact HW
  iintro ⟨HB, HW⟩
  iapply (lwg c hg 7 rfl) $$ H0
  iintro H0
  iapply (zwait c (7 : Fin 16) (zb := zb0) (cond_neg g 7) rfl) $$ [HB HW]
  · isplitl [HB]; · iexact HB
    iexact HW
  iintro ⟨HB, HW⟩
  iapply (lwg c hg 8 rfl) $$ H0
  iintro H0
  iapply (zwait c (8 : Fin 16) (zb := zb0) (cond_neg g 8) rfl) $$ [HB HW]
  · isplitl [HB]; · iexact HB
    iexact HW
  iintro ⟨HB, HW⟩
  iapply (lwg c hg 9 rfl) $$ H0
  iintro H0
  iapply (zwait c (9 : Fin 16) (zb := zb0) (cond_neg g 9) rfl) $$ [HB HW]
  · isplitl [HB]; · iexact HB
    iexact HW
  iintro ⟨HB, HW⟩
  iapply (lwg c hg 10 rfl) $$ H0
  iintro H0
  iapply W_pure
  iapply K
  isplitl [H0]; · iexact H0
  isplitl [HW]; · iexact HW
  iexact HB

/-- The last results but 0, waited for after the loop. -/
def E69 (fx : S16x24x1536.Idx → Elt F .bf16) (fs : S16x56x12.Idx → Elt F .f32) (fw : S16x7168x1536.Idx → Elt F .fp8e4m3) (fg : S16.Idx → Elt F .i32) (g : ℕ → BitVec 32) : sProp (MT nD τ sig Unit (Elt F) ℕ UU ℕ) :=
  if 0 < cnt g 16 then RowK c fx fs fw fg (act g (cnt g 16 - 1)) else iprop(emp)
theorem if69 (hw : k0_chk15 v0 v6 v12 v18 v24 v30 v36 v42 v48 v54 v60 v66 v72 v78 v84 v90) (hN : NW v0 v6 v12 v18 v24 v30 v36 v42 v48 v54 v60 v66 v72 v78 v84 v90 = BitVec.ofNat 32 (cnt g 16)) (hT : ∀ i, i < cnt g 16 → tw (F := F) ft (p16 i) = BitVec.ofNat 32 (act g i).val) {α : Type} {Q : α → sProp (MT nD τ sig Unit (Elt F) ℕ UU ℕ)} {R : Prog (TpuEff nD τ sig (Elt F) Λ₀ .tc) α} :
    iprop(P5 c ft ∗ OW c ∗ OS c fx fs fw fg (act g) (cnt g 16 + 1)) ⊢ iprop((P5 c ft ∗ OW c ∗ Ofree c (sl (cnt g 16 + 1)) ∗ E69 c fx fs fw fg g -∗ W c R Q) -∗ W c (if k0_h69 : k0_cond69 v0 v6 v12 v18 v24 v30 v36 v42 v48 v54 v60 v66 v72 v78 v84 v90 = 1#1 then (do
        let v249 : Elt F .i32 ← smemLoad A5 (Rect.unit (s := S16) (k0_off392 v0 v6 v12 v18 v24 v30 v36 v42 v48 v54 v60 v66 v72 v78 v84 v90) S1.size (k0_off392_inb v0 v6 v12 v18 v24 v30 v36 v42 v48 v54 v60 v66 v72 v78 v84 v90 hw k0_h69)) numel1_S1 rfl
        have k0_hw76 : k0_chk76 v0 v6 v12 v18 v24 v30 v36 v42 v48 v54 v60 v66 v72 v78 v84 v90 v249 := (← Prog.lift (TpuEff.assume (k0_chk76 v0 v6 v12 v18 v24 v30 v36 v42 v48 v54 v60 v66 v72 v78 v84 v90 v249) (k0_chk76.dec v0 v6 v12 v18 v24 v30 v36 v42 v48 v54 v60 v66 v72 v78 v84 v90 v249))).down
        let v250 : DmaSems sig S1 := cc0_scratch11.slice (Rect.unit (s := S2) (k0_off393 v0 v6 v12 v18 v24 v30 v36 v42 v48 v54 v60 v66 v72 v78 v84 v90) S1.size (k0_off393_inb v0 v6 v12 v18 v24 v30 v36 v42 v48 v54 v60 v66 v72 v78 v84 v90 hw k0_h69))
        let v251 : DmaSems sig S_ := v250.squeeze S_ squeezes_S1_S_
        let v252 : Memref sig .tc .hbm S1x24x7168 .bf16 := A4.slice (Rect.unit (s := S16x24x7168) (k0_off394 v249) S1x24x7168.size (k0_off394_inb v0 v6 v12 v18 v24 v30 v36 v42 v48 v54 v60 v66 v72 v78 v84 v90 v249 k0_hw76 k0_h69)) (fun _ => rfl)
        let v253 : Memref sig .tc .hbm S24x7168 .bf16 := v252.squeeze S24x7168 squeezes_S1x24x7168_S24x7168
        let v254 : Memref sig .tc .vmem S1x24x7168 .bf16 := A11.slice (Rect.unit (s := S2x24x7168) (k0_off395 v0 v6 v12 v18 v24 v30 v36 v42 v48 v54 v60 v66 v72 v78 v84 v90) S1x24x7168.size (k0_off395_inb v0 v6 v12 v18 v24 v30 v36 v42 v48 v54 v60 v66 v72 v78 v84 v90 hw k0_h69)) (fun _ => rfl)
        let v255 : Memref sig .tc .vmem S24x7168 .bf16 := v254.squeeze S24x7168 squeezes_S1x24x7168_S24x7168
        Prog.lift (.waitDma2 v251.sem v255 v253 (((Memref.isWhole_whole _ : A11.IsWhole).wordExact_slice rfl _ (k0_off395_wordsbf16 v0 v6 v12 v18 v24 v30 v36 v42 v48 v54 v60 v66 v72 v78 v84 v90 hw k0_h69)).reshape _ _) (((Memref.isWhole_whole _ : A4.IsWhole).wordExact_slice rfl _ (k0_off394_wordsbf16 v0 v6 v12 v18 v24 v30 v36 v42 v48 v54 v60 v66 v72 v78 v84 v90 v249 k0_hw76 k0_h69)).reshape _ _))
        R) else R) Q) := by
  unfold OS E69
  by_cases hi : 0 < cnt g 16
  · have hs : sl (cnt g 16 + 1) = sl (cnt g 16 - 1) := by
      rw [← sl_succ2 (cnt g 16 - 1)]
      exact congrArg sl (by omega)
    rw [dif_pos ((cond69 (cnt_le g 16) hN).2 hi), if_pos hi, if_pos (show 2 ≤ cnt g 16 + 1 by omega), hs, show cnt g 16 + 1 - 2 = cnt g 16 - 1 by omega]
    unfold OinK RowK
    dsimp only
    iintro ⟨H5, HW, ⟨%v, %hv, HO⟩⟩ K
    iapply (lw5 c (p16 (cnt g 16 - 1)) (off392 (cnt_le g 16) hN hi)) $$ H5
    iintro H5
    iapply (W_assume c (by rw [hT _ (by omega)]; exact chk76 _))
    iapply (waitO c (sl (cnt g 16 - 1)) (act g (cnt g 16 - 1)) (v := v) (off393 (cnt_le g 16) hN hi)) $$ [HO HW]
    · isplitl [HO] <;> iassumption
    iintro HF HR HW
    iapply K
    isplitl [H5]; · iexact H5
    isplitl [HW]; · iexact HW
    isplitl [HF]; · iexact HF
    iexists v
    isplitr; · ipureintro; exact hv
    iexact HR
  · rw [dif_neg (mt (cond69 (cnt_le g 16) hN).1 hi), if_neg hi, if_neg (show ¬ 2 ≤ cnt g 16 + 1 by omega)]
    iintro ⟨H5, HW, HO⟩ K
    iapply K
    isplitl [H5]; · iexact H5
    isplitl [HW]; · iexact HW
    isplitl [HO]; · iexact HO
    iempintro

/-- The last results but 1, waited for after the loop. -/
def E70 (fx : S16x24x1536.Idx → Elt F .bf16) (fs : S16x56x12.Idx → Elt F .f32) (fw : S16x7168x1536.Idx → Elt F .fp8e4m3) (fg : S16.Idx → Elt F .i32) (g : ℕ → BitVec 32) : sProp (MT nD τ sig Unit (Elt F) ℕ UU ℕ) :=
  if 1 < cnt g 16 then RowK c fx fs fw fg (act g (cnt g 16 - 2)) else iprop(emp)
theorem if70 (hw : k0_chk15 v0 v6 v12 v18 v24 v30 v36 v42 v48 v54 v60 v66 v72 v78 v84 v90) (hN : NW v0 v6 v12 v18 v24 v30 v36 v42 v48 v54 v60 v66 v72 v78 v84 v90 = BitVec.ofNat 32 (cnt g 16)) (hT : ∀ i, i < cnt g 16 → tw (F := F) ft (p16 i) = BitVec.ofNat 32 (act g i).val) {α : Type} {Q : α → sProp (MT nD τ sig Unit (Elt F) ℕ UU ℕ)} {R : Prog (TpuEff nD τ sig (Elt F) Λ₀ .tc) α} :
    iprop(P5 c ft ∗ OW c ∗ OS c fx fs fw fg (act g) (cnt g 16)) ⊢ iprop((P5 c ft ∗ OW c ∗ Ofree c (sl (cnt g 16)) ∗ E70 c fx fs fw fg g -∗ W c R Q) -∗ W c (if k0_h70 : k0_cond70 v0 v6 v12 v18 v24 v30 v36 v42 v48 v54 v60 v66 v72 v78 v84 v90 = 1#1 then (do
        let v249 : Elt F .i32 ← smemLoad A5 (Rect.unit (s := S16) (k0_off396 v0 v6 v12 v18 v24 v30 v36 v42 v48 v54 v60 v66 v72 v78 v84 v90) S1.size (k0_off396_inb v0 v6 v12 v18 v24 v30 v36 v42 v48 v54 v60 v66 v72 v78 v84 v90 hw k0_h70)) numel1_S1 rfl
        have k0_hw77 : k0_chk77 v0 v6 v12 v18 v24 v30 v36 v42 v48 v54 v60 v66 v72 v78 v84 v90 v249 := (← Prog.lift (TpuEff.assume (k0_chk77 v0 v6 v12 v18 v24 v30 v36 v42 v48 v54 v60 v66 v72 v78 v84 v90 v249) (k0_chk77.dec v0 v6 v12 v18 v24 v30 v36 v42 v48 v54 v60 v66 v72 v78 v84 v90 v249))).down
        let v250 : DmaSems sig S1 := cc0_scratch11.slice (Rect.unit (s := S2) (k0_off397 v0 v6 v12 v18 v24 v30 v36 v42 v48 v54 v60 v66 v72 v78 v84 v90) S1.size (k0_off397_inb v0 v6 v12 v18 v24 v30 v36 v42 v48 v54 v60 v66 v72 v78 v84 v90 hw k0_h70))
        let v251 : DmaSems sig S_ := v250.squeeze S_ squeezes_S1_S_
        let v252 : Memref sig .tc .hbm S1x24x7168 .bf16 := A4.slice (Rect.unit (s := S16x24x7168) (k0_off398 v249) S1x24x7168.size (k0_off398_inb v0 v6 v12 v18 v24 v30 v36 v42 v48 v54 v60 v66 v72 v78 v84 v90 v249 k0_hw77 k0_h70)) (fun _ => rfl)
        let v253 : Memref sig .tc .hbm S24x7168 .bf16 := v252.squeeze S24x7168 squeezes_S1x24x7168_S24x7168
        let v254 : Memref sig .tc .vmem S1x24x7168 .bf16 := A11.slice (Rect.unit (s := S2x24x7168) (k0_off399 v0 v6 v12 v18 v24 v30 v36 v42 v48 v54 v60 v66 v72 v78 v84 v90) S1x24x7168.size (k0_off399_inb v0 v6 v12 v18 v24 v30 v36 v42 v48 v54 v60 v66 v72 v78 v84 v90 hw k0_h70)) (fun _ => rfl)
        let v255 : Memref sig .tc .vmem S24x7168 .bf16 := v254.squeeze S24x7168 squeezes_S1x24x7168_S24x7168
        Prog.lift (.waitDma2 v251.sem v255 v253 (((Memref.isWhole_whole _ : A11.IsWhole).wordExact_slice rfl _ (k0_off399_wordsbf16 v0 v6 v12 v18 v24 v30 v36 v42 v48 v54 v60 v66 v72 v78 v84 v90 hw k0_h70)).reshape _ _) (((Memref.isWhole_whole _ : A4.IsWhole).wordExact_slice rfl _ (k0_off398_wordsbf16 v0 v6 v12 v18 v24 v30 v36 v42 v48 v54 v60 v66 v72 v78 v84 v90 v249 k0_hw77 k0_h70)).reshape _ _))
        R) else R) Q) := by
  unfold OS E70
  by_cases hi : 1 < cnt g 16
  · have hs : sl (cnt g 16) = sl (cnt g 16 - 2) := by
      rw [← sl_succ2 (cnt g 16 - 2)]
      exact congrArg sl (by omega)
    rw [dif_pos ((cond70 (cnt_le g 16) hN).2 hi), if_pos hi, if_pos (show 2 ≤ cnt g 16 by omega), hs, show cnt g 16 - 2 = cnt g 16 - 2 by omega]
    unfold OinK RowK
    dsimp only
    iintro ⟨H5, HW, ⟨%v, %hv, HO⟩⟩ K
    iapply (lw5 c (p16 (cnt g 16 - 2)) (off396 (cnt_le g 16) hN hi)) $$ H5
    iintro H5
    iapply (W_assume c (by rw [hT _ (by omega)]; exact chk77 _))
    iapply (waitO c (sl (cnt g 16 - 2)) (act g (cnt g 16 - 2)) (v := v) (off397 (cnt_le g 16) hN hi)) $$ [HO HW]
    · isplitl [HO] <;> iassumption
    iintro HF HR HW
    iapply K
    isplitl [H5]; · iexact H5
    isplitl [HW]; · iexact HW
    isplitl [HF]; · iexact HF
    iexists v
    isplitr; · ipureintro; exact hv
    iexact HR
  · rw [dif_neg (mt (cond70 (cnt_le g 16) hN).1 hi), if_neg hi, if_neg (show ¬ 2 ≤ cnt g 16 by omega)]
    iintro ⟨H5, HW, HO⟩ K
    iapply K
    isplitl [H5]; · iexact H5
    isplitl [HW]; · iexact HW
    isplitl [HO]; · iexact HO
    iempintro

theorem rw_end :
    iprop(RW c fx fs fw fg g (cnt g 16 - 2) (cnt g 16) ∗ E69 c fx fs fw fg g ∗ E70 c fx fs fw fg g) ⊢ RW c fx fs fw fg g (cnt g 16) (cnt g 16) := by
  unfold E69 E70
  by_cases h1 : 1 < cnt g 16
  · rw [if_pos h1, if_pos (show 0 < cnt g 16 by omega)]
    iintro ⟨H, H1, H2⟩
    ihave H := (rw_put c fx fs fw fg (g := g) (a := cnt g 16 - 2) (b := cnt g 16) (by omega) (by omega)) $$ [H H2]
    · isplitl [H] <;> iassumption
    ihave H := (rw_put c fx fs fw fg (g := g) (a := cnt g 16 - 2 + 1) (b := cnt g 16) (by omega) (by omega)) $$ [H H1]
    · isplitl [H]; · iexact H
      iapply (Entails.of_eq (show RowK c fx fs fw fg (act g (cnt g 16 - 1)) = RowK c fx fs fw fg (act g (cnt g 16 - 2 + 1)) from congrArg (fun i => RowK c fx fs fw fg (act g i)) (by omega)))
      iexact H1
    iapply (Entails.of_eq (show RW c fx fs fw fg g (cnt g 16 - 2 + 1 + 1) (cnt g 16) = RW c fx fs fw fg g (cnt g 16) (cnt g 16) from congrArg (fun i => RW c fx fs fw fg g i (cnt g 16)) (by omega)))
    iexact H
  · by_cases h0 : 0 < cnt g 16
    · rw [if_neg h1, if_pos h0]
      iintro ⟨H, H1, -⟩
      ihave H := (rw_put c fx fs fw fg (g := g) (a := cnt g 16 - 2) (b := cnt g 16) (by omega) (by omega)) $$ [H H1]
      · isplitl [H]; · iexact H
        iapply (Entails.of_eq (show RowK c fx fs fw fg (act g (cnt g 16 - 1)) = RowK c fx fs fw fg (act g (cnt g 16 - 2)) from congrArg (fun i => RowK c fx fs fw fg (act g i)) (by omega)))
        iexact H1
      iapply (Entails.of_eq (show RW c fx fs fw fg g (cnt g 16 - 2 + 1) (cnt g 16) = RW c fx fs fw fg g (cnt g 16) (cnt g 16) from congrArg (fun i => RW c fx fs fw fg g i (cnt g 16)) (by omega)))
      iexact H
    · rw [if_neg h1, if_neg h0]
      iintro ⟨H, -, -⟩
      iapply (Entails.of_eq (show RW c fx fs fw fg g (cnt g 16 - 2) (cnt g 16) = RW c fx fs fw fg g (cnt g 16) (cnt g 16) from congrArg (fun i => RW c fx fs fw fg g i (cnt g 16)) (by omega)))
      iexact H
end

end Cert.Proof.Kernel
end
end
-- ==== Proof.Kernel.Body.lean ====
module

public import proofs.«01_k».proof.Proof.Kernel.Main
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Transfers
public import Idealize.ShloMosaic.Lib.Batch
public import Idealize.ShloMosaic.Adequacy
public import Idealize.ShloMosaic.Init

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

section
variable {F : FTy → Type} [FloatOps F] (c : Dev nD)
variable {fx : S16x24x1536.Idx → Elt F .bf16} {fs : S16x56x12.Idx → Elt F .f32} {fw : S16x7168x1536.Idx → Elt F .fp8e4m3} {fg : S16.Idx → Elt F .i32}
variable {g : ℕ → BitVec 32} (hg : ∀ i, tw (F := F) fg (p16 i) = g i) {q0 : PosShare TreeShare}

/-- The buffers of the loop at rest. -/
def Rest (fx : S16x24x1536.Idx → Elt F .bf16) (fs : S16x56x12.Idx → Elt F .f32) (fw : S16x7168x1536.Idx → Elt F .fp8e4m3) : sProp (MT nD τ sig Unit (Elt F) ℕ UU ℕ) :=
  iprop(SFree c fx fs fw (sl 0) ∗ SFree c fx fs fw (sl 1) ∗ (∃ f, P9 c f) ∗ (∃ f, P10 c f) ∗ Ofree c (sl 0) ∗ Ofree c (sl 1))

theorem free_swap (n : ℕ) : iprop(SFree c fx fs fw (sl n) ∗ SFree c fx fs fw (sl (n + 1))) ⊢ iprop(SFree c fx fs fw (sl 0) ∗ SFree c fx fs fw (sl 1)) := by
  rcases Nat.mod_two_eq_zero_or_one n with h | h
  · rw [show sl n = sl 0 from Fin.ext (by show n % 2 = 0; omega), show sl (n + 1) = sl 1 from Fin.ext (by show (n + 1) % 2 = 1; omega)]
  · rw [show sl n = sl 1 from Fin.ext (by show n % 2 = 1; omega), show sl (n + 1) = sl 0 from Fin.ext (by show (n + 1) % 2 = 0; omega)]
    iintro ⟨H1, H2⟩
    isplitl [H2] <;> iassumption
theorem ofree_swap (n : ℕ) : iprop(Ofree (F := F) c (sl n) ∗ Ofree (F := F) c (sl (n + 1))) ⊢ iprop(Ofree (F := F) c (sl 0) ∗ Ofree (F := F) c (sl 1)) := by
  rcases Nat.mod_two_eq_zero_or_one n with h | h
  · rw [show sl n = sl 0 from Fin.ext (by show n % 2 = 0; omega), show sl (n + 1) = sl 1 from Fin.ext (by show (n + 1) % 2 = 1; omega)]
  · rw [show sl n = sl 1 from Fin.ext (by show n % 2 = 1; omega), show sl (n + 1) = sl 0 from Fin.ext (by show (n + 1) % 2 = 0; omega)]
    iintro ⟨H1, H2⟩
    isplitl [H2] <;> iassumption

/-- What the first part of the function leaves. -/
def Mid (fx : S16x24x1536.Idx → Elt F .bf16) (fs : S16x56x12.Idx → Elt F .f32) (fw : S16x7168x1536.Idx → Elt F .fp8e4m3) (fg : S16.Idx → Elt F .i32) (g : ℕ → BitVec 32) : sProp (MT nD τ sig Unit (Elt F) ℕ UU ℕ) :=
  iprop(SFree c fx fs fw (sl (cnt g 16)) ∗ SFree c fx fs fw (sl (cnt g 16 + 1)) ∗ (∃ f, P9 c f) ∗ (∃ f, P10 c f) ∗ OS c fx fs fw fg (act g) (cnt g 16) ∗ Ofree c (sl (cnt g 16 + 1)) ∗
    RW c fx fs fw fg g (cnt g 16 - 2) (cnt g 16) ∗ E69 c fx fs fw fg g ∗ TokR c (zb0 (F := F)) ∗ ZR c g (zb0 (F := F)) 16 ∗ bigSep Finset.univ (Dz c g (zb0 (F := F))) ∗ Sem0 c zsem)

include hg in
set_option maxHeartbeats 2000000 in
theorem part124_spec {Q : _ → sProp (MT nD τ sig Unit (Elt F) ℕ UU ℕ)} :
    iprop(P0 c q0 fg ∗ (∃ f, P5 c f) ∗ OW c ∗ Rest c fx fs fw ∗ (∃ f : S24x7168.Idx → Elt F .bf16, PW c A12 fullShare f) ∗ Sem0 c zsem ∗ bigSep Finset.univ (Row (F := F) c)) ⊢
      iprop((∀ ft : S16.Idx → Elt F .i32, ⌜Tab g 16 ft⌝ -∗ P0 c q0 fg -∗ P5 c ft -∗ OW c -∗ Mid c fx fs fw fg g -∗ Q ⟨g 0, g 1, g 2, g 3, g 4, g 5, g 6, g 7, g 8, g 9, g 10, g 11, g 12, g 13, g 14, g 15, hwg g, pre g 16, Scalar.cmpi .sgt (pre g 16) 1#32⟩) -∗
        W c (k0_part124 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12) Q) := by
  rw [k0_part124_eq_skeleton]
  unfold k0_part124_skel
  dsimp only
  unfold Rest
  iintro ⟨H0, ⟨%f5, H5⟩, HW, ⟨HA, HC, H9, H10, HO0, HO1⟩, H12, HS12, HR⟩ K
  iapply (W_bind c)
  iapply (part117_spec c hg) $$ [H0 H5]
  · isplitl [H0] <;> iassumption
  iintro %ft117 %hT117 H0 H5
  dsimp only
  iapply (W_bind c)
  iapply (part118_spec c hg hT117) $$ [H0 H5]
  · isplitl [H0] <;> iassumption
  iintro %ft118 %hT118 H0 H5
  dsimp only
  iapply (W_bind c)
  iapply (part119_spec c hg hT118) $$ [H0 H5]
  · isplitl [H0] <;> iassumption
  iintro %ft119 %hT119 H0 H5
  dsimp only
  have hN := NW_eq g
  have hT : ∀ i, i < cnt g 16 → tw (F := F) ft119 (p16 i) = BitVec.ofNat 32 (act g i).val := fun i h => tab_full hT119 i h
  iapply (W_bind c)
  iapply (part120_spec c hg (fx := fx) (fs := fs) (fw := fw) hN hT) $$ [H0 H5 HA HC H12 HS12 HR]
  · isplitl [H0]; · iexact H0
    isplitl [H5]; · iexact H5
    isplitl [HA]; · iexact HA
    isplitl [HC]; · iexact HC
    isplitl [H12]; · iexact H12
    isplitl [HS12]; · iexact HS12
    iexact HR
  iintro ⟨H0, H5, HA, HC, HZ, HB, HTR, HRW⟩
  dsimp only
  iapply (W_bind c)
  iapply (part121_spec c hg) $$ [H0 HZ HB]
  · isplitl [H0]; · iexact H0
    isplitl [HZ]; · iexact HZ
    iexact HB
  iintro ⟨H0, HZ, HB⟩
  iapply (W_bind c)
  iapply (part122_spec c hg (hwg g) (fx := fx) (fs := fs) (fw := fw) hN hT) $$ [H5 H0 HW HA HC H9 H10 HO0 HO1 HRW HZ HB]
  · isplitl [H5]; · iexact H5
    isplitl [H0]; · iexact H0
    isplitl [HW]; · iexact HW
    isplitl [HA HC H9 H10 HO0 HO1 HRW]
    · unfold LR
      ihave HO0 := (Entails.of_eq (show Ofree c (sl 0) = OS c fx fs fw fg (act g) 0 by unfold OS; rw [if_neg (by decide)])) $$ HO0
      ihave HO1 := (Entails.of_eq (show Ofree c (sl 1) = OS c fx fs fw fg (act g) (0 + 1) by unfold OS; rw [if_neg (by decide)])) $$ HO1
      isplitl [HA]; · iexact HA
      isplitl [HC]; · iexact HC
      isplitl [H9]; · iexact H9
      isplitl [H10]; · iexact H10
      isplitl [HO0]; · iexact HO0
      isplitl [HO1]; · iexact HO1
      iexact HRW
    isplitl [HZ] <;> iassumption
  iintro ⟨H5, H0, HW, HL, HZ, HB⟩
  iapply (W_bind c)
  iapply (part123_spec c hg) $$ [H0 HW HB]
  · isplitl [H0]; · iexact H0
    isplitl [HW]; · iexact HW
    iexact HB
  iintro ⟨H0, HW, HB⟩
  dsimp only
  iapply (zwait c (10 : Fin 16) (zb := zb0) (cond_neg g 10) rfl) $$ [HB HW]
  · isplitl [HB]; · iexact HB
    iexact HW
  iintro ⟨HB, HW⟩
  iapply (lwg c hg 11 rfl) $$ H0
  iintro H0
  iapply (zwait c (11 : Fin 16) (zb := zb0) (cond_neg g 11) rfl) $$ [HB HW]
  · isplitl [HB]; · iexact HB
    iexact HW
  iintro ⟨HB, HW⟩
  iapply (lwg c hg 12 rfl) $$ H0
  iintro H0
  iapply (zwait c (12 : Fin 16) (zb := zb0) (cond_neg g 12) rfl) $$ [HB HW]
  · isplitl [HB]; · iexact HB
    iexact HW
  iintro ⟨HB, HW⟩
  iapply (lwg c hg 13 rfl) $$ H0
  iintro H0
  iapply (zwait c (13 : Fin 16) (zb := zb0) (cond_neg g 13) rfl) $$ [HB HW]
  · isplitl [HB]; · iexact HB
    iexact HW
  iintro ⟨HB, HW⟩
  iapply (lwg c hg 14 rfl) $$ H0
  iintro H0
  iapply (zwait c (14 : Fin 16) (zb := zb0) (cond_neg g 14) rfl) $$ [HB HW]
  · isplitl [HB]; · iexact HB
    iexact HW
  iintro ⟨HB, HW⟩
  iapply (lwg c hg 15 rfl) $$ H0
  iintro H0
  iapply (zwait c (15 : Fin 16) (zb := zb0) (cond_neg g 15) rfl) $$ [HB HW]
  · isplitl [HB]; · iexact HB
    iexact HW
  iintro ⟨HB, HW⟩
  ihave HL := (Entails.of_eq (show LR c fx fs fw fg g (cnt g 16) = iprop(SFree c fx fs fw (sl (cnt g 16)) ∗ SFree c fx fs fw (sl (cnt g 16 + 1)) ∗ (∃ f, P9 c f) ∗ (∃ f, P10 c f) ∗
    OS c fx fs fw fg (act g) (cnt g 16) ∗ OS c fx fs fw fg (act g) (cnt g 16 + 1) ∗ RW c fx fs fw fg g (cnt g 16 - 2) (cnt g 16)) by
      unfold LR; rw [SLT_out c fx fs fw (act g) (cnt g 16) (lt_irrefl _), SLT_out c fx fs fw (act g) (cnt g 16) (by omega)])) $$ HL
  icases HL with ⟨HA, HC, H9, H10, HO0, HO1, HRW⟩
  iapply (if69 c (fx := fx) (fs := fs) (fw := fw) (fg := fg) (hwg g) hN hT) $$ [H5 HW HO1]
  · isplitl [H5]; · iexact H5
    isplitl [HW]; · iexact HW
    iexact HO1
  iintro ⟨H5, HW, HO1, HE⟩
  ihave HB := (Entails.of_eq (show ZB c g (zb0 (F := F)) (cnt (neg g) 16) (NZ * cnt (neg g) ((15 : Fin 16).val + 1)) = ZB c g (zb0 (F := F)) (cnt (neg g) 16) (NZ * cnt (neg g) 16) from rfl)) $$ HB
  imod (Transfers.batch_collect' EC (c : Thread nD τ) (D := Dz c g (zb0 (F := F))) nz_pos) $$ HB with ⟨HD, HS12⟩
  iapply W_pure
  ispecialize K $$ %ft119 %hT119 H0 H5 HW
  iapply K
  unfold Mid
  isplitl [HA]; · iexact HA
  isplitl [HC]; · iexact HC
  isplitl [H9]; · iexact H9
  isplitl [H10]; · iexact H10
  isplitl [HO0]; · iexact HO0
  isplitl [HO1]; · iexact HO1
  isplitl [HRW]; · iexact HRW
  isplitl [HE]; · iexact HE
  isplitl [HTR]; · iexact HTR
  isplitl [HZ]; · iexact HZ
  isplitl [HD]; · iexact HD
  iexact HS12

/-- The whole function. -/
theorem body_spec {Q : PUnit → sProp (MT nD τ sig Unit (Elt F) ℕ UU ℕ)} :
    iprop(P0 c q0 fg ∗ (∃ f, P5 c f) ∗ OW c ∗ Rest c fx fs fw ∗ (∃ f : S24x7168.Idx → Elt F .bf16, PW c A12 fullShare f) ∗ Sem0 c zsem ∗ bigSep Finset.univ (Row (F := F) c)) ⊢
      iprop((P0 c q0 fg ∗ (∃ f, P5 c f) ∗ OW c ∗ Rest c fx fs fw ∗ (∃ f : S24x7168.Idx → Elt F .bf16, PW c A12 fullShare f) ∗ Sem0 c zsem ∗
          bigSep Finset.univ (RowF c (fun i => tw fg (p16 i)) fx fs fw fg) -∗ Q ⟨⟩) -∗
        W c (cc0_grouped_fp8_expert_matmul (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12) Q) := by
  rw [cc0_grouped_fp8_expert_matmul_eq_skeleton]
  unfold cc0_grouped_fp8_expert_matmul_skel
  dsimp only
  generalize hgg : (fun i => tw fg (p16 i)) = g
  have hg : ∀ i, tw (F := F) fg (p16 i) = g i := fun i => congrFun hgg i
  iintro H K
  iapply (W_bind c)
  iapply (part124_spec c hg (fx := fx) (fs := fs) (fw := fw)) $$ H
  iintro %ft %hTab H0 H5 HW HM
  dsimp only
  have hN := NW_eq g
  have hT : ∀ i, i < cnt g 16 → tw (F := F) ft (p16 i) = BitVec.ofNat 32 (act g i).val := fun i h => tab_full hTab i h
  unfold Mid
  icases HM with ⟨HA, HC, H9, H10, HO0, HO1, HRW, HE, HTR, HZ, HD, HS12⟩
  iapply (if70 c (fx := fx) (fs := fs) (fw := fw) (fg := fg) (hwg g) hN hT) $$ [H5 HW HO0]
  · isplitl [H5]; · iexact H5
    isplitl [HW]; · iexact HW
    iexact HO0
  iintro ⟨H5, HW, HO0, HE2⟩
  iapply W_pure
  iapply K
  isplitl [H0]; · iexact H0
  isplitl [H5]; · iexists ft; iexact H5
  isplitl [HW]; · iexact HW
  isplitl [HA HC H9 H10 HO0 HO1]
  · unfold Rest
    ihave HAC := (free_swap c (fx := fx) (fs := fs) (fw := fw) (cnt g 16)) $$ [HA HC]
    · isplitl [HA] <;> iassumption
    icases HAC with ⟨HA, HC⟩
    ihave HO := (ofree_swap c (cnt g 16)) $$ [HO0 HO1]
    · isplitl [HO0] <;> iassumption
    icases HO with ⟨HO0, HO1⟩
    isplitl [HA]; · iexact HA
    isplitl [HC]; · iexact HC
    isplitl [H9]; · iexact H9
    isplitl [H10]; · iexact H10
    isplitl [HO0]; · iexact HO0
    iexact HO1
  ihave HRW := (rw_end c (fx := fx) (fs := fs) (fw := fw) (fg := fg) (g := g)) $$ [HRW HE HE2]
  · isplitl [HRW]; · iexact HRW
    isplitl [HE]; · iexact HE
    iexact HE2
  ihave HJ := (rows_join c g fx fs fw fg) $$ [HZ HD HRW]
  · isplitl [HZ]; · iexact HZ
    isplitl [HD]; · iexact HD
    iexact HRW
  icases HJ with ⟨HR, HT⟩
  isplitl [HTR HT]
  · iexists (zb0 (F := F))
    iapply (toks c (zb0 (F := F))).2
    isplitl [HTR] <;> iassumption
  isplitl [HS12] <;> iassumption
end

end Cert.Proof.Kernel
end
end
-- ==== Proof.Kernel.Start.lean ====
module

public import proofs.«01_k».proof.Proof.Kernel.Body
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Transfers
public import Idealize.ShloMosaic.Lib.Batch
public import Idealize.ShloMosaic.Lib.Pipeline.FrameValue
public import Idealize.ShloMosaic.Lib.Pipeline.FrameBody
public import Idealize.ShloMosaic.Adequacy
public import Idealize.ShloMosaic.Init

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

section
variable {F : FTy → Type} [FloatOps F] (c : Dev nD)

local notation "𝕄" => MT nD τ sig Unit (Elt F) ℕ UU ℕ

/-! Whole buffers and their windows. -/

theorem set_xW (s : Fin 2) : (xW s).view.set = (Rect.unit (s := S2x24x1536) ![s.val, 0, 0] S1x24x1536.size (inb_x s)).set :=
  (View.set_reshape _ _).trans (View.set_slice_whole _ _)
theorem set_sW (s : Fin 2) : (sW s).view.set = (Rect.unit (s := S2x56x12) ![s.val, 0, 0] S1x56x12.size (inb_s s)).set :=
  (View.set_reshape _ _).trans (View.set_slice_whole _ _)
theorem set_wW (s : Fin 2) (q : Fin 7) : (wW s q).view.set = (Rect.unit (s := S2x7168x1536) ![s.val, 1024 * q.val, 0] S1x1024x1536.size (inb_w s q)).set :=
  (View.set_reshape _ _).trans (View.set_slice_whole _ _)
theorem set_oW (s : Fin 2) : (oW s).view.set = (Rect.unit (s := S2x24x7168) ![s.val, 0, 0] S1x24x7168.size (inb_o s)).set :=
  (View.set_reshape _ _).trans (View.set_slice_whole _ _)
theorem set_oE (e : Fin 16) : (oE e).view.set = (Rect.unit (s := S16x24x7168) ![e.val, 0, 0] S1x24x7168.size (inb_oE e)).set :=
  (View.set_reshape _ _).trans (View.set_slice_whole _ _)

theorem rows_disj {n a b : ℕ} {h : ∀ s : Fin n, ∀ x, (![s.val, 0, 0] : Fin 3 → ℕ) x + (⟨3, ![1, a, b]⟩ : Shape).size x ≤ (⟨3, ![n, a, b]⟩ : Shape).size x} (s t : Fin n) (hst : s ≠ t) :
    Disjoint (Rect.unit (s := ⟨3, ![n, a, b]⟩) ![s.val, 0, 0] (⟨3, ![1, a, b]⟩ : Shape).size (h s)).set (Rect.unit (s := ⟨3, ![n, a, b]⟩) ![t.val, 0, 0] (⟨3, ![1, a, b]⟩ : Shape).size (h t)).set :=
  Rect.unit_disjoint (0 : Fin 3) (by
    show s.val + 1 ≤ t.val ∨ t.val + 1 ≤ s.val
    have : s.val ≠ t.val := fun h => hst (Fin.ext h)
    omega)

theorem w_disj (k l : Fin 2 × Fin 7) (hst : k ≠ l) : Disjoint (wW k.1 k.2).view.set (wW l.1 l.2).view.set := by
  rw [set_wW, set_wW]
  by_cases h : k.1 = l.1
  · have : k.2.val ≠ l.2.val := fun h' => hst (Prod.ext h (Fin.ext h'))
    exact Rect.unit_disjoint (1 : Fin 3) (by
      show 1024 * k.2.val + 1024 ≤ 1024 * l.2.val ∨ 1024 * l.2.val + 1024 ≤ 1024 * k.2.val
      omega)
  · have : k.1.val ≠ l.1.val := fun h' => h (Fin.ext h')
    exact Rect.unit_disjoint (0 : Fin 3) (by
      show k.1.val + 1 ≤ l.1.val ∨ l.1.val + 1 ≤ k.1.val
      omega)

theorem w_cover : (Finset.univ : Finset (Fin 2 × Fin 7)).biUnion (β := S2x7168x1536.Idx) (fun k => (wW k.1 k.2).view.set) = Finset.univ := by
  refine Finset.eq_univ_iff_forall.2 fun i => ?_
  have h0 : ((i : S2x7168x1536.Idx) 0).val < 2 := (i 0).isLt
  have h1 : ((i : S2x7168x1536.Idx) 1).val < 7168 := (i 1).isLt
  have h2 : ((i : S2x7168x1536.Idx) 2).val < 1536 := (i 2).isLt
  refine Finset.mem_biUnion.2 ⟨(⟨(i 0).val, h0⟩, ⟨(i 1).val / 1024, by omega⟩), Finset.mem_univ _, ?_⟩
  rw [set_wW]
  refine Rect.mem_set_unit.2 fun x => ?_
  fin_cases x
  · exact ⟨le_refl (i 0).val, Nat.lt_succ_self (i 0).val⟩
  · exact ⟨by show 1024 * ((i 1).val / 1024) ≤ (i 1).val; omega, by show (i 1).val < 1024 * ((i 1).val / 1024) + 1024; omega⟩
  · exact ⟨Nat.zero_le _, by show (i 2).val < 0 + 1536; omega⟩

section pieces
variable {ι : Type} [Fintype ι] [DecidableEq ι] {ℓ : Loc nD τ sig} {K : ι → Finset (Idx ℓ)}
variable (hd : ∀ t t', t ≠ t' → Disjoint (K t) (K t')) (hc : Finset.univ.biUnion K = Finset.univ)

include hd hc in
theorem split_pieces (f : Buf (Elt F) ℓ) : (ℓ ↦{fullShare} f : sProp (MT nD τ sig Unit (Elt F) ℕ UU ℕ)) ⊢ bigSep Finset.univ fun i => iprop(∃ f : Buf (Elt F) ℓ, ℓ ↦[K i]{fullShare} f) := by
  rw [← hc, pointsTo_biUnion Finset.univ K (fun t _ t' _ h => hd t t' h)]
  exact bigSep_mono fun i _ => show iprop(ℓ ↦[K i]{fullShare} f) ⊢ iprop(∃ f : Buf (Elt F) ℓ, ℓ ↦[K i]{fullShare} f) from by iintro H; iexists f; iexact H

include hd hc in
theorem join_pieces (R : ι → Buf (Elt F) ℓ → Prop) (hR : ∀ i f f', (∀ x ∈ K i, f x = f' x) → R i f → R i f') (f₀ : Buf (Elt F) ℓ) :
    bigSep Finset.univ (fun i => iprop(∃ f : Buf (Elt F) ℓ, ⌜R i f⌝ ∗ ℓ ↦[K i]{fullShare} f)) ⊢ (iprop(∃ f : Buf (Elt F) ℓ, (ℓ ↦{fullShare} f) ∗ ⌜∀ i, R i f⌝) : sProp (MT nD τ sig Unit (Elt F) ℕ UU ℕ)) := by
  haveI : Nonempty (Buf (Elt F) ℓ) := ⟨f₀⟩
  refine (Idealize.SL.BI.bigSep_exists_pi Finset.univ fun i (f : Buf (Elt F) ℓ) => iprop(⌜R i f⌝ ∗ ℓ ↦[K i]{fullShare} f)).trans ?_
  iintro ⟨%y, H⟩
  ihave H := (bigSep_pure_sep (S := Finset.univ) (φ := fun i => R i (y i)) (Ψ := fun i => ℓ ↦[K i]{fullShare} y i)) $$ H
  icases H with ⟨%hP, H⟩
  ihave H := (pointsTo_biUnion_join Finset.univ K y f₀ (fun t _ t' _ h => hd t t' h)) $$ H
  icases H with ⟨%g, %hg, H⟩
  iexists g
  isplitl [H]
  · iapply (Entails.of_eq (show (ℓ ↦[Finset.univ.biUnion K]{fullShare} g : sProp (MT nD τ sig Unit (Elt F) ℕ UU ℕ)) = _ from by rw [hc]))
    iexact H
  · ipureintro
    exact fun i => hR i (y i) g (fun x hx => (hg i (Finset.mem_univ _) x hx).symm) (hP i (Finset.mem_univ i))

include hd hc in
theorem join_pieces0 (f₀ : Buf (Elt F) ℓ) :
    bigSep Finset.univ (fun i => iprop(∃ f : Buf (Elt F) ℓ, (ℓ ↦[K i]{fullShare} f))) ⊢ (iprop(∃ f : Buf (Elt F) ℓ, (ℓ ↦{fullShare} f)) : sProp (MT nD τ sig Unit (Elt F) ℕ UU ℕ)) := by
  have := join_pieces (F := F) hd hc (fun _ _ => True) (fun _ _ _ _ _ => trivial) f₀
  refine (bigSep_mono fun i _ => ?_).trans (this.trans ?_)
  · show iprop(∃ f : Buf (Elt F) ℓ, (ℓ ↦[K i]{fullShare} f)) ⊢ iprop(∃ f : Buf (Elt F) ℓ, ⌜True⌝ ∗ (ℓ ↦[K i]{fullShare} f))
    iintro ⟨%f, H⟩
    iexists f
    isplitr
    · ipureintro; trivial
    · iexact H
  · iintro ⟨%f, H, -⟩
    iexists f; iexact H
end pieces

/-! The start of the body and its end. -/

theorem disj_xW (s t : Fin 2) (h : s ≠ t) : Disjoint (xW s).view.set (xW t).view.set := by
  rw [set_xW, set_xW]; exact rows_disj (n := 2) (a := 24) (b := 1536) (h := inb_x) s t h
theorem cover_xW : (Finset.univ : Finset (Fin 2)).biUnion (β := S2x24x1536.Idx) (fun s => (xW s).view.set) = Finset.univ := by
  refine Finset.eq_univ_iff_forall.2 fun i => ?_
  have h0 : ((i : S2x24x1536.Idx) 0).val < 2 := (i 0).isLt
  have h1 : ((i : S2x24x1536.Idx) 1).val < 24 := (i 1).isLt
  have h2 : ((i : S2x24x1536.Idx) 2).val < 1536 := (i 2).isLt
  refine Finset.mem_biUnion.2 ⟨⟨(i 0).val, h0⟩, Finset.mem_univ _, ?_⟩
  rw [set_xW]
  refine Rect.mem_set_unit.2 fun x => ?_
  fin_cases x
  · exact ⟨le_refl (i 0).val, Nat.lt_succ_self (i 0).val⟩
  · exact ⟨Nat.zero_le _, by show (i 1).val < 0 + 24; omega⟩
  · exact ⟨Nat.zero_le _, by show (i 2).val < 0 + 1536; omega⟩
theorem disj_sW (s t : Fin 2) (h : s ≠ t) : Disjoint (sW s).view.set (sW t).view.set := by
  rw [set_sW, set_sW]; exact rows_disj (n := 2) (a := 56) (b := 12) (h := inb_s) s t h
theorem cover_sW : (Finset.univ : Finset (Fin 2)).biUnion (β := S2x56x12.Idx) (fun s => (sW s).view.set) = Finset.univ := by
  refine Finset.eq_univ_iff_forall.2 fun i => ?_
  have h0 : ((i : S2x56x12.Idx) 0).val < 2 := (i 0).isLt
  have h1 : ((i : S2x56x12.Idx) 1).val < 56 := (i 1).isLt
  have h2 : ((i : S2x56x12.Idx) 2).val < 12 := (i 2).isLt
  refine Finset.mem_biUnion.2 ⟨⟨(i 0).val, h0⟩, Finset.mem_univ _, ?_⟩
  rw [set_sW]
  refine Rect.mem_set_unit.2 fun x => ?_
  fin_cases x
  · exact ⟨le_refl (i 0).val, Nat.lt_succ_self (i 0).val⟩
  · exact ⟨Nat.zero_le _, by show (i 1).val < 0 + 56; omega⟩
  · exact ⟨Nat.zero_le _, by show (i 2).val < 0 + 12; omega⟩
theorem disj_oW (s t : Fin 2) (h : s ≠ t) : Disjoint (oW s).view.set (oW t).view.set := by
  rw [set_oW, set_oW]; exact rows_disj (n := 2) (a := 24) (b := 7168) (h := inb_o) s t h
theorem cover_oW : (Finset.univ : Finset (Fin 2)).biUnion (β := S2x24x7168.Idx) (fun s => (oW s).view.set) = Finset.univ := by
  refine Finset.eq_univ_iff_forall.2 fun i => ?_
  have h0 : ((i : S2x24x7168.Idx) 0).val < 2 := (i 0).isLt
  have h1 : ((i : S2x24x7168.Idx) 1).val < 24 := (i 1).isLt
  have h2 : ((i : S2x24x7168.Idx) 2).val < 7168 := (i 2).isLt
  refine Finset.mem_biUnion.2 ⟨⟨(i 0).val, h0⟩, Finset.mem_univ _, ?_⟩
  rw [set_oW]
  refine Rect.mem_set_unit.2 fun x => ?_
  fin_cases x
  · exact ⟨le_refl (i 0).val, Nat.lt_succ_self (i 0).val⟩
  · exact ⟨Nat.zero_le _, by show (i 1).val < 0 + 24; omega⟩
  · exact ⟨Nat.zero_le _, by show (i 2).val < 0 + 7168; omega⟩
theorem disj_oE (s t : Fin 16) (h : s ≠ t) : Disjoint (oE s).view.set (oE t).view.set := by
  rw [set_oE, set_oE]; exact rows_disj (n := 16) (a := 24) (b := 7168) (h := inb_oE) s t h
theorem cover_oE : (Finset.univ : Finset (Fin 16)).biUnion (β := S16x24x7168.Idx) (fun s => (oE s).view.set) = Finset.univ := by
  refine Finset.eq_univ_iff_forall.2 fun i => ?_
  have h0 : ((i : S16x24x7168.Idx) 0).val < 16 := (i 0).isLt
  have h1 : ((i : S16x24x7168.Idx) 1).val < 24 := (i 1).isLt
  have h2 : ((i : S16x24x7168.Idx) 2).val < 7168 := (i 2).isLt
  refine Finset.mem_biUnion.2 ⟨⟨(i 0).val, h0⟩, Finset.mem_univ _, ?_⟩
  rw [set_oE]
  refine Rect.mem_set_unit.2 fun x => ?_
  fin_cases x
  · exact ⟨le_refl (i 0).val, Nat.lt_succ_self (i 0).val⟩
  · exact ⟨Nat.zero_le _, by show (i 1).val < 0 + 24; omega⟩
  · exact ⟨Nat.zero_le _, by show (i 2).val < 0 + 7168; omega⟩
theorem split6 (f : S2x24x1536.Idx → Elt F .bf16) : (A6.view.loc (c : Thread nD τ) ↦{fullShare} f : sProp (MT nD τ sig Unit (Elt F) ℕ UU ℕ)) ⊢ iprop((∃ f : S2x24x1536.Idx → Elt F .bf16, PW c (xW 0) fullShare f) ∗ ∃ f : S2x24x1536.Idx → Elt F .bf16, PW c (xW 1) fullShare f) :=
  (split_pieces (ℓ := A6.view.loc (c : Thread nD τ)) (K := fun s : Fin 2 => (xW s).view.set) disj_xW cover_xW f).trans
    (Entails.of_eq (bigSep_univ_eq_bigSepL [(0 : Fin 2), 1] (by decide) (by decide) _))
theorem join6 : iprop((∃ f : S2x24x1536.Idx → Elt F .bf16, PW c (xW 0) fullShare f) ∗ ∃ f : S2x24x1536.Idx → Elt F .bf16, PW c (xW 1) fullShare f) ⊢ (iprop(∃ f : S2x24x1536.Idx → Elt F .bf16, A6.view.loc (c : Thread nD τ) ↦{fullShare} f) : sProp (MT nD τ sig Unit (Elt F) ℕ UU ℕ)) := by
  iintro ⟨⟨%f, H⟩, H'⟩
  iapply (join_pieces0 (ℓ := A6.view.loc (c : Thread nD τ)) (K := fun s : Fin 2 => (xW s).view.set) disj_xW cover_xW f)
  iapply (Entails.of_eq (show iprop((∃ f : S2x24x1536.Idx → Elt F .bf16, PW c (xW 0) fullShare f) ∗ ∃ f : S2x24x1536.Idx → Elt F .bf16, PW c (xW 1) fullShare f) = _ from (bigSep_univ_eq_bigSepL [(0 : Fin 2), 1] (by decide) (by decide) (fun s => iprop(∃ f : S2x24x1536.Idx → Elt F .bf16, PW c (xW s) fullShare f))).symm))
  isplitl [H]
  · iexists f; iexact H
  · iexact H'
theorem split7 (f : S2x56x12.Idx → Elt F .f32) : (A7.view.loc (c : Thread nD τ) ↦{fullShare} f : sProp (MT nD τ sig Unit (Elt F) ℕ UU ℕ)) ⊢ iprop((∃ f : S2x56x12.Idx → Elt F .f32, PW c (sW 0) fullShare f) ∗ ∃ f : S2x56x12.Idx → Elt F .f32, PW c (sW 1) fullShare f) :=
  (split_pieces (ℓ := A7.view.loc (c : Thread nD τ)) (K := fun s : Fin 2 => (sW s).view.set) disj_sW cover_sW f).trans
    (Entails.of_eq (bigSep_univ_eq_bigSepL [(0 : Fin 2), 1] (by decide) (by decide) _))
theorem join7 : iprop((∃ f : S2x56x12.Idx → Elt F .f32, PW c (sW 0) fullShare f) ∗ ∃ f : S2x56x12.Idx → Elt F .f32, PW c (sW 1) fullShare f) ⊢ (iprop(∃ f : S2x56x12.Idx → Elt F .f32, A7.view.loc (c : Thread nD τ) ↦{fullShare} f) : sProp (MT nD τ sig Unit (Elt F) ℕ UU ℕ)) := by
  iintro ⟨⟨%f, H⟩, H'⟩
  iapply (join_pieces0 (ℓ := A7.view.loc (c : Thread nD τ)) (K := fun s : Fin 2 => (sW s).view.set) disj_sW cover_sW f)
  iapply (Entails.of_eq (show iprop((∃ f : S2x56x12.Idx → Elt F .f32, PW c (sW 0) fullShare f) ∗ ∃ f : S2x56x12.Idx → Elt F .f32, PW c (sW 1) fullShare f) = _ from (bigSep_univ_eq_bigSepL [(0 : Fin 2), 1] (by decide) (by decide) (fun s => iprop(∃ f : S2x56x12.Idx → Elt F .f32, PW c (sW s) fullShare f))).symm))
  isplitl [H]
  · iexists f; iexact H
  · iexact H'
theorem split11 (f : S2x24x7168.Idx → Elt F .bf16) : (A11.view.loc (c : Thread nD τ) ↦{fullShare} f : sProp (MT nD τ sig Unit (Elt F) ℕ UU ℕ)) ⊢ iprop((∃ f : S2x24x7168.Idx → Elt F .bf16, PW c (oW 0) fullShare f) ∗ ∃ f : S2x24x7168.Idx → Elt F .bf16, PW c (oW 1) fullShare f) :=
  (split_pieces (ℓ := A11.view.loc (c : Thread nD τ)) (K := fun s : Fin 2 => (oW s).view.set) disj_oW cover_oW f).trans
    (Entails.of_eq (bigSep_univ_eq_bigSepL [(0 : Fin 2), 1] (by decide) (by decide) _))
theorem join11 : iprop((∃ f : S2x24x7168.Idx → Elt F .bf16, PW c (oW 0) fullShare f) ∗ ∃ f : S2x24x7168.Idx → Elt F .bf16, PW c (oW 1) fullShare f) ⊢ (iprop(∃ f : S2x24x7168.Idx → Elt F .bf16, A11.view.loc (c : Thread nD τ) ↦{fullShare} f) : sProp (MT nD τ sig Unit (Elt F) ℕ UU ℕ)) := by
  iintro ⟨⟨%f, H⟩, H'⟩
  iapply (join_pieces0 (ℓ := A11.view.loc (c : Thread nD τ)) (K := fun s : Fin 2 => (oW s).view.set) disj_oW cover_oW f)
  iapply (Entails.of_eq (show iprop((∃ f : S2x24x7168.Idx → Elt F .bf16, PW c (oW 0) fullShare f) ∗ ∃ f : S2x24x7168.Idx → Elt F .bf16, PW c (oW 1) fullShare f) = _ from (bigSep_univ_eq_bigSepL [(0 : Fin 2), 1] (by decide) (by decide) (fun s => iprop(∃ f : S2x24x7168.Idx → Elt F .bf16, PW c (oW s) fullShare f))).symm))
  isplitl [H]
  · iexists f; iexact H
  · iexact H'
theorem split8 (f : S2x7168x1536.Idx → Elt F .fp8e4m3) : (A8.view.loc (c : Thread nD τ) ↦{fullShare} f : sProp (MT nD τ sig Unit (Elt F) ℕ UU ℕ)) ⊢ iprop((∃ f : S2x7168x1536.Idx → Elt F .fp8e4m3, PW c (wW 0 0) fullShare f) ∗ (∃ f : S2x7168x1536.Idx → Elt F .fp8e4m3, PW c (wW 0 1) fullShare f) ∗ (∃ f : S2x7168x1536.Idx → Elt F .fp8e4m3, PW c (wW 0 2) fullShare f) ∗ (∃ f : S2x7168x1536.Idx → Elt F .fp8e4m3, PW c (wW 0 3) fullShare f) ∗ (∃ f : S2x7168x1536.Idx → Elt F .fp8e4m3, PW c (wW 0 4) fullShare f) ∗ (∃ f : S2x7168x1536.Idx → Elt F .fp8e4m3, PW c (wW 0 5) fullShare f) ∗ (∃ f : S2x7168x1536.Idx → Elt F .fp8e4m3, PW c (wW 0 6) fullShare f) ∗ (∃ f : S2x7168x1536.Idx → Elt F .fp8e4m3, PW c (wW 1 0) fullShare f) ∗ (∃ f : S2x7168x1536.Idx → Elt F .fp8e4m3, PW c (wW 1 1) fullShare f) ∗ (∃ f : S2x7168x1536.Idx → Elt F .fp8e4m3, PW c (wW 1 2) fullShare f) ∗ (∃ f : S2x7168x1536.Idx → Elt F .fp8e4m3, PW c (wW 1 3) fullShare f) ∗ (∃ f : S2x7168x1536.Idx → Elt F .fp8e4m3, PW c (wW 1 4) fullShare f) ∗ (∃ f : S2x7168x1536.Idx → Elt F .fp8e4m3, PW c (wW 1 5) fullShare f) ∗ (∃ f : S2x7168x1536.Idx → Elt F .fp8e4m3, PW c (wW 1 6) fullShare f)) :=
  (split_pieces (ℓ := A8.view.loc (c : Thread nD τ)) (K := fun k : Fin 2 × Fin 7 => (wW k.1 k.2).view.set) w_disj w_cover f).trans
    (Entails.of_eq (bigSep_univ_eq_bigSepL [((0 : Fin 2), (0 : Fin 7)), ((0 : Fin 2), (1 : Fin 7)), ((0 : Fin 2), (2 : Fin 7)), ((0 : Fin 2), (3 : Fin 7)), ((0 : Fin 2), (4 : Fin 7)), ((0 : Fin 2), (5 : Fin 7)), ((0 : Fin 2), (6 : Fin 7)), ((1 : Fin 2), (0 : Fin 7)), ((1 : Fin 2), (1 : Fin 7)), ((1 : Fin 2), (2 : Fin 7)), ((1 : Fin 2), (3 : Fin 7)), ((1 : Fin 2), (4 : Fin 7)), ((1 : Fin 2), (5 : Fin 7)), ((1 : Fin 2), (6 : Fin 7))] (by decide) (by decide) _))
theorem join8 : iprop((∃ f : S2x7168x1536.Idx → Elt F .fp8e4m3, PW c (wW 0 0) fullShare f) ∗ (∃ f : S2x7168x1536.Idx → Elt F .fp8e4m3, PW c (wW 0 1) fullShare f) ∗ (∃ f : S2x7168x1536.Idx → Elt F .fp8e4m3, PW c (wW 0 2) fullShare f) ∗ (∃ f : S2x7168x1536.Idx → Elt F .fp8e4m3, PW c (wW 0 3) fullShare f) ∗ (∃ f : S2x7168x1536.Idx → Elt F .fp8e4m3, PW c (wW 0 4) fullShare f) ∗ (∃ f : S2x7168x1536.Idx → Elt F .fp8e4m3, PW c (wW 0 5) fullShare f) ∗ (∃ f : S2x7168x1536.Idx → Elt F .fp8e4m3, PW c (wW 0 6) fullShare f) ∗ (∃ f : S2x7168x1536.Idx → Elt F .fp8e4m3, PW c (wW 1 0) fullShare f) ∗ (∃ f : S2x7168x1536.Idx → Elt F .fp8e4m3, PW c (wW 1 1) fullShare f) ∗ (∃ f : S2x7168x1536.Idx → Elt F .fp8e4m3, PW c (wW 1 2) fullShare f) ∗ (∃ f : S2x7168x1536.Idx → Elt F .fp8e4m3, PW c (wW 1 3) fullShare f) ∗ (∃ f : S2x7168x1536.Idx → Elt F .fp8e4m3, PW c (wW 1 4) fullShare f) ∗ (∃ f : S2x7168x1536.Idx → Elt F .fp8e4m3, PW c (wW 1 5) fullShare f) ∗ (∃ f : S2x7168x1536.Idx → Elt F .fp8e4m3, PW c (wW 1 6) fullShare f)) ⊢ (iprop(∃ f : S2x7168x1536.Idx → Elt F .fp8e4m3, A8.view.loc (c : Thread nD τ) ↦{fullShare} f) : sProp (MT nD τ sig Unit (Elt F) ℕ UU ℕ)) := by
  iintro ⟨⟨%f, H⟩, H'⟩
  iapply (join_pieces0 (ℓ := A8.view.loc (c : Thread nD τ)) (K := fun k : Fin 2 × Fin 7 => (wW k.1 k.2).view.set) w_disj w_cover f)
  iapply (Entails.of_eq (show iprop((∃ f : S2x7168x1536.Idx → Elt F .fp8e4m3, PW c (wW 0 0) fullShare f) ∗ (∃ f : S2x7168x1536.Idx → Elt F .fp8e4m3, PW c (wW 0 1) fullShare f) ∗ (∃ f : S2x7168x1536.Idx → Elt F .fp8e4m3, PW c (wW 0 2) fullShare f) ∗ (∃ f : S2x7168x1536.Idx → Elt F .fp8e4m3, PW c (wW 0 3) fullShare f) ∗ (∃ f : S2x7168x1536.Idx → Elt F .fp8e4m3, PW c (wW 0 4) fullShare f) ∗ (∃ f : S2x7168x1536.Idx → Elt F .fp8e4m3, PW c (wW 0 5) fullShare f) ∗ (∃ f : S2x7168x1536.Idx → Elt F .fp8e4m3, PW c (wW 0 6) fullShare f) ∗ (∃ f : S2x7168x1536.Idx → Elt F .fp8e4m3, PW c (wW 1 0) fullShare f) ∗ (∃ f : S2x7168x1536.Idx → Elt F .fp8e4m3, PW c (wW 1 1) fullShare f) ∗ (∃ f : S2x7168x1536.Idx → Elt F .fp8e4m3, PW c (wW 1 2) fullShare f) ∗ (∃ f : S2x7168x1536.Idx → Elt F .fp8e4m3, PW c (wW 1 3) fullShare f) ∗ (∃ f : S2x7168x1536.Idx → Elt F .fp8e4m3, PW c (wW 1 4) fullShare f) ∗ (∃ f : S2x7168x1536.Idx → Elt F .fp8e4m3, PW c (wW 1 5) fullShare f) ∗ (∃ f : S2x7168x1536.Idx → Elt F .fp8e4m3, PW c (wW 1 6) fullShare f)) = _ from (bigSep_univ_eq_bigSepL [((0 : Fin 2), (0 : Fin 7)), ((0 : Fin 2), (1 : Fin 7)), ((0 : Fin 2), (2 : Fin 7)), ((0 : Fin 2), (3 : Fin 7)), ((0 : Fin 2), (4 : Fin 7)), ((0 : Fin 2), (5 : Fin 7)), ((0 : Fin 2), (6 : Fin 7)), ((1 : Fin 2), (0 : Fin 7)), ((1 : Fin 2), (1 : Fin 7)), ((1 : Fin 2), (2 : Fin 7)), ((1 : Fin 2), (3 : Fin 7)), ((1 : Fin 2), (4 : Fin 7)), ((1 : Fin 2), (5 : Fin 7)), ((1 : Fin 2), (6 : Fin 7))] (by decide) (by decide) (fun k => iprop(∃ f : S2x7168x1536.Idx → Elt F .fp8e4m3, PW c (wW k.1 k.2) fullShare f))).symm))
  isplitl [H]
  · iexists f; iexact H
  · iexact H'
theorem toksA1 (f : S16x24x1536.Idx → Elt F .bf16) : (A1.view.loc (c : Thread nD τ) ↦{fullShare} f : sProp (MT nD τ sig Unit (Elt F) ℕ UU ℕ)) ⊣⊢ iprop((A1.view.loc (c : Thread nD τ) ↦{Transfers.shareDrop fullShare 2} f) ∗ (A1.view.loc (c : Thread nD τ) ↦{qx 0} f) ∗ (A1.view.loc (c : Thread nD τ) ↦{qx 1} f)) := by
  have h : (A1.view.loc (c : Thread nD τ) ↦{fullShare} f : sProp (MT nD τ sig Unit (Elt F) ℕ UU ℕ)) ⊣⊢ _ := Transfers.pointsTo_toks_range (ℓ := A1.view.loc (c : Thread nD τ)) (S := Finset.univ) (f := f) fullShare 2
  rw [BI.bigSep_eq_bigSepL_of_eq [0, 1] (by decide) (by decide)] at h
  exact h
theorem toksA3 (f : S16x56x12.Idx → Elt F .f32) : (A3.view.loc (c : Thread nD τ) ↦{fullShare} f : sProp (MT nD τ sig Unit (Elt F) ℕ UU ℕ)) ⊣⊢ iprop((A3.view.loc (c : Thread nD τ) ↦{Transfers.shareDrop fullShare 2} f) ∗ (A3.view.loc (c : Thread nD τ) ↦{qx 0} f) ∗ (A3.view.loc (c : Thread nD τ) ↦{qx 1} f)) := by
  have h : (A3.view.loc (c : Thread nD τ) ↦{fullShare} f : sProp (MT nD τ sig Unit (Elt F) ℕ UU ℕ)) ⊣⊢ _ := Transfers.pointsTo_toks_range (ℓ := A3.view.loc (c : Thread nD τ)) (S := Finset.univ) (f := f) fullShare 2
  rw [BI.bigSep_eq_bigSepL_of_eq [0, 1] (by decide) (by decide)] at h
  exact h
theorem toksA2 (f : S16x7168x1536.Idx → Elt F .fp8e4m3) : (A2.view.loc (c : Thread nD τ) ↦{fullShare} f : sProp (MT nD τ sig Unit (Elt F) ℕ UU ℕ)) ⊣⊢ iprop((A2.view.loc (c : Thread nD τ) ↦{Transfers.shareDrop fullShare 14} f) ∗ (A2.view.loc (c : Thread nD τ) ↦{qw 0 0} f) ∗ (A2.view.loc (c : Thread nD τ) ↦{qw 0 1} f) ∗ (A2.view.loc (c : Thread nD τ) ↦{qw 0 2} f) ∗ (A2.view.loc (c : Thread nD τ) ↦{qw 0 3} f) ∗ (A2.view.loc (c : Thread nD τ) ↦{qw 0 4} f) ∗ (A2.view.loc (c : Thread nD τ) ↦{qw 0 5} f) ∗ (A2.view.loc (c : Thread nD τ) ↦{qw 0 6} f) ∗ (A2.view.loc (c : Thread nD τ) ↦{qw 1 0} f) ∗ (A2.view.loc (c : Thread nD τ) ↦{qw 1 1} f) ∗ (A2.view.loc (c : Thread nD τ) ↦{qw 1 2} f) ∗ (A2.view.loc (c : Thread nD τ) ↦{qw 1 3} f) ∗ (A2.view.loc (c : Thread nD τ) ↦{qw 1 4} f) ∗ (A2.view.loc (c : Thread nD τ) ↦{qw 1 5} f) ∗ (A2.view.loc (c : Thread nD τ) ↦{qw 1 6} f)) := by
  have h : (A2.view.loc (c : Thread nD τ) ↦{fullShare} f : sProp (MT nD τ sig Unit (Elt F) ℕ UU ℕ)) ⊣⊢ _ := Transfers.pointsTo_toks_range (ℓ := A2.view.loc (c : Thread nD τ)) (S := Finset.univ) (f := f) fullShare 14
  rw [BI.bigSep_eq_bigSepL_of_eq [0, 1, 2, 3, 4, 5, 6, 7, 8, 9, 10, 11, 12, 13] (by decide) (by decide)] at h
  exact h

variable {fx : S16x24x1536.Idx → Elt F .bf16} {fs : S16x56x12.Idx → Elt F .f32} {fw : S16x7168x1536.Idx → Elt F .fp8e4m3} {fg : S16.Idx → Elt F .i32} {g : ℕ → BitVec 32}

/-- The shares of the inputs that no copy takes. -/
def Drop (fx : S16x24x1536.Idx → Elt F .bf16) (fs : S16x56x12.Idx → Elt F .f32) (fw : S16x7168x1536.Idx → Elt F .fp8e4m3) : sProp (MT nD τ sig Unit (Elt F) ℕ UU ℕ) :=
  iprop((A1.view.loc (c : Thread nD τ) ↦{Transfers.shareDrop fullShare 2} fx) ∗ (A3.view.loc (c : Thread nD τ) ↦{Transfers.shareDrop fullShare 2} fs) ∗ (A2.view.loc (c : Thread nD τ) ↦{Transfers.shareDrop fullShare 14} fw))

/-- The scratch buffers, whole. -/
def Scr : sProp (MT nD τ sig Unit (Elt F) ℕ UU ℕ) := iprop((∃ f : S2x24x1536.Idx → Elt F .bf16, A6.view.loc (c : Thread nD τ) ↦{fullShare} f) ∗ (∃ f : S2x56x12.Idx → Elt F .f32, A7.view.loc (c : Thread nD τ) ↦{fullShare} f) ∗
  (∃ f : S2x7168x1536.Idx → Elt F .fp8e4m3, A8.view.loc (c : Thread nD τ) ↦{fullShare} f) ∗ (∃ f, P9 c f) ∗ (∃ f, P10 c f) ∗
  (∃ f : S2x24x7168.Idx → Elt F .bf16, A11.view.loc (c : Thread nD τ) ↦{fullShare} f) ∗ (∃ f : S24x7168.Idx → Elt F .bf16, A12.view.loc (c : Thread nD τ) ↦{fullShare} f) ∗ (∃ f, P5 c f))

/-- The semaphores of the body, at zero. -/
def Sems : sProp (MT nD τ sig Unit (Elt F) ℕ UU ℕ) := iprop(Sem0 c (xsem 0) ∗ Sem0 c (xsem 1) ∗ Sem0 c (ssem 0) ∗ Sem0 c (ssem 1) ∗ Sem0 c (wsem 0 0) ∗ Sem0 c (wsem 0 1) ∗ Sem0 c (wsem 0 2) ∗ Sem0 c (wsem 0 3) ∗ Sem0 c (wsem 0 4) ∗ Sem0 c (wsem 0 5) ∗ Sem0 c (wsem 0 6) ∗ Sem0 c (wsem 1 0) ∗ Sem0 c (wsem 1 1) ∗ Sem0 c (wsem 1 2) ∗ Sem0 c (wsem 1 3) ∗ Sem0 c (wsem 1 4) ∗ Sem0 c (wsem 1 5) ∗ Sem0 c (wsem 1 6) ∗ Sem0 c (osem 0) ∗ Sem0 c (osem 1) ∗ Sem0 c (zsem))

/-- What is known of the rows of expert `e` at the end. -/
def Good (g : ℕ → BitVec 32) (fx : S16x24x1536.Idx → Elt F .bf16) (fs : S16x56x12.Idx → Elt F .f32) (fw : S16x7168x1536.Idx → Elt F .fp8e4m3) (fg : S16.Idx → Elt F .i32) (e : Fin 16) (f : S16x24x7168.Idx → Elt F .bf16) : Prop :=
  if bit (g e.val) = 1 then OKv fx fs fw fg e ((oE e).view.read (Elt F) f) else (oE e).view.read (Elt F) f = zb0 (F := F)

theorem set_A12 : (A12.view.set : Finset S24x7168.Idx) = Finset.univ := Finset.eq_univ_iff_forall.2 fun i => by
  simp [View.set, View.setOn, A12, Memref.whole]

set_option maxHeartbeats 1000000 in
theorem enter (fo : S16x24x7168.Idx → Elt F .bf16) :
    iprop(Scr (F := F) c ∗ Sems (F := F) c ∗ (A1.view.loc (c : Thread nD τ) ↦{fullShare} fx) ∗ (A2.view.loc (c : Thread nD τ) ↦{fullShare} fw) ∗ (A3.view.loc (c : Thread nD τ) ↦{fullShare} fs) ∗ (A4.view.loc (c : Thread nD τ) ↦{fullShare} fo)) ⊢
      iprop(Drop c fx fs fw ∗ (∃ f, P5 c f) ∗ Rest c fx fs fw ∗ (∃ f : S24x7168.Idx → Elt F .bf16, PW c A12 fullShare f) ∗ Sem0 c zsem ∗ bigSep Finset.univ (Row (F := F) c)) := by
  unfold Scr Sems Drop Rest SFree Xfree Sfree Gfree Ofree
  iintro ⟨⟨⟨%f6, H6⟩, ⟨%f7, H7⟩, ⟨%f8, H8⟩, H9, H10, ⟨%f11, H11⟩, ⟨%f12, H12⟩, H5⟩, ⟨Zx0, Zx1, Zs0, Zs1, Zw00, Zw01, Zw02, Zw03, Zw04, Zw05, Zw06, Zw10, Zw11, Zw12, Zw13, Zw14, Zw15, Zw16, Zo0, Zo1, Zz⟩, H1, H2, H3, H4⟩
  ihave H6 := (split6 c f6) $$ H6
  icases H6 with ⟨Fx0, Fx1⟩
  ihave H7 := (split7 c f7) $$ H7
  icases H7 with ⟨Fs0, Fs1⟩
  ihave H8 := (split8 c f8) $$ H8
  icases H8 with ⟨Fw00, Fw01, Fw02, Fw03, Fw04, Fw05, Fw06, Fw10, Fw11, Fw12, Fw13, Fw14, Fw15, Fw16⟩
  ihave H11 := (split11 c f11) $$ H11
  icases H11 with ⟨Fo0, Fo1⟩
  ihave H1 := (toksA1 c fx).1 $$ H1
  icases H1 with ⟨H1, Tx0, Tx1⟩
  ihave H3 := (toksA3 c fs).1 $$ H3
  icases H3 with ⟨H3, Ts0, Ts1⟩
  ihave H2 := (toksA2 c fw).1 $$ H2
  icases H2 with ⟨H2, Tw00, Tw01, Tw02, Tw03, Tw04, Tw05, Tw06, Tw10, Tw11, Tw12, Tw13, Tw14, Tw15, Tw16⟩
  isplitl [H1 H2 H3]
  · isplitl [H1]
    · iexact H1
    · isplitl [H3]; · iexact H3
      iexact H2
  isplitl [H5]
  · iexact H5
  isplitr [H12 Zz H4]
  · isplitl [Fx0 Zx0 Tx0 Fs0 Zs0 Ts0 Fw00 Zw00 Tw00 Fw01 Zw01 Tw01 Fw02 Zw02 Tw02 Fw03 Zw03 Tw03 Fw04 Zw04 Tw04 Fw05 Zw05 Tw05 Fw06 Zw06 Tw06]
    · isplitl [Fx0 Zx0 Tx0]
      · isplitl [Fx0]; · iexact Fx0
        isplitl [Zx0]; · iexact Zx0
        iexact Tx0
      isplitl [Fs0 Zs0 Ts0]
      · isplitl [Fs0]; · iexact Fs0
        isplitl [Zs0]; · iexact Zs0
        iexact Ts0
      isplitl [Fw00 Zw00 Tw00]
      · isplitl [Fw00]; · iexact Fw00
        isplitl [Zw00]; · iexact Zw00
        iexact Tw00
      isplitl [Fw01 Zw01 Tw01]
      · isplitl [Fw01]; · iexact Fw01
        isplitl [Zw01]; · iexact Zw01
        iexact Tw01
      isplitl [Fw02 Zw02 Tw02]
      · isplitl [Fw02]; · iexact Fw02
        isplitl [Zw02]; · iexact Zw02
        iexact Tw02
      isplitl [Fw03 Zw03 Tw03]
      · isplitl [Fw03]; · iexact Fw03
        isplitl [Zw03]; · iexact Zw03
        iexact Tw03
      isplitl [Fw04 Zw04 Tw04]
      · isplitl [Fw04]; · iexact Fw04
        isplitl [Zw04]; · iexact Zw04
        iexact Tw04
      isplitl [Fw05 Zw05 Tw05]
      · isplitl [Fw05]; · iexact Fw05
        isplitl [Zw05]; · iexact Zw05
        iexact Tw05
      isplitl [Fw06]; · iexact Fw06
      isplitl [Zw06]; · iexact Zw06
      iexact Tw06
    isplitl [Fx1 Zx1 Tx1 Fs1 Zs1 Ts1 Fw10 Zw10 Tw10 Fw11 Zw11 Tw11 Fw12 Zw12 Tw12 Fw13 Zw13 Tw13 Fw14 Zw14 Tw14 Fw15 Zw15 Tw15 Fw16 Zw16 Tw16]
    · isplitl [Fx1 Zx1 Tx1]
      · isplitl [Fx1]; · iexact Fx1
        isplitl [Zx1]; · iexact Zx1
        iexact Tx1
      isplitl [Fs1 Zs1 Ts1]
      · isplitl [Fs1]; · iexact Fs1
        isplitl [Zs1]; · iexact Zs1
        iexact Ts1
      isplitl [Fw10 Zw10 Tw10]
      · isplitl [Fw10]; · iexact Fw10
        isplitl [Zw10]; · iexact Zw10
        iexact Tw10
      isplitl [Fw11 Zw11 Tw11]
      · isplitl [Fw11]; · iexact Fw11
        isplitl [Zw11]; · iexact Zw11
        iexact Tw11
      isplitl [Fw12 Zw12 Tw12]
      · isplitl [Fw12]; · iexact Fw12
        isplitl [Zw12]; · iexact Zw12
        iexact Tw12
      isplitl [Fw13 Zw13 Tw13]
      · isplitl [Fw13]; · iexact Fw13
        isplitl [Zw13]; · iexact Zw13
        iexact Tw13
      isplitl [Fw14 Zw14 Tw14]
      · isplitl [Fw14]; · iexact Fw14
        isplitl [Zw14]; · iexact Zw14
        iexact Tw14
      isplitl [Fw15 Zw15 Tw15]
      · isplitl [Fw15]; · iexact Fw15
        isplitl [Zw15]; · iexact Zw15
        iexact Tw15
      isplitl [Fw16]; · iexact Fw16
      isplitl [Zw16]; · iexact Zw16
      iexact Tw16
    isplitl [H9]; · iexact H9
    isplitl [H10]; · iexact H10
    isplitl [Fo0 Zo0]
    · isplitl [Fo0]; · iexact Fo0
      iexact Zo0
    isplitl [Fo1]; · iexact Fo1
    iexact Zo1
  isplitl [H12]
  · iexists f12
    iapply (Entails.of_eq (show (A12.view.loc (c : Thread nD τ) ↦{fullShare} f12 : sProp (MT nD τ sig Unit (Elt F) ℕ UU ℕ)) = _ from by rw [PW, set_A12]))
    iexact H12
  isplitl [Zz]; · iexact Zz
  iapply (split_pieces (ℓ := A4.view.loc (c : Thread nD τ)) (K := fun e : Fin 16 => (oE e).view.set) disj_oE cover_oE fo)
  iexact H4

theorem good_congr (e : Fin 16) (f f' : S16x24x7168.Idx → Elt F .bf16) (h : ∀ x ∈ (oE e).view.set, f x = f' x) : Good g fx fs fw fg e f → Good g fx fs fw fg e f' := by
  have : (oE e).view.read (Elt F) f = (oE e).view.read (Elt F) f' := View.read_congr h
  unfold Good
  rw [this]
  exact id

theorem rowF_good (e : Fin 16) : RowF c g fx fs fw fg e ⊢ iprop(∃ f : S16x24x7168.Idx → Elt F .bf16, ⌜Good g fx fs fw fg e f⌝ ∗ PW c (oE e) fullShare f) := by
  unfold RowF Good RowK RowV
  by_cases h : bit (g e.val) = 1
  · simp only [if_pos h]
    iintro ⟨%v, %hv, %f, H, %hf⟩
    iexists f
    isplitr
    · ipureintro; rw [hf]; exact hv
    · iexact H
  · simp only [if_neg h]
    iintro ⟨%f, H, %hf⟩
    iexists f
    isplitr
    · ipureintro; exact hf
    · iexact H

set_option maxHeartbeats 1000000 in
theorem leave (f₀ : S16x24x7168.Idx → Elt F .bf16) :
    iprop(Drop c fx fs fw ∗ (∃ f, P5 c f) ∗ Rest c fx fs fw ∗ (∃ f : S24x7168.Idx → Elt F .bf16, PW c A12 fullShare f) ∗ Sem0 c zsem ∗ bigSep Finset.univ (RowF c g fx fs fw fg)) ⊢
      iprop(Scr (F := F) c ∗ Sems (F := F) c ∗ (A1.view.loc (c : Thread nD τ) ↦{fullShare} fx) ∗ (A2.view.loc (c : Thread nD τ) ↦{fullShare} fw) ∗ (A3.view.loc (c : Thread nD τ) ↦{fullShare} fs) ∗ (∃ f : S16x24x7168.Idx → Elt F .bf16, (A4.view.loc (c : Thread nD τ) ↦{fullShare} f) ∗ ⌜∀ e, Good g fx fs fw fg e f⌝)) := by
  unfold Scr Sems Drop Rest SFree Xfree Sfree Gfree Ofree
  iintro ⟨⟨H1, H3, H2⟩, H5, ⟨⟨⟨Fx0, Zx0, Tx0⟩, ⟨Fs0, Zs0, Ts0⟩, ⟨Fw00, Zw00, Tw00⟩, ⟨Fw01, Zw01, Tw01⟩, ⟨Fw02, Zw02, Tw02⟩, ⟨Fw03, Zw03, Tw03⟩, ⟨Fw04, Zw04, Tw04⟩, ⟨Fw05, Zw05, Tw05⟩, ⟨Fw06, Zw06, Tw06⟩⟩, ⟨⟨Fx1, Zx1, Tx1⟩, ⟨Fs1, Zs1, Ts1⟩, ⟨Fw10, Zw10, Tw10⟩, ⟨Fw11, Zw11, Tw11⟩, ⟨Fw12, Zw12, Tw12⟩, ⟨Fw13, Zw13, Tw13⟩, ⟨Fw14, Zw14, Tw14⟩, ⟨Fw15, Zw15, Tw15⟩, ⟨Fw16, Zw16, Tw16⟩⟩, H9, H10, ⟨Fo0, Zo0⟩, ⟨Fo1, Zo1⟩⟩, ⟨%f12, H12⟩, Zz, H4⟩
  isplitl [Fx0 Fx1 Fs0 Fs1 Fw00 Fw01 Fw02 Fw03 Fw04 Fw05 Fw06 Fw10 Fw11 Fw12 Fw13 Fw14 Fw15 Fw16 Fo0 Fo1 H9 H10 H12 H5]
  · isplitl [Fx0 Fx1]
    · iapply (join6 c)
      isplitl [Fx0]; · iexact Fx0
      iexact Fx1
    isplitl [Fs0 Fs1]
    · iapply (join7 c)
      isplitl [Fs0]; · iexact Fs0
      iexact Fs1
    isplitl [Fw00 Fw01 Fw02 Fw03 Fw04 Fw05 Fw06 Fw10 Fw11 Fw12 Fw13 Fw14 Fw15 Fw16]
    · iapply (join8 c)
      isplitl [Fw00]; · iexact Fw00
      isplitl [Fw01]; · iexact Fw01
      isplitl [Fw02]; · iexact Fw02
      isplitl [Fw03]; · iexact Fw03
      isplitl [Fw04]; · iexact Fw04
      isplitl [Fw05]; · iexact Fw05
      isplitl [Fw06]; · iexact Fw06
      isplitl [Fw10]; · iexact Fw10
      isplitl [Fw11]; · iexact Fw11
      isplitl [Fw12]; · iexact Fw12
      isplitl [Fw13]; · iexact Fw13
      isplitl [Fw14]; · iexact Fw14
      isplitl [Fw15]; · iexact Fw15
      iexact Fw16
    isplitl [H9]; · iexact H9
    isplitl [H10]; · iexact H10
    isplitl [Fo0 Fo1]
    · iapply (join11 c)
      isplitl [Fo0]; · iexact Fo0
      iexact Fo1
    isplitl [H12]
    · iexists f12
      iapply (Entails.of_eq (show PW c A12 fullShare f12 = (A12.view.loc (c : Thread nD τ) ↦{fullShare} f12 : sProp (MT nD τ sig Unit (Elt F) ℕ UU ℕ)) from by rw [PW, set_A12]))
      iexact H12
    iexact H5
  isplitl [Zx0 Zx1 Zs0 Zs1 Zw00 Zw01 Zw02 Zw03 Zw04 Zw05 Zw06 Zw10 Zw11 Zw12 Zw13 Zw14 Zw15 Zw16 Zo0 Zo1 Zz]
  · isplitl [Zx0]; · iexact Zx0
    isplitl [Zx1]; · iexact Zx1
    isplitl [Zs0]; · iexact Zs0
    isplitl [Zs1]; · iexact Zs1
    isplitl [Zw00]; · iexact Zw00
    isplitl [Zw01]; · iexact Zw01
    isplitl [Zw02]; · iexact Zw02
    isplitl [Zw03]; · iexact Zw03
    isplitl [Zw04]; · iexact Zw04
    isplitl [Zw05]; · iexact Zw05
    isplitl [Zw06]; · iexact Zw06
    isplitl [Zw10]; · iexact Zw10
    isplitl [Zw11]; · iexact Zw11
    isplitl [Zw12]; · iexact Zw12
    isplitl [Zw13]; · iexact Zw13
    isplitl [Zw14]; · iexact Zw14
    isplitl [Zw15]; · iexact Zw15
    isplitl [Zw16]; · iexact Zw16
    isplitl [Zo0]; · iexact Zo0
    isplitl [Zo1]; · iexact Zo1
    iexact Zz
  isplitl [H1 Tx0 Tx1]
  · iapply (toksA1 c fx).2
    isplitl [H1]; · iexact H1
    isplitl [Tx0]; · iexact Tx0
    iexact Tx1
  isplitl [H2 Tw00 Tw01 Tw02 Tw03 Tw04 Tw05 Tw06 Tw10 Tw11 Tw12 Tw13 Tw14 Tw15 Tw16]
  · iapply (toksA2 c fw).2
    isplitl [H2]; · iexact H2
    isplitl [Tw00]; · iexact Tw00
    isplitl [Tw01]; · iexact Tw01
    isplitl [Tw02]; · iexact Tw02
    isplitl [Tw03]; · iexact Tw03
    isplitl [Tw04]; · iexact Tw04
    isplitl [Tw05]; · iexact Tw05
    isplitl [Tw06]; · iexact Tw06
    isplitl [Tw10]; · iexact Tw10
    isplitl [Tw11]; · iexact Tw11
    isplitl [Tw12]; · iexact Tw12
    isplitl [Tw13]; · iexact Tw13
    isplitl [Tw14]; · iexact Tw14
    isplitl [Tw15]; · iexact Tw15
    iexact Tw16
  isplitl [H3 Ts0 Ts1]
  · iapply (toksA3 c fs).2
    isplitl [H3]; · iexact H3
    isplitl [Ts0]; · iexact Ts0
    iexact Ts1
  ihave H4 := (show iprop(bigSep Finset.univ (RowF c g fx fs fw fg)) ⊢ iprop(bigSep Finset.univ (fun e => iprop(∃ f : S16x24x7168.Idx → Elt F .bf16, ⌜Good g fx fs fw fg e f⌝ ∗ PW c (oE e) fullShare f))) from bigSep_mono (s := Finset.univ) (Φ := RowF c g fx fs fw fg) (Ψ := fun e => iprop(∃ f : S16x24x7168.Idx → Elt F .bf16, ⌜Good g fx fs fw fg e f⌝ ∗ PW c (oE e) fullShare f)) fun e _ => rowF_good (g := g) (fx := fx) (fs := fs) (fw := fw) (fg := fg) c e) $$ H4
  iapply (show _ ⊢ _ from (join_pieces (ℓ := A4.view.loc (c : Thread nD τ)) (K := fun e : Fin 16 => (oE e).view.set) disj_oE cover_oE (Good g fx fs fw fg) good_congr f₀))
  iexact H4

end

end Cert.Proof.Kernel

end
-- ==== Proof.Kernel.Run.lean ====
module

public import proofs.«01_k».proof.Proof.Kernel.Start
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Transfers
public import Idealize.ShloMosaic.Lib.Batch
public import Idealize.ShloMosaic.Lib.Pipeline.FrameValue
public import Idealize.ShloMosaic.Lib.Pipeline.FrameBody
public import Idealize.ShloMosaic.Adequacy
public import Idealize.ShloMosaic.Init

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen hiding V hmain frame_of before0_0_of
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Core `c`'s buffers when the kernel starts. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UU) (Lvl := ℕ) cfgs 0 defs₀ 𝒱₀ m (main (F := F)) (V m) :=
  Pipeline.hmain_region cfgs 0 defs₀ 𝒱₀ m main fun c => (main_chain c).trans rfl

/-- The semaphores of the body. -/
abbrev osem0 : Fin 21 → SemLoc sig := fun j => (![.dma (xsem 0), .dma (xsem 1), .dma (ssem 0), .dma (ssem 1), .dma (wsem 0 0), .dma (wsem 0 1), .dma (wsem 0 2), .dma (wsem 0 3), .dma (wsem 0 4), .dma (wsem 0 5), .dma (wsem 0 6), .dma (wsem 1 0), .dma (wsem 1 1), .dma (wsem 1 2), .dma (wsem 1 3), .dma (wsem 1 4), .dma (wsem 1 5), .dma (wsem 1 6), .dma (osem 0), .dma (osem 1), .dma (zsem)] : Fin 21 → SemLoc sig) j
set_option maxHeartbeats 2000000 in
theorem ownSemFacts0 : Pipeline.OwnSemFacts spec0 osem0 := by decide
theorem ownSems0_list (c : Dev nD) :
    (Pipeline.ownSems0 (Ix := Unit) (Name := ℕ) (U := UU) (Lvl := ℕ) (Val := Elt F) (τ := τ) osem0 c : sProp (MT nD τ sig Unit (Elt F) ℕ UU ℕ)) = Sems (F := F) c := by
  rw [Pipeline.ownSems0_eq_of_list c osem0 [0, 1, 2, 3, 4, 5, 6, 7, 8, 9, 10, 11, 12, 13, 14, 15, 16, 17, 18, 19, 20] (by decide) (by decide)]; rfl

/-- The arrays the body reads. -/
def H0 : Finset (Ref sig .tc) := {main_arg0, main_arg2, main_arg3}
/-- The array the body writes. -/
def R0 : Finset (Ref sig .tc) := {main_v0}
theorem H0_sub : H0 ⊆ Pipeline.restRefs sig spec0 := by decide
theorem R0_sub : R0 ⊆ Pipeline.restRefs sig spec0 \ H0 := by decide

theorem h0_eq (c : Dev nD) :
    (bigSep H0 (fun b => ((c : Thread nD τ).loc b) ↦{fullShare} V m c b) : sProp (MT nD τ sig Unit (Elt F) ℕ UU ℕ))
      = iprop((A1.view.loc (c : Thread nD τ) ↦{fullShare} V m c main_arg0) ∗ (A2.view.loc (c : Thread nD τ) ↦{fullShare} V m c main_arg2) ∗ (A3.view.loc (c : Thread nD τ) ↦{fullShare} V m c main_arg3)) := by
  rw [BI.bigSep_eq_bigSepL_of_eq [main_arg0, main_arg2, main_arg3] (by decide) (by decide)]; rfl
theorem routed_eq (c : Dev nD) (G : (b : Ref sig .tc) → Buf (Elt F) ((c.tc : Thread nD τ).loc b)) :
    (Pipeline.routed R0 c G : sProp (MT nD τ sig Unit (Elt F) ℕ UU ℕ)) = iprop(A4.view.loc (c : Thread nD τ) ↦{fullShare} G main_v0) := by
  unfold Pipeline.routed
  rw [BI.bigSep_eq_bigSepL_of_eq [main_v0] (by decide) (by decide)]; rfl

/-- What the result array holds at the end. -/
def Good0 (c : Dev nD) (G : (b : Ref sig .tc) → Buf (Elt F) ((c.tc : Thread nD τ).loc b)) : Prop :=
  ∀ e, Good (fun i => tw (F := F) (iblk m c 0 t0_0) (p16 i)) (V m c main_arg0) (V m c main_arg3) (V m c main_arg2) (iblk m c 0 t0_0) e (G main_v0)

/-- The body's buffers before and after its one step. -/
def Inv (c : Dev nD) (k : ℕ) : sProp (MT nD τ sig Unit (Elt F) ℕ UU ℕ) :=
  iprop(Pipeline.ΦD osem0 spec0 H0 (V m) c ∗ if k = 0 then Pipeline.routed R0 c (V m c) else Pipeline.routedSat R0 c (Good0 m c))

/-- The proof data of the one pipeline on core `c`. -/
def dats (_ : Fin 1) (c : Dev nD) : Dat τ (Elt F) Unit ℕ UU ℕ cfg0 c where
  A w := V m c (Pipeline.arrRef spec0 w)
  after w t := match w with
    | ⟨0, _⟩ => iblk m c 0 t
  Φ k := Inv m c k.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]

theorem before0_0_of {c : Dev nD} (dat : Dat τ (Elt F) Unit ℕ UU ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

abbrev ms0_0 (t : Fin cfg0.N) : Memref sig .tc .smem S16 .i32 := win0_0.stage (cfg0.slots t 0)

def bodyPre (c : Dev nD) (t : Fin cfg0.N) : sProp (MT nD τ sig Unit (Elt F) ℕ UU ℕ) :=
  iprop((dats m 0 c).Φ t.castSucc ∗ (dats m 0 c).owesAt () t.castSucc
    ∗ (∃ d, owns (c : Thread nD τ) (ms0_0 t) fullShare ((dats m 0 c).before 0 t d)))
def bodyPost (c : Dev nD) (t : Fin cfg0.N) : sProp (MT nD τ sig Unit (Elt F) ℕ UU ℕ) :=
  iprop((dats m 0 c).Φ t.succ ∗ (dats m 0 c).owesAt () t.succ
    ∗ owns (c : Thread nD τ) (ms0_0 t) fullShare ((dats m 0 c).after 0 t))

/-- What the body is given and gives back, whole. -/
theorem phiD_eq (c : Dev nD) : (Pipeline.ΦD osem0 spec0 H0 (V m) c : sProp (MT nD τ sig Unit (Elt F) ℕ UU ℕ)) = iprop(Scr (F := F) c ∗ (∃ r, prngReg c r) ∗ Sems (F := F) c
    ∗ iprop((A1.view.loc (c : Thread nD τ) ↦{fullShare} V m c main_arg0) ∗ (A2.view.loc (c : Thread nD τ) ↦{fullShare} V m c main_arg2) ∗ (A3.view.loc (c : Thread nD τ) ↦{fullShare} V m c main_arg3))) := by
  rw [Pipeline.ΦD_eq, scopedRest0_eq, ownSems0_list, h0_eq]
  rfl

theorem stage_eq : (ms0_0 t0_0) = A0 := rfl

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  rw [after0_0]
  simp only [before0_0_of m (dats m 0 c) (A_eq m c 0) (after0_0 m c)]
  rw [show (dats m 0 c).Φ t0_0.succ = iprop(Pipeline.ΦD osem0 spec0 H0 (V m) c ∗ Pipeline.routedSat R0 c (Good0 m c)) from rfl,
    show (dats m 0 c).Φ t0_0.castSucc = iprop(Pipeline.ΦD osem0 spec0 H0 (V m) c ∗ Pipeline.routed R0 c (V m c)) from rfl, phiD_eq, routed_eq]
  unfold Dat.owesAt Pipeline.owesWithin
  rw [show (dats m 0 c).owed t0_0.castSucc = 0 from rfl, show (dats m 0 c).owed t0_0.succ = 0 from rfl]
  rw [stage_eq, owns_whole]
  iintro ⟨⟨⟨HS, Hg, HD, H1, H2, H3⟩, H4⟩, ⟨%W0, -, HW⟩, ⟨%d0, H0⟩⟩
  ihave HE := (enter (F := F) c (fx := V m c main_arg0) (fs := V m c main_arg3) (fw := V m c main_arg2) (V m c main_v0)) $$ [HS HD H1 H2 H3 H4]
  · isplitl [HS]; · iexact HS
    isplitl [HD]; · iexact HD
    isplitl [H1]; · iexact H1
    isplitl [H2]; · iexact H2
    isplitl [H3]; · iexact H3
    iexact H4
  icases HE with ⟨Hd, H5, HR, H12, HZ, Hrow⟩
  iapply (body_spec c (fx := V m c main_arg0) (fs := V m c main_arg3) (fw := V m c main_arg2) (fg := iblk m c 0 t0_0) (q0 := fullShare)) $$ [H0 H5 HW HR H12 HZ Hrow]
  · isplitl [H0]; · iexact H0
    isplitl [H5]; · iexact H5
    isplitl [HW]
    · unfold OW; iexists W0; iexact HW
    isplitl [HR]; · iexact HR
    isplitl [H12]; · iexact H12
    isplitl [HZ]; · iexact HZ
    iexact Hrow
  iintro ⟨H0, H5, HW, HR, H12, HZ, Hrow⟩
  ihave HE := (leave (F := F) c (fx := V m c main_arg0) (fs := V m c main_arg3) (fw := V m c main_arg2) (fg := iblk m c 0 t0_0) (g := fun i => tw (F := F) (iblk m c 0 t0_0) (p16 i)) (V m c main_v0)) $$ [Hd H5 HR H12 HZ Hrow]
  · isplitl [Hd]; · iexact Hd
    isplitl [H5]; · iexact H5
    isplitl [HR]; · iexact HR
    isplitl [H12]; · iexact H12
    isplitl [HZ]; · iexact HZ
    iexact Hrow
  icases HE with ⟨HS, HD, H1, H2, H3, ⟨%f, H4, %hf⟩⟩
  isplitl [HS Hg HD H1 H2 H3 H4]
  · isplitl [HS Hg HD H1 H2 H3]
    · isplitl [HS]; · iexact HS
      isplitl [Hg]; · iexact Hg
      isplitl [HD]; · iexact HD
      isplitl [H1]; · iexact H1
      isplitl [H2]; · iexact H2
      iexact H3
    · unfold Pipeline.routedSat
      iexists (fun b => if h : b = main_v0 then h ▸ f else V m c b)
      isplitr
      · ipureintro
        intro e
        simpa using hf e
      · iapply (Entails.of_eq (routed_eq (F := F) c (fun b => if h : b = main_v0 then h ▸ f else V m c b)).symm)
        iexact H4
  isplitl [HW]
  · unfold OW
    icases HW with ⟨%W1, HW⟩
    iexists W1; isplitr; · ipureintro; exact fun _ _ => Or.inl trivial
    iexact HW
  iexact H0

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What a run leaves: the arguments as they were, the result as `Good0` says, and the semaphores at zero. -/
def Left (r : PUnit × MemSt nD τ sig (Elt F)) : Prop :=
  (Pipeline.FramePostR cfgs (dats m) 0 R0 (V m) r ∧ ∀ c : Dev nD, ∃ G : (b : Ref sig .tc) → Buf (Elt F) ((c.tc : Thread nD τ).loc b), Good0 m c G ∧ ∀ b ∈ R0, r.2.mem ((c.tc : Thread nD τ).loc b) = G b) ∧ r.2.sem = fun _ => 0

set_option backward.isDefEq.respectTransparency.types false in
theorem run_main : θ_run defs (onTc (τ := τ) (main (F := F))) (s₀ m ρ) (Left m) :=
  (θ_run defs _ _).mono (fun r (h : (Pipeline.RDat.FramePostR (cfgs 0) (fun c => (dats m 0 c).toR) R0 (V m) r ∧ ∀ c : Dev nD, ∃ G : (b : Ref sig .tc) → Buf (Elt F) ((c.tc : Thread nD τ).loc b), Good0 m c G ∧ ∀ b ∈ R0, r.2.mem ((c.tc : Thread nD τ).loc b) = G b) ∧ r.2.sem = fun _ => 0) => ⟨⟨Pipeline.RDat.FramePostR.toDat cfgs (dats m) 0 R0 (V m) r h.1.1, h.1.2⟩, h.2⟩) <|
  have hrest : Pipeline.restRefs sig spec0 ⊆ Pipeline.restRefsP sig Pipeline.Prefetch.none spec0 :=
    fun b hb => Finset.mem_sdiff.mpr ⟨hb, fun h => ((Finset.mem_image.mp h).elim fun k _ => k.elim0)⟩
  Pipeline.RDat.θ_run_frameP_dmaRSat_shared (Q' := _) (fun q => (cfgs q).toPCfg (Val := Elt F)) (fun q => (cfgs q).toPCfg_adm) (0 : Fin 1) (Pipeline.LaunchFacts.toP launch0).to₀ osem0 defs₀ Variants.none
    (fun c => (dats m 0 c).toR) ownSemFacts0 H0 R0 (H0_sub.trans hrest) (R0_sub.trans (Finset.sdiff_subset_sdiff hrest subset_rfl)) m ρ main
    (hbody := fun c => (body_obligation m c).loose.toR)
    (hq := fun c w hw => ((dats m 0 c).toR).q_eq_shareOf_of_share_full (Pipeline.WinFacts.arr_inj winFacts0) (fun w => (dats m 0 c).share_full (fun _ => rfl) w) w hw)
    (howed := fun _ _ => rfl) (V := V m) (hmain := hmain m Variants.none) (hA := A_eq m) (hpf := fun _ k => k.elim0)
    (PG := Good0 m)
    (hin := fun c => by
      show iprop(Pipeline.ΦDRG osem0 spec0 H0 R0 (V m) (V m) c ∗ _) ⊢ Pipeline.ΦDRG osem0 spec0 H0 R0 (V m) (V m) c
      iintro ⟨H, -⟩; iexact H)
    (hout := fun c => .rfl)

/-- The program runs, its arguments end unchanged, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r (h : Left m r) => ⟨fun c => ⟨((h.1.1 c).2 main_arg0 (Finset.mem_sdiff.mpr ⟨Pipeline.mem_restRefs_of main_arg0 (by decide) (by decide), by decide⟩)),
      ((h.1.1 c).1 0).trans (((dats m 0 c).arrAt_in 0 rfl _).trans (A_eq m c 0)),
      ((h.1.1 c).2 main_arg2 (Finset.mem_sdiff.mpr ⟨Pipeline.mem_restRefs_of main_arg2 (by decide) (by decide), by decide⟩)),
      ((h.1.1 c).2 main_arg3 (Finset.mem_sdiff.mpr ⟨Pipeline.mem_restRefs_of main_arg3 (by decide) (by decide), by decide⟩))⟩, h.2⟩) (run_main m ρ)

end Cert.Proof.Kernel

end
-- ==== Proof.KernelIdeal.Base.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Transfers
public import Idealize.ShloMosaic.Lib.Batch
public import Idealize.ShloMosaic.Adequacy
public import Idealize.ShloMosaic.Init

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

abbrev UU : Type := UR sig nD τ × Counters

local notation "𝕄" => MT nD τ sig Unit (Elt F) ℕ UU ℕ

abbrev EC : UEmb Counters (MT nD τ sig Unit (Elt F) ℕ UU ℕ) := countersEmb

abbrev 𝒱₀ : Variants := Variants.none

abbrev A1 : Memref sig .tc .hbm S16x24x1536 .bf16 := Memref.whole main_arg0
abbrev A2 : Memref sig .tc .hbm S16x7168x1536 .fp8e4m3 := Memref.whole main_arg2
abbrev A3 : Memref sig .tc .hbm S16x56x12 .f32 := Memref.whole main_arg3
abbrev A4 : Memref sig .tc .hbm S16x24x7168 .bf16 := Memref.whole main_v0
abbrev A0 : Memref sig .tc .smem S16 .i32 := Memref.whole cc0_stg0_0
abbrev A5 : Memref sig .tc .smem S16 .i32 := Memref.whole cc0_scratch0
abbrev A6 : Memref sig .tc .vmem S2x24x1536 .bf16 := Memref.whole cc0_scratch1
abbrev A7 : Memref sig .tc .vmem S2x56x12 .f32 := Memref.whole cc0_scratch2
abbrev A8 : Memref sig .tc .vmem S2x7168x1536 .fp8e4m3 := Memref.whole cc0_scratch3
abbrev A9 : Memref sig .tc .vmem S24x1536 .f32 := Memref.whole cc0_scratch4
abbrev A10 : Memref sig .tc .vmem S56x1536 .f32 := Memref.whole cc0_scratch5
abbrev A11 : Memref sig .tc .vmem S2x24x7168 .bf16 := Memref.whole cc0_scratch6
abbrev A12 : Memref sig .tc .vmem S24x7168 .bf16 := Memref.whole cc0_scratch7

/-- The core's weakest precondition, at the certificate's variants. -/
abbrev W (c : Dev nD) {α : Type} (p : Prog (TpuEff nD τ sig (Elt F) Λ₀ .tc) α) (Q : α → sProp (MT nD τ sig Unit (Elt F) ℕ UU ℕ)) : sProp (MT nD τ sig Unit (Elt F) ℕ UU ℕ) :=
  wp frame (wpE defs₀ 𝒱₀ (c : Thread nD τ) none) Set.univ p Q

theorem inb_x (s : Fin 2) : ∀ a, (![s.val, 0, 0] : Fin 3 → ℕ) a + S1x24x1536.size a ≤ S2x24x1536.size a := by revert s; decide
theorem inb_s (s : Fin 2) : ∀ a, (![s.val, 0, 0] : Fin 3 → ℕ) a + S1x56x12.size a ≤ S2x56x12.size a := by revert s; decide
theorem inb_w (s : Fin 2) (q : Fin 7) : ∀ a, (![s.val, 1024 * q.val, 0] : Fin 3 → ℕ) a + S1x1024x1536.size a ≤ S2x7168x1536.size a := by revert s q; decide
theorem inb_o (s : Fin 2) : ∀ a, (![s.val, 0, 0] : Fin 3 → ℕ) a + S1x24x7168.size a ≤ S2x24x7168.size a := by revert s; decide
theorem inb_xE (e : Fin 16) : ∀ a, (![e.val, 0, 0] : Fin 3 → ℕ) a + S1x24x1536.size a ≤ S16x24x1536.size a := by revert e; decide
theorem inb_sE (e : Fin 16) : ∀ a, (![e.val, 0, 0] : Fin 3 → ℕ) a + S1x56x12.size a ≤ S16x56x12.size a := by revert e; decide
theorem inb_wE (e : Fin 16) (q : Fin 7) : ∀ a, (![e.val, 1024 * q.val, 0] : Fin 3 → ℕ) a + S1x1024x1536.size a ≤ S16x7168x1536.size a := by revert e q; decide
theorem inb_oE (e : Fin 16) : ∀ a, (![e.val, 0, 0] : Fin 3 → ℕ) a + S1x24x7168.size a ≤ S16x24x7168.size a := by revert e; decide
theorem inb_sem (s : Fin 2) : ∀ a, (![s.val] : Fin 1 → ℕ) a + S1.size a ≤ S2.size a := by revert s; decide
theorem inb_semw (s : Fin 2) (q : Fin 7) : ∀ a, (![s.val, q.val] : Fin 2 → ℕ) a + S1x1.size a ≤ S2x7.size a := by revert s q; decide

/-- The half `s` of the buffer of inputs. -/
abbrev xW (s : Fin 2) : Memref sig .tc .vmem S24x1536 .bf16 :=
  (A6.slice (Rect.unit (s := S2x24x1536) ![s.val, 0, 0] S1x24x1536.size (inb_x s)) (fun _ => rfl)).squeeze S24x1536 squeezes_S1x24x1536_S24x1536
/-- The half `s` of the buffer of weight scales. -/
abbrev sW (s : Fin 2) : Memref sig .tc .vmem S56x12 .f32 :=
  (A7.slice (Rect.unit (s := S2x56x12) ![s.val, 0, 0] S1x56x12.size (inb_s s)) (fun _ => rfl)).squeeze S56x12 squeezes_S1x56x12_S56x12
/-- Piece `q` of the half `s` of the buffer of weights. -/
abbrev wW (s : Fin 2) (q : Fin 7) : Memref sig .tc .vmem S1024x1536 .fp8e4m3 :=
  (A8.slice (Rect.unit (s := S2x7168x1536) ![s.val, 1024 * q.val, 0] S1x1024x1536.size (inb_w s q)) (fun _ => rfl)).squeeze S1024x1536 squeezes_S1x1024x1536_S1024x1536
/-- The half `s` of the buffer of results. -/
abbrev oW (s : Fin 2) : Memref sig .tc .vmem S24x7168 .bf16 :=
  (A11.slice (Rect.unit (s := S2x24x7168) ![s.val, 0, 0] S1x24x7168.size (inb_o s)) (fun _ => rfl)).squeeze S24x7168 squeezes_S1x24x7168_S24x7168
/-- The input rows of expert `e`. -/
abbrev xE (e : Fin 16) : Memref sig .tc .hbm S24x1536 .bf16 :=
  (A1.slice (Rect.unit (s := S16x24x1536) ![e.val, 0, 0] S1x24x1536.size (inb_xE e)) (fun _ => rfl)).squeeze S24x1536 squeezes_S1x24x1536_S24x1536
/-- The weight scales of expert `e`. -/
abbrev sE (e : Fin 16) : Memref sig .tc .hbm S56x12 .f32 :=
  (A3.slice (Rect.unit (s := S16x56x12) ![e.val, 0, 0] S1x56x12.size (inb_sE e)) (fun _ => rfl)).squeeze S56x12 squeezes_S1x56x12_S56x12
/-- Piece `q` of the weights of expert `e`. -/
abbrev wE (e : Fin 16) (q : Fin 7) : Memref sig .tc .hbm S1024x1536 .fp8e4m3 :=
  (A2.slice (Rect.unit (s := S16x7168x1536) ![e.val, 1024 * q.val, 0] S1x1024x1536.size (inb_wE e q)) (fun _ => rfl)).squeeze S1024x1536 squeezes_S1x1024x1536_S1024x1536
/-- The result rows of expert `e`. -/
abbrev oE (e : Fin 16) : Memref sig .tc .hbm S24x7168 .bf16 :=
  (A4.slice (Rect.unit (s := S16x24x7168) ![e.val, 0, 0] S1x24x7168.size (inb_oE e)) (fun _ => rfl)).squeeze S24x7168 squeezes_S1x24x7168_S24x7168

abbrev xsem (s : Fin 2) : DmaSem sig := (((cc0_scratch8 : DmaSems sig S2).slice (Rect.unit (s := S2) ![s.val] S1.size (inb_sem s))).squeeze S_ squeezes_S1_S_).sem
abbrev ssem (s : Fin 2) : DmaSem sig := (((cc0_scratch9 : DmaSems sig S2).slice (Rect.unit (s := S2) ![s.val] S1.size (inb_sem s))).squeeze S_ squeezes_S1_S_).sem
abbrev wsem (s : Fin 2) (q : Fin 7) : DmaSem sig := (((cc0_scratch10 : DmaSems sig S2x7).slice (Rect.unit (s := S2x7) ![s.val, q.val] S1x1.size (inb_semw s q))).squeeze S_ squeezes_S1x1_S_).sem
abbrev osem (s : Fin 2) : DmaSem sig := (((cc0_scratch11 : DmaSems sig S2).slice (Rect.unit (s := S2) ![s.val] S1.size (inb_sem s))).squeeze S_ squeezes_S1_S_).sem

/-- The word at position `i` of a buffer of sixteen words. -/
def tw (f : S16.Idx → Elt F .i32) (i : Fin 16) : BitVec 32 := f (fun a => Fin.cast (by fin_cases a; rfl) i)

variable (c : Dev nD)

/-- Whole buffers held by the core. -/
abbrev P9 (f : S24x1536.Idx → Elt F .f32) : sProp 𝕄 := A9.view.loc (c : Thread nD τ) ↦{fullShare} f
abbrev P10 (f : S56x1536.Idx → Elt F .f32) : sProp 𝕄 := A10.view.loc (c : Thread nD τ) ↦{fullShare} f
abbrev P0 (q : PosShare TreeShare) (f : S16.Idx → Elt F .i32) : sProp 𝕄 := A0.view.loc (c : Thread nD τ) ↦{q} f
abbrev P5 (f : S16.Idx → Elt F .i32) : sProp 𝕄 := A5.view.loc (c : Thread nD τ) ↦{fullShare} f
/-- A window's elements, at a share. -/
abbrev PW {sp : Space} {s : Shape} {e : EltTy} (m : Memref sig .tc sp s e) (q : PosShare TreeShare) (f : Buf (Elt F) (m.view.loc (c : Thread nD τ))) : sProp 𝕄 :=
  m.view.loc (c : Thread nD τ) ↦[m.view.set]{q} f

abbrev Sem0 (d : DmaSem sig) : sProp 𝕄 := semVal ((c : Thread nD τ), .dma d) 0
def OW : sProp 𝕄 := iprop(∃ O, owes (c : Thread nD τ) 0 O)

/-- What a copy delivers: the destination reading what the source reads, and the source back. -/
def Dl {sp sp' : Space} {s : Shape} {e : EltTy} (src : Memref sig .tc sp s e) (dst : Memref sig .tc sp' s e) (q : PosShare TreeShare)
    (fs : Buf (Elt F) (src.view.loc (c : Thread nD τ))) : sProp 𝕄 :=
  iprop((∃ f, PW c dst fullShare f ∗ ⌜dst.view.read (Elt F) f = src.view.read (Elt F) fs⌝) ∗ PW c src q fs)

/-- A copy in flight. -/
def Fl (d : DmaSem sig) {sp sp' : Space} {s : Shape} {e : EltTy} (src : Memref sig .tc sp s e) (dst : Memref sig .tc sp' s e) (q : PosShare TreeShare)
    (fs : Buf (Elt F) (src.view.loc (c : Thread nD τ))) : sProp 𝕄 :=
  Transfers.Flight EC (c : Thread nD τ) (.dma d) () dst.view.dmaCredit (Dl c src dst q fs)

section ops
variable {α : Type} {Q : α → sProp (MT nD τ sig Unit (Elt F) ℕ UU ℕ)}

theorem W_bind {β : Type} {Q : β → sProp 𝕄} {p : Prog (TpuEff nD τ sig (Elt F) Λ₀ .tc) α} {k : α → Prog (TpuEff nD τ sig (Elt F) Λ₀ .tc) β} :
    W c p (fun a => W c (k a) Q) ⊢ W c (p >>= k) Q := by
  rw [W, W, wp_bind]

theorem W_pure {a : α} : Q a ⊢ W c (pure a) Q := by
  show _ ⊢ wp _ _ _ (Prog.ret a) Q
  rw [wp_ret]; iintro H; imodintro; iexact H

theorem W_assume {P : Prop} {d : Decidable P} {k : PLift P → Prog (TpuEff nD τ sig (Elt F) Λ₀ .tc) α} (h : P) :
    W c (k ⟨h⟩) Q ⊢ W c (Prog.lift (.assume P d) >>= k) Q := wp_assume 𝒱₀ (c : Thread nD τ) none Set.univ h

theorem ld9 {r : LoadRect S24x1536} {h : A9.view.LoadsAt r} {k : (r.shape.Idx → Elt F .f32) → Prog (TpuEff nD τ sig (Elt F) Λ₀ .tc) α} {f : S24x1536.Idx → Elt F .f32} :
    P9 (F := F) c f ⊢ iprop((P9 c f -∗ W c (k (A9.view.readAt (Elt F) r f)) Q) -∗ W c (Prog.lift (.load A9 r h) >>= k) Q) :=
  wp_load 𝒱₀ (c : Thread nD τ) none Set.univ (m := A9) (S := Finset.univ) (Finset.subset_univ _)

theorem ld10 {r : LoadRect S56x1536} {h : A10.view.LoadsAt r} {k : (r.shape.Idx → Elt F .f32) → Prog (TpuEff nD τ sig (Elt F) Λ₀ .tc) α} {f : S56x1536.Idx → Elt F .f32} :
    P10 (F := F) c f ⊢ iprop((P10 c f -∗ W c (k (A10.view.readAt (Elt F) r f)) Q) -∗ W c (Prog.lift (.load A10 r h) >>= k) Q) :=
  wp_load 𝒱₀ (c : Thread nD τ) none Set.univ (m := A10) (S := Finset.univ) (Finset.subset_univ _)

end ops

/-- The buffer of dequantised inputs with one block replaced. -/
abbrev put9 (f : S24x1536.Idx → Elt F .f32) (r : Rect S24x1536) (w : r.shape.Idx → Elt F .f32) : S24x1536.Idx → Elt F .f32 :=
  (A9.access r).write (Elt F) f w Finset.univ
/-- The buffer of rounded scales with one block replaced. -/
abbrev put10 (f : S56x1536.Idx → Elt F .f32) (r : Rect S56x1536) (w : r.shape.Idx → Elt F .f32) : S56x1536.Idx → Elt F .f32 :=
  (A10.access r).write (Elt F) f w Finset.univ

section ops
variable {α : Type} {Q : α → sProp (MT nD τ sig Unit (Elt F) ℕ UU ℕ)}

theorem st9 {r : Rect S24x1536} {w : r.shape.Idx → Elt F .f32} {hx : (A9.access r).Stores Finset.univ} {hm : (Finset.univ : Finset r.shape.Idx) = Finset.univ ∨ ∀ a, r.stride a = 1}
   {k : PUnit → Prog (TpuEff nD τ sig (Elt F) Λ₀ .tc) α} {f : S24x1536.Idx → Elt F .f32} :
    P9 (F := F) c f ⊢ iprop((P9 c (put9 f r w) -∗ W c (k ⟨⟩) Q) -∗ W c (Prog.lift (.store A9 r w Finset.univ hx hm) >>= k) Q) :=
  wp_store 𝒱₀ (c : Thread nD τ) none Set.univ (m := A9) (r := r) (w := w) (Mk := Finset.univ) (hx := hx) (hm := hm) (k := k) (f := f)
    (S := (Finset.univ : Finset (Idx (A9.view.loc (c : Thread nD τ))))) (Finset.subset_univ _)

theorem st10 {r : Rect S56x1536} {w : r.shape.Idx → Elt F .f32} {hx : (A10.access r).Stores Finset.univ} {hm : (Finset.univ : Finset r.shape.Idx) = Finset.univ ∨ ∀ a, r.stride a = 1}
   {k : PUnit → Prog (TpuEff nD τ sig (Elt F) Λ₀ .tc) α} {f : S56x1536.Idx → Elt F .f32} :
    P10 (F := F) c f ⊢ iprop((P10 c (put10 f r w) -∗ W c (k ⟨⟩) Q) -∗ W c (Prog.lift (.store A10 r w Finset.univ hx hm) >>= k) Q) :=
  wp_store 𝒱₀ (c : Thread nD τ) none Set.univ (m := A10) (r := r) (w := w) (Mk := Finset.univ) (hx := hx) (hm := hm) (k := k) (f := f)
    (S := (Finset.univ : Finset (Idx (A10.view.loc (c : Thread nD τ))))) (Finset.subset_univ _)

theorem lw5 (i : Fin 16) {off : Fin 1 → ℕ} {inb} {h1 hp} {k : Elt F .i32 → Prog (TpuEff nD τ sig (Elt F) Λ₀ .tc) α} {f : S16.Idx → Elt F .i32} (ho : off = ![i.val]) :
    P5 (F := F) c f ⊢ iprop((P5 c f -∗ W c (k (tw f i)) Q) -∗ W c (smemLoad A5 (Rect.unit (s := S16) off S1.size inb) h1 hp >>= k) Q) := by
  subst ho
  have : (A5.access (Rect.unit (s := S16) ![i.val] S1.size inb)).read (Elt F) f (Shape.Idx.first (h1.symm ▸ Nat.one_pos)) = tw f i := by
    unfold tw
    show f _ = f _
    congr 1
    funext a
    exact Fin.ext (by fin_cases a; rfl)
  rw [← this]
  exact wp_smemLoadElt 𝒱₀ (c : Thread nD τ) none (Q := Q) (defs := defs₀) Set.univ (m := A5) (r := Rect.unit (s := S16) ![i.val] S1.size inb) (hw := View.loads_smem_one hp h1) (x := Shape.Idx.first (h1.symm ▸ Nat.one_pos)) (k := k) (f := f)
    (S := (Finset.univ : Finset (Idx (A5.view.loc (c : Thread nD τ))))) (Finset.subset_univ _)

theorem lw0 (i : Fin 16) {off : Fin 1 → ℕ} {inb} {h1 hp} {q} {k : Elt F .i32 → Prog (TpuEff nD τ sig (Elt F) Λ₀ .tc) α} {f : S16.Idx → Elt F .i32} (ho : off = ![i.val]) :
    P0 (F := F) c q f ⊢ iprop((P0 c q f -∗ W c (k (tw f i)) Q) -∗ W c (smemLoad A0 (Rect.unit (s := S16) off S1.size inb) h1 hp >>= k) Q) := by
  subst ho
  have : (A0.access (Rect.unit (s := S16) ![i.val] S1.size inb)).read (Elt F) f (Shape.Idx.first (h1.symm ▸ Nat.one_pos)) = tw f i := by
    unfold tw
    show f _ = f _
    congr 1
    funext a
    exact Fin.ext (by fin_cases a; rfl)
  rw [← this]
  exact wp_smemLoadElt 𝒱₀ (c : Thread nD τ) none (Q := Q) (defs := defs₀) Set.univ (m := A0) (r := Rect.unit (s := S16) ![i.val] S1.size inb) (hw := View.loads_smem_one hp h1) (x := Shape.Idx.first (h1.symm ▸ Nat.one_pos)) (k := k) (f := f)
    (S := (Finset.univ : Finset (Idx (A0.view.loc (c : Thread nD τ))))) (Finset.subset_univ _)

/-- Window `m` lies in what is held. -/
theorem ldW {s : Shape} {e : EltTy} {m : Memref sig .tc .vmem s e} {r : LoadRect s} {h : m.view.LoadsAt r} {k : (r.shape.Idx → Elt F e) → Prog (TpuEff nD τ sig (Elt F) Λ₀ .tc) α}
    {S : Finset (Idx (m.view.loc (c : Thread nD τ)))} {q : PosShare TreeShare} {f : Buf (Elt F) (m.view.loc (c : Thread nD τ))} (hS : m.view.setOn r.set ⊆ S) :
    (m.view.loc (c : Thread nD τ) ↦[S]{q} f : sProp (MT nD τ sig Unit (Elt F) ℕ UU ℕ)) ⊢ iprop(((m.view.loc (c : Thread nD τ) ↦[S]{q} f) -∗ W c (k (m.view.readAt (Elt F) r f)) Q) -∗ W c (Prog.lift (.load m r h) >>= k) Q) :=
  wp_load 𝒱₀ (c : Thread nD τ) none Set.univ (m := m) (S := S) (f := f) hS

theorem stW {s : Shape} {e : EltTy} {m : Memref sig .tc .vmem s e} {r : Rect s} {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ .tc) α}
    {S : Finset (Idx ((m.access r).loc (c : Thread nD τ)))} {f : Buf (Elt F) ((m.access r).loc (c : Thread nD τ))} (hS : (m.access r).setOn Finset.univ ⊆ S) :
    ((m.access r).loc (c : Thread nD τ) ↦[S]{fullShare} f : sProp (MT nD τ sig Unit (Elt F) ℕ UU ℕ)) ⊢ iprop((((m.access r).loc (c : Thread nD τ) ↦[S]{fullShare} ((m.access r).write (Elt F) f w Finset.univ)) -∗ W c (k ⟨⟩) Q) -∗ W c (Prog.lift (.store m r w Finset.univ hx hm) >>= k) Q) :=
  wp_store 𝒱₀ (c : Thread nD τ) none Set.univ (m := m) (r := r) (w := w) (Mk := Finset.univ) (hx := hx) (hm := hm) (k := k) (f := f) (S := S) hS

theorem sub_win {sp : Space} {s t : Shape} {e : EltTy} (m : Memref sig .tc sp s e) {r r2 : Rect s} {hs} {hq : r2.shape.Squeezes t} (h : r.set ⊆ r2.set) :
    m.view.setOn r.set ⊆ ((m.slice r2 hs).squeeze t hq).view.set := by
  rw [Memref.set_view_squeeze, show (m.slice r2 hs).view.set = r2.set.map m.view.emb from View.set_slice _ _]
  exact Finset.map_subset_map.mpr h

theorem ld8 (s : Fin 2) (q : Fin 7) (n0 : ℕ) {off : Fin 3 → ℕ} {inb} {h} {k : _ → Prog (TpuEff nD τ sig (Elt F) Λ₀ .tc) α} {f : S2x7168x1536.Idx → Elt F .fp8e4m3}
    (ho : off = ![s.val, n0, 0]) (h1 : 1024 * q.val ≤ n0) (h2 : n0 + 256 ≤ 1024 * q.val + 1024) :
    PW (F := F) c (wW s q) fullShare f ⊢ iprop((PW c (wW s q) fullShare f -∗ W c (k (A8.view.readAt (Elt F) (Rect.unit (s := S2x7168x1536) off S1x256x1536.size inb).toLoadRect f)) Q) -∗ W c (Prog.lift (.load A8 (Rect.unit (s := S2x7168x1536) off S1x256x1536.size inb).toLoadRect h) >>= k) Q) := by
  subst ho
  refine ldW (m := A8) (r := (Rect.unit (s := S2x7168x1536) ![s.val, n0, 0] S1x256x1536.size inb).toLoadRect) (f := f) c (S := (wW s q).view.set) (q := fullShare) (k := k) ?_
  refine sub_win _ (Rect.set_subset_of_span _ _ (fun _ => rfl) fun a => ?_)
  fin_cases a <;> simp [S1x256x1536, S1x1024x1536] <;> omega

theorem ld11 (s : Fin 2) (n0 : ℕ) {off : Fin 3 → ℕ} {inb} {h} {k : _ → Prog (TpuEff nD τ sig (Elt F) Λ₀ .tc) α} {f : S2x24x7168.Idx → Elt F .bf16}
    (ho : off = ![s.val, 0, n0]) (h2 : n0 + 128 ≤ 7168) :
    PW (F := F) c (oW s) fullShare f ⊢ iprop((PW c (oW s) fullShare f -∗ W c (k (A11.view.readAt (Elt F) (Rect.unit (s := S2x24x7168) off S1x24x128.size inb).toLoadRect f)) Q) -∗ W c (Prog.lift (.load A11 (Rect.unit (s := S2x24x7168) off S1x24x128.size inb).toLoadRect h) >>= k) Q) := by
  subst ho
  refine ldW (m := A11) (r := (Rect.unit (s := S2x24x7168) ![s.val, 0, n0] S1x24x128.size inb).toLoadRect) (f := f) c (S := (oW s).view.set) (q := fullShare) (k := k) ?_
  refine sub_win _ (Rect.set_subset_of_span _ _ (fun _ => rfl) fun a => ?_)
  fin_cases a <;> simp [S1x24x128, S1x24x7168] <;> omega

theorem ld6 (s : Fin 2) (n0 : ℕ) {off : Fin 3 → ℕ} {inb} {h} {k : _ → Prog (TpuEff nD τ sig (Elt F) Λ₀ .tc) α} {f : S2x24x1536.Idx → Elt F .bf16}
    (ho : off = ![s.val, 0, n0]) (h2 : n0 + 128 ≤ 1536) :
    PW (F := F) c (xW s) fullShare f ⊢ iprop((PW c (xW s) fullShare f -∗ W c (k (A6.view.readAt (Elt F) (Rect.unit (s := S2x24x1536) off S1x24x128.size inb).toLoadRect f)) Q) -∗ W c (Prog.lift (.load A6 (Rect.unit (s := S2x24x1536) off S1x24x128.size inb).toLoadRect h) >>= k) Q) := by
  subst ho
  refine ldW (m := A6) (r := (Rect.unit (s := S2x24x1536) ![s.val, 0, n0] S1x24x128.size inb).toLoadRect) (f := f) c (S := (xW s).view.set) (q := fullShare) (k := k) ?_
  refine sub_win _ (Rect.set_subset_of_span _ _ (fun _ => rfl) fun a => ?_)
  fin_cases a <;> simp [S1x24x128, S1x24x1536] <;> omega

theorem ld7 (s : Fin 2) {off : Fin 3 → ℕ} {inb} {h} {k : _ → Prog (TpuEff nD τ sig (Elt F) Λ₀ .tc) α} {f : S2x56x12.Idx → Elt F .f32}
    (ho : off = ![s.val, 0, 0]) :
    PW (F := F) c (sW s) fullShare f ⊢ iprop((PW c (sW s) fullShare f -∗ W c (k (A7.view.readAt (Elt F) (Rect.unit (s := S2x56x12) off S1x56x12.size inb).toLoadRect f)) Q) -∗ W c (Prog.lift (.load A7 (Rect.unit (s := S2x56x12) off S1x56x12.size inb).toLoadRect h) >>= k) Q) := by
  subst ho
  refine ldW (m := A7) (r := (Rect.unit (s := S2x56x12) ![s.val, 0, 0] S1x56x12.size inb).toLoadRect) (f := f) c (S := (sW s).view.set) (q := fullShare) (k := k) ?_
  exact sub_win _ (Rect.set_subset_of_span _ _ (fun _ => rfl) fun a => by fin_cases a <;> simp)

/-- The buffer of results with one block of columns replaced. -/
abbrev put11 (f : S2x24x7168.Idx → Elt F .bf16) (r : Rect S2x24x7168) (w : r.shape.Idx → Elt F .bf16) : S2x24x7168.Idx → Elt F .bf16 :=
  (A11.access r).write (Elt F) f w Finset.univ

theorem st11 (s : Fin 2) (n0 : ℕ) {off : Fin 3 → ℕ} {inb} {w} {hx hm} {k : _ → Prog (TpuEff nD τ sig (Elt F) Λ₀ .tc) α} {f : S2x24x7168.Idx → Elt F .bf16}
    (ho : off = ![s.val, 0, n0]) (h2 : n0 + 128 ≤ 7168) :
    PW (F := F) c (oW s) fullShare f ⊢ iprop((PW c (oW s) fullShare (put11 f (Rect.unit (s := S2x24x7168) off S1x24x128.size inb) w) -∗ W c (k ⟨⟩) Q) -∗ W c (Prog.lift (.store A11 (Rect.unit (s := S2x24x7168) off S1x24x128.size inb) w Finset.univ hx hm) >>= k) Q) := by
  subst ho
  refine stW (m := A11) (r := Rect.unit (s := S2x24x7168) ![s.val, 0, n0] S1x24x128.size inb) (f := f) (w := w) (hx := hx) (hm := hm) c (S := ((oW s).view.set : Finset (Idx (A11.view.loc (c : Thread nD τ))))) (k := k) ?_
  rw [View.setOn_univ, show (A11.access (Rect.unit (s := S2x24x7168) ![s.val, 0, n0] S1x24x128.size inb)).set = A11.view.setOn (Rect.unit (s := S2x24x7168) ![s.val, 0, n0] S1x24x128.size inb).set from View.set_slice _ _]
  refine sub_win _ (Rect.set_subset_of_span _ _ (fun _ => rfl) fun a => ?_)
  fin_cases a <;> simp [S1x24x128, S1x24x7168] <;> omega

theorem W_wait {sp sp' : Space} {s : Shape} {e : EltTy} {sem : DmaSem sig} {srcw : Memref sig .tc sp s e} {dstw : Memref sig .tc sp' s e} {hsrc hdst}
    {k : PUnit → Prog (TpuEff nD τ sig (Elt F) Λ₀ .tc) α} {N : ℕ} (hN : dstw.view.dmaCredit = N) {D : sProp (MT nD τ sig Unit (Elt F) ℕ UU ℕ)} :
    Transfers.Flight EC (c : Thread nD τ) (.dma sem) () N D ∗ OW c ⊢ iprop((D ∗ Sem0 c sem ∗ OW c -∗ W c (k ⟨⟩) Q) -∗ W c (Prog.lift (.waitDma2 sem srcw dstw hsrc hdst) >>= k) Q) := by
  unfold OW
  iintro ⟨Hf, %O, HO⟩ K
  iapply (Transfers.wp_waitLocal EC 𝒱₀ (c : Thread nD τ) none () hN (D := D) (Q := Q) (k := k) (defs := defs₀)) $$ [Hf HO]
  · isplitl [Hf] <;> iassumption
  iintro ⟨HD, HS, HO⟩
  iapply K
  isplitl [HD]; · iexact HD
  isplitl [HS]; · iexact HS
  iexists _; iexact HO

theorem W_start {sp sp' : Space} {s : Shape} {e : EltTy} {d : DmaSem sig} {src : Memref sig .tc sp s e} {dst : Memref sig .tc sp' s e} {hsrc hdst hsem}
    {k : PUnit → Prog (TpuEff nD τ sig (Elt F) Λ₀ .tc) α} {q : PosShare TreeShare} {fs : Buf (Elt F) (src.view.loc (c : Thread nD τ))} {fd : Buf (Elt F) (dst.view.loc (c : Thread nD τ))}
    (hN0 : 0 < dst.view.dmaCredit) :
    PW c src q fs ∗ PW c dst fullShare fd ∗ Sem0 c d ⊢ iprop((Fl c d src dst q fs -∗ W c (k ⟨⟩) Q) -∗ W c (Prog.lift (.enqueueDma src (.here dst) (.dma d) hsrc hdst hsem) >>= k) Q) := by
  iintro H K
  iapply (Transfers.wp_dmaLocal EC 𝒱₀ (c : Thread nD τ) none (src := src) (via := .same) (dst := dst) (sm := .dma d) (fs := fs) (fd := fd) (q := q) (k := k) (Q := Q) (defs := defs₀) () dst.view.dmaCredit rfl hN0 (Finset.Subset.refl dst.view.set)) $$ H
  iintro H
  iapply K
  unfold Fl
  iapply (Transfers.Flight_mono EC (c : Thread nD τ) (sm := .dma d) (ι := ()) ?_) $$ H
  unfold Dl
  iintro ⟨H1, H2⟩
  isplitl [H1]
  · iexists _
    isplitl [H1]; · iexact H1
    ipureintro
    exact View.read_write_univ _ _
  iexact H2

end ops

/-- A share of a whole buffer gives a window's share, and takes it back. -/
theorem acc_win {sp : Space} {s t : Shape} {e : EltTy} (m : Memref sig .tc sp s e) (r2 : Rect s) (hs : ∀ a, r2.stride a = 1) (hq : r2.shape.Squeezes t) (q : PosShare TreeShare) (f : Buf (Elt F) (m.view.loc (c : Thread nD τ))) :
    (m.view.loc (c : Thread nD τ) ↦{q} f : sProp (MT nD τ sig Unit (Elt F) ℕ UU ℕ)) ⊢ iprop(PW c ((m.slice r2 hs).squeeze t hq) q f ∗ (PW c ((m.slice r2 hs).squeeze t hq) q f -∗ m.view.loc (c : Thread nD τ) ↦{q} f)) := by
  have h := pointsTo_split_subset (nD := nD) (τ := τ) (sig := sig) (Ix := Unit) (Val := Elt F) (Name := ℕ) (U := UU) (Lvl := ℕ) (ℓ := m.view.loc (c : Thread nD τ)) (I := ((m.slice r2 hs).squeeze t hq).view.set) (S := Finset.univ) (q := q) (f := f) (Finset.subset_univ _)
  iintro H
  ihave H := h.1 $$ H
  icases H with ⟨H1, H2⟩
  isplitl [H1]; · iexact H1
  iintro H1
  iapply h.2
  isplitl [H1] <;> iassumption

abbrev qx (s : Fin 2) : PosShare TreeShare := Transfers.shareTokN fullShare s.val
abbrev qw (s : Fin 2) (q : Fin 7) : PosShare TreeShare := Transfers.shareTokN fullShare (7 * s.val + q.val)
theorem pos_x (s : Fin 2) : 0 < (xW s).view.dmaCredit := by revert s; decide
theorem pos_s (s : Fin 2) : 0 < (sW s).view.dmaCredit := by revert s; decide
theorem pos_w (s : Fin 2) (q : Fin 7) : 0 < (wW s q).view.dmaCredit := by revert s q; decide
theorem pos_o (e : Fin 16) : 0 < (oE e).view.dmaCredit := by revert e; decide

section slots
variable {α : Type} {Q : α → sProp (MT nD τ sig Unit (Elt F) ℕ UU ℕ)}

/-- The slot of inputs at rest. -/
def Xfree (fx : S16x24x1536.Idx → Elt F .bf16) (s : Fin 2) : sProp (MT nD τ sig Unit (Elt F) ℕ UU ℕ) :=
  iprop((∃ f : S2x24x1536.Idx → Elt F .bf16, PW c (xW s) fullShare f) ∗ Sem0 c (xsem s) ∗ (A1.view.loc (c : Thread nD τ) ↦{qx s} fx))
/-- The slot of inputs with the copy for expert `e` in flight. -/
def Xin (fx : S16x24x1536.Idx → Elt F .bf16) (s : Fin 2) (e : Fin 16) : sProp (MT nD τ sig Unit (Elt F) ℕ UU ℕ) :=
  iprop(Fl c (xsem s) (xE e) (xW s) (qx s) fx ∗ (PW c (xE e) (qx s) fx -∗ (A1.view.loc (c : Thread nD τ) ↦{qx s} fx)))

theorem startX {fx : S16x24x1536.Idx → Elt F .bf16} (s : Fin 2) (e : Fin 16) {oS : Fin 1 → ℕ} {oD oE : Fin 3 → ℕ} {iS iD iE hsrc hdst hsem}
    {k : PUnit → Prog (TpuEff nD τ sig (Elt F) Λ₀ .tc) α} (hS : oS = ![s.val]) (hD : oD = ![s.val, 0, 0]) (hE : oE = ![e.val, 0, 0]) :
    Xfree c fx s ⊢ iprop((Xin c fx s e -∗ W c (k ⟨⟩) Q) -∗ W c (Prog.lift (.enqueueDma ((A1.slice (Rect.unit (s := S16x24x1536) oE S1x24x1536.size iE) (fun _ => rfl)).squeeze S24x1536 squeezes_S1x24x1536_S24x1536)
      (.here ((A6.slice (Rect.unit (s := S2x24x1536) oD S1x24x1536.size iD) (fun _ => rfl)).squeeze S24x1536 squeezes_S1x24x1536_S24x1536))
      (.dma (((cc0_scratch8 : DmaSems sig S2).slice (Rect.unit (s := S2) oS S1.size iS)).squeeze S_ squeezes_S1_S_).sem) hsrc hdst hsem) >>= k) Q) := by
  subst hS hD hE
  unfold Xfree Xin
  iintro ⟨⟨%f, H⟩, HS, HT⟩ K
  ihave HT := (acc_win c A1 (Rect.unit (s := S16x24x1536) ![e.val, 0, 0] S1x24x1536.size iE) (fun _ => rfl) squeezes_S1x24x1536_S24x1536 (qx s) fx) $$ HT
  icases HT with ⟨HT, HR⟩
  iapply (W_start c (src := xE e) (dst := xW s) (d := xsem s) (fs := fx) (fd := f) (q := qx s) (k := k) (Q := Q) (pos_x s)) $$ [H HS HT]
  · isplitl [HT]; · iexact HT
    isplitl [H] <;> iassumption
  iintro HF
  iapply K
  isplitl [HF] <;> iassumption

theorem waitX {fx : S16x24x1536.Idx → Elt F .bf16} (s : Fin 2) (e : Fin 16) {oS : Fin 1 → ℕ} {oD oE : Fin 3 → ℕ} {iS iD iE hsrc hdst}
    {k : PUnit → Prog (TpuEff nD τ sig (Elt F) Λ₀ .tc) α} (hS : oS = ![s.val]) (hD : oD = ![s.val, 0, 0]) :
    Xin c fx s e ∗ OW c ⊢ iprop((∀ f : S2x24x1536.Idx → Elt F .bf16, ⌜(xW s).view.read (Elt F) f = (xE e).view.read (Elt F) fx⌝ -∗ PW c (xW s) fullShare f -∗ Sem0 c (xsem s) -∗ (A1.view.loc (c : Thread nD τ) ↦{qx s} fx) -∗ OW c -∗ W c (k ⟨⟩) Q)
      -∗ W c (Prog.lift (.waitDma2 (((cc0_scratch8 : DmaSems sig S2).slice (Rect.unit (s := S2) oS S1.size iS)).squeeze S_ squeezes_S1_S_).sem
      ((A1.slice (Rect.unit (s := S16x24x1536) oE S1x24x1536.size iE) (fun _ => rfl)).squeeze S24x1536 squeezes_S1x24x1536_S24x1536)
      ((A6.slice (Rect.unit (s := S2x24x1536) oD S1x24x1536.size iD) (fun _ => rfl)).squeeze S24x1536 squeezes_S1x24x1536_S24x1536) hsrc hdst) >>= k) Q) := by
  subst hS hD
  unfold Xin Fl Dl
  iintro ⟨⟨HF, HR⟩, HO⟩ K
  iapply (W_wait c (N := (xW s).view.dmaCredit) rfl) $$ [HF HO]
  · isplitl [HF] <;> iassumption
  iintro ⟨⟨⟨%f, H, %hf⟩, HE⟩, HS, HO⟩
  ihave HT := HR $$ HE
  ispecialize K $$ %f %hf H HS HT HO
  iexact K

/-- The slot of weight scales at rest. -/
def Sfree (fx : S16x56x12.Idx → Elt F .f32) (s : Fin 2) : sProp (MT nD τ sig Unit (Elt F) ℕ UU ℕ) :=
  iprop((∃ f : S2x56x12.Idx → Elt F .f32, PW c (sW s) fullShare f) ∗ Sem0 c (ssem s) ∗ (A3.view.loc (c : Thread nD τ) ↦{qx s} fx))
/-- The slot of weight scales with the copy for expert `e` in flight. -/
def Sin (fx : S16x56x12.Idx → Elt F .f32) (s : Fin 2) (e : Fin 16) : sProp (MT nD τ sig Unit (Elt F) ℕ UU ℕ) :=
  iprop(Fl c (ssem s) (sE e) (sW s) (qx s) fx ∗ (PW c (sE e) (qx s) fx -∗ (A3.view.loc (c : Thread nD τ) ↦{qx s} fx)))

theorem startS {fx : S16x56x12.Idx → Elt F .f32} (s : Fin 2) (e : Fin 16) {oS : Fin 1 → ℕ} {oD oE : Fin 3 → ℕ} {iS iD iE hsrc hdst hsem}
    {k : PUnit → Prog (TpuEff nD τ sig (Elt F) Λ₀ .tc) α} (hS : oS = ![s.val]) (hD : oD = ![s.val, 0, 0]) (hE : oE = ![e.val, 0, 0]) :
    Sfree c fx s ⊢ iprop((Sin c fx s e -∗ W c (k ⟨⟩) Q) -∗ W c (Prog.lift (.enqueueDma ((A3.slice (Rect.unit (s := S16x56x12) oE S1x56x12.size iE) (fun _ => rfl)).squeeze S56x12 squeezes_S1x56x12_S56x12)
      (.here ((A7.slice (Rect.unit (s := S2x56x12) oD S1x56x12.size iD) (fun _ => rfl)).squeeze S56x12 squeezes_S1x56x12_S56x12))
      (.dma (((cc0_scratch9 : DmaSems sig S2).slice (Rect.unit (s := S2) oS S1.size iS)).squeeze S_ squeezes_S1_S_).sem) hsrc hdst hsem) >>= k) Q) := by
  subst hS hD hE
  unfold Sfree Sin
  iintro ⟨⟨%f, H⟩, HS, HT⟩ K
  ihave HT := (acc_win c A3 (Rect.unit (s := S16x56x12) ![e.val, 0, 0] S1x56x12.size iE) (fun _ => rfl) squeezes_S1x56x12_S56x12 (qx s) fx) $$ HT
  icases HT with ⟨HT, HR⟩
  iapply (W_start c (src := sE e) (dst := sW s) (d := ssem s) (fs := fx) (fd := f) (q := qx s) (k := k) (Q := Q) (pos_s s)) $$ [H HS HT]
  · isplitl [HT]; · iexact HT
    isplitl [H] <;> iassumption
  iintro HF
  iapply K
  isplitl [HF] <;> iassumption

theorem waitS {fx : S16x56x12.Idx → Elt F .f32} (s : Fin 2) (e : Fin 16) {oS : Fin 1 → ℕ} {oD oE : Fin 3 → ℕ} {iS iD iE hsrc hdst}
    {k : PUnit → Prog (TpuEff nD τ sig (Elt F) Λ₀ .tc) α} (hS : oS = ![s.val]) (hD : oD = ![s.val, 0, 0]) :
    Sin c fx s e ∗ OW c ⊢ iprop((∀ f : S2x56x12.Idx → Elt F .f32, ⌜(sW s).view.read (Elt F) f = (sE e).view.read (Elt F) fx⌝ -∗ PW c (sW s) fullShare f -∗ Sem0 c (ssem s) -∗ (A3.view.loc (c : Thread nD τ) ↦{qx s} fx) -∗ OW c -∗ W c (k ⟨⟩) Q)
      -∗ W c (Prog.lift (.waitDma2 (((cc0_scratch9 : DmaSems sig S2).slice (Rect.unit (s := S2) oS S1.size iS)).squeeze S_ squeezes_S1_S_).sem
      ((A3.slice (Rect.unit (s := S16x56x12) oE S1x56x12.size iE) (fun _ => rfl)).squeeze S56x12 squeezes_S1x56x12_S56x12)
      ((A7.slice (Rect.unit (s := S2x56x12) oD S1x56x12.size iD) (fun _ => rfl)).squeeze S56x12 squeezes_S1x56x12_S56x12) hsrc hdst) >>= k) Q) := by
  subst hS hD
  unfold Sin Fl Dl
  iintro ⟨⟨HF, HR⟩, HO⟩ K
  iapply (W_wait c (N := (sW s).view.dmaCredit) rfl) $$ [HF HO]
  · isplitl [HF] <;> iassumption
  iintro ⟨⟨⟨%f, H, %hf⟩, HE⟩, HS, HO⟩
  ihave HT := HR $$ HE
  ispecialize K $$ %f %hf H HS HT HO
  iexact K

/-- The slot of weights at rest. -/
def Gfree (fx : S16x7168x1536.Idx → Elt F .fp8e4m3) (s : Fin 2) (q : Fin 7) : sProp (MT nD τ sig Unit (Elt F) ℕ UU ℕ) :=
  iprop((∃ f : S2x7168x1536.Idx → Elt F .fp8e4m3, PW c (wW s q) fullShare f) ∗ Sem0 c (wsem s q) ∗ (A2.view.loc (c : Thread nD τ) ↦{qw s q} fx))
/-- The slot of weights with the copy for expert `e` in flight. -/
def Gin (fx : S16x7168x1536.Idx → Elt F .fp8e4m3) (s : Fin 2) (q : Fin 7) (e : Fin 16) : sProp (MT nD τ sig Unit (Elt F) ℕ UU ℕ) :=
  iprop(Fl c (wsem s q) (wE e q) (wW s q) (qw s q) fx ∗ (PW c (wE e q) (qw s q) fx -∗ (A2.view.loc (c : Thread nD τ) ↦{qw s q} fx)))

theorem startG {fx : S16x7168x1536.Idx → Elt F .fp8e4m3} (s : Fin 2) (q : Fin 7) (e : Fin 16) {oS : Fin 2 → ℕ} {oD oE : Fin 3 → ℕ} {iS iD iE hsrc hdst hsem}
    {k : PUnit → Prog (TpuEff nD τ sig (Elt F) Λ₀ .tc) α} (hS : oS = ![s.val, q.val]) (hD : oD = ![s.val, 1024 * q.val, 0]) (hE : oE = ![e.val, 1024 * q.val, 0]) :
    Gfree c fx s q ⊢ iprop((Gin c fx s q e -∗ W c (k ⟨⟩) Q) -∗ W c (Prog.lift (.enqueueDma ((A2.slice (Rect.unit (s := S16x7168x1536) oE S1x1024x1536.size iE) (fun _ => rfl)).squeeze S1024x1536 squeezes_S1x1024x1536_S1024x1536)
      (.here ((A8.slice (Rect.unit (s := S2x7168x1536) oD S1x1024x1536.size iD) (fun _ => rfl)).squeeze S1024x1536 squeezes_S1x1024x1536_S1024x1536))
      (.dma (((cc0_scratch10 : DmaSems sig S2x7).slice (Rect.unit (s := S2x7) oS S1x1.size iS)).squeeze S_ squeezes_S1x1_S_).sem) hsrc hdst hsem) >>= k) Q) := by
  subst hS hD hE
  unfold Gfree Gin
  iintro ⟨⟨%f, H⟩, HS, HT⟩ K
  ihave HT := (acc_win c A2 (Rect.unit (s := S16x7168x1536) ![e.val, 1024 * q.val, 0] S1x1024x1536.size iE) (fun _ => rfl) squeezes_S1x1024x1536_S1024x1536 (qw s q) fx) $$ HT
  icases HT with ⟨HT, HR⟩
  iapply (W_start c (src := wE e q) (dst := wW s q) (d := wsem s q) (fs := fx) (fd := f) (q := qw s q) (k := k) (Q := Q) (pos_w s q)) $$ [H HS HT]
  · isplitl [HT]; · iexact HT
    isplitl [H] <;> iassumption
  iintro HF
  iapply K
  isplitl [HF] <;> iassumption

theorem waitG {fx : S16x7168x1536.Idx → Elt F .fp8e4m3} (s : Fin 2) (q : Fin 7) (e : Fin 16) {oS : Fin 2 → ℕ} {oD oE : Fin 3 → ℕ} {iS iD iE hsrc hdst}
    {k : PUnit → Prog (TpuEff nD τ sig (Elt F) Λ₀ .tc) α} (hS : oS = ![s.val, q.val]) (hD : oD = ![s.val, 1024 * q.val, 0]) :
    Gin c fx s q e ∗ OW c ⊢ iprop((∀ f : S2x7168x1536.Idx → Elt F .fp8e4m3, ⌜(wW s q).view.read (Elt F) f = (wE e q).view.read (Elt F) fx⌝ -∗ PW c (wW s q) fullShare f -∗ Sem0 c (wsem s q) -∗ (A2.view.loc (c : Thread nD τ) ↦{qw s q} fx) -∗ OW c -∗ W c (k ⟨⟩) Q)
      -∗ W c (Prog.lift (.waitDma2 (((cc0_scratch10 : DmaSems sig S2x7).slice (Rect.unit (s := S2x7) oS S1x1.size iS)).squeeze S_ squeezes_S1x1_S_).sem
      ((A2.slice (Rect.unit (s := S16x7168x1536) oE S1x1024x1536.size iE) (fun _ => rfl)).squeeze S1024x1536 squeezes_S1x1024x1536_S1024x1536)
      ((A8.slice (Rect.unit (s := S2x7168x1536) oD S1x1024x1536.size iD) (fun _ => rfl)).squeeze S1024x1536 squeezes_S1x1024x1536_S1024x1536) hsrc hdst) >>= k) Q) := by
  subst hS hD
  unfold Gin Fl Dl
  iintro ⟨⟨HF, HR⟩, HO⟩ K
  iapply (W_wait c (N := (wW s q).view.dmaCredit) rfl) $$ [HF HO]
  · isplitl [HF] <;> iassumption
  iintro ⟨⟨⟨%f, H, %hf⟩, HE⟩, HS, HO⟩
  ihave HT := HR $$ HE
  ispecialize K $$ %f %hf H HS HT HO
  iexact K

/-- The slot of results at rest. -/
def Ofree (s : Fin 2) : sProp (MT nD τ sig Unit (Elt F) ℕ UU ℕ) :=
  iprop((∃ f : S2x24x7168.Idx → Elt F .bf16, PW c (oW s) fullShare f) ∗ Sem0 c (osem s))
/-- The result rows of expert `e`, whatever they hold. -/
def Row (e : Fin 16) : sProp (MT nD τ sig Unit (Elt F) ℕ UU ℕ) := iprop(∃ g : S16x24x7168.Idx → Elt F .bf16, PW c (oE e) fullShare g)
/-- The result rows of expert `e`, reading `v`. -/
def RowV (v : S24x7168.Idx → Elt F .bf16) (e : Fin 16) : sProp (MT nD τ sig Unit (Elt F) ℕ UU ℕ) := iprop(∃ g : S16x24x7168.Idx → Elt F .bf16, PW c (oE e) fullShare g ∗ ⌜(oE e).view.read (Elt F) g = v⌝)
/-- The slot of results with the copy out to expert `e` in flight. -/
def Oin (v : S24x7168.Idx → Elt F .bf16) (s : Fin 2) (e : Fin 16) : sProp (MT nD τ sig Unit (Elt F) ℕ UU ℕ) :=
  iprop(∃ f : S2x24x7168.Idx → Elt F .bf16, ⌜(oW s).view.read (Elt F) f = v⌝ ∗ Fl c (osem s) (oW s) (oE e) fullShare f)

theorem startO (s : Fin 2) (e : Fin 16) {v : S24x7168.Idx → Elt F .bf16} {f : S2x24x7168.Idx → Elt F .bf16} {oS : Fin 1 → ℕ} {oD oE' : Fin 3 → ℕ} {iS iD iE hsrc hdst hsem}
    {k : PUnit → Prog (TpuEff nD τ sig (Elt F) Λ₀ .tc) α} (hS : oS = ![s.val]) (hD : oD = ![s.val, 0, 0]) (hE : oE' = ![e.val, 0, 0]) (hv : (oW s).view.read (Elt F) f = v) :
    iprop(PW c (oW s) fullShare f ∗ Sem0 c (osem s) ∗ Row c e) ⊢ iprop((Oin c v s e -∗ W c (k ⟨⟩) Q) -∗ W c (Prog.lift (.enqueueDma
      ((A11.slice (Rect.unit (s := S2x24x7168) oD S1x24x7168.size iD) (fun _ => rfl)).squeeze S24x7168 squeezes_S1x24x7168_S24x7168)
      (.here ((A4.slice (Rect.unit (s := S16x24x7168) oE' S1x24x7168.size iE) (fun _ => rfl)).squeeze S24x7168 squeezes_S1x24x7168_S24x7168))
      (.dma (((cc0_scratch11 : DmaSems sig S2).slice (Rect.unit (s := S2) oS S1.size iS)).squeeze S_ squeezes_S1_S_).sem) hsrc hdst hsem) >>= k) Q) := by
  subst hS hD hE
  unfold Row Oin
  iintro ⟨H, HS, ⟨%g, HT⟩⟩ K
  iapply (W_start c (src := oW s) (dst := oE e) (d := osem s) (fs := f) (fd := g) (q := fullShare) (k := k) (Q := Q) (pos_o e)) $$ [H HS HT]
  · isplitl [H]; · iexact H
    isplitl [HT] <;> iassumption
  iintro HF
  iapply K
  iexists f
  isplitr
  · ipureintro; exact hv
  iexact HF

theorem waitO (s : Fin 2) (e : Fin 16) {v : S24x7168.Idx → Elt F .bf16} {oS : Fin 1 → ℕ} {oD oE' : Fin 3 → ℕ} {iS iD iE hsrc hdst}
    {k : PUnit → Prog (TpuEff nD τ sig (Elt F) Λ₀ .tc) α} (hS : oS = ![s.val]) :
    Oin c v s e ∗ OW c ⊢ iprop((Ofree c s -∗ RowV c v e -∗ OW c -∗ W c (k ⟨⟩) Q) -∗ W c (Prog.lift (.waitDma2 (((cc0_scratch11 : DmaSems sig S2).slice (Rect.unit (s := S2) oS S1.size iS)).squeeze S_ squeezes_S1_S_).sem
      ((A11.slice (Rect.unit (s := S2x24x7168) oD S1x24x7168.size iD) (fun _ => rfl)).squeeze S24x7168 squeezes_S1x24x7168_S24x7168)
      ((A4.slice (Rect.unit (s := S16x24x7168) oE' S1x24x7168.size iE) (fun _ => rfl)).squeeze S24x7168 squeezes_S1x24x7168_S24x7168) hsrc hdst) >>= k) Q) := by
  subst hS
  unfold Oin Fl Dl Ofree RowV
  iintro ⟨⟨%f, %hv, HF⟩, HO⟩ K
  iapply (W_wait c (dstw := (A4.slice (Rect.unit (s := S16x24x7168) oE' S1x24x7168.size iE) (fun _ => rfl)).squeeze S24x7168 squeezes_S1x24x7168_S24x7168) (N := (oE e).view.dmaCredit) rfl) $$ [HF HO]
  · isplitl [HF] <;> iassumption
  iintro ⟨⟨⟨%g, H, %hf⟩, HE⟩, HS, HO⟩
  ispecialize K $$ [HE HS]
  · isplitl [HE]
    · iexists f; iexact HE
    iexact HS
  ispecialize K $$ [H]
  · iexists g
    isplitl [H]; · iexact H
    ipureintro
    exact hf.trans hv
  ispecialize K $$ HO
  iexact K

end slots

end Cert.Proof.KernelIdeal
end
end
-- ==== Proof.KernelIdeal.Words.lean ====
module

public import proofs.«01_k».proof.Proof.KernelIdeal.Base
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Transfers
public import Idealize.ShloMosaic.Lib.Batch
public import Idealize.ShloMosaic.Adequacy
public import Idealize.ShloMosaic.Init

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

/-- The word counting the active experts, as the kernel adds it up. -/
def NW (v0 v6 v12 v18 v24 v30 v36 v42 v48 v54 v60 v66 v72 v78 v84 v90 : BitVec 32) : BitVec 32 :=
  Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (0#32) (Scalar.extui (Scalar.cmpi .sgt v0 0#32))) (Scalar.extui (Scalar.cmpi .sgt v6 0#32))) (Scalar.extui (Scalar.cmpi .sgt v12 0#32))) (Scalar.extui (Scalar.cmpi .sgt v18 0#32))) (Scalar.extui (Scalar.cmpi .sgt v24 0#32))) (Scalar.extui (Scalar.cmpi .sgt v30 0#32))) (Scalar.extui (Scalar.cmpi .sgt v36 0#32))) (Scalar.extui (Scalar.cmpi .sgt v42 0#32))) (Scalar.extui (Scalar.cmpi .sgt v48 0#32))) (Scalar.extui (Scalar.cmpi .sgt v54 0#32))) (Scalar.extui (Scalar.cmpi .sgt v60 0#32))) (Scalar.extui (Scalar.cmpi .sgt v66 0#32))) (Scalar.extui (Scalar.cmpi .sgt v72 0#32))) (Scalar.extui (Scalar.cmpi .sgt v78 0#32))) (Scalar.extui (Scalar.cmpi .sgt v84 0#32))) (Scalar.extui (Scalar.cmpi .sgt v90 0#32))

/-- Position of a trip in the tables of sixteen words. -/
def p16 (k : ℕ) : Fin 16 := ⟨k % 16, Nat.mod_lt _ (by decide)⟩
/-- The slot a trip works in. -/
def sl (k : ℕ) : Fin 2 := ⟨k % 2, Nat.mod_lt _ (by decide)⟩

theorem sl_succ2 (k : ℕ) : sl (k + 2) = sl k := Fin.ext (by simp [sl])

private theorem all16 {P : ℕ → Prop} (h : ∀ k : Fin 16, P k.val) (k : ℕ) (hk : k < 16) : P k := h ⟨k, hk⟩
theorem ik (k : ℕ) (hk : k < 16) : (Scalar.indexCast (Scf.iv 0#32 1#32 k)).toNat = (p16 k).val := all16 (P := fun k => (Scalar.indexCast (Scf.iv 0#32 1#32 k)).toNat = (p16 k).val) (by decide) k hk
theorem isl (k : ℕ) (hk : k < 16) : (Scalar.indexCast (Scalar.remsi (Scf.iv 0#32 1#32 k) 2#32)).toNat = (sl k).val := all16 (P := fun k => (Scalar.indexCast (Scalar.remsi (Scf.iv 0#32 1#32 k) 2#32)).toNat = (sl k).val) (by decide) k hk
theorem wsl (k : ℕ) (hk : k < 16) : (Scalar.remsi (Scf.iv 0#32 1#32 k) 2#32).toNat = (sl k).val := all16 (P := fun k => (Scalar.remsi (Scf.iv 0#32 1#32 k) 2#32).toNat = (sl k).val) (by decide) k hk
theorem ip2 (k : ℕ) (hk : k + 2 < 16) : (Scalar.indexCast (Scalar.addi (Scf.iv 0#32 1#32 k) 2#32)).toNat = (p16 (k + 2)).val := all16 (P := fun k => k + 2 < 16 → (Scalar.indexCast (Scalar.addi (Scf.iv 0#32 1#32 k) 2#32)).toNat = (p16 (k + 2)).val) (by decide) k (by omega) hk
theorem im2 (k : ℕ) (hk : k < 16) (h : 2 ≤ k) : (Scalar.indexCast (Scalar.subi (Scf.iv 0#32 1#32 k) 2#32)).toNat = (p16 (k - 2)).val := all16 (P := fun k => 2 ≤ k → (Scalar.indexCast (Scalar.subi (Scf.iv 0#32 1#32 k) 2#32)).toNat = (p16 (k - 2)).val) (by decide) k hk h
theorem ge2 (k : ℕ) (hk : k < 16) : (Scalar.cmpi .ne (Scalar.extui (Scalar.cmpi .sge (Scf.iv 0#32 1#32 k) 2#32) : BitVec 32) 0#32 = 1#1) ↔ 2 ≤ k := all16 (P := fun k => (Scalar.cmpi .ne (Scalar.extui (Scalar.cmpi .sge (Scf.iv 0#32 1#32 k) 2#32) : BitVec 32) 0#32 = 1#1) ↔ 2 ≤ k) (by decide) k hk
theorem lt2 (k n : ℕ) (hk : k < 16) (hn : n ≤ 16) : (Scalar.cmpi .ne (Scalar.extui (Scalar.cmpi .slt (Scalar.addi (Scf.iv 0#32 1#32 k) 2#32) (BitVec.ofNat 32 n)) : BitVec 32) 0#32 = 1#1) ↔ k + 2 < n :=
  all16 (P := fun k => ∀ n : Fin 17, (Scalar.cmpi .ne (Scalar.extui (Scalar.cmpi .slt (Scalar.addi (Scf.iv 0#32 1#32 k) 2#32) (BitVec.ofNat 32 n.val)) : BitVec 32) 0#32 = 1#1) ↔ k + 2 < n.val) (by decide) k hk ⟨n, by omega⟩

section trip
variable {v0 v6 v12 v18 v24 v30 v36 v42 v48 v54 v60 v66 v72 v78 v84 v90 : BitVec 32} (k : Fin (k0_t1_loop v0 v6 v12 v18 v24 v30 v36 v42 v48 v54 v60 v66 v72 v78 v84 v90).trips)

theorem off34 (hk : k.val < 16) : k0_off34 v0 v6 v12 v18 v24 v30 v36 v42 v48 v54 v60 v66 v72 v78 v84 v90 k = ![(p16 k.val).val] := congrArg (fun x : ℕ => (![x] : Fin 1 → ℕ)) (ik _ hk)
theorem off36 (hk : k.val < 16) : k0_off36 v0 v6 v12 v18 v24 v30 v36 v42 v48 v54 v60 v66 v72 v78 v84 v90 k = ![(p16 k.val).val] := congrArg (fun x : ℕ => (![x] : Fin 1 → ℕ)) (ik _ hk)
theorem off37 (hk : k.val < 16) : k0_off37 v0 v6 v12 v18 v24 v30 v36 v42 v48 v54 v60 v66 v72 v78 v84 v90 k = ![(sl k.val).val] := congrArg (fun x : ℕ => (![x] : Fin 1 → ℕ)) (wsl _ hk)
theorem off38 (hk : k.val < 16) : k0_off38 v0 v6 v12 v18 v24 v30 v36 v42 v48 v54 v60 v66 v72 v78 v84 v90 k = ![(sl k.val).val, 0, 0] := congrArg (fun x : ℕ => (![x, 0, 0] : Fin 3 → ℕ)) (wsl _ hk)
theorem off40 (hk : k.val < 16) : k0_off40 v0 v6 v12 v18 v24 v30 v36 v42 v48 v54 v60 v66 v72 v78 v84 v90 k = ![(p16 k.val).val] := congrArg (fun x : ℕ => (![x] : Fin 1 → ℕ)) (ik _ hk)
theorem off41 (hk : k.val < 16) : k0_off41 v0 v6 v12 v18 v24 v30 v36 v42 v48 v54 v60 v66 v72 v78 v84 v90 k = ![(sl k.val).val] := congrArg (fun x : ℕ => (![x] : Fin 1 → ℕ)) (wsl _ hk)
theorem off42 (hk : k.val < 16) : k0_off42 v0 v6 v12 v18 v24 v30 v36 v42 v48 v54 v60 v66 v72 v78 v84 v90 k = ![(sl k.val).val, 0, 0] := congrArg (fun x : ℕ => (![x, 0, 0] : Fin 3 → ℕ)) (wsl _ hk)
theorem off44 (hk : k.val < 16) : k0_off44 v0 v6 v12 v18 v24 v30 v36 v42 v48 v54 v60 v66 v72 v78 v84 v90 k = ![(sl k.val).val, 0, 0] := congrArg (fun x : ℕ => (![x, 0, 0] : Fin 3 → ℕ)) (isl _ hk)
theorem off45 (hk : k.val < 16) : k0_off45 v0 v6 v12 v18 v24 v30 v36 v42 v48 v54 v60 v66 v72 v78 v84 v90 k = ![(sl k.val).val, 0, 0] := congrArg (fun x : ℕ => (![x, 0, 0] : Fin 3 → ℕ)) (isl _ hk)
theorem off46 (hk : k.val < 16) : k0_off46 v0 v6 v12 v18 v24 v30 v36 v42 v48 v54 v60 v66 v72 v78 v84 v90 k = ![(sl k.val).val, 0, 128] := congrArg (fun x : ℕ => (![x, 0, 128] : Fin 3 → ℕ)) (isl _ hk)
theorem off47 (hk : k.val < 16) : k0_off47 v0 v6 v12 v18 v24 v30 v36 v42 v48 v54 v60 v66 v72 v78 v84 v90 k = ![(sl k.val).val, 0, 256] := congrArg (fun x : ℕ => (![x, 0, 256] : Fin 3 → ℕ)) (isl _ hk)
theorem off48 (hk : k.val < 16) : k0_off48 v0 v6 v12 v18 v24 v30 v36 v42 v48 v54 v60 v66 v72 v78 v84 v90 k = ![(sl k.val).val, 0, 384] := congrArg (fun x : ℕ => (![x, 0, 384] : Fin 3 → ℕ)) (isl _ hk)
theorem off49 (hk : k.val < 16) : k0_off49 v0 v6 v12 v18 v24 v30 v36 v42 v48 v54 v60 v66 v72 v78 v84 v90 k = ![(sl k.val).val, 0, 512] := congrArg (fun x : ℕ => (![x, 0, 512] : Fin 3 → ℕ)) (isl _ hk)
theorem off50 (hk : k.val < 16) : k0_off50 v0 v6 v12 v18 v24 v30 v36 v42 v48 v54 v60 v66 v72 v78 v84 v90 k = ![(sl k.val).val, 0, 640] := congrArg (fun x : ℕ => (![x, 0, 640] : Fin 3 → ℕ)) (isl _ hk)
theorem off51 (hk : k.val < 16) : k0_off51 v0 v6 v12 v18 v24 v30 v36 v42 v48 v54 v60 v66 v72 v78 v84 v90 k = ![(sl k.val).val, 0, 768] := congrArg (fun x : ℕ => (![x, 0, 768] : Fin 3 → ℕ)) (isl _ hk)
theorem off52 (hk : k.val < 16) : k0_off52 v0 v6 v12 v18 v24 v30 v36 v42 v48 v54 v60 v66 v72 v78 v84 v90 k = ![(sl k.val).val, 0, 896] := congrArg (fun x : ℕ => (![x, 0, 896] : Fin 3 → ℕ)) (isl _ hk)
theorem off53 (hk : k.val < 16) : k0_off53 v0 v6 v12 v18 v24 v30 v36 v42 v48 v54 v60 v66 v72 v78 v84 v90 k = ![(sl k.val).val, 0, 1024] := congrArg (fun x : ℕ => (![x, 0, 1024] : Fin 3 → ℕ)) (isl _ hk)
theorem off54 (hk : k.val < 16) : k0_off54 v0 v6 v12 v18 v24 v30 v36 v42 v48 v54 v60 v66 v72 v78 v84 v90 k = ![(sl k.val).val, 0, 1152] := congrArg (fun x : ℕ => (![x, 0, 1152] : Fin 3 → ℕ)) (isl _ hk)
theorem off55 (hk : k.val < 16) : k0_off55 v0 v6 v12 v18 v24 v30 v36 v42 v48 v54 v60 v66 v72 v78 v84 v90 k = ![(sl k.val).val, 0, 1280] := congrArg (fun x : ℕ => (![x, 0, 1280] : Fin 3 → ℕ)) (isl _ hk)
theorem off56 (hk : k.val < 16) : k0_off56 v0 v6 v12 v18 v24 v30 v36 v42 v48 v54 v60 v66 v72 v78 v84 v90 k = ![(sl k.val).val, 0, 1408] := congrArg (fun x : ℕ => (![x, 0, 1408] : Fin 3 → ℕ)) (isl _ hk)
theorem off57 (hk : k.val < 16) (h2 : 2 ≤ k.val) : k0_off57 v0 v6 v12 v18 v24 v30 v36 v42 v48 v54 v60 v66 v72 v78 v84 v90 k = ![(p16 (k.val - 2)).val] := congrArg (fun x : ℕ => (![x] : Fin 1 → ℕ)) (im2 _ hk h2)
theorem off58 (hk : k.val < 16) : k0_off58 v0 v6 v12 v18 v24 v30 v36 v42 v48 v54 v60 v66 v72 v78 v84 v90 k = ![(sl k.val).val] := congrArg (fun x : ℕ => (![x] : Fin 1 → ℕ)) (wsl _ hk)
theorem off60 (hk : k.val < 16) : k0_off60 v0 v6 v12 v18 v24 v30 v36 v42 v48 v54 v60 v66 v72 v78 v84 v90 k = ![(sl k.val).val, 0, 0] := congrArg (fun x : ℕ => (![x, 0, 0] : Fin 3 → ℕ)) (wsl _ hk)
theorem off61 (hk : k.val + 2 < 16) : k0_off61 v0 v6 v12 v18 v24 v30 v36 v42 v48 v54 v60 v66 v72 v78 v84 v90 k = ![(p16 (k.val + 2)).val] := congrArg (fun x : ℕ => (![x] : Fin 1 → ℕ)) (ip2 _ hk)
theorem off62 (hk : k.val < 16) : k0_off62 v0 v6 v12 v18 v24 v30 v36 v42 v48 v54 v60 v66 v72 v78 v84 v90 k = ![(sl k.val).val] := congrArg (fun x : ℕ => (![x] : Fin 1 → ℕ)) (wsl _ hk)
theorem off63 (hk : k.val < 16) : k0_off63 v0 v6 v12 v18 v24 v30 v36 v42 v48 v54 v60 v66 v72 v78 v84 v90 k = ![(sl k.val).val, 0, 0] := congrArg (fun x : ℕ => (![x, 0, 0] : Fin 3 → ℕ)) (wsl _ hk)
theorem off65 (hk : k.val + 2 < 16) : k0_off65 v0 v6 v12 v18 v24 v30 v36 v42 v48 v54 v60 v66 v72 v78 v84 v90 k = ![(p16 (k.val + 2)).val] := congrArg (fun x : ℕ => (![x] : Fin 1 → ℕ)) (ip2 _ hk)
theorem off66 (hk : k.val < 16) : k0_off66 v0 v6 v12 v18 v24 v30 v36 v42 v48 v54 v60 v66 v72 v78 v84 v90 k = ![(sl k.val).val] := congrArg (fun x : ℕ => (![x] : Fin 1 → ℕ)) (wsl _ hk)
theorem off67 (hk : k.val < 16) : k0_off67 v0 v6 v12 v18 v24 v30 v36 v42 v48 v54 v60 v66 v72 v78 v84 v90 k = ![(sl k.val).val, 0, 0] := congrArg (fun x : ℕ => (![x, 0, 0] : Fin 3 → ℕ)) (wsl _ hk)
theorem off69 (hk : k.val < 16) : k0_off69 v0 v6 v12 v18 v24 v30 v36 v42 v48 v54 v60 v66 v72 v78 v84 v90 k = ![(p16 k.val).val] := congrArg (fun x : ℕ => (![x] : Fin 1 → ℕ)) (ik _ hk)
theorem off70 (hk : k.val < 16) : k0_off70 v0 v6 v12 v18 v24 v30 v36 v42 v48 v54 v60 v66 v72 v78 v84 v90 k = ![(sl k.val).val, 0] := congrArg (fun x : ℕ => (![x, 0] : Fin 2 → ℕ)) (wsl _ hk)
theorem off71 (hk : k.val < 16) : k0_off71 v0 v6 v12 v18 v24 v30 v36 v42 v48 v54 v60 v66 v72 v78 v84 v90 k = ![(sl k.val).val, 0, 0] := congrArg (fun x : ℕ => (![x, 0, 0] : Fin 3 → ℕ)) (wsl _ hk)
theorem off73 (hk : k.val < 16) : k0_off73 v0 v6 v12 v18 v24 v30 v36 v42 v48 v54 v60 v66 v72 v78 v84 v90 k = ![(sl k.val).val, 0, 0] := congrArg (fun x : ℕ => (![x, 0, 0] : Fin 3 → ℕ)) (isl _ hk)
theorem off74 (hk : k.val < 16) : k0_off74 v0 v6 v12 v18 v24 v30 v36 v42 v48 v54 v60 v66 v72 v78 v84 v90 k = ![(sl k.val).val, 0, 0] := congrArg (fun x : ℕ => (![x, 0, 0] : Fin 3 → ℕ)) (isl _ hk)
theorem off75 (hk : k.val < 16) : k0_off75 v0 v6 v12 v18 v24 v30 v36 v42 v48 v54 v60 v66 v72 v78 v84 v90 k = ![(sl k.val).val, 0, 128] := congrArg (fun x : ℕ => (![x, 0, 128] : Fin 3 → ℕ)) (isl _ hk)
theorem off76 (hk : k.val < 16) : k0_off76 v0 v6 v12 v18 v24 v30 v36 v42 v48 v54 v60 v66 v72 v78 v84 v90 k = ![(sl k.val).val, 256, 0] := congrArg (fun x : ℕ => (![x, 256, 0] : Fin 3 → ℕ)) (isl _ hk)
theorem off77 (hk : k.val < 16) : k0_off77 v0 v6 v12 v18 v24 v30 v36 v42 v48 v54 v60 v66 v72 v78 v84 v90 k = ![(sl k.val).val, 0, 256] := congrArg (fun x : ℕ => (![x, 0, 256] : Fin 3 → ℕ)) (isl _ hk)
theorem off78 (hk : k.val < 16) : k0_off78 v0 v6 v12 v18 v24 v30 v36 v42 v48 v54 v60 v66 v72 v78 v84 v90 k = ![(sl k.val).val, 0, 384] := congrArg (fun x : ℕ => (![x, 0, 384] : Fin 3 → ℕ)) (isl _ hk)
theorem off79 (hk : k.val < 16) : k0_off79 v0 v6 v12 v18 v24 v30 v36 v42 v48 v54 v60 v66 v72 v78 v84 v90 k = ![(sl k.val).val, 512, 0] := congrArg (fun x : ℕ => (![x, 512, 0] : Fin 3 → ℕ)) (isl _ hk)
theorem off80 (hk : k.val < 16) : k0_off80 v0 v6 v12 v18 v24 v30 v36 v42 v48 v54 v60 v66 v72 v78 v84 v90 k = ![(sl k.val).val, 0, 512] := congrArg (fun x : ℕ => (![x, 0, 512] : Fin 3 → ℕ)) (isl _ hk)
theorem off81 (hk : k.val < 16) : k0_off81 v0 v6 v12 v18 v24 v30 v36 v42 v48 v54 v60 v66 v72 v78 v84 v90 k = ![(sl k.val).val, 0, 640] := congrArg (fun x : ℕ => (![x, 0, 640] : Fin 3 → ℕ)) (isl _ hk)
theorem off82 (hk : k.val < 16) : k0_off82 v0 v6 v12 v18 v24 v30 v36 v42 v48 v54 v60 v66 v72 v78 v84 v90 k = ![(sl k.val).val, 768, 0] := congrArg (fun x : ℕ => (![x, 768, 0] : Fin 3 → ℕ)) (isl _ hk)
theorem off83 (hk : k.val < 16) : k0_off83 v0 v6 v12 v18 v24 v30 v36 v42 v48 v54 v60 v66 v72 v78 v84 v90 k = ![(sl k.val).val, 0, 768] := congrArg (fun x : ℕ => (![x, 0, 768] : Fin 3 → ℕ)) (isl _ hk)
theorem off84 (hk : k.val < 16) : k0_off84 v0 v6 v12 v18 v24 v30 v36 v42 v48 v54 v60 v66 v72 v78 v84 v90 k = ![(sl k.val).val, 0, 896] := congrArg (fun x : ℕ => (![x, 0, 896] : Fin 3 → ℕ)) (isl _ hk)
theorem off85 (hk : k.val + 2 < 16) : k0_off85 v0 v6 v12 v18 v24 v30 v36 v42 v48 v54 v60 v66 v72 v78 v84 v90 k = ![(p16 (k.val + 2)).val] := congrArg (fun x : ℕ => (![x] : Fin 1 → ℕ)) (ip2 _ hk)
theorem off86 (hk : k.val < 16) : k0_off86 v0 v6 v12 v18 v24 v30 v36 v42 v48 v54 v60 v66 v72 v78 v84 v90 k = ![(sl k.val).val, 0] := congrArg (fun x : ℕ => (![x, 0] : Fin 2 → ℕ)) (wsl _ hk)
theorem off87 (hk : k.val < 16) : k0_off87 v0 v6 v12 v18 v24 v30 v36 v42 v48 v54 v60 v66 v72 v78 v84 v90 k = ![(sl k.val).val, 0, 0] := congrArg (fun x : ℕ => (![x, 0, 0] : Fin 3 → ℕ)) (wsl _ hk)
theorem off89 (hk : k.val < 16) : k0_off89 v0 v6 v12 v18 v24 v30 v36 v42 v48 v54 v60 v66 v72 v78 v84 v90 k = ![(p16 k.val).val] := congrArg (fun x : ℕ => (![x] : Fin 1 → ℕ)) (ik _ hk)
theorem off90 (hk : k.val < 16) : k0_off90 v0 v6 v12 v18 v24 v30 v36 v42 v48 v54 v60 v66 v72 v78 v84 v90 k = ![(sl k.val).val, 1] := congrArg (fun x : ℕ => (![x, 1] : Fin 2 → ℕ)) (wsl _ hk)
theorem off91 (hk : k.val < 16) : k0_off91 v0 v6 v12 v18 v24 v30 v36 v42 v48 v54 v60 v66 v72 v78 v84 v90 k = ![(sl k.val).val, 1024, 0] := congrArg (fun x : ℕ => (![x, 1024, 0] : Fin 3 → ℕ)) (wsl _ hk)
theorem off93 (hk : k.val < 16) : k0_off93 v0 v6 v12 v18 v24 v30 v36 v42 v48 v54 v60 v66 v72 v78 v84 v90 k = ![(sl k.val).val, 1024, 0] := congrArg (fun x : ℕ => (![x, 1024, 0] : Fin 3 → ℕ)) (isl _ hk)
theorem off94 (hk : k.val < 16) : k0_off94 v0 v6 v12 v18 v24 v30 v36 v42 v48 v54 v60 v66 v72 v78 v84 v90 k = ![(sl k.val).val, 0, 1024] := congrArg (fun x : ℕ => (![x, 0, 1024] : Fin 3 → ℕ)) (isl _ hk)
theorem off95 (hk : k.val < 16) : k0_off95 v0 v6 v12 v18 v24 v30 v36 v42 v48 v54 v60 v66 v72 v78 v84 v90 k = ![(sl k.val).val, 0, 1152] := congrArg (fun x : ℕ => (![x, 0, 1152] : Fin 3 → ℕ)) (isl _ hk)
theorem off96 (hk : k.val < 16) : k0_off96 v0 v6 v12 v18 v24 v30 v36 v42 v48 v54 v60 v66 v72 v78 v84 v90 k = ![(sl k.val).val, 1280, 0] := congrArg (fun x : ℕ => (![x, 1280, 0] : Fin 3 → ℕ)) (isl _ hk)
theorem off97 (hk : k.val < 16) : k0_off97 v0 v6 v12 v18 v24 v30 v36 v42 v48 v54 v60 v66 v72 v78 v84 v90 k = ![(sl k.val).val, 0, 1280] := congrArg (fun x : ℕ => (![x, 0, 1280] : Fin 3 → ℕ)) (isl _ hk)
theorem off98 (hk : k.val < 16) : k0_off98 v0 v6 v12 v18 v24 v30 v36 v42 v48 v54 v60 v66 v72 v78 v84 v90 k = ![(sl k.val).val, 0, 1408] := congrArg (fun x : ℕ => (![x, 0, 1408] : Fin 3 → ℕ)) (isl _ hk)
theorem off99 (hk : k.val < 16) : k0_off99 v0 v6 v12 v18 v24 v30 v36 v42 v48 v54 v60 v66 v72 v78 v84 v90 k = ![(sl k.val).val, 1536, 0] := congrArg (fun x : ℕ => (![x, 1536, 0] : Fin 3 → ℕ)) (isl _ hk)
theorem off100 (hk : k.val < 16) : k0_off100 v0 v6 v12 v18 v24 v30 v36 v42 v48 v54 v60 v66 v72 v78 v84 v90 k = ![(sl k.val).val, 0, 1536] := congrArg (fun x : ℕ => (![x, 0, 1536] : Fin 3 → ℕ)) (isl _ hk)
theorem off101 (hk : k.val < 16) : k0_off101 v0 v6 v12 v18 v24 v30 v36 v42 v48 v54 v60 v66 v72 v78 v84 v90 k = ![(sl k.val).val, 0, 1664] := congrArg (fun x : ℕ => (![x, 0, 1664] : Fin 3 → ℕ)) (isl _ hk)
theorem off102 (hk : k.val < 16) : k0_off102 v0 v6 v12 v18 v24 v30 v36 v42 v48 v54 v60 v66 v72 v78 v84 v90 k = ![(sl k.val).val, 1792, 0] := congrArg (fun x : ℕ => (![x, 1792, 0] : Fin 3 → ℕ)) (isl _ hk)
theorem off103 (hk : k.val < 16) : k0_off103 v0 v6 v12 v18 v24 v30 v36 v42 v48 v54 v60 v66 v72 v78 v84 v90 k = ![(sl k.val).val, 0, 1792] := congrArg (fun x : ℕ => (![x, 0, 1792] : Fin 3 → ℕ)) (isl _ hk)
theorem off104 (hk : k.val < 16) : k0_off104 v0 v6 v12 v18 v24 v30 v36 v42 v48 v54 v60 v66 v72 v78 v84 v90 k = ![(sl k.val).val, 0, 1920] := congrArg (fun x : ℕ => (![x, 0, 1920] : Fin 3 → ℕ)) (isl _ hk)
theorem off105 (hk : k.val + 2 < 16) : k0_off105 v0 v6 v12 v18 v24 v30 v36 v42 v48 v54 v60 v66 v72 v78 v84 v90 k = ![(p16 (k.val + 2)).val] := congrArg (fun x : ℕ => (![x] : Fin 1 → ℕ)) (ip2 _ hk)
theorem off106 (hk : k.val < 16) : k0_off106 v0 v6 v12 v18 v24 v30 v36 v42 v48 v54 v60 v66 v72 v78 v84 v90 k = ![(sl k.val).val, 1] := congrArg (fun x : ℕ => (![x, 1] : Fin 2 → ℕ)) (wsl _ hk)
theorem off107 (hk : k.val < 16) : k0_off107 v0 v6 v12 v18 v24 v30 v36 v42 v48 v54 v60 v66 v72 v78 v84 v90 k = ![(sl k.val).val, 1024, 0] := congrArg (fun x : ℕ => (![x, 1024, 0] : Fin 3 → ℕ)) (wsl _ hk)
theorem off109 (hk : k.val < 16) : k0_off109 v0 v6 v12 v18 v24 v30 v36 v42 v48 v54 v60 v66 v72 v78 v84 v90 k = ![(p16 k.val).val] := congrArg (fun x : ℕ => (![x] : Fin 1 → ℕ)) (ik _ hk)
theorem off110 (hk : k.val < 16) : k0_off110 v0 v6 v12 v18 v24 v30 v36 v42 v48 v54 v60 v66 v72 v78 v84 v90 k = ![(sl k.val).val, 2] := congrArg (fun x : ℕ => (![x, 2] : Fin 2 → ℕ)) (wsl _ hk)
theorem off111 (hk : k.val < 16) : k0_off111 v0 v6 v12 v18 v24 v30 v36 v42 v48 v54 v60 v66 v72 v78 v84 v90 k = ![(sl k.val).val, 2048, 0] := congrArg (fun x : ℕ => (![x, 2048, 0] : Fin 3 → ℕ)) (wsl _ hk)
theorem off113 (hk : k.val < 16) : k0_off113 v0 v6 v12 v18 v24 v30 v36 v42 v48 v54 v60 v66 v72 v78 v84 v90 k = ![(sl k.val).val, 2048, 0] := congrArg (fun x : ℕ => (![x, 2048, 0] : Fin 3 → ℕ)) (isl _ hk)
theorem off114 (hk : k.val < 16) : k0_off114 v0 v6 v12 v18 v24 v30 v36 v42 v48 v54 v60 v66 v72 v78 v84 v90 k = ![(sl k.val).val, 0, 2048] := congrArg (fun x : ℕ => (![x, 0, 2048] : Fin 3 → ℕ)) (isl _ hk)
theorem off115 (hk : k.val < 16) : k0_off115 v0 v6 v12 v18 v24 v30 v36 v42 v48 v54 v60 v66 v72 v78 v84 v90 k = ![(sl k.val).val, 0, 2176] := congrArg (fun x : ℕ => (![x, 0, 2176] : Fin 3 → ℕ)) (isl _ hk)
theorem off116 (hk : k.val < 16) : k0_off116 v0 v6 v12 v18 v24 v30 v36 v42 v48 v54 v60 v66 v72 v78 v84 v90 k = ![(sl k.val).val, 2304, 0] := congrArg (fun x : ℕ => (![x, 2304, 0] : Fin 3 → ℕ)) (isl _ hk)
theorem off117 (hk : k.val < 16) : k0_off117 v0 v6 v12 v18 v24 v30 v36 v42 v48 v54 v60 v66 v72 v78 v84 v90 k = ![(sl k.val).val, 0, 2304] := congrArg (fun x : ℕ => (![x, 0, 2304] : Fin 3 → ℕ)) (isl _ hk)
theorem off118 (hk : k.val < 16) : k0_off118 v0 v6 v12 v18 v24 v30 v36 v42 v48 v54 v60 v66 v72 v78 v84 v90 k = ![(sl k.val).val, 0, 2432] := congrArg (fun x : ℕ => (![x, 0, 2432] : Fin 3 → ℕ)) (isl _ hk)
theorem off119 (hk : k.val < 16) : k0_off119 v0 v6 v12 v18 v24 v30 v36 v42 v48 v54 v60 v66 v72 v78 v84 v90 k = ![(sl k.val).val, 2560, 0] := congrArg (fun x : ℕ => (![x, 2560, 0] : Fin 3 → ℕ)) (isl _ hk)
theorem off120 (hk : k.val < 16) : k0_off120 v0 v6 v12 v18 v24 v30 v36 v42 v48 v54 v60 v66 v72 v78 v84 v90 k = ![(sl k.val).val, 0, 2560] := congrArg (fun x : ℕ => (![x, 0, 2560] : Fin 3 → ℕ)) (isl _ hk)
theorem off121 (hk : k.val < 16) : k0_off121 v0 v6 v12 v18 v24 v30 v36 v42 v48 v54 v60 v66 v72 v78 v84 v90 k = ![(sl k.val).val, 0, 2688] := congrArg (fun x : ℕ => (![x, 0, 2688] : Fin 3 → ℕ)) (isl _ hk)
theorem off122 (hk : k.val < 16) : k0_off122 v0 v6 v12 v18 v24 v30 v36 v42 v48 v54 v60 v66 v72 v78 v84 v90 k = ![(sl k.val).val, 2816, 0] := congrArg (fun x : ℕ => (![x, 2816, 0] : Fin 3 → ℕ)) (isl _ hk)
theorem off123 (hk : k.val < 16) : k0_off123 v0 v6 v12 v18 v24 v30 v36 v42 v48 v54 v60 v66 v72 v78 v84 v90 k = ![(sl k.val).val, 0, 2816] := congrArg (fun x : ℕ => (![x, 0, 2816] : Fin 3 → ℕ)) (isl _ hk)
theorem off124 (hk : k.val < 16) : k0_off124 v0 v6 v12 v18 v24 v30 v36 v42 v48 v54 v60 v66 v72 v78 v84 v90 k = ![(sl k.val).val, 0, 2944] := congrArg (fun x : ℕ => (![x, 0, 2944] : Fin 3 → ℕ)) (isl _ hk)
theorem off125 (hk : k.val + 2 < 16) : k0_off125 v0 v6 v12 v18 v24 v30 v36 v42 v48 v54 v60 v66 v72 v78 v84 v90 k = ![(p16 (k.val + 2)).val] := congrArg (fun x : ℕ => (![x] : Fin 1 → ℕ)) (ip2 _ hk)
theorem off126 (hk : k.val < 16) : k0_off126 v0 v6 v12 v18 v24 v30 v36 v42 v48 v54 v60 v66 v72 v78 v84 v90 k = ![(sl k.val).val, 2] := congrArg (fun x : ℕ => (![x, 2] : Fin 2 → ℕ)) (wsl _ hk)
theorem off127 (hk : k.val < 16) : k0_off127 v0 v6 v12 v18 v24 v30 v36 v42 v48 v54 v60 v66 v72 v78 v84 v90 k = ![(sl k.val).val, 2048, 0] := congrArg (fun x : ℕ => (![x, 2048, 0] : Fin 3 → ℕ)) (wsl _ hk)
theorem off129 (hk : k.val < 16) : k0_off129 v0 v6 v12 v18 v24 v30 v36 v42 v48 v54 v60 v66 v72 v78 v84 v90 k = ![(p16 k.val).val] := congrArg (fun x : ℕ => (![x] : Fin 1 → ℕ)) (ik _ hk)
theorem off130 (hk : k.val < 16) : k0_off130 v0 v6 v12 v18 v24 v30 v36 v42 v48 v54 v60 v66 v72 v78 v84 v90 k = ![(sl k.val).val, 3] := congrArg (fun x : ℕ => (![x, 3] : Fin 2 → ℕ)) (wsl _ hk)
theorem off131 (hk : k.val < 16) : k0_off131 v0 v6 v12 v18 v24 v30 v36 v42 v48 v54 v60 v66 v72 v78 v84 v90 k = ![(sl k.val).val, 3072, 0] := congrArg (fun x : ℕ => (![x, 3072, 0] : Fin 3 → ℕ)) (wsl _ hk)
theorem off133 (hk : k.val < 16) : k0_off133 v0 v6 v12 v18 v24 v30 v36 v42 v48 v54 v60 v66 v72 v78 v84 v90 k = ![(sl k.val).val, 3072, 0] := congrArg (fun x : ℕ => (![x, 3072, 0] : Fin 3 → ℕ)) (isl _ hk)
theorem off134 (hk : k.val < 16) : k0_off134 v0 v6 v12 v18 v24 v30 v36 v42 v48 v54 v60 v66 v72 v78 v84 v90 k = ![(sl k.val).val, 0, 3072] := congrArg (fun x : ℕ => (![x, 0, 3072] : Fin 3 → ℕ)) (isl _ hk)
theorem off135 (hk : k.val < 16) : k0_off135 v0 v6 v12 v18 v24 v30 v36 v42 v48 v54 v60 v66 v72 v78 v84 v90 k = ![(sl k.val).val, 0, 3200] := congrArg (fun x : ℕ => (![x, 0, 3200] : Fin 3 → ℕ)) (isl _ hk)
theorem off136 (hk : k.val < 16) : k0_off136 v0 v6 v12 v18 v24 v30 v36 v42 v48 v54 v60 v66 v72 v78 v84 v90 k = ![(sl k.val).val, 3328, 0] := congrArg (fun x : ℕ => (![x, 3328, 0] : Fin 3 → ℕ)) (isl _ hk)
theorem off137 (hk : k.val < 16) : k0_off137 v0 v6 v12 v18 v24 v30 v36 v42 v48 v54 v60 v66 v72 v78 v84 v90 k = ![(sl k.val).val, 0, 3328] := congrArg (fun x : ℕ => (![x, 0, 3328] : Fin 3 → ℕ)) (isl _ hk)
theorem off138 (hk : k.val < 16) : k0_off138 v0 v6 v12 v18 v24 v30 v36 v42 v48 v54 v60 v66 v72 v78 v84 v90 k = ![(sl k.val).val, 0, 3456] := congrArg (fun x : ℕ => (![x, 0, 3456] : Fin 3 → ℕ)) (isl _ hk)
theorem off139 (hk : k.val < 16) : k0_off139 v0 v6 v12 v18 v24 v30 v36 v42 v48 v54 v60 v66 v72 v78 v84 v90 k = ![(sl k.val).val, 3584, 0] := congrArg (fun x : ℕ => (![x, 3584, 0] : Fin 3 → ℕ)) (isl _ hk)
theorem off140 (hk : k.val < 16) : k0_off140 v0 v6 v12 v18 v24 v30 v36 v42 v48 v54 v60 v66 v72 v78 v84 v90 k = ![(sl k.val).val, 0, 3584] := congrArg (fun x : ℕ => (![x, 0, 3584] : Fin 3 → ℕ)) (isl _ hk)
theorem off141 (hk : k.val < 16) : k0_off141 v0 v6 v12 v18 v24 v30 v36 v42 v48 v54 v60 v66 v72 v78 v84 v90 k = ![(sl k.val).val, 0, 3712] := congrArg (fun x : ℕ => (![x, 0, 3712] : Fin 3 → ℕ)) (isl _ hk)
theorem off142 (hk : k.val < 16) : k0_off142 v0 v6 v12 v18 v24 v30 v36 v42 v48 v54 v60 v66 v72 v78 v84 v90 k = ![(sl k.val).val, 3840, 0] := congrArg (fun x : ℕ => (![x, 3840, 0] : Fin 3 → ℕ)) (isl _ hk)
theorem off143 (hk : k.val < 16) : k0_off143 v0 v6 v12 v18 v24 v30 v36 v42 v48 v54 v60 v66 v72 v78 v84 v90 k = ![(sl k.val).val, 0, 3840] := congrArg (fun x : ℕ => (![x, 0, 3840] : Fin 3 → ℕ)) (isl _ hk)
theorem off144 (hk : k.val < 16) : k0_off144 v0 v6 v12 v18 v24 v30 v36 v42 v48 v54 v60 v66 v72 v78 v84 v90 k = ![(sl k.val).val, 0, 3968] := congrArg (fun x : ℕ => (![x, 0, 3968] : Fin 3 → ℕ)) (isl _ hk)
theorem off145 (hk : k.val + 2 < 16) : k0_off145 v0 v6 v12 v18 v24 v30 v36 v42 v48 v54 v60 v66 v72 v78 v84 v90 k = ![(p16 (k.val + 2)).val] := congrArg (fun x : ℕ => (![x] : Fin 1 → ℕ)) (ip2 _ hk)
theorem off146 (hk : k.val < 16) : k0_off146 v0 v6 v12 v18 v24 v30 v36 v42 v48 v54 v60 v66 v72 v78 v84 v90 k = ![(sl k.val).val, 3] := congrArg (fun x : ℕ => (![x, 3] : Fin 2 → ℕ)) (wsl _ hk)
theorem off147 (hk : k.val < 16) : k0_off147 v0 v6 v12 v18 v24 v30 v36 v42 v48 v54 v60 v66 v72 v78 v84 v90 k = ![(sl k.val).val, 3072, 0] := congrArg (fun x : ℕ => (![x, 3072, 0] : Fin 3 → ℕ)) (wsl _ hk)
theorem off149 (hk : k.val < 16) : k0_off149 v0 v6 v12 v18 v24 v30 v36 v42 v48 v54 v60 v66 v72 v78 v84 v90 k = ![(p16 k.val).val] := congrArg (fun x : ℕ => (![x] : Fin 1 → ℕ)) (ik _ hk)
theorem off150 (hk : k.val < 16) : k0_off150 v0 v6 v12 v18 v24 v30 v36 v42 v48 v54 v60 v66 v72 v78 v84 v90 k = ![(sl k.val).val, 4] := congrArg (fun x : ℕ => (![x, 4] : Fin 2 → ℕ)) (wsl _ hk)
theorem off151 (hk : k.val < 16) : k0_off151 v0 v6 v12 v18 v24 v30 v36 v42 v48 v54 v60 v66 v72 v78 v84 v90 k = ![(sl k.val).val, 4096, 0] := congrArg (fun x : ℕ => (![x, 4096, 0] : Fin 3 → ℕ)) (wsl _ hk)
theorem off153 (hk : k.val < 16) : k0_off153 v0 v6 v12 v18 v24 v30 v36 v42 v48 v54 v60 v66 v72 v78 v84 v90 k = ![(sl k.val).val, 4096, 0] := congrArg (fun x : ℕ => (![x, 4096, 0] : Fin 3 → ℕ)) (isl _ hk)
theorem off154 (hk : k.val < 16) : k0_off154 v0 v6 v12 v18 v24 v30 v36 v42 v48 v54 v60 v66 v72 v78 v84 v90 k = ![(sl k.val).val, 0, 4096] := congrArg (fun x : ℕ => (![x, 0, 4096] : Fin 3 → ℕ)) (isl _ hk)
theorem off155 (hk : k.val < 16) : k0_off155 v0 v6 v12 v18 v24 v30 v36 v42 v48 v54 v60 v66 v72 v78 v84 v90 k = ![(sl k.val).val, 0, 4224] := congrArg (fun x : ℕ => (![x, 0, 4224] : Fin 3 → ℕ)) (isl _ hk)
theorem off156 (hk : k.val < 16) : k0_off156 v0 v6 v12 v18 v24 v30 v36 v42 v48 v54 v60 v66 v72 v78 v84 v90 k = ![(sl k.val).val, 4352, 0] := congrArg (fun x : ℕ => (![x, 4352, 0] : Fin 3 → ℕ)) (isl _ hk)
theorem off157 (hk : k.val < 16) : k0_off157 v0 v6 v12 v18 v24 v30 v36 v42 v48 v54 v60 v66 v72 v78 v84 v90 k = ![(sl k.val).val, 0, 4352] := congrArg (fun x : ℕ => (![x, 0, 4352] : Fin 3 → ℕ)) (isl _ hk)
theorem off158 (hk : k.val < 16) : k0_off158 v0 v6 v12 v18 v24 v30 v36 v42 v48 v54 v60 v66 v72 v78 v84 v90 k = ![(sl k.val).val, 0, 4480] := congrArg (fun x : ℕ => (![x, 0, 4480] : Fin 3 → ℕ)) (isl _ hk)
theorem off159 (hk : k.val < 16) : k0_off159 v0 v6 v12 v18 v24 v30 v36 v42 v48 v54 v60 v66 v72 v78 v84 v90 k = ![(sl k.val).val, 4608, 0] := congrArg (fun x : ℕ => (![x, 4608, 0] : Fin 3 → ℕ)) (isl _ hk)
theorem off160 (hk : k.val < 16) : k0_off160 v0 v6 v12 v18 v24 v30 v36 v42 v48 v54 v60 v66 v72 v78 v84 v90 k = ![(sl k.val).val, 0, 4608] := congrArg (fun x : ℕ => (![x, 0, 4608] : Fin 3 → ℕ)) (isl _ hk)
theorem off161 (hk : k.val < 16) : k0_off161 v0 v6 v12 v18 v24 v30 v36 v42 v48 v54 v60 v66 v72 v78 v84 v90 k = ![(sl k.val).val, 0, 4736] := congrArg (fun x : ℕ => (![x, 0, 4736] : Fin 3 → ℕ)) (isl _ hk)
theorem off162 (hk : k.val < 16) : k0_off162 v0 v6 v12 v18 v24 v30 v36 v42 v48 v54 v60 v66 v72 v78 v84 v90 k = ![(sl k.val).val, 4864, 0] := congrArg (fun x : ℕ => (![x, 4864, 0] : Fin 3 → ℕ)) (isl _ hk)
theorem off163 (hk : k.val < 16) : k0_off163 v0 v6 v12 v18 v24 v30 v36 v42 v48 v54 v60 v66 v72 v78 v84 v90 k = ![(sl k.val).val, 0, 4864] := congrArg (fun x : ℕ => (![x, 0, 4864] : Fin 3 → ℕ)) (isl _ hk)
theorem off164 (hk : k.val < 16) : k0_off164 v0 v6 v12 v18 v24 v30 v36 v42 v48 v54 v60 v66 v72 v78 v84 v90 k = ![(sl k.val).val, 0, 4992] := congrArg (fun x : ℕ => (![x, 0, 4992] : Fin 3 → ℕ)) (isl _ hk)
theorem off165 (hk : k.val + 2 < 16) : k0_off165 v0 v6 v12 v18 v24 v30 v36 v42 v48 v54 v60 v66 v72 v78 v84 v90 k = ![(p16 (k.val + 2)).val] := congrArg (fun x : ℕ => (![x] : Fin 1 → ℕ)) (ip2 _ hk)
theorem off166 (hk : k.val < 16) : k0_off166 v0 v6 v12 v18 v24 v30 v36 v42 v48 v54 v60 v66 v72 v78 v84 v90 k = ![(sl k.val).val, 4] := congrArg (fun x : ℕ => (![x, 4] : Fin 2 → ℕ)) (wsl _ hk)
theorem off167 (hk : k.val < 16) : k0_off167 v0 v6 v12 v18 v24 v30 v36 v42 v48 v54 v60 v66 v72 v78 v84 v90 k = ![(sl k.val).val, 4096, 0] := congrArg (fun x : ℕ => (![x, 4096, 0] : Fin 3 → ℕ)) (wsl _ hk)
theorem off169 (hk : k.val < 16) : k0_off169 v0 v6 v12 v18 v24 v30 v36 v42 v48 v54 v60 v66 v72 v78 v84 v90 k = ![(p16 k.val).val] := congrArg (fun x : ℕ => (![x] : Fin 1 → ℕ)) (ik _ hk)
theorem off170 (hk : k.val < 16) : k0_off170 v0 v6 v12 v18 v24 v30 v36 v42 v48 v54 v60 v66 v72 v78 v84 v90 k = ![(sl k.val).val, 5] := congrArg (fun x : ℕ => (![x, 5] : Fin 2 → ℕ)) (wsl _ hk)
theorem off171 (hk : k.val < 16) : k0_off171 v0 v6 v12 v18 v24 v30 v36 v42 v48 v54 v60 v66 v72 v78 v84 v90 k = ![(sl k.val).val, 5120, 0] := congrArg (fun x : ℕ => (![x, 5120, 0] : Fin 3 → ℕ)) (wsl _ hk)
theorem off173 (hk : k.val < 16) : k0_off173 v0 v6 v12 v18 v24 v30 v36 v42 v48 v54 v60 v66 v72 v78 v84 v90 k = ![(sl k.val).val, 5120, 0] := congrArg (fun x : ℕ => (![x, 5120, 0] : Fin 3 → ℕ)) (isl _ hk)
theorem off174 (hk : k.val < 16) : k0_off174 v0 v6 v12 v18 v24 v30 v36 v42 v48 v54 v60 v66 v72 v78 v84 v90 k = ![(sl k.val).val, 0, 5120] := congrArg (fun x : ℕ => (![x, 0, 5120] : Fin 3 → ℕ)) (isl _ hk)
theorem off175 (hk : k.val < 16) : k0_off175 v0 v6 v12 v18 v24 v30 v36 v42 v48 v54 v60 v66 v72 v78 v84 v90 k = ![(sl k.val).val, 0, 5248] := congrArg (fun x : ℕ => (![x, 0, 5248] : Fin 3 → ℕ)) (isl _ hk)
theorem off176 (hk : k.val < 16) : k0_off176 v0 v6 v12 v18 v24 v30 v36 v42 v48 v54 v60 v66 v72 v78 v84 v90 k = ![(sl k.val).val, 5376, 0] := congrArg (fun x : ℕ => (![x, 5376, 0] : Fin 3 → ℕ)) (isl _ hk)
theorem off177 (hk : k.val < 16) : k0_off177 v0 v6 v12 v18 v24 v30 v36 v42 v48 v54 v60 v66 v72 v78 v84 v90 k = ![(sl k.val).val, 0, 5376] := congrArg (fun x : ℕ => (![x, 0, 5376] : Fin 3 → ℕ)) (isl _ hk)
theorem off178 (hk : k.val < 16) : k0_off178 v0 v6 v12 v18 v24 v30 v36 v42 v48 v54 v60 v66 v72 v78 v84 v90 k = ![(sl k.val).val, 0, 5504] := congrArg (fun x : ℕ => (![x, 0, 5504] : Fin 3 → ℕ)) (isl _ hk)
theorem off179 (hk : k.val < 16) : k0_off179 v0 v6 v12 v18 v24 v30 v36 v42 v48 v54 v60 v66 v72 v78 v84 v90 k = ![(sl k.val).val, 5632, 0] := congrArg (fun x : ℕ => (![x, 5632, 0] : Fin 3 → ℕ)) (isl _ hk)
theorem off180 (hk : k.val < 16) : k0_off180 v0 v6 v12 v18 v24 v30 v36 v42 v48 v54 v60 v66 v72 v78 v84 v90 k = ![(sl k.val).val, 0, 5632] := congrArg (fun x : ℕ => (![x, 0, 5632] : Fin 3 → ℕ)) (isl _ hk)
theorem off181 (hk : k.val < 16) : k0_off181 v0 v6 v12 v18 v24 v30 v36 v42 v48 v54 v60 v66 v72 v78 v84 v90 k = ![(sl k.val).val, 0, 5760] := congrArg (fun x : ℕ => (![x, 0, 5760] : Fin 3 → ℕ)) (isl _ hk)
theorem off182 (hk : k.val < 16) : k0_off182 v0 v6 v12 v18 v24 v30 v36 v42 v48 v54 v60 v66 v72 v78 v84 v90 k = ![(sl k.val).val, 5888, 0] := congrArg (fun x : ℕ => (![x, 5888, 0] : Fin 3 → ℕ)) (isl _ hk)
theorem off183 (hk : k.val < 16) : k0_off183 v0 v6 v12 v18 v24 v30 v36 v42 v48 v54 v60 v66 v72 v78 v84 v90 k = ![(sl k.val).val, 0, 5888] := congrArg (fun x : ℕ => (![x, 0, 5888] : Fin 3 → ℕ)) (isl _ hk)
theorem off184 (hk : k.val < 16) : k0_off184 v0 v6 v12 v18 v24 v30 v36 v42 v48 v54 v60 v66 v72 v78 v84 v90 k = ![(sl k.val).val, 0, 6016] := congrArg (fun x : ℕ => (![x, 0, 6016] : Fin 3 → ℕ)) (isl _ hk)
theorem off185 (hk : k.val + 2 < 16) : k0_off185 v0 v6 v12 v18 v24 v30 v36 v42 v48 v54 v60 v66 v72 v78 v84 v90 k = ![(p16 (k.val + 2)).val] := congrArg (fun x : ℕ => (![x] : Fin 1 → ℕ)) (ip2 _ hk)
theorem off186 (hk : k.val < 16) : k0_off186 v0 v6 v12 v18 v24 v30 v36 v42 v48 v54 v60 v66 v72 v78 v84 v90 k = ![(sl k.val).val, 5] := congrArg (fun x : ℕ => (![x, 5] : Fin 2 → ℕ)) (wsl _ hk)
theorem off187 (hk : k.val < 16) : k0_off187 v0 v6 v12 v18 v24 v30 v36 v42 v48 v54 v60 v66 v72 v78 v84 v90 k = ![(sl k.val).val, 5120, 0] := congrArg (fun x : ℕ => (![x, 5120, 0] : Fin 3 → ℕ)) (wsl _ hk)
theorem off189 (hk : k.val < 16) : k0_off189 v0 v6 v12 v18 v24 v30 v36 v42 v48 v54 v60 v66 v72 v78 v84 v90 k = ![(p16 k.val).val] := congrArg (fun x : ℕ => (![x] : Fin 1 → ℕ)) (ik _ hk)
theorem off190 (hk : k.val < 16) : k0_off190 v0 v6 v12 v18 v24 v30 v36 v42 v48 v54 v60 v66 v72 v78 v84 v90 k = ![(sl k.val).val, 6] := congrArg (fun x : ℕ => (![x, 6] : Fin 2 → ℕ)) (wsl _ hk)
theorem off191 (hk : k.val < 16) : k0_off191 v0 v6 v12 v18 v24 v30 v36 v42 v48 v54 v60 v66 v72 v78 v84 v90 k = ![(sl k.val).val, 6144, 0] := congrArg (fun x : ℕ => (![x, 6144, 0] : Fin 3 → ℕ)) (wsl _ hk)
theorem off193 (hk : k.val < 16) : k0_off193 v0 v6 v12 v18 v24 v30 v36 v42 v48 v54 v60 v66 v72 v78 v84 v90 k = ![(sl k.val).val, 6144, 0] := congrArg (fun x : ℕ => (![x, 6144, 0] : Fin 3 → ℕ)) (isl _ hk)
theorem off194 (hk : k.val < 16) : k0_off194 v0 v6 v12 v18 v24 v30 v36 v42 v48 v54 v60 v66 v72 v78 v84 v90 k = ![(sl k.val).val, 0, 6144] := congrArg (fun x : ℕ => (![x, 0, 6144] : Fin 3 → ℕ)) (isl _ hk)
theorem off195 (hk : k.val < 16) : k0_off195 v0 v6 v12 v18 v24 v30 v36 v42 v48 v54 v60 v66 v72 v78 v84 v90 k = ![(sl k.val).val, 0, 6272] := congrArg (fun x : ℕ => (![x, 0, 6272] : Fin 3 → ℕ)) (isl _ hk)
theorem off196 (hk : k.val < 16) : k0_off196 v0 v6 v12 v18 v24 v30 v36 v42 v48 v54 v60 v66 v72 v78 v84 v90 k = ![(sl k.val).val, 6400, 0] := congrArg (fun x : ℕ => (![x, 6400, 0] : Fin 3 → ℕ)) (isl _ hk)
theorem off197 (hk : k.val < 16) : k0_off197 v0 v6 v12 v18 v24 v30 v36 v42 v48 v54 v60 v66 v72 v78 v84 v90 k = ![(sl k.val).val, 0, 6400] := congrArg (fun x : ℕ => (![x, 0, 6400] : Fin 3 → ℕ)) (isl _ hk)
theorem off198 (hk : k.val < 16) : k0_off198 v0 v6 v12 v18 v24 v30 v36 v42 v48 v54 v60 v66 v72 v78 v84 v90 k = ![(sl k.val).val, 0, 6528] := congrArg (fun x : ℕ => (![x, 0, 6528] : Fin 3 → ℕ)) (isl _ hk)
theorem off199 (hk : k.val < 16) : k0_off199 v0 v6 v12 v18 v24 v30 v36 v42 v48 v54 v60 v66 v72 v78 v84 v90 k = ![(sl k.val).val, 6656, 0] := congrArg (fun x : ℕ => (![x, 6656, 0] : Fin 3 → ℕ)) (isl _ hk)
theorem off200 (hk : k.val < 16) : k0_off200 v0 v6 v12 v18 v24 v30 v36 v42 v48 v54 v60 v66 v72 v78 v84 v90 k = ![(sl k.val).val, 0, 6656] := congrArg (fun x : ℕ => (![x, 0, 6656] : Fin 3 → ℕ)) (isl _ hk)
theorem off201 (hk : k.val < 16) : k0_off201 v0 v6 v12 v18 v24 v30 v36 v42 v48 v54 v60 v66 v72 v78 v84 v90 k = ![(sl k.val).val, 0, 6784] := congrArg (fun x : ℕ => (![x, 0, 6784] : Fin 3 → ℕ)) (isl _ hk)
theorem off202 (hk : k.val < 16) : k0_off202 v0 v6 v12 v18 v24 v30 v36 v42 v48 v54 v60 v66 v72 v78 v84 v90 k = ![(sl k.val).val, 6912, 0] := congrArg (fun x : ℕ => (![x, 6912, 0] : Fin 3 → ℕ)) (isl _ hk)
theorem off203 (hk : k.val < 16) : k0_off203 v0 v6 v12 v18 v24 v30 v36 v42 v48 v54 v60 v66 v72 v78 v84 v90 k = ![(sl k.val).val, 0, 6912] := congrArg (fun x : ℕ => (![x, 0, 6912] : Fin 3 → ℕ)) (isl _ hk)
theorem off204 (hk : k.val < 16) : k0_off204 v0 v6 v12 v18 v24 v30 v36 v42 v48 v54 v60 v66 v72 v78 v84 v90 k = ![(sl k.val).val, 0, 7040] := congrArg (fun x : ℕ => (![x, 0, 7040] : Fin 3 → ℕ)) (isl _ hk)
theorem off205 (hk : k.val + 2 < 16) : k0_off205 v0 v6 v12 v18 v24 v30 v36 v42 v48 v54 v60 v66 v72 v78 v84 v90 k = ![(p16 (k.val + 2)).val] := congrArg (fun x : ℕ => (![x] : Fin 1 → ℕ)) (ip2 _ hk)
theorem off206 (hk : k.val < 16) : k0_off206 v0 v6 v12 v18 v24 v30 v36 v42 v48 v54 v60 v66 v72 v78 v84 v90 k = ![(sl k.val).val, 6] := congrArg (fun x : ℕ => (![x, 6] : Fin 2 → ℕ)) (wsl _ hk)
theorem off207 (hk : k.val < 16) : k0_off207 v0 v6 v12 v18 v24 v30 v36 v42 v48 v54 v60 v66 v72 v78 v84 v90 k = ![(sl k.val).val, 6144, 0] := congrArg (fun x : ℕ => (![x, 6144, 0] : Fin 3 → ℕ)) (wsl _ hk)
theorem off209 (hk : k.val < 16) : k0_off209 v0 v6 v12 v18 v24 v30 v36 v42 v48 v54 v60 v66 v72 v78 v84 v90 k = ![(p16 k.val).val] := congrArg (fun x : ℕ => (![x] : Fin 1 → ℕ)) (ik _ hk)
theorem off210 (hk : k.val < 16) : k0_off210 v0 v6 v12 v18 v24 v30 v36 v42 v48 v54 v60 v66 v72 v78 v84 v90 k = ![(sl k.val).val] := congrArg (fun x : ℕ => (![x] : Fin 1 → ℕ)) (wsl _ hk)
theorem off212 (hk : k.val < 16) : k0_off212 v0 v6 v12 v18 v24 v30 v36 v42 v48 v54 v60 v66 v72 v78 v84 v90 k = ![(sl k.val).val, 0, 0] := congrArg (fun x : ℕ => (![x, 0, 0] : Fin 3 → ℕ)) (wsl _ hk)
theorem cond35 (hk : k.val < 16) : k0_cond35 v0 v6 v12 v18 v24 v30 v36 v42 v48 v54 v60 v66 v72 v78 v84 v90 k = 1#1 ↔ 2 ≤ k.val := ge2 _ hk
theorem cond36 {n : ℕ} (hk : k.val < 16) (hn : n ≤ 16) (hN : NW v0 v6 v12 v18 v24 v30 v36 v42 v48 v54 v60 v66 v72 v78 v84 v90 = BitVec.ofNat 32 n) : k0_cond36 v0 v6 v12 v18 v24 v30 v36 v42 v48 v54 v60 v66 v72 v78 v84 v90 k = 1#1 ↔ k.val + 2 < n := by
  have h := lt2 k.val n hk hn
  rw [← hN] at h
  exact h
theorem cond37 {n : ℕ} (hk : k.val < 16) (hn : n ≤ 16) (hN : NW v0 v6 v12 v18 v24 v30 v36 v42 v48 v54 v60 v66 v72 v78 v84 v90 = BitVec.ofNat 32 n) : k0_cond37 v0 v6 v12 v18 v24 v30 v36 v42 v48 v54 v60 v66 v72 v78 v84 v90 k = 1#1 ↔ k.val + 2 < n := by
  have h := lt2 k.val n hk hn
  rw [← hN] at h
  exact h
theorem cond38 {n : ℕ} (hk : k.val < 16) (hn : n ≤ 16) (hN : NW v0 v6 v12 v18 v24 v30 v36 v42 v48 v54 v60 v66 v72 v78 v84 v90 = BitVec.ofNat 32 n) : k0_cond38 v0 v6 v12 v18 v24 v30 v36 v42 v48 v54 v60 v66 v72 v78 v84 v90 k = 1#1 ↔ k.val + 2 < n := by
  have h := lt2 k.val n hk hn
  rw [← hN] at h
  exact h
theorem cond39 {n : ℕ} (hk : k.val < 16) (hn : n ≤ 16) (hN : NW v0 v6 v12 v18 v24 v30 v36 v42 v48 v54 v60 v66 v72 v78 v84 v90 = BitVec.ofNat 32 n) : k0_cond39 v0 v6 v12 v18 v24 v30 v36 v42 v48 v54 v60 v66 v72 v78 v84 v90 k = 1#1 ↔ k.val + 2 < n := by
  have h := lt2 k.val n hk hn
  rw [← hN] at h
  exact h
theorem cond40 {n : ℕ} (hk : k.val < 16) (hn : n ≤ 16) (hN : NW v0 v6 v12 v18 v24 v30 v36 v42 v48 v54 v60 v66 v72 v78 v84 v90 = BitVec.ofNat 32 n) : k0_cond40 v0 v6 v12 v18 v24 v30 v36 v42 v48 v54 v60 v66 v72 v78 v84 v90 k = 1#1 ↔ k.val + 2 < n := by
  have h := lt2 k.val n hk hn
  rw [← hN] at h
  exact h
theorem cond41 {n : ℕ} (hk : k.val < 16) (hn : n ≤ 16) (hN : NW v0 v6 v12 v18 v24 v30 v36 v42 v48 v54 v60 v66 v72 v78 v84 v90 = BitVec.ofNat 32 n) : k0_cond41 v0 v6 v12 v18 v24 v30 v36 v42 v48 v54 v60 v66 v72 v78 v84 v90 k = 1#1 ↔ k.val + 2 < n := by
  have h := lt2 k.val n hk hn
  rw [← hN] at h
  exact h
theorem cond42 {n : ℕ} (hk : k.val < 16) (hn : n ≤ 16) (hN : NW v0 v6 v12 v18 v24 v30 v36 v42 v48 v54 v60 v66 v72 v78 v84 v90 = BitVec.ofNat 32 n) : k0_cond42 v0 v6 v12 v18 v24 v30 v36 v42 v48 v54 v60 v66 v72 v78 v84 v90 k = 1#1 ↔ k.val + 2 < n := by
  have h := lt2 k.val n hk hn
  rw [← hN] at h
  exact h
theorem cond43 {n : ℕ} (hk : k.val < 16) (hn : n ≤ 16) (hN : NW v0 v6 v12 v18 v24 v30 v36 v42 v48 v54 v60 v66 v72 v78 v84 v90 = BitVec.ofNat 32 n) : k0_cond43 v0 v6 v12 v18 v24 v30 v36 v42 v48 v54 v60 v66 v72 v78 v84 v90 k = 1#1 ↔ k.val + 2 < n := by
  have h := lt2 k.val n hk hn
  rw [← hN] at h
  exact h
end trip

theorem off16 (e : Fin 16) : k0_off16 (BitVec.ofNat 32 e.val) = ![e.val, 0, 0] := by revert e; decide
theorem off17 (e : Fin 16) : k0_off17 (BitVec.ofNat 32 e.val) = ![e.val, 0, 0] := by revert e; decide
theorem off18 (e : Fin 16) : k0_off18 (BitVec.ofNat 32 e.val) = ![e.val, 0, 0] := by revert e; decide
theorem off19 (e : Fin 16) : k0_off19 (BitVec.ofNat 32 e.val) = ![e.val, 1024, 0] := by revert e; decide
theorem off20 (e : Fin 16) : k0_off20 (BitVec.ofNat 32 e.val) = ![e.val, 2048, 0] := by revert e; decide
theorem off21 (e : Fin 16) : k0_off21 (BitVec.ofNat 32 e.val) = ![e.val, 3072, 0] := by revert e; decide
theorem off22 (e : Fin 16) : k0_off22 (BitVec.ofNat 32 e.val) = ![e.val, 4096, 0] := by revert e; decide
theorem off23 (e : Fin 16) : k0_off23 (BitVec.ofNat 32 e.val) = ![e.val, 5120, 0] := by revert e; decide
theorem off24 (e : Fin 16) : k0_off24 (BitVec.ofNat 32 e.val) = ![e.val, 6144, 0] := by revert e; decide
theorem off25 (e : Fin 16) : k0_off25 (BitVec.ofNat 32 e.val) = ![e.val, 0, 0] := by revert e; decide
theorem off26 (e : Fin 16) : k0_off26 (BitVec.ofNat 32 e.val) = ![e.val, 0, 0] := by revert e; decide
theorem off27 (e : Fin 16) : k0_off27 (BitVec.ofNat 32 e.val) = ![e.val, 0, 0] := by revert e; decide
theorem off28 (e : Fin 16) : k0_off28 (BitVec.ofNat 32 e.val) = ![e.val, 1024, 0] := by revert e; decide
theorem off29 (e : Fin 16) : k0_off29 (BitVec.ofNat 32 e.val) = ![e.val, 2048, 0] := by revert e; decide
theorem off30 (e : Fin 16) : k0_off30 (BitVec.ofNat 32 e.val) = ![e.val, 3072, 0] := by revert e; decide
theorem off31 (e : Fin 16) : k0_off31 (BitVec.ofNat 32 e.val) = ![e.val, 4096, 0] := by revert e; decide
theorem off32 (e : Fin 16) : k0_off32 (BitVec.ofNat 32 e.val) = ![e.val, 5120, 0] := by revert e; decide
theorem off33 (e : Fin 16) : k0_off33 (BitVec.ofNat 32 e.val) = ![e.val, 6144, 0] := by revert e; decide
theorem off35 (e : Fin 16) : k0_off35 (BitVec.ofNat 32 e.val) = ![e.val] := by revert e; decide
theorem off39 (e : Fin 16) : k0_off39 (BitVec.ofNat 32 e.val) = ![e.val, 0, 0] := by revert e; decide
theorem off43 (e : Fin 16) : k0_off43 (BitVec.ofNat 32 e.val) = ![e.val, 0, 0] := by revert e; decide
theorem off59 (e : Fin 16) : k0_off59 (BitVec.ofNat 32 e.val) = ![e.val, 0, 0] := by revert e; decide
theorem off64 (e : Fin 16) : k0_off64 (BitVec.ofNat 32 e.val) = ![e.val, 0, 0] := by revert e; decide
theorem off68 (e : Fin 16) : k0_off68 (BitVec.ofNat 32 e.val) = ![e.val, 0, 0] := by revert e; decide
theorem off72 (e : Fin 16) : k0_off72 (BitVec.ofNat 32 e.val) = ![e.val, 0, 0] := by revert e; decide
theorem off88 (e : Fin 16) : k0_off88 (BitVec.ofNat 32 e.val) = ![e.val, 0, 0] := by revert e; decide
theorem off92 (e : Fin 16) : k0_off92 (BitVec.ofNat 32 e.val) = ![e.val, 1024, 0] := by revert e; decide
theorem off108 (e : Fin 16) : k0_off108 (BitVec.ofNat 32 e.val) = ![e.val, 1024, 0] := by revert e; decide
theorem off112 (e : Fin 16) : k0_off112 (BitVec.ofNat 32 e.val) = ![e.val, 2048, 0] := by revert e; decide
theorem off128 (e : Fin 16) : k0_off128 (BitVec.ofNat 32 e.val) = ![e.val, 2048, 0] := by revert e; decide
theorem off132 (e : Fin 16) : k0_off132 (BitVec.ofNat 32 e.val) = ![e.val, 3072, 0] := by revert e; decide
theorem off148 (e : Fin 16) : k0_off148 (BitVec.ofNat 32 e.val) = ![e.val, 3072, 0] := by revert e; decide
theorem off152 (e : Fin 16) : k0_off152 (BitVec.ofNat 32 e.val) = ![e.val, 4096, 0] := by revert e; decide
theorem off168 (e : Fin 16) : k0_off168 (BitVec.ofNat 32 e.val) = ![e.val, 4096, 0] := by revert e; decide
theorem off172 (e : Fin 16) : k0_off172 (BitVec.ofNat 32 e.val) = ![e.val, 5120, 0] := by revert e; decide
theorem off188 (e : Fin 16) : k0_off188 (BitVec.ofNat 32 e.val) = ![e.val, 5120, 0] := by revert e; decide
theorem off192 (e : Fin 16) : k0_off192 (BitVec.ofNat 32 e.val) = ![e.val, 6144, 0] := by revert e; decide
theorem off208 (e : Fin 16) : k0_off208 (BitVec.ofNat 32 e.val) = ![e.val, 6144, 0] := by revert e; decide
theorem off211 (e : Fin 16) : k0_off211 (BitVec.ofNat 32 e.val) = ![e.val, 0, 0] := by revert e; decide
theorem chk34 (e : Fin 16) : k0_chk34 (BitVec.ofNat 32 e.val) := by revert e; decide
theorem chk35 (e : Fin 16) : k0_chk35 (BitVec.ofNat 32 e.val) := by revert e; decide
theorem chk36 (e : Fin 16) : k0_chk36 (BitVec.ofNat 32 e.val) := by revert e; decide
theorem chk37 {v0 v6 v12 v18 v24 v30 v36 v42 v48 v54 v60 v66 v72 v78 v84 v90 : BitVec 32} (k : Fin (k0_t1_loop v0 v6 v12 v18 v24 v30 v36 v42 v48 v54 v60 v66 v72 v78 v84 v90).trips) (e : Fin 16) : k0_chk37 v0 v6 v12 v18 v24 v30 v36 v42 v48 v54 v60 v66 v72 v78 v84 v90 k (BitVec.ofNat 32 e.val) := ⟨fun _ => by revert e; decide, fun _ => by revert e; decide⟩
theorem chk38 {v0 v6 v12 v18 v24 v30 v36 v42 v48 v54 v60 v66 v72 v78 v84 v90 : BitVec 32} (k : Fin (k0_t1_loop v0 v6 v12 v18 v24 v30 v36 v42 v48 v54 v60 v66 v72 v78 v84 v90).trips) (e : Fin 16) : k0_chk38 v0 v6 v12 v18 v24 v30 v36 v42 v48 v54 v60 v66 v72 v78 v84 v90 k (BitVec.ofNat 32 e.val) := ⟨fun _ => by revert e; decide, fun _ => by revert e; decide⟩
theorem chk39 {v0 v6 v12 v18 v24 v30 v36 v42 v48 v54 v60 v66 v72 v78 v84 v90 : BitVec 32} (k : Fin (k0_t1_loop v0 v6 v12 v18 v24 v30 v36 v42 v48 v54 v60 v66 v72 v78 v84 v90).trips) (e : Fin 16) : k0_chk39 v0 v6 v12 v18 v24 v30 v36 v42 v48 v54 v60 v66 v72 v78 v84 v90 k (BitVec.ofNat 32 e.val) := fun _ => by revert e; decide
theorem chk40 (e : Fin 16) : k0_chk40 (BitVec.ofNat 32 e.val) := by revert e; decide
theorem chk41 {v0 v6 v12 v18 v24 v30 v36 v42 v48 v54 v60 v66 v72 v78 v84 v90 : BitVec 32} (k : Fin (k0_t1_loop v0 v6 v12 v18 v24 v30 v36 v42 v48 v54 v60 v66 v72 v78 v84 v90).trips) (e : Fin 16) : k0_chk41 v0 v6 v12 v18 v24 v30 v36 v42 v48 v54 v60 v66 v72 v78 v84 v90 k (BitVec.ofNat 32 e.val) := ⟨fun _ => by revert e; decide, fun _ => by revert e; decide⟩
theorem chk42 (e : Fin 16) : k0_chk42 (BitVec.ofNat 32 e.val) := by revert e; decide
theorem chk43 {v0 v6 v12 v18 v24 v30 v36 v42 v48 v54 v60 v66 v72 v78 v84 v90 : BitVec 32} (k : Fin (k0_t1_loop v0 v6 v12 v18 v24 v30 v36 v42 v48 v54 v60 v66 v72 v78 v84 v90).trips) (e : Fin 16) : k0_chk43 v0 v6 v12 v18 v24 v30 v36 v42 v48 v54 v60 v66 v72 v78 v84 v90 k (BitVec.ofNat 32 e.val) := ⟨fun _ => by revert e; decide, fun _ => by revert e; decide⟩
theorem chk44 (e : Fin 16) : k0_chk44 (BitVec.ofNat 32 e.val) := by revert e; decide
theorem chk45 {v0 v6 v12 v18 v24 v30 v36 v42 v48 v54 v60 v66 v72 v78 v84 v90 : BitVec 32} (k : Fin (k0_t1_loop v0 v6 v12 v18 v24 v30 v36 v42 v48 v54 v60 v66 v72 v78 v84 v90).trips) (e : Fin 16) : k0_chk45 v0 v6 v12 v18 v24 v30 v36 v42 v48 v54 v60 v66 v72 v78 v84 v90 k (BitVec.ofNat 32 e.val) := ⟨fun _ => by revert e; decide, fun _ => by revert e; decide⟩
theorem chk46 (e : Fin 16) : k0_chk46 (BitVec.ofNat 32 e.val) := by revert e; decide
theorem chk47 {v0 v6 v12 v18 v24 v30 v36 v42 v48 v54 v60 v66 v72 v78 v84 v90 : BitVec 32} (k : Fin (k0_t1_loop v0 v6 v12 v18 v24 v30 v36 v42 v48 v54 v60 v66 v72 v78 v84 v90).trips) (e : Fin 16) : k0_chk47 v0 v6 v12 v18 v24 v30 v36 v42 v48 v54 v60 v66 v72 v78 v84 v90 k (BitVec.ofNat 32 e.val) := ⟨fun _ => by revert e; decide, fun _ => by revert e; decide⟩
theorem chk48 (e : Fin 16) : k0_chk48 (BitVec.ofNat 32 e.val) := by revert e; decide
theorem chk49 {v0 v6 v12 v18 v24 v30 v36 v42 v48 v54 v60 v66 v72 v78 v84 v90 : BitVec 32} (k : Fin (k0_t1_loop v0 v6 v12 v18 v24 v30 v36 v42 v48 v54 v60 v66 v72 v78 v84 v90).trips) (e : Fin 16) : k0_chk49 v0 v6 v12 v18 v24 v30 v36 v42 v48 v54 v60 v66 v72 v78 v84 v90 k (BitVec.ofNat 32 e.val) := ⟨fun _ => by revert e; decide, fun _ => by revert e; decide⟩
theorem chk50 (e : Fin 16) : k0_chk50 (BitVec.ofNat 32 e.val) := by revert e; decide
theorem chk51 {v0 v6 v12 v18 v24 v30 v36 v42 v48 v54 v60 v66 v72 v78 v84 v90 : BitVec 32} (k : Fin (k0_t1_loop v0 v6 v12 v18 v24 v30 v36 v42 v48 v54 v60 v66 v72 v78 v84 v90).trips) (e : Fin 16) : k0_chk51 v0 v6 v12 v18 v24 v30 v36 v42 v48 v54 v60 v66 v72 v78 v84 v90 k (BitVec.ofNat 32 e.val) := ⟨fun _ => by revert e; decide, fun _ => by revert e; decide⟩
theorem chk52 (e : Fin 16) : k0_chk52 (BitVec.ofNat 32 e.val) := by revert e; decide
theorem chk53 {v0 v6 v12 v18 v24 v30 v36 v42 v48 v54 v60 v66 v72 v78 v84 v90 : BitVec 32} (k : Fin (k0_t1_loop v0 v6 v12 v18 v24 v30 v36 v42 v48 v54 v60 v66 v72 v78 v84 v90).trips) (e : Fin 16) : k0_chk53 v0 v6 v12 v18 v24 v30 v36 v42 v48 v54 v60 v66 v72 v78 v84 v90 k (BitVec.ofNat 32 e.val) := ⟨fun _ => by revert e; decide, fun _ => by revert e; decide⟩

end Cert.Proof.KernelIdeal
end
end
-- ==== Proof.KernelIdeal.Chk.lean ====
module

public import proofs.«01_k».proof.Proof.KernelIdeal.Words
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Transfers
public import Idealize.ShloMosaic.Lib.Batch
public import Idealize.ShloMosaic.Adequacy
public import Idealize.ShloMosaic.Init

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

/-- Whether a group is active: the comparison with zero, as a number. -/
def bit (v : BitVec 32) : ℕ := (Scalar.cmpi .sgt v 0#32).toNat
theorem bit_le (v : BitVec 32) : bit v ≤ 1 := Nat.le_of_lt_succ (Scalar.cmpi .sgt v 0#32).isLt
theorem extui_bit (v : BitVec 32) : (Scalar.extui (Scalar.cmpi .sgt v 0#32) : BitVec 32) = BitVec.ofNat 32 (bit v) := by
  unfold bit
  generalize Scalar.cmpi .sgt v 0#32 = b
  revert b; decide
theorem cond_bit (v : BitVec 32) : (Scalar.cmpi .ne (Scalar.extui (Scalar.cmpi .sgt v 0#32) : BitVec 32) 0#32 = 1#1) ↔ bit v = 1 := by
  unfold bit
  generalize Scalar.cmpi .sgt v 0#32 = b
  revert b; decide
/-- How many of the first `m` groups are active. -/
def cnt (g : ℕ → BitVec 32) : ℕ → ℕ
  | 0 => 0
  | m + 1 => cnt g m + bit (g m)
/-- The same count, as the kernel adds it up in words. -/
def pre (g : ℕ → BitVec 32) : ℕ → BitVec 32
  | 0 => 0#32
  | m + 1 => Scalar.addi (pre g m) (Scalar.extui (Scalar.cmpi .sgt (g m) 0#32))
theorem pre_eq (g : ℕ → BitVec 32) (m : ℕ) : pre g m = BitVec.ofNat 32 (cnt g m) := by
  induction m with
  | zero => rfl
  | succ m ih =>
    rw [pre, ih, extui_bit, cnt]
    exact (BitVec.ofNat_add _ _).symm
theorem cnt_le (g : ℕ → BitVec 32) (m : ℕ) : cnt g m ≤ m := by
  induction m with
  | zero => exact le_refl _
  | succ m ih => have := bit_le (g m); rw [cnt]; omega
theorem NW_eq (g : ℕ → BitVec 32) : NW (g 0) (g 1) (g 2) (g 3) (g 4) (g 5) (g 6) (g 7) (g 8) (g 9) (g 10) (g 11) (g 12) (g 13) (g 14) (g 15) = BitVec.ofNat 32 (cnt g 16) := pre_eq g 16
theorem ofNat16 (m : ℕ) (h : m < 16) : (Scalar.indexCast (BitVec.ofNat 32 m)).toNat = (p16 m).val :=
  (by decide : ∀ m : Fin 16, (Scalar.indexCast (BitVec.ofNat 32 m.val)).toNat = (p16 m.val).val) ⟨m, h⟩
theorem ipre (g : ℕ → BitVec 32) (m : ℕ) (h : m < 16) : (Scalar.indexCast (pre g m)).toNat = (p16 (cnt g m)).val := by
  rw [pre_eq]; exact ofNat16 _ (lt_of_le_of_lt (cnt_le g m) h)

private theorem all17 {P : ℕ → Prop} (h : ∀ k : Fin 17, P k.val) (k : ℕ) (hk : k ≤ 16) : P k := h ⟨k, by omega⟩

section
variable {v0 v6 v12 v18 v24 v30 v36 v42 v48 v54 v60 v66 v72 v78 v84 v90 : BitVec 32} {n : ℕ} (hn : n ≤ 16) (hN : NW v0 v6 v12 v18 v24 v30 v36 v42 v48 v54 v60 v66 v72 v78 v84 v90 = BitVec.ofNat 32 n)
include hn hN
theorem trips1 : (k0_t1_loop v0 v6 v12 v18 v24 v30 v36 v42 v48 v54 v60 v66 v72 v78 v84 v90).trips = n := by
  show Scf.trips 0#32 (Scalar.addi 0#32 (Scalar.muli (Scalar.divsi (Scalar.subi (NW v0 v6 v12 v18 v24 v30 v36 v42 v48 v54 v60 v66 v72 v78 v84 v90) 0#32) 1#32) 1#32)) 1#32 = n
  rw [hN]
  exact all17 (P := fun n => Scf.trips 0#32 (Scalar.addi 0#32 (Scalar.muli (Scalar.divsi (Scalar.subi (BitVec.ofNat 32 n) 0#32) 1#32) 1#32)) 1#32 = n) (by decide) n hn
theorem ok1 : (k0_t1_loop v0 v6 v12 v18 v24 v30 v36 v42 v48 v54 v60 v66 v72 v78 v84 v90).OK := by
  show Scf.OK 0#32 (Scalar.addi 0#32 (Scalar.muli (Scalar.divsi (Scalar.subi (NW v0 v6 v12 v18 v24 v30 v36 v42 v48 v54 v60 v66 v72 v78 v84 v90) 0#32) 1#32) 1#32)) 1#32
  rw [hN]
  exact all17 (P := fun n => Scf.OK 0#32 (Scalar.addi 0#32 (Scalar.muli (Scalar.divsi (Scalar.subi (BitVec.ofNat 32 n) 0#32) 1#32) 1#32)) 1#32) (by decide) n hn
theorem trips2 : (k0_t2_loop v0 v6 v12 v18 v24 v30 v36 v42 v48 v54 v60 v66 v72 v78 v84 v90).trips = 0 := by
  show Scf.trips (Scalar.addi 0#32 (Scalar.muli (Scalar.divsi (Scalar.subi (NW v0 v6 v12 v18 v24 v30 v36 v42 v48 v54 v60 v66 v72 v78 v84 v90) 0#32) 1#32) 1#32)) (Scalar.addi 0#32 (Scalar.subi (NW v0 v6 v12 v18 v24 v30 v36 v42 v48 v54 v60 v66 v72 v78 v84 v90) 0#32)) 1#32 = 0
  rw [hN]
  exact all17 (P := fun n => Scf.trips (Scalar.addi 0#32 (Scalar.muli (Scalar.divsi (Scalar.subi (BitVec.ofNat 32 n) 0#32) 1#32) 1#32)) (Scalar.addi 0#32 (Scalar.subi (BitVec.ofNat 32 n) 0#32)) 1#32 = 0) (by decide) n hn
theorem ok2 : (k0_t2_loop v0 v6 v12 v18 v24 v30 v36 v42 v48 v54 v60 v66 v72 v78 v84 v90).OK := by
  show Scf.OK (Scalar.addi 0#32 (Scalar.muli (Scalar.divsi (Scalar.subi (NW v0 v6 v12 v18 v24 v30 v36 v42 v48 v54 v60 v66 v72 v78 v84 v90) 0#32) 1#32) 1#32)) (Scalar.addi 0#32 (Scalar.subi (NW v0 v6 v12 v18 v24 v30 v36 v42 v48 v54 v60 v66 v72 v78 v84 v90) 0#32)) 1#32
  rw [hN]
  exact all17 (P := fun n => Scf.OK (Scalar.addi 0#32 (Scalar.muli (Scalar.divsi (Scalar.subi (BitVec.ofNat 32 n) 0#32) 1#32) 1#32)) (Scalar.addi 0#32 (Scalar.subi (BitVec.ofNat 32 n) 0#32)) 1#32) (by decide) n hn

theorem cond17 : k0_cond17 v0 v6 v12 v18 v24 v30 v36 v42 v48 v54 v60 v66 v72 v78 v84 v90 = 1#1 ↔ 0 < n := by
  show (Scalar.cmpi .ne (Scalar.extui (Scalar.cmpi .sgt (NW v0 v6 v12 v18 v24 v30 v36 v42 v48 v54 v60 v66 v72 v78 v84 v90) 0#32) : BitVec 32) 0#32 = 1#1) ↔ _
  rw [hN]
  exact all17 (P := fun n => (Scalar.cmpi .ne (Scalar.extui (Scalar.cmpi .sgt (BitVec.ofNat 32 n) 0#32) : BitVec 32) 0#32 = 1#1) ↔ 0 < n) (by decide) n hn
theorem cond18 : k0_cond18 v0 v6 v12 v18 v24 v30 v36 v42 v48 v54 v60 v66 v72 v78 v84 v90 = 1#1 ↔ 1 < n := by
  show (Scalar.cmpi .ne (Scalar.extui (Scalar.cmpi .sgt (NW v0 v6 v12 v18 v24 v30 v36 v42 v48 v54 v60 v66 v72 v78 v84 v90) 1#32) : BitVec 32) 0#32 = 1#1) ↔ _
  rw [hN]
  exact all17 (P := fun n => (Scalar.cmpi .ne (Scalar.extui (Scalar.cmpi .sgt (BitVec.ofNat 32 n) 1#32) : BitVec 32) 0#32 = 1#1) ↔ 1 < n) (by decide) n hn
theorem cond69 : k0_cond69 v0 v6 v12 v18 v24 v30 v36 v42 v48 v54 v60 v66 v72 v78 v84 v90 = 1#1 ↔ 0 < n := by
  show (Scalar.cmpi .ne (Scalar.extui (Scalar.cmpi .sgt (NW v0 v6 v12 v18 v24 v30 v36 v42 v48 v54 v60 v66 v72 v78 v84 v90) 0#32) : BitVec 32) 0#32 = 1#1) ↔ _
  rw [hN]
  exact all17 (P := fun n => (Scalar.cmpi .ne (Scalar.extui (Scalar.cmpi .sgt (BitVec.ofNat 32 n) 0#32) : BitVec 32) 0#32 = 1#1) ↔ 0 < n) (by decide) n hn
theorem cond70 : k0_cond70 v0 v6 v12 v18 v24 v30 v36 v42 v48 v54 v60 v66 v72 v78 v84 v90 = 1#1 ↔ 1 < n := by
  show (Scalar.cmpi .ne (Scalar.extui (Scalar.cmpi .sgt (NW v0 v6 v12 v18 v24 v30 v36 v42 v48 v54 v60 v66 v72 v78 v84 v90) 1#32) : BitVec 32) 0#32 = 1#1) ↔ _
  rw [hN]
  exact all17 (P := fun n => (Scalar.cmpi .ne (Scalar.extui (Scalar.cmpi .sgt (BitVec.ofNat 32 n) 1#32) : BitVec 32) 0#32 = 1#1) ↔ 1 < n) (by decide) n hn
theorem off392 (h : 0 < n) : k0_off392 v0 v6 v12 v18 v24 v30 v36 v42 v48 v54 v60 v66 v72 v78 v84 v90 = ![(p16 (n - 1)).val] := by
  show ![(Scalar.indexCast (Scalar.subi (Scalar.subi (NW v0 v6 v12 v18 v24 v30 v36 v42 v48 v54 v60 v66 v72 v78 v84 v90) 1#32) 0#32)).toNat] = _
  rw [hN, all17 (P := fun n => 0 < n → (Scalar.indexCast (Scalar.subi (Scalar.subi (BitVec.ofNat 32 n) 1#32) 0#32)).toNat = (p16 (n - 1)).val) (by decide) n hn h]
theorem off393 (h : 0 < n) : k0_off393 v0 v6 v12 v18 v24 v30 v36 v42 v48 v54 v60 v66 v72 v78 v84 v90 = ![(sl (n - 1)).val] := by
  show ![(Scalar.remsi (Scalar.subi (Scalar.subi (NW v0 v6 v12 v18 v24 v30 v36 v42 v48 v54 v60 v66 v72 v78 v84 v90) 1#32) 0#32) 2#32).toNat] = _
  rw [hN, all17 (P := fun n => 0 < n → (Scalar.remsi (Scalar.subi (Scalar.subi (BitVec.ofNat 32 n) 1#32) 0#32) 2#32).toNat = (sl (n - 1)).val) (by decide) n hn h]
theorem off395 (h : 0 < n) : k0_off395 v0 v6 v12 v18 v24 v30 v36 v42 v48 v54 v60 v66 v72 v78 v84 v90 = ![(sl (n - 1)).val, 0, 0] := by
  show ![(Scalar.remsi (Scalar.subi (Scalar.subi (NW v0 v6 v12 v18 v24 v30 v36 v42 v48 v54 v60 v66 v72 v78 v84 v90) 1#32) 0#32) 2#32).toNat, 0, 0] = _
  rw [hN, all17 (P := fun n => 0 < n → (Scalar.remsi (Scalar.subi (Scalar.subi (BitVec.ofNat 32 n) 1#32) 0#32) 2#32).toNat = (sl (n - 1)).val) (by decide) n hn h]
theorem off396 (h : 1 < n) : k0_off396 v0 v6 v12 v18 v24 v30 v36 v42 v48 v54 v60 v66 v72 v78 v84 v90 = ![(p16 (n - 2)).val] := by
  show ![(Scalar.indexCast (Scalar.subi (Scalar.subi (NW v0 v6 v12 v18 v24 v30 v36 v42 v48 v54 v60 v66 v72 v78 v84 v90) 1#32) 1#32)).toNat] = _
  rw [hN, all17 (P := fun n => 1 < n → (Scalar.indexCast (Scalar.subi (Scalar.subi (BitVec.ofNat 32 n) 1#32) 1#32)).toNat = (p16 (n - 2)).val) (by decide) n hn h]
theorem off397 (h : 1 < n) : k0_off397 v0 v6 v12 v18 v24 v30 v36 v42 v48 v54 v60 v66 v72 v78 v84 v90 = ![(sl (n - 2)).val] := by
  show ![(Scalar.remsi (Scalar.subi (Scalar.subi (NW v0 v6 v12 v18 v24 v30 v36 v42 v48 v54 v60 v66 v72 v78 v84 v90) 1#32) 1#32) 2#32).toNat] = _
  rw [hN, all17 (P := fun n => 1 < n → (Scalar.remsi (Scalar.subi (Scalar.subi (BitVec.ofNat 32 n) 1#32) 1#32) 2#32).toNat = (sl (n - 2)).val) (by decide) n hn h]
theorem off399 (h : 1 < n) : k0_off399 v0 v6 v12 v18 v24 v30 v36 v42 v48 v54 v60 v66 v72 v78 v84 v90 = ![(sl (n - 2)).val, 0, 0] := by
  show ![(Scalar.remsi (Scalar.subi (Scalar.subi (NW v0 v6 v12 v18 v24 v30 v36 v42 v48 v54 v60 v66 v72 v78 v84 v90) 1#32) 1#32) 2#32).toNat, 0, 0] = _
  rw [hN, all17 (P := fun n => 1 < n → (Scalar.remsi (Scalar.subi (Scalar.subi (BitVec.ofNat 32 n) 1#32) 1#32) 2#32).toNat = (sl (n - 2)).val) (by decide) n hn h]
end

section
variable {v0 v6 v12 v18 v24 v30 v36 v42 v48 v54 v60 v66 v72 v78 v84 v90 : BitVec 32} {n : ℕ} (hn : n ≤ 16) (hN : NW v0 v6 v12 v18 v24 v30 v36 v42 v48 v54 v60 v66 v72 v78 v84 v90 = BitVec.ofNat 32 n)
include hn hN
theorem klt (k : Fin (k0_t1_loop v0 v6 v12 v18 v24 v30 v36 v42 v48 v54 v60 v66 v72 v78 v84 v90).trips) : k.val < n := lt_of_lt_of_eq k.isLt (trips1 hn hN)
theorem klt16 (k : Fin (k0_t1_loop v0 v6 v12 v18 v24 v30 v36 v42 v48 v54 v60 v66 v72 v78 v84 v90).trips) : k.val < 16 := lt_of_lt_of_le (klt hn hN k) hn
theorem no2 {P : Prop} (k : Fin (k0_t2_loop v0 v6 v12 v18 v24 v30 v36 v42 v48 v54 v60 v66 v72 v78 v84 v90).trips) : P := absurd (lt_of_lt_of_eq k.isLt (trips2 hn hN)) (Nat.not_lt_zero _)

theorem chk15_0 (h15 : ∀ (k0_h16 : k0_cond16 v90 = 1#1), ∀ a, (k0_off15 v0 v6 v12 v18 v24 v30 v36 v42 v48 v54 v60 v66 v72 v78 v84) a + S1.size a ≤ S16.size a) : k0_chk15_0 v0 v6 v12 v18 v24 v30 v36 v42 v48 v54 v60 v66 v72 v78 v84 v90 := ⟨
  h15,
  ok1 hn hN,
  fun k => by rw [off34 k (klt16 hn hN k)]; generalize p16 k.val = s; revert s; decide,
  fun k => by rw [off36 k (klt16 hn hN k)]; generalize p16 k.val = s; revert s; decide,
  fun k => by rw [off37 k (klt16 hn hN k)]; generalize sl k.val = s; revert s; decide,
  fun k => by rw [off38 k (klt16 hn hN k)]; generalize sl k.val = s; revert s; decide,
  fun k => by rw [off38 k (klt16 hn hN k)]; generalize sl k.val = s; revert s; decide,
  fun k => by rw [off40 k (klt16 hn hN k)]; generalize p16 k.val = s; revert s; decide,
  fun k => by rw [off41 k (klt16 hn hN k)]; generalize sl k.val = s; revert s; decide,
  fun k => by rw [off42 k (klt16 hn hN k)]; generalize sl k.val = s; revert s; decide,
  fun k => by rw [off44 k (klt16 hn hN k)]; generalize sl k.val = s; revert s; decide,
  fun k => by rw [off45 k (klt16 hn hN k)]; generalize sl k.val = s; revert s; decide,
  fun k => by rw [off46 k (klt16 hn hN k)]; generalize sl k.val = s; revert s; decide,
  fun k => by rw [off47 k (klt16 hn hN k)]; generalize sl k.val = s; revert s; decide,
  fun k => by rw [off48 k (klt16 hn hN k)]; generalize sl k.val = s; revert s; decide,
  fun k => by rw [off49 k (klt16 hn hN k)]; generalize sl k.val = s; revert s; decide,
  fun k => by rw [off50 k (klt16 hn hN k)]; generalize sl k.val = s; revert s; decide,
  fun k => by rw [off51 k (klt16 hn hN k)]; generalize sl k.val = s; revert s; decide,
  fun k => by rw [off52 k (klt16 hn hN k)]; generalize sl k.val = s; revert s; decide,
  fun k => by rw [off53 k (klt16 hn hN k)]; generalize sl k.val = s; revert s; decide,
  fun k => by rw [off54 k (klt16 hn hN k)]; generalize sl k.val = s; revert s; decide,
  fun k => by rw [off55 k (klt16 hn hN k)]; generalize sl k.val = s; revert s; decide,
  fun k => by rw [off56 k (klt16 hn hN k)]; generalize sl k.val = s; revert s; decide,
  fun k h => by rw [off57 k (klt16 hn hN k) ((cond35 k (klt16 hn hN k)).1 h)]; generalize p16 (k.val - 2) = s; revert s; decide,
  fun k h => by rw [off58 k (klt16 hn hN k)]; generalize sl k.val = s; revert s; decide,
  fun k h => by rw [off60 k (klt16 hn hN k)]; generalize sl k.val = s; revert s; decide,
  fun k h => by rw [off60 k (klt16 hn hN k)]; generalize sl k.val = s; revert s; decide,
  fun k h => by rw [off61 k (lt_of_lt_of_le ((cond36 k (klt16 hn hN k) hn hN).1 h) hn)]; generalize p16 (k.val + 2) = s; revert s; decide,
  fun k h => by rw [off62 k (klt16 hn hN k)]; generalize sl k.val = s; revert s; decide,
  fun k h => by rw [off63 k (klt16 hn hN k)]; generalize sl k.val = s; revert s; decide,
  fun k h => by rw [off63 k (klt16 hn hN k)]; generalize sl k.val = s; revert s; decide,
  fun k h => by rw [off65 k (lt_of_lt_of_le ((cond36 k (klt16 hn hN k) hn hN).1 h) hn)]; generalize p16 (k.val + 2) = s; revert s; decide⟩
theorem chk15_1 : k0_chk15_1 v0 v6 v12 v18 v24 v30 v36 v42 v48 v54 v60 v66 v72 v78 v84 v90 := ⟨
  fun k h => by rw [off66 k (klt16 hn hN k)]; generalize sl k.val = s; revert s; decide,
  fun k h => by rw [off67 k (klt16 hn hN k)]; generalize sl k.val = s; revert s; decide,
  fun k => by rw [off69 k (klt16 hn hN k)]; generalize p16 k.val = s; revert s; decide,
  fun k => by rw [off70 k (klt16 hn hN k)]; generalize sl k.val = s; revert s; decide,
  fun k => by rw [off71 k (klt16 hn hN k)]; generalize sl k.val = s; revert s; decide,
  fun k => by rw [off71 k (klt16 hn hN k)]; generalize sl k.val = s; revert s; decide,
  fun k => by rw [off73 k (klt16 hn hN k)]; generalize sl k.val = s; revert s; decide,
  fun k => by rw [off74 k (klt16 hn hN k)]; generalize sl k.val = s; revert s; decide,
  fun k => by rw [off74 k (klt16 hn hN k)]; generalize sl k.val = s; revert s; decide,
  fun k => by rw [off75 k (klt16 hn hN k)]; generalize sl k.val = s; revert s; decide,
  fun k => by rw [off75 k (klt16 hn hN k)]; generalize sl k.val = s; revert s; decide,
  fun k => by rw [off76 k (klt16 hn hN k)]; generalize sl k.val = s; revert s; decide,
  fun k => by rw [off77 k (klt16 hn hN k)]; generalize sl k.val = s; revert s; decide,
  fun k => by rw [off77 k (klt16 hn hN k)]; generalize sl k.val = s; revert s; decide,
  fun k => by rw [off78 k (klt16 hn hN k)]; generalize sl k.val = s; revert s; decide,
  fun k => by rw [off78 k (klt16 hn hN k)]; generalize sl k.val = s; revert s; decide,
  fun k => by rw [off79 k (klt16 hn hN k)]; generalize sl k.val = s; revert s; decide,
  fun k => by rw [off80 k (klt16 hn hN k)]; generalize sl k.val = s; revert s; decide,
  fun k => by rw [off80 k (klt16 hn hN k)]; generalize sl k.val = s; revert s; decide,
  fun k => by rw [off81 k (klt16 hn hN k)]; generalize sl k.val = s; revert s; decide,
  fun k => by rw [off81 k (klt16 hn hN k)]; generalize sl k.val = s; revert s; decide,
  fun k => by rw [off82 k (klt16 hn hN k)]; generalize sl k.val = s; revert s; decide,
  fun k => by rw [off83 k (klt16 hn hN k)]; generalize sl k.val = s; revert s; decide,
  fun k => by rw [off83 k (klt16 hn hN k)]; generalize sl k.val = s; revert s; decide,
  fun k => by rw [off84 k (klt16 hn hN k)]; generalize sl k.val = s; revert s; decide,
  fun k => by rw [off84 k (klt16 hn hN k)]; generalize sl k.val = s; revert s; decide,
  fun k h => by rw [off85 k (lt_of_lt_of_le ((cond37 k (klt16 hn hN k) hn hN).1 h) hn)]; generalize p16 (k.val + 2) = s; revert s; decide,
  fun k h => by rw [off86 k (klt16 hn hN k)]; generalize sl k.val = s; revert s; decide,
  fun k h => by rw [off87 k (klt16 hn hN k)]; generalize sl k.val = s; revert s; decide,
  fun k h => by rw [off87 k (klt16 hn hN k)]; generalize sl k.val = s; revert s; decide,
  fun k => by rw [off89 k (klt16 hn hN k)]; generalize p16 k.val = s; revert s; decide,
  fun k => by rw [off90 k (klt16 hn hN k)]; generalize sl k.val = s; revert s; decide⟩
theorem chk15_2 : k0_chk15_2 v0 v6 v12 v18 v24 v30 v36 v42 v48 v54 v60 v66 v72 v78 v84 v90 := ⟨
  fun k => by rw [off91 k (klt16 hn hN k)]; generalize sl k.val = s; revert s; decide,
  fun k => by rw [off91 k (klt16 hn hN k)]; generalize sl k.val = s; revert s; decide,
  fun k => by rw [off93 k (klt16 hn hN k)]; generalize sl k.val = s; revert s; decide,
  fun k => by rw [off94 k (klt16 hn hN k)]; generalize sl k.val = s; revert s; decide,
  fun k => by rw [off94 k (klt16 hn hN k)]; generalize sl k.val = s; revert s; decide,
  fun k => by rw [off95 k (klt16 hn hN k)]; generalize sl k.val = s; revert s; decide,
  fun k => by rw [off95 k (klt16 hn hN k)]; generalize sl k.val = s; revert s; decide,
  fun k => by rw [off96 k (klt16 hn hN k)]; generalize sl k.val = s; revert s; decide,
  fun k => by rw [off97 k (klt16 hn hN k)]; generalize sl k.val = s; revert s; decide,
  fun k => by rw [off97 k (klt16 hn hN k)]; generalize sl k.val = s; revert s; decide,
  fun k => by rw [off98 k (klt16 hn hN k)]; generalize sl k.val = s; revert s; decide,
  fun k => by rw [off98 k (klt16 hn hN k)]; generalize sl k.val = s; revert s; decide,
  fun k => by rw [off99 k (klt16 hn hN k)]; generalize sl k.val = s; revert s; decide,
  fun k => by rw [off100 k (klt16 hn hN k)]; generalize sl k.val = s; revert s; decide,
  fun k => by rw [off100 k (klt16 hn hN k)]; generalize sl k.val = s; revert s; decide,
  fun k => by rw [off101 k (klt16 hn hN k)]; generalize sl k.val = s; revert s; decide,
  fun k => by rw [off101 k (klt16 hn hN k)]; generalize sl k.val = s; revert s; decide,
  fun k => by rw [off102 k (klt16 hn hN k)]; generalize sl k.val = s; revert s; decide,
  fun k => by rw [off103 k (klt16 hn hN k)]; generalize sl k.val = s; revert s; decide,
  fun k => by rw [off103 k (klt16 hn hN k)]; generalize sl k.val = s; revert s; decide,
  fun k => by rw [off104 k (klt16 hn hN k)]; generalize sl k.val = s; revert s; decide,
  fun k => by rw [off104 k (klt16 hn hN k)]; generalize sl k.val = s; revert s; decide,
  fun k h => by rw [off105 k (lt_of_lt_of_le ((cond38 k (klt16 hn hN k) hn hN).1 h) hn)]; generalize p16 (k.val + 2) = s; revert s; decide,
  fun k h => by rw [off106 k (klt16 hn hN k)]; generalize sl k.val = s; revert s; decide,
  fun k h => by rw [off107 k (klt16 hn hN k)]; generalize sl k.val = s; revert s; decide,
  fun k h => by rw [off107 k (klt16 hn hN k)]; generalize sl k.val = s; revert s; decide,
  fun k => by rw [off109 k (klt16 hn hN k)]; generalize p16 k.val = s; revert s; decide,
  fun k => by rw [off110 k (klt16 hn hN k)]; generalize sl k.val = s; revert s; decide,
  fun k => by rw [off111 k (klt16 hn hN k)]; generalize sl k.val = s; revert s; decide,
  fun k => by rw [off111 k (klt16 hn hN k)]; generalize sl k.val = s; revert s; decide,
  fun k => by rw [off113 k (klt16 hn hN k)]; generalize sl k.val = s; revert s; decide,
  fun k => by rw [off114 k (klt16 hn hN k)]; generalize sl k.val = s; revert s; decide⟩
theorem chk15_3 : k0_chk15_3 v0 v6 v12 v18 v24 v30 v36 v42 v48 v54 v60 v66 v72 v78 v84 v90 := ⟨
  fun k => by rw [off114 k (klt16 hn hN k)]; generalize sl k.val = s; revert s; decide,
  fun k => by rw [off115 k (klt16 hn hN k)]; generalize sl k.val = s; revert s; decide,
  fun k => by rw [off115 k (klt16 hn hN k)]; generalize sl k.val = s; revert s; decide,
  fun k => by rw [off116 k (klt16 hn hN k)]; generalize sl k.val = s; revert s; decide,
  fun k => by rw [off117 k (klt16 hn hN k)]; generalize sl k.val = s; revert s; decide,
  fun k => by rw [off117 k (klt16 hn hN k)]; generalize sl k.val = s; revert s; decide,
  fun k => by rw [off118 k (klt16 hn hN k)]; generalize sl k.val = s; revert s; decide,
  fun k => by rw [off118 k (klt16 hn hN k)]; generalize sl k.val = s; revert s; decide,
  fun k => by rw [off119 k (klt16 hn hN k)]; generalize sl k.val = s; revert s; decide,
  fun k => by rw [off120 k (klt16 hn hN k)]; generalize sl k.val = s; revert s; decide,
  fun k => by rw [off120 k (klt16 hn hN k)]; generalize sl k.val = s; revert s; decide,
  fun k => by rw [off121 k (klt16 hn hN k)]; generalize sl k.val = s; revert s; decide,
  fun k => by rw [off121 k (klt16 hn hN k)]; generalize sl k.val = s; revert s; decide,
  fun k => by rw [off122 k (klt16 hn hN k)]; generalize sl k.val = s; revert s; decide,
  fun k => by rw [off123 k (klt16 hn hN k)]; generalize sl k.val = s; revert s; decide,
  fun k => by rw [off123 k (klt16 hn hN k)]; generalize sl k.val = s; revert s; decide,
  fun k => by rw [off124 k (klt16 hn hN k)]; generalize sl k.val = s; revert s; decide,
  fun k => by rw [off124 k (klt16 hn hN k)]; generalize sl k.val = s; revert s; decide,
  fun k h => by rw [off125 k (lt_of_lt_of_le ((cond39 k (klt16 hn hN k) hn hN).1 h) hn)]; generalize p16 (k.val + 2) = s; revert s; decide,
  fun k h => by rw [off126 k (klt16 hn hN k)]; generalize sl k.val = s; revert s; decide,
  fun k h => by rw [off127 k (klt16 hn hN k)]; generalize sl k.val = s; revert s; decide,
  fun k h => by rw [off127 k (klt16 hn hN k)]; generalize sl k.val = s; revert s; decide,
  fun k => by rw [off129 k (klt16 hn hN k)]; generalize p16 k.val = s; revert s; decide,
  fun k => by rw [off130 k (klt16 hn hN k)]; generalize sl k.val = s; revert s; decide,
  fun k => by rw [off131 k (klt16 hn hN k)]; generalize sl k.val = s; revert s; decide,
  fun k => by rw [off131 k (klt16 hn hN k)]; generalize sl k.val = s; revert s; decide,
  fun k => by rw [off133 k (klt16 hn hN k)]; generalize sl k.val = s; revert s; decide,
  fun k => by rw [off134 k (klt16 hn hN k)]; generalize sl k.val = s; revert s; decide,
  fun k => by rw [off134 k (klt16 hn hN k)]; generalize sl k.val = s; revert s; decide,
  fun k => by rw [off135 k (klt16 hn hN k)]; generalize sl k.val = s; revert s; decide,
  fun k => by rw [off135 k (klt16 hn hN k)]; generalize sl k.val = s; revert s; decide,
  fun k => by rw [off136 k (klt16 hn hN k)]; generalize sl k.val = s; revert s; decide⟩
theorem chk15_4 : k0_chk15_4 v0 v6 v12 v18 v24 v30 v36 v42 v48 v54 v60 v66 v72 v78 v84 v90 := ⟨
  fun k => by rw [off137 k (klt16 hn hN k)]; generalize sl k.val = s; revert s; decide,
  fun k => by rw [off137 k (klt16 hn hN k)]; generalize sl k.val = s; revert s; decide,
  fun k => by rw [off138 k (klt16 hn hN k)]; generalize sl k.val = s; revert s; decide,
  fun k => by rw [off138 k (klt16 hn hN k)]; generalize sl k.val = s; revert s; decide,
  fun k => by rw [off139 k (klt16 hn hN k)]; generalize sl k.val = s; revert s; decide,
  fun k => by rw [off140 k (klt16 hn hN k)]; generalize sl k.val = s; revert s; decide,
  fun k => by rw [off140 k (klt16 hn hN k)]; generalize sl k.val = s; revert s; decide,
  fun k => by rw [off141 k (klt16 hn hN k)]; generalize sl k.val = s; revert s; decide,
  fun k => by rw [off141 k (klt16 hn hN k)]; generalize sl k.val = s; revert s; decide,
  fun k => by rw [off142 k (klt16 hn hN k)]; generalize sl k.val = s; revert s; decide,
  fun k => by rw [off143 k (klt16 hn hN k)]; generalize sl k.val = s; revert s; decide,
  fun k => by rw [off143 k (klt16 hn hN k)]; generalize sl k.val = s; revert s; decide,
  fun k => by rw [off144 k (klt16 hn hN k)]; generalize sl k.val = s; revert s; decide,
  fun k => by rw [off144 k (klt16 hn hN k)]; generalize sl k.val = s; revert s; decide,
  fun k h => by rw [off145 k (lt_of_lt_of_le ((cond40 k (klt16 hn hN k) hn hN).1 h) hn)]; generalize p16 (k.val + 2) = s; revert s; decide,
  fun k h => by rw [off146 k (klt16 hn hN k)]; generalize sl k.val = s; revert s; decide,
  fun k h => by rw [off147 k (klt16 hn hN k)]; generalize sl k.val = s; revert s; decide,
  fun k h => by rw [off147 k (klt16 hn hN k)]; generalize sl k.val = s; revert s; decide,
  fun k => by rw [off149 k (klt16 hn hN k)]; generalize p16 k.val = s; revert s; decide,
  fun k => by rw [off150 k (klt16 hn hN k)]; generalize sl k.val = s; revert s; decide,
  fun k => by rw [off151 k (klt16 hn hN k)]; generalize sl k.val = s; revert s; decide,
  fun k => by rw [off151 k (klt16 hn hN k)]; generalize sl k.val = s; revert s; decide,
  fun k => by rw [off153 k (klt16 hn hN k)]; generalize sl k.val = s; revert s; decide,
  fun k => by rw [off154 k (klt16 hn hN k)]; generalize sl k.val = s; revert s; decide,
  fun k => by rw [off154 k (klt16 hn hN k)]; generalize sl k.val = s; revert s; decide,
  fun k => by rw [off155 k (klt16 hn hN k)]; generalize sl k.val = s; revert s; decide,
  fun k => by rw [off155 k (klt16 hn hN k)]; generalize sl k.val = s; revert s; decide,
  fun k => by rw [off156 k (klt16 hn hN k)]; generalize sl k.val = s; revert s; decide,
  fun k => by rw [off157 k (klt16 hn hN k)]; generalize sl k.val = s; revert s; decide,
  fun k => by rw [off157 k (klt16 hn hN k)]; generalize sl k.val = s; revert s; decide,
  fun k => by rw [off158 k (klt16 hn hN k)]; generalize sl k.val = s; revert s; decide,
  fun k => by rw [off158 k (klt16 hn hN k)]; generalize sl k.val = s; revert s; decide⟩
theorem chk15_5 : k0_chk15_5 v0 v6 v12 v18 v24 v30 v36 v42 v48 v54 v60 v66 v72 v78 v84 v90 := ⟨
  fun k => by rw [off159 k (klt16 hn hN k)]; generalize sl k.val = s; revert s; decide,
  fun k => by rw [off160 k (klt16 hn hN k)]; generalize sl k.val = s; revert s; decide,
  fun k => by rw [off160 k (klt16 hn hN k)]; generalize sl k.val = s; revert s; decide,
  fun k => by rw [off161 k (klt16 hn hN k)]; generalize sl k.val = s; revert s; decide,
  fun k => by rw [off161 k (klt16 hn hN k)]; generalize sl k.val = s; revert s; decide,
  fun k => by rw [off162 k (klt16 hn hN k)]; generalize sl k.val = s; revert s; decide,
  fun k => by rw [off163 k (klt16 hn hN k)]; generalize sl k.val = s; revert s; decide,
  fun k => by rw [off163 k (klt16 hn hN k)]; generalize sl k.val = s; revert s; decide,
  fun k => by rw [off164 k (klt16 hn hN k)]; generalize sl k.val = s; revert s; decide,
  fun k => by rw [off164 k (klt16 hn hN k)]; generalize sl k.val = s; revert s; decide,
  fun k h => by rw [off165 k (lt_of_lt_of_le ((cond41 k (klt16 hn hN k) hn hN).1 h) hn)]; generalize p16 (k.val + 2) = s; revert s; decide,
  fun k h => by rw [off166 k (klt16 hn hN k)]; generalize sl k.val = s; revert s; decide,
  fun k h => by rw [off167 k (klt16 hn hN k)]; generalize sl k.val = s; revert s; decide,
  fun k h => by rw [off167 k (klt16 hn hN k)]; generalize sl k.val = s; revert s; decide,
  fun k => by rw [off169 k (klt16 hn hN k)]; generalize p16 k.val = s; revert s; decide,
  fun k => by rw [off170 k (klt16 hn hN k)]; generalize sl k.val = s; revert s; decide,
  fun k => by rw [off171 k (klt16 hn hN k)]; generalize sl k.val = s; revert s; decide,
  fun k => by rw [off171 k (klt16 hn hN k)]; generalize sl k.val = s; revert s; decide,
  fun k => by rw [off173 k (klt16 hn hN k)]; generalize sl k.val = s; revert s; decide,
  fun k => by rw [off174 k (klt16 hn hN k)]; generalize sl k.val = s; revert s; decide,
  fun k => by rw [off174 k (klt16 hn hN k)]; generalize sl k.val = s; revert s; decide,
  fun k => by rw [off175 k (klt16 hn hN k)]; generalize sl k.val = s; revert s; decide,
  fun k => by rw [off175 k (klt16 hn hN k)]; generalize sl k.val = s; revert s; decide,
  fun k => by rw [off176 k (klt16 hn hN k)]; generalize sl k.val = s; revert s; decide,
  fun k => by rw [off177 k (klt16 hn hN k)]; generalize sl k.val = s; revert s; decide,
  fun k => by rw [off177 k (klt16 hn hN k)]; generalize sl k.val = s; revert s; decide,
  fun k => by rw [off178 k (klt16 hn hN k)]; generalize sl k.val = s; revert s; decide,
  fun k => by rw [off178 k (klt16 hn hN k)]; generalize sl k.val = s; revert s; decide,
  fun k => by rw [off179 k (klt16 hn hN k)]; generalize sl k.val = s; revert s; decide,
  fun k => by rw [off180 k (klt16 hn hN k)]; generalize sl k.val = s; revert s; decide,
  fun k => by rw [off180 k (klt16 hn hN k)]; generalize sl k.val = s; revert s; decide,
  fun k => by rw [off181 k (klt16 hn hN k)]; generalize sl k.val = s; revert s; decide⟩
theorem chk15_6 : k0_chk15_6 v0 v6 v12 v18 v24 v30 v36 v42 v48 v54 v60 v66 v72 v78 v84 v90 := ⟨
  fun k => by rw [off181 k (klt16 hn hN k)]; generalize sl k.val = s; revert s; decide,
  fun k => by rw [off182 k (klt16 hn hN k)]; generalize sl k.val = s; revert s; decide,
  fun k => by rw [off183 k (klt16 hn hN k)]; generalize sl k.val = s; revert s; decide,
  fun k => by rw [off183 k (klt16 hn hN k)]; generalize sl k.val = s; revert s; decide,
  fun k => by rw [off184 k (klt16 hn hN k)]; generalize sl k.val = s; revert s; decide,
  fun k => by rw [off184 k (klt16 hn hN k)]; generalize sl k.val = s; revert s; decide,
  fun k h => by rw [off185 k (lt_of_lt_of_le ((cond42 k (klt16 hn hN k) hn hN).1 h) hn)]; generalize p16 (k.val + 2) = s; revert s; decide,
  fun k h => by rw [off186 k (klt16 hn hN k)]; generalize sl k.val = s; revert s; decide,
  fun k h => by rw [off187 k (klt16 hn hN k)]; generalize sl k.val = s; revert s; decide,
  fun k h => by rw [off187 k (klt16 hn hN k)]; generalize sl k.val = s; revert s; decide,
  fun k => by rw [off189 k (klt16 hn hN k)]; generalize p16 k.val = s; revert s; decide,
  fun k => by rw [off190 k (klt16 hn hN k)]; generalize sl k.val = s; revert s; decide,
  fun k => by rw [off191 k (klt16 hn hN k)]; generalize sl k.val = s; revert s; decide,
  fun k => by rw [off191 k (klt16 hn hN k)]; generalize sl k.val = s; revert s; decide,
  fun k => by rw [off193 k (klt16 hn hN k)]; generalize sl k.val = s; revert s; decide,
  fun k => by rw [off194 k (klt16 hn hN k)]; generalize sl k.val = s; revert s; decide,
  fun k => by rw [off194 k (klt16 hn hN k)]; generalize sl k.val = s; revert s; decide,
  fun k => by rw [off195 k (klt16 hn hN k)]; generalize sl k.val = s; revert s; decide,
  fun k => by rw [off195 k (klt16 hn hN k)]; generalize sl k.val = s; revert s; decide,
  fun k => by rw [off196 k (klt16 hn hN k)]; generalize sl k.val = s; revert s; decide,
  fun k => by rw [off197 k (klt16 hn hN k)]; generalize sl k.val = s; revert s; decide,
  fun k => by rw [off197 k (klt16 hn hN k)]; generalize sl k.val = s; revert s; decide,
  fun k => by rw [off198 k (klt16 hn hN k)]; generalize sl k.val = s; revert s; decide,
  fun k => by rw [off198 k (klt16 hn hN k)]; generalize sl k.val = s; revert s; decide,
  fun k => by rw [off199 k (klt16 hn hN k)]; generalize sl k.val = s; revert s; decide,
  fun k => by rw [off200 k (klt16 hn hN k)]; generalize sl k.val = s; revert s; decide,
  fun k => by rw [off200 k (klt16 hn hN k)]; generalize sl k.val = s; revert s; decide,
  fun k => by rw [off201 k (klt16 hn hN k)]; generalize sl k.val = s; revert s; decide,
  fun k => by rw [off201 k (klt16 hn hN k)]; generalize sl k.val = s; revert s; decide,
  fun k => by rw [off202 k (klt16 hn hN k)]; generalize sl k.val = s; revert s; decide,
  fun k => by rw [off203 k (klt16 hn hN k)]; generalize sl k.val = s; revert s; decide,
  fun k => by rw [off203 k (klt16 hn hN k)]; generalize sl k.val = s; revert s; decide⟩
theorem chk15_7 : k0_chk15_7 v0 v6 v12 v18 v24 v30 v36 v42 v48 v54 v60 v66 v72 v78 v84 v90 := ⟨
  fun k => by rw [off204 k (klt16 hn hN k)]; generalize sl k.val = s; revert s; decide,
  fun k => by rw [off204 k (klt16 hn hN k)]; generalize sl k.val = s; revert s; decide,
  fun k h => by rw [off205 k (lt_of_lt_of_le ((cond43 k (klt16 hn hN k) hn hN).1 h) hn)]; generalize p16 (k.val + 2) = s; revert s; decide,
  fun k h => by rw [off206 k (klt16 hn hN k)]; generalize sl k.val = s; revert s; decide,
  fun k h => by rw [off207 k (klt16 hn hN k)]; generalize sl k.val = s; revert s; decide,
  fun k h => by rw [off207 k (klt16 hn hN k)]; generalize sl k.val = s; revert s; decide,
  fun k => by rw [off209 k (klt16 hn hN k)]; generalize p16 k.val = s; revert s; decide,
  fun k => by rw [off210 k (klt16 hn hN k)]; generalize sl k.val = s; revert s; decide,
  fun k => by rw [off212 k (klt16 hn hN k)]; generalize sl k.val = s; revert s; decide,
  fun k => by rw [off212 k (klt16 hn hN k)]; generalize sl k.val = s; revert s; decide,
  ok2 hn hN,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k⟩
theorem chk15_8 : k0_chk15_8 v0 v6 v12 v18 v24 v30 v36 v42 v48 v54 v60 v66 v72 v78 v84 v90 := ⟨
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k⟩
theorem chk15_9 : k0_chk15_9 v0 v6 v12 v18 v24 v30 v36 v42 v48 v54 v60 v66 v72 v78 v84 v90 := ⟨
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k⟩
theorem chk15_10 : k0_chk15_10 v0 v6 v12 v18 v24 v30 v36 v42 v48 v54 v60 v66 v72 v78 v84 v90 := ⟨
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k⟩
theorem chk15_11 : k0_chk15_11 v0 v6 v12 v18 v24 v30 v36 v42 v48 v54 v60 v66 v72 v78 v84 v90 := ⟨
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k⟩
theorem chk15_12 : k0_chk15_12 v0 v6 v12 v18 v24 v30 v36 v42 v48 v54 v60 v66 v72 v78 v84 v90 := ⟨
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k⟩
theorem chk15_13 : k0_chk15_13 v0 v6 v12 v18 v24 v30 v36 v42 v48 v54 v60 v66 v72 v78 v84 v90 := ⟨
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k⟩
theorem chk15_14 : k0_chk15_14 v0 v6 v12 v18 v24 v30 v36 v42 v48 v54 v60 v66 v72 v78 v84 v90 := ⟨
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun k => no2 hn hN k,
  fun h => by rw [off392 hn hN ((cond69 hn hN).1 h)]; generalize p16 (n - 1) = s; revert s; decide,
  fun h => by rw [off393 hn hN ((cond69 hn hN).1 h)]; generalize sl (n - 1) = s; revert s; decide,
  fun h => by rw [off395 hn hN ((cond69 hn hN).1 h)]; generalize sl (n - 1) = s; revert s; decide,
  fun h => by rw [off395 hn hN ((cond69 hn hN).1 h)]; generalize sl (n - 1) = s; revert s; decide,
  fun h => by rw [off396 hn hN ((cond70 hn hN).1 h)]; generalize p16 (n - 2) = s; revert s; decide,
  fun h => by rw [off397 hn hN ((cond70 hn hN).1 h)]; generalize sl (n - 2) = s; revert s; decide,
  fun h => by rw [off399 hn hN ((cond70 hn hN).1 h)]; generalize sl (n - 2) = s; revert s; decide,
  fun h => by rw [off399 hn hN ((cond70 hn hN).1 h)]; generalize sl (n - 2) = s; revert s; decide⟩
theorem chk15 (h15 : ∀ (k0_h16 : k0_cond16 v90 = 1#1), ∀ a, (k0_off15 v0 v6 v12 v18 v24 v30 v36 v42 v48 v54 v60 v66 v72 v78 v84) a + S1.size a ≤ S16.size a) : k0_chk15 v0 v6 v12 v18 v24 v30 v36 v42 v48 v54 v60 v66 v72 v78 v84 v90 :=
  ⟨chk15_0 hn hN h15, chk15_1 hn hN, chk15_2 hn hN, chk15_3 hn hN, chk15_4 hn hN, chk15_5 hn hN, chk15_6 hn hN, chk15_7 hn hN, chk15_8 hn hN, chk15_9 hn hN, chk15_10 hn hN, chk15_11 hn hN, chk15_12 hn hN, chk15_13 hn hN, chk15_14 hn hN⟩
end

section
variable (g : ℕ → BitVec 32)
theorem off1 : k0_off1 (g 0) = ![(p16 (cnt g 1)).val] := congrArg (fun x : ℕ => (![x] : Fin 1 → ℕ)) (ipre g 1 (by decide))
theorem chk1 : k0_chk1 (g 0) (g 1) := fun _ => by rw [off1 g]; generalize p16 (cnt g 1) = s; revert s; decide
theorem cond2 : k0_cond2 (g 1) = 1#1 ↔ bit (g 1) = 1 := cond_bit (g 1)
theorem off2 : k0_off2 (g 0) (g 1) = ![(p16 (cnt g 2)).val] := congrArg (fun x : ℕ => (![x] : Fin 1 → ℕ)) (ipre g 2 (by decide))
theorem chk2 : k0_chk2 (g 0) (g 1) (g 2) := fun _ => by rw [off2 g]; generalize p16 (cnt g 2) = s; revert s; decide
theorem cond3 : k0_cond3 (g 2) = 1#1 ↔ bit (g 2) = 1 := cond_bit (g 2)
theorem off3 : k0_off3 (g 0) (g 1) (g 2) = ![(p16 (cnt g 3)).val] := congrArg (fun x : ℕ => (![x] : Fin 1 → ℕ)) (ipre g 3 (by decide))
theorem chk3 : k0_chk3 (g 0) (g 1) (g 2) (g 3) := fun _ => by rw [off3 g]; generalize p16 (cnt g 3) = s; revert s; decide
theorem cond4 : k0_cond4 (g 3) = 1#1 ↔ bit (g 3) = 1 := cond_bit (g 3)
theorem off4 : k0_off4 (g 0) (g 1) (g 2) (g 3) = ![(p16 (cnt g 4)).val] := congrArg (fun x : ℕ => (![x] : Fin 1 → ℕ)) (ipre g 4 (by decide))
theorem chk4 : k0_chk4 (g 0) (g 1) (g 2) (g 3) (g 4) := fun _ => by rw [off4 g]; generalize p16 (cnt g 4) = s; revert s; decide
theorem cond5 : k0_cond5 (g 4) = 1#1 ↔ bit (g 4) = 1 := cond_bit (g 4)
theorem off5 : k0_off5 (g 0) (g 1) (g 2) (g 3) (g 4) = ![(p16 (cnt g 5)).val] := congrArg (fun x : ℕ => (![x] : Fin 1 → ℕ)) (ipre g 5 (by decide))
theorem chk5 : k0_chk5 (g 0) (g 1) (g 2) (g 3) (g 4) (g 5) := fun _ => by rw [off5 g]; generalize p16 (cnt g 5) = s; revert s; decide
theorem cond6 : k0_cond6 (g 5) = 1#1 ↔ bit (g 5) = 1 := cond_bit (g 5)
theorem off6 : k0_off6 (g 0) (g 1) (g 2) (g 3) (g 4) (g 5) = ![(p16 (cnt g 6)).val] := congrArg (fun x : ℕ => (![x] : Fin 1 → ℕ)) (ipre g 6 (by decide))
theorem chk6 : k0_chk6 (g 0) (g 1) (g 2) (g 3) (g 4) (g 5) (g 6) := fun _ => by rw [off6 g]; generalize p16 (cnt g 6) = s; revert s; decide
theorem cond7 : k0_cond7 (g 6) = 1#1 ↔ bit (g 6) = 1 := cond_bit (g 6)
theorem off7 : k0_off7 (g 0) (g 1) (g 2) (g 3) (g 4) (g 5) (g 6) = ![(p16 (cnt g 7)).val] := congrArg (fun x : ℕ => (![x] : Fin 1 → ℕ)) (ipre g 7 (by decide))
theorem chk7 : k0_chk7 (g 0) (g 1) (g 2) (g 3) (g 4) (g 5) (g 6) (g 7) := fun _ => by rw [off7 g]; generalize p16 (cnt g 7) = s; revert s; decide
theorem cond8 : k0_cond8 (g 7) = 1#1 ↔ bit (g 7) = 1 := cond_bit (g 7)
theorem off8 : k0_off8 (g 0) (g 1) (g 2) (g 3) (g 4) (g 5) (g 6) (g 7) = ![(p16 (cnt g 8)).val] := congrArg (fun x : ℕ => (![x] : Fin 1 → ℕ)) (ipre g 8 (by decide))
theorem chk8 : k0_chk8 (g 0) (g 1) (g 2) (g 3) (g 4) (g 5) (g 6) (g 7) (g 8) := fun _ => by rw [off8 g]; generalize p16 (cnt g 8) = s; revert s; decide
theorem cond9 : k0_cond9 (g 8) = 1#1 ↔ bit (g 8) = 1 := cond_bit (g 8)
theorem off9 : k0_off9 (g 0) (g 1) (g 2) (g 3) (g 4) (g 5) (g 6) (g 7) (g 8) = ![(p16 (cnt g 9)).val] := congrArg (fun x : ℕ => (![x] : Fin 1 → ℕ)) (ipre g 9 (by decide))
theorem chk9 : k0_chk9 (g 0) (g 1) (g 2) (g 3) (g 4) (g 5) (g 6) (g 7) (g 8) (g 9) := fun _ => by rw [off9 g]; generalize p16 (cnt g 9) = s; revert s; decide
theorem cond10 : k0_cond10 (g 9) = 1#1 ↔ bit (g 9) = 1 := cond_bit (g 9)
theorem off10 : k0_off10 (g 0) (g 1) (g 2) (g 3) (g 4) (g 5) (g 6) (g 7) (g 8) (g 9) = ![(p16 (cnt g 10)).val] := congrArg (fun x : ℕ => (![x] : Fin 1 → ℕ)) (ipre g 10 (by decide))
theorem chk10 : k0_chk10 (g 0) (g 1) (g 2) (g 3) (g 4) (g 5) (g 6) (g 7) (g 8) (g 9) (g 10) := fun _ => by rw [off10 g]; generalize p16 (cnt g 10) = s; revert s; decide
theorem cond11 : k0_cond11 (g 10) = 1#1 ↔ bit (g 10) = 1 := cond_bit (g 10)
theorem off11 : k0_off11 (g 0) (g 1) (g 2) (g 3) (g 4) (g 5) (g 6) (g 7) (g 8) (g 9) (g 10) = ![(p16 (cnt g 11)).val] := congrArg (fun x : ℕ => (![x] : Fin 1 → ℕ)) (ipre g 11 (by decide))
theorem chk11 : k0_chk11 (g 0) (g 1) (g 2) (g 3) (g 4) (g 5) (g 6) (g 7) (g 8) (g 9) (g 10) (g 11) := fun _ => by rw [off11 g]; generalize p16 (cnt g 11) = s; revert s; decide
theorem cond12 : k0_cond12 (g 11) = 1#1 ↔ bit (g 11) = 1 := cond_bit (g 11)
theorem off12 : k0_off12 (g 0) (g 1) (g 2) (g 3) (g 4) (g 5) (g 6) (g 7) (g 8) (g 9) (g 10) (g 11) = ![(p16 (cnt g 12)).val] := congrArg (fun x : ℕ => (![x] : Fin 1 → ℕ)) (ipre g 12 (by decide))
theorem chk12 : k0_chk12 (g 0) (g 1) (g 2) (g 3) (g 4) (g 5) (g 6) (g 7) (g 8) (g 9) (g 10) (g 11) (g 12) := fun _ => by rw [off12 g]; generalize p16 (cnt g 12) = s; revert s; decide
theorem cond13 : k0_cond13 (g 12) = 1#1 ↔ bit (g 12) = 1 := cond_bit (g 12)
theorem off13 : k0_off13 (g 0) (g 1) (g 2) (g 3) (g 4) (g 5) (g 6) (g 7) (g 8) (g 9) (g 10) (g 11) (g 12) = ![(p16 (cnt g 13)).val] := congrArg (fun x : ℕ => (![x] : Fin 1 → ℕ)) (ipre g 13 (by decide))
theorem chk13 : k0_chk13 (g 0) (g 1) (g 2) (g 3) (g 4) (g 5) (g 6) (g 7) (g 8) (g 9) (g 10) (g 11) (g 12) (g 13) := fun _ => by rw [off13 g]; generalize p16 (cnt g 13) = s; revert s; decide
theorem cond14 : k0_cond14 (g 13) = 1#1 ↔ bit (g 13) = 1 := cond_bit (g 13)
theorem off14 : k0_off14 (g 0) (g 1) (g 2) (g 3) (g 4) (g 5) (g 6) (g 7) (g 8) (g 9) (g 10) (g 11) (g 12) (g 13) = ![(p16 (cnt g 14)).val] := congrArg (fun x : ℕ => (![x] : Fin 1 → ℕ)) (ipre g 14 (by decide))
theorem chk14 : k0_chk14 (g 0) (g 1) (g 2) (g 3) (g 4) (g 5) (g 6) (g 7) (g 8) (g 9) (g 10) (g 11) (g 12) (g 13) (g 14) := fun _ => by rw [off14 g]; generalize p16 (cnt g 14) = s; revert s; decide
theorem cond15 : k0_cond15 (g 14) = 1#1 ↔ bit (g 14) = 1 := cond_bit (g 14)
theorem off15 : k0_off15 (g 0) (g 1) (g 2) (g 3) (g 4) (g 5) (g 6) (g 7) (g 8) (g 9) (g 10) (g 11) (g 12) (g 13) (g 14) = ![(p16 (cnt g 15)).val] := congrArg (fun x : ℕ => (![x] : Fin 1 → ℕ)) (ipre g 15 (by decide))
theorem cond16 : k0_cond16 (g 15) = 1#1 ↔ bit (g 15) = 1 := cond_bit (g 15)
theorem chk15g : k0_chk15 (g 0) (g 1) (g 2) (g 3) (g 4) (g 5) (g 6) (g 7) (g 8) (g 9) (g 10) (g 11) (g 12) (g 13) (g 14) (g 15) := chk15 (cnt_le g 16) (NW_eq g) fun _ => by rw [off15 g]; generalize p16 (cnt g 15) = s; revert s; decide
end
theorem chk16 {v0 v6 v12 v18 v24 v30 v36 v42 v48 v54 v60 v66 v72 v78 v84 v90 : BitVec 32} (e : Fin 16) : k0_chk16 v0 v6 v12 v18 v24 v30 v36 v42 v48 v54 v60 v66 v72 v78 v84 v90 (BitVec.ofNat 32 e.val) := ⟨fun _ => by revert e; decide, fun _ => by revert e; decide⟩
theorem chk17 {v0 v6 v12 v18 v24 v30 v36 v42 v48 v54 v60 v66 v72 v78 v84 v90 : BitVec 32} (e : Fin 16) : k0_chk17 v0 v6 v12 v18 v24 v30 v36 v42 v48 v54 v60 v66 v72 v78 v84 v90 (BitVec.ofNat 32 e.val) := fun _ => by revert e; decide
theorem chk18 {v0 v6 v12 v18 v24 v30 v36 v42 v48 v54 v60 v66 v72 v78 v84 v90 : BitVec 32} (e : Fin 16) : k0_chk18 v0 v6 v12 v18 v24 v30 v36 v42 v48 v54 v60 v66 v72 v78 v84 v90 (BitVec.ofNat 32 e.val) := ⟨fun _ => by revert e; decide, fun _ => by revert e; decide⟩
theorem chk19 {v0 v6 v12 v18 v24 v30 v36 v42 v48 v54 v60 v66 v72 v78 v84 v90 : BitVec 32} (e : Fin 16) : k0_chk19 v0 v6 v12 v18 v24 v30 v36 v42 v48 v54 v60 v66 v72 v78 v84 v90 (BitVec.ofNat 32 e.val) := ⟨fun _ => by revert e; decide, fun _ => by revert e; decide⟩
theorem chk20 {v0 v6 v12 v18 v24 v30 v36 v42 v48 v54 v60 v66 v72 v78 v84 v90 : BitVec 32} (e : Fin 16) : k0_chk20 v0 v6 v12 v18 v24 v30 v36 v42 v48 v54 v60 v66 v72 v78 v84 v90 (BitVec.ofNat 32 e.val) := ⟨fun _ => by revert e; decide, fun _ => by revert e; decide⟩
theorem chk21 {v0 v6 v12 v18 v24 v30 v36 v42 v48 v54 v60 v66 v72 v78 v84 v90 : BitVec 32} (e : Fin 16) : k0_chk21 v0 v6 v12 v18 v24 v30 v36 v42 v48 v54 v60 v66 v72 v78 v84 v90 (BitVec.ofNat 32 e.val) := ⟨fun _ => by revert e; decide, fun _ => by revert e; decide⟩
theorem chk22 {v0 v6 v12 v18 v24 v30 v36 v42 v48 v54 v60 v66 v72 v78 v84 v90 : BitVec 32} (e : Fin 16) : k0_chk22 v0 v6 v12 v18 v24 v30 v36 v42 v48 v54 v60 v66 v72 v78 v84 v90 (BitVec.ofNat 32 e.val) := ⟨fun _ => by revert e; decide, fun _ => by revert e; decide⟩
theorem chk23 {v0 v6 v12 v18 v24 v30 v36 v42 v48 v54 v60 v66 v72 v78 v84 v90 : BitVec 32} (e : Fin 16) : k0_chk23 v0 v6 v12 v18 v24 v30 v36 v42 v48 v54 v60 v66 v72 v78 v84 v90 (BitVec.ofNat 32 e.val) := ⟨fun _ => by revert e; decide, fun _ => by revert e; decide⟩
theorem chk24 {v0 v6 v12 v18 v24 v30 v36 v42 v48 v54 v60 v66 v72 v78 v84 v90 : BitVec 32} (e : Fin 16) : k0_chk24 v0 v6 v12 v18 v24 v30 v36 v42 v48 v54 v60 v66 v72 v78 v84 v90 (BitVec.ofNat 32 e.val) := ⟨fun _ => by revert e; decide, fun _ => by revert e; decide⟩
theorem chk25 {v0 v6 v12 v18 v24 v30 v36 v42 v48 v54 v60 v66 v72 v78 v84 v90 : BitVec 32} (e : Fin 16) : k0_chk25 v0 v6 v12 v18 v24 v30 v36 v42 v48 v54 v60 v66 v72 v78 v84 v90 (BitVec.ofNat 32 e.val) := ⟨fun _ => by revert e; decide, fun _ => by revert e; decide⟩
theorem chk26 {v0 v6 v12 v18 v24 v30 v36 v42 v48 v54 v60 v66 v72 v78 v84 v90 : BitVec 32} (e : Fin 16) : k0_chk26 v0 v6 v12 v18 v24 v30 v36 v42 v48 v54 v60 v66 v72 v78 v84 v90 (BitVec.ofNat 32 e.val) := fun _ => by revert e; decide
theorem chk27 {v0 v6 v12 v18 v24 v30 v36 v42 v48 v54 v60 v66 v72 v78 v84 v90 : BitVec 32} (e : Fin 16) : k0_chk27 v0 v6 v12 v18 v24 v30 v36 v42 v48 v54 v60 v66 v72 v78 v84 v90 (BitVec.ofNat 32 e.val) := ⟨fun _ => by revert e; decide, fun _ => by revert e; decide⟩
theorem chk28 {v0 v6 v12 v18 v24 v30 v36 v42 v48 v54 v60 v66 v72 v78 v84 v90 : BitVec 32} (e : Fin 16) : k0_chk28 v0 v6 v12 v18 v24 v30 v36 v42 v48 v54 v60 v66 v72 v78 v84 v90 (BitVec.ofNat 32 e.val) := ⟨fun _ => by revert e; decide, fun _ => by revert e; decide⟩
theorem chk29 {v0 v6 v12 v18 v24 v30 v36 v42 v48 v54 v60 v66 v72 v78 v84 v90 : BitVec 32} (e : Fin 16) : k0_chk29 v0 v6 v12 v18 v24 v30 v36 v42 v48 v54 v60 v66 v72 v78 v84 v90 (BitVec.ofNat 32 e.val) := ⟨fun _ => by revert e; decide, fun _ => by revert e; decide⟩
theorem chk30 {v0 v6 v12 v18 v24 v30 v36 v42 v48 v54 v60 v66 v72 v78 v84 v90 : BitVec 32} (e : Fin 16) : k0_chk30 v0 v6 v12 v18 v24 v30 v36 v42 v48 v54 v60 v66 v72 v78 v84 v90 (BitVec.ofNat 32 e.val) := ⟨fun _ => by revert e; decide, fun _ => by revert e; decide⟩
theorem chk31 {v0 v6 v12 v18 v24 v30 v36 v42 v48 v54 v60 v66 v72 v78 v84 v90 : BitVec 32} (e : Fin 16) : k0_chk31 v0 v6 v12 v18 v24 v30 v36 v42 v48 v54 v60 v66 v72 v78 v84 v90 (BitVec.ofNat 32 e.val) := ⟨fun _ => by revert e; decide, fun _ => by revert e; decide⟩
theorem chk32 {v0 v6 v12 v18 v24 v30 v36 v42 v48 v54 v60 v66 v72 v78 v84 v90 : BitVec 32} (e : Fin 16) : k0_chk32 v0 v6 v12 v18 v24 v30 v36 v42 v48 v54 v60 v66 v72 v78 v84 v90 (BitVec.ofNat 32 e.val) := ⟨fun _ => by revert e; decide, fun _ => by revert e; decide⟩
theorem chk33 {v0 v6 v12 v18 v24 v30 v36 v42 v48 v54 v60 v66 v72 v78 v84 v90 : BitVec 32} (e : Fin 16) : k0_chk33 v0 v6 v12 v18 v24 v30 v36 v42 v48 v54 v60 v66 v72 v78 v84 v90 (BitVec.ofNat 32 e.val) := ⟨fun _ => by revert e; decide, fun _ => by revert e; decide⟩
theorem chk76 {v0 v6 v12 v18 v24 v30 v36 v42 v48 v54 v60 v66 v72 v78 v84 v90 : BitVec 32} (e : Fin 16) : k0_chk76 v0 v6 v12 v18 v24 v30 v36 v42 v48 v54 v60 v66 v72 v78 v84 v90 (BitVec.ofNat 32 e.val) := ⟨fun _ => by revert e; decide, fun _ => by revert e; decide⟩
theorem chk77 {v0 v6 v12 v18 v24 v30 v36 v42 v48 v54 v60 v66 v72 v78 v84 v90 : BitVec 32} (e : Fin 16) : k0_chk77 v0 v6 v12 v18 v24 v30 v36 v42 v48 v54 v60 v66 v72 v78 v84 v90 (BitVec.ofNat 32 e.val) := ⟨fun _ => by revert e; decide, fun _ => by revert e; decide⟩
theorem off394 (e : Fin 16) : k0_off394 (BitVec.ofNat 32 e.val) = ![e.val, 0, 0] := by revert e; decide
theorem off398 (e : Fin 16) : k0_off398 (BitVec.ofNat 32 e.val) = ![e.val, 0, 0] := by revert e; decide
theorem chk54 (e : Fin 16) : k0_chk54 (BitVec.ofNat 32 e.val) := by revert e; decide

end Cert.Proof.KernelIdeal
end
end
-- ==== Proof.KernelIdeal.PartsA.lean ====
module

public import proofs.«01_k».proof.Proof.KernelIdeal.Chk
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Transfers
public import Idealize.ShloMosaic.Lib.Batch
public import Idealize.ShloMosaic.Adequacy
public import Idealize.ShloMosaic.Init

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] (c : Dev nD)
variable {v0 v6 v12 v18 v24 v30 v36 v42 v48 v54 v60 v66 v72 v78 v84 v90 : BitVec 32} (hw : k0_chk15 v0 v6 v12 v18 v24 v30 v36 v42 v48 v54 v60 v66 v72 v78 v84 v90) {n : ℕ} (hn : n ≤ 16) (hN : NW v0 v6 v12 v18 v24 v30 v36 v42 v48 v54 v60 v66 v72 v78 v84 v90 = BitVec.ofNat 32 n)
  {act : ℕ → Fin 16} {ft : S16.Idx → Elt F .i32} (hT : ∀ i, i < n → tw ft (p16 i) = BitVec.ofNat 32 (act i).val)
  (k : Fin (k0_t1_loop v0 v6 v12 v18 v24 v30 v36 v42 v48 v54 v60 v66 v72 v78 v84 v90).trips)

include hw hn hN hT in
theorem part5 {fx : S16x24x1536.Idx → Elt F .bf16} {fs : S16x56x12.Idx → Elt F .f32} {fg : S16.Idx → Elt F .i32} {q0 : PosShare TreeShare} (c0_i32_87 : BitVec 32) (c1_i32_89 : BitVec 32) {Q : (Σ' (arg18 : BitVec 32) (v245 : BitVec 32) (v249 : Elt F .i32) (v270 : FVec F S56x12 .f32) (v274 : FVec F S24x128 .f32) (v279 : FVec F S24x1 .f32) (v280 : IVec S24x1 32), IVec S24x1 32) → sProp (MT nD τ sig Unit (Elt F) ℕ UU ℕ)} :
    iprop(P5 c ft ∗ P0 c q0 fg ∗ OW c ∗ Xin c fx (sl k.val) (act k.val) ∗ Sin c fs (sl k.val) (act k.val)) ⊢ iprop((∀ (r0 : BitVec 32) (r1 : BitVec 32) (r2 : Elt F .i32) (r3 : FVec F S56x12 .f32) (r4 : FVec F S24x128 .f32) (r5 : FVec F S24x1 .f32) (r6 : IVec S24x1 32) (r7 : IVec S24x1 32) (g6 : S2x24x1536.Idx → Elt F .bf16) (g7 : S2x56x12.Idx → Elt F .f32), ⌜r0 = (Scf.iv c0_i32_87 c1_i32_89 k) ∧ r1 = (Scalar.remsi (Scf.iv c0_i32_87 c1_i32_89 k) 2#32) ∧ r2 = (tw fg (act k.val)) ∧ r3 = k0_pay1 (A7.view.readAt (Elt F) (Rect.unit (s := S2x56x12) (k0_off44 v0 v6 v12 v18 v24 v30 v36 v42 v48 v54 v60 v66 v72 v78 v84 v90 k) S1x56x12.size (k0_off44_inb v0 v6 v12 v18 v24 v30 v36 v42 v48 v54 v60 v66 v72 v78 v84 v90 hw k)).toLoadRect g7) ∧ r4 = k0_pay2 (A6.view.readAt (Elt F) (Rect.unit (s := S2x24x1536) (k0_off45 v0 v6 v12 v18 v24 v30 v36 v42 v48 v54 v60 v66 v72 v78 v84 v90 k) S1x24x128.size (k0_off45_inb v0 v6 v12 v18 v24 v30 v36 v42 v48 v54 v60 v66 v72 v78 v84 v90 hw k)).toLoadRect g6) ∧ r5 = k0_pay3 (A6.view.readAt (Elt F) (Rect.unit (s := S2x24x1536) (k0_off45 v0 v6 v12 v18 v24 v30 v36 v42 v48 v54 v60 v66 v72 v78 v84 v90 k) S1x24x128.size (k0_off45_inb v0 v6 v12 v18 v24 v30 v36 v42 v48 v54 v60 v66 v72 v78 v84 v90 hw k)).toLoadRect g6) ∧ r6 = k0_pay4 ∧ r7 = k0_pay5 ∧ (xW (sl k.val)).view.read (Elt F) g6 = (xE (act k.val)).view.read (Elt F) fx ∧ (sW (sl k.val)).view.read (Elt F) g7 = (sE (act k.val)).view.read (Elt F) fs⌝ ∗ P5 c ft ∗ P0 c q0 fg ∗ OW c ∗ PW c (xW (sl k.val)) fullShare g6 ∗ Sem0 c (xsem (sl k.val)) ∗ (A1.view.loc (c : Thread nD τ) ↦{qx (sl k.val)} fx) ∗ PW c (sW (sl k.val)) fullShare g7 ∗ Sem0 c (ssem (sl k.val)) ∗ (A3.view.loc (c : Thread nD τ) ↦{qx (sl k.val)} fs) -∗ Q ⟨r0, r1, r2, r3, r4, r5, r6, r7⟩) -∗ W c (k0_part5 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw c0_i32_87 c1_i32_89 k) Q) := by
  have hkn := klt hn hN k
  have hk : k.val < 16 := lt_of_lt_of_le hkn hn
  rw [k0_part5_eq_skeleton]
  unfold k0_part5_skel
  try dsimp only
  iintro ⟨H5, H0, HW, HIX, HIS⟩ K
  iapply (lw5 c (p16 k.val) (off34 k hk)) $$ H5
  iintro H5
  iapply (W_assume c (by rw [hT _ hkn]; exact chk34 _))
  iapply (lw0 c (act k.val) (by rw [hT _ hkn]; exact off35 _)) $$ H0
  iintro H0
  iapply (lw5 c (p16 k.val) (off36 k hk)) $$ H5
  iintro H5
  iapply (W_assume c (by rw [hT _ hkn]; exact chk35 _))
  iapply (waitX c (sl k.val) (act k.val) (off37 k hk) (off38 k hk)) $$ [HIX HW]
  · isplitl [HIX] <;> iassumption
  iintro %g6 %hg6 H6 HS6 HK6 HW
  iapply (lw5 c (p16 k.val) (off40 k hk)) $$ H5
  iintro H5
  iapply (W_assume c (by rw [hT _ hkn]; exact chk36 _))
  iapply (waitS c (sl k.val) (act k.val) (off41 k hk) (off42 k hk)) $$ [HIS HW]
  · isplitl [HIS] <;> iassumption
  iintro %g7 %hg7 H7 HS7 HK7 HW
  iapply (ld7 c (sl k.val) (off44 k hk)) $$ H7
  iintro H7
  iapply (ld6 c (sl k.val) 0 (off45 k hk) (by decide)) $$ H6
  iintro H6
  iapply W_pure
  iapply K
  isplitr; · ipureintro; exact ⟨rfl, rfl, rfl, rfl, rfl, rfl, rfl, rfl, hg6, hg7⟩
  isplitl [H5]; · iexact H5
  isplitl [H0]; · iexact H0
  isplitl [HW]; · iexact HW
  isplitl [H6]; · iexact H6
  isplitl [HS6]; · iexact HS6
  isplitl [HK6]; · iexact HK6
  isplitl [H7]; · iexact H7
  isplitl [HS7]; · iexact HS7
  iexact HK7

theorem part6  (v279 : FVec F S24x1 .f32) (v280 : IVec S24x1 32) (v281 : IVec S24x1 32) {Q : (Σ' (v322 : IVec S24x1 32) (v324 : IVec S24x1 32), IVec S24x1 1) → sProp (MT nD τ sig Unit (Elt F) ℕ UU ℕ)} :
    iprop((∀ (r0 : IVec S24x1 32) (r1 : IVec S24x1 32) (r2 : IVec S24x1 1), ⌜r0 = k0_pay6 v279 v280 v281 ∧ r1 = k0_pay7 v279 v280 v281 ∧ r2 = k0_pay8 v279 v280 v281⌝ -∗ Q ⟨r0, r1, r2⟩)) ⊢ W c (k0_part6 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v279 v280 v281) Q := by
  rw [k0_part6_eq_skeleton]
  unfold k0_part6_skel
  try dsimp only
  iintro K
  iapply W_pure
  iapply K
  ipureintro; exact ⟨rfl, rfl, rfl⟩

theorem part7 {f9 : S24x1536.Idx → Elt F .f32} (v270 : FVec F S56x12 .f32) (v274 : FVec F S24x128 .f32) (v279 : FVec F S24x1 .f32) (v322 : IVec S24x1 32) (v324 : IVec S24x1 32) (v328 : IVec S24x1 1) {Q : (FVec F S56x1 .f32) → sProp (MT nD τ sig Unit (Elt F) ℕ UU ℕ)} :
    iprop(P9 c f9) ⊢ iprop((∀ (r0 : FVec F S56x1 .f32) (g9 : S24x1536.Idx → Elt F .f32), ⌜r0 = (k0_pay10 v270) ∧ g9 = (put9 f9 (Rect.unit (s := S24x1536) ![0, 0] S24x128.size inb_S24x1536_S24x128_0_0) (k0_pay9 v274 v279 v322 v324 v328))⌝ ∗ P9 c g9 -∗ Q r0) -∗ W c (k0_part7 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v270 v274 v279 v322 v324 v328) Q) := by
  rw [k0_part7_eq_skeleton]
  unfold k0_part7_skel
  try dsimp only
  iintro H9 K
  iapply (ld9 c) $$ H9
  iintro H9
  iapply (st9 c) $$ H9
  iintro H9
  iapply W_pure
  iapply K
  isplitr; · ipureintro; exact ⟨rfl, rfl⟩
  iexact H9

include hw hn hN hT in
theorem part8 {f10 : S56x1536.Idx → Elt F .f32} {f6 : S2x24x1536.Idx → Elt F .bf16} (v245 : BitVec 32) (v372 : FVec F S56x1 .f32) {Q : (Σ' (v380 : FVec F S24x128 .f32) (v385 : FVec F S24x1 .f32) (v414 : IVec S24x1 32), IVec S24x1 32) → sProp (MT nD τ sig Unit (Elt F) ℕ UU ℕ)} :
    iprop(P10 c f10 ∗ PW c (xW (sl k.val)) fullShare f6) ⊢ iprop((∀ (r0 : FVec F S24x128 .f32) (r1 : FVec F S24x1 .f32) (r2 : IVec S24x1 32) (r3 : IVec S24x1 32) (g10 : S56x1536.Idx → Elt F .f32), ⌜r0 = k0_pay12 (A6.view.readAt (Elt F) (Rect.unit (s := S2x24x1536) (k0_off46 v0 v6 v12 v18 v24 v30 v36 v42 v48 v54 v60 v66 v72 v78 v84 v90 k) S1x24x128.size (k0_off46_inb v0 v6 v12 v18 v24 v30 v36 v42 v48 v54 v60 v66 v72 v78 v84 v90 hw k)).toLoadRect f6) ∧ r1 = k0_pay13 (A6.view.readAt (Elt F) (Rect.unit (s := S2x24x1536) (k0_off46 v0 v6 v12 v18 v24 v30 v36 v42 v48 v54 v60 v66 v72 v78 v84 v90 k) S1x24x128.size (k0_off46_inb v0 v6 v12 v18 v24 v30 v36 v42 v48 v54 v60 v66 v72 v78 v84 v90 hw k)).toLoadRect f6) ∧ r2 = k0_pay14 (A6.view.readAt (Elt F) (Rect.unit (s := S2x24x1536) (k0_off46 v0 v6 v12 v18 v24 v30 v36 v42 v48 v54 v60 v66 v72 v78 v84 v90 k) S1x24x128.size (k0_off46_inb v0 v6 v12 v18 v24 v30 v36 v42 v48 v54 v60 v66 v72 v78 v84 v90 hw k)).toLoadRect f6) ∧ r3 = k0_pay15 ∧ g10 = (put10 f10 (Rect.unit (s := S56x1536) ![0, 0] S56x128.size inb_S56x1536_S56x128_0_0) (k0_pay11 v372))⌝ ∗ P10 c g10 ∗ PW c (xW (sl k.val)) fullShare f6 -∗ Q ⟨r0, r1, r2, r3⟩) -∗ W c (k0_part8 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v372) Q) := by
  have hkn := klt hn hN k
  have hk : k.val < 16 := lt_of_lt_of_le hkn hn
  rw [k0_part8_eq_skeleton]
  unfold k0_part8_skel
  try dsimp only
  iintro ⟨H10, H6⟩ K
  iapply (ld10 c) $$ H10
  iintro H10
  iapply (st10 c) $$ H10
  iintro H10
  iapply (ld6 c (sl k.val) 128 (off46 k hk) (by decide)) $$ H6
  iintro H6
  iapply W_pure
  iapply K
  isplitr; · ipureintro; exact ⟨rfl, rfl, rfl, rfl, rfl⟩
  isplitl [H10]; · iexact H10
  iexact H6

theorem part9  (v380 : FVec F S24x128 .f32) (v385 : FVec F S24x1 .f32) (v414 : IVec S24x1 32) (v415 : IVec S24x1 32) {Q : (Σ' (v451 : IVec S24x1 32) (v460 : FVec F S24x128 .f32), F .f32) → sProp (MT nD τ sig Unit (Elt F) ℕ UU ℕ)} :
    iprop((∀ (r0 : IVec S24x1 32) (r1 : FVec F S24x128 .f32) (r2 : F .f32), ⌜r0 = k0_pay16 v385 v414 v415 ∧ r1 = k0_pay17 v380 v385 v414 v415 ∧ r2 = (Scalar.ofBits .f32 0xC3E00000#32)⌝ -∗ Q ⟨r0, r1, r2⟩)) ⊢ W c (k0_part9 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v380 v385 v414 v415) Q := by
  rw [k0_part9_eq_skeleton]
  unfold k0_part9_skel
  try dsimp only
  iintro K
  iapply W_pure
  iapply K
  ipureintro; exact ⟨rfl, rfl, rfl⟩

include hw hn hN hT in
theorem part10 {f9 : S24x1536.Idx → Elt F .f32} {f10 : S56x1536.Idx → Elt F .f32} {f6 : S2x24x1536.Idx → Elt F .bf16} (v245 : BitVec 32) (v270 : FVec F S56x12 .f32) (v451 : IVec S24x1 32) (v460 : FVec F S24x128 .f32) (cst_206 : F .f32) {Q : (Σ' (v486 : FVec F S24x128 .f32) (v491 : FVec F S24x1 .f32) (v499 : IVec S24x1 32) (v501 : IVec S24x1 32), IVec S24x1 32) → sProp (MT nD τ sig Unit (Elt F) ℕ UU ℕ)} :
    iprop(P9 c f9 ∗ P10 c f10 ∗ PW c (xW (sl k.val)) fullShare f6) ⊢ iprop((∀ (r0 : FVec F S24x128 .f32) (r1 : FVec F S24x1 .f32) (r2 : IVec S24x1 32) (r3 : IVec S24x1 32) (r4 : IVec S24x1 32) (g9 : S24x1536.Idx → Elt F .f32) (g10 : S56x1536.Idx → Elt F .f32), ⌜r0 = k0_pay20 (A6.view.readAt (Elt F) (Rect.unit (s := S2x24x1536) (k0_off47 v0 v6 v12 v18 v24 v30 v36 v42 v48 v54 v60 v66 v72 v78 v84 v90 k) S1x24x128.size (k0_off47_inb v0 v6 v12 v18 v24 v30 v36 v42 v48 v54 v60 v66 v72 v78 v84 v90 hw k)).toLoadRect f6) ∧ r1 = k0_pay21 (A6.view.readAt (Elt F) (Rect.unit (s := S2x24x1536) (k0_off47 v0 v6 v12 v18 v24 v30 v36 v42 v48 v54 v60 v66 v72 v78 v84 v90 k) S1x24x128.size (k0_off47_inb v0 v6 v12 v18 v24 v30 v36 v42 v48 v54 v60 v66 v72 v78 v84 v90 hw k)).toLoadRect f6) ∧ r2 = k0_pay22 (A6.view.readAt (Elt F) (Rect.unit (s := S2x24x1536) (k0_off47 v0 v6 v12 v18 v24 v30 v36 v42 v48 v54 v60 v66 v72 v78 v84 v90 k) S1x24x128.size (k0_off47_inb v0 v6 v12 v18 v24 v30 v36 v42 v48 v54 v60 v66 v72 v78 v84 v90 hw k)).toLoadRect f6) ∧ r3 = k0_pay23 (A6.view.readAt (Elt F) (Rect.unit (s := S2x24x1536) (k0_off47 v0 v6 v12 v18 v24 v30 v36 v42 v48 v54 v60 v66 v72 v78 v84 v90 k) S1x24x128.size (k0_off47_inb v0 v6 v12 v18 v24 v30 v36 v42 v48 v54 v60 v66 v72 v78 v84 v90 hw k)).toLoadRect f6) ∧ r4 = k0_pay24 ∧ g9 = (put9 f9 (Rect.unit (s := S24x1536) ![0, 128] S24x128.size inb_S24x1536_S24x128_0_128) (k0_pay18 v451 v460 cst_206)) ∧ g10 = (put10 f10 (Rect.unit (s := S56x1536) ![0, 128] S56x128.size inb_S56x1536_S56x128_0_128) (k0_pay19 v270))⌝ ∗ P9 c g9 ∗ P10 c g10 ∗ PW c (xW (sl k.val)) fullShare f6 -∗ Q ⟨r0, r1, r2, r3, r4⟩) -∗ W c (k0_part10 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v270 v451 v460 cst_206) Q) := by
  have hkn := klt hn hN k
  have hk : k.val < 16 := lt_of_lt_of_le hkn hn
  rw [k0_part10_eq_skeleton]
  unfold k0_part10_skel
  try dsimp only
  iintro ⟨H9, H10, H6⟩ K
  iapply (ld9 c) $$ H9
  iintro H9
  iapply (st9 c) $$ H9
  iintro H9
  iapply (ld10 c) $$ H10
  iintro H10
  iapply (st10 c) $$ H10
  iintro H10
  iapply (ld6 c (sl k.val) 256 (off47 k hk) (by decide)) $$ H6
  iintro H6
  iapply W_pure
  iapply K
  isplitr; · ipureintro; exact ⟨rfl, rfl, rfl, rfl, rfl, rfl, rfl⟩
  isplitl [H9]; · iexact H9
  isplitl [H10]; · iexact H10
  iexact H6

theorem part11  (v491 : FVec F S24x1 .f32) (v499 : IVec S24x1 32) (v501 : IVec S24x1 32) (v502 : IVec S24x1 32) {Q : (Σ' (v548 : IVec S24x1 32), IVec S24x1 32) → sProp (MT nD τ sig Unit (Elt F) ℕ UU ℕ)} :
    iprop((∀ (r0 : IVec S24x1 32) (r1 : IVec S24x1 32), ⌜r0 = k0_pay25 v491 v499 v501 v502 ∧ r1 = k0_pay26⌝ -∗ Q ⟨r0, r1⟩)) ⊢ W c (k0_part11 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v491 v499 v501 v502) Q := by
  rw [k0_part11_eq_skeleton]
  unfold k0_part11_skel
  try dsimp only
  iintro K
  iapply W_pure
  iapply K
  ipureintro; exact ⟨rfl, rfl⟩

include hw hn hN hT in
theorem part12 {f9 : S24x1536.Idx → Elt F .f32} {f10 : S56x1536.Idx → Elt F .f32} {f6 : S2x24x1536.Idx → Elt F .bf16} (v245 : BitVec 32) (v270 : FVec F S56x12 .f32) (v486 : FVec F S24x128 .f32) (v548 : IVec S24x1 32) (v549 : IVec S24x1 32) {Q : (FVec F S24x128 .bf16) → sProp (MT nD τ sig Unit (Elt F) ℕ UU ℕ)} :
    iprop(P9 c f9 ∗ P10 c f10 ∗ PW c (xW (sl k.val)) fullShare f6) ⊢ iprop((∀ (r0 : FVec F S24x128 .bf16) (g9 : S24x1536.Idx → Elt F .f32) (g10 : S56x1536.Idx → Elt F .f32), ⌜r0 = (k0_pay29 (A6.view.readAt (Elt F) (Rect.unit (s := S2x24x1536) (k0_off48 v0 v6 v12 v18 v24 v30 v36 v42 v48 v54 v60 v66 v72 v78 v84 v90 k) S1x24x128.size (k0_off48_inb v0 v6 v12 v18 v24 v30 v36 v42 v48 v54 v60 v66 v72 v78 v84 v90 hw k)).toLoadRect f6)) ∧ g9 = (put9 f9 (Rect.unit (s := S24x1536) ![0, 256] S24x128.size inb_S24x1536_S24x128_0_256) (k0_pay27 v486 v548 v549)) ∧ g10 = (put10 f10 (Rect.unit (s := S56x1536) ![0, 256] S56x128.size inb_S56x1536_S56x128_0_256) (k0_pay28 v270))⌝ ∗ P9 c g9 ∗ P10 c g10 ∗ PW c (xW (sl k.val)) fullShare f6 -∗ Q r0) -∗ W c (k0_part12 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v270 v486 v548 v549) Q) := by
  have hkn := klt hn hN k
  have hk : k.val < 16 := lt_of_lt_of_le hkn hn
  rw [k0_part12_eq_skeleton]
  unfold k0_part12_skel
  try dsimp only
  iintro ⟨H9, H10, H6⟩ K
  iapply (ld9 c) $$ H9
  iintro H9
  iapply (st9 c) $$ H9
  iintro H9
  iapply (ld10 c) $$ H10
  iintro H10
  iapply (st10 c) $$ H10
  iintro H10
  iapply (ld6 c (sl k.val) 384 (off48 k hk) (by decide)) $$ H6
  iintro H6
  iapply W_pure
  iapply K
  isplitr; · ipureintro; exact ⟨rfl, rfl, rfl⟩
  isplitl [H9]; · iexact H9
  isplitl [H10]; · iexact H10
  iexact H6

theorem part13  (v591 : FVec F S24x128 .bf16) {Q : (Σ' (v592 : FVec F S24x128 .f32) (v597 : FVec F S24x1 .f32) (v633 : IVec S24x1 32) (v635 : IVec S24x1 32), IVec S24x1 32) → sProp (MT nD τ sig Unit (Elt F) ℕ UU ℕ)} :
    iprop((∀ (r0 : FVec F S24x128 .f32) (r1 : FVec F S24x1 .f32) (r2 : IVec S24x1 32) (r3 : IVec S24x1 32) (r4 : IVec S24x1 32), ⌜r0 = k0_pay30 v591 ∧ r1 = k0_pay31 v591 ∧ r2 = k0_pay32 v591 ∧ r3 = k0_pay33 v591 ∧ r4 = k0_pay34⌝ -∗ Q ⟨r0, r1, r2, r3, r4⟩)) ⊢ W c (k0_part13 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v591) Q := by
  rw [k0_part13_eq_skeleton]
  unfold k0_part13_skel
  try dsimp only
  iintro K
  iapply W_pure
  iapply K
  ipureintro; exact ⟨rfl, rfl, rfl, rfl, rfl⟩

theorem part14  (v592 : FVec F S24x128 .f32) (v597 : FVec F S24x1 .f32) (v633 : IVec S24x1 32) (v635 : IVec S24x1 32) (v636 : IVec S24x1 32) {Q : (Σ' (v678 : FVec F S24x128 .f32) (v680 : IVec S24x1 32), IVec S24x1 32) → sProp (MT nD τ sig Unit (Elt F) ℕ UU ℕ)} :
    iprop((∀ (r0 : FVec F S24x128 .f32) (r1 : IVec S24x1 32) (r2 : IVec S24x1 32), ⌜r0 = k0_pay36 v592 v597 v633 v635 v636 ∧ r1 = k0_pay37 v597 v633 v635 v636 ∧ r2 = k0_pay38⌝ -∗ Q ⟨r0, r1, r2⟩)) ⊢ W c (k0_part14 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v592 v597 v633 v635 v636) Q := by
  rw [k0_part14_eq_skeleton]
  unfold k0_part14_skel
  try dsimp only
  iintro K
  iapply W_pure
  iapply K
  ipureintro; exact ⟨rfl, rfl, rfl⟩

include hw hn hN hT in
theorem part15 {f9 : S24x1536.Idx → Elt F .f32} {f10 : S56x1536.Idx → Elt F .f32} {f6 : S2x24x1536.Idx → Elt F .bf16} (v245 : BitVec 32) (v270 : FVec F S56x12 .f32) (v678 : FVec F S24x128 .f32) (v680 : IVec S24x1 32) (v681 : IVec S24x1 32) {Q : (Σ' (v698 : FVec F S24x128 .f32) (v703 : FVec F S24x1 .f32) (v718 : IVec S24x1 32) (v720 : IVec S24x1 32), IVec S24x1 1) → sProp (MT nD τ sig Unit (Elt F) ℕ UU ℕ)} :
    iprop(P9 c f9 ∗ P10 c f10 ∗ PW c (xW (sl k.val)) fullShare f6) ⊢ iprop((∀ (r0 : FVec F S24x128 .f32) (r1 : FVec F S24x1 .f32) (r2 : IVec S24x1 32) (r3 : IVec S24x1 32) (r4 : IVec S24x1 1) (g9 : S24x1536.Idx → Elt F .f32) (g10 : S56x1536.Idx → Elt F .f32), ⌜r0 = k0_pay41 (A6.view.readAt (Elt F) (Rect.unit (s := S2x24x1536) (k0_off49 v0 v6 v12 v18 v24 v30 v36 v42 v48 v54 v60 v66 v72 v78 v84 v90 k) S1x24x128.size (k0_off49_inb v0 v6 v12 v18 v24 v30 v36 v42 v48 v54 v60 v66 v72 v78 v84 v90 hw k)).toLoadRect f6) ∧ r1 = k0_pay42 (A6.view.readAt (Elt F) (Rect.unit (s := S2x24x1536) (k0_off49 v0 v6 v12 v18 v24 v30 v36 v42 v48 v54 v60 v66 v72 v78 v84 v90 k) S1x24x128.size (k0_off49_inb v0 v6 v12 v18 v24 v30 v36 v42 v48 v54 v60 v66 v72 v78 v84 v90 hw k)).toLoadRect f6) ∧ r2 = k0_pay43 (A6.view.readAt (Elt F) (Rect.unit (s := S2x24x1536) (k0_off49 v0 v6 v12 v18 v24 v30 v36 v42 v48 v54 v60 v66 v72 v78 v84 v90 k) S1x24x128.size (k0_off49_inb v0 v6 v12 v18 v24 v30 v36 v42 v48 v54 v60 v66 v72 v78 v84 v90 hw k)).toLoadRect f6) ∧ r3 = k0_pay44 (A6.view.readAt (Elt F) (Rect.unit (s := S2x24x1536) (k0_off49 v0 v6 v12 v18 v24 v30 v36 v42 v48 v54 v60 v66 v72 v78 v84 v90 k) S1x24x128.size (k0_off49_inb v0 v6 v12 v18 v24 v30 v36 v42 v48 v54 v60 v66 v72 v78 v84 v90 hw k)).toLoadRect f6) ∧ r4 = k0_pay45 (A6.view.readAt (Elt F) (Rect.unit (s := S2x24x1536) (k0_off49 v0 v6 v12 v18 v24 v30 v36 v42 v48 v54 v60 v66 v72 v78 v84 v90 k) S1x24x128.size (k0_off49_inb v0 v6 v12 v18 v24 v30 v36 v42 v48 v54 v60 v66 v72 v78 v84 v90 hw k)).toLoadRect f6) ∧ g9 = (put9 f9 (Rect.unit (s := S24x1536) ![0, 384] S24x128.size inb_S24x1536_S24x128_0_384) (k0_pay39 v678 v680 v681)) ∧ g10 = (put10 f10 (Rect.unit (s := S56x1536) ![0, 384] S56x128.size inb_S56x1536_S56x128_0_384) (k0_pay40 v270))⌝ ∗ P9 c g9 ∗ P10 c g10 ∗ PW c (xW (sl k.val)) fullShare f6 -∗ Q ⟨r0, r1, r2, r3, r4⟩) -∗ W c (k0_part15 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v270 v678 v680 v681) Q) := by
  have hkn := klt hn hN k
  have hk : k.val < 16 := lt_of_lt_of_le hkn hn
  rw [k0_part15_eq_skeleton]
  unfold k0_part15_skel
  try dsimp only
  iintro ⟨H9, H10, H6⟩ K
  iapply (ld9 c) $$ H9
  iintro H9
  iapply (st9 c) $$ H9
  iintro H9
  iapply (ld10 c) $$ H10
  iintro H10
  iapply (st10 c) $$ H10
  iintro H10
  iapply (ld6 c (sl k.val) 512 (off49 k hk) (by decide)) $$ H6
  iintro H6
  iapply W_pure
  iapply K
  isplitr; · ipureintro; exact ⟨rfl, rfl, rfl, rfl, rfl, rfl, rfl⟩
  isplitl [H9]; · iexact H9
  isplitl [H10]; · iexact H10
  iexact H6

theorem part16  (v703 : FVec F S24x1 .f32) (v718 : IVec S24x1 32) (v720 : IVec S24x1 32) (v724 : IVec S24x1 1) {Q : (Σ' (v769 : IVec S24x1 32), BitVec 32) → sProp (MT nD τ sig Unit (Elt F) ℕ UU ℕ)} :
    iprop((∀ (r0 : IVec S24x1 32) (r1 : BitVec 32), ⌜r0 = k0_pay46 v703 v718 v720 v724 ∧ r1 = 0#32⌝ -∗ Q ⟨r0, r1⟩)) ⊢ W c (k0_part16 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v703 v718 v720 v724) Q := by
  rw [k0_part16_eq_skeleton]
  unfold k0_part16_skel
  try dsimp only
  iintro K
  iapply W_pure
  iapply K
  ipureintro; exact ⟨rfl, rfl⟩

include hw hn hN hT in
theorem part17 {f9 : S24x1536.Idx → Elt F .f32} {f10 : S56x1536.Idx → Elt F .f32} {f6 : S2x24x1536.Idx → Elt F .bf16} (v245 : BitVec 32) (v270 : FVec F S56x12 .f32) (v698 : FVec F S24x128 .f32) (v769 : IVec S24x1 32) (c0_i32_308 : BitVec 32) {Q : (Σ' (v804 : FVec F S24x128 .f32) (v809 : FVec F S24x1 .f32) (v810 : IVec S24x1 32), IVec S24x1 32) → sProp (MT nD τ sig Unit (Elt F) ℕ UU ℕ)} :
    iprop(P9 c f9 ∗ P10 c f10 ∗ PW c (xW (sl k.val)) fullShare f6) ⊢ iprop((∀ (r0 : FVec F S24x128 .f32) (r1 : FVec F S24x1 .f32) (r2 : IVec S24x1 32) (r3 : IVec S24x1 32) (g9 : S24x1536.Idx → Elt F .f32) (g10 : S56x1536.Idx → Elt F .f32), ⌜r0 = k0_pay49 (A6.view.readAt (Elt F) (Rect.unit (s := S2x24x1536) (k0_off50 v0 v6 v12 v18 v24 v30 v36 v42 v48 v54 v60 v66 v72 v78 v84 v90 k) S1x24x128.size (k0_off50_inb v0 v6 v12 v18 v24 v30 v36 v42 v48 v54 v60 v66 v72 v78 v84 v90 hw k)).toLoadRect f6) ∧ r1 = k0_pay50 (A6.view.readAt (Elt F) (Rect.unit (s := S2x24x1536) (k0_off50 v0 v6 v12 v18 v24 v30 v36 v42 v48 v54 v60 v66 v72 v78 v84 v90 k) S1x24x128.size (k0_off50_inb v0 v6 v12 v18 v24 v30 v36 v42 v48 v54 v60 v66 v72 v78 v84 v90 hw k)).toLoadRect f6) ∧ r2 = k0_pay51 ∧ r3 = k0_pay52 ∧ g9 = (put9 f9 (Rect.unit (s := S24x1536) ![0, 512] S24x128.size inb_S24x1536_S24x128_0_512) (k0_pay47 v698 v769 c0_i32_308)) ∧ g10 = (put10 f10 (Rect.unit (s := S56x1536) ![0, 512] S56x128.size inb_S56x1536_S56x128_0_512) (k0_pay48 v270))⌝ ∗ P9 c g9 ∗ P10 c g10 ∗ PW c (xW (sl k.val)) fullShare f6 -∗ Q ⟨r0, r1, r2, r3⟩) -∗ W c (k0_part17 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v270 v698 v769 c0_i32_308) Q) := by
  have hkn := klt hn hN k
  have hk : k.val < 16 := lt_of_lt_of_le hkn hn
  rw [k0_part17_eq_skeleton]
  unfold k0_part17_skel
  try dsimp only
  iintro ⟨H9, H10, H6⟩ K
  iapply (ld9 c) $$ H9
  iintro H9
  iapply (st9 c) $$ H9
  iintro H9
  iapply (ld10 c) $$ H10
  iintro H10
  iapply (st10 c) $$ H10
  iintro H10
  iapply (ld6 c (sl k.val) 640 (off50 k hk) (by decide)) $$ H6
  iintro H6
  iapply W_pure
  iapply K
  isplitr; · ipureintro; exact ⟨rfl, rfl, rfl, rfl, rfl, rfl⟩
  isplitl [H9]; · iexact H9
  isplitl [H10]; · iexact H10
  iexact H6

theorem part18  (v809 : FVec F S24x1 .f32) (v810 : IVec S24x1 32) (v811 : IVec S24x1 32) {Q : (Σ' (v852 : IVec S24x1 32) (v854 : IVec S24x1 32), IVec S24x1 1) → sProp (MT nD τ sig Unit (Elt F) ℕ UU ℕ)} :
    iprop((∀ (r0 : IVec S24x1 32) (r1 : IVec S24x1 32) (r2 : IVec S24x1 1), ⌜r0 = k0_pay53 v809 v810 v811 ∧ r1 = k0_pay54 v809 v810 v811 ∧ r2 = k0_pay55 v809 v810 v811⌝ -∗ Q ⟨r0, r1, r2⟩)) ⊢ W c (k0_part18 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v809 v810 v811) Q := by
  rw [k0_part18_eq_skeleton]
  unfold k0_part18_skel
  try dsimp only
  iintro K
  iapply W_pure
  iapply K
  ipureintro; exact ⟨rfl, rfl, rfl⟩

theorem part19 {f9 : S24x1536.Idx → Elt F .f32} (v270 : FVec F S56x12 .f32) (v804 : FVec F S24x128 .f32) (v809 : FVec F S24x1 .f32) (v852 : IVec S24x1 32) (v854 : IVec S24x1 32) (v858 : IVec S24x1 1) {Q : (FVec F S56x1 .f32) → sProp (MT nD τ sig Unit (Elt F) ℕ UU ℕ)} :
    iprop(P9 c f9) ⊢ iprop((∀ (r0 : FVec F S56x1 .f32) (g9 : S24x1536.Idx → Elt F .f32), ⌜r0 = (k0_pay57 v270) ∧ g9 = (put9 f9 (Rect.unit (s := S24x1536) ![0, 640] S24x128.size inb_S24x1536_S24x128_0_640) (k0_pay56 v804 v809 v852 v854 v858))⌝ ∗ P9 c g9 -∗ Q r0) -∗ W c (k0_part19 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v270 v804 v809 v852 v854 v858) Q) := by
  rw [k0_part19_eq_skeleton]
  unfold k0_part19_skel
  try dsimp only
  iintro H9 K
  iapply (ld9 c) $$ H9
  iintro H9
  iapply (st9 c) $$ H9
  iintro H9
  iapply W_pure
  iapply K
  isplitr; · ipureintro; exact ⟨rfl, rfl⟩
  iexact H9

include hw hn hN hT in
theorem part20 {f10 : S56x1536.Idx → Elt F .f32} {f6 : S2x24x1536.Idx → Elt F .bf16} (v245 : BitVec 32) (v902 : FVec F S56x1 .f32) {Q : (Σ' (v910 : FVec F S24x128 .f32) (v915 : FVec F S24x1 .f32) (v944 : IVec S24x1 32), IVec S24x1 32) → sProp (MT nD τ sig Unit (Elt F) ℕ UU ℕ)} :
    iprop(P10 c f10 ∗ PW c (xW (sl k.val)) fullShare f6) ⊢ iprop((∀ (r0 : FVec F S24x128 .f32) (r1 : FVec F S24x1 .f32) (r2 : IVec S24x1 32) (r3 : IVec S24x1 32) (g10 : S56x1536.Idx → Elt F .f32), ⌜r0 = k0_pay59 (A6.view.readAt (Elt F) (Rect.unit (s := S2x24x1536) (k0_off51 v0 v6 v12 v18 v24 v30 v36 v42 v48 v54 v60 v66 v72 v78 v84 v90 k) S1x24x128.size (k0_off51_inb v0 v6 v12 v18 v24 v30 v36 v42 v48 v54 v60 v66 v72 v78 v84 v90 hw k)).toLoadRect f6) ∧ r1 = k0_pay60 (A6.view.readAt (Elt F) (Rect.unit (s := S2x24x1536) (k0_off51 v0 v6 v12 v18 v24 v30 v36 v42 v48 v54 v60 v66 v72 v78 v84 v90 k) S1x24x128.size (k0_off51_inb v0 v6 v12 v18 v24 v30 v36 v42 v48 v54 v60 v66 v72 v78 v84 v90 hw k)).toLoadRect f6) ∧ r2 = k0_pay61 (A6.view.readAt (Elt F) (Rect.unit (s := S2x24x1536) (k0_off51 v0 v6 v12 v18 v24 v30 v36 v42 v48 v54 v60 v66 v72 v78 v84 v90 k) S1x24x128.size (k0_off51_inb v0 v6 v12 v18 v24 v30 v36 v42 v48 v54 v60 v66 v72 v78 v84 v90 hw k)).toLoadRect f6) ∧ r3 = k0_pay62 ∧ g10 = (put10 f10 (Rect.unit (s := S56x1536) ![0, 640] S56x128.size inb_S56x1536_S56x128_0_640) (k0_pay58 v902))⌝ ∗ P10 c g10 ∗ PW c (xW (sl k.val)) fullShare f6 -∗ Q ⟨r0, r1, r2, r3⟩) -∗ W c (k0_part20 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v902) Q) := by
  have hkn := klt hn hN k
  have hk : k.val < 16 := lt_of_lt_of_le hkn hn
  rw [k0_part20_eq_skeleton]
  unfold k0_part20_skel
  try dsimp only
  iintro ⟨H10, H6⟩ K
  iapply (ld10 c) $$ H10
  iintro H10
  iapply (st10 c) $$ H10
  iintro H10
  iapply (ld6 c (sl k.val) 768 (off51 k hk) (by decide)) $$ H6
  iintro H6
  iapply W_pure
  iapply K
  isplitr; · ipureintro; exact ⟨rfl, rfl, rfl, rfl, rfl⟩
  isplitl [H10]; · iexact H10
  iexact H6

theorem part21  (v910 : FVec F S24x128 .f32) (v915 : FVec F S24x1 .f32) (v944 : IVec S24x1 32) (v945 : IVec S24x1 32) {Q : (Σ' (v981 : IVec S24x1 32) (v990 : FVec F S24x128 .f32), F .f32) → sProp (MT nD τ sig Unit (Elt F) ℕ UU ℕ)} :
    iprop((∀ (r0 : IVec S24x1 32) (r1 : FVec F S24x128 .f32) (r2 : F .f32), ⌜r0 = k0_pay63 v915 v944 v945 ∧ r1 = k0_pay64 v910 v915 v944 v945 ∧ r2 = (Scalar.ofBits .f32 0xC3E00000#32)⌝ -∗ Q ⟨r0, r1, r2⟩)) ⊢ W c (k0_part21 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v910 v915 v944 v945) Q := by
  rw [k0_part21_eq_skeleton]
  unfold k0_part21_skel
  try dsimp only
  iintro K
  iapply W_pure
  iapply K
  ipureintro; exact ⟨rfl, rfl, rfl⟩

include hw hn hN hT in
theorem part22 {f9 : S24x1536.Idx → Elt F .f32} {f10 : S56x1536.Idx → Elt F .f32} {f6 : S2x24x1536.Idx → Elt F .bf16} (v245 : BitVec 32) (v270 : FVec F S56x12 .f32) (v981 : IVec S24x1 32) (v990 : FVec F S24x128 .f32) (cst_381 : F .f32) {Q : (Σ' (v1016 : FVec F S24x128 .f32) (v1021 : FVec F S24x1 .f32) (v1029 : IVec S24x1 32) (v1031 : IVec S24x1 32), IVec S24x1 32) → sProp (MT nD τ sig Unit (Elt F) ℕ UU ℕ)} :
    iprop(P9 c f9 ∗ P10 c f10 ∗ PW c (xW (sl k.val)) fullShare f6) ⊢ iprop((∀ (r0 : FVec F S24x128 .f32) (r1 : FVec F S24x1 .f32) (r2 : IVec S24x1 32) (r3 : IVec S24x1 32) (r4 : IVec S24x1 32) (g9 : S24x1536.Idx → Elt F .f32) (g10 : S56x1536.Idx → Elt F .f32), ⌜r0 = k0_pay67 (A6.view.readAt (Elt F) (Rect.unit (s := S2x24x1536) (k0_off52 v0 v6 v12 v18 v24 v30 v36 v42 v48 v54 v60 v66 v72 v78 v84 v90 k) S1x24x128.size (k0_off52_inb v0 v6 v12 v18 v24 v30 v36 v42 v48 v54 v60 v66 v72 v78 v84 v90 hw k)).toLoadRect f6) ∧ r1 = k0_pay68 (A6.view.readAt (Elt F) (Rect.unit (s := S2x24x1536) (k0_off52 v0 v6 v12 v18 v24 v30 v36 v42 v48 v54 v60 v66 v72 v78 v84 v90 k) S1x24x128.size (k0_off52_inb v0 v6 v12 v18 v24 v30 v36 v42 v48 v54 v60 v66 v72 v78 v84 v90 hw k)).toLoadRect f6) ∧ r2 = k0_pay69 (A6.view.readAt (Elt F) (Rect.unit (s := S2x24x1536) (k0_off52 v0 v6 v12 v18 v24 v30 v36 v42 v48 v54 v60 v66 v72 v78 v84 v90 k) S1x24x128.size (k0_off52_inb v0 v6 v12 v18 v24 v30 v36 v42 v48 v54 v60 v66 v72 v78 v84 v90 hw k)).toLoadRect f6) ∧ r3 = k0_pay70 (A6.view.readAt (Elt F) (Rect.unit (s := S2x24x1536) (k0_off52 v0 v6 v12 v18 v24 v30 v36 v42 v48 v54 v60 v66 v72 v78 v84 v90 k) S1x24x128.size (k0_off52_inb v0 v6 v12 v18 v24 v30 v36 v42 v48 v54 v60 v66 v72 v78 v84 v90 hw k)).toLoadRect f6) ∧ r4 = k0_pay71 ∧ g9 = (put9 f9 (Rect.unit (s := S24x1536) ![0, 768] S24x128.size inb_S24x1536_S24x128_0_768) (k0_pay65 v981 v990 cst_381)) ∧ g10 = (put10 f10 (Rect.unit (s := S56x1536) ![0, 768] S56x128.size inb_S56x1536_S56x128_0_768) (k0_pay66 v270))⌝ ∗ P9 c g9 ∗ P10 c g10 ∗ PW c (xW (sl k.val)) fullShare f6 -∗ Q ⟨r0, r1, r2, r3, r4⟩) -∗ W c (k0_part22 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v270 v981 v990 cst_381) Q) := by
  have hkn := klt hn hN k
  have hk : k.val < 16 := lt_of_lt_of_le hkn hn
  rw [k0_part22_eq_skeleton]
  unfold k0_part22_skel
  try dsimp only
  iintro ⟨H9, H10, H6⟩ K
  iapply (ld9 c) $$ H9
  iintro H9
  iapply (st9 c) $$ H9
  iintro H9
  iapply (ld10 c) $$ H10
  iintro H10
  iapply (st10 c) $$ H10
  iintro H10
  iapply (ld6 c (sl k.val) 896 (off52 k hk) (by decide)) $$ H6
  iintro H6
  iapply W_pure
  iapply K
  isplitr; · ipureintro; exact ⟨rfl, rfl, rfl, rfl, rfl, rfl, rfl⟩
  isplitl [H9]; · iexact H9
  isplitl [H10]; · iexact H10
  iexact H6

theorem part23  (v1021 : FVec F S24x1 .f32) (v1029 : IVec S24x1 32) (v1031 : IVec S24x1 32) (v1032 : IVec S24x1 32) {Q : (Σ' (v1078 : IVec S24x1 32), IVec S24x1 32) → sProp (MT nD τ sig Unit (Elt F) ℕ UU ℕ)} :
    iprop((∀ (r0 : IVec S24x1 32) (r1 : IVec S24x1 32), ⌜r0 = k0_pay72 v1021 v1029 v1031 v1032 ∧ r1 = k0_pay73⌝ -∗ Q ⟨r0, r1⟩)) ⊢ W c (k0_part23 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v1021 v1029 v1031 v1032) Q := by
  rw [k0_part23_eq_skeleton]
  unfold k0_part23_skel
  try dsimp only
  iintro K
  iapply W_pure
  iapply K
  ipureintro; exact ⟨rfl, rfl⟩

include hw hn hN hT in
theorem part24 {f9 : S24x1536.Idx → Elt F .f32} {f10 : S56x1536.Idx → Elt F .f32} {f6 : S2x24x1536.Idx → Elt F .bf16} (v245 : BitVec 32) (v270 : FVec F S56x12 .f32) (v1016 : FVec F S24x128 .f32) (v1078 : IVec S24x1 32) (v1079 : IVec S24x1 32) {Q : (FVec F S24x128 .bf16) → sProp (MT nD τ sig Unit (Elt F) ℕ UU ℕ)} :
    iprop(P9 c f9 ∗ P10 c f10 ∗ PW c (xW (sl k.val)) fullShare f6) ⊢ iprop((∀ (r0 : FVec F S24x128 .bf16) (g9 : S24x1536.Idx → Elt F .f32) (g10 : S56x1536.Idx → Elt F .f32), ⌜r0 = (k0_pay76 (A6.view.readAt (Elt F) (Rect.unit (s := S2x24x1536) (k0_off53 v0 v6 v12 v18 v24 v30 v36 v42 v48 v54 v60 v66 v72 v78 v84 v90 k) S1x24x128.size (k0_off53_inb v0 v6 v12 v18 v24 v30 v36 v42 v48 v54 v60 v66 v72 v78 v84 v90 hw k)).toLoadRect f6)) ∧ g9 = (put9 f9 (Rect.unit (s := S24x1536) ![0, 896] S24x128.size inb_S24x1536_S24x128_0_896) (k0_pay74 v1016 v1078 v1079)) ∧ g10 = (put10 f10 (Rect.unit (s := S56x1536) ![0, 896] S56x128.size inb_S56x1536_S56x128_0_896) (k0_pay75 v270))⌝ ∗ P9 c g9 ∗ P10 c g10 ∗ PW c (xW (sl k.val)) fullShare f6 -∗ Q r0) -∗ W c (k0_part24 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v270 v1016 v1078 v1079) Q) := by
  have hkn := klt hn hN k
  have hk : k.val < 16 := lt_of_lt_of_le hkn hn
  rw [k0_part24_eq_skeleton]
  unfold k0_part24_skel
  try dsimp only
  iintro ⟨H9, H10, H6⟩ K
  iapply (ld9 c) $$ H9
  iintro H9
  iapply (st9 c) $$ H9
  iintro H9
  iapply (ld10 c) $$ H10
  iintro H10
  iapply (st10 c) $$ H10
  iintro H10
  iapply (ld6 c (sl k.val) 1024 (off53 k hk) (by decide)) $$ H6
  iintro H6
  iapply W_pure
  iapply K
  isplitr; · ipureintro; exact ⟨rfl, rfl, rfl⟩
  isplitl [H9]; · iexact H9
  isplitl [H10]; · iexact H10
  iexact H6

theorem part25  (v1121 : FVec F S24x128 .bf16) {Q : (Σ' (v1122 : FVec F S24x128 .f32) (v1127 : FVec F S24x1 .f32) (v1163 : IVec S24x1 32) (v1165 : IVec S24x1 32), IVec S24x1 32) → sProp (MT nD τ sig Unit (Elt F) ℕ UU ℕ)} :
    iprop((∀ (r0 : FVec F S24x128 .f32) (r1 : FVec F S24x1 .f32) (r2 : IVec S24x1 32) (r3 : IVec S24x1 32) (r4 : IVec S24x1 32), ⌜r0 = k0_pay77 v1121 ∧ r1 = k0_pay78 v1121 ∧ r2 = k0_pay79 v1121 ∧ r3 = k0_pay80 v1121 ∧ r4 = k0_pay81⌝ -∗ Q ⟨r0, r1, r2, r3, r4⟩)) ⊢ W c (k0_part25 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v1121) Q := by
  rw [k0_part25_eq_skeleton]
  unfold k0_part25_skel
  try dsimp only
  iintro K
  iapply W_pure
  iapply K
  ipureintro; exact ⟨rfl, rfl, rfl, rfl, rfl⟩

theorem part26  (v1122 : FVec F S24x128 .f32) (v1127 : FVec F S24x1 .f32) (v1163 : IVec S24x1 32) (v1165 : IVec S24x1 32) (v1166 : IVec S24x1 32) {Q : (Σ' (v1208 : FVec F S24x128 .f32) (v1210 : IVec S24x1 32), IVec S24x1 32) → sProp (MT nD τ sig Unit (Elt F) ℕ UU ℕ)} :
    iprop((∀ (r0 : FVec F S24x128 .f32) (r1 : IVec S24x1 32) (r2 : IVec S24x1 32), ⌜r0 = k0_pay83 v1122 v1127 v1163 v1165 v1166 ∧ r1 = k0_pay84 v1127 v1163 v1165 v1166 ∧ r2 = k0_pay85⌝ -∗ Q ⟨r0, r1, r2⟩)) ⊢ W c (k0_part26 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v1122 v1127 v1163 v1165 v1166) Q := by
  rw [k0_part26_eq_skeleton]
  unfold k0_part26_skel
  try dsimp only
  iintro K
  iapply W_pure
  iapply K
  ipureintro; exact ⟨rfl, rfl, rfl⟩

include hw hn hN hT in
theorem part27 {f9 : S24x1536.Idx → Elt F .f32} {f10 : S56x1536.Idx → Elt F .f32} {f6 : S2x24x1536.Idx → Elt F .bf16} (v245 : BitVec 32) (v270 : FVec F S56x12 .f32) (v1208 : FVec F S24x128 .f32) (v1210 : IVec S24x1 32) (v1211 : IVec S24x1 32) {Q : (Σ' (v1228 : FVec F S24x128 .f32) (v1233 : FVec F S24x1 .f32) (v1248 : IVec S24x1 32) (v1250 : IVec S24x1 32), IVec S24x1 1) → sProp (MT nD τ sig Unit (Elt F) ℕ UU ℕ)} :
    iprop(P9 c f9 ∗ P10 c f10 ∗ PW c (xW (sl k.val)) fullShare f6) ⊢ iprop((∀ (r0 : FVec F S24x128 .f32) (r1 : FVec F S24x1 .f32) (r2 : IVec S24x1 32) (r3 : IVec S24x1 32) (r4 : IVec S24x1 1) (g9 : S24x1536.Idx → Elt F .f32) (g10 : S56x1536.Idx → Elt F .f32), ⌜r0 = k0_pay88 (A6.view.readAt (Elt F) (Rect.unit (s := S2x24x1536) (k0_off54 v0 v6 v12 v18 v24 v30 v36 v42 v48 v54 v60 v66 v72 v78 v84 v90 k) S1x24x128.size (k0_off54_inb v0 v6 v12 v18 v24 v30 v36 v42 v48 v54 v60 v66 v72 v78 v84 v90 hw k)).toLoadRect f6) ∧ r1 = k0_pay89 (A6.view.readAt (Elt F) (Rect.unit (s := S2x24x1536) (k0_off54 v0 v6 v12 v18 v24 v30 v36 v42 v48 v54 v60 v66 v72 v78 v84 v90 k) S1x24x128.size (k0_off54_inb v0 v6 v12 v18 v24 v30 v36 v42 v48 v54 v60 v66 v72 v78 v84 v90 hw k)).toLoadRect f6) ∧ r2 = k0_pay90 (A6.view.readAt (Elt F) (Rect.unit (s := S2x24x1536) (k0_off54 v0 v6 v12 v18 v24 v30 v36 v42 v48 v54 v60 v66 v72 v78 v84 v90 k) S1x24x128.size (k0_off54_inb v0 v6 v12 v18 v24 v30 v36 v42 v48 v54 v60 v66 v72 v78 v84 v90 hw k)).toLoadRect f6) ∧ r3 = k0_pay91 (A6.view.readAt (Elt F) (Rect.unit (s := S2x24x1536) (k0_off54 v0 v6 v12 v18 v24 v30 v36 v42 v48 v54 v60 v66 v72 v78 v84 v90 k) S1x24x128.size (k0_off54_inb v0 v6 v12 v18 v24 v30 v36 v42 v48 v54 v60 v66 v72 v78 v84 v90 hw k)).toLoadRect f6) ∧ r4 = k0_pay92 (A6.view.readAt (Elt F) (Rect.unit (s := S2x24x1536) (k0_off54 v0 v6 v12 v18 v24 v30 v36 v42 v48 v54 v60 v66 v72 v78 v84 v90 k) S1x24x128.size (k0_off54_inb v0 v6 v12 v18 v24 v30 v36 v42 v48 v54 v60 v66 v72 v78 v84 v90 hw k)).toLoadRect f6) ∧ g9 = (put9 f9 (Rect.unit (s := S24x1536) ![0, 1024] S24x128.size inb_S24x1536_S24x128_0_1024) (k0_pay86 v1208 v1210 v1211)) ∧ g10 = (put10 f10 (Rect.unit (s := S56x1536) ![0, 1024] S56x128.size inb_S56x1536_S56x128_0_1024) (k0_pay87 v270))⌝ ∗ P9 c g9 ∗ P10 c g10 ∗ PW c (xW (sl k.val)) fullShare f6 -∗ Q ⟨r0, r1, r2, r3, r4⟩) -∗ W c (k0_part27 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v270 v1208 v1210 v1211) Q) := by
  have hkn := klt hn hN k
  have hk : k.val < 16 := lt_of_lt_of_le hkn hn
  rw [k0_part27_eq_skeleton]
  unfold k0_part27_skel
  try dsimp only
  iintro ⟨H9, H10, H6⟩ K
  iapply (ld9 c) $$ H9
  iintro H9
  iapply (st9 c) $$ H9
  iintro H9
  iapply (ld10 c) $$ H10
  iintro H10
  iapply (st10 c) $$ H10
  iintro H10
  iapply (ld6 c (sl k.val) 1152 (off54 k hk) (by decide)) $$ H6
  iintro H6
  iapply W_pure
  iapply K
  isplitr; · ipureintro; exact ⟨rfl, rfl, rfl, rfl, rfl, rfl, rfl⟩
  isplitl [H9]; · iexact H9
  isplitl [H10]; · iexact H10
  iexact H6

theorem part28  (v1233 : FVec F S24x1 .f32) (v1248 : IVec S24x1 32) (v1250 : IVec S24x1 32) (v1254 : IVec S24x1 1) {Q : (Σ' (v1299 : IVec S24x1 32), BitVec 32) → sProp (MT nD τ sig Unit (Elt F) ℕ UU ℕ)} :
    iprop((∀ (r0 : IVec S24x1 32) (r1 : BitVec 32), ⌜r0 = k0_pay93 v1233 v1248 v1250 v1254 ∧ r1 = 0#32⌝ -∗ Q ⟨r0, r1⟩)) ⊢ W c (k0_part28 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v1233 v1248 v1250 v1254) Q := by
  rw [k0_part28_eq_skeleton]
  unfold k0_part28_skel
  try dsimp only
  iintro K
  iapply W_pure
  iapply K
  ipureintro; exact ⟨rfl, rfl⟩

include hw hn hN hT in
theorem part29 {f9 : S24x1536.Idx → Elt F .f32} {f10 : S56x1536.Idx → Elt F .f32} {f6 : S2x24x1536.Idx → Elt F .bf16} (v245 : BitVec 32) (v270 : FVec F S56x12 .f32) (v1228 : FVec F S24x128 .f32) (v1299 : IVec S24x1 32) (c0_i32_483 : BitVec 32) {Q : (Σ' (v1334 : FVec F S24x128 .f32) (v1339 : FVec F S24x1 .f32) (v1340 : IVec S24x1 32), IVec S24x1 32) → sProp (MT nD τ sig Unit (Elt F) ℕ UU ℕ)} :
    iprop(P9 c f9 ∗ P10 c f10 ∗ PW c (xW (sl k.val)) fullShare f6) ⊢ iprop((∀ (r0 : FVec F S24x128 .f32) (r1 : FVec F S24x1 .f32) (r2 : IVec S24x1 32) (r3 : IVec S24x1 32) (g9 : S24x1536.Idx → Elt F .f32) (g10 : S56x1536.Idx → Elt F .f32), ⌜r0 = k0_pay96 (A6.view.readAt (Elt F) (Rect.unit (s := S2x24x1536) (k0_off55 v0 v6 v12 v18 v24 v30 v36 v42 v48 v54 v60 v66 v72 v78 v84 v90 k) S1x24x128.size (k0_off55_inb v0 v6 v12 v18 v24 v30 v36 v42 v48 v54 v60 v66 v72 v78 v84 v90 hw k)).toLoadRect f6) ∧ r1 = k0_pay97 (A6.view.readAt (Elt F) (Rect.unit (s := S2x24x1536) (k0_off55 v0 v6 v12 v18 v24 v30 v36 v42 v48 v54 v60 v66 v72 v78 v84 v90 k) S1x24x128.size (k0_off55_inb v0 v6 v12 v18 v24 v30 v36 v42 v48 v54 v60 v66 v72 v78 v84 v90 hw k)).toLoadRect f6) ∧ r2 = k0_pay98 ∧ r3 = k0_pay99 ∧ g9 = (put9 f9 (Rect.unit (s := S24x1536) ![0, 1152] S24x128.size inb_S24x1536_S24x128_0_1152) (k0_pay94 v1228 v1299 c0_i32_483)) ∧ g10 = (put10 f10 (Rect.unit (s := S56x1536) ![0, 1152] S56x128.size inb_S56x1536_S56x128_0_1152) (k0_pay95 v270))⌝ ∗ P9 c g9 ∗ P10 c g10 ∗ PW c (xW (sl k.val)) fullShare f6 -∗ Q ⟨r0, r1, r2, r3⟩) -∗ W c (k0_part29 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v270 v1228 v1299 c0_i32_483) Q) := by
  have hkn := klt hn hN k
  have hk : k.val < 16 := lt_of_lt_of_le hkn hn
  rw [k0_part29_eq_skeleton]
  unfold k0_part29_skel
  try dsimp only
  iintro ⟨H9, H10, H6⟩ K
  iapply (ld9 c) $$ H9
  iintro H9
  iapply (st9 c) $$ H9
  iintro H9
  iapply (ld10 c) $$ H10
  iintro H10
  iapply (st10 c) $$ H10
  iintro H10
  iapply (ld6 c (sl k.val) 1280 (off55 k hk) (by decide)) $$ H6
  iintro H6
  iapply W_pure
  iapply K
  isplitr; · ipureintro; exact ⟨rfl, rfl, rfl, rfl, rfl, rfl⟩
  isplitl [H9]; · iexact H9
  isplitl [H10]; · iexact H10
  iexact H6

theorem part30  (v1339 : FVec F S24x1 .f32) (v1340 : IVec S24x1 32) (v1341 : IVec S24x1 32) {Q : (Σ' (v1382 : IVec S24x1 32) (v1384 : IVec S24x1 32), IVec S24x1 1) → sProp (MT nD τ sig Unit (Elt F) ℕ UU ℕ)} :
    iprop((∀ (r0 : IVec S24x1 32) (r1 : IVec S24x1 32) (r2 : IVec S24x1 1), ⌜r0 = k0_pay100 v1339 v1340 v1341 ∧ r1 = k0_pay101 v1339 v1340 v1341 ∧ r2 = k0_pay102 v1339 v1340 v1341⌝ -∗ Q ⟨r0, r1, r2⟩)) ⊢ W c (k0_part30 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v1339 v1340 v1341) Q := by
  rw [k0_part30_eq_skeleton]
  unfold k0_part30_skel
  try dsimp only
  iintro K
  iapply W_pure
  iapply K
  ipureintro; exact ⟨rfl, rfl, rfl⟩

theorem part31 {f9 : S24x1536.Idx → Elt F .f32} (v270 : FVec F S56x12 .f32) (v1334 : FVec F S24x128 .f32) (v1339 : FVec F S24x1 .f32) (v1382 : IVec S24x1 32) (v1384 : IVec S24x1 32) (v1388 : IVec S24x1 1) {Q : (FVec F S56x1 .f32) → sProp (MT nD τ sig Unit (Elt F) ℕ UU ℕ)} :
    iprop(P9 c f9) ⊢ iprop((∀ (r0 : FVec F S56x1 .f32) (g9 : S24x1536.Idx → Elt F .f32), ⌜r0 = (k0_pay104 v270) ∧ g9 = (put9 f9 (Rect.unit (s := S24x1536) ![0, 1280] S24x128.size inb_S24x1536_S24x128_0_1280) (k0_pay103 v1334 v1339 v1382 v1384 v1388))⌝ ∗ P9 c g9 -∗ Q r0) -∗ W c (k0_part31 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v270 v1334 v1339 v1382 v1384 v1388) Q) := by
  rw [k0_part31_eq_skeleton]
  unfold k0_part31_skel
  try dsimp only
  iintro H9 K
  iapply (ld9 c) $$ H9
  iintro H9
  iapply (st9 c) $$ H9
  iintro H9
  iapply W_pure
  iapply K
  isplitr; · ipureintro; exact ⟨rfl, rfl⟩
  iexact H9

include hw hn hN hT in
theorem part32 {f10 : S56x1536.Idx → Elt F .f32} {f6 : S2x24x1536.Idx → Elt F .bf16} (v245 : BitVec 32) (v1432 : FVec F S56x1 .f32) {Q : (Σ' (v1440 : FVec F S24x128 .f32) (v1445 : FVec F S24x1 .f32) (v1474 : IVec S24x1 32), IVec S24x1 32) → sProp (MT nD τ sig Unit (Elt F) ℕ UU ℕ)} :
    iprop(P10 c f10 ∗ PW c (xW (sl k.val)) fullShare f6) ⊢ iprop((∀ (r0 : FVec F S24x128 .f32) (r1 : FVec F S24x1 .f32) (r2 : IVec S24x1 32) (r3 : IVec S24x1 32) (g10 : S56x1536.Idx → Elt F .f32), ⌜r0 = k0_pay106 (A6.view.readAt (Elt F) (Rect.unit (s := S2x24x1536) (k0_off56 v0 v6 v12 v18 v24 v30 v36 v42 v48 v54 v60 v66 v72 v78 v84 v90 k) S1x24x128.size (k0_off56_inb v0 v6 v12 v18 v24 v30 v36 v42 v48 v54 v60 v66 v72 v78 v84 v90 hw k)).toLoadRect f6) ∧ r1 = k0_pay107 (A6.view.readAt (Elt F) (Rect.unit (s := S2x24x1536) (k0_off56 v0 v6 v12 v18 v24 v30 v36 v42 v48 v54 v60 v66 v72 v78 v84 v90 k) S1x24x128.size (k0_off56_inb v0 v6 v12 v18 v24 v30 v36 v42 v48 v54 v60 v66 v72 v78 v84 v90 hw k)).toLoadRect f6) ∧ r2 = k0_pay108 (A6.view.readAt (Elt F) (Rect.unit (s := S2x24x1536) (k0_off56 v0 v6 v12 v18 v24 v30 v36 v42 v48 v54 v60 v66 v72 v78 v84 v90 k) S1x24x128.size (k0_off56_inb v0 v6 v12 v18 v24 v30 v36 v42 v48 v54 v60 v66 v72 v78 v84 v90 hw k)).toLoadRect f6) ∧ r3 = k0_pay109 ∧ g10 = (put10 f10 (Rect.unit (s := S56x1536) ![0, 1280] S56x128.size inb_S56x1536_S56x128_0_1280) (k0_pay105 v1432))⌝ ∗ P10 c g10 ∗ PW c (xW (sl k.val)) fullShare f6 -∗ Q ⟨r0, r1, r2, r3⟩) -∗ W c (k0_part32 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1432) Q) := by
  have hkn := klt hn hN k
  have hk : k.val < 16 := lt_of_lt_of_le hkn hn
  rw [k0_part32_eq_skeleton]
  unfold k0_part32_skel
  try dsimp only
  iintro ⟨H10, H6⟩ K
  iapply (ld10 c) $$ H10
  iintro H10
  iapply (st10 c) $$ H10
  iintro H10
  iapply (ld6 c (sl k.val) 1408 (off56 k hk) (by decide)) $$ H6
  iintro H6
  iapply W_pure
  iapply K
  isplitr; · ipureintro; exact ⟨rfl, rfl, rfl, rfl, rfl⟩
  isplitl [H10]; · iexact H10
  iexact H6

theorem part33  (v1440 : FVec F S24x128 .f32) (v1445 : FVec F S24x1 .f32) (v1474 : IVec S24x1 32) (v1475 : IVec S24x1 32) {Q : (Σ' (v1511 : IVec S24x1 32) (v1520 : FVec F S24x128 .f32), F .f32) → sProp (MT nD τ sig Unit (Elt F) ℕ UU ℕ)} :
    iprop((∀ (r0 : IVec S24x1 32) (r1 : FVec F S24x128 .f32) (r2 : F .f32), ⌜r0 = k0_pay110 v1445 v1474 v1475 ∧ r1 = k0_pay111 v1440 v1445 v1474 v1475 ∧ r2 = (Scalar.ofBits .f32 0xC3E00000#32)⌝ -∗ Q ⟨r0, r1, r2⟩)) ⊢ W c (k0_part33 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v1440 v1445 v1474 v1475) Q := by
  rw [k0_part33_eq_skeleton]
  unfold k0_part33_skel
  try dsimp only
  iintro K
  iapply W_pure
  iapply K
  ipureintro; exact ⟨rfl, rfl, rfl⟩

end Cert.Proof.KernelIdeal
end
end
-- ==== Proof.KernelIdeal.State.lean ====
module

public import proofs.«01_k».proof.Proof.KernelIdeal.Chk
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Transfers
public import Idealize.ShloMosaic.Lib.Batch
public import Idealize.ShloMosaic.Adequacy
public import Idealize.ShloMosaic.Init

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

section
variable {F : FTy → Type} [FloatOps F] (c : Dev nD)
/-- What trip `k` leaves of piece `q` of its slot of weights: the copy for trip `k + 2`, if there is one. -/
def Gnext (fw : S16x7168x1536.Idx → Elt F .fp8e4m3) (act : ℕ → Fin 16) (n k : ℕ) (q : Fin 7) : sProp (MT nD τ sig Unit (Elt F) ℕ UU ℕ) :=
  if k + 2 < n then Gin c fw (sl k) q (act (k + 2)) else Gfree c fw (sl k) q
/-- The same for its slot of inputs. -/
def Xnext (fx : S16x24x1536.Idx → Elt F .bf16) (act : ℕ → Fin 16) (n k : ℕ) : sProp (MT nD τ sig Unit (Elt F) ℕ UU ℕ) :=
  if k + 2 < n then Xin c fx (sl k) (act (k + 2)) else Xfree c fx (sl k)
/-- The same for its slot of weight scales. -/
def Snext (fs : S16x56x12.Idx → Elt F .f32) (act : ℕ → Fin 16) (n k : ℕ) : sProp (MT nD τ sig Unit (Elt F) ℕ UU ℕ) :=
  if k + 2 < n then Sin c fs (sl k) (act (k + 2)) else Sfree c fs (sl k)
/-- What trip `k` finds of its slot of results: the copy out of trip `k - 2`, if there was one. -/
def Oprev (act : ℕ → Fin 16) (vv : ℕ → S24x7168.Idx → Elt F .bf16) (k : ℕ) : sProp (MT nD τ sig Unit (Elt F) ℕ UU ℕ) :=
  if 2 ≤ k then Oin c (vv (k - 2)) (sl k) (act (k - 2)) else Ofree c (sl k)
/-- The result rows that trip `k` has waited for. -/
def Rprev (act : ℕ → Fin 16) (vv : ℕ → S24x7168.Idx → Elt F .bf16) (k : ℕ) : sProp (MT nD τ sig Unit (Elt F) ℕ UU ℕ) :=
  if 2 ≤ k then RowV c (vv (k - 2)) (act (k - 2)) else iprop(emp)
end

section ifs

variable {F : FTy → Type} [FloatOps F] (c : Dev nD)
variable {v0 v6 v12 v18 v24 v30 v36 v42 v48 v54 v60 v66 v72 v78 v84 v90 : BitVec 32} (hw : k0_chk15 v0 v6 v12 v18 v24 v30 v36 v42 v48 v54 v60 v66 v72 v78 v84 v90) {n : ℕ} (hn : n ≤ 16) (hN : NW v0 v6 v12 v18 v24 v30 v36 v42 v48 v54 v60 v66 v72 v78 v84 v90 = BitVec.ofNat 32 n)
  {act : ℕ → Fin 16} {ft : S16.Idx → Elt F .i32} (hT : ∀ i, i < n → tw ft (p16 i) = BitVec.ofNat 32 (act i).val)
  (k : Fin (k0_t1_loop v0 v6 v12 v18 v24 v30 v36 v42 v48 v54 v60 v66 v72 v78 v84 v90).trips)

include hw hn hN hT in
theorem if35 {vv : ℕ → S24x7168.Idx → Elt F .bf16} {α : Type} {Q : α → sProp (MT nD τ sig Unit (Elt F) ℕ UU ℕ)} {R : Prog (TpuEff nD τ sig (Elt F) Λ₀ .tc) α} :
    iprop(P5 c ft ∗ Oprev c act vv k.val ∗ OW c) ⊢
      iprop((P5 c ft ∗ Ofree c (sl k.val) ∗ Rprev c act vv k.val ∗ OW c -∗ W c R Q) -∗ W c (if k0_h35 : k0_cond35 v0 v6 v12 v18 v24 v30 v36 v42 v48 v54 v60 v66 v72 v78 v84 v90 k = 1#1 then (do
        let v2487 : Elt F .i32 ← smemLoad A5 (Rect.unit (s := S16) (k0_off57 v0 v6 v12 v18 v24 v30 v36 v42 v48 v54 v60 v66 v72 v78 v84 v90 k) S1.size (k0_off57_inb v0 v6 v12 v18 v24 v30 v36 v42 v48 v54 v60 v66 v72 v78 v84 v90 hw k k0_h35)) numel1_S1 rfl
        have k0_hw37 : k0_chk37 v0 v6 v12 v18 v24 v30 v36 v42 v48 v54 v60 v66 v72 v78 v84 v90 k v2487 := (← Prog.lift (TpuEff.assume (k0_chk37 v0 v6 v12 v18 v24 v30 v36 v42 v48 v54 v60 v66 v72 v78 v84 v90 k v2487) (k0_chk37.dec v0 v6 v12 v18 v24 v30 v36 v42 v48 v54 v60 v66 v72 v78 v84 v90 k v2487))).down
        let v2488 : DmaSems sig S1 := cc0_scratch11.slice (Rect.unit (s := S2) (k0_off58 v0 v6 v12 v18 v24 v30 v36 v42 v48 v54 v60 v66 v72 v78 v84 v90 k) S1.size (k0_off58_inb v0 v6 v12 v18 v24 v30 v36 v42 v48 v54 v60 v66 v72 v78 v84 v90 hw k k0_h35))
        let v2489 : DmaSems sig S_ := v2488.squeeze S_ squeezes_S1_S_
        let v2490 : Memref sig .tc .hbm S1x24x7168 .bf16 := A4.slice (Rect.unit (s := S16x24x7168) (k0_off59 v2487) S1x24x7168.size (k0_off59_inb v0 v6 v12 v18 v24 v30 v36 v42 v48 v54 v60 v66 v72 v78 v84 v90 k v2487 k0_hw37 k0_h35)) (fun _ => rfl)
        let v2491 : Memref sig .tc .hbm S24x7168 .bf16 := v2490.squeeze S24x7168 squeezes_S1x24x7168_S24x7168
        let v2492 : Memref sig .tc .vmem S1x24x7168 .bf16 := A11.slice (Rect.unit (s := S2x24x7168) (k0_off60 v0 v6 v12 v18 v24 v30 v36 v42 v48 v54 v60 v66 v72 v78 v84 v90 k) S1x24x7168.size (k0_off60_inb v0 v6 v12 v18 v24 v30 v36 v42 v48 v54 v60 v66 v72 v78 v84 v90 hw k k0_h35)) (fun _ => rfl)
        let v2493 : Memref sig .tc .vmem S24x7168 .bf16 := v2492.squeeze S24x7168 squeezes_S1x24x7168_S24x7168
        Prog.lift (.waitDma2 v2489.sem v2493 v2491 (((Memref.isWhole_whole _ : A11.IsWhole).wordExact_slice rfl _ (k0_off60_wordsbf16 v0 v6 v12 v18 v24 v30 v36 v42 v48 v54 v60 v66 v72 v78 v84 v90 hw k k0_h35)).reshape _ _) (((Memref.isWhole_whole _ : A4.IsWhole).wordExact_slice rfl _ (k0_off59_wordsbf16 v0 v6 v12 v18 v24 v30 v36 v42 v48 v54 v60 v66 v72 v78 v84 v90 k v2487 k0_hw37 k0_h35)).reshape _ _))
        R) else R) Q) := by
  have hkn := klt hn hN k
  have hk : k.val < 16 := lt_of_lt_of_le hkn hn
  by_cases h : 2 ≤ k.val
  · rw [dif_pos ((cond35 k hk).2 h)]
    unfold Oprev Rprev
    rw [if_pos h, if_pos h]
    dsimp only
    iintro ⟨H5, HO, HW⟩ K
    iapply (lw5 c (p16 (k.val - 2)) (off57 k hk h)) $$ H5
    iintro H5
    iapply (W_assume c (by rw [hT _ (by omega)]; exact chk37 k _))
    iapply (waitO c (v := vv (k.val - 2)) (sl k.val) (act (k.val - 2)) (off58 k hk)) $$ [HO HW]
    · isplitl [HO]; · iexact HO
      iexact HW
    iintro HO HR HW
    iapply K
    isplitl [H5]; · iexact H5
    isplitl [HO]; · iexact HO
    isplitl [HR]; · iexact HR
    iexact HW
  · rw [dif_neg (mt (cond35 k hk).1 h)]
    unfold Oprev Rprev
    rw [if_neg h, if_neg h]
    iintro ⟨H5, HO, HW⟩ K
    iapply K
    isplitl [H5]; · iexact H5
    isplitl [HO]; · iexact HO
    isplitr; · iempintro
    iexact HW

include hw hn hN hT in
theorem if36 {fx : S16x24x1536.Idx → Elt F .bf16} {fs : S16x56x12.Idx → Elt F .f32} {α : Type} {Q : α → sProp (MT nD τ sig Unit (Elt F) ℕ UU ℕ)} {R : Prog (TpuEff nD τ sig (Elt F) Λ₀ .tc) α} :
    iprop(P5 c ft ∗ (∃ f : S2x24x1536.Idx → Elt F .bf16, PW c (xW (sl k.val)) fullShare f) ∗ Sem0 c (xsem (sl k.val)) ∗ (A1.view.loc (c : Thread nD τ) ↦{qx (sl k.val)} fx)
        ∗ (∃ f : S2x56x12.Idx → Elt F .f32, PW c (sW (sl k.val)) fullShare f) ∗ Sem0 c (ssem (sl k.val)) ∗ (A3.view.loc (c : Thread nD τ) ↦{qx (sl k.val)} fs)) ⊢
      iprop((P5 c ft ∗ Xnext c fx act n k.val ∗ Snext c fs act n k.val -∗ W c R Q) -∗ W c (if k0_h36 : k0_cond36 v0 v6 v12 v18 v24 v30 v36 v42 v48 v54 v60 v66 v72 v78 v84 v90 k = 1#1 then (do
        let v2487 : Elt F .i32 ← smemLoad A5 (Rect.unit (s := S16) (k0_off61 v0 v6 v12 v18 v24 v30 v36 v42 v48 v54 v60 v66 v72 v78 v84 v90 k) S1.size (k0_off61_inb v0 v6 v12 v18 v24 v30 v36 v42 v48 v54 v60 v66 v72 v78 v84 v90 hw k k0_h36)) numel1_S1 rfl
        have k0_hw38 : k0_chk38 v0 v6 v12 v18 v24 v30 v36 v42 v48 v54 v60 v66 v72 v78 v84 v90 k v2487 := (← Prog.lift (TpuEff.assume (k0_chk38 v0 v6 v12 v18 v24 v30 v36 v42 v48 v54 v60 v66 v72 v78 v84 v90 k v2487) (k0_chk38.dec v0 v6 v12 v18 v24 v30 v36 v42 v48 v54 v60 v66 v72 v78 v84 v90 k v2487))).down
        let v2488 : DmaSems sig S1 := cc0_scratch8.slice (Rect.unit (s := S2) (k0_off62 v0 v6 v12 v18 v24 v30 v36 v42 v48 v54 v60 v66 v72 v78 v84 v90 k) S1.size (k0_off62_inb v0 v6 v12 v18 v24 v30 v36 v42 v48 v54 v60 v66 v72 v78 v84 v90 hw k k0_h36))
        let v2489 : DmaSems sig S_ := v2488.squeeze S_ squeezes_S1_S_
        let v2490 : Memref sig .tc .vmem S1x24x1536 .bf16 := A6.slice (Rect.unit (s := S2x24x1536) (k0_off63 v0 v6 v12 v18 v24 v30 v36 v42 v48 v54 v60 v66 v72 v78 v84 v90 k) S1x24x1536.size (k0_off63_inb v0 v6 v12 v18 v24 v30 v36 v42 v48 v54 v60 v66 v72 v78 v84 v90 hw k k0_h36)) (fun _ => rfl)
        let v2491 : Memref sig .tc .vmem S24x1536 .bf16 := v2490.squeeze S24x1536 squeezes_S1x24x1536_S24x1536
        let v2492 : Memref sig .tc .hbm S1x24x1536 .bf16 := A1.slice (Rect.unit (s := S16x24x1536) (k0_off64 v2487) S1x24x1536.size (k0_off64_inb v0 v6 v12 v18 v24 v30 v36 v42 v48 v54 v60 v66 v72 v78 v84 v90 k v2487 k0_hw38 k0_h36)) (fun _ => rfl)
        let v2493 : Memref sig .tc .hbm S24x1536 .bf16 := v2492.squeeze S24x1536 squeezes_S1x24x1536_S24x1536
        Prog.lift (.enqueueDma v2493 (.here v2491) (.dma v2489.sem) (((Memref.isWhole_whole _ : A1.IsWhole).wordExact_slice rfl _ (k0_off64_wordsbf16 v0 v6 v12 v18 v24 v30 v36 v42 v48 v54 v60 v66 v72 v78 v84 v90 k v2487 k0_hw38 k0_h36)).reshape _ _) (((Memref.isWhole_whole _ : A6.IsWhole).wordExact_slice rfl _ (k0_off63_wordsbf16 v0 v6 v12 v18 v24 v30 v36 v42 v48 v54 v60 v66 v72 v78 v84 v90 hw k k0_h36)).reshape _ _) ⟨Or.inl rfl, trivial⟩)
        let v2496 : Elt F .i32 ← smemLoad A5 (Rect.unit (s := S16) (k0_off65 v0 v6 v12 v18 v24 v30 v36 v42 v48 v54 v60 v66 v72 v78 v84 v90 k) S1.size (k0_off65_inb v0 v6 v12 v18 v24 v30 v36 v42 v48 v54 v60 v66 v72 v78 v84 v90 hw k k0_h36)) numel1_S1 rfl
        have k0_hw39 : k0_chk39 v0 v6 v12 v18 v24 v30 v36 v42 v48 v54 v60 v66 v72 v78 v84 v90 k v2496 := (← Prog.lift (TpuEff.assume (k0_chk39 v0 v6 v12 v18 v24 v30 v36 v42 v48 v54 v60 v66 v72 v78 v84 v90 k v2496) (k0_chk39.dec v0 v6 v12 v18 v24 v30 v36 v42 v48 v54 v60 v66 v72 v78 v84 v90 k v2496))).down
        let v2497 : DmaSems sig S1 := cc0_scratch9.slice (Rect.unit (s := S2) (k0_off66 v0 v6 v12 v18 v24 v30 v36 v42 v48 v54 v60 v66 v72 v78 v84 v90 k) S1.size (k0_off66_inb v0 v6 v12 v18 v24 v30 v36 v42 v48 v54 v60 v66 v72 v78 v84 v90 hw k k0_h36))
        let v2498 : DmaSems sig S_ := v2497.squeeze S_ squeezes_S1_S_
        let v2499 : Memref sig .tc .vmem S1x56x12 .f32 := A7.slice (Rect.unit (s := S2x56x12) (k0_off67 v0 v6 v12 v18 v24 v30 v36 v42 v48 v54 v60 v66 v72 v78 v84 v90 k) S1x56x12.size (k0_off67_inb v0 v6 v12 v18 v24 v30 v36 v42 v48 v54 v60 v66 v72 v78 v84 v90 hw k k0_h36)) (fun _ => rfl)
        let v2500 : Memref sig .tc .vmem S56x12 .f32 := v2499.squeeze S56x12 squeezes_S1x56x12_S56x12
        let v2501 : Memref sig .tc .hbm S1x56x12 .f32 := A3.slice (Rect.unit (s := S16x56x12) (k0_off68 v2496) S1x56x12.size (k0_off68_inb v0 v6 v12 v18 v24 v30 v36 v42 v48 v54 v60 v66 v72 v78 v84 v90 k v2496 k0_hw39 k0_h36)) (fun _ => rfl)
        let v2502 : Memref sig .tc .hbm S56x12 .f32 := v2501.squeeze S56x12 squeezes_S1x56x12_S56x12
        Prog.lift (.enqueueDma v2502 (.here v2500) (.dma v2498.sem) ((View.wordExact_bits rfl).reshape _ _) ((View.wordExact_bits rfl).reshape _ _) ⟨Or.inl rfl, trivial⟩)
        R) else R) Q) := by
  have hkn := klt hn hN k
  have hk : k.val < 16 := lt_of_lt_of_le hkn hn
  by_cases h : k.val + 2 < n
  · rw [dif_pos ((cond36 k hk hn hN).2 h)]
    unfold Xnext Snext
    rw [if_pos h, if_pos h]
    dsimp only
    iintro ⟨H5, H6, HS6, HK6, H7, HS7, HK7⟩ K
    iapply (lw5 c (p16 (k.val + 2)) (off61 k (by omega))) $$ H5
    iintro H5
    iapply (W_assume c (by rw [hT _ h]; exact chk38 k _))
    iapply (startX c (fx := fx) (sl k.val) (act (k.val + 2)) (off62 k hk) (off63 k hk) (by rw [hT _ h]; exact off64 _)) $$ [H6 HS6 HK6]
    · unfold Xfree
      isplitl [H6]; · iexact H6
      isplitl [HS6]; · iexact HS6
      iexact HK6
    iintro HX
    iapply (lw5 c (p16 (k.val + 2)) (off65 k (by omega))) $$ H5
    iintro H5
    iapply (W_assume c (by rw [hT _ h]; exact chk39 k _))
    iapply (startS c (fx := fs) (sl k.val) (act (k.val + 2)) (off66 k hk) (off67 k hk) (by rw [hT _ h]; exact off68 _)) $$ [H7 HS7 HK7]
    · unfold Sfree
      isplitl [H7]; · iexact H7
      isplitl [HS7]; · iexact HS7
      iexact HK7
    iintro HS
    iapply K
    isplitl [H5]; · iexact H5
    isplitl [HX]; · iexact HX
    iexact HS
  · rw [dif_neg (mt (cond36 k hk hn hN).1 h)]
    unfold Xnext Snext
    rw [if_neg h, if_neg h]
    unfold Xfree Sfree
    iintro ⟨H5, H6, HS6, HK6, H7, HS7, HK7⟩ K
    iapply K
    isplitl [H5]; · iexact H5
    isplitl [H6 HS6 HK6]
    · isplitl [H6]; · iexact H6
      isplitl [HS6]; · iexact HS6
      iexact HK6
    isplitl [H7]; · iexact H7
    isplitl [HS7]; · iexact HS7
    iexact HK7

include hw hn hN hT in
theorem if37 {fw : S16x7168x1536.Idx → Elt F .fp8e4m3} {α : Type} {Q : α → sProp (MT nD τ sig Unit (Elt F) ℕ UU ℕ)} {R : Prog (TpuEff nD τ sig (Elt F) Λ₀ .tc) α} :
    iprop(P5 c ft ∗ (∃ f : S2x7168x1536.Idx → Elt F .fp8e4m3, PW c (wW (sl k.val) 0) fullShare f) ∗ Sem0 c (wsem (sl k.val) 0) ∗ (A2.view.loc (c : Thread nD τ) ↦{qw (sl k.val) 0} fw)) ⊢
      iprop((P5 c ft ∗ Gnext c fw act n k.val 0 -∗ W c R Q) -∗ W c (if k0_h37 : k0_cond37 v0 v6 v12 v18 v24 v30 v36 v42 v48 v54 v60 v66 v72 v78 v84 v90 k = 1#1 then (do
        let v2487 : Elt F .i32 ← smemLoad A5 (Rect.unit (s := S16) (k0_off85 v0 v6 v12 v18 v24 v30 v36 v42 v48 v54 v60 v66 v72 v78 v84 v90 k) S1.size (k0_off85_inb v0 v6 v12 v18 v24 v30 v36 v42 v48 v54 v60 v66 v72 v78 v84 v90 hw k k0_h37)) numel1_S1 rfl
        have k0_hw41 : k0_chk41 v0 v6 v12 v18 v24 v30 v36 v42 v48 v54 v60 v66 v72 v78 v84 v90 k v2487 := (← Prog.lift (TpuEff.assume (k0_chk41 v0 v6 v12 v18 v24 v30 v36 v42 v48 v54 v60 v66 v72 v78 v84 v90 k v2487) (k0_chk41.dec v0 v6 v12 v18 v24 v30 v36 v42 v48 v54 v60 v66 v72 v78 v84 v90 k v2487))).down
        let v2488 : DmaSems sig S1x1 := cc0_scratch10.slice (Rect.unit (s := S2x7) (k0_off86 v0 v6 v12 v18 v24 v30 v36 v42 v48 v54 v60 v66 v72 v78 v84 v90 k) S1x1.size (k0_off86_inb v0 v6 v12 v18 v24 v30 v36 v42 v48 v54 v60 v66 v72 v78 v84 v90 hw k k0_h37))
        let v2489 : DmaSems sig S_ := v2488.squeeze S_ squeezes_S1x1_S_
        let v2490 : Memref sig .tc .vmem S1x1024x1536 .fp8e4m3 := A8.slice (Rect.unit (s := S2x7168x1536) (k0_off87 v0 v6 v12 v18 v24 v30 v36 v42 v48 v54 v60 v66 v72 v78 v84 v90 k) S1x1024x1536.size (k0_off87_inb v0 v6 v12 v18 v24 v30 v36 v42 v48 v54 v60 v66 v72 v78 v84 v90 hw k k0_h37)) (fun _ => rfl)
        let v2491 : Memref sig .tc .vmem S1024x1536 .fp8e4m3 := v2490.squeeze S1024x1536 squeezes_S1x1024x1536_S1024x1536
        let v2492 : Memref sig .tc .hbm S1x1024x1536 .fp8e4m3 := A2.slice (Rect.unit (s := S16x7168x1536) (k0_off88 v2487) S1x1024x1536.size (k0_off88_inb v0 v6 v12 v18 v24 v30 v36 v42 v48 v54 v60 v66 v72 v78 v84 v90 k v2487 k0_hw41 k0_h37)) (fun _ => rfl)
        let v2493 : Memref sig .tc .hbm S1024x1536 .fp8e4m3 := v2492.squeeze S1024x1536 squeezes_S1x1024x1536_S1024x1536
        Prog.lift (.enqueueDma v2493 (.here v2491) (.dma v2489.sem) (((Memref.isWhole_whole _ : A2.IsWhole).wordExact_slice rfl _ (k0_off88_wordsfp8e4m3 v0 v6 v12 v18 v24 v30 v36 v42 v48 v54 v60 v66 v72 v78 v84 v90 k v2487 k0_hw41 k0_h37)).reshape _ _) (((Memref.isWhole_whole _ : A8.IsWhole).wordExact_slice rfl _ (k0_off87_wordsfp8e4m3 v0 v6 v12 v18 v24 v30 v36 v42 v48 v54 v60 v66 v72 v78 v84 v90 hw k k0_h37)).reshape _ _) ⟨Or.inl rfl, trivial⟩)
        R) else R) Q) := by
  have hkn := klt hn hN k
  have hk : k.val < 16 := lt_of_lt_of_le hkn hn
  by_cases h : k.val + 2 < n
  · rw [dif_pos ((cond37 k hk hn hN).2 h)]
    unfold Gnext
    rw [if_pos h]
    dsimp only
    iintro ⟨H5, H8, HS, HK⟩ K
    iapply (lw5 c (p16 (k.val + 2)) (off85 k (by omega))) $$ H5
    iintro H5
    iapply (W_assume c (by rw [hT _ h]; exact chk41 k _))
    iapply (startG c (fx := fw) (sl k.val) 0 (act (k.val + 2)) (off86 k hk) (off87 k hk) (by rw [hT _ h]; exact off88 _)) $$ [H8 HS HK]
    · unfold Gfree
      isplitl [H8]; · iexact H8
      isplitl [HS]; · iexact HS
      iexact HK
    iintro HG
    iapply K
    isplitl [H5]; · iexact H5
    iexact HG
  · rw [dif_neg (mt (cond37 k hk hn hN).1 h)]
    unfold Gnext
    rw [if_neg h]
    unfold Gfree
    iintro ⟨H5, H8, HS, HK⟩ K
    iapply K
    isplitl [H5]; · iexact H5
    isplitl [H8]; · iexact H8
    isplitl [HS]; · iexact HS
    iexact HK

include hw hn hN hT in
theorem if38 {fw : S16x7168x1536.Idx → Elt F .fp8e4m3} {α : Type} {Q : α → sProp (MT nD τ sig Unit (Elt F) ℕ UU ℕ)} {R : Prog (TpuEff nD τ sig (Elt F) Λ₀ .tc) α} :
    iprop(P5 c ft ∗ (∃ f : S2x7168x1536.Idx → Elt F .fp8e4m3, PW c (wW (sl k.val) 1) fullShare f) ∗ Sem0 c (wsem (sl k.val) 1) ∗ (A2.view.loc (c : Thread nD τ) ↦{qw (sl k.val) 1} fw)) ⊢
      iprop((P5 c ft ∗ Gnext c fw act n k.val 1 -∗ W c R Q) -∗ W c (if k0_h38 : k0_cond38 v0 v6 v12 v18 v24 v30 v36 v42 v48 v54 v60 v66 v72 v78 v84 v90 k = 1#1 then (do
        let v2487 : Elt F .i32 ← smemLoad A5 (Rect.unit (s := S16) (k0_off105 v0 v6 v12 v18 v24 v30 v36 v42 v48 v54 v60 v66 v72 v78 v84 v90 k) S1.size (k0_off105_inb v0 v6 v12 v18 v24 v30 v36 v42 v48 v54 v60 v66 v72 v78 v84 v90 hw k k0_h38)) numel1_S1 rfl
        have k0_hw43 : k0_chk43 v0 v6 v12 v18 v24 v30 v36 v42 v48 v54 v60 v66 v72 v78 v84 v90 k v2487 := (← Prog.lift (TpuEff.assume (k0_chk43 v0 v6 v12 v18 v24 v30 v36 v42 v48 v54 v60 v66 v72 v78 v84 v90 k v2487) (k0_chk43.dec v0 v6 v12 v18 v24 v30 v36 v42 v48 v54 v60 v66 v72 v78 v84 v90 k v2487))).down
        let v2488 : DmaSems sig S1x1 := cc0_scratch10.slice (Rect.unit (s := S2x7) (k0_off106 v0 v6 v12 v18 v24 v30 v36 v42 v48 v54 v60 v66 v72 v78 v84 v90 k) S1x1.size (k0_off106_inb v0 v6 v12 v18 v24 v30 v36 v42 v48 v54 v60 v66 v72 v78 v84 v90 hw k k0_h38))
        let v2489 : DmaSems sig S_ := v2488.squeeze S_ squeezes_S1x1_S_
        let v2490 : Memref sig .tc .vmem S1x1024x1536 .fp8e4m3 := A8.slice (Rect.unit (s := S2x7168x1536) (k0_off107 v0 v6 v12 v18 v24 v30 v36 v42 v48 v54 v60 v66 v72 v78 v84 v90 k) S1x1024x1536.size (k0_off107_inb v0 v6 v12 v18 v24 v30 v36 v42 v48 v54 v60 v66 v72 v78 v84 v90 hw k k0_h38)) (fun _ => rfl)
        let v2491 : Memref sig .tc .vmem S1024x1536 .fp8e4m3 := v2490.squeeze S1024x1536 squeezes_S1x1024x1536_S1024x1536
        let v2492 : Memref sig .tc .hbm S1x1024x1536 .fp8e4m3 := A2.slice (Rect.unit (s := S16x7168x1536) (k0_off108 v2487) S1x1024x1536.size (k0_off108_inb v0 v6 v12 v18 v24 v30 v36 v42 v48 v54 v60 v66 v72 v78 v84 v90 k v2487 k0_hw43 k0_h38)) (fun _ => rfl)
        let v2493 : Memref sig .tc .hbm S1024x1536 .fp8e4m3 := v2492.squeeze S1024x1536 squeezes_S1x1024x1536_S1024x1536
        Prog.lift (.enqueueDma v2493 (.here v2491) (.dma v2489.sem) (((Memref.isWhole_whole _ : A2.IsWhole).wordExact_slice rfl _ (k0_off108_wordsfp8e4m3 v0 v6 v12 v18 v24 v30 v36 v42 v48 v54 v60 v66 v72 v78 v84 v90 k v2487 k0_hw43 k0_h38)).reshape _ _) (((Memref.isWhole_whole _ : A8.IsWhole).wordExact_slice rfl _ (k0_off107_wordsfp8e4m3 v0 v6 v12 v18 v24 v30 v36 v42 v48 v54 v60 v66 v72 v78 v84 v90 hw k k0_h38)).reshape _ _) ⟨Or.inl rfl, trivial⟩)
        R) else R) Q) := by
  have hkn := klt hn hN k
  have hk : k.val < 16 := lt_of_lt_of_le hkn hn
  by_cases h : k.val + 2 < n
  · rw [dif_pos ((cond38 k hk hn hN).2 h)]
    unfold Gnext
    rw [if_pos h]
    dsimp only
    iintro ⟨H5, H8, HS, HK⟩ K
    iapply (lw5 c (p16 (k.val + 2)) (off105 k (by omega))) $$ H5
    iintro H5
    iapply (W_assume c (by rw [hT _ h]; exact chk43 k _))
    iapply (startG c (fx := fw) (sl k.val) 1 (act (k.val + 2)) (off106 k hk) (off107 k hk) (by rw [hT _ h]; exact off108 _)) $$ [H8 HS HK]
    · unfold Gfree
      isplitl [H8]; · iexact H8
      isplitl [HS]; · iexact HS
      iexact HK
    iintro HG
    iapply K
    isplitl [H5]; · iexact H5
    iexact HG
  · rw [dif_neg (mt (cond38 k hk hn hN).1 h)]
    unfold Gnext
    rw [if_neg h]
    unfold Gfree
    iintro ⟨H5, H8, HS, HK⟩ K
    iapply K
    isplitl [H5]; · iexact H5
    isplitl [H8]; · iexact H8
    isplitl [HS]; · iexact HS
    iexact HK

include hw hn hN hT in
theorem if39 {fw : S16x7168x1536.Idx → Elt F .fp8e4m3} {α : Type} {Q : α → sProp (MT nD τ sig Unit (Elt F) ℕ UU ℕ)} {R : Prog (TpuEff nD τ sig (Elt F) Λ₀ .tc) α} :
    iprop(P5 c ft ∗ (∃ f : S2x7168x1536.Idx → Elt F .fp8e4m3, PW c (wW (sl k.val) 2) fullShare f) ∗ Sem0 c (wsem (sl k.val) 2) ∗ (A2.view.loc (c : Thread nD τ) ↦{qw (sl k.val) 2} fw)) ⊢
      iprop((P5 c ft ∗ Gnext c fw act n k.val 2 -∗ W c R Q) -∗ W c (if k0_h39 : k0_cond39 v0 v6 v12 v18 v24 v30 v36 v42 v48 v54 v60 v66 v72 v78 v84 v90 k = 1#1 then (do
        let v2487 : Elt F .i32 ← smemLoad A5 (Rect.unit (s := S16) (k0_off125 v0 v6 v12 v18 v24 v30 v36 v42 v48 v54 v60 v66 v72 v78 v84 v90 k) S1.size (k0_off125_inb v0 v6 v12 v18 v24 v30 v36 v42 v48 v54 v60 v66 v72 v78 v84 v90 hw k k0_h39)) numel1_S1 rfl
        have k0_hw45 : k0_chk45 v0 v6 v12 v18 v24 v30 v36 v42 v48 v54 v60 v66 v72 v78 v84 v90 k v2487 := (← Prog.lift (TpuEff.assume (k0_chk45 v0 v6 v12 v18 v24 v30 v36 v42 v48 v54 v60 v66 v72 v78 v84 v90 k v2487) (k0_chk45.dec v0 v6 v12 v18 v24 v30 v36 v42 v48 v54 v60 v66 v72 v78 v84 v90 k v2487))).down
        let v2488 : DmaSems sig S1x1 := cc0_scratch10.slice (Rect.unit (s := S2x7) (k0_off126 v0 v6 v12 v18 v24 v30 v36 v42 v48 v54 v60 v66 v72 v78 v84 v90 k) S1x1.size (k0_off126_inb v0 v6 v12 v18 v24 v30 v36 v42 v48 v54 v60 v66 v72 v78 v84 v90 hw k k0_h39))
        let v2489 : DmaSems sig S_ := v2488.squeeze S_ squeezes_S1x1_S_
        let v2490 : Memref sig .tc .vmem S1x1024x1536 .fp8e4m3 := A8.slice (Rect.unit (s := S2x7168x1536) (k0_off127 v0 v6 v12 v18 v24 v30 v36 v42 v48 v54 v60 v66 v72 v78 v84 v90 k) S1x1024x1536.size (k0_off127_inb v0 v6 v12 v18 v24 v30 v36 v42 v48 v54 v60 v66 v72 v78 v84 v90 hw k k0_h39)) (fun _ => rfl)
        let v2491 : Memref sig .tc .vmem S1024x1536 .fp8e4m3 := v2490.squeeze S1024x1536 squeezes_S1x1024x1536_S1024x1536
        let v2492 : Memref sig .tc .hbm S1x1024x1536 .fp8e4m3 := A2.slice (Rect.unit (s := S16x7168x1536) (k0_off128 v2487) S1x1024x1536.size (k0_off128_inb v0 v6 v12 v18 v24 v30 v36 v42 v48 v54 v60 v66 v72 v78 v84 v90 k v2487 k0_hw45 k0_h39)) (fun _ => rfl)
        let v2493 : Memref sig .tc .hbm S1024x1536 .fp8e4m3 := v2492.squeeze S1024x1536 squeezes_S1x1024x1536_S1024x1536
        Prog.lift (.enqueueDma v2493 (.here v2491) (.dma v2489.sem) (((Memref.isWhole_whole _ : A2.IsWhole).wordExact_slice rfl _ (k0_off128_wordsfp8e4m3 v0 v6 v12 v18 v24 v30 v36 v42 v48 v54 v60 v66 v72 v78 v84 v90 k v2487 k0_hw45 k0_h39)).reshape _ _) (((Memref.isWhole_whole _ : A8.IsWhole).wordExact_slice rfl _ (k0_off127_wordsfp8e4m3 v0 v6 v12 v18 v24 v30 v36 v42 v48 v54 v60 v66 v72 v78 v84 v90 hw k k0_h39)).reshape _ _) ⟨Or.inl rfl, trivial⟩)
        R) else R) Q) := by
  have hkn := klt hn hN k
  have hk : k.val < 16 := lt_of_lt_of_le hkn hn
  by_cases h : k.val + 2 < n
  · rw [dif_pos ((cond39 k hk hn hN).2 h)]
    unfold Gnext
    rw [if_pos h]
    dsimp only
    iintro ⟨H5, H8, HS, HK⟩ K
    iapply (lw5 c (p16 (k.val + 2)) (off125 k (by omega))) $$ H5
    iintro H5
    iapply (W_assume c (by rw [hT _ h]; exact chk45 k _))
    iapply (startG c (fx := fw) (sl k.val) 2 (act (k.val + 2)) (off126 k hk) (off127 k hk) (by rw [hT _ h]; exact off128 _)) $$ [H8 HS HK]
    · unfold Gfree
      isplitl [H8]; · iexact H8
      isplitl [HS]; · iexact HS
      iexact HK
    iintro HG
    iapply K
    isplitl [H5]; · iexact H5
    iexact HG
  · rw [dif_neg (mt (cond39 k hk hn hN).1 h)]
    unfold Gnext
    rw [if_neg h]
    unfold Gfree
    iintro ⟨H5, H8, HS, HK⟩ K
    iapply K
    isplitl [H5]; · iexact H5
    isplitl [H8]; · iexact H8
    isplitl [HS]; · iexact HS
    iexact HK

include hw hn hN hT in
theorem if40 {fw : S16x7168x1536.Idx → Elt F .fp8e4m3} {α : Type} {Q : α → sProp (MT nD τ sig Unit (Elt F) ℕ UU ℕ)} {R : Prog (TpuEff nD τ sig (Elt F) Λ₀ .tc) α} :
    iprop(P5 c ft ∗ (∃ f : S2x7168x1536.Idx → Elt F .fp8e4m3, PW c (wW (sl k.val) 3) fullShare f) ∗ Sem0 c (wsem (sl k.val) 3) ∗ (A2.view.loc (c : Thread nD τ) ↦{qw (sl k.val) 3} fw)) ⊢
      iprop((P5 c ft ∗ Gnext c fw act n k.val 3 -∗ W c R Q) -∗ W c (if k0_h40 : k0_cond40 v0 v6 v12 v18 v24 v30 v36 v42 v48 v54 v60 v66 v72 v78 v84 v90 k = 1#1 then (do
        let v2487 : Elt F .i32 ← smemLoad A5 (Rect.unit (s := S16) (k0_off145 v0 v6 v12 v18 v24 v30 v36 v42 v48 v54 v60 v66 v72 v78 v84 v90 k) S1.size (k0_off145_inb v0 v6 v12 v18 v24 v30 v36 v42 v48 v54 v60 v66 v72 v78 v84 v90 hw k k0_h40)) numel1_S1 rfl
        have k0_hw47 : k0_chk47 v0 v6 v12 v18 v24 v30 v36 v42 v48 v54 v60 v66 v72 v78 v84 v90 k v2487 := (← Prog.lift (TpuEff.assume (k0_chk47 v0 v6 v12 v18 v24 v30 v36 v42 v48 v54 v60 v66 v72 v78 v84 v90 k v2487) (k0_chk47.dec v0 v6 v12 v18 v24 v30 v36 v42 v48 v54 v60 v66 v72 v78 v84 v90 k v2487))).down
        let v2488 : DmaSems sig S1x1 := cc0_scratch10.slice (Rect.unit (s := S2x7) (k0_off146 v0 v6 v12 v18 v24 v30 v36 v42 v48 v54 v60 v66 v72 v78 v84 v90 k) S1x1.size (k0_off146_inb v0 v6 v12 v18 v24 v30 v36 v42 v48 v54 v60 v66 v72 v78 v84 v90 hw k k0_h40))
        let v2489 : DmaSems sig S_ := v2488.squeeze S_ squeezes_S1x1_S_
        let v2490 : Memref sig .tc .vmem S1x1024x1536 .fp8e4m3 := A8.slice (Rect.unit (s := S2x7168x1536) (k0_off147 v0 v6 v12 v18 v24 v30 v36 v42 v48 v54 v60 v66 v72 v78 v84 v90 k) S1x1024x1536.size (k0_off147_inb v0 v6 v12 v18 v24 v30 v36 v42 v48 v54 v60 v66 v72 v78 v84 v90 hw k k0_h40)) (fun _ => rfl)
        let v2491 : Memref sig .tc .vmem S1024x1536 .fp8e4m3 := v2490.squeeze S1024x1536 squeezes_S1x1024x1536_S1024x1536
        let v2492 : Memref sig .tc .hbm S1x1024x1536 .fp8e4m3 := A2.slice (Rect.unit (s := S16x7168x1536) (k0_off148 v2487) S1x1024x1536.size (k0_off148_inb v0 v6 v12 v18 v24 v30 v36 v42 v48 v54 v60 v66 v72 v78 v84 v90 k v2487 k0_hw47 k0_h40)) (fun _ => rfl)
        let v2493 : Memref sig .tc .hbm S1024x1536 .fp8e4m3 := v2492.squeeze S1024x1536 squeezes_S1x1024x1536_S1024x1536
        Prog.lift (.enqueueDma v2493 (.here v2491) (.dma v2489.sem) (((Memref.isWhole_whole _ : A2.IsWhole).wordExact_slice rfl _ (k0_off148_wordsfp8e4m3 v0 v6 v12 v18 v24 v30 v36 v42 v48 v54 v60 v66 v72 v78 v84 v90 k v2487 k0_hw47 k0_h40)).reshape _ _) (((Memref.isWhole_whole _ : A8.IsWhole).wordExact_slice rfl _ (k0_off147_wordsfp8e4m3 v0 v6 v12 v18 v24 v30 v36 v42 v48 v54 v60 v66 v72 v78 v84 v90 hw k k0_h40)).reshape _ _) ⟨Or.inl rfl, trivial⟩)
        R) else R) Q) := by
  have hkn := klt hn hN k
  have hk : k.val < 16 := lt_of_lt_of_le hkn hn
  by_cases h : k.val + 2 < n
  · rw [dif_pos ((cond40 k hk hn hN).2 h)]
    unfold Gnext
    rw [if_pos h]
    dsimp only
    iintro ⟨H5, H8, HS, HK⟩ K
    iapply (lw5 c (p16 (k.val + 2)) (off145 k (by omega))) $$ H5
    iintro H5
    iapply (W_assume c (by rw [hT _ h]; exact chk47 k _))
    iapply (startG c (fx := fw) (sl k.val) 3 (act (k.val + 2)) (off146 k hk) (off147 k hk) (by rw [hT _ h]; exact off148 _)) $$ [H8 HS HK]
    · unfold Gfree
      isplitl [H8]; · iexact H8
      isplitl [HS]; · iexact HS
      iexact HK
    iintro HG
    iapply K
    isplitl [H5]; · iexact H5
    iexact HG
  · rw [dif_neg (mt (cond40 k hk hn hN).1 h)]
    unfold Gnext
    rw [if_neg h]
    unfold Gfree
    iintro ⟨H5, H8, HS, HK⟩ K
    iapply K
    isplitl [H5]; · iexact H5
    isplitl [H8]; · iexact H8
    isplitl [HS]; · iexact HS
    iexact HK

include hw hn hN hT in
theorem if41 {fw : S16x7168x1536.Idx → Elt F .fp8e4m3} {α : Type} {Q : α → sProp (MT nD τ sig Unit (Elt F) ℕ UU ℕ)} {R : Prog (TpuEff nD τ sig (Elt F) Λ₀ .tc) α} :
    iprop(P5 c ft ∗ (∃ f : S2x7168x1536.Idx → Elt F .fp8e4m3, PW c (wW (sl k.val) 4) fullShare f) ∗ Sem0 c (wsem (sl k.val) 4) ∗ (A2.view.loc (c : Thread nD τ) ↦{qw (sl k.val) 4} fw)) ⊢
      iprop((P5 c ft ∗ Gnext c fw act n k.val 4 -∗ W c R Q) -∗ W c (if k0_h41 : k0_cond41 v0 v6 v12 v18 v24 v30 v36 v42 v48 v54 v60 v66 v72 v78 v84 v90 k = 1#1 then (do
        let v2487 : Elt F .i32 ← smemLoad A5 (Rect.unit (s := S16) (k0_off165 v0 v6 v12 v18 v24 v30 v36 v42 v48 v54 v60 v66 v72 v78 v84 v90 k) S1.size (k0_off165_inb v0 v6 v12 v18 v24 v30 v36 v42 v48 v54 v60 v66 v72 v78 v84 v90 hw k k0_h41)) numel1_S1 rfl
        have k0_hw49 : k0_chk49 v0 v6 v12 v18 v24 v30 v36 v42 v48 v54 v60 v66 v72 v78 v84 v90 k v2487 := (← Prog.lift (TpuEff.assume (k0_chk49 v0 v6 v12 v18 v24 v30 v36 v42 v48 v54 v60 v66 v72 v78 v84 v90 k v2487) (k0_chk49.dec v0 v6 v12 v18 v24 v30 v36 v42 v48 v54 v60 v66 v72 v78 v84 v90 k v2487))).down
        let v2488 : DmaSems sig S1x1 := cc0_scratch10.slice (Rect.unit (s := S2x7) (k0_off166 v0 v6 v12 v18 v24 v30 v36 v42 v48 v54 v60 v66 v72 v78 v84 v90 k) S1x1.size (k0_off166_inb v0 v6 v12 v18 v24 v30 v36 v42 v48 v54 v60 v66 v72 v78 v84 v90 hw k k0_h41))
        let v2489 : DmaSems sig S_ := v2488.squeeze S_ squeezes_S1x1_S_
        let v2490 : Memref sig .tc .vmem S1x1024x1536 .fp8e4m3 := A8.slice (Rect.unit (s := S2x7168x1536) (k0_off167 v0 v6 v12 v18 v24 v30 v36 v42 v48 v54 v60 v66 v72 v78 v84 v90 k) S1x1024x1536.size (k0_off167_inb v0 v6 v12 v18 v24 v30 v36 v42 v48 v54 v60 v66 v72 v78 v84 v90 hw k k0_h41)) (fun _ => rfl)
        let v2491 : Memref sig .tc .vmem S1024x1536 .fp8e4m3 := v2490.squeeze S1024x1536 squeezes_S1x1024x1536_S1024x1536
        let v2492 : Memref sig .tc .hbm S1x1024x1536 .fp8e4m3 := A2.slice (Rect.unit (s := S16x7168x1536) (k0_off168 v2487) S1x1024x1536.size (k0_off168_inb v0 v6 v12 v18 v24 v30 v36 v42 v48 v54 v60 v66 v72 v78 v84 v90 k v2487 k0_hw49 k0_h41)) (fun _ => rfl)
        let v2493 : Memref sig .tc .hbm S1024x1536 .fp8e4m3 := v2492.squeeze S1024x1536 squeezes_S1x1024x1536_S1024x1536
        Prog.lift (.enqueueDma v2493 (.here v2491) (.dma v2489.sem) (((Memref.isWhole_whole _ : A2.IsWhole).wordExact_slice rfl _ (k0_off168_wordsfp8e4m3 v0 v6 v12 v18 v24 v30 v36 v42 v48 v54 v60 v66 v72 v78 v84 v90 k v2487 k0_hw49 k0_h41)).reshape _ _) (((Memref.isWhole_whole _ : A8.IsWhole).wordExact_slice rfl _ (k0_off167_wordsfp8e4m3 v0 v6 v12 v18 v24 v30 v36 v42 v48 v54 v60 v66 v72 v78 v84 v90 hw k k0_h41)).reshape _ _) ⟨Or.inl rfl, trivial⟩)
        R) else R) Q) := by
  have hkn := klt hn hN k
  have hk : k.val < 16 := lt_of_lt_of_le hkn hn
  by_cases h : k.val + 2 < n
  · rw [dif_pos ((cond41 k hk hn hN).2 h)]
    unfold Gnext
    rw [if_pos h]
    dsimp only
    iintro ⟨H5, H8, HS, HK⟩ K
    iapply (lw5 c (p16 (k.val + 2)) (off165 k (by omega))) $$ H5
    iintro H5
    iapply (W_assume c (by rw [hT _ h]; exact chk49 k _))
    iapply (startG c (fx := fw) (sl k.val) 4 (act (k.val + 2)) (off166 k hk) (off167 k hk) (by rw [hT _ h]; exact off168 _)) $$ [H8 HS HK]
    · unfold Gfree
      isplitl [H8]; · iexact H8
      isplitl [HS]; · iexact HS
      iexact HK
    iintro HG
    iapply K
    isplitl [H5]; · iexact H5
    iexact HG
  · rw [dif_neg (mt (cond41 k hk hn hN).1 h)]
    unfold Gnext
    rw [if_neg h]
    unfold Gfree
    iintro ⟨H5, H8, HS, HK⟩ K
    iapply K
    isplitl [H5]; · iexact H5
    isplitl [H8]; · iexact H8
    isplitl [HS]; · iexact HS
    iexact HK

include hw hn hN hT in
theorem if42 {fw : S16x7168x1536.Idx → Elt F .fp8e4m3} {α : Type} {Q : α → sProp (MT nD τ sig Unit (Elt F) ℕ UU ℕ)} {R : Prog (TpuEff nD τ sig (Elt F) Λ₀ .tc) α} :
    iprop(P5 c ft ∗ (∃ f : S2x7168x1536.Idx → Elt F .fp8e4m3, PW c (wW (sl k.val) 5) fullShare f) ∗ Sem0 c (wsem (sl k.val) 5) ∗ (A2.view.loc (c : Thread nD τ) ↦{qw (sl k.val) 5} fw)) ⊢
      iprop((P5 c ft ∗ Gnext c fw act n k.val 5 -∗ W c R Q) -∗ W c (if k0_h42 : k0_cond42 v0 v6 v12 v18 v24 v30 v36 v42 v48 v54 v60 v66 v72 v78 v84 v90 k = 1#1 then (do
        let v2487 : Elt F .i32 ← smemLoad A5 (Rect.unit (s := S16) (k0_off185 v0 v6 v12 v18 v24 v30 v36 v42 v48 v54 v60 v66 v72 v78 v84 v90 k) S1.size (k0_off185_inb v0 v6 v12 v18 v24 v30 v36 v42 v48 v54 v60 v66 v72 v78 v84 v90 hw k k0_h42)) numel1_S1 rfl
        have k0_hw51 : k0_chk51 v0 v6 v12 v18 v24 v30 v36 v42 v48 v54 v60 v66 v72 v78 v84 v90 k v2487 := (← Prog.lift (TpuEff.assume (k0_chk51 v0 v6 v12 v18 v24 v30 v36 v42 v48 v54 v60 v66 v72 v78 v84 v90 k v2487) (k0_chk51.dec v0 v6 v12 v18 v24 v30 v36 v42 v48 v54 v60 v66 v72 v78 v84 v90 k v2487))).down
        let v2488 : DmaSems sig S1x1 := cc0_scratch10.slice (Rect.unit (s := S2x7) (k0_off186 v0 v6 v12 v18 v24 v30 v36 v42 v48 v54 v60 v66 v72 v78 v84 v90 k) S1x1.size (k0_off186_inb v0 v6 v12 v18 v24 v30 v36 v42 v48 v54 v60 v66 v72 v78 v84 v90 hw k k0_h42))
        let v2489 : DmaSems sig S_ := v2488.squeeze S_ squeezes_S1x1_S_
        let v2490 : Memref sig .tc .vmem S1x1024x1536 .fp8e4m3 := A8.slice (Rect.unit (s := S2x7168x1536) (k0_off187 v0 v6 v12 v18 v24 v30 v36 v42 v48 v54 v60 v66 v72 v78 v84 v90 k) S1x1024x1536.size (k0_off187_inb v0 v6 v12 v18 v24 v30 v36 v42 v48 v54 v60 v66 v72 v78 v84 v90 hw k k0_h42)) (fun _ => rfl)
        let v2491 : Memref sig .tc .vmem S1024x1536 .fp8e4m3 := v2490.squeeze S1024x1536 squeezes_S1x1024x1536_S1024x1536
        let v2492 : Memref sig .tc .hbm S1x1024x1536 .fp8e4m3 := A2.slice (Rect.unit (s := S16x7168x1536) (k0_off188 v2487) S1x1024x1536.size (k0_off188_inb v0 v6 v12 v18 v24 v30 v36 v42 v48 v54 v60 v66 v72 v78 v84 v90 k v2487 k0_hw51 k0_h42)) (fun _ => rfl)
        let v2493 : Memref sig .tc .hbm S1024x1536 .fp8e4m3 := v2492.squeeze S1024x1536 squeezes_S1x1024x1536_S1024x1536
        Prog.lift (.enqueueDma v2493 (.here v2491) (.dma v2489.sem) (((Memref.isWhole_whole _ : A2.IsWhole).wordExact_slice rfl _ (k0_off188_wordsfp8e4m3 v0 v6 v12 v18 v24 v30 v36 v42 v48 v54 v60 v66 v72 v78 v84 v90 k v2487 k0_hw51 k0_h42)).reshape _ _) (((Memref.isWhole_whole _ : A8.IsWhole).wordExact_slice rfl _ (k0_off187_wordsfp8e4m3 v0 v6 v12 v18 v24 v30 v36 v42 v48 v54 v60 v66 v72 v78 v84 v90 hw k k0_h42)).reshape _ _) ⟨Or.inl rfl, trivial⟩)
        R) else R) Q) := by
  have hkn := klt hn hN k
  have hk : k.val < 16 := lt_of_lt_of_le hkn hn
  by_cases h : k.val + 2 < n
  · rw [dif_pos ((cond42 k hk hn hN).2 h)]
    unfold Gnext
    rw [if_pos h]
    dsimp only
    iintro ⟨H5, H8, HS, HK⟩ K
    iapply (lw5 c (p16 (k.val + 2)) (off185 k (by omega))) $$ H5
    iintro H5
    iapply (W_assume c (by rw [hT _ h]; exact chk51 k _))
    iapply (startG c (fx := fw) (sl k.val) 5 (act (k.val + 2)) (off186 k hk) (off187 k hk) (by rw [hT _ h]; exact off188 _)) $$ [H8 HS HK]
    · unfold Gfree
      isplitl [H8]; · iexact H8
      isplitl [HS]; · iexact HS
      iexact HK
    iintro HG
    iapply K
    isplitl [H5]; · iexact H5
    iexact HG
  · rw [dif_neg (mt (cond42 k hk hn hN).1 h)]
    unfold Gnext
    rw [if_neg h]
    unfold Gfree
    iintro ⟨H5, H8, HS, HK⟩ K
    iapply K
    isplitl [H5]; · iexact H5
    isplitl [H8]; · iexact H8
    isplitl [HS]; · iexact HS
    iexact HK

include hw hn hN hT in
theorem if43 {fw : S16x7168x1536.Idx → Elt F .fp8e4m3} {α : Type} {Q : α → sProp (MT nD τ sig Unit (Elt F) ℕ UU ℕ)} {R : Prog (TpuEff nD τ sig (Elt F) Λ₀ .tc) α} :
    iprop(P5 c ft ∗ (∃ f : S2x7168x1536.Idx → Elt F .fp8e4m3, PW c (wW (sl k.val) 6) fullShare f) ∗ Sem0 c (wsem (sl k.val) 6) ∗ (A2.view.loc (c : Thread nD τ) ↦{qw (sl k.val) 6} fw)) ⊢
      iprop((P5 c ft ∗ Gnext c fw act n k.val 6 -∗ W c R Q) -∗ W c (if k0_h43 : k0_cond43 v0 v6 v12 v18 v24 v30 v36 v42 v48 v54 v60 v66 v72 v78 v84 v90 k = 1#1 then (do
        let v2487 : Elt F .i32 ← smemLoad A5 (Rect.unit (s := S16) (k0_off205 v0 v6 v12 v18 v24 v30 v36 v42 v48 v54 v60 v66 v72 v78 v84 v90 k) S1.size (k0_off205_inb v0 v6 v12 v18 v24 v30 v36 v42 v48 v54 v60 v66 v72 v78 v84 v90 hw k k0_h43)) numel1_S1 rfl
        have k0_hw53 : k0_chk53 v0 v6 v12 v18 v24 v30 v36 v42 v48 v54 v60 v66 v72 v78 v84 v90 k v2487 := (← Prog.lift (TpuEff.assume (k0_chk53 v0 v6 v12 v18 v24 v30 v36 v42 v48 v54 v60 v66 v72 v78 v84 v90 k v2487) (k0_chk53.dec v0 v6 v12 v18 v24 v30 v36 v42 v48 v54 v60 v66 v72 v78 v84 v90 k v2487))).down
        let v2488 : DmaSems sig S1x1 := cc0_scratch10.slice (Rect.unit (s := S2x7) (k0_off206 v0 v6 v12 v18 v24 v30 v36 v42 v48 v54 v60 v66 v72 v78 v84 v90 k) S1x1.size (k0_off206_inb v0 v6 v12 v18 v24 v30 v36 v42 v48 v54 v60 v66 v72 v78 v84 v90 hw k k0_h43))
        let v2489 : DmaSems sig S_ := v2488.squeeze S_ squeezes_S1x1_S_
        let v2490 : Memref sig .tc .vmem S1x1024x1536 .fp8e4m3 := A8.slice (Rect.unit (s := S2x7168x1536) (k0_off207 v0 v6 v12 v18 v24 v30 v36 v42 v48 v54 v60 v66 v72 v78 v84 v90 k) S1x1024x1536.size (k0_off207_inb v0 v6 v12 v18 v24 v30 v36 v42 v48 v54 v60 v66 v72 v78 v84 v90 hw k k0_h43)) (fun _ => rfl)
        let v2491 : Memref sig .tc .vmem S1024x1536 .fp8e4m3 := v2490.squeeze S1024x1536 squeezes_S1x1024x1536_S1024x1536
        let v2492 : Memref sig .tc .hbm S1x1024x1536 .fp8e4m3 := A2.slice (Rect.unit (s := S16x7168x1536) (k0_off208 v2487) S1x1024x1536.size (k0_off208_inb v0 v6 v12 v18 v24 v30 v36 v42 v48 v54 v60 v66 v72 v78 v84 v90 k v2487 k0_hw53 k0_h43)) (fun _ => rfl)
        let v2493 : Memref sig .tc .hbm S1024x1536 .fp8e4m3 := v2492.squeeze S1024x1536 squeezes_S1x1024x1536_S1024x1536
        Prog.lift (.enqueueDma v2493 (.here v2491) (.dma v2489.sem) (((Memref.isWhole_whole _ : A2.IsWhole).wordExact_slice rfl _ (k0_off208_wordsfp8e4m3 v0 v6 v12 v18 v24 v30 v36 v42 v48 v54 v60 v66 v72 v78 v84 v90 k v2487 k0_hw53 k0_h43)).reshape _ _) (((Memref.isWhole_whole _ : A8.IsWhole).wordExact_slice rfl _ (k0_off207_wordsfp8e4m3 v0 v6 v12 v18 v24 v30 v36 v42 v48 v54 v60 v66 v72 v78 v84 v90 hw k k0_h43)).reshape _ _) ⟨Or.inl rfl, trivial⟩)
        R) else R) Q) := by
  have hkn := klt hn hN k
  have hk : k.val < 16 := lt_of_lt_of_le hkn hn
  by_cases h : k.val + 2 < n
  · rw [dif_pos ((cond43 k hk hn hN).2 h)]
    unfold Gnext
    rw [if_pos h]
    dsimp only
    iintro ⟨H5, H8, HS, HK⟩ K
    iapply (lw5 c (p16 (k.val + 2)) (off205 k (by omega))) $$ H5
    iintro H5
    iapply (W_assume c (by rw [hT _ h]; exact chk53 k _))
    iapply (startG c (fx := fw) (sl k.val) 6 (act (k.val + 2)) (off206 k hk) (off207 k hk) (by rw [hT _ h]; exact off208 _)) $$ [H8 HS HK]
    · unfold Gfree
      isplitl [H8]; · iexact H8
      isplitl [HS]; · iexact HS
      iexact HK
    iintro HG
    iapply K
    isplitl [H5]; · iexact H5
    iexact HG
  · rw [dif_neg (mt (cond43 k hk hn hN).1 h)]
    unfold Gnext
    rw [if_neg h]
    unfold Gfree
    iintro ⟨H5, H8, HS, HK⟩ K
    iapply K
    isplitl [H5]; · iexact H5
    isplitl [H8]; · iexact H8
    isplitl [HS]; · iexact HS
    iexact HK

end ifs

end Cert.Proof.KernelIdeal
end
end
-- ==== Proof.KernelIdeal.PartsB.lean ====
module

public import proofs.«01_k».proof.Proof.KernelIdeal.State
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Transfers
public import Idealize.ShloMosaic.Lib.Batch
public import Idealize.ShloMosaic.Adequacy
public import Idealize.ShloMosaic.Init

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] (c : Dev nD)
variable {v0 v6 v12 v18 v24 v30 v36 v42 v48 v54 v60 v66 v72 v78 v84 v90 : BitVec 32} (hw : k0_chk15 v0 v6 v12 v18 v24 v30 v36 v42 v48 v54 v60 v66 v72 v78 v84 v90) {n : ℕ} (hn : n ≤ 16) (hN : NW v0 v6 v12 v18 v24 v30 v36 v42 v48 v54 v60 v66 v72 v78 v84 v90 = BitVec.ofNat 32 n)
  {act : ℕ → Fin 16} {ft : S16.Idx → Elt F .i32} (hT : ∀ i, i < n → tw ft (p16 i) = BitVec.ofNat 32 (act i).val)
  (k : Fin (k0_t1_loop v0 v6 v12 v18 v24 v30 v36 v42 v48 v54 v60 v66 v72 v78 v84 v90).trips)

include hw hn hN hT in
theorem part34 {f9 : S24x1536.Idx → Elt F .f32} {f10 : S56x1536.Idx → Elt F .f32} {f6 : S2x24x1536.Idx → Elt F .bf16} {f7 : S2x56x12.Idx → Elt F .f32} {fx : S16x24x1536.Idx → Elt F .bf16} {fs : S16x56x12.Idx → Elt F .f32} {vv : ℕ → S24x7168.Idx → Elt F .bf16} (v95 : BitVec 32) (arg18 : BitVec 32) (v249 : Elt F .i32) (v270 : FVec F S56x12 .f32) (v1511 : IVec S24x1 32) (v1520 : FVec F S24x128 .f32) (cst_556 : F .f32) {Q : (Σ' (v1552 : IVec S24x128 1) (v1554 : Elt F .i32), k0_chk40 v1554) → sProp (MT nD τ sig Unit (Elt F) ℕ UU ℕ)} :
    iprop(P9 c f9 ∗ P10 c f10 ∗ P5 c ft ∗ Oprev c act vv k.val ∗ OW c ∗ PW c (xW (sl k.val)) fullShare f6 ∗ Sem0 c (xsem (sl k.val)) ∗ (A1.view.loc (c : Thread nD τ) ↦{qx (sl k.val)} fx) ∗ PW c (sW (sl k.val)) fullShare f7 ∗ Sem0 c (ssem (sl k.val)) ∗ (A3.view.loc (c : Thread nD τ) ↦{qx (sl k.val)} fs)) ⊢ iprop((∀ (r0 : IVec S24x128 1) (r1 : Elt F .i32) (r2 : k0_chk40 r1) (g9 : S24x1536.Idx → Elt F .f32) (g10 : S56x1536.Idx → Elt F .f32), ⌜r0 = k0_pay114 v249 ∧ r1 = (tw ft (p16 k.val)) ∧ g9 = (put9 f9 (Rect.unit (s := S24x1536) ![0, 1408] S24x128.size inb_S24x1536_S24x128_0_1408) (k0_pay112 v1511 v1520 cst_556)) ∧ g10 = (put10 f10 (Rect.unit (s := S56x1536) ![0, 1408] S56x128.size inb_S56x1536_S56x128_0_1408) (k0_pay113 v270))⌝ ∗ P9 c g9 ∗ P10 c g10 ∗ P5 c ft ∗ OW c ∗ Ofree c (sl k.val) ∗ Rprev c act vv k.val ∗ Xnext c fx act n k.val ∗ Snext c fs act n k.val -∗ Q ⟨r0, r1, r2⟩) -∗ W c (k0_part34 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw v95 k arg18 v249 v270 v1511 v1520 cst_556) Q) := by
  have hkn := klt hn hN k
  have hk : k.val < 16 := lt_of_lt_of_le hkn hn
  rw [k0_part34_eq_skeleton]
  unfold k0_part34_skel
  try dsimp only
  iintro ⟨H9, H10, H5, HO, HW, H6, HS6, HK6, H7, HS7, HK7⟩ K
  iapply (ld9 c) $$ H9
  iintro H9
  iapply (st9 c) $$ H9
  iintro H9
  iapply (ld10 c) $$ H10
  iintro H10
  iapply (st10 c) $$ H10
  iintro H10
  iapply (if35 c hw hn hN hT k) $$ [H5 HO HW]
  · isplitl [H5]; · iexact H5
    isplitl [HO]; · iexact HO
    iexact HW
  iintro ⟨H5, HOF, HR, HW⟩
  iapply (if36 c hw hn hN hT k) $$ [H5 H6 HS6 HK6 H7 HS7 HK7]
  · isplitl [H5]; · iexact H5
    isplitl [H6]; · iexists _; iexact H6
    isplitl [HS6]; · iexact HS6
    isplitl [HK6]; · iexact HK6
    isplitl [H7]; · iexists _; iexact H7
    isplitl [HS7]; · iexact HS7
    iexact HK7
  iintro ⟨H5, HX, HS⟩
  iapply (lw5 c (p16 k.val) (off69 k hk)) $$ H5
  iintro H5
  iapply (W_assume c (by rw [hT _ hkn]; exact chk40 _))
  iapply W_pure
  iapply K
  isplitr; · ipureintro; exact ⟨rfl, rfl, rfl, rfl⟩
  isplitl [H9]; · iexact H9
  isplitl [H10]; · iexact H10
  isplitl [H5]; · iexact H5
  isplitl [HW]; · iexact HW
  isplitl [HOF]; · iexact HOF
  isplitl [HR]; · iexact HR
  isplitl [HX]; · iexact HX
  iexact HS

include hw hn hN hT in
theorem part35 {f9 : S24x1536.Idx → Elt F .f32} {f10 : S56x1536.Idx → Elt F .f32} {f11 : S2x24x7168.Idx → Elt F .bf16} {fw : S16x7168x1536.Idx → Elt F .fp8e4m3} (v245 : BitVec 32) (v1552 : IVec S24x128 1) (v1554 : Elt F .i32) (k0_hw40 : k0_chk40 v1554) {Q : (FVec F S24x1536 .f32) → sProp (MT nD τ sig Unit (Elt F) ℕ UU ℕ)} :
    iprop(OW c ∗ Gin c fw (sl k.val) 0 (act k.val) ∗ P9 c f9 ∗ P10 c f10 ∗ PW c (oW (sl k.val)) fullShare f11) ⊢ iprop((∀ (r0 : FVec F S24x1536 .f32) (g11 : S2x24x7168.Idx → Elt F .bf16) (g8 : S2x7168x1536.Idx → Elt F .fp8e4m3), ⌜r0 = (k0_pay118 (A9.view.readAt (Elt F) (Rect.unit (s := S24x1536) ![0, 0] S24x1536.size inb_S24x1536_S24x1536_0_0).toLoadRect f9) (A10.view.readAt (Elt F) (Rect.unit (s := S56x1536) ![2, 0] S1x1536.size inb_S56x1536_S1x1536_2_0).toLoadRect f10)) ∧ g11 = (put11 (put11 f11 (Rect.unit (s := S2x24x7168) (k0_off74 v0 v6 v12 v18 v24 v30 v36 v42 v48 v54 v60 v66 v72 v78 v84 v90 k) S1x24x128.size (k0_off74_inb v0 v6 v12 v18 v24 v30 v36 v42 v48 v54 v60 v66 v72 v78 v84 v90 hw k)) (k0_pay116 v1552 (A9.view.readAt (Elt F) (Rect.unit (s := S24x1536) ![0, 0] S24x1536.size inb_S24x1536_S24x1536_0_0).toLoadRect f9) (A10.view.readAt (Elt F) (Rect.unit (s := S56x1536) ![0, 0] S1x1536.size inb_S56x1536_S1x1536_0_0).toLoadRect f10) (A9.view.readAt (Elt F) (Rect.unit (s := S24x1536) ![0, 0] S24x1536.size inb_S24x1536_S24x1536_0_0).toLoadRect f9) (A10.view.readAt (Elt F) (Rect.unit (s := S56x1536) ![1, 0] S1x1536.size inb_S56x1536_S1x1536_1_0).toLoadRect f10) (A8.view.readAt (Elt F) (Rect.unit (s := S2x7168x1536) (k0_off73 v0 v6 v12 v18 v24 v30 v36 v42 v48 v54 v60 v66 v72 v78 v84 v90 k) S1x256x1536.size (k0_off73_inb v0 v6 v12 v18 v24 v30 v36 v42 v48 v54 v60 v66 v72 v78 v84 v90 hw k)).toLoadRect g8))) (Rect.unit (s := S2x24x7168) (k0_off75 v0 v6 v12 v18 v24 v30 v36 v42 v48 v54 v60 v66 v72 v78 v84 v90 k) S1x24x128.size (k0_off75_inb v0 v6 v12 v18 v24 v30 v36 v42 v48 v54 v60 v66 v72 v78 v84 v90 hw k)) (k0_pay117 v1552 (A9.view.readAt (Elt F) (Rect.unit (s := S24x1536) ![0, 0] S24x1536.size inb_S24x1536_S24x1536_0_0).toLoadRect f9) (A10.view.readAt (Elt F) (Rect.unit (s := S56x1536) ![0, 0] S1x1536.size inb_S56x1536_S1x1536_0_0).toLoadRect f10) (A9.view.readAt (Elt F) (Rect.unit (s := S24x1536) ![0, 0] S24x1536.size inb_S24x1536_S24x1536_0_0).toLoadRect f9) (A10.view.readAt (Elt F) (Rect.unit (s := S56x1536) ![1, 0] S1x1536.size inb_S56x1536_S1x1536_1_0).toLoadRect f10) (A8.view.readAt (Elt F) (Rect.unit (s := S2x7168x1536) (k0_off73 v0 v6 v12 v18 v24 v30 v36 v42 v48 v54 v60 v66 v72 v78 v84 v90 k) S1x256x1536.size (k0_off73_inb v0 v6 v12 v18 v24 v30 v36 v42 v48 v54 v60 v66 v72 v78 v84 v90 hw k)).toLoadRect g8))) ∧ (wW (sl k.val) 0).view.read (Elt F) g8 = (wE (act k.val) 0).view.read (Elt F) fw⌝ ∗ OW c ∗ PW c (wW (sl k.val) 0) fullShare g8 ∗ Sem0 c (wsem (sl k.val) 0) ∗ (A2.view.loc (c : Thread nD τ) ↦{qw (sl k.val) 0} fw) ∗ P9 c f9 ∗ P10 c f10 ∗ PW c (oW (sl k.val)) fullShare g11 -∗ Q r0) -∗ W c (k0_part35 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v1554 k0_hw40) Q) := by
  have hkn := klt hn hN k
  have hk : k.val < 16 := lt_of_lt_of_le hkn hn
  rw [k0_part35_eq_skeleton]
  unfold k0_part35_skel
  try dsimp only
  iintro ⟨HW, HIG0, H9, H10, H11⟩ K
  iapply (waitG c (sl k.val) 0 (act k.val) (off70 k hk) (off71 k hk)) $$ [HIG0 HW]
  · isplitl [HIG0] <;> iassumption
  iintro %g8 %hg8 H8_0 HS0 HK0 HW
  iapply (ld9 c) $$ H9
  iintro H9
  iapply (ld10 c) $$ H10
  iintro H10
  iapply (ld9 c) $$ H9
  iintro H9
  iapply (ld10 c) $$ H10
  iintro H10
  iapply (ld8 c (sl k.val) 0 0 (off73 k hk) (by decide) (by decide)) $$ H8_0
  iintro H8_0
  iapply (ld11 c (sl k.val) 0 (off74 k hk) (by decide)) $$ H11
  iintro H11
  iapply (st11 c (sl k.val) 0 (off74 k hk) (by decide)) $$ H11
  iintro H11
  iapply (ld11 c (sl k.val) 128 (off75 k hk) (by decide)) $$ H11
  iintro H11
  iapply (st11 c (sl k.val) 128 (off75 k hk) (by decide)) $$ H11
  iintro H11
  iapply (ld9 c) $$ H9
  iintro H9
  iapply (ld10 c) $$ H10
  iintro H10
  iapply W_pure
  iapply K
  isplitr; · ipureintro; exact ⟨rfl, rfl, hg8⟩
  isplitl [HW]; · iexact HW
  isplitl [H8_0]; · iexact H8_0
  isplitl [HS0]; · iexact HS0
  isplitl [HK0]; · iexact HK0
  isplitl [H9]; · iexact H9
  isplitl [H10]; · iexact H10
  iexact H11

include hw hn hN hT in
theorem part36 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v1594 : FVec F S24x1536 .f32) {Q : (FVec F S48x1536 .bf16) → sProp (MT nD τ sig Unit (Elt F) ℕ UU ℕ)} :
    iprop(P9 c f9 ∗ P10 c f10 ∗ PW c (wW (sl k.val) 0) fullShare f8 ∗ PW c (oW (sl k.val)) fullShare f11) ⊢ iprop((∀ (r0 : FVec F S48x1536 .bf16) (g11 : S2x24x7168.Idx → Elt F .bf16), ⌜r0 = (k0_pay122 (A9.view.readAt (Elt F) (Rect.unit (s := S24x1536) ![0, 0] S24x1536.size inb_S24x1536_S24x1536_0_0).toLoadRect f9) (A10.view.readAt (Elt F) (Rect.unit (s := S56x1536) ![4, 0] S1x1536.size inb_S56x1536_S1x1536_4_0).toLoadRect f10) (A9.view.readAt (Elt F) (Rect.unit (s := S24x1536) ![0, 0] S24x1536.size inb_S24x1536_S24x1536_0_0).toLoadRect f9) (A10.view.readAt (Elt F) (Rect.unit (s := S56x1536) ![5, 0] S1x1536.size inb_S56x1536_S1x1536_5_0).toLoadRect f10)) ∧ g11 = (put11 (put11 f11 (Rect.unit (s := S2x24x7168) (k0_off77 v0 v6 v12 v18 v24 v30 v36 v42 v48 v54 v60 v66 v72 v78 v84 v90 k) S1x24x128.size (k0_off77_inb v0 v6 v12 v18 v24 v30 v36 v42 v48 v54 v60 v66 v72 v78 v84 v90 hw k)) (k0_pay120 v1552 v1594 (A9.view.readAt (Elt F) (Rect.unit (s := S24x1536) ![0, 0] S24x1536.size inb_S24x1536_S24x1536_0_0).toLoadRect f9) (A10.view.readAt (Elt F) (Rect.unit (s := S56x1536) ![3, 0] S1x1536.size inb_S56x1536_S1x1536_3_0).toLoadRect f10) (A8.view.readAt (Elt F) (Rect.unit (s := S2x7168x1536) (k0_off76 v0 v6 v12 v18 v24 v30 v36 v42 v48 v54 v60 v66 v72 v78 v84 v90 k) S1x256x1536.size (k0_off76_inb v0 v6 v12 v18 v24 v30 v36 v42 v48 v54 v60 v66 v72 v78 v84 v90 hw k)).toLoadRect f8))) (Rect.unit (s := S2x24x7168) (k0_off78 v0 v6 v12 v18 v24 v30 v36 v42 v48 v54 v60 v66 v72 v78 v84 v90 k) S1x24x128.size (k0_off78_inb v0 v6 v12 v18 v24 v30 v36 v42 v48 v54 v60 v66 v72 v78 v84 v90 hw k)) (k0_pay121 v1552 v1594 (A9.view.readAt (Elt F) (Rect.unit (s := S24x1536) ![0, 0] S24x1536.size inb_S24x1536_S24x1536_0_0).toLoadRect f9) (A10.view.readAt (Elt F) (Rect.unit (s := S56x1536) ![3, 0] S1x1536.size inb_S56x1536_S1x1536_3_0).toLoadRect f10) (A8.view.readAt (Elt F) (Rect.unit (s := S2x7168x1536) (k0_off76 v0 v6 v12 v18 v24 v30 v36 v42 v48 v54 v60 v66 v72 v78 v84 v90 k) S1x256x1536.size (k0_off76_inb v0 v6 v12 v18 v24 v30 v36 v42 v48 v54 v60 v66 v72 v78 v84 v90 hw k)).toLoadRect f8)))⌝ ∗ P9 c f9 ∗ P10 c f10 ∗ PW c (wW (sl k.val) 0) fullShare f8 ∗ PW c (oW (sl k.val)) fullShare g11 -∗ Q r0) -∗ W c (k0_part36 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v1594) Q) := by
  have hkn := klt hn hN k
  have hk : k.val < 16 := lt_of_lt_of_le hkn hn
  rw [k0_part36_eq_skeleton]
  unfold k0_part36_skel
  try dsimp only
  iintro ⟨H9, H10, H8_0, H11⟩ K
  iapply (ld9 c) $$ H9
  iintro H9
  iapply (ld10 c) $$ H10
  iintro H10
  iapply (ld8 c (sl k.val) 0 256 (off76 k hk) (by decide) (by decide)) $$ H8_0
  iintro H8_0
  iapply (ld11 c (sl k.val) 256 (off77 k hk) (by decide)) $$ H11
  iintro H11
  iapply (st11 c (sl k.val) 256 (off77 k hk) (by decide)) $$ H11
  iintro H11
  iapply (ld11 c (sl k.val) 384 (off78 k hk) (by decide)) $$ H11
  iintro H11
  iapply (st11 c (sl k.val) 384 (off78 k hk) (by decide)) $$ H11
  iintro H11
  iapply (ld9 c) $$ H9
  iintro H9
  iapply (ld10 c) $$ H10
  iintro H10
  iapply (ld9 c) $$ H9
  iintro H9
  iapply (ld10 c) $$ H10
  iintro H10
  iapply W_pure
  iapply K
  isplitr; · ipureintro; exact ⟨rfl, rfl⟩
  isplitl [H9]; · iexact H9
  isplitl [H10]; · iexact H10
  isplitl [H8_0]; · iexact H8_0
  iexact H11

include hw hn hN hT in
theorem part37 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v1630 : FVec F S48x1536 .bf16) {Q : (Σ' (v1664 : FVec F S48x256 .f32), FVec F S24x128 .bf16) → sProp (MT nD τ sig Unit (Elt F) ℕ UU ℕ)} :
    iprop(PW c (wW (sl k.val) 0) fullShare f8 ∗ PW c (oW (sl k.val)) fullShare f11 ∗ P9 c f9 ∗ P10 c f10) ⊢ iprop((∀ (r0 : FVec F S48x256 .f32) (r1 : FVec F S24x128 .bf16) (g11 : S2x24x7168.Idx → Elt F .bf16), ⌜r0 = k0_pay126 (A9.view.readAt (Elt F) (Rect.unit (s := S24x1536) ![0, 0] S24x1536.size inb_S24x1536_S24x1536_0_0).toLoadRect f9) (A10.view.readAt (Elt F) (Rect.unit (s := S56x1536) ![6, 0] S1x1536.size inb_S56x1536_S1x1536_6_0).toLoadRect f10) (A9.view.readAt (Elt F) (Rect.unit (s := S24x1536) ![0, 0] S24x1536.size inb_S24x1536_S24x1536_0_0).toLoadRect f9) (A10.view.readAt (Elt F) (Rect.unit (s := S56x1536) ![7, 0] S1x1536.size inb_S56x1536_S1x1536_7_0).toLoadRect f10) (A8.view.readAt (Elt F) (Rect.unit (s := S2x7168x1536) (k0_off82 v0 v6 v12 v18 v24 v30 v36 v42 v48 v54 v60 v66 v72 v78 v84 v90 k) S1x256x1536.size (k0_off82_inb v0 v6 v12 v18 v24 v30 v36 v42 v48 v54 v60 v66 v72 v78 v84 v90 hw k)).toLoadRect f8) ∧ r1 = k0_pay127 v1552 (A9.view.readAt (Elt F) (Rect.unit (s := S24x1536) ![0, 0] S24x1536.size inb_S24x1536_S24x1536_0_0).toLoadRect f9) (A10.view.readAt (Elt F) (Rect.unit (s := S56x1536) ![6, 0] S1x1536.size inb_S56x1536_S1x1536_6_0).toLoadRect f10) (A9.view.readAt (Elt F) (Rect.unit (s := S24x1536) ![0, 0] S24x1536.size inb_S24x1536_S24x1536_0_0).toLoadRect f9) (A10.view.readAt (Elt F) (Rect.unit (s := S56x1536) ![7, 0] S1x1536.size inb_S56x1536_S1x1536_7_0).toLoadRect f10) (A8.view.readAt (Elt F) (Rect.unit (s := S2x7168x1536) (k0_off82 v0 v6 v12 v18 v24 v30 v36 v42 v48 v54 v60 v66 v72 v78 v84 v90 k) S1x256x1536.size (k0_off82_inb v0 v6 v12 v18 v24 v30 v36 v42 v48 v54 v60 v66 v72 v78 v84 v90 hw k)).toLoadRect f8) ∧ g11 = (put11 (put11 f11 (Rect.unit (s := S2x24x7168) (k0_off80 v0 v6 v12 v18 v24 v30 v36 v42 v48 v54 v60 v66 v72 v78 v84 v90 k) S1x24x128.size (k0_off80_inb v0 v6 v12 v18 v24 v30 v36 v42 v48 v54 v60 v66 v72 v78 v84 v90 hw k)) (k0_pay124 v1552 v1630 (A8.view.readAt (Elt F) (Rect.unit (s := S2x7168x1536) (k0_off79 v0 v6 v12 v18 v24 v30 v36 v42 v48 v54 v60 v66 v72 v78 v84 v90 k) S1x256x1536.size (k0_off79_inb v0 v6 v12 v18 v24 v30 v36 v42 v48 v54 v60 v66 v72 v78 v84 v90 hw k)).toLoadRect f8))) (Rect.unit (s := S2x24x7168) (k0_off81 v0 v6 v12 v18 v24 v30 v36 v42 v48 v54 v60 v66 v72 v78 v84 v90 k) S1x24x128.size (k0_off81_inb v0 v6 v12 v18 v24 v30 v36 v42 v48 v54 v60 v66 v72 v78 v84 v90 hw k)) (k0_pay125 v1552 v1630 (A8.view.readAt (Elt F) (Rect.unit (s := S2x7168x1536) (k0_off79 v0 v6 v12 v18 v24 v30 v36 v42 v48 v54 v60 v66 v72 v78 v84 v90 k) S1x256x1536.size (k0_off79_inb v0 v6 v12 v18 v24 v30 v36 v42 v48 v54 v60 v66 v72 v78 v84 v90 hw k)).toLoadRect f8)))⌝ ∗ PW c (wW (sl k.val) 0) fullShare f8 ∗ PW c (oW (sl k.val)) fullShare g11 ∗ P9 c f9 ∗ P10 c f10 -∗ Q ⟨r0, r1⟩) -∗ W c (k0_part37 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v1630) Q) := by
  have hkn := klt hn hN k
  have hk : k.val < 16 := lt_of_lt_of_le hkn hn
  rw [k0_part37_eq_skeleton]
  unfold k0_part37_skel
  try dsimp only
  iintro ⟨H8_0, H11, H9, H10⟩ K
  iapply (ld8 c (sl k.val) 0 512 (off79 k hk) (by decide) (by decide)) $$ H8_0
  iintro H8_0
  iapply (ld11 c (sl k.val) 512 (off80 k hk) (by decide)) $$ H11
  iintro H11
  iapply (st11 c (sl k.val) 512 (off80 k hk) (by decide)) $$ H11
  iintro H11
  iapply (ld11 c (sl k.val) 640 (off81 k hk) (by decide)) $$ H11
  iintro H11
  iapply (st11 c (sl k.val) 640 (off81 k hk) (by decide)) $$ H11
  iintro H11
  iapply (ld9 c) $$ H9
  iintro H9
  iapply (ld10 c) $$ H10
  iintro H10
  iapply (ld9 c) $$ H9
  iintro H9
  iapply (ld10 c) $$ H10
  iintro H10
  iapply (ld8 c (sl k.val) 0 768 (off82 k hk) (by decide) (by decide)) $$ H8_0
  iintro H8_0
  iapply W_pure
  iapply K
  isplitr; · ipureintro; exact ⟨rfl, rfl, rfl⟩
  isplitl [H8_0]; · iexact H8_0
  isplitl [H11]; · iexact H11
  isplitl [H9]; · iexact H9
  iexact H10

include hw hn hN hT in
theorem part38 {f9 : S24x1536.Idx → Elt F .f32} {f10 : S56x1536.Idx → Elt F .f32} {f11 : S2x24x7168.Idx → Elt F .bf16} {f8 : S2x7168x1536.Idx → Elt F .fp8e4m3} {fw : S16x7168x1536.Idx → Elt F .fp8e4m3} (v95 : BitVec 32) (arg18 : BitVec 32) (v245 : BitVec 32) (v1552 : IVec S24x128 1) (v1664 : FVec F S48x256 .f32) (v1668 : FVec F S24x128 .bf16) {Q : (FVec F S48x1536 .bf16) → sProp (MT nD τ sig Unit (Elt F) ℕ UU ℕ)} :
    iprop(PW c (oW (sl k.val)) fullShare f11 ∗ P5 c ft ∗ PW c (wW (sl k.val) 0) fullShare f8 ∗ Sem0 c (wsem (sl k.val) 0) ∗ (A2.view.loc (c : Thread nD τ) ↦{qw (sl k.val) 0} fw) ∗ OW c ∗ Gin c fw (sl k.val) 1 (act k.val) ∗ P9 c f9 ∗ P10 c f10) ⊢ iprop((∀ (r0 : FVec F S48x1536 .bf16) (g11 : S2x24x7168.Idx → Elt F .bf16) (g8 : S2x7168x1536.Idx → Elt F .fp8e4m3), ⌜r0 = (k0_pay130 (A9.view.readAt (Elt F) (Rect.unit (s := S24x1536) ![0, 0] S24x1536.size inb_S24x1536_S24x1536_0_0).toLoadRect f9) (A10.view.readAt (Elt F) (Rect.unit (s := S56x1536) ![8, 0] S1x1536.size inb_S56x1536_S1x1536_8_0).toLoadRect f10) (A9.view.readAt (Elt F) (Rect.unit (s := S24x1536) ![0, 0] S24x1536.size inb_S24x1536_S24x1536_0_0).toLoadRect f9) (A10.view.readAt (Elt F) (Rect.unit (s := S56x1536) ![9, 0] S1x1536.size inb_S56x1536_S1x1536_9_0).toLoadRect f10)) ∧ g11 = (put11 (put11 f11 (Rect.unit (s := S2x24x7168) (k0_off83 v0 v6 v12 v18 v24 v30 v36 v42 v48 v54 v60 v66 v72 v78 v84 v90 k) S1x24x128.size (k0_off83_inb v0 v6 v12 v18 v24 v30 v36 v42 v48 v54 v60 v66 v72 v78 v84 v90 hw k)) (k0_pay128 v1668)) (Rect.unit (s := S2x24x7168) (k0_off84 v0 v6 v12 v18 v24 v30 v36 v42 v48 v54 v60 v66 v72 v78 v84 v90 k) S1x24x128.size (k0_off84_inb v0 v6 v12 v18 v24 v30 v36 v42 v48 v54 v60 v66 v72 v78 v84 v90 hw k)) (k0_pay129 v1552 v1664)) ∧ (wW (sl k.val) 1).view.read (Elt F) g8 = (wE (act k.val) 1).view.read (Elt F) fw⌝ ∗ PW c (oW (sl k.val)) fullShare g11 ∗ P5 c ft ∗ Gnext c fw act n k.val 0 ∗ OW c ∗ PW c (wW (sl k.val) 1) fullShare g8 ∗ Sem0 c (wsem (sl k.val) 1) ∗ (A2.view.loc (c : Thread nD τ) ↦{qw (sl k.val) 1} fw) ∗ P9 c f9 ∗ P10 c f10 -∗ Q r0) -∗ W c (k0_part38 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw v95 k arg18 v245 v1552 v1664 v1668) Q) := by
  have hkn := klt hn hN k
  have hk : k.val < 16 := lt_of_lt_of_le hkn hn
  rw [k0_part38_eq_skeleton]
  unfold k0_part38_skel
  try dsimp only
  iintro ⟨H11, H5, H8_0, HS0, HK0, HW, HIG1, H9, H10⟩ K
  iapply (ld11 c (sl k.val) 768 (off83 k hk) (by decide)) $$ H11
  iintro H11
  iapply (st11 c (sl k.val) 768 (off83 k hk) (by decide)) $$ H11
  iintro H11
  iapply (ld11 c (sl k.val) 896 (off84 k hk) (by decide)) $$ H11
  iintro H11
  iapply (st11 c (sl k.val) 896 (off84 k hk) (by decide)) $$ H11
  iintro H11
  iapply (if37 c hw hn hN hT k) $$ [H5 H8_0 HS0 HK0]
  · isplitl [H5]; · iexact H5
    isplitl [H8_0]; · iexists _; iexact H8_0
    isplitl [HS0]; · iexact HS0
    iexact HK0
  iintro ⟨H5, HG0⟩
  iapply (lw5 c (p16 k.val) (off89 k hk)) $$ H5
  iintro H5
  iapply (W_assume c (by rw [hT _ hkn]; exact chk42 _))
  iapply (waitG c (sl k.val) 1 (act k.val) (off90 k hk) (off91 k hk)) $$ [HIG1 HW]
  · isplitl [HIG1] <;> iassumption
  iintro %g8 %hg8 H8_1 HS1 HK1 HW
  iapply (ld9 c) $$ H9
  iintro H9
  iapply (ld10 c) $$ H10
  iintro H10
  iapply (ld9 c) $$ H9
  iintro H9
  iapply (ld10 c) $$ H10
  iintro H10
  iapply W_pure
  iapply K
  isplitr; · ipureintro; exact ⟨rfl, rfl, hg8⟩
  isplitl [H11]; · iexact H11
  isplitl [H5]; · iexact H5
  isplitl [HG0]; · iexact HG0
  isplitl [HW]; · iexact HW
  isplitl [H8_1]; · iexact H8_1
  isplitl [HS1]; · iexact HS1
  isplitl [HK1]; · iexact HK1
  isplitl [H9]; · iexact H9
  iexact H10

include hw hn hN hT in
theorem part39 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v1702 : FVec F S48x1536 .bf16) {Q : (Σ' (v1736 : FVec F S48x256 .f32), FVec F S24x128 .bf16) → sProp (MT nD τ sig Unit (Elt F) ℕ UU ℕ)} :
    iprop(PW c (wW (sl k.val) 1) fullShare f8 ∗ PW c (oW (sl k.val)) fullShare f11 ∗ P9 c f9 ∗ P10 c f10) ⊢ iprop((∀ (r0 : FVec F S48x256 .f32) (r1 : FVec F S24x128 .bf16) (g11 : S2x24x7168.Idx → Elt F .bf16), ⌜r0 = k0_pay134 (A9.view.readAt (Elt F) (Rect.unit (s := S24x1536) ![0, 0] S24x1536.size inb_S24x1536_S24x1536_0_0).toLoadRect f9) (A10.view.readAt (Elt F) (Rect.unit (s := S56x1536) ![10, 0] S1x1536.size inb_S56x1536_S1x1536_10_0).toLoadRect f10) (A9.view.readAt (Elt F) (Rect.unit (s := S24x1536) ![0, 0] S24x1536.size inb_S24x1536_S24x1536_0_0).toLoadRect f9) (A10.view.readAt (Elt F) (Rect.unit (s := S56x1536) ![11, 0] S1x1536.size inb_S56x1536_S1x1536_11_0).toLoadRect f10) (A8.view.readAt (Elt F) (Rect.unit (s := S2x7168x1536) (k0_off96 v0 v6 v12 v18 v24 v30 v36 v42 v48 v54 v60 v66 v72 v78 v84 v90 k) S1x256x1536.size (k0_off96_inb v0 v6 v12 v18 v24 v30 v36 v42 v48 v54 v60 v66 v72 v78 v84 v90 hw k)).toLoadRect f8) ∧ r1 = k0_pay135 v1552 (A9.view.readAt (Elt F) (Rect.unit (s := S24x1536) ![0, 0] S24x1536.size inb_S24x1536_S24x1536_0_0).toLoadRect f9) (A10.view.readAt (Elt F) (Rect.unit (s := S56x1536) ![10, 0] S1x1536.size inb_S56x1536_S1x1536_10_0).toLoadRect f10) (A9.view.readAt (Elt F) (Rect.unit (s := S24x1536) ![0, 0] S24x1536.size inb_S24x1536_S24x1536_0_0).toLoadRect f9) (A10.view.readAt (Elt F) (Rect.unit (s := S56x1536) ![11, 0] S1x1536.size inb_S56x1536_S1x1536_11_0).toLoadRect f10) (A8.view.readAt (Elt F) (Rect.unit (s := S2x7168x1536) (k0_off96 v0 v6 v12 v18 v24 v30 v36 v42 v48 v54 v60 v66 v72 v78 v84 v90 k) S1x256x1536.size (k0_off96_inb v0 v6 v12 v18 v24 v30 v36 v42 v48 v54 v60 v66 v72 v78 v84 v90 hw k)).toLoadRect f8) ∧ g11 = (put11 (put11 f11 (Rect.unit (s := S2x24x7168) (k0_off94 v0 v6 v12 v18 v24 v30 v36 v42 v48 v54 v60 v66 v72 v78 v84 v90 k) S1x24x128.size (k0_off94_inb v0 v6 v12 v18 v24 v30 v36 v42 v48 v54 v60 v66 v72 v78 v84 v90 hw k)) (k0_pay132 v1552 v1702 (A8.view.readAt (Elt F) (Rect.unit (s := S2x7168x1536) (k0_off93 v0 v6 v12 v18 v24 v30 v36 v42 v48 v54 v60 v66 v72 v78 v84 v90 k) S1x256x1536.size (k0_off93_inb v0 v6 v12 v18 v24 v30 v36 v42 v48 v54 v60 v66 v72 v78 v84 v90 hw k)).toLoadRect f8))) (Rect.unit (s := S2x24x7168) (k0_off95 v0 v6 v12 v18 v24 v30 v36 v42 v48 v54 v60 v66 v72 v78 v84 v90 k) S1x24x128.size (k0_off95_inb v0 v6 v12 v18 v24 v30 v36 v42 v48 v54 v60 v66 v72 v78 v84 v90 hw k)) (k0_pay133 v1552 v1702 (A8.view.readAt (Elt F) (Rect.unit (s := S2x7168x1536) (k0_off93 v0 v6 v12 v18 v24 v30 v36 v42 v48 v54 v60 v66 v72 v78 v84 v90 k) S1x256x1536.size (k0_off93_inb v0 v6 v12 v18 v24 v30 v36 v42 v48 v54 v60 v66 v72 v78 v84 v90 hw k)).toLoadRect f8)))⌝ ∗ PW c (wW (sl k.val) 1) fullShare f8 ∗ PW c (oW (sl k.val)) fullShare g11 ∗ P9 c f9 ∗ P10 c f10 -∗ Q ⟨r0, r1⟩) -∗ W c (k0_part39 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v1702) Q) := by
  have hkn := klt hn hN k
  have hk : k.val < 16 := lt_of_lt_of_le hkn hn
  rw [k0_part39_eq_skeleton]
  unfold k0_part39_skel
  try dsimp only
  iintro ⟨H8_1, H11, H9, H10⟩ K
  iapply (ld8 c (sl k.val) 1 1024 (off93 k hk) (by decide) (by decide)) $$ H8_1
  iintro H8_1
  iapply (ld11 c (sl k.val) 1024 (off94 k hk) (by decide)) $$ H11
  iintro H11
  iapply (st11 c (sl k.val) 1024 (off94 k hk) (by decide)) $$ H11
  iintro H11
  iapply (ld11 c (sl k.val) 1152 (off95 k hk) (by decide)) $$ H11
  iintro H11
  iapply (st11 c (sl k.val) 1152 (off95 k hk) (by decide)) $$ H11
  iintro H11
  iapply (ld9 c) $$ H9
  iintro H9
  iapply (ld10 c) $$ H10
  iintro H10
  iapply (ld9 c) $$ H9
  iintro H9
  iapply (ld10 c) $$ H10
  iintro H10
  iapply (ld8 c (sl k.val) 1 1280 (off96 k hk) (by decide) (by decide)) $$ H8_1
  iintro H8_1
  iapply W_pure
  iapply K
  isplitr; · ipureintro; exact ⟨rfl, rfl, rfl⟩
  isplitl [H8_1]; · iexact H8_1
  isplitl [H11]; · iexact H11
  isplitl [H9]; · iexact H9
  iexact H10

include hw hn hN hT in
theorem part40 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v1736 : FVec F S48x256 .f32) (v1740 : FVec F S24x128 .bf16) {Q : (FVec F S24x128 .bf16) → sProp (MT nD τ sig Unit (Elt F) ℕ UU ℕ)} :
    iprop(PW c (oW (sl k.val)) fullShare f11 ∗ P9 c f9 ∗ P10 c f10 ∗ PW c (wW (sl k.val) 1) fullShare f8) ⊢ iprop((∀ (r0 : FVec F S24x128 .bf16) (g11 : S2x24x7168.Idx → Elt F .bf16), ⌜r0 = (k0_pay140 v1552 (A9.view.readAt (Elt F) (Rect.unit (s := S24x1536) ![0, 0] S24x1536.size inb_S24x1536_S24x1536_0_0).toLoadRect f9) (A10.view.readAt (Elt F) (Rect.unit (s := S56x1536) ![12, 0] S1x1536.size inb_S56x1536_S1x1536_12_0).toLoadRect f10) (A9.view.readAt (Elt F) (Rect.unit (s := S24x1536) ![0, 0] S24x1536.size inb_S24x1536_S24x1536_0_0).toLoadRect f9) (A10.view.readAt (Elt F) (Rect.unit (s := S56x1536) ![13, 0] S1x1536.size inb_S56x1536_S1x1536_13_0).toLoadRect f10) (A8.view.readAt (Elt F) (Rect.unit (s := S2x7168x1536) (k0_off99 v0 v6 v12 v18 v24 v30 v36 v42 v48 v54 v60 v66 v72 v78 v84 v90 k) S1x256x1536.size (k0_off99_inb v0 v6 v12 v18 v24 v30 v36 v42 v48 v54 v60 v66 v72 v78 v84 v90 hw k)).toLoadRect f8)) ∧ g11 = (put11 (put11 (put11 f11 (Rect.unit (s := S2x24x7168) (k0_off97 v0 v6 v12 v18 v24 v30 v36 v42 v48 v54 v60 v66 v72 v78 v84 v90 k) S1x24x128.size (k0_off97_inb v0 v6 v12 v18 v24 v30 v36 v42 v48 v54 v60 v66 v72 v78 v84 v90 hw k)) (k0_pay136 v1740)) (Rect.unit (s := S2x24x7168) (k0_off98 v0 v6 v12 v18 v24 v30 v36 v42 v48 v54 v60 v66 v72 v78 v84 v90 k) S1x24x128.size (k0_off98_inb v0 v6 v12 v18 v24 v30 v36 v42 v48 v54 v60 v66 v72 v78 v84 v90 hw k)) (k0_pay137 v1552 v1736)) (Rect.unit (s := S2x24x7168) (k0_off100 v0 v6 v12 v18 v24 v30 v36 v42 v48 v54 v60 v66 v72 v78 v84 v90 k) S1x24x128.size (k0_off100_inb v0 v6 v12 v18 v24 v30 v36 v42 v48 v54 v60 v66 v72 v78 v84 v90 hw k)) (k0_pay139 v1552 (A9.view.readAt (Elt F) (Rect.unit (s := S24x1536) ![0, 0] S24x1536.size inb_S24x1536_S24x1536_0_0).toLoadRect f9) (A10.view.readAt (Elt F) (Rect.unit (s := S56x1536) ![12, 0] S1x1536.size inb_S56x1536_S1x1536_12_0).toLoadRect f10) (A9.view.readAt (Elt F) (Rect.unit (s := S24x1536) ![0, 0] S24x1536.size inb_S24x1536_S24x1536_0_0).toLoadRect f9) (A10.view.readAt (Elt F) (Rect.unit (s := S56x1536) ![13, 0] S1x1536.size inb_S56x1536_S1x1536_13_0).toLoadRect f10) (A8.view.readAt (Elt F) (Rect.unit (s := S2x7168x1536) (k0_off99 v0 v6 v12 v18 v24 v30 v36 v42 v48 v54 v60 v66 v72 v78 v84 v90 k) S1x256x1536.size (k0_off99_inb v0 v6 v12 v18 v24 v30 v36 v42 v48 v54 v60 v66 v72 v78 v84 v90 hw k)).toLoadRect f8)))⌝ ∗ PW c (oW (sl k.val)) fullShare g11 ∗ P9 c f9 ∗ P10 c f10 ∗ PW c (wW (sl k.val) 1) fullShare f8 -∗ Q r0) -∗ W c (k0_part40 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v1736 v1740) Q) := by
  have hkn := klt hn hN k
  have hk : k.val < 16 := lt_of_lt_of_le hkn hn
  rw [k0_part40_eq_skeleton]
  unfold k0_part40_skel
  try dsimp only
  iintro ⟨H11, H9, H10, H8_1⟩ K
  iapply (ld11 c (sl k.val) 1280 (off97 k hk) (by decide)) $$ H11
  iintro H11
  iapply (st11 c (sl k.val) 1280 (off97 k hk) (by decide)) $$ H11
  iintro H11
  iapply (ld11 c (sl k.val) 1408 (off98 k hk) (by decide)) $$ H11
  iintro H11
  iapply (st11 c (sl k.val) 1408 (off98 k hk) (by decide)) $$ H11
  iintro H11
  iapply (ld9 c) $$ H9
  iintro H9
  iapply (ld10 c) $$ H10
  iintro H10
  iapply (ld9 c) $$ H9
  iintro H9
  iapply (ld10 c) $$ H10
  iintro H10
  iapply (ld8 c (sl k.val) 1 1536 (off99 k hk) (by decide) (by decide)) $$ H8_1
  iintro H8_1
  iapply (ld11 c (sl k.val) 1536 (off100 k hk) (by decide)) $$ H11
  iintro H11
  iapply (st11 c (sl k.val) 1536 (off100 k hk) (by decide)) $$ H11
  iintro H11
  iapply W_pure
  iapply K
  isplitr; · ipureintro; exact ⟨rfl, rfl⟩
  isplitl [H11]; · iexact H11
  isplitl [H9]; · iexact H9
  isplitl [H10]; · iexact H10
  iexact H8_1

include hw hn hN hT in
theorem part41 {f9 : S24x1536.Idx → Elt F .f32} {f10 : S56x1536.Idx → Elt F .f32} {f11 : S2x24x7168.Idx → Elt F .bf16} {f8 : S2x7168x1536.Idx → Elt F .fp8e4m3} (v95 : BitVec 32) (arg18 : BitVec 32) (v245 : BitVec 32) (v1552 : IVec S24x128 1) (v1778 : FVec F S24x128 .bf16) {Q : (BitVec 32) → sProp (MT nD τ sig Unit (Elt F) ℕ UU ℕ)} :
    iprop(PW c (oW (sl k.val)) fullShare f11 ∗ P9 c f9 ∗ P10 c f10 ∗ PW c (wW (sl k.val) 1) fullShare f8) ⊢ iprop((∀ (r0 : BitVec 32) (g11 : S2x24x7168.Idx → Elt F .bf16), ⌜r0 = (Scalar.extui (Scalar.cmpi .slt (Scalar.addi arg18 2#32) v95)) ∧ g11 = (put11 (put11 (put11 f11 (Rect.unit (s := S2x24x7168) (k0_off101 v0 v6 v12 v18 v24 v30 v36 v42 v48 v54 v60 v66 v72 v78 v84 v90 k) S1x24x128.size (k0_off101_inb v0 v6 v12 v18 v24 v30 v36 v42 v48 v54 v60 v66 v72 v78 v84 v90 hw k)) (k0_pay141 v1778)) (Rect.unit (s := S2x24x7168) (k0_off103 v0 v6 v12 v18 v24 v30 v36 v42 v48 v54 v60 v66 v72 v78 v84 v90 k) S1x24x128.size (k0_off103_inb v0 v6 v12 v18 v24 v30 v36 v42 v48 v54 v60 v66 v72 v78 v84 v90 hw k)) (k0_pay143 v1552 (A9.view.readAt (Elt F) (Rect.unit (s := S24x1536) ![0, 0] S24x1536.size inb_S24x1536_S24x1536_0_0).toLoadRect f9) (A10.view.readAt (Elt F) (Rect.unit (s := S56x1536) ![14, 0] S1x1536.size inb_S56x1536_S1x1536_14_0).toLoadRect f10) (A9.view.readAt (Elt F) (Rect.unit (s := S24x1536) ![0, 0] S24x1536.size inb_S24x1536_S24x1536_0_0).toLoadRect f9) (A10.view.readAt (Elt F) (Rect.unit (s := S56x1536) ![15, 0] S1x1536.size inb_S56x1536_S1x1536_15_0).toLoadRect f10) (A8.view.readAt (Elt F) (Rect.unit (s := S2x7168x1536) (k0_off102 v0 v6 v12 v18 v24 v30 v36 v42 v48 v54 v60 v66 v72 v78 v84 v90 k) S1x256x1536.size (k0_off102_inb v0 v6 v12 v18 v24 v30 v36 v42 v48 v54 v60 v66 v72 v78 v84 v90 hw k)).toLoadRect f8))) (Rect.unit (s := S2x24x7168) (k0_off104 v0 v6 v12 v18 v24 v30 v36 v42 v48 v54 v60 v66 v72 v78 v84 v90 k) S1x24x128.size (k0_off104_inb v0 v6 v12 v18 v24 v30 v36 v42 v48 v54 v60 v66 v72 v78 v84 v90 hw k)) (k0_pay144 v1552 (A9.view.readAt (Elt F) (Rect.unit (s := S24x1536) ![0, 0] S24x1536.size inb_S24x1536_S24x1536_0_0).toLoadRect f9) (A10.view.readAt (Elt F) (Rect.unit (s := S56x1536) ![14, 0] S1x1536.size inb_S56x1536_S1x1536_14_0).toLoadRect f10) (A9.view.readAt (Elt F) (Rect.unit (s := S24x1536) ![0, 0] S24x1536.size inb_S24x1536_S24x1536_0_0).toLoadRect f9) (A10.view.readAt (Elt F) (Rect.unit (s := S56x1536) ![15, 0] S1x1536.size inb_S56x1536_S1x1536_15_0).toLoadRect f10) (A8.view.readAt (Elt F) (Rect.unit (s := S2x7168x1536) (k0_off102 v0 v6 v12 v18 v24 v30 v36 v42 v48 v54 v60 v66 v72 v78 v84 v90 k) S1x256x1536.size (k0_off102_inb v0 v6 v12 v18 v24 v30 v36 v42 v48 v54 v60 v66 v72 v78 v84 v90 hw k)).toLoadRect f8)))⌝ ∗ PW c (oW (sl k.val)) fullShare g11 ∗ P9 c f9 ∗ P10 c f10 ∗ PW c (wW (sl k.val) 1) fullShare f8 -∗ Q r0) -∗ W c (k0_part41 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw v95 k arg18 v245 v1552 v1778) Q) := by
  have hkn := klt hn hN k
  have hk : k.val < 16 := lt_of_lt_of_le hkn hn
  rw [k0_part41_eq_skeleton]
  unfold k0_part41_skel
  try dsimp only
  iintro ⟨H11, H9, H10, H8_1⟩ K
  iapply (ld11 c (sl k.val) 1664 (off101 k hk) (by decide)) $$ H11
  iintro H11
  iapply (st11 c (sl k.val) 1664 (off101 k hk) (by decide)) $$ H11
  iintro H11
  iapply (ld9 c) $$ H9
  iintro H9
  iapply (ld10 c) $$ H10
  iintro H10
  iapply (ld9 c) $$ H9
  iintro H9
  iapply (ld10 c) $$ H10
  iintro H10
  iapply (ld8 c (sl k.val) 1 1792 (off102 k hk) (by decide) (by decide)) $$ H8_1
  iintro H8_1
  iapply (ld11 c (sl k.val) 1792 (off103 k hk) (by decide)) $$ H11
  iintro H11
  iapply (st11 c (sl k.val) 1792 (off103 k hk) (by decide)) $$ H11
  iintro H11
  iapply (ld11 c (sl k.val) 1920 (off104 k hk) (by decide)) $$ H11
  iintro H11
  iapply (st11 c (sl k.val) 1920 (off104 k hk) (by decide)) $$ H11
  iintro H11
  iapply W_pure
  iapply K
  isplitr; · ipureintro; exact ⟨rfl, rfl⟩
  isplitl [H11]; · iexact H11
  isplitl [H9]; · iexact H9
  isplitl [H10]; · iexact H10
  iexact H8_1

include hw hn hN hT in
theorem part42 {f9 : S24x1536.Idx → Elt F .f32} {f10 : S56x1536.Idx → Elt F .f32} {f11 : S2x24x7168.Idx → Elt F .bf16} {f8 : S2x7168x1536.Idx → Elt F .fp8e4m3} {fw : S16x7168x1536.Idx → Elt F .fp8e4m3} (arg18 : BitVec 32) (v245 : BitVec 32) (v1552 : IVec S24x128 1) (v1815 : BitVec 32) {Q : (FVec F S24x128 .bf16) → sProp (MT nD τ sig Unit (Elt F) ℕ UU ℕ)} :
    iprop(P5 c ft ∗ PW c (wW (sl k.val) 1) fullShare f8 ∗ Sem0 c (wsem (sl k.val) 1) ∗ (A2.view.loc (c : Thread nD τ) ↦{qw (sl k.val) 1} fw) ∗ OW c ∗ Gin c fw (sl k.val) 2 (act k.val) ∗ P9 c f9 ∗ P10 c f10 ∗ PW c (oW (sl k.val)) fullShare f11) ⊢ iprop((∀ (r0 : FVec F S24x128 .bf16) (g11 : S2x24x7168.Idx → Elt F .bf16) (g8 : S2x7168x1536.Idx → Elt F .fp8e4m3), ⌜r0 = (k0_pay147 v1552 (A9.view.readAt (Elt F) (Rect.unit (s := S24x1536) ![0, 0] S24x1536.size inb_S24x1536_S24x1536_0_0).toLoadRect f9) (A10.view.readAt (Elt F) (Rect.unit (s := S56x1536) ![16, 0] S1x1536.size inb_S56x1536_S1x1536_16_0).toLoadRect f10) (A9.view.readAt (Elt F) (Rect.unit (s := S24x1536) ![0, 0] S24x1536.size inb_S24x1536_S24x1536_0_0).toLoadRect f9) (A10.view.readAt (Elt F) (Rect.unit (s := S56x1536) ![17, 0] S1x1536.size inb_S56x1536_S1x1536_17_0).toLoadRect f10) (A8.view.readAt (Elt F) (Rect.unit (s := S2x7168x1536) (k0_off113 v0 v6 v12 v18 v24 v30 v36 v42 v48 v54 v60 v66 v72 v78 v84 v90 k) S1x256x1536.size (k0_off113_inb v0 v6 v12 v18 v24 v30 v36 v42 v48 v54 v60 v66 v72 v78 v84 v90 hw k)).toLoadRect g8)) ∧ g11 = (put11 f11 (Rect.unit (s := S2x24x7168) (k0_off114 v0 v6 v12 v18 v24 v30 v36 v42 v48 v54 v60 v66 v72 v78 v84 v90 k) S1x24x128.size (k0_off114_inb v0 v6 v12 v18 v24 v30 v36 v42 v48 v54 v60 v66 v72 v78 v84 v90 hw k)) (k0_pay146 v1552 (A9.view.readAt (Elt F) (Rect.unit (s := S24x1536) ![0, 0] S24x1536.size inb_S24x1536_S24x1536_0_0).toLoadRect f9) (A10.view.readAt (Elt F) (Rect.unit (s := S56x1536) ![16, 0] S1x1536.size inb_S56x1536_S1x1536_16_0).toLoadRect f10) (A9.view.readAt (Elt F) (Rect.unit (s := S24x1536) ![0, 0] S24x1536.size inb_S24x1536_S24x1536_0_0).toLoadRect f9) (A10.view.readAt (Elt F) (Rect.unit (s := S56x1536) ![17, 0] S1x1536.size inb_S56x1536_S1x1536_17_0).toLoadRect f10) (A8.view.readAt (Elt F) (Rect.unit (s := S2x7168x1536) (k0_off113 v0 v6 v12 v18 v24 v30 v36 v42 v48 v54 v60 v66 v72 v78 v84 v90 k) S1x256x1536.size (k0_off113_inb v0 v6 v12 v18 v24 v30 v36 v42 v48 v54 v60 v66 v72 v78 v84 v90 hw k)).toLoadRect g8))) ∧ (wW (sl k.val) 2).view.read (Elt F) g8 = (wE (act k.val) 2).view.read (Elt F) fw⌝ ∗ P5 c ft ∗ Gnext c fw act n k.val 1 ∗ OW c ∗ PW c (wW (sl k.val) 2) fullShare g8 ∗ Sem0 c (wsem (sl k.val) 2) ∗ (A2.view.loc (c : Thread nD τ) ↦{qw (sl k.val) 2} fw) ∗ P9 c f9 ∗ P10 c f10 ∗ PW c (oW (sl k.val)) fullShare g11 -∗ Q r0) -∗ W c (k0_part42 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k arg18 v245 v1552 v1815) Q) := by
  have hkn := klt hn hN k
  have hk : k.val < 16 := lt_of_lt_of_le hkn hn
  rw [k0_part42_eq_skeleton]
  unfold k0_part42_skel
  try dsimp only
  iintro ⟨H5, H8_1, HS1, HK1, HW, HIG2, H9, H10, H11⟩ K
  iapply (if38 c hw hn hN hT k) $$ [H5 H8_1 HS1 HK1]
  · isplitl [H5]; · iexact H5
    isplitl [H8_1]; · iexists _; iexact H8_1
    isplitl [HS1]; · iexact HS1
    iexact HK1
  iintro ⟨H5, HG1⟩
  iapply (lw5 c (p16 k.val) (off109 k hk)) $$ H5
  iintro H5
  iapply (W_assume c (by rw [hT _ hkn]; exact chk44 _))
  iapply (waitG c (sl k.val) 2 (act k.val) (off110 k hk) (off111 k hk)) $$ [HIG2 HW]
  · isplitl [HIG2] <;> iassumption
  iintro %g8 %hg8 H8_2 HS2 HK2 HW
  iapply (ld9 c) $$ H9
  iintro H9
  iapply (ld10 c) $$ H10
  iintro H10
  iapply (ld9 c) $$ H9
  iintro H9
  iapply (ld10 c) $$ H10
  iintro H10
  iapply (ld8 c (sl k.val) 2 2048 (off113 k hk) (by decide) (by decide)) $$ H8_2
  iintro H8_2
  iapply (ld11 c (sl k.val) 2048 (off114 k hk) (by decide)) $$ H11
  iintro H11
  iapply (st11 c (sl k.val) 2048 (off114 k hk) (by decide)) $$ H11
  iintro H11
  iapply W_pure
  iapply K
  isplitr; · ipureintro; exact ⟨rfl, rfl, hg8⟩
  isplitl [H5]; · iexact H5
  isplitl [HG1]; · iexact HG1
  isplitl [HW]; · iexact HW
  isplitl [H8_2]; · iexact H8_2
  isplitl [HS2]; · iexact HS2
  isplitl [HK2]; · iexact HK2
  isplitl [H9]; · iexact H9
  isplitl [H10]; · iexact H10
  iexact H11

include hw hn hN hT in
theorem part43 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v1850 : FVec F S24x128 .bf16) {Q : (Vec F S24x1536 .f32) → sProp (MT nD τ sig Unit (Elt F) ℕ UU ℕ)} :
    iprop(PW c (oW (sl k.val)) fullShare f11 ∗ P9 c f9 ∗ P10 c f10 ∗ PW c (wW (sl k.val) 2) fullShare f8) ⊢ iprop((∀ (r0 : Vec F S24x1536 .f32) (g11 : S2x24x7168.Idx → Elt F .bf16), ⌜r0 = (A9.view.readAt (Elt F) (Rect.unit (s := S24x1536) ![0, 0] S24x1536.size inb_S24x1536_S24x1536_0_0).toLoadRect f9) ∧ g11 = (put11 (put11 (put11 f11 (Rect.unit (s := S2x24x7168) (k0_off115 v0 v6 v12 v18 v24 v30 v36 v42 v48 v54 v60 v66 v72 v78 v84 v90 k) S1x24x128.size (k0_off115_inb v0 v6 v12 v18 v24 v30 v36 v42 v48 v54 v60 v66 v72 v78 v84 v90 hw k)) (k0_pay148 v1850)) (Rect.unit (s := S2x24x7168) (k0_off117 v0 v6 v12 v18 v24 v30 v36 v42 v48 v54 v60 v66 v72 v78 v84 v90 k) S1x24x128.size (k0_off117_inb v0 v6 v12 v18 v24 v30 v36 v42 v48 v54 v60 v66 v72 v78 v84 v90 hw k)) (k0_pay150 v1552 (A9.view.readAt (Elt F) (Rect.unit (s := S24x1536) ![0, 0] S24x1536.size inb_S24x1536_S24x1536_0_0).toLoadRect f9) (A10.view.readAt (Elt F) (Rect.unit (s := S56x1536) ![18, 0] S1x1536.size inb_S56x1536_S1x1536_18_0).toLoadRect f10) (A9.view.readAt (Elt F) (Rect.unit (s := S24x1536) ![0, 0] S24x1536.size inb_S24x1536_S24x1536_0_0).toLoadRect f9) (A10.view.readAt (Elt F) (Rect.unit (s := S56x1536) ![19, 0] S1x1536.size inb_S56x1536_S1x1536_19_0).toLoadRect f10) (A8.view.readAt (Elt F) (Rect.unit (s := S2x7168x1536) (k0_off116 v0 v6 v12 v18 v24 v30 v36 v42 v48 v54 v60 v66 v72 v78 v84 v90 k) S1x256x1536.size (k0_off116_inb v0 v6 v12 v18 v24 v30 v36 v42 v48 v54 v60 v66 v72 v78 v84 v90 hw k)).toLoadRect f8))) (Rect.unit (s := S2x24x7168) (k0_off118 v0 v6 v12 v18 v24 v30 v36 v42 v48 v54 v60 v66 v72 v78 v84 v90 k) S1x24x128.size (k0_off118_inb v0 v6 v12 v18 v24 v30 v36 v42 v48 v54 v60 v66 v72 v78 v84 v90 hw k)) (k0_pay151 v1552 (A9.view.readAt (Elt F) (Rect.unit (s := S24x1536) ![0, 0] S24x1536.size inb_S24x1536_S24x1536_0_0).toLoadRect f9) (A10.view.readAt (Elt F) (Rect.unit (s := S56x1536) ![18, 0] S1x1536.size inb_S56x1536_S1x1536_18_0).toLoadRect f10) (A9.view.readAt (Elt F) (Rect.unit (s := S24x1536) ![0, 0] S24x1536.size inb_S24x1536_S24x1536_0_0).toLoadRect f9) (A10.view.readAt (Elt F) (Rect.unit (s := S56x1536) ![19, 0] S1x1536.size inb_S56x1536_S1x1536_19_0).toLoadRect f10) (A8.view.readAt (Elt F) (Rect.unit (s := S2x7168x1536) (k0_off116 v0 v6 v12 v18 v24 v30 v36 v42 v48 v54 v60 v66 v72 v78 v84 v90 k) S1x256x1536.size (k0_off116_inb v0 v6 v12 v18 v24 v30 v36 v42 v48 v54 v60 v66 v72 v78 v84 v90 hw k)).toLoadRect f8)))⌝ ∗ PW c (oW (sl k.val)) fullShare g11 ∗ P9 c f9 ∗ P10 c f10 ∗ PW c (wW (sl k.val) 2) fullShare f8 -∗ Q r0) -∗ W c (k0_part43 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v1850) Q) := by
  have hkn := klt hn hN k
  have hk : k.val < 16 := lt_of_lt_of_le hkn hn
  rw [k0_part43_eq_skeleton]
  unfold k0_part43_skel
  try dsimp only
  iintro ⟨H11, H9, H10, H8_2⟩ K
  iapply (ld11 c (sl k.val) 2176 (off115 k hk) (by decide)) $$ H11
  iintro H11
  iapply (st11 c (sl k.val) 2176 (off115 k hk) (by decide)) $$ H11
  iintro H11
  iapply (ld9 c) $$ H9
  iintro H9
  iapply (ld10 c) $$ H10
  iintro H10
  iapply (ld9 c) $$ H9
  iintro H9
  iapply (ld10 c) $$ H10
  iintro H10
  iapply (ld8 c (sl k.val) 2 2304 (off116 k hk) (by decide) (by decide)) $$ H8_2
  iintro H8_2
  iapply (ld11 c (sl k.val) 2304 (off117 k hk) (by decide)) $$ H11
  iintro H11
  iapply (st11 c (sl k.val) 2304 (off117 k hk) (by decide)) $$ H11
  iintro H11
  iapply (ld11 c (sl k.val) 2432 (off118 k hk) (by decide)) $$ H11
  iintro H11
  iapply (st11 c (sl k.val) 2432 (off118 k hk) (by decide)) $$ H11
  iintro H11
  iapply (ld9 c) $$ H9
  iintro H9
  iapply W_pure
  iapply K
  isplitr; · ipureintro; exact ⟨rfl, rfl⟩
  isplitl [H11]; · iexact H11
  isplitl [H9]; · iexact H9
  isplitl [H10]; · iexact H10
  iexact H8_2

include hw hn hN hT in
theorem part44 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v1885 : Vec F S24x1536 .f32) {Q : (Σ' (v1918 : FVec F S24x1536 .f32) (v1919 : Vec F S24x1536 .f32), FVec F S24x1536 .f32) → sProp (MT nD τ sig Unit (Elt F) ℕ UU ℕ)} :
    iprop(P10 c f10 ∗ P9 c f9 ∗ PW c (wW (sl k.val) 2) fullShare f8 ∗ PW c (oW (sl k.val)) fullShare f11) ⊢ iprop((∀ (r0 : FVec F S24x1536 .f32) (r1 : Vec F S24x1536 .f32) (r2 : FVec F S24x1536 .f32) (g11 : S2x24x7168.Idx → Elt F .bf16), ⌜r0 = k0_pay155 (A9.view.readAt (Elt F) (Rect.unit (s := S24x1536) ![0, 0] S24x1536.size inb_S24x1536_S24x1536_0_0).toLoadRect f9) (A10.view.readAt (Elt F) (Rect.unit (s := S56x1536) ![22, 0] S1x1536.size inb_S56x1536_S1x1536_22_0).toLoadRect f10) ∧ r1 = (A9.view.readAt (Elt F) (Rect.unit (s := S24x1536) ![0, 0] S24x1536.size inb_S24x1536_S24x1536_0_0).toLoadRect f9) ∧ r2 = k0_pay156 (A10.view.readAt (Elt F) (Rect.unit (s := S56x1536) ![23, 0] S1x1536.size inb_S56x1536_S1x1536_23_0).toLoadRect f10) ∧ g11 = (put11 (put11 f11 (Rect.unit (s := S2x24x7168) (k0_off120 v0 v6 v12 v18 v24 v30 v36 v42 v48 v54 v60 v66 v72 v78 v84 v90 k) S1x24x128.size (k0_off120_inb v0 v6 v12 v18 v24 v30 v36 v42 v48 v54 v60 v66 v72 v78 v84 v90 hw k)) (k0_pay153 v1552 v1885 (A10.view.readAt (Elt F) (Rect.unit (s := S56x1536) ![20, 0] S1x1536.size inb_S56x1536_S1x1536_20_0).toLoadRect f10) (A9.view.readAt (Elt F) (Rect.unit (s := S24x1536) ![0, 0] S24x1536.size inb_S24x1536_S24x1536_0_0).toLoadRect f9) (A10.view.readAt (Elt F) (Rect.unit (s := S56x1536) ![21, 0] S1x1536.size inb_S56x1536_S1x1536_21_0).toLoadRect f10) (A8.view.readAt (Elt F) (Rect.unit (s := S2x7168x1536) (k0_off119 v0 v6 v12 v18 v24 v30 v36 v42 v48 v54 v60 v66 v72 v78 v84 v90 k) S1x256x1536.size (k0_off119_inb v0 v6 v12 v18 v24 v30 v36 v42 v48 v54 v60 v66 v72 v78 v84 v90 hw k)).toLoadRect f8))) (Rect.unit (s := S2x24x7168) (k0_off121 v0 v6 v12 v18 v24 v30 v36 v42 v48 v54 v60 v66 v72 v78 v84 v90 k) S1x24x128.size (k0_off121_inb v0 v6 v12 v18 v24 v30 v36 v42 v48 v54 v60 v66 v72 v78 v84 v90 hw k)) (k0_pay154 v1552 v1885 (A10.view.readAt (Elt F) (Rect.unit (s := S56x1536) ![20, 0] S1x1536.size inb_S56x1536_S1x1536_20_0).toLoadRect f10) (A9.view.readAt (Elt F) (Rect.unit (s := S24x1536) ![0, 0] S24x1536.size inb_S24x1536_S24x1536_0_0).toLoadRect f9) (A10.view.readAt (Elt F) (Rect.unit (s := S56x1536) ![21, 0] S1x1536.size inb_S56x1536_S1x1536_21_0).toLoadRect f10) (A8.view.readAt (Elt F) (Rect.unit (s := S2x7168x1536) (k0_off119 v0 v6 v12 v18 v24 v30 v36 v42 v48 v54 v60 v66 v72 v78 v84 v90 k) S1x256x1536.size (k0_off119_inb v0 v6 v12 v18 v24 v30 v36 v42 v48 v54 v60 v66 v72 v78 v84 v90 hw k)).toLoadRect f8)))⌝ ∗ P10 c f10 ∗ P9 c f9 ∗ PW c (wW (sl k.val) 2) fullShare f8 ∗ PW c (oW (sl k.val)) fullShare g11 -∗ Q ⟨r0, r1, r2⟩) -∗ W c (k0_part44 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v1885) Q) := by
  have hkn := klt hn hN k
  have hk : k.val < 16 := lt_of_lt_of_le hkn hn
  rw [k0_part44_eq_skeleton]
  unfold k0_part44_skel
  try dsimp only
  iintro ⟨H10, H9, H8_2, H11⟩ K
  iapply (ld10 c) $$ H10
  iintro H10
  iapply (ld9 c) $$ H9
  iintro H9
  iapply (ld10 c) $$ H10
  iintro H10
  iapply (ld8 c (sl k.val) 2 2560 (off119 k hk) (by decide) (by decide)) $$ H8_2
  iintro H8_2
  iapply (ld11 c (sl k.val) 2560 (off120 k hk) (by decide)) $$ H11
  iintro H11
  iapply (st11 c (sl k.val) 2560 (off120 k hk) (by decide)) $$ H11
  iintro H11
  iapply (ld11 c (sl k.val) 2688 (off121 k hk) (by decide)) $$ H11
  iintro H11
  iapply (st11 c (sl k.val) 2688 (off121 k hk) (by decide)) $$ H11
  iintro H11
  iapply (ld9 c) $$ H9
  iintro H9
  iapply (ld10 c) $$ H10
  iintro H10
  iapply (ld9 c) $$ H9
  iintro H9
  iapply (ld10 c) $$ H10
  iintro H10
  iapply W_pure
  iapply K
  isplitr; · ipureintro; exact ⟨rfl, rfl, rfl, rfl⟩
  isplitl [H10]; · iexact H10
  isplitl [H9]; · iexact H9
  isplitl [H8_2]; · iexact H8_2
  iexact H11

include hw hn hN hT in
theorem part45 {f9 : S24x1536.Idx → Elt F .f32} {f11 : S2x24x7168.Idx → Elt F .bf16} {f8 : S2x7168x1536.Idx → Elt F .fp8e4m3} {fw : S16x7168x1536.Idx → Elt F .fp8e4m3} (v95 : BitVec 32) (arg18 : BitVec 32) (v245 : BitVec 32) (v1552 : IVec S24x128 1) (v1918 : FVec F S24x1536 .f32) (v1919 : Vec F S24x1536 .f32) (v1921 : FVec F S24x1536 .f32) {Q : (Vec F S24x1536 .f32) → sProp (MT nD τ sig Unit (Elt F) ℕ UU ℕ)} :
    iprop(PW c (wW (sl k.val) 2) fullShare f8 ∗ PW c (oW (sl k.val)) fullShare f11 ∗ P5 c ft ∗ Sem0 c (wsem (sl k.val) 2) ∗ (A2.view.loc (c : Thread nD τ) ↦{qw (sl k.val) 2} fw) ∗ OW c ∗ Gin c fw (sl k.val) 3 (act k.val) ∗ P9 c f9) ⊢ iprop((∀ (r0 : Vec F S24x1536 .f32) (g11 : S2x24x7168.Idx → Elt F .bf16) (g8 : S2x7168x1536.Idx → Elt F .fp8e4m3), ⌜r0 = (A9.view.readAt (Elt F) (Rect.unit (s := S24x1536) ![0, 0] S24x1536.size inb_S24x1536_S24x1536_0_0).toLoadRect f9) ∧ g11 = (put11 (put11 f11 (Rect.unit (s := S2x24x7168) (k0_off123 v0 v6 v12 v18 v24 v30 v36 v42 v48 v54 v60 v66 v72 v78 v84 v90 k) S1x24x128.size (k0_off123_inb v0 v6 v12 v18 v24 v30 v36 v42 v48 v54 v60 v66 v72 v78 v84 v90 hw k)) (k0_pay158 v1552 v1918 v1919 v1921 (A8.view.readAt (Elt F) (Rect.unit (s := S2x7168x1536) (k0_off122 v0 v6 v12 v18 v24 v30 v36 v42 v48 v54 v60 v66 v72 v78 v84 v90 k) S1x256x1536.size (k0_off122_inb v0 v6 v12 v18 v24 v30 v36 v42 v48 v54 v60 v66 v72 v78 v84 v90 hw k)).toLoadRect f8))) (Rect.unit (s := S2x24x7168) (k0_off124 v0 v6 v12 v18 v24 v30 v36 v42 v48 v54 v60 v66 v72 v78 v84 v90 k) S1x24x128.size (k0_off124_inb v0 v6 v12 v18 v24 v30 v36 v42 v48 v54 v60 v66 v72 v78 v84 v90 hw k)) (k0_pay159 v1552 v1918 v1919 v1921 (A8.view.readAt (Elt F) (Rect.unit (s := S2x7168x1536) (k0_off122 v0 v6 v12 v18 v24 v30 v36 v42 v48 v54 v60 v66 v72 v78 v84 v90 k) S1x256x1536.size (k0_off122_inb v0 v6 v12 v18 v24 v30 v36 v42 v48 v54 v60 v66 v72 v78 v84 v90 hw k)).toLoadRect f8))) ∧ (wW (sl k.val) 3).view.read (Elt F) g8 = (wE (act k.val) 3).view.read (Elt F) fw⌝ ∗ PW c (oW (sl k.val)) fullShare g11 ∗ P5 c ft ∗ Gnext c fw act n k.val 2 ∗ OW c ∗ PW c (wW (sl k.val) 3) fullShare g8 ∗ Sem0 c (wsem (sl k.val) 3) ∗ (A2.view.loc (c : Thread nD τ) ↦{qw (sl k.val) 3} fw) ∗ P9 c f9 -∗ Q r0) -∗ W c (k0_part45 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw v95 k arg18 v245 v1552 v1918 v1919 v1921) Q) := by
  have hkn := klt hn hN k
  have hk : k.val < 16 := lt_of_lt_of_le hkn hn
  rw [k0_part45_eq_skeleton]
  unfold k0_part45_skel
  try dsimp only
  iintro ⟨H8_2, H11, H5, HS2, HK2, HW, HIG3, H9⟩ K
  iapply (ld8 c (sl k.val) 2 2816 (off122 k hk) (by decide) (by decide)) $$ H8_2
  iintro H8_2
  iapply (ld11 c (sl k.val) 2816 (off123 k hk) (by decide)) $$ H11
  iintro H11
  iapply (st11 c (sl k.val) 2816 (off123 k hk) (by decide)) $$ H11
  iintro H11
  iapply (ld11 c (sl k.val) 2944 (off124 k hk) (by decide)) $$ H11
  iintro H11
  iapply (st11 c (sl k.val) 2944 (off124 k hk) (by decide)) $$ H11
  iintro H11
  iapply (if39 c hw hn hN hT k) $$ [H5 H8_2 HS2 HK2]
  · isplitl [H5]; · iexact H5
    isplitl [H8_2]; · iexists _; iexact H8_2
    isplitl [HS2]; · iexact HS2
    iexact HK2
  iintro ⟨H5, HG2⟩
  iapply (lw5 c (p16 k.val) (off129 k hk)) $$ H5
  iintro H5
  iapply (W_assume c (by rw [hT _ hkn]; exact chk46 _))
  iapply (waitG c (sl k.val) 3 (act k.val) (off130 k hk) (off131 k hk)) $$ [HIG3 HW]
  · isplitl [HIG3] <;> iassumption
  iintro %g8 %hg8 H8_3 HS3 HK3 HW
  iapply (ld9 c) $$ H9
  iintro H9
  iapply W_pure
  iapply K
  isplitr; · ipureintro; exact ⟨rfl, rfl, hg8⟩
  isplitl [H11]; · iexact H11
  isplitl [H5]; · iexact H5
  isplitl [HG2]; · iexact HG2
  isplitl [HW]; · iexact HW
  isplitl [H8_3]; · iexact H8_3
  isplitl [HS3]; · iexact HS3
  isplitl [HK3]; · iexact HK3
  iexact H9

include hw hn hN hT in
theorem part46 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v1957 : Vec F S24x1536 .f32) {Q : (Σ' (v1990 : FVec F S24x1536 .f32) (v1991 : Vec F S24x1536 .f32), FVec F S24x1536 .f32) → sProp (MT nD τ sig Unit (Elt F) ℕ UU ℕ)} :
    iprop(P10 c f10 ∗ P9 c f9 ∗ PW c (wW (sl k.val) 3) fullShare f8 ∗ PW c (oW (sl k.val)) fullShare f11) ⊢ iprop((∀ (r0 : FVec F S24x1536 .f32) (r1 : Vec F S24x1536 .f32) (r2 : FVec F S24x1536 .f32) (g11 : S2x24x7168.Idx → Elt F .bf16), ⌜r0 = k0_pay163 (A9.view.readAt (Elt F) (Rect.unit (s := S24x1536) ![0, 0] S24x1536.size inb_S24x1536_S24x1536_0_0).toLoadRect f9) (A10.view.readAt (Elt F) (Rect.unit (s := S56x1536) ![26, 0] S1x1536.size inb_S56x1536_S1x1536_26_0).toLoadRect f10) ∧ r1 = (A9.view.readAt (Elt F) (Rect.unit (s := S24x1536) ![0, 0] S24x1536.size inb_S24x1536_S24x1536_0_0).toLoadRect f9) ∧ r2 = k0_pay164 (A10.view.readAt (Elt F) (Rect.unit (s := S56x1536) ![27, 0] S1x1536.size inb_S56x1536_S1x1536_27_0).toLoadRect f10) ∧ g11 = (put11 (put11 f11 (Rect.unit (s := S2x24x7168) (k0_off134 v0 v6 v12 v18 v24 v30 v36 v42 v48 v54 v60 v66 v72 v78 v84 v90 k) S1x24x128.size (k0_off134_inb v0 v6 v12 v18 v24 v30 v36 v42 v48 v54 v60 v66 v72 v78 v84 v90 hw k)) (k0_pay161 v1552 v1957 (A10.view.readAt (Elt F) (Rect.unit (s := S56x1536) ![24, 0] S1x1536.size inb_S56x1536_S1x1536_24_0).toLoadRect f10) (A9.view.readAt (Elt F) (Rect.unit (s := S24x1536) ![0, 0] S24x1536.size inb_S24x1536_S24x1536_0_0).toLoadRect f9) (A10.view.readAt (Elt F) (Rect.unit (s := S56x1536) ![25, 0] S1x1536.size inb_S56x1536_S1x1536_25_0).toLoadRect f10) (A8.view.readAt (Elt F) (Rect.unit (s := S2x7168x1536) (k0_off133 v0 v6 v12 v18 v24 v30 v36 v42 v48 v54 v60 v66 v72 v78 v84 v90 k) S1x256x1536.size (k0_off133_inb v0 v6 v12 v18 v24 v30 v36 v42 v48 v54 v60 v66 v72 v78 v84 v90 hw k)).toLoadRect f8))) (Rect.unit (s := S2x24x7168) (k0_off135 v0 v6 v12 v18 v24 v30 v36 v42 v48 v54 v60 v66 v72 v78 v84 v90 k) S1x24x128.size (k0_off135_inb v0 v6 v12 v18 v24 v30 v36 v42 v48 v54 v60 v66 v72 v78 v84 v90 hw k)) (k0_pay162 v1552 v1957 (A10.view.readAt (Elt F) (Rect.unit (s := S56x1536) ![24, 0] S1x1536.size inb_S56x1536_S1x1536_24_0).toLoadRect f10) (A9.view.readAt (Elt F) (Rect.unit (s := S24x1536) ![0, 0] S24x1536.size inb_S24x1536_S24x1536_0_0).toLoadRect f9) (A10.view.readAt (Elt F) (Rect.unit (s := S56x1536) ![25, 0] S1x1536.size inb_S56x1536_S1x1536_25_0).toLoadRect f10) (A8.view.readAt (Elt F) (Rect.unit (s := S2x7168x1536) (k0_off133 v0 v6 v12 v18 v24 v30 v36 v42 v48 v54 v60 v66 v72 v78 v84 v90 k) S1x256x1536.size (k0_off133_inb v0 v6 v12 v18 v24 v30 v36 v42 v48 v54 v60 v66 v72 v78 v84 v90 hw k)).toLoadRect f8)))⌝ ∗ P10 c f10 ∗ P9 c f9 ∗ PW c (wW (sl k.val) 3) fullShare f8 ∗ PW c (oW (sl k.val)) fullShare g11 -∗ Q ⟨r0, r1, r2⟩) -∗ W c (k0_part46 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v1957) Q) := by
  have hkn := klt hn hN k
  have hk : k.val < 16 := lt_of_lt_of_le hkn hn
  rw [k0_part46_eq_skeleton]
  unfold k0_part46_skel
  try dsimp only
  iintro ⟨H10, H9, H8_3, H11⟩ K
  iapply (ld10 c) $$ H10
  iintro H10
  iapply (ld9 c) $$ H9
  iintro H9
  iapply (ld10 c) $$ H10
  iintro H10
  iapply (ld8 c (sl k.val) 3 3072 (off133 k hk) (by decide) (by decide)) $$ H8_3
  iintro H8_3
  iapply (ld11 c (sl k.val) 3072 (off134 k hk) (by decide)) $$ H11
  iintro H11
  iapply (st11 c (sl k.val) 3072 (off134 k hk) (by decide)) $$ H11
  iintro H11
  iapply (ld11 c (sl k.val) 3200 (off135 k hk) (by decide)) $$ H11
  iintro H11
  iapply (st11 c (sl k.val) 3200 (off135 k hk) (by decide)) $$ H11
  iintro H11
  iapply (ld9 c) $$ H9
  iintro H9
  iapply (ld10 c) $$ H10
  iintro H10
  iapply (ld9 c) $$ H9
  iintro H9
  iapply (ld10 c) $$ H10
  iintro H10
  iapply W_pure
  iapply K
  isplitr; · ipureintro; exact ⟨rfl, rfl, rfl, rfl⟩
  isplitl [H10]; · iexact H10
  isplitl [H9]; · iexact H9
  isplitl [H8_3]; · iexact H8_3
  iexact H11

include hw hn hN hT in
theorem part47 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v1990 : FVec F S24x1536 .f32) (v1991 : Vec F S24x1536 .f32) (v1993 : FVec F S24x1536 .f32) {Q : (Σ' (v2030 : FVec F S48x256 .f32), FVec F S24x128 .f32) → sProp (MT nD τ sig Unit (Elt F) ℕ UU ℕ)} :
    iprop(PW c (wW (sl k.val) 3) fullShare f8 ∗ PW c (oW (sl k.val)) fullShare f11 ∗ P9 c f9 ∗ P10 c f10) ⊢ iprop((∀ (r0 : FVec F S48x256 .f32) (r1 : FVec F S24x128 .f32) (g11 : S2x24x7168.Idx → Elt F .bf16), ⌜r0 = k0_pay168 (A9.view.readAt (Elt F) (Rect.unit (s := S24x1536) ![0, 0] S24x1536.size inb_S24x1536_S24x1536_0_0).toLoadRect f9) (A10.view.readAt (Elt F) (Rect.unit (s := S56x1536) ![28, 0] S1x1536.size inb_S56x1536_S1x1536_28_0).toLoadRect f10) (A9.view.readAt (Elt F) (Rect.unit (s := S24x1536) ![0, 0] S24x1536.size inb_S24x1536_S24x1536_0_0).toLoadRect f9) (A10.view.readAt (Elt F) (Rect.unit (s := S56x1536) ![29, 0] S1x1536.size inb_S56x1536_S1x1536_29_0).toLoadRect f10) (A8.view.readAt (Elt F) (Rect.unit (s := S2x7168x1536) (k0_off139 v0 v6 v12 v18 v24 v30 v36 v42 v48 v54 v60 v66 v72 v78 v84 v90 k) S1x256x1536.size (k0_off139_inb v0 v6 v12 v18 v24 v30 v36 v42 v48 v54 v60 v66 v72 v78 v84 v90 hw k)).toLoadRect f8) ∧ r1 = k0_pay169 (A9.view.readAt (Elt F) (Rect.unit (s := S24x1536) ![0, 0] S24x1536.size inb_S24x1536_S24x1536_0_0).toLoadRect f9) (A10.view.readAt (Elt F) (Rect.unit (s := S56x1536) ![28, 0] S1x1536.size inb_S56x1536_S1x1536_28_0).toLoadRect f10) (A9.view.readAt (Elt F) (Rect.unit (s := S24x1536) ![0, 0] S24x1536.size inb_S24x1536_S24x1536_0_0).toLoadRect f9) (A10.view.readAt (Elt F) (Rect.unit (s := S56x1536) ![29, 0] S1x1536.size inb_S56x1536_S1x1536_29_0).toLoadRect f10) (A8.view.readAt (Elt F) (Rect.unit (s := S2x7168x1536) (k0_off139 v0 v6 v12 v18 v24 v30 v36 v42 v48 v54 v60 v66 v72 v78 v84 v90 k) S1x256x1536.size (k0_off139_inb v0 v6 v12 v18 v24 v30 v36 v42 v48 v54 v60 v66 v72 v78 v84 v90 hw k)).toLoadRect f8) ∧ g11 = (put11 (put11 f11 (Rect.unit (s := S2x24x7168) (k0_off137 v0 v6 v12 v18 v24 v30 v36 v42 v48 v54 v60 v66 v72 v78 v84 v90 k) S1x24x128.size (k0_off137_inb v0 v6 v12 v18 v24 v30 v36 v42 v48 v54 v60 v66 v72 v78 v84 v90 hw k)) (k0_pay166 v1552 v1990 v1991 v1993 (A8.view.readAt (Elt F) (Rect.unit (s := S2x7168x1536) (k0_off136 v0 v6 v12 v18 v24 v30 v36 v42 v48 v54 v60 v66 v72 v78 v84 v90 k) S1x256x1536.size (k0_off136_inb v0 v6 v12 v18 v24 v30 v36 v42 v48 v54 v60 v66 v72 v78 v84 v90 hw k)).toLoadRect f8))) (Rect.unit (s := S2x24x7168) (k0_off138 v0 v6 v12 v18 v24 v30 v36 v42 v48 v54 v60 v66 v72 v78 v84 v90 k) S1x24x128.size (k0_off138_inb v0 v6 v12 v18 v24 v30 v36 v42 v48 v54 v60 v66 v72 v78 v84 v90 hw k)) (k0_pay167 v1552 v1990 v1991 v1993 (A8.view.readAt (Elt F) (Rect.unit (s := S2x7168x1536) (k0_off136 v0 v6 v12 v18 v24 v30 v36 v42 v48 v54 v60 v66 v72 v78 v84 v90 k) S1x256x1536.size (k0_off136_inb v0 v6 v12 v18 v24 v30 v36 v42 v48 v54 v60 v66 v72 v78 v84 v90 hw k)).toLoadRect f8)))⌝ ∗ PW c (wW (sl k.val) 3) fullShare f8 ∗ PW c (oW (sl k.val)) fullShare g11 ∗ P9 c f9 ∗ P10 c f10 -∗ Q ⟨r0, r1⟩) -∗ W c (k0_part47 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v1990 v1991 v1993) Q) := by
  have hkn := klt hn hN k
  have hk : k.val < 16 := lt_of_lt_of_le hkn hn
  rw [k0_part47_eq_skeleton]
  unfold k0_part47_skel
  try dsimp only
  iintro ⟨H8_3, H11, H9, H10⟩ K
  iapply (ld8 c (sl k.val) 3 3328 (off136 k hk) (by decide) (by decide)) $$ H8_3
  iintro H8_3
  iapply (ld11 c (sl k.val) 3328 (off137 k hk) (by decide)) $$ H11
  iintro H11
  iapply (st11 c (sl k.val) 3328 (off137 k hk) (by decide)) $$ H11
  iintro H11
  iapply (ld11 c (sl k.val) 3456 (off138 k hk) (by decide)) $$ H11
  iintro H11
  iapply (st11 c (sl k.val) 3456 (off138 k hk) (by decide)) $$ H11
  iintro H11
  iapply (ld9 c) $$ H9
  iintro H9
  iapply (ld10 c) $$ H10
  iintro H10
  iapply (ld9 c) $$ H9
  iintro H9
  iapply (ld10 c) $$ H10
  iintro H10
  iapply (ld8 c (sl k.val) 3 3584 (off139 k hk) (by decide) (by decide)) $$ H8_3
  iintro H8_3
  iapply W_pure
  iapply K
  isplitr; · ipureintro; exact ⟨rfl, rfl, rfl⟩
  isplitl [H8_3]; · iexact H8_3
  isplitl [H11]; · iexact H11
  isplitl [H9]; · iexact H9
  iexact H10

include hw hn hN hT in
theorem part48 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v2030 : FVec F S48x256 .f32) (v2031 : FVec F S24x128 .f32) {Q : (FVec F S48x256 .f32) → sProp (MT nD τ sig Unit (Elt F) ℕ UU ℕ)} :
    iprop(PW c (oW (sl k.val)) fullShare f11 ∗ P9 c f9 ∗ P10 c f10 ∗ PW c (wW (sl k.val) 3) fullShare f8) ⊢ iprop((∀ (r0 : FVec F S48x256 .f32) (g11 : S2x24x7168.Idx → Elt F .bf16), ⌜r0 = (k0_pay172 (A9.view.readAt (Elt F) (Rect.unit (s := S24x1536) ![0, 0] S24x1536.size inb_S24x1536_S24x1536_0_0).toLoadRect f9) (A10.view.readAt (Elt F) (Rect.unit (s := S56x1536) ![30, 0] S1x1536.size inb_S56x1536_S1x1536_30_0).toLoadRect f10) (A9.view.readAt (Elt F) (Rect.unit (s := S24x1536) ![0, 0] S24x1536.size inb_S24x1536_S24x1536_0_0).toLoadRect f9) (A10.view.readAt (Elt F) (Rect.unit (s := S56x1536) ![31, 0] S1x1536.size inb_S56x1536_S1x1536_31_0).toLoadRect f10) (A8.view.readAt (Elt F) (Rect.unit (s := S2x7168x1536) (k0_off142 v0 v6 v12 v18 v24 v30 v36 v42 v48 v54 v60 v66 v72 v78 v84 v90 k) S1x256x1536.size (k0_off142_inb v0 v6 v12 v18 v24 v30 v36 v42 v48 v54 v60 v66 v72 v78 v84 v90 hw k)).toLoadRect f8)) ∧ g11 = (put11 (put11 (put11 f11 (Rect.unit (s := S2x24x7168) (k0_off140 v0 v6 v12 v18 v24 v30 v36 v42 v48 v54 v60 v66 v72 v78 v84 v90 k) S1x24x128.size (k0_off140_inb v0 v6 v12 v18 v24 v30 v36 v42 v48 v54 v60 v66 v72 v78 v84 v90 hw k)) (k0_pay170 v1552 v2031)) (Rect.unit (s := S2x24x7168) (k0_off141 v0 v6 v12 v18 v24 v30 v36 v42 v48 v54 v60 v66 v72 v78 v84 v90 k) S1x24x128.size (k0_off141_inb v0 v6 v12 v18 v24 v30 v36 v42 v48 v54 v60 v66 v72 v78 v84 v90 hw k)) (k0_pay171 v1552 v2030)) (Rect.unit (s := S2x24x7168) (k0_off143 v0 v6 v12 v18 v24 v30 v36 v42 v48 v54 v60 v66 v72 v78 v84 v90 k) S1x24x128.size (k0_off143_inb v0 v6 v12 v18 v24 v30 v36 v42 v48 v54 v60 v66 v72 v78 v84 v90 hw k)) (k0_pay173 v1552 (A9.view.readAt (Elt F) (Rect.unit (s := S24x1536) ![0, 0] S24x1536.size inb_S24x1536_S24x1536_0_0).toLoadRect f9) (A10.view.readAt (Elt F) (Rect.unit (s := S56x1536) ![30, 0] S1x1536.size inb_S56x1536_S1x1536_30_0).toLoadRect f10) (A9.view.readAt (Elt F) (Rect.unit (s := S24x1536) ![0, 0] S24x1536.size inb_S24x1536_S24x1536_0_0).toLoadRect f9) (A10.view.readAt (Elt F) (Rect.unit (s := S56x1536) ![31, 0] S1x1536.size inb_S56x1536_S1x1536_31_0).toLoadRect f10) (A8.view.readAt (Elt F) (Rect.unit (s := S2x7168x1536) (k0_off142 v0 v6 v12 v18 v24 v30 v36 v42 v48 v54 v60 v66 v72 v78 v84 v90 k) S1x256x1536.size (k0_off142_inb v0 v6 v12 v18 v24 v30 v36 v42 v48 v54 v60 v66 v72 v78 v84 v90 hw k)).toLoadRect f8)))⌝ ∗ PW c (oW (sl k.val)) fullShare g11 ∗ P9 c f9 ∗ P10 c f10 ∗ PW c (wW (sl k.val) 3) fullShare f8 -∗ Q r0) -∗ W c (k0_part48 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v2030 v2031) Q) := by
  have hkn := klt hn hN k
  have hk : k.val < 16 := lt_of_lt_of_le hkn hn
  rw [k0_part48_eq_skeleton]
  unfold k0_part48_skel
  try dsimp only
  iintro ⟨H11, H9, H10, H8_3⟩ K
  iapply (ld11 c (sl k.val) 3584 (off140 k hk) (by decide)) $$ H11
  iintro H11
  iapply (st11 c (sl k.val) 3584 (off140 k hk) (by decide)) $$ H11
  iintro H11
  iapply (ld11 c (sl k.val) 3712 (off141 k hk) (by decide)) $$ H11
  iintro H11
  iapply (st11 c (sl k.val) 3712 (off141 k hk) (by decide)) $$ H11
  iintro H11
  iapply (ld9 c) $$ H9
  iintro H9
  iapply (ld10 c) $$ H10
  iintro H10
  iapply (ld9 c) $$ H9
  iintro H9
  iapply (ld10 c) $$ H10
  iintro H10
  iapply (ld8 c (sl k.val) 3 3840 (off142 k hk) (by decide) (by decide)) $$ H8_3
  iintro H8_3
  iapply (ld11 c (sl k.val) 3840 (off143 k hk) (by decide)) $$ H11
  iintro H11
  iapply (st11 c (sl k.val) 3840 (off143 k hk) (by decide)) $$ H11
  iintro H11
  iapply W_pure
  iapply K
  isplitr; · ipureintro; exact ⟨rfl, rfl⟩
  isplitl [H11]; · iexact H11
  isplitl [H9]; · iexact H9
  isplitl [H10]; · iexact H10
  iexact H8_3

include hw hn hN hT in
theorem part49 {f9 : S24x1536.Idx → Elt F .f32} {f10 : S56x1536.Idx → Elt F .f32} {f11 : S2x24x7168.Idx → Elt F .bf16} {f8 : S2x7168x1536.Idx → Elt F .fp8e4m3} {fw : S16x7168x1536.Idx → Elt F .fp8e4m3} (v95 : BitVec 32) (arg18 : BitVec 32) (v245 : BitVec 32) (v1552 : IVec S24x128 1) (v2060 : FVec F S48x256 .f32) {Q : (Σ' (v2102 : FVec F S48x256 .f32), FVec F S24x128 .f32) → sProp (MT nD τ sig Unit (Elt F) ℕ UU ℕ)} :
    iprop(PW c (oW (sl k.val)) fullShare f11 ∗ P5 c ft ∗ PW c (wW (sl k.val) 3) fullShare f8 ∗ Sem0 c (wsem (sl k.val) 3) ∗ (A2.view.loc (c : Thread nD τ) ↦{qw (sl k.val) 3} fw) ∗ OW c ∗ Gin c fw (sl k.val) 4 (act k.val) ∗ P9 c f9 ∗ P10 c f10) ⊢ iprop((∀ (r0 : FVec F S48x256 .f32) (r1 : FVec F S24x128 .f32) (g11 : S2x24x7168.Idx → Elt F .bf16) (g8 : S2x7168x1536.Idx → Elt F .fp8e4m3), ⌜r0 = k0_pay175 (A9.view.readAt (Elt F) (Rect.unit (s := S24x1536) ![0, 0] S24x1536.size inb_S24x1536_S24x1536_0_0).toLoadRect f9) (A10.view.readAt (Elt F) (Rect.unit (s := S56x1536) ![32, 0] S1x1536.size inb_S56x1536_S1x1536_32_0).toLoadRect f10) (A9.view.readAt (Elt F) (Rect.unit (s := S24x1536) ![0, 0] S24x1536.size inb_S24x1536_S24x1536_0_0).toLoadRect f9) (A10.view.readAt (Elt F) (Rect.unit (s := S56x1536) ![33, 0] S1x1536.size inb_S56x1536_S1x1536_33_0).toLoadRect f10) (A8.view.readAt (Elt F) (Rect.unit (s := S2x7168x1536) (k0_off153 v0 v6 v12 v18 v24 v30 v36 v42 v48 v54 v60 v66 v72 v78 v84 v90 k) S1x256x1536.size (k0_off153_inb v0 v6 v12 v18 v24 v30 v36 v42 v48 v54 v60 v66 v72 v78 v84 v90 hw k)).toLoadRect g8) ∧ r1 = k0_pay176 (A9.view.readAt (Elt F) (Rect.unit (s := S24x1536) ![0, 0] S24x1536.size inb_S24x1536_S24x1536_0_0).toLoadRect f9) (A10.view.readAt (Elt F) (Rect.unit (s := S56x1536) ![32, 0] S1x1536.size inb_S56x1536_S1x1536_32_0).toLoadRect f10) (A9.view.readAt (Elt F) (Rect.unit (s := S24x1536) ![0, 0] S24x1536.size inb_S24x1536_S24x1536_0_0).toLoadRect f9) (A10.view.readAt (Elt F) (Rect.unit (s := S56x1536) ![33, 0] S1x1536.size inb_S56x1536_S1x1536_33_0).toLoadRect f10) (A8.view.readAt (Elt F) (Rect.unit (s := S2x7168x1536) (k0_off153 v0 v6 v12 v18 v24 v30 v36 v42 v48 v54 v60 v66 v72 v78 v84 v90 k) S1x256x1536.size (k0_off153_inb v0 v6 v12 v18 v24 v30 v36 v42 v48 v54 v60 v66 v72 v78 v84 v90 hw k)).toLoadRect g8) ∧ g11 = (put11 f11 (Rect.unit (s := S2x24x7168) (k0_off144 v0 v6 v12 v18 v24 v30 v36 v42 v48 v54 v60 v66 v72 v78 v84 v90 k) S1x24x128.size (k0_off144_inb v0 v6 v12 v18 v24 v30 v36 v42 v48 v54 v60 v66 v72 v78 v84 v90 hw k)) (k0_pay174 v1552 v2060)) ∧ (wW (sl k.val) 4).view.read (Elt F) g8 = (wE (act k.val) 4).view.read (Elt F) fw⌝ ∗ PW c (oW (sl k.val)) fullShare g11 ∗ P5 c ft ∗ Gnext c fw act n k.val 3 ∗ OW c ∗ PW c (wW (sl k.val) 4) fullShare g8 ∗ Sem0 c (wsem (sl k.val) 4) ∗ (A2.view.loc (c : Thread nD τ) ↦{qw (sl k.val) 4} fw) ∗ P9 c f9 ∗ P10 c f10 -∗ Q ⟨r0, r1⟩) -∗ W c (k0_part49 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw v95 k arg18 v245 v1552 v2060) Q) := by
  have hkn := klt hn hN k
  have hk : k.val < 16 := lt_of_lt_of_le hkn hn
  rw [k0_part49_eq_skeleton]
  unfold k0_part49_skel
  try dsimp only
  iintro ⟨H11, H5, H8_3, HS3, HK3, HW, HIG4, H9, H10⟩ K
  iapply (ld11 c (sl k.val) 3968 (off144 k hk) (by decide)) $$ H11
  iintro H11
  iapply (st11 c (sl k.val) 3968 (off144 k hk) (by decide)) $$ H11
  iintro H11
  iapply (if40 c hw hn hN hT k) $$ [H5 H8_3 HS3 HK3]
  · isplitl [H5]; · iexact H5
    isplitl [H8_3]; · iexists _; iexact H8_3
    isplitl [HS3]; · iexact HS3
    iexact HK3
  iintro ⟨H5, HG3⟩
  iapply (lw5 c (p16 k.val) (off149 k hk)) $$ H5
  iintro H5
  iapply (W_assume c (by rw [hT _ hkn]; exact chk48 _))
  iapply (waitG c (sl k.val) 4 (act k.val) (off150 k hk) (off151 k hk)) $$ [HIG4 HW]
  · isplitl [HIG4] <;> iassumption
  iintro %g8 %hg8 H8_4 HS4 HK4 HW
  iapply (ld9 c) $$ H9
  iintro H9
  iapply (ld10 c) $$ H10
  iintro H10
  iapply (ld9 c) $$ H9
  iintro H9
  iapply (ld10 c) $$ H10
  iintro H10
  iapply (ld8 c (sl k.val) 4 4096 (off153 k hk) (by decide) (by decide)) $$ H8_4
  iintro H8_4
  iapply W_pure
  iapply K
  isplitr; · ipureintro; exact ⟨rfl, rfl, rfl, hg8⟩
  isplitl [H11]; · iexact H11
  isplitl [H5]; · iexact H5
  isplitl [HG3]; · iexact HG3
  isplitl [HW]; · iexact HW
  isplitl [H8_4]; · iexact H8_4
  isplitl [HS4]; · iexact HS4
  isplitl [HK4]; · iexact HK4
  isplitl [H9]; · iexact H9
  iexact H10

include hw hn hN hT in
theorem part50 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v2102 : FVec F S48x256 .f32) (v2103 : FVec F S24x128 .f32) {Q : (FVec F S48x256 .f32) → sProp (MT nD τ sig Unit (Elt F) ℕ UU ℕ)} :
    iprop(PW c (oW (sl k.val)) fullShare f11 ∗ P9 c f9 ∗ P10 c f10 ∗ PW c (wW (sl k.val) 4) fullShare f8) ⊢ iprop((∀ (r0 : FVec F S48x256 .f32) (g11 : S2x24x7168.Idx → Elt F .bf16), ⌜r0 = (k0_pay179 (A9.view.readAt (Elt F) (Rect.unit (s := S24x1536) ![0, 0] S24x1536.size inb_S24x1536_S24x1536_0_0).toLoadRect f9) (A10.view.readAt (Elt F) (Rect.unit (s := S56x1536) ![34, 0] S1x1536.size inb_S56x1536_S1x1536_34_0).toLoadRect f10) (A9.view.readAt (Elt F) (Rect.unit (s := S24x1536) ![0, 0] S24x1536.size inb_S24x1536_S24x1536_0_0).toLoadRect f9) (A10.view.readAt (Elt F) (Rect.unit (s := S56x1536) ![35, 0] S1x1536.size inb_S56x1536_S1x1536_35_0).toLoadRect f10) (A8.view.readAt (Elt F) (Rect.unit (s := S2x7168x1536) (k0_off156 v0 v6 v12 v18 v24 v30 v36 v42 v48 v54 v60 v66 v72 v78 v84 v90 k) S1x256x1536.size (k0_off156_inb v0 v6 v12 v18 v24 v30 v36 v42 v48 v54 v60 v66 v72 v78 v84 v90 hw k)).toLoadRect f8)) ∧ g11 = (put11 (put11 (put11 f11 (Rect.unit (s := S2x24x7168) (k0_off154 v0 v6 v12 v18 v24 v30 v36 v42 v48 v54 v60 v66 v72 v78 v84 v90 k) S1x24x128.size (k0_off154_inb v0 v6 v12 v18 v24 v30 v36 v42 v48 v54 v60 v66 v72 v78 v84 v90 hw k)) (k0_pay177 v1552 v2103)) (Rect.unit (s := S2x24x7168) (k0_off155 v0 v6 v12 v18 v24 v30 v36 v42 v48 v54 v60 v66 v72 v78 v84 v90 k) S1x24x128.size (k0_off155_inb v0 v6 v12 v18 v24 v30 v36 v42 v48 v54 v60 v66 v72 v78 v84 v90 hw k)) (k0_pay178 v1552 v2102)) (Rect.unit (s := S2x24x7168) (k0_off157 v0 v6 v12 v18 v24 v30 v36 v42 v48 v54 v60 v66 v72 v78 v84 v90 k) S1x24x128.size (k0_off157_inb v0 v6 v12 v18 v24 v30 v36 v42 v48 v54 v60 v66 v72 v78 v84 v90 hw k)) (k0_pay180 v1552 (A9.view.readAt (Elt F) (Rect.unit (s := S24x1536) ![0, 0] S24x1536.size inb_S24x1536_S24x1536_0_0).toLoadRect f9) (A10.view.readAt (Elt F) (Rect.unit (s := S56x1536) ![34, 0] S1x1536.size inb_S56x1536_S1x1536_34_0).toLoadRect f10) (A9.view.readAt (Elt F) (Rect.unit (s := S24x1536) ![0, 0] S24x1536.size inb_S24x1536_S24x1536_0_0).toLoadRect f9) (A10.view.readAt (Elt F) (Rect.unit (s := S56x1536) ![35, 0] S1x1536.size inb_S56x1536_S1x1536_35_0).toLoadRect f10) (A8.view.readAt (Elt F) (Rect.unit (s := S2x7168x1536) (k0_off156 v0 v6 v12 v18 v24 v30 v36 v42 v48 v54 v60 v66 v72 v78 v84 v90 k) S1x256x1536.size (k0_off156_inb v0 v6 v12 v18 v24 v30 v36 v42 v48 v54 v60 v66 v72 v78 v84 v90 hw k)).toLoadRect f8)))⌝ ∗ PW c (oW (sl k.val)) fullShare g11 ∗ P9 c f9 ∗ P10 c f10 ∗ PW c (wW (sl k.val) 4) fullShare f8 -∗ Q r0) -∗ W c (k0_part50 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v2102 v2103) Q) := by
  have hkn := klt hn hN k
  have hk : k.val < 16 := lt_of_lt_of_le hkn hn
  rw [k0_part50_eq_skeleton]
  unfold k0_part50_skel
  try dsimp only
  iintro ⟨H11, H9, H10, H8_4⟩ K
  iapply (ld11 c (sl k.val) 4096 (off154 k hk) (by decide)) $$ H11
  iintro H11
  iapply (st11 c (sl k.val) 4096 (off154 k hk) (by decide)) $$ H11
  iintro H11
  iapply (ld11 c (sl k.val) 4224 (off155 k hk) (by decide)) $$ H11
  iintro H11
  iapply (st11 c (sl k.val) 4224 (off155 k hk) (by decide)) $$ H11
  iintro H11
  iapply (ld9 c) $$ H9
  iintro H9
  iapply (ld10 c) $$ H10
  iintro H10
  iapply (ld9 c) $$ H9
  iintro H9
  iapply (ld10 c) $$ H10
  iintro H10
  iapply (ld8 c (sl k.val) 4 4352 (off156 k hk) (by decide) (by decide)) $$ H8_4
  iintro H8_4
  iapply (ld11 c (sl k.val) 4352 (off157 k hk) (by decide)) $$ H11
  iintro H11
  iapply (st11 c (sl k.val) 4352 (off157 k hk) (by decide)) $$ H11
  iintro H11
  iapply W_pure
  iapply K
  isplitr; · ipureintro; exact ⟨rfl, rfl⟩
  isplitl [H11]; · iexact H11
  isplitl [H9]; · iexact H9
  isplitl [H10]; · iexact H10
  iexact H8_4

include hw hn hN hT in
theorem part51 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v2132 : FVec F S48x256 .f32) {Q : (FVec F S1x24x128 .bf16) → sProp (MT nD τ sig Unit (Elt F) ℕ UU ℕ)} :
    iprop(PW c (oW (sl k.val)) fullShare f11 ∗ P9 c f9 ∗ P10 c f10 ∗ PW c (wW (sl k.val) 4) fullShare f8) ⊢ iprop((∀ (r0 : FVec F S1x24x128 .bf16) (g11 : S2x24x7168.Idx → Elt F .bf16), ⌜r0 = (k0_pay184 v1552 (A9.view.readAt (Elt F) (Rect.unit (s := S24x1536) ![0, 0] S24x1536.size inb_S24x1536_S24x1536_0_0).toLoadRect f9) (A10.view.readAt (Elt F) (Rect.unit (s := S56x1536) ![36, 0] S1x1536.size inb_S56x1536_S1x1536_36_0).toLoadRect f10) (A9.view.readAt (Elt F) (Rect.unit (s := S24x1536) ![0, 0] S24x1536.size inb_S24x1536_S24x1536_0_0).toLoadRect f9) (A10.view.readAt (Elt F) (Rect.unit (s := S56x1536) ![37, 0] S1x1536.size inb_S56x1536_S1x1536_37_0).toLoadRect f10) (A8.view.readAt (Elt F) (Rect.unit (s := S2x7168x1536) (k0_off159 v0 v6 v12 v18 v24 v30 v36 v42 v48 v54 v60 v66 v72 v78 v84 v90 k) S1x256x1536.size (k0_off159_inb v0 v6 v12 v18 v24 v30 v36 v42 v48 v54 v60 v66 v72 v78 v84 v90 hw k)).toLoadRect f8)) ∧ g11 = (put11 (put11 f11 (Rect.unit (s := S2x24x7168) (k0_off158 v0 v6 v12 v18 v24 v30 v36 v42 v48 v54 v60 v66 v72 v78 v84 v90 k) S1x24x128.size (k0_off158_inb v0 v6 v12 v18 v24 v30 v36 v42 v48 v54 v60 v66 v72 v78 v84 v90 hw k)) (k0_pay181 v1552 v2132)) (Rect.unit (s := S2x24x7168) (k0_off160 v0 v6 v12 v18 v24 v30 v36 v42 v48 v54 v60 v66 v72 v78 v84 v90 k) S1x24x128.size (k0_off160_inb v0 v6 v12 v18 v24 v30 v36 v42 v48 v54 v60 v66 v72 v78 v84 v90 hw k)) (k0_pay183 v1552 (A9.view.readAt (Elt F) (Rect.unit (s := S24x1536) ![0, 0] S24x1536.size inb_S24x1536_S24x1536_0_0).toLoadRect f9) (A10.view.readAt (Elt F) (Rect.unit (s := S56x1536) ![36, 0] S1x1536.size inb_S56x1536_S1x1536_36_0).toLoadRect f10) (A9.view.readAt (Elt F) (Rect.unit (s := S24x1536) ![0, 0] S24x1536.size inb_S24x1536_S24x1536_0_0).toLoadRect f9) (A10.view.readAt (Elt F) (Rect.unit (s := S56x1536) ![37, 0] S1x1536.size inb_S56x1536_S1x1536_37_0).toLoadRect f10) (A8.view.readAt (Elt F) (Rect.unit (s := S2x7168x1536) (k0_off159 v0 v6 v12 v18 v24 v30 v36 v42 v48 v54 v60 v66 v72 v78 v84 v90 k) S1x256x1536.size (k0_off159_inb v0 v6 v12 v18 v24 v30 v36 v42 v48 v54 v60 v66 v72 v78 v84 v90 hw k)).toLoadRect f8)))⌝ ∗ PW c (oW (sl k.val)) fullShare g11 ∗ P9 c f9 ∗ P10 c f10 ∗ PW c (wW (sl k.val) 4) fullShare f8 -∗ Q r0) -∗ W c (k0_part51 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v2132) Q) := by
  have hkn := klt hn hN k
  have hk : k.val < 16 := lt_of_lt_of_le hkn hn
  rw [k0_part51_eq_skeleton]
  unfold k0_part51_skel
  try dsimp only
  iintro ⟨H11, H9, H10, H8_4⟩ K
  iapply (ld11 c (sl k.val) 4480 (off158 k hk) (by decide)) $$ H11
  iintro H11
  iapply (st11 c (sl k.val) 4480 (off158 k hk) (by decide)) $$ H11
  iintro H11
  iapply (ld9 c) $$ H9
  iintro H9
  iapply (ld10 c) $$ H10
  iintro H10
  iapply (ld9 c) $$ H9
  iintro H9
  iapply (ld10 c) $$ H10
  iintro H10
  iapply (ld8 c (sl k.val) 4 4608 (off159 k hk) (by decide) (by decide)) $$ H8_4
  iintro H8_4
  iapply (ld11 c (sl k.val) 4608 (off160 k hk) (by decide)) $$ H11
  iintro H11
  iapply (st11 c (sl k.val) 4608 (off160 k hk) (by decide)) $$ H11
  iintro H11
  iapply (ld11 c (sl k.val) 4736 (off161 k hk) (by decide)) $$ H11
  iintro H11
  iapply W_pure
  iapply K
  isplitr; · ipureintro; exact ⟨rfl, rfl⟩
  isplitl [H11]; · iexact H11
  isplitl [H9]; · iexact H9
  isplitl [H10]; · iexact H10
  iexact H8_4

include hw hn hN hT in
theorem part52 {f9 : S24x1536.Idx → Elt F .f32} {f10 : S56x1536.Idx → Elt F .f32} {f11 : S2x24x7168.Idx → Elt F .bf16} {f8 : S2x7168x1536.Idx → Elt F .fp8e4m3} {fw : S16x7168x1536.Idx → Elt F .fp8e4m3} (v95 : BitVec 32) (arg18 : BitVec 32) (v245 : BitVec 32) (v1552 : IVec S24x128 1) (v2178 : FVec F S1x24x128 .bf16) {Q : (Σ' (v2214 : Elt F .i32), k0_chk50 v2214) → sProp (MT nD τ sig Unit (Elt F) ℕ UU ℕ)} :
    iprop(PW c (oW (sl k.val)) fullShare f11 ∗ P9 c f9 ∗ P10 c f10 ∗ PW c (wW (sl k.val) 4) fullShare f8 ∗ P5 c ft ∗ Sem0 c (wsem (sl k.val) 4) ∗ (A2.view.loc (c : Thread nD τ) ↦{qw (sl k.val) 4} fw)) ⊢ iprop((∀ (r0 : Elt F .i32) (r1 : k0_chk50 r0) (g11 : S2x24x7168.Idx → Elt F .bf16), ⌜r0 = (tw ft (p16 k.val)) ∧ g11 = (put11 (put11 (put11 f11 (Rect.unit (s := S2x24x7168) (k0_off161 v0 v6 v12 v18 v24 v30 v36 v42 v48 v54 v60 v66 v72 v78 v84 v90 k) S1x24x128.size (k0_off161_inb v0 v6 v12 v18 v24 v30 v36 v42 v48 v54 v60 v66 v72 v78 v84 v90 hw k)) v2178) (Rect.unit (s := S2x24x7168) (k0_off163 v0 v6 v12 v18 v24 v30 v36 v42 v48 v54 v60 v66 v72 v78 v84 v90 k) S1x24x128.size (k0_off163_inb v0 v6 v12 v18 v24 v30 v36 v42 v48 v54 v60 v66 v72 v78 v84 v90 hw k)) (k0_pay186 v1552 (A9.view.readAt (Elt F) (Rect.unit (s := S24x1536) ![0, 0] S24x1536.size inb_S24x1536_S24x1536_0_0).toLoadRect f9) (A10.view.readAt (Elt F) (Rect.unit (s := S56x1536) ![38, 0] S1x1536.size inb_S56x1536_S1x1536_38_0).toLoadRect f10) (A9.view.readAt (Elt F) (Rect.unit (s := S24x1536) ![0, 0] S24x1536.size inb_S24x1536_S24x1536_0_0).toLoadRect f9) (A10.view.readAt (Elt F) (Rect.unit (s := S56x1536) ![39, 0] S1x1536.size inb_S56x1536_S1x1536_39_0).toLoadRect f10) (A8.view.readAt (Elt F) (Rect.unit (s := S2x7168x1536) (k0_off162 v0 v6 v12 v18 v24 v30 v36 v42 v48 v54 v60 v66 v72 v78 v84 v90 k) S1x256x1536.size (k0_off162_inb v0 v6 v12 v18 v24 v30 v36 v42 v48 v54 v60 v66 v72 v78 v84 v90 hw k)).toLoadRect f8))) (Rect.unit (s := S2x24x7168) (k0_off164 v0 v6 v12 v18 v24 v30 v36 v42 v48 v54 v60 v66 v72 v78 v84 v90 k) S1x24x128.size (k0_off164_inb v0 v6 v12 v18 v24 v30 v36 v42 v48 v54 v60 v66 v72 v78 v84 v90 hw k)) (k0_pay187 v1552 (A9.view.readAt (Elt F) (Rect.unit (s := S24x1536) ![0, 0] S24x1536.size inb_S24x1536_S24x1536_0_0).toLoadRect f9) (A10.view.readAt (Elt F) (Rect.unit (s := S56x1536) ![38, 0] S1x1536.size inb_S56x1536_S1x1536_38_0).toLoadRect f10) (A9.view.readAt (Elt F) (Rect.unit (s := S24x1536) ![0, 0] S24x1536.size inb_S24x1536_S24x1536_0_0).toLoadRect f9) (A10.view.readAt (Elt F) (Rect.unit (s := S56x1536) ![39, 0] S1x1536.size inb_S56x1536_S1x1536_39_0).toLoadRect f10) (A8.view.readAt (Elt F) (Rect.unit (s := S2x7168x1536) (k0_off162 v0 v6 v12 v18 v24 v30 v36 v42 v48 v54 v60 v66 v72 v78 v84 v90 k) S1x256x1536.size (k0_off162_inb v0 v6 v12 v18 v24 v30 v36 v42 v48 v54 v60 v66 v72 v78 v84 v90 hw k)).toLoadRect f8)))⌝ ∗ PW c (oW (sl k.val)) fullShare g11 ∗ P9 c f9 ∗ P10 c f10 ∗ P5 c ft ∗ Gnext c fw act n k.val 4 -∗ Q ⟨r0, r1⟩) -∗ W c (k0_part52 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw v95 k arg18 v245 v1552 v2178) Q) := by
  have hkn := klt hn hN k
  have hk : k.val < 16 := lt_of_lt_of_le hkn hn
  rw [k0_part52_eq_skeleton]
  unfold k0_part52_skel
  try dsimp only
  iintro ⟨H11, H9, H10, H8_4, H5, HS4, HK4⟩ K
  iapply (st11 c (sl k.val) 4736 (off161 k hk) (by decide)) $$ H11
  iintro H11
  iapply (ld9 c) $$ H9
  iintro H9
  iapply (ld10 c) $$ H10
  iintro H10
  iapply (ld9 c) $$ H9
  iintro H9
  iapply (ld10 c) $$ H10
  iintro H10
  iapply (ld8 c (sl k.val) 4 4864 (off162 k hk) (by decide) (by decide)) $$ H8_4
  iintro H8_4
  iapply (ld11 c (sl k.val) 4864 (off163 k hk) (by decide)) $$ H11
  iintro H11
  iapply (st11 c (sl k.val) 4864 (off163 k hk) (by decide)) $$ H11
  iintro H11
  iapply (ld11 c (sl k.val) 4992 (off164 k hk) (by decide)) $$ H11
  iintro H11
  iapply (st11 c (sl k.val) 4992 (off164 k hk) (by decide)) $$ H11
  iintro H11
  iapply (if41 c hw hn hN hT k) $$ [H5 H8_4 HS4 HK4]
  · isplitl [H5]; · iexact H5
    isplitl [H8_4]; · iexists _; iexact H8_4
    isplitl [HS4]; · iexact HS4
    iexact HK4
  iintro ⟨H5, HG4⟩
  iapply (lw5 c (p16 k.val) (off169 k hk)) $$ H5
  iintro H5
  iapply (W_assume c (by rw [hT _ hkn]; exact chk50 _))
  iapply W_pure
  iapply K
  isplitr; · ipureintro; exact ⟨rfl, rfl⟩
  isplitl [H11]; · iexact H11
  isplitl [H9]; · iexact H9
  isplitl [H10]; · iexact H10
  isplitl [H5]; · iexact H5
  iexact HG4

include hw hn hN hT in
theorem part53 {f9 : S24x1536.Idx → Elt F .f32} {f10 : S56x1536.Idx → Elt F .f32} {f11 : S2x24x7168.Idx → Elt F .bf16} {fw : S16x7168x1536.Idx → Elt F .fp8e4m3} (v245 : BitVec 32) (v1552 : IVec S24x128 1) (v2214 : Elt F .i32) (k0_hw50 : k0_chk50 v2214) {Q : (FVec F S1x24x128 .bf16) → sProp (MT nD τ sig Unit (Elt F) ℕ UU ℕ)} :
    iprop(OW c ∗ Gin c fw (sl k.val) 5 (act k.val) ∗ P9 c f9 ∗ P10 c f10 ∗ PW c (oW (sl k.val)) fullShare f11) ⊢ iprop((∀ (r0 : FVec F S1x24x128 .bf16) (g11 : S2x24x7168.Idx → Elt F .bf16) (g8 : S2x7168x1536.Idx → Elt F .fp8e4m3), ⌜r0 = (k0_pay190 v1552 (A9.view.readAt (Elt F) (Rect.unit (s := S24x1536) ![0, 0] S24x1536.size inb_S24x1536_S24x1536_0_0).toLoadRect f9) (A10.view.readAt (Elt F) (Rect.unit (s := S56x1536) ![40, 0] S1x1536.size inb_S56x1536_S1x1536_40_0).toLoadRect f10) (A9.view.readAt (Elt F) (Rect.unit (s := S24x1536) ![0, 0] S24x1536.size inb_S24x1536_S24x1536_0_0).toLoadRect f9) (A10.view.readAt (Elt F) (Rect.unit (s := S56x1536) ![41, 0] S1x1536.size inb_S56x1536_S1x1536_41_0).toLoadRect f10) (A8.view.readAt (Elt F) (Rect.unit (s := S2x7168x1536) (k0_off173 v0 v6 v12 v18 v24 v30 v36 v42 v48 v54 v60 v66 v72 v78 v84 v90 k) S1x256x1536.size (k0_off173_inb v0 v6 v12 v18 v24 v30 v36 v42 v48 v54 v60 v66 v72 v78 v84 v90 hw k)).toLoadRect g8)) ∧ g11 = (put11 f11 (Rect.unit (s := S2x24x7168) (k0_off174 v0 v6 v12 v18 v24 v30 v36 v42 v48 v54 v60 v66 v72 v78 v84 v90 k) S1x24x128.size (k0_off174_inb v0 v6 v12 v18 v24 v30 v36 v42 v48 v54 v60 v66 v72 v78 v84 v90 hw k)) (k0_pay189 v1552 (A9.view.readAt (Elt F) (Rect.unit (s := S24x1536) ![0, 0] S24x1536.size inb_S24x1536_S24x1536_0_0).toLoadRect f9) (A10.view.readAt (Elt F) (Rect.unit (s := S56x1536) ![40, 0] S1x1536.size inb_S56x1536_S1x1536_40_0).toLoadRect f10) (A9.view.readAt (Elt F) (Rect.unit (s := S24x1536) ![0, 0] S24x1536.size inb_S24x1536_S24x1536_0_0).toLoadRect f9) (A10.view.readAt (Elt F) (Rect.unit (s := S56x1536) ![41, 0] S1x1536.size inb_S56x1536_S1x1536_41_0).toLoadRect f10) (A8.view.readAt (Elt F) (Rect.unit (s := S2x7168x1536) (k0_off173 v0 v6 v12 v18 v24 v30 v36 v42 v48 v54 v60 v66 v72 v78 v84 v90 k) S1x256x1536.size (k0_off173_inb v0 v6 v12 v18 v24 v30 v36 v42 v48 v54 v60 v66 v72 v78 v84 v90 hw k)).toLoadRect g8))) ∧ (wW (sl k.val) 5).view.read (Elt F) g8 = (wE (act k.val) 5).view.read (Elt F) fw⌝ ∗ OW c ∗ PW c (wW (sl k.val) 5) fullShare g8 ∗ Sem0 c (wsem (sl k.val) 5) ∗ (A2.view.loc (c : Thread nD τ) ↦{qw (sl k.val) 5} fw) ∗ P9 c f9 ∗ P10 c f10 ∗ PW c (oW (sl k.val)) fullShare g11 -∗ Q r0) -∗ W c (k0_part53 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v2214 k0_hw50) Q) := by
  have hkn := klt hn hN k
  have hk : k.val < 16 := lt_of_lt_of_le hkn hn
  rw [k0_part53_eq_skeleton]
  unfold k0_part53_skel
  try dsimp only
  iintro ⟨HW, HIG5, H9, H10, H11⟩ K
  iapply (waitG c (sl k.val) 5 (act k.val) (off170 k hk) (off171 k hk)) $$ [HIG5 HW]
  · isplitl [HIG5] <;> iassumption
  iintro %g8 %hg8 H8_5 HS5 HK5 HW
  iapply (ld9 c) $$ H9
  iintro H9
  iapply (ld10 c) $$ H10
  iintro H10
  iapply (ld9 c) $$ H9
  iintro H9
  iapply (ld10 c) $$ H10
  iintro H10
  iapply (ld8 c (sl k.val) 5 5120 (off173 k hk) (by decide) (by decide)) $$ H8_5
  iintro H8_5
  iapply (ld11 c (sl k.val) 5120 (off174 k hk) (by decide)) $$ H11
  iintro H11
  iapply (st11 c (sl k.val) 5120 (off174 k hk) (by decide)) $$ H11
  iintro H11
  iapply (ld11 c (sl k.val) 5248 (off175 k hk) (by decide)) $$ H11
  iintro H11
  iapply W_pure
  iapply K
  isplitr; · ipureintro; exact ⟨rfl, rfl, hg8⟩
  isplitl [HW]; · iexact HW
  isplitl [H8_5]; · iexact H8_5
  isplitl [HS5]; · iexact HS5
  isplitl [HK5]; · iexact HK5
  isplitl [H9]; · iexact H9
  isplitl [H10]; · iexact H10
  iexact H11

include hw hn hN hT in
theorem part54 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v2250 : FVec F S1x24x128 .bf16) {Q : (FVec F S24x1536 .f32) → sProp (MT nD τ sig Unit (Elt F) ℕ UU ℕ)} :
    iprop(PW c (oW (sl k.val)) fullShare f11 ∗ P9 c f9 ∗ P10 c f10 ∗ PW c (wW (sl k.val) 5) fullShare f8) ⊢ iprop((∀ (r0 : FVec F S24x1536 .f32) (g11 : S2x24x7168.Idx → Elt F .bf16), ⌜r0 = (k0_pay194 (A9.view.readAt (Elt F) (Rect.unit (s := S24x1536) ![0, 0] S24x1536.size inb_S24x1536_S24x1536_0_0).toLoadRect f9) (A10.view.readAt (Elt F) (Rect.unit (s := S56x1536) ![44, 0] S1x1536.size inb_S56x1536_S1x1536_44_0).toLoadRect f10)) ∧ g11 = (put11 (put11 (put11 f11 (Rect.unit (s := S2x24x7168) (k0_off175 v0 v6 v12 v18 v24 v30 v36 v42 v48 v54 v60 v66 v72 v78 v84 v90 k) S1x24x128.size (k0_off175_inb v0 v6 v12 v18 v24 v30 v36 v42 v48 v54 v60 v66 v72 v78 v84 v90 hw k)) v2250) (Rect.unit (s := S2x24x7168) (k0_off177 v0 v6 v12 v18 v24 v30 v36 v42 v48 v54 v60 v66 v72 v78 v84 v90 k) S1x24x128.size (k0_off177_inb v0 v6 v12 v18 v24 v30 v36 v42 v48 v54 v60 v66 v72 v78 v84 v90 hw k)) (k0_pay192 v1552 (A9.view.readAt (Elt F) (Rect.unit (s := S24x1536) ![0, 0] S24x1536.size inb_S24x1536_S24x1536_0_0).toLoadRect f9) (A10.view.readAt (Elt F) (Rect.unit (s := S56x1536) ![42, 0] S1x1536.size inb_S56x1536_S1x1536_42_0).toLoadRect f10) (A9.view.readAt (Elt F) (Rect.unit (s := S24x1536) ![0, 0] S24x1536.size inb_S24x1536_S24x1536_0_0).toLoadRect f9) (A10.view.readAt (Elt F) (Rect.unit (s := S56x1536) ![43, 0] S1x1536.size inb_S56x1536_S1x1536_43_0).toLoadRect f10) (A8.view.readAt (Elt F) (Rect.unit (s := S2x7168x1536) (k0_off176 v0 v6 v12 v18 v24 v30 v36 v42 v48 v54 v60 v66 v72 v78 v84 v90 k) S1x256x1536.size (k0_off176_inb v0 v6 v12 v18 v24 v30 v36 v42 v48 v54 v60 v66 v72 v78 v84 v90 hw k)).toLoadRect f8))) (Rect.unit (s := S2x24x7168) (k0_off178 v0 v6 v12 v18 v24 v30 v36 v42 v48 v54 v60 v66 v72 v78 v84 v90 k) S1x24x128.size (k0_off178_inb v0 v6 v12 v18 v24 v30 v36 v42 v48 v54 v60 v66 v72 v78 v84 v90 hw k)) (k0_pay193 v1552 (A9.view.readAt (Elt F) (Rect.unit (s := S24x1536) ![0, 0] S24x1536.size inb_S24x1536_S24x1536_0_0).toLoadRect f9) (A10.view.readAt (Elt F) (Rect.unit (s := S56x1536) ![42, 0] S1x1536.size inb_S56x1536_S1x1536_42_0).toLoadRect f10) (A9.view.readAt (Elt F) (Rect.unit (s := S24x1536) ![0, 0] S24x1536.size inb_S24x1536_S24x1536_0_0).toLoadRect f9) (A10.view.readAt (Elt F) (Rect.unit (s := S56x1536) ![43, 0] S1x1536.size inb_S56x1536_S1x1536_43_0).toLoadRect f10) (A8.view.readAt (Elt F) (Rect.unit (s := S2x7168x1536) (k0_off176 v0 v6 v12 v18 v24 v30 v36 v42 v48 v54 v60 v66 v72 v78 v84 v90 k) S1x256x1536.size (k0_off176_inb v0 v6 v12 v18 v24 v30 v36 v42 v48 v54 v60 v66 v72 v78 v84 v90 hw k)).toLoadRect f8)))⌝ ∗ PW c (oW (sl k.val)) fullShare g11 ∗ P9 c f9 ∗ P10 c f10 ∗ PW c (wW (sl k.val) 5) fullShare f8 -∗ Q r0) -∗ W c (k0_part54 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v2250) Q) := by
  have hkn := klt hn hN k
  have hk : k.val < 16 := lt_of_lt_of_le hkn hn
  rw [k0_part54_eq_skeleton]
  unfold k0_part54_skel
  try dsimp only
  iintro ⟨H11, H9, H10, H8_5⟩ K
  iapply (st11 c (sl k.val) 5248 (off175 k hk) (by decide)) $$ H11
  iintro H11
  iapply (ld9 c) $$ H9
  iintro H9
  iapply (ld10 c) $$ H10
  iintro H10
  iapply (ld9 c) $$ H9
  iintro H9
  iapply (ld10 c) $$ H10
  iintro H10
  iapply (ld8 c (sl k.val) 5 5376 (off176 k hk) (by decide) (by decide)) $$ H8_5
  iintro H8_5
  iapply (ld11 c (sl k.val) 5376 (off177 k hk) (by decide)) $$ H11
  iintro H11
  iapply (st11 c (sl k.val) 5376 (off177 k hk) (by decide)) $$ H11
  iintro H11
  iapply (ld11 c (sl k.val) 5504 (off178 k hk) (by decide)) $$ H11
  iintro H11
  iapply (st11 c (sl k.val) 5504 (off178 k hk) (by decide)) $$ H11
  iintro H11
  iapply (ld9 c) $$ H9
  iintro H9
  iapply (ld10 c) $$ H10
  iintro H10
  iapply W_pure
  iapply K
  isplitr; · ipureintro; exact ⟨rfl, rfl⟩
  isplitl [H11]; · iexact H11
  isplitl [H9]; · iexact H9
  isplitl [H10]; · iexact H10
  iexact H8_5

include hw hn hN hT in
theorem part55 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v2284 : FVec F S24x1536 .f32) {Q : (FVec F S48x1536 .bf16) → sProp (MT nD τ sig Unit (Elt F) ℕ UU ℕ)} :
    iprop(P9 c f9 ∗ P10 c f10 ∗ PW c (wW (sl k.val) 5) fullShare f8 ∗ PW c (oW (sl k.val)) fullShare f11) ⊢ iprop((∀ (r0 : FVec F S48x1536 .bf16) (g11 : S2x24x7168.Idx → Elt F .bf16), ⌜r0 = (k0_pay198 (A9.view.readAt (Elt F) (Rect.unit (s := S24x1536) ![0, 0] S24x1536.size inb_S24x1536_S24x1536_0_0).toLoadRect f9) (A10.view.readAt (Elt F) (Rect.unit (s := S56x1536) ![46, 0] S1x1536.size inb_S56x1536_S1x1536_46_0).toLoadRect f10) (A9.view.readAt (Elt F) (Rect.unit (s := S24x1536) ![0, 0] S24x1536.size inb_S24x1536_S24x1536_0_0).toLoadRect f9) (A10.view.readAt (Elt F) (Rect.unit (s := S56x1536) ![47, 0] S1x1536.size inb_S56x1536_S1x1536_47_0).toLoadRect f10)) ∧ g11 = (put11 (put11 f11 (Rect.unit (s := S2x24x7168) (k0_off180 v0 v6 v12 v18 v24 v30 v36 v42 v48 v54 v60 v66 v72 v78 v84 v90 k) S1x24x128.size (k0_off180_inb v0 v6 v12 v18 v24 v30 v36 v42 v48 v54 v60 v66 v72 v78 v84 v90 hw k)) (k0_pay196 v1552 v2284 (A9.view.readAt (Elt F) (Rect.unit (s := S24x1536) ![0, 0] S24x1536.size inb_S24x1536_S24x1536_0_0).toLoadRect f9) (A10.view.readAt (Elt F) (Rect.unit (s := S56x1536) ![45, 0] S1x1536.size inb_S56x1536_S1x1536_45_0).toLoadRect f10) (A8.view.readAt (Elt F) (Rect.unit (s := S2x7168x1536) (k0_off179 v0 v6 v12 v18 v24 v30 v36 v42 v48 v54 v60 v66 v72 v78 v84 v90 k) S1x256x1536.size (k0_off179_inb v0 v6 v12 v18 v24 v30 v36 v42 v48 v54 v60 v66 v72 v78 v84 v90 hw k)).toLoadRect f8))) (Rect.unit (s := S2x24x7168) (k0_off181 v0 v6 v12 v18 v24 v30 v36 v42 v48 v54 v60 v66 v72 v78 v84 v90 k) S1x24x128.size (k0_off181_inb v0 v6 v12 v18 v24 v30 v36 v42 v48 v54 v60 v66 v72 v78 v84 v90 hw k)) (k0_pay197 v1552 v2284 (A9.view.readAt (Elt F) (Rect.unit (s := S24x1536) ![0, 0] S24x1536.size inb_S24x1536_S24x1536_0_0).toLoadRect f9) (A10.view.readAt (Elt F) (Rect.unit (s := S56x1536) ![45, 0] S1x1536.size inb_S56x1536_S1x1536_45_0).toLoadRect f10) (A8.view.readAt (Elt F) (Rect.unit (s := S2x7168x1536) (k0_off179 v0 v6 v12 v18 v24 v30 v36 v42 v48 v54 v60 v66 v72 v78 v84 v90 k) S1x256x1536.size (k0_off179_inb v0 v6 v12 v18 v24 v30 v36 v42 v48 v54 v60 v66 v72 v78 v84 v90 hw k)).toLoadRect f8)))⌝ ∗ P9 c f9 ∗ P10 c f10 ∗ PW c (wW (sl k.val) 5) fullShare f8 ∗ PW c (oW (sl k.val)) fullShare g11 -∗ Q r0) -∗ W c (k0_part55 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v2284) Q) := by
  have hkn := klt hn hN k
  have hk : k.val < 16 := lt_of_lt_of_le hkn hn
  rw [k0_part55_eq_skeleton]
  unfold k0_part55_skel
  try dsimp only
  iintro ⟨H9, H10, H8_5, H11⟩ K
  iapply (ld9 c) $$ H9
  iintro H9
  iapply (ld10 c) $$ H10
  iintro H10
  iapply (ld8 c (sl k.val) 5 5632 (off179 k hk) (by decide) (by decide)) $$ H8_5
  iintro H8_5
  iapply (ld11 c (sl k.val) 5632 (off180 k hk) (by decide)) $$ H11
  iintro H11
  iapply (st11 c (sl k.val) 5632 (off180 k hk) (by decide)) $$ H11
  iintro H11
  iapply (ld11 c (sl k.val) 5760 (off181 k hk) (by decide)) $$ H11
  iintro H11
  iapply (st11 c (sl k.val) 5760 (off181 k hk) (by decide)) $$ H11
  iintro H11
  iapply (ld9 c) $$ H9
  iintro H9
  iapply (ld10 c) $$ H10
  iintro H10
  iapply (ld9 c) $$ H9
  iintro H9
  iapply (ld10 c) $$ H10
  iintro H10
  iapply W_pure
  iapply K
  isplitr; · ipureintro; exact ⟨rfl, rfl⟩
  isplitl [H9]; · iexact H9
  isplitl [H10]; · iexact H10
  isplitl [H8_5]; · iexact H8_5
  iexact H11

include hw hn hN hT in
theorem part56 {f9 : S24x1536.Idx → Elt F .f32} {f10 : S56x1536.Idx → Elt F .f32} {f11 : S2x24x7168.Idx → Elt F .bf16} {f8 : S2x7168x1536.Idx → Elt F .fp8e4m3} {fw : S16x7168x1536.Idx → Elt F .fp8e4m3} (v95 : BitVec 32) (arg18 : BitVec 32) (v245 : BitVec 32) (v1552 : IVec S24x128 1) (v2320 : FVec F S48x1536 .bf16) {Q : (FVec F S24x1536 .f32) → sProp (MT nD τ sig Unit (Elt F) ℕ UU ℕ)} :
    iprop(PW c (wW (sl k.val) 5) fullShare f8 ∗ PW c (oW (sl k.val)) fullShare f11 ∗ P5 c ft ∗ Sem0 c (wsem (sl k.val) 5) ∗ (A2.view.loc (c : Thread nD τ) ↦{qw (sl k.val) 5} fw) ∗ OW c ∗ Gin c fw (sl k.val) 6 (act k.val) ∗ P9 c f9 ∗ P10 c f10) ⊢ iprop((∀ (r0 : FVec F S24x1536 .f32) (g11 : S2x24x7168.Idx → Elt F .bf16) (g8 : S2x7168x1536.Idx → Elt F .fp8e4m3), ⌜r0 = (k0_pay202 (A9.view.readAt (Elt F) (Rect.unit (s := S24x1536) ![0, 0] S24x1536.size inb_S24x1536_S24x1536_0_0).toLoadRect f9) (A10.view.readAt (Elt F) (Rect.unit (s := S56x1536) ![48, 0] S1x1536.size inb_S56x1536_S1x1536_48_0).toLoadRect f10)) ∧ g11 = (put11 (put11 f11 (Rect.unit (s := S2x24x7168) (k0_off183 v0 v6 v12 v18 v24 v30 v36 v42 v48 v54 v60 v66 v72 v78 v84 v90 k) S1x24x128.size (k0_off183_inb v0 v6 v12 v18 v24 v30 v36 v42 v48 v54 v60 v66 v72 v78 v84 v90 hw k)) (k0_pay200 v1552 v2320 (A8.view.readAt (Elt F) (Rect.unit (s := S2x7168x1536) (k0_off182 v0 v6 v12 v18 v24 v30 v36 v42 v48 v54 v60 v66 v72 v78 v84 v90 k) S1x256x1536.size (k0_off182_inb v0 v6 v12 v18 v24 v30 v36 v42 v48 v54 v60 v66 v72 v78 v84 v90 hw k)).toLoadRect f8))) (Rect.unit (s := S2x24x7168) (k0_off184 v0 v6 v12 v18 v24 v30 v36 v42 v48 v54 v60 v66 v72 v78 v84 v90 k) S1x24x128.size (k0_off184_inb v0 v6 v12 v18 v24 v30 v36 v42 v48 v54 v60 v66 v72 v78 v84 v90 hw k)) (k0_pay201 v1552 v2320 (A8.view.readAt (Elt F) (Rect.unit (s := S2x7168x1536) (k0_off182 v0 v6 v12 v18 v24 v30 v36 v42 v48 v54 v60 v66 v72 v78 v84 v90 k) S1x256x1536.size (k0_off182_inb v0 v6 v12 v18 v24 v30 v36 v42 v48 v54 v60 v66 v72 v78 v84 v90 hw k)).toLoadRect f8))) ∧ (wW (sl k.val) 6).view.read (Elt F) g8 = (wE (act k.val) 6).view.read (Elt F) fw⌝ ∗ PW c (oW (sl k.val)) fullShare g11 ∗ P5 c ft ∗ Gnext c fw act n k.val 5 ∗ OW c ∗ PW c (wW (sl k.val) 6) fullShare g8 ∗ Sem0 c (wsem (sl k.val) 6) ∗ (A2.view.loc (c : Thread nD τ) ↦{qw (sl k.val) 6} fw) ∗ P9 c f9 ∗ P10 c f10 -∗ Q r0) -∗ W c (k0_part56 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw v95 k arg18 v245 v1552 v2320) Q) := by
  have hkn := klt hn hN k
  have hk : k.val < 16 := lt_of_lt_of_le hkn hn
  rw [k0_part56_eq_skeleton]
  unfold k0_part56_skel
  try dsimp only
  iintro ⟨H8_5, H11, H5, HS5, HK5, HW, HIG6, H9, H10⟩ K
  iapply (ld8 c (sl k.val) 5 5888 (off182 k hk) (by decide) (by decide)) $$ H8_5
  iintro H8_5
  iapply (ld11 c (sl k.val) 5888 (off183 k hk) (by decide)) $$ H11
  iintro H11
  iapply (st11 c (sl k.val) 5888 (off183 k hk) (by decide)) $$ H11
  iintro H11
  iapply (ld11 c (sl k.val) 6016 (off184 k hk) (by decide)) $$ H11
  iintro H11
  iapply (st11 c (sl k.val) 6016 (off184 k hk) (by decide)) $$ H11
  iintro H11
  iapply (if42 c hw hn hN hT k) $$ [H5 H8_5 HS5 HK5]
  · isplitl [H5]; · iexact H5
    isplitl [H8_5]; · iexists _; iexact H8_5
    isplitl [HS5]; · iexact HS5
    iexact HK5
  iintro ⟨H5, HG5⟩
  iapply (lw5 c (p16 k.val) (off189 k hk)) $$ H5
  iintro H5
  iapply (W_assume c (by rw [hT _ hkn]; exact chk52 _))
  iapply (waitG c (sl k.val) 6 (act k.val) (off190 k hk) (off191 k hk)) $$ [HIG6 HW]
  · isplitl [HIG6] <;> iassumption
  iintro %g8 %hg8 H8_6 HS6 HK6 HW
  iapply (ld9 c) $$ H9
  iintro H9
  iapply (ld10 c) $$ H10
  iintro H10
  iapply W_pure
  iapply K
  isplitr; · ipureintro; exact ⟨rfl, rfl, hg8⟩
  isplitl [H11]; · iexact H11
  isplitl [H5]; · iexact H5
  isplitl [HG5]; · iexact HG5
  isplitl [HW]; · iexact HW
  isplitl [H8_6]; · iexact H8_6
  isplitl [HS6]; · iexact HS6
  isplitl [HK6]; · iexact HK6
  isplitl [H9]; · iexact H9
  iexact H10

include hw hn hN hT in
theorem part57 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v2356 : FVec F S24x1536 .f32) {Q : (FVec F S48x1536 .bf16) → sProp (MT nD τ sig Unit (Elt F) ℕ UU ℕ)} :
    iprop(P9 c f9 ∗ P10 c f10 ∗ PW c (wW (sl k.val) 6) fullShare f8 ∗ PW c (oW (sl k.val)) fullShare f11) ⊢ iprop((∀ (r0 : FVec F S48x1536 .bf16) (g11 : S2x24x7168.Idx → Elt F .bf16), ⌜r0 = (k0_pay206 (A9.view.readAt (Elt F) (Rect.unit (s := S24x1536) ![0, 0] S24x1536.size inb_S24x1536_S24x1536_0_0).toLoadRect f9) (A10.view.readAt (Elt F) (Rect.unit (s := S56x1536) ![50, 0] S1x1536.size inb_S56x1536_S1x1536_50_0).toLoadRect f10) (A9.view.readAt (Elt F) (Rect.unit (s := S24x1536) ![0, 0] S24x1536.size inb_S24x1536_S24x1536_0_0).toLoadRect f9) (A10.view.readAt (Elt F) (Rect.unit (s := S56x1536) ![51, 0] S1x1536.size inb_S56x1536_S1x1536_51_0).toLoadRect f10)) ∧ g11 = (put11 (put11 f11 (Rect.unit (s := S2x24x7168) (k0_off194 v0 v6 v12 v18 v24 v30 v36 v42 v48 v54 v60 v66 v72 v78 v84 v90 k) S1x24x128.size (k0_off194_inb v0 v6 v12 v18 v24 v30 v36 v42 v48 v54 v60 v66 v72 v78 v84 v90 hw k)) (k0_pay204 v1552 v2356 (A9.view.readAt (Elt F) (Rect.unit (s := S24x1536) ![0, 0] S24x1536.size inb_S24x1536_S24x1536_0_0).toLoadRect f9) (A10.view.readAt (Elt F) (Rect.unit (s := S56x1536) ![49, 0] S1x1536.size inb_S56x1536_S1x1536_49_0).toLoadRect f10) (A8.view.readAt (Elt F) (Rect.unit (s := S2x7168x1536) (k0_off193 v0 v6 v12 v18 v24 v30 v36 v42 v48 v54 v60 v66 v72 v78 v84 v90 k) S1x256x1536.size (k0_off193_inb v0 v6 v12 v18 v24 v30 v36 v42 v48 v54 v60 v66 v72 v78 v84 v90 hw k)).toLoadRect f8))) (Rect.unit (s := S2x24x7168) (k0_off195 v0 v6 v12 v18 v24 v30 v36 v42 v48 v54 v60 v66 v72 v78 v84 v90 k) S1x24x128.size (k0_off195_inb v0 v6 v12 v18 v24 v30 v36 v42 v48 v54 v60 v66 v72 v78 v84 v90 hw k)) (k0_pay205 v1552 v2356 (A9.view.readAt (Elt F) (Rect.unit (s := S24x1536) ![0, 0] S24x1536.size inb_S24x1536_S24x1536_0_0).toLoadRect f9) (A10.view.readAt (Elt F) (Rect.unit (s := S56x1536) ![49, 0] S1x1536.size inb_S56x1536_S1x1536_49_0).toLoadRect f10) (A8.view.readAt (Elt F) (Rect.unit (s := S2x7168x1536) (k0_off193 v0 v6 v12 v18 v24 v30 v36 v42 v48 v54 v60 v66 v72 v78 v84 v90 k) S1x256x1536.size (k0_off193_inb v0 v6 v12 v18 v24 v30 v36 v42 v48 v54 v60 v66 v72 v78 v84 v90 hw k)).toLoadRect f8)))⌝ ∗ P9 c f9 ∗ P10 c f10 ∗ PW c (wW (sl k.val) 6) fullShare f8 ∗ PW c (oW (sl k.val)) fullShare g11 -∗ Q r0) -∗ W c (k0_part57 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v2356) Q) := by
  have hkn := klt hn hN k
  have hk : k.val < 16 := lt_of_lt_of_le hkn hn
  rw [k0_part57_eq_skeleton]
  unfold k0_part57_skel
  try dsimp only
  iintro ⟨H9, H10, H8_6, H11⟩ K
  iapply (ld9 c) $$ H9
  iintro H9
  iapply (ld10 c) $$ H10
  iintro H10
  iapply (ld8 c (sl k.val) 6 6144 (off193 k hk) (by decide) (by decide)) $$ H8_6
  iintro H8_6
  iapply (ld11 c (sl k.val) 6144 (off194 k hk) (by decide)) $$ H11
  iintro H11
  iapply (st11 c (sl k.val) 6144 (off194 k hk) (by decide)) $$ H11
  iintro H11
  iapply (ld11 c (sl k.val) 6272 (off195 k hk) (by decide)) $$ H11
  iintro H11
  iapply (st11 c (sl k.val) 6272 (off195 k hk) (by decide)) $$ H11
  iintro H11
  iapply (ld9 c) $$ H9
  iintro H9
  iapply (ld10 c) $$ H10
  iintro H10
  iapply (ld9 c) $$ H9
  iintro H9
  iapply (ld10 c) $$ H10
  iintro H10
  iapply W_pure
  iapply K
  isplitr; · ipureintro; exact ⟨rfl, rfl⟩
  isplitl [H9]; · iexact H9
  isplitl [H10]; · iexact H10
  isplitl [H8_6]; · iexact H8_6
  iexact H11

include hw hn hN hT in
theorem part58 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v2392 : FVec F S48x1536 .bf16) {Q : (Σ' (v2426 : FVec F S48x256 .f32), FVec F S24x128 .bf16) → sProp (MT nD τ sig Unit (Elt F) ℕ UU ℕ)} :
    iprop(PW c (wW (sl k.val) 6) fullShare f8 ∗ PW c (oW (sl k.val)) fullShare f11 ∗ P9 c f9 ∗ P10 c f10) ⊢ iprop((∀ (r0 : FVec F S48x256 .f32) (r1 : FVec F S24x128 .bf16) (g11 : S2x24x7168.Idx → Elt F .bf16), ⌜r0 = k0_pay210 (A9.view.readAt (Elt F) (Rect.unit (s := S24x1536) ![0, 0] S24x1536.size inb_S24x1536_S24x1536_0_0).toLoadRect f9) (A10.view.readAt (Elt F) (Rect.unit (s := S56x1536) ![52, 0] S1x1536.size inb_S56x1536_S1x1536_52_0).toLoadRect f10) (A9.view.readAt (Elt F) (Rect.unit (s := S24x1536) ![0, 0] S24x1536.size inb_S24x1536_S24x1536_0_0).toLoadRect f9) (A10.view.readAt (Elt F) (Rect.unit (s := S56x1536) ![53, 0] S1x1536.size inb_S56x1536_S1x1536_53_0).toLoadRect f10) (A8.view.readAt (Elt F) (Rect.unit (s := S2x7168x1536) (k0_off199 v0 v6 v12 v18 v24 v30 v36 v42 v48 v54 v60 v66 v72 v78 v84 v90 k) S1x256x1536.size (k0_off199_inb v0 v6 v12 v18 v24 v30 v36 v42 v48 v54 v60 v66 v72 v78 v84 v90 hw k)).toLoadRect f8) ∧ r1 = k0_pay211 v1552 (A9.view.readAt (Elt F) (Rect.unit (s := S24x1536) ![0, 0] S24x1536.size inb_S24x1536_S24x1536_0_0).toLoadRect f9) (A10.view.readAt (Elt F) (Rect.unit (s := S56x1536) ![52, 0] S1x1536.size inb_S56x1536_S1x1536_52_0).toLoadRect f10) (A9.view.readAt (Elt F) (Rect.unit (s := S24x1536) ![0, 0] S24x1536.size inb_S24x1536_S24x1536_0_0).toLoadRect f9) (A10.view.readAt (Elt F) (Rect.unit (s := S56x1536) ![53, 0] S1x1536.size inb_S56x1536_S1x1536_53_0).toLoadRect f10) (A8.view.readAt (Elt F) (Rect.unit (s := S2x7168x1536) (k0_off199 v0 v6 v12 v18 v24 v30 v36 v42 v48 v54 v60 v66 v72 v78 v84 v90 k) S1x256x1536.size (k0_off199_inb v0 v6 v12 v18 v24 v30 v36 v42 v48 v54 v60 v66 v72 v78 v84 v90 hw k)).toLoadRect f8) ∧ g11 = (put11 (put11 f11 (Rect.unit (s := S2x24x7168) (k0_off197 v0 v6 v12 v18 v24 v30 v36 v42 v48 v54 v60 v66 v72 v78 v84 v90 k) S1x24x128.size (k0_off197_inb v0 v6 v12 v18 v24 v30 v36 v42 v48 v54 v60 v66 v72 v78 v84 v90 hw k)) (k0_pay208 v1552 v2392 (A8.view.readAt (Elt F) (Rect.unit (s := S2x7168x1536) (k0_off196 v0 v6 v12 v18 v24 v30 v36 v42 v48 v54 v60 v66 v72 v78 v84 v90 k) S1x256x1536.size (k0_off196_inb v0 v6 v12 v18 v24 v30 v36 v42 v48 v54 v60 v66 v72 v78 v84 v90 hw k)).toLoadRect f8))) (Rect.unit (s := S2x24x7168) (k0_off198 v0 v6 v12 v18 v24 v30 v36 v42 v48 v54 v60 v66 v72 v78 v84 v90 k) S1x24x128.size (k0_off198_inb v0 v6 v12 v18 v24 v30 v36 v42 v48 v54 v60 v66 v72 v78 v84 v90 hw k)) (k0_pay209 v1552 v2392 (A8.view.readAt (Elt F) (Rect.unit (s := S2x7168x1536) (k0_off196 v0 v6 v12 v18 v24 v30 v36 v42 v48 v54 v60 v66 v72 v78 v84 v90 k) S1x256x1536.size (k0_off196_inb v0 v6 v12 v18 v24 v30 v36 v42 v48 v54 v60 v66 v72 v78 v84 v90 hw k)).toLoadRect f8)))⌝ ∗ PW c (wW (sl k.val) 6) fullShare f8 ∗ PW c (oW (sl k.val)) fullShare g11 ∗ P9 c f9 ∗ P10 c f10 -∗ Q ⟨r0, r1⟩) -∗ W c (k0_part58 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v2392) Q) := by
  have hkn := klt hn hN k
  have hk : k.val < 16 := lt_of_lt_of_le hkn hn
  rw [k0_part58_eq_skeleton]
  unfold k0_part58_skel
  try dsimp only
  iintro ⟨H8_6, H11, H9, H10⟩ K
  iapply (ld8 c (sl k.val) 6 6400 (off196 k hk) (by decide) (by decide)) $$ H8_6
  iintro H8_6
  iapply (ld11 c (sl k.val) 6400 (off197 k hk) (by decide)) $$ H11
  iintro H11
  iapply (st11 c (sl k.val) 6400 (off197 k hk) (by decide)) $$ H11
  iintro H11
  iapply (ld11 c (sl k.val) 6528 (off198 k hk) (by decide)) $$ H11
  iintro H11
  iapply (st11 c (sl k.val) 6528 (off198 k hk) (by decide)) $$ H11
  iintro H11
  iapply (ld9 c) $$ H9
  iintro H9
  iapply (ld10 c) $$ H10
  iintro H10
  iapply (ld9 c) $$ H9
  iintro H9
  iapply (ld10 c) $$ H10
  iintro H10
  iapply (ld8 c (sl k.val) 6 6656 (off199 k hk) (by decide) (by decide)) $$ H8_6
  iintro H8_6
  iapply W_pure
  iapply K
  isplitr; · ipureintro; exact ⟨rfl, rfl, rfl⟩
  isplitl [H8_6]; · iexact H8_6
  isplitl [H11]; · iexact H11
  isplitl [H9]; · iexact H9
  iexact H10

include hw hn hN hT in
theorem part59 {f9 : S24x1536.Idx → Elt F .f32} {f10 : S56x1536.Idx → Elt F .f32} {f11 : S2x24x7168.Idx → Elt F .bf16} {f8 : S2x7168x1536.Idx → Elt F .fp8e4m3} (v245 : BitVec 32) (v1552 : IVec S24x128 1) (v2426 : FVec F S48x256 .f32) (v2430 : FVec F S24x128 .bf16) {Q : (FVec F S24x128 .bf16) → sProp (MT nD τ sig Unit (Elt F) ℕ UU ℕ)} :
    iprop(PW c (oW (sl k.val)) fullShare f11 ∗ P9 c f9 ∗ P10 c f10 ∗ PW c (wW (sl k.val) 6) fullShare f8) ⊢ iprop((∀ (r0 : FVec F S24x128 .bf16) (g11 : S2x24x7168.Idx → Elt F .bf16), ⌜r0 = (k0_pay216 v1552 (A9.view.readAt (Elt F) (Rect.unit (s := S24x1536) ![0, 0] S24x1536.size inb_S24x1536_S24x1536_0_0).toLoadRect f9) (A10.view.readAt (Elt F) (Rect.unit (s := S56x1536) ![54, 0] S1x1536.size inb_S56x1536_S1x1536_54_0).toLoadRect f10) (A9.view.readAt (Elt F) (Rect.unit (s := S24x1536) ![0, 0] S24x1536.size inb_S24x1536_S24x1536_0_0).toLoadRect f9) (A10.view.readAt (Elt F) (Rect.unit (s := S56x1536) ![55, 0] S1x1536.size inb_S56x1536_S1x1536_55_0).toLoadRect f10) (A8.view.readAt (Elt F) (Rect.unit (s := S2x7168x1536) (k0_off202 v0 v6 v12 v18 v24 v30 v36 v42 v48 v54 v60 v66 v72 v78 v84 v90 k) S1x256x1536.size (k0_off202_inb v0 v6 v12 v18 v24 v30 v36 v42 v48 v54 v60 v66 v72 v78 v84 v90 hw k)).toLoadRect f8)) ∧ g11 = (put11 (put11 (put11 f11 (Rect.unit (s := S2x24x7168) (k0_off200 v0 v6 v12 v18 v24 v30 v36 v42 v48 v54 v60 v66 v72 v78 v84 v90 k) S1x24x128.size (k0_off200_inb v0 v6 v12 v18 v24 v30 v36 v42 v48 v54 v60 v66 v72 v78 v84 v90 hw k)) (k0_pay212 v2430)) (Rect.unit (s := S2x24x7168) (k0_off201 v0 v6 v12 v18 v24 v30 v36 v42 v48 v54 v60 v66 v72 v78 v84 v90 k) S1x24x128.size (k0_off201_inb v0 v6 v12 v18 v24 v30 v36 v42 v48 v54 v60 v66 v72 v78 v84 v90 hw k)) (k0_pay213 v1552 v2426)) (Rect.unit (s := S2x24x7168) (k0_off203 v0 v6 v12 v18 v24 v30 v36 v42 v48 v54 v60 v66 v72 v78 v84 v90 k) S1x24x128.size (k0_off203_inb v0 v6 v12 v18 v24 v30 v36 v42 v48 v54 v60 v66 v72 v78 v84 v90 hw k)) (k0_pay215 v1552 (A9.view.readAt (Elt F) (Rect.unit (s := S24x1536) ![0, 0] S24x1536.size inb_S24x1536_S24x1536_0_0).toLoadRect f9) (A10.view.readAt (Elt F) (Rect.unit (s := S56x1536) ![54, 0] S1x1536.size inb_S56x1536_S1x1536_54_0).toLoadRect f10) (A9.view.readAt (Elt F) (Rect.unit (s := S24x1536) ![0, 0] S24x1536.size inb_S24x1536_S24x1536_0_0).toLoadRect f9) (A10.view.readAt (Elt F) (Rect.unit (s := S56x1536) ![55, 0] S1x1536.size inb_S56x1536_S1x1536_55_0).toLoadRect f10) (A8.view.readAt (Elt F) (Rect.unit (s := S2x7168x1536) (k0_off202 v0 v6 v12 v18 v24 v30 v36 v42 v48 v54 v60 v66 v72 v78 v84 v90 k) S1x256x1536.size (k0_off202_inb v0 v6 v12 v18 v24 v30 v36 v42 v48 v54 v60 v66 v72 v78 v84 v90 hw k)).toLoadRect f8)))⌝ ∗ PW c (oW (sl k.val)) fullShare g11 ∗ P9 c f9 ∗ P10 c f10 ∗ PW c (wW (sl k.val) 6) fullShare f8 -∗ Q r0) -∗ W c (k0_part59 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw k v245 v1552 v2426 v2430) Q) := by
  have hkn := klt hn hN k
  have hk : k.val < 16 := lt_of_lt_of_le hkn hn
  rw [k0_part59_eq_skeleton]
  unfold k0_part59_skel
  try dsimp only
  iintro ⟨H11, H9, H10, H8_6⟩ K
  iapply (ld11 c (sl k.val) 6656 (off200 k hk) (by decide)) $$ H11
  iintro H11
  iapply (st11 c (sl k.val) 6656 (off200 k hk) (by decide)) $$ H11
  iintro H11
  iapply (ld11 c (sl k.val) 6784 (off201 k hk) (by decide)) $$ H11
  iintro H11
  iapply (st11 c (sl k.val) 6784 (off201 k hk) (by decide)) $$ H11
  iintro H11
  iapply (ld9 c) $$ H9
  iintro H9
  iapply (ld10 c) $$ H10
  iintro H10
  iapply (ld9 c) $$ H9
  iintro H9
  iapply (ld10 c) $$ H10
  iintro H10
  iapply (ld8 c (sl k.val) 6 6912 (off202 k hk) (by decide) (by decide)) $$ H8_6
  iintro H8_6
  iapply (ld11 c (sl k.val) 6912 (off203 k hk) (by decide)) $$ H11
  iintro H11
  iapply (st11 c (sl k.val) 6912 (off203 k hk) (by decide)) $$ H11
  iintro H11
  iapply W_pure
  iapply K
  isplitr; · ipureintro; exact ⟨rfl, rfl⟩
  isplitl [H11]; · iexact H11
  isplitl [H9]; · iexact H9
  isplitl [H10]; · iexact H10
  iexact H8_6

end Cert.Proof.KernelIdeal
end
end
-- ==== Proof.KernelIdeal.Pays.lean ====
module

public import proofs.«01_k».proof.Proof.KernelIdeal.PartsB

@[expose] public section

set_option maxRecDepth 16384

noncomputable section

namespace Cert.Proof.KernelIdeal

open Cert.KernelIdeal
open Idealize.ShloMosaic
open Cert.KernelIdeal.Gen

variable {F : FTy → Type} [FloatOps F]

/-- One block of 128 inputs, quantised and read back. -/
def blk (L : Vec F S1x24x128 .bf16) : FVec F S24x128 .f32 :=
  k0_pay9 (k0_pay2 L) (k0_pay3 L) (k0_pay6 (k0_pay3 L) k0_pay4 k0_pay5) (k0_pay7 (k0_pay3 L) k0_pay4 k0_pay5) (k0_pay8 (k0_pay3 L) k0_pay4 k0_pay5)

theorem blk_1 (L : Vec F S1x24x128 .bf16) : k0_pay18 (k0_pay16 (k0_pay13 L) (k0_pay14 L) k0_pay15) (k0_pay17 (k0_pay12 L) (k0_pay13 L) (k0_pay14 L) k0_pay15) ((Scalar.ofBits .f32 0xC3E00000#32)) = blk L := rfl

theorem blk_2 (L : Vec F S1x24x128 .bf16) : k0_pay27 (k0_pay20 L) (k0_pay25 (k0_pay21 L) (k0_pay22 L) (k0_pay23 L) k0_pay24) k0_pay26 = blk L := rfl

theorem blk_3 (L : Vec F S1x24x128 .bf16) : k0_pay39 (k0_pay36 (k0_pay30 ((k0_pay29 L))) (k0_pay31 ((k0_pay29 L))) (k0_pay32 ((k0_pay29 L))) (k0_pay33 ((k0_pay29 L))) k0_pay34) (k0_pay37 (k0_pay31 ((k0_pay29 L))) (k0_pay32 ((k0_pay29 L))) (k0_pay33 ((k0_pay29 L))) k0_pay34) k0_pay38 = blk L := rfl

theorem blk_4 (L : Vec F S1x24x128 .bf16) : k0_pay47 (k0_pay41 L) (k0_pay46 (k0_pay42 L) (k0_pay43 L) (k0_pay44 L) (k0_pay45 L)) (0#32) = blk L := rfl

theorem blk_5 (L : Vec F S1x24x128 .bf16) : k0_pay56 (k0_pay49 L) (k0_pay50 L) (k0_pay53 (k0_pay50 L) k0_pay51 k0_pay52) (k0_pay54 (k0_pay50 L) k0_pay51 k0_pay52) (k0_pay55 (k0_pay50 L) k0_pay51 k0_pay52) = blk L := rfl

theorem blk_6 (L : Vec F S1x24x128 .bf16) : k0_pay65 (k0_pay63 (k0_pay60 L) (k0_pay61 L) k0_pay62) (k0_pay64 (k0_pay59 L) (k0_pay60 L) (k0_pay61 L) k0_pay62) ((Scalar.ofBits .f32 0xC3E00000#32)) = blk L := rfl

theorem blk_7 (L : Vec F S1x24x128 .bf16) : k0_pay74 (k0_pay67 L) (k0_pay72 (k0_pay68 L) (k0_pay69 L) (k0_pay70 L) k0_pay71) k0_pay73 = blk L := rfl

theorem blk_8 (L : Vec F S1x24x128 .bf16) : k0_pay86 (k0_pay83 (k0_pay77 ((k0_pay76 L))) (k0_pay78 ((k0_pay76 L))) (k0_pay79 ((k0_pay76 L))) (k0_pay80 ((k0_pay76 L))) k0_pay81) (k0_pay84 (k0_pay78 ((k0_pay76 L))) (k0_pay79 ((k0_pay76 L))) (k0_pay80 ((k0_pay76 L))) k0_pay81) k0_pay85 = blk L := rfl

theorem blk_9 (L : Vec F S1x24x128 .bf16) : k0_pay94 (k0_pay88 L) (k0_pay93 (k0_pay89 L) (k0_pay90 L) (k0_pay91 L) (k0_pay92 L)) (0#32) = blk L := rfl

theorem blk_10 (L : Vec F S1x24x128 .bf16) : k0_pay103 (k0_pay96 L) (k0_pay97 L) (k0_pay100 (k0_pay97 L) k0_pay98 k0_pay99) (k0_pay101 (k0_pay97 L) k0_pay98 k0_pay99) (k0_pay102 (k0_pay97 L) k0_pay98 k0_pay99) = blk L := rfl

theorem blk_11 (L : Vec F S1x24x128 .bf16) : k0_pay112 (k0_pay110 (k0_pay107 L) (k0_pay108 L) k0_pay109) (k0_pay111 (k0_pay106 L) (k0_pay107 L) (k0_pay108 L) k0_pay109) ((Scalar.ofBits .f32 0xC3E00000#32)) = blk L := rfl

/-- A block of results: the half of the product that its scales fit, masked. -/
def outE (g : Elt F .i32) (X : Vec F S24x1536 .f32) (ra rb : Vec F S1x1536 .f32) (w : Vec F S1x256x1536 .fp8e4m3) : FVec F S1x24x128 .bf16 :=
  k0_pay116 (k0_pay114 (g)) X ra X rb w

/-- A block of results: the half of the product that its scales fit, masked. -/
def outO (g : Elt F .i32) (X : Vec F S24x1536 .f32) (ra rb : Vec F S1x1536 .f32) (w : Vec F S1x256x1536 .fp8e4m3) : FVec F S1x24x128 .bf16 :=
  k0_pay117 (k0_pay114 (g)) X ra X rb w

theorem out_2 (g : Elt F .i32) (X : Vec F S24x1536 .f32) (ra rb : Vec F S1x1536 .f32) (w : Vec F S1x256x1536 .fp8e4m3) : k0_pay120 (k0_pay114 (g)) ((k0_pay118 X ra)) X rb w = outE g X ra rb w := rfl

theorem out_3 (g : Elt F .i32) (X : Vec F S24x1536 .f32) (ra rb : Vec F S1x1536 .f32) (w : Vec F S1x256x1536 .fp8e4m3) : k0_pay121 (k0_pay114 (g)) ((k0_pay118 X ra)) X rb w = outO g X ra rb w := rfl

theorem out_4 (g : Elt F .i32) (X : Vec F S24x1536 .f32) (ra rb : Vec F S1x1536 .f32) (w : Vec F S1x256x1536 .fp8e4m3) : k0_pay124 (k0_pay114 (g)) ((k0_pay122 X ra X rb)) w = outE g X ra rb w := rfl

theorem out_5 (g : Elt F .i32) (X : Vec F S24x1536 .f32) (ra rb : Vec F S1x1536 .f32) (w : Vec F S1x256x1536 .fp8e4m3) : k0_pay125 (k0_pay114 (g)) ((k0_pay122 X ra X rb)) w = outO g X ra rb w := rfl

theorem out_6 (g : Elt F .i32) (X : Vec F S24x1536 .f32) (ra rb : Vec F S1x1536 .f32) (w : Vec F S1x256x1536 .fp8e4m3) : k0_pay128 (k0_pay127 (k0_pay114 (g)) X ra X rb w) = outE g X ra rb w := rfl

theorem out_7 (g : Elt F .i32) (X : Vec F S24x1536 .f32) (ra rb : Vec F S1x1536 .f32) (w : Vec F S1x256x1536 .fp8e4m3) : k0_pay129 (k0_pay114 (g)) (k0_pay126 X ra X rb w) = outO g X ra rb w := rfl

theorem out_8 (g : Elt F .i32) (X : Vec F S24x1536 .f32) (ra rb : Vec F S1x1536 .f32) (w : Vec F S1x256x1536 .fp8e4m3) : k0_pay132 (k0_pay114 (g)) ((k0_pay130 X ra X rb)) w = outE g X ra rb w := rfl

theorem out_9 (g : Elt F .i32) (X : Vec F S24x1536 .f32) (ra rb : Vec F S1x1536 .f32) (w : Vec F S1x256x1536 .fp8e4m3) : k0_pay133 (k0_pay114 (g)) ((k0_pay130 X ra X rb)) w = outO g X ra rb w := rfl

theorem out_10 (g : Elt F .i32) (X : Vec F S24x1536 .f32) (ra rb : Vec F S1x1536 .f32) (w : Vec F S1x256x1536 .fp8e4m3) : k0_pay136 (k0_pay135 (k0_pay114 (g)) X ra X rb w) = outE g X ra rb w := rfl

theorem out_11 (g : Elt F .i32) (X : Vec F S24x1536 .f32) (ra rb : Vec F S1x1536 .f32) (w : Vec F S1x256x1536 .fp8e4m3) : k0_pay137 (k0_pay114 (g)) (k0_pay134 X ra X rb w) = outO g X ra rb w := rfl

theorem out_12 (g : Elt F .i32) (X : Vec F S24x1536 .f32) (ra rb : Vec F S1x1536 .f32) (w : Vec F S1x256x1536 .fp8e4m3) : k0_pay139 (k0_pay114 (g)) X ra X rb w = outE g X ra rb w := rfl

theorem out_13 (g : Elt F .i32) (X : Vec F S24x1536 .f32) (ra rb : Vec F S1x1536 .f32) (w : Vec F S1x256x1536 .fp8e4m3) : k0_pay141 ((k0_pay140 (k0_pay114 (g)) X ra X rb w)) = outO g X ra rb w := rfl

theorem out_14 (g : Elt F .i32) (X : Vec F S24x1536 .f32) (ra rb : Vec F S1x1536 .f32) (w : Vec F S1x256x1536 .fp8e4m3) : k0_pay143 (k0_pay114 (g)) X ra X rb w = outE g X ra rb w := rfl

theorem out_15 (g : Elt F .i32) (X : Vec F S24x1536 .f32) (ra rb : Vec F S1x1536 .f32) (w : Vec F S1x256x1536 .fp8e4m3) : k0_pay144 (k0_pay114 (g)) X ra X rb w = outO g X ra rb w := rfl

theorem out_16 (g : Elt F .i32) (X : Vec F S24x1536 .f32) (ra rb : Vec F S1x1536 .f32) (w : Vec F S1x256x1536 .fp8e4m3) : k0_pay146 (k0_pay114 (g)) X ra X rb w = outE g X ra rb w := rfl

theorem out_17 (g : Elt F .i32) (X : Vec F S24x1536 .f32) (ra rb : Vec F S1x1536 .f32) (w : Vec F S1x256x1536 .fp8e4m3) : k0_pay148 ((k0_pay147 (k0_pay114 (g)) X ra X rb w)) = outO g X ra rb w := rfl

theorem out_18 (g : Elt F .i32) (X : Vec F S24x1536 .f32) (ra rb : Vec F S1x1536 .f32) (w : Vec F S1x256x1536 .fp8e4m3) : k0_pay150 (k0_pay114 (g)) X ra X rb w = outE g X ra rb w := rfl

theorem out_19 (g : Elt F .i32) (X : Vec F S24x1536 .f32) (ra rb : Vec F S1x1536 .f32) (w : Vec F S1x256x1536 .fp8e4m3) : k0_pay151 (k0_pay114 (g)) X ra X rb w = outO g X ra rb w := rfl

theorem out_20 (g : Elt F .i32) (X : Vec F S24x1536 .f32) (ra rb : Vec F S1x1536 .f32) (w : Vec F S1x256x1536 .fp8e4m3) : k0_pay153 (k0_pay114 (g)) X ra X rb w = outE g X ra rb w := rfl

theorem out_21 (g : Elt F .i32) (X : Vec F S24x1536 .f32) (ra rb : Vec F S1x1536 .f32) (w : Vec F S1x256x1536 .fp8e4m3) : k0_pay154 (k0_pay114 (g)) X ra X rb w = outO g X ra rb w := rfl

theorem out_22 (g : Elt F .i32) (X : Vec F S24x1536 .f32) (ra rb : Vec F S1x1536 .f32) (w : Vec F S1x256x1536 .fp8e4m3) : k0_pay158 (k0_pay114 (g)) (k0_pay155 X ra) X (k0_pay156 rb) w = outE g X ra rb w := rfl

theorem out_23 (g : Elt F .i32) (X : Vec F S24x1536 .f32) (ra rb : Vec F S1x1536 .f32) (w : Vec F S1x256x1536 .fp8e4m3) : k0_pay159 (k0_pay114 (g)) (k0_pay155 X ra) X (k0_pay156 rb) w = outO g X ra rb w := rfl

theorem out_24 (g : Elt F .i32) (X : Vec F S24x1536 .f32) (ra rb : Vec F S1x1536 .f32) (w : Vec F S1x256x1536 .fp8e4m3) : k0_pay161 (k0_pay114 (g)) X ra X rb w = outE g X ra rb w := rfl

theorem out_25 (g : Elt F .i32) (X : Vec F S24x1536 .f32) (ra rb : Vec F S1x1536 .f32) (w : Vec F S1x256x1536 .fp8e4m3) : k0_pay162 (k0_pay114 (g)) X ra X rb w = outO g X ra rb w := rfl

theorem out_26 (g : Elt F .i32) (X : Vec F S24x1536 .f32) (ra rb : Vec F S1x1536 .f32) (w : Vec F S1x256x1536 .fp8e4m3) : k0_pay166 (k0_pay114 (g)) (k0_pay163 X ra) X (k0_pay164 rb) w = outE g X ra rb w := rfl

theorem out_27 (g : Elt F .i32) (X : Vec F S24x1536 .f32) (ra rb : Vec F S1x1536 .f32) (w : Vec F S1x256x1536 .fp8e4m3) : k0_pay167 (k0_pay114 (g)) (k0_pay163 X ra) X (k0_pay164 rb) w = outO g X ra rb w := rfl

theorem out_28 (g : Elt F .i32) (X : Vec F S24x1536 .f32) (ra rb : Vec F S1x1536 .f32) (w : Vec F S1x256x1536 .fp8e4m3) : k0_pay170 (k0_pay114 (g)) (k0_pay169 X ra X rb w) = outE g X ra rb w := rfl

theorem out_29 (g : Elt F .i32) (X : Vec F S24x1536 .f32) (ra rb : Vec F S1x1536 .f32) (w : Vec F S1x256x1536 .fp8e4m3) : k0_pay171 (k0_pay114 (g)) (k0_pay168 X ra X rb w) = outO g X ra rb w := rfl

theorem out_30 (g : Elt F .i32) (X : Vec F S24x1536 .f32) (ra rb : Vec F S1x1536 .f32) (w : Vec F S1x256x1536 .fp8e4m3) : k0_pay173 (k0_pay114 (g)) X ra X rb w = outE g X ra rb w := rfl

theorem out_31 (g : Elt F .i32) (X : Vec F S24x1536 .f32) (ra rb : Vec F S1x1536 .f32) (w : Vec F S1x256x1536 .fp8e4m3) : k0_pay174 (k0_pay114 (g)) ((k0_pay172 X ra X rb w)) = outO g X ra rb w := rfl

theorem out_32 (g : Elt F .i32) (X : Vec F S24x1536 .f32) (ra rb : Vec F S1x1536 .f32) (w : Vec F S1x256x1536 .fp8e4m3) : k0_pay177 (k0_pay114 (g)) (k0_pay176 X ra X rb w) = outE g X ra rb w := rfl

theorem out_33 (g : Elt F .i32) (X : Vec F S24x1536 .f32) (ra rb : Vec F S1x1536 .f32) (w : Vec F S1x256x1536 .fp8e4m3) : k0_pay178 (k0_pay114 (g)) (k0_pay175 X ra X rb w) = outO g X ra rb w := rfl

theorem out_34 (g : Elt F .i32) (X : Vec F S24x1536 .f32) (ra rb : Vec F S1x1536 .f32) (w : Vec F S1x256x1536 .fp8e4m3) : k0_pay180 (k0_pay114 (g)) X ra X rb w = outE g X ra rb w := rfl

theorem out_35 (g : Elt F .i32) (X : Vec F S24x1536 .f32) (ra rb : Vec F S1x1536 .f32) (w : Vec F S1x256x1536 .fp8e4m3) : k0_pay181 (k0_pay114 (g)) ((k0_pay179 X ra X rb w)) = outO g X ra rb w := rfl

theorem out_36 (g : Elt F .i32) (X : Vec F S24x1536 .f32) (ra rb : Vec F S1x1536 .f32) (w : Vec F S1x256x1536 .fp8e4m3) : k0_pay183 (k0_pay114 (g)) X ra X rb w = outE g X ra rb w := rfl

theorem out_37 (g : Elt F .i32) (X : Vec F S24x1536 .f32) (ra rb : Vec F S1x1536 .f32) (w : Vec F S1x256x1536 .fp8e4m3) : (k0_pay184 (k0_pay114 (g)) X ra X rb w) = outO g X ra rb w := rfl

theorem out_38 (g : Elt F .i32) (X : Vec F S24x1536 .f32) (ra rb : Vec F S1x1536 .f32) (w : Vec F S1x256x1536 .fp8e4m3) : k0_pay186 (k0_pay114 (g)) X ra X rb w = outE g X ra rb w := rfl

theorem out_39 (g : Elt F .i32) (X : Vec F S24x1536 .f32) (ra rb : Vec F S1x1536 .f32) (w : Vec F S1x256x1536 .fp8e4m3) : k0_pay187 (k0_pay114 (g)) X ra X rb w = outO g X ra rb w := rfl

theorem out_40 (g : Elt F .i32) (X : Vec F S24x1536 .f32) (ra rb : Vec F S1x1536 .f32) (w : Vec F S1x256x1536 .fp8e4m3) : k0_pay189 (k0_pay114 (g)) X ra X rb w = outE g X ra rb w := rfl

theorem out_41 (g : Elt F .i32) (X : Vec F S24x1536 .f32) (ra rb : Vec F S1x1536 .f32) (w : Vec F S1x256x1536 .fp8e4m3) : (k0_pay190 (k0_pay114 (g)) X ra X rb w) = outO g X ra rb w := rfl

theorem out_42 (g : Elt F .i32) (X : Vec F S24x1536 .f32) (ra rb : Vec F S1x1536 .f32) (w : Vec F S1x256x1536 .fp8e4m3) : k0_pay192 (k0_pay114 (g)) X ra X rb w = outE g X ra rb w := rfl

theorem out_43 (g : Elt F .i32) (X : Vec F S24x1536 .f32) (ra rb : Vec F S1x1536 .f32) (w : Vec F S1x256x1536 .fp8e4m3) : k0_pay193 (k0_pay114 (g)) X ra X rb w = outO g X ra rb w := rfl

theorem out_44 (g : Elt F .i32) (X : Vec F S24x1536 .f32) (ra rb : Vec F S1x1536 .f32) (w : Vec F S1x256x1536 .fp8e4m3) : k0_pay196 (k0_pay114 (g)) ((k0_pay194 X ra)) X rb w = outE g X ra rb w := rfl

theorem out_45 (g : Elt F .i32) (X : Vec F S24x1536 .f32) (ra rb : Vec F S1x1536 .f32) (w : Vec F S1x256x1536 .fp8e4m3) : k0_pay197 (k0_pay114 (g)) ((k0_pay194 X ra)) X rb w = outO g X ra rb w := rfl

theorem out_46 (g : Elt F .i32) (X : Vec F S24x1536 .f32) (ra rb : Vec F S1x1536 .f32) (w : Vec F S1x256x1536 .fp8e4m3) : k0_pay200 (k0_pay114 (g)) ((k0_pay198 X ra X rb)) w = outE g X ra rb w := rfl

theorem out_47 (g : Elt F .i32) (X : Vec F S24x1536 .f32) (ra rb : Vec F S1x1536 .f32) (w : Vec F S1x256x1536 .fp8e4m3) : k0_pay201 (k0_pay114 (g)) ((k0_pay198 X ra X rb)) w = outO g X ra rb w := rfl

theorem out_48 (g : Elt F .i32) (X : Vec F S24x1536 .f32) (ra rb : Vec F S1x1536 .f32) (w : Vec F S1x256x1536 .fp8e4m3) : k0_pay204 (k0_pay114 (g)) ((k0_pay202 X ra)) X rb w = outE g X ra rb w := rfl

theorem out_49 (g : Elt F .i32) (X : Vec F S24x1536 .f32) (ra rb : Vec F S1x1536 .f32) (w : Vec F S1x256x1536 .fp8e4m3) : k0_pay205 (k0_pay114 (g)) ((k0_pay202 X ra)) X rb w = outO g X ra rb w := rfl

theorem out_50 (g : Elt F .i32) (X : Vec F S24x1536 .f32) (ra rb : Vec F S1x1536 .f32) (w : Vec F S1x256x1536 .fp8e4m3) : k0_pay208 (k0_pay114 (g)) ((k0_pay206 X ra X rb)) w = outE g X ra rb w := rfl

theorem out_51 (g : Elt F .i32) (X : Vec F S24x1536 .f32) (ra rb : Vec F S1x1536 .f32) (w : Vec F S1x256x1536 .fp8e4m3) : k0_pay209 (k0_pay114 (g)) ((k0_pay206 X ra X rb)) w = outO g X ra rb w := rfl

theorem out_52 (g : Elt F .i32) (X : Vec F S24x1536 .f32) (ra rb : Vec F S1x1536 .f32) (w : Vec F S1x256x1536 .fp8e4m3) : k0_pay212 (k0_pay211 (k0_pay114 (g)) X ra X rb w) = outE g X ra rb w := rfl

theorem out_53 (g : Elt F .i32) (X : Vec F S24x1536 .f32) (ra rb : Vec F S1x1536 .f32) (w : Vec F S1x256x1536 .fp8e4m3) : k0_pay213 (k0_pay114 (g)) (k0_pay210 X ra X rb w) = outO g X ra rb w := rfl

theorem out_54 (g : Elt F .i32) (X : Vec F S24x1536 .f32) (ra rb : Vec F S1x1536 .f32) (w : Vec F S1x256x1536 .fp8e4m3) : k0_pay215 (k0_pay114 (g)) X ra X rb w = outE g X ra rb w := rfl

theorem out_55 (g : Elt F .i32) (X : Vec F S24x1536 .f32) (ra rb : Vec F S1x1536 .f32) (w : Vec F S1x256x1536 .fp8e4m3) : k0_pay217 (k0_pay216 (k0_pay114 (g)) X ra X rb w) = outO g X ra rb w := rfl

end Cert.Proof.KernelIdeal
-- ==== Proof.KernelIdeal.Val.lean ====
module

public import proofs.«01_k».proof.Proof.KernelIdeal.Pays
public import Idealize.ShloMosaic.Lib.VecWindow
public import Idealize.ShloMosaic.Lib.Pipeline.Value

@[expose] public section

set_option maxRecDepth 16384

noncomputable section

namespace Cert.Proof.KernelIdeal

open Cert.KernelIdeal
open Idealize.ShloMosaic
open Cert.KernelIdeal.Gen

/-- An index of a shape of two axes. -/
def ix2 {a b : ℕ} (i : Fin a) (j : Fin b) : (⟨2, ![a, b]⟩ : Shape).Idx :=
  Fin.cons (α := fun t => Fin (![a, b] t)) i (Fin.cons (α := fun t => Fin (![a, b] (Fin.succ t))) j fun t => t.elim0)
/-- An index of a shape of three axes. -/
def ix3 {a b c : ℕ} (i : Fin a) (j : Fin b) (k : Fin c) : (⟨3, ![a, b, c]⟩ : Shape).Idx :=
  Fin.cons (α := fun t => Fin (![a, b, c] t)) i (ix2 j k)

theorem ix2_eta {a b : ℕ} (x : (⟨2, ![a, b]⟩ : Shape).Idx) : ix2 (a := a) (b := b) (x 0) (x 1) = x := by
  funext t; fin_cases t <;> rfl
theorem ix3_eta {a b c : ℕ} (x : (⟨3, ![a, b, c]⟩ : Shape).Idx) : ix3 (a := a) (b := b) (c := c) (x 0) (x 1) (x 2) = x := by
  funext t; fin_cases t <;> rfl
theorem ix2_ext {a b : ℕ} {x y : (⟨2, ![a, b]⟩ : Shape).Idx} (h0 : (x 0).val = (y 0).val) (h1 : (x 1).val = (y 1).val) : x = y := by
  funext t; fin_cases t
  · exact Fin.ext h0
  · exact Fin.ext h1
theorem ix3_ext {a b c : ℕ} {x y : (⟨3, ![a, b, c]⟩ : Shape).Idx} (h0 : (x 0).val = (y 0).val) (h1 : (x 1).val = (y 1).val) (h2 : (x 2).val = (y 2).val) : x = y := by
  funext t; fin_cases t
  · exact Fin.ext h0
  · exact Fin.ext h1
  · exact Fin.ext h2

/-- Dropping a leading axis of one. -/
theorem reshape_unit {a b : ℕ} (h : (⟨2, ![a, b]⟩ : Shape).numel = (⟨3, ![1, a, b]⟩ : Shape).numel) (x : (⟨2, ![a, b]⟩ : Shape).Idx) :
    Shape.reshapeEquiv h x = ix3 (0 : Fin 1) (x 0) (x 1) := by
  apply Shape.reshapeEquiv_eq_of_rowMajor
  show (Shape.rowMajorPi ![1, a, b] (ix3 (0 : Fin 1) (x 0) (x 1))).val = (Shape.rowMajorPi ![a, b] x).val
  rw [Shape.rowMajorPi_succ_val]
  show 0 * _ + (Shape.rowMajorPi ![a, b] (fun t => ix3 (0 : Fin 1) (x 0) (x 1) t.succ)).val = _
  rw [Nat.zero_mul, Nat.zero_add]
  congr 2
  exact ix2_eta x

variable {F : FTy → Type} [FloatOps F]

theorem xW_read (s : Fin 2) (f : S2x24x1536.Idx → Elt F .bf16) (i : Fin 24) (j : Fin 1536) :
    (xW s).view.read (Elt F) f (ix2 i j) = f (ix3 s i j) := by
  show f ((Rect.unit (s := S2x24x1536) ![s.val, 0, 0] S1x24x1536.size (inb_x s)).emb (Shape.reshapeEquiv _ (ix2 i j))) = _
  refine (congrArg (fun z => f ((Rect.unit (s := S2x24x1536) ![s.val, 0, 0] S1x24x1536.size (inb_x s)).emb z)) (reshape_unit _ _)).trans (congrArg f (ix3_ext ?_ ?_ ?_))
  · show s.val + 1 * 0 = s.val; omega
  · show 0 + 1 * i.val = i.val; omega
  · show 0 + 1 * j.val = j.val; omega
theorem xE_read (e : Fin 16) (f : S16x24x1536.Idx → Elt F .bf16) (i : Fin 24) (j : Fin 1536) :
    (xE e).view.read (Elt F) f (ix2 i j) = f (ix3 e i j) := by
  show f ((Rect.unit (s := S16x24x1536) ![e.val, 0, 0] S1x24x1536.size (inb_xE e)).emb (Shape.reshapeEquiv _ (ix2 i j))) = _
  refine (congrArg (fun z => f ((Rect.unit (s := S16x24x1536) ![e.val, 0, 0] S1x24x1536.size (inb_xE e)).emb z)) (reshape_unit _ _)).trans (congrArg f (ix3_ext ?_ ?_ ?_))
  · show e.val + 1 * 0 = e.val; omega
  · show 0 + 1 * i.val = i.val; omega
  · show 0 + 1 * j.val = j.val; omega
theorem sW_read (s : Fin 2) (f : S2x56x12.Idx → Elt F .f32) (i : Fin 56) (j : Fin 12) :
    (sW s).view.read (Elt F) f (ix2 i j) = f (ix3 s i j) := by
  show f ((Rect.unit (s := S2x56x12) ![s.val, 0, 0] S1x56x12.size (inb_s s)).emb (Shape.reshapeEquiv _ (ix2 i j))) = _
  refine (congrArg (fun z => f ((Rect.unit (s := S2x56x12) ![s.val, 0, 0] S1x56x12.size (inb_s s)).emb z)) (reshape_unit _ _)).trans (congrArg f (ix3_ext ?_ ?_ ?_))
  · show s.val + 1 * 0 = s.val; omega
  · show 0 + 1 * i.val = i.val; omega
  · show 0 + 1 * j.val = j.val; omega
theorem sE_read (e : Fin 16) (f : S16x56x12.Idx → Elt F .f32) (i : Fin 56) (j : Fin 12) :
    (sE e).view.read (Elt F) f (ix2 i j) = f (ix3 e i j) := by
  show f ((Rect.unit (s := S16x56x12) ![e.val, 0, 0] S1x56x12.size (inb_sE e)).emb (Shape.reshapeEquiv _ (ix2 i j))) = _
  refine (congrArg (fun z => f ((Rect.unit (s := S16x56x12) ![e.val, 0, 0] S1x56x12.size (inb_sE e)).emb z)) (reshape_unit _ _)).trans (congrArg f (ix3_ext ?_ ?_ ?_))
  · show e.val + 1 * 0 = e.val; omega
  · show 0 + 1 * i.val = i.val; omega
  · show 0 + 1 * j.val = j.val; omega
theorem wW_read (s : Fin 2) (q : Fin 7) (f : S2x7168x1536.Idx → Elt F .fp8e4m3) (i : Fin 1024) (j : Fin 1536) (i' : Fin 7168) (hi : i'.val = 1024 * q.val + i.val) :
    (wW s q).view.read (Elt F) f (ix2 i j) = f (ix3 s i' j) := by
  show f ((Rect.unit (s := S2x7168x1536) ![s.val, 1024 * q.val, 0] S1x1024x1536.size (inb_w s q)).emb (Shape.reshapeEquiv _ (ix2 i j))) = _
  refine (congrArg (fun z => f ((Rect.unit (s := S2x7168x1536) ![s.val, 1024 * q.val, 0] S1x1024x1536.size (inb_w s q)).emb z)) (reshape_unit _ _)).trans (congrArg f (ix3_ext ?_ ?_ ?_))
  · show s.val + 1 * 0 = s.val; omega
  · show 1024 * q.val + 1 * i.val = i'.val; omega
  · show 0 + 1 * j.val = j.val; omega
theorem wE_read (e : Fin 16) (q : Fin 7) (f : S16x7168x1536.Idx → Elt F .fp8e4m3) (i : Fin 1024) (j : Fin 1536) (i' : Fin 7168) (hi : i'.val = 1024 * q.val + i.val) :
    (wE e q).view.read (Elt F) f (ix2 i j) = f (ix3 e i' j) := by
  show f ((Rect.unit (s := S16x7168x1536) ![e.val, 1024 * q.val, 0] S1x1024x1536.size (inb_wE e q)).emb (Shape.reshapeEquiv _ (ix2 i j))) = _
  refine (congrArg (fun z => f ((Rect.unit (s := S16x7168x1536) ![e.val, 1024 * q.val, 0] S1x1024x1536.size (inb_wE e q)).emb z)) (reshape_unit _ _)).trans (congrArg f (ix3_ext ?_ ?_ ?_))
  · show e.val + 1 * 0 = e.val; omega
  · show 1024 * q.val + 1 * i.val = i'.val; omega
  · show 0 + 1 * j.val = j.val; omega
theorem oW_read (s : Fin 2) (f : S2x24x7168.Idx → Elt F .bf16) (i : Fin 24) (j : Fin 7168) :
    (oW s).view.read (Elt F) f (ix2 i j) = f (ix3 s i j) := by
  show f ((Rect.unit (s := S2x24x7168) ![s.val, 0, 0] S1x24x7168.size (inb_o s)).emb (Shape.reshapeEquiv _ (ix2 i j))) = _
  refine (congrArg (fun z => f ((Rect.unit (s := S2x24x7168) ![s.val, 0, 0] S1x24x7168.size (inb_o s)).emb z)) (reshape_unit _ _)).trans (congrArg f (ix3_ext ?_ ?_ ?_))
  · show s.val + 1 * 0 = s.val; omega
  · show 0 + 1 * i.val = i.val; omega
  · show 0 + 1 * j.val = j.val; omega
theorem oE_read (e : Fin 16) (f : S16x24x7168.Idx → Elt F .bf16) (i : Fin 24) (j : Fin 7168) :
    (oE e).view.read (Elt F) f (ix2 i j) = f (ix3 e i j) := by
  show f ((Rect.unit (s := S16x24x7168) ![e.val, 0, 0] S1x24x7168.size (inb_oE e)).emb (Shape.reshapeEquiv _ (ix2 i j))) = _
  refine (congrArg (fun z => f ((Rect.unit (s := S16x24x7168) ![e.val, 0, 0] S1x24x7168.size (inb_oE e)).emb z)) (reshape_unit _ _)).trans (congrArg f (ix3_ext ?_ ?_ ?_))
  · show e.val + 1 * 0 = e.val; omega
  · show 0 + 1 * i.val = i.val; omega
  · show 0 + 1 * j.val = j.val; omega

/-! ## The blocks of the arguments -/

/-- Block `k` of the input rows of expert `e`. -/
def xL (fx : S16x24x1536.Idx → Elt F .bf16) (e : Fin 16) (k : ℕ) : Vec F S1x24x128 .bf16 := fun j =>
  fx (ix3 e (j 1) (⟨(128 * k + (j 2).val) % 1536, Nat.mod_lt _ (by decide)⟩ : Fin 1536))
/-- The weight scales of expert `e`. -/
def sL (fs : S16x56x12.Idx → Elt F .f32) (e : Fin 16) : Vec F S1x56x12 .f32 := fun j => fs (ix3 e (j 1) (j 2))
/-- The pair `p` of blocks of weight rows of expert `e`. -/
def wL (fw : S16x7168x1536.Idx → Elt F .fp8e4m3) (e : Fin 16) (p : ℕ) : Vec F S1x256x1536 .fp8e4m3 := fun j =>
  fw (ix3 e (⟨(256 * p + (j 1).val) % 7168, Nat.mod_lt _ (by decide)⟩ : Fin 7168) (j 2))
/-- The dequantised inputs of expert `e`. -/
def X (fx : S16x24x1536.Idx → Elt F .bf16) (e : Fin 16) : S24x1536.Idx → Elt F .f32 := fun i =>
  blk (xL fx e ((i 1).val / 128)) (ix2 (i 0) (⟨(i 1).val % 128, Nat.mod_lt _ (by decide)⟩ : Fin 128))
/-- The rounded weight scales of expert `e`, spread over the inputs. -/
def Ws (fs : S16x56x12.Idx → Elt F .f32) (e : Fin 16) : S56x1536.Idx → Elt F .f32 := fun i =>
  k0_pay1 (sL fs e) (ix2 (i 0) (⟨(i 1).val / 128, by have := (i 1).isLt; simp at this; omega⟩ : Fin 12))
/-- Row `b` of the spread weight scales. -/
def rowL (fs : S16x56x12.Idx → Elt F .f32) (e : Fin 16) (b : ℕ) : Vec F S1x1536 .f32 := fun j =>
  Ws fs e (ix2 (⟨b % 56, Nat.mod_lt _ (by decide)⟩ : Fin 56) (j 1))
/-- Block `b` of the results of expert `e`. -/
def yB (fx : S16x24x1536.Idx → Elt F .bf16) (fs : S16x56x12.Idx → Elt F .f32) (fw : S16x7168x1536.Idx → Elt F .fp8e4m3) (fg : S16.Idx → Elt F .i32)
    (e : Fin 16) (b : ℕ) : Vec F S1x24x128 .bf16 :=
  if b % 2 = 0 then outE (tw fg e) (X fx e) (rowL fs e b) (rowL fs e (b + 1)) (wL fw e (b / 2))
  else outO (tw fg e) (X fx e) (rowL fs e (b - 1)) (rowL fs e b) (wL fw e (b / 2))
/-- The result of expert `e` at row `c` and column `n`. -/
def Y (fx : S16x24x1536.Idx → Elt F .bf16) (fs : S16x56x12.Idx → Elt F .f32) (fw : S16x7168x1536.Idx → Elt F .fp8e4m3) (fg : S16.Idx → Elt F .i32)
    (e : Fin 16) (c : Fin 24) (n : Fin 7168) : Elt F .bf16 :=
  yB fx fs fw fg e (n.val / 128) (ix3 (0 : Fin 1) c (⟨n.val % 128, Nat.mod_lt _ (by decide)⟩ : Fin 128))
/-- What a trip owes of the result rows it copies out. -/
def OKv (fx : S16x24x1536.Idx → Elt F .bf16) (fs : S16x56x12.Idx → Elt F .f32) (fw : S16x7168x1536.Idx → Elt F .fp8e4m3)
    (fg : S16.Idx → Elt F .i32) (e : Fin 16) (v : S24x7168.Idx → Elt F .bf16) : Prop :=
  ∀ (c : Fin 24) (n : Fin 7168), v (ix2 c n) = Y fx fs fw fg e c n

/-- The first `m` blocks of the buffer hold the dequantised inputs. -/
def In9 (fx : S16x24x1536.Idx → Elt F .bf16) (e : Fin 16) (m : ℕ) (f : S24x1536.Idx → Elt F .f32) : Prop :=
  ∀ i, (i 1).val < 128 * m → f i = X fx e i
/-- The first `m` blocks of the buffer hold the spread weight scales. -/
def In10 (fs : S16x56x12.Idx → Elt F .f32) (e : Fin 16) (m : ℕ) (f : S56x1536.Idx → Elt F .f32) : Prop :=
  ∀ i, (i 1).val < 128 * m → f i = Ws fs e i
/-- The first `m` blocks of the half `s` of the buffer hold the results. -/
def In11 (fx : S16x24x1536.Idx → Elt F .bf16) (fs : S16x56x12.Idx → Elt F .f32) (fw : S16x7168x1536.Idx → Elt F .fp8e4m3) (fg : S16.Idx → Elt F .i32)
    (e : Fin 16) (s : Fin 2) (m : ℕ) (f : S2x24x7168.Idx → Elt F .bf16) : Prop :=
  ∀ (c : Fin 24) (n : Fin 7168), n.val < 128 * m → f (ix3 s c n) = Y fx fs fw fg e c n

/-! ## What the loads read -/

theorem rd6 {fx : S16x24x1536.Idx → Elt F .bf16} {e : Fin 16} {s : Fin 2} {g : S2x24x1536.Idx → Elt F .bf16}
    (h : (xW s).view.read (Elt F) g = (xE e).view.read (Elt F) fx) (k : ℕ) (hk : k < 12) {off : Fin 3 → ℕ} {inb} (ho : off = ![s.val, 0, 128 * k]) :
    A6.view.readAt (Elt F) (Rect.unit (s := S2x24x1536) off S1x24x128.size inb).toLoadRect g = xL fx e k := by
  subst ho
  funext j
  have hj1 : (j 1).val < 24 := (j 1).isLt
  have hj2 : (j 2).val < 128 := (j 2).isLt
  have hj0 : (j 0).val < 1 := (j 0).isLt
  have := congrFun h (ix2 (⟨(j 1).val, hj1⟩ : Fin 24) (⟨(128 * k + (j 2).val) % 1536, Nat.mod_lt _ (by decide)⟩ : Fin 1536))
  rw [xW_read, xE_read] at this
  refine Eq.trans (congrArg g (ix3_ext ?_ ?_ ?_)) this
  · show s.val + 1 * (j 0).val = s.val; omega
  · show 0 + 1 * (j 1).val = (j 1).val; omega
  · show 128 * k + 1 * (j 2).val = (128 * k + (j 2).val) % 1536; omega
theorem rd7 {fs : S16x56x12.Idx → Elt F .f32} {e : Fin 16} {s : Fin 2} {g : S2x56x12.Idx → Elt F .f32}
    (h : (sW s).view.read (Elt F) g = (sE e).view.read (Elt F) fs) {off : Fin 3 → ℕ} {inb} (ho : off = ![s.val, 0, 0]) :
    A7.view.readAt (Elt F) (Rect.unit (s := S2x56x12) off S1x56x12.size inb).toLoadRect g = sL fs e := by
  subst ho
  funext j
  have hj1 : (j 1).val < 56 := (j 1).isLt
  have hj2 : (j 2).val < 12 := (j 2).isLt
  have hj0 : (j 0).val < 1 := (j 0).isLt
  have := congrFun h (ix2 (⟨(j 1).val, hj1⟩ : Fin 56) (⟨(j 2).val, hj2⟩ : Fin 12))
  rw [sW_read, sE_read] at this
  refine Eq.trans (congrArg g (ix3_ext ?_ ?_ ?_)) this
  · show s.val + 1 * (j 0).val = s.val; omega
  · show 0 + 1 * (j 1).val = (j 1).val; omega
  · show 0 + 1 * (j 2).val = (j 2).val; omega
theorem rd8 {fw : S16x7168x1536.Idx → Elt F .fp8e4m3} {e : Fin 16} {s : Fin 2} {q : Fin 7} {g : S2x7168x1536.Idx → Elt F .fp8e4m3}
    (h : (wW s q).view.read (Elt F) g = (wE e q).view.read (Elt F) fw) (p : ℕ) (hp : p / 4 = q.val) {off : Fin 3 → ℕ} {inb} (ho : off = ![s.val, 256 * p, 0]) :
    A8.view.readAt (Elt F) (Rect.unit (s := S2x7168x1536) off S1x256x1536.size inb).toLoadRect g = wL fw e p := by
  subst ho
  funext j
  have hq := q.isLt
  have hj1 : (j 1).val < 256 := (j 1).isLt
  have hj2 : (j 2).val < 1536 := (j 2).isLt
  have hj0 : (j 0).val < 1 := (j 0).isLt
  have := congrFun h (ix2 (⟨256 * p + (j 1).val - 1024 * q.val, by omega⟩ : Fin 1024) (⟨(j 2).val, hj2⟩ : Fin 1536))
  rw [wW_read _ _ _ _ _ (⟨(256 * p + (j 1).val) % 7168, Nat.mod_lt _ (by decide)⟩ : Fin 7168) (by show (256 * p + (j 1).val) % 7168 = 1024 * q.val + (256 * p + (j 1).val - 1024 * q.val); omega),
    wE_read _ _ _ _ _ (⟨(256 * p + (j 1).val) % 7168, Nat.mod_lt _ (by decide)⟩ : Fin 7168) (by show (256 * p + (j 1).val) % 7168 = 1024 * q.val + (256 * p + (j 1).val - 1024 * q.val); omega)] at this
  refine Eq.trans (congrArg g (ix3_ext ?_ ?_ ?_)) this
  · show s.val + 1 * (j 0).val = s.val; omega
  · show 256 * p + 1 * (j 1).val = (256 * p + (j 1).val) % 7168; omega
  · show 0 + 1 * (j 2).val = (j 2).val; omega
theorem rd9 {fx : S16x24x1536.Idx → Elt F .bf16} {e : Fin 16} {f : S24x1536.Idx → Elt F .f32} (h : In9 fx e 12 f) {inb} :
    A9.view.readAt (Elt F) (Rect.unit (s := S24x1536) ![0, 0] S24x1536.size inb).toLoadRect f = X fx e := by
  funext j
  have hj1 : (j 1).val < 1536 := (j 1).isLt
  refine Eq.trans (congrArg f (ix2_ext ?_ ?_)) (h j (by omega))
  · show 0 + 1 * (j 0).val = (j 0).val; omega
  · show 0 + 1 * (j 1).val = (j 1).val; omega
theorem rd10 {fs : S16x56x12.Idx → Elt F .f32} {e : Fin 16} {f : S56x1536.Idx → Elt F .f32} (h : In10 fs e 12 f) (b : ℕ) (hb : b < 56) {off : Fin 2 → ℕ} {inb} (ho : off = ![b, 0]) :
    A10.view.readAt (Elt F) (Rect.unit (s := S56x1536) off S1x1536.size inb).toLoadRect f = rowL fs e b := by
  subst ho
  funext j
  have hj0 : (j 0).val < 1 := (j 0).isLt
  have hj1 : (j 1).val < 1536 := (j 1).isLt
  refine Eq.trans (congrArg f (ix2_ext (y := ix2 (⟨b % 56, Nat.mod_lt _ (by decide)⟩ : Fin 56) (⟨(j 1).val, hj1⟩ : Fin 1536)) ?_ ?_)) (h _ (by show (j 1).val < _; omega))
  · show b + 1 * (j 0).val = b % 56; omega
  · show 0 + 1 * (j 1).val = (j 1).val; omega

/-! ## What the stores leave -/

theorem In9.step {fx : S16x24x1536.Idx → Elt F .bf16} {e : Fin 16} {m : ℕ} {f : S24x1536.Idx → Elt F .f32} (h : In9 fx e m f) (hm : m < 12)
    {off : Fin 2 → ℕ} {inb} (ho : off = ![0, 128 * m]) {w : S24x128.Idx → Elt F .f32} (hw : w = blk (xL fx e m)) :
    In9 fx e (m + 1) (put9 f (Rect.unit (s := S24x1536) off S24x128.size inb) w) := by
  subst ho hw
  intro i hi
  have hi0 : (i 0).val < 24 := (i 0).isLt
  by_cases hc : (i 1).val < 128 * m
  · refine Eq.trans (View.read_slice_write_of_not_mem (v := A9.view) (Rect.unit (s := S24x1536) ![0, 128 * m] S24x128.size inb) f (blk (xL fx e m)) Finset.univ (y := i) ?_) (h i hc)
    rw [Rect.map_emb_univ, Rect.mem_set_unit]
    intro hall
    have := (hall 1).1
    have : 128 * m ≤ (i 1).val := this
    omega
  · have hx : (Rect.unit (s := S24x1536) ![0, 128 * m] S24x128.size inb).emb (ix2 (⟨(i 0).val, hi0⟩ : Fin 24) (⟨(i 1).val % 128, Nat.mod_lt _ (by decide)⟩ : Fin 128)) = i := by
      refine ix2_ext ?_ ?_
      · show 0 + 1 * (i 0).val = (i 0).val; omega
      · show 128 * m + 1 * ((i 1).val % 128) = (i 1).val; omega
    have := View.read_slice_write_emb (v := A9.view) (Rect.unit (s := S24x1536) ![0, 128 * m] S24x128.size inb) f (blk (xL fx e m)) (Finset.mem_univ (ix2 (⟨(i 0).val, hi0⟩ : Fin 24) (⟨(i 1).val % 128, Nat.mod_lt _ (by decide)⟩ : Fin 128)))
    rw [hx] at this
    refine Eq.trans this ?_
    unfold X
    rw [show (i 1).val / 128 = m by omega]
    rfl
theorem In10.step {fs : S16x56x12.Idx → Elt F .f32} {e : Fin 16} {m : ℕ} {f : S56x1536.Idx → Elt F .f32} (h : In10 fs e m f) (hm : m < 12)
    {off : Fin 2 → ℕ} {inb} (ho : off = ![0, 128 * m]) {w : S56x128.Idx → Elt F .f32}
    (hw : ∀ i : S56x128.Idx, w i = k0_pay1 (sL fs e) (ix2 (i 0) (⟨m, hm⟩ : Fin 12))) :
    In10 fs e (m + 1) (put10 f (Rect.unit (s := S56x1536) off S56x128.size inb) w) := by
  subst ho
  intro i hi
  have hi0 : (i 0).val < 56 := (i 0).isLt
  by_cases hc : (i 1).val < 128 * m
  · refine Eq.trans (View.read_slice_write_of_not_mem (v := A10.view) (Rect.unit (s := S56x1536) ![0, 128 * m] S56x128.size inb) f w Finset.univ (y := i) ?_) (h i hc)
    rw [Rect.map_emb_univ, Rect.mem_set_unit]
    intro hall
    have := (hall 1).1
    have : 128 * m ≤ (i 1).val := this
    omega
  · have hx : (Rect.unit (s := S56x1536) ![0, 128 * m] S56x128.size inb).emb (ix2 (⟨(i 0).val, hi0⟩ : Fin 56) (⟨(i 1).val % 128, Nat.mod_lt _ (by decide)⟩ : Fin 128)) = i := by
      refine ix2_ext ?_ ?_
      · show 0 + 1 * (i 0).val = (i 0).val; omega
      · show 128 * m + 1 * ((i 1).val % 128) = (i 1).val; omega
    have := View.read_slice_write_emb (v := A10.view) (Rect.unit (s := S56x1536) ![0, 128 * m] S56x128.size inb) f w (Finset.mem_univ (ix2 (⟨(i 0).val, hi0⟩ : Fin 56) (⟨(i 1).val % 128, Nat.mod_lt _ (by decide)⟩ : Fin 128)))
    rw [hx] at this
    refine Eq.trans this ((hw _).trans ?_)
    unfold Ws
    refine congrArg (k0_pay1 (sL fs e)) (ix2_ext rfl ?_)
    show m = (i 1).val / 128
    omega
theorem A11_read (f : S2x24x7168.Idx → Elt F .bf16) (y : S2x24x7168.Idx) : A11.view.read (Elt F) f y = f y := rfl
theorem In11.step {fx : S16x24x1536.Idx → Elt F .bf16} {fs : S16x56x12.Idx → Elt F .f32} {fw : S16x7168x1536.Idx → Elt F .fp8e4m3} {fg : S16.Idx → Elt F .i32}
    {e : Fin 16} {s : Fin 2} {m : ℕ} {f : S2x24x7168.Idx → Elt F .bf16} (h : In11 fx fs fw fg e s m f)
    {off : Fin 3 → ℕ} {inb} (ho : off = ![s.val, 0, 128 * m]) {w : S1x24x128.Idx → Elt F .bf16} (hw : w = yB fx fs fw fg e m) :
    In11 fx fs fw fg e s (m + 1) (put11 f (Rect.unit (s := S2x24x7168) off S1x24x128.size inb) w) := by
  subst ho
  intro c n hn
  by_cases hc : n.val < 128 * m
  · refine Eq.trans (View.read_slice_write_of_not_mem (v := A11.view) (Rect.unit (s := S2x24x7168) ![s.val, 0, 128 * m] S1x24x128.size inb) f w Finset.univ (y := ix3 s c n) ?_) (h c n hc)
    rw [Rect.map_emb_univ, Rect.mem_set_unit]
    intro hall
    have := (hall 2).1
    have : 128 * m ≤ n.val := this
    omega
  · have e2 : w (ix3 (0 : Fin 1) c (⟨n.val % 128, Nat.mod_lt _ (by decide)⟩ : Fin 128)) = Y fx fs fw fg e c n := by
      rw [hw]
      unfold Y
      rw [show n.val / 128 = m by omega]
    rw [← e2]
    have hx : (Rect.unit (s := S2x24x7168) ![s.val, 0, 128 * m] S1x24x128.size inb).emb (ix3 (0 : Fin 1) c (⟨n.val % 128, Nat.mod_lt _ (by decide)⟩ : Fin 128)) = ix3 s c n := by
      refine ix3_ext ?_ ?_ ?_
      · show s.val + 1 * 0 = s.val; omega
      · show 0 + 1 * c.val = c.val; omega
      · show 128 * m + 1 * (n.val % 128) = n.val; omega
    have := View.read_slice_write_emb (v := A11.view) (Rect.unit (s := S2x24x7168) ![s.val, 0, 128 * m] S1x24x128.size inb) f w (Finset.mem_univ (ix3 (0 : Fin 1) c (⟨n.val % 128, Nat.mod_lt _ (by decide)⟩ : Fin 128)))
    rw [hx] at this
    exact (A11_read _ _).symm.trans this

theorem yE {fx : S16x24x1536.Idx → Elt F .bf16} {fs : S16x56x12.Idx → Elt F .f32} {fw : S16x7168x1536.Idx → Elt F .fp8e4m3} {fg : S16.Idx → Elt F .i32} {e : Fin 16}
    {x ra rb w} {b : ℕ} (p : ℕ) (hb : b = 2 * p) (hx : x = X fx e) (ha : ra = rowL fs e (2 * p)) (hr : rb = rowL fs e (2 * p + 1)) (hw : w = wL fw e p) :
    outE (tw fg e) x ra rb w = yB fx fs fw fg e b := by
  subst hb hx ha hr hw
  unfold yB
  rw [if_pos (by omega), show 2 * p / 2 = p by omega]
theorem yO {fx : S16x24x1536.Idx → Elt F .bf16} {fs : S16x56x12.Idx → Elt F .f32} {fw : S16x7168x1536.Idx → Elt F .fp8e4m3} {fg : S16.Idx → Elt F .i32} {e : Fin 16}
    {x ra rb w} {b : ℕ} (p : ℕ) (hb : b = 2 * p + 1) (hx : x = X fx e) (ha : ra = rowL fs e (2 * p)) (hr : rb = rowL fs e (2 * p + 1)) (hw : w = wL fw e p) :
    outO (tw fg e) x ra rb w = yB fx fs fw fg e b := by
  subst hb hx ha hr hw
  unfold yB
  rw [if_neg (by omega), show (2 * p + 1) / 2 = p by omega, show 2 * p + 1 - 1 = 2 * p by omega]

/-- A column of the scales spread over a block. -/
theorem col_gen (T : FVec F S56x12 .f32) (k : ℕ) (hk : k < 12) (hs : S56x12.Slices ![0, k] S56x1) (h1 : S56x1.ShapeCasts S56x1) (h2 : S56x1.Broadcasts S56x128) (h3 : S56x128.ShapeCasts S56x128)
    (o : S56x128.Idx) : shapeCast S56x128 (broadcastTo S56x128 (shapeCast S56x1 (extractStridedSlice S56x1 ![0, k] T hs) h1) h2) h3 o = T (ix2 (o 0) (⟨k, hk⟩ : Fin 12)) := by
  rw [shapeCast_self, shapeCast_self,
    broadcastTo_apply _ h2 o (ix2 (a := 56) (b := 1) (o 0) 0) (by intro a; fin_cases a <;> rfl)]
  exact extractStridedSlice_apply _ _ _ _ _ (by
    intro a; fin_cases a
    · show (o 0).val = 0 + (o 0).val; omega
    · show k = k + 0; omega)
theorem col_0 (S : Vec F S1x56x12 .f32) (o : S56x128.Idx) : (k0_pay11 ((k0_pay10 (k0_pay1 S)))) o = k0_pay1 S (ix2 (o 0) (⟨0, by decide⟩ : Fin 12)) :=
  col_gen (k0_pay1 S) 0 (by decide) _ _ _ _ o
theorem col_1 (S : Vec F S1x56x12 .f32) (o : S56x128.Idx) : (k0_pay19 (k0_pay1 S)) o = k0_pay1 S (ix2 (o 0) (⟨1, by decide⟩ : Fin 12)) :=
  col_gen (k0_pay1 S) 1 (by decide) _ _ _ _ o
theorem col_2 (S : Vec F S1x56x12 .f32) (o : S56x128.Idx) : (k0_pay28 (k0_pay1 S)) o = k0_pay1 S (ix2 (o 0) (⟨2, by decide⟩ : Fin 12)) :=
  col_gen (k0_pay1 S) 2 (by decide) _ _ _ _ o
theorem col_3 (S : Vec F S1x56x12 .f32) (o : S56x128.Idx) : (k0_pay40 (k0_pay1 S)) o = k0_pay1 S (ix2 (o 0) (⟨3, by decide⟩ : Fin 12)) :=
  col_gen (k0_pay1 S) 3 (by decide) _ _ _ _ o
theorem col_4 (S : Vec F S1x56x12 .f32) (o : S56x128.Idx) : (k0_pay48 (k0_pay1 S)) o = k0_pay1 S (ix2 (o 0) (⟨4, by decide⟩ : Fin 12)) :=
  col_gen (k0_pay1 S) 4 (by decide) _ _ _ _ o
theorem col_5 (S : Vec F S1x56x12 .f32) (o : S56x128.Idx) : (k0_pay58 ((k0_pay57 (k0_pay1 S)))) o = k0_pay1 S (ix2 (o 0) (⟨5, by decide⟩ : Fin 12)) :=
  col_gen (k0_pay1 S) 5 (by decide) _ _ _ _ o
theorem col_6 (S : Vec F S1x56x12 .f32) (o : S56x128.Idx) : (k0_pay66 (k0_pay1 S)) o = k0_pay1 S (ix2 (o 0) (⟨6, by decide⟩ : Fin 12)) :=
  col_gen (k0_pay1 S) 6 (by decide) _ _ _ _ o
theorem col_7 (S : Vec F S1x56x12 .f32) (o : S56x128.Idx) : (k0_pay75 (k0_pay1 S)) o = k0_pay1 S (ix2 (o 0) (⟨7, by decide⟩ : Fin 12)) :=
  col_gen (k0_pay1 S) 7 (by decide) _ _ _ _ o
theorem col_8 (S : Vec F S1x56x12 .f32) (o : S56x128.Idx) : (k0_pay87 (k0_pay1 S)) o = k0_pay1 S (ix2 (o 0) (⟨8, by decide⟩ : Fin 12)) :=
  col_gen (k0_pay1 S) 8 (by decide) _ _ _ _ o
theorem col_9 (S : Vec F S1x56x12 .f32) (o : S56x128.Idx) : (k0_pay95 (k0_pay1 S)) o = k0_pay1 S (ix2 (o 0) (⟨9, by decide⟩ : Fin 12)) :=
  col_gen (k0_pay1 S) 9 (by decide) _ _ _ _ o
theorem col_10 (S : Vec F S1x56x12 .f32) (o : S56x128.Idx) : (k0_pay105 ((k0_pay104 (k0_pay1 S)))) o = k0_pay1 S (ix2 (o 0) (⟨10, by decide⟩ : Fin 12)) :=
  col_gen (k0_pay1 S) 10 (by decide) _ _ _ _ o
theorem col_11 (S : Vec F S1x56x12 .f32) (o : S56x128.Idx) : (k0_pay113 (k0_pay1 S)) o = k0_pay1 S (ix2 (o 0) (⟨11, by decide⟩ : Fin 12)) :=
  col_gen (k0_pay1 S) 11 (by decide) _ _ _ _ o

theorem OKv_of {fx : S16x24x1536.Idx → Elt F .bf16} {fs : S16x56x12.Idx → Elt F .f32} {fw : S16x7168x1536.Idx → Elt F .fp8e4m3} {fg : S16.Idx → Elt F .i32}
    {e : Fin 16} {s : Fin 2} {f : S2x24x7168.Idx → Elt F .bf16} (h : In11 fx fs fw fg e s 56 f) : OKv fx fs fw fg e ((oW s).view.read (Elt F) f) := fun c n =>
  (oW_read s f c n).trans (h c n (by omega))

end Cert.Proof.KernelIdeal
-- ==== Proof.KernelIdeal.Trip.lean ====
module

public import proofs.«01_k».proof.Proof.KernelIdeal.PartsA
public import proofs.«01_k».proof.Proof.KernelIdeal.PartsB
public import proofs.«01_k».proof.Proof.KernelIdeal.Val
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Transfers
public import Idealize.ShloMosaic.Lib.Batch
public import Idealize.ShloMosaic.Adequacy
public import Idealize.ShloMosaic.Init

@[expose] public section

set_option maxRecDepth 16384
set_option maxHeartbeats 4000000

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] (c : Dev nD)
variable {v0 v6 v12 v18 v24 v30 v36 v42 v48 v54 v60 v66 v72 v78 v84 v90 : BitVec 32} (hw : k0_chk15 v0 v6 v12 v18 v24 v30 v36 v42 v48 v54 v60 v66 v72 v78 v84 v90) {n : ℕ} (hn : n ≤ 16) (hN : NW v0 v6 v12 v18 v24 v30 v36 v42 v48 v54 v60 v66 v72 v78 v84 v90 = BitVec.ofNat 32 n)
  {act : ℕ → Fin 16} {ft : S16.Idx → Elt F .i32} (hT : ∀ i, i < n → tw ft (p16 i) = BitVec.ofNat 32 (act i).val)
  (k : Fin (k0_t1_loop v0 v6 v12 v18 v24 v30 v36 v42 v48 v54 v60 v66 v72 v78 v84 v90).trips)

include hw hn hN hT in
/-- One trip of the loop over the active experts. -/
theorem trip {fx : S16x24x1536.Idx → Elt F .bf16} {fs : S16x56x12.Idx → Elt F .f32} {fw : S16x7168x1536.Idx → Elt F .fp8e4m3} {fg : S16.Idx → Elt F .i32} {vv : ℕ → S24x7168.Idx → Elt F .bf16} {q0 : PosShare TreeShare} {v95 : BitVec 32} {v157 : BitVec 1} {Q : Unit → sProp (MT nD τ sig Unit (Elt F) ℕ UU ℕ)} :
    iprop(P5 c ft ∗ P0 c q0 fg ∗ OW c ∗ Xin c fx (sl k.val) (act k.val) ∗ Sin c fs (sl k.val) (act k.val) ∗ Gin c fw (sl k.val) 0 (act k.val) ∗ Gin c fw (sl k.val) 1 (act k.val) ∗ Gin c fw (sl k.val) 2 (act k.val) ∗ Gin c fw (sl k.val) 3 (act k.val) ∗ Gin c fw (sl k.val) 4 (act k.val) ∗ Gin c fw (sl k.val) 5 (act k.val) ∗ Gin c fw (sl k.val) 6 (act k.val) ∗ (∃ f, P9 c f) ∗ (∃ f, P10 c f) ∗ Oprev c act vv k.val ∗ Row c (act k.val)) ⊢
      iprop((∀ v : S24x7168.Idx → Elt F .bf16, Oin c v (sl k.val) (act k.val) ∗ ⌜OKv fx fs fw fg (act k.val) v⌝ ∗ P5 c ft ∗ P0 c q0 fg ∗ OW c ∗ Xnext c fx act n k.val ∗ Snext c fs act n k.val ∗ Gnext c fw act n k.val 0 ∗ Gnext c fw act n k.val 1 ∗ Gnext c fw act n k.val 2 ∗ Gnext c fw act n k.val 3 ∗ Gnext c fw act n k.val 4 ∗ Gnext c fw act n k.val 5 ∗ Gnext c fw act n k.val 6 ∗ (∃ f, P9 c f) ∗ (∃ f, P10 c f) ∗ Rprev c act vv k.val -∗ Q ⟨⟩) -∗
        W c (k0_t1_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw v95 v157 k ⟨⟩) Q) := by
  have hkn := klt hn hN k
  have hk : k.val < 16 := lt_of_lt_of_le hkn hn
  unfold k0_t1_body
  dsimp only
  iintro ⟨H5, H0, HW, HIX, HIS, HIG0, HIG1, HIG2, HIG3, HIG4, HIG5, HIG6, H9, H10, HO, HRow⟩ K
  icases H9 with ⟨%f9, H9⟩
  icases H10 with ⟨%f10, H10⟩
  iapply (W_bind c)
  rw [k0_part60_eq_skeleton]
  unfold k0_part60_skel
  dsimp only
  iapply (W_bind c)
  iapply (part5 c hw hn hN hT k _ _) $$ [H5 H0 HW HIX HIS]
  · isplitl [H5]; · iexact H5
    isplitl [H0]; · iexact H0
    isplitl [HW]; · iexact HW
    isplitl [HIX]; · iexact HIX
    iexact HIS
  iintro %r0_5 %r1_5 %r2_5 %r3_5 %r4_5 %r5_5 %r6_5 %r7_5 %g6_5 %g7_5 ⟨%h_5, H5, H0, HW, H6, HS6, HK6, H7, HS7, HK7⟩
  iapply (W_bind c)
  iapply (part6 c _ _ _)
  iintro %r0_6 %r1_6 %r2_6 %h_6
  iapply (W_bind c)
  iapply (part7 c _ _ _ _ _ _) $$ [H9]
  · iexact H9
  iintro %r0_7 %g9_7 ⟨%h_7, H9⟩
  iapply (W_bind c)
  iapply (part8 c hw hn hN hT k _ _) $$ [H10 H6]
  · isplitl [H10]; · iexact H10
    iexact H6
  iintro %r0_8 %r1_8 %r2_8 %r3_8 %g10_8 ⟨%h_8, H10, H6⟩
  iapply (W_bind c)
  iapply (part9 c _ _ _ _)
  iintro %r0_9 %r1_9 %r2_9 %h_9
  iapply (W_bind c)
  iapply (part10 c hw hn hN hT k _ _ _ _ _) $$ [H9 H10 H6]
  · isplitl [H9]; · iexact H9
    isplitl [H10]; · iexact H10
    iexact H6
  iintro %r0_10 %r1_10 %r2_10 %r3_10 %r4_10 %g9_10 %g10_10 ⟨%h_10, H9, H10, H6⟩
  iapply (W_bind c)
  iapply (part11 c _ _ _ _)
  iintro %r0_11 %r1_11 %h_11
  iapply (W_bind c)
  iapply (part12 c hw hn hN hT k _ _ _ _ _) $$ [H9 H10 H6]
  · isplitl [H9]; · iexact H9
    isplitl [H10]; · iexact H10
    iexact H6
  iintro %r0_12 %g9_12 %g10_12 ⟨%h_12, H9, H10, H6⟩
  iapply (W_bind c)
  iapply (part13 c _)
  iintro %r0_13 %r1_13 %r2_13 %r3_13 %r4_13 %h_13
  iapply (W_bind c)
  iapply (part14 c _ _ _ _ _)
  iintro %r0_14 %r1_14 %r2_14 %h_14
  iapply (W_bind c)
  iapply (part15 c hw hn hN hT k _ _ _ _ _) $$ [H9 H10 H6]
  · isplitl [H9]; · iexact H9
    isplitl [H10]; · iexact H10
    iexact H6
  iintro %r0_15 %r1_15 %r2_15 %r3_15 %r4_15 %g9_15 %g10_15 ⟨%h_15, H9, H10, H6⟩
  iapply (W_bind c)
  iapply (part16 c _ _ _ _)
  iintro %r0_16 %r1_16 %h_16
  iapply (W_bind c)
  iapply (part17 c hw hn hN hT k _ _ _ _ _) $$ [H9 H10 H6]
  · isplitl [H9]; · iexact H9
    isplitl [H10]; · iexact H10
    iexact H6
  iintro %r0_17 %r1_17 %r2_17 %r3_17 %g9_17 %g10_17 ⟨%h_17, H9, H10, H6⟩
  iapply (W_bind c)
  iapply (part18 c _ _ _)
  iintro %r0_18 %r1_18 %r2_18 %h_18
  iapply (W_bind c)
  iapply (part19 c _ _ _ _ _ _) $$ [H9]
  · iexact H9
  iintro %r0_19 %g9_19 ⟨%h_19, H9⟩
  iapply (W_bind c)
  iapply (part20 c hw hn hN hT k _ _) $$ [H10 H6]
  · isplitl [H10]; · iexact H10
    iexact H6
  iintro %r0_20 %r1_20 %r2_20 %r3_20 %g10_20 ⟨%h_20, H10, H6⟩
  iapply (W_bind c)
  iapply (part21 c _ _ _ _)
  iintro %r0_21 %r1_21 %r2_21 %h_21
  iapply (W_bind c)
  iapply (part22 c hw hn hN hT k _ _ _ _ _) $$ [H9 H10 H6]
  · isplitl [H9]; · iexact H9
    isplitl [H10]; · iexact H10
    iexact H6
  iintro %r0_22 %r1_22 %r2_22 %r3_22 %r4_22 %g9_22 %g10_22 ⟨%h_22, H9, H10, H6⟩
  iapply (W_bind c)
  iapply (part23 c _ _ _ _)
  iintro %r0_23 %r1_23 %h_23
  iapply (W_bind c)
  iapply (part24 c hw hn hN hT k _ _ _ _ _) $$ [H9 H10 H6]
  · isplitl [H9]; · iexact H9
    isplitl [H10]; · iexact H10
    iexact H6
  iintro %r0_24 %g9_24 %g10_24 ⟨%h_24, H9, H10, H6⟩
  iapply (W_bind c)
  iapply (part25 c _)
  iintro %r0_25 %r1_25 %r2_25 %r3_25 %r4_25 %h_25
  iapply (W_bind c)
  iapply (part26 c _ _ _ _ _)
  iintro %r0_26 %r1_26 %r2_26 %h_26
  iapply (W_bind c)
  iapply (part27 c hw hn hN hT k _ _ _ _ _) $$ [H9 H10 H6]
  · isplitl [H9]; · iexact H9
    isplitl [H10]; · iexact H10
    iexact H6
  iintro %r0_27 %r1_27 %r2_27 %r3_27 %r4_27 %g9_27 %g10_27 ⟨%h_27, H9, H10, H6⟩
  iapply (W_bind c)
  iapply (part28 c _ _ _ _)
  iintro %r0_28 %r1_28 %h_28
  iapply (W_bind c)
  iapply (part29 c hw hn hN hT k _ _ _ _ _) $$ [H9 H10 H6]
  · isplitl [H9]; · iexact H9
    isplitl [H10]; · iexact H10
    iexact H6
  iintro %r0_29 %r1_29 %r2_29 %r3_29 %g9_29 %g10_29 ⟨%h_29, H9, H10, H6⟩
  iapply (W_bind c)
  iapply (part30 c _ _ _)
  iintro %r0_30 %r1_30 %r2_30 %h_30
  iapply (W_bind c)
  iapply (part31 c _ _ _ _ _ _) $$ [H9]
  · iexact H9
  iintro %r0_31 %g9_31 ⟨%h_31, H9⟩
  iapply (W_bind c)
  iapply (part32 c hw hn hN hT k _ _) $$ [H10 H6]
  · isplitl [H10]; · iexact H10
    iexact H6
  iintro %r0_32 %r1_32 %r2_32 %r3_32 %g10_32 ⟨%h_32, H10, H6⟩
  iapply (W_bind c)
  iapply (part33 c _ _ _ _)
  iintro %r0_33 %r1_33 %r2_33 %h_33
  iapply (W_bind c)
  iapply (part34 c hw hn hN hT k _ _ _ _ _ _ _) $$ [H9 H10 H5 HO HW H6 HS6 HK6 H7 HS7 HK7]
  · isplitl [H9]; · iexact H9
    isplitl [H10]; · iexact H10
    isplitl [H5]; · iexact H5
    isplitl [HO]; · iexact HO
    isplitl [HW]; · iexact HW
    isplitl [H6]; · iexact H6
    isplitl [HS6]; · iexact HS6
    isplitl [HK6]; · iexact HK6
    isplitl [H7]; · iexact H7
    isplitl [HS7]; · iexact HS7
    iexact HK7
  iintro %r0_34 %r1_34 %r2_34 %g9_34 %g10_34 ⟨%h_34, H9, H10, H5, HW, HOF, HR, HX, HS⟩
  unfold Ofree
  icases HOF with ⟨⟨%f11, H11⟩, HSO⟩
  iapply (W_bind c)
  iapply (part35 c hw hn hN hT k _ _ _ _) $$ [HW HIG0 H9 H10 H11]
  · isplitl [HW]; · iexact HW
    isplitl [HIG0]; · iexact HIG0
    isplitl [H9]; · iexact H9
    isplitl [H10]; · iexact H10
    iexact H11
  iintro %r0_35 %g11_35 %g8_35 ⟨%h_35, HW, H8_0, HS0, HK0, H9, H10, H11⟩
  iapply (W_bind c)
  iapply (part36 c hw hn hN hT k _ _ _) $$ [H9 H10 H8_0 H11]
  · isplitl [H9]; · iexact H9
    isplitl [H10]; · iexact H10
    isplitl [H8_0]; · iexact H8_0
    iexact H11
  iintro %r0_36 %g11_36 ⟨%h_36, H9, H10, H8_0, H11⟩
  iapply (W_bind c)
  iapply (part37 c hw hn hN hT k _ _ _) $$ [H8_0 H11 H9 H10]
  · isplitl [H8_0]; · iexact H8_0
    isplitl [H11]; · iexact H11
    isplitl [H9]; · iexact H9
    iexact H10
  iintro %r0_37 %r1_37 %g11_37 ⟨%h_37, H8_0, H11, H9, H10⟩
  iapply (W_bind c)
  iapply (part38 c hw hn hN hT k _ _ _ _ _ _) $$ [H11 H5 H8_0 HS0 HK0 HW HIG1 H9 H10]
  · isplitl [H11]; · iexact H11
    isplitl [H5]; · iexact H5
    isplitl [H8_0]; · iexact H8_0
    isplitl [HS0]; · iexact HS0
    isplitl [HK0]; · iexact HK0
    isplitl [HW]; · iexact HW
    isplitl [HIG1]; · iexact HIG1
    isplitl [H9]; · iexact H9
    iexact H10
  iintro %r0_38 %g11_38 %g8_38 ⟨%h_38, H11, H5, HG0, HW, H8_1, HS1, HK1, H9, H10⟩
  iapply (W_bind c)
  iapply (part39 c hw hn hN hT k _ _ _) $$ [H8_1 H11 H9 H10]
  · isplitl [H8_1]; · iexact H8_1
    isplitl [H11]; · iexact H11
    isplitl [H9]; · iexact H9
    iexact H10
  iintro %r0_39 %r1_39 %g11_39 ⟨%h_39, H8_1, H11, H9, H10⟩
  iapply (W_bind c)
  iapply (part40 c hw hn hN hT k _ _ _ _) $$ [H11 H9 H10 H8_1]
  · isplitl [H11]; · iexact H11
    isplitl [H9]; · iexact H9
    isplitl [H10]; · iexact H10
    iexact H8_1
  iintro %r0_40 %g11_40 ⟨%h_40, H11, H9, H10, H8_1⟩
  iapply (W_bind c)
  iapply (part41 c hw hn hN hT k _ _ _ _ _) $$ [H11 H9 H10 H8_1]
  · isplitl [H11]; · iexact H11
    isplitl [H9]; · iexact H9
    isplitl [H10]; · iexact H10
    iexact H8_1
  iintro %r0_41 %g11_41 ⟨%h_41, H11, H9, H10, H8_1⟩
  iapply (W_bind c)
  iapply (part42 c hw hn hN hT k _ _ _ _) $$ [H5 H8_1 HS1 HK1 HW HIG2 H9 H10 H11]
  · isplitl [H5]; · iexact H5
    isplitl [H8_1]; · iexact H8_1
    isplitl [HS1]; · iexact HS1
    isplitl [HK1]; · iexact HK1
    isplitl [HW]; · iexact HW
    isplitl [HIG2]; · iexact HIG2
    isplitl [H9]; · iexact H9
    isplitl [H10]; · iexact H10
    iexact H11
  iintro %r0_42 %g11_42 %g8_42 ⟨%h_42, H5, HG1, HW, H8_2, HS2, HK2, H9, H10, H11⟩
  iapply (W_bind c)
  iapply (part43 c hw hn hN hT k _ _ _) $$ [H11 H9 H10 H8_2]
  · isplitl [H11]; · iexact H11
    isplitl [H9]; · iexact H9
    isplitl [H10]; · iexact H10
    iexact H8_2
  iintro %r0_43 %g11_43 ⟨%h_43, H11, H9, H10, H8_2⟩
  iapply (W_bind c)
  iapply (part44 c hw hn hN hT k _ _ _) $$ [H10 H9 H8_2 H11]
  · isplitl [H10]; · iexact H10
    isplitl [H9]; · iexact H9
    isplitl [H8_2]; · iexact H8_2
    iexact H11
  iintro %r0_44 %r1_44 %r2_44 %g11_44 ⟨%h_44, H10, H9, H8_2, H11⟩
  iapply (W_bind c)
  iapply (part45 c hw hn hN hT k _ _ _ _ _ _ _) $$ [H8_2 H11 H5 HS2 HK2 HW HIG3 H9]
  · isplitl [H8_2]; · iexact H8_2
    isplitl [H11]; · iexact H11
    isplitl [H5]; · iexact H5
    isplitl [HS2]; · iexact HS2
    isplitl [HK2]; · iexact HK2
    isplitl [HW]; · iexact HW
    isplitl [HIG3]; · iexact HIG3
    iexact H9
  iintro %r0_45 %g11_45 %g8_45 ⟨%h_45, H11, H5, HG2, HW, H8_3, HS3, HK3, H9⟩
  iapply (W_bind c)
  iapply (part46 c hw hn hN hT k _ _ _) $$ [H10 H9 H8_3 H11]
  · isplitl [H10]; · iexact H10
    isplitl [H9]; · iexact H9
    isplitl [H8_3]; · iexact H8_3
    iexact H11
  iintro %r0_46 %r1_46 %r2_46 %g11_46 ⟨%h_46, H10, H9, H8_3, H11⟩
  iapply (W_bind c)
  iapply (part47 c hw hn hN hT k _ _ _ _ _) $$ [H8_3 H11 H9 H10]
  · isplitl [H8_3]; · iexact H8_3
    isplitl [H11]; · iexact H11
    isplitl [H9]; · iexact H9
    iexact H10
  iintro %r0_47 %r1_47 %g11_47 ⟨%h_47, H8_3, H11, H9, H10⟩
  iapply (W_bind c)
  iapply (part48 c hw hn hN hT k _ _ _ _) $$ [H11 H9 H10 H8_3]
  · isplitl [H11]; · iexact H11
    isplitl [H9]; · iexact H9
    isplitl [H10]; · iexact H10
    iexact H8_3
  iintro %r0_48 %g11_48 ⟨%h_48, H11, H9, H10, H8_3⟩
  iapply (W_bind c)
  iapply (part49 c hw hn hN hT k _ _ _ _ _) $$ [H11 H5 H8_3 HS3 HK3 HW HIG4 H9 H10]
  · isplitl [H11]; · iexact H11
    isplitl [H5]; · iexact H5
    isplitl [H8_3]; · iexact H8_3
    isplitl [HS3]; · iexact HS3
    isplitl [HK3]; · iexact HK3
    isplitl [HW]; · iexact HW
    isplitl [HIG4]; · iexact HIG4
    isplitl [H9]; · iexact H9
    iexact H10
  iintro %r0_49 %r1_49 %g11_49 %g8_49 ⟨%h_49, H11, H5, HG3, HW, H8_4, HS4, HK4, H9, H10⟩
  iapply (W_bind c)
  iapply (part50 c hw hn hN hT k _ _ _ _) $$ [H11 H9 H10 H8_4]
  · isplitl [H11]; · iexact H11
    isplitl [H9]; · iexact H9
    isplitl [H10]; · iexact H10
    iexact H8_4
  iintro %r0_50 %g11_50 ⟨%h_50, H11, H9, H10, H8_4⟩
  iapply (W_bind c)
  iapply (part51 c hw hn hN hT k _ _ _) $$ [H11 H9 H10 H8_4]
  · isplitl [H11]; · iexact H11
    isplitl [H9]; · iexact H9
    isplitl [H10]; · iexact H10
    iexact H8_4
  iintro %r0_51 %g11_51 ⟨%h_51, H11, H9, H10, H8_4⟩
  iapply (W_bind c)
  iapply (part52 c hw hn hN hT k _ _ _ _ _) $$ [H11 H9 H10 H8_4 H5 HS4 HK4]
  · isplitl [H11]; · iexact H11
    isplitl [H9]; · iexact H9
    isplitl [H10]; · iexact H10
    isplitl [H8_4]; · iexact H8_4
    isplitl [H5]; · iexact H5
    isplitl [HS4]; · iexact HS4
    iexact HK4
  iintro %r0_52 %r1_52 %g11_52 ⟨%h_52, H11, H9, H10, H5, HG4⟩
  iapply (W_bind c)
  iapply (part53 c hw hn hN hT k _ _ _ _) $$ [HW HIG5 H9 H10 H11]
  · isplitl [HW]; · iexact HW
    isplitl [HIG5]; · iexact HIG5
    isplitl [H9]; · iexact H9
    isplitl [H10]; · iexact H10
    iexact H11
  iintro %r0_53 %g11_53 %g8_53 ⟨%h_53, HW, H8_5, HS5, HK5, H9, H10, H11⟩
  iapply (W_bind c)
  iapply (part54 c hw hn hN hT k _ _ _) $$ [H11 H9 H10 H8_5]
  · isplitl [H11]; · iexact H11
    isplitl [H9]; · iexact H9
    isplitl [H10]; · iexact H10
    iexact H8_5
  iintro %r0_54 %g11_54 ⟨%h_54, H11, H9, H10, H8_5⟩
  iapply (W_bind c)
  iapply (part55 c hw hn hN hT k _ _ _) $$ [H9 H10 H8_5 H11]
  · isplitl [H9]; · iexact H9
    isplitl [H10]; · iexact H10
    isplitl [H8_5]; · iexact H8_5
    iexact H11
  iintro %r0_55 %g11_55 ⟨%h_55, H9, H10, H8_5, H11⟩
  iapply (W_bind c)
  iapply (part56 c hw hn hN hT k _ _ _ _ _) $$ [H8_5 H11 H5 HS5 HK5 HW HIG6 H9 H10]
  · isplitl [H8_5]; · iexact H8_5
    isplitl [H11]; · iexact H11
    isplitl [H5]; · iexact H5
    isplitl [HS5]; · iexact HS5
    isplitl [HK5]; · iexact HK5
    isplitl [HW]; · iexact HW
    isplitl [HIG6]; · iexact HIG6
    isplitl [H9]; · iexact H9
    iexact H10
  iintro %r0_56 %g11_56 %g8_56 ⟨%h_56, H11, H5, HG5, HW, H8_6, HS6, HK6, H9, H10⟩
  iapply (W_bind c)
  iapply (part57 c hw hn hN hT k _ _ _) $$ [H9 H10 H8_6 H11]
  · isplitl [H9]; · iexact H9
    isplitl [H10]; · iexact H10
    isplitl [H8_6]; · iexact H8_6
    iexact H11
  iintro %r0_57 %g11_57 ⟨%h_57, H9, H10, H8_6, H11⟩
  iapply (W_bind c)
  iapply (part58 c hw hn hN hT k _ _ _) $$ [H8_6 H11 H9 H10]
  · isplitl [H8_6]; · iexact H8_6
    isplitl [H11]; · iexact H11
    isplitl [H9]; · iexact H9
    iexact H10
  iintro %r0_58 %r1_58 %g11_58 ⟨%h_58, H8_6, H11, H9, H10⟩
  iapply (W_bind c)
  iapply (part59 c hw hn hN hT k _ _ _ _) $$ [H11 H9 H10 H8_6]
  · isplitl [H11]; · iexact H11
    isplitl [H9]; · iexact H9
    isplitl [H10]; · iexact H10
    iexact H8_6
  iintro %r0_59 %g11_59 ⟨%h_59, H11, H9, H10, H8_6⟩
  iapply (ld11 c (sl k.val) 7040 (off204 k hk) (by decide)) $$ H11
  iintro H11
  iapply W_pure
  iapply (st11 c (sl k.val) 7040 (off204 k hk) (by decide)) $$ H11
  iintro H11
  iapply (if43 c hw hn hN hT k) $$ [H5 H8_6 HS6 HK6]
  · isplitl [H5]; · iexact H5
    isplitl [H8_6]; · iexists _; iexact H8_6
    isplitl [HS6]; · iexact HS6
    iexact HK6
  iintro ⟨H5, HG6⟩
  iapply (lw5 c (p16 k.val) (off209 k hk)) $$ H5
  iintro H5
  iapply (W_assume c (by rw [hT _ hkn]; exact chk54 _))
  iapply (startO c (sl k.val) (act k.val) (v := (oW (sl k.val)).view.read (Elt F) (put11 g11_59 _ _)) (off210 k hk) (off212 k hk) (by rw [hT _ hkn]; exact off211 _) rfl) $$ [H11 HSO HRow]
  · isplitl [H11]; · iexact H11
    isplitl [HSO]; · iexact HSO
    iexact HRow
  iintro HOin
  iapply W_pure
  iapply K
  isplitl [HOin]; · iexact HOin
  isplitr
  · ipureintro; have q9_0 : In9 fx (act k.val) 0 f9 := fun i hi => absurd hi (by omega)
    have q10_0 : In10 fs (act k.val) 0 f10 := fun i hi => absurd hi (by omega)
    have q11_0 : In11 fx fs fw fg (act k.val) (sl k.val) 0 f11 := fun c n hn => absurd hn (by omega)
    obtain ⟨rfl, rfl, rfl, rfl, rfl, rfl, rfl, rfl, w6, w7⟩ := h_5
    obtain ⟨rfl, rfl, rfl⟩ := h_6
    obtain ⟨rfl, e9_7⟩ := h_7
    have q9_1 : In9 fx (act k.val) 1 g9_7 := by
      rw [e9_7]
      exact (In9.step q9_0 (by decide) rfl (congrArg blk (rd6 w6 0 (by decide) (off45 k hk))))
    obtain ⟨rfl, rfl, rfl, rfl, e10_8⟩ := h_8
    have q10_1 : In10 fs (act k.val) 1 g10_8 := by
      rw [e10_8]
      exact (In10.step q10_0 (by decide) rfl (fun i => (col_0 _ i).trans (congrArg (fun S => k0_pay1 S (ix2 (i 0) _)) (rd7 w7 (off44 k hk)))))
    obtain ⟨rfl, rfl, rfl⟩ := h_9
    obtain ⟨rfl, rfl, rfl, rfl, rfl, e9_10, e10_10⟩ := h_10
    have q9_2 : In9 fx (act k.val) 2 g9_10 := by
      rw [e9_10]
      exact (In9.step q9_1 (by decide) rfl ((blk_1 _).trans (congrArg blk (rd6 w6 1 (by decide) (off46 k hk)))))
    have q10_2 : In10 fs (act k.val) 2 g10_10 := by
      rw [e10_10]
      exact (In10.step q10_1 (by decide) rfl (fun i => (col_1 _ i).trans (congrArg (fun S => k0_pay1 S (ix2 (i 0) _)) (rd7 w7 (off44 k hk)))))
    obtain ⟨rfl, rfl⟩ := h_11
    obtain ⟨rfl, e9_12, e10_12⟩ := h_12
    have q9_3 : In9 fx (act k.val) 3 g9_12 := by
      rw [e9_12]
      exact (In9.step q9_2 (by decide) rfl ((blk_2 _).trans (congrArg blk (rd6 w6 2 (by decide) (off47 k hk)))))
    have q10_3 : In10 fs (act k.val) 3 g10_12 := by
      rw [e10_12]
      exact (In10.step q10_2 (by decide) rfl (fun i => (col_2 _ i).trans (congrArg (fun S => k0_pay1 S (ix2 (i 0) _)) (rd7 w7 (off44 k hk)))))
    obtain ⟨rfl, rfl, rfl, rfl, rfl⟩ := h_13
    obtain ⟨rfl, rfl, rfl⟩ := h_14
    obtain ⟨rfl, rfl, rfl, rfl, rfl, e9_15, e10_15⟩ := h_15
    have q9_4 : In9 fx (act k.val) 4 g9_15 := by
      rw [e9_15]
      exact (In9.step q9_3 (by decide) rfl ((blk_3 _).trans (congrArg blk (rd6 w6 3 (by decide) (off48 k hk)))))
    have q10_4 : In10 fs (act k.val) 4 g10_15 := by
      rw [e10_15]
      exact (In10.step q10_3 (by decide) rfl (fun i => (col_3 _ i).trans (congrArg (fun S => k0_pay1 S (ix2 (i 0) _)) (rd7 w7 (off44 k hk)))))
    obtain ⟨rfl, rfl⟩ := h_16
    obtain ⟨rfl, rfl, rfl, rfl, e9_17, e10_17⟩ := h_17
    have q9_5 : In9 fx (act k.val) 5 g9_17 := by
      rw [e9_17]
      exact (In9.step q9_4 (by decide) rfl ((blk_4 _).trans (congrArg blk (rd6 w6 4 (by decide) (off49 k hk)))))
    have q10_5 : In10 fs (act k.val) 5 g10_17 := by
      rw [e10_17]
      exact (In10.step q10_4 (by decide) rfl (fun i => (col_4 _ i).trans (congrArg (fun S => k0_pay1 S (ix2 (i 0) _)) (rd7 w7 (off44 k hk)))))
    obtain ⟨rfl, rfl, rfl⟩ := h_18
    obtain ⟨rfl, e9_19⟩ := h_19
    have q9_6 : In9 fx (act k.val) 6 g9_19 := by
      rw [e9_19]
      exact (In9.step q9_5 (by decide) rfl ((blk_5 _).trans (congrArg blk (rd6 w6 5 (by decide) (off50 k hk)))))
    obtain ⟨rfl, rfl, rfl, rfl, e10_20⟩ := h_20
    have q10_6 : In10 fs (act k.val) 6 g10_20 := by
      rw [e10_20]
      exact (In10.step q10_5 (by decide) rfl (fun i => (col_5 _ i).trans (congrArg (fun S => k0_pay1 S (ix2 (i 0) _)) (rd7 w7 (off44 k hk)))))
    obtain ⟨rfl, rfl, rfl⟩ := h_21
    obtain ⟨rfl, rfl, rfl, rfl, rfl, e9_22, e10_22⟩ := h_22
    have q9_7 : In9 fx (act k.val) 7 g9_22 := by
      rw [e9_22]
      exact (In9.step q9_6 (by decide) rfl ((blk_6 _).trans (congrArg blk (rd6 w6 6 (by decide) (off51 k hk)))))
    have q10_7 : In10 fs (act k.val) 7 g10_22 := by
      rw [e10_22]
      exact (In10.step q10_6 (by decide) rfl (fun i => (col_6 _ i).trans (congrArg (fun S => k0_pay1 S (ix2 (i 0) _)) (rd7 w7 (off44 k hk)))))
    obtain ⟨rfl, rfl⟩ := h_23
    obtain ⟨rfl, e9_24, e10_24⟩ := h_24
    have q9_8 : In9 fx (act k.val) 8 g9_24 := by
      rw [e9_24]
      exact (In9.step q9_7 (by decide) rfl ((blk_7 _).trans (congrArg blk (rd6 w6 7 (by decide) (off52 k hk)))))
    have q10_8 : In10 fs (act k.val) 8 g10_24 := by
      rw [e10_24]
      exact (In10.step q10_7 (by decide) rfl (fun i => (col_7 _ i).trans (congrArg (fun S => k0_pay1 S (ix2 (i 0) _)) (rd7 w7 (off44 k hk)))))
    obtain ⟨rfl, rfl, rfl, rfl, rfl⟩ := h_25
    obtain ⟨rfl, rfl, rfl⟩ := h_26
    obtain ⟨rfl, rfl, rfl, rfl, rfl, e9_27, e10_27⟩ := h_27
    have q9_9 : In9 fx (act k.val) 9 g9_27 := by
      rw [e9_27]
      exact (In9.step q9_8 (by decide) rfl ((blk_8 _).trans (congrArg blk (rd6 w6 8 (by decide) (off53 k hk)))))
    have q10_9 : In10 fs (act k.val) 9 g10_27 := by
      rw [e10_27]
      exact (In10.step q10_8 (by decide) rfl (fun i => (col_8 _ i).trans (congrArg (fun S => k0_pay1 S (ix2 (i 0) _)) (rd7 w7 (off44 k hk)))))
    obtain ⟨rfl, rfl⟩ := h_28
    obtain ⟨rfl, rfl, rfl, rfl, e9_29, e10_29⟩ := h_29
    have q9_10 : In9 fx (act k.val) 10 g9_29 := by
      rw [e9_29]
      exact (In9.step q9_9 (by decide) rfl ((blk_9 _).trans (congrArg blk (rd6 w6 9 (by decide) (off54 k hk)))))
    have q10_10 : In10 fs (act k.val) 10 g10_29 := by
      rw [e10_29]
      exact (In10.step q10_9 (by decide) rfl (fun i => (col_9 _ i).trans (congrArg (fun S => k0_pay1 S (ix2 (i 0) _)) (rd7 w7 (off44 k hk)))))
    obtain ⟨rfl, rfl, rfl⟩ := h_30
    obtain ⟨rfl, e9_31⟩ := h_31
    have q9_11 : In9 fx (act k.val) 11 g9_31 := by
      rw [e9_31]
      exact (In9.step q9_10 (by decide) rfl ((blk_10 _).trans (congrArg blk (rd6 w6 10 (by decide) (off55 k hk)))))
    obtain ⟨rfl, rfl, rfl, rfl, e10_32⟩ := h_32
    have q10_11 : In10 fs (act k.val) 11 g10_32 := by
      rw [e10_32]
      exact (In10.step q10_10 (by decide) rfl (fun i => (col_10 _ i).trans (congrArg (fun S => k0_pay1 S (ix2 (i 0) _)) (rd7 w7 (off44 k hk)))))
    obtain ⟨rfl, rfl, rfl⟩ := h_33
    obtain ⟨rfl, rfl, e9_34, e10_34⟩ := h_34
    have q9_12 : In9 fx (act k.val) 12 g9_34 := by
      rw [e9_34]
      exact (In9.step q9_11 (by decide) rfl ((blk_11 _).trans (congrArg blk (rd6 w6 11 (by decide) (off56 k hk)))))
    have q10_12 : In10 fs (act k.val) 12 g10_34 := by
      rw [e10_34]
      exact (In10.step q10_11 (by decide) rfl (fun i => (col_11 _ i).trans (congrArg (fun S => k0_pay1 S (ix2 (i 0) _)) (rd7 w7 (off44 k hk)))))
    obtain ⟨rfl, e11_35, w8_0⟩ := h_35
    have q11_2 : In11 fx fs fw fg (act k.val) (sl k.val) 2 g11_35 := by
      rw [e11_35]
      exact (In11.step (In11.step q11_0 (off74 k hk) (yE 0 rfl (rd9 q9_12) (rd10 q10_12 0 (by decide) rfl) (rd10 q10_12 1 (by decide) rfl) (rd8 w8_0 0 rfl (off73 k hk)))) (off75 k hk) (yO 0 rfl (rd9 q9_12) (rd10 q10_12 0 (by decide) rfl) (rd10 q10_12 1 (by decide) rfl) (rd8 w8_0 0 rfl (off73 k hk))))
    obtain ⟨rfl, e11_36⟩ := h_36
    have q11_4 : In11 fx fs fw fg (act k.val) (sl k.val) 4 g11_36 := by
      rw [e11_36]
      exact (In11.step (In11.step q11_2 (off77 k hk) ((out_2 _ _ _ _ _).trans (yE 1 rfl (rd9 q9_12) (rd10 q10_12 2 (by decide) rfl) (rd10 q10_12 3 (by decide) rfl) (rd8 w8_0 1 rfl (off76 k hk))))) (off78 k hk) ((out_3 _ _ _ _ _).trans (yO 1 rfl (rd9 q9_12) (rd10 q10_12 2 (by decide) rfl) (rd10 q10_12 3 (by decide) rfl) (rd8 w8_0 1 rfl (off76 k hk)))))
    obtain ⟨rfl, rfl, e11_37⟩ := h_37
    have q11_6 : In11 fx fs fw fg (act k.val) (sl k.val) 6 g11_37 := by
      rw [e11_37]
      exact (In11.step (In11.step q11_4 (off80 k hk) ((out_4 _ _ _ _ _).trans (yE 2 rfl (rd9 q9_12) (rd10 q10_12 4 (by decide) rfl) (rd10 q10_12 5 (by decide) rfl) (rd8 w8_0 2 rfl (off79 k hk))))) (off81 k hk) ((out_5 _ _ _ _ _).trans (yO 2 rfl (rd9 q9_12) (rd10 q10_12 4 (by decide) rfl) (rd10 q10_12 5 (by decide) rfl) (rd8 w8_0 2 rfl (off79 k hk)))))
    obtain ⟨rfl, e11_38, w8_1⟩ := h_38
    have q11_8 : In11 fx fs fw fg (act k.val) (sl k.val) 8 g11_38 := by
      rw [e11_38]
      exact (In11.step (In11.step q11_6 (off83 k hk) ((out_6 _ _ _ _ _).trans (yE 3 rfl (rd9 q9_12) (rd10 q10_12 6 (by decide) rfl) (rd10 q10_12 7 (by decide) rfl) (rd8 w8_0 3 rfl (off82 k hk))))) (off84 k hk) ((out_7 _ _ _ _ _).trans (yO 3 rfl (rd9 q9_12) (rd10 q10_12 6 (by decide) rfl) (rd10 q10_12 7 (by decide) rfl) (rd8 w8_0 3 rfl (off82 k hk)))))
    obtain ⟨rfl, rfl, e11_39⟩ := h_39
    have q11_10 : In11 fx fs fw fg (act k.val) (sl k.val) 10 g11_39 := by
      rw [e11_39]
      exact (In11.step (In11.step q11_8 (off94 k hk) ((out_8 _ _ _ _ _).trans (yE 4 rfl (rd9 q9_12) (rd10 q10_12 8 (by decide) rfl) (rd10 q10_12 9 (by decide) rfl) (rd8 w8_1 4 rfl (off93 k hk))))) (off95 k hk) ((out_9 _ _ _ _ _).trans (yO 4 rfl (rd9 q9_12) (rd10 q10_12 8 (by decide) rfl) (rd10 q10_12 9 (by decide) rfl) (rd8 w8_1 4 rfl (off93 k hk)))))
    obtain ⟨rfl, e11_40⟩ := h_40
    have q11_13 : In11 fx fs fw fg (act k.val) (sl k.val) 13 g11_40 := by
      rw [e11_40]
      exact (In11.step (In11.step (In11.step q11_10 (off97 k hk) ((out_10 _ _ _ _ _).trans (yE 5 rfl (rd9 q9_12) (rd10 q10_12 10 (by decide) rfl) (rd10 q10_12 11 (by decide) rfl) (rd8 w8_1 5 rfl (off96 k hk))))) (off98 k hk) ((out_11 _ _ _ _ _).trans (yO 5 rfl (rd9 q9_12) (rd10 q10_12 10 (by decide) rfl) (rd10 q10_12 11 (by decide) rfl) (rd8 w8_1 5 rfl (off96 k hk))))) (off100 k hk) ((out_12 _ _ _ _ _).trans (yE 6 rfl (rd9 q9_12) (rd10 q10_12 12 (by decide) rfl) (rd10 q10_12 13 (by decide) rfl) (rd8 w8_1 6 rfl (off99 k hk)))))
    obtain ⟨rfl, e11_41⟩ := h_41
    have q11_16 : In11 fx fs fw fg (act k.val) (sl k.val) 16 g11_41 := by
      rw [e11_41]
      exact (In11.step (In11.step (In11.step q11_13 (off101 k hk) ((out_13 _ _ _ _ _).trans (yO 6 rfl (rd9 q9_12) (rd10 q10_12 12 (by decide) rfl) (rd10 q10_12 13 (by decide) rfl) (rd8 w8_1 6 rfl (off99 k hk))))) (off103 k hk) ((out_14 _ _ _ _ _).trans (yE 7 rfl (rd9 q9_12) (rd10 q10_12 14 (by decide) rfl) (rd10 q10_12 15 (by decide) rfl) (rd8 w8_1 7 rfl (off102 k hk))))) (off104 k hk) ((out_15 _ _ _ _ _).trans (yO 7 rfl (rd9 q9_12) (rd10 q10_12 14 (by decide) rfl) (rd10 q10_12 15 (by decide) rfl) (rd8 w8_1 7 rfl (off102 k hk)))))
    obtain ⟨rfl, e11_42, w8_2⟩ := h_42
    have q11_17 : In11 fx fs fw fg (act k.val) (sl k.val) 17 g11_42 := by
      rw [e11_42]
      exact (In11.step q11_16 (off114 k hk) ((out_16 _ _ _ _ _).trans (yE 8 rfl (rd9 q9_12) (rd10 q10_12 16 (by decide) rfl) (rd10 q10_12 17 (by decide) rfl) (rd8 w8_2 8 rfl (off113 k hk)))))
    obtain ⟨rfl, e11_43⟩ := h_43
    have q11_20 : In11 fx fs fw fg (act k.val) (sl k.val) 20 g11_43 := by
      rw [e11_43]
      exact (In11.step (In11.step (In11.step q11_17 (off115 k hk) ((out_17 _ _ _ _ _).trans (yO 8 rfl (rd9 q9_12) (rd10 q10_12 16 (by decide) rfl) (rd10 q10_12 17 (by decide) rfl) (rd8 w8_2 8 rfl (off113 k hk))))) (off117 k hk) ((out_18 _ _ _ _ _).trans (yE 9 rfl (rd9 q9_12) (rd10 q10_12 18 (by decide) rfl) (rd10 q10_12 19 (by decide) rfl) (rd8 w8_2 9 rfl (off116 k hk))))) (off118 k hk) ((out_19 _ _ _ _ _).trans (yO 9 rfl (rd9 q9_12) (rd10 q10_12 18 (by decide) rfl) (rd10 q10_12 19 (by decide) rfl) (rd8 w8_2 9 rfl (off116 k hk)))))
    obtain ⟨rfl, rfl, rfl, e11_44⟩ := h_44
    have q11_22 : In11 fx fs fw fg (act k.val) (sl k.val) 22 g11_44 := by
      rw [e11_44]
      exact (In11.step (In11.step q11_20 (off120 k hk) ((out_20 _ _ _ _ _).trans (yE 10 rfl (rd9 q9_12) (rd10 q10_12 20 (by decide) rfl) (rd10 q10_12 21 (by decide) rfl) (rd8 w8_2 10 rfl (off119 k hk))))) (off121 k hk) ((out_21 _ _ _ _ _).trans (yO 10 rfl (rd9 q9_12) (rd10 q10_12 20 (by decide) rfl) (rd10 q10_12 21 (by decide) rfl) (rd8 w8_2 10 rfl (off119 k hk)))))
    obtain ⟨rfl, e11_45, w8_3⟩ := h_45
    have q11_24 : In11 fx fs fw fg (act k.val) (sl k.val) 24 g11_45 := by
      rw [e11_45]
      exact (In11.step (In11.step q11_22 (off123 k hk) ((out_22 _ _ _ _ _).trans (yE 11 rfl (rd9 q9_12) (rd10 q10_12 22 (by decide) rfl) (rd10 q10_12 23 (by decide) rfl) (rd8 w8_2 11 rfl (off122 k hk))))) (off124 k hk) ((out_23 _ _ _ _ _).trans (yO 11 rfl (rd9 q9_12) (rd10 q10_12 22 (by decide) rfl) (rd10 q10_12 23 (by decide) rfl) (rd8 w8_2 11 rfl (off122 k hk)))))
    obtain ⟨rfl, rfl, rfl, e11_46⟩ := h_46
    have q11_26 : In11 fx fs fw fg (act k.val) (sl k.val) 26 g11_46 := by
      rw [e11_46]
      exact (In11.step (In11.step q11_24 (off134 k hk) ((out_24 _ _ _ _ _).trans (yE 12 rfl (rd9 q9_12) (rd10 q10_12 24 (by decide) rfl) (rd10 q10_12 25 (by decide) rfl) (rd8 w8_3 12 rfl (off133 k hk))))) (off135 k hk) ((out_25 _ _ _ _ _).trans (yO 12 rfl (rd9 q9_12) (rd10 q10_12 24 (by decide) rfl) (rd10 q10_12 25 (by decide) rfl) (rd8 w8_3 12 rfl (off133 k hk)))))
    obtain ⟨rfl, rfl, e11_47⟩ := h_47
    have q11_28 : In11 fx fs fw fg (act k.val) (sl k.val) 28 g11_47 := by
      rw [e11_47]
      exact (In11.step (In11.step q11_26 (off137 k hk) ((out_26 _ _ _ _ _).trans (yE 13 rfl (rd9 q9_12) (rd10 q10_12 26 (by decide) rfl) (rd10 q10_12 27 (by decide) rfl) (rd8 w8_3 13 rfl (off136 k hk))))) (off138 k hk) ((out_27 _ _ _ _ _).trans (yO 13 rfl (rd9 q9_12) (rd10 q10_12 26 (by decide) rfl) (rd10 q10_12 27 (by decide) rfl) (rd8 w8_3 13 rfl (off136 k hk)))))
    obtain ⟨rfl, e11_48⟩ := h_48
    have q11_31 : In11 fx fs fw fg (act k.val) (sl k.val) 31 g11_48 := by
      rw [e11_48]
      exact (In11.step (In11.step (In11.step q11_28 (off140 k hk) ((out_28 _ _ _ _ _).trans (yE 14 rfl (rd9 q9_12) (rd10 q10_12 28 (by decide) rfl) (rd10 q10_12 29 (by decide) rfl) (rd8 w8_3 14 rfl (off139 k hk))))) (off141 k hk) ((out_29 _ _ _ _ _).trans (yO 14 rfl (rd9 q9_12) (rd10 q10_12 28 (by decide) rfl) (rd10 q10_12 29 (by decide) rfl) (rd8 w8_3 14 rfl (off139 k hk))))) (off143 k hk) ((out_30 _ _ _ _ _).trans (yE 15 rfl (rd9 q9_12) (rd10 q10_12 30 (by decide) rfl) (rd10 q10_12 31 (by decide) rfl) (rd8 w8_3 15 rfl (off142 k hk)))))
    obtain ⟨rfl, rfl, e11_49, w8_4⟩ := h_49
    have q11_32 : In11 fx fs fw fg (act k.val) (sl k.val) 32 g11_49 := by
      rw [e11_49]
      exact (In11.step q11_31 (off144 k hk) ((out_31 _ _ _ _ _).trans (yO 15 rfl (rd9 q9_12) (rd10 q10_12 30 (by decide) rfl) (rd10 q10_12 31 (by decide) rfl) (rd8 w8_3 15 rfl (off142 k hk)))))
    obtain ⟨rfl, e11_50⟩ := h_50
    have q11_35 : In11 fx fs fw fg (act k.val) (sl k.val) 35 g11_50 := by
      rw [e11_50]
      exact (In11.step (In11.step (In11.step q11_32 (off154 k hk) ((out_32 _ _ _ _ _).trans (yE 16 rfl (rd9 q9_12) (rd10 q10_12 32 (by decide) rfl) (rd10 q10_12 33 (by decide) rfl) (rd8 w8_4 16 rfl (off153 k hk))))) (off155 k hk) ((out_33 _ _ _ _ _).trans (yO 16 rfl (rd9 q9_12) (rd10 q10_12 32 (by decide) rfl) (rd10 q10_12 33 (by decide) rfl) (rd8 w8_4 16 rfl (off153 k hk))))) (off157 k hk) ((out_34 _ _ _ _ _).trans (yE 17 rfl (rd9 q9_12) (rd10 q10_12 34 (by decide) rfl) (rd10 q10_12 35 (by decide) rfl) (rd8 w8_4 17 rfl (off156 k hk)))))
    obtain ⟨rfl, e11_51⟩ := h_51
    have q11_37 : In11 fx fs fw fg (act k.val) (sl k.val) 37 g11_51 := by
      rw [e11_51]
      exact (In11.step (In11.step q11_35 (off158 k hk) ((out_35 _ _ _ _ _).trans (yO 17 rfl (rd9 q9_12) (rd10 q10_12 34 (by decide) rfl) (rd10 q10_12 35 (by decide) rfl) (rd8 w8_4 17 rfl (off156 k hk))))) (off160 k hk) ((out_36 _ _ _ _ _).trans (yE 18 rfl (rd9 q9_12) (rd10 q10_12 36 (by decide) rfl) (rd10 q10_12 37 (by decide) rfl) (rd8 w8_4 18 rfl (off159 k hk)))))
    obtain ⟨rfl, e11_52⟩ := h_52
    have q11_40 : In11 fx fs fw fg (act k.val) (sl k.val) 40 g11_52 := by
      rw [e11_52]
      exact (In11.step (In11.step (In11.step q11_37 (off161 k hk) ((out_37 _ _ _ _ _).trans (yO 18 rfl (rd9 q9_12) (rd10 q10_12 36 (by decide) rfl) (rd10 q10_12 37 (by decide) rfl) (rd8 w8_4 18 rfl (off159 k hk))))) (off163 k hk) ((out_38 _ _ _ _ _).trans (yE 19 rfl (rd9 q9_12) (rd10 q10_12 38 (by decide) rfl) (rd10 q10_12 39 (by decide) rfl) (rd8 w8_4 19 rfl (off162 k hk))))) (off164 k hk) ((out_39 _ _ _ _ _).trans (yO 19 rfl (rd9 q9_12) (rd10 q10_12 38 (by decide) rfl) (rd10 q10_12 39 (by decide) rfl) (rd8 w8_4 19 rfl (off162 k hk)))))
    obtain ⟨rfl, e11_53, w8_5⟩ := h_53
    have q11_41 : In11 fx fs fw fg (act k.val) (sl k.val) 41 g11_53 := by
      rw [e11_53]
      exact (In11.step q11_40 (off174 k hk) ((out_40 _ _ _ _ _).trans (yE 20 rfl (rd9 q9_12) (rd10 q10_12 40 (by decide) rfl) (rd10 q10_12 41 (by decide) rfl) (rd8 w8_5 20 rfl (off173 k hk)))))
    obtain ⟨rfl, e11_54⟩ := h_54
    have q11_44 : In11 fx fs fw fg (act k.val) (sl k.val) 44 g11_54 := by
      rw [e11_54]
      exact (In11.step (In11.step (In11.step q11_41 (off175 k hk) ((out_41 _ _ _ _ _).trans (yO 20 rfl (rd9 q9_12) (rd10 q10_12 40 (by decide) rfl) (rd10 q10_12 41 (by decide) rfl) (rd8 w8_5 20 rfl (off173 k hk))))) (off177 k hk) ((out_42 _ _ _ _ _).trans (yE 21 rfl (rd9 q9_12) (rd10 q10_12 42 (by decide) rfl) (rd10 q10_12 43 (by decide) rfl) (rd8 w8_5 21 rfl (off176 k hk))))) (off178 k hk) ((out_43 _ _ _ _ _).trans (yO 21 rfl (rd9 q9_12) (rd10 q10_12 42 (by decide) rfl) (rd10 q10_12 43 (by decide) rfl) (rd8 w8_5 21 rfl (off176 k hk)))))
    obtain ⟨rfl, e11_55⟩ := h_55
    have q11_46 : In11 fx fs fw fg (act k.val) (sl k.val) 46 g11_55 := by
      rw [e11_55]
      exact (In11.step (In11.step q11_44 (off180 k hk) ((out_44 _ _ _ _ _).trans (yE 22 rfl (rd9 q9_12) (rd10 q10_12 44 (by decide) rfl) (rd10 q10_12 45 (by decide) rfl) (rd8 w8_5 22 rfl (off179 k hk))))) (off181 k hk) ((out_45 _ _ _ _ _).trans (yO 22 rfl (rd9 q9_12) (rd10 q10_12 44 (by decide) rfl) (rd10 q10_12 45 (by decide) rfl) (rd8 w8_5 22 rfl (off179 k hk)))))
    obtain ⟨rfl, e11_56, w8_6⟩ := h_56
    have q11_48 : In11 fx fs fw fg (act k.val) (sl k.val) 48 g11_56 := by
      rw [e11_56]
      exact (In11.step (In11.step q11_46 (off183 k hk) ((out_46 _ _ _ _ _).trans (yE 23 rfl (rd9 q9_12) (rd10 q10_12 46 (by decide) rfl) (rd10 q10_12 47 (by decide) rfl) (rd8 w8_5 23 rfl (off182 k hk))))) (off184 k hk) ((out_47 _ _ _ _ _).trans (yO 23 rfl (rd9 q9_12) (rd10 q10_12 46 (by decide) rfl) (rd10 q10_12 47 (by decide) rfl) (rd8 w8_5 23 rfl (off182 k hk)))))
    obtain ⟨rfl, e11_57⟩ := h_57
    have q11_50 : In11 fx fs fw fg (act k.val) (sl k.val) 50 g11_57 := by
      rw [e11_57]
      exact (In11.step (In11.step q11_48 (off194 k hk) ((out_48 _ _ _ _ _).trans (yE 24 rfl (rd9 q9_12) (rd10 q10_12 48 (by decide) rfl) (rd10 q10_12 49 (by decide) rfl) (rd8 w8_6 24 rfl (off193 k hk))))) (off195 k hk) ((out_49 _ _ _ _ _).trans (yO 24 rfl (rd9 q9_12) (rd10 q10_12 48 (by decide) rfl) (rd10 q10_12 49 (by decide) rfl) (rd8 w8_6 24 rfl (off193 k hk)))))
    obtain ⟨rfl, rfl, e11_58⟩ := h_58
    have q11_52 : In11 fx fs fw fg (act k.val) (sl k.val) 52 g11_58 := by
      rw [e11_58]
      exact (In11.step (In11.step q11_50 (off197 k hk) ((out_50 _ _ _ _ _).trans (yE 25 rfl (rd9 q9_12) (rd10 q10_12 50 (by decide) rfl) (rd10 q10_12 51 (by decide) rfl) (rd8 w8_6 25 rfl (off196 k hk))))) (off198 k hk) ((out_51 _ _ _ _ _).trans (yO 25 rfl (rd9 q9_12) (rd10 q10_12 50 (by decide) rfl) (rd10 q10_12 51 (by decide) rfl) (rd8 w8_6 25 rfl (off196 k hk)))))
    obtain ⟨rfl, e11_59⟩ := h_59
    have q11_55 : In11 fx fs fw fg (act k.val) (sl k.val) 55 g11_59 := by
      rw [e11_59]
      exact (In11.step (In11.step (In11.step q11_52 (off200 k hk) ((out_52 _ _ _ _ _).trans (yE 26 rfl (rd9 q9_12) (rd10 q10_12 52 (by decide) rfl) (rd10 q10_12 53 (by decide) rfl) (rd8 w8_6 26 rfl (off199 k hk))))) (off201 k hk) ((out_53 _ _ _ _ _).trans (yO 26 rfl (rd9 q9_12) (rd10 q10_12 52 (by decide) rfl) (rd10 q10_12 53 (by decide) rfl) (rd8 w8_6 26 rfl (off199 k hk))))) (off203 k hk) ((out_54 _ _ _ _ _).trans (yE 27 rfl (rd9 q9_12) (rd10 q10_12 54 (by decide) rfl) (rd10 q10_12 55 (by decide) rfl) (rd8 w8_6 27 rfl (off202 k hk)))))
    exact OKv_of (In11.step q11_55 (off204 k hk) ((out_55 _ _ _ _ _).trans (yO 27 rfl (rd9 q9_12) (rd10 q10_12 54 (by decide) rfl) (rd10 q10_12 55 (by decide) rfl) (rd8 w8_6 27 rfl (off202 k hk)))))
  isplitl [H5]; · iexact H5
  isplitl [H0]; · iexact H0
  isplitl [HW]; · iexact HW
  isplitl [HX]; · iexact HX
  isplitl [HS]; · iexact HS
  isplitl [HG0]; · iexact HG0
  isplitl [HG1]; · iexact HG1
  isplitl [HG2]; · iexact HG2
  isplitl [HG3]; · iexact HG3
  isplitl [HG4]; · iexact HG4
  isplitl [HG5]; · iexact HG5
  isplitl [HG6]; · iexact HG6
  isplitl [H9]; · iexists _; iexact H9
  isplitl [H10]; · iexists _; iexact H10
  iexact HR

end Cert.Proof.KernelIdeal
end
end
-- ==== Proof.KernelIdeal.Rows.lean ====
module

public import proofs.«01_k».proof.Proof.KernelIdeal.State
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Transfers
public import Idealize.ShloMosaic.Lib.Batch
public import Idealize.ShloMosaic.Adequacy
public import Idealize.ShloMosaic.Init

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

/-! Counting the active experts. -/

theorem bit01 (v : BitVec 32) : bit v = 0 ∨ bit v = 1 := by have := bit_le v; omega

theorem cnt_mono (g : ℕ → BitVec 32) {a b : ℕ} (h : a ≤ b) : cnt g a ≤ cnt g b := by
  induction b with
  | zero => obtain rfl : a = 0 := by omega
            exact le_refl _
  | succ b ih =>
    by_cases hab : a = b + 1
    · subst hab; exact le_refl _
    · have := ih (by omega); rw [cnt]; omega

theorem cnt_lt (g : ℕ → BitVec 32) {a b : ℕ} (h : a < b) (ha : bit (g a) = 1) : cnt g a < cnt g b := by
  have := cnt_mono g (show a + 1 ≤ b by omega)
  rw [cnt, ha] at this; omega

theorem act_ex (g : ℕ → BitVec 32) (m : ℕ) (hm : m ≤ 16) {i : ℕ} (h : i < cnt g m) : ∃ e : Fin 16, bit (g e.val) = 1 ∧ cnt g e.val = i := by
  induction m with
  | zero => exact absurd h (Nat.not_lt_zero _)
  | succ m ih =>
    by_cases h' : i < cnt g m
    · exact ih (by omega) h'
    · rw [cnt] at h
      have := bit_le (g m)
      exact ⟨⟨m, by omega⟩, by show bit (g m) = 1; omega, by show cnt g m = i; omega⟩

/-- The expert of trip `i`. -/
def act (g : ℕ → BitVec 32) (i : ℕ) : Fin 16 :=
  if h : i < cnt g 16 then (act_ex g 16 (le_refl _) h).choose else 0

theorem act_bit (g : ℕ → BitVec 32) {i : ℕ} (h : i < cnt g 16) : bit (g (act g i).val) = 1 := by
  unfold act; rw [dif_pos h]; exact (act_ex g 16 (le_refl _) h).choose_spec.1
theorem act_cnt (g : ℕ → BitVec 32) {i : ℕ} (h : i < cnt g 16) : cnt g (act g i).val = i := by
  unfold act; rw [dif_pos h]; exact (act_ex g 16 (le_refl _) h).choose_spec.2

theorem cnt_inj (g : ℕ → BitVec 32) {a b : ℕ} (ha : bit (g a) = 1) (hb : bit (g b) = 1) (h : cnt g a = cnt g b) : a = b := by
  rcases Nat.lt_trichotomy a b with hl | hl | hl
  · exact absurd h (Nat.ne_of_lt (cnt_lt g hl ha))
  · exact hl
  · exact absurd h (Nat.ne_of_gt (cnt_lt g hl hb))

theorem cnt_lt16 (g : ℕ → BitVec 32) (e : Fin 16) (h : bit (g e.val) = 1) : cnt g e.val < cnt g 16 := cnt_lt g e.isLt h
theorem act_of (g : ℕ → BitVec 32) (e : Fin 16) (h : bit (g e.val) = 1) : act g (cnt g e.val) = e :=
  Fin.ext (cnt_inj g (act_bit g (cnt_lt16 g e h)) h (act_cnt g (cnt_lt16 g e h)))

/-- The complementary choice: active where `g` is not. -/
def neg (g : ℕ → BitVec 32) (j : ℕ) : BitVec 32 := if bit (g j) = 1 then 0#32 else 1#32
theorem bit_neg (g : ℕ → BitVec 32) (j : ℕ) : bit (neg g j) = 1 ↔ ¬ bit (g j) = 1 := by
  unfold neg
  split
  · rename_i h; exact ⟨fun h' => absurd h' (by decide), fun h' => absurd h h'⟩
  · rename_i h; exact ⟨fun _ => h, fun _ => by decide⟩
theorem cond_neg (g : ℕ → BitVec 32) (j : ℕ) : (Scalar.cmpi .ne (Scalar.extui (Scalar.cmpi .sle (g j) 0#32) : BitVec 32) 0#32 = 1#1) ↔ ¬ bit (g j) = 1 := by
  have : Scalar.cmpi .sle (g j) 0#32 = ~~~ Scalar.cmpi .sgt (g j) 0#32 := by
    simp only [Scalar.cmpi]
    simp only [IntOp.cmpi]
    rw [BitVec.sle_eq_not_slt]; cases (0#32).slt (g j) <;> rfl
  rw [this]; unfold bit
  generalize Scalar.cmpi .sgt (g j) 0#32 = b
  revert b; decide

variable {F : FTy → Type} [FloatOps F]

/-! The table of active experts. -/

theorem p16_val {i : ℕ} (h : i < 16) : (p16 i).val = i := Nat.mod_eq_of_lt h

/-- The first words of the table name the active experts among the first `m`. -/
def Tab (g : ℕ → BitVec 32) (m : ℕ) (f : S16.Idx → Elt F .i32) : Prop :=
  ∀ e : Fin 16, e.val < m → bit (g e.val) = 1 → tw f (p16 (cnt g e.val)) = BitVec.ofNat 32 e.val

theorem tab0 (g : ℕ → BitVec 32) (f : S16.Idx → Elt F .i32) : Tab (F := F) g 0 f := fun _ h => absurd h (Nat.not_lt_zero _)

theorem tab_skip {g : ℕ → BitVec 32} {m : ℕ} {f : S16.Idx → Elt F .i32} (h : Tab (F := F) g m f) (hb : ¬ bit (g m) = 1) : Tab (F := F) g (m + 1) f := by
  intro e he hbe
  rcases Nat.lt_succ_iff_lt_or_eq.1 he with h1 | h1
  · exact h e h1 hbe
  · rw [h1] at hbe; exact absurd hbe hb

theorem tab_full {g : ℕ → BitVec 32} {f : S16.Idx → Elt F .i32} (h : Tab (F := F) g 16 f) (i : ℕ) (hi : i < cnt g 16) :
    tw f (p16 i) = BitVec.ofNat 32 (act g i).val := by
  have := h (act g i) (act g i).isLt (act_bit g hi)
  rwa [act_cnt g hi] at this

theorem tw_put {f : S16.Idx → Elt F .i32} {w : BitVec 32} (i j : Fin 16) {inb} :
    tw (F := F) ((A5.access (Rect.unit (s := S16) ![i.val] S1.size inb)).write (Elt F) f (fun _ => w) Finset.univ) j = if j = i then w else tw (F := F) f j := by
  unfold tw
  split
  · rename_i h
    subst h
    have hx : (A5.access (Rect.unit (s := S16) ![j.val] S1.size inb)).emb (fun a => ⟨0, by fin_cases a; exact Nat.one_pos⟩) = (fun a => Fin.cast (by fin_cases a; rfl) j) := by
      funext a
      exact Fin.ext (by fin_cases a; rfl)
    refine (congrArg _ hx.symm).trans ?_
    exact View.write_emb_of_mem _ _ (Finset.mem_univ _)
  · rename_i h
    refine View.write_of_not_mem _ _ _ fun hm => h ?_
    obtain ⟨x, -, hx⟩ := Finset.mem_map.1 hm
    have h0 : i.val + 1 * (x 0).val = j.val := congrArg (fun y : S16.Idx => (y 0).val) hx
    have h1 : (x 0).val < 1 := (x 0).isLt
    exact Fin.ext (by omega)

theorem tab_put {g : ℕ → BitVec 32} {m : ℕ} (hm : m < 16) {f f' : S16.Idx → Elt F .i32} (h : Tab (F := F) g m f)
    (hf : ∀ j, tw (F := F) f' j = if j = p16 (cnt g m) then BitVec.ofNat 32 m else tw (F := F) f j) : Tab (F := F) g (m + 1) f' := by
  intro e he hbe
  rw [hf]
  rcases Nat.lt_succ_iff_lt_or_eq.1 he with h1 | h1
  · have h2 := cnt_lt g h1 hbe
    have h3 := cnt_le g m
    rw [if_neg, h e h1 hbe]
    intro h4
    have := congrArg Fin.val h4
    rw [p16_val (by omega), p16_val (by omega)] at this
    omega
  · rw [h1, if_pos rfl]

variable (c : Dev nD) {α : Type} {Q : α → sProp (MT nD τ sig Unit (Elt F) ℕ UU ℕ)}

theorem st5 {r : Rect S16} {w : r.shape.Idx → Elt F .i32} {hx : (A5.access r).Stores Finset.univ} {hm : (Finset.univ : Finset r.shape.Idx) = Finset.univ ∨ ∀ a, r.stride a = 1}
   {k : PUnit → Prog (TpuEff nD τ sig (Elt F) Λ₀ .tc) α} {f : S16.Idx → Elt F .i32} :
    P5 (F := F) c f ⊢ iprop((P5 c ((A5.access r).write (Elt F) f w Finset.univ) -∗ W c (k ⟨⟩) Q) -∗ W c (Prog.lift (.store A5 r w Finset.univ hx hm) >>= k) Q) :=
  wp_store 𝒱₀ (c : Thread nD τ) none Set.univ (m := A5) (r := r) (w := w) (Mk := Finset.univ) (hx := hx) (hm := hm) (k := k) (f := f)
    (S := (Finset.univ : Finset (Idx (A5.view.loc (c : Thread nD τ))))) (Finset.subset_univ _)

theorem tabif {g : ℕ → BitVec 32} (m : ℕ) (hm : m < 16) {w : BitVec 32} (hw : w = BitVec.ofNat 32 m) {C : Prop} {dC : Decidable C} (hC : C ↔ bit (g m) = 1)
    {off : Fin 1 → ℕ} (ho : off = ![(p16 (cnt g m)).val]) {inb1 inb2 : C → ∀ a, off a + S1.size a ≤ S16.size a} {h1 : ∀ hc : C, (Rect.unit (s := S16) off S1.size (inb1 hc)).shape.numel = 1} {hp} {hx : ∀ hc : C, (A5.access (Rect.unit (s := S16) off S1.size (inb2 hc))).Stores Finset.univ}
    {hmm : ∀ hc : C, (Finset.univ : Finset (Rect.unit (s := S16) off S1.size (inb2 hc)).shape.Idx) = Finset.univ ∨ ∀ a, (Rect.unit (s := S16) off S1.size (inb2 hc)).stride a = 1} {R : Prog (TpuEff nD τ sig (Elt F) Λ₀ .tc) α}
    {f : S16.Idx → Elt F .i32} (h : Tab (F := F) g m f) :
    P5 (F := F) c f ⊢ iprop((∀ f' : S16.Idx → Elt F .i32, ⌜Tab (F := F) g (m + 1) f'⌝ -∗ P5 c f' -∗ W c R Q) -∗
      W c (if hc : C then (smemLoad A5 (Rect.unit (s := S16) off S1.size (inb1 hc)) (h1 hc) hp >>= fun _ =>
        Prog.lift (.store A5 (Rect.unit (s := S16) off S1.size (inb2 hc)) (fun _ => w) Finset.univ (hx hc) (hmm hc)) >>= fun _ => R) else R) Q) := by
  subst hw
  by_cases hc : C
  · rw [dif_pos hc]
    iintro H5 K
    iapply (lw5 c (p16 (cnt g m)) ho) $$ H5
    iintro H5
    iapply (st5 c) $$ H5
    iintro H5
    iapply K $$ %_ %(tab_put hm h (fun j => by subst ho; exact tw_put _ _)) H5
  · rw [dif_neg hc]
    iintro H5 K
    iapply K $$ %_ %(tab_skip h (fun hb => hc (hC.2 hb))) H5

theorem tabif0 {g : ℕ → BitVec 32} (m : ℕ) (hm : m < 16) {w : BitVec 32} (hw : w = BitVec.ofNat 32 m) {C : Prop} {dC : Decidable C} (hC : C ↔ bit (g m) = 1)
    {off : Fin 1 → ℕ} (ho : off = ![(p16 (cnt g m)).val]) {inb1 inb2 h1 hp} {hx : (A5.access (Rect.unit (s := S16) off S1.size inb2)).Stores Finset.univ}
    {hmm} {R : Prog (TpuEff nD τ sig (Elt F) Λ₀ .tc) α}
    {f : S16.Idx → Elt F .i32} (h : Tab (F := F) g m f) :
    P5 (F := F) c f ⊢ iprop((∀ f' : S16.Idx → Elt F .i32, ⌜Tab (F := F) g (m + 1) f'⌝ -∗ P5 c f' -∗ W c R Q) -∗
      W c (if C then (smemLoad A5 (Rect.unit (s := S16) off S1.size inb1) h1 hp >>= fun _ =>
        Prog.lift (.store A5 (Rect.unit (s := S16) off S1.size inb2) (fun _ => w) Finset.univ hx hmm) >>= fun _ => R) else R) Q) :=
  tabif c m hm hw hC ho (inb1 := fun _ => inb1) (inb2 := fun _ => inb2) (h1 := fun _ => h1) (hx := fun _ => hx) (hmm := fun _ => hmm) h

theorem lwg {g : ℕ → BitVec 32} {fg : S16.Idx → Elt F .i32} (hg : ∀ i, tw (F := F) fg (p16 i) = g i) (j : ℕ) {off : Fin 1 → ℕ} {inb} {h1 hp} {q}
    {k : Elt F .i32 → Prog (TpuEff nD τ sig (Elt F) Λ₀ .tc) α} (ho : off = ![(p16 j).val]) :
    P0 (F := F) c q fg ⊢ iprop((P0 c q fg -∗ W c (k (g j)) Q) -∗ W c (smemLoad A0 (Rect.unit (s := S16) off S1.size inb) h1 hp >>= k) Q) := by
  rw [← hg j]; exact lw0 c (p16 j) ho

theorem pre_one (g : ℕ → BitVec 32) : Scalar.addi 0#32 (Scalar.extui (Scalar.cmpi .sgt (g 0) 0#32)) = pre g 1 := rfl
theorem pre_add (g : ℕ → BitVec 32) (m : ℕ) : Scalar.addi (pre g m) (Scalar.extui (Scalar.cmpi .sgt (g m) 0#32)) = pre g (m + 1) := rfl
theorem hwg (g : ℕ → BitVec 32) : k0_chk15 (g 0) (g 1) (g 2) (g 3) (g 4) (g 5) (g 6) (g 7) (g 8) (g 9) (g 10) (g 11) (g 12) (g 13) (g 14) (g 15) := chk15g g

set_option maxHeartbeats 2000000
section
variable {g : ℕ → BitVec 32} {fg : S16.Idx → Elt F .i32} (hg : ∀ i, tw (F := F) fg (p16 i) = g i) {q0 : PosShare TreeShare}
include hg

theorem part117_spec {f : S16.Idx → Elt F .i32} {Q : _ → sProp (MT nD τ sig Unit (Elt F) ℕ UU ℕ)} :
    iprop(P0 c q0 fg ∗ P5 c f) ⊢ iprop((∀ f' : S16.Idx → Elt F .i32, ⌜Tab (F := F) g 5 f'⌝ -∗ P0 c q0 fg -∗ P5 c f' -∗ Q ⟨g 0, g 1, g 2, g 3, g 4, pre g 5, g 5, chk5 g, 0#32⟩) -∗ W c (k0_part117 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 ) Q) := by
  rw [k0_part117_eq_skeleton]
  unfold k0_part117_skel
  dsimp only
  iintro ⟨H0, H5⟩ K
  iapply (lwg c hg 0 rfl) $$ H0
  iintro H0
  iapply (tabif0 c 0 (by decide) rfl (cond_bit (g 0)) rfl (tab0 g f)) $$ H5
  iintro %f0 %ht H5
  iapply (lwg c hg 1 rfl) $$ H0
  iintro H0
  iapply (W_assume c (chk1 g))
  iapply (tabif c 1 (by decide) rfl (cond2 g) (off1 g) ht) $$ H5
  clear ht
  iintro %f1 %ht H5
  iapply (lwg c hg 2 rfl) $$ H0
  iintro H0
  iapply (W_assume c (chk2 g))
  iapply (tabif c 2 (by decide) rfl (cond3 g) (off2 g) ht) $$ H5
  clear ht
  iintro %f2 %ht H5
  iapply (lwg c hg 3 rfl) $$ H0
  iintro H0
  iapply (W_assume c (chk3 g))
  iapply (tabif c 3 (by decide) rfl (cond4 g) (off3 g) ht) $$ H5
  clear ht
  iintro %f3 %ht H5
  iapply (lwg c hg 4 rfl) $$ H0
  iintro H0
  iapply (W_assume c (chk4 g))
  iapply (tabif c 4 (by decide) rfl (cond5 g) (off4 g) ht) $$ H5
  clear ht
  iintro %f4 %ht H5
  iapply (lwg c hg 5 rfl) $$ H0
  iintro H0
  iapply (W_assume c (chk5 g))
  simp only [pre_one, pre_add]
  iapply W_pure
  iapply K $$ %_ %ht H0 H5

theorem part118_spec {f : S16.Idx → Elt F .i32} (ht : Tab (F := F) g 5 f) {Q : _ → sProp (MT nD τ sig Unit (Elt F) ℕ UU ℕ)} :
    iprop(P0 c q0 fg ∗ P5 c f) ⊢ iprop((∀ f' : S16.Idx → Elt F .i32, ⌜Tab (F := F) g 11 f'⌝ -∗ P0 c q0 fg -∗ P5 c f' -∗ Q ⟨g 6, g 7, g 8, g 9, pre g 10, g 10, Scalar.cmpi .sgt (g 10) 0#32⟩) -∗ W c (k0_part118 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 (g 0) (g 1) (g 2) (g 3) (g 4) (pre g 5) (g 5) (chk5 g) 0#32) Q) := by
  rw [k0_part118_eq_skeleton]
  unfold k0_part118_skel
  dsimp only
  iintro ⟨H0, H5⟩ K
  iapply (tabif c 5 (by decide) rfl (cond6 g) (off5 g) ht) $$ H5
  clear ht
  iintro %f5 %ht H5
  iapply (lwg c hg 6 rfl) $$ H0
  iintro H0
  iapply (W_assume c (chk6 g))
  iapply (tabif c 6 (by decide) rfl (cond7 g) (off6 g) ht) $$ H5
  clear ht
  iintro %f6 %ht H5
  iapply (lwg c hg 7 rfl) $$ H0
  iintro H0
  iapply (W_assume c (chk7 g))
  iapply (tabif c 7 (by decide) rfl (cond8 g) (off7 g) ht) $$ H5
  clear ht
  iintro %f7 %ht H5
  iapply (lwg c hg 8 rfl) $$ H0
  iintro H0
  iapply (W_assume c (chk8 g))
  iapply (tabif c 8 (by decide) rfl (cond9 g) (off8 g) ht) $$ H5
  clear ht
  iintro %f8 %ht H5
  iapply (lwg c hg 9 rfl) $$ H0
  iintro H0
  iapply (W_assume c (chk9 g))
  iapply (tabif c 9 (by decide) rfl (cond10 g) (off9 g) ht) $$ H5
  clear ht
  iintro %f9 %ht H5
  iapply (lwg c hg 10 rfl) $$ H0
  iintro H0
  iapply (W_assume c (chk10 g))
  iapply (tabif c 10 (by decide) rfl (cond11 g) (off10 g) ht) $$ H5
  clear ht
  iintro %f10 %ht H5
  simp only [pre_one, pre_add]
  iapply W_pure
  iapply K $$ %_ %ht H0 H5

theorem part119_spec {f : S16.Idx → Elt F .i32} (ht : Tab (F := F) g 11 f) {Q : _ → sProp (MT nD τ sig Unit (Elt F) ℕ UU ℕ)} :
    iprop(P0 c q0 fg ∗ P5 c f) ⊢ iprop((∀ f' : S16.Idx → Elt F .i32, ⌜Tab (F := F) g 16 f'⌝ -∗ P0 c q0 fg -∗ P5 c f' -∗ Q ⟨g 11, g 12, g 13, g 14, g 15, hwg g, pre g 16, Scalar.extui (Scalar.cmpi .sgt (pre g 16) 0#32)⟩) -∗ W c (k0_part119 A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 (g 0) (g 1) (g 2) (g 3) (g 4) (g 5) (g 6) (g 7) (g 8) (g 9) (pre g 10) (g 10) (Scalar.cmpi .sgt (g 10) 0#32)) Q) := by
  rw [k0_part119_eq_skeleton]
  unfold k0_part119_skel
  dsimp only
  iintro ⟨H0, H5⟩ K
  iapply (lwg c hg 11 rfl) $$ H0
  iintro H0
  iapply (W_assume c (chk11 g))
  iapply (tabif c 11 (by decide) rfl (cond12 g) (off11 g) ht) $$ H5
  clear ht
  iintro %f11 %ht H5
  iapply (lwg c hg 12 rfl) $$ H0
  iintro H0
  iapply (W_assume c (chk12 g))
  iapply (tabif c 12 (by decide) rfl (cond13 g) (off12 g) ht) $$ H5
  clear ht
  iintro %f12 %ht H5
  iapply (lwg c hg 13 rfl) $$ H0
  iintro H0
  iapply (W_assume c (chk13 g))
  iapply (tabif c 13 (by decide) rfl (cond14 g) (off13 g) ht) $$ H5
  clear ht
  iintro %f13 %ht H5
  iapply (lwg c hg 14 rfl) $$ H0
  iintro H0
  iapply (W_assume c (chk14 g))
  iapply (tabif c 14 (by decide) rfl (cond15 g) (off14 g) ht) $$ H5
  clear ht
  iintro %f14 %ht H5
  iapply (lwg c hg 15 rfl) $$ H0
  iintro H0
  iapply (W_assume c (hwg g))
  iapply (tabif c 15 (by decide) rfl (cond16 g) (off15 g) ht) $$ H5
  clear ht
  iintro %f15 %ht H5
  simp only [pre_one, pre_add]
  iapply W_pure
  iapply K $$ %_ %ht H0 H5

end

end Cert.Proof.KernelIdeal
end
end
-- ==== Proof.KernelIdeal.Zero.lean ====
module

public import proofs.«01_k».proof.Proof.KernelIdeal.Rows
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Transfers
public import Idealize.ShloMosaic.Lib.Batch
public import Idealize.ShloMosaic.Adequacy
public import Idealize.ShloMosaic.Init

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

open Classical in
section
variable {F : FTy → Type} [FloatOps F] (c : Dev nD)

/-- Change one summand. -/
theorem big_step {Φ Ψ : Fin 16 → sProp (MT nD τ sig Unit (Elt F) ℕ UU ℕ)} (e : Fin 16) (h : ∀ e', e' ≠ e → Φ e' = Ψ e') :
    bigSep Finset.univ Φ ⊢ iprop(Φ e ∗ (Ψ e -∗ bigSep Finset.univ Ψ)) := by
  rw [bigSep_univ_split e (Φ := Φ), bigSep_univ_split e (Φ := Ψ),
    bigSep_congr (s := Finset.univ.erase e) (Ψ := Ψ) (fun i hi => h i (Finset.ne_of_mem_erase hi))]
  show iprop(Φ e ∗ bigSep (Finset.univ.erase e) Ψ) ⊢ iprop(Φ e ∗ (Ψ e -∗ iprop(Ψ e ∗ bigSep (Finset.univ.erase e) Ψ)))
  iintro ⟨H1, H2⟩
  isplitl [H1]; · iexact H1
  iintro H
  isplitl [H]; · iexact H
  iexact H2

/-- A share of the zero rows, one for each expert. -/
abbrev Tok (zb : S24x7168.Idx → Elt F .bf16) (e : Fin 16) : sProp (MT nD τ sig Unit (Elt F) ℕ UU ℕ) :=
  PW c A12 (Transfers.shareTokN fullShare e.val) zb
/-- What the `t`-th copy of zero rows delivers. -/
def Dz (g : ℕ → BitVec 32) (zb : S24x7168.Idx → Elt F .bf16) (t : Fin (cnt (neg g) 16)) : sProp (MT nD τ sig Unit (Elt F) ℕ UU ℕ) :=
  iprop(RowV c zb (act (neg g) t.val) ∗ Tok c zb (act (neg g) t.val))
instance (g : ℕ → BitVec 32) (zb : S24x7168.Idx → Elt F .bf16) (t : Fin (cnt (neg g) 16)) :
    Storable (upEmb : UEmb _ (MT nD τ sig Unit (Elt F) ℕ UU ℕ)) (Dz c g zb t) := by
  unfold Dz RowV; infer_instance
abbrev zsem : DmaSem sig := (cc0_scratch12 : DmaSems sig S_).sem
abbrev NZ : ℕ := (oE 0).view.dmaCredit
theorem nz_o (e : Fin 16) : (oE e).view.dmaCredit = 1 * NZ := by revert e; decide
theorem nz_pos : 0 < NZ := by decide
/-- The copies of zero rows: `j` started, `u` words waited for. -/
abbrev ZB (g : ℕ → BitVec 32) (zb : S24x7168.Idx → Elt F .bf16) (j u : ℕ) : sProp (MT nD τ sig Unit (Elt F) ℕ UU ℕ) :=
  Transfers.Batch EC (c : Thread nD τ) (.dma zsem) () NZ (Dz c g zb) j u
/-- The rows of the inactive experts among the last ones, and the shares not lent. -/
def ZE (g : ℕ → BitVec 32) (zb : S24x7168.Idx → Elt F .bf16) (m : ℕ) (e : Fin 16) : sProp (MT nD τ sig Unit (Elt F) ℕ UU ℕ) :=
  if bit (g e.val) = 1 then Tok c zb e else if e.val < m then iprop(emp) else iprop(Row c e ∗ Tok c zb e)
def ZR (g : ℕ → BitVec 32) (zb : S24x7168.Idx → Elt F .bf16) (m : ℕ) : sProp (MT nD τ sig Unit (Elt F) ℕ UU ℕ) :=
  bigSep Finset.univ (ZE c g zb m)

theorem zr_take {g : ℕ → BitVec 32} {zb : S24x7168.Idx → Elt F .bf16} {m : ℕ} (e : Fin 16) (he : e.val = m) (hb : ¬ bit (g m) = 1) :
    ZR c g zb m ⊢ iprop(Row c e ∗ Tok c zb e ∗ ZR c g zb (m + 1)) := by
  have h := big_step (F := F) (Φ := ZE c g zb m) (Ψ := ZE c g zb (m + 1)) e (fun e' hne => by
    have : e'.val ≠ m := fun h => hne (Fin.ext (h.trans he.symm))
    unfold ZE
    by_cases h1 : e'.val < m
    · rw [if_pos h1, if_pos (show e'.val < m + 1 by omega)]
    · rw [if_neg h1, if_neg (show ¬ e'.val < m + 1 by omega)])
  have h1 : ZE c g zb m e = iprop(Row c e ∗ Tok c zb e) := by
    unfold ZE; rw [he, if_neg hb, if_neg (lt_irrefl m)]
  have h2 : ZE c g zb (m + 1) e = iprop(emp) := by
    unfold ZE; rw [he, if_neg hb, if_pos (Nat.lt_succ_self m)]
  rw [h1, h2] at h
  unfold ZR
  refine h.trans ?_
  iintro ⟨⟨H1, H2⟩, H3⟩
  isplitl [H1]; · iexact H1
  isplitl [H2]; · iexact H2
  iapply H3
  iempintro

theorem zr_skip {g : ℕ → BitVec 32} {zb : S24x7168.Idx → Elt F .bf16} {m : ℕ} (hb : bit (g m) = 1) :
    ZR c g zb m = ZR c g zb (m + 1) := by
  unfold ZR
  refine bigSep_congr fun e _ => ?_
  unfold ZE
  by_cases h : e.val = m
  · rw [h, if_pos hb, if_pos hb]
  · by_cases h1 : e.val < m
    · rw [if_pos h1, if_pos (show e.val < m + 1 by omega)]
    · rw [if_neg h1, if_neg (show ¬ e.val < m + 1 by omega)]

variable {α : Type} {Q : α → sProp (MT nD τ sig Unit (Elt F) ℕ UU ℕ)}

theorem cnt_neg_pos {g : ℕ → BitVec 32} {m : ℕ} (hb : ¬ bit (g m) = 1) : cnt (neg g) (m + 1) = cnt (neg g) m + 1 := by
  rw [cnt, (bit_neg g m).2 hb]
theorem cnt_neg_skip {g : ℕ → BitVec 32} {m : ℕ} (hb : bit (g m) = 1) : cnt (neg g) (m + 1) = cnt (neg g) m := by
  rw [cnt]
  rcases bit01 (neg g m) with h | h
  · rw [h, Nat.add_zero]
  · exact absurd hb ((bit_neg g m).1 h)

theorem zstart {g : ℕ → BitVec 32} (m : Fin 16) {zb : S24x7168.Idx → Elt F .bf16} {C : Prop} {dC : Decidable C} (hC : C ↔ ¬ bit (g m.val) = 1)
    {off : Fin 3 → ℕ} (ho : off = ![m.val, 0, 0]) {iE hsrc hdst hsem} {R : Prog (TpuEff nD τ sig (Elt F) Λ₀ .tc) α} :
    iprop(ZR c g zb m.val ∗ ZB c g zb (cnt (neg g) m.val) 0) ⊢ iprop((ZR c g zb (m.val + 1) ∗ ZB c g zb (cnt (neg g) (m.val + 1)) 0 -∗ W c R Q) -∗
      W c (if C then (Prog.lift (.enqueueDma A12
        (.here ((A4.slice (Rect.unit (s := S16x24x7168) off S1x24x7168.size iE) (fun _ => rfl)).squeeze S24x7168 squeezes_S1x24x7168_S24x7168))
        (.dma zsem) hsrc hdst hsem) >>= fun _ => R) else R) Q) := by
  subst ho
  by_cases hc : C
  · rw [if_pos hc]
    have hb := hC.1 hc
    rw [cnt_neg_pos hb]
    have hlt : cnt (neg g) m.val < cnt (neg g) 16 := cnt_lt16 (neg g) m ((bit_neg g _).2 hb)
    have hact : act (neg g) (cnt (neg g) m.val) = m := act_of (neg g) m ((bit_neg g _).2 hb)
    iintro ⟨HZ, HB⟩ K
    ihave HZ := (zr_take c m rfl hb) $$ HZ
    icases HZ with ⟨HR, HT, HZ⟩
    unfold Row
    icases HR with ⟨%f, HR⟩
    iapply (Transfers.wp_dmaBatch EC 𝒱₀ (c : Thread nD τ) none (src := A12) (via := .same) (dst := oE m) (sm := .dma zsem) (fs := zb) (fd := f) (q := Transfers.shareTokN fullShare m.val)
      (D := Dz c g zb) (j := cnt (neg g) m.val) (u := 0) (Q := Q) (k := fun _ => R) (defs := defs₀) () NZ ((nz_o m).trans (Nat.one_mul _)) (Finset.Subset.refl (oE m).view.set) hlt (Nat.zero_le _) (by
        unfold Dz
        rw [hact]
        unfold RowV
        iintro ⟨H1, H2⟩
        isplitl [H1]
        · iexists _
          isplitl [H1]; · iexact H1
          ipureintro
          exact View.read_write_univ _ _
        iexact H2)) $$ [HT HR HB]
    · isplitl [HT]; · iexact HT
      isplitl [HR]; · iexact HR
      iexact HB
    iintro HB
    iapply K
    isplitl [HZ]; · iexact HZ
    iexact HB
  · rw [if_neg hc]
    have hb : bit (g m.val) = 1 := by by_contra h; exact hc (hC.2 h)
    rw [cnt_neg_skip hb, ← zr_skip c hb]
    iintro H K
    iapply K
    iexact H

theorem zwait {g : ℕ → BitVec 32} (m : Fin 16) {zb : S24x7168.Idx → Elt F .bf16} {C : Prop} {dC : Decidable C} (hC : C ↔ ¬ bit (g m.val) = 1)
    {off : Fin 3 → ℕ} (ho : off = ![m.val, 0, 0]) {iE hsrc hdst} {R : Prog (TpuEff nD τ sig (Elt F) Λ₀ .tc) α} :
    iprop(ZB c g zb (cnt (neg g) 16) (NZ * cnt (neg g) m.val) ∗ OW c) ⊢ iprop((ZB c g zb (cnt (neg g) 16) (NZ * cnt (neg g) (m.val + 1)) ∗ OW c -∗ W c R Q) -∗
      W c (if C then (Prog.lift (.waitDma2 zsem A12
        ((A4.slice (Rect.unit (s := S16x24x7168) off S1x24x7168.size iE) (fun _ => rfl)).squeeze S24x7168 squeezes_S1x24x7168_S24x7168)
        hsrc hdst) >>= fun _ => R) else R) Q) := by
  subst ho
  by_cases hc : C
  · rw [if_pos hc]
    have hb := hC.1 hc
    have hlt : cnt (neg g) m.val < cnt (neg g) 16 := cnt_lt16 (neg g) m ((bit_neg g _).2 hb)
    rw [cnt_neg_pos hb]
    unfold OW
    iintro ⟨HB, %O, HO⟩ K
    iapply (Transfers.wp_waitBatchMul EC 𝒱₀ (c : Thread nD τ) none () 1 (srcw := A12) (dstw := oE m) (D := Dz c g zb) (j := cnt (neg g) 16) (u := NZ * cnt (neg g) m.val) (N := NZ) (Q := Q) (k := fun _ => R) (defs := defs₀)
      (nz_o m) (by rw [Nat.one_mul, ← Nat.mul_succ]; exact Nat.mul_le_mul_left _ hlt)) $$ [HB HO]
    · isplitl [HB]; · iexact HB
      iexact HO
    rw [Nat.one_mul, ← Nat.mul_succ]
    iintro ⟨HB, HO⟩
    iapply K
    isplitl [HB]; · iexact HB
    iexists _; iexact HO
  · rw [if_neg hc]
    have hb : bit (g m.val) = 1 := by by_contra h; exact hc (hC.2 h)
    rw [cnt_neg_skip hb]
    iintro H K
    iapply K
    iexact H
end

end Cert.Proof.KernelIdeal
end
end
-- ==== Proof.KernelIdeal.Loop.lean ====
module

public import proofs.«01_k».proof.Proof.KernelIdeal.Trip
public import proofs.«01_k».proof.Proof.KernelIdeal.Zero
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Transfers
public import Idealize.ShloMosaic.Lib.Batch
public import Idealize.ShloMosaic.Adequacy
public import Idealize.ShloMosaic.Init

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

section
variable {F : FTy → Type} [FloatOps F] (c : Dev nD)
variable (fx : S16x24x1536.Idx → Elt F .bf16) (fs : S16x56x12.Idx → Elt F .f32) (fw : S16x7168x1536.Idx → Elt F .fp8e4m3) (fg : S16.Idx → Elt F .i32)
variable (A : ℕ → Fin 16) (n : ℕ)

/-- A slot of inputs as the `i`-th trip finds it: with the copy in flight, or at rest after the last one. -/
def XS (i : ℕ) : sProp (MT nD τ sig Unit (Elt F) ℕ UU ℕ) := if i < n then Xin c fx (sl i) (A i) else Xfree c fx (sl i)
def SS (i : ℕ) : sProp (MT nD τ sig Unit (Elt F) ℕ UU ℕ) := if i < n then Sin c fs (sl i) (A i) else Sfree c fs (sl i)
def GS (i : ℕ) (q : Fin 7) : sProp (MT nD τ sig Unit (Elt F) ℕ UU ℕ) := if i < n then Gin c fw (sl i) q (A i) else Gfree c fw (sl i) q
def SLT (i : ℕ) : sProp (MT nD τ sig Unit (Elt F) ℕ UU ℕ) :=
  iprop(XS c fx A n i ∗ SS c fs A n i ∗ GS c fw A n i 0 ∗ GS c fw A n i 1 ∗ GS c fw A n i 2 ∗ GS c fw A n i 3 ∗ GS c fw A n i 4 ∗ GS c fw A n i 5 ∗ GS c fw A n i 6)
def SFree (s : Fin 2) : sProp (MT nD τ sig Unit (Elt F) ℕ UU ℕ) :=
  iprop(Xfree c fx s ∗ Sfree c fs s ∗ Gfree c fw s 0 ∗ Gfree c fw s 1 ∗ Gfree c fw s 2 ∗ Gfree c fw s 3 ∗ Gfree c fw s 4 ∗ Gfree c fw s 5 ∗ Gfree c fw s 6)

theorem SLT_in {i : ℕ} (h : i < n) : SLT c fx fs fw A n i = iprop(Xin c fx (sl i) (A i) ∗ Sin c fs (sl i) (A i) ∗ Gin c fw (sl i) 0 (A i) ∗ Gin c fw (sl i) 1 (A i) ∗ Gin c fw (sl i) 2 (A i) ∗ Gin c fw (sl i) 3 (A i) ∗ Gin c fw (sl i) 4 (A i) ∗ Gin c fw (sl i) 5 (A i) ∗ Gin c fw (sl i) 6 (A i)) := by
  unfold SLT XS SS GS; simp only [if_pos h]
theorem SLT_out {i : ℕ} (h : ¬ i < n) : SLT c fx fs fw A n i = SFree c fx fs fw (sl i) := by
  unfold SLT XS SS GS SFree; simp only [if_neg h]
theorem SLT_next (k : ℕ) : SLT c fx fs fw A n (k + 2) = iprop(Xnext c fx A n k ∗ Snext c fs A n k ∗ Gnext c fw A n k 0 ∗ Gnext c fw A n k 1 ∗ Gnext c fw A n k 2 ∗ Gnext c fw A n k 3 ∗ Gnext c fw A n k 4 ∗ Gnext c fw A n k 5 ∗ Gnext c fw A n k 6) := by
  unfold SLT XS SS GS Xnext Snext Gnext; rw [sl_succ2]

/-- The result rows of expert `e` as the kernel leaves them. -/
def RowK (e : Fin 16) : sProp (MT nD τ sig Unit (Elt F) ℕ UU ℕ) := iprop(∃ v : S24x7168.Idx → Elt F .bf16, ⌜OKv fx fs fw fg e v⌝ ∗ RowV c v e)
def OinK (s : Fin 2) (e : Fin 16) : sProp (MT nD τ sig Unit (Elt F) ℕ UU ℕ) := iprop(∃ v : S24x7168.Idx → Elt F .bf16, ⌜OKv fx fs fw fg e v⌝ ∗ Oin c v s e)
/-- A slot of results as the `i`-th trip finds it. -/
def OS (i : ℕ) : sProp (MT nD τ sig Unit (Elt F) ℕ UU ℕ) := if 2 ≤ i then OinK c fx fs fw fg (sl i) (A (i - 2)) else Ofree c (sl i)

/-- The rows of the active experts: finished below `a`, in flight below `b`. -/
def RE (g : ℕ → BitVec 32) (a b : ℕ) (e : Fin 16) : sProp (MT nD τ sig Unit (Elt F) ℕ UU ℕ) :=
  if bit (g e.val) = 1 then (if cnt g e.val < a then RowK c fx fs fw fg e else if cnt g e.val < b then iprop(emp) else Row c e) else iprop(emp)
def RW (g : ℕ → BitVec 32) (a b : ℕ) : sProp (MT nD τ sig Unit (Elt F) ℕ UU ℕ) := bigSep Finset.univ (RE c fx fs fw fg g a b)

theorem rw_take {g : ℕ → BitVec 32} {a b : ℕ} (hab : a ≤ b) (hb : b < cnt g 16) :
    RW c fx fs fw fg g a b ⊢ iprop(Row c (act g b) ∗ RW c fx fs fw fg g a (b + 1)) := by
  have hB := act_bit g hb
  have hC := act_cnt g hb
  have h := big_step (F := F) (Φ := RE c fx fs fw fg g a b) (Ψ := RE c fx fs fw fg g a (b + 1)) (act g b) (fun e' hne => by
    unfold RE
    by_cases h0 : bit (g e'.val) = 1
    · rw [if_pos h0, if_pos h0]
      have h1 : cnt g e'.val ≠ b := fun h => hne ((act_of g e' h0).symm.trans (congrArg (act g) h))
      by_cases h2 : cnt g e'.val < b
      · rw [if_pos h2, if_pos (show cnt g e'.val < b + 1 by omega)]
      · rw [if_neg h2, if_neg (show ¬ cnt g e'.val < b + 1 by omega)]
    · rw [if_neg h0, if_neg h0])
  have h1 : RE c fx fs fw fg g a b (act g b) = Row c (act g b) := by
    unfold RE; rw [hC, if_pos hB, if_neg (show ¬ b < a by omega), if_neg (lt_irrefl b)]
  have h2 : RE c fx fs fw fg g a (b + 1) (act g b) = iprop(emp) := by
    unfold RE; rw [hC, if_pos hB, if_neg (show ¬ b < a by omega), if_pos (Nat.lt_succ_self b)]
  rw [h1, h2] at h
  unfold RW
  refine h.trans ?_
  iintro ⟨H1, H3⟩
  isplitl [H1]; · iexact H1
  iapply H3
  iempintro

theorem rw_put {g : ℕ → BitVec 32} {a b : ℕ} (hab : a < b) (hb : a < cnt g 16) :
    iprop(RW c fx fs fw fg g a b ∗ RowK c fx fs fw fg (act g a)) ⊢ RW c fx fs fw fg g (a + 1) b := by
  have hB := act_bit g hb
  have hC := act_cnt g hb
  have h := big_step (F := F) (Φ := RE c fx fs fw fg g a b) (Ψ := RE c fx fs fw fg g (a + 1) b) (act g a) (fun e' hne => by
    unfold RE
    by_cases h0 : bit (g e'.val) = 1
    · rw [if_pos h0, if_pos h0]
      have h1 : cnt g e'.val ≠ a := fun h => hne ((act_of g e' h0).symm.trans (congrArg (act g) h))
      by_cases h2 : cnt g e'.val < a
      · rw [if_pos h2, if_pos (show cnt g e'.val < a + 1 by omega)]
      · rw [if_neg h2, if_neg (show ¬ cnt g e'.val < a + 1 by omega)]
    · rw [if_neg h0, if_neg h0])
  have h1 : RE c fx fs fw fg g a b (act g a) = iprop(emp) := by
    unfold RE; rw [hC, if_pos hB, if_neg (lt_irrefl a), if_pos hab]
  have h2 : RE c fx fs fw fg g (a + 1) b (act g a) = RowK c fx fs fw fg (act g a) := by
    unfold RE; rw [hC, if_pos hB, if_pos (Nat.lt_succ_self a)]
  rw [h1, h2] at h
  unfold RW
  iintro ⟨H, HK⟩
  ihave H := h $$ H
  icases H with ⟨-, H⟩
  iapply H
  iexact HK

/-- The invariant of the loop over the active experts. -/
def LI (g : ℕ → BitVec 32) (q0 : PosShare TreeShare) (ft : S16.Idx → Elt F .i32) (k : ℕ) : sProp (MT nD τ sig Unit (Elt F) ℕ UU ℕ) :=
  iprop(P5 c ft ∗ P0 c q0 fg ∗ OW c ∗ SLT c fx fs fw (act g) (cnt g 16) k ∗ SLT c fx fs fw (act g) (cnt g 16) (k + 1) ∗ (∃ f, P9 c f) ∗ (∃ f, P10 c f) ∗
    OS c fx fs fw fg (act g) k ∗ OS c fx fs fw fg (act g) (k + 1) ∗ RW c fx fs fw fg g (k - 2) k)
end

section
variable {F : FTy → Type} [FloatOps F] (c : Dev nD)
variable {fx : S16x24x1536.Idx → Elt F .bf16} {fs : S16x56x12.Idx → Elt F .f32} {fw : S16x7168x1536.Idx → Elt F .fp8e4m3} {fg : S16.Idx → Elt F .i32}
variable {v0 v6 v12 v18 v24 v30 v36 v42 v48 v54 v60 v66 v72 v78 v84 v90 : BitVec 32} (hw : k0_chk15 v0 v6 v12 v18 v24 v30 v36 v42 v48 v54 v60 v66 v72 v78 v84 v90) {g : ℕ → BitVec 32} (hN : NW v0 v6 v12 v18 v24 v30 v36 v42 v48 v54 v60 v66 v72 v78 v84 v90 = BitVec.ofNat 32 (cnt g 16))
  {ft : S16.Idx → Elt F .i32} (hT : ∀ i, i < cnt g 16 → tw (F := F) ft (p16 i) = BitVec.ofNat 32 (act g i).val)
  {q0 : PosShare TreeShare} {v95 : BitVec 32} {v157 : BitVec 1}

include hw hN hT in
theorem trip_inv (k : Fin (k0_t1_loop v0 v6 v12 v18 v24 v30 v36 v42 v48 v54 v60 v66 v72 v78 v84 v90).trips) :
    LI c fx fs fw fg g q0 ft k.val ⊢ W c (k0_t1_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw v95 v157 k ⟨⟩) (fun _ => LI c fx fs fw fg g q0 ft (k.val + 1)) := by
  have hkn := klt (cnt_le g 16) hN k
  unfold LI
  rw [SLT_in c fx fs fw (act g) (cnt g 16) hkn]
  iintro ⟨H5, H0, HW, ⟨HX, HS, HG0, HG1, HG2, HG3, HG4, HG5, HG6⟩, HSL, H9, H10, HO, HO1, HR⟩
  ihave HR := (rw_take c fx fs fw fg (Nat.sub_le k.val 2) hkn) $$ HR
  icases HR with ⟨HRow, HR⟩
  by_cases h2 : 2 ≤ k.val
  · have e1 : OS c fx fs fw fg (act g) k.val = OinK c fx fs fw fg (sl k.val) (act g (k.val - 2)) := by unfold OS; rw [if_pos h2]
    ihave HO := (Entails.of_eq (e1.trans (by unfold OinK; rfl) : _ = iprop(∃ v : S24x7168.Idx → Elt F .bf16, ⌜OKv fx fs fw fg (act g (k.val - 2)) v⌝ ∗ Oin c v (sl k.val) (act g (k.val - 2))))) $$ HO
    icases HO with ⟨%v, %hv, HO⟩
    iapply (trip c hw (cnt_le g 16) hN hT k (fx := fx) (fs := fs) (fw := fw) (fg := fg) (vv := fun _ => v) (q0 := q0)) $$ [H5 H0 HW HX HS HG0 HG1 HG2 HG3 HG4 HG5 HG6 H9 H10 HO HRow]
    · isplitl [H5]; · iexact H5
      isplitl [H0]; · iexact H0
      isplitl [HW]; · iexact HW
      isplitl [HX]; · iexact HX
      isplitl [HS]; · iexact HS
      isplitl [HG0]; · iexact HG0
      isplitl [HG1]; · iexact HG1
      isplitl [HG2]; · iexact HG2
      isplitl [HG3]; · iexact HG3
      isplitl [HG4]; · iexact HG4
      isplitl [HG5]; · iexact HG5
      isplitl [HG6]; · iexact HG6
      isplitl [H9]; · iexact H9
      isplitl [H10]; · iexact H10
      isplitl [HO]
      · iapply (Entails.of_eq (show Oin c v (sl k.val) (act g (k.val - 2)) = Oprev c (act g) (fun _ => v) k.val by unfold Oprev; rw [if_pos h2])); iexact HO
      iexact HRow
    iintro %v2 ⟨HO, %hv2, H5, H0, HW, HX, HS, HG0, HG1, HG2, HG3, HG4, HG5, HG6, H9, H10, HRV⟩
    ihave HRV := (Entails.of_eq (show Rprev c (act g) (fun _ => v) k.val = RowV c v (act g (k.val - 2)) by unfold Rprev; rw [if_pos h2])) $$ HRV
    ihave HR := (rw_put c fx fs fw fg (g := g) (a := k.val - 2) (b := k.val + 1) (by omega) (by omega)) $$ [HR HRV]
    · isplitl [HR]; · iexact HR
      iapply (Entails.of_eq (show iprop(∃ v : S24x7168.Idx → Elt F .bf16, ⌜OKv fx fs fw fg (act g (k.val - 2)) v⌝ ∗ RowV c v (act g (k.val - 2))) = RowK c fx fs fw fg (act g (k.val - 2)) by unfold RowK; rfl))
      iexists v
      isplitr; · ipureintro; exact hv
      iexact HRV
    ihave HR := (Entails.of_eq (show RW c fx fs fw fg g (k.val - 2 + 1) (k.val + 1) = RW c fx fs fw fg g (k.val + 1 - 2) (k.val + 1) by rw [show k.val - 2 + 1 = k.val + 1 - 2 by omega])) $$ HR
    isplitl [H5]; · iexact H5
    isplitl [H0]; · iexact H0
    isplitl [HW]; · iexact HW
    isplitl [HSL]; · iexact HSL
    isplitl [HX HS HG0 HG1 HG2 HG3 HG4 HG5 HG6]
    · iapply (Entails.of_eq (SLT_next c fx fs fw (act g) (cnt g 16) k.val).symm)
      isplitl [HX]; · iexact HX
      isplitl [HS]; · iexact HS
      isplitl [HG0]; · iexact HG0
      isplitl [HG1]; · iexact HG1
      isplitl [HG2]; · iexact HG2
      isplitl [HG3]; · iexact HG3
      isplitl [HG4]; · iexact HG4
      isplitl [HG5]; · iexact HG5
      iexact HG6
    isplitl [H9]; · iexact H9
    isplitl [H10]; · iexact H10
    isplitl [HO1]; · iexact HO1
    isplitl [HO]
    · have e2 : OS c fx fs fw fg (act g) (k.val + 2) = OinK c fx fs fw fg (sl k.val) (act g k.val) := by
        unfold OS; rw [if_pos (show 2 ≤ k.val + 2 by omega), sl_succ2]; rfl
      iapply (Entails.of_eq (show iprop(∃ v : S24x7168.Idx → Elt F .bf16, ⌜OKv fx fs fw fg (act g k.val) v⌝ ∗ Oin c v (sl k.val) (act g k.val)) = OS c fx fs fw fg (act g) (k.val + 2) by rw [e2]; unfold OinK; rfl))
      iexists v2
      isplitr; · ipureintro; exact hv2
      iexact HO
    iexact HR
  · have e1 : OS c fx fs fw fg (act g) k.val = Ofree c (sl k.val) := by unfold OS; rw [if_neg h2]
    ihave HO := (Entails.of_eq e1) $$ HO
    iapply (trip c hw (cnt_le g 16) hN hT k (fx := fx) (fs := fs) (fw := fw) (fg := fg) (vv := fun _ => k0_pay435 (F := F)) (q0 := q0)) $$ [H5 H0 HW HX HS HG0 HG1 HG2 HG3 HG4 HG5 HG6 H9 H10 HO HRow]
    · isplitl [H5]; · iexact H5
      isplitl [H0]; · iexact H0
      isplitl [HW]; · iexact HW
      isplitl [HX]; · iexact HX
      isplitl [HS]; · iexact HS
      isplitl [HG0]; · iexact HG0
      isplitl [HG1]; · iexact HG1
      isplitl [HG2]; · iexact HG2
      isplitl [HG3]; · iexact HG3
      isplitl [HG4]; · iexact HG4
      isplitl [HG5]; · iexact HG5
      isplitl [HG6]; · iexact HG6
      isplitl [H9]; · iexact H9
      isplitl [H10]; · iexact H10
      isplitl [HO]
      · iapply (Entails.of_eq (show Ofree c (sl k.val) = Oprev c (act g) (fun _ => k0_pay435 (F := F)) k.val by unfold Oprev; rw [if_neg h2])); iexact HO
      iexact HRow
    iintro %v2 ⟨HO, %hv2, H5, H0, HW, HX, HS, HG0, HG1, HG2, HG3, HG4, HG5, HG6, H9, H10, HRV⟩
    ihave HR := (Entails.of_eq (show RW c fx fs fw fg g (k.val - 2) (k.val + 1) = RW c fx fs fw fg g (k.val + 1 - 2) (k.val + 1) by rw [show k.val + 1 - 2 = k.val - 2 by omega])) $$ HR
    isplitl [H5]; · iexact H5
    isplitl [H0]; · iexact H0
    isplitl [HW]; · iexact HW
    isplitl [HSL]; · iexact HSL
    isplitl [HX HS HG0 HG1 HG2 HG3 HG4 HG5 HG6]
    · iapply (Entails.of_eq (SLT_next c fx fs fw (act g) (cnt g 16) k.val).symm)
      isplitl [HX]; · iexact HX
      isplitl [HS]; · iexact HS
      isplitl [HG0]; · iexact HG0
      isplitl [HG1]; · iexact HG1
      isplitl [HG2]; · iexact HG2
      isplitl [HG3]; · iexact HG3
      isplitl [HG4]; · iexact HG4
      isplitl [HG5]; · iexact HG5
      iexact HG6
    isplitl [H9]; · iexact H9
    isplitl [H10]; · iexact H10
    isplitl [HO1]; · iexact HO1
    isplitl [HO]
    · have e2 : OS c fx fs fw fg (act g) (k.val + 2) = OinK c fx fs fw fg (sl k.val) (act g k.val) := by
        unfold OS; rw [if_pos (show 2 ≤ k.val + 2 by omega), sl_succ2]; rfl
      iapply (Entails.of_eq (show iprop(∃ v : S24x7168.Idx → Elt F .bf16, ⌜OKv fx fs fw fg (act g k.val) v⌝ ∗ Oin c v (sl k.val) (act g k.val)) = OS c fx fs fw fg (act g) (k.val + 2) by rw [e2]; unfold OinK; rfl))
      iexists v2
      isplitr; · ipureintro; exact hv2
      iexact HO
    iexact HR

include hN hT in
theorem loops {α : Type} {Q : α → sProp (MT nD τ sig Unit (Elt F) ℕ UU ℕ)} {R : Prog (TpuEff nD τ sig (Elt F) Λ₀ .tc) α} {b2 : Fin (k0_t2_loop v0 v6 v12 v18 v24 v30 v36 v42 v48 v54 v60 v66 v72 v78 v84 v90).trips → Unit → Prog (TpuEff nD τ sig (Elt F) Λ₀ .tc) Unit} :
    LI c fx fs fw fg g q0 ft 0 ⊢ iprop((LI c fx fs fw fg g q0 ft (cnt g 16) -∗ W c R Q) -∗
      W c (Scf.Loop.for (k0_t1_loop v0 v6 v12 v18 v24 v30 v36 v42 v48 v54 v60 v66 v72 v78 v84 v90) (k0_t1_ok v0 v6 v12 v18 v24 v30 v36 v42 v48 v54 v60 v66 v72 v78 v84 v90 hw) ⟨⟩ (k0_t1_body A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw v95 v157) >>= fun _ =>
        Scf.Loop.for (k0_t2_loop v0 v6 v12 v18 v24 v30 v36 v42 v48 v54 v60 v66 v72 v78 v84 v90) (k0_t2_ok v0 v6 v12 v18 v24 v30 v36 v42 v48 v54 v60 v66 v72 v78 v84 v90 hw) ⟨⟩ b2 >>= fun _ => R) Q) := by
  iintro H K
  iapply (Scf.wp_for_bind (E := TpuEff nD τ sig (Elt F) Λ₀ .tc) _ _ _ _ _ _ _ _ _ (fun k _ => LI c fx fs fw fg g q0 ft k) (fun k _ => trip_inv c hw hN hT k)) $$ H
  iintro %_ H
  iapply (Scf.wp_for_bind (E := TpuEff nD τ sig (Elt F) Λ₀ .tc) _ _ _ _ _ _ _ _ _ (fun k _ => LI c fx fs fw fg g q0 ft (cnt g 16)) (fun k _ => no2 (cnt_le g 16) hN k)) $$ [H]
  · have := trips1 (cnt_le g 16) hN
    rw [← this]
    iexact H
  iintro %_ H
  iapply K $$ H
end

end Cert.Proof.KernelIdeal
end
end
-- ==== Proof.KernelIdeal.Prologue.lean ====
module

public import proofs.«01_k».proof.Proof.KernelIdeal.Loop
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Transfers
public import Idealize.ShloMosaic.Lib.Batch
public import Idealize.ShloMosaic.Adequacy
public import Idealize.ShloMosaic.Init

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

section
variable {F : FTy → Type} [FloatOps F] (c : Dev nD)
variable {fx : S16x24x1536.Idx → Elt F .bf16} {fs : S16x56x12.Idx → Elt F .f32} {fw : S16x7168x1536.Idx → Elt F .fp8e4m3}
variable {v0 v6 v12 v18 v24 v30 v36 v42 v48 v54 v60 v66 v72 v78 v84 v90 : BitVec 32} {n : ℕ} (hn : n ≤ 16) (hN : NW v0 v6 v12 v18 v24 v30 v36 v42 v48 v54 v60 v66 v72 v78 v84 v90 = BitVec.ofNat 32 n)
  {act : ℕ → Fin 16} {ft : S16.Idx → Elt F .i32} (hT : ∀ i, i < n → tw ft (p16 i) = BitVec.ofNat 32 (act i).val)

include hT in
theorem part1_spec (hi : 0 < n) (h : k0_cond17 v0 v6 v12 v18 v24 v30 v36 v42 v48 v54 v60 v66 v72 v78 v84 v90 = 1#1) {Q : _ → sProp (MT nD τ sig Unit (Elt F) ℕ UU ℕ)} :
    iprop(P5 c ft ∗ Xfree c fx (sl 0) ∗ Sfree c fs (sl 0) ∗ Gfree c fw (sl 0) 0) ⊢ iprop((P5 c ft ∗ Xin c fx (sl 0) (act 0) ∗ Sin c fs (sl 0) (act 0) ∗ Gin c fw (sl 0) 0 (act 0) -∗ Q ⟨tw ft (p16 0), by rw [hT _ hi]; exact chk19 _⟩) -∗ W c (k0_part1 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 h) Q) := by
  rw [k0_part1_eq_skeleton]
  unfold k0_part1_skel
  dsimp only
  iintro ⟨H5, HX, HS, HG0⟩ K
  iapply (lw5 c (p16 0) rfl) $$ H5
  iintro H5
  iapply (W_assume c (by rw [hT _ hi]; exact chk16 _))
  iapply (startX c (fx := fx) (sl 0) (act 0) rfl rfl (by rw [hT _ hi]; exact off16 _)) $$ HX
  iintro HX
  iapply (lw5 c (p16 0) rfl) $$ H5
  iintro H5
  iapply (W_assume c (by rw [hT _ hi]; exact chk17 _))
  iapply (startS c (fx := fs) (sl 0) (act 0) rfl rfl (by rw [hT _ hi]; exact off17 _)) $$ HS
  iintro HS
  iapply (lw5 c (p16 0) rfl) $$ H5
  iintro H5
  iapply (W_assume c (by rw [hT _ hi]; exact chk18 _))
  iapply (startG c (fx := fw) (sl 0) 0 (act 0) rfl rfl (by rw [hT _ hi]; exact off18 _)) $$ HG0
  iintro HG0
  iapply (lw5 c (p16 0) rfl) $$ H5
  iintro H5
  iapply (W_assume c (by rw [hT _ hi]; exact chk19 _))
  iapply W_pure
  iapply K
  isplitl [H5]; · iexact H5
  isplitl [HX]; · iexact HX
  isplitl [HS]; · iexact HS
  iexact HG0

include hT in
theorem part2_spec (hi : 0 < n) (h : k0_cond17 v0 v6 v12 v18 v24 v30 v36 v42 v48 v54 v60 v66 v72 v78 v84 v90 = 1#1) (v266 : BitVec 32) (hv : v266 = BitVec.ofNat 32 (act 0).val) (hv2 : k0_chk19 v0 v6 v12 v18 v24 v30 v36 v42 v48 v54 v60 v66 v72 v78 v84 v90 v266) {Q : _ → sProp (MT nD τ sig Unit (Elt F) ℕ UU ℕ)} :
    iprop(P5 c ft ∗ Gfree c fw (sl 0) 1 ∗ Gfree c fw (sl 0) 2 ∗ Gfree c fw (sl 0) 3 ∗ Gfree c fw (sl 0) 4) ⊢ iprop((P5 c ft ∗ Gin c fw (sl 0) 1 (act 0) ∗ Gin c fw (sl 0) 2 (act 0) ∗ Gin c fw (sl 0) 3 (act 0) ∗ Gin c fw (sl 0) 4 (act 0) -∗ Q ⟨tw ft (p16 0), by rw [hT _ hi]; exact chk23 _⟩) -∗ W c (k0_part2 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 h v266 hv2) Q) := by
  rw [k0_part2_eq_skeleton]
  unfold k0_part2_skel
  dsimp only
  iintro ⟨H5, HG1, HG2, HG3, HG4⟩ K
  iapply (startG c (fx := fw) (sl 0) 1 (act 0) rfl rfl (by rw [hv]; exact off19 _)) $$ HG1
  iintro HG1
  iapply (lw5 c (p16 0) rfl) $$ H5
  iintro H5
  iapply (W_assume c (by rw [hT _ hi]; exact chk20 _))
  iapply (startG c (fx := fw) (sl 0) 2 (act 0) rfl rfl (by rw [hT _ hi]; exact off20 _)) $$ HG2
  iintro HG2
  iapply (lw5 c (p16 0) rfl) $$ H5
  iintro H5
  iapply (W_assume c (by rw [hT _ hi]; exact chk21 _))
  iapply (startG c (fx := fw) (sl 0) 3 (act 0) rfl rfl (by rw [hT _ hi]; exact off21 _)) $$ HG3
  iintro HG3
  iapply (lw5 c (p16 0) rfl) $$ H5
  iintro H5
  iapply (W_assume c (by rw [hT _ hi]; exact chk22 _))
  iapply (startG c (fx := fw) (sl 0) 4 (act 0) rfl rfl (by rw [hT _ hi]; exact off22 _)) $$ HG4
  iintro HG4
  iapply (lw5 c (p16 0) rfl) $$ H5
  iintro H5
  iapply (W_assume c (by rw [hT _ hi]; exact chk23 _))
  iapply W_pure
  iapply K
  isplitl [H5]; · iexact H5
  isplitl [HG1]; · iexact HG1
  isplitl [HG2]; · iexact HG2
  isplitl [HG3]; · iexact HG3
  iexact HG4

include hn hN hT in
theorem if17 {α : Type} {Q : α → sProp (MT nD τ sig Unit (Elt F) ℕ UU ℕ)} {R : Prog (TpuEff nD τ sig (Elt F) Λ₀ .tc) α} :
    iprop(P5 c ft ∗ SFree c fx fs fw (sl 0)) ⊢ iprop((P5 c ft ∗ SLT c fx fs fw act n 0 -∗ W c R Q) -∗ W c (if k0_h17 : k0_cond17 v0 v6 v12 v18 v24 v30 v36 v42 v48 v54 v60 v66 v72 v78 v84 v90 = 1#1 then (do
        let ⟨v266, k0_hw19⟩ : Σ' (v266 : Elt F .i32), k0_chk19 v0 v6 v12 v18 v24 v30 v36 v42 v48 v54 v60 v66 v72 v78 v84 v90 v266 ← k0_part1 A0 (Memref.isWhole_whole _ : A0.IsWhole) A1 (Memref.isWhole_whole _ : A1.IsWhole) A2 (Memref.isWhole_whole _ : A2.IsWhole) A3 (Memref.isWhole_whole _ : A3.IsWhole) A4 (Memref.isWhole_whole _ : A4.IsWhole) A5 (Memref.isWhole_whole _ : A5.IsWhole) A6 (Memref.isWhole_whole _ : A6.IsWhole) A7 (Memref.isWhole_whole _ : A7.IsWhole) A8 (Memref.isWhole_whole _ : A8.IsWhole) A9 (Memref.isWhole_whole _ : A9.IsWhole) A10 (Memref.isWhole_whole _ : A10.IsWhole) A11 (Memref.isWhole_whole _ : A11.IsWhole) A12 (Memref.isWhole_whole _ : A12.IsWhole) cc0_scratch8 cc0_scratch9 cc0_scratch10 cc0_scratch11 cc0_scratch12 v0 v6 v12 v18 v24 v30 v36 v42 v48 v54 v60 v66 v72 v78 v84 v90 k0_h17
        let ⟨v294, k0_hw23⟩ : Σ' (v294 : Elt F .i32), k0_chk23 v0 v6 v12 v18 v24 v30 v36 v42 v48 v54 v60 v66 v72 v78 v84 v90 v294 ← k0_part2 A0 (Memref.isWhole_whole _ : A0.IsWhole) A1 (Memref.isWhole_whole _ : A1.IsWhole) A2 (Memref.isWhole_whole _ : A2.IsWhole) A3 (Memref.isWhole_whole _ : A3.IsWhole) A4 (Memref.isWhole_whole _ : A4.IsWhole) A5 (Memref.isWhole_whole _ : A5.IsWhole) A6 (Memref.isWhole_whole _ : A6.IsWhole) A7 (Memref.isWhole_whole _ : A7.IsWhole) A8 (Memref.isWhole_whole _ : A8.IsWhole) A9 (Memref.isWhole_whole _ : A9.IsWhole) A10 (Memref.isWhole_whole _ : A10.IsWhole) A11 (Memref.isWhole_whole _ : A11.IsWhole) A12 (Memref.isWhole_whole _ : A12.IsWhole) cc0_scratch8 cc0_scratch9 cc0_scratch10 cc0_scratch11 cc0_scratch12 v0 v6 v12 v18 v24 v30 v36 v42 v48 v54 v60 v66 v72 v78 v84 v90 k0_h17 v266 k0_hw19
        let v295 : DmaSems sig S1x1 := cc0_scratch10.slice (Rect.unit (s := S2x7) ![0, 5] S1x1.size inb_S2x7_S1x1_0_5)
        let v296 : DmaSems sig S_ := v295.squeeze S_ squeezes_S1x1_S_
        let v297 : Memref sig .tc .vmem S1x1024x1536 .fp8e4m3 := A8.slice (Rect.unit (s := S2x7168x1536) ![0, 5120, 0] S1x1024x1536.size inb_S2x7168x1536_S1x1024x1536_0_5120_0) (fun _ => rfl)
        let v298 : Memref sig .tc .vmem S1024x1536 .fp8e4m3 := v297.squeeze S1024x1536 squeezes_S1x1024x1536_S1024x1536
        let v299 : Memref sig .tc .hbm S1x1024x1536 .fp8e4m3 := A2.slice (Rect.unit (s := S16x7168x1536) (k0_off23 v294) S1x1024x1536.size (k0_off23_inb v0 v6 v12 v18 v24 v30 v36 v42 v48 v54 v60 v66 v72 v78 v84 v90 v294 k0_hw23 k0_h17)) (fun _ => rfl)
        let v300 : Memref sig .tc .hbm S1024x1536 .fp8e4m3 := v299.squeeze S1024x1536 squeezes_S1x1024x1536_S1024x1536
        Prog.lift (.enqueueDma v300 (.here v298) (.dma v296.sem) (((Memref.isWhole_whole _ : A2.IsWhole).wordExact_slice rfl _ (k0_off23_wordsfp8e4m3 v0 v6 v12 v18 v24 v30 v36 v42 v48 v54 v60 v66 v72 v78 v84 v90 v294 k0_hw23 k0_h17)).reshape _ _) (((Memref.isWhole_whole _ : A8.IsWhole).wordExact_slice rfl _ wordsfp8e4m3_S2x7168x1536_S1x1024x1536_0_5120_0).reshape _ _) ⟨Or.inl rfl, trivial⟩)
        let v301 : Elt F .i32 ← smemLoad A5 (Rect.unit (s := S16) ![0] S1.size inb_S16_S1_0) numel1_S1 rfl
        have k0_hw24 : k0_chk24 v0 v6 v12 v18 v24 v30 v36 v42 v48 v54 v60 v66 v72 v78 v84 v90 v301 := (← Prog.lift (TpuEff.assume (k0_chk24 v0 v6 v12 v18 v24 v30 v36 v42 v48 v54 v60 v66 v72 v78 v84 v90 v301) (k0_chk24.dec v0 v6 v12 v18 v24 v30 v36 v42 v48 v54 v60 v66 v72 v78 v84 v90 v301))).down
        let v302 : DmaSems sig S1x1 := cc0_scratch10.slice (Rect.unit (s := S2x7) ![0, 6] S1x1.size inb_S2x7_S1x1_0_6)
        let v303 : DmaSems sig S_ := v302.squeeze S_ squeezes_S1x1_S_
        let v304 : Memref sig .tc .vmem S1x1024x1536 .fp8e4m3 := A8.slice (Rect.unit (s := S2x7168x1536) ![0, 6144, 0] S1x1024x1536.size inb_S2x7168x1536_S1x1024x1536_0_6144_0) (fun _ => rfl)
        let v305 : Memref sig .tc .vmem S1024x1536 .fp8e4m3 := v304.squeeze S1024x1536 squeezes_S1x1024x1536_S1024x1536
        let v306 : Memref sig .tc .hbm S1x1024x1536 .fp8e4m3 := A2.slice (Rect.unit (s := S16x7168x1536) (k0_off24 v301) S1x1024x1536.size (k0_off24_inb v0 v6 v12 v18 v24 v30 v36 v42 v48 v54 v60 v66 v72 v78 v84 v90 v301 k0_hw24 k0_h17)) (fun _ => rfl)
        let v307 : Memref sig .tc .hbm S1024x1536 .fp8e4m3 := v306.squeeze S1024x1536 squeezes_S1x1024x1536_S1024x1536
        Prog.lift (.enqueueDma v307 (.here v305) (.dma v303.sem) (((Memref.isWhole_whole _ : A2.IsWhole).wordExact_slice rfl _ (k0_off24_wordsfp8e4m3 v0 v6 v12 v18 v24 v30 v36 v42 v48 v54 v60 v66 v72 v78 v84 v90 v301 k0_hw24 k0_h17)).reshape _ _) (((Memref.isWhole_whole _ : A8.IsWhole).wordExact_slice rfl _ wordsfp8e4m3_S2x7168x1536_S1x1024x1536_0_6144_0).reshape _ _) ⟨Or.inl rfl, trivial⟩)
        R) else R) Q) := by
  by_cases hi : 0 < n
  · have hc := (cond17 hn hN).2 hi
    rw [dif_pos hc, SLT_in c fx fs fw act n hi]
    unfold SFree
    iintro ⟨H5, HX, HS, HG0, HG1, HG2, HG3, HG4, HG5, HG6⟩ K
    iapply (W_bind c)
    iapply (part1_spec c hT hi hc) $$ [H5 HX HS HG0]
    · isplitl [H5]; · iexact H5
      isplitl [HX]; · iexact HX
      isplitl [HS]; · iexact HS
      iexact HG0
    iintro ⟨H5, HX, HS, HG0⟩
    dsimp only
    iapply (W_bind c)
    iapply (part2_spec c hT hi hc _ (hT _ hi) _) $$ [H5 HG1 HG2 HG3 HG4]
    · isplitl [H5]; · iexact H5
      isplitl [HG1]; · iexact HG1
      isplitl [HG2]; · iexact HG2
      isplitl [HG3]; · iexact HG3
      iexact HG4
    iintro ⟨H5, HG1, HG2, HG3, HG4⟩
    dsimp only
    iapply (startG c (fx := fw) (sl 0) 5 (act 0) rfl rfl (by rw [hT _ hi]; exact off23 _)) $$ HG5
    iintro HG5
    iapply (lw5 c (p16 0) rfl) $$ H5
    iintro H5
    iapply (W_assume c (by rw [hT _ hi]; exact chk24 _))
    iapply (startG c (fx := fw) (sl 0) 6 (act 0) rfl rfl (by rw [hT _ hi]; exact off24 _)) $$ HG6
    iintro HG6
    iapply K
    isplitl [H5]; · iexact H5
    isplitl [HX]; · iexact HX
    isplitl [HS]; · iexact HS
    isplitl [HG0]; · iexact HG0
    isplitl [HG1]; · iexact HG1
    isplitl [HG2]; · iexact HG2
    isplitl [HG3]; · iexact HG3
    isplitl [HG4]; · iexact HG4
    isplitl [HG5]; · iexact HG5
    iexact HG6
  · rw [dif_neg (mt (cond17 hn hN).1 hi), SLT_out c fx fs fw act n hi]
    iintro H K
    iapply K
    iexact H

include hT in
theorem part3_spec (hi : 1 < n) (h : k0_cond18 v0 v6 v12 v18 v24 v30 v36 v42 v48 v54 v60 v66 v72 v78 v84 v90 = 1#1) {Q : _ → sProp (MT nD τ sig Unit (Elt F) ℕ UU ℕ)} :
    iprop(P5 c ft ∗ Xfree c fx (sl 1) ∗ Sfree c fs (sl 1) ∗ Gfree c fw (sl 1) 0) ⊢ iprop((P5 c ft ∗ Xin c fx (sl 1) (act 1) ∗ Sin c fs (sl 1) (act 1) ∗ Gin c fw (sl 1) 0 (act 1) -∗ Q ⟨tw ft (p16 1), by rw [hT _ hi]; exact chk28 _⟩) -∗ W c (k0_part3 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 h) Q) := by
  rw [k0_part3_eq_skeleton]
  unfold k0_part3_skel
  dsimp only
  iintro ⟨H5, HX, HS, HG0⟩ K
  iapply (lw5 c (p16 1) rfl) $$ H5
  iintro H5
  iapply (W_assume c (by rw [hT _ hi]; exact chk25 _))
  iapply (startX c (fx := fx) (sl 1) (act 1) rfl rfl (by rw [hT _ hi]; exact off25 _)) $$ HX
  iintro HX
  iapply (lw5 c (p16 1) rfl) $$ H5
  iintro H5
  iapply (W_assume c (by rw [hT _ hi]; exact chk26 _))
  iapply (startS c (fx := fs) (sl 1) (act 1) rfl rfl (by rw [hT _ hi]; exact off26 _)) $$ HS
  iintro HS
  iapply (lw5 c (p16 1) rfl) $$ H5
  iintro H5
  iapply (W_assume c (by rw [hT _ hi]; exact chk27 _))
  iapply (startG c (fx := fw) (sl 1) 0 (act 1) rfl rfl (by rw [hT _ hi]; exact off27 _)) $$ HG0
  iintro HG0
  iapply (lw5 c (p16 1) rfl) $$ H5
  iintro H5
  iapply (W_assume c (by rw [hT _ hi]; exact chk28 _))
  iapply W_pure
  iapply K
  isplitl [H5]; · iexact H5
  isplitl [HX]; · iexact HX
  isplitl [HS]; · iexact HS
  iexact HG0

include hT in
theorem part4_spec (hi : 1 < n) (h : k0_cond18 v0 v6 v12 v18 v24 v30 v36 v42 v48 v54 v60 v66 v72 v78 v84 v90 = 1#1) (v266 : BitVec 32) (hv : v266 = BitVec.ofNat 32 (act 1).val) (hv2 : k0_chk28 v0 v6 v12 v18 v24 v30 v36 v42 v48 v54 v60 v66 v72 v78 v84 v90 v266) {Q : _ → sProp (MT nD τ sig Unit (Elt F) ℕ UU ℕ)} :
    iprop(P5 c ft ∗ Gfree c fw (sl 1) 1 ∗ Gfree c fw (sl 1) 2 ∗ Gfree c fw (sl 1) 3 ∗ Gfree c fw (sl 1) 4) ⊢ iprop((P5 c ft ∗ Gin c fw (sl 1) 1 (act 1) ∗ Gin c fw (sl 1) 2 (act 1) ∗ Gin c fw (sl 1) 3 (act 1) ∗ Gin c fw (sl 1) 4 (act 1) -∗ Q ⟨tw ft (p16 1), by rw [hT _ hi]; exact chk32 _⟩) -∗ W c (k0_part4 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 h v266 hv2) Q) := by
  rw [k0_part4_eq_skeleton]
  unfold k0_part4_skel
  dsimp only
  iintro ⟨H5, HG1, HG2, HG3, HG4⟩ K
  iapply (startG c (fx := fw) (sl 1) 1 (act 1) rfl rfl (by rw [hv]; exact off28 _)) $$ HG1
  iintro HG1
  iapply (lw5 c (p16 1) rfl) $$ H5
  iintro H5
  iapply (W_assume c (by rw [hT _ hi]; exact chk29 _))
  iapply (startG c (fx := fw) (sl 1) 2 (act 1) rfl rfl (by rw [hT _ hi]; exact off29 _)) $$ HG2
  iintro HG2
  iapply (lw5 c (p16 1) rfl) $$ H5
  iintro H5
  iapply (W_assume c (by rw [hT _ hi]; exact chk30 _))
  iapply (startG c (fx := fw) (sl 1) 3 (act 1) rfl rfl (by rw [hT _ hi]; exact off30 _)) $$ HG3
  iintro HG3
  iapply (lw5 c (p16 1) rfl) $$ H5
  iintro H5
  iapply (W_assume c (by rw [hT _ hi]; exact chk31 _))
  iapply (startG c (fx := fw) (sl 1) 4 (act 1) rfl rfl (by rw [hT _ hi]; exact off31 _)) $$ HG4
  iintro HG4
  iapply (lw5 c (p16 1) rfl) $$ H5
  iintro H5
  iapply (W_assume c (by rw [hT _ hi]; exact chk32 _))
  iapply W_pure
  iapply K
  isplitl [H5]; · iexact H5
  isplitl [HG1]; · iexact HG1
  isplitl [HG2]; · iexact HG2
  isplitl [HG3]; · iexact HG3
  iexact HG4

include hn hN hT in
theorem if18 {α : Type} {Q : α → sProp (MT nD τ sig Unit (Elt F) ℕ UU ℕ)} {R : Prog (TpuEff nD τ sig (Elt F) Λ₀ .tc) α} :
    iprop(P5 c ft ∗ SFree c fx fs fw (sl 1)) ⊢ iprop((P5 c ft ∗ SLT c fx fs fw act n 1 -∗ W c R Q) -∗ W c (if k0_h18 : k0_cond18 v0 v6 v12 v18 v24 v30 v36 v42 v48 v54 v60 v66 v72 v78 v84 v90 = 1#1 then (do
        let ⟨v266, k0_hw28⟩ : Σ' (v266 : Elt F .i32), k0_chk28 v0 v6 v12 v18 v24 v30 v36 v42 v48 v54 v60 v66 v72 v78 v84 v90 v266 ← k0_part3 A0 (Memref.isWhole_whole _ : A0.IsWhole) A1 (Memref.isWhole_whole _ : A1.IsWhole) A2 (Memref.isWhole_whole _ : A2.IsWhole) A3 (Memref.isWhole_whole _ : A3.IsWhole) A4 (Memref.isWhole_whole _ : A4.IsWhole) A5 (Memref.isWhole_whole _ : A5.IsWhole) A6 (Memref.isWhole_whole _ : A6.IsWhole) A7 (Memref.isWhole_whole _ : A7.IsWhole) A8 (Memref.isWhole_whole _ : A8.IsWhole) A9 (Memref.isWhole_whole _ : A9.IsWhole) A10 (Memref.isWhole_whole _ : A10.IsWhole) A11 (Memref.isWhole_whole _ : A11.IsWhole) A12 (Memref.isWhole_whole _ : A12.IsWhole) cc0_scratch8 cc0_scratch9 cc0_scratch10 cc0_scratch11 cc0_scratch12 v0 v6 v12 v18 v24 v30 v36 v42 v48 v54 v60 v66 v72 v78 v84 v90 k0_h18
        let ⟨v294, k0_hw32⟩ : Σ' (v294 : Elt F .i32), k0_chk32 v0 v6 v12 v18 v24 v30 v36 v42 v48 v54 v60 v66 v72 v78 v84 v90 v294 ← k0_part4 A0 (Memref.isWhole_whole _ : A0.IsWhole) A1 (Memref.isWhole_whole _ : A1.IsWhole) A2 (Memref.isWhole_whole _ : A2.IsWhole) A3 (Memref.isWhole_whole _ : A3.IsWhole) A4 (Memref.isWhole_whole _ : A4.IsWhole) A5 (Memref.isWhole_whole _ : A5.IsWhole) A6 (Memref.isWhole_whole _ : A6.IsWhole) A7 (Memref.isWhole_whole _ : A7.IsWhole) A8 (Memref.isWhole_whole _ : A8.IsWhole) A9 (Memref.isWhole_whole _ : A9.IsWhole) A10 (Memref.isWhole_whole _ : A10.IsWhole) A11 (Memref.isWhole_whole _ : A11.IsWhole) A12 (Memref.isWhole_whole _ : A12.IsWhole) cc0_scratch8 cc0_scratch9 cc0_scratch10 cc0_scratch11 cc0_scratch12 v0 v6 v12 v18 v24 v30 v36 v42 v48 v54 v60 v66 v72 v78 v84 v90 k0_h18 v266 k0_hw28
        let v295 : DmaSems sig S1x1 := cc0_scratch10.slice (Rect.unit (s := S2x7) ![1, 5] S1x1.size inb_S2x7_S1x1_1_5)
        let v296 : DmaSems sig S_ := v295.squeeze S_ squeezes_S1x1_S_
        let v297 : Memref sig .tc .vmem S1x1024x1536 .fp8e4m3 := A8.slice (Rect.unit (s := S2x7168x1536) ![1, 5120, 0] S1x1024x1536.size inb_S2x7168x1536_S1x1024x1536_1_5120_0) (fun _ => rfl)
        let v298 : Memref sig .tc .vmem S1024x1536 .fp8e4m3 := v297.squeeze S1024x1536 squeezes_S1x1024x1536_S1024x1536
        let v299 : Memref sig .tc .hbm S1x1024x1536 .fp8e4m3 := A2.slice (Rect.unit (s := S16x7168x1536) (k0_off32 v294) S1x1024x1536.size (k0_off32_inb v0 v6 v12 v18 v24 v30 v36 v42 v48 v54 v60 v66 v72 v78 v84 v90 v294 k0_hw32 k0_h18)) (fun _ => rfl)
        let v300 : Memref sig .tc .hbm S1024x1536 .fp8e4m3 := v299.squeeze S1024x1536 squeezes_S1x1024x1536_S1024x1536
        Prog.lift (.enqueueDma v300 (.here v298) (.dma v296.sem) (((Memref.isWhole_whole _ : A2.IsWhole).wordExact_slice rfl _ (k0_off32_wordsfp8e4m3 v0 v6 v12 v18 v24 v30 v36 v42 v48 v54 v60 v66 v72 v78 v84 v90 v294 k0_hw32 k0_h18)).reshape _ _) (((Memref.isWhole_whole _ : A8.IsWhole).wordExact_slice rfl _ wordsfp8e4m3_S2x7168x1536_S1x1024x1536_1_5120_0).reshape _ _) ⟨Or.inl rfl, trivial⟩)
        let v301 : Elt F .i32 ← smemLoad A5 (Rect.unit (s := S16) ![1] S1.size inb_S16_S1_1) numel1_S1 rfl
        have k0_hw33 : k0_chk33 v0 v6 v12 v18 v24 v30 v36 v42 v48 v54 v60 v66 v72 v78 v84 v90 v301 := (← Prog.lift (TpuEff.assume (k0_chk33 v0 v6 v12 v18 v24 v30 v36 v42 v48 v54 v60 v66 v72 v78 v84 v90 v301) (k0_chk33.dec v0 v6 v12 v18 v24 v30 v36 v42 v48 v54 v60 v66 v72 v78 v84 v90 v301))).down
        let v302 : DmaSems sig S1x1 := cc0_scratch10.slice (Rect.unit (s := S2x7) ![1, 6] S1x1.size inb_S2x7_S1x1_1_6)
        let v303 : DmaSems sig S_ := v302.squeeze S_ squeezes_S1x1_S_
        let v304 : Memref sig .tc .vmem S1x1024x1536 .fp8e4m3 := A8.slice (Rect.unit (s := S2x7168x1536) ![1, 6144, 0] S1x1024x1536.size inb_S2x7168x1536_S1x1024x1536_1_6144_0) (fun _ => rfl)
        let v305 : Memref sig .tc .vmem S1024x1536 .fp8e4m3 := v304.squeeze S1024x1536 squeezes_S1x1024x1536_S1024x1536
        let v306 : Memref sig .tc .hbm S1x1024x1536 .fp8e4m3 := A2.slice (Rect.unit (s := S16x7168x1536) (k0_off33 v301) S1x1024x1536.size (k0_off33_inb v0 v6 v12 v18 v24 v30 v36 v42 v48 v54 v60 v66 v72 v78 v84 v90 v301 k0_hw33 k0_h18)) (fun _ => rfl)
        let v307 : Memref sig .tc .hbm S1024x1536 .fp8e4m3 := v306.squeeze S1024x1536 squeezes_S1x1024x1536_S1024x1536
        Prog.lift (.enqueueDma v307 (.here v305) (.dma v303.sem) (((Memref.isWhole_whole _ : A2.IsWhole).wordExact_slice rfl _ (k0_off33_wordsfp8e4m3 v0 v6 v12 v18 v24 v30 v36 v42 v48 v54 v60 v66 v72 v78 v84 v90 v301 k0_hw33 k0_h18)).reshape _ _) (((Memref.isWhole_whole _ : A8.IsWhole).wordExact_slice rfl _ wordsfp8e4m3_S2x7168x1536_S1x1024x1536_1_6144_0).reshape _ _) ⟨Or.inl rfl, trivial⟩)
        R) else R) Q) := by
  by_cases hi : 1 < n
  · have hc := (cond18 hn hN).2 hi
    rw [dif_pos hc, SLT_in c fx fs fw act n hi]
    unfold SFree
    iintro ⟨H5, HX, HS, HG0, HG1, HG2, HG3, HG4, HG5, HG6⟩ K
    iapply (W_bind c)
    iapply (part3_spec c hT hi hc) $$ [H5 HX HS HG0]
    · isplitl [H5]; · iexact H5
      isplitl [HX]; · iexact HX
      isplitl [HS]; · iexact HS
      iexact HG0
    iintro ⟨H5, HX, HS, HG0⟩
    dsimp only
    iapply (W_bind c)
    iapply (part4_spec c hT hi hc _ (hT _ hi) _) $$ [H5 HG1 HG2 HG3 HG4]
    · isplitl [H5]; · iexact H5
      isplitl [HG1]; · iexact HG1
      isplitl [HG2]; · iexact HG2
      isplitl [HG3]; · iexact HG3
      iexact HG4
    iintro ⟨H5, HG1, HG2, HG3, HG4⟩
    dsimp only
    iapply (startG c (fx := fw) (sl 1) 5 (act 1) rfl rfl (by rw [hT _ hi]; exact off32 _)) $$ HG5
    iintro HG5
    iapply (lw5 c (p16 1) rfl) $$ H5
    iintro H5
    iapply (W_assume c (by rw [hT _ hi]; exact chk33 _))
    iapply (startG c (fx := fw) (sl 1) 6 (act 1) rfl rfl (by rw [hT _ hi]; exact off33 _)) $$ HG6
    iintro HG6
    iapply K
    isplitl [H5]; · iexact H5
    isplitl [HX]; · iexact HX
    isplitl [HS]; · iexact HS
    isplitl [HG0]; · iexact HG0
    isplitl [HG1]; · iexact HG1
    isplitl [HG2]; · iexact HG2
    isplitl [HG3]; · iexact HG3
    isplitl [HG4]; · iexact HG4
    isplitl [HG5]; · iexact HG5
    iexact HG6
  · rw [dif_neg (mt (cond18 hn hN).1 hi), SLT_out c fx fs fw act n hi]
    iintro H K
    iapply K
    iexact H

end

end Cert.Proof.KernelIdeal
end
end
-- ==== Proof.KernelIdeal.Main.lean ====
module

public import proofs.«01_k».proof.Proof.KernelIdeal.Prologue
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Transfers
public import Idealize.ShloMosaic.Lib.Batch
public import Idealize.ShloMosaic.Adequacy
public import Idealize.ShloMosaic.Init

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

section
variable {F : FTy → Type} [FloatOps F] (c : Dev nD)
variable {α : Type} {Q : α → sProp (MT nD τ sig Unit (Elt F) ℕ UU ℕ)}

/-- The rows of zeros. -/
abbrev zb0 : S24x7168.Idx → Elt F .bf16 := k0_pay435 (F := F)

theorem ld12 {r : LoadRect S24x7168} {h : A12.view.LoadsAt r} {k : (r.shape.Idx → Elt F .bf16) → Prog (TpuEff nD τ sig (Elt F) Λ₀ .tc) α} {f : S24x7168.Idx → Elt F .bf16} :
    PW c A12 fullShare f ⊢ iprop((PW c A12 fullShare f -∗ W c (k (A12.view.readAt (Elt F) r f)) Q) -∗ W c (Prog.lift (.load A12 r h) >>= k) Q) :=
  ldW c (m := A12) (S := A12.view.set) (f := f) (by
    rw [show (A12.view.set : Finset _) = Finset.univ from Finset.eq_univ_iff_forall.2 fun i => by
      simp [View.set, View.setOn, A12, Memref.whole]]
    exact Finset.subset_univ _)

theorem st12 {inb} {hx : (A12.access (Rect.unit (s := S24x7168) ![0, 0] S24x7168.size inb)).Stores Finset.univ} {hm}
    {k : PUnit → Prog (TpuEff nD τ sig (Elt F) Λ₀ .tc) α} {f : S24x7168.Idx → Elt F .bf16} :
    PW c A12 fullShare f ⊢ iprop((PW c A12 fullShare (zb0 (F := F)) -∗ W c (k ⟨⟩) Q) -∗ W c (Prog.lift (.store A12 (Rect.unit (s := S24x7168) ![0, 0] S24x7168.size inb) (k0_pay435 (F := F)) Finset.univ hx hm) >>= k) Q) := by
  have h0 : (A12.view.set : Finset _) = Finset.univ := Finset.eq_univ_iff_forall.2 fun i => by
      simp [View.set, View.setOn, A12, Memref.whole]
  have hw : (A12.access (Rect.unit (s := S24x7168) ![0, 0] S24x7168.size inb)).write (Elt F) f (k0_pay435 (F := F)) Finset.univ = zb0 (F := F) := Memref.write_access_unit_zero_univ (Elt F) cc0_scratch7 (off := ![0, 0]) (by funext a; revert a; decide) inb f (zb0 (F := F))
  have := stW c (m := A12) (r := Rect.unit (s := S24x7168) ![0, 0] S24x7168.size inb) (w := k0_pay435 (F := F)) (hx := hx) (hm := hm) (k := k) (Q := Q) (S := A12.view.set) (f := f) (by rw [h0]; exact Finset.subset_univ _)
  refine this.trans ?_
  rw [hw]

/-- The share of the zero rows that no copy takes. -/
abbrev TokR (zb : S24x7168.Idx → Elt F .bf16) : sProp (MT nD τ sig Unit (Elt F) ℕ UU ℕ) := PW c A12 (Transfers.shareDrop fullShare 16) zb

theorem toks (zb : S24x7168.Idx → Elt F .bf16) : PW c A12 fullShare zb ⊣⊢ iprop(TokR c zb ∗ bigSep Finset.univ (Tok c zb)) := by
  have h : (PW c A12 fullShare zb : sProp (MT nD τ sig Unit (Elt F) ℕ UU ℕ)) ⊣⊢ _ := Transfers.pointsTo_toks_range (ℓ := A12.view.loc (c : Thread nD τ)) (S := A12.view.set) (f := zb) fullShare 16
  have h2 : Finset.range 16 = Finset.univ.image (fun e : Fin 16 => e.val) := by decide
  rw [h2, bigSep_image_of_injOn (fun a _ b _ h => Fin.ext h)] at h
  exact h

theorem rows_split (g : ℕ → BitVec 32) (fx : S16x24x1536.Idx → Elt F .bf16) (fs : S16x56x12.Idx → Elt F .f32) (fw : S16x7168x1536.Idx → Elt F .fp8e4m3) (fg : S16.Idx → Elt F .i32) (zb : S24x7168.Idx → Elt F .bf16) :
    iprop(bigSep Finset.univ (Row (F := F) c) ∗ bigSep Finset.univ (Tok c zb)) ⊢ iprop(ZR c g zb 0 ∗ RW c fx fs fw fg g 0 0) := by
  unfold ZR RW
  rw [← bigSep_sep', ← bigSep_sep']
  refine bigSep_mono fun e _ => ?_
  unfold ZE RE
  by_cases h : bit (g e.val) = 1
  · rw [if_pos h, if_pos h, if_neg (Nat.not_lt_zero _), if_neg (Nat.not_lt_zero _)]
    show iprop(Row c e ∗ Tok c zb e) ⊢ iprop(Tok c zb e ∗ Row c e)
    iintro ⟨H1, H2⟩
    isplitl [H2] <;> iassumption
  · rw [if_neg h, if_neg h, if_neg (Nat.not_lt_zero _)]
    show iprop(Row c e ∗ Tok c zb e) ⊢ iprop((Row c e ∗ Tok c zb e) ∗ emp)
    iintro H
    isplitl [H]; · iexact H
    iempintro

/-- The rows of expert `e` at the end. -/
def RowF (g : ℕ → BitVec 32) (fx : S16x24x1536.Idx → Elt F .bf16) (fs : S16x56x12.Idx → Elt F .f32) (fw : S16x7168x1536.Idx → Elt F .fp8e4m3) (fg : S16.Idx → Elt F .i32) (e : Fin 16) : sProp (MT nD τ sig Unit (Elt F) ℕ UU ℕ) :=
  if bit (g e.val) = 1 then RowK c fx fs fw fg e else RowV c (zb0 (F := F)) e

theorem dz_collect (g : ℕ → BitVec 32) (zb : S24x7168.Idx → Elt F .bf16) :
    bigSep Finset.univ (Dz c g zb) = bigSep Finset.univ (fun e : Fin 16 => if ¬ bit (g e.val) = 1 then iprop(RowV c zb e ∗ Tok c zb e) else iprop(emp)) := by
  refine Eq.trans ?_ (bigSep_filter Finset.univ (fun e : Fin 16 => ¬ bit (g e.val) = 1) (fun e => iprop(RowV c zb e ∗ Tok c zb e)))
  have him : Finset.univ.filter (fun e : Fin 16 => ¬ bit (g e.val) = 1) = Finset.univ.image (fun t : Fin (cnt (neg g) 16) => act (neg g) t.val) := by
    ext e
    simp only [Finset.mem_filter, Finset.mem_univ, true_and, Finset.mem_image]
    constructor
    · intro h
      exact ⟨⟨cnt (neg g) e.val, cnt_lt16 (neg g) e ((bit_neg g _).2 h)⟩, act_of (neg g) e ((bit_neg g _).2 h)⟩
    · rintro ⟨t, rfl⟩
      exact (bit_neg g _).1 (act_bit (neg g) t.isLt)
  rw [him, bigSep_image_of_injOn]
  · rfl
  · intro a _ b _ hab
    have := congrArg (fun e : Fin 16 => cnt (neg g) e.val) hab
    simp only [act_cnt (neg g) a.isLt, act_cnt (neg g) b.isLt] at this
    exact Fin.ext this

theorem rows_join (g : ℕ → BitVec 32) (fx : S16x24x1536.Idx → Elt F .bf16) (fs : S16x56x12.Idx → Elt F .f32) (fw : S16x7168x1536.Idx → Elt F .fp8e4m3) (fg : S16.Idx → Elt F .i32) :
    iprop(ZR c g (zb0 (F := F)) 16 ∗ bigSep Finset.univ (Dz c g (zb0 (F := F))) ∗ RW c fx fs fw fg g (cnt g 16) (cnt g 16)) ⊢
      iprop(bigSep Finset.univ (RowF c g fx fs fw fg) ∗ bigSep Finset.univ (Tok c (zb0 (F := F)))) := by
  rw [dz_collect]
  unfold ZR RW
  rw [← bigSep_sep', ← bigSep_sep', ← bigSep_sep']
  refine bigSep_mono fun e _ => ?_
  unfold ZE RE RowF
  by_cases h : bit (g e.val) = 1
  · rw [if_pos h, if_neg (not_not.2 h), if_pos h, if_pos (cnt_lt16 g e h), if_pos h]
    show iprop(Tok c (zb0 (F := F)) e ∗ emp ∗ RowK c fx fs fw fg e) ⊢ iprop(RowK c fx fs fw fg e ∗ Tok c (zb0 (F := F)) e)
    iintro ⟨H1, -, H2⟩
    isplitl [H2] <;> iassumption
  · rw [if_neg h, if_pos h, if_neg h, if_pos e.isLt, if_neg h]
    show iprop(emp ∗ (RowV c (zb0 (F := F)) e ∗ Tok c (zb0 (F := F)) e) ∗ emp) ⊢ iprop(RowV c (zb0 (F := F)) e ∗ Tok c (zb0 (F := F)) e)
    iintro ⟨-, H, -⟩
    iexact H
end

section
variable {F : FTy → Type} [FloatOps F] (c : Dev nD)
variable {fx : S16x24x1536.Idx → Elt F .bf16} {fs : S16x56x12.Idx → Elt F .f32} {fw : S16x7168x1536.Idx → Elt F .fp8e4m3} {fg : S16.Idx → Elt F .i32}
variable {v0 v6 v12 v18 v24 v30 v36 v42 v48 v54 v60 v66 v72 v78 v84 v90 : BitVec 32} {g : ℕ → BitVec 32} (hg : ∀ i, tw (F := F) fg (p16 i) = g i)
  {ft : S16.Idx → Elt F .i32} {q0 : PosShare TreeShare}

/-- The word that says whether expert `j` is inactive. -/
abbrev cw (j : BitVec 32) : BitVec 1 := Scalar.cmpi .ne (Scalar.extui (Scalar.cmpi .sle j 0#32) : BitVec 32) 0#32

include hg in
set_option maxHeartbeats 1000000 in
theorem part120_spec (hN : NW v0 v6 v12 v18 v24 v30 v36 v42 v48 v54 v60 v66 v72 v78 v84 v90 = BitVec.ofNat 32 (cnt g 16)) (hT : ∀ i, i < cnt g 16 → tw (F := F) ft (p16 i) = BitVec.ofNat 32 (act g i).val) {v95 v97 : BitVec 32} {Q : _ → sProp (MT nD τ sig Unit (Elt F) ℕ UU ℕ)} :
    iprop(P0 c q0 fg ∗ P5 c ft ∗ SFree c fx fs fw (sl 0) ∗ SFree c fx fs fw (sl 1) ∗ (∃ f : S24x7168.Idx → Elt F .bf16, PW c A12 fullShare f) ∗ Sem0 c zsem ∗ bigSep Finset.univ (Row (F := F) c)) ⊢
      iprop((P0 c q0 fg ∗ P5 c ft ∗ SLT c fx fs fw (act g) (cnt g 16) 0 ∗ SLT c fx fs fw (act g) (cnt g 16) 1 ∗ ZR c g (zb0 (F := F)) 5 ∗ ZB c g (zb0 (F := F)) (cnt (neg g) 5) 0 ∗ TokR c (zb0 (F := F)) ∗ RW c fx fs fw fg g 0 0 -∗ Q ⟨g 5, 0#32⟩) -∗
        W c (k0_part120 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 v95 v97) Q) := by
  rw [k0_part120_eq_skeleton]
  unfold k0_part120_skel
  dsimp only
  iintro ⟨H0, H5, HA, HC, H12, HS12, HR⟩ K
  iapply (if17 c (cnt_le g 16) hN hT) $$ [H5 HA]
  · isplitl [H5] <;> iassumption
  iintro ⟨H5, HA⟩
  iapply (if18 c (cnt_le g 16) hN hT) $$ [H5 HC]
  · isplitl [H5] <;> iassumption
  iintro ⟨H5, HC⟩
  icases H12 with ⟨%f12, H12⟩
  iapply (ld12 c) $$ H12
  iintro H12
  iapply (st12 c) $$ H12
  iintro H12
  ihave H12 := (toks c (zb0 (F := F))).1 $$ H12
  icases H12 with ⟨HTR, HT⟩
  imod (Transfers.batch_alloc' EC (c : Thread nD τ) () NZ (Dz c g (zb0 (F := F))) (sm := .dma zsem) (E := Set.univ)) $$ HS12 with HB
  ihave HRT := (rows_split c g fx fs fw fg (zb0 (F := F))) $$ [HR HT]
  · isplitl [HR] <;> iassumption
  icases HRT with ⟨HZ, HRW⟩
  iapply (lwg c hg 0 rfl) $$ H0
  iintro H0
  iapply (zstart c (0 : Fin 16) (zb := zb0) (cond_neg g 0) rfl) $$ [HZ HB]
  · isplitl [HZ]; · iexact HZ
    iexact HB
  iintro ⟨HZ, HB⟩
  iapply (lwg c hg 1 rfl) $$ H0
  iintro H0
  iapply (zstart c (1 : Fin 16) (zb := zb0) (cond_neg g 1) rfl) $$ [HZ HB]
  · isplitl [HZ]; · iexact HZ
    iexact HB
  iintro ⟨HZ, HB⟩
  iapply (lwg c hg 2 rfl) $$ H0
  iintro H0
  iapply (zstart c (2 : Fin 16) (zb := zb0) (cond_neg g 2) rfl) $$ [HZ HB]
  · isplitl [HZ]; · iexact HZ
    iexact HB
  iintro ⟨HZ, HB⟩
  iapply (lwg c hg 3 rfl) $$ H0
  iintro H0
  iapply (zstart c (3 : Fin 16) (zb := zb0) (cond_neg g 3) rfl) $$ [HZ HB]
  · isplitl [HZ]; · iexact HZ
    iexact HB
  iintro ⟨HZ, HB⟩
  iapply (lwg c hg 4 rfl) $$ H0
  iintro H0
  iapply (zstart c (4 : Fin 16) (zb := zb0) (cond_neg g 4) rfl) $$ [HZ HB]
  · isplitl [HZ]; · iexact HZ
    iexact HB
  iintro ⟨HZ, HB⟩
  iapply (lwg c hg 5 rfl) $$ H0
  iintro H0
  iapply W_pure
  iapply K
  isplitl [H0]; · iexact H0
  isplitl [H5]; · iexact H5
  isplitl [HA]; · iexact HA
  isplitl [HC]; · iexact HC
  isplitl [HZ]; · iexact HZ
  isplitl [HB]; · iexact HB
  isplitl [HTR]; · iexact HTR
  iexact HRW

include hg in
set_option maxHeartbeats 1000000 in
theorem part121_spec {Q : _ → sProp (MT nD τ sig Unit (Elt F) ℕ UU ℕ)} :
    iprop(P0 c q0 fg ∗ ZR c g (zb0 (F := F)) 5 ∗ ZB c g (zb0 (F := F)) (cnt (neg g) 5) 0) ⊢
      iprop((P0 c q0 fg ∗ ZR c g (zb0 (F := F)) 12 ∗ ZB c g (zb0 (F := F)) (cnt (neg g) 12) 0 -∗ Q (cw (g 12))) -∗ W c (k0_part121 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 (g 5) 0#32) Q) := by
  rw [k0_part121_eq_skeleton]
  unfold k0_part121_skel
  dsimp only
  iintro ⟨H0, HZ, HB⟩ K
  iapply (zstart c (5 : Fin 16) (zb := zb0) (cond_neg g 5) rfl) $$ [HZ HB]
  · isplitl [HZ]; · iexact HZ
    iexact HB
  iintro ⟨HZ, HB⟩
  iapply (lwg c hg 6 rfl) $$ H0
  iintro H0
  iapply (zstart c (6 : Fin 16) (zb := zb0) (cond_neg g 6) rfl) $$ [HZ HB]
  · isplitl [HZ]; · iexact HZ
    iexact HB
  iintro ⟨HZ, HB⟩
  iapply (lwg c hg 7 rfl) $$ H0
  iintro H0
  iapply (zstart c (7 : Fin 16) (zb := zb0) (cond_neg g 7) rfl) $$ [HZ HB]
  · isplitl [HZ]; · iexact HZ
    iexact HB
  iintro ⟨HZ, HB⟩
  iapply (lwg c hg 8 rfl) $$ H0
  iintro H0
  iapply (zstart c (8 : Fin 16) (zb := zb0) (cond_neg g 8) rfl) $$ [HZ HB]
  · isplitl [HZ]; · iexact HZ
    iexact HB
  iintro ⟨HZ, HB⟩
  iapply (lwg c hg 9 rfl) $$ H0
  iintro H0
  iapply (zstart c (9 : Fin 16) (zb := zb0) (cond_neg g 9) rfl) $$ [HZ HB]
  · isplitl [HZ]; · iexact HZ
    iexact HB
  iintro ⟨HZ, HB⟩
  iapply (lwg c hg 10 rfl) $$ H0
  iintro H0
  iapply (zstart c (10 : Fin 16) (zb := zb0) (cond_neg g 10) rfl) $$ [HZ HB]
  · isplitl [HZ]; · iexact HZ
    iexact HB
  iintro ⟨HZ, HB⟩
  iapply (lwg c hg 11 rfl) $$ H0
  iintro H0
  iapply (zstart c (11 : Fin 16) (zb := zb0) (cond_neg g 11) rfl) $$ [HZ HB]
  · isplitl [HZ]; · iexact HZ
    iexact HB
  iintro ⟨HZ, HB⟩
  iapply (lwg c hg 12 rfl) $$ H0
  iintro H0
  iapply W_pure
  iapply K
  isplitl [H0]; · iexact H0
  isplitl [HZ]; · iexact HZ
  iexact HB

/-- What the loop holds besides the two tables and the record of waits. -/
def LR (fx : S16x24x1536.Idx → Elt F .bf16) (fs : S16x56x12.Idx → Elt F .f32) (fw : S16x7168x1536.Idx → Elt F .fp8e4m3) (fg : S16.Idx → Elt F .i32) (g : ℕ → BitVec 32) (k : ℕ) : sProp (MT nD τ sig Unit (Elt F) ℕ UU ℕ) :=
  iprop(SLT c fx fs fw (act g) (cnt g 16) k ∗ SLT c fx fs fw (act g) (cnt g 16) (k + 1) ∗ (∃ f, P9 c f) ∗ (∃ f, P10 c f) ∗
    OS c fx fs fw fg (act g) k ∗ OS c fx fs fw fg (act g) (k + 1) ∗ RW c fx fs fw fg g (k - 2) k)
theorem LI_eq (k : ℕ) : LI c fx fs fw fg g q0 ft k = iprop(P5 c ft ∗ P0 c q0 fg ∗ OW c ∗ LR c fx fs fw fg g k) := rfl

include hg in
set_option maxHeartbeats 1000000 in
theorem part122_spec (hw : k0_chk15 v0 v6 v12 v18 v24 v30 v36 v42 v48 v54 v60 v66 v72 v78 v84 v90) (hN : NW v0 v6 v12 v18 v24 v30 v36 v42 v48 v54 v60 v66 v72 v78 v84 v90 = BitVec.ofNat 32 (cnt g 16)) (hT : ∀ i, i < cnt g 16 → tw (F := F) ft (p16 i) = BitVec.ofNat 32 (act g i).val) {v95 : BitVec 32} {Q : _ → sProp (MT nD τ sig Unit (Elt F) ℕ UU ℕ)} :
    iprop(P5 c ft ∗ P0 c q0 fg ∗ OW c ∗ LR c fx fs fw fg g 0 ∗ ZR c g (zb0 (F := F)) 12 ∗ ZB c g (zb0 (F := F)) (cnt (neg g) 12) 0) ⊢
      iprop((P5 c ft ∗ P0 c q0 fg ∗ OW c ∗ LR c fx fs fw fg g (cnt g 16) ∗ ZR c g (zb0 (F := F)) 16 ∗ ZB c g (zb0 (F := F)) (cnt (neg g) 16) (NZ * cnt (neg g) 2) -∗ Q (cw (g 2))) -∗ W c (k0_part122 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 v0 v6 v12 v18 v24 v30 v36 v42 v48 v54 v60 v66 v72 v78 v84 v90 hw v95 (cw (g 12))) Q) := by
  rw [k0_part122_eq_skeleton]
  unfold k0_part122_skel
  dsimp only
  iintro ⟨H5, H0, HW, HL, HZ, HB⟩ K
  iapply (zstart c (12 : Fin 16) (zb := zb0) (cond_neg g 12) rfl) $$ [HZ HB]
  · isplitl [HZ]; · iexact HZ
    iexact HB
  iintro ⟨HZ, HB⟩
  iapply (lwg c hg 13 rfl) $$ H0
  iintro H0
  iapply (zstart c (13 : Fin 16) (zb := zb0) (cond_neg g 13) rfl) $$ [HZ HB]
  · isplitl [HZ]; · iexact HZ
    iexact HB
  iintro ⟨HZ, HB⟩
  iapply (lwg c hg 14 rfl) $$ H0
  iintro H0
  iapply (zstart c (14 : Fin 16) (zb := zb0) (cond_neg g 14) rfl) $$ [HZ HB]
  · isplitl [HZ]; · iexact HZ
    iexact HB
  iintro ⟨HZ, HB⟩
  iapply (lwg c hg 15 rfl) $$ H0
  iintro H0
  iapply (zstart c (15 : Fin 16) (zb := zb0) (cond_neg g 15) rfl) $$ [HZ HB]
  · isplitl [HZ]; · iexact HZ
    iexact HB
  iintro ⟨HZ, HB⟩
  ihave HL := (Entails.of_eq (LI_eq c (fx := fx) (fs := fs) (fw := fw) (fg := fg) (g := g) (ft := ft) (q0 := q0) 0).symm) $$ [H5 H0 HW HL]
  · isplitl [H5]; · iexact H5
    isplitl [H0]; · iexact H0
    isplitl [HW] <;> iassumption
  iapply (loops c hw hN hT) $$ HL
  iintro HL
  ihave HL := (Entails.of_eq (LI_eq c (fx := fx) (fs := fs) (fw := fw) (fg := fg) (g := g) (ft := ft) (q0 := q0) (cnt g 16))) $$ HL
  icases HL with ⟨H5, H0, HW, HL⟩
  ihave HB := (Entails.of_eq (show ZB c g (zb0 (F := F)) (cnt (neg g) ((15 : Fin 16).val + 1)) 0 = ZB c g (zb0 (F := F)) (cnt (neg g) 16) (NZ * cnt (neg g) 0) from rfl)) $$ HB
  iapply (lwg c hg 0 rfl) $$ H0
  iintro H0
  iapply (zwait c (0 : Fin 16) (zb := zb0) (cond_neg g 0) rfl) $$ [HB HW]
  · isplitl [HB]; · iexact HB
    iexact HW
  iintro ⟨HB, HW⟩
  iapply (lwg c hg 1 rfl) $$ H0
  iintro H0
  iapply (zwait c (1 : Fin 16) (zb := zb0) (cond_neg g 1) rfl) $$ [HB HW]
  · isplitl [HB]; · iexact HB
    iexact HW
  iintro ⟨HB, HW⟩
  iapply (lwg c hg 2 rfl) $$ H0
  iintro H0
  iapply W_pure
  iapply K
  isplitl [H5]; · iexact H5
  isplitl [H0]; · iexact H0
  isplitl [HW]; · iexact HW
  isplitl [HL]; · iexact HL
  isplitl [HZ]; · iexact HZ
  iexact HB

include hg in
set_option maxHeartbeats 1000000 in
theorem part123_spec {Q : _ → sProp (MT nD τ sig Unit (Elt F) ℕ UU ℕ)} :
    iprop(P0 c q0 fg ∗ OW c ∗ ZB c g (zb0 (F := F)) (cnt (neg g) 16) (NZ * cnt (neg g) 2)) ⊢
      iprop((P0 c q0 fg ∗ OW c ∗ ZB c g (zb0 (F := F)) (cnt (neg g) 16) (NZ * cnt (neg g) 10) -∗ Q ⟨g 10, 0#32⟩) -∗ W c (k0_part123 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12 (cw (g 2))) Q) := by
  rw [k0_part123_eq_skeleton]
  unfold k0_part123_skel
  dsimp only
  iintro ⟨H0, HW, HB⟩ K
  iapply (zwait c (2 : Fin 16) (zb := zb0) (cond_neg g 2) rfl) $$ [HB HW]
  · isplitl [HB]; · iexact HB
    iexact HW
  iintro ⟨HB, HW⟩
  iapply (lwg c hg 3 rfl) $$ H0
  iintro H0
  iapply (zwait c (3 : Fin 16) (zb := zb0) (cond_neg g 3) rfl) $$ [HB HW]
  · isplitl [HB]; · iexact HB
    iexact HW
  iintro ⟨HB, HW⟩
  iapply (lwg c hg 4 rfl) $$ H0
  iintro H0
  iapply (zwait c (4 : Fin 16) (zb := zb0) (cond_neg g 4) rfl) $$ [HB HW]
  · isplitl [HB]; · iexact HB
    iexact HW
  iintro ⟨HB, HW⟩
  iapply (lwg c hg 5 rfl) $$ H0
  iintro H0
  iapply (zwait c (5 : Fin 16) (zb := zb0) (cond_neg g 5) rfl) $$ [HB HW]
  · isplitl [HB]; · iexact HB
    iexact HW
  iintro ⟨HB, HW⟩
  iapply (lwg c hg 6 rfl) $$ H0
  iintro H0
  iapply (zwait c (6 : Fin 16) (zb := zb0) (cond_neg g 6) rfl) $$ [HB HW]
  · isplitl [HB]; · iexact HB
    iexact HW
  iintro ⟨HB, HW⟩
  iapply (lwg c hg 7 rfl) $$ H0
  iintro H0
  iapply (zwait c (7 : Fin 16) (zb := zb0) (cond_neg g 7) rfl) $$ [HB HW]
  · isplitl [HB]; · iexact HB
    iexact HW
  iintro ⟨HB, HW⟩
  iapply (lwg c hg 8 rfl) $$ H0
  iintro H0
  iapply (zwait c (8 : Fin 16) (zb := zb0) (cond_neg g 8) rfl) $$ [HB HW]
  · isplitl [HB]; · iexact HB
    iexact HW
  iintro ⟨HB, HW⟩
  iapply (lwg c hg 9 rfl) $$ H0
  iintro H0
  iapply (zwait c (9 : Fin 16) (zb := zb0) (cond_neg g 9) rfl) $$ [HB HW]
  · isplitl [HB]; · iexact HB
    iexact HW
  iintro ⟨HB, HW⟩
  iapply (lwg c hg 10 rfl) $$ H0
  iintro H0
  iapply W_pure
  iapply K
  isplitl [H0]; · iexact H0
  isplitl [HW]; · iexact HW
  iexact HB

/-- The last results but 0, waited for after the loop. -/
def E69 (fx : S16x24x1536.Idx → Elt F .bf16) (fs : S16x56x12.Idx → Elt F .f32) (fw : S16x7168x1536.Idx → Elt F .fp8e4m3) (fg : S16.Idx → Elt F .i32) (g : ℕ → BitVec 32) : sProp (MT nD τ sig Unit (Elt F) ℕ UU ℕ) :=
  if 0 < cnt g 16 then RowK c fx fs fw fg (act g (cnt g 16 - 1)) else iprop(emp)
theorem if69 (hw : k0_chk15 v0 v6 v12 v18 v24 v30 v36 v42 v48 v54 v60 v66 v72 v78 v84 v90) (hN : NW v0 v6 v12 v18 v24 v30 v36 v42 v48 v54 v60 v66 v72 v78 v84 v90 = BitVec.ofNat 32 (cnt g 16)) (hT : ∀ i, i < cnt g 16 → tw (F := F) ft (p16 i) = BitVec.ofNat 32 (act g i).val) {α : Type} {Q : α → sProp (MT nD τ sig Unit (Elt F) ℕ UU ℕ)} {R : Prog (TpuEff nD τ sig (Elt F) Λ₀ .tc) α} :
    iprop(P5 c ft ∗ OW c ∗ OS c fx fs fw fg (act g) (cnt g 16 + 1)) ⊢ iprop((P5 c ft ∗ OW c ∗ Ofree c (sl (cnt g 16 + 1)) ∗ E69 c fx fs fw fg g -∗ W c R Q) -∗ W c (if k0_h69 : k0_cond69 v0 v6 v12 v18 v24 v30 v36 v42 v48 v54 v60 v66 v72 v78 v84 v90 = 1#1 then (do
        let v249 : Elt F .i32 ← smemLoad A5 (Rect.unit (s := S16) (k0_off392 v0 v6 v12 v18 v24 v30 v36 v42 v48 v54 v60 v66 v72 v78 v84 v90) S1.size (k0_off392_inb v0 v6 v12 v18 v24 v30 v36 v42 v48 v54 v60 v66 v72 v78 v84 v90 hw k0_h69)) numel1_S1 rfl
        have k0_hw76 : k0_chk76 v0 v6 v12 v18 v24 v30 v36 v42 v48 v54 v60 v66 v72 v78 v84 v90 v249 := (← Prog.lift (TpuEff.assume (k0_chk76 v0 v6 v12 v18 v24 v30 v36 v42 v48 v54 v60 v66 v72 v78 v84 v90 v249) (k0_chk76.dec v0 v6 v12 v18 v24 v30 v36 v42 v48 v54 v60 v66 v72 v78 v84 v90 v249))).down
        let v250 : DmaSems sig S1 := cc0_scratch11.slice (Rect.unit (s := S2) (k0_off393 v0 v6 v12 v18 v24 v30 v36 v42 v48 v54 v60 v66 v72 v78 v84 v90) S1.size (k0_off393_inb v0 v6 v12 v18 v24 v30 v36 v42 v48 v54 v60 v66 v72 v78 v84 v90 hw k0_h69))
        let v251 : DmaSems sig S_ := v250.squeeze S_ squeezes_S1_S_
        let v252 : Memref sig .tc .hbm S1x24x7168 .bf16 := A4.slice (Rect.unit (s := S16x24x7168) (k0_off394 v249) S1x24x7168.size (k0_off394_inb v0 v6 v12 v18 v24 v30 v36 v42 v48 v54 v60 v66 v72 v78 v84 v90 v249 k0_hw76 k0_h69)) (fun _ => rfl)
        let v253 : Memref sig .tc .hbm S24x7168 .bf16 := v252.squeeze S24x7168 squeezes_S1x24x7168_S24x7168
        let v254 : Memref sig .tc .vmem S1x24x7168 .bf16 := A11.slice (Rect.unit (s := S2x24x7168) (k0_off395 v0 v6 v12 v18 v24 v30 v36 v42 v48 v54 v60 v66 v72 v78 v84 v90) S1x24x7168.size (k0_off395_inb v0 v6 v12 v18 v24 v30 v36 v42 v48 v54 v60 v66 v72 v78 v84 v90 hw k0_h69)) (fun _ => rfl)
        let v255 : Memref sig .tc .vmem S24x7168 .bf16 := v254.squeeze S24x7168 squeezes_S1x24x7168_S24x7168
        Prog.lift (.waitDma2 v251.sem v255 v253 (((Memref.isWhole_whole _ : A11.IsWhole).wordExact_slice rfl _ (k0_off395_wordsbf16 v0 v6 v12 v18 v24 v30 v36 v42 v48 v54 v60 v66 v72 v78 v84 v90 hw k0_h69)).reshape _ _) (((Memref.isWhole_whole _ : A4.IsWhole).wordExact_slice rfl _ (k0_off394_wordsbf16 v0 v6 v12 v18 v24 v30 v36 v42 v48 v54 v60 v66 v72 v78 v84 v90 v249 k0_hw76 k0_h69)).reshape _ _))
        R) else R) Q) := by
  unfold OS E69
  by_cases hi : 0 < cnt g 16
  · have hs : sl (cnt g 16 + 1) = sl (cnt g 16 - 1) := by
      rw [← sl_succ2 (cnt g 16 - 1)]
      exact congrArg sl (by omega)
    rw [dif_pos ((cond69 (cnt_le g 16) hN).2 hi), if_pos hi, if_pos (show 2 ≤ cnt g 16 + 1 by omega), hs, show cnt g 16 + 1 - 2 = cnt g 16 - 1 by omega]
    unfold OinK RowK
    dsimp only
    iintro ⟨H5, HW, ⟨%v, %hv, HO⟩⟩ K
    iapply (lw5 c (p16 (cnt g 16 - 1)) (off392 (cnt_le g 16) hN hi)) $$ H5
    iintro H5
    iapply (W_assume c (by rw [hT _ (by omega)]; exact chk76 _))
    iapply (waitO c (sl (cnt g 16 - 1)) (act g (cnt g 16 - 1)) (v := v) (off393 (cnt_le g 16) hN hi)) $$ [HO HW]
    · isplitl [HO] <;> iassumption
    iintro HF HR HW
    iapply K
    isplitl [H5]; · iexact H5
    isplitl [HW]; · iexact HW
    isplitl [HF]; · iexact HF
    iexists v
    isplitr; · ipureintro; exact hv
    iexact HR
  · rw [dif_neg (mt (cond69 (cnt_le g 16) hN).1 hi), if_neg hi, if_neg (show ¬ 2 ≤ cnt g 16 + 1 by omega)]
    iintro ⟨H5, HW, HO⟩ K
    iapply K
    isplitl [H5]; · iexact H5
    isplitl [HW]; · iexact HW
    isplitl [HO]; · iexact HO
    iempintro

/-- The last results but 1, waited for after the loop. -/
def E70 (fx : S16x24x1536.Idx → Elt F .bf16) (fs : S16x56x12.Idx → Elt F .f32) (fw : S16x7168x1536.Idx → Elt F .fp8e4m3) (fg : S16.Idx → Elt F .i32) (g : ℕ → BitVec 32) : sProp (MT nD τ sig Unit (Elt F) ℕ UU ℕ) :=
  if 1 < cnt g 16 then RowK c fx fs fw fg (act g (cnt g 16 - 2)) else iprop(emp)
theorem if70 (hw : k0_chk15 v0 v6 v12 v18 v24 v30 v36 v42 v48 v54 v60 v66 v72 v78 v84 v90) (hN : NW v0 v6 v12 v18 v24 v30 v36 v42 v48 v54 v60 v66 v72 v78 v84 v90 = BitVec.ofNat 32 (cnt g 16)) (hT : ∀ i, i < cnt g 16 → tw (F := F) ft (p16 i) = BitVec.ofNat 32 (act g i).val) {α : Type} {Q : α → sProp (MT nD τ sig Unit (Elt F) ℕ UU ℕ)} {R : Prog (TpuEff nD τ sig (Elt F) Λ₀ .tc) α} :
    iprop(P5 c ft ∗ OW c ∗ OS c fx fs fw fg (act g) (cnt g 16)) ⊢ iprop((P5 c ft ∗ OW c ∗ Ofree c (sl (cnt g 16)) ∗ E70 c fx fs fw fg g -∗ W c R Q) -∗ W c (if k0_h70 : k0_cond70 v0 v6 v12 v18 v24 v30 v36 v42 v48 v54 v60 v66 v72 v78 v84 v90 = 1#1 then (do
        let v249 : Elt F .i32 ← smemLoad A5 (Rect.unit (s := S16) (k0_off396 v0 v6 v12 v18 v24 v30 v36 v42 v48 v54 v60 v66 v72 v78 v84 v90) S1.size (k0_off396_inb v0 v6 v12 v18 v24 v30 v36 v42 v48 v54 v60 v66 v72 v78 v84 v90 hw k0_h70)) numel1_S1 rfl
        have k0_hw77 : k0_chk77 v0 v6 v12 v18 v24 v30 v36 v42 v48 v54 v60 v66 v72 v78 v84 v90 v249 := (← Prog.lift (TpuEff.assume (k0_chk77 v0 v6 v12 v18 v24 v30 v36 v42 v48 v54 v60 v66 v72 v78 v84 v90 v249) (k0_chk77.dec v0 v6 v12 v18 v24 v30 v36 v42 v48 v54 v60 v66 v72 v78 v84 v90 v249))).down
        let v250 : DmaSems sig S1 := cc0_scratch11.slice (Rect.unit (s := S2) (k0_off397 v0 v6 v12 v18 v24 v30 v36 v42 v48 v54 v60 v66 v72 v78 v84 v90) S1.size (k0_off397_inb v0 v6 v12 v18 v24 v30 v36 v42 v48 v54 v60 v66 v72 v78 v84 v90 hw k0_h70))
        let v251 : DmaSems sig S_ := v250.squeeze S_ squeezes_S1_S_
        let v252 : Memref sig .tc .hbm S1x24x7168 .bf16 := A4.slice (Rect.unit (s := S16x24x7168) (k0_off398 v249) S1x24x7168.size (k0_off398_inb v0 v6 v12 v18 v24 v30 v36 v42 v48 v54 v60 v66 v72 v78 v84 v90 v249 k0_hw77 k0_h70)) (fun _ => rfl)
        let v253 : Memref sig .tc .hbm S24x7168 .bf16 := v252.squeeze S24x7168 squeezes_S1x24x7168_S24x7168
        let v254 : Memref sig .tc .vmem S1x24x7168 .bf16 := A11.slice (Rect.unit (s := S2x24x7168) (k0_off399 v0 v6 v12 v18 v24 v30 v36 v42 v48 v54 v60 v66 v72 v78 v84 v90) S1x24x7168.size (k0_off399_inb v0 v6 v12 v18 v24 v30 v36 v42 v48 v54 v60 v66 v72 v78 v84 v90 hw k0_h70)) (fun _ => rfl)
        let v255 : Memref sig .tc .vmem S24x7168 .bf16 := v254.squeeze S24x7168 squeezes_S1x24x7168_S24x7168
        Prog.lift (.waitDma2 v251.sem v255 v253 (((Memref.isWhole_whole _ : A11.IsWhole).wordExact_slice rfl _ (k0_off399_wordsbf16 v0 v6 v12 v18 v24 v30 v36 v42 v48 v54 v60 v66 v72 v78 v84 v90 hw k0_h70)).reshape _ _) (((Memref.isWhole_whole _ : A4.IsWhole).wordExact_slice rfl _ (k0_off398_wordsbf16 v0 v6 v12 v18 v24 v30 v36 v42 v48 v54 v60 v66 v72 v78 v84 v90 v249 k0_hw77 k0_h70)).reshape _ _))
        R) else R) Q) := by
  unfold OS E70
  by_cases hi : 1 < cnt g 16
  · have hs : sl (cnt g 16) = sl (cnt g 16 - 2) := by
      rw [← sl_succ2 (cnt g 16 - 2)]
      exact congrArg sl (by omega)
    rw [dif_pos ((cond70 (cnt_le g 16) hN).2 hi), if_pos hi, if_pos (show 2 ≤ cnt g 16 by omega), hs, show cnt g 16 - 2 = cnt g 16 - 2 by omega]
    unfold OinK RowK
    dsimp only
    iintro ⟨H5, HW, ⟨%v, %hv, HO⟩⟩ K
    iapply (lw5 c (p16 (cnt g 16 - 2)) (off396 (cnt_le g 16) hN hi)) $$ H5
    iintro H5
    iapply (W_assume c (by rw [hT _ (by omega)]; exact chk77 _))
    iapply (waitO c (sl (cnt g 16 - 2)) (act g (cnt g 16 - 2)) (v := v) (off397 (cnt_le g 16) hN hi)) $$ [HO HW]
    · isplitl [HO] <;> iassumption
    iintro HF HR HW
    iapply K
    isplitl [H5]; · iexact H5
    isplitl [HW]; · iexact HW
    isplitl [HF]; · iexact HF
    iexists v
    isplitr; · ipureintro; exact hv
    iexact HR
  · rw [dif_neg (mt (cond70 (cnt_le g 16) hN).1 hi), if_neg hi, if_neg (show ¬ 2 ≤ cnt g 16 by omega)]
    iintro ⟨H5, HW, HO⟩ K
    iapply K
    isplitl [H5]; · iexact H5
    isplitl [HW]; · iexact HW
    isplitl [HO]; · iexact HO
    iempintro

theorem rw_end :
    iprop(RW c fx fs fw fg g (cnt g 16 - 2) (cnt g 16) ∗ E69 c fx fs fw fg g ∗ E70 c fx fs fw fg g) ⊢ RW c fx fs fw fg g (cnt g 16) (cnt g 16) := by
  unfold E69 E70
  by_cases h1 : 1 < cnt g 16
  · rw [if_pos h1, if_pos (show 0 < cnt g 16 by omega)]
    iintro ⟨H, H1, H2⟩
    ihave H := (rw_put c fx fs fw fg (g := g) (a := cnt g 16 - 2) (b := cnt g 16) (by omega) (by omega)) $$ [H H2]
    · isplitl [H] <;> iassumption
    ihave H := (rw_put c fx fs fw fg (g := g) (a := cnt g 16 - 2 + 1) (b := cnt g 16) (by omega) (by omega)) $$ [H H1]
    · isplitl [H]; · iexact H
      iapply (Entails.of_eq (show RowK c fx fs fw fg (act g (cnt g 16 - 1)) = RowK c fx fs fw fg (act g (cnt g 16 - 2 + 1)) from congrArg (fun i => RowK c fx fs fw fg (act g i)) (by omega)))
      iexact H1
    iapply (Entails.of_eq (show RW c fx fs fw fg g (cnt g 16 - 2 + 1 + 1) (cnt g 16) = RW c fx fs fw fg g (cnt g 16) (cnt g 16) from congrArg (fun i => RW c fx fs fw fg g i (cnt g 16)) (by omega)))
    iexact H
  · by_cases h0 : 0 < cnt g 16
    · rw [if_neg h1, if_pos h0]
      iintro ⟨H, H1, -⟩
      ihave H := (rw_put c fx fs fw fg (g := g) (a := cnt g 16 - 2) (b := cnt g 16) (by omega) (by omega)) $$ [H H1]
      · isplitl [H]; · iexact H
        iapply (Entails.of_eq (show RowK c fx fs fw fg (act g (cnt g 16 - 1)) = RowK c fx fs fw fg (act g (cnt g 16 - 2)) from congrArg (fun i => RowK c fx fs fw fg (act g i)) (by omega)))
        iexact H1
      iapply (Entails.of_eq (show RW c fx fs fw fg g (cnt g 16 - 2 + 1) (cnt g 16) = RW c fx fs fw fg g (cnt g 16) (cnt g 16) from congrArg (fun i => RW c fx fs fw fg g i (cnt g 16)) (by omega)))
      iexact H
    · rw [if_neg h1, if_neg h0]
      iintro ⟨H, -, -⟩
      iapply (Entails.of_eq (show RW c fx fs fw fg g (cnt g 16 - 2) (cnt g 16) = RW c fx fs fw fg g (cnt g 16) (cnt g 16) from congrArg (fun i => RW c fx fs fw fg g i (cnt g 16)) (by omega)))
      iexact H
end

end Cert.Proof.KernelIdeal
end
end
-- ==== Proof.KernelIdeal.Body.lean ====
module

public import proofs.«01_k».proof.Proof.KernelIdeal.Main
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Transfers
public import Idealize.ShloMosaic.Lib.Batch
public import Idealize.ShloMosaic.Adequacy
public import Idealize.ShloMosaic.Init

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

section
variable {F : FTy → Type} [FloatOps F] (c : Dev nD)
variable {fx : S16x24x1536.Idx → Elt F .bf16} {fs : S16x56x12.Idx → Elt F .f32} {fw : S16x7168x1536.Idx → Elt F .fp8e4m3} {fg : S16.Idx → Elt F .i32}
variable {g : ℕ → BitVec 32} (hg : ∀ i, tw (F := F) fg (p16 i) = g i) {q0 : PosShare TreeShare}

/-- The buffers of the loop at rest. -/
def Rest (fx : S16x24x1536.Idx → Elt F .bf16) (fs : S16x56x12.Idx → Elt F .f32) (fw : S16x7168x1536.Idx → Elt F .fp8e4m3) : sProp (MT nD τ sig Unit (Elt F) ℕ UU ℕ) :=
  iprop(SFree c fx fs fw (sl 0) ∗ SFree c fx fs fw (sl 1) ∗ (∃ f, P9 c f) ∗ (∃ f, P10 c f) ∗ Ofree c (sl 0) ∗ Ofree c (sl 1))

theorem free_swap (n : ℕ) : iprop(SFree c fx fs fw (sl n) ∗ SFree c fx fs fw (sl (n + 1))) ⊢ iprop(SFree c fx fs fw (sl 0) ∗ SFree c fx fs fw (sl 1)) := by
  rcases Nat.mod_two_eq_zero_or_one n with h | h
  · rw [show sl n = sl 0 from Fin.ext (by show n % 2 = 0; omega), show sl (n + 1) = sl 1 from Fin.ext (by show (n + 1) % 2 = 1; omega)]
  · rw [show sl n = sl 1 from Fin.ext (by show n % 2 = 1; omega), show sl (n + 1) = sl 0 from Fin.ext (by show (n + 1) % 2 = 0; omega)]
    iintro ⟨H1, H2⟩
    isplitl [H2] <;> iassumption
theorem ofree_swap (n : ℕ) : iprop(Ofree (F := F) c (sl n) ∗ Ofree (F := F) c (sl (n + 1))) ⊢ iprop(Ofree (F := F) c (sl 0) ∗ Ofree (F := F) c (sl 1)) := by
  rcases Nat.mod_two_eq_zero_or_one n with h | h
  · rw [show sl n = sl 0 from Fin.ext (by show n % 2 = 0; omega), show sl (n + 1) = sl 1 from Fin.ext (by show (n + 1) % 2 = 1; omega)]
  · rw [show sl n = sl 1 from Fin.ext (by show n % 2 = 1; omega), show sl (n + 1) = sl 0 from Fin.ext (by show (n + 1) % 2 = 0; omega)]
    iintro ⟨H1, H2⟩
    isplitl [H2] <;> iassumption

/-- What the first part of the function leaves. -/
def Mid (fx : S16x24x1536.Idx → Elt F .bf16) (fs : S16x56x12.Idx → Elt F .f32) (fw : S16x7168x1536.Idx → Elt F .fp8e4m3) (fg : S16.Idx → Elt F .i32) (g : ℕ → BitVec 32) : sProp (MT nD τ sig Unit (Elt F) ℕ UU ℕ) :=
  iprop(SFree c fx fs fw (sl (cnt g 16)) ∗ SFree c fx fs fw (sl (cnt g 16 + 1)) ∗ (∃ f, P9 c f) ∗ (∃ f, P10 c f) ∗ OS c fx fs fw fg (act g) (cnt g 16) ∗ Ofree c (sl (cnt g 16 + 1)) ∗
    RW c fx fs fw fg g (cnt g 16 - 2) (cnt g 16) ∗ E69 c fx fs fw fg g ∗ TokR c (zb0 (F := F)) ∗ ZR c g (zb0 (F := F)) 16 ∗ bigSep Finset.univ (Dz c g (zb0 (F := F))) ∗ Sem0 c zsem)

include hg in
set_option maxHeartbeats 2000000 in
theorem part124_spec {Q : _ → sProp (MT nD τ sig Unit (Elt F) ℕ UU ℕ)} :
    iprop(P0 c q0 fg ∗ (∃ f, P5 c f) ∗ OW c ∗ Rest c fx fs fw ∗ (∃ f : S24x7168.Idx → Elt F .bf16, PW c A12 fullShare f) ∗ Sem0 c zsem ∗ bigSep Finset.univ (Row (F := F) c)) ⊢
      iprop((∀ ft : S16.Idx → Elt F .i32, ⌜Tab g 16 ft⌝ -∗ P0 c q0 fg -∗ P5 c ft -∗ OW c -∗ Mid c fx fs fw fg g -∗ Q ⟨g 0, g 1, g 2, g 3, g 4, g 5, g 6, g 7, g 8, g 9, g 10, g 11, g 12, g 13, g 14, g 15, hwg g, pre g 16, Scalar.cmpi .sgt (pre g 16) 1#32⟩) -∗
        W c (k0_part124 (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12) Q) := by
  rw [k0_part124_eq_skeleton]
  unfold k0_part124_skel
  dsimp only
  unfold Rest
  iintro ⟨H0, ⟨%f5, H5⟩, HW, ⟨HA, HC, H9, H10, HO0, HO1⟩, H12, HS12, HR⟩ K
  iapply (W_bind c)
  iapply (part117_spec c hg) $$ [H0 H5]
  · isplitl [H0] <;> iassumption
  iintro %ft117 %hT117 H0 H5
  dsimp only
  iapply (W_bind c)
  iapply (part118_spec c hg hT117) $$ [H0 H5]
  · isplitl [H0] <;> iassumption
  iintro %ft118 %hT118 H0 H5
  dsimp only
  iapply (W_bind c)
  iapply (part119_spec c hg hT118) $$ [H0 H5]
  · isplitl [H0] <;> iassumption
  iintro %ft119 %hT119 H0 H5
  dsimp only
  have hN := NW_eq g
  have hT : ∀ i, i < cnt g 16 → tw (F := F) ft119 (p16 i) = BitVec.ofNat 32 (act g i).val := fun i h => tab_full hT119 i h
  iapply (W_bind c)
  iapply (part120_spec c hg (fx := fx) (fs := fs) (fw := fw) hN hT) $$ [H0 H5 HA HC H12 HS12 HR]
  · isplitl [H0]; · iexact H0
    isplitl [H5]; · iexact H5
    isplitl [HA]; · iexact HA
    isplitl [HC]; · iexact HC
    isplitl [H12]; · iexact H12
    isplitl [HS12]; · iexact HS12
    iexact HR
  iintro ⟨H0, H5, HA, HC, HZ, HB, HTR, HRW⟩
  dsimp only
  iapply (W_bind c)
  iapply (part121_spec c hg) $$ [H0 HZ HB]
  · isplitl [H0]; · iexact H0
    isplitl [HZ]; · iexact HZ
    iexact HB
  iintro ⟨H0, HZ, HB⟩
  iapply (W_bind c)
  iapply (part122_spec c hg (hwg g) (fx := fx) (fs := fs) (fw := fw) hN hT) $$ [H5 H0 HW HA HC H9 H10 HO0 HO1 HRW HZ HB]
  · isplitl [H5]; · iexact H5
    isplitl [H0]; · iexact H0
    isplitl [HW]; · iexact HW
    isplitl [HA HC H9 H10 HO0 HO1 HRW]
    · unfold LR
      ihave HO0 := (Entails.of_eq (show Ofree c (sl 0) = OS c fx fs fw fg (act g) 0 by unfold OS; rw [if_neg (by decide)])) $$ HO0
      ihave HO1 := (Entails.of_eq (show Ofree c (sl 1) = OS c fx fs fw fg (act g) (0 + 1) by unfold OS; rw [if_neg (by decide)])) $$ HO1
      isplitl [HA]; · iexact HA
      isplitl [HC]; · iexact HC
      isplitl [H9]; · iexact H9
      isplitl [H10]; · iexact H10
      isplitl [HO0]; · iexact HO0
      isplitl [HO1]; · iexact HO1
      iexact HRW
    isplitl [HZ] <;> iassumption
  iintro ⟨H5, H0, HW, HL, HZ, HB⟩
  iapply (W_bind c)
  iapply (part123_spec c hg) $$ [H0 HW HB]
  · isplitl [H0]; · iexact H0
    isplitl [HW]; · iexact HW
    iexact HB
  iintro ⟨H0, HW, HB⟩
  dsimp only
  iapply (zwait c (10 : Fin 16) (zb := zb0) (cond_neg g 10) rfl) $$ [HB HW]
  · isplitl [HB]; · iexact HB
    iexact HW
  iintro ⟨HB, HW⟩
  iapply (lwg c hg 11 rfl) $$ H0
  iintro H0
  iapply (zwait c (11 : Fin 16) (zb := zb0) (cond_neg g 11) rfl) $$ [HB HW]
  · isplitl [HB]; · iexact HB
    iexact HW
  iintro ⟨HB, HW⟩
  iapply (lwg c hg 12 rfl) $$ H0
  iintro H0
  iapply (zwait c (12 : Fin 16) (zb := zb0) (cond_neg g 12) rfl) $$ [HB HW]
  · isplitl [HB]; · iexact HB
    iexact HW
  iintro ⟨HB, HW⟩
  iapply (lwg c hg 13 rfl) $$ H0
  iintro H0
  iapply (zwait c (13 : Fin 16) (zb := zb0) (cond_neg g 13) rfl) $$ [HB HW]
  · isplitl [HB]; · iexact HB
    iexact HW
  iintro ⟨HB, HW⟩
  iapply (lwg c hg 14 rfl) $$ H0
  iintro H0
  iapply (zwait c (14 : Fin 16) (zb := zb0) (cond_neg g 14) rfl) $$ [HB HW]
  · isplitl [HB]; · iexact HB
    iexact HW
  iintro ⟨HB, HW⟩
  iapply (lwg c hg 15 rfl) $$ H0
  iintro H0
  iapply (zwait c (15 : Fin 16) (zb := zb0) (cond_neg g 15) rfl) $$ [HB HW]
  · isplitl [HB]; · iexact HB
    iexact HW
  iintro ⟨HB, HW⟩
  ihave HL := (Entails.of_eq (show LR c fx fs fw fg g (cnt g 16) = iprop(SFree c fx fs fw (sl (cnt g 16)) ∗ SFree c fx fs fw (sl (cnt g 16 + 1)) ∗ (∃ f, P9 c f) ∗ (∃ f, P10 c f) ∗
    OS c fx fs fw fg (act g) (cnt g 16) ∗ OS c fx fs fw fg (act g) (cnt g 16 + 1) ∗ RW c fx fs fw fg g (cnt g 16 - 2) (cnt g 16)) by
      unfold LR; rw [SLT_out c fx fs fw (act g) (cnt g 16) (lt_irrefl _), SLT_out c fx fs fw (act g) (cnt g 16) (by omega)])) $$ HL
  icases HL with ⟨HA, HC, H9, H10, HO0, HO1, HRW⟩
  iapply (if69 c (fx := fx) (fs := fs) (fw := fw) (fg := fg) (hwg g) hN hT) $$ [H5 HW HO1]
  · isplitl [H5]; · iexact H5
    isplitl [HW]; · iexact HW
    iexact HO1
  iintro ⟨H5, HW, HO1, HE⟩
  ihave HB := (Entails.of_eq (show ZB c g (zb0 (F := F)) (cnt (neg g) 16) (NZ * cnt (neg g) ((15 : Fin 16).val + 1)) = ZB c g (zb0 (F := F)) (cnt (neg g) 16) (NZ * cnt (neg g) 16) from rfl)) $$ HB
  imod (Transfers.batch_collect' EC (c : Thread nD τ) (D := Dz c g (zb0 (F := F))) nz_pos) $$ HB with ⟨HD, HS12⟩
  iapply W_pure
  ispecialize K $$ %ft119 %hT119 H0 H5 HW
  iapply K
  unfold Mid
  isplitl [HA]; · iexact HA
  isplitl [HC]; · iexact HC
  isplitl [H9]; · iexact H9
  isplitl [H10]; · iexact H10
  isplitl [HO0]; · iexact HO0
  isplitl [HO1]; · iexact HO1
  isplitl [HRW]; · iexact HRW
  isplitl [HE]; · iexact HE
  isplitl [HTR]; · iexact HTR
  isplitl [HZ]; · iexact HZ
  isplitl [HD]; · iexact HD
  iexact HS12

/-- The whole function. -/
theorem body_spec {Q : PUnit → sProp (MT nD τ sig Unit (Elt F) ℕ UU ℕ)} :
    iprop(P0 c q0 fg ∗ (∃ f, P5 c f) ∗ OW c ∗ Rest c fx fs fw ∗ (∃ f : S24x7168.Idx → Elt F .bf16, PW c A12 fullShare f) ∗ Sem0 c zsem ∗ bigSep Finset.univ (Row (F := F) c)) ⊢
      iprop((P0 c q0 fg ∗ (∃ f, P5 c f) ∗ OW c ∗ Rest c fx fs fw ∗ (∃ f : S24x7168.Idx → Elt F .bf16, PW c A12 fullShare f) ∗ Sem0 c zsem ∗
          bigSep Finset.univ (RowF c (fun i => tw fg (p16 i)) fx fs fw fg) -∗ Q ⟨⟩) -∗
        W c (cc0_grouped_fp8_expert_matmul (F := F) A0 (Memref.isWhole_whole _) A1 (Memref.isWhole_whole _) A2 (Memref.isWhole_whole _) A3 (Memref.isWhole_whole _) A4 (Memref.isWhole_whole _) A5 (Memref.isWhole_whole _) A6 (Memref.isWhole_whole _) A7 (Memref.isWhole_whole _) A8 (Memref.isWhole_whole _) A9 (Memref.isWhole_whole _) A10 (Memref.isWhole_whole _) A11 (Memref.isWhole_whole _) A12 (Memref.isWhole_whole _) cc0_scratch8 cc0_scratch9 cc0_scratch10 cc0_scratch11 cc0_scratch12) Q) := by
  rw [cc0_grouped_fp8_expert_matmul_eq_skeleton]
  unfold cc0_grouped_fp8_expert_matmul_skel
  dsimp only
  generalize hgg : (fun i => tw fg (p16 i)) = g
  have hg : ∀ i, tw (F := F) fg (p16 i) = g i := fun i => congrFun hgg i
  iintro H K
  iapply (W_bind c)
  iapply (part124_spec c hg (fx := fx) (fs := fs) (fw := fw)) $$ H
  iintro %ft %hTab H0 H5 HW HM
  dsimp only
  have hN := NW_eq g
  have hT : ∀ i, i < cnt g 16 → tw (F := F) ft (p16 i) = BitVec.ofNat 32 (act g i).val := fun i h => tab_full hTab i h
  unfold Mid
  icases HM with ⟨HA, HC, H9, H10, HO0, HO1, HRW, HE, HTR, HZ, HD, HS12⟩
  iapply (if70 c (fx := fx) (fs := fs) (fw := fw) (fg := fg) (hwg g) hN hT) $$ [H5 HW HO0]
  · isplitl [H5]; · iexact H5
    isplitl [HW]; · iexact HW
    iexact HO0
  iintro ⟨H5, HW, HO0, HE2⟩
  iapply W_pure
  iapply K
  isplitl [H0]; · iexact H0
  isplitl [H5]; · iexists ft; iexact H5
  isplitl [HW]; · iexact HW
  isplitl [HA HC H9 H10 HO0 HO1]
  · unfold Rest
    ihave HAC := (free_swap c (fx := fx) (fs := fs) (fw := fw) (cnt g 16)) $$ [HA HC]
    · isplitl [HA] <;> iassumption
    icases HAC with ⟨HA, HC⟩
    ihave HO := (ofree_swap c (cnt g 16)) $$ [HO0 HO1]
    · isplitl [HO0] <;> iassumption
    icases HO with ⟨HO0, HO1⟩
    isplitl [HA]; · iexact HA
    isplitl [HC]; · iexact HC
    isplitl [H9]; · iexact H9
    isplitl [H10]; · iexact H10
    isplitl [HO0]; · iexact HO0
    iexact HO1
  ihave HRW := (rw_end c (fx := fx) (fs := fs) (fw := fw) (fg := fg) (g := g)) $$ [HRW HE HE2]
  · isplitl [HRW]; · iexact HRW
    isplitl [HE]; · iexact HE
    iexact HE2
  ihave HJ := (rows_join c g fx fs fw fg) $$ [HZ HD HRW]
  · isplitl [HZ]; · iexact HZ
    isplitl [HD]; · iexact HD
    iexact HRW
  icases HJ with ⟨HR, HT⟩
  isplitl [HTR HT]
  · iexists (zb0 (F := F))
    iapply (toks c (zb0 (F := F))).2
    isplitl [HTR] <;> iassumption
  isplitl [HS12] <;> iassumption
end

end Cert.Proof.KernelIdeal
end
end
-- ==== Proof.KernelIdeal.Start.lean ====
module

public import proofs.«01_k».proof.Proof.KernelIdeal.Body
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Transfers
public import Idealize.ShloMosaic.Lib.Batch
public import Idealize.ShloMosaic.Lib.Pipeline.FrameValue
public import Idealize.ShloMosaic.Lib.Pipeline.FrameBody
public import Idealize.ShloMosaic.Adequacy
public import Idealize.ShloMosaic.Init

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

section
variable {F : FTy → Type} [FloatOps F] (c : Dev nD)

local notation "𝕄" => MT nD τ sig Unit (Elt F) ℕ UU ℕ

/-! Whole buffers and their windows. -/

theorem set_xW (s : Fin 2) : (xW s).view.set = (Rect.unit (s := S2x24x1536) ![s.val, 0, 0] S1x24x1536.size (inb_x s)).set :=
  (View.set_reshape _ _).trans (View.set_slice_whole _ _)
theorem set_sW (s : Fin 2) : (sW s).view.set = (Rect.unit (s := S2x56x12) ![s.val, 0, 0] S1x56x12.size (inb_s s)).set :=
  (View.set_reshape _ _).trans (View.set_slice_whole _ _)
theorem set_wW (s : Fin 2) (q : Fin 7) : (wW s q).view.set = (Rect.unit (s := S2x7168x1536) ![s.val, 1024 * q.val, 0] S1x1024x1536.size (inb_w s q)).set :=
  (View.set_reshape _ _).trans (View.set_slice_whole _ _)
theorem set_oW (s : Fin 2) : (oW s).view.set = (Rect.unit (s := S2x24x7168) ![s.val, 0, 0] S1x24x7168.size (inb_o s)).set :=
  (View.set_reshape _ _).trans (View.set_slice_whole _ _)
theorem set_oE (e : Fin 16) : (oE e).view.set = (Rect.unit (s := S16x24x7168) ![e.val, 0, 0] S1x24x7168.size (inb_oE e)).set :=
  (View.set_reshape _ _).trans (View.set_slice_whole _ _)

theorem rows_disj {n a b : ℕ} {h : ∀ s : Fin n, ∀ x, (![s.val, 0, 0] : Fin 3 → ℕ) x + (⟨3, ![1, a, b]⟩ : Shape).size x ≤ (⟨3, ![n, a, b]⟩ : Shape).size x} (s t : Fin n) (hst : s ≠ t) :
    Disjoint (Rect.unit (s := ⟨3, ![n, a, b]⟩) ![s.val, 0, 0] (⟨3, ![1, a, b]⟩ : Shape).size (h s)).set (Rect.unit (s := ⟨3, ![n, a, b]⟩) ![t.val, 0, 0] (⟨3, ![1, a, b]⟩ : Shape).size (h t)).set :=
  Rect.unit_disjoint (0 : Fin 3) (by
    show s.val + 1 ≤ t.val ∨ t.val + 1 ≤ s.val
    have : s.val ≠ t.val := fun h => hst (Fin.ext h)
    omega)

theorem w_disj (k l : Fin 2 × Fin 7) (hst : k ≠ l) : Disjoint (wW k.1 k.2).view.set (wW l.1 l.2).view.set := by
  rw [set_wW, set_wW]
  by_cases h : k.1 = l.1
  · have : k.2.val ≠ l.2.val := fun h' => hst (Prod.ext h (Fin.ext h'))
    exact Rect.unit_disjoint (1 : Fin 3) (by
      show 1024 * k.2.val + 1024 ≤ 1024 * l.2.val ∨ 1024 * l.2.val + 1024 ≤ 1024 * k.2.val
      omega)
  · have : k.1.val ≠ l.1.val := fun h' => h (Fin.ext h')
    exact Rect.unit_disjoint (0 : Fin 3) (by
      show k.1.val + 1 ≤ l.1.val ∨ l.1.val + 1 ≤ k.1.val
      omega)

theorem w_cover : (Finset.univ : Finset (Fin 2 × Fin 7)).biUnion (β := S2x7168x1536.Idx) (fun k => (wW k.1 k.2).view.set) = Finset.univ := by
  refine Finset.eq_univ_iff_forall.2 fun i => ?_
  have h0 : ((i : S2x7168x1536.Idx) 0).val < 2 := (i 0).isLt
  have h1 : ((i : S2x7168x1536.Idx) 1).val < 7168 := (i 1).isLt
  have h2 : ((i : S2x7168x1536.Idx) 2).val < 1536 := (i 2).isLt
  refine Finset.mem_biUnion.2 ⟨(⟨(i 0).val, h0⟩, ⟨(i 1).val / 1024, by omega⟩), Finset.mem_univ _, ?_⟩
  rw [set_wW]
  refine Rect.mem_set_unit.2 fun x => ?_
  fin_cases x
  · exact ⟨le_refl (i 0).val, Nat.lt_succ_self (i 0).val⟩
  · exact ⟨by show 1024 * ((i 1).val / 1024) ≤ (i 1).val; omega, by show (i 1).val < 1024 * ((i 1).val / 1024) + 1024; omega⟩
  · exact ⟨Nat.zero_le _, by show (i 2).val < 0 + 1536; omega⟩

section pieces
variable {ι : Type} [Fintype ι] [DecidableEq ι] {ℓ : Loc nD τ sig} {K : ι → Finset (Idx ℓ)}
variable (hd : ∀ t t', t ≠ t' → Disjoint (K t) (K t')) (hc : Finset.univ.biUnion K = Finset.univ)

include hd hc in
theorem split_pieces (f : Buf (Elt F) ℓ) : (ℓ ↦{fullShare} f : sProp (MT nD τ sig Unit (Elt F) ℕ UU ℕ)) ⊢ bigSep Finset.univ fun i => iprop(∃ f : Buf (Elt F) ℓ, ℓ ↦[K i]{fullShare} f) := by
  rw [← hc, pointsTo_biUnion Finset.univ K (fun t _ t' _ h => hd t t' h)]
  exact bigSep_mono fun i _ => show iprop(ℓ ↦[K i]{fullShare} f) ⊢ iprop(∃ f : Buf (Elt F) ℓ, ℓ ↦[K i]{fullShare} f) from by iintro H; iexists f; iexact H

include hd hc in
theorem join_pieces (R : ι → Buf (Elt F) ℓ → Prop) (hR : ∀ i f f', (∀ x ∈ K i, f x = f' x) → R i f → R i f') (f₀ : Buf (Elt F) ℓ) :
    bigSep Finset.univ (fun i => iprop(∃ f : Buf (Elt F) ℓ, ⌜R i f⌝ ∗ ℓ ↦[K i]{fullShare} f)) ⊢ (iprop(∃ f : Buf (Elt F) ℓ, (ℓ ↦{fullShare} f) ∗ ⌜∀ i, R i f⌝) : sProp (MT nD τ sig Unit (Elt F) ℕ UU ℕ)) := by
  haveI : Nonempty (Buf (Elt F) ℓ) := ⟨f₀⟩
  refine (Idealize.SL.BI.bigSep_exists_pi Finset.univ fun i (f : Buf (Elt F) ℓ) => iprop(⌜R i f⌝ ∗ ℓ ↦[K i]{fullShare} f)).trans ?_
  iintro ⟨%y, H⟩
  ihave H := (bigSep_pure_sep (S := Finset.univ) (φ := fun i => R i (y i)) (Ψ := fun i => ℓ ↦[K i]{fullShare} y i)) $$ H
  icases H with ⟨%hP, H⟩
  ihave H := (pointsTo_biUnion_join Finset.univ K y f₀ (fun t _ t' _ h => hd t t' h)) $$ H
  icases H with ⟨%g, %hg, H⟩
  iexists g
  isplitl [H]
  · iapply (Entails.of_eq (show (ℓ ↦[Finset.univ.biUnion K]{fullShare} g : sProp (MT nD τ sig Unit (Elt F) ℕ UU ℕ)) = _ from by rw [hc]))
    iexact H
  · ipureintro
    exact fun i => hR i (y i) g (fun x hx => (hg i (Finset.mem_univ _) x hx).symm) (hP i (Finset.mem_univ i))

include hd hc in
theorem join_pieces0 (f₀ : Buf (Elt F) ℓ) :
    bigSep Finset.univ (fun i => iprop(∃ f : Buf (Elt F) ℓ, (ℓ ↦[K i]{fullShare} f))) ⊢ (iprop(∃ f : Buf (Elt F) ℓ, (ℓ ↦{fullShare} f)) : sProp (MT nD τ sig Unit (Elt F) ℕ UU ℕ)) := by
  have := join_pieces (F := F) hd hc (fun _ _ => True) (fun _ _ _ _ _ => trivial) f₀
  refine (bigSep_mono fun i _ => ?_).trans (this.trans ?_)
  · show iprop(∃ f : Buf (Elt F) ℓ, (ℓ ↦[K i]{fullShare} f)) ⊢ iprop(∃ f : Buf (Elt F) ℓ, ⌜True⌝ ∗ (ℓ ↦[K i]{fullShare} f))
    iintro ⟨%f, H⟩
    iexists f
    isplitr
    · ipureintro; trivial
    · iexact H
  · iintro ⟨%f, H, -⟩
    iexists f; iexact H
end pieces

/-! The start of the body and its end. -/

theorem disj_xW (s t : Fin 2) (h : s ≠ t) : Disjoint (xW s).view.set (xW t).view.set := by
  rw [set_xW, set_xW]; exact rows_disj (n := 2) (a := 24) (b := 1536) (h := inb_x) s t h
theorem cover_xW : (Finset.univ : Finset (Fin 2)).biUnion (β := S2x24x1536.Idx) (fun s => (xW s).view.set) = Finset.univ := by
  refine Finset.eq_univ_iff_forall.2 fun i => ?_
  have h0 : ((i : S2x24x1536.Idx) 0).val < 2 := (i 0).isLt
  have h1 : ((i : S2x24x1536.Idx) 1).val < 24 := (i 1).isLt
  have h2 : ((i : S2x24x1536.Idx) 2).val < 1536 := (i 2).isLt
  refine Finset.mem_biUnion.2 ⟨⟨(i 0).val, h0⟩, Finset.mem_univ _, ?_⟩
  rw [set_xW]
  refine Rect.mem_set_unit.2 fun x => ?_
  fin_cases x
  · exact ⟨le_refl (i 0).val, Nat.lt_succ_self (i 0).val⟩
  · exact ⟨Nat.zero_le _, by show (i 1).val < 0 + 24; omega⟩
  · exact ⟨Nat.zero_le _, by show (i 2).val < 0 + 1536; omega⟩
theorem disj_sW (s t : Fin 2) (h : s ≠ t) : Disjoint (sW s).view.set (sW t).view.set := by
  rw [set_sW, set_sW]; exact rows_disj (n := 2) (a := 56) (b := 12) (h := inb_s) s t h
theorem cover_sW : (Finset.univ : Finset (Fin 2)).biUnion (β := S2x56x12.Idx) (fun s => (sW s).view.set) = Finset.univ := by
  refine Finset.eq_univ_iff_forall.2 fun i => ?_
  have h0 : ((i : S2x56x12.Idx) 0).val < 2 := (i 0).isLt
  have h1 : ((i : S2x56x12.Idx) 1).val < 56 := (i 1).isLt
  have h2 : ((i : S2x56x12.Idx) 2).val < 12 := (i 2).isLt
  refine Finset.mem_biUnion.2 ⟨⟨(i 0).val, h0⟩, Finset.mem_univ _, ?_⟩
  rw [set_sW]
  refine Rect.mem_set_unit.2 fun x => ?_
  fin_cases x
  · exact ⟨le_refl (i 0).val, Nat.lt_succ_self (i 0).val⟩
  · exact ⟨Nat.zero_le _, by show (i 1).val < 0 + 56; omega⟩
  · exact ⟨Nat.zero_le _, by show (i 2).val < 0 + 12; omega⟩
theorem disj_oW (s t : Fin 2) (h : s ≠ t) : Disjoint (oW s).view.set (oW t).view.set := by
  rw [set_oW, set_oW]; exact rows_disj (n := 2) (a := 24) (b := 7168) (h := inb_o) s t h
theorem cover_oW : (Finset.univ : Finset (Fin 2)).biUnion (β := S2x24x7168.Idx) (fun s => (oW s).view.set) = Finset.univ := by
  refine Finset.eq_univ_iff_forall.2 fun i => ?_
  have h0 : ((i : S2x24x7168.Idx) 0).val < 2 := (i 0).isLt
  have h1 : ((i : S2x24x7168.Idx) 1).val < 24 := (i 1).isLt
  have h2 : ((i : S2x24x7168.Idx) 2).val < 7168 := (i 2).isLt
  refine Finset.mem_biUnion.2 ⟨⟨(i 0).val, h0⟩, Finset.mem_univ _, ?_⟩
  rw [set_oW]
  refine Rect.mem_set_unit.2 fun x => ?_
  fin_cases x
  · exact ⟨le_refl (i 0).val, Nat.lt_succ_self (i 0).val⟩
  · exact ⟨Nat.zero_le _, by show (i 1).val < 0 + 24; omega⟩
  · exact ⟨Nat.zero_le _, by show (i 2).val < 0 + 7168; omega⟩
theorem disj_oE (s t : Fin 16) (h : s ≠ t) : Disjoint (oE s).view.set (oE t).view.set := by
  rw [set_oE, set_oE]; exact rows_disj (n := 16) (a := 24) (b := 7168) (h := inb_oE) s t h
theorem cover_oE : (Finset.univ : Finset (Fin 16)).biUnion (β := S16x24x7168.Idx) (fun s => (oE s).view.set) = Finset.univ := by
  refine Finset.eq_univ_iff_forall.2 fun i => ?_
  have h0 : ((i : S16x24x7168.Idx) 0).val < 16 := (i 0).isLt
  have h1 : ((i : S16x24x7168.Idx) 1).val < 24 := (i 1).isLt
  have h2 : ((i : S16x24x7168.Idx) 2).val < 7168 := (i 2).isLt
  refine Finset.mem_biUnion.2 ⟨⟨(i 0).val, h0⟩, Finset.mem_univ _, ?_⟩
  rw [set_oE]
  refine Rect.mem_set_unit.2 fun x => ?_
  fin_cases x
  · exact ⟨le_refl (i 0).val, Nat.lt_succ_self (i 0).val⟩
  · exact ⟨Nat.zero_le _, by show (i 1).val < 0 + 24; omega⟩
  · exact ⟨Nat.zero_le _, by show (i 2).val < 0 + 7168; omega⟩
theorem split6 (f : S2x24x1536.Idx → Elt F .bf16) : (A6.view.loc (c : Thread nD τ) ↦{fullShare} f : sProp (MT nD τ sig Unit (Elt F) ℕ UU ℕ)) ⊢ iprop((∃ f : S2x24x1536.Idx → Elt F .bf16, PW c (xW 0) fullShare f) ∗ ∃ f : S2x24x1536.Idx → Elt F .bf16, PW c (xW 1) fullShare f) :=
  (split_pieces (ℓ := A6.view.loc (c : Thread nD τ)) (K := fun s : Fin 2 => (xW s).view.set) disj_xW cover_xW f).trans
    (Entails.of_eq (bigSep_univ_eq_bigSepL [(0 : Fin 2), 1] (by decide) (by decide) _))
theorem join6 : iprop((∃ f : S2x24x1536.Idx → Elt F .bf16, PW c (xW 0) fullShare f) ∗ ∃ f : S2x24x1536.Idx → Elt F .bf16, PW c (xW 1) fullShare f) ⊢ (iprop(∃ f : S2x24x1536.Idx → Elt F .bf16, A6.view.loc (c : Thread nD τ) ↦{fullShare} f) : sProp (MT nD τ sig Unit (Elt F) ℕ UU ℕ)) := by
  iintro ⟨⟨%f, H⟩, H'⟩
  iapply (join_pieces0 (ℓ := A6.view.loc (c : Thread nD τ)) (K := fun s : Fin 2 => (xW s).view.set) disj_xW cover_xW f)
  iapply (Entails.of_eq (show iprop((∃ f : S2x24x1536.Idx → Elt F .bf16, PW c (xW 0) fullShare f) ∗ ∃ f : S2x24x1536.Idx → Elt F .bf16, PW c (xW 1) fullShare f) = _ from (bigSep_univ_eq_bigSepL [(0 : Fin 2), 1] (by decide) (by decide) (fun s => iprop(∃ f : S2x24x1536.Idx → Elt F .bf16, PW c (xW s) fullShare f))).symm))
  isplitl [H]
  · iexists f; iexact H
  · iexact H'
theorem split7 (f : S2x56x12.Idx → Elt F .f32) : (A7.view.loc (c : Thread nD τ) ↦{fullShare} f : sProp (MT nD τ sig Unit (Elt F) ℕ UU ℕ)) ⊢ iprop((∃ f : S2x56x12.Idx → Elt F .f32, PW c (sW 0) fullShare f) ∗ ∃ f : S2x56x12.Idx → Elt F .f32, PW c (sW 1) fullShare f) :=
  (split_pieces (ℓ := A7.view.loc (c : Thread nD τ)) (K := fun s : Fin 2 => (sW s).view.set) disj_sW cover_sW f).trans
    (Entails.of_eq (bigSep_univ_eq_bigSepL [(0 : Fin 2), 1] (by decide) (by decide) _))
theorem join7 : iprop((∃ f : S2x56x12.Idx → Elt F .f32, PW c (sW 0) fullShare f) ∗ ∃ f : S2x56x12.Idx → Elt F .f32, PW c (sW 1) fullShare f) ⊢ (iprop(∃ f : S2x56x12.Idx → Elt F .f32, A7.view.loc (c : Thread nD τ) ↦{fullShare} f) : sProp (MT nD τ sig Unit (Elt F) ℕ UU ℕ)) := by
  iintro ⟨⟨%f, H⟩, H'⟩
  iapply (join_pieces0 (ℓ := A7.view.loc (c : Thread nD τ)) (K := fun s : Fin 2 => (sW s).view.set) disj_sW cover_sW f)
  iapply (Entails.of_eq (show iprop((∃ f : S2x56x12.Idx → Elt F .f32, PW c (sW 0) fullShare f) ∗ ∃ f : S2x56x12.Idx → Elt F .f32, PW c (sW 1) fullShare f) = _ from (bigSep_univ_eq_bigSepL [(0 : Fin 2), 1] (by decide) (by decide) (fun s => iprop(∃ f : S2x56x12.Idx → Elt F .f32, PW c (sW s) fullShare f))).symm))
  isplitl [H]
  · iexists f; iexact H
  · iexact H'
theorem split11 (f : S2x24x7168.Idx → Elt F .bf16) : (A11.view.loc (c : Thread nD τ) ↦{fullShare} f : sProp (MT nD τ sig Unit (Elt F) ℕ UU ℕ)) ⊢ iprop((∃ f : S2x24x7168.Idx → Elt F .bf16, PW c (oW 0) fullShare f) ∗ ∃ f : S2x24x7168.Idx → Elt F .bf16, PW c (oW 1) fullShare f) :=
  (split_pieces (ℓ := A11.view.loc (c : Thread nD τ)) (K := fun s : Fin 2 => (oW s).view.set) disj_oW cover_oW f).trans
    (Entails.of_eq (bigSep_univ_eq_bigSepL [(0 : Fin 2), 1] (by decide) (by decide) _))
theorem join11 : iprop((∃ f : S2x24x7168.Idx → Elt F .bf16, PW c (oW 0) fullShare f) ∗ ∃ f : S2x24x7168.Idx → Elt F .bf16, PW c (oW 1) fullShare f) ⊢ (iprop(∃ f : S2x24x7168.Idx → Elt F .bf16, A11.view.loc (c : Thread nD τ) ↦{fullShare} f) : sProp (MT nD τ sig Unit (Elt F) ℕ UU ℕ)) := by
  iintro ⟨⟨%f, H⟩, H'⟩
  iapply (join_pieces0 (ℓ := A11.view.loc (c : Thread nD τ)) (K := fun s : Fin 2 => (oW s).view.set) disj_oW cover_oW f)
  iapply (Entails.of_eq (show iprop((∃ f : S2x24x7168.Idx → Elt F .bf16, PW c (oW 0) fullShare f) ∗ ∃ f : S2x24x7168.Idx → Elt F .bf16, PW c (oW 1) fullShare f) = _ from (bigSep_univ_eq_bigSepL [(0 : Fin 2), 1] (by decide) (by decide) (fun s => iprop(∃ f : S2x24x7168.Idx → Elt F .bf16, PW c (oW s) fullShare f))).symm))
  isplitl [H]
  · iexists f; iexact H
  · iexact H'
theorem split8 (f : S2x7168x1536.Idx → Elt F .fp8e4m3) : (A8.view.loc (c : Thread nD τ) ↦{fullShare} f : sProp (MT nD τ sig Unit (Elt F) ℕ UU ℕ)) ⊢ iprop((∃ f : S2x7168x1536.Idx → Elt F .fp8e4m3, PW c (wW 0 0) fullShare f) ∗ (∃ f : S2x7168x1536.Idx → Elt F .fp8e4m3, PW c (wW 0 1) fullShare f) ∗ (∃ f : S2x7168x1536.Idx → Elt F .fp8e4m3, PW c (wW 0 2) fullShare f) ∗ (∃ f : S2x7168x1536.Idx → Elt F .fp8e4m3, PW c (wW 0 3) fullShare f) ∗ (∃ f : S2x7168x1536.Idx → Elt F .fp8e4m3, PW c (wW 0 4) fullShare f) ∗ (∃ f : S2x7168x1536.Idx → Elt F .fp8e4m3, PW c (wW 0 5) fullShare f) ∗ (∃ f : S2x7168x1536.Idx → Elt F .fp8e4m3, PW c (wW 0 6) fullShare f) ∗ (∃ f : S2x7168x1536.Idx → Elt F .fp8e4m3, PW c (wW 1 0) fullShare f) ∗ (∃ f : S2x7168x1536.Idx → Elt F .fp8e4m3, PW c (wW 1 1) fullShare f) ∗ (∃ f : S2x7168x1536.Idx → Elt F .fp8e4m3, PW c (wW 1 2) fullShare f) ∗ (∃ f : S2x7168x1536.Idx → Elt F .fp8e4m3, PW c (wW 1 3) fullShare f) ∗ (∃ f : S2x7168x1536.Idx → Elt F .fp8e4m3, PW c (wW 1 4) fullShare f) ∗ (∃ f : S2x7168x1536.Idx → Elt F .fp8e4m3, PW c (wW 1 5) fullShare f) ∗ (∃ f : S2x7168x1536.Idx → Elt F .fp8e4m3, PW c (wW 1 6) fullShare f)) :=
  (split_pieces (ℓ := A8.view.loc (c : Thread nD τ)) (K := fun k : Fin 2 × Fin 7 => (wW k.1 k.2).view.set) w_disj w_cover f).trans
    (Entails.of_eq (bigSep_univ_eq_bigSepL [((0 : Fin 2), (0 : Fin 7)), ((0 : Fin 2), (1 : Fin 7)), ((0 : Fin 2), (2 : Fin 7)), ((0 : Fin 2), (3 : Fin 7)), ((0 : Fin 2), (4 : Fin 7)), ((0 : Fin 2), (5 : Fin 7)), ((0 : Fin 2), (6 : Fin 7)), ((1 : Fin 2), (0 : Fin 7)), ((1 : Fin 2), (1 : Fin 7)), ((1 : Fin 2), (2 : Fin 7)), ((1 : Fin 2), (3 : Fin 7)), ((1 : Fin 2), (4 : Fin 7)), ((1 : Fin 2), (5 : Fin 7)), ((1 : Fin 2), (6 : Fin 7))] (by decide) (by decide) _))
theorem join8 : iprop((∃ f : S2x7168x1536.Idx → Elt F .fp8e4m3, PW c (wW 0 0) fullShare f) ∗ (∃ f : S2x7168x1536.Idx → Elt F .fp8e4m3, PW c (wW 0 1) fullShare f) ∗ (∃ f : S2x7168x1536.Idx → Elt F .fp8e4m3, PW c (wW 0 2) fullShare f) ∗ (∃ f : S2x7168x1536.Idx → Elt F .fp8e4m3, PW c (wW 0 3) fullShare f) ∗ (∃ f : S2x7168x1536.Idx → Elt F .fp8e4m3, PW c (wW 0 4) fullShare f) ∗ (∃ f : S2x7168x1536.Idx → Elt F .fp8e4m3, PW c (wW 0 5) fullShare f) ∗ (∃ f : S2x7168x1536.Idx → Elt F .fp8e4m3, PW c (wW 0 6) fullShare f) ∗ (∃ f : S2x7168x1536.Idx → Elt F .fp8e4m3, PW c (wW 1 0) fullShare f) ∗ (∃ f : S2x7168x1536.Idx → Elt F .fp8e4m3, PW c (wW 1 1) fullShare f) ∗ (∃ f : S2x7168x1536.Idx → Elt F .fp8e4m3, PW c (wW 1 2) fullShare f) ∗ (∃ f : S2x7168x1536.Idx → Elt F .fp8e4m3, PW c (wW 1 3) fullShare f) ∗ (∃ f : S2x7168x1536.Idx → Elt F .fp8e4m3, PW c (wW 1 4) fullShare f) ∗ (∃ f : S2x7168x1536.Idx → Elt F .fp8e4m3, PW c (wW 1 5) fullShare f) ∗ (∃ f : S2x7168x1536.Idx → Elt F .fp8e4m3, PW c (wW 1 6) fullShare f)) ⊢ (iprop(∃ f : S2x7168x1536.Idx → Elt F .fp8e4m3, A8.view.loc (c : Thread nD τ) ↦{fullShare} f) : sProp (MT nD τ sig Unit (Elt F) ℕ UU ℕ)) := by
  iintro ⟨⟨%f, H⟩, H'⟩
  iapply (join_pieces0 (ℓ := A8.view.loc (c : Thread nD τ)) (K := fun k : Fin 2 × Fin 7 => (wW k.1 k.2).view.set) w_disj w_cover f)
  iapply (Entails.of_eq (show iprop((∃ f : S2x7168x1536.Idx → Elt F .fp8e4m3, PW c (wW 0 0) fullShare f) ∗ (∃ f : S2x7168x1536.Idx → Elt F .fp8e4m3, PW c (wW 0 1) fullShare f) ∗ (∃ f : S2x7168x1536.Idx → Elt F .fp8e4m3, PW c (wW 0 2) fullShare f) ∗ (∃ f : S2x7168x1536.Idx → Elt F .fp8e4m3, PW c (wW 0 3) fullShare f) ∗ (∃ f : S2x7168x1536.Idx → Elt F .fp8e4m3, PW c (wW 0 4) fullShare f) ∗ (∃ f : S2x7168x1536.Idx → Elt F .fp8e4m3, PW c (wW 0 5) fullShare f) ∗ (∃ f : S2x7168x1536.Idx → Elt F .fp8e4m3, PW c (wW 0 6) fullShare f) ∗ (∃ f : S2x7168x1536.Idx → Elt F .fp8e4m3, PW c (wW 1 0) fullShare f) ∗ (∃ f : S2x7168x1536.Idx → Elt F .fp8e4m3, PW c (wW 1 1) fullShare f) ∗ (∃ f : S2x7168x1536.Idx → Elt F .fp8e4m3, PW c (wW 1 2) fullShare f) ∗ (∃ f : S2x7168x1536.Idx → Elt F .fp8e4m3, PW c (wW 1 3) fullShare f) ∗ (∃ f : S2x7168x1536.Idx → Elt F .fp8e4m3, PW c (wW 1 4) fullShare f) ∗ (∃ f : S2x7168x1536.Idx → Elt F .fp8e4m3, PW c (wW 1 5) fullShare f) ∗ (∃ f : S2x7168x1536.Idx → Elt F .fp8e4m3, PW c (wW 1 6) fullShare f)) = _ from (bigSep_univ_eq_bigSepL [((0 : Fin 2), (0 : Fin 7)), ((0 : Fin 2), (1 : Fin 7)), ((0 : Fin 2), (2 : Fin 7)), ((0 : Fin 2), (3 : Fin 7)), ((0 : Fin 2), (4 : Fin 7)), ((0 : Fin 2), (5 : Fin 7)), ((0 : Fin 2), (6 : Fin 7)), ((1 : Fin 2), (0 : Fin 7)), ((1 : Fin 2), (1 : Fin 7)), ((1 : Fin 2), (2 : Fin 7)), ((1 : Fin 2), (3 : Fin 7)), ((1 : Fin 2), (4 : Fin 7)), ((1 : Fin 2), (5 : Fin 7)), ((1 : Fin 2), (6 : Fin 7))] (by decide) (by decide) (fun k => iprop(∃ f : S2x7168x1536.Idx → Elt F .fp8e4m3, PW c (wW k.1 k.2) fullShare f))).symm))
  isplitl [H]
  · iexists f; iexact H
  · iexact H'
theorem toksA1 (f : S16x24x1536.Idx → Elt F .bf16) : (A1.view.loc (c : Thread nD τ) ↦{fullShare} f : sProp (MT nD τ sig Unit (Elt F) ℕ UU ℕ)) ⊣⊢ iprop((A1.view.loc (c : Thread nD τ) ↦{Transfers.shareDrop fullShare 2} f) ∗ (A1.view.loc (c : Thread nD τ) ↦{qx 0} f) ∗ (A1.view.loc (c : Thread nD τ) ↦{qx 1} f)) := by
  have h : (A1.view.loc (c : Thread nD τ) ↦{fullShare} f : sProp (MT nD τ sig Unit (Elt F) ℕ UU ℕ)) ⊣⊢ _ := Transfers.pointsTo_toks_range (ℓ := A1.view.loc (c : Thread nD τ)) (S := Finset.univ) (f := f) fullShare 2
  rw [BI.bigSep_eq_bigSepL_of_eq [0, 1] (by decide) (by decide)] at h
  exact h
theorem toksA3 (f : S16x56x12.Idx → Elt F .f32) : (A3.view.loc (c : Thread nD τ) ↦{fullShare} f : sProp (MT nD τ sig Unit (Elt F) ℕ UU ℕ)) ⊣⊢ iprop((A3.view.loc (c : Thread nD τ) ↦{Transfers.shareDrop fullShare 2} f) ∗ (A3.view.loc (c : Thread nD τ) ↦{qx 0} f) ∗ (A3.view.loc (c : Thread nD τ) ↦{qx 1} f)) := by
  have h : (A3.view.loc (c : Thread nD τ) ↦{fullShare} f : sProp (MT nD τ sig Unit (Elt F) ℕ UU ℕ)) ⊣⊢ _ := Transfers.pointsTo_toks_range (ℓ := A3.view.loc (c : Thread nD τ)) (S := Finset.univ) (f := f) fullShare 2
  rw [BI.bigSep_eq_bigSepL_of_eq [0, 1] (by decide) (by decide)] at h
  exact h
theorem toksA2 (f : S16x7168x1536.Idx → Elt F .fp8e4m3) : (A2.view.loc (c : Thread nD τ) ↦{fullShare} f : sProp (MT nD τ sig Unit (Elt F) ℕ UU ℕ)) ⊣⊢ iprop((A2.view.loc (c : Thread nD τ) ↦{Transfers.shareDrop fullShare 14} f) ∗ (A2.view.loc (c : Thread nD τ) ↦{qw 0 0} f) ∗ (A2.view.loc (c : Thread nD τ) ↦{qw 0 1} f) ∗ (A2.view.loc (c : Thread nD τ) ↦{qw 0 2} f) ∗ (A2.view.loc (c : Thread nD τ) ↦{qw 0 3} f) ∗ (A2.view.loc (c : Thread nD τ) ↦{qw 0 4} f) ∗ (A2.view.loc (c : Thread nD τ) ↦{qw 0 5} f) ∗ (A2.view.loc (c : Thread nD τ) ↦{qw 0 6} f) ∗ (A2.view.loc (c : Thread nD τ) ↦{qw 1 0} f) ∗ (A2.view.loc (c : Thread nD τ) ↦{qw 1 1} f) ∗ (A2.view.loc (c : Thread nD τ) ↦{qw 1 2} f) ∗ (A2.view.loc (c : Thread nD τ) ↦{qw 1 3} f) ∗ (A2.view.loc (c : Thread nD τ) ↦{qw 1 4} f) ∗ (A2.view.loc (c : Thread nD τ) ↦{qw 1 5} f) ∗ (A2.view.loc (c : Thread nD τ) ↦{qw 1 6} f)) := by
  have h : (A2.view.loc (c : Thread nD τ) ↦{fullShare} f : sProp (MT nD τ sig Unit (Elt F) ℕ UU ℕ)) ⊣⊢ _ := Transfers.pointsTo_toks_range (ℓ := A2.view.loc (c : Thread nD τ)) (S := Finset.univ) (f := f) fullShare 14
  rw [BI.bigSep_eq_bigSepL_of_eq [0, 1, 2, 3, 4, 5, 6, 7, 8, 9, 10, 11, 12, 13] (by decide) (by decide)] at h
  exact h

variable {fx : S16x24x1536.Idx → Elt F .bf16} {fs : S16x56x12.Idx → Elt F .f32} {fw : S16x7168x1536.Idx → Elt F .fp8e4m3} {fg : S16.Idx → Elt F .i32} {g : ℕ → BitVec 32}

/-- The shares of the inputs that no copy takes. -/
def Drop (fx : S16x24x1536.Idx → Elt F .bf16) (fs : S16x56x12.Idx → Elt F .f32) (fw : S16x7168x1536.Idx → Elt F .fp8e4m3) : sProp (MT nD τ sig Unit (Elt F) ℕ UU ℕ) :=
  iprop((A1.view.loc (c : Thread nD τ) ↦{Transfers.shareDrop fullShare 2} fx) ∗ (A3.view.loc (c : Thread nD τ) ↦{Transfers.shareDrop fullShare 2} fs) ∗ (A2.view.loc (c : Thread nD τ) ↦{Transfers.shareDrop fullShare 14} fw))

/-- The scratch buffers, whole. -/
def Scr : sProp (MT nD τ sig Unit (Elt F) ℕ UU ℕ) := iprop((∃ f : S2x24x1536.Idx → Elt F .bf16, A6.view.loc (c : Thread nD τ) ↦{fullShare} f) ∗ (∃ f : S2x56x12.Idx → Elt F .f32, A7.view.loc (c : Thread nD τ) ↦{fullShare} f) ∗
  (∃ f : S2x7168x1536.Idx → Elt F .fp8e4m3, A8.view.loc (c : Thread nD τ) ↦{fullShare} f) ∗ (∃ f, P9 c f) ∗ (∃ f, P10 c f) ∗
  (∃ f : S2x24x7168.Idx → Elt F .bf16, A11.view.loc (c : Thread nD τ) ↦{fullShare} f) ∗ (∃ f : S24x7168.Idx → Elt F .bf16, A12.view.loc (c : Thread nD τ) ↦{fullShare} f) ∗ (∃ f, P5 c f))

/-- The semaphores of the body, at zero. -/
def Sems : sProp (MT nD τ sig Unit (Elt F) ℕ UU ℕ) := iprop(Sem0 c (xsem 0) ∗ Sem0 c (xsem 1) ∗ Sem0 c (ssem 0) ∗ Sem0 c (ssem 1) ∗ Sem0 c (wsem 0 0) ∗ Sem0 c (wsem 0 1) ∗ Sem0 c (wsem 0 2) ∗ Sem0 c (wsem 0 3) ∗ Sem0 c (wsem 0 4) ∗ Sem0 c (wsem 0 5) ∗ Sem0 c (wsem 0 6) ∗ Sem0 c (wsem 1 0) ∗ Sem0 c (wsem 1 1) ∗ Sem0 c (wsem 1 2) ∗ Sem0 c (wsem 1 3) ∗ Sem0 c (wsem 1 4) ∗ Sem0 c (wsem 1 5) ∗ Sem0 c (wsem 1 6) ∗ Sem0 c (osem 0) ∗ Sem0 c (osem 1) ∗ Sem0 c (zsem))

/-- What is known of the rows of expert `e` at the end. -/
def Good (g : ℕ → BitVec 32) (fx : S16x24x1536.Idx → Elt F .bf16) (fs : S16x56x12.Idx → Elt F .f32) (fw : S16x7168x1536.Idx → Elt F .fp8e4m3) (fg : S16.Idx → Elt F .i32) (e : Fin 16) (f : S16x24x7168.Idx → Elt F .bf16) : Prop :=
  if bit (g e.val) = 1 then OKv fx fs fw fg e ((oE e).view.read (Elt F) f) else (oE e).view.read (Elt F) f = zb0 (F := F)

theorem set_A12 : (A12.view.set : Finset S24x7168.Idx) = Finset.univ := Finset.eq_univ_iff_forall.2 fun i => by
  simp [View.set, View.setOn, A12, Memref.whole]

set_option maxHeartbeats 1000000 in
theorem enter (fo : S16x24x7168.Idx → Elt F .bf16) :
    iprop(Scr (F := F) c ∗ Sems (F := F) c ∗ (A1.view.loc (c : Thread nD τ) ↦{fullShare} fx) ∗ (A2.view.loc (c : Thread nD τ) ↦{fullShare} fw) ∗ (A3.view.loc (c : Thread nD τ) ↦{fullShare} fs) ∗ (A4.view.loc (c : Thread nD τ) ↦{fullShare} fo)) ⊢
      iprop(Drop c fx fs fw ∗ (∃ f, P5 c f) ∗ Rest c fx fs fw ∗ (∃ f : S24x7168.Idx → Elt F .bf16, PW c A12 fullShare f) ∗ Sem0 c zsem ∗ bigSep Finset.univ (Row (F := F) c)) := by
  unfold Scr Sems Drop Rest SFree Xfree Sfree Gfree Ofree
  iintro ⟨⟨⟨%f6, H6⟩, ⟨%f7, H7⟩, ⟨%f8, H8⟩, H9, H10, ⟨%f11, H11⟩, ⟨%f12, H12⟩, H5⟩, ⟨Zx0, Zx1, Zs0, Zs1, Zw00, Zw01, Zw02, Zw03, Zw04, Zw05, Zw06, Zw10, Zw11, Zw12, Zw13, Zw14, Zw15, Zw16, Zo0, Zo1, Zz⟩, H1, H2, H3, H4⟩
  ihave H6 := (split6 c f6) $$ H6
  icases H6 with ⟨Fx0, Fx1⟩
  ihave H7 := (split7 c f7) $$ H7
  icases H7 with ⟨Fs0, Fs1⟩
  ihave H8 := (split8 c f8) $$ H8
  icases H8 with ⟨Fw00, Fw01, Fw02, Fw03, Fw04, Fw05, Fw06, Fw10, Fw11, Fw12, Fw13, Fw14, Fw15, Fw16⟩
  ihave H11 := (split11 c f11) $$ H11
  icases H11 with ⟨Fo0, Fo1⟩
  ihave H1 := (toksA1 c fx).1 $$ H1
  icases H1 with ⟨H1, Tx0, Tx1⟩
  ihave H3 := (toksA3 c fs).1 $$ H3
  icases H3 with ⟨H3, Ts0, Ts1⟩
  ihave H2 := (toksA2 c fw).1 $$ H2
  icases H2 with ⟨H2, Tw00, Tw01, Tw02, Tw03, Tw04, Tw05, Tw06, Tw10, Tw11, Tw12, Tw13, Tw14, Tw15, Tw16⟩
  isplitl [H1 H2 H3]
  · isplitl [H1]
    · iexact H1
    · isplitl [H3]; · iexact H3
      iexact H2
  isplitl [H5]
  · iexact H5
  isplitr [H12 Zz H4]
  · isplitl [Fx0 Zx0 Tx0 Fs0 Zs0 Ts0 Fw00 Zw00 Tw00 Fw01 Zw01 Tw01 Fw02 Zw02 Tw02 Fw03 Zw03 Tw03 Fw04 Zw04 Tw04 Fw05 Zw05 Tw05 Fw06 Zw06 Tw06]
    · isplitl [Fx0 Zx0 Tx0]
      · isplitl [Fx0]; · iexact Fx0
        isplitl [Zx0]; · iexact Zx0
        iexact Tx0
      isplitl [Fs0 Zs0 Ts0]
      · isplitl [Fs0]; · iexact Fs0
        isplitl [Zs0]; · iexact Zs0
        iexact Ts0
      isplitl [Fw00 Zw00 Tw00]
      · isplitl [Fw00]; · iexact Fw00
        isplitl [Zw00]; · iexact Zw00
        iexact Tw00
      isplitl [Fw01 Zw01 Tw01]
      · isplitl [Fw01]; · iexact Fw01
        isplitl [Zw01]; · iexact Zw01
        iexact Tw01
      isplitl [Fw02 Zw02 Tw02]
      · isplitl [Fw02]; · iexact Fw02
        isplitl [Zw02]; · iexact Zw02
        iexact Tw02
      isplitl [Fw03 Zw03 Tw03]
      · isplitl [Fw03]; · iexact Fw03
        isplitl [Zw03]; · iexact Zw03
        iexact Tw03
      isplitl [Fw04 Zw04 Tw04]
      · isplitl [Fw04]; · iexact Fw04
        isplitl [Zw04]; · iexact Zw04
        iexact Tw04
      isplitl [Fw05 Zw05 Tw05]
      · isplitl [Fw05]; · iexact Fw05
        isplitl [Zw05]; · iexact Zw05
        iexact Tw05
      isplitl [Fw06]; · iexact Fw06
      isplitl [Zw06]; · iexact Zw06
      iexact Tw06
    isplitl [Fx1 Zx1 Tx1 Fs1 Zs1 Ts1 Fw10 Zw10 Tw10 Fw11 Zw11 Tw11 Fw12 Zw12 Tw12 Fw13 Zw13 Tw13 Fw14 Zw14 Tw14 Fw15 Zw15 Tw15 Fw16 Zw16 Tw16]
    · isplitl [Fx1 Zx1 Tx1]
      · isplitl [Fx1]; · iexact Fx1
        isplitl [Zx1]; · iexact Zx1
        iexact Tx1
      isplitl [Fs1 Zs1 Ts1]
      · isplitl [Fs1]; · iexact Fs1
        isplitl [Zs1]; · iexact Zs1
        iexact Ts1
      isplitl [Fw10 Zw10 Tw10]
      · isplitl [Fw10]; · iexact Fw10
        isplitl [Zw10]; · iexact Zw10
        iexact Tw10
      isplitl [Fw11 Zw11 Tw11]
      · isplitl [Fw11]; · iexact Fw11
        isplitl [Zw11]; · iexact Zw11
        iexact Tw11
      isplitl [Fw12 Zw12 Tw12]
      · isplitl [Fw12]; · iexact Fw12
        isplitl [Zw12]; · iexact Zw12
        iexact Tw12
      isplitl [Fw13 Zw13 Tw13]
      · isplitl [Fw13]; · iexact Fw13
        isplitl [Zw13]; · iexact Zw13
        iexact Tw13
      isplitl [Fw14 Zw14 Tw14]
      · isplitl [Fw14]; · iexact Fw14
        isplitl [Zw14]; · iexact Zw14
        iexact Tw14
      isplitl [Fw15 Zw15 Tw15]
      · isplitl [Fw15]; · iexact Fw15
        isplitl [Zw15]; · iexact Zw15
        iexact Tw15
      isplitl [Fw16]; · iexact Fw16
      isplitl [Zw16]; · iexact Zw16
      iexact Tw16
    isplitl [H9]; · iexact H9
    isplitl [H10]; · iexact H10
    isplitl [Fo0 Zo0]
    · isplitl [Fo0]; · iexact Fo0
      iexact Zo0
    isplitl [Fo1]; · iexact Fo1
    iexact Zo1
  isplitl [H12]
  · iexists f12
    iapply (Entails.of_eq (show (A12.view.loc (c : Thread nD τ) ↦{fullShare} f12 : sProp (MT nD τ sig Unit (Elt F) ℕ UU ℕ)) = _ from by rw [PW, set_A12]))
    iexact H12
  isplitl [Zz]; · iexact Zz
  iapply (split_pieces (ℓ := A4.view.loc (c : Thread nD τ)) (K := fun e : Fin 16 => (oE e).view.set) disj_oE cover_oE fo)
  iexact H4

theorem good_congr (e : Fin 16) (f f' : S16x24x7168.Idx → Elt F .bf16) (h : ∀ x ∈ (oE e).view.set, f x = f' x) : Good g fx fs fw fg e f → Good g fx fs fw fg e f' := by
  have : (oE e).view.read (Elt F) f = (oE e).view.read (Elt F) f' := View.read_congr h
  unfold Good
  rw [this]
  exact id

theorem rowF_good (e : Fin 16) : RowF c g fx fs fw fg e ⊢ iprop(∃ f : S16x24x7168.Idx → Elt F .bf16, ⌜Good g fx fs fw fg e f⌝ ∗ PW c (oE e) fullShare f) := by
  unfold RowF Good RowK RowV
  by_cases h : bit (g e.val) = 1
  · simp only [if_pos h]
    iintro ⟨%v, %hv, %f, H, %hf⟩
    iexists f
    isplitr
    · ipureintro; rw [hf]; exact hv
    · iexact H
  · simp only [if_neg h]
    iintro ⟨%f, H, %hf⟩
    iexists f
    isplitr
    · ipureintro; exact hf
    · iexact H

set_option maxHeartbeats 1000000 in
theorem leave (f₀ : S16x24x7168.Idx → Elt F .bf16) :
    iprop(Drop c fx fs fw ∗ (∃ f, P5 c f) ∗ Rest c fx fs fw ∗ (∃ f : S24x7168.Idx → Elt F .bf16, PW c A12 fullShare f) ∗ Sem0 c zsem ∗ bigSep Finset.univ (RowF c g fx fs fw fg)) ⊢
      iprop(Scr (F := F) c ∗ Sems (F := F) c ∗ (A1.view.loc (c : Thread nD τ) ↦{fullShare} fx) ∗ (A2.view.loc (c : Thread nD τ) ↦{fullShare} fw) ∗ (A3.view.loc (c : Thread nD τ) ↦{fullShare} fs) ∗ (∃ f : S16x24x7168.Idx → Elt F .bf16, (A4.view.loc (c : Thread nD τ) ↦{fullShare} f) ∗ ⌜∀ e, Good g fx fs fw fg e f⌝)) := by
  unfold Scr Sems Drop Rest SFree Xfree Sfree Gfree Ofree
  iintro ⟨⟨H1, H3, H2⟩, H5, ⟨⟨⟨Fx0, Zx0, Tx0⟩, ⟨Fs0, Zs0, Ts0⟩, ⟨Fw00, Zw00, Tw00⟩, ⟨Fw01, Zw01, Tw01⟩, ⟨Fw02, Zw02, Tw02⟩, ⟨Fw03, Zw03, Tw03⟩, ⟨Fw04, Zw04, Tw04⟩, ⟨Fw05, Zw05, Tw05⟩, ⟨Fw06, Zw06, Tw06⟩⟩, ⟨⟨Fx1, Zx1, Tx1⟩, ⟨Fs1, Zs1, Ts1⟩, ⟨Fw10, Zw10, Tw10⟩, ⟨Fw11, Zw11, Tw11⟩, ⟨Fw12, Zw12, Tw12⟩, ⟨Fw13, Zw13, Tw13⟩, ⟨Fw14, Zw14, Tw14⟩, ⟨Fw15, Zw15, Tw15⟩, ⟨Fw16, Zw16, Tw16⟩⟩, H9, H10, ⟨Fo0, Zo0⟩, ⟨Fo1, Zo1⟩⟩, ⟨%f12, H12⟩, Zz, H4⟩
  isplitl [Fx0 Fx1 Fs0 Fs1 Fw00 Fw01 Fw02 Fw03 Fw04 Fw05 Fw06 Fw10 Fw11 Fw12 Fw13 Fw14 Fw15 Fw16 Fo0 Fo1 H9 H10 H12 H5]
  · isplitl [Fx0 Fx1]
    · iapply (join6 c)
      isplitl [Fx0]; · iexact Fx0
      iexact Fx1
    isplitl [Fs0 Fs1]
    · iapply (join7 c)
      isplitl [Fs0]; · iexact Fs0
      iexact Fs1
    isplitl [Fw00 Fw01 Fw02 Fw03 Fw04 Fw05 Fw06 Fw10 Fw11 Fw12 Fw13 Fw14 Fw15 Fw16]
    · iapply (join8 c)
      isplitl [Fw00]; · iexact Fw00
      isplitl [Fw01]; · iexact Fw01
      isplitl [Fw02]; · iexact Fw02
      isplitl [Fw03]; · iexact Fw03
      isplitl [Fw04]; · iexact Fw04
      isplitl [Fw05]; · iexact Fw05
      isplitl [Fw06]; · iexact Fw06
      isplitl [Fw10]; · iexact Fw10
      isplitl [Fw11]; · iexact Fw11
      isplitl [Fw12]; · iexact Fw12
      isplitl [Fw13]; · iexact Fw13
      isplitl [Fw14]; · iexact Fw14
      isplitl [Fw15]; · iexact Fw15
      iexact Fw16
    isplitl [H9]; · iexact H9
    isplitl [H10]; · iexact H10
    isplitl [Fo0 Fo1]
    · iapply (join11 c)
      isplitl [Fo0]; · iexact Fo0
      iexact Fo1
    isplitl [H12]
    · iexists f12
      iapply (Entails.of_eq (show PW c A12 fullShare f12 = (A12.view.loc (c : Thread nD τ) ↦{fullShare} f12 : sProp (MT nD τ sig Unit (Elt F) ℕ UU ℕ)) from by rw [PW, set_A12]))
      iexact H12
    iexact H5
  isplitl [Zx0 Zx1 Zs0 Zs1 Zw00 Zw01 Zw02 Zw03 Zw04 Zw05 Zw06 Zw10 Zw11 Zw12 Zw13 Zw14 Zw15 Zw16 Zo0 Zo1 Zz]
  · isplitl [Zx0]; · iexact Zx0
    isplitl [Zx1]; · iexact Zx1
    isplitl [Zs0]; · iexact Zs0
    isplitl [Zs1]; · iexact Zs1
    isplitl [Zw00]; · iexact Zw00
    isplitl [Zw01]; · iexact Zw01
    isplitl [Zw02]; · iexact Zw02
    isplitl [Zw03]; · iexact Zw03
    isplitl [Zw04]; · iexact Zw04
    isplitl [Zw05]; · iexact Zw05
    isplitl [Zw06]; · iexact Zw06
    isplitl [Zw10]; · iexact Zw10
    isplitl [Zw11]; · iexact Zw11
    isplitl [Zw12]; · iexact Zw12
    isplitl [Zw13]; · iexact Zw13
    isplitl [Zw14]; · iexact Zw14
    isplitl [Zw15]; · iexact Zw15
    isplitl [Zw16]; · iexact Zw16
    isplitl [Zo0]; · iexact Zo0
    isplitl [Zo1]; · iexact Zo1
    iexact Zz
  isplitl [H1 Tx0 Tx1]
  · iapply (toksA1 c fx).2
    isplitl [H1]; · iexact H1
    isplitl [Tx0]; · iexact Tx0
    iexact Tx1
  isplitl [H2 Tw00 Tw01 Tw02 Tw03 Tw04 Tw05 Tw06 Tw10 Tw11 Tw12 Tw13 Tw14 Tw15 Tw16]
  · iapply (toksA2 c fw).2
    isplitl [H2]; · iexact H2
    isplitl [Tw00]; · iexact Tw00
    isplitl [Tw01]; · iexact Tw01
    isplitl [Tw02]; · iexact Tw02
    isplitl [Tw03]; · iexact Tw03
    isplitl [Tw04]; · iexact Tw04
    isplitl [Tw05]; · iexact Tw05
    isplitl [Tw06]; · iexact Tw06
    isplitl [Tw10]; · iexact Tw10
    isplitl [Tw11]; · iexact Tw11
    isplitl [Tw12]; · iexact Tw12
    isplitl [Tw13]; · iexact Tw13
    isplitl [Tw14]; · iexact Tw14
    isplitl [Tw15]; · iexact Tw15
    iexact Tw16
  isplitl [H3 Ts0 Ts1]
  · iapply (toksA3 c fs).2
    isplitl [H3]; · iexact H3
    isplitl [Ts0]; · iexact Ts0
    iexact Ts1
  ihave H4 := (show iprop(bigSep Finset.univ (RowF c g fx fs fw fg)) ⊢ iprop(bigSep Finset.univ (fun e => iprop(∃ f : S16x24x7168.Idx → Elt F .bf16, ⌜Good g fx fs fw fg e f⌝ ∗ PW c (oE e) fullShare f))) from bigSep_mono (s := Finset.univ) (Φ := RowF c g fx fs fw fg) (Ψ := fun e => iprop(∃ f : S16x24x7168.Idx → Elt F .bf16, ⌜Good g fx fs fw fg e f⌝ ∗ PW c (oE e) fullShare f)) fun e _ => rowF_good (g := g) (fx := fx) (fs := fs) (fw := fw) (fg := fg) c e) $$ H4
  iapply (show _ ⊢ _ from (join_pieces (ℓ := A4.view.loc (c : Thread nD τ)) (K := fun e : Fin 16 => (oE e).view.set) disj_oE cover_oE (Good g fx fs fw fg) good_congr f₀))
  iexact H4

end

end Cert.Proof.KernelIdeal

end
-- ==== Proof.KernelIdeal.Run.lean ====
module

public import proofs.«01_k».proof.Proof.KernelIdeal.Start
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Transfers
public import Idealize.ShloMosaic.Lib.Batch
public import Idealize.ShloMosaic.Lib.Pipeline.FrameValue
public import Idealize.ShloMosaic.Lib.Pipeline.FrameBody
public import Idealize.ShloMosaic.Adequacy
public import Idealize.ShloMosaic.Init

@[expose] public section

set_option maxRecDepth 16384

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen hiding V hmain frame_of before0_0_of
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Core `c`'s buffers when the kernel starts. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UU) (Lvl := ℕ) cfgs 0 defs₀ 𝒱₀ m (main (F := F)) (V m) :=
  Pipeline.hmain_region cfgs 0 defs₀ 𝒱₀ m main fun c => (main_chain c).trans rfl

/-- The semaphores of the body. -/
abbrev osem0 : Fin 21 → SemLoc sig := fun j => (![.dma (xsem 0), .dma (xsem 1), .dma (ssem 0), .dma (ssem 1), .dma (wsem 0 0), .dma (wsem 0 1), .dma (wsem 0 2), .dma (wsem 0 3), .dma (wsem 0 4), .dma (wsem 0 5), .dma (wsem 0 6), .dma (wsem 1 0), .dma (wsem 1 1), .dma (wsem 1 2), .dma (wsem 1 3), .dma (wsem 1 4), .dma (wsem 1 5), .dma (wsem 1 6), .dma (osem 0), .dma (osem 1), .dma (zsem)] : Fin 21 → SemLoc sig) j
set_option maxHeartbeats 2000000 in
theorem ownSemFacts0 : Pipeline.OwnSemFacts spec0 osem0 := by decide
theorem ownSems0_list (c : Dev nD) :
    (Pipeline.ownSems0 (Ix := Unit) (Name := ℕ) (U := UU) (Lvl := ℕ) (Val := Elt F) (τ := τ) osem0 c : sProp (MT nD τ sig Unit (Elt F) ℕ UU ℕ)) = Sems (F := F) c := by
  rw [Pipeline.ownSems0_eq_of_list c osem0 [0, 1, 2, 3, 4, 5, 6, 7, 8, 9, 10, 11, 12, 13, 14, 15, 16, 17, 18, 19, 20] (by decide) (by decide)]; rfl

/-- The arrays the body reads. -/
def H0 : Finset (Ref sig .tc) := {main_arg0, main_arg2, main_arg3}
/-- The array the body writes. -/
def R0 : Finset (Ref sig .tc) := {main_v0}
theorem H0_sub : H0 ⊆ Pipeline.restRefs sig spec0 := by decide
theorem R0_sub : R0 ⊆ Pipeline.restRefs sig spec0 \ H0 := by decide

theorem h0_eq (c : Dev nD) :
    (bigSep H0 (fun b => ((c : Thread nD τ).loc b) ↦{fullShare} V m c b) : sProp (MT nD τ sig Unit (Elt F) ℕ UU ℕ))
      = iprop((A1.view.loc (c : Thread nD τ) ↦{fullShare} V m c main_arg0) ∗ (A2.view.loc (c : Thread nD τ) ↦{fullShare} V m c main_arg2) ∗ (A3.view.loc (c : Thread nD τ) ↦{fullShare} V m c main_arg3)) := by
  rw [BI.bigSep_eq_bigSepL_of_eq [main_arg0, main_arg2, main_arg3] (by decide) (by decide)]; rfl
theorem routed_eq (c : Dev nD) (G : (b : Ref sig .tc) → Buf (Elt F) ((c.tc : Thread nD τ).loc b)) :
    (Pipeline.routed R0 c G : sProp (MT nD τ sig Unit (Elt F) ℕ UU ℕ)) = iprop(A4.view.loc (c : Thread nD τ) ↦{fullShare} G main_v0) := by
  unfold Pipeline.routed
  rw [BI.bigSep_eq_bigSepL_of_eq [main_v0] (by decide) (by decide)]; rfl

/-- What the result array holds at the end. -/
def Good0 (c : Dev nD) (G : (b : Ref sig .tc) → Buf (Elt F) ((c.tc : Thread nD τ).loc b)) : Prop :=
  ∀ e, Good (fun i => tw (F := F) (iblk m c 0 t0_0) (p16 i)) (V m c main_arg0) (V m c main_arg3) (V m c main_arg2) (iblk m c 0 t0_0) e (G main_v0)

/-- The body's buffers before and after its one step. -/
def Inv (c : Dev nD) (k : ℕ) : sProp (MT nD τ sig Unit (Elt F) ℕ UU ℕ) :=
  iprop(Pipeline.ΦD osem0 spec0 H0 (V m) c ∗ if k = 0 then Pipeline.routed R0 c (V m c) else Pipeline.routedSat R0 c (Good0 m c))

/-- The proof data of the one pipeline on core `c`. -/
def dats (_ : Fin 1) (c : Dev nD) : Dat τ (Elt F) Unit ℕ UU ℕ cfg0 c where
  A w := V m c (Pipeline.arrRef spec0 w)
  after w t := match w with
    | ⟨0, _⟩ => iblk m c 0 t
  Φ k := Inv m c k.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]

theorem before0_0_of {c : Dev nD} (dat : Dat τ (Elt F) Unit ℕ UU ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

abbrev ms0_0 (t : Fin cfg0.N) : Memref sig .tc .smem S16 .i32 := win0_0.stage (cfg0.slots t 0)

def bodyPre (c : Dev nD) (t : Fin cfg0.N) : sProp (MT nD τ sig Unit (Elt F) ℕ UU ℕ) :=
  iprop((dats m 0 c).Φ t.castSucc ∗ (dats m 0 c).owesAt () t.castSucc
    ∗ (∃ d, owns (c : Thread nD τ) (ms0_0 t) fullShare ((dats m 0 c).before 0 t d)))
def bodyPost (c : Dev nD) (t : Fin cfg0.N) : sProp (MT nD τ sig Unit (Elt F) ℕ UU ℕ) :=
  iprop((dats m 0 c).Φ t.succ ∗ (dats m 0 c).owesAt () t.succ
    ∗ owns (c : Thread nD τ) (ms0_0 t) fullShare ((dats m 0 c).after 0 t))

/-- What the body is given and gives back, whole. -/
theorem phiD_eq (c : Dev nD) : (Pipeline.ΦD osem0 spec0 H0 (V m) c : sProp (MT nD τ sig Unit (Elt F) ℕ UU ℕ)) = iprop(Scr (F := F) c ∗ (∃ r, prngReg c r) ∗ Sems (F := F) c
    ∗ iprop((A1.view.loc (c : Thread nD τ) ↦{fullShare} V m c main_arg0) ∗ (A2.view.loc (c : Thread nD τ) ↦{fullShare} V m c main_arg2) ∗ (A3.view.loc (c : Thread nD τ) ↦{fullShare} V m c main_arg3))) := by
  rw [Pipeline.ΦD_eq, scopedRest0_eq, ownSems0_list, h0_eq]
  rfl

theorem stage_eq : (ms0_0 t0_0) = A0 := rfl

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  rw [after0_0]
  simp only [before0_0_of m (dats m 0 c) (A_eq m c 0) (after0_0 m c)]
  rw [show (dats m 0 c).Φ t0_0.succ = iprop(Pipeline.ΦD osem0 spec0 H0 (V m) c ∗ Pipeline.routedSat R0 c (Good0 m c)) from rfl,
    show (dats m 0 c).Φ t0_0.castSucc = iprop(Pipeline.ΦD osem0 spec0 H0 (V m) c ∗ Pipeline.routed R0 c (V m c)) from rfl, phiD_eq, routed_eq]
  unfold Dat.owesAt Pipeline.owesWithin
  rw [show (dats m 0 c).owed t0_0.castSucc = 0 from rfl, show (dats m 0 c).owed t0_0.succ = 0 from rfl]
  rw [stage_eq, owns_whole]
  iintro ⟨⟨⟨HS, Hg, HD, H1, H2, H3⟩, H4⟩, ⟨%W0, -, HW⟩, ⟨%d0, H0⟩⟩
  ihave HE := (enter (F := F) c (fx := V m c main_arg0) (fs := V m c main_arg3) (fw := V m c main_arg2) (V m c main_v0)) $$ [HS HD H1 H2 H3 H4]
  · isplitl [HS]; · iexact HS
    isplitl [HD]; · iexact HD
    isplitl [H1]; · iexact H1
    isplitl [H2]; · iexact H2
    isplitl [H3]; · iexact H3
    iexact H4
  icases HE with ⟨Hd, H5, HR, H12, HZ, Hrow⟩
  iapply (body_spec c (fx := V m c main_arg0) (fs := V m c main_arg3) (fw := V m c main_arg2) (fg := iblk m c 0 t0_0) (q0 := fullShare)) $$ [H0 H5 HW HR H12 HZ Hrow]
  · isplitl [H0]; · iexact H0
    isplitl [H5]; · iexact H5
    isplitl [HW]
    · unfold OW; iexists W0; iexact HW
    isplitl [HR]; · iexact HR
    isplitl [H12]; · iexact H12
    isplitl [HZ]; · iexact HZ
    iexact Hrow
  iintro ⟨H0, H5, HW, HR, H12, HZ, Hrow⟩
  ihave HE := (leave (F := F) c (fx := V m c main_arg0) (fs := V m c main_arg3) (fw := V m c main_arg2) (fg := iblk m c 0 t0_0) (g := fun i => tw (F := F) (iblk m c 0 t0_0) (p16 i)) (V m c main_v0)) $$ [Hd H5 HR H12 HZ Hrow]
  · isplitl [Hd]; · iexact Hd
    isplitl [H5]; · iexact H5
    isplitl [HR]; · iexact HR
    isplitl [H12]; · iexact H12
    isplitl [HZ]; · iexact HZ
    iexact Hrow
  icases HE with ⟨HS, HD, H1, H2, H3, ⟨%f, H4, %hf⟩⟩
  isplitl [HS Hg HD H1 H2 H3 H4]
  · isplitl [HS Hg HD H1 H2 H3]
    · isplitl [HS]; · iexact HS
      isplitl [Hg]; · iexact Hg
      isplitl [HD]; · iexact HD
      isplitl [H1]; · iexact H1
      isplitl [H2]; · iexact H2
      iexact H3
    · unfold Pipeline.routedSat
      iexists (fun b => if h : b = main_v0 then h ▸ f else V m c b)
      isplitr
      · ipureintro
        intro e
        simpa using hf e
      · iapply (Entails.of_eq (routed_eq (F := F) c (fun b => if h : b = main_v0 then h ▸ f else V m c b)).symm)
        iexact H4
  isplitl [HW]
  · unfold OW
    icases HW with ⟨%W1, HW⟩
    iexists W1; isplitr; · ipureintro; exact fun _ _ => Or.inl trivial
    iexact HW
  iexact H0

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What a run leaves: the arguments as they were, the result as `Good0` says, and the semaphores at zero. -/
def Left (r : PUnit × MemSt nD τ sig (Elt F)) : Prop :=
  (Pipeline.FramePostR cfgs (dats m) 0 R0 (V m) r ∧ ∀ c : Dev nD, ∃ G : (b : Ref sig .tc) → Buf (Elt F) ((c.tc : Thread nD τ).loc b), Good0 m c G ∧ ∀ b ∈ R0, r.2.mem ((c.tc : Thread nD τ).loc b) = G b) ∧ r.2.sem = fun _ => 0

set_option backward.isDefEq.respectTransparency.types false in
theorem run_main : θ_run defs (onTc (τ := τ) (main (F := F))) (s₀ m ρ) (Left m) :=
  (θ_run defs _ _).mono (fun r (h : (Pipeline.RDat.FramePostR (cfgs 0) (fun c => (dats m 0 c).toR) R0 (V m) r ∧ ∀ c : Dev nD, ∃ G : (b : Ref sig .tc) → Buf (Elt F) ((c.tc : Thread nD τ).loc b), Good0 m c G ∧ ∀ b ∈ R0, r.2.mem ((c.tc : Thread nD τ).loc b) = G b) ∧ r.2.sem = fun _ => 0) => ⟨⟨Pipeline.RDat.FramePostR.toDat cfgs (dats m) 0 R0 (V m) r h.1.1, h.1.2⟩, h.2⟩) <|
  have hrest : Pipeline.restRefs sig spec0 ⊆ Pipeline.restRefsP sig Pipeline.Prefetch.none spec0 :=
    fun b hb => Finset.mem_sdiff.mpr ⟨hb, fun h => ((Finset.mem_image.mp h).elim fun k _ => k.elim0)⟩
  Pipeline.RDat.θ_run_frameP_dmaRSat_shared (Q' := _) (fun q => (cfgs q).toPCfg (Val := Elt F)) (fun q => (cfgs q).toPCfg_adm) (0 : Fin 1) (Pipeline.LaunchFacts.toP launch0).to₀ osem0 defs₀ Variants.none
    (fun c => (dats m 0 c).toR) ownSemFacts0 H0 R0 (H0_sub.trans hrest) (R0_sub.trans (Finset.sdiff_subset_sdiff hrest subset_rfl)) m ρ main
    (hbody := fun c => (body_obligation m c).loose.toR)
    (hq := fun c w hw => ((dats m 0 c).toR).q_eq_shareOf_of_share_full (Pipeline.WinFacts.arr_inj winFacts0) (fun w => (dats m 0 c).share_full (fun _ => rfl) w) w hw)
    (howed := fun _ _ => rfl) (V := V m) (hmain := hmain m Variants.none) (hA := A_eq m) (hpf := fun _ k => k.elim0)
    (PG := Good0 m)
    (hin := fun c => by
      show iprop(Pipeline.ΦDRG osem0 spec0 H0 R0 (V m) (V m) c ∗ _) ⊢ Pipeline.ΦDRG osem0 spec0 H0 R0 (V m) (V m) c
      iintro ⟨H, -⟩; iexact H)
    (hout := fun c => .rfl)

/-- The program runs, its arguments end unchanged, and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r (h : Left m r) => ⟨fun c => ⟨((h.1.1 c).2 main_arg0 (Finset.mem_sdiff.mpr ⟨Pipeline.mem_restRefs_of main_arg0 (by decide) (by decide), by decide⟩)),
      ((h.1.1 c).1 0).trans (((dats m 0 c).arrAt_in 0 rfl _).trans (A_eq m c 0)),
      ((h.1.1 c).2 main_arg2 (Finset.mem_sdiff.mpr ⟨Pipeline.mem_restRefs_of main_arg2 (by decide) (by decide), by decide⟩)),
      ((h.1.1 c).2 main_arg3 (Finset.mem_sdiff.mpr ⟨Pipeline.mem_restRefs_of main_arg3 (by decide) (by decide), by decide⟩))⟩, h.2⟩) (run_main m ρ)

end Cert.Proof.KernelIdeal

end
-- ==== Proof.Alg.Num.lean ====
module

public import Idealize.ShloMosaic.PureOps
public import Idealize.ShloMosaic.PureOps.Ideal.Laws
public import Idealize.ShloMosaic.Lib.IdealHost

@[expose] public section

noncomputable section

namespace Cert.Proof.Alg

open Idealize.ShloMosaic

/-! The numbers of one block: a block whose entries are finite is quantised and read back unchanged, whichever power of two is its scale. -/

/-- The largest finite entry. -/
def top : ℝ := 255 * 2 ^ 120
/-- The kernel's and the reference's 1 / 448, as the nearest number of 32 bits above it. -/
def cst : ℝ := 9586981 / 2 ^ 32

/-- A normal number from its three fields. -/
theorem ofBits_mk (b : BitVec 32) (g : Bool) (e f : ℕ) (hs : (b.extractLsb' 31 1 == 1#1) = g) (he : (b.extractLsb' 23 8).toNat = e)
    (hf : (b.extractLsb' 0 23).toNat = f) (h0 : e ≠ 0) (h1 : e ≠ 255) :
    Ideal.ofBits .f32 b = (((if g then -1 else 1) * ((2 ^ 23 + f : ℕ) : ℝ) * 2 ^ ((e : ℤ) - 150) : ℝ) : EReal) := by
  show Ideal.ieee 8 23 b = _
  unfold Ideal.ieee
  simp only [Nat.reduceAdd]
  rw [hs, he, hf, if_neg (by norm_num; exact h1), if_neg h0]
  have h3 : ((e : ℤ) - (2 ^ (8 - 1) - 1) - ((23 : ℕ) : ℤ)) = (e : ℤ) - 150 := by norm_num; ring
  rw [h3]

theorem ofBits_top : Ideal.ofBits .f32 0x7F7F0000#32 = ((top : ℝ) : EReal) := by
  rw [ofBits_mk _ false 254 0x7F0000 (by decide) (by decide) (by decide) (by decide) (by decide)]
  congr 1; norm_num [top]
theorem ofBits_cst : Ideal.ofBits .f32 0x3B124925#32 = ((cst : ℝ) : EReal) := by
  rw [ofBits_mk _ false 118 0x124925 (by decide) (by decide) (by decide) (by decide) (by decide)]
  congr 1; norm_num [cst]
theorem ofBits_448 : Ideal.ofBits .f32 0x43E00000#32 = ((448 : ℝ) : EReal) := by
  rw [ofBits_mk _ false 135 0x600000 (by decide) (by decide) (by decide) (by decide) (by decide)]
  congr 1; norm_num
theorem ofBits_n448 : Ideal.ofBits .f32 0xC3E00000#32 = ((-448 : ℝ) : EReal) := by
  rw [ofBits_mk _ true 135 0x600000 (by decide) (by decide) (by decide) (by decide) (by decide)]
  congr 1; norm_num
theorem ofBits_149 : Ideal.ofBits .f32 0x43150000#32 = ((149 : ℝ) : EReal) := by
  rw [ofBits_mk _ false 134 0x150000 (by decide) (by decide) (by decide) (by decide) (by decide)]
  congr 1; norm_num
theorem ofBits_ninf : Ideal.ofBits .f32 0xFF800000#32 = ⊥ := by
  have hs : ((0xFF800000#32).extractLsb' 31 1 == 1#1) = true := by decide
  have he : ((0xFF800000#32).extractLsb' 23 8).toNat = 255 := by decide
  have hf : ((0xFF800000#32).extractLsb' 0 23).toNat = 0 := by decide
  unfold Ideal.ofBits Ideal.ieee
  simp only [Nat.reduceAdd]
  rw [hs, he, hf]
  norm_num

theorem oge_true {x y : EReal} (h : y ≤ x) : Ideal.cmp .oge x y = 1#1 := by
  show BitVec.ofBool (decide (y ≤ x)) = _
  rw [decide_eq_true h]; rfl
theorem oge_false {x y : EReal} (h : ¬ y ≤ x) : Ideal.cmp .oge x y = 0#1 := by
  show BitVec.ofBool (decide (y ≤ x)) = _
  rw [decide_eq_false h]; rfl

/-- The number whose exponent field is `f` and whose other bits are zero. -/
def pw (f : BitVec 32) : EReal := Ideal.ofBits .f32 (IntOp.shli .vector f 23#32)

theorem pw_bits (n : ℕ) (h : n < 256) : pw (BitVec.ofNat 32 n) =
    if n = 255 then ⊤ else if n = 0 then 0 else (((2 : ℝ) ^ ((n : ℤ) - 127) : ℝ) : EReal) := by
  have e0 : IntOp.shli .vector (BitVec.ofNat 32 n) 23#32 = BitVec.ofNat 32 (n * 2 ^ 23) := by
    apply BitVec.eq_of_toNat_eq
    simp [IntOp.shli, BitVec.toNat_shiftLeft, Nat.shiftLeft_eq]
  have e1 : ((BitVec.ofNat 32 (n * 2 ^ 23)).extractLsb' 23 8).toNat = n := by
    rw [BitVec.extractLsb'_toNat, BitVec.toNat_ofNat, Nat.shiftRight_eq_div_pow]; omega
  have e2 : ((BitVec.ofNat 32 (n * 2 ^ 23)).extractLsb' 0 23).toNat = 0 := by
    rw [BitVec.extractLsb'_toNat, BitVec.toNat_ofNat, Nat.shiftRight_eq_div_pow]; omega
  have e3 : ((BitVec.ofNat 32 (n * 2 ^ 23)).extractLsb' 31 1 == 1#1) = false := by
    have : ((BitVec.ofNat 32 (n * 2 ^ 23)).extractLsb' 31 1).toNat = 0 := by
      rw [BitVec.extractLsb'_toNat, BitVec.toNat_ofNat, Nat.shiftRight_eq_div_pow]; omega
    have h2 : (BitVec.ofNat 32 (n * 2 ^ 23)).extractLsb' 31 1 = 0#1 := BitVec.eq_of_toNat_eq (by rw [this]; rfl)
    rw [h2]; rfl
  unfold pw
  rw [e0]
  by_cases h2 : n = 0
  · subst h2
    norm_num
  · by_cases h1 : n = 255
    · show Ideal.ieee 8 23 _ = _
      unfold Ideal.ieee
      simp only [Nat.reduceAdd]
      rw [e1, e2, e3]
      subst h1; norm_num
    · rw [if_neg h1, if_neg h2, ofBits_mk _ false n 0 e3 e1 e2 h2 h1]
      congr 1
      rw [show (n : ℤ) - 150 = ((n : ℤ) - 127) + (-23) by ring, zpow_add₀ (by norm_num : (2 : ℝ) ≠ 0), show (2 : ℝ) ^ (-23 : ℤ) = 1 / 2 ^ 23 by norm_num]
      simp only [Bool.false_eq_true, if_false]
      push_cast
      ring

theorem pw_mid {n : ℕ} (h0 : 1 ≤ n) (h1 : n ≤ 254) : pw (BitVec.ofNat 32 n) = (((2 : ℝ) ^ ((n : ℤ) - 127) : ℝ) : EReal) := by
  rw [pw_bits n (by omega), if_neg (by omega), if_neg (by omega)]

/-- One step of the search: the field is raised by `w` when the number it then denotes is not above `v`. -/
def step (v : EReal) (w f : BitVec 32) : BitVec 32 := Scalar.select (Ideal.cmp .oge v (pw (f + w))) (f + w) f
/-- The exponent field of `v`. -/
def fld (v : EReal) : BitVec 32 :=
  step v 1#32 (step v 2#32 (step v 4#32 (step v 8#32 (step v 16#32 (step v 32#32 (step v 64#32 (step v 128#32 0#32)))))))

/-- The field sought lies in the `w` ones from `n` on. -/
def Win (v : ℝ) (w n : ℕ) : Prop := n + w ≤ 256 ∧ (n = 0 ∨ (2 : ℝ) ^ ((n : ℤ) - 127) ≤ v) ∧ v < (2 : ℝ) ^ (((n + w : ℕ) : ℤ) - 127)

theorem step_win {v : ℝ} (hv : v < 2 ^ (120 : ℤ)) {w n : ℕ} (hw : 1 ≤ w) (h : Win v (w + w) n) :
    ∃ n', step (v : EReal) (BitVec.ofNat 32 w) (BitVec.ofNat 32 n) = BitVec.ofNat 32 n' ∧ Win v w n' := by
  obtain ⟨h0, h1, h2⟩ := h
  have e : BitVec.ofNat 32 n + BitVec.ofNat 32 w = BitVec.ofNat 32 (n + w) := by
    apply BitVec.eq_of_toNat_eq; simp
  unfold step
  rw [e]
  by_cases hc : (2 : ℝ) ^ (((n + w : ℕ) : ℤ) - 127) ≤ v
  · have hlt : n + w ≤ 254 := by
      by_contra hh
      have : (2 : ℝ) ^ (120 : ℤ) ≤ (2 : ℝ) ^ (((n + w : ℕ) : ℤ) - 127) := zpow_le_zpow_right₀ (by norm_num) (by omega)
      linarith
    refine ⟨n + w, ?_, by omega, Or.inr hc, ?_⟩
    · rw [pw_mid (by omega) hlt]
      have : ((((2 : ℝ) ^ (((n + w : ℕ) : ℤ) - 127) : ℝ) : EReal)) ≤ (v : EReal) := EReal.coe_le_coe_iff.2 hc
      rw [oge_true this]; rfl
    · rw [show n + w + w = n + (w + w) by omega]; exact h2
  · refine ⟨n, ?_, by omega, h1, not_le.1 hc⟩
    have : ¬ (pw (BitVec.ofNat 32 (n + w)) ≤ (v : EReal)) := by
      by_cases h5 : n + w = 255
      · rw [h5, pw_bits 255 (by omega), if_pos rfl]; simp
      · rw [pw_mid (by omega) (by omega), EReal.coe_le_coe_iff]; exact hc
    rw [oge_false this]; rfl

theorem fld_spec {v : ℝ} (hv : v < 2 ^ (120 : ℤ)) : ∃ n : ℕ, fld (v : EReal) = BitVec.ofNat 32 n ∧ n ≤ 246 ∧ v < (2 : ℝ) ^ ((n : ℤ) - 126) := by
  have w0 : Win v (128 + 128) 0 := ⟨by omega, Or.inl rfl, hv.trans_le (zpow_le_zpow_right₀ (by norm_num) (by norm_num))⟩
  obtain ⟨n1, e1, w1⟩ := step_win hv (by norm_num) w0
  obtain ⟨n2, e2, w2⟩ := step_win hv (w := 64) (by norm_num) w1
  obtain ⟨n3, e3, w3⟩ := step_win hv (w := 32) (by norm_num) w2
  obtain ⟨n4, e4, w4⟩ := step_win hv (w := 16) (by norm_num) w3
  obtain ⟨n5, e5, w5⟩ := step_win hv (w := 8) (by norm_num) w4
  obtain ⟨n6, e6, w6⟩ := step_win hv (w := 4) (by norm_num) w5
  obtain ⟨n7, e7, w7⟩ := step_win hv (w := 2) (by norm_num) w6
  obtain ⟨n8, e8, w8⟩ := step_win hv (w := 1) (by norm_num) w7
  refine ⟨n8, ?_, ?_, ?_⟩
  · unfold fld
    rw [e1, e2, e3, e4, e5, e6, e7, e8]
  · rcases w8.2.1 with h | h
    · omega
    · by_contra hh
      have : (2 : ℝ) ^ (120 : ℤ) ≤ (2 : ℝ) ^ ((n8 : ℤ) - 127) := zpow_le_zpow_right₀ (by norm_num) (by omega)
      linarith
  · have := w8.2.2
    rwa [show (((n8 + 1 : ℕ) : ℤ) - 127) = (n8 : ℤ) - 126 by push_cast; ring] at this

/-- The exponent of the scale, from `v`. -/
def exf (v : EReal) : BitVec 32 :=
  Scalar.select (IntOp.cmpi .eq (fld v) 0#32 ||| IntOp.cmpi .eq (fld v) 255#32) 0#32 (fld v - 126#32)

/-- An entry scaled, clipped and scaled back. -/
def qdq (x s t : EReal) : EReal := min (Ideal.ofBits .f32 0x43E00000#32) (max (Ideal.ofBits .f32 0xC3E00000#32) (x * s)) * t

theorem qdq_id {x s t a : ℝ} (hx : |x| ≤ a) (hst : s * t = 1) (hs : 0 < s) (ha : a * s ≤ 448) : qdq (x : EReal) (s : EReal) (t : EReal) = (x : EReal) := by
  have h1 : |x * s| ≤ 448 := by
    rw [abs_mul, abs_of_pos hs]
    exact (mul_le_mul_of_nonneg_right hx hs.le).trans ha
  obtain ⟨h2, h3⟩ := abs_le.1 h1
  unfold qdq
  rw [ofBits_448, ofBits_n448, ← EReal.coe_mul, max_eq_right (EReal.coe_le_coe_iff.2 h2), min_eq_right (EReal.coe_le_coe_iff.2 h3), ← EReal.coe_mul, mul_assoc, hst, mul_one]

theorem le_of_scaled {a e : ℝ} (ha : 0 ≤ a) (h : a * cst < e) : a ≤ 448 * e := by
  have : (1 : ℝ) ≤ 448 * cst := by norm_num [cst]
  nlinarith

theorem scaled_lt {a : ℝ} (h : a ≤ top) : a * cst < 2 ^ (120 : ℤ) := by
  have h1 : a * cst ≤ top * cst := mul_le_mul_of_nonneg_right h (by norm_num [cst])
  have h2 : top * cst < 2 ^ (120 : ℤ) := by norm_num [top, cst]
  linarith

/-- The kernel's scaling leaves an entry of a finite block as it is. -/
theorem kernel_id {x a : ℝ} (hx : |x| ≤ a) (ha : a ≤ top) :
    qdq (x : EReal) (pw (0#32 - exf ((a : EReal) * Ideal.ofBits .f32 0x3B124925#32) + 127#32)) (pw (exf ((a : EReal) * Ideal.ofBits .f32 0x3B124925#32) + 127#32)) = (x : EReal) := by
  have ha0 : 0 ≤ a := (abs_nonneg x).trans hx
  rw [ofBits_cst, ← EReal.coe_mul]
  obtain ⟨n, hn, hn1, hn2⟩ := fld_spec (scaled_lt ha)
  have hle := le_of_scaled ha0 hn2
  unfold exf
  rw [hn]
  by_cases h0 : n = 0
  · subst h0
    have e : Scalar.select (IntOp.cmpi .eq (BitVec.ofNat 32 0) 0#32 ||| IntOp.cmpi .eq (BitVec.ofNat 32 0) 255#32) 0#32 (BitVec.ofNat 32 0 - 126#32) = 0#32 := by decide
    rw [e]
    have e1 : (0#32 - 0#32 + 127#32 : BitVec 32) = BitVec.ofNat 32 127 := by decide
    have e2 : (0#32 + 127#32 : BitVec 32) = BitVec.ofNat 32 127 := by decide
    rw [e1, e2, pw_mid (by norm_num) (by norm_num)]
    refine qdq_id hx (by norm_num) (by norm_num) ?_
    have : (448 : ℝ) * 2 ^ (((0 : ℕ) : ℤ) - 126) ≤ 448 := by
      have : (2 : ℝ) ^ (((0 : ℕ) : ℤ) - 126) ≤ 1 := zpow_le_one_of_nonpos₀ (by norm_num) (by norm_num)
      linarith
    norm_num at this hle ⊢
    linarith
  · have c0 : IntOp.cmpi .eq (BitVec.ofNat 32 n) 0#32 = 0#1 := by
      have : BitVec.ofNat 32 n ≠ 0#32 := fun h => by
        have := congrArg BitVec.toNat h; rw [BitVec.toNat_ofNat] at this; simp at this; omega
      show BitVec.ofBool (BitVec.ofNat 32 n == 0#32) = _
      rw [beq_eq_false_iff_ne.2 this]; rfl
    have c1 : IntOp.cmpi .eq (BitVec.ofNat 32 n) 255#32 = 0#1 := by
      have : BitVec.ofNat 32 n ≠ 255#32 := fun h => by
        have := congrArg BitVec.toNat h; rw [BitVec.toNat_ofNat] at this; simp at this; omega
      show BitVec.ofBool (BitVec.ofNat 32 n == 255#32) = _
      rw [beq_eq_false_iff_ne.2 this]; rfl
    have e : Scalar.select (IntOp.cmpi .eq (BitVec.ofNat 32 n) 0#32 ||| IntOp.cmpi .eq (BitVec.ofNat 32 n) 255#32) 0#32 (BitVec.ofNat 32 n - 126#32) = BitVec.ofNat 32 n - 126#32 := by
      rw [c0, c1]; rfl
    rw [e]
    have e1 : (0#32 - (BitVec.ofNat 32 n - 126#32) + 127#32 : BitVec 32) = BitVec.ofNat 32 (253 - n) := by
      apply BitVec.eq_of_toNat_eq
      simp only [BitVec.toNat_add, BitVec.toNat_sub, BitVec.toNat_ofNat]
      omega
    have e2 : (BitVec.ofNat 32 n - 126#32 + 127#32 : BitVec 32) = BitVec.ofNat 32 (n + 1) := by
      apply BitVec.eq_of_toNat_eq
      simp only [BitVec.toNat_add, BitVec.toNat_sub, BitVec.toNat_ofNat]
      omega
    rw [e1, e2, pw_mid (by omega) (by omega), pw_mid (by omega) (by omega)]
    have z1 : (((253 - n : ℕ) : ℤ) - 127) = -((n : ℤ) - 126) := by omega
    have z2 : (((n + 1 : ℕ) : ℤ) - 127) = (n : ℤ) - 126 := by omega
    rw [z1, z2]
    have hp : (0 : ℝ) < 2 ^ ((n : ℤ) - 126) := by positivity
    refine qdq_id hx ?_ (by positivity) ?_
    · rw [zpow_neg]; exact inv_mul_cancel₀ hp.ne'
    · rw [zpow_neg, ← div_eq_mul_inv, div_le_iff₀ hp]; exact hle

/-- The reference's scaling leaves an entry of a finite block as it is, for any exponent large enough. -/
theorem reference_id {x a r : ℝ} (hx : |x| ≤ a) (h : a * cst < (2 : ℝ) ^ r) :
    qdq (x : EReal) (Ideal.exp2 (Ideal.ofBits .f32 0x00000000#32 - (r : EReal))) (Ideal.exp2 (r : EReal)) = (x : EReal) := by
  have ha0 : 0 ≤ a := (abs_nonneg x).trans hx
  have e0 : Ideal.ofBits .f32 0x00000000#32 - (r : EReal) = ((-r : ℝ) : EReal) := by
    rw [Ideal.ofBits_zero_f32]; simp
  rw [e0]
  show qdq (x : EReal) ((Real.rpow 2 (-r) : ℝ) : EReal) ((Real.rpow 2 r : ℝ) : EReal) = _
  have hp : (0 : ℝ) < (2 : ℝ) ^ r := Real.rpow_pos_of_pos (by norm_num) r
  have hm : Real.rpow 2 (-r) = ((2 : ℝ) ^ r)⁻¹ := Real.rpow_neg (by norm_num) r
  rw [hm]
  refine qdq_id hx (inv_mul_cancel₀ hp.ne') (inv_pos.2 hp) ?_
  rw [← div_eq_mul_inv, div_le_iff₀ hp]
  exact le_of_scaled ha0 h

/-- How many of the 277 powers of two from `2 ^ (-149)` on are not above `v`. -/
theorem count_spec {v : ℝ} (hv : v < 2 ^ (120 : ℤ)) :
    ∃ r : ℝ, (∑ k : Fin 277, Scalar.select (Ideal.cmp .oge (v : EReal) (Ideal.exp2 ((((k.val : ℤ) : ℝ) : EReal) - Ideal.ofBits .f32 0x43150000#32)))
      (Ideal.ofBits .f32 0x3F800000#32) (Ideal.ofBits .f32 0x00000000#32)) - Ideal.ofBits .f32 0x43150000#32 = (r : EReal) ∧ v < (2 : ℝ) ^ r := by
  classical
  have ht : ∀ k : Fin 277, Ideal.exp2 ((((k.val : ℤ) : ℝ) : EReal) - Ideal.ofBits .f32 0x43150000#32) = (((2 : ℝ) ^ ((k.val : ℝ) - 149) : ℝ) : EReal) := by
    intro k
    rw [ofBits_149, ← EReal.coe_sub]
    show ((Real.rpow 2 _ : ℝ) : EReal) = _
    simp
  let S : Finset (Fin 277) := Finset.univ.filter fun k => (2 : ℝ) ^ ((k.val : ℝ) - 149) ≤ v
  have hs : (∑ k : Fin 277, Scalar.select (Ideal.cmp .oge (v : EReal) (Ideal.exp2 ((((k.val : ℤ) : ℝ) : EReal) - Ideal.ofBits .f32 0x43150000#32)))
      (Ideal.ofBits .f32 0x3F800000#32) (Ideal.ofBits .f32 0x00000000#32)) = ((S.card : ℝ) : EReal) := by
    have : ∀ k : Fin 277, Scalar.select (Ideal.cmp .oge (v : EReal) (Ideal.exp2 ((((k.val : ℤ) : ℝ) : EReal) - Ideal.ofBits .f32 0x43150000#32)))
      (Ideal.ofBits .f32 0x3F800000#32) (Ideal.ofBits .f32 0x00000000#32) = if (2 : ℝ) ^ ((k.val : ℝ) - 149) ≤ v then (1 : EReal) else 0 := by
      intro k
      rw [ht k, Ideal.ofBits_one_f32, Ideal.ofBits_zero_f32]
      by_cases hc : (2 : ℝ) ^ ((k.val : ℝ) - 149) ≤ v
      · have h2 : (((2 : ℝ) ^ ((k.val : ℝ) - 149) : ℝ) : EReal) ≤ (v : EReal) := EReal.coe_le_coe_iff.2 hc
        rw [if_pos hc]
        rw [oge_true h2]; rfl
      · have h2 : ¬ (((2 : ℝ) ^ ((k.val : ℝ) - 149) : ℝ) : EReal) ≤ (v : EReal) := fun h => hc (EReal.coe_le_coe_iff.1 h)
        rw [if_neg hc]
        rw [oge_false h2]; rfl
    rw [Finset.sum_congr rfl fun k _ => this k, Finset.sum_ite, Finset.sum_const, Finset.sum_const_zero, add_zero]
    simp [S]
  refine ⟨(S.card : ℝ) - 149, ?_, ?_⟩
  · rw [hs, ofBits_149, ← EReal.coe_sub]
  · by_contra hc
    have hc : (2 : ℝ) ^ ((S.card : ℝ) - 149) ≤ v := not_lt.1 hc
    have hlt : S.card < 276 := by
      by_contra hh
      have h1 : (2 : ℝ) ^ ((120 : ℤ) : ℝ) ≤ (2 : ℝ) ^ ((S.card : ℝ) - 149) :=
        Real.rpow_le_rpow_of_exponent_le (by norm_num) (by
          have : (276 : ℝ) ≤ S.card := by exact_mod_cast (not_lt.1 hh)
          push_cast; linarith)
      rw [Real.rpow_intCast] at h1
      linarith
    have hsub : (Finset.univ.filter fun k : Fin 277 => k.val < S.card + 1) ⊆ S := by
      intro k hk
      have hk : k.val < S.card + 1 := (Finset.mem_filter.1 hk).2
      refine Finset.mem_filter.2 ⟨Finset.mem_univ _, le_trans ?_ hc⟩
      refine Real.rpow_le_rpow_of_exponent_le (by norm_num) ?_
      have : (k.val : ℝ) ≤ S.card := by exact_mod_cast (Nat.lt_succ_iff.1 hk)
      linarith
    have hcard : (Finset.univ.filter fun k : Fin 277 => k.val < S.card + 1).card = S.card + 1 := by
      rw [Fin.card_filter_val_lt]; omega
    have := Finset.card_le_card hsub
    omega

/-- The largest magnitude of a finite family is a finite number that bounds every one of them. -/
theorem fold_spec {ι : Type} [Fintype ι] [Nonempty ι] (f : ι → ℝ) (h : ∀ i, |f i| ≤ top) :
    ∃ a : ℝ, (Finset.univ : Finset ι).fold max (Ideal.ofBits .f32 0xFF800000#32) (fun i => max (f i : EReal) (-(f i : EReal))) = (a : EReal) ∧ a ≤ top ∧ ∀ i, |f i| ≤ a := by
  classical
  have hm : ∀ i, max (f i : EReal) (-(f i : EReal)) = ((|f i| : ℝ) : EReal) := by
    intro i
    rw [← EReal.coe_neg, abs_eq_max_neg]
    exact (EReal.coe_strictMono.monotone.map_max).symm
  have he : (Finset.univ : Finset ι).fold max (Ideal.ofBits .f32 0xFF800000#32) (fun i => max (f i : EReal) (-(f i : EReal)))
      = (((Finset.univ : Finset ι).sup' Finset.univ_nonempty fun i => |f i| : ℝ) : EReal) := by
    rw [ofBits_ninf]
    apply le_antisymm
    · refine Finset.fold_max_le _ |>.2 ⟨bot_le, fun i _ => ?_⟩
      rw [hm i]
      exact EReal.coe_le_coe_iff.2 (Finset.le_sup' (fun i => |f i|) (Finset.mem_univ i))
    · obtain ⟨i, _, hi⟩ := Finset.exists_mem_eq_sup' Finset.univ_nonempty fun i => |f i|
      rw [hi, ← hm i]
      exact Finset.le_fold_max _ |>.2 (Or.inr ⟨i, Finset.mem_univ i, le_rfl⟩)
  refine ⟨_, he, Finset.sup'_le _ _ fun i _ => h i, fun i => Finset.le_sup' (fun i => |f i|) (Finset.mem_univ i)⟩

end Cert.Proof.Alg
-- ==== Proof.Alg.Blk.lean ====
module

public import proofs.«01_k».proof.Proof.KernelIdeal.Val
public import proofs.«01_k».proof.Proof.Alg.Num
public import Idealize.ShloMosaic.Lib.ValueIdx

@[expose] public section

set_option maxRecDepth 16384

noncomputable section

namespace Cert.Proof.Alg

open Cert.KernelIdeal
open Idealize.ShloMosaic
open Cert.KernelIdeal.Gen
open Cert.Proof.KernelIdeal

/-! A block of finite inputs is left as it is by the kernel's quantising and reading back. -/

theorem pay2_at (L : Vec Ideal S1x24x128 .bf16) (c : Fin 24) (j : Fin 128) : k0_pay2 (F := Ideal) L (ix2 c j) = L (ix3 (0 : Fin 1) c j) := by
  unfold k0_pay2
  refine shapeCast_apply L shapeCasts_S1x24x128_S24x128 (ix2 c j) (ix3 (0 : Fin 1) c j) ?_
  rw [Shape.rowMajor_val_two, Shape.rowMajor_val_three]
  show (0 * 24 + c.val) * 128 + j.val = c.val * 128 + j.val
  omega

theorem bc_at (y : S24x1.Idx → EReal) (c : Fin 24) (j : Fin 128) : broadcastTo S24x128 y broadcasts_S24x1_S24x128 (ix2 c j) = y (ix2 c (0 : Fin 1)) := by
  refine broadcastTo_apply y broadcasts_S24x1_S24x128 (ix2 c j) (ix2 c (0 : Fin 1)) ?_
  intro a; fin_cases a <;> rfl

theorem pay3_at (L : Vec Ideal S1x24x128 .bf16) (c : Fin 24) :
    k0_pay3 (F := Ideal) L (ix2 c (0 : Fin 1)) = (Finset.univ : Finset (Fin 128)).fold max (Ideal.ofBits .f32 0xFF800000#32) (fun j => max (L (ix3 (0 : Fin 1) c j)) (-(L (ix3 (0 : Fin 1) c j))))
      * Ideal.ofBits .f32 0x3B124925#32 := by
  unfold k0_pay3
  show shapeCast S24x1 _ shapeCasts_S24_S24x1 (ix2 c (0 : Fin 1)) * Ideal.ofBits .f32 0x3B124925#32 = _
  congr 1
  rw [shapeCast_apply _ shapeCasts_S24_S24x1 (ix2 c (0 : Fin 1)) (ValueIdx.ix1 c) (by
    rw [Shape.rowMajor_val_two, Shape.rowMajor_val_one]; show c.val = c.val * 1 + 0; omega)]
  refine (Ideal.multiReduction_maximumf_single _ _ reduces_S24x128_S24 _ _ _).trans ?_
  show Finset.fold max _ _ _ = Finset.fold max _ _ _
  congr 1
  funext j
  have e : (reduces_S24x128_S24.lift (ValueIdx.ix1 c) j) = ix2 c j := by
    funext a; fin_cases a <;> rfl
  exact congrArg (fun z : EReal => max z (-z)) ((congrArg (k0_pay2 (F := Ideal) L) e).trans (pay2_at L c j))

/-- One step of the search, on a column. -/
def vstep (v : FVec Ideal S24x1 .f32) (w : BitVec 32) (f : IVec S24x1 32) : IVec S24x1 32 :=
  select (cmpf .oge v (bitcastToFloat .f32 (shli (addi f (broadcast S24x1 w)) (broadcast S24x1 23#32)))) (addi f (broadcast S24x1 w)) f
/-- The exponent fields of a column. -/
def vfld (v : FVec Ideal S24x1 .f32) : IVec S24x1 32 :=
  vstep v 1#32 (vstep v 2#32 (vstep v 4#32 (vstep v 8#32 (vstep v 16#32 (vstep v 32#32 (vstep v 64#32 (vstep v 128#32 (broadcast S24x1 0#32))))))))
/-- The exponents of a column, from its fields. -/
def vex (f : IVec S24x1 32) : IVec S24x1 32 :=
  select (ori (cmpi .eq f (broadcast S24x1 0#32)) (cmpi .eq f (broadcast S24x1 255#32))) (broadcast S24x1 0#32) (subi f (broadcast S24x1 126#32))
/-- The powers of two of a column of exponents. -/
def vpw (f : IVec S24x1 32) : FVec Ideal S24x1 .f32 := bitcastToFloat .f32 (shli (addi f (broadcast S24x1 127#32)) (broadcast S24x1 23#32))
/-- A block scaled, clipped and scaled back, from its exponents. -/
def vfin (x : FVec Ideal S24x128 .f32) (e : IVec S24x1 32) : FVec Ideal S24x128 .f32 :=
  mulf (minimumf (broadcast S24x128 (Scalar.ofBits .f32 0x43E00000#32)) (maximumf (broadcast S24x128 (Scalar.ofBits .f32 0xC3E00000#32))
    (mulf x (broadcastTo S24x128 (vpw (subi (broadcast S24x1 0#32) e)) broadcasts_S24x1_S24x128))))
    (broadcastTo S24x128 (vpw e) broadcasts_S24x1_S24x128)

theorem pay6_eq (v : FVec Ideal S24x1 .f32) : k0_pay6 (F := Ideal) v k0_pay4 k0_pay5
    = vstep v 4#32 (vstep v 8#32 (vstep v 16#32 (vstep v 32#32 (vstep v 64#32 (vstep v 128#32 (broadcast S24x1 0#32)))))) := rfl

theorem pay9_eq (x : FVec Ideal S24x128 .f32) (v : FVec Ideal S24x1 .f32) (f : IVec S24x1 32) :
    k0_pay9 (F := Ideal) x v f (addi f (broadcast S24x1 2#32)) (cmpf .oge v (bitcastToFloat .f32 (shli (addi f (broadcast S24x1 2#32)) (broadcast S24x1 23#32))))
      = shapeCast S24x128 (vfin x (vex (vstep v 1#32 (vstep v 2#32 f)))) shapeCasts_S24x128_S24x128 := rfl

theorem blk_eq (L : Vec Ideal S1x24x128 .bf16) : blk (F := Ideal) L = vfin (k0_pay2 (F := Ideal) L) (vex (vfld (k0_pay3 (F := Ideal) L))) := by
  have h : blk (F := Ideal) L = k0_pay9 (F := Ideal) (k0_pay2 L) (k0_pay3 L) (k0_pay6 (k0_pay3 L) k0_pay4 k0_pay5) (addi (k0_pay6 (F := Ideal) (k0_pay3 L) k0_pay4 k0_pay5) (broadcast S24x1 2#32))
    (cmpf .oge (k0_pay3 L) (bitcastToFloat .f32 (shli (addi (k0_pay6 (F := Ideal) (k0_pay3 L) k0_pay4 k0_pay5) (broadcast S24x1 2#32)) (broadcast S24x1 23#32)))) := rfl
  rw [h, pay9_eq, pay6_eq, shapeCast_self]
  unfold vfld
  rfl

theorem vstep_at (v : FVec Ideal S24x1 .f32) (w : BitVec 32) (f : IVec S24x1 32) (i : S24x1.Idx) : vstep v w f i = step (v i) w (f i) := rfl
theorem vfld_at (v : FVec Ideal S24x1 .f32) (i : S24x1.Idx) : vfld v i = fld (v i) := by
  unfold vfld fld
  simp only [vstep_at]
  rfl
theorem vex_at (v : FVec Ideal S24x1 .f32) (i : S24x1.Idx) : vex (vfld v) i = exf (v i) := by
  have h : ∀ f : IVec S24x1 32, vex f i = Scalar.select (IntOp.cmpi .eq (f i) 0#32 ||| IntOp.cmpi .eq (f i) 255#32) 0#32 (f i - 126#32) := fun _ => rfl
  rw [h, vfld_at]
  rfl
theorem vfin_at (x : FVec Ideal S24x128 .f32) (e : IVec S24x1 32) (c : Fin 24) (j : Fin 128) :
    vfin x e (ix2 c j) = qdq (x (ix2 c j)) (pw (0#32 - e (ix2 c (0 : Fin 1)) + 127#32)) (pw (e (ix2 c (0 : Fin 1)) + 127#32)) := by
  have h1 := bc_at (vpw (subi (broadcast S24x1 0#32) e)) c j
  have h2 := bc_at (vpw e) c j
  have h3 : vfin x e (ix2 c j) = min (Ideal.ofBits .f32 0x43E00000#32) (max (Ideal.ofBits .f32 0xC3E00000#32) (x (ix2 c j) * broadcastTo S24x128 (vpw (subi (broadcast S24x1 0#32) e)) broadcasts_S24x1_S24x128 (ix2 c j)))
    * broadcastTo S24x128 (vpw e) broadcasts_S24x1_S24x128 (ix2 c j) := rfl
  rw [h3, h1, h2]
  rfl

theorem blk_at (L : Vec Ideal S1x24x128 .bf16) (c : Fin 24) (j : Fin 128) :
    blk (F := Ideal) L (ix2 c j) = qdq (k0_pay2 (F := Ideal) L (ix2 c j)) (pw (0#32 - exf (k0_pay3 (F := Ideal) L (ix2 c (0 : Fin 1))) + 127#32)) (pw (exf (k0_pay3 (F := Ideal) L (ix2 c (0 : Fin 1))) + 127#32)) := by
  rw [blk_eq, vfin_at, vex_at]

/-- A block of finite inputs is left as it is. -/
theorem blk_id (L : Vec Ideal S1x24x128 .bf16) (r : Fin 24 → Fin 128 → ℝ) (hL : ∀ c j, L (ix3 (0 : Fin 1) c j) = (r c j : EReal)) (hr : ∀ c j, |r c j| ≤ top)
    (c : Fin 24) (j : Fin 128) : blk (F := Ideal) L (ix2 c j) = (r c j : EReal) := by
  rw [blk_at, pay3_at, pay2_at, hL]
  simp only [hL]
  obtain ⟨a, ha, ha1, ha2⟩ := fold_spec (fun j => r c j) (hr c)
  rw [ha]
  exact kernel_id (ha2 j) ha1

end Cert.Proof.Alg
-- ==== Proof.Alg.Out.lean ====
module

public import proofs.«01_k».proof.Proof.KernelIdeal.Val
public import proofs.«01_k».proof.Proof.Alg.Blk

@[expose] public section

set_option maxRecDepth 16384

noncomputable section

namespace Cert.Proof.Alg

open Cert.KernelIdeal
open Idealize.ShloMosaic
open Cert.KernelIdeal.Gen
open Cert.Proof.KernelIdeal

/-! What the kernel's payloads compute over the reals, and the sum that both programs compute. -/

/-- The result at expert `e`, row `c` and column `n`: the masked sum of scaled inputs times weights. -/
def S (fx : S16x24x1536.Idx → EReal) (fs : S16x56x12.Idx → EReal) (fw : S16x7168x1536.Idx → EReal) (g : BitVec 32)
    (e : Fin 16) (c : Fin 24) (n : Fin 7168) : EReal :=
  Scalar.select (IntOp.cmpi .slt (BitVec.ofNat 32 c.val) g)
    (∑ d : Fin 1536, (fx (ix3 e c d) * fs (ix3 e (⟨n.val / 128, by omega⟩ : Fin 56) (⟨d.val / 128, by omega⟩ : Fin 12))) * fw (ix3 e n d)) 0

theorem dot_l (j : S48x256.Idx) (d : Fin 1536) :
    dot_S48x1536_S256x1536_S48x256_1_1_0_0_n_n.lhsIdx j ((ValueIdx.contrEquiv1 dot_S48x1536_S256x1536_S48x256_1_1_0_0_n_n 1536 rfl rfl).symm d) = ix2 (j 0) d := by
  funext a; fin_cases a <;> rfl
theorem dot_r (j : S48x256.Idx) (d : Fin 1536) :
    dot_S48x1536_S256x1536_S48x256_1_1_0_0_n_n.rhsIdx j ((ValueIdx.contrEquiv1 dot_S48x1536_S256x1536_S48x256_1_1_0_0_n_n 1536 rfl rfl).symm d) = ix2 (j 1) d := by
  funext a; fin_cases a <;> rfl

theorem row_at (y : S1x1536.Idx → EReal) (c : Fin 24) (d : Fin 1536) : broadcastTo S24x1536 y broadcasts_S1x1536_S24x1536 (ix2 c d) = y (ix2 (0 : Fin 1) d) := by
  refine broadcastTo_apply y broadcasts_S1x1536_S24x1536 (ix2 c d) (ix2 (0 : Fin 1) d) ?_
  intro a; fin_cases a <;> rfl

theorem w_at (w : S1x256x1536.Idx → EReal) (q : Fin 256) (d : Fin 1536) : shapeCast S256x1536 w shapeCasts_S1x256x1536_S256x1536 (ix2 q d) = w (ix3 (0 : Fin 1) q d) := by
  refine shapeCast_apply w shapeCasts_S1x256x1536_S256x1536 (ix2 q d) (ix3 (0 : Fin 1) q d) ?_
  rw [Shape.rowMajor_val_two, Shape.rowMajor_val_three]
  show (0 * 256 + q.val) * 1536 + d.val = q.val * 1536 + d.val
  omega

theorem cat_l (y z : S24x1536.Idx → EReal) (r : Fin 48) (c : Fin 24) (h : r.val = c.val) (d : Fin 1536) :
    concatenate S48x1536 0 [⟨S24x1536, y⟩, ⟨S24x1536, z⟩] concatenates_S24x1536_S24x1536_S48x1536_d0 (ix2 r d) = y (ix2 c d) := by
  refine concatenate_pair_apply_left 0 y z concatenates_S24x1536_S24x1536_S48x1536_d0 (ix2 r d) rfl (ix2 c d) ?_
  intro b; fin_cases b
  · exact h.symm
  · rfl
theorem cat_r (y z : S24x1536.Idx → EReal) (r : Fin 48) (c : Fin 24) (h : r.val = 24 + c.val) (d : Fin 1536) :
    concatenate S48x1536 0 [⟨S24x1536, y⟩, ⟨S24x1536, z⟩] concatenates_S24x1536_S24x1536_S48x1536_d0 (ix2 r d) = z (ix2 c d) := by
  refine concatenate_pair_apply_right 0 y z concatenates_S24x1536_S24x1536_S48x1536_d0 (ix2 r d) rfl rfl (ix2 c d) ?_ ?_
  · intro b; fin_cases b
    · intro h; exact absurd rfl h
    · intro _; rfl
  · show c.val + 24 = r.val
    omega

theorem pay115_at (X1 X2 : Vec Ideal S24x1536 .f32) (ra rb : Vec Ideal S1x1536 .f32) (w : Vec Ideal S1x256x1536 .fp8e4m3) (r : Fin 48) (q : Fin 256)
    (L : Fin 1536 → EReal)
    (hL : ∀ d, concatenate S48x1536 0 [⟨S24x1536, mulf (F := Ideal) (φ := .f32) X1 (broadcastTo S24x1536 ra broadcasts_S1x1536_S24x1536)⟩, ⟨S24x1536, mulf (F := Ideal) (φ := .f32) X2 (broadcastTo S24x1536 rb broadcasts_S1x1536_S24x1536)⟩] concatenates_S24x1536_S24x1536_S48x1536_d0 (ix2 r d) = L d) :
    k0_pay115 (F := Ideal) X1 ra X2 rb w (ix2 r q) = ∑ d : Fin 1536, L d * w (ix3 (0 : Fin 1) q d) := by
  unfold k0_pay115
  refine (Ideal.matmul_constant_zero_apply dot_S48x1536_S256x1536_S48x256_1_1_0_0_n_n none _ _ (ix2 r q)).trans ?_
  refine (Equiv.sum_comp (ValueIdx.contrEquiv1 dot_S48x1536_S256x1536_S48x256_1_1_0_0_n_n 1536 rfl rfl).symm _).symm.trans ?_
  refine Finset.sum_congr rfl fun d _ => ?_
  rw [dot_l, dot_r]
  exact congr (congrArg HMul.hMul (hL d)) (w_at w q d)

theorem mask_at (g : BitVec 32) (c : Fin 24) (j : Fin 128) : k0_pay114 (F := Ideal) g (ix2 c j) = IntOp.cmpi .slt (BitVec.ofNat 32 c.val) g := by
  show IntOp.cmpi .slt (BitVec.ofNat 32 (0 * 24 + c.val)) g = _
  rw [Nat.zero_mul, Nat.zero_add]

theorem up_at (y : S24x128.Idx → EReal) (c : Fin 24) (j : Fin 128) : shapeCast S1x24x128 y shapeCasts_S24x128_S1x24x128 (ix3 (0 : Fin 1) c j) = y (ix2 c j) := by
  refine shapeCast_apply y shapeCasts_S24x128_S1x24x128 (ix3 (0 : Fin 1) c j) (ix2 c j) ?_
  rw [Shape.rowMajor_val_two, Shape.rowMajor_val_three]
  show c.val * 128 + j.val = (0 * 24 + c.val) * 128 + j.val
  omega

theorem outE_at (g : BitVec 32) (X1 : Vec Ideal S24x1536 .f32) (ra rb : Vec Ideal S1x1536 .f32) (w : Vec Ideal S1x256x1536 .fp8e4m3) (c : Fin 24) (j : Fin 128) :
    outE (F := Ideal) g X1 ra rb w (ix3 (0 : Fin 1) c j)
      = Scalar.select (IntOp.cmpi .slt (BitVec.ofNat 32 c.val) g)
        (∑ d : Fin 1536, (X1 (ix2 c d) * ra (ix2 (0 : Fin 1) d)) * w (ix3 (0 : Fin 1) (⟨j.val, by omega⟩ : Fin 256) d)) 0 := by
  unfold outE k0_pay116
  refine (up_at _ c j).trans ?_
  show Scalar.select (k0_pay114 (F := Ideal) g (ix2 c j)) (extractStridedSlice S24x128 ![0, 0] (k0_pay115 (F := Ideal) X1 ra X1 rb w) slices_S48x256_o0_0_S24x128 (ix2 c j)) (Ideal.ofBits .f32 0x00000000#32) = _
  rw [mask_at, Ideal.ofBits_zero_f32]
  refine congrArg (fun z => Scalar.select _ z (0 : EReal)) ?_
  refine (extractStridedSlice_apply ![0, 0] _ slices_S48x256_o0_0_S24x128 (ix2 c j) (ix2 (⟨c.val, by omega⟩ : Fin 48) (⟨j.val, by omega⟩ : Fin 256)) ?_).trans ?_
  · intro a; fin_cases a
    · exact (Nat.zero_add _).symm
    · exact (Nat.zero_add _).symm
  · refine pay115_at X1 X1 ra rb w _ _ (fun d => X1 (ix2 c d) * ra (ix2 (0 : Fin 1) d)) fun d => ?_
    refine (cat_l _ _ _ c rfl d).trans ?_
    exact congrArg (fun z : EReal => X1 (ix2 c d) * z) (row_at ra c d)

theorem outO_at (g : BitVec 32) (X1 : Vec Ideal S24x1536 .f32) (ra rb : Vec Ideal S1x1536 .f32) (w : Vec Ideal S1x256x1536 .fp8e4m3) (c : Fin 24) (j : Fin 128) :
    outO (F := Ideal) g X1 ra rb w (ix3 (0 : Fin 1) c j)
      = Scalar.select (IntOp.cmpi .slt (BitVec.ofNat 32 c.val) g)
        (∑ d : Fin 1536, (X1 (ix2 c d) * rb (ix2 (0 : Fin 1) d)) * w (ix3 (0 : Fin 1) (⟨128 + j.val, by omega⟩ : Fin 256) d)) 0 := by
  unfold outO k0_pay117
  refine (up_at _ c j).trans ?_
  show Scalar.select (k0_pay114 (F := Ideal) g (ix2 c j)) (extractStridedSlice S24x128 ![24, 128] (k0_pay115 (F := Ideal) X1 ra X1 rb w) slices_S48x256_o24_128_S24x128 (ix2 c j)) (Ideal.ofBits .f32 0x00000000#32) = _
  rw [mask_at, Ideal.ofBits_zero_f32]
  refine congrArg (fun z => Scalar.select _ z (0 : EReal)) ?_
  refine (extractStridedSlice_apply ![24, 128] _ slices_S48x256_o24_128_S24x128 (ix2 c j) (ix2 (⟨24 + c.val, by omega⟩ : Fin 48) (⟨128 + j.val, by omega⟩ : Fin 256)) ?_).trans ?_
  · intro a; fin_cases a
    · rfl
    · rfl
  · refine pay115_at X1 X1 ra rb w _ _ (fun d => X1 (ix2 c d) * rb (ix2 (0 : Fin 1) d)) fun d => ?_
    refine (cat_r _ _ _ c rfl d).trans ?_
    exact congrArg (fun z : EReal => X1 (ix2 c d) * z) (row_at rb c d)

/-- Every input is a finite number. -/
def Fin' (fx : S16x24x1536.Idx → EReal) : Prop := ∀ i, ∃ r : ℝ, fx i = (r : EReal) ∧ |r| ≤ top

theorem X_id (fx : S16x24x1536.Idx → EReal) (hf : Fin' fx) (e : Fin 16) (c : Fin 24) (d : Fin 1536) : X (F := Ideal) fx e (ix2 c d) = fx (ix3 e c d) := by
  choose r hr1 hr2 using hf
  have h := blk_id (xL (F := Ideal) fx e (d.val / 128)) (fun c j => r (ix3 e c (⟨(128 * (d.val / 128) + j.val) % 1536, Nat.mod_lt _ (by decide)⟩ : Fin 1536)))
    (fun c j => hr1 _) (fun c j => hr2 _) c (⟨d.val % 128, Nat.mod_lt _ (by decide)⟩ : Fin 128)
  refine (show X (F := Ideal) fx e (ix2 c d) = _ from h).trans ?_
  have e1 : (⟨(128 * (d.val / 128) + d.val % 128) % 1536, Nat.mod_lt _ (by decide)⟩ : Fin 1536) = d := Fin.ext (by
    show (128 * (d.val / 128) + d.val % 128) % 1536 = d.val
    rw [Nat.div_add_mod]; exact Nat.mod_eq_of_lt d.isLt)
  rw [hr1 (ix3 e c d)]
  show ((r (ix3 e c (⟨(128 * (d.val / 128) + d.val % 128) % 1536, Nat.mod_lt _ (by decide)⟩ : Fin 1536)) : ℝ) : EReal) = _
  rw [e1]

theorem pay1_at (fs : S16x56x12.Idx → EReal) (e : Fin 16) (b : Fin 56) (k : Fin 12) : k0_pay1 (F := Ideal) (sL (F := Ideal) fs e) (ix2 b k) = fs (ix3 e b k) := by
  unfold k0_pay1
  refine (shapeCast_apply (sL (F := Ideal) fs e) shapeCasts_S1x56x12_S56x12 (ix2 b k) (ix3 (0 : Fin 1) b k) ?_).trans ?_
  · rw [Shape.rowMajor_val_two, Shape.rowMajor_val_three]
    show (0 * 56 + b.val) * 12 + k.val = b.val * 12 + k.val
    omega
  · rfl

theorem rowL_at (fs : S16x56x12.Idx → EReal) (e : Fin 16) (b : ℕ) (b' : Fin 56) (hb : b'.val = b) (d : Fin 1536) :
    rowL (F := Ideal) fs e b (ix2 (0 : Fin 1) d) = fs (ix3 e b' (⟨d.val / 128, by omega⟩ : Fin 12)) := by
  have e1 : (⟨b % 56, Nat.mod_lt _ (by decide)⟩ : Fin 56) = b' := Fin.ext (by
    show b % 56 = b'.val
    rw [← hb]; exact Nat.mod_eq_of_lt b'.isLt)
  show k0_pay1 (F := Ideal) (sL (F := Ideal) fs e) (ix2 (⟨b % 56, Nat.mod_lt _ (by decide)⟩ : Fin 56) (⟨d.val / 128, by omega⟩ : Fin 12)) = _
  rw [e1]
  exact pay1_at fs e b' _

theorem wL_at (fw : S16x7168x1536.Idx → EReal) (e : Fin 16) (p : ℕ) (q : Fin 256) (n : Fin 7168) (hn : n.val = 256 * p + q.val) (d : Fin 1536) :
    wL (F := Ideal) fw e p (ix3 (0 : Fin 1) q d) = fw (ix3 e n d) := by
  have e1 : (⟨(256 * p + q.val) % 7168, Nat.mod_lt _ (by decide)⟩ : Fin 7168) = n := Fin.ext (by
    show (256 * p + q.val) % 7168 = n.val
    rw [← hn]; exact Nat.mod_eq_of_lt n.isLt)
  show fw (ix3 e (⟨(256 * p + q.val) % 7168, Nat.mod_lt _ (by decide)⟩ : Fin 7168) d) = _
  rw [e1]

/-- What the kernel computes at a result of an expert that has rows, for finite inputs. -/
theorem Y_eq (fx : S16x24x1536.Idx → EReal) (hf : Fin' fx) (fs : S16x56x12.Idx → EReal) (fw : S16x7168x1536.Idx → EReal) (fg : S16.Idx → BitVec 32)
    (e : Fin 16) (c : Fin 24) (n : Fin 7168) : Y (F := Ideal) fx fs fw fg e c n = S fx fs fw (tw (F := Ideal) fg e) e c n := by
  unfold Y yB S
  by_cases hb : n.val / 128 % 2 = 0
  · rw [if_pos hb, outE_at]
    refine congrArg (fun z => Scalar.select _ z (0 : EReal)) (Finset.sum_congr rfl fun d _ => ?_)
    rw [X_id fx hf, rowL_at fs e _ (⟨n.val / 128, by omega⟩ : Fin 56) rfl, wL_at fw e _ _ n (by show n.val = 256 * (n.val / 128 / 2) + n.val % 128; omega)]
  · rw [if_neg hb, outO_at]
    refine congrArg (fun z => Scalar.select _ z (0 : EReal)) (Finset.sum_congr rfl fun d _ => ?_)
    rw [X_id fx hf, rowL_at fs e _ (⟨n.val / 128, by omega⟩ : Fin 56) rfl, wL_at fw e _ _ n (by show n.val = 256 * (n.val / 128 / 2) + (128 + n.val % 128); omega)]

end Cert.Proof.Alg
-- ==== Proof.Alg.Ref.lean ====
module

public import proofs.«01_k».proof.Proof.Gen.ReferenceIdeal.Value
public import proofs.«01_k».proof.Proof.Alg.Out

@[expose] public section

set_option maxRecDepth 16384

noncomputable section

namespace Cert.Proof.Alg.Ref

open Cert.ReferenceIdeal
open Idealize.ShloMosaic
open Cert.ReferenceIdeal.Gen
open Cert.Proof.Alg
open Cert.Proof.KernelIdeal (ix2 ix3 ix3_eta tw)
open Idealize.ShloMosaic.ValueIdx (ix1 ix4 ix5)

/-! What the reference computes over the reals. -/

/-- The inputs, cut into blocks. -/
def v2 (x : Vec Ideal S16x24x1536 .bf16) : FVec Ideal S16x24x12x128 .f32 :=
  shapeCast S16x24x12x128 (extf (F := Ideal) (φ := .bf16) .f32 x bitsLt_bf16_f32) shapeCasts_S16x24x1536_S16x24x12x128
/-- The largest magnitudes of the blocks. -/
def vmax (x : Vec Ideal S16x24x1536 .bf16) : FVec Ideal S16x24x12x1 .f32 :=
  shapeCast S16x24x12x1 (multiReduction .maximumf [3] S16x24x12 (absf (v2 x)) 0xFF800000#32 reduces_S16x24x12x128_S16x24x12 (.inl rfl) rfl) shapeCasts_S16x24x12_S16x24x12x1
/-- The powers of two counted. -/
def vpow : FVec Ideal S1x1x1x277 .f32 :=
  exp2 (subf (sitofp .f32 (iota .tc S1x1x1x277 32 [3] iota_S1x1x1x277_d3_w32)) (broadcast S1x1x1x277 (Scalar.ofBits .f32 0x43150000#32)))
/-- One for each power of two that is not above the scaled magnitude. -/
def vone (m : FVec Ideal S16x24x12x1 .f32) : FVec Ideal S16x24x12x277 .f32 :=
  select (cmpf .oge (broadcastTo S16x24x12x277 (mulf m (broadcast S16x24x12x1 (Scalar.ofBits .f32 0x3B124925#32))) broadcasts_S16x24x12x1_S16x24x12x277)
    (broadcastTo S16x24x12x277 vpow broadcasts_S1x1x1x277_S16x24x12x277))
    (broadcast S16x24x12x277 (Scalar.ofBits .f32 0x3F800000#32)) (broadcast S16x24x12x277 (Scalar.ofBits .f32 0x00000000#32))
/-- The exponents of the scales. -/
def vexp (m : FVec Ideal S16x24x12x1 .f32) : FVec Ideal S16x24x12x1 .f32 :=
  select (cmpf .oeq m (broadcast S16x24x12x1 (Scalar.ofBits .f32 0x00000000#32))) (broadcast S16x24x12x1 (Scalar.ofBits .f32 0x00000000#32))
    (subf (shapeCast S16x24x12x1 (multiReduction .add [3] S16x24x12 (vone m) 0x00000000#32 reduces_S16x24x12x277_S16x24x12 (.inl rfl) rfl) shapeCasts_S16x24x12_S16x24x12x1)
      (broadcast S16x24x12x1 (Scalar.ofBits .f32 0x43150000#32)))
/-- The inputs scaled, clipped and scaled back. -/
def vfin (x : FVec Ideal S16x24x12x128 .f32) (e : FVec Ideal S16x24x12x1 .f32) : FVec Ideal S16x24x12x128 .f32 :=
  mulf (minimumf (broadcast S16x24x12x128 (Scalar.ofBits .f32 0x43E00000#32)) (maximumf (broadcast S16x24x12x128 (Scalar.ofBits .f32 0xC3E00000#32))
    (mulf x (broadcastTo S16x24x12x128 (exp2 (subf (broadcast S16x24x12x1 (Scalar.ofBits .f32 0x00000000#32)) e)) broadcasts_S16x24x12x1_S16x24x12x128))))
    (broadcastTo S16x24x12x128 (exp2 e) broadcasts_S16x24x12x1_S16x24x12x128)

theorem pay2_eq (x : Vec Ideal S16x24x1536 .bf16) : k0_pay2 (F := Ideal) x = vfin (v2 x) (vexp (vmax x)) := rfl

theorem v2_at (x : Vec Ideal S16x24x1536 .bf16) (e : Fin 16) (c : Fin 24) (b : Fin 12) (j : Fin 128) (d : Fin 1536) (hd : d.val = 128 * b.val + j.val) :
    v2 x (ix4 e c b j) = x (ix3 e c d) := by
  unfold v2
  refine shapeCast_apply _ shapeCasts_S16x24x1536_S16x24x12x128 (ix4 e c b j) (ix3 e c d) ?_
  rw [Shape.rowMajor_val_three, Shape.rowMajor_val_four]
  show (e.val * 24 + c.val) * 1536 + d.val = ((e.val * 24 + c.val) * 12 + b.val) * 128 + j.val
  omega

theorem drop_at (y : S16x24x12.Idx → EReal) (e : Fin 16) (c : Fin 24) (b : Fin 12) :
    shapeCast S16x24x12x1 y shapeCasts_S16x24x12_S16x24x12x1 (ix4 e c b (0 : Fin 1)) = y (ix3 e c b) := by
  refine shapeCast_apply y shapeCasts_S16x24x12_S16x24x12x1 (ix4 e c b (0 : Fin 1)) (ix3 e c b) ?_
  rw [Shape.rowMajor_val_three, Shape.rowMajor_val_four]
  show (e.val * 24 + c.val) * 12 + b.val = ((e.val * 24 + c.val) * 12 + b.val) * 1 + 0
  omega

theorem lift1 (e : Fin 16) (c : Fin 24) (b : Fin 12) (j : Fin 128) : reduces_S16x24x12x128_S16x24x12.lift (ix3 e c b) j = ix4 e c b j := by
  funext a; fin_cases a <;> rfl
theorem lift2 (e : Fin 16) (c : Fin 24) (b : Fin 12) (k : Fin 277) : reduces_S16x24x12x277_S16x24x12.lift (ix3 e c b) k = ix4 e c b k := by
  funext a; fin_cases a <;> rfl

theorem vmax_at (x : Vec Ideal S16x24x1536 .bf16) (e : Fin 16) (c : Fin 24) (b : Fin 12) :
    vmax x (ix4 e c b (0 : Fin 1)) = (Finset.univ : Finset (Fin 128)).fold max (Ideal.ofBits .f32 0xFF800000#32) (fun j => max (v2 x (ix4 e c b j)) (-(v2 x (ix4 e c b j)))) := by
  unfold vmax
  refine (drop_at _ e c b).trans ?_
  refine (Ideal.multiReduction_maximumf_single _ _ reduces_S16x24x12x128_S16x24x12 _ _ _).trans ?_
  show Finset.fold max _ _ _ = Finset.fold max _ _ _
  congr 1

theorem bc1 (y : S16x24x12x1.Idx → EReal) (e : Fin 16) (c : Fin 24) (b : Fin 12) (j : Fin 128) :
    broadcastTo S16x24x12x128 y broadcasts_S16x24x12x1_S16x24x12x128 (ix4 e c b j) = y (ix4 e c b (0 : Fin 1)) := by
  refine broadcastTo_apply y broadcasts_S16x24x12x1_S16x24x12x128 (ix4 e c b j) (ix4 e c b (0 : Fin 1)) ?_
  intro a; fin_cases a <;> rfl
theorem bc2 (y : S16x24x12x1.Idx → EReal) (e : Fin 16) (c : Fin 24) (b : Fin 12) (k : Fin 277) :
    broadcastTo S16x24x12x277 y broadcasts_S16x24x12x1_S16x24x12x277 (ix4 e c b k) = y (ix4 e c b (0 : Fin 1)) := by
  refine broadcastTo_apply y broadcasts_S16x24x12x1_S16x24x12x277 (ix4 e c b k) (ix4 e c b (0 : Fin 1)) ?_
  intro a; fin_cases a <;> rfl
theorem bc3 (y : S1x1x1x277.Idx → EReal) (e : Fin 16) (c : Fin 24) (b : Fin 12) (k : Fin 277) :
    broadcastTo S16x24x12x277 y broadcasts_S1x1x1x277_S16x24x12x277 (ix4 e c b k) = y (ix4 (0 : Fin 1) (0 : Fin 1) (0 : Fin 1) k) := by
  refine broadcastTo_apply y broadcasts_S1x1x1x277_S16x24x12x277 (ix4 e c b k) (ix4 (0 : Fin 1) (0 : Fin 1) (0 : Fin 1) k) ?_
  intro a; fin_cases a <;> rfl

theorem toInt_small : ∀ k : Fin 277, (BitVec.ofNat 32 k.val).toInt = (k.val : ℤ) := by decide

theorem vpow_at (k : Fin 277) : vpow (ix4 (0 : Fin 1) (0 : Fin 1) (0 : Fin 1) k) = Ideal.exp2 ((((k.val : ℤ) : ℝ) : EReal) - Ideal.ofBits .f32 0x43150000#32) := by
  show Ideal.exp2 ((((BitVec.ofNat 32 (0 * 277 + k.val)).toInt : ℝ) : EReal) - Ideal.ofBits .f32 0x43150000#32) = _
  rw [Nat.zero_mul, Nat.zero_add, toInt_small]

theorem vone_at (m : FVec Ideal S16x24x12x1 .f32) (e : Fin 16) (c : Fin 24) (b : Fin 12) (k : Fin 277) :
    vone m (ix4 e c b k) = Scalar.select (Ideal.cmp .oge (m (ix4 e c b (0 : Fin 1)) * Ideal.ofBits .f32 0x3B124925#32) (Ideal.exp2 ((((k.val : ℤ) : ℝ) : EReal) - Ideal.ofBits .f32 0x43150000#32)))
      (Ideal.ofBits .f32 0x3F800000#32) (Ideal.ofBits .f32 0x00000000#32) := by
  have h2 := bc2 (mulf m (broadcast S16x24x12x1 (Scalar.ofBits .f32 0x3B124925#32))) e c b k
  have h3 := (bc3 vpow e c b k).trans (vpow_at k)
  have h : vone m (ix4 e c b k) = Scalar.select (Ideal.cmp .oge (broadcastTo S16x24x12x277 (mulf m (broadcast S16x24x12x1 (Scalar.ofBits .f32 0x3B124925#32))) broadcasts_S16x24x12x1_S16x24x12x277 (ix4 e c b k))
    (broadcastTo S16x24x12x277 vpow broadcasts_S1x1x1x277_S16x24x12x277 (ix4 e c b k))) (Ideal.ofBits .f32 0x3F800000#32) (Ideal.ofBits .f32 0x00000000#32) := rfl
  rw [h, h2, h3]
  rfl

theorem vexp_at (m : FVec Ideal S16x24x12x1 .f32) (e : Fin 16) (c : Fin 24) (b : Fin 12) (a : ℝ) (ha : m (ix4 e c b (0 : Fin 1)) = (a : EReal)) (ht : a ≤ top) :
    ∃ r : ℝ, vexp m (ix4 e c b (0 : Fin 1)) = (r : EReal) ∧ a * cst < (2 : ℝ) ^ r := by
  have h : vexp m (ix4 e c b (0 : Fin 1)) = Scalar.select (Ideal.cmp .oeq (m (ix4 e c b (0 : Fin 1))) (Ideal.ofBits .f32 0x00000000#32)) (Ideal.ofBits .f32 0x00000000#32)
    (shapeCast S16x24x12x1 (multiReduction .add [3] S16x24x12 (vone m) 0x00000000#32 reduces_S16x24x12x277_S16x24x12 (.inl rfl) rfl) shapeCasts_S16x24x12_S16x24x12x1 (ix4 e c b (0 : Fin 1))
      - Ideal.ofBits .f32 0x43150000#32) := rfl
  have hs : shapeCast S16x24x12x1 (multiReduction .add [3] S16x24x12 (vone m) 0x00000000#32 reduces_S16x24x12x277_S16x24x12 (.inl rfl) rfl) shapeCasts_S16x24x12_S16x24x12x1 (ix4 e c b (0 : Fin 1))
      = ∑ k : Fin 277, Scalar.select (Ideal.cmp .oge ((a * cst : ℝ) : EReal) (Ideal.exp2 ((((k.val : ℤ) : ℝ) : EReal) - Ideal.ofBits .f32 0x43150000#32)))
      (Ideal.ofBits .f32 0x3F800000#32) (Ideal.ofBits .f32 0x00000000#32) := by
    refine (drop_at _ e c b).trans ?_
    refine (Ideal.multiReduction_add_single _ _ reduces_S16x24x12x277_S16x24x12 _ _ _).trans ?_
    refine Finset.sum_congr rfl fun (k : Fin 277) _ => ?_
    refine (congrArg (vone m) (lift2 e c b k)).trans ?_
    rw [vone_at, ha, ofBits_cst, ← EReal.coe_mul]
  rw [h, hs, ha, Ideal.ofBits_zero_f32]
  by_cases h0 : a = 0
  · refine ⟨0, ?_, ?_⟩
    · have : Ideal.cmp .oeq (a : EReal) 0 = 1#1 := by
        show BitVec.ofBool (decide ((a : EReal) = 0)) = _
        rw [decide_eq_true (by rw [h0]; rfl)]; rfl
      rw [this]; rfl
    · rw [h0]; simp
  · have : Ideal.cmp .oeq (a : EReal) 0 = 0#1 := by
      show BitVec.ofBool (decide ((a : EReal) = 0)) = _
      rw [decide_eq_false (by rw [EReal.coe_eq_zero]; exact h0)]; rfl
    rw [this]
    obtain ⟨r, hr, hr2⟩ := count_spec (scaled_lt ht)
    rw [Ideal.ofBits_zero_f32] at hr
    exact ⟨r, hr, hr2⟩

theorem vfin_at (x : FVec Ideal S16x24x12x128 .f32) (y : FVec Ideal S16x24x12x1 .f32) (e : Fin 16) (c : Fin 24) (b : Fin 12) (j : Fin 128) :
    vfin x y (ix4 e c b j) = qdq (x (ix4 e c b j)) (Ideal.exp2 (Ideal.ofBits .f32 0x00000000#32 - y (ix4 e c b (0 : Fin 1)))) (Ideal.exp2 (y (ix4 e c b (0 : Fin 1)))) := by
  have h1 := bc1 (exp2 (subf (broadcast S16x24x12x1 (Scalar.ofBits .f32 0x00000000#32)) y)) e c b j
  have h2 := bc1 (exp2 y) e c b j
  have h : vfin x y (ix4 e c b j) = min (Ideal.ofBits .f32 0x43E00000#32) (max (Ideal.ofBits .f32 0xC3E00000#32) (x (ix4 e c b j)
    * broadcastTo S16x24x12x128 (exp2 (subf (broadcast S16x24x12x1 (Scalar.ofBits .f32 0x00000000#32)) y)) broadcasts_S16x24x12x1_S16x24x12x128 (ix4 e c b j)))
    * broadcastTo S16x24x12x128 (exp2 y) broadcasts_S16x24x12x1_S16x24x12x128 (ix4 e c b j) := rfl
  rw [h, h1, h2]
  rfl

/-- The reference's scaling leaves finite inputs as they are. -/
theorem pay2_id (x : Vec Ideal S16x24x1536 .bf16) (hf : Fin' x) (e : Fin 16) (c : Fin 24) (b : Fin 12) (j : Fin 128) (d : Fin 1536) (hd : d.val = 128 * b.val + j.val) :
    k0_pay2 (F := Ideal) x (ix4 e c b j) = x (ix3 e c d) := by
  choose r hr1 hr2 using hf
  let q : Fin 128 → Fin 1536 := fun j => ⟨128 * b.val + j.val, by omega⟩
  have hv : ∀ j, v2 x (ix4 e c b j) = (r (ix3 e c (q j)) : EReal) := fun j => (v2_at x e c b j (q j) rfl).trans (hr1 _)
  obtain ⟨a, ha, ha1, ha2⟩ := fold_spec (fun j => r (ix3 e c (q j))) fun j => hr2 _
  have hm : vmax x (ix4 e c b (0 : Fin 1)) = (a : EReal) := by
    rw [vmax_at]
    simp only [hv]
    exact ha
  obtain ⟨s, hs, hs2⟩ := vexp_at (vmax x) e c b a hm ha1
  have hq : q j = d := Fin.ext hd.symm
  rw [pay2_eq, vfin_at, hs, hv, reference_id (ha2 j) hs2, hq, hr1 (ix3 e c d)]

theorem dot_l (j : S896x24x128.Idx) (d : Fin 1536) :
    dot_S896x24x1536_S896x128x1536_S896x24x128_2_2_1_1_0_0.lhsIdx j ((ValueIdx.contrEquiv1 dot_S896x24x1536_S896x128x1536_S896x24x128_2_2_1_1_0_0 1536 rfl rfl).symm d) = ix3 (j 0) (j 1) d := by
  funext a; fin_cases a <;> rfl
theorem dot_r (j : S896x24x128.Idx) (d : Fin 1536) :
    dot_S896x24x1536_S896x128x1536_S896x24x128_2_2_1_1_0_0.rhsIdx j ((ValueIdx.contrEquiv1 dot_S896x24x1536_S896x128x1536_S896x24x128_2_2_1_1_0_0 1536 rfl rfl).symm d) = ix3 (j 0) (j 2) d := by
  funext a; fin_cases a <;> rfl

/-- The scaled inputs, for every block of results. -/
def vin (q : FVec Ideal S16x24x12x128 .bf16) (ws : Vec Ideal S16x56x12 .f32) : FVec Ideal S896x24x1536 .bf16 :=
  shapeCast S896x24x1536 (mulf (broadcastTo S16x56x24x12x128 (shapeCast S16x1x24x12x128 q shapeCasts_S16x24x12x128_S16x1x24x12x128) broadcasts_S16x1x24x12x128_S16x56x24x12x128)
    (broadcastTo S16x56x24x12x128 (shapeCast S16x56x1x12x1 (truncf (F := Ideal) (φ := .f32) .bf16 ws bitsLt_bf16_f32) shapeCasts_S16x56x12_S16x56x1x12x1) broadcasts_S16x56x1x12x1_S16x56x24x12x128))
    shapeCasts_S16x56x24x12x128_S896x24x1536
/-- The weights, by blocks of results. -/
def vw (w : Vec Ideal S16x7168x1536 .fp8e4m3) : FVec Ideal S896x128x1536 .bf16 :=
  shapeCast S896x128x1536 (extf (F := Ideal) (φ := .fp8e4m3) .bf16 w bitsLt_fp8e4m3_bf16) shapeCasts_S16x7168x1536_S896x128x1536
/-- The products. -/
def vdot (q : FVec Ideal S16x24x12x128 .bf16) (ws : Vec Ideal S16x56x12 .f32) (w : Vec Ideal S16x7168x1536 .fp8e4m3) : FVec Ideal S896x24x128 .f32 :=
  matmul dot_S896x24x1536_S896x128x1536_S896x24x128_2_2_1_1_0_0 none (vin q ws) (vw w) (constant S896x24x128 .f32 0x00000000#32)
/-- The products, in the order of the results. -/
def vout (q : FVec Ideal S16x24x12x128 .bf16) (ws : Vec Ideal S16x56x12 .f32) (w : Vec Ideal S16x7168x1536 .fp8e4m3) : FVec Ideal S16x24x7168 .f32 :=
  shapeCast S16x24x7168 (transpose S16x24x56x128 [0, 2, 1, 3] (shapeCast S16x56x24x128 (vdot q ws w) shapeCasts_S896x24x128_S16x56x24x128) transposes_S16x56x24x128_p0_2_1_3_S16x24x56x128) shapeCasts_S16x24x56x128_S16x24x7168
/-- Which rows an expert has. -/
def vmask (g : Vec Ideal S16 .i32) : IVec S16x24x1 1 :=
  cmpi .slt (iota .tc S16x24x1 32 [1] iota_S16x24x1_d1_w32) (broadcastTo S16x24x1 (shapeCast S16x1x1 g shapeCasts_S16_S16x1x1) broadcasts_S16x1x1_S16x24x1)

theorem pay1_eq (q : FVec Ideal S16x24x12x128 .bf16) (ws : Vec Ideal S16x56x12 .f32) (w : Vec Ideal S16x7168x1536 .fp8e4m3) (g : Vec Ideal S16 .i32) :
    k0_pay1 (F := Ideal) q ws w g = truncf (F := Ideal) (φ := .f32) .bf16 (select (broadcastTo S16x24x7168 (shapeCast S16x24x1 (vmask g) shapeCasts_S16x24x1_S16x24x1) broadcasts_S16x24x1_S16x24x7168)
      (vout q ws w) (broadcast S16x24x7168 (Scalar.ofBits .f32 0x00000000#32))) bitsLt_bf16_f32 := rfl

theorem vin_at (q : FVec Ideal S16x24x12x128 .bf16) (ws : Vec Ideal S16x56x12 .f32) (e : Fin 16) (b : Fin 56) (p : Fin 896) (hp : p.val = 56 * e.val + b.val) (c : Fin 24) (d : Fin 1536) :
    vin q ws (ix3 p c d) = q (ix4 e c (⟨d.val / 128, by omega⟩ : Fin 12) (⟨d.val % 128, by omega⟩ : Fin 128)) * ws (ix3 e b (⟨d.val / 128, by omega⟩ : Fin 12)) := by
  unfold vin
  refine (shapeCast_apply _ shapeCasts_S16x56x24x12x128_S896x24x1536 (ix3 p c d) (ix5 e b c (⟨d.val / 128, by omega⟩ : Fin 12) (⟨d.val % 128, by omega⟩ : Fin 128)) ?_).trans ?_
  · rw [Shape.rowMajor_val_three, Shape.rowMajor_val_five]
    show (((e.val * 56 + b.val) * 24 + c.val) * 12 + d.val / 128) * 128 + d.val % 128 = (p.val * 24 + c.val) * 1536 + d.val
    omega
  · have h1 : ∀ y : S16x1x24x12x128.Idx → EReal, broadcastTo S16x56x24x12x128 y broadcasts_S16x1x24x12x128_S16x56x24x12x128 (ix5 e b c (⟨d.val / 128, by omega⟩ : Fin 12) (⟨d.val % 128, by omega⟩ : Fin 128))
        = y (ix5 e (0 : Fin 1) c (⟨d.val / 128, by omega⟩ : Fin 12) (⟨d.val % 128, by omega⟩ : Fin 128)) := fun y => by
      refine broadcastTo_apply y broadcasts_S16x1x24x12x128_S16x56x24x12x128 _ _ ?_
      intro a; fin_cases a <;> rfl
    have h2 : ∀ y : S16x56x1x12x1.Idx → EReal, broadcastTo S16x56x24x12x128 y broadcasts_S16x56x1x12x1_S16x56x24x12x128 (ix5 e b c (⟨d.val / 128, by omega⟩ : Fin 12) (⟨d.val % 128, by omega⟩ : Fin 128))
        = y (ix5 e b (0 : Fin 1) (⟨d.val / 128, by omega⟩ : Fin 12) (0 : Fin 1)) := fun y => by
      refine broadcastTo_apply y broadcasts_S16x56x1x12x1_S16x56x24x12x128 _ _ ?_
      intro a; fin_cases a <;> rfl
    refine congr (congrArg HMul.hMul ((h1 _).trans ?_)) ((h2 _).trans ?_)
    · refine shapeCast_apply q shapeCasts_S16x24x12x128_S16x1x24x12x128 _ (ix4 e c (⟨d.val / 128, by omega⟩ : Fin 12) (⟨d.val % 128, by omega⟩ : Fin 128)) ?_
      rw [Shape.rowMajor_val_four, Shape.rowMajor_val_five]
      show ((e.val * 24 + c.val) * 12 + d.val / 128) * 128 + d.val % 128 = (((e.val * 1 + 0) * 24 + c.val) * 12 + d.val / 128) * 128 + d.val % 128
      omega
    · refine shapeCast_apply _ shapeCasts_S16x56x12_S16x56x1x12x1 _ (ix3 e b (⟨d.val / 128, by omega⟩ : Fin 12)) ?_
      rw [Shape.rowMajor_val_three, Shape.rowMajor_val_five]
      show (e.val * 56 + b.val) * 12 + d.val / 128 = (((e.val * 56 + b.val) * 1 + 0) * 12 + d.val / 128) * 1 + 0
      omega

theorem vw_at (w : Vec Ideal S16x7168x1536 .fp8e4m3) (e : Fin 16) (n : Fin 7168) (p : Fin 896) (hp : p.val = 56 * e.val + n.val / 128) (j : Fin 128) (hj : j.val = n.val % 128) (d : Fin 1536) :
    vw w (ix3 p j d) = w (ix3 e n d) := by
  unfold vw
  refine shapeCast_apply _ shapeCasts_S16x7168x1536_S896x128x1536 (ix3 p j d) (ix3 e n d) ?_
  rw [Shape.rowMajor_val_three, Shape.rowMajor_val_three]
  show (e.val * 7168 + n.val) * 1536 + d.val = (p.val * 128 + j.val) * 1536 + d.val
  omega

theorem vdot_at (q : FVec Ideal S16x24x12x128 .bf16) (ws : Vec Ideal S16x56x12 .f32) (w : Vec Ideal S16x7168x1536 .fp8e4m3) (p : Fin 896) (c : Fin 24) (j : Fin 128) :
    vdot q ws w (ix3 p c j) = ∑ d : Fin 1536, vin q ws (ix3 p c d) * vw w (ix3 p j d) := by
  unfold vdot
  refine (Ideal.matmul_constant_zero_apply dot_S896x24x1536_S896x128x1536_S896x24x128_2_2_1_1_0_0 none _ _ (ix3 p c j)).trans ?_
  refine (Equiv.sum_comp (ValueIdx.contrEquiv1 dot_S896x24x1536_S896x128x1536_S896x24x128_2_2_1_1_0_0 1536 rfl rfl).symm _).symm.trans ?_
  refine Finset.sum_congr rfl fun d _ => ?_
  rw [dot_l, dot_r]
  rfl

theorem vout_at (q : FVec Ideal S16x24x12x128 .bf16) (ws : Vec Ideal S16x56x12 .f32) (w : Vec Ideal S16x7168x1536 .fp8e4m3) (e : Fin 16) (c : Fin 24) (n : Fin 7168) :
    vout q ws w (ix3 e c n) = vdot q ws w (ix3 (⟨56 * e.val + n.val / 128, by omega⟩ : Fin 896) c (⟨n.val % 128, by omega⟩ : Fin 128)) := by
  unfold vout
  refine (shapeCast_apply _ shapeCasts_S16x24x56x128_S16x24x7168 (ix3 e c n) (ix4 e c (⟨n.val / 128, by omega⟩ : Fin 56) (⟨n.val % 128, by omega⟩ : Fin 128)) ?_).trans ?_
  · rw [Shape.rowMajor_val_three, Shape.rowMajor_val_four]
    show ((e.val * 24 + c.val) * 56 + n.val / 128) * 128 + n.val % 128 = (e.val * 24 + c.val) * 7168 + n.val
    omega
  refine (transpose_apply [0, 2, 1, 3] _ transposes_S16x56x24x128_p0_2_1_3_S16x24x56x128 _ (ix4 e (⟨n.val / 128, by omega⟩ : Fin 56) c (⟨n.val % 128, by omega⟩ : Fin 128)) ?_).trans ?_
  · intro b; fin_cases b <;> rfl
  refine shapeCast_apply _ shapeCasts_S896x24x128_S16x56x24x128 _ (ix3 (⟨56 * e.val + n.val / 128, by omega⟩ : Fin 896) c (⟨n.val % 128, by omega⟩ : Fin 128)) ?_
  rw [Shape.rowMajor_val_three, Shape.rowMajor_val_four]
  show ((56 * e.val + n.val / 128) * 24 + c.val) * 128 + n.val % 128 = ((e.val * 56 + n.val / 128) * 24 + c.val) * 128 + n.val % 128
  omega

theorem vmask_at (g : Vec Ideal S16 .i32) (e : Fin 16) (c : Fin 24) : vmask g (ix3 e c (0 : Fin 1)) = IntOp.cmpi .slt (BitVec.ofNat 32 c.val) (tw (F := Ideal) g e) := by
  have h1 : broadcastTo S16x24x1 (shapeCast S16x1x1 g shapeCasts_S16_S16x1x1) broadcasts_S16x1x1_S16x24x1 (ix3 e c (0 : Fin 1)) = tw (F := Ideal) g e := by
    refine (broadcastTo_apply _ broadcasts_S16x1x1_S16x24x1 (ix3 e c (0 : Fin 1)) (ix3 e (0 : Fin 1) (0 : Fin 1)) ?_).trans ?_
    · intro a; fin_cases a <;> rfl
    refine shapeCast_apply g shapeCasts_S16_S16x1x1 _ _ ?_
    rw [Shape.rowMajor_val_three, Shape.rowMajor_val_one]
    show e.val = (e.val * 1 + 0) * 1 + 0
    omega
  have h : vmask g (ix3 e c (0 : Fin 1)) = IntOp.cmpi .slt (BitVec.ofNat 32 (0 * 24 + c.val)) (broadcastTo S16x24x1 (shapeCast S16x1x1 g shapeCasts_S16_S16x1x1) broadcasts_S16x1x1_S16x24x1 (ix3 e c (0 : Fin 1))) := rfl
  rw [h, h1, Nat.zero_mul, Nat.zero_add]

/-- What the reference computes at a result, for finite inputs. -/
theorem G_eq (x : Vec Ideal S16x24x1536 .bf16) (hf : Fin' x) (ws : Vec Ideal S16x56x12 .f32) (w : Vec Ideal S16x7168x1536 .fp8e4m3) (g : Vec Ideal S16 .i32)
    (e : Fin 16) (c : Fin 24) (n : Fin 7168) : k0_pay1 (F := Ideal) (k0_pay2 (F := Ideal) x) ws w g (ix3 e c n) = S x ws w (tw (F := Ideal) g e) e c n := by
  rw [pay1_eq]
  have h : ∀ k : IVec S16x24x7168 1, truncf (F := Ideal) (φ := .f32) .bf16 (select k (vout (k0_pay2 (F := Ideal) x) ws w) (broadcast S16x24x7168 (Scalar.ofBits .f32 0x00000000#32))) bitsLt_bf16_f32 (ix3 e c n)
    = Scalar.select (k (ix3 e c n)) (vout (k0_pay2 (F := Ideal) x) ws w (ix3 e c n)) (Ideal.ofBits .f32 0x00000000#32) := fun _ => rfl
  have hk : broadcastTo S16x24x7168 (shapeCast S16x24x1 (vmask g) shapeCasts_S16x24x1_S16x24x1) broadcasts_S16x24x1_S16x24x7168 (ix3 e c n) = IntOp.cmpi .slt (BitVec.ofNat 32 c.val) (tw (F := Ideal) g e) := by
    rw [shapeCast_self]
    refine (broadcastTo_apply _ broadcasts_S16x24x1_S16x24x7168 (ix3 e c n) (ix3 e c (0 : Fin 1)) ?_).trans (vmask_at g e c)
    intro a; fin_cases a <;> rfl
  rw [h, hk, vout_at, vdot_at, Ideal.ofBits_zero_f32]
  unfold S
  refine congrArg (fun z => Scalar.select _ z (0 : EReal)) (Finset.sum_congr rfl fun d _ => ?_)
  rw [vin_at _ _ e (⟨n.val / 128, by omega⟩ : Fin 56) _ rfl, vw_at w e n _ rfl _ rfl,
    pay2_id x hf e c _ _ d (by show d.val = 128 * (d.val / 128) + d.val % 128; omega)]

end Cert.Proof.Alg.Ref
-- ==== Proof.Alg.Final.lean ====
module

public import proofs.«01_k».proof.Proof.Gen.Pre_finite
public import proofs.«01_k».proof.Proof.KernelIdeal.Start
public import proofs.«01_k».proof.Proof.Alg.Ref

@[expose] public section

set_option maxRecDepth 16384

noncomputable section

namespace Cert.Proof.Alg

open Idealize.ShloMosaic
open Cert.KernelIdeal (S16x24x1536 S16x56x12 S16x7168x1536 S16 S16x24x7168 S24x7168)
open Cert.Proof.KernelIdeal (ix2 ix3 ix3_eta tw Good bit p16 oE oE_read zb0 OKv)

/-! The kernel's results are the reference's, for finite inputs. -/

theorem zb0_at (i : S24x7168.Idx) : zb0 (F := Ideal) i = (0 : EReal) := by
  have h : ∀ (y : S24x7168.Idx → EReal) (hy : S24x7168.ShapeCasts S24x7168), y = (fun _ => 0) → shapeCast S24x7168 y hy i = 0 := by
    intro y hy e
    rw [shapeCast_self, e]
  unfold zb0 Cert.KernelIdeal.Gen.k0_pay435
  refine h _ _ ?_
  funext _
  exact Ideal.ofBits_zero_bf16

theorem mask_false (g : BitVec 32) (hg : ¬ bit g = 1) (c : Fin 24) : IntOp.cmpi .slt (BitVec.ofNat 32 c.val) g = 0#1 := by
  have h1 : ¬ (0#32).slt g = true := by
    intro h
    apply hg
    show (BitVec.ofBool ((0#32).slt g)).toNat = 1
    rw [h]; rfl
  have h2 : ¬ (BitVec.ofNat 32 c.val).slt g = true := by
    intro h
    apply h1
    rw [BitVec.slt_iff_toInt_lt] at h ⊢
    have hc : (BitVec.ofNat 32 c.val).toInt = (c.val : ℤ) := by
      have : ∀ k : Fin 24, (BitVec.ofNat 32 k.val).toInt = (k.val : ℤ) := by decide
      exact this c
    have h0 : (0#32).toInt = 0 := by decide
    omega
  show BitVec.ofBool ((BitVec.ofNat 32 c.val).slt g) = _
  rw [Bool.eq_false_iff.2 h2]; rfl

theorem final_at (fx : S16x24x1536.Idx → EReal) (hf : Fin' fx) (fs : S16x56x12.Idx → EReal) (fw : S16x7168x1536.Idx → EReal) (fg : S16.Idx → BitVec 32)
    (f : S16x24x7168.Idx → EReal) (h : ∀ e, Good (F := Ideal) (fun i => tw (F := Ideal) fg (p16 i)) fx fs fw fg e f) :
    f = Cert.ReferenceIdeal.Gen.k0_pay1 (F := Ideal) (Cert.ReferenceIdeal.Gen.k0_pay2 (F := Ideal) fx) fs fw fg := by
  funext i
  rw [← ix3_eta i]
  obtain ⟨e, he⟩ : ∃ e : Fin 16, e = i 0 := ⟨_, rfl⟩
  obtain ⟨c, hc⟩ : ∃ c : Fin 24, c = i 1 := ⟨_, rfl⟩
  obtain ⟨n, hn⟩ : ∃ n : Fin 7168, n = i 2 := ⟨_, rfl⟩
  rw [← he, ← hc, ← hn]
  clear he hc hn
  refine Eq.trans ?_ (Ref.G_eq fx hf fs fw fg e c n).symm
  have hg : p16 e.val = e := Fin.ext (Nat.mod_eq_of_lt e.isLt)
  have he := h e
  unfold Good at he
  dsimp only at he
  by_cases hb : bit (tw (F := Ideal) fg (p16 e.val)) = 1
  · rw [if_pos hb] at he
    have := he c n
    rw [oE_read] at this
    exact this.trans (Y_eq fx hf fs fw fg e c n)
  · rw [if_neg hb] at he
    have := congrFun he (ix2 c n)
    rw [oE_read, zb0_at] at this
    refine this.trans ?_
    unfold S
    rw [hg] at hb
    rw [mask_false _ hb c]
    rfl

/-- What the precondition says of the inputs. -/
theorem finite_of (x : FVec Ideal S16x24x1536 .bf16) (g : IVec S16 32) (w : FVec Ideal S16x7168x1536 .fp8e4m3) (ws : FVec Ideal S16x56x12 .f32)
    (h : Cert.Pre_finite.fn (F := Ideal) x g w ws = fun _ => 1#1) : Fin' x := by
  intro i
  have hi : Ideal.cmp .ole (max (x i) (-(x i))) (Ideal.ofBits .f32 0x7F7F0000#32) = 1#1 := congrFun h i
  have hle : max (x i) (-(x i)) ≤ ((top : ℝ) : EReal) := by
    rw [ofBits_top] at hi
    by_contra hc
    have : Ideal.cmp .ole (max (x i) (-(x i))) ((top : ℝ) : EReal) = 0#1 := by
      show BitVec.ofBool (decide (max (x i) (-(x i)) ≤ ((top : ℝ) : EReal))) = _
      rw [decide_eq_false hc]; rfl
    rw [this] at hi
    exact absurd hi (by decide)
  obtain ⟨h1, h2⟩ := max_le_iff.1 hle
  have key : ∀ y : EReal, y ≤ ((top : ℝ) : EReal) → -y ≤ ((top : ℝ) : EReal) → ∃ r : ℝ, y = (r : EReal) ∧ |r| ≤ top := by
    intro y h1 h2
    induction y using EReal.rec with
    | bot => simp at h2
    | top => simp at h1
    | coe r =>
    refine ⟨r, rfl, abs_le'.2 ⟨EReal.coe_le_coe_iff.1 h1, ?_⟩⟩
    rw [← EReal.coe_neg] at h2
    exact EReal.coe_le_coe_iff.1 h2
  exact key _ h1 h2

end Cert.Proof.Alg
-- ==== Proof.Alg.Value.lean ====
module

public import proofs.«01_k».proof.Defs
public import proofs.«01_k».proof.Proof.Gen.ReferenceIdeal.Value
public import proofs.«01_k».proof.Proof.KernelIdeal.Run
public import proofs.«01_k».proof.Proof.Alg.Final

@[expose] public section

set_option maxRecDepth 16384

noncomputable section

namespace Cert.Proof.Alg

open Idealize.ShloMosaic Idealize.SL.Sem
open Cert.KernelIdeal Cert.KernelIdeal.Gen Cert.Proof.KernelIdeal

variable (m : (ℓ : Loc nD τ sig) → Buf (Elt Ideal) ℓ)

/-- The block of group sizes is the whole array. -/
theorem iblk_eq (c : Dev nD) : iblk (F := Ideal) m c 0 t0_0 = m ((c.tc : Thread nD τ).loc main_arg1) := by
  funext i
  show m ((c.tc : Thread nD τ).loc main_arg1) (((cfg0.win 0).blk t0_0).view.emb i) = _
  congr 1
  have e0 : win0_0.index t0_0 (0 : Fin 1) = 0 := by decide +kernel
  funext a; apply Fin.ext
  match a with
  | ⟨0, _⟩ => show win0_0.index t0_0 (0 : Fin 1) * 16 + 1 * (i 0).val = (i 0).val; omega

/-- The array the kernel leaves is the reference's. -/
theorem left_eq (c : Dev nD) (hf : Fin' (m ((c.tc : Thread nD τ).loc main_arg0)))
    (G : (b : Ref sig .tc) → Buf (Elt Ideal) ((c.tc : Thread nD τ).loc b)) (h : Good0 (F := Ideal) m c G) :
    G main_v0 = Cert.ReferenceIdeal.Value.G4 (F := Ideal) (m ((c.tc : Thread nD τ).loc main_arg0)) (m ((c.tc : Thread nD τ).loc main_arg1)) (m ((c.tc : Thread nD τ).loc main_arg2)) (m ((c.tc : Thread nD τ).loc main_arg3)) := by
  have h' := h
  unfold Good0 at h'
  rw [iblk_eq] at h'
  exact final_at _ hf _ _ _ _ h'

theorem algebraic : Cert.algebraic_KernelIdeal_ReferenceIdeal_pre_finite (hKernelIdeal := Cert.KernelIdeal.Gen.facts) (hReferenceIdeal := Cert.ReferenceIdeal.Gen.facts) (hPre_finite := Cert.Pre_finite.Gen.facts) := by
  intro m g m' g' hpre hagree
  refine ⟨fun c => Cert.ReferenceIdeal.Value.G4 (F := Ideal) (m ((c.tc : Thread nD τ).loc main_arg0)) (m ((c.tc : Thread nD τ).loc main_arg1)) (m ((c.tc : Thread nD τ).loc main_arg2)) (m ((c.tc : Thread nD τ).loc main_arg3)), ?_, ?_⟩
  · refine (θ_run (Cert.KernelIdeal.defs (F := Ideal)) _ _).mono (fun r (h : Left (F := Ideal) m r) c => ⟨?_,
      ((h.1.1 c).2 main_arg0 (Finset.mem_sdiff.mpr ⟨Pipeline.mem_restRefs_of main_arg0 (by decide) (by decide), by decide⟩)),
      ((h.1.1 c).1 0).trans (((dats m 0 c).arrAt_in 0 rfl _).trans (A_eq m c 0)),
      ((h.1.1 c).2 main_arg2 (Finset.mem_sdiff.mpr ⟨Pipeline.mem_restRefs_of main_arg2 (by decide) (by decide), by decide⟩)),
      ((h.1.1 c).2 main_arg3 (Finset.mem_sdiff.mpr ⟨Pipeline.mem_restRefs_of main_arg3 (by decide) (by decide), by decide⟩))⟩) (run_main (F := Ideal) m g)
    obtain ⟨G, hG, hR⟩ := h.1.2 c
    exact (hR main_v0 (by decide)).trans (left_eq m c (finite_of _ _ _ _ (hpre c)) G hG)
  · refine (θ_run (Cert.ReferenceIdeal.defs (F := Ideal)) _ _).mono (fun r h c => ⟨(h c).1.trans ?_, (h c).2⟩) (Cert.ReferenceIdeal.Value.run (F := Ideal) m' g')
    obtain ⟨h0, h1, h2, h3⟩ := hagree c
    rw [h0, h1, h2, h3]

end Cert.Proof.Alg
-- ==== Proof.lean ====
/- The claims of the certificate, put together. -/
module

public import proofs.«01_k».proof.Defs
public import proofs.«01_k».proof.Proof.Gen.ReferenceIdeal.Value
public import proofs.«01_k».proof.Proof.Gen.Pre_finite
public import proofs.«01_k».proof.Proof.Kernel.Run
public import proofs.«01_k».proof.Proof.KernelIdeal.Run
public import proofs.«01_k».proof.Proof.Alg.Value

@[expose] public section

namespace Cert.Proof

open Idealize.ShloMosaic Idealize.SL.Sem

/-- Everything the certificate claims. -/
theorem claim : Cert.Claim :=
  ⟨Cert.Kernel.Gen.facts, Cert.KernelIdeal.Gen.facts, Cert.ReferenceIdeal.Gen.facts, Cert.Pre_finite.Gen.facts,
    fun m ρ _ => Cert.Proof.Kernel.frame m ρ,
    fun m ρ _ => Cert.Proof.KernelIdeal.frame m ρ,
    fun m ρ _ => Cert.Proof.KernelIdeal.frame m ρ,
    fun m ρ _ => Cert.ReferenceIdeal.Gen.frame m ρ,
    fun m ρ _ => Cert.ReferenceIdeal.Gen.frame m ρ,
    trivial,
    Cert.Proof.Alg.algebraic⟩

end Cert.Proof
